-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_RefInDwIdeal (m : (ℓ : Loc Cert.RefInDwIdeal.nD Cert.RefInDwIdeal.τ Cert.RefInDwIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_RefInDxIdeal (m : (ℓ : Loc Cert.RefInDxIdeal.nD Cert.RefInDxIdeal.τ Cert.RefInDxIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_RefDownDxIdeal (m : (ℓ : Loc Cert.RefDownDxIdeal.nD Cert.RefDownDxIdeal.τ Cert.RefDownDxIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_RefDownDwIdeal (m : (ℓ : Loc Cert.RefDownDwIdeal.nD Cert.RefDownDwIdeal.τ Cert.RefDownDwIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_RefUpDwIdeal (m : (ℓ : Loc Cert.RefUpDwIdeal.nD Cert.RefUpDwIdeal.τ Cert.RefUpDwIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_RefUpDxIdeal (m : (ℓ : Loc Cert.RefUpDxIdeal.nD Cert.RefUpDxIdeal.τ Cert.RefUpDxIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_RefMergeBwdIdeal (m : (ℓ : Loc Cert.RefMergeBwdIdeal.nD Cert.RefMergeBwdIdeal.τ Cert.RefMergeBwdIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RefRmsBwdIdeal (m : (ℓ : Loc Cert.RefRmsBwdIdeal.nD Cert.RefRmsBwdIdeal.τ Cert.RefRmsBwdIdeal.sig) → Buf (Elt Ideal) ℓ) : Prop :=
  True

def Pre_LnSiluBwd (m : (ℓ : Loc Cert.LnSiluBwd.nD Cert.LnSiluBwd.τ Cert.LnSiluBwd.sig) → Buf (Elt Bits) ℓ) : Prop :=
  True

def Pre_LnSiluBwdIdeal (m : (ℓ : Loc Cert.LnSiluBwdIdeal.nD Cert.LnSiluBwdIdeal.τ Cert.LnSiluBwdIdeal.sig) → Buf (Elt Ideal) ℓ) : Prop :=
  True

def Pre_RefLnSiluBwdIdeal (m : (ℓ : Loc Cert.RefLnSiluBwdIdeal.nD Cert.RefLnSiluBwdIdeal.τ Cert.RefLnSiluBwdIdeal.sig) → Buf (Elt Ideal) ℓ) : Prop :=
  True

def Pre_SsdOutDw (m : (ℓ : Loc Cert.SsdOutDw.nD Cert.SsdOutDw.τ Cert.SsdOutDw.sig) → Buf (Elt Bits) ℓ) : Prop :=
  True

def Pre_SsdOutDwIdeal (m : (ℓ : Loc Cert.SsdOutDwIdeal.nD Cert.SsdOutDwIdeal.τ Cert.SsdOutDwIdeal.sig) → Buf (Elt Ideal) ℓ) : Prop :=
  True

def Pre_RefSsdOutDwIdeal (m : (ℓ : Loc Cert.RefSsdOutDwIdeal.nD Cert.RefSsdOutDwIdeal.τ Cert.RefSsdOutDwIdeal.sig) → Buf (Elt Ideal) ℓ) : Prop :=
  True

def Pre_SsdOutDx (m : (ℓ : Loc Cert.SsdOutDx.nD Cert.SsdOutDx.τ Cert.SsdOutDx.sig) → Buf (Elt Bits) ℓ) : Prop :=
  True

def Pre_SsdOutDxIdeal (m : (ℓ : Loc Cert.SsdOutDxIdeal.nD Cert.SsdOutDxIdeal.τ Cert.SsdOutDxIdeal.sig) → Buf (Elt Ideal) ℓ) : Prop :=
  True

def Pre_RefSsdOutDxIdeal (m : (ℓ : Loc Cert.RefSsdOutDxIdeal.nD Cert.RefSsdOutDxIdeal.τ Cert.RefSsdOutDxIdeal.sig) → Buf (Elt Ideal) ℓ) : Prop :=
  True

def Pre_XoDw (m : (ℓ : Loc Cert.XoDw.nD Cert.XoDw.τ Cert.XoDw.sig) → Buf (Elt Bits) ℓ) : Prop :=
  True

def Pre_XoDwIdeal (m : (ℓ : Loc Cert.XoDwIdeal.nD Cert.XoDwIdeal.τ Cert.XoDwIdeal.sig) → Buf (Elt Ideal) ℓ) : Prop :=
  True

def Pre_RefXoDwIdeal (m : (ℓ : Loc Cert.RefXoDwIdeal.nD Cert.RefXoDwIdeal.τ Cert.RefXoDwIdeal.sig) → Buf (Elt Ideal) ℓ) : Prop :=
  True

def Pre_XoDx (m : (ℓ : Loc Cert.XoDx.nD Cert.XoDx.τ Cert.XoDx.sig) → Buf (Elt Bits) ℓ) : Prop :=
  True

def Pre_XoDxIdeal (m : (ℓ : Loc Cert.XoDxIdeal.nD Cert.XoDxIdeal.τ Cert.XoDxIdeal.sig) → Buf (Elt Ideal) ℓ) : Prop :=
  True

def Pre_RefXoDxIdeal (m : (ℓ : Loc Cert.RefXoDxIdeal.nD Cert.RefXoDxIdeal.τ Cert.RefXoDxIdeal.sig) → Buf (Elt Ideal) ℓ) : Prop :=
  True

def Pre_ConvOutDw (m : (ℓ : Loc Cert.ConvOutDw.nD Cert.ConvOutDw.τ Cert.ConvOutDw.sig) → Buf (Elt Bits) ℓ) : Prop :=
  True

def Pre_ConvOutDwIdeal (m : (ℓ : Loc Cert.ConvOutDwIdeal.nD Cert.ConvOutDwIdeal.τ Cert.ConvOutDwIdeal.sig) → Buf (Elt Ideal) ℓ) : Prop :=
  True

def Pre_RefConvOutDwIdeal (m : (ℓ : Loc Cert.RefConvOutDwIdeal.nD Cert.RefConvOutDwIdeal.τ Cert.RefConvOutDwIdeal.sig) → Buf (Elt Ideal) ℓ) : Prop :=
  True

def Pre_ConvOutDx (m : (ℓ : Loc Cert.ConvOutDx.nD Cert.ConvOutDx.τ Cert.ConvOutDx.sig) → Buf (Elt Bits) ℓ) : Prop :=
  True

def Pre_ConvOutDxIdeal (m : (ℓ : Loc Cert.ConvOutDxIdeal.nD Cert.ConvOutDxIdeal.τ Cert.ConvOutDxIdeal.sig) → Buf (Elt Ideal) ℓ) : Prop :=
  True

def Pre_RefConvOutDxIdeal (m : (ℓ : Loc Cert.RefConvOutDxIdeal.nD Cert.RefConvOutDxIdeal.τ Cert.RefConvOutDxIdeal.sig) → Buf (Elt Ideal) ℓ) : Prop :=
  True

def Pre_MmIn (m : (ℓ : Loc Cert.MmIn.nD Cert.MmIn.τ Cert.MmIn.sig) → Buf (Elt Bits) ℓ) : Prop :=
  True

def Pre_MmInIdeal (m : (ℓ : Loc Cert.MmInIdeal.nD Cert.MmInIdeal.τ Cert.MmInIdeal.sig) → Buf (Elt Ideal) ℓ) : Prop :=
  True

def Pre_RefMmInIdeal (m : (ℓ : Loc Cert.RefMmInIdeal.nD Cert.RefMmInIdeal.τ Cert.RefMmInIdeal.sig) → Buf (Elt Ideal) ℓ) : Prop :=
  True

def Pre_MmUp (m : (ℓ : Loc Cert.MmUp.nD Cert.MmUp.τ Cert.MmUp.sig) → Buf (Elt Bits) ℓ) : Prop :=
  True

def Pre_MmUpIdeal (m : (ℓ : Loc Cert.MmUpIdeal.nD Cert.MmUpIdeal.τ Cert.MmUpIdeal.sig) → Buf (Elt Ideal) ℓ) : Prop :=
  True

def Pre_RefMmUpIdeal (m : (ℓ : Loc Cert.RefMmUpIdeal.nD Cert.RefMmUpIdeal.τ Cert.RefMmUpIdeal.sig) → Buf (Elt Ideal) ℓ) : Prop :=
  True

def Pre_MmDown (m : (ℓ : Loc Cert.MmDown.nD Cert.MmDown.τ Cert.MmDown.sig) → Buf (Elt Bits) ℓ) : Prop :=
  True

def Pre_MmDownIdeal (m : (ℓ : Loc Cert.MmDownIdeal.nD Cert.MmDownIdeal.τ Cert.MmDownIdeal.sig) → Buf (Elt Ideal) ℓ) : Prop :=
  True

def Pre_RefMmDownIdeal (m : (ℓ : Loc Cert.RefMmDownIdeal.nD Cert.RefMmDownIdeal.τ Cert.RefMmDownIdeal.sig) → Buf (Elt Ideal) ℓ) : Prop :=
  True

def Pre_MmSsdOut (m : (ℓ : Loc Cert.MmSsdOut.nD Cert.MmSsdOut.τ Cert.MmSsdOut.sig) → Buf (Elt Bits) ℓ) : Prop :=
  True

def Pre_MmSsdOutIdeal (m : (ℓ : Loc Cert.MmSsdOutIdeal.nD Cert.MmSsdOutIdeal.τ Cert.MmSsdOutIdeal.sig) → Buf (Elt Ideal) ℓ) : Prop :=
  True

def Pre_RefMmSsdOutIdeal (m : (ℓ : Loc Cert.RefMmSsdOutIdeal.nD Cert.RefMmSsdOutIdeal.τ Cert.RefMmSsdOutIdeal.sig) → Buf (Elt Ideal) ℓ) : Prop :=
  True

def Pre_MmConvOut (m : (ℓ : Loc Cert.MmConvOut.nD Cert.MmConvOut.τ Cert.MmConvOut.sig) → Buf (Elt Bits) ℓ) : Prop :=
  True

def Pre_MmConvOutIdeal (m : (ℓ : Loc Cert.MmConvOutIdeal.nD Cert.MmConvOutIdeal.τ Cert.MmConvOutIdeal.sig) → Buf (Elt Ideal) ℓ) : Prop :=
  True

def Pre_RefMmConvOutIdeal (m : (ℓ : Loc Cert.RefMmConvOutIdeal.nD Cert.RefMmConvOutIdeal.τ Cert.RefMmConvOutIdeal.sig) → Buf (Elt Ideal) ℓ) : Prop :=
  True

def Pre_MmXo (m : (ℓ : Loc Cert.MmXo.nD Cert.MmXo.τ Cert.MmXo.sig) → Buf (Elt Bits) ℓ) : Prop :=
  True

def Pre_MmXoIdeal (m : (ℓ : Loc Cert.MmXoIdeal.nD Cert.MmXoIdeal.τ Cert.MmXoIdeal.sig) → Buf (Elt Ideal) ℓ) : Prop :=
  True

def Pre_RefMmXoIdeal (m : (ℓ : Loc Cert.RefMmXoIdeal.nD Cert.RefMmXoIdeal.τ Cert.RefMmXoIdeal.sig) → Buf (Elt Ideal) ℓ) : Prop :=
  True

def Pre_ConvBBwd (m : (ℓ : Loc Cert.ConvBBwd.nD Cert.ConvBBwd.τ Cert.ConvBBwd.sig) → Buf (Elt Bits) ℓ) : Prop :=
  True

def Pre_ConvBBwdIdeal (m : (ℓ : Loc Cert.ConvBBwdIdeal.nD Cert.ConvBBwdIdeal.τ Cert.ConvBBwdIdeal.sig) → Buf (Elt Ideal) ℓ) : Prop :=
  True

def Pre_ConvBBwdIdeal_finite_cotangent [hPre_finite_cotangent : Cert.Pre_finite_cotangent.Facts] (m : (ℓ : Loc Cert.ConvBBwdIdeal.nD Cert.ConvBBwdIdeal.τ Cert.ConvBBwdIdeal.sig) → Buf (Elt Ideal) ℓ) : Prop :=
  ∀ c : Dev Cert.ConvBBwdIdeal.nD,
    (Cert.Pre_finite_cotangent.fn (F := Ideal) (m ((c.tc : Thread Cert.ConvBBwdIdeal.nD Cert.ConvBBwdIdeal.τ).loc Cert.ConvBBwdIdeal.main_arg0)) (m ((c.tc : Thread Cert.ConvBBwdIdeal.nD Cert.ConvBBwdIdeal.τ).loc Cert.ConvBBwdIdeal.main_arg1)) (m ((c.tc : Thread Cert.ConvBBwdIdeal.nD Cert.ConvBBwdIdeal.τ).loc Cert.ConvBBwdIdeal.main_arg2)) (m ((c.tc : Thread Cert.ConvBBwdIdeal.nD Cert.ConvBBwdIdeal.τ).loc Cert.ConvBBwdIdeal.main_arg3))) = (fun _ => 1#1)

def Pre_RefConvBBwdIdeal (m : (ℓ : Loc Cert.RefConvBBwdIdeal.nD Cert.RefConvBBwdIdeal.τ Cert.RefConvBBwdIdeal.sig) → Buf (Elt Ideal) ℓ) : Prop :=
  True

def Pre_RefConvBBwdIdeal_finite_cotangent [hPre_finite_cotangent : Cert.Pre_finite_cotangent.Facts] (m : (ℓ : Loc Cert.RefConvBBwdIdeal.nD Cert.RefConvBBwdIdeal.τ Cert.RefConvBBwdIdeal.sig) → Buf (Elt Ideal) ℓ) : Prop :=
  ∀ c : Dev Cert.RefConvBBwdIdeal.nD,
    (Cert.Pre_finite_cotangent.fn (F := Ideal) (m ((c.tc : Thread Cert.RefConvBBwdIdeal.nD Cert.RefConvBBwdIdeal.τ).loc Cert.RefConvBBwdIdeal.main_arg0)) (m ((c.tc : Thread Cert.RefConvBBwdIdeal.nD Cert.RefConvBBwdIdeal.τ).loc Cert.RefConvBBwdIdeal.main_arg1)) (m ((c.tc : Thread Cert.RefConvBBwdIdeal.nD Cert.RefConvBBwdIdeal.τ).loc Cert.RefConvBBwdIdeal.main_arg2)) (m ((c.tc : Thread Cert.RefConvBBwdIdeal.nD Cert.RefConvBBwdIdeal.τ).loc Cert.RefConvBBwdIdeal.main_arg3))) = (fun _ => 1#1)

def Pre_ConvB (m : (ℓ : Loc Cert.ConvB.nD Cert.ConvB.τ Cert.ConvB.sig) → Buf (Elt Bits) ℓ) : Prop :=
  True

def Pre_ConvBIdeal (m : (ℓ : Loc Cert.ConvBIdeal.nD Cert.ConvBIdeal.τ Cert.ConvBIdeal.sig) → Buf (Elt Ideal) ℓ) : Prop :=
  True

def Pre_RefConvBIdeal (m : (ℓ : Loc Cert.RefConvBIdeal.nD Cert.RefConvBIdeal.τ Cert.RefConvBIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RefRmsIdeal (m : (ℓ : Loc Cert.RefRmsIdeal.nD Cert.RefRmsIdeal.τ Cert.RefRmsIdeal.sig) → Buf (Elt Ideal) ℓ) : Prop :=
  True

def Pre_LnSilu (m : (ℓ : Loc Cert.LnSilu.nD Cert.LnSilu.τ Cert.LnSilu.sig) → Buf (Elt Bits) ℓ) : Prop :=
  True

def Pre_LnSiluIdeal (m : (ℓ : Loc Cert.LnSiluIdeal.nD Cert.LnSiluIdeal.τ Cert.LnSiluIdeal.sig) → Buf (Elt Ideal) ℓ) : Prop :=
  True

def Pre_RefLnSiluIdeal (m : (ℓ : Loc Cert.RefLnSiluIdeal.nD Cert.RefLnSiluIdeal.τ Cert.RefLnSiluIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_RefMergeIdeal (m : (ℓ : Loc Cert.RefMergeIdeal.nD Cert.RefMergeIdeal.τ Cert.RefMergeIdeal.sig) → Buf (Elt Ideal) ℓ) : Prop :=
  True

def Pre_XkvDw (m : (ℓ : Loc Cert.XkvDw.nD Cert.XkvDw.τ Cert.XkvDw.sig) → Buf (Elt Bits) ℓ) : Prop :=
  True

def Pre_XkvDwIdeal (m : (ℓ : Loc Cert.XkvDwIdeal.nD Cert.XkvDwIdeal.τ Cert.XkvDwIdeal.sig) → Buf (Elt Ideal) ℓ) : Prop :=
  True

def Pre_RefXkvDwIdeal (m : (ℓ : Loc Cert.RefXkvDwIdeal.nD Cert.RefXkvDwIdeal.τ Cert.RefXkvDwIdeal.sig) → Buf (Elt Ideal) ℓ) : Prop :=
  True

def Pre_XkvDx (m : (ℓ : Loc Cert.XkvDx.nD Cert.XkvDx.τ Cert.XkvDx.sig) → Buf (Elt Bits) ℓ) : Prop :=
  True

def Pre_XkvDxIdeal (m : (ℓ : Loc Cert.XkvDxIdeal.nD Cert.XkvDxIdeal.τ Cert.XkvDxIdeal.sig) → Buf (Elt Ideal) ℓ) : Prop :=
  True

def Pre_RefXkvDxIdeal (m : (ℓ : Loc Cert.RefXkvDxIdeal.nD Cert.RefXkvDxIdeal.τ Cert.RefXkvDxIdeal.sig) → Buf (Elt Ideal) ℓ) : Prop :=
  True

def Pre_MmXkv (m : (ℓ : Loc Cert.MmXkv.nD Cert.MmXkv.τ Cert.MmXkv.sig) → Buf (Elt Bits) ℓ) : Prop :=
  True

def Pre_MmXkvIdeal (m : (ℓ : Loc Cert.MmXkvIdeal.nD Cert.MmXkvIdeal.τ Cert.MmXkvIdeal.sig) → Buf (Elt Ideal) ℓ) : Prop :=
  True

def Pre_RefMmXkvIdeal (m : (ℓ : Loc Cert.RefMmXkvIdeal.nD Cert.RefMmXkvIdeal.τ Cert.RefMmXkvIdeal.sig) → Buf (Elt Ideal) ℓ) : Prop :=
  True

def Pre_Xa (m : (ℓ : Loc Cert.Xa.nD Cert.Xa.τ Cert.Xa.sig) → Buf (Elt Bits) ℓ) : Prop :=
  True

def Pre_XaIdeal (m : (ℓ : Loc Cert.XaIdeal.nD Cert.XaIdeal.τ Cert.XaIdeal.sig) → Buf (Elt Ideal) ℓ) : Prop :=
  True

def Pre_XaIdeal_finite_arguments [hPre_finite_arguments : Cert.Pre_finite_arguments.Facts] (m : (ℓ : Loc Cert.XaIdeal.nD Cert.XaIdeal.τ Cert.XaIdeal.sig) → Buf (Elt Ideal) ℓ) : Prop :=
  ∀ c : Dev Cert.XaIdeal.nD,
    (Cert.Pre_finite_arguments.fn (F := Ideal) (m ((c.tc : Thread Cert.XaIdeal.nD Cert.XaIdeal.τ).loc Cert.XaIdeal.main_arg0)) (m ((c.tc : Thread Cert.XaIdeal.nD Cert.XaIdeal.τ).loc Cert.XaIdeal.main_arg1)) (m ((c.tc : Thread Cert.XaIdeal.nD Cert.XaIdeal.τ).loc Cert.XaIdeal.main_arg2)) (m ((c.tc : Thread Cert.XaIdeal.nD Cert.XaIdeal.τ).loc Cert.XaIdeal.main_arg3))) = (fun _ => 1#1)

def Pre_RefXaIdeal (m : (ℓ : Loc Cert.RefXaIdeal.nD Cert.RefXaIdeal.τ Cert.RefXaIdeal.sig) → Buf (Elt Ideal) ℓ) : Prop :=
  True

def Pre_RefXaIdeal_finite_arguments [hPre_finite_arguments : Cert.Pre_finite_arguments.Facts] (m : (ℓ : Loc Cert.RefXaIdeal.nD Cert.RefXaIdeal.τ Cert.RefXaIdeal.sig) → Buf (Elt Ideal) ℓ) : Prop :=
  ∀ c : Dev Cert.RefXaIdeal.nD,
    (Cert.Pre_finite_arguments.fn (F := Ideal) (m ((c.tc : Thread Cert.RefXaIdeal.nD Cert.RefXaIdeal.τ).loc Cert.RefXaIdeal.main_arg0)) (m ((c.tc : Thread Cert.RefXaIdeal.nD Cert.RefXaIdeal.τ).loc Cert.RefXaIdeal.main_arg1)) (m ((c.tc : Thread Cert.RefXaIdeal.nD Cert.RefXaIdeal.τ).loc Cert.RefXaIdeal.main_arg2)) (m ((c.tc : Thread Cert.RefXaIdeal.nD Cert.RefXaIdeal.τ).loc Cert.RefXaIdeal.main_arg3))) = (fun _ => 1#1)

def Pre_RmsMem (m : (ℓ : Loc Cert.RmsMem.nD Cert.RmsMem.τ Cert.RmsMem.sig) → Buf (Elt Bits) ℓ) : Prop :=
  True

def Pre_RmsMemIdeal (m : (ℓ : Loc Cert.RmsMemIdeal.nD Cert.RmsMemIdeal.τ Cert.RmsMemIdeal.sig) → Buf (Elt Ideal) ℓ) : Prop :=
  True

def Pre_RefRmsMemIdeal (m : (ℓ : Loc Cert.RefRmsMemIdeal.nD Cert.RefRmsMemIdeal.τ Cert.RefRmsMemIdeal.sig) → Buf (Elt Ideal) ℓ) : Prop :=
  True

def Pre_RmsMemBwd (m : (ℓ : Loc Cert.RmsMemBwd.nD Cert.RmsMemBwd.τ Cert.RmsMemBwd.sig) → Buf (Elt Bits) ℓ) : Prop :=
  True

def Pre_RmsMemBwdIdeal (m : (ℓ : Loc Cert.RmsMemBwdIdeal.nD Cert.RmsMemBwdIdeal.τ Cert.RmsMemBwdIdeal.sig) → Buf (Elt Ideal) ℓ) : Prop :=
  True

def Pre_RefRmsMemBwdIdeal (m : (ℓ : Loc Cert.RefRmsMemBwdIdeal.nD Cert.RefRmsMemBwdIdeal.τ Cert.RefRmsMemBwdIdeal.sig) → Buf (Elt Ideal) ℓ) : Prop :=
  True

def Pre_AdamGain (m : (ℓ : Loc Cert.AdamGain.nD Cert.AdamGain.τ Cert.AdamGain.sig) → Buf (Elt Bits) ℓ) : Prop :=
  True

def Pre_AdamGainIdeal (m : (ℓ : Loc Cert.AdamGainIdeal.nD Cert.AdamGainIdeal.τ Cert.AdamGainIdeal.sig) → Buf (Elt Ideal) ℓ) : Prop :=
  True

def Pre_RefAdamGainIdeal (m : (ℓ : Loc Cert.RefAdamGainIdeal.nD Cert.RefAdamGainIdeal.τ Cert.RefAdamGainIdeal.sig) → Buf (Elt Ideal) ℓ) : Prop :=
  True

def Pre_AdamHeads (m : (ℓ : Loc Cert.AdamHeads.nD Cert.AdamHeads.τ Cert.AdamHeads.sig) → Buf (Elt Bits) ℓ) : Prop :=
  True

def Pre_AdamHeadsIdeal (m : (ℓ : Loc Cert.AdamHeadsIdeal.nD Cert.AdamHeadsIdeal.τ Cert.AdamHeadsIdeal.sig) → Buf (Elt Ideal) ℓ) : Prop :=
  True

def Pre_RefAdamHeadsIdeal (m : (ℓ : Loc Cert.RefAdamHeadsIdeal.nD Cert.RefAdamHeadsIdeal.τ Cert.RefAdamHeadsIdeal.sig) → Buf (Elt Ideal) ℓ) : Prop :=
  True

def Pre_AdamHead (m : (ℓ : Loc Cert.AdamHead.nD Cert.AdamHead.τ Cert.AdamHead.sig) → Buf (Elt Bits) ℓ) : Prop :=
  True

def Pre_AdamHeadIdeal (m : (ℓ : Loc Cert.AdamHeadIdeal.nD Cert.AdamHeadIdeal.τ Cert.AdamHeadIdeal.sig) → Buf (Elt Ideal) ℓ) : Prop :=
  True

def Pre_RefAdamHeadIdeal (m : (ℓ : Loc Cert.RefAdamHeadIdeal.nD Cert.RefAdamHeadIdeal.τ Cert.RefAdamHeadIdeal.sig) → Buf (Elt Ideal) ℓ) : Prop :=
  True

def Pre_AdamCross (m : (ℓ : Loc Cert.AdamCross.nD Cert.AdamCross.τ Cert.AdamCross.sig) → Buf (Elt Bits) ℓ) : Prop :=
  True

def Pre_AdamCrossIdeal (m : (ℓ : Loc Cert.AdamCrossIdeal.nD Cert.AdamCrossIdeal.τ Cert.AdamCrossIdeal.sig) → Buf (Elt Ideal) ℓ) : Prop :=
  True

def Pre_RefAdamCrossIdeal (m : (ℓ : Loc Cert.RefAdamCrossIdeal.nD Cert.RefAdamCrossIdeal.τ Cert.RefAdamCrossIdeal.sig) → Buf (Elt Ideal) ℓ) : Prop :=
  True

def Pre_AdamSinks (m : (ℓ : Loc Cert.AdamSinks.nD Cert.AdamSinks.τ Cert.AdamSinks.sig) → Buf (Elt Bits) ℓ) : Prop :=
  True

def Pre_AdamSinksIdeal (m : (ℓ : Loc Cert.AdamSinksIdeal.nD Cert.AdamSinksIdeal.τ Cert.AdamSinksIdeal.sig) → Buf (Elt Ideal) ℓ) : Prop :=
  True

def Pre_RefAdamSinksIdeal (m : (ℓ : Loc Cert.RefAdamSinksIdeal.nD Cert.RefAdamSinksIdeal.τ Cert.RefAdamSinksIdeal.sig) → Buf (Elt Ideal) ℓ) : Prop :=
  True

def Pre_AdamTable (m : (ℓ : Loc Cert.AdamTable.nD Cert.AdamTable.τ Cert.AdamTable.sig) → Buf (Elt Bits) ℓ) : Prop :=
  True

def Pre_AdamTableIdeal (m : (ℓ : Loc Cert.AdamTableIdeal.nD Cert.AdamTableIdeal.τ Cert.AdamTableIdeal.sig) → Buf (Elt Ideal) ℓ) : Prop :=
  True

def Pre_RefAdamTableIdeal (m : (ℓ : Loc Cert.RefAdamTableIdeal.nD Cert.RefAdamTableIdeal.τ Cert.RefAdamTableIdeal.sig) → Buf (Elt Ideal) ℓ) : Prop :=
  True

def Pre_AdamInner (m : (ℓ : Loc Cert.AdamInner.nD Cert.AdamInner.τ Cert.AdamInner.sig) → Buf (Elt Bits) ℓ) : Prop :=
  True

def Pre_AdamInnerIdeal (m : (ℓ : Loc Cert.AdamInnerIdeal.nD Cert.AdamInnerIdeal.τ Cert.AdamInnerIdeal.sig) → Buf (Elt Ideal) ℓ) : Prop :=
  True

def Pre_RefAdamInnerIdeal (m : (ℓ : Loc Cert.RefAdamInnerIdeal.nD Cert.RefAdamInnerIdeal.τ Cert.RefAdamInnerIdeal.sig) → Buf (Elt Ideal) ℓ) : Prop :=
  True

def Pre_AdamBias (m : (ℓ : Loc Cert.AdamBias.nD Cert.AdamBias.τ Cert.AdamBias.sig) → Buf (Elt Bits) ℓ) : Prop :=
  True

def Pre_AdamBiasIdeal (m : (ℓ : Loc Cert.AdamBiasIdeal.nD Cert.AdamBiasIdeal.τ Cert.AdamBiasIdeal.sig) → Buf (Elt Ideal) ℓ) : Prop :=
  True

def Pre_RefAdamBiasIdeal (m : (ℓ : Loc Cert.RefAdamBiasIdeal.nD Cert.RefAdamBiasIdeal.τ Cert.RefAdamBiasIdeal.sig) → Buf (Elt Ideal) ℓ) : Prop :=
  True

def Pre_AdamGates (m : (ℓ : Loc Cert.AdamGates.nD Cert.AdamGates.τ Cert.AdamGates.sig) → Buf (Elt Bits) ℓ) : Prop :=
  True

def Pre_AdamGatesIdeal (m : (ℓ : Loc Cert.AdamGatesIdeal.nD Cert.AdamGatesIdeal.τ Cert.AdamGatesIdeal.sig) → Buf (Elt Ideal) ℓ) : Prop :=
  True

def Pre_RefAdamGatesIdeal (m : (ℓ : Loc Cert.RefAdamGatesIdeal.nD Cert.RefAdamGatesIdeal.τ Cert.RefAdamGatesIdeal.sig) → Buf (Elt Ideal) ℓ) : Prop :=
  True

def Pre_AdamTaps (m : (ℓ : Loc Cert.AdamTaps.nD Cert.AdamTaps.τ Cert.AdamTaps.sig) → Buf (Elt Bits) ℓ) : Prop :=
  True

def Pre_AdamTapsIdeal (m : (ℓ : Loc Cert.AdamTapsIdeal.nD Cert.AdamTapsIdeal.τ Cert.AdamTapsIdeal.sig) → Buf (Elt Ideal) ℓ) : Prop :=
  True

def Pre_RefAdamTapsIdeal (m : (ℓ : Loc Cert.RefAdamTapsIdeal.nD Cert.RefAdamTapsIdeal.τ Cert.RefAdamTapsIdeal.sig) → Buf (Elt Ideal) ℓ) : Prop :=
  True

def Pre_AdamFour (m : (ℓ : Loc Cert.AdamFour.nD Cert.AdamFour.τ Cert.AdamFour.sig) → Buf (Elt Bits) ℓ) : Prop :=
  True

def Pre_AdamFourIdeal (m : (ℓ : Loc Cert.AdamFourIdeal.nD Cert.AdamFourIdeal.τ Cert.AdamFourIdeal.sig) → Buf (Elt Ideal) ℓ) : Prop :=
  True

def Pre_RefAdamFourIdeal (m : (ℓ : Loc Cert.RefAdamFourIdeal.nD Cert.RefAdamFourIdeal.τ Cert.RefAdamFourIdeal.sig) → Buf (Elt Ideal) ℓ) : Prop :=
  True

def Pre_AdamXq (m : (ℓ : Loc Cert.AdamXq.nD Cert.AdamXq.τ Cert.AdamXq.sig) → Buf (Elt Bits) ℓ) : Prop :=
  True

def Pre_AdamXqIdeal (m : (ℓ : Loc Cert.AdamXqIdeal.nD Cert.AdamXqIdeal.τ Cert.AdamXqIdeal.sig) → Buf (Elt Ideal) ℓ) : Prop :=
  True

def Pre_RefAdamXqIdeal (m : (ℓ : Loc Cert.RefAdamXqIdeal.nD Cert.RefAdamXqIdeal.τ Cert.RefAdamXqIdeal.sig) → Buf (Elt Ideal) ℓ) : Prop :=
  True

def Pre_AdamConvOut (m : (ℓ : Loc Cert.AdamConvOut.nD Cert.AdamConvOut.τ Cert.AdamConvOut.sig) → Buf (Elt Bits) ℓ) : Prop :=
  True

def Pre_AdamConvOutIdeal (m : (ℓ : Loc Cert.AdamConvOutIdeal.nD Cert.AdamConvOutIdeal.τ Cert.AdamConvOutIdeal.sig) → Buf (Elt Ideal) ℓ) : Prop :=
  True

def Pre_RefAdamConvOutIdeal (m : (ℓ : Loc Cert.RefAdamConvOutIdeal.nD Cert.RefAdamConvOutIdeal.τ Cert.RefAdamConvOutIdeal.sig) → Buf (Elt Ideal) ℓ) : Prop :=
  True

def Pre_AdamAttnOut (m : (ℓ : Loc Cert.AdamAttnOut.nD Cert.AdamAttnOut.τ Cert.AdamAttnOut.sig) → Buf (Elt Bits) ℓ) : Prop :=
  True

def Pre_AdamAttnOutIdeal (m : (ℓ : Loc Cert.AdamAttnOutIdeal.nD Cert.AdamAttnOutIdeal.τ Cert.AdamAttnOutIdeal.sig) → Buf (Elt Ideal) ℓ) : Prop :=
  True

def Pre_RefAdamAttnOutIdeal (m : (ℓ : Loc Cert.RefAdamAttnOutIdeal.nD Cert.RefAdamAttnOutIdeal.τ Cert.RefAdamAttnOutIdeal.sig) → Buf (Elt Ideal) ℓ) : Prop :=
  True

def Pre_AdamMixOut (m : (ℓ : Loc Cert.AdamMixOut.nD Cert.AdamMixOut.τ Cert.AdamMixOut.sig) → Buf (Elt Bits) ℓ) : Prop :=
  True

def Pre_AdamMixOutIdeal (m : (ℓ : Loc Cert.AdamMixOutIdeal.nD Cert.AdamMixOutIdeal.τ Cert.AdamMixOutIdeal.sig) → Buf (Elt Ideal) ℓ) : Prop :=
  True

def Pre_RefAdamMixOutIdeal (m : (ℓ : Loc Cert.RefAdamMixOutIdeal.nD Cert.RefAdamMixOutIdeal.τ Cert.RefAdamMixOutIdeal.sig) → Buf (Elt Ideal) ℓ) : Prop :=
  True

def Pre_AdamXo (m : (ℓ : Loc Cert.AdamXo.nD Cert.AdamXo.τ Cert.AdamXo.sig) → Buf (Elt Bits) ℓ) : Prop :=
  True

def Pre_AdamXoIdeal (m : (ℓ : Loc Cert.AdamXoIdeal.nD Cert.AdamXoIdeal.τ Cert.AdamXoIdeal.sig) → Buf (Elt Ideal) ℓ) : Prop :=
  True

def Pre_RefAdamXoIdeal (m : (ℓ : Loc Cert.RefAdamXoIdeal.nD Cert.RefAdamXoIdeal.τ Cert.RefAdamXoIdeal.sig) → Buf (Elt Ideal) ℓ) : Prop :=
  True

def Pre_AdamSsdOut (m : (ℓ : Loc Cert.AdamSsdOut.nD Cert.AdamSsdOut.τ Cert.AdamSsdOut.sig) → Buf (Elt Bits) ℓ) : Prop :=
  True

def Pre_AdamSsdOutIdeal (m : (ℓ : Loc Cert.AdamSsdOutIdeal.nD Cert.AdamSsdOutIdeal.τ Cert.AdamSsdOutIdeal.sig) → Buf (Elt Ideal) ℓ) : Prop :=
  True

def Pre_RefAdamSsdOutIdeal (m : (ℓ : Loc Cert.RefAdamSsdOutIdeal.nD Cert.RefAdamSsdOutIdeal.τ Cert.RefAdamSsdOutIdeal.sig) → Buf (Elt Ideal) ℓ) : Prop :=
  True

def Pre_AdamMlpUp (m : (ℓ : Loc Cert.AdamMlpUp.nD Cert.AdamMlpUp.τ Cert.AdamMlpUp.sig) → Buf (Elt Bits) ℓ) : Prop :=
  True

def Pre_AdamMlpUpIdeal (m : (ℓ : Loc Cert.AdamMlpUpIdeal.nD Cert.AdamMlpUpIdeal.τ Cert.AdamMlpUpIdeal.sig) → Buf (Elt Ideal) ℓ) : Prop :=
  True

def Pre_RefAdamMlpUpIdeal (m : (ℓ : Loc Cert.RefAdamMlpUpIdeal.nD Cert.RefAdamMlpUpIdeal.τ Cert.RefAdamMlpUpIdeal.sig) → Buf (Elt Ideal) ℓ) : Prop :=
  True

def Pre_AdamMlpDown (m : (ℓ : Loc Cert.AdamMlpDown.nD Cert.AdamMlpDown.τ Cert.AdamMlpDown.sig) → Buf (Elt Bits) ℓ) : Prop :=
  True

def Pre_AdamMlpDownIdeal (m : (ℓ : Loc Cert.AdamMlpDownIdeal.nD Cert.AdamMlpDownIdeal.τ Cert.AdamMlpDownIdeal.sig) → Buf (Elt Ideal) ℓ) : Prop :=
  True

def Pre_RefAdamMlpDownIdeal (m : (ℓ : Loc Cert.RefAdamMlpDownIdeal.nD Cert.RefAdamMlpDownIdeal.τ Cert.RefAdamMlpDownIdeal.sig) → Buf (Elt Ideal) ℓ) : Prop :=
  True

def Pre_AdamXkv (m : (ℓ : Loc Cert.AdamXkv.nD Cert.AdamXkv.τ Cert.AdamXkv.sig) → Buf (Elt Bits) ℓ) : Prop :=
  True

def Pre_AdamXkvIdeal (m : (ℓ : Loc Cert.AdamXkvIdeal.nD Cert.AdamXkvIdeal.τ Cert.AdamXkvIdeal.sig) → Buf (Elt Ideal) ℓ) : Prop :=
  True

def Pre_RefAdamXkvIdeal (m : (ℓ : Loc Cert.RefAdamXkvIdeal.nD Cert.RefAdamXkvIdeal.τ Cert.RefAdamXkvIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_RefInDwIdeal [hRefInDwIdeal : Cert.RefInDwIdeal.Facts] : Prop :=
  ∀ (m : (ℓ : Loc Cert.RefInDwIdeal.nD Cert.RefInDwIdeal.τ Cert.RefInDwIdeal.sig) → Buf (Elt Ideal) ℓ) (g : Dev Cert.RefInDwIdeal.nD → PrngReg), Pre_RefInDwIdeal m →
    θ_run (Cert.RefInDwIdeal.defs (F := Ideal)) (onTc (τ := Cert.RefInDwIdeal.τ) (Cert.RefInDwIdeal.main (F := Ideal))) ⟨m, fun _ => 0, g⟩ (fun r => (∀ c : Dev Cert.RefInDwIdeal.nD,
      r.2.mem ((c.tc : Thread Cert.RefInDwIdeal.nD Cert.RefInDwIdeal.τ).loc Cert.RefInDwIdeal.main_arg0) = m ((c.tc : Thread Cert.RefInDwIdeal.nD Cert.RefInDwIdeal.τ).loc Cert.RefInDwIdeal.main_arg0)
      ∧ r.2.mem ((c.tc : Thread Cert.RefInDwIdeal.nD Cert.RefInDwIdeal.τ).loc Cert.RefInDwIdeal.main_arg1) = m ((c.tc : Thread Cert.RefInDwIdeal.nD Cert.RefInDwIdeal.τ).loc Cert.RefInDwIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_RefInDxIdeal [hRefInDxIdeal : Cert.RefInDxIdeal.Facts] : Prop :=
  ∀ (m : (ℓ : Loc Cert.RefInDxIdeal.nD Cert.RefInDxIdeal.τ Cert.RefInDxIdeal.sig) → Buf (Elt Ideal) ℓ) (g : Dev Cert.RefInDxIdeal.nD → PrngReg), Pre_RefInDxIdeal m →
    θ_run (Cert.RefInDxIdeal.defs (F := Ideal)) (onTc (τ := Cert.RefInDxIdeal.τ) (Cert.RefInDxIdeal.main (F := Ideal))) ⟨m, fun _ => 0, g⟩ (fun r => (∀ c : Dev Cert.RefInDxIdeal.nD,
      r.2.mem ((c.tc : Thread Cert.RefInDxIdeal.nD Cert.RefInDxIdeal.τ).loc Cert.RefInDxIdeal.main_arg0) = m ((c.tc : Thread Cert.RefInDxIdeal.nD Cert.RefInDxIdeal.τ).loc Cert.RefInDxIdeal.main_arg0)
      ∧ r.2.mem ((c.tc : Thread Cert.RefInDxIdeal.nD Cert.RefInDxIdeal.τ).loc Cert.RefInDxIdeal.main_arg1) = m ((c.tc : Thread Cert.RefInDxIdeal.nD Cert.RefInDxIdeal.τ).loc Cert.RefInDxIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_RefDownDxIdeal [hRefDownDxIdeal : Cert.RefDownDxIdeal.Facts] : Prop :=
  ∀ (m : (ℓ : Loc Cert.RefDownDxIdeal.nD Cert.RefDownDxIdeal.τ Cert.RefDownDxIdeal.sig) → Buf (Elt Ideal) ℓ) (g : Dev Cert.RefDownDxIdeal.nD → PrngReg), Pre_RefDownDxIdeal m →
    θ_run (Cert.RefDownDxIdeal.defs (F := Ideal)) (onTc (τ := Cert.RefDownDxIdeal.τ) (Cert.RefDownDxIdeal.main (F := Ideal))) ⟨m, fun _ => 0, g⟩ (fun r => (∀ c : Dev Cert.RefDownDxIdeal.nD,
      r.2.mem ((c.tc : Thread Cert.RefDownDxIdeal.nD Cert.RefDownDxIdeal.τ).loc Cert.RefDownDxIdeal.main_arg0) = m ((c.tc : Thread Cert.RefDownDxIdeal.nD Cert.RefDownDxIdeal.τ).loc Cert.RefDownDxIdeal.main_arg0)
      ∧ r.2.mem ((c.tc : Thread Cert.RefDownDxIdeal.nD Cert.RefDownDxIdeal.τ).loc Cert.RefDownDxIdeal.main_arg1) = m ((c.tc : Thread Cert.RefDownDxIdeal.nD Cert.RefDownDxIdeal.τ).loc Cert.RefDownDxIdeal.main_arg1)
      ∧ r.2.mem ((c.tc : Thread Cert.RefDownDxIdeal.nD Cert.RefDownDxIdeal.τ).loc Cert.RefDownDxIdeal.main_arg2) = m ((c.tc : Thread Cert.RefDownDxIdeal.nD Cert.RefDownDxIdeal.τ).loc Cert.RefDownDxIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_RefDownDwIdeal [hRefDownDwIdeal : Cert.RefDownDwIdeal.Facts] : Prop :=
  ∀ (m : (ℓ : Loc Cert.RefDownDwIdeal.nD Cert.RefDownDwIdeal.τ Cert.RefDownDwIdeal.sig) → Buf (Elt Ideal) ℓ) (g : Dev Cert.RefDownDwIdeal.nD → PrngReg), Pre_RefDownDwIdeal m →
    θ_run (Cert.RefDownDwIdeal.defs (F := Ideal)) (onTc (τ := Cert.RefDownDwIdeal.τ) (Cert.RefDownDwIdeal.main (F := Ideal))) ⟨m, fun _ => 0, g⟩ (fun r => (∀ c : Dev Cert.RefDownDwIdeal.nD,
      r.2.mem ((c.tc : Thread Cert.RefDownDwIdeal.nD Cert.RefDownDwIdeal.τ).loc Cert.RefDownDwIdeal.main_arg0) = m ((c.tc : Thread Cert.RefDownDwIdeal.nD Cert.RefDownDwIdeal.τ).loc Cert.RefDownDwIdeal.main_arg0)
      ∧ r.2.mem ((c.tc : Thread Cert.RefDownDwIdeal.nD Cert.RefDownDwIdeal.τ).loc Cert.RefDownDwIdeal.main_arg1) = m ((c.tc : Thread Cert.RefDownDwIdeal.nD Cert.RefDownDwIdeal.τ).loc Cert.RefDownDwIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_RefUpDwIdeal [hRefUpDwIdeal : Cert.RefUpDwIdeal.Facts] : Prop :=
  ∀ (m : (ℓ : Loc Cert.RefUpDwIdeal.nD Cert.RefUpDwIdeal.τ Cert.RefUpDwIdeal.sig) → Buf (Elt Ideal) ℓ) (g : Dev Cert.RefUpDwIdeal.nD → PrngReg), Pre_RefUpDwIdeal m →
    θ_run (Cert.RefUpDwIdeal.defs (F := Ideal)) (onTc (τ := Cert.RefUpDwIdeal.τ) (Cert.RefUpDwIdeal.main (F := Ideal))) ⟨m, fun _ => 0, g⟩ (fun r => (∀ c : Dev Cert.RefUpDwIdeal.nD,
      r.2.mem ((c.tc : Thread Cert.RefUpDwIdeal.nD Cert.RefUpDwIdeal.τ).loc Cert.RefUpDwIdeal.main_arg0) = m ((c.tc : Thread Cert.RefUpDwIdeal.nD Cert.RefUpDwIdeal.τ).loc Cert.RefUpDwIdeal.main_arg0)
      ∧ r.2.mem ((c.tc : Thread Cert.RefUpDwIdeal.nD Cert.RefUpDwIdeal.τ).loc Cert.RefUpDwIdeal.main_arg1) = m ((c.tc : Thread Cert.RefUpDwIdeal.nD Cert.RefUpDwIdeal.τ).loc Cert.RefUpDwIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_RefUpDxIdeal [hRefUpDxIdeal : Cert.RefUpDxIdeal.Facts] : Prop :=
  ∀ (m : (ℓ : Loc Cert.RefUpDxIdeal.nD Cert.RefUpDxIdeal.τ Cert.RefUpDxIdeal.sig) → Buf (Elt Ideal) ℓ) (g : Dev Cert.RefUpDxIdeal.nD → PrngReg), Pre_RefUpDxIdeal m →
    θ_run (Cert.RefUpDxIdeal.defs (F := Ideal)) (onTc (τ := Cert.RefUpDxIdeal.τ) (Cert.RefUpDxIdeal.main (F := Ideal))) ⟨m, fun _ => 0, g⟩ (fun r => (∀ c : Dev Cert.RefUpDxIdeal.nD,
      r.2.mem ((c.tc : Thread Cert.RefUpDxIdeal.nD Cert.RefUpDxIdeal.τ).loc Cert.RefUpDxIdeal.main_arg0) = m ((c.tc : Thread Cert.RefUpDxIdeal.nD Cert.RefUpDxIdeal.τ).loc Cert.RefUpDxIdeal.main_arg0)
      ∧ r.2.mem ((c.tc : Thread Cert.RefUpDxIdeal.nD Cert.RefUpDxIdeal.τ).loc Cert.RefUpDxIdeal.main_arg1) = m ((c.tc : Thread Cert.RefUpDxIdeal.nD Cert.RefUpDxIdeal.τ).loc Cert.RefUpDxIdeal.main_arg1))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5))
      ∧ r.2.sem = fun _ => 0)

def quiescent_RefMergeBwdIdeal [hRefMergeBwdIdeal : Cert.RefMergeBwdIdeal.Facts] : Prop :=
  ∀ (m : (ℓ : Loc Cert.RefMergeBwdIdeal.nD Cert.RefMergeBwdIdeal.τ Cert.RefMergeBwdIdeal.sig) → Buf (Elt Ideal) ℓ) (g : Dev Cert.RefMergeBwdIdeal.nD → PrngReg), Pre_RefMergeBwdIdeal m →
    θ_run (Cert.RefMergeBwdIdeal.defs (F := Ideal)) (onTc (τ := Cert.RefMergeBwdIdeal.τ) (Cert.RefMergeBwdIdeal.main (F := Ideal))) ⟨m, fun _ => 0, g⟩ (fun r => (∀ c : Dev Cert.RefMergeBwdIdeal.nD,
      r.2.mem ((c.tc : Thread Cert.RefMergeBwdIdeal.nD Cert.RefMergeBwdIdeal.τ).loc Cert.RefMergeBwdIdeal.main_arg0) = m ((c.tc : Thread Cert.RefMergeBwdIdeal.nD Cert.RefMergeBwdIdeal.τ).loc Cert.RefMergeBwdIdeal.main_arg0)
      ∧ r.2.mem ((c.tc : Thread Cert.RefMergeBwdIdeal.nD Cert.RefMergeBwdIdeal.τ).loc Cert.RefMergeBwdIdeal.main_arg1) = m ((c.tc : Thread Cert.RefMergeBwdIdeal.nD Cert.RefMergeBwdIdeal.τ).loc Cert.RefMergeBwdIdeal.main_arg1)
      ∧ r.2.mem ((c.tc : Thread Cert.RefMergeBwdIdeal.nD Cert.RefMergeBwdIdeal.τ).loc Cert.RefMergeBwdIdeal.main_arg2) = m ((c.tc : Thread Cert.RefMergeBwdIdeal.nD Cert.RefMergeBwdIdeal.τ).loc Cert.RefMergeBwdIdeal.main_arg2)
      ∧ r.2.mem ((c.tc : Thread Cert.RefMergeBwdIdeal.nD Cert.RefMergeBwdIdeal.τ).loc Cert.RefMergeBwdIdeal.main_arg3) = m ((c.tc : Thread Cert.RefMergeBwdIdeal.nD Cert.RefMergeBwdIdeal.τ).loc Cert.RefMergeBwdIdeal.main_arg3)
      ∧ r.2.mem ((c.tc : Thread Cert.RefMergeBwdIdeal.nD Cert.RefMergeBwdIdeal.τ).loc Cert.RefMergeBwdIdeal.main_arg4) = m ((c.tc : Thread Cert.RefMergeBwdIdeal.nD Cert.RefMergeBwdIdeal.τ).loc Cert.RefMergeBwdIdeal.main_arg4)
      ∧ r.2.mem ((c.tc : Thread Cert.RefMergeBwdIdeal.nD Cert.RefMergeBwdIdeal.τ).loc Cert.RefMergeBwdIdeal.main_arg5) = m ((c.tc : Thread Cert.RefMergeBwdIdeal.nD Cert.RefMergeBwdIdeal.τ).loc Cert.RefMergeBwdIdeal.main_arg5))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RefRmsBwdIdeal [hRefRmsBwdIdeal : Cert.RefRmsBwdIdeal.Facts] : Prop :=
  ∀ (m : (ℓ : Loc Cert.RefRmsBwdIdeal.nD Cert.RefRmsBwdIdeal.τ Cert.RefRmsBwdIdeal.sig) → Buf (Elt Ideal) ℓ) (g : Dev Cert.RefRmsBwdIdeal.nD → PrngReg), Pre_RefRmsBwdIdeal m →
    θ_run (Cert.RefRmsBwdIdeal.defs (F := Ideal)) (onTc (τ := Cert.RefRmsBwdIdeal.τ) (Cert.RefRmsBwdIdeal.main (F := Ideal))) ⟨m, fun _ => 0, g⟩ (fun r => (∀ c : Dev Cert.RefRmsBwdIdeal.nD,
      r.2.mem ((c.tc : Thread Cert.RefRmsBwdIdeal.nD Cert.RefRmsBwdIdeal.τ).loc Cert.RefRmsBwdIdeal.main_arg0) = m ((c.tc : Thread Cert.RefRmsBwdIdeal.nD Cert.RefRmsBwdIdeal.τ).loc Cert.RefRmsBwdIdeal.main_arg0)
      ∧ r.2.mem ((c.tc : Thread Cert.RefRmsBwdIdeal.nD Cert.RefRmsBwdIdeal.τ).loc Cert.RefRmsBwdIdeal.main_arg1) = m ((c.tc : Thread Cert.RefRmsBwdIdeal.nD Cert.RefRmsBwdIdeal.τ).loc Cert.RefRmsBwdIdeal.main_arg1)
      ∧ r.2.mem ((c.tc : Thread Cert.RefRmsBwdIdeal.nD Cert.RefRmsBwdIdeal.τ).loc Cert.RefRmsBwdIdeal.main_arg2) = m ((c.tc : Thread Cert.RefRmsBwdIdeal.nD Cert.RefRmsBwdIdeal.τ).loc Cert.RefRmsBwdIdeal.main_arg2)
      ∧ r.2.mem ((c.tc : Thread Cert.RefRmsBwdIdeal.nD Cert.RefRmsBwdIdeal.τ).loc Cert.RefRmsBwdIdeal.main_arg3) = m ((c.tc : Thread Cert.RefRmsBwdIdeal.nD Cert.RefRmsBwdIdeal.τ).loc Cert.RefRmsBwdIdeal.main_arg3))
      ∧ r.2.sem = fun _ => 0)

def quiescent_LnSiluBwd [hLnSiluBwd : Cert.LnSiluBwd.Facts] : Prop :=
  ∀ (m : (ℓ : Loc Cert.LnSiluBwd.nD Cert.LnSiluBwd.τ Cert.LnSiluBwd.sig) → Buf (Elt Bits) ℓ) (g : Dev Cert.LnSiluBwd.nD → PrngReg), Pre_LnSiluBwd m →
    θ_run (Cert.LnSiluBwd.defs (F := Bits)) (onTc (τ := Cert.LnSiluBwd.τ) (Cert.LnSiluBwd.main (F := Bits))) ⟨m, fun _ => 0, g⟩ (fun r => (∀ c : Dev Cert.LnSiluBwd.nD,
      r.2.mem ((c.tc : Thread Cert.LnSiluBwd.nD Cert.LnSiluBwd.τ).loc Cert.LnSiluBwd.main_arg0) = m ((c.tc : Thread Cert.LnSiluBwd.nD Cert.LnSiluBwd.τ).loc Cert.LnSiluBwd.main_arg0)
      ∧ r.2.mem ((c.tc : Thread Cert.LnSiluBwd.nD Cert.LnSiluBwd.τ).loc Cert.LnSiluBwd.main_arg1) = m ((c.tc : Thread Cert.LnSiluBwd.nD Cert.LnSiluBwd.τ).loc Cert.LnSiluBwd.main_arg1)
      ∧ r.2.mem ((c.tc : Thread Cert.LnSiluBwd.nD Cert.LnSiluBwd.τ).loc Cert.LnSiluBwd.main_arg2) = m ((c.tc : Thread Cert.LnSiluBwd.nD Cert.LnSiluBwd.τ).loc Cert.LnSiluBwd.main_arg2)
      ∧ r.2.mem ((c.tc : Thread Cert.LnSiluBwd.nD Cert.LnSiluBwd.τ).loc Cert.LnSiluBwd.main_arg3) = m ((c.tc : Thread Cert.LnSiluBwd.nD Cert.LnSiluBwd.τ).loc Cert.LnSiluBwd.main_arg3))
      ∧ r.2.sem = fun _ => 0)

def quiescent_LnSiluBwdIdeal [hLnSiluBwdIdeal : Cert.LnSiluBwdIdeal.Facts] : Prop :=
  ∀ (m : (ℓ : Loc Cert.LnSiluBwdIdeal.nD Cert.LnSiluBwdIdeal.τ Cert.LnSiluBwdIdeal.sig) → Buf (Elt Ideal) ℓ) (g : Dev Cert.LnSiluBwdIdeal.nD → PrngReg), Pre_LnSiluBwdIdeal m →
    θ_run (Cert.LnSiluBwdIdeal.defs (F := Ideal)) (onTc (τ := Cert.LnSiluBwdIdeal.τ) (Cert.LnSiluBwdIdeal.main (F := Ideal))) ⟨m, fun _ => 0, g⟩ (fun r => (∀ c : Dev Cert.LnSiluBwdIdeal.nD,
      r.2.mem ((c.tc : Thread Cert.LnSiluBwdIdeal.nD Cert.LnSiluBwdIdeal.τ).loc Cert.LnSiluBwdIdeal.main_arg0) = m ((c.tc : Thread Cert.LnSiluBwdIdeal.nD Cert.LnSiluBwdIdeal.τ).loc Cert.LnSiluBwdIdeal.main_arg0)
      ∧ r.2.mem ((c.tc : Thread Cert.LnSiluBwdIdeal.nD Cert.LnSiluBwdIdeal.τ).loc Cert.LnSiluBwdIdeal.main_arg1) = m ((c.tc : Thread Cert.LnSiluBwdIdeal.nD Cert.LnSiluBwdIdeal.τ).loc Cert.LnSiluBwdIdeal.main_arg1)
      ∧ r.2.mem ((c.tc : Thread Cert.LnSiluBwdIdeal.nD Cert.LnSiluBwdIdeal.τ).loc Cert.LnSiluBwdIdeal.main_arg2) = m ((c.tc : Thread Cert.LnSiluBwdIdeal.nD Cert.LnSiluBwdIdeal.τ).loc Cert.LnSiluBwdIdeal.main_arg2)
      ∧ r.2.mem ((c.tc : Thread Cert.LnSiluBwdIdeal.nD Cert.LnSiluBwdIdeal.τ).loc Cert.LnSiluBwdIdeal.main_arg3) = m ((c.tc : Thread Cert.LnSiluBwdIdeal.nD Cert.LnSiluBwdIdeal.τ).loc Cert.LnSiluBwdIdeal.main_arg3))
      ∧ r.2.sem = fun _ => 0)

def quiescent_RefLnSiluBwdIdeal [hRefLnSiluBwdIdeal : Cert.RefLnSiluBwdIdeal.Facts] : Prop :=
  ∀ (m : (ℓ : Loc Cert.RefLnSiluBwdIdeal.nD Cert.RefLnSiluBwdIdeal.τ Cert.RefLnSiluBwdIdeal.sig) → Buf (Elt Ideal) ℓ) (g : Dev Cert.RefLnSiluBwdIdeal.nD → PrngReg), Pre_RefLnSiluBwdIdeal m →
    θ_run (Cert.RefLnSiluBwdIdeal.defs (F := Ideal)) (onTc (τ := Cert.RefLnSiluBwdIdeal.τ) (Cert.RefLnSiluBwdIdeal.main (F := Ideal))) ⟨m, fun _ => 0, g⟩ (fun r => (∀ c : Dev Cert.RefLnSiluBwdIdeal.nD,
      r.2.mem ((c.tc : Thread Cert.RefLnSiluBwdIdeal.nD Cert.RefLnSiluBwdIdeal.τ).loc Cert.RefLnSiluBwdIdeal.main_arg0) = m ((c.tc : Thread Cert.RefLnSiluBwdIdeal.nD Cert.RefLnSiluBwdIdeal.τ).loc Cert.RefLnSiluBwdIdeal.main_arg0)
      ∧ r.2.mem ((c.tc : Thread Cert.RefLnSiluBwdIdeal.nD Cert.RefLnSiluBwdIdeal.τ).loc Cert.RefLnSiluBwdIdeal.main_arg1) = m ((c.tc : Thread Cert.RefLnSiluBwdIdeal.nD Cert.RefLnSiluBwdIdeal.τ).loc Cert.RefLnSiluBwdIdeal.main_arg1)
      ∧ r.2.mem ((c.tc : Thread Cert.RefLnSiluBwdIdeal.nD Cert.RefLnSiluBwdIdeal.τ).loc Cert.RefLnSiluBwdIdeal.main_arg2) = m ((c.tc : Thread Cert.RefLnSiluBwdIdeal.nD Cert.RefLnSiluBwdIdeal.τ).loc Cert.RefLnSiluBwdIdeal.main_arg2)
      ∧ r.2.mem ((c.tc : Thread Cert.RefLnSiluBwdIdeal.nD Cert.RefLnSiluBwdIdeal.τ).loc Cert.RefLnSiluBwdIdeal.main_arg3) = m ((c.tc : Thread Cert.RefLnSiluBwdIdeal.nD Cert.RefLnSiluBwdIdeal.τ).loc Cert.RefLnSiluBwdIdeal.main_arg3))
      ∧ r.2.sem = fun _ => 0)

def quiescent_SsdOutDw [hSsdOutDw : Cert.SsdOutDw.Facts] : Prop :=
  ∀ (m : (ℓ : Loc Cert.SsdOutDw.nD Cert.SsdOutDw.τ Cert.SsdOutDw.sig) → Buf (Elt Bits) ℓ) (g : Dev Cert.SsdOutDw.nD → PrngReg), Pre_SsdOutDw m →
    θ_run (Cert.SsdOutDw.defs (F := Bits)) (onTc (τ := Cert.SsdOutDw.τ) (Cert.SsdOutDw.main (F := Bits))) ⟨m, fun _ => 0, g⟩ (fun r => (∀ c : Dev Cert.SsdOutDw.nD,
      r.2.mem ((c.tc : Thread Cert.SsdOutDw.nD Cert.SsdOutDw.τ).loc Cert.SsdOutDw.main_arg0) = m ((c.tc : Thread Cert.SsdOutDw.nD Cert.SsdOutDw.τ).loc Cert.SsdOutDw.main_arg0)
      ∧ r.2.mem ((c.tc : Thread Cert.SsdOutDw.nD Cert.SsdOutDw.τ).loc Cert.SsdOutDw.main_arg1) = m ((c.tc : Thread Cert.SsdOutDw.nD Cert.SsdOutDw.τ).loc Cert.SsdOutDw.main_arg1))
      ∧ r.2.sem = fun _ => 0)

def quiescent_SsdOutDwIdeal [hSsdOutDwIdeal : Cert.SsdOutDwIdeal.Facts] : Prop :=
  ∀ (m : (ℓ : Loc Cert.SsdOutDwIdeal.nD Cert.SsdOutDwIdeal.τ Cert.SsdOutDwIdeal.sig) → Buf (Elt Ideal) ℓ) (g : Dev Cert.SsdOutDwIdeal.nD → PrngReg), Pre_SsdOutDwIdeal m →
    θ_run (Cert.SsdOutDwIdeal.defs (F := Ideal)) (onTc (τ := Cert.SsdOutDwIdeal.τ) (Cert.SsdOutDwIdeal.main (F := Ideal))) ⟨m, fun _ => 0, g⟩ (fun r => (∀ c : Dev Cert.SsdOutDwIdeal.nD,
      r.2.mem ((c.tc : Thread Cert.SsdOutDwIdeal.nD Cert.SsdOutDwIdeal.τ).loc Cert.SsdOutDwIdeal.main_arg0) = m ((c.tc : Thread Cert.SsdOutDwIdeal.nD Cert.SsdOutDwIdeal.τ).loc Cert.SsdOutDwIdeal.main_arg0)
      ∧ r.2.mem ((c.tc : Thread Cert.SsdOutDwIdeal.nD Cert.SsdOutDwIdeal.τ).loc Cert.SsdOutDwIdeal.main_arg1) = m ((c.tc : Thread Cert.SsdOutDwIdeal.nD Cert.SsdOutDwIdeal.τ).loc Cert.SsdOutDwIdeal.main_arg1))
      ∧ r.2.sem = fun _ => 0)

def quiescent_RefSsdOutDwIdeal [hRefSsdOutDwIdeal : Cert.RefSsdOutDwIdeal.Facts] : Prop :=
  ∀ (m : (ℓ : Loc Cert.RefSsdOutDwIdeal.nD Cert.RefSsdOutDwIdeal.τ Cert.RefSsdOutDwIdeal.sig) → Buf (Elt Ideal) ℓ) (g : Dev Cert.RefSsdOutDwIdeal.nD → PrngReg), Pre_RefSsdOutDwIdeal m →
    θ_run (Cert.RefSsdOutDwIdeal.defs (F := Ideal)) (onTc (τ := Cert.RefSsdOutDwIdeal.τ) (Cert.RefSsdOutDwIdeal.main (F := Ideal))) ⟨m, fun _ => 0, g⟩ (fun r => (∀ c : Dev Cert.RefSsdOutDwIdeal.nD,
      r.2.mem ((c.tc : Thread Cert.RefSsdOutDwIdeal.nD Cert.RefSsdOutDwIdeal.τ).loc Cert.RefSsdOutDwIdeal.main_arg0) = m ((c.tc : Thread Cert.RefSsdOutDwIdeal.nD Cert.RefSsdOutDwIdeal.τ).loc Cert.RefSsdOutDwIdeal.main_arg0)
      ∧ r.2.mem ((c.tc : Thread Cert.RefSsdOutDwIdeal.nD Cert.RefSsdOutDwIdeal.τ).loc Cert.RefSsdOutDwIdeal.main_arg1) = m ((c.tc : Thread Cert.RefSsdOutDwIdeal.nD Cert.RefSsdOutDwIdeal.τ).loc Cert.RefSsdOutDwIdeal.main_arg1))
      ∧ r.2.sem = fun _ => 0)

def quiescent_SsdOutDx [hSsdOutDx : Cert.SsdOutDx.Facts] : Prop :=
  ∀ (m : (ℓ : Loc Cert.SsdOutDx.nD Cert.SsdOutDx.τ Cert.SsdOutDx.sig) → Buf (Elt Bits) ℓ) (g : Dev Cert.SsdOutDx.nD → PrngReg), Pre_SsdOutDx m →
    θ_run (Cert.SsdOutDx.defs (F := Bits)) (onTc (τ := Cert.SsdOutDx.τ) (Cert.SsdOutDx.main (F := Bits))) ⟨m, fun _ => 0, g⟩ (fun r => (∀ c : Dev Cert.SsdOutDx.nD,
      r.2.mem ((c.tc : Thread Cert.SsdOutDx.nD Cert.SsdOutDx.τ).loc Cert.SsdOutDx.main_arg0) = m ((c.tc : Thread Cert.SsdOutDx.nD Cert.SsdOutDx.τ).loc Cert.SsdOutDx.main_arg0)
      ∧ r.2.mem ((c.tc : Thread Cert.SsdOutDx.nD Cert.SsdOutDx.τ).loc Cert.SsdOutDx.main_arg1) = m ((c.tc : Thread Cert.SsdOutDx.nD Cert.SsdOutDx.τ).loc Cert.SsdOutDx.main_arg1))
      ∧ r.2.sem = fun _ => 0)

def quiescent_SsdOutDxIdeal [hSsdOutDxIdeal : Cert.SsdOutDxIdeal.Facts] : Prop :=
  ∀ (m : (ℓ : Loc Cert.SsdOutDxIdeal.nD Cert.SsdOutDxIdeal.τ Cert.SsdOutDxIdeal.sig) → Buf (Elt Ideal) ℓ) (g : Dev Cert.SsdOutDxIdeal.nD → PrngReg), Pre_SsdOutDxIdeal m →
    θ_run (Cert.SsdOutDxIdeal.defs (F := Ideal)) (onTc (τ := Cert.SsdOutDxIdeal.τ) (Cert.SsdOutDxIdeal.main (F := Ideal))) ⟨m, fun _ => 0, g⟩ (fun r => (∀ c : Dev Cert.SsdOutDxIdeal.nD,
      r.2.mem ((c.tc : Thread Cert.SsdOutDxIdeal.nD Cert.SsdOutDxIdeal.τ).loc Cert.SsdOutDxIdeal.main_arg0) = m ((c.tc : Thread Cert.SsdOutDxIdeal.nD Cert.SsdOutDxIdeal.τ).loc Cert.SsdOutDxIdeal.main_arg0)
      ∧ r.2.mem ((c.tc : Thread Cert.SsdOutDxIdeal.nD Cert.SsdOutDxIdeal.τ).loc Cert.SsdOutDxIdeal.main_arg1) = m ((c.tc : Thread Cert.SsdOutDxIdeal.nD Cert.SsdOutDxIdeal.τ).loc Cert.SsdOutDxIdeal.main_arg1))
      ∧ r.2.sem = fun _ => 0)

def quiescent_RefSsdOutDxIdeal [hRefSsdOutDxIdeal : Cert.RefSsdOutDxIdeal.Facts] : Prop :=
  ∀ (m : (ℓ : Loc Cert.RefSsdOutDxIdeal.nD Cert.RefSsdOutDxIdeal.τ Cert.RefSsdOutDxIdeal.sig) → Buf (Elt Ideal) ℓ) (g : Dev Cert.RefSsdOutDxIdeal.nD → PrngReg), Pre_RefSsdOutDxIdeal m →
    θ_run (Cert.RefSsdOutDxIdeal.defs (F := Ideal)) (onTc (τ := Cert.RefSsdOutDxIdeal.τ) (Cert.RefSsdOutDxIdeal.main (F := Ideal))) ⟨m, fun _ => 0, g⟩ (fun r => (∀ c : Dev Cert.RefSsdOutDxIdeal.nD,
      r.2.mem ((c.tc : Thread Cert.RefSsdOutDxIdeal.nD Cert.RefSsdOutDxIdeal.τ).loc Cert.RefSsdOutDxIdeal.main_arg0) = m ((c.tc : Thread Cert.RefSsdOutDxIdeal.nD Cert.RefSsdOutDxIdeal.τ).loc Cert.RefSsdOutDxIdeal.main_arg0)
      ∧ r.2.mem ((c.tc : Thread Cert.RefSsdOutDxIdeal.nD Cert.RefSsdOutDxIdeal.τ).loc Cert.RefSsdOutDxIdeal.main_arg1) = m ((c.tc : Thread Cert.RefSsdOutDxIdeal.nD Cert.RefSsdOutDxIdeal.τ).loc Cert.RefSsdOutDxIdeal.main_arg1))
      ∧ r.2.sem = fun _ => 0)

def quiescent_XoDw [hXoDw : Cert.XoDw.Facts] : Prop :=
  ∀ (m : (ℓ : Loc Cert.XoDw.nD Cert.XoDw.τ Cert.XoDw.sig) → Buf (Elt Bits) ℓ) (g : Dev Cert.XoDw.nD → PrngReg), Pre_XoDw m →
    θ_run (Cert.XoDw.defs (F := Bits)) (onTc (τ := Cert.XoDw.τ) (Cert.XoDw.main (F := Bits))) ⟨m, fun _ => 0, g⟩ (fun r => (∀ c : Dev Cert.XoDw.nD,
      r.2.mem ((c.tc : Thread Cert.XoDw.nD Cert.XoDw.τ).loc Cert.XoDw.main_arg0) = m ((c.tc : Thread Cert.XoDw.nD Cert.XoDw.τ).loc Cert.XoDw.main_arg0)
      ∧ r.2.mem ((c.tc : Thread Cert.XoDw.nD Cert.XoDw.τ).loc Cert.XoDw.main_arg1) = m ((c.tc : Thread Cert.XoDw.nD Cert.XoDw.τ).loc Cert.XoDw.main_arg1))
      ∧ r.2.sem = fun _ => 0)

def quiescent_XoDwIdeal [hXoDwIdeal : Cert.XoDwIdeal.Facts] : Prop :=
  ∀ (m : (ℓ : Loc Cert.XoDwIdeal.nD Cert.XoDwIdeal.τ Cert.XoDwIdeal.sig) → Buf (Elt Ideal) ℓ) (g : Dev Cert.XoDwIdeal.nD → PrngReg), Pre_XoDwIdeal m →
    θ_run (Cert.XoDwIdeal.defs (F := Ideal)) (onTc (τ := Cert.XoDwIdeal.τ) (Cert.XoDwIdeal.main (F := Ideal))) ⟨m, fun _ => 0, g⟩ (fun r => (∀ c : Dev Cert.XoDwIdeal.nD,
      r.2.mem ((c.tc : Thread Cert.XoDwIdeal.nD Cert.XoDwIdeal.τ).loc Cert.XoDwIdeal.main_arg0) = m ((c.tc : Thread Cert.XoDwIdeal.nD Cert.XoDwIdeal.τ).loc Cert.XoDwIdeal.main_arg0)
      ∧ r.2.mem ((c.tc : Thread Cert.XoDwIdeal.nD Cert.XoDwIdeal.τ).loc Cert.XoDwIdeal.main_arg1) = m ((c.tc : Thread Cert.XoDwIdeal.nD Cert.XoDwIdeal.τ).loc Cert.XoDwIdeal.main_arg1))
      ∧ r.2.sem = fun _ => 0)

def quiescent_RefXoDwIdeal [hRefXoDwIdeal : Cert.RefXoDwIdeal.Facts] : Prop :=
  ∀ (m : (ℓ : Loc Cert.RefXoDwIdeal.nD Cert.RefXoDwIdeal.τ Cert.RefXoDwIdeal.sig) → Buf (Elt Ideal) ℓ) (g : Dev Cert.RefXoDwIdeal.nD → PrngReg), Pre_RefXoDwIdeal m →
    θ_run (Cert.RefXoDwIdeal.defs (F := Ideal)) (onTc (τ := Cert.RefXoDwIdeal.τ) (Cert.RefXoDwIdeal.main (F := Ideal))) ⟨m, fun _ => 0, g⟩ (fun r => (∀ c : Dev Cert.RefXoDwIdeal.nD,
      r.2.mem ((c.tc : Thread Cert.RefXoDwIdeal.nD Cert.RefXoDwIdeal.τ).loc Cert.RefXoDwIdeal.main_arg0) = m ((c.tc : Thread Cert.RefXoDwIdeal.nD Cert.RefXoDwIdeal.τ).loc Cert.RefXoDwIdeal.main_arg0)
      ∧ r.2.mem ((c.tc : Thread Cert.RefXoDwIdeal.nD Cert.RefXoDwIdeal.τ).loc Cert.RefXoDwIdeal.main_arg1) = m ((c.tc : Thread Cert.RefXoDwIdeal.nD Cert.RefXoDwIdeal.τ).loc Cert.RefXoDwIdeal.main_arg1))
      ∧ r.2.sem = fun _ => 0)

def quiescent_XoDx [hXoDx : Cert.XoDx.Facts] : Prop :=
  ∀ (m : (ℓ : Loc Cert.XoDx.nD Cert.XoDx.τ Cert.XoDx.sig) → Buf (Elt Bits) ℓ) (g : Dev Cert.XoDx.nD → PrngReg), Pre_XoDx m →
    θ_run (Cert.XoDx.defs (F := Bits)) (onTc (τ := Cert.XoDx.τ) (Cert.XoDx.main (F := Bits))) ⟨m, fun _ => 0, g⟩ (fun r => (∀ c : Dev Cert.XoDx.nD,
      r.2.mem ((c.tc : Thread Cert.XoDx.nD Cert.XoDx.τ).loc Cert.XoDx.main_arg0) = m ((c.tc : Thread Cert.XoDx.nD Cert.XoDx.τ).loc Cert.XoDx.main_arg0)
      ∧ r.2.mem ((c.tc : Thread Cert.XoDx.nD Cert.XoDx.τ).loc Cert.XoDx.main_arg1) = m ((c.tc : Thread Cert.XoDx.nD Cert.XoDx.τ).loc Cert.XoDx.main_arg1))
      ∧ r.2.sem = fun _ => 0)

def quiescent_XoDxIdeal [hXoDxIdeal : Cert.XoDxIdeal.Facts] : Prop :=
  ∀ (m : (ℓ : Loc Cert.XoDxIdeal.nD Cert.XoDxIdeal.τ Cert.XoDxIdeal.sig) → Buf (Elt Ideal) ℓ) (g : Dev Cert.XoDxIdeal.nD → PrngReg), Pre_XoDxIdeal m →
    θ_run (Cert.XoDxIdeal.defs (F := Ideal)) (onTc (τ := Cert.XoDxIdeal.τ) (Cert.XoDxIdeal.main (F := Ideal))) ⟨m, fun _ => 0, g⟩ (fun r => (∀ c : Dev Cert.XoDxIdeal.nD,
      r.2.mem ((c.tc : Thread Cert.XoDxIdeal.nD Cert.XoDxIdeal.τ).loc Cert.XoDxIdeal.main_arg0) = m ((c.tc : Thread Cert.XoDxIdeal.nD Cert.XoDxIdeal.τ).loc Cert.XoDxIdeal.main_arg0)
      ∧ r.2.mem ((c.tc : Thread Cert.XoDxIdeal.nD Cert.XoDxIdeal.τ).loc Cert.XoDxIdeal.main_arg1) = m ((c.tc : Thread Cert.XoDxIdeal.nD Cert.XoDxIdeal.τ).loc Cert.XoDxIdeal.main_arg1))
      ∧ r.2.sem = fun _ => 0)

def quiescent_RefXoDxIdeal [hRefXoDxIdeal : Cert.RefXoDxIdeal.Facts] : Prop :=
  ∀ (m : (ℓ : Loc Cert.RefXoDxIdeal.nD Cert.RefXoDxIdeal.τ Cert.RefXoDxIdeal.sig) → Buf (Elt Ideal) ℓ) (g : Dev Cert.RefXoDxIdeal.nD → PrngReg), Pre_RefXoDxIdeal m →
    θ_run (Cert.RefXoDxIdeal.defs (F := Ideal)) (onTc (τ := Cert.RefXoDxIdeal.τ) (Cert.RefXoDxIdeal.main (F := Ideal))) ⟨m, fun _ => 0, g⟩ (fun r => (∀ c : Dev Cert.RefXoDxIdeal.nD,
      r.2.mem ((c.tc : Thread Cert.RefXoDxIdeal.nD Cert.RefXoDxIdeal.τ).loc Cert.RefXoDxIdeal.main_arg0) = m ((c.tc : Thread Cert.RefXoDxIdeal.nD Cert.RefXoDxIdeal.τ).loc Cert.RefXoDxIdeal.main_arg0)
      ∧ r.2.mem ((c.tc : Thread Cert.RefXoDxIdeal.nD Cert.RefXoDxIdeal.τ).loc Cert.RefXoDxIdeal.main_arg1) = m ((c.tc : Thread Cert.RefXoDxIdeal.nD Cert.RefXoDxIdeal.τ).loc Cert.RefXoDxIdeal.main_arg1))
      ∧ r.2.sem = fun _ => 0)

def quiescent_ConvOutDw [hConvOutDw : Cert.ConvOutDw.Facts] : Prop :=
  ∀ (m : (ℓ : Loc Cert.ConvOutDw.nD Cert.ConvOutDw.τ Cert.ConvOutDw.sig) → Buf (Elt Bits) ℓ) (g : Dev Cert.ConvOutDw.nD → PrngReg), Pre_ConvOutDw m →
    θ_run (Cert.ConvOutDw.defs (F := Bits)) (onTc (τ := Cert.ConvOutDw.τ) (Cert.ConvOutDw.main (F := Bits))) ⟨m, fun _ => 0, g⟩ (fun r => (∀ c : Dev Cert.ConvOutDw.nD,
      r.2.mem ((c.tc : Thread Cert.ConvOutDw.nD Cert.ConvOutDw.τ).loc Cert.ConvOutDw.main_arg0) = m ((c.tc : Thread Cert.ConvOutDw.nD Cert.ConvOutDw.τ).loc Cert.ConvOutDw.main_arg0)
      ∧ r.2.mem ((c.tc : Thread Cert.ConvOutDw.nD Cert.ConvOutDw.τ).loc Cert.ConvOutDw.main_arg1) = m ((c.tc : Thread Cert.ConvOutDw.nD Cert.ConvOutDw.τ).loc Cert.ConvOutDw.main_arg1))
      ∧ r.2.sem = fun _ => 0)

def quiescent_ConvOutDwIdeal [hConvOutDwIdeal : Cert.ConvOutDwIdeal.Facts] : Prop :=
  ∀ (m : (ℓ : Loc Cert.ConvOutDwIdeal.nD Cert.ConvOutDwIdeal.τ Cert.ConvOutDwIdeal.sig) → Buf (Elt Ideal) ℓ) (g : Dev Cert.ConvOutDwIdeal.nD → PrngReg), Pre_ConvOutDwIdeal m →
    θ_run (Cert.ConvOutDwIdeal.defs (F := Ideal)) (onTc (τ := Cert.ConvOutDwIdeal.τ) (Cert.ConvOutDwIdeal.main (F := Ideal))) ⟨m, fun _ => 0, g⟩ (fun r => (∀ c : Dev Cert.ConvOutDwIdeal.nD,
      r.2.mem ((c.tc : Thread Cert.ConvOutDwIdeal.nD Cert.ConvOutDwIdeal.τ).loc Cert.ConvOutDwIdeal.main_arg0) = m ((c.tc : Thread Cert.ConvOutDwIdeal.nD Cert.ConvOutDwIdeal.τ).loc Cert.ConvOutDwIdeal.main_arg0)
      ∧ r.2.mem ((c.tc : Thread Cert.ConvOutDwIdeal.nD Cert.ConvOutDwIdeal.τ).loc Cert.ConvOutDwIdeal.main_arg1) = m ((c.tc : Thread Cert.ConvOutDwIdeal.nD Cert.ConvOutDwIdeal.τ).loc Cert.ConvOutDwIdeal.main_arg1))
      ∧ r.2.sem = fun _ => 0)

def quiescent_RefConvOutDwIdeal [hRefConvOutDwIdeal : Cert.RefConvOutDwIdeal.Facts] : Prop :=
  ∀ (m : (ℓ : Loc Cert.RefConvOutDwIdeal.nD Cert.RefConvOutDwIdeal.τ Cert.RefConvOutDwIdeal.sig) → Buf (Elt Ideal) ℓ) (g : Dev Cert.RefConvOutDwIdeal.nD → PrngReg), Pre_RefConvOutDwIdeal m →
    θ_run (Cert.RefConvOutDwIdeal.defs (F := Ideal)) (onTc (τ := Cert.RefConvOutDwIdeal.τ) (Cert.RefConvOutDwIdeal.main (F := Ideal))) ⟨m, fun _ => 0, g⟩ (fun r => (∀ c : Dev Cert.RefConvOutDwIdeal.nD,
      r.2.mem ((c.tc : Thread Cert.RefConvOutDwIdeal.nD Cert.RefConvOutDwIdeal.τ).loc Cert.RefConvOutDwIdeal.main_arg0) = m ((c.tc : Thread Cert.RefConvOutDwIdeal.nD Cert.RefConvOutDwIdeal.τ).loc Cert.RefConvOutDwIdeal.main_arg0)
      ∧ r.2.mem ((c.tc : Thread Cert.RefConvOutDwIdeal.nD Cert.RefConvOutDwIdeal.τ).loc Cert.RefConvOutDwIdeal.main_arg1) = m ((c.tc : Thread Cert.RefConvOutDwIdeal.nD Cert.RefConvOutDwIdeal.τ).loc Cert.RefConvOutDwIdeal.main_arg1))
      ∧ r.2.sem = fun _ => 0)

def quiescent_ConvOutDx [hConvOutDx : Cert.ConvOutDx.Facts] : Prop :=
  ∀ (m : (ℓ : Loc Cert.ConvOutDx.nD Cert.ConvOutDx.τ Cert.ConvOutDx.sig) → Buf (Elt Bits) ℓ) (g : Dev Cert.ConvOutDx.nD → PrngReg), Pre_ConvOutDx m →
    θ_run (Cert.ConvOutDx.defs (F := Bits)) (onTc (τ := Cert.ConvOutDx.τ) (Cert.ConvOutDx.main (F := Bits))) ⟨m, fun _ => 0, g⟩ (fun r => (∀ c : Dev Cert.ConvOutDx.nD,
      r.2.mem ((c.tc : Thread Cert.ConvOutDx.nD Cert.ConvOutDx.τ).loc Cert.ConvOutDx.main_arg0) = m ((c.tc : Thread Cert.ConvOutDx.nD Cert.ConvOutDx.τ).loc Cert.ConvOutDx.main_arg0)
      ∧ r.2.mem ((c.tc : Thread Cert.ConvOutDx.nD Cert.ConvOutDx.τ).loc Cert.ConvOutDx.main_arg1) = m ((c.tc : Thread Cert.ConvOutDx.nD Cert.ConvOutDx.τ).loc Cert.ConvOutDx.main_arg1))
      ∧ r.2.sem = fun _ => 0)

def quiescent_ConvOutDxIdeal [hConvOutDxIdeal : Cert.ConvOutDxIdeal.Facts] : Prop :=
  ∀ (m : (ℓ : Loc Cert.ConvOutDxIdeal.nD Cert.ConvOutDxIdeal.τ Cert.ConvOutDxIdeal.sig) → Buf (Elt Ideal) ℓ) (g : Dev Cert.ConvOutDxIdeal.nD → PrngReg), Pre_ConvOutDxIdeal m →
    θ_run (Cert.ConvOutDxIdeal.defs (F := Ideal)) (onTc (τ := Cert.ConvOutDxIdeal.τ) (Cert.ConvOutDxIdeal.main (F := Ideal))) ⟨m, fun _ => 0, g⟩ (fun r => (∀ c : Dev Cert.ConvOutDxIdeal.nD,
      r.2.mem ((c.tc : Thread Cert.ConvOutDxIdeal.nD Cert.ConvOutDxIdeal.τ).loc Cert.ConvOutDxIdeal.main_arg0) = m ((c.tc : Thread Cert.ConvOutDxIdeal.nD Cert.ConvOutDxIdeal.τ).loc Cert.ConvOutDxIdeal.main_arg0)
      ∧ r.2.mem ((c.tc : Thread Cert.ConvOutDxIdeal.nD Cert.ConvOutDxIdeal.τ).loc Cert.ConvOutDxIdeal.main_arg1) = m ((c.tc : Thread Cert.ConvOutDxIdeal.nD Cert.ConvOutDxIdeal.τ).loc Cert.ConvOutDxIdeal.main_arg1))
      ∧ r.2.sem = fun _ => 0)

def quiescent_RefConvOutDxIdeal [hRefConvOutDxIdeal : Cert.RefConvOutDxIdeal.Facts] : Prop :=
  ∀ (m : (ℓ : Loc Cert.RefConvOutDxIdeal.nD Cert.RefConvOutDxIdeal.τ Cert.RefConvOutDxIdeal.sig) → Buf (Elt Ideal) ℓ) (g : Dev Cert.RefConvOutDxIdeal.nD → PrngReg), Pre_RefConvOutDxIdeal m →
    θ_run (Cert.RefConvOutDxIdeal.defs (F := Ideal)) (onTc (τ := Cert.RefConvOutDxIdeal.τ) (Cert.RefConvOutDxIdeal.main (F := Ideal))) ⟨m, fun _ => 0, g⟩ (fun r => (∀ c : Dev Cert.RefConvOutDxIdeal.nD,
      r.2.mem ((c.tc : Thread Cert.RefConvOutDxIdeal.nD Cert.RefConvOutDxIdeal.τ).loc Cert.RefConvOutDxIdeal.main_arg0) = m ((c.tc : Thread Cert.RefConvOutDxIdeal.nD Cert.RefConvOutDxIdeal.τ).loc Cert.RefConvOutDxIdeal.main_arg0)
      ∧ r.2.mem ((c.tc : Thread Cert.RefConvOutDxIdeal.nD Cert.RefConvOutDxIdeal.τ).loc Cert.RefConvOutDxIdeal.main_arg1) = m ((c.tc : Thread Cert.RefConvOutDxIdeal.nD Cert.RefConvOutDxIdeal.τ).loc Cert.RefConvOutDxIdeal.main_arg1))
      ∧ r.2.sem = fun _ => 0)

def quiescent_MmIn [hMmIn : Cert.MmIn.Facts] : Prop :=
  ∀ (m : (ℓ : Loc Cert.MmIn.nD Cert.MmIn.τ Cert.MmIn.sig) → Buf (Elt Bits) ℓ) (g : Dev Cert.MmIn.nD → PrngReg), Pre_MmIn m →
    θ_run (Cert.MmIn.defs (F := Bits)) (onTc (τ := Cert.MmIn.τ) (Cert.MmIn.main (F := Bits))) ⟨m, fun _ => 0, g⟩ (fun r => (∀ c : Dev Cert.MmIn.nD,
      r.2.mem ((c.tc : Thread Cert.MmIn.nD Cert.MmIn.τ).loc Cert.MmIn.main_arg0) = m ((c.tc : Thread Cert.MmIn.nD Cert.MmIn.τ).loc Cert.MmIn.main_arg0)
      ∧ r.2.mem ((c.tc : Thread Cert.MmIn.nD Cert.MmIn.τ).loc Cert.MmIn.main_arg1) = m ((c.tc : Thread Cert.MmIn.nD Cert.MmIn.τ).loc Cert.MmIn.main_arg1))
      ∧ r.2.sem = fun _ => 0)

def quiescent_MmInIdeal [hMmInIdeal : Cert.MmInIdeal.Facts] : Prop :=
  ∀ (m : (ℓ : Loc Cert.MmInIdeal.nD Cert.MmInIdeal.τ Cert.MmInIdeal.sig) → Buf (Elt Ideal) ℓ) (g : Dev Cert.MmInIdeal.nD → PrngReg), Pre_MmInIdeal m →
    θ_run (Cert.MmInIdeal.defs (F := Ideal)) (onTc (τ := Cert.MmInIdeal.τ) (Cert.MmInIdeal.main (F := Ideal))) ⟨m, fun _ => 0, g⟩ (fun r => (∀ c : Dev Cert.MmInIdeal.nD,
      r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
      ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ r.2.sem = fun _ => 0)

def quiescent_RefMmInIdeal [hRefMmInIdeal : Cert.RefMmInIdeal.Facts] : Prop :=
  ∀ (m : (ℓ : Loc Cert.RefMmInIdeal.nD Cert.RefMmInIdeal.τ Cert.RefMmInIdeal.sig) → Buf (Elt Ideal) ℓ) (g : Dev Cert.RefMmInIdeal.nD → PrngReg), Pre_RefMmInIdeal m →
    θ_run (Cert.RefMmInIdeal.defs (F := Ideal)) (onTc (τ := Cert.RefMmInIdeal.τ) (Cert.RefMmInIdeal.main (F := Ideal))) ⟨m, fun _ => 0, g⟩ (fun r => (∀ c : Dev Cert.RefMmInIdeal.nD,
      r.2.mem ((c.tc : Thread Cert.RefMmInIdeal.nD Cert.RefMmInIdeal.τ).loc Cert.RefMmInIdeal.main_arg0) = m ((c.tc : Thread Cert.RefMmInIdeal.nD Cert.RefMmInIdeal.τ).loc Cert.RefMmInIdeal.main_arg0)
      ∧ r.2.mem ((c.tc : Thread Cert.RefMmInIdeal.nD Cert.RefMmInIdeal.τ).loc Cert.RefMmInIdeal.main_arg1) = m ((c.tc : Thread Cert.RefMmInIdeal.nD Cert.RefMmInIdeal.τ).loc Cert.RefMmInIdeal.main_arg1))
      ∧ r.2.sem = fun _ => 0)

def quiescent_MmUp [hMmUp : Cert.MmUp.Facts] : Prop :=
  ∀ (m : (ℓ : Loc Cert.MmUp.nD Cert.MmUp.τ Cert.MmUp.sig) → Buf (Elt Bits) ℓ) (g : Dev Cert.MmUp.nD → PrngReg), Pre_MmUp m →
    θ_run (Cert.MmUp.defs (F := Bits)) (onTc (τ := Cert.MmUp.τ) (Cert.MmUp.main (F := Bits))) ⟨m, fun _ => 0, g⟩ (fun r => (∀ c : Dev Cert.MmUp.nD,
      r.2.mem ((c.tc : Thread Cert.MmUp.nD Cert.MmUp.τ).loc Cert.MmUp.main_arg0) = m ((c.tc : Thread Cert.MmUp.nD Cert.MmUp.τ).loc Cert.MmUp.main_arg0)
      ∧ r.2.mem ((c.tc : Thread Cert.MmUp.nD Cert.MmUp.τ).loc Cert.MmUp.main_arg1) = m ((c.tc : Thread Cert.MmUp.nD Cert.MmUp.τ).loc Cert.MmUp.main_arg1))
      ∧ r.2.sem = fun _ => 0)

def quiescent_MmUpIdeal [hMmUpIdeal : Cert.MmUpIdeal.Facts] : Prop :=
  ∀ (m : (ℓ : Loc Cert.MmUpIdeal.nD Cert.MmUpIdeal.τ Cert.MmUpIdeal.sig) → Buf (Elt Ideal) ℓ) (g : Dev Cert.MmUpIdeal.nD → PrngReg), Pre_MmUpIdeal m →
    θ_run (Cert.MmUpIdeal.defs (F := Ideal)) (onTc (τ := Cert.MmUpIdeal.τ) (Cert.MmUpIdeal.main (F := Ideal))) ⟨m, fun _ => 0, g⟩ (fun r => (∀ c : Dev Cert.MmUpIdeal.nD,
      r.2.mem ((c.tc : Thread Cert.MmUpIdeal.nD Cert.MmUpIdeal.τ).loc Cert.MmUpIdeal.main_arg0) = m ((c.tc : Thread Cert.MmUpIdeal.nD Cert.MmUpIdeal.τ).loc Cert.MmUpIdeal.main_arg0)
      ∧ r.2.mem ((c.tc : Thread Cert.MmUpIdeal.nD Cert.MmUpIdeal.τ).loc Cert.MmUpIdeal.main_arg1) = m ((c.tc : Thread Cert.MmUpIdeal.nD Cert.MmUpIdeal.τ).loc Cert.MmUpIdeal.main_arg1))
      ∧ r.2.sem = fun _ => 0)

def quiescent_RefMmUpIdeal [hRefMmUpIdeal : Cert.RefMmUpIdeal.Facts] : Prop :=
  ∀ (m : (ℓ : Loc Cert.RefMmUpIdeal.nD Cert.RefMmUpIdeal.τ Cert.RefMmUpIdeal.sig) → Buf (Elt Ideal) ℓ) (g : Dev Cert.RefMmUpIdeal.nD → PrngReg), Pre_RefMmUpIdeal m →
    θ_run (Cert.RefMmUpIdeal.defs (F := Ideal)) (onTc (τ := Cert.RefMmUpIdeal.τ) (Cert.RefMmUpIdeal.main (F := Ideal))) ⟨m, fun _ => 0, g⟩ (fun r => (∀ c : Dev Cert.RefMmUpIdeal.nD,
      r.2.mem ((c.tc : Thread Cert.RefMmUpIdeal.nD Cert.RefMmUpIdeal.τ).loc Cert.RefMmUpIdeal.main_arg0) = m ((c.tc : Thread Cert.RefMmUpIdeal.nD Cert.RefMmUpIdeal.τ).loc Cert.RefMmUpIdeal.main_arg0)
      ∧ r.2.mem ((c.tc : Thread Cert.RefMmUpIdeal.nD Cert.RefMmUpIdeal.τ).loc Cert.RefMmUpIdeal.main_arg1) = m ((c.tc : Thread Cert.RefMmUpIdeal.nD Cert.RefMmUpIdeal.τ).loc Cert.RefMmUpIdeal.main_arg1))
      ∧ r.2.sem = fun _ => 0)

def quiescent_MmDown [hMmDown : Cert.MmDown.Facts] : Prop :=
  ∀ (m : (ℓ : Loc Cert.MmDown.nD Cert.MmDown.τ Cert.MmDown.sig) → Buf (Elt Bits) ℓ) (g : Dev Cert.MmDown.nD → PrngReg), Pre_MmDown m →
    θ_run (Cert.MmDown.defs (F := Bits)) (onTc (τ := Cert.MmDown.τ) (Cert.MmDown.main (F := Bits))) ⟨m, fun _ => 0, g⟩ (fun r => (∀ c : Dev Cert.MmDown.nD,
      r.2.mem ((c.tc : Thread Cert.MmDown.nD Cert.MmDown.τ).loc Cert.MmDown.main_arg0) = m ((c.tc : Thread Cert.MmDown.nD Cert.MmDown.τ).loc Cert.MmDown.main_arg0)
      ∧ r.2.mem ((c.tc : Thread Cert.MmDown.nD Cert.MmDown.τ).loc Cert.MmDown.main_arg1) = m ((c.tc : Thread Cert.MmDown.nD Cert.MmDown.τ).loc Cert.MmDown.main_arg1)
      ∧ r.2.mem ((c.tc : Thread Cert.MmDown.nD Cert.MmDown.τ).loc Cert.MmDown.main_arg2) = m ((c.tc : Thread Cert.MmDown.nD Cert.MmDown.τ).loc Cert.MmDown.main_arg2))
      ∧ r.2.sem = fun _ => 0)

def quiescent_MmDownIdeal [hMmDownIdeal : Cert.MmDownIdeal.Facts] : Prop :=
  ∀ (m : (ℓ : Loc Cert.MmDownIdeal.nD Cert.MmDownIdeal.τ Cert.MmDownIdeal.sig) → Buf (Elt Ideal) ℓ) (g : Dev Cert.MmDownIdeal.nD → PrngReg), Pre_MmDownIdeal m →
    θ_run (Cert.MmDownIdeal.defs (F := Ideal)) (onTc (τ := Cert.MmDownIdeal.τ) (Cert.MmDownIdeal.main (F := Ideal))) ⟨m, fun _ => 0, g⟩ (fun r => (∀ c : Dev Cert.MmDownIdeal.nD,
      r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
      ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1)
      ∧ r.2.mem ((c.tc : Thread Cert.MmDownIdeal.nD Cert.MmDownIdeal.τ).loc Cert.MmDownIdeal.main_arg2) = m ((c.tc : Thread Cert.MmDownIdeal.nD Cert.MmDownIdeal.τ).loc Cert.MmDownIdeal.main_arg2))
      ∧ r.2.sem = fun _ => 0)

def quiescent_RefMmDownIdeal [hRefMmDownIdeal : Cert.RefMmDownIdeal.Facts] : Prop :=
  ∀ (m : (ℓ : Loc Cert.RefMmDownIdeal.nD Cert.RefMmDownIdeal.τ Cert.RefMmDownIdeal.sig) → Buf (Elt Ideal) ℓ) (g : Dev Cert.RefMmDownIdeal.nD → PrngReg), Pre_RefMmDownIdeal m →
    θ_run (Cert.RefMmDownIdeal.defs (F := Ideal)) (onTc (τ := Cert.RefMmDownIdeal.τ) (Cert.RefMmDownIdeal.main (F := Ideal))) ⟨m, fun _ => 0, g⟩ (fun r => (∀ c : Dev Cert.RefMmDownIdeal.nD,
      r.2.mem ((c.tc : Thread Cert.RefMmDownIdeal.nD Cert.RefMmDownIdeal.τ).loc Cert.RefMmDownIdeal.main_arg0) = m ((c.tc : Thread Cert.RefMmDownIdeal.nD Cert.RefMmDownIdeal.τ).loc Cert.RefMmDownIdeal.main_arg0)
      ∧ r.2.mem ((c.tc : Thread Cert.RefMmDownIdeal.nD Cert.RefMmDownIdeal.τ).loc Cert.RefMmDownIdeal.main_arg1) = m ((c.tc : Thread Cert.RefMmDownIdeal.nD Cert.RefMmDownIdeal.τ).loc Cert.RefMmDownIdeal.main_arg1)
      ∧ r.2.mem ((c.tc : Thread Cert.RefMmDownIdeal.nD Cert.RefMmDownIdeal.τ).loc Cert.RefMmDownIdeal.main_arg2) = m ((c.tc : Thread Cert.RefMmDownIdeal.nD Cert.RefMmDownIdeal.τ).loc Cert.RefMmDownIdeal.main_arg2))
      ∧ r.2.sem = fun _ => 0)

def quiescent_MmSsdOut [hMmSsdOut : Cert.MmSsdOut.Facts] : Prop :=
  ∀ (m : (ℓ : Loc Cert.MmSsdOut.nD Cert.MmSsdOut.τ Cert.MmSsdOut.sig) → Buf (Elt Bits) ℓ) (g : Dev Cert.MmSsdOut.nD → PrngReg), Pre_MmSsdOut m →
    θ_run (Cert.MmSsdOut.defs (F := Bits)) (onTc (τ := Cert.MmSsdOut.τ) (Cert.MmSsdOut.main (F := Bits))) ⟨m, fun _ => 0, g⟩ (fun r => (∀ c : Dev Cert.MmSsdOut.nD,
      r.2.mem ((c.tc : Thread Cert.MmSsdOut.nD Cert.MmSsdOut.τ).loc Cert.MmSsdOut.main_arg0) = m ((c.tc : Thread Cert.MmSsdOut.nD Cert.MmSsdOut.τ).loc Cert.MmSsdOut.main_arg0)
      ∧ r.2.mem ((c.tc : Thread Cert.MmSsdOut.nD Cert.MmSsdOut.τ).loc Cert.MmSsdOut.main_arg1) = m ((c.tc : Thread Cert.MmSsdOut.nD Cert.MmSsdOut.τ).loc Cert.MmSsdOut.main_arg1))
      ∧ r.2.sem = fun _ => 0)

def quiescent_MmSsdOutIdeal [hMmSsdOutIdeal : Cert.MmSsdOutIdeal.Facts] : Prop :=
  ∀ (m : (ℓ : Loc Cert.MmSsdOutIdeal.nD Cert.MmSsdOutIdeal.τ Cert.MmSsdOutIdeal.sig) → Buf (Elt Ideal) ℓ) (g : Dev Cert.MmSsdOutIdeal.nD → PrngReg), Pre_MmSsdOutIdeal m →
    θ_run (Cert.MmSsdOutIdeal.defs (F := Ideal)) (onTc (τ := Cert.MmSsdOutIdeal.τ) (Cert.MmSsdOutIdeal.main (F := Ideal))) ⟨m, fun _ => 0, g⟩ (fun r => (∀ c : Dev Cert.MmSsdOutIdeal.nD,
      r.2.mem ((c.tc : Thread Cert.MmSsdOutIdeal.nD Cert.MmSsdOutIdeal.τ).loc Cert.MmSsdOutIdeal.main_arg0) = m ((c.tc : Thread Cert.MmSsdOutIdeal.nD Cert.MmSsdOutIdeal.τ).loc Cert.MmSsdOutIdeal.main_arg0)
      ∧ r.2.mem ((c.tc : Thread Cert.MmSsdOutIdeal.nD Cert.MmSsdOutIdeal.τ).loc Cert.MmSsdOutIdeal.main_arg1) = m ((c.tc : Thread Cert.MmSsdOutIdeal.nD Cert.MmSsdOutIdeal.τ).loc Cert.MmSsdOutIdeal.main_arg1))
      ∧ r.2.sem = fun _ => 0)

def quiescent_RefMmSsdOutIdeal [hRefMmSsdOutIdeal : Cert.RefMmSsdOutIdeal.Facts] : Prop :=
  ∀ (m : (ℓ : Loc Cert.RefMmSsdOutIdeal.nD Cert.RefMmSsdOutIdeal.τ Cert.RefMmSsdOutIdeal.sig) → Buf (Elt Ideal) ℓ) (g : Dev Cert.RefMmSsdOutIdeal.nD → PrngReg), Pre_RefMmSsdOutIdeal m →
    θ_run (Cert.RefMmSsdOutIdeal.defs (F := Ideal)) (onTc (τ := Cert.RefMmSsdOutIdeal.τ) (Cert.RefMmSsdOutIdeal.main (F := Ideal))) ⟨m, fun _ => 0, g⟩ (fun r => (∀ c : Dev Cert.RefMmSsdOutIdeal.nD,
      r.2.mem ((c.tc : Thread Cert.RefMmSsdOutIdeal.nD Cert.RefMmSsdOutIdeal.τ).loc Cert.RefMmSsdOutIdeal.main_arg0) = m ((c.tc : Thread Cert.RefMmSsdOutIdeal.nD Cert.RefMmSsdOutIdeal.τ).loc Cert.RefMmSsdOutIdeal.main_arg0)
      ∧ r.2.mem ((c.tc : Thread Cert.RefMmSsdOutIdeal.nD Cert.RefMmSsdOutIdeal.τ).loc Cert.RefMmSsdOutIdeal.main_arg1) = m ((c.tc : Thread Cert.RefMmSsdOutIdeal.nD Cert.RefMmSsdOutIdeal.τ).loc Cert.RefMmSsdOutIdeal.main_arg1))
      ∧ r.2.sem = fun _ => 0)

def quiescent_MmConvOut [hMmConvOut : Cert.MmConvOut.Facts] : Prop :=
  ∀ (m : (ℓ : Loc Cert.MmConvOut.nD Cert.MmConvOut.τ Cert.MmConvOut.sig) → Buf (Elt Bits) ℓ) (g : Dev Cert.MmConvOut.nD → PrngReg), Pre_MmConvOut m →
    θ_run (Cert.MmConvOut.defs (F := Bits)) (onTc (τ := Cert.MmConvOut.τ) (Cert.MmConvOut.main (F := Bits))) ⟨m, fun _ => 0, g⟩ (fun r => (∀ c : Dev Cert.MmConvOut.nD,
      r.2.mem ((c.tc : Thread Cert.MmConvOut.nD Cert.MmConvOut.τ).loc Cert.MmConvOut.main_arg0) = m ((c.tc : Thread Cert.MmConvOut.nD Cert.MmConvOut.τ).loc Cert.MmConvOut.main_arg0)
      ∧ r.2.mem ((c.tc : Thread Cert.MmConvOut.nD Cert.MmConvOut.τ).loc Cert.MmConvOut.main_arg1) = m ((c.tc : Thread Cert.MmConvOut.nD Cert.MmConvOut.τ).loc Cert.MmConvOut.main_arg1))
      ∧ r.2.sem = fun _ => 0)

def quiescent_MmConvOutIdeal [hMmConvOutIdeal : Cert.MmConvOutIdeal.Facts] : Prop :=
  ∀ (m : (ℓ : Loc Cert.MmConvOutIdeal.nD Cert.MmConvOutIdeal.τ Cert.MmConvOutIdeal.sig) → Buf (Elt Ideal) ℓ) (g : Dev Cert.MmConvOutIdeal.nD → PrngReg), Pre_MmConvOutIdeal m →
    θ_run (Cert.MmConvOutIdeal.defs (F := Ideal)) (onTc (τ := Cert.MmConvOutIdeal.τ) (Cert.MmConvOutIdeal.main (F := Ideal))) ⟨m, fun _ => 0, g⟩ (fun r => (∀ c : Dev Cert.MmConvOutIdeal.nD,
      r.2.mem ((c.tc : Thread Cert.MmConvOutIdeal.nD Cert.MmConvOutIdeal.τ).loc Cert.MmConvOutIdeal.main_arg0) = m ((c.tc : Thread Cert.MmConvOutIdeal.nD Cert.MmConvOutIdeal.τ).loc Cert.MmConvOutIdeal.main_arg0)
      ∧ r.2.mem ((c.tc : Thread Cert.MmConvOutIdeal.nD Cert.MmConvOutIdeal.τ).loc Cert.MmConvOutIdeal.main_arg1) = m ((c.tc : Thread Cert.MmConvOutIdeal.nD Cert.MmConvOutIdeal.τ).loc Cert.MmConvOutIdeal.main_arg1))
      ∧ r.2.sem = fun _ => 0)

def quiescent_RefMmConvOutIdeal [hRefMmConvOutIdeal : Cert.RefMmConvOutIdeal.Facts] : Prop :=
  ∀ (m : (ℓ : Loc Cert.RefMmConvOutIdeal.nD Cert.RefMmConvOutIdeal.τ Cert.RefMmConvOutIdeal.sig) → Buf (Elt Ideal) ℓ) (g : Dev Cert.RefMmConvOutIdeal.nD → PrngReg), Pre_RefMmConvOutIdeal m →
    θ_run (Cert.RefMmConvOutIdeal.defs (F := Ideal)) (onTc (τ := Cert.RefMmConvOutIdeal.τ) (Cert.RefMmConvOutIdeal.main (F := Ideal))) ⟨m, fun _ => 0, g⟩ (fun r => (∀ c : Dev Cert.RefMmConvOutIdeal.nD,
      r.2.mem ((c.tc : Thread Cert.RefMmConvOutIdeal.nD Cert.RefMmConvOutIdeal.τ).loc Cert.RefMmConvOutIdeal.main_arg0) = m ((c.tc : Thread Cert.RefMmConvOutIdeal.nD Cert.RefMmConvOutIdeal.τ).loc Cert.RefMmConvOutIdeal.main_arg0)
      ∧ r.2.mem ((c.tc : Thread Cert.RefMmConvOutIdeal.nD Cert.RefMmConvOutIdeal.τ).loc Cert.RefMmConvOutIdeal.main_arg1) = m ((c.tc : Thread Cert.RefMmConvOutIdeal.nD Cert.RefMmConvOutIdeal.τ).loc Cert.RefMmConvOutIdeal.main_arg1))
      ∧ r.2.sem = fun _ => 0)

def quiescent_MmXo [hMmXo : Cert.MmXo.Facts] : Prop :=
  ∀ (m : (ℓ : Loc Cert.MmXo.nD Cert.MmXo.τ Cert.MmXo.sig) → Buf (Elt Bits) ℓ) (g : Dev Cert.MmXo.nD → PrngReg), Pre_MmXo m →
    θ_run (Cert.MmXo.defs (F := Bits)) (onTc (τ := Cert.MmXo.τ) (Cert.MmXo.main (F := Bits))) ⟨m, fun _ => 0, g⟩ (fun r => (∀ c : Dev Cert.MmXo.nD,
      r.2.mem ((c.tc : Thread Cert.MmXo.nD Cert.MmXo.τ).loc Cert.MmXo.main_arg0) = m ((c.tc : Thread Cert.MmXo.nD Cert.MmXo.τ).loc Cert.MmXo.main_arg0)
      ∧ r.2.mem ((c.tc : Thread Cert.MmXo.nD Cert.MmXo.τ).loc Cert.MmXo.main_arg1) = m ((c.tc : Thread Cert.MmXo.nD Cert.MmXo.τ).loc Cert.MmXo.main_arg1)
      ∧ r.2.mem ((c.tc : Thread Cert.MmXo.nD Cert.MmXo.τ).loc Cert.MmXo.main_arg2) = m ((c.tc : Thread Cert.MmXo.nD Cert.MmXo.τ).loc Cert.MmXo.main_arg2))
      ∧ r.2.sem = fun _ => 0)

def quiescent_MmXoIdeal [hMmXoIdeal : Cert.MmXoIdeal.Facts] : Prop :=
  ∀ (m : (ℓ : Loc Cert.MmXoIdeal.nD Cert.MmXoIdeal.τ Cert.MmXoIdeal.sig) → Buf (Elt Ideal) ℓ) (g : Dev Cert.MmXoIdeal.nD → PrngReg), Pre_MmXoIdeal m →
    θ_run (Cert.MmXoIdeal.defs (F := Ideal)) (onTc (τ := Cert.MmXoIdeal.τ) (Cert.MmXoIdeal.main (F := Ideal))) ⟨m, fun _ => 0, g⟩ (fun r => (∀ c : Dev Cert.MmXoIdeal.nD,
      r.2.mem ((c.tc : Thread Cert.MmXoIdeal.nD Cert.MmXoIdeal.τ).loc Cert.MmXoIdeal.main_arg0) = m ((c.tc : Thread Cert.MmXoIdeal.nD Cert.MmXoIdeal.τ).loc Cert.MmXoIdeal.main_arg0)
      ∧ r.2.mem ((c.tc : Thread Cert.MmXoIdeal.nD Cert.MmXoIdeal.τ).loc Cert.MmXoIdeal.main_arg1) = m ((c.tc : Thread Cert.MmXoIdeal.nD Cert.MmXoIdeal.τ).loc Cert.MmXoIdeal.main_arg1)
      ∧ r.2.mem ((c.tc : Thread Cert.MmXoIdeal.nD Cert.MmXoIdeal.τ).loc Cert.MmXoIdeal.main_arg2) = m ((c.tc : Thread Cert.MmXoIdeal.nD Cert.MmXoIdeal.τ).loc Cert.MmXoIdeal.main_arg2))
      ∧ r.2.sem = fun _ => 0)

def quiescent_RefMmXoIdeal [hRefMmXoIdeal : Cert.RefMmXoIdeal.Facts] : Prop :=
  ∀ (m : (ℓ : Loc Cert.RefMmXoIdeal.nD Cert.RefMmXoIdeal.τ Cert.RefMmXoIdeal.sig) → Buf (Elt Ideal) ℓ) (g : Dev Cert.RefMmXoIdeal.nD → PrngReg), Pre_RefMmXoIdeal m →
    θ_run (Cert.RefMmXoIdeal.defs (F := Ideal)) (onTc (τ := Cert.RefMmXoIdeal.τ) (Cert.RefMmXoIdeal.main (F := Ideal))) ⟨m, fun _ => 0, g⟩ (fun r => (∀ c : Dev Cert.RefMmXoIdeal.nD,
      r.2.mem ((c.tc : Thread Cert.RefMmXoIdeal.nD Cert.RefMmXoIdeal.τ).loc Cert.RefMmXoIdeal.main_arg0) = m ((c.tc : Thread Cert.RefMmXoIdeal.nD Cert.RefMmXoIdeal.τ).loc Cert.RefMmXoIdeal.main_arg0)
      ∧ r.2.mem ((c.tc : Thread Cert.RefMmXoIdeal.nD Cert.RefMmXoIdeal.τ).loc Cert.RefMmXoIdeal.main_arg1) = m ((c.tc : Thread Cert.RefMmXoIdeal.nD Cert.RefMmXoIdeal.τ).loc Cert.RefMmXoIdeal.main_arg1)
      ∧ r.2.mem ((c.tc : Thread Cert.RefMmXoIdeal.nD Cert.RefMmXoIdeal.τ).loc Cert.RefMmXoIdeal.main_arg2) = m ((c.tc : Thread Cert.RefMmXoIdeal.nD Cert.RefMmXoIdeal.τ).loc Cert.RefMmXoIdeal.main_arg2))
      ∧ r.2.sem = fun _ => 0)

def quiescent_ConvBBwd [hConvBBwd : Cert.ConvBBwd.Facts] : Prop :=
  ∀ (m : (ℓ : Loc Cert.ConvBBwd.nD Cert.ConvBBwd.τ Cert.ConvBBwd.sig) → Buf (Elt Bits) ℓ) (g : Dev Cert.ConvBBwd.nD → PrngReg), Pre_ConvBBwd m →
    θ_run (Cert.ConvBBwd.defs (F := Bits)) (onTc (τ := Cert.ConvBBwd.τ) (Cert.ConvBBwd.main (F := Bits))) ⟨m, fun _ => 0, g⟩ (fun r => (∀ c : Dev Cert.ConvBBwd.nD,
      r.2.mem ((c.tc : Thread Cert.ConvBBwd.nD Cert.ConvBBwd.τ).loc Cert.ConvBBwd.main_arg0) = m ((c.tc : Thread Cert.ConvBBwd.nD Cert.ConvBBwd.τ).loc Cert.ConvBBwd.main_arg0)
      ∧ r.2.mem ((c.tc : Thread Cert.ConvBBwd.nD Cert.ConvBBwd.τ).loc Cert.ConvBBwd.main_arg1) = m ((c.tc : Thread Cert.ConvBBwd.nD Cert.ConvBBwd.τ).loc Cert.ConvBBwd.main_arg1)
      ∧ r.2.mem ((c.tc : Thread Cert.ConvBBwd.nD Cert.ConvBBwd.τ).loc Cert.ConvBBwd.main_arg2) = m ((c.tc : Thread Cert.ConvBBwd.nD Cert.ConvBBwd.τ).loc Cert.ConvBBwd.main_arg2)
      ∧ r.2.mem ((c.tc : Thread Cert.ConvBBwd.nD Cert.ConvBBwd.τ).loc Cert.ConvBBwd.main_arg3) = m ((c.tc : Thread Cert.ConvBBwd.nD Cert.ConvBBwd.τ).loc Cert.ConvBBwd.main_arg3))
      ∧ r.2.sem = fun _ => 0)

def quiescent_ConvBBwdIdeal [hConvBBwdIdeal : Cert.ConvBBwdIdeal.Facts] : Prop :=
  ∀ (m : (ℓ : Loc Cert.ConvBBwdIdeal.nD Cert.ConvBBwdIdeal.τ Cert.ConvBBwdIdeal.sig) → Buf (Elt Ideal) ℓ) (g : Dev Cert.ConvBBwdIdeal.nD → PrngReg), Pre_ConvBBwdIdeal m →
    θ_run (Cert.ConvBBwdIdeal.defs (F := Ideal)) (onTc (τ := Cert.ConvBBwdIdeal.τ) (Cert.ConvBBwdIdeal.main (F := Ideal))) ⟨m, fun _ => 0, g⟩ (fun r => (∀ c : Dev Cert.ConvBBwdIdeal.nD,
      r.2.mem ((c.tc : Thread Cert.ConvBBwdIdeal.nD Cert.ConvBBwdIdeal.τ).loc Cert.ConvBBwdIdeal.main_arg0) = m ((c.tc : Thread Cert.ConvBBwdIdeal.nD Cert.ConvBBwdIdeal.τ).loc Cert.ConvBBwdIdeal.main_arg0)
      ∧ r.2.mem ((c.tc : Thread Cert.ConvBBwdIdeal.nD Cert.ConvBBwdIdeal.τ).loc Cert.ConvBBwdIdeal.main_arg1) = m ((c.tc : Thread Cert.ConvBBwdIdeal.nD Cert.ConvBBwdIdeal.τ).loc Cert.ConvBBwdIdeal.main_arg1)
      ∧ r.2.mem ((c.tc : Thread Cert.ConvBBwdIdeal.nD Cert.ConvBBwdIdeal.τ).loc Cert.ConvBBwdIdeal.main_arg2) = m ((c.tc : Thread Cert.ConvBBwdIdeal.nD Cert.ConvBBwdIdeal.τ).loc Cert.ConvBBwdIdeal.main_arg2)
      ∧ r.2.mem ((c.tc : Thread Cert.ConvBBwdIdeal.nD Cert.ConvBBwdIdeal.τ).loc Cert.ConvBBwdIdeal.main_arg3) = m ((c.tc : Thread Cert.ConvBBwdIdeal.nD Cert.ConvBBwdIdeal.τ).loc Cert.ConvBBwdIdeal.main_arg3))
      ∧ r.2.sem = fun _ => 0)

def quiescent_ConvBBwdIdeal_pre_finite_cotangent [hConvBBwdIdeal : Cert.ConvBBwdIdeal.Facts] [hPre_finite_cotangent : Cert.Pre_finite_cotangent.Facts] : Prop :=
  ∀ (m : (ℓ : Loc Cert.ConvBBwdIdeal.nD Cert.ConvBBwdIdeal.τ Cert.ConvBBwdIdeal.sig) → Buf (Elt Ideal) ℓ) (g : Dev Cert.ConvBBwdIdeal.nD → PrngReg), Pre_ConvBBwdIdeal_finite_cotangent m →
    θ_run (Cert.ConvBBwdIdeal.defs (F := Ideal)) (onTc (τ := Cert.ConvBBwdIdeal.τ) (Cert.ConvBBwdIdeal.main (F := Ideal))) ⟨m, fun _ => 0, g⟩ (fun r => (∀ c : Dev Cert.ConvBBwdIdeal.nD,
      r.2.mem ((c.tc : Thread Cert.ConvBBwdIdeal.nD Cert.ConvBBwdIdeal.τ).loc Cert.ConvBBwdIdeal.main_arg0) = m ((c.tc : Thread Cert.ConvBBwdIdeal.nD Cert.ConvBBwdIdeal.τ).loc Cert.ConvBBwdIdeal.main_arg0)
      ∧ r.2.mem ((c.tc : Thread Cert.ConvBBwdIdeal.nD Cert.ConvBBwdIdeal.τ).loc Cert.ConvBBwdIdeal.main_arg1) = m ((c.tc : Thread Cert.ConvBBwdIdeal.nD Cert.ConvBBwdIdeal.τ).loc Cert.ConvBBwdIdeal.main_arg1)
      ∧ r.2.mem ((c.tc : Thread Cert.ConvBBwdIdeal.nD Cert.ConvBBwdIdeal.τ).loc Cert.ConvBBwdIdeal.main_arg2) = m ((c.tc : Thread Cert.ConvBBwdIdeal.nD Cert.ConvBBwdIdeal.τ).loc Cert.ConvBBwdIdeal.main_arg2)
      ∧ r.2.mem ((c.tc : Thread Cert.ConvBBwdIdeal.nD Cert.ConvBBwdIdeal.τ).loc Cert.ConvBBwdIdeal.main_arg3) = m ((c.tc : Thread Cert.ConvBBwdIdeal.nD Cert.ConvBBwdIdeal.τ).loc Cert.ConvBBwdIdeal.main_arg3))
      ∧ r.2.sem = fun _ => 0)

def quiescent_RefConvBBwdIdeal [hRefConvBBwdIdeal : Cert.RefConvBBwdIdeal.Facts] : Prop :=
  ∀ (m : (ℓ : Loc Cert.RefConvBBwdIdeal.nD Cert.RefConvBBwdIdeal.τ Cert.RefConvBBwdIdeal.sig) → Buf (Elt Ideal) ℓ) (g : Dev Cert.RefConvBBwdIdeal.nD → PrngReg), Pre_RefConvBBwdIdeal m →
    θ_run (Cert.RefConvBBwdIdeal.defs (F := Ideal)) (onTc (τ := Cert.RefConvBBwdIdeal.τ) (Cert.RefConvBBwdIdeal.main (F := Ideal))) ⟨m, fun _ => 0, g⟩ (fun r => (∀ c : Dev Cert.RefConvBBwdIdeal.nD,
      r.2.mem ((c.tc : Thread Cert.RefConvBBwdIdeal.nD Cert.RefConvBBwdIdeal.τ).loc Cert.RefConvBBwdIdeal.main_arg0) = m ((c.tc : Thread Cert.RefConvBBwdIdeal.nD Cert.RefConvBBwdIdeal.τ).loc Cert.RefConvBBwdIdeal.main_arg0)
      ∧ r.2.mem ((c.tc : Thread Cert.RefConvBBwdIdeal.nD Cert.RefConvBBwdIdeal.τ).loc Cert.RefConvBBwdIdeal.main_arg1) = m ((c.tc : Thread Cert.RefConvBBwdIdeal.nD Cert.RefConvBBwdIdeal.τ).loc Cert.RefConvBBwdIdeal.main_arg1)
      ∧ r.2.mem ((c.tc : Thread Cert.RefConvBBwdIdeal.nD Cert.RefConvBBwdIdeal.τ).loc Cert.RefConvBBwdIdeal.main_arg2) = m ((c.tc : Thread Cert.RefConvBBwdIdeal.nD Cert.RefConvBBwdIdeal.τ).loc Cert.RefConvBBwdIdeal.main_arg2)
      ∧ r.2.mem ((c.tc : Thread Cert.RefConvBBwdIdeal.nD Cert.RefConvBBwdIdeal.τ).loc Cert.RefConvBBwdIdeal.main_arg3) = m ((c.tc : Thread Cert.RefConvBBwdIdeal.nD Cert.RefConvBBwdIdeal.τ).loc Cert.RefConvBBwdIdeal.main_arg3))
      ∧ r.2.sem = fun _ => 0)

def quiescent_RefConvBBwdIdeal_pre_finite_cotangent [hRefConvBBwdIdeal : Cert.RefConvBBwdIdeal.Facts] [hPre_finite_cotangent : Cert.Pre_finite_cotangent.Facts] : Prop :=
  ∀ (m : (ℓ : Loc Cert.RefConvBBwdIdeal.nD Cert.RefConvBBwdIdeal.τ Cert.RefConvBBwdIdeal.sig) → Buf (Elt Ideal) ℓ) (g : Dev Cert.RefConvBBwdIdeal.nD → PrngReg), Pre_RefConvBBwdIdeal_finite_cotangent m →
    θ_run (Cert.RefConvBBwdIdeal.defs (F := Ideal)) (onTc (τ := Cert.RefConvBBwdIdeal.τ) (Cert.RefConvBBwdIdeal.main (F := Ideal))) ⟨m, fun _ => 0, g⟩ (fun r => (∀ c : Dev Cert.RefConvBBwdIdeal.nD,
      r.2.mem ((c.tc : Thread Cert.RefConvBBwdIdeal.nD Cert.RefConvBBwdIdeal.τ).loc Cert.RefConvBBwdIdeal.main_arg0) = m ((c.tc : Thread Cert.RefConvBBwdIdeal.nD Cert.RefConvBBwdIdeal.τ).loc Cert.RefConvBBwdIdeal.main_arg0)
      ∧ r.2.mem ((c.tc : Thread Cert.RefConvBBwdIdeal.nD Cert.RefConvBBwdIdeal.τ).loc Cert.RefConvBBwdIdeal.main_arg1) = m ((c.tc : Thread Cert.RefConvBBwdIdeal.nD Cert.RefConvBBwdIdeal.τ).loc Cert.RefConvBBwdIdeal.main_arg1)
      ∧ r.2.mem ((c.tc : Thread Cert.RefConvBBwdIdeal.nD Cert.RefConvBBwdIdeal.τ).loc Cert.RefConvBBwdIdeal.main_arg2) = m ((c.tc : Thread Cert.RefConvBBwdIdeal.nD Cert.RefConvBBwdIdeal.τ).loc Cert.RefConvBBwdIdeal.main_arg2)
      ∧ r.2.mem ((c.tc : Thread Cert.RefConvBBwdIdeal.nD Cert.RefConvBBwdIdeal.τ).loc Cert.RefConvBBwdIdeal.main_arg3) = m ((c.tc : Thread Cert.RefConvBBwdIdeal.nD Cert.RefConvBBwdIdeal.τ).loc Cert.RefConvBBwdIdeal.main_arg3))
      ∧ r.2.sem = fun _ => 0)

def quiescent_ConvB [hConvB : Cert.ConvB.Facts] : Prop :=
  ∀ (m : (ℓ : Loc Cert.ConvB.nD Cert.ConvB.τ Cert.ConvB.sig) → Buf (Elt Bits) ℓ) (g : Dev Cert.ConvB.nD → PrngReg), Pre_ConvB m →
    θ_run (Cert.ConvB.defs (F := Bits)) (onTc (τ := Cert.ConvB.τ) (Cert.ConvB.main (F := Bits))) ⟨m, fun _ => 0, g⟩ (fun r => (∀ c : Dev Cert.ConvB.nD,
      r.2.mem ((c.tc : Thread Cert.ConvB.nD Cert.ConvB.τ).loc Cert.ConvB.main_arg0) = m ((c.tc : Thread Cert.ConvB.nD Cert.ConvB.τ).loc Cert.ConvB.main_arg0)
      ∧ r.2.mem ((c.tc : Thread Cert.ConvB.nD Cert.ConvB.τ).loc Cert.ConvB.main_arg1) = m ((c.tc : Thread Cert.ConvB.nD Cert.ConvB.τ).loc Cert.ConvB.main_arg1)
      ∧ r.2.mem ((c.tc : Thread Cert.ConvB.nD Cert.ConvB.τ).loc Cert.ConvB.main_arg2) = m ((c.tc : Thread Cert.ConvB.nD Cert.ConvB.τ).loc Cert.ConvB.main_arg2))
      ∧ r.2.sem = fun _ => 0)

def quiescent_ConvBIdeal [hConvBIdeal : Cert.ConvBIdeal.Facts] : Prop :=
  ∀ (m : (ℓ : Loc Cert.ConvBIdeal.nD Cert.ConvBIdeal.τ Cert.ConvBIdeal.sig) → Buf (Elt Ideal) ℓ) (g : Dev Cert.ConvBIdeal.nD → PrngReg), Pre_ConvBIdeal m →
    θ_run (Cert.ConvBIdeal.defs (F := Ideal)) (onTc (τ := Cert.ConvBIdeal.τ) (Cert.ConvBIdeal.main (F := Ideal))) ⟨m, fun _ => 0, g⟩ (fun r => (∀ c : Dev Cert.ConvBIdeal.nD,
      r.2.mem ((c.tc : Thread Cert.ConvBIdeal.nD Cert.ConvBIdeal.τ).loc Cert.ConvBIdeal.main_arg0) = m ((c.tc : Thread Cert.ConvBIdeal.nD Cert.ConvBIdeal.τ).loc Cert.ConvBIdeal.main_arg0)
      ∧ r.2.mem ((c.tc : Thread Cert.ConvBIdeal.nD Cert.ConvBIdeal.τ).loc Cert.ConvBIdeal.main_arg1) = m ((c.tc : Thread Cert.ConvBIdeal.nD Cert.ConvBIdeal.τ).loc Cert.ConvBIdeal.main_arg1)
      ∧ r.2.mem ((c.tc : Thread Cert.ConvBIdeal.nD Cert.ConvBIdeal.τ).loc Cert.ConvBIdeal.main_arg2) = m ((c.tc : Thread Cert.ConvBIdeal.nD Cert.ConvBIdeal.τ).loc Cert.ConvBIdeal.main_arg2))
      ∧ r.2.sem = fun _ => 0)

def quiescent_RefConvBIdeal [hRefConvBIdeal : Cert.RefConvBIdeal.Facts] : Prop :=
  ∀ (m : (ℓ : Loc Cert.RefConvBIdeal.nD Cert.RefConvBIdeal.τ Cert.RefConvBIdeal.sig) → Buf (Elt Ideal) ℓ) (g : Dev Cert.RefConvBIdeal.nD → PrngReg), Pre_RefConvBIdeal m →
    θ_run (Cert.RefConvBIdeal.defs (F := Ideal)) (onTc (τ := Cert.RefConvBIdeal.τ) (Cert.RefConvBIdeal.main (F := Ideal))) ⟨m, fun _ => 0, g⟩ (fun r => (∀ c : Dev Cert.RefConvBIdeal.nD,
      r.2.mem ((c.tc : Thread Cert.RefConvBIdeal.nD Cert.RefConvBIdeal.τ).loc Cert.RefConvBIdeal.main_arg0) = m ((c.tc : Thread Cert.RefConvBIdeal.nD Cert.RefConvBIdeal.τ).loc Cert.RefConvBIdeal.main_arg0)
      ∧ r.2.mem ((c.tc : Thread Cert.RefConvBIdeal.nD Cert.RefConvBIdeal.τ).loc Cert.RefConvBIdeal.main_arg1) = m ((c.tc : Thread Cert.RefConvBIdeal.nD Cert.RefConvBIdeal.τ).loc Cert.RefConvBIdeal.main_arg1)
      ∧ r.2.mem ((c.tc : Thread Cert.RefConvBIdeal.nD Cert.RefConvBIdeal.τ).loc Cert.RefConvBIdeal.main_arg2) = m ((c.tc : Thread Cert.RefConvBIdeal.nD Cert.RefConvBIdeal.τ).loc Cert.RefConvBIdeal.main_arg2))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ r.2.sem = fun _ => 0)

def quiescent_RefRmsIdeal [hRefRmsIdeal : Cert.RefRmsIdeal.Facts] : Prop :=
  ∀ (m : (ℓ : Loc Cert.RefRmsIdeal.nD Cert.RefRmsIdeal.τ Cert.RefRmsIdeal.sig) → Buf (Elt Ideal) ℓ) (g : Dev Cert.RefRmsIdeal.nD → PrngReg), Pre_RefRmsIdeal m →
    θ_run (Cert.RefRmsIdeal.defs (F := Ideal)) (onTc (τ := Cert.RefRmsIdeal.τ) (Cert.RefRmsIdeal.main (F := Ideal))) ⟨m, fun _ => 0, g⟩ (fun r => (∀ c : Dev Cert.RefRmsIdeal.nD,
      r.2.mem ((c.tc : Thread Cert.RefRmsIdeal.nD Cert.RefRmsIdeal.τ).loc Cert.RefRmsIdeal.main_arg0) = m ((c.tc : Thread Cert.RefRmsIdeal.nD Cert.RefRmsIdeal.τ).loc Cert.RefRmsIdeal.main_arg0)
      ∧ r.2.mem ((c.tc : Thread Cert.RefRmsIdeal.nD Cert.RefRmsIdeal.τ).loc Cert.RefRmsIdeal.main_arg1) = m ((c.tc : Thread Cert.RefRmsIdeal.nD Cert.RefRmsIdeal.τ).loc Cert.RefRmsIdeal.main_arg1))
      ∧ r.2.sem = fun _ => 0)

def quiescent_LnSilu [hLnSilu : Cert.LnSilu.Facts] : Prop :=
  ∀ (m : (ℓ : Loc Cert.LnSilu.nD Cert.LnSilu.τ Cert.LnSilu.sig) → Buf (Elt Bits) ℓ) (g : Dev Cert.LnSilu.nD → PrngReg), Pre_LnSilu m →
    θ_run (Cert.LnSilu.defs (F := Bits)) (onTc (τ := Cert.LnSilu.τ) (Cert.LnSilu.main (F := Bits))) ⟨m, fun _ => 0, g⟩ (fun r => (∀ c : Dev Cert.LnSilu.nD,
      r.2.mem ((c.tc : Thread Cert.LnSilu.nD Cert.LnSilu.τ).loc Cert.LnSilu.main_arg0) = m ((c.tc : Thread Cert.LnSilu.nD Cert.LnSilu.τ).loc Cert.LnSilu.main_arg0)
      ∧ r.2.mem ((c.tc : Thread Cert.LnSilu.nD Cert.LnSilu.τ).loc Cert.LnSilu.main_arg1) = m ((c.tc : Thread Cert.LnSilu.nD Cert.LnSilu.τ).loc Cert.LnSilu.main_arg1)
      ∧ r.2.mem ((c.tc : Thread Cert.LnSilu.nD Cert.LnSilu.τ).loc Cert.LnSilu.main_arg2) = m ((c.tc : Thread Cert.LnSilu.nD Cert.LnSilu.τ).loc Cert.LnSilu.main_arg2))
      ∧ r.2.sem = fun _ => 0)

def quiescent_LnSiluIdeal [hLnSiluIdeal : Cert.LnSiluIdeal.Facts] : Prop :=
  ∀ (m : (ℓ : Loc Cert.LnSiluIdeal.nD Cert.LnSiluIdeal.τ Cert.LnSiluIdeal.sig) → Buf (Elt Ideal) ℓ) (g : Dev Cert.LnSiluIdeal.nD → PrngReg), Pre_LnSiluIdeal m →
    θ_run (Cert.LnSiluIdeal.defs (F := Ideal)) (onTc (τ := Cert.LnSiluIdeal.τ) (Cert.LnSiluIdeal.main (F := Ideal))) ⟨m, fun _ => 0, g⟩ (fun r => (∀ c : Dev Cert.LnSiluIdeal.nD,
      r.2.mem ((c.tc : Thread Cert.LnSiluIdeal.nD Cert.LnSiluIdeal.τ).loc Cert.LnSiluIdeal.main_arg0) = m ((c.tc : Thread Cert.LnSiluIdeal.nD Cert.LnSiluIdeal.τ).loc Cert.LnSiluIdeal.main_arg0)
      ∧ r.2.mem ((c.tc : Thread Cert.LnSiluIdeal.nD Cert.LnSiluIdeal.τ).loc Cert.LnSiluIdeal.main_arg1) = m ((c.tc : Thread Cert.LnSiluIdeal.nD Cert.LnSiluIdeal.τ).loc Cert.LnSiluIdeal.main_arg1)
      ∧ r.2.mem ((c.tc : Thread Cert.LnSiluIdeal.nD Cert.LnSiluIdeal.τ).loc Cert.LnSiluIdeal.main_arg2) = m ((c.tc : Thread Cert.LnSiluIdeal.nD Cert.LnSiluIdeal.τ).loc Cert.LnSiluIdeal.main_arg2))
      ∧ r.2.sem = fun _ => 0)

def quiescent_RefLnSiluIdeal [hRefLnSiluIdeal : Cert.RefLnSiluIdeal.Facts] : Prop :=
  ∀ (m : (ℓ : Loc Cert.RefLnSiluIdeal.nD Cert.RefLnSiluIdeal.τ Cert.RefLnSiluIdeal.sig) → Buf (Elt Ideal) ℓ) (g : Dev Cert.RefLnSiluIdeal.nD → PrngReg), Pre_RefLnSiluIdeal m →
    θ_run (Cert.RefLnSiluIdeal.defs (F := Ideal)) (onTc (τ := Cert.RefLnSiluIdeal.τ) (Cert.RefLnSiluIdeal.main (F := Ideal))) ⟨m, fun _ => 0, g⟩ (fun r => (∀ c : Dev Cert.RefLnSiluIdeal.nD,
      r.2.mem ((c.tc : Thread Cert.RefLnSiluIdeal.nD Cert.RefLnSiluIdeal.τ).loc Cert.RefLnSiluIdeal.main_arg0) = m ((c.tc : Thread Cert.RefLnSiluIdeal.nD Cert.RefLnSiluIdeal.τ).loc Cert.RefLnSiluIdeal.main_arg0)
      ∧ r.2.mem ((c.tc : Thread Cert.RefLnSiluIdeal.nD Cert.RefLnSiluIdeal.τ).loc Cert.RefLnSiluIdeal.main_arg1) = m ((c.tc : Thread Cert.RefLnSiluIdeal.nD Cert.RefLnSiluIdeal.τ).loc Cert.RefLnSiluIdeal.main_arg1)
      ∧ r.2.mem ((c.tc : Thread Cert.RefLnSiluIdeal.nD Cert.RefLnSiluIdeal.τ).loc Cert.RefLnSiluIdeal.main_arg2) = m ((c.tc : Thread Cert.RefLnSiluIdeal.nD Cert.RefLnSiluIdeal.τ).loc Cert.RefLnSiluIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_RefMergeIdeal [hRefMergeIdeal : Cert.RefMergeIdeal.Facts] : Prop :=
  ∀ (m : (ℓ : Loc Cert.RefMergeIdeal.nD Cert.RefMergeIdeal.τ Cert.RefMergeIdeal.sig) → Buf (Elt Ideal) ℓ) (g : Dev Cert.RefMergeIdeal.nD → PrngReg), Pre_RefMergeIdeal m →
    θ_run (Cert.RefMergeIdeal.defs (F := Ideal)) (onTc (τ := Cert.RefMergeIdeal.τ) (Cert.RefMergeIdeal.main (F := Ideal))) ⟨m, fun _ => 0, g⟩ (fun r => (∀ c : Dev Cert.RefMergeIdeal.nD,
      r.2.mem ((c.tc : Thread Cert.RefMergeIdeal.nD Cert.RefMergeIdeal.τ).loc Cert.RefMergeIdeal.main_arg0) = m ((c.tc : Thread Cert.RefMergeIdeal.nD Cert.RefMergeIdeal.τ).loc Cert.RefMergeIdeal.main_arg0)
      ∧ r.2.mem ((c.tc : Thread Cert.RefMergeIdeal.nD Cert.RefMergeIdeal.τ).loc Cert.RefMergeIdeal.main_arg1) = m ((c.tc : Thread Cert.RefMergeIdeal.nD Cert.RefMergeIdeal.τ).loc Cert.RefMergeIdeal.main_arg1)
      ∧ r.2.mem ((c.tc : Thread Cert.RefMergeIdeal.nD Cert.RefMergeIdeal.τ).loc Cert.RefMergeIdeal.main_arg2) = m ((c.tc : Thread Cert.RefMergeIdeal.nD Cert.RefMergeIdeal.τ).loc Cert.RefMergeIdeal.main_arg2)
      ∧ r.2.mem ((c.tc : Thread Cert.RefMergeIdeal.nD Cert.RefMergeIdeal.τ).loc Cert.RefMergeIdeal.main_arg3) = m ((c.tc : Thread Cert.RefMergeIdeal.nD Cert.RefMergeIdeal.τ).loc Cert.RefMergeIdeal.main_arg3)
      ∧ r.2.mem ((c.tc : Thread Cert.RefMergeIdeal.nD Cert.RefMergeIdeal.τ).loc Cert.RefMergeIdeal.main_arg4) = m ((c.tc : Thread Cert.RefMergeIdeal.nD Cert.RefMergeIdeal.τ).loc Cert.RefMergeIdeal.main_arg4))
      ∧ r.2.sem = fun _ => 0)

def quiescent_XkvDw [hXkvDw : Cert.XkvDw.Facts] : Prop :=
  ∀ (m : (ℓ : Loc Cert.XkvDw.nD Cert.XkvDw.τ Cert.XkvDw.sig) → Buf (Elt Bits) ℓ) (g : Dev Cert.XkvDw.nD → PrngReg), Pre_XkvDw m →
    θ_run (Cert.XkvDw.defs (F := Bits)) (onTc (τ := Cert.XkvDw.τ) (Cert.XkvDw.main (F := Bits))) ⟨m, fun _ => 0, g⟩ (fun r => (∀ c : Dev Cert.XkvDw.nD,
      r.2.mem ((c.tc : Thread Cert.XkvDw.nD Cert.XkvDw.τ).loc Cert.XkvDw.main_arg0) = m ((c.tc : Thread Cert.XkvDw.nD Cert.XkvDw.τ).loc Cert.XkvDw.main_arg0)
      ∧ r.2.mem ((c.tc : Thread Cert.XkvDw.nD Cert.XkvDw.τ).loc Cert.XkvDw.main_arg1) = m ((c.tc : Thread Cert.XkvDw.nD Cert.XkvDw.τ).loc Cert.XkvDw.main_arg1))
      ∧ r.2.sem = fun _ => 0)

def quiescent_XkvDwIdeal [hXkvDwIdeal : Cert.XkvDwIdeal.Facts] : Prop :=
  ∀ (m : (ℓ : Loc Cert.XkvDwIdeal.nD Cert.XkvDwIdeal.τ Cert.XkvDwIdeal.sig) → Buf (Elt Ideal) ℓ) (g : Dev Cert.XkvDwIdeal.nD → PrngReg), Pre_XkvDwIdeal m →
    θ_run (Cert.XkvDwIdeal.defs (F := Ideal)) (onTc (τ := Cert.XkvDwIdeal.τ) (Cert.XkvDwIdeal.main (F := Ideal))) ⟨m, fun _ => 0, g⟩ (fun r => (∀ c : Dev Cert.XkvDwIdeal.nD,
      r.2.mem ((c.tc : Thread Cert.XkvDwIdeal.nD Cert.XkvDwIdeal.τ).loc Cert.XkvDwIdeal.main_arg0) = m ((c.tc : Thread Cert.XkvDwIdeal.nD Cert.XkvDwIdeal.τ).loc Cert.XkvDwIdeal.main_arg0)
      ∧ r.2.mem ((c.tc : Thread Cert.XkvDwIdeal.nD Cert.XkvDwIdeal.τ).loc Cert.XkvDwIdeal.main_arg1) = m ((c.tc : Thread Cert.XkvDwIdeal.nD Cert.XkvDwIdeal.τ).loc Cert.XkvDwIdeal.main_arg1))
      ∧ r.2.sem = fun _ => 0)

def quiescent_RefXkvDwIdeal [hRefXkvDwIdeal : Cert.RefXkvDwIdeal.Facts] : Prop :=
  ∀ (m : (ℓ : Loc Cert.RefXkvDwIdeal.nD Cert.RefXkvDwIdeal.τ Cert.RefXkvDwIdeal.sig) → Buf (Elt Ideal) ℓ) (g : Dev Cert.RefXkvDwIdeal.nD → PrngReg), Pre_RefXkvDwIdeal m →
    θ_run (Cert.RefXkvDwIdeal.defs (F := Ideal)) (onTc (τ := Cert.RefXkvDwIdeal.τ) (Cert.RefXkvDwIdeal.main (F := Ideal))) ⟨m, fun _ => 0, g⟩ (fun r => (∀ c : Dev Cert.RefXkvDwIdeal.nD,
      r.2.mem ((c.tc : Thread Cert.RefXkvDwIdeal.nD Cert.RefXkvDwIdeal.τ).loc Cert.RefXkvDwIdeal.main_arg0) = m ((c.tc : Thread Cert.RefXkvDwIdeal.nD Cert.RefXkvDwIdeal.τ).loc Cert.RefXkvDwIdeal.main_arg0)
      ∧ r.2.mem ((c.tc : Thread Cert.RefXkvDwIdeal.nD Cert.RefXkvDwIdeal.τ).loc Cert.RefXkvDwIdeal.main_arg1) = m ((c.tc : Thread Cert.RefXkvDwIdeal.nD Cert.RefXkvDwIdeal.τ).loc Cert.RefXkvDwIdeal.main_arg1))
      ∧ r.2.sem = fun _ => 0)

def quiescent_XkvDx [hXkvDx : Cert.XkvDx.Facts] : Prop :=
  ∀ (m : (ℓ : Loc Cert.XkvDx.nD Cert.XkvDx.τ Cert.XkvDx.sig) → Buf (Elt Bits) ℓ) (g : Dev Cert.XkvDx.nD → PrngReg), Pre_XkvDx m →
    θ_run (Cert.XkvDx.defs (F := Bits)) (onTc (τ := Cert.XkvDx.τ) (Cert.XkvDx.main (F := Bits))) ⟨m, fun _ => 0, g⟩ (fun r => (∀ c : Dev Cert.XkvDx.nD,
      r.2.mem ((c.tc : Thread Cert.XkvDx.nD Cert.XkvDx.τ).loc Cert.XkvDx.main_arg0) = m ((c.tc : Thread Cert.XkvDx.nD Cert.XkvDx.τ).loc Cert.XkvDx.main_arg0)
      ∧ r.2.mem ((c.tc : Thread Cert.XkvDx.nD Cert.XkvDx.τ).loc Cert.XkvDx.main_arg1) = m ((c.tc : Thread Cert.XkvDx.nD Cert.XkvDx.τ).loc Cert.XkvDx.main_arg1))
      ∧ r.2.sem = fun _ => 0)

def quiescent_XkvDxIdeal [hXkvDxIdeal : Cert.XkvDxIdeal.Facts] : Prop :=
  ∀ (m : (ℓ : Loc Cert.XkvDxIdeal.nD Cert.XkvDxIdeal.τ Cert.XkvDxIdeal.sig) → Buf (Elt Ideal) ℓ) (g : Dev Cert.XkvDxIdeal.nD → PrngReg), Pre_XkvDxIdeal m →
    θ_run (Cert.XkvDxIdeal.defs (F := Ideal)) (onTc (τ := Cert.XkvDxIdeal.τ) (Cert.XkvDxIdeal.main (F := Ideal))) ⟨m, fun _ => 0, g⟩ (fun r => (∀ c : Dev Cert.XkvDxIdeal.nD,
      r.2.mem ((c.tc : Thread Cert.XkvDxIdeal.nD Cert.XkvDxIdeal.τ).loc Cert.XkvDxIdeal.main_arg0) = m ((c.tc : Thread Cert.XkvDxIdeal.nD Cert.XkvDxIdeal.τ).loc Cert.XkvDxIdeal.main_arg0)
      ∧ r.2.mem ((c.tc : Thread Cert.XkvDxIdeal.nD Cert.XkvDxIdeal.τ).loc Cert.XkvDxIdeal.main_arg1) = m ((c.tc : Thread Cert.XkvDxIdeal.nD Cert.XkvDxIdeal.τ).loc Cert.XkvDxIdeal.main_arg1))
      ∧ r.2.sem = fun _ => 0)

def quiescent_RefXkvDxIdeal [hRefXkvDxIdeal : Cert.RefXkvDxIdeal.Facts] : Prop :=
  ∀ (m : (ℓ : Loc Cert.RefXkvDxIdeal.nD Cert.RefXkvDxIdeal.τ Cert.RefXkvDxIdeal.sig) → Buf (Elt Ideal) ℓ) (g : Dev Cert.RefXkvDxIdeal.nD → PrngReg), Pre_RefXkvDxIdeal m →
    θ_run (Cert.RefXkvDxIdeal.defs (F := Ideal)) (onTc (τ := Cert.RefXkvDxIdeal.τ) (Cert.RefXkvDxIdeal.main (F := Ideal))) ⟨m, fun _ => 0, g⟩ (fun r => (∀ c : Dev Cert.RefXkvDxIdeal.nD,
      r.2.mem ((c.tc : Thread Cert.RefXkvDxIdeal.nD Cert.RefXkvDxIdeal.τ).loc Cert.RefXkvDxIdeal.main_arg0) = m ((c.tc : Thread Cert.RefXkvDxIdeal.nD Cert.RefXkvDxIdeal.τ).loc Cert.RefXkvDxIdeal.main_arg0)
      ∧ r.2.mem ((c.tc : Thread Cert.RefXkvDxIdeal.nD Cert.RefXkvDxIdeal.τ).loc Cert.RefXkvDxIdeal.main_arg1) = m ((c.tc : Thread Cert.RefXkvDxIdeal.nD Cert.RefXkvDxIdeal.τ).loc Cert.RefXkvDxIdeal.main_arg1))
      ∧ r.2.sem = fun _ => 0)

def quiescent_MmXkv [hMmXkv : Cert.MmXkv.Facts] : Prop :=
  ∀ (m : (ℓ : Loc Cert.MmXkv.nD Cert.MmXkv.τ Cert.MmXkv.sig) → Buf (Elt Bits) ℓ) (g : Dev Cert.MmXkv.nD → PrngReg), Pre_MmXkv m →
    θ_run (Cert.MmXkv.defs (F := Bits)) (onTc (τ := Cert.MmXkv.τ) (Cert.MmXkv.main (F := Bits))) ⟨m, fun _ => 0, g⟩ (fun r => (∀ c : Dev Cert.MmXkv.nD,
      r.2.mem ((c.tc : Thread Cert.MmXkv.nD Cert.MmXkv.τ).loc Cert.MmXkv.main_arg0) = m ((c.tc : Thread Cert.MmXkv.nD Cert.MmXkv.τ).loc Cert.MmXkv.main_arg0)
      ∧ r.2.mem ((c.tc : Thread Cert.MmXkv.nD Cert.MmXkv.τ).loc Cert.MmXkv.main_arg1) = m ((c.tc : Thread Cert.MmXkv.nD Cert.MmXkv.τ).loc Cert.MmXkv.main_arg1))
      ∧ r.2.sem = fun _ => 0)

def quiescent_MmXkvIdeal [hMmXkvIdeal : Cert.MmXkvIdeal.Facts] : Prop :=
  ∀ (m : (ℓ : Loc Cert.MmXkvIdeal.nD Cert.MmXkvIdeal.τ Cert.MmXkvIdeal.sig) → Buf (Elt Ideal) ℓ) (g : Dev Cert.MmXkvIdeal.nD → PrngReg), Pre_MmXkvIdeal m →
    θ_run (Cert.MmXkvIdeal.defs (F := Ideal)) (onTc (τ := Cert.MmXkvIdeal.τ) (Cert.MmXkvIdeal.main (F := Ideal))) ⟨m, fun _ => 0, g⟩ (fun r => (∀ c : Dev Cert.MmXkvIdeal.nD,
      r.2.mem ((c.tc : Thread Cert.MmXkvIdeal.nD Cert.MmXkvIdeal.τ).loc Cert.MmXkvIdeal.main_arg0) = m ((c.tc : Thread Cert.MmXkvIdeal.nD Cert.MmXkvIdeal.τ).loc Cert.MmXkvIdeal.main_arg0)
      ∧ r.2.mem ((c.tc : Thread Cert.MmXkvIdeal.nD Cert.MmXkvIdeal.τ).loc Cert.MmXkvIdeal.main_arg1) = m ((c.tc : Thread Cert.MmXkvIdeal.nD Cert.MmXkvIdeal.τ).loc Cert.MmXkvIdeal.main_arg1))
      ∧ r.2.sem = fun _ => 0)

def quiescent_RefMmXkvIdeal [hRefMmXkvIdeal : Cert.RefMmXkvIdeal.Facts] : Prop :=
  ∀ (m : (ℓ : Loc Cert.RefMmXkvIdeal.nD Cert.RefMmXkvIdeal.τ Cert.RefMmXkvIdeal.sig) → Buf (Elt Ideal) ℓ) (g : Dev Cert.RefMmXkvIdeal.nD → PrngReg), Pre_RefMmXkvIdeal m →
    θ_run (Cert.RefMmXkvIdeal.defs (F := Ideal)) (onTc (τ := Cert.RefMmXkvIdeal.τ) (Cert.RefMmXkvIdeal.main (F := Ideal))) ⟨m, fun _ => 0, g⟩ (fun r => (∀ c : Dev Cert.RefMmXkvIdeal.nD,
      r.2.mem ((c.tc : Thread Cert.RefMmXkvIdeal.nD Cert.RefMmXkvIdeal.τ).loc Cert.RefMmXkvIdeal.main_arg0) = m ((c.tc : Thread Cert.RefMmXkvIdeal.nD Cert.RefMmXkvIdeal.τ).loc Cert.RefMmXkvIdeal.main_arg0)
      ∧ r.2.mem ((c.tc : Thread Cert.RefMmXkvIdeal.nD Cert.RefMmXkvIdeal.τ).loc Cert.RefMmXkvIdeal.main_arg1) = m ((c.tc : Thread Cert.RefMmXkvIdeal.nD Cert.RefMmXkvIdeal.τ).loc Cert.RefMmXkvIdeal.main_arg1))
      ∧ r.2.sem = fun _ => 0)

def quiescent_Xa [hXa : Cert.Xa.Facts] : Prop :=
  ∀ (m : (ℓ : Loc Cert.Xa.nD Cert.Xa.τ Cert.Xa.sig) → Buf (Elt Bits) ℓ) (g : Dev Cert.Xa.nD → PrngReg), Pre_Xa m →
    θ_run (Cert.Xa.defs (F := Bits)) (onTc (τ := Cert.Xa.τ) (Cert.Xa.main (F := Bits))) ⟨m, fun _ => 0, g⟩ (fun r => (∀ c : Dev Cert.Xa.nD,
      r.2.mem ((c.tc : Thread Cert.Xa.nD Cert.Xa.τ).loc Cert.Xa.main_arg0) = m ((c.tc : Thread Cert.Xa.nD Cert.Xa.τ).loc Cert.Xa.main_arg0)
      ∧ r.2.mem ((c.tc : Thread Cert.Xa.nD Cert.Xa.τ).loc Cert.Xa.main_arg1) = m ((c.tc : Thread Cert.Xa.nD Cert.Xa.τ).loc Cert.Xa.main_arg1)
      ∧ r.2.mem ((c.tc : Thread Cert.Xa.nD Cert.Xa.τ).loc Cert.Xa.main_arg2) = m ((c.tc : Thread Cert.Xa.nD Cert.Xa.τ).loc Cert.Xa.main_arg2)
      ∧ r.2.mem ((c.tc : Thread Cert.Xa.nD Cert.Xa.τ).loc Cert.Xa.main_arg3) = m ((c.tc : Thread Cert.Xa.nD Cert.Xa.τ).loc Cert.Xa.main_arg3))
      ∧ r.2.sem = fun _ => 0)

def quiescent_XaIdeal [hXaIdeal : Cert.XaIdeal.Facts] : Prop :=
  ∀ (m : (ℓ : Loc Cert.XaIdeal.nD Cert.XaIdeal.τ Cert.XaIdeal.sig) → Buf (Elt Ideal) ℓ) (g : Dev Cert.XaIdeal.nD → PrngReg), Pre_XaIdeal m →
    θ_run (Cert.XaIdeal.defs (F := Ideal)) (onTc (τ := Cert.XaIdeal.τ) (Cert.XaIdeal.main (F := Ideal))) ⟨m, fun _ => 0, g⟩ (fun r => (∀ c : Dev Cert.XaIdeal.nD,
      r.2.mem ((c.tc : Thread Cert.XaIdeal.nD Cert.XaIdeal.τ).loc Cert.XaIdeal.main_arg0) = m ((c.tc : Thread Cert.XaIdeal.nD Cert.XaIdeal.τ).loc Cert.XaIdeal.main_arg0)
      ∧ r.2.mem ((c.tc : Thread Cert.XaIdeal.nD Cert.XaIdeal.τ).loc Cert.XaIdeal.main_arg1) = m ((c.tc : Thread Cert.XaIdeal.nD Cert.XaIdeal.τ).loc Cert.XaIdeal.main_arg1)
      ∧ r.2.mem ((c.tc : Thread Cert.XaIdeal.nD Cert.XaIdeal.τ).loc Cert.XaIdeal.main_arg2) = m ((c.tc : Thread Cert.XaIdeal.nD Cert.XaIdeal.τ).loc Cert.XaIdeal.main_arg2)
      ∧ r.2.mem ((c.tc : Thread Cert.XaIdeal.nD Cert.XaIdeal.τ).loc Cert.XaIdeal.main_arg3) = m ((c.tc : Thread Cert.XaIdeal.nD Cert.XaIdeal.τ).loc Cert.XaIdeal.main_arg3))
      ∧ r.2.sem = fun _ => 0)

def quiescent_XaIdeal_pre_finite_arguments [hXaIdeal : Cert.XaIdeal.Facts] [hPre_finite_arguments : Cert.Pre_finite_arguments.Facts] : Prop :=
  ∀ (m : (ℓ : Loc Cert.XaIdeal.nD Cert.XaIdeal.τ Cert.XaIdeal.sig) → Buf (Elt Ideal) ℓ) (g : Dev Cert.XaIdeal.nD → PrngReg), Pre_XaIdeal_finite_arguments m →
    θ_run (Cert.XaIdeal.defs (F := Ideal)) (onTc (τ := Cert.XaIdeal.τ) (Cert.XaIdeal.main (F := Ideal))) ⟨m, fun _ => 0, g⟩ (fun r => (∀ c : Dev Cert.XaIdeal.nD,
      r.2.mem ((c.tc : Thread Cert.XaIdeal.nD Cert.XaIdeal.τ).loc Cert.XaIdeal.main_arg0) = m ((c.tc : Thread Cert.XaIdeal.nD Cert.XaIdeal.τ).loc Cert.XaIdeal.main_arg0)
      ∧ r.2.mem ((c.tc : Thread Cert.XaIdeal.nD Cert.XaIdeal.τ).loc Cert.XaIdeal.main_arg1) = m ((c.tc : Thread Cert.XaIdeal.nD Cert.XaIdeal.τ).loc Cert.XaIdeal.main_arg1)
      ∧ r.2.mem ((c.tc : Thread Cert.XaIdeal.nD Cert.XaIdeal.τ).loc Cert.XaIdeal.main_arg2) = m ((c.tc : Thread Cert.XaIdeal.nD Cert.XaIdeal.τ).loc Cert.XaIdeal.main_arg2)
      ∧ r.2.mem ((c.tc : Thread Cert.XaIdeal.nD Cert.XaIdeal.τ).loc Cert.XaIdeal.main_arg3) = m ((c.tc : Thread Cert.XaIdeal.nD Cert.XaIdeal.τ).loc Cert.XaIdeal.main_arg3))
      ∧ r.2.sem = fun _ => 0)

def quiescent_RefXaIdeal [hRefXaIdeal : Cert.RefXaIdeal.Facts] : Prop :=
  ∀ (m : (ℓ : Loc Cert.RefXaIdeal.nD Cert.RefXaIdeal.τ Cert.RefXaIdeal.sig) → Buf (Elt Ideal) ℓ) (g : Dev Cert.RefXaIdeal.nD → PrngReg), Pre_RefXaIdeal m →
    θ_run (Cert.RefXaIdeal.defs (F := Ideal)) (onTc (τ := Cert.RefXaIdeal.τ) (Cert.RefXaIdeal.main (F := Ideal))) ⟨m, fun _ => 0, g⟩ (fun r => (∀ c : Dev Cert.RefXaIdeal.nD,
      r.2.mem ((c.tc : Thread Cert.RefXaIdeal.nD Cert.RefXaIdeal.τ).loc Cert.RefXaIdeal.main_arg0) = m ((c.tc : Thread Cert.RefXaIdeal.nD Cert.RefXaIdeal.τ).loc Cert.RefXaIdeal.main_arg0)
      ∧ r.2.mem ((c.tc : Thread Cert.RefXaIdeal.nD Cert.RefXaIdeal.τ).loc Cert.RefXaIdeal.main_arg1) = m ((c.tc : Thread Cert.RefXaIdeal.nD Cert.RefXaIdeal.τ).loc Cert.RefXaIdeal.main_arg1)
      ∧ r.2.mem ((c.tc : Thread Cert.RefXaIdeal.nD Cert.RefXaIdeal.τ).loc Cert.RefXaIdeal.main_arg2) = m ((c.tc : Thread Cert.RefXaIdeal.nD Cert.RefXaIdeal.τ).loc Cert.RefXaIdeal.main_arg2)
      ∧ r.2.mem ((c.tc : Thread Cert.RefXaIdeal.nD Cert.RefXaIdeal.τ).loc Cert.RefXaIdeal.main_arg3) = m ((c.tc : Thread Cert.RefXaIdeal.nD Cert.RefXaIdeal.τ).loc Cert.RefXaIdeal.main_arg3))
      ∧ r.2.sem = fun _ => 0)

def quiescent_RefXaIdeal_pre_finite_arguments [hRefXaIdeal : Cert.RefXaIdeal.Facts] [hPre_finite_arguments : Cert.Pre_finite_arguments.Facts] : Prop :=
  ∀ (m : (ℓ : Loc Cert.RefXaIdeal.nD Cert.RefXaIdeal.τ Cert.RefXaIdeal.sig) → Buf (Elt Ideal) ℓ) (g : Dev Cert.RefXaIdeal.nD → PrngReg), Pre_RefXaIdeal_finite_arguments m →
    θ_run (Cert.RefXaIdeal.defs (F := Ideal)) (onTc (τ := Cert.RefXaIdeal.τ) (Cert.RefXaIdeal.main (F := Ideal))) ⟨m, fun _ => 0, g⟩ (fun r => (∀ c : Dev Cert.RefXaIdeal.nD,
      r.2.mem ((c.tc : Thread Cert.RefXaIdeal.nD Cert.RefXaIdeal.τ).loc Cert.RefXaIdeal.main_arg0) = m ((c.tc : Thread Cert.RefXaIdeal.nD Cert.RefXaIdeal.τ).loc Cert.RefXaIdeal.main_arg0)
      ∧ r.2.mem ((c.tc : Thread Cert.RefXaIdeal.nD Cert.RefXaIdeal.τ).loc Cert.RefXaIdeal.main_arg1) = m ((c.tc : Thread Cert.RefXaIdeal.nD Cert.RefXaIdeal.τ).loc Cert.RefXaIdeal.main_arg1)
      ∧ r.2.mem ((c.tc : Thread Cert.RefXaIdeal.nD Cert.RefXaIdeal.τ).loc Cert.RefXaIdeal.main_arg2) = m ((c.tc : Thread Cert.RefXaIdeal.nD Cert.RefXaIdeal.τ).loc Cert.RefXaIdeal.main_arg2)
      ∧ r.2.mem ((c.tc : Thread Cert.RefXaIdeal.nD Cert.RefXaIdeal.τ).loc Cert.RefXaIdeal.main_arg3) = m ((c.tc : Thread Cert.RefXaIdeal.nD Cert.RefXaIdeal.τ).loc Cert.RefXaIdeal.main_arg3))
      ∧ r.2.sem = fun _ => 0)

def quiescent_RmsMem [hRmsMem : Cert.RmsMem.Facts] : Prop :=
  ∀ (m : (ℓ : Loc Cert.RmsMem.nD Cert.RmsMem.τ Cert.RmsMem.sig) → Buf (Elt Bits) ℓ) (g : Dev Cert.RmsMem.nD → PrngReg), Pre_RmsMem m →
    θ_run (Cert.RmsMem.defs (F := Bits)) (onTc (τ := Cert.RmsMem.τ) (Cert.RmsMem.main (F := Bits))) ⟨m, fun _ => 0, g⟩ (fun r => (∀ c : Dev Cert.RmsMem.nD,
      r.2.mem ((c.tc : Thread Cert.RmsMem.nD Cert.RmsMem.τ).loc Cert.RmsMem.main_arg0) = m ((c.tc : Thread Cert.RmsMem.nD Cert.RmsMem.τ).loc Cert.RmsMem.main_arg0)
      ∧ r.2.mem ((c.tc : Thread Cert.RmsMem.nD Cert.RmsMem.τ).loc Cert.RmsMem.main_arg1) = m ((c.tc : Thread Cert.RmsMem.nD Cert.RmsMem.τ).loc Cert.RmsMem.main_arg1))
      ∧ r.2.sem = fun _ => 0)

def quiescent_RmsMemIdeal [hRmsMemIdeal : Cert.RmsMemIdeal.Facts] : Prop :=
  ∀ (m : (ℓ : Loc Cert.RmsMemIdeal.nD Cert.RmsMemIdeal.τ Cert.RmsMemIdeal.sig) → Buf (Elt Ideal) ℓ) (g : Dev Cert.RmsMemIdeal.nD → PrngReg), Pre_RmsMemIdeal m →
    θ_run (Cert.RmsMemIdeal.defs (F := Ideal)) (onTc (τ := Cert.RmsMemIdeal.τ) (Cert.RmsMemIdeal.main (F := Ideal))) ⟨m, fun _ => 0, g⟩ (fun r => (∀ c : Dev Cert.RmsMemIdeal.nD,
      r.2.mem ((c.tc : Thread Cert.RmsMemIdeal.nD Cert.RmsMemIdeal.τ).loc Cert.RmsMemIdeal.main_arg0) = m ((c.tc : Thread Cert.RmsMemIdeal.nD Cert.RmsMemIdeal.τ).loc Cert.RmsMemIdeal.main_arg0)
      ∧ r.2.mem ((c.tc : Thread Cert.RmsMemIdeal.nD Cert.RmsMemIdeal.τ).loc Cert.RmsMemIdeal.main_arg1) = m ((c.tc : Thread Cert.RmsMemIdeal.nD Cert.RmsMemIdeal.τ).loc Cert.RmsMemIdeal.main_arg1))
      ∧ r.2.sem = fun _ => 0)

def quiescent_RefRmsMemIdeal [hRefRmsMemIdeal : Cert.RefRmsMemIdeal.Facts] : Prop :=
  ∀ (m : (ℓ : Loc Cert.RefRmsMemIdeal.nD Cert.RefRmsMemIdeal.τ Cert.RefRmsMemIdeal.sig) → Buf (Elt Ideal) ℓ) (g : Dev Cert.RefRmsMemIdeal.nD → PrngReg), Pre_RefRmsMemIdeal m →
    θ_run (Cert.RefRmsMemIdeal.defs (F := Ideal)) (onTc (τ := Cert.RefRmsMemIdeal.τ) (Cert.RefRmsMemIdeal.main (F := Ideal))) ⟨m, fun _ => 0, g⟩ (fun r => (∀ c : Dev Cert.RefRmsMemIdeal.nD,
      r.2.mem ((c.tc : Thread Cert.RefRmsMemIdeal.nD Cert.RefRmsMemIdeal.τ).loc Cert.RefRmsMemIdeal.main_arg0) = m ((c.tc : Thread Cert.RefRmsMemIdeal.nD Cert.RefRmsMemIdeal.τ).loc Cert.RefRmsMemIdeal.main_arg0)
      ∧ r.2.mem ((c.tc : Thread Cert.RefRmsMemIdeal.nD Cert.RefRmsMemIdeal.τ).loc Cert.RefRmsMemIdeal.main_arg1) = m ((c.tc : Thread Cert.RefRmsMemIdeal.nD Cert.RefRmsMemIdeal.τ).loc Cert.RefRmsMemIdeal.main_arg1))
      ∧ r.2.sem = fun _ => 0)

def quiescent_RmsMemBwd [hRmsMemBwd : Cert.RmsMemBwd.Facts] : Prop :=
  ∀ (m : (ℓ : Loc Cert.RmsMemBwd.nD Cert.RmsMemBwd.τ Cert.RmsMemBwd.sig) → Buf (Elt Bits) ℓ) (g : Dev Cert.RmsMemBwd.nD → PrngReg), Pre_RmsMemBwd m →
    θ_run (Cert.RmsMemBwd.defs (F := Bits)) (onTc (τ := Cert.RmsMemBwd.τ) (Cert.RmsMemBwd.main (F := Bits))) ⟨m, fun _ => 0, g⟩ (fun r => (∀ c : Dev Cert.RmsMemBwd.nD,
      r.2.mem ((c.tc : Thread Cert.RmsMemBwd.nD Cert.RmsMemBwd.τ).loc Cert.RmsMemBwd.main_arg0) = m ((c.tc : Thread Cert.RmsMemBwd.nD Cert.RmsMemBwd.τ).loc Cert.RmsMemBwd.main_arg0)
      ∧ r.2.mem ((c.tc : Thread Cert.RmsMemBwd.nD Cert.RmsMemBwd.τ).loc Cert.RmsMemBwd.main_arg1) = m ((c.tc : Thread Cert.RmsMemBwd.nD Cert.RmsMemBwd.τ).loc Cert.RmsMemBwd.main_arg1)
      ∧ r.2.mem ((c.tc : Thread Cert.RmsMemBwd.nD Cert.RmsMemBwd.τ).loc Cert.RmsMemBwd.main_arg2) = m ((c.tc : Thread Cert.RmsMemBwd.nD Cert.RmsMemBwd.τ).loc Cert.RmsMemBwd.main_arg2))
      ∧ r.2.sem = fun _ => 0)

def quiescent_RmsMemBwdIdeal [hRmsMemBwdIdeal : Cert.RmsMemBwdIdeal.Facts] : Prop :=
  ∀ (m : (ℓ : Loc Cert.RmsMemBwdIdeal.nD Cert.RmsMemBwdIdeal.τ Cert.RmsMemBwdIdeal.sig) → Buf (Elt Ideal) ℓ) (g : Dev Cert.RmsMemBwdIdeal.nD → PrngReg), Pre_RmsMemBwdIdeal m →
    θ_run (Cert.RmsMemBwdIdeal.defs (F := Ideal)) (onTc (τ := Cert.RmsMemBwdIdeal.τ) (Cert.RmsMemBwdIdeal.main (F := Ideal))) ⟨m, fun _ => 0, g⟩ (fun r => (∀ c : Dev Cert.RmsMemBwdIdeal.nD,
      r.2.mem ((c.tc : Thread Cert.RmsMemBwdIdeal.nD Cert.RmsMemBwdIdeal.τ).loc Cert.RmsMemBwdIdeal.main_arg0) = m ((c.tc : Thread Cert.RmsMemBwdIdeal.nD Cert.RmsMemBwdIdeal.τ).loc Cert.RmsMemBwdIdeal.main_arg0)
      ∧ r.2.mem ((c.tc : Thread Cert.RmsMemBwdIdeal.nD Cert.RmsMemBwdIdeal.τ).loc Cert.RmsMemBwdIdeal.main_arg1) = m ((c.tc : Thread Cert.RmsMemBwdIdeal.nD Cert.RmsMemBwdIdeal.τ).loc Cert.RmsMemBwdIdeal.main_arg1)
      ∧ r.2.mem ((c.tc : Thread Cert.RmsMemBwdIdeal.nD Cert.RmsMemBwdIdeal.τ).loc Cert.RmsMemBwdIdeal.main_arg2) = m ((c.tc : Thread Cert.RmsMemBwdIdeal.nD Cert.RmsMemBwdIdeal.τ).loc Cert.RmsMemBwdIdeal.main_arg2))
      ∧ r.2.sem = fun _ => 0)

def quiescent_RefRmsMemBwdIdeal [hRefRmsMemBwdIdeal : Cert.RefRmsMemBwdIdeal.Facts] : Prop :=
  ∀ (m : (ℓ : Loc Cert.RefRmsMemBwdIdeal.nD Cert.RefRmsMemBwdIdeal.τ Cert.RefRmsMemBwdIdeal.sig) → Buf (Elt Ideal) ℓ) (g : Dev Cert.RefRmsMemBwdIdeal.nD → PrngReg), Pre_RefRmsMemBwdIdeal m →
    θ_run (Cert.RefRmsMemBwdIdeal.defs (F := Ideal)) (onTc (τ := Cert.RefRmsMemBwdIdeal.τ) (Cert.RefRmsMemBwdIdeal.main (F := Ideal))) ⟨m, fun _ => 0, g⟩ (fun r => (∀ c : Dev Cert.RefRmsMemBwdIdeal.nD,
      r.2.mem ((c.tc : Thread Cert.RefRmsMemBwdIdeal.nD Cert.RefRmsMemBwdIdeal.τ).loc Cert.RefRmsMemBwdIdeal.main_arg0) = m ((c.tc : Thread Cert.RefRmsMemBwdIdeal.nD Cert.RefRmsMemBwdIdeal.τ).loc Cert.RefRmsMemBwdIdeal.main_arg0)
      ∧ r.2.mem ((c.tc : Thread Cert.RefRmsMemBwdIdeal.nD Cert.RefRmsMemBwdIdeal.τ).loc Cert.RefRmsMemBwdIdeal.main_arg1) = m ((c.tc : Thread Cert.RefRmsMemBwdIdeal.nD Cert.RefRmsMemBwdIdeal.τ).loc Cert.RefRmsMemBwdIdeal.main_arg1)
      ∧ r.2.mem ((c.tc : Thread Cert.RefRmsMemBwdIdeal.nD Cert.RefRmsMemBwdIdeal.τ).loc Cert.RefRmsMemBwdIdeal.main_arg2) = m ((c.tc : Thread Cert.RefRmsMemBwdIdeal.nD Cert.RefRmsMemBwdIdeal.τ).loc Cert.RefRmsMemBwdIdeal.main_arg2))
      ∧ r.2.sem = fun _ => 0)

def quiescent_AdamGain [hAdamGain : Cert.AdamGain.Facts] : Prop :=
  ∀ (m : (ℓ : Loc Cert.AdamGain.nD Cert.AdamGain.τ Cert.AdamGain.sig) → Buf (Elt Bits) ℓ) (g : Dev Cert.AdamGain.nD → PrngReg), Pre_AdamGain m →
    θ_run (Cert.AdamGain.defs (F := Bits)) (onTc (τ := Cert.AdamGain.τ) (Cert.AdamGain.main (F := Bits))) ⟨m, fun _ => 0, g⟩ (fun r => (∀ c : Dev Cert.AdamGain.nD,
      r.2.mem ((c.tc : Thread Cert.AdamGain.nD Cert.AdamGain.τ).loc Cert.AdamGain.main_arg0) = m ((c.tc : Thread Cert.AdamGain.nD Cert.AdamGain.τ).loc Cert.AdamGain.main_arg0)
      ∧ r.2.mem ((c.tc : Thread Cert.AdamGain.nD Cert.AdamGain.τ).loc Cert.AdamGain.main_arg1) = m ((c.tc : Thread Cert.AdamGain.nD Cert.AdamGain.τ).loc Cert.AdamGain.main_arg1)
      ∧ r.2.mem ((c.tc : Thread Cert.AdamGain.nD Cert.AdamGain.τ).loc Cert.AdamGain.main_arg2) = m ((c.tc : Thread Cert.AdamGain.nD Cert.AdamGain.τ).loc Cert.AdamGain.main_arg2)
      ∧ r.2.mem ((c.tc : Thread Cert.AdamGain.nD Cert.AdamGain.τ).loc Cert.AdamGain.main_arg3) = m ((c.tc : Thread Cert.AdamGain.nD Cert.AdamGain.τ).loc Cert.AdamGain.main_arg3))
      ∧ r.2.sem = fun _ => 0)

def quiescent_AdamGainIdeal [hAdamGainIdeal : Cert.AdamGainIdeal.Facts] : Prop :=
  ∀ (m : (ℓ : Loc Cert.AdamGainIdeal.nD Cert.AdamGainIdeal.τ Cert.AdamGainIdeal.sig) → Buf (Elt Ideal) ℓ) (g : Dev Cert.AdamGainIdeal.nD → PrngReg), Pre_AdamGainIdeal m →
    θ_run (Cert.AdamGainIdeal.defs (F := Ideal)) (onTc (τ := Cert.AdamGainIdeal.τ) (Cert.AdamGainIdeal.main (F := Ideal))) ⟨m, fun _ => 0, g⟩ (fun r => (∀ c : Dev Cert.AdamGainIdeal.nD,
      r.2.mem ((c.tc : Thread Cert.AdamGainIdeal.nD Cert.AdamGainIdeal.τ).loc Cert.AdamGainIdeal.main_arg0) = m ((c.tc : Thread Cert.AdamGainIdeal.nD Cert.AdamGainIdeal.τ).loc Cert.AdamGainIdeal.main_arg0)
      ∧ r.2.mem ((c.tc : Thread Cert.AdamGainIdeal.nD Cert.AdamGainIdeal.τ).loc Cert.AdamGainIdeal.main_arg1) = m ((c.tc : Thread Cert.AdamGainIdeal.nD Cert.AdamGainIdeal.τ).loc Cert.AdamGainIdeal.main_arg1)
      ∧ r.2.mem ((c.tc : Thread Cert.AdamGainIdeal.nD Cert.AdamGainIdeal.τ).loc Cert.AdamGainIdeal.main_arg2) = m ((c.tc : Thread Cert.AdamGainIdeal.nD Cert.AdamGainIdeal.τ).loc Cert.AdamGainIdeal.main_arg2)
      ∧ r.2.mem ((c.tc : Thread Cert.AdamGainIdeal.nD Cert.AdamGainIdeal.τ).loc Cert.AdamGainIdeal.main_arg3) = m ((c.tc : Thread Cert.AdamGainIdeal.nD Cert.AdamGainIdeal.τ).loc Cert.AdamGainIdeal.main_arg3))
      ∧ r.2.sem = fun _ => 0)

def quiescent_RefAdamGainIdeal [hRefAdamGainIdeal : Cert.RefAdamGainIdeal.Facts] : Prop :=
  ∀ (m : (ℓ : Loc Cert.RefAdamGainIdeal.nD Cert.RefAdamGainIdeal.τ Cert.RefAdamGainIdeal.sig) → Buf (Elt Ideal) ℓ) (g : Dev Cert.RefAdamGainIdeal.nD → PrngReg), Pre_RefAdamGainIdeal m →
    θ_run (Cert.RefAdamGainIdeal.defs (F := Ideal)) (onTc (τ := Cert.RefAdamGainIdeal.τ) (Cert.RefAdamGainIdeal.main (F := Ideal))) ⟨m, fun _ => 0, g⟩ (fun r => (∀ c : Dev Cert.RefAdamGainIdeal.nD,
      r.2.mem ((c.tc : Thread Cert.RefAdamGainIdeal.nD Cert.RefAdamGainIdeal.τ).loc Cert.RefAdamGainIdeal.main_arg0) = m ((c.tc : Thread Cert.RefAdamGainIdeal.nD Cert.RefAdamGainIdeal.τ).loc Cert.RefAdamGainIdeal.main_arg0)
      ∧ r.2.mem ((c.tc : Thread Cert.RefAdamGainIdeal.nD Cert.RefAdamGainIdeal.τ).loc Cert.RefAdamGainIdeal.main_arg1) = m ((c.tc : Thread Cert.RefAdamGainIdeal.nD Cert.RefAdamGainIdeal.τ).loc Cert.RefAdamGainIdeal.main_arg1)
      ∧ r.2.mem ((c.tc : Thread Cert.RefAdamGainIdeal.nD Cert.RefAdamGainIdeal.τ).loc Cert.RefAdamGainIdeal.main_arg2) = m ((c.tc : Thread Cert.RefAdamGainIdeal.nD Cert.RefAdamGainIdeal.τ).loc Cert.RefAdamGainIdeal.main_arg2)
      ∧ r.2.mem ((c.tc : Thread Cert.RefAdamGainIdeal.nD Cert.RefAdamGainIdeal.τ).loc Cert.RefAdamGainIdeal.main_arg3) = m ((c.tc : Thread Cert.RefAdamGainIdeal.nD Cert.RefAdamGainIdeal.τ).loc Cert.RefAdamGainIdeal.main_arg3))
      ∧ r.2.sem = fun _ => 0)

def quiescent_AdamHeads [hAdamHeads : Cert.AdamHeads.Facts] : Prop :=
  ∀ (m : (ℓ : Loc Cert.AdamHeads.nD Cert.AdamHeads.τ Cert.AdamHeads.sig) → Buf (Elt Bits) ℓ) (g : Dev Cert.AdamHeads.nD → PrngReg), Pre_AdamHeads m →
    θ_run (Cert.AdamHeads.defs (F := Bits)) (onTc (τ := Cert.AdamHeads.τ) (Cert.AdamHeads.main (F := Bits))) ⟨m, fun _ => 0, g⟩ (fun r => (∀ c : Dev Cert.AdamHeads.nD,
      r.2.mem ((c.tc : Thread Cert.AdamHeads.nD Cert.AdamHeads.τ).loc Cert.AdamHeads.main_arg0) = m ((c.tc : Thread Cert.AdamHeads.nD Cert.AdamHeads.τ).loc Cert.AdamHeads.main_arg0)
      ∧ r.2.mem ((c.tc : Thread Cert.AdamHeads.nD Cert.AdamHeads.τ).loc Cert.AdamHeads.main_arg1) = m ((c.tc : Thread Cert.AdamHeads.nD Cert.AdamHeads.τ).loc Cert.AdamHeads.main_arg1)
      ∧ r.2.mem ((c.tc : Thread Cert.AdamHeads.nD Cert.AdamHeads.τ).loc Cert.AdamHeads.main_arg2) = m ((c.tc : Thread Cert.AdamHeads.nD Cert.AdamHeads.τ).loc Cert.AdamHeads.main_arg2)
      ∧ r.2.mem ((c.tc : Thread Cert.AdamHeads.nD Cert.AdamHeads.τ).loc Cert.AdamHeads.main_arg3) = m ((c.tc : Thread Cert.AdamHeads.nD Cert.AdamHeads.τ).loc Cert.AdamHeads.main_arg3))
      ∧ r.2.sem = fun _ => 0)

def quiescent_AdamHeadsIdeal [hAdamHeadsIdeal : Cert.AdamHeadsIdeal.Facts] : Prop :=
  ∀ (m : (ℓ : Loc Cert.AdamHeadsIdeal.nD Cert.AdamHeadsIdeal.τ Cert.AdamHeadsIdeal.sig) → Buf (Elt Ideal) ℓ) (g : Dev Cert.AdamHeadsIdeal.nD → PrngReg), Pre_AdamHeadsIdeal m →
    θ_run (Cert.AdamHeadsIdeal.defs (F := Ideal)) (onTc (τ := Cert.AdamHeadsIdeal.τ) (Cert.AdamHeadsIdeal.main (F := Ideal))) ⟨m, fun _ => 0, g⟩ (fun r => (∀ c : Dev Cert.AdamHeadsIdeal.nD,
      r.2.mem ((c.tc : Thread Cert.AdamHeadsIdeal.nD Cert.AdamHeadsIdeal.τ).loc Cert.AdamHeadsIdeal.main_arg0) = m ((c.tc : Thread Cert.AdamHeadsIdeal.nD Cert.AdamHeadsIdeal.τ).loc Cert.AdamHeadsIdeal.main_arg0)
      ∧ r.2.mem ((c.tc : Thread Cert.AdamHeadsIdeal.nD Cert.AdamHeadsIdeal.τ).loc Cert.AdamHeadsIdeal.main_arg1) = m ((c.tc : Thread Cert.AdamHeadsIdeal.nD Cert.AdamHeadsIdeal.τ).loc Cert.AdamHeadsIdeal.main_arg1)
      ∧ r.2.mem ((c.tc : Thread Cert.AdamHeadsIdeal.nD Cert.AdamHeadsIdeal.τ).loc Cert.AdamHeadsIdeal.main_arg2) = m ((c.tc : Thread Cert.AdamHeadsIdeal.nD Cert.AdamHeadsIdeal.τ).loc Cert.AdamHeadsIdeal.main_arg2)
      ∧ r.2.mem ((c.tc : Thread Cert.AdamHeadsIdeal.nD Cert.AdamHeadsIdeal.τ).loc Cert.AdamHeadsIdeal.main_arg3) = m ((c.tc : Thread Cert.AdamHeadsIdeal.nD Cert.AdamHeadsIdeal.τ).loc Cert.AdamHeadsIdeal.main_arg3))
      ∧ r.2.sem = fun _ => 0)

def quiescent_RefAdamHeadsIdeal [hRefAdamHeadsIdeal : Cert.RefAdamHeadsIdeal.Facts] : Prop :=
  ∀ (m : (ℓ : Loc Cert.RefAdamHeadsIdeal.nD Cert.RefAdamHeadsIdeal.τ Cert.RefAdamHeadsIdeal.sig) → Buf (Elt Ideal) ℓ) (g : Dev Cert.RefAdamHeadsIdeal.nD → PrngReg), Pre_RefAdamHeadsIdeal m →
    θ_run (Cert.RefAdamHeadsIdeal.defs (F := Ideal)) (onTc (τ := Cert.RefAdamHeadsIdeal.τ) (Cert.RefAdamHeadsIdeal.main (F := Ideal))) ⟨m, fun _ => 0, g⟩ (fun r => (∀ c : Dev Cert.RefAdamHeadsIdeal.nD,
      r.2.mem ((c.tc : Thread Cert.RefAdamHeadsIdeal.nD Cert.RefAdamHeadsIdeal.τ).loc Cert.RefAdamHeadsIdeal.main_arg0) = m ((c.tc : Thread Cert.RefAdamHeadsIdeal.nD Cert.RefAdamHeadsIdeal.τ).loc Cert.RefAdamHeadsIdeal.main_arg0)
      ∧ r.2.mem ((c.tc : Thread Cert.RefAdamHeadsIdeal.nD Cert.RefAdamHeadsIdeal.τ).loc Cert.RefAdamHeadsIdeal.main_arg1) = m ((c.tc : Thread Cert.RefAdamHeadsIdeal.nD Cert.RefAdamHeadsIdeal.τ).loc Cert.RefAdamHeadsIdeal.main_arg1)
      ∧ r.2.mem ((c.tc : Thread Cert.RefAdamHeadsIdeal.nD Cert.RefAdamHeadsIdeal.τ).loc Cert.RefAdamHeadsIdeal.main_arg2) = m ((c.tc : Thread Cert.RefAdamHeadsIdeal.nD Cert.RefAdamHeadsIdeal.τ).loc Cert.RefAdamHeadsIdeal.main_arg2)
      ∧ r.2.mem ((c.tc : Thread Cert.RefAdamHeadsIdeal.nD Cert.RefAdamHeadsIdeal.τ).loc Cert.RefAdamHeadsIdeal.main_arg3) = m ((c.tc : Thread Cert.RefAdamHeadsIdeal.nD Cert.RefAdamHeadsIdeal.τ).loc Cert.RefAdamHeadsIdeal.main_arg3))
      ∧ r.2.sem = fun _ => 0)

def quiescent_AdamHead [hAdamHead : Cert.AdamHead.Facts] : Prop :=
  ∀ (m : (ℓ : Loc Cert.AdamHead.nD Cert.AdamHead.τ Cert.AdamHead.sig) → Buf (Elt Bits) ℓ) (g : Dev Cert.AdamHead.nD → PrngReg), Pre_AdamHead m →
    θ_run (Cert.AdamHead.defs (F := Bits)) (onTc (τ := Cert.AdamHead.τ) (Cert.AdamHead.main (F := Bits))) ⟨m, fun _ => 0, g⟩ (fun r => (∀ c : Dev Cert.AdamHead.nD,
      r.2.mem ((c.tc : Thread Cert.AdamHead.nD Cert.AdamHead.τ).loc Cert.AdamHead.main_arg0) = m ((c.tc : Thread Cert.AdamHead.nD Cert.AdamHead.τ).loc Cert.AdamHead.main_arg0)
      ∧ r.2.mem ((c.tc : Thread Cert.AdamHead.nD Cert.AdamHead.τ).loc Cert.AdamHead.main_arg1) = m ((c.tc : Thread Cert.AdamHead.nD Cert.AdamHead.τ).loc Cert.AdamHead.main_arg1)
      ∧ r.2.mem ((c.tc : Thread Cert.AdamHead.nD Cert.AdamHead.τ).loc Cert.AdamHead.main_arg2) = m ((c.tc : Thread Cert.AdamHead.nD Cert.AdamHead.τ).loc Cert.AdamHead.main_arg2)
      ∧ r.2.mem ((c.tc : Thread Cert.AdamHead.nD Cert.AdamHead.τ).loc Cert.AdamHead.main_arg3) = m ((c.tc : Thread Cert.AdamHead.nD Cert.AdamHead.τ).loc Cert.AdamHead.main_arg3))
      ∧ r.2.sem = fun _ => 0)

def quiescent_AdamHeadIdeal [hAdamHeadIdeal : Cert.AdamHeadIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg), Pre_AdamHeadIdeal m →
    θ_run (Cert.AdamHeadIdeal.defs (F := Ideal)) (onTc (τ := Cert.AdamHeadIdeal.τ) (Cert.AdamHeadIdeal.main (F := Ideal))) ⟨m, fun _ => 0, g⟩ (fun r => (∀ c : Dev Cert.AdamHeadIdeal.nD,
      r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
      ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
      ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
      ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3))
      ∧ r.2.sem = fun _ => 0)

def quiescent_RefAdamHeadIdeal [hRefAdamHeadIdeal : Cert.RefAdamHeadIdeal.Facts] : Prop :=
  ∀ (m : (ℓ : Loc Cert.RefAdamHeadIdeal.nD Cert.RefAdamHeadIdeal.τ Cert.RefAdamHeadIdeal.sig) → Buf (Elt Ideal) ℓ) (g : Dev Cert.RefAdamHeadIdeal.nD → PrngReg), Pre_RefAdamHeadIdeal m →
    θ_run (Cert.RefAdamHeadIdeal.defs (F := Ideal)) (onTc (τ := Cert.RefAdamHeadIdeal.τ) (Cert.RefAdamHeadIdeal.main (F := Ideal))) ⟨m, fun _ => 0, g⟩ (fun r => (∀ c : Dev Cert.RefAdamHeadIdeal.nD,
      r.2.mem ((c.tc : Thread Cert.RefAdamHeadIdeal.nD Cert.RefAdamHeadIdeal.τ).loc Cert.RefAdamHeadIdeal.main_arg0) = m ((c.tc : Thread Cert.RefAdamHeadIdeal.nD Cert.RefAdamHeadIdeal.τ).loc Cert.RefAdamHeadIdeal.main_arg0)
      ∧ r.2.mem ((c.tc : Thread Cert.RefAdamHeadIdeal.nD Cert.RefAdamHeadIdeal.τ).loc Cert.RefAdamHeadIdeal.main_arg1) = m ((c.tc : Thread Cert.RefAdamHeadIdeal.nD Cert.RefAdamHeadIdeal.τ).loc Cert.RefAdamHeadIdeal.main_arg1)
      ∧ r.2.mem ((c.tc : Thread Cert.RefAdamHeadIdeal.nD Cert.RefAdamHeadIdeal.τ).loc Cert.RefAdamHeadIdeal.main_arg2) = m ((c.tc : Thread Cert.RefAdamHeadIdeal.nD Cert.RefAdamHeadIdeal.τ).loc Cert.RefAdamHeadIdeal.main_arg2)
      ∧ r.2.mem ((c.tc : Thread Cert.RefAdamHeadIdeal.nD Cert.RefAdamHeadIdeal.τ).loc Cert.RefAdamHeadIdeal.main_arg3) = m ((c.tc : Thread Cert.RefAdamHeadIdeal.nD Cert.RefAdamHeadIdeal.τ).loc Cert.RefAdamHeadIdeal.main_arg3))
      ∧ r.2.sem = fun _ => 0)

def quiescent_AdamCross [hAdamCross : Cert.AdamCross.Facts] : Prop :=
  ∀ (m : (ℓ : Loc Cert.AdamCross.nD Cert.AdamCross.τ Cert.AdamCross.sig) → Buf (Elt Bits) ℓ) (g : Dev Cert.AdamCross.nD → PrngReg), Pre_AdamCross m →
    θ_run (Cert.AdamCross.defs (F := Bits)) (onTc (τ := Cert.AdamCross.τ) (Cert.AdamCross.main (F := Bits))) ⟨m, fun _ => 0, g⟩ (fun r => (∀ c : Dev Cert.AdamCross.nD,
      r.2.mem ((c.tc : Thread Cert.AdamCross.nD Cert.AdamCross.τ).loc Cert.AdamCross.main_arg0) = m ((c.tc : Thread Cert.AdamCross.nD Cert.AdamCross.τ).loc Cert.AdamCross.main_arg0)
      ∧ r.2.mem ((c.tc : Thread Cert.AdamCross.nD Cert.AdamCross.τ).loc Cert.AdamCross.main_arg1) = m ((c.tc : Thread Cert.AdamCross.nD Cert.AdamCross.τ).loc Cert.AdamCross.main_arg1)
      ∧ r.2.mem ((c.tc : Thread Cert.AdamCross.nD Cert.AdamCross.τ).loc Cert.AdamCross.main_arg2) = m ((c.tc : Thread Cert.AdamCross.nD Cert.AdamCross.τ).loc Cert.AdamCross.main_arg2)
      ∧ r.2.mem ((c.tc : Thread Cert.AdamCross.nD Cert.AdamCross.τ).loc Cert.AdamCross.main_arg3) = m ((c.tc : Thread Cert.AdamCross.nD Cert.AdamCross.τ).loc Cert.AdamCross.main_arg3))
      ∧ r.2.sem = fun _ => 0)

def quiescent_AdamCrossIdeal [hAdamCrossIdeal : Cert.AdamCrossIdeal.Facts] : Prop :=
  ∀ (m : (ℓ : Loc Cert.AdamCrossIdeal.nD Cert.AdamCrossIdeal.τ Cert.AdamCrossIdeal.sig) → Buf (Elt Ideal) ℓ) (g : Dev Cert.AdamCrossIdeal.nD → PrngReg), Pre_AdamCrossIdeal m →
    θ_run (Cert.AdamCrossIdeal.defs (F := Ideal)) (onTc (τ := Cert.AdamCrossIdeal.τ) (Cert.AdamCrossIdeal.main (F := Ideal))) ⟨m, fun _ => 0, g⟩ (fun r => (∀ c : Dev Cert.AdamCrossIdeal.nD,
      r.2.mem ((c.tc : Thread Cert.AdamCrossIdeal.nD Cert.AdamCrossIdeal.τ).loc Cert.AdamCrossIdeal.main_arg0) = m ((c.tc : Thread Cert.AdamCrossIdeal.nD Cert.AdamCrossIdeal.τ).loc Cert.AdamCrossIdeal.main_arg0)
      ∧ r.2.mem ((c.tc : Thread Cert.AdamCrossIdeal.nD Cert.AdamCrossIdeal.τ).loc Cert.AdamCrossIdeal.main_arg1) = m ((c.tc : Thread Cert.AdamCrossIdeal.nD Cert.AdamCrossIdeal.τ).loc Cert.AdamCrossIdeal.main_arg1)
      ∧ r.2.mem ((c.tc : Thread Cert.AdamCrossIdeal.nD Cert.AdamCrossIdeal.τ).loc Cert.AdamCrossIdeal.main_arg2) = m ((c.tc : Thread Cert.AdamCrossIdeal.nD Cert.AdamCrossIdeal.τ).loc Cert.AdamCrossIdeal.main_arg2)
      ∧ r.2.mem ((c.tc : Thread Cert.AdamCrossIdeal.nD Cert.AdamCrossIdeal.τ).loc Cert.AdamCrossIdeal.main_arg3) = m ((c.tc : Thread Cert.AdamCrossIdeal.nD Cert.AdamCrossIdeal.τ).loc Cert.AdamCrossIdeal.main_arg3))
      ∧ r.2.sem = fun _ => 0)

def quiescent_RefAdamCrossIdeal [hRefAdamCrossIdeal : Cert.RefAdamCrossIdeal.Facts] : Prop :=
  ∀ (m : (ℓ : Loc Cert.RefAdamCrossIdeal.nD Cert.RefAdamCrossIdeal.τ Cert.RefAdamCrossIdeal.sig) → Buf (Elt Ideal) ℓ) (g : Dev Cert.RefAdamCrossIdeal.nD → PrngReg), Pre_RefAdamCrossIdeal m →
    θ_run (Cert.RefAdamCrossIdeal.defs (F := Ideal)) (onTc (τ := Cert.RefAdamCrossIdeal.τ) (Cert.RefAdamCrossIdeal.main (F := Ideal))) ⟨m, fun _ => 0, g⟩ (fun r => (∀ c : Dev Cert.RefAdamCrossIdeal.nD,
      r.2.mem ((c.tc : Thread Cert.RefAdamCrossIdeal.nD Cert.RefAdamCrossIdeal.τ).loc Cert.RefAdamCrossIdeal.main_arg0) = m ((c.tc : Thread Cert.RefAdamCrossIdeal.nD Cert.RefAdamCrossIdeal.τ).loc Cert.RefAdamCrossIdeal.main_arg0)
      ∧ r.2.mem ((c.tc : Thread Cert.RefAdamCrossIdeal.nD Cert.RefAdamCrossIdeal.τ).loc Cert.RefAdamCrossIdeal.main_arg1) = m ((c.tc : Thread Cert.RefAdamCrossIdeal.nD Cert.RefAdamCrossIdeal.τ).loc Cert.RefAdamCrossIdeal.main_arg1)
      ∧ r.2.mem ((c.tc : Thread Cert.RefAdamCrossIdeal.nD Cert.RefAdamCrossIdeal.τ).loc Cert.RefAdamCrossIdeal.main_arg2) = m ((c.tc : Thread Cert.RefAdamCrossIdeal.nD Cert.RefAdamCrossIdeal.τ).loc Cert.RefAdamCrossIdeal.main_arg2)
      ∧ r.2.mem ((c.tc : Thread Cert.RefAdamCrossIdeal.nD Cert.RefAdamCrossIdeal.τ).loc Cert.RefAdamCrossIdeal.main_arg3) = m ((c.tc : Thread Cert.RefAdamCrossIdeal.nD Cert.RefAdamCrossIdeal.τ).loc Cert.RefAdamCrossIdeal.main_arg3))
      ∧ r.2.sem = fun _ => 0)

def quiescent_AdamSinks [hAdamSinks : Cert.AdamSinks.Facts] : Prop :=
  ∀ (m : (ℓ : Loc Cert.AdamSinks.nD Cert.AdamSinks.τ Cert.AdamSinks.sig) → Buf (Elt Bits) ℓ) (g : Dev Cert.AdamSinks.nD → PrngReg), Pre_AdamSinks m →
    θ_run (Cert.AdamSinks.defs (F := Bits)) (onTc (τ := Cert.AdamSinks.τ) (Cert.AdamSinks.main (F := Bits))) ⟨m, fun _ => 0, g⟩ (fun r => (∀ c : Dev Cert.AdamSinks.nD,
      r.2.mem ((c.tc : Thread Cert.AdamSinks.nD Cert.AdamSinks.τ).loc Cert.AdamSinks.main_arg0) = m ((c.tc : Thread Cert.AdamSinks.nD Cert.AdamSinks.τ).loc Cert.AdamSinks.main_arg0)
      ∧ r.2.mem ((c.tc : Thread Cert.AdamSinks.nD Cert.AdamSinks.τ).loc Cert.AdamSinks.main_arg1) = m ((c.tc : Thread Cert.AdamSinks.nD Cert.AdamSinks.τ).loc Cert.AdamSinks.main_arg1)
      ∧ r.2.mem ((c.tc : Thread Cert.AdamSinks.nD Cert.AdamSinks.τ).loc Cert.AdamSinks.main_arg2) = m ((c.tc : Thread Cert.AdamSinks.nD Cert.AdamSinks.τ).loc Cert.AdamSinks.main_arg2)
      ∧ r.2.mem ((c.tc : Thread Cert.AdamSinks.nD Cert.AdamSinks.τ).loc Cert.AdamSinks.main_arg3) = m ((c.tc : Thread Cert.AdamSinks.nD Cert.AdamSinks.τ).loc Cert.AdamSinks.main_arg3))
      ∧ r.2.sem = fun _ => 0)

def quiescent_AdamSinksIdeal [hAdamSinksIdeal : Cert.AdamSinksIdeal.Facts] : Prop :=
  ∀ (m : (ℓ : Loc Cert.AdamSinksIdeal.nD Cert.AdamSinksIdeal.τ Cert.AdamSinksIdeal.sig) → Buf (Elt Ideal) ℓ) (g : Dev Cert.AdamSinksIdeal.nD → PrngReg), Pre_AdamSinksIdeal m →
    θ_run (Cert.AdamSinksIdeal.defs (F := Ideal)) (onTc (τ := Cert.AdamSinksIdeal.τ) (Cert.AdamSinksIdeal.main (F := Ideal))) ⟨m, fun _ => 0, g⟩ (fun r => (∀ c : Dev Cert.AdamSinksIdeal.nD,
      r.2.mem ((c.tc : Thread Cert.AdamSinksIdeal.nD Cert.AdamSinksIdeal.τ).loc Cert.AdamSinksIdeal.main_arg0) = m ((c.tc : Thread Cert.AdamSinksIdeal.nD Cert.AdamSinksIdeal.τ).loc Cert.AdamSinksIdeal.main_arg0)
      ∧ r.2.mem ((c.tc : Thread Cert.AdamSinksIdeal.nD Cert.AdamSinksIdeal.τ).loc Cert.AdamSinksIdeal.main_arg1) = m ((c.tc : Thread Cert.AdamSinksIdeal.nD Cert.AdamSinksIdeal.τ).loc Cert.AdamSinksIdeal.main_arg1)
      ∧ r.2.mem ((c.tc : Thread Cert.AdamSinksIdeal.nD Cert.AdamSinksIdeal.τ).loc Cert.AdamSinksIdeal.main_arg2) = m ((c.tc : Thread Cert.AdamSinksIdeal.nD Cert.AdamSinksIdeal.τ).loc Cert.AdamSinksIdeal.main_arg2)
      ∧ r.2.mem ((c.tc : Thread Cert.AdamSinksIdeal.nD Cert.AdamSinksIdeal.τ).loc Cert.AdamSinksIdeal.main_arg3) = m ((c.tc : Thread Cert.AdamSinksIdeal.nD Cert.AdamSinksIdeal.τ).loc Cert.AdamSinksIdeal.main_arg3))
      ∧ r.2.sem = fun _ => 0)

def quiescent_RefAdamSinksIdeal [hRefAdamSinksIdeal : Cert.RefAdamSinksIdeal.Facts] : Prop :=
  ∀ (m : (ℓ : Loc Cert.RefAdamSinksIdeal.nD Cert.RefAdamSinksIdeal.τ Cert.RefAdamSinksIdeal.sig) → Buf (Elt Ideal) ℓ) (g : Dev Cert.RefAdamSinksIdeal.nD → PrngReg), Pre_RefAdamSinksIdeal m →
    θ_run (Cert.RefAdamSinksIdeal.defs (F := Ideal)) (onTc (τ := Cert.RefAdamSinksIdeal.τ) (Cert.RefAdamSinksIdeal.main (F := Ideal))) ⟨m, fun _ => 0, g⟩ (fun r => (∀ c : Dev Cert.RefAdamSinksIdeal.nD,
      r.2.mem ((c.tc : Thread Cert.RefAdamSinksIdeal.nD Cert.RefAdamSinksIdeal.τ).loc Cert.RefAdamSinksIdeal.main_arg0) = m ((c.tc : Thread Cert.RefAdamSinksIdeal.nD Cert.RefAdamSinksIdeal.τ).loc Cert.RefAdamSinksIdeal.main_arg0)
      ∧ r.2.mem ((c.tc : Thread Cert.RefAdamSinksIdeal.nD Cert.RefAdamSinksIdeal.τ).loc Cert.RefAdamSinksIdeal.main_arg1) = m ((c.tc : Thread Cert.RefAdamSinksIdeal.nD Cert.RefAdamSinksIdeal.τ).loc Cert.RefAdamSinksIdeal.main_arg1)
      ∧ r.2.mem ((c.tc : Thread Cert.RefAdamSinksIdeal.nD Cert.RefAdamSinksIdeal.τ).loc Cert.RefAdamSinksIdeal.main_arg2) = m ((c.tc : Thread Cert.RefAdamSinksIdeal.nD Cert.RefAdamSinksIdeal.τ).loc Cert.RefAdamSinksIdeal.main_arg2)
      ∧ r.2.mem ((c.tc : Thread Cert.RefAdamSinksIdeal.nD Cert.RefAdamSinksIdeal.τ).loc Cert.RefAdamSinksIdeal.main_arg3) = m ((c.tc : Thread Cert.RefAdamSinksIdeal.nD Cert.RefAdamSinksIdeal.τ).loc Cert.RefAdamSinksIdeal.main_arg3))
      ∧ r.2.sem = fun _ => 0)

def quiescent_AdamTable [hAdamTable : Cert.AdamTable.Facts] : Prop :=
  ∀ (m : (ℓ : Loc Cert.AdamTable.nD Cert.AdamTable.τ Cert.AdamTable.sig) → Buf (Elt Bits) ℓ) (g : Dev Cert.AdamTable.nD → PrngReg), Pre_AdamTable m →
    θ_run (Cert.AdamTable.defs (F := Bits)) (onTc (τ := Cert.AdamTable.τ) (Cert.AdamTable.main (F := Bits))) ⟨m, fun _ => 0, g⟩ (fun r => (∀ c : Dev Cert.AdamTable.nD,
      r.2.mem ((c.tc : Thread Cert.AdamTable.nD Cert.AdamTable.τ).loc Cert.AdamTable.main_arg0) = m ((c.tc : Thread Cert.AdamTable.nD Cert.AdamTable.τ).loc Cert.AdamTable.main_arg0)
      ∧ r.2.mem ((c.tc : Thread Cert.AdamTable.nD Cert.AdamTable.τ).loc Cert.AdamTable.main_arg1) = m ((c.tc : Thread Cert.AdamTable.nD Cert.AdamTable.τ).loc Cert.AdamTable.main_arg1)
      ∧ r.2.mem ((c.tc : Thread Cert.AdamTable.nD Cert.AdamTable.τ).loc Cert.AdamTable.main_arg2) = m ((c.tc : Thread Cert.AdamTable.nD Cert.AdamTable.τ).loc Cert.AdamTable.main_arg2)
      ∧ r.2.mem ((c.tc : Thread Cert.AdamTable.nD Cert.AdamTable.τ).loc Cert.AdamTable.main_arg3) = m ((c.tc : Thread Cert.AdamTable.nD Cert.AdamTable.τ).loc Cert.AdamTable.main_arg3))
      ∧ r.2.sem = fun _ => 0)

def quiescent_AdamTableIdeal [hAdamTableIdeal : Cert.AdamTableIdeal.Facts] : Prop :=
  ∀ (m : (ℓ : Loc Cert.AdamTableIdeal.nD Cert.AdamTableIdeal.τ Cert.AdamTableIdeal.sig) → Buf (Elt Ideal) ℓ) (g : Dev Cert.AdamTableIdeal.nD → PrngReg), Pre_AdamTableIdeal m →
    θ_run (Cert.AdamTableIdeal.defs (F := Ideal)) (onTc (τ := Cert.AdamTableIdeal.τ) (Cert.AdamTableIdeal.main (F := Ideal))) ⟨m, fun _ => 0, g⟩ (fun r => (∀ c : Dev Cert.AdamTableIdeal.nD,
      r.2.mem ((c.tc : Thread Cert.AdamTableIdeal.nD Cert.AdamTableIdeal.τ).loc Cert.AdamTableIdeal.main_arg0) = m ((c.tc : Thread Cert.AdamTableIdeal.nD Cert.AdamTableIdeal.τ).loc Cert.AdamTableIdeal.main_arg0)
      ∧ r.2.mem ((c.tc : Thread Cert.AdamTableIdeal.nD Cert.AdamTableIdeal.τ).loc Cert.AdamTableIdeal.main_arg1) = m ((c.tc : Thread Cert.AdamTableIdeal.nD Cert.AdamTableIdeal.τ).loc Cert.AdamTableIdeal.main_arg1)
      ∧ r.2.mem ((c.tc : Thread Cert.AdamTableIdeal.nD Cert.AdamTableIdeal.τ).loc Cert.AdamTableIdeal.main_arg2) = m ((c.tc : Thread Cert.AdamTableIdeal.nD Cert.AdamTableIdeal.τ).loc Cert.AdamTableIdeal.main_arg2)
      ∧ r.2.mem ((c.tc : Thread Cert.AdamTableIdeal.nD Cert.AdamTableIdeal.τ).loc Cert.AdamTableIdeal.main_arg3) = m ((c.tc : Thread Cert.AdamTableIdeal.nD Cert.AdamTableIdeal.τ).loc Cert.AdamTableIdeal.main_arg3))
      ∧ r.2.sem = fun _ => 0)

def quiescent_RefAdamTableIdeal [hRefAdamTableIdeal : Cert.RefAdamTableIdeal.Facts] : Prop :=
  ∀ (m : (ℓ : Loc Cert.RefAdamTableIdeal.nD Cert.RefAdamTableIdeal.τ Cert.RefAdamTableIdeal.sig) → Buf (Elt Ideal) ℓ) (g : Dev Cert.RefAdamTableIdeal.nD → PrngReg), Pre_RefAdamTableIdeal m →
    θ_run (Cert.RefAdamTableIdeal.defs (F := Ideal)) (onTc (τ := Cert.RefAdamTableIdeal.τ) (Cert.RefAdamTableIdeal.main (F := Ideal))) ⟨m, fun _ => 0, g⟩ (fun r => (∀ c : Dev Cert.RefAdamTableIdeal.nD,
      r.2.mem ((c.tc : Thread Cert.RefAdamTableIdeal.nD Cert.RefAdamTableIdeal.τ).loc Cert.RefAdamTableIdeal.main_arg0) = m ((c.tc : Thread Cert.RefAdamTableIdeal.nD Cert.RefAdamTableIdeal.τ).loc Cert.RefAdamTableIdeal.main_arg0)
      ∧ r.2.mem ((c.tc : Thread Cert.RefAdamTableIdeal.nD Cert.RefAdamTableIdeal.τ).loc Cert.RefAdamTableIdeal.main_arg1) = m ((c.tc : Thread Cert.RefAdamTableIdeal.nD Cert.RefAdamTableIdeal.τ).loc Cert.RefAdamTableIdeal.main_arg1)
      ∧ r.2.mem ((c.tc : Thread Cert.RefAdamTableIdeal.nD Cert.RefAdamTableIdeal.τ).loc Cert.RefAdamTableIdeal.main_arg2) = m ((c.tc : Thread Cert.RefAdamTableIdeal.nD Cert.RefAdamTableIdeal.τ).loc Cert.RefAdamTableIdeal.main_arg2)
      ∧ r.2.mem ((c.tc : Thread Cert.RefAdamTableIdeal.nD Cert.RefAdamTableIdeal.τ).loc Cert.RefAdamTableIdeal.main_arg3) = m ((c.tc : Thread Cert.RefAdamTableIdeal.nD Cert.RefAdamTableIdeal.τ).loc Cert.RefAdamTableIdeal.main_arg3))
      ∧ r.2.sem = fun _ => 0)

def quiescent_AdamInner [hAdamInner : Cert.AdamInner.Facts] : Prop :=
  ∀ (m : (ℓ : Loc Cert.AdamInner.nD Cert.AdamInner.τ Cert.AdamInner.sig) → Buf (Elt Bits) ℓ) (g : Dev Cert.AdamInner.nD → PrngReg), Pre_AdamInner m →
    θ_run (Cert.AdamInner.defs (F := Bits)) (onTc (τ := Cert.AdamInner.τ) (Cert.AdamInner.main (F := Bits))) ⟨m, fun _ => 0, g⟩ (fun r => (∀ c : Dev Cert.AdamInner.nD,
      r.2.mem ((c.tc : Thread Cert.AdamInner.nD Cert.AdamInner.τ).loc Cert.AdamInner.main_arg0) = m ((c.tc : Thread Cert.AdamInner.nD Cert.AdamInner.τ).loc Cert.AdamInner.main_arg0)
      ∧ r.2.mem ((c.tc : Thread Cert.AdamInner.nD Cert.AdamInner.τ).loc Cert.AdamInner.main_arg1) = m ((c.tc : Thread Cert.AdamInner.nD Cert.AdamInner.τ).loc Cert.AdamInner.main_arg1)
      ∧ r.2.mem ((c.tc : Thread Cert.AdamInner.nD Cert.AdamInner.τ).loc Cert.AdamInner.main_arg2) = m ((c.tc : Thread Cert.AdamInner.nD Cert.AdamInner.τ).loc Cert.AdamInner.main_arg2)
      ∧ r.2.mem ((c.tc : Thread Cert.AdamInner.nD Cert.AdamInner.τ).loc Cert.AdamInner.main_arg3) = m ((c.tc : Thread Cert.AdamInner.nD Cert.AdamInner.τ).loc Cert.AdamInner.main_arg3))
      ∧ r.2.sem = fun _ => 0)

def quiescent_AdamInnerIdeal [hAdamInnerIdeal : Cert.AdamInnerIdeal.Facts] : Prop :=
  ∀ (m : (ℓ : Loc Cert.AdamInnerIdeal.nD Cert.AdamInnerIdeal.τ Cert.AdamInnerIdeal.sig) → Buf (Elt Ideal) ℓ) (g : Dev Cert.AdamInnerIdeal.nD → PrngReg), Pre_AdamInnerIdeal m →
    θ_run (Cert.AdamInnerIdeal.defs (F := Ideal)) (onTc (τ := Cert.AdamInnerIdeal.τ) (Cert.AdamInnerIdeal.main (F := Ideal))) ⟨m, fun _ => 0, g⟩ (fun r => (∀ c : Dev Cert.AdamInnerIdeal.nD,
      r.2.mem ((c.tc : Thread Cert.AdamInnerIdeal.nD Cert.AdamInnerIdeal.τ).loc Cert.AdamInnerIdeal.main_arg0) = m ((c.tc : Thread Cert.AdamInnerIdeal.nD Cert.AdamInnerIdeal.τ).loc Cert.AdamInnerIdeal.main_arg0)
      ∧ r.2.mem ((c.tc : Thread Cert.AdamInnerIdeal.nD Cert.AdamInnerIdeal.τ).loc Cert.AdamInnerIdeal.main_arg1) = m ((c.tc : Thread Cert.AdamInnerIdeal.nD Cert.AdamInnerIdeal.τ).loc Cert.AdamInnerIdeal.main_arg1)
      ∧ r.2.mem ((c.tc : Thread Cert.AdamInnerIdeal.nD Cert.AdamInnerIdeal.τ).loc Cert.AdamInnerIdeal.main_arg2) = m ((c.tc : Thread Cert.AdamInnerIdeal.nD Cert.AdamInnerIdeal.τ).loc Cert.AdamInnerIdeal.main_arg2)
      ∧ r.2.mem ((c.tc : Thread Cert.AdamInnerIdeal.nD Cert.AdamInnerIdeal.τ).loc Cert.AdamInnerIdeal.main_arg3) = m ((c.tc : Thread Cert.AdamInnerIdeal.nD Cert.AdamInnerIdeal.τ).loc Cert.AdamInnerIdeal.main_arg3))
      ∧ r.2.sem = fun _ => 0)

def quiescent_RefAdamInnerIdeal [hRefAdamInnerIdeal : Cert.RefAdamInnerIdeal.Facts] : Prop :=
  ∀ (m : (ℓ : Loc Cert.RefAdamInnerIdeal.nD Cert.RefAdamInnerIdeal.τ Cert.RefAdamInnerIdeal.sig) → Buf (Elt Ideal) ℓ) (g : Dev Cert.RefAdamInnerIdeal.nD → PrngReg), Pre_RefAdamInnerIdeal m →
    θ_run (Cert.RefAdamInnerIdeal.defs (F := Ideal)) (onTc (τ := Cert.RefAdamInnerIdeal.τ) (Cert.RefAdamInnerIdeal.main (F := Ideal))) ⟨m, fun _ => 0, g⟩ (fun r => (∀ c : Dev Cert.RefAdamInnerIdeal.nD,
      r.2.mem ((c.tc : Thread Cert.RefAdamInnerIdeal.nD Cert.RefAdamInnerIdeal.τ).loc Cert.RefAdamInnerIdeal.main_arg0) = m ((c.tc : Thread Cert.RefAdamInnerIdeal.nD Cert.RefAdamInnerIdeal.τ).loc Cert.RefAdamInnerIdeal.main_arg0)
      ∧ r.2.mem ((c.tc : Thread Cert.RefAdamInnerIdeal.nD Cert.RefAdamInnerIdeal.τ).loc Cert.RefAdamInnerIdeal.main_arg1) = m ((c.tc : Thread Cert.RefAdamInnerIdeal.nD Cert.RefAdamInnerIdeal.τ).loc Cert.RefAdamInnerIdeal.main_arg1)
      ∧ r.2.mem ((c.tc : Thread Cert.RefAdamInnerIdeal.nD Cert.RefAdamInnerIdeal.τ).loc Cert.RefAdamInnerIdeal.main_arg2) = m ((c.tc : Thread Cert.RefAdamInnerIdeal.nD Cert.RefAdamInnerIdeal.τ).loc Cert.RefAdamInnerIdeal.main_arg2)
      ∧ r.2.mem ((c.tc : Thread Cert.RefAdamInnerIdeal.nD Cert.RefAdamInnerIdeal.τ).loc Cert.RefAdamInnerIdeal.main_arg3) = m ((c.tc : Thread Cert.RefAdamInnerIdeal.nD Cert.RefAdamInnerIdeal.τ).loc Cert.RefAdamInnerIdeal.main_arg3))
      ∧ r.2.sem = fun _ => 0)

def quiescent_AdamBias [hAdamBias : Cert.AdamBias.Facts] : Prop :=
  ∀ (m : (ℓ : Loc Cert.AdamBias.nD Cert.AdamBias.τ Cert.AdamBias.sig) → Buf (Elt Bits) ℓ) (g : Dev Cert.AdamBias.nD → PrngReg), Pre_AdamBias m →
    θ_run (Cert.AdamBias.defs (F := Bits)) (onTc (τ := Cert.AdamBias.τ) (Cert.AdamBias.main (F := Bits))) ⟨m, fun _ => 0, g⟩ (fun r => (∀ c : Dev Cert.AdamBias.nD,
      r.2.mem ((c.tc : Thread Cert.AdamBias.nD Cert.AdamBias.τ).loc Cert.AdamBias.main_arg0) = m ((c.tc : Thread Cert.AdamBias.nD Cert.AdamBias.τ).loc Cert.AdamBias.main_arg0)
      ∧ r.2.mem ((c.tc : Thread Cert.AdamBias.nD Cert.AdamBias.τ).loc Cert.AdamBias.main_arg1) = m ((c.tc : Thread Cert.AdamBias.nD Cert.AdamBias.τ).loc Cert.AdamBias.main_arg1)
      ∧ r.2.mem ((c.tc : Thread Cert.AdamBias.nD Cert.AdamBias.τ).loc Cert.AdamBias.main_arg2) = m ((c.tc : Thread Cert.AdamBias.nD Cert.AdamBias.τ).loc Cert.AdamBias.main_arg2)
      ∧ r.2.mem ((c.tc : Thread Cert.AdamBias.nD Cert.AdamBias.τ).loc Cert.AdamBias.main_arg3) = m ((c.tc : Thread Cert.AdamBias.nD Cert.AdamBias.τ).loc Cert.AdamBias.main_arg3))
      ∧ r.2.sem = fun _ => 0)

def quiescent_AdamBiasIdeal [hAdamBiasIdeal : Cert.AdamBiasIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg), Pre_AdamBiasIdeal m →
    θ_run (Cert.AdamBiasIdeal.defs (F := Ideal)) (onTc (τ := Cert.AdamBiasIdeal.τ) (Cert.AdamBiasIdeal.main (F := Ideal))) ⟨m, fun _ => 0, g⟩ (fun r => (∀ c : Dev Cert.AdamBiasIdeal.nD,
      r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
      ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
      ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
      ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3))
      ∧ r.2.sem = fun _ => 0)

def quiescent_RefAdamBiasIdeal [hRefAdamBiasIdeal : Cert.RefAdamBiasIdeal.Facts] : Prop :=
  ∀ (m : (ℓ : Loc Cert.RefAdamBiasIdeal.nD Cert.RefAdamBiasIdeal.τ Cert.RefAdamBiasIdeal.sig) → Buf (Elt Ideal) ℓ) (g : Dev Cert.RefAdamBiasIdeal.nD → PrngReg), Pre_RefAdamBiasIdeal m →
    θ_run (Cert.RefAdamBiasIdeal.defs (F := Ideal)) (onTc (τ := Cert.RefAdamBiasIdeal.τ) (Cert.RefAdamBiasIdeal.main (F := Ideal))) ⟨m, fun _ => 0, g⟩ (fun r => (∀ c : Dev Cert.RefAdamBiasIdeal.nD,
      r.2.mem ((c.tc : Thread Cert.RefAdamBiasIdeal.nD Cert.RefAdamBiasIdeal.τ).loc Cert.RefAdamBiasIdeal.main_arg0) = m ((c.tc : Thread Cert.RefAdamBiasIdeal.nD Cert.RefAdamBiasIdeal.τ).loc Cert.RefAdamBiasIdeal.main_arg0)
      ∧ r.2.mem ((c.tc : Thread Cert.RefAdamBiasIdeal.nD Cert.RefAdamBiasIdeal.τ).loc Cert.RefAdamBiasIdeal.main_arg1) = m ((c.tc : Thread Cert.RefAdamBiasIdeal.nD Cert.RefAdamBiasIdeal.τ).loc Cert.RefAdamBiasIdeal.main_arg1)
      ∧ r.2.mem ((c.tc : Thread Cert.RefAdamBiasIdeal.nD Cert.RefAdamBiasIdeal.τ).loc Cert.RefAdamBiasIdeal.main_arg2) = m ((c.tc : Thread Cert.RefAdamBiasIdeal.nD Cert.RefAdamBiasIdeal.τ).loc Cert.RefAdamBiasIdeal.main_arg2)
      ∧ r.2.mem ((c.tc : Thread Cert.RefAdamBiasIdeal.nD Cert.RefAdamBiasIdeal.τ).loc Cert.RefAdamBiasIdeal.main_arg3) = m ((c.tc : Thread Cert.RefAdamBiasIdeal.nD Cert.RefAdamBiasIdeal.τ).loc Cert.RefAdamBiasIdeal.main_arg3))
      ∧ r.2.sem = fun _ => 0)

def quiescent_AdamGates [hAdamGates : Cert.AdamGates.Facts] : Prop :=
  ∀ (m : (ℓ : Loc Cert.AdamGates.nD Cert.AdamGates.τ Cert.AdamGates.sig) → Buf (Elt Bits) ℓ) (g : Dev Cert.AdamGates.nD → PrngReg), Pre_AdamGates m →
    θ_run (Cert.AdamGates.defs (F := Bits)) (onTc (τ := Cert.AdamGates.τ) (Cert.AdamGates.main (F := Bits))) ⟨m, fun _ => 0, g⟩ (fun r => (∀ c : Dev Cert.AdamGates.nD,
      r.2.mem ((c.tc : Thread Cert.AdamGates.nD Cert.AdamGates.τ).loc Cert.AdamGates.main_arg0) = m ((c.tc : Thread Cert.AdamGates.nD Cert.AdamGates.τ).loc Cert.AdamGates.main_arg0)
      ∧ r.2.mem ((c.tc : Thread Cert.AdamGates.nD Cert.AdamGates.τ).loc Cert.AdamGates.main_arg1) = m ((c.tc : Thread Cert.AdamGates.nD Cert.AdamGates.τ).loc Cert.AdamGates.main_arg1)
      ∧ r.2.mem ((c.tc : Thread Cert.AdamGates.nD Cert.AdamGates.τ).loc Cert.AdamGates.main_arg2) = m ((c.tc : Thread Cert.AdamGates.nD Cert.AdamGates.τ).loc Cert.AdamGates.main_arg2)
      ∧ r.2.mem ((c.tc : Thread Cert.AdamGates.nD Cert.AdamGates.τ).loc Cert.AdamGates.main_arg3) = m ((c.tc : Thread Cert.AdamGates.nD Cert.AdamGates.τ).loc Cert.AdamGates.main_arg3))
      ∧ r.2.sem = fun _ => 0)

def quiescent_AdamGatesIdeal [hAdamGatesIdeal : Cert.AdamGatesIdeal.Facts] : Prop :=
  ∀ (m : (ℓ : Loc Cert.AdamGatesIdeal.nD Cert.AdamGatesIdeal.τ Cert.AdamGatesIdeal.sig) → Buf (Elt Ideal) ℓ) (g : Dev Cert.AdamGatesIdeal.nD → PrngReg), Pre_AdamGatesIdeal m →
    θ_run (Cert.AdamGatesIdeal.defs (F := Ideal)) (onTc (τ := Cert.AdamGatesIdeal.τ) (Cert.AdamGatesIdeal.main (F := Ideal))) ⟨m, fun _ => 0, g⟩ (fun r => (∀ c : Dev Cert.AdamGatesIdeal.nD,
      r.2.mem ((c.tc : Thread Cert.AdamGatesIdeal.nD Cert.AdamGatesIdeal.τ).loc Cert.AdamGatesIdeal.main_arg0) = m ((c.tc : Thread Cert.AdamGatesIdeal.nD Cert.AdamGatesIdeal.τ).loc Cert.AdamGatesIdeal.main_arg0)
      ∧ r.2.mem ((c.tc : Thread Cert.AdamGatesIdeal.nD Cert.AdamGatesIdeal.τ).loc Cert.AdamGatesIdeal.main_arg1) = m ((c.tc : Thread Cert.AdamGatesIdeal.nD Cert.AdamGatesIdeal.τ).loc Cert.AdamGatesIdeal.main_arg1)
      ∧ r.2.mem ((c.tc : Thread Cert.AdamGatesIdeal.nD Cert.AdamGatesIdeal.τ).loc Cert.AdamGatesIdeal.main_arg2) = m ((c.tc : Thread Cert.AdamGatesIdeal.nD Cert.AdamGatesIdeal.τ).loc Cert.AdamGatesIdeal.main_arg2)
      ∧ r.2.mem ((c.tc : Thread Cert.AdamGatesIdeal.nD Cert.AdamGatesIdeal.τ).loc Cert.AdamGatesIdeal.main_arg3) = m ((c.tc : Thread Cert.AdamGatesIdeal.nD Cert.AdamGatesIdeal.τ).loc Cert.AdamGatesIdeal.main_arg3))
      ∧ r.2.sem = fun _ => 0)

def quiescent_RefAdamGatesIdeal [hRefAdamGatesIdeal : Cert.RefAdamGatesIdeal.Facts] : Prop :=
  ∀ (m : (ℓ : Loc Cert.RefAdamGatesIdeal.nD Cert.RefAdamGatesIdeal.τ Cert.RefAdamGatesIdeal.sig) → Buf (Elt Ideal) ℓ) (g : Dev Cert.RefAdamGatesIdeal.nD → PrngReg), Pre_RefAdamGatesIdeal m →
    θ_run (Cert.RefAdamGatesIdeal.defs (F := Ideal)) (onTc (τ := Cert.RefAdamGatesIdeal.τ) (Cert.RefAdamGatesIdeal.main (F := Ideal))) ⟨m, fun _ => 0, g⟩ (fun r => (∀ c : Dev Cert.RefAdamGatesIdeal.nD,
      r.2.mem ((c.tc : Thread Cert.RefAdamGatesIdeal.nD Cert.RefAdamGatesIdeal.τ).loc Cert.RefAdamGatesIdeal.main_arg0) = m ((c.tc : Thread Cert.RefAdamGatesIdeal.nD Cert.RefAdamGatesIdeal.τ).loc Cert.RefAdamGatesIdeal.main_arg0)
      ∧ r.2.mem ((c.tc : Thread Cert.RefAdamGatesIdeal.nD Cert.RefAdamGatesIdeal.τ).loc Cert.RefAdamGatesIdeal.main_arg1) = m ((c.tc : Thread Cert.RefAdamGatesIdeal.nD Cert.RefAdamGatesIdeal.τ).loc Cert.RefAdamGatesIdeal.main_arg1)
      ∧ r.2.mem ((c.tc : Thread Cert.RefAdamGatesIdeal.nD Cert.RefAdamGatesIdeal.τ).loc Cert.RefAdamGatesIdeal.main_arg2) = m ((c.tc : Thread Cert.RefAdamGatesIdeal.nD Cert.RefAdamGatesIdeal.τ).loc Cert.RefAdamGatesIdeal.main_arg2)
      ∧ r.2.mem ((c.tc : Thread Cert.RefAdamGatesIdeal.nD Cert.RefAdamGatesIdeal.τ).loc Cert.RefAdamGatesIdeal.main_arg3) = m ((c.tc : Thread Cert.RefAdamGatesIdeal.nD Cert.RefAdamGatesIdeal.τ).loc Cert.RefAdamGatesIdeal.main_arg3))
      ∧ r.2.sem = fun _ => 0)

def quiescent_AdamTaps [hAdamTaps : Cert.AdamTaps.Facts] : Prop :=
  ∀ (m : (ℓ : Loc Cert.AdamTaps.nD Cert.AdamTaps.τ Cert.AdamTaps.sig) → Buf (Elt Bits) ℓ) (g : Dev Cert.AdamTaps.nD → PrngReg), Pre_AdamTaps m →
    θ_run (Cert.AdamTaps.defs (F := Bits)) (onTc (τ := Cert.AdamTaps.τ) (Cert.AdamTaps.main (F := Bits))) ⟨m, fun _ => 0, g⟩ (fun r => (∀ c : Dev Cert.AdamTaps.nD,
      r.2.mem ((c.tc : Thread Cert.AdamTaps.nD Cert.AdamTaps.τ).loc Cert.AdamTaps.main_arg0) = m ((c.tc : Thread Cert.AdamTaps.nD Cert.AdamTaps.τ).loc Cert.AdamTaps.main_arg0)
      ∧ r.2.mem ((c.tc : Thread Cert.AdamTaps.nD Cert.AdamTaps.τ).loc Cert.AdamTaps.main_arg1) = m ((c.tc : Thread Cert.AdamTaps.nD Cert.AdamTaps.τ).loc Cert.AdamTaps.main_arg1)
      ∧ r.2.mem ((c.tc : Thread Cert.AdamTaps.nD Cert.AdamTaps.τ).loc Cert.AdamTaps.main_arg2) = m ((c.tc : Thread Cert.AdamTaps.nD Cert.AdamTaps.τ).loc Cert.AdamTaps.main_arg2)
      ∧ r.2.mem ((c.tc : Thread Cert.AdamTaps.nD Cert.AdamTaps.τ).loc Cert.AdamTaps.main_arg3) = m ((c.tc : Thread Cert.AdamTaps.nD Cert.AdamTaps.τ).loc Cert.AdamTaps.main_arg3))
      ∧ r.2.sem = fun _ => 0)

def quiescent_AdamTapsIdeal [hAdamTapsIdeal : Cert.AdamTapsIdeal.Facts] : Prop :=
  ∀ (m : (ℓ : Loc Cert.AdamTapsIdeal.nD Cert.AdamTapsIdeal.τ Cert.AdamTapsIdeal.sig) → Buf (Elt Ideal) ℓ) (g : Dev Cert.AdamTapsIdeal.nD → PrngReg), Pre_AdamTapsIdeal m →
    θ_run (Cert.AdamTapsIdeal.defs (F := Ideal)) (onTc (τ := Cert.AdamTapsIdeal.τ) (Cert.AdamTapsIdeal.main (F := Ideal))) ⟨m, fun _ => 0, g⟩ (fun r => (∀ c : Dev Cert.AdamTapsIdeal.nD,
      r.2.mem ((c.tc : Thread Cert.AdamTapsIdeal.nD Cert.AdamTapsIdeal.τ).loc Cert.AdamTapsIdeal.main_arg0) = m ((c.tc : Thread Cert.AdamTapsIdeal.nD Cert.AdamTapsIdeal.τ).loc Cert.AdamTapsIdeal.main_arg0)
      ∧ r.2.mem ((c.tc : Thread Cert.AdamTapsIdeal.nD Cert.AdamTapsIdeal.τ).loc Cert.AdamTapsIdeal.main_arg1) = m ((c.tc : Thread Cert.AdamTapsIdeal.nD Cert.AdamTapsIdeal.τ).loc Cert.AdamTapsIdeal.main_arg1)
      ∧ r.2.mem ((c.tc : Thread Cert.AdamTapsIdeal.nD Cert.AdamTapsIdeal.τ).loc Cert.AdamTapsIdeal.main_arg2) = m ((c.tc : Thread Cert.AdamTapsIdeal.nD Cert.AdamTapsIdeal.τ).loc Cert.AdamTapsIdeal.main_arg2)
      ∧ r.2.mem ((c.tc : Thread Cert.AdamTapsIdeal.nD Cert.AdamTapsIdeal.τ).loc Cert.AdamTapsIdeal.main_arg3) = m ((c.tc : Thread Cert.AdamTapsIdeal.nD Cert.AdamTapsIdeal.τ).loc Cert.AdamTapsIdeal.main_arg3))
      ∧ r.2.sem = fun _ => 0)

def quiescent_RefAdamTapsIdeal [hRefAdamTapsIdeal : Cert.RefAdamTapsIdeal.Facts] : Prop :=
  ∀ (m : (ℓ : Loc Cert.RefAdamTapsIdeal.nD Cert.RefAdamTapsIdeal.τ Cert.RefAdamTapsIdeal.sig) → Buf (Elt Ideal) ℓ) (g : Dev Cert.RefAdamTapsIdeal.nD → PrngReg), Pre_RefAdamTapsIdeal m →
    θ_run (Cert.RefAdamTapsIdeal.defs (F := Ideal)) (onTc (τ := Cert.RefAdamTapsIdeal.τ) (Cert.RefAdamTapsIdeal.main (F := Ideal))) ⟨m, fun _ => 0, g⟩ (fun r => (∀ c : Dev Cert.RefAdamTapsIdeal.nD,
      r.2.mem ((c.tc : Thread Cert.RefAdamTapsIdeal.nD Cert.RefAdamTapsIdeal.τ).loc Cert.RefAdamTapsIdeal.main_arg0) = m ((c.tc : Thread Cert.RefAdamTapsIdeal.nD Cert.RefAdamTapsIdeal.τ).loc Cert.RefAdamTapsIdeal.main_arg0)
      ∧ r.2.mem ((c.tc : Thread Cert.RefAdamTapsIdeal.nD Cert.RefAdamTapsIdeal.τ).loc Cert.RefAdamTapsIdeal.main_arg1) = m ((c.tc : Thread Cert.RefAdamTapsIdeal.nD Cert.RefAdamTapsIdeal.τ).loc Cert.RefAdamTapsIdeal.main_arg1)
      ∧ r.2.mem ((c.tc : Thread Cert.RefAdamTapsIdeal.nD Cert.RefAdamTapsIdeal.τ).loc Cert.RefAdamTapsIdeal.main_arg2) = m ((c.tc : Thread Cert.RefAdamTapsIdeal.nD Cert.RefAdamTapsIdeal.τ).loc Cert.RefAdamTapsIdeal.main_arg2)
      ∧ r.2.mem ((c.tc : Thread Cert.RefAdamTapsIdeal.nD Cert.RefAdamTapsIdeal.τ).loc Cert.RefAdamTapsIdeal.main_arg3) = m ((c.tc : Thread Cert.RefAdamTapsIdeal.nD Cert.RefAdamTapsIdeal.τ).loc Cert.RefAdamTapsIdeal.main_arg3))
      ∧ r.2.sem = fun _ => 0)

def quiescent_AdamFour [hAdamFour : Cert.AdamFour.Facts] : Prop :=
  ∀ (m : (ℓ : Loc Cert.AdamFour.nD Cert.AdamFour.τ Cert.AdamFour.sig) → Buf (Elt Bits) ℓ) (g : Dev Cert.AdamFour.nD → PrngReg), Pre_AdamFour m →
    θ_run (Cert.AdamFour.defs (F := Bits)) (onTc (τ := Cert.AdamFour.τ) (Cert.AdamFour.main (F := Bits))) ⟨m, fun _ => 0, g⟩ (fun r => (∀ c : Dev Cert.AdamFour.nD,
      r.2.mem ((c.tc : Thread Cert.AdamFour.nD Cert.AdamFour.τ).loc Cert.AdamFour.main_arg0) = m ((c.tc : Thread Cert.AdamFour.nD Cert.AdamFour.τ).loc Cert.AdamFour.main_arg0)
      ∧ r.2.mem ((c.tc : Thread Cert.AdamFour.nD Cert.AdamFour.τ).loc Cert.AdamFour.main_arg1) = m ((c.tc : Thread Cert.AdamFour.nD Cert.AdamFour.τ).loc Cert.AdamFour.main_arg1)
      ∧ r.2.mem ((c.tc : Thread Cert.AdamFour.nD Cert.AdamFour.τ).loc Cert.AdamFour.main_arg2) = m ((c.tc : Thread Cert.AdamFour.nD Cert.AdamFour.τ).loc Cert.AdamFour.main_arg2)
      ∧ r.2.mem ((c.tc : Thread Cert.AdamFour.nD Cert.AdamFour.τ).loc Cert.AdamFour.main_arg3) = m ((c.tc : Thread Cert.AdamFour.nD Cert.AdamFour.τ).loc Cert.AdamFour.main_arg3))
      ∧ r.2.sem = fun _ => 0)

def quiescent_AdamFourIdeal [hAdamFourIdeal : Cert.AdamFourIdeal.Facts] : Prop :=
  ∀ (m : (ℓ : Loc Cert.AdamFourIdeal.nD Cert.AdamFourIdeal.τ Cert.AdamFourIdeal.sig) → Buf (Elt Ideal) ℓ) (g : Dev Cert.AdamFourIdeal.nD → PrngReg), Pre_AdamFourIdeal m →
    θ_run (Cert.AdamFourIdeal.defs (F := Ideal)) (onTc (τ := Cert.AdamFourIdeal.τ) (Cert.AdamFourIdeal.main (F := Ideal))) ⟨m, fun _ => 0, g⟩ (fun r => (∀ c : Dev Cert.AdamFourIdeal.nD,
      r.2.mem ((c.tc : Thread Cert.AdamFourIdeal.nD Cert.AdamFourIdeal.τ).loc Cert.AdamFourIdeal.main_arg0) = m ((c.tc : Thread Cert.AdamFourIdeal.nD Cert.AdamFourIdeal.τ).loc Cert.AdamFourIdeal.main_arg0)
      ∧ r.2.mem ((c.tc : Thread Cert.AdamFourIdeal.nD Cert.AdamFourIdeal.τ).loc Cert.AdamFourIdeal.main_arg1) = m ((c.tc : Thread Cert.AdamFourIdeal.nD Cert.AdamFourIdeal.τ).loc Cert.AdamFourIdeal.main_arg1)
      ∧ r.2.mem ((c.tc : Thread Cert.AdamFourIdeal.nD Cert.AdamFourIdeal.τ).loc Cert.AdamFourIdeal.main_arg2) = m ((c.tc : Thread Cert.AdamFourIdeal.nD Cert.AdamFourIdeal.τ).loc Cert.AdamFourIdeal.main_arg2)
      ∧ r.2.mem ((c.tc : Thread Cert.AdamFourIdeal.nD Cert.AdamFourIdeal.τ).loc Cert.AdamFourIdeal.main_arg3) = m ((c.tc : Thread Cert.AdamFourIdeal.nD Cert.AdamFourIdeal.τ).loc Cert.AdamFourIdeal.main_arg3))
      ∧ r.2.sem = fun _ => 0)

def quiescent_RefAdamFourIdeal [hRefAdamFourIdeal : Cert.RefAdamFourIdeal.Facts] : Prop :=
  ∀ (m : (ℓ : Loc Cert.RefAdamFourIdeal.nD Cert.RefAdamFourIdeal.τ Cert.RefAdamFourIdeal.sig) → Buf (Elt Ideal) ℓ) (g : Dev Cert.RefAdamFourIdeal.nD → PrngReg), Pre_RefAdamFourIdeal m →
    θ_run (Cert.RefAdamFourIdeal.defs (F := Ideal)) (onTc (τ := Cert.RefAdamFourIdeal.τ) (Cert.RefAdamFourIdeal.main (F := Ideal))) ⟨m, fun _ => 0, g⟩ (fun r => (∀ c : Dev Cert.RefAdamFourIdeal.nD,
      r.2.mem ((c.tc : Thread Cert.RefAdamFourIdeal.nD Cert.RefAdamFourIdeal.τ).loc Cert.RefAdamFourIdeal.main_arg0) = m ((c.tc : Thread Cert.RefAdamFourIdeal.nD Cert.RefAdamFourIdeal.τ).loc Cert.RefAdamFourIdeal.main_arg0)
      ∧ r.2.mem ((c.tc : Thread Cert.RefAdamFourIdeal.nD Cert.RefAdamFourIdeal.τ).loc Cert.RefAdamFourIdeal.main_arg1) = m ((c.tc : Thread Cert.RefAdamFourIdeal.nD Cert.RefAdamFourIdeal.τ).loc Cert.RefAdamFourIdeal.main_arg1)
      ∧ r.2.mem ((c.tc : Thread Cert.RefAdamFourIdeal.nD Cert.RefAdamFourIdeal.τ).loc Cert.RefAdamFourIdeal.main_arg2) = m ((c.tc : Thread Cert.RefAdamFourIdeal.nD Cert.RefAdamFourIdeal.τ).loc Cert.RefAdamFourIdeal.main_arg2)
      ∧ r.2.mem ((c.tc : Thread Cert.RefAdamFourIdeal.nD Cert.RefAdamFourIdeal.τ).loc Cert.RefAdamFourIdeal.main_arg3) = m ((c.tc : Thread Cert.RefAdamFourIdeal.nD Cert.RefAdamFourIdeal.τ).loc Cert.RefAdamFourIdeal.main_arg3))
      ∧ r.2.sem = fun _ => 0)

def quiescent_AdamXq [hAdamXq : Cert.AdamXq.Facts] : Prop :=
  ∀ (m : (ℓ : Loc Cert.AdamXq.nD Cert.AdamXq.τ Cert.AdamXq.sig) → Buf (Elt Bits) ℓ) (g : Dev Cert.AdamXq.nD → PrngReg), Pre_AdamXq m →
    θ_run (Cert.AdamXq.defs (F := Bits)) (onTc (τ := Cert.AdamXq.τ) (Cert.AdamXq.main (F := Bits))) ⟨m, fun _ => 0, g⟩ (fun r => (∀ c : Dev Cert.AdamXq.nD,
      r.2.mem ((c.tc : Thread Cert.AdamXq.nD Cert.AdamXq.τ).loc Cert.AdamXq.main_arg0) = m ((c.tc : Thread Cert.AdamXq.nD Cert.AdamXq.τ).loc Cert.AdamXq.main_arg0)
      ∧ r.2.mem ((c.tc : Thread Cert.AdamXq.nD Cert.AdamXq.τ).loc Cert.AdamXq.main_arg1) = m ((c.tc : Thread Cert.AdamXq.nD Cert.AdamXq.τ).loc Cert.AdamXq.main_arg1)
      ∧ r.2.mem ((c.tc : Thread Cert.AdamXq.nD Cert.AdamXq.τ).loc Cert.AdamXq.main_arg2) = m ((c.tc : Thread Cert.AdamXq.nD Cert.AdamXq.τ).loc Cert.AdamXq.main_arg2)
      ∧ r.2.mem ((c.tc : Thread Cert.AdamXq.nD Cert.AdamXq.τ).loc Cert.AdamXq.main_arg3) = m ((c.tc : Thread Cert.AdamXq.nD Cert.AdamXq.τ).loc Cert.AdamXq.main_arg3)
      ∧ r.2.mem ((c.tc : Thread Cert.AdamXq.nD Cert.AdamXq.τ).loc Cert.AdamXq.main_arg4) = m ((c.tc : Thread Cert.AdamXq.nD Cert.AdamXq.τ).loc Cert.AdamXq.main_arg4)
      ∧ r.2.mem ((c.tc : Thread Cert.AdamXq.nD Cert.AdamXq.τ).loc Cert.AdamXq.main_arg5) = m ((c.tc : Thread Cert.AdamXq.nD Cert.AdamXq.τ).loc Cert.AdamXq.main_arg5)
      ∧ r.2.mem ((c.tc : Thread Cert.AdamXq.nD Cert.AdamXq.τ).loc Cert.AdamXq.main_arg6) = m ((c.tc : Thread Cert.AdamXq.nD Cert.AdamXq.τ).loc Cert.AdamXq.main_arg6))
      ∧ r.2.sem = fun _ => 0)

def quiescent_AdamXqIdeal [hAdamXqIdeal : Cert.AdamXqIdeal.Facts] : Prop :=
  ∀ (m : (ℓ : Loc Cert.AdamXqIdeal.nD Cert.AdamXqIdeal.τ Cert.AdamXqIdeal.sig) → Buf (Elt Ideal) ℓ) (g : Dev Cert.AdamXqIdeal.nD → PrngReg), Pre_AdamXqIdeal m →
    θ_run (Cert.AdamXqIdeal.defs (F := Ideal)) (onTc (τ := Cert.AdamXqIdeal.τ) (Cert.AdamXqIdeal.main (F := Ideal))) ⟨m, fun _ => 0, g⟩ (fun r => (∀ c : Dev Cert.AdamXqIdeal.nD,
      r.2.mem ((c.tc : Thread Cert.AdamXqIdeal.nD Cert.AdamXqIdeal.τ).loc Cert.AdamXqIdeal.main_arg0) = m ((c.tc : Thread Cert.AdamXqIdeal.nD Cert.AdamXqIdeal.τ).loc Cert.AdamXqIdeal.main_arg0)
      ∧ r.2.mem ((c.tc : Thread Cert.AdamXqIdeal.nD Cert.AdamXqIdeal.τ).loc Cert.AdamXqIdeal.main_arg1) = m ((c.tc : Thread Cert.AdamXqIdeal.nD Cert.AdamXqIdeal.τ).loc Cert.AdamXqIdeal.main_arg1)
      ∧ r.2.mem ((c.tc : Thread Cert.AdamXqIdeal.nD Cert.AdamXqIdeal.τ).loc Cert.AdamXqIdeal.main_arg2) = m ((c.tc : Thread Cert.AdamXqIdeal.nD Cert.AdamXqIdeal.τ).loc Cert.AdamXqIdeal.main_arg2)
      ∧ r.2.mem ((c.tc : Thread Cert.AdamXqIdeal.nD Cert.AdamXqIdeal.τ).loc Cert.AdamXqIdeal.main_arg3) = m ((c.tc : Thread Cert.AdamXqIdeal.nD Cert.AdamXqIdeal.τ).loc Cert.AdamXqIdeal.main_arg3)
      ∧ r.2.mem ((c.tc : Thread Cert.AdamXqIdeal.nD Cert.AdamXqIdeal.τ).loc Cert.AdamXqIdeal.main_arg4) = m ((c.tc : Thread Cert.AdamXqIdeal.nD Cert.AdamXqIdeal.τ).loc Cert.AdamXqIdeal.main_arg4)
      ∧ r.2.mem ((c.tc : Thread Cert.AdamXqIdeal.nD Cert.AdamXqIdeal.τ).loc Cert.AdamXqIdeal.main_arg5) = m ((c.tc : Thread Cert.AdamXqIdeal.nD Cert.AdamXqIdeal.τ).loc Cert.AdamXqIdeal.main_arg5)
      ∧ r.2.mem ((c.tc : Thread Cert.AdamXqIdeal.nD Cert.AdamXqIdeal.τ).loc Cert.AdamXqIdeal.main_arg6) = m ((c.tc : Thread Cert.AdamXqIdeal.nD Cert.AdamXqIdeal.τ).loc Cert.AdamXqIdeal.main_arg6))
      ∧ r.2.sem = fun _ => 0)

def quiescent_RefAdamXqIdeal [hRefAdamXqIdeal : Cert.RefAdamXqIdeal.Facts] : Prop :=
  ∀ (m : (ℓ : Loc Cert.RefAdamXqIdeal.nD Cert.RefAdamXqIdeal.τ Cert.RefAdamXqIdeal.sig) → Buf (Elt Ideal) ℓ) (g : Dev Cert.RefAdamXqIdeal.nD → PrngReg), Pre_RefAdamXqIdeal m →
    θ_run (Cert.RefAdamXqIdeal.defs (F := Ideal)) (onTc (τ := Cert.RefAdamXqIdeal.τ) (Cert.RefAdamXqIdeal.main (F := Ideal))) ⟨m, fun _ => 0, g⟩ (fun r => (∀ c : Dev Cert.RefAdamXqIdeal.nD,
      r.2.mem ((c.tc : Thread Cert.RefAdamXqIdeal.nD Cert.RefAdamXqIdeal.τ).loc Cert.RefAdamXqIdeal.main_arg0) = m ((c.tc : Thread Cert.RefAdamXqIdeal.nD Cert.RefAdamXqIdeal.τ).loc Cert.RefAdamXqIdeal.main_arg0)
      ∧ r.2.mem ((c.tc : Thread Cert.RefAdamXqIdeal.nD Cert.RefAdamXqIdeal.τ).loc Cert.RefAdamXqIdeal.main_arg1) = m ((c.tc : Thread Cert.RefAdamXqIdeal.nD Cert.RefAdamXqIdeal.τ).loc Cert.RefAdamXqIdeal.main_arg1)
      ∧ r.2.mem ((c.tc : Thread Cert.RefAdamXqIdeal.nD Cert.RefAdamXqIdeal.τ).loc Cert.RefAdamXqIdeal.main_arg2) = m ((c.tc : Thread Cert.RefAdamXqIdeal.nD Cert.RefAdamXqIdeal.τ).loc Cert.RefAdamXqIdeal.main_arg2)
      ∧ r.2.mem ((c.tc : Thread Cert.RefAdamXqIdeal.nD Cert.RefAdamXqIdeal.τ).loc Cert.RefAdamXqIdeal.main_arg3) = m ((c.tc : Thread Cert.RefAdamXqIdeal.nD Cert.RefAdamXqIdeal.τ).loc Cert.RefAdamXqIdeal.main_arg3)
      ∧ r.2.mem ((c.tc : Thread Cert.RefAdamXqIdeal.nD Cert.RefAdamXqIdeal.τ).loc Cert.RefAdamXqIdeal.main_arg4) = m ((c.tc : Thread Cert.RefAdamXqIdeal.nD Cert.RefAdamXqIdeal.τ).loc Cert.RefAdamXqIdeal.main_arg4)
      ∧ r.2.mem ((c.tc : Thread Cert.RefAdamXqIdeal.nD Cert.RefAdamXqIdeal.τ).loc Cert.RefAdamXqIdeal.main_arg5) = m ((c.tc : Thread Cert.RefAdamXqIdeal.nD Cert.RefAdamXqIdeal.τ).loc Cert.RefAdamXqIdeal.main_arg5)
      ∧ r.2.mem ((c.tc : Thread Cert.RefAdamXqIdeal.nD Cert.RefAdamXqIdeal.τ).loc Cert.RefAdamXqIdeal.main_arg6) = m ((c.tc : Thread Cert.RefAdamXqIdeal.nD Cert.RefAdamXqIdeal.τ).loc Cert.RefAdamXqIdeal.main_arg6))
      ∧ r.2.sem = fun _ => 0)

def quiescent_AdamConvOut [hAdamConvOut : Cert.AdamConvOut.Facts] : Prop :=
  ∀ (m : (ℓ : Loc Cert.AdamConvOut.nD Cert.AdamConvOut.τ Cert.AdamConvOut.sig) → Buf (Elt Bits) ℓ) (g : Dev Cert.AdamConvOut.nD → PrngReg), Pre_AdamConvOut m →
    θ_run (Cert.AdamConvOut.defs (F := Bits)) (onTc (τ := Cert.AdamConvOut.τ) (Cert.AdamConvOut.main (F := Bits))) ⟨m, fun _ => 0, g⟩ (fun r => (∀ c : Dev Cert.AdamConvOut.nD,
      r.2.mem ((c.tc : Thread Cert.AdamConvOut.nD Cert.AdamConvOut.τ).loc Cert.AdamConvOut.main_arg0) = m ((c.tc : Thread Cert.AdamConvOut.nD Cert.AdamConvOut.τ).loc Cert.AdamConvOut.main_arg0)
      ∧ r.2.mem ((c.tc : Thread Cert.AdamConvOut.nD Cert.AdamConvOut.τ).loc Cert.AdamConvOut.main_arg1) = m ((c.tc : Thread Cert.AdamConvOut.nD Cert.AdamConvOut.τ).loc Cert.AdamConvOut.main_arg1)
      ∧ r.2.mem ((c.tc : Thread Cert.AdamConvOut.nD Cert.AdamConvOut.τ).loc Cert.AdamConvOut.main_arg2) = m ((c.tc : Thread Cert.AdamConvOut.nD Cert.AdamConvOut.τ).loc Cert.AdamConvOut.main_arg2)
      ∧ r.2.mem ((c.tc : Thread Cert.AdamConvOut.nD Cert.AdamConvOut.τ).loc Cert.AdamConvOut.main_arg3) = m ((c.tc : Thread Cert.AdamConvOut.nD Cert.AdamConvOut.τ).loc Cert.AdamConvOut.main_arg3)
      ∧ r.2.mem ((c.tc : Thread Cert.AdamConvOut.nD Cert.AdamConvOut.τ).loc Cert.AdamConvOut.main_arg4) = m ((c.tc : Thread Cert.AdamConvOut.nD Cert.AdamConvOut.τ).loc Cert.AdamConvOut.main_arg4)
      ∧ r.2.mem ((c.tc : Thread Cert.AdamConvOut.nD Cert.AdamConvOut.τ).loc Cert.AdamConvOut.main_arg5) = m ((c.tc : Thread Cert.AdamConvOut.nD Cert.AdamConvOut.τ).loc Cert.AdamConvOut.main_arg5)
      ∧ r.2.mem ((c.tc : Thread Cert.AdamConvOut.nD Cert.AdamConvOut.τ).loc Cert.AdamConvOut.main_arg6) = m ((c.tc : Thread Cert.AdamConvOut.nD Cert.AdamConvOut.τ).loc Cert.AdamConvOut.main_arg6))
      ∧ r.2.sem = fun _ => 0)

def quiescent_AdamConvOutIdeal [hAdamConvOutIdeal : Cert.AdamConvOutIdeal.Facts] : Prop :=
  ∀ (m : (ℓ : Loc Cert.AdamConvOutIdeal.nD Cert.AdamConvOutIdeal.τ Cert.AdamConvOutIdeal.sig) → Buf (Elt Ideal) ℓ) (g : Dev Cert.AdamConvOutIdeal.nD → PrngReg), Pre_AdamConvOutIdeal m →
    θ_run (Cert.AdamConvOutIdeal.defs (F := Ideal)) (onTc (τ := Cert.AdamConvOutIdeal.τ) (Cert.AdamConvOutIdeal.main (F := Ideal))) ⟨m, fun _ => 0, g⟩ (fun r => (∀ c : Dev Cert.AdamConvOutIdeal.nD,
      r.2.mem ((c.tc : Thread Cert.AdamConvOutIdeal.nD Cert.AdamConvOutIdeal.τ).loc Cert.AdamConvOutIdeal.main_arg0) = m ((c.tc : Thread Cert.AdamConvOutIdeal.nD Cert.AdamConvOutIdeal.τ).loc Cert.AdamConvOutIdeal.main_arg0)
      ∧ r.2.mem ((c.tc : Thread Cert.AdamConvOutIdeal.nD Cert.AdamConvOutIdeal.τ).loc Cert.AdamConvOutIdeal.main_arg1) = m ((c.tc : Thread Cert.AdamConvOutIdeal.nD Cert.AdamConvOutIdeal.τ).loc Cert.AdamConvOutIdeal.main_arg1)
      ∧ r.2.mem ((c.tc : Thread Cert.AdamConvOutIdeal.nD Cert.AdamConvOutIdeal.τ).loc Cert.AdamConvOutIdeal.main_arg2) = m ((c.tc : Thread Cert.AdamConvOutIdeal.nD Cert.AdamConvOutIdeal.τ).loc Cert.AdamConvOutIdeal.main_arg2)
      ∧ r.2.mem ((c.tc : Thread Cert.AdamConvOutIdeal.nD Cert.AdamConvOutIdeal.τ).loc Cert.AdamConvOutIdeal.main_arg3) = m ((c.tc : Thread Cert.AdamConvOutIdeal.nD Cert.AdamConvOutIdeal.τ).loc Cert.AdamConvOutIdeal.main_arg3)
      ∧ r.2.mem ((c.tc : Thread Cert.AdamConvOutIdeal.nD Cert.AdamConvOutIdeal.τ).loc Cert.AdamConvOutIdeal.main_arg4) = m ((c.tc : Thread Cert.AdamConvOutIdeal.nD Cert.AdamConvOutIdeal.τ).loc Cert.AdamConvOutIdeal.main_arg4)
      ∧ r.2.mem ((c.tc : Thread Cert.AdamConvOutIdeal.nD Cert.AdamConvOutIdeal.τ).loc Cert.AdamConvOutIdeal.main_arg5) = m ((c.tc : Thread Cert.AdamConvOutIdeal.nD Cert.AdamConvOutIdeal.τ).loc Cert.AdamConvOutIdeal.main_arg5)
      ∧ r.2.mem ((c.tc : Thread Cert.AdamConvOutIdeal.nD Cert.AdamConvOutIdeal.τ).loc Cert.AdamConvOutIdeal.main_arg6) = m ((c.tc : Thread Cert.AdamConvOutIdeal.nD Cert.AdamConvOutIdeal.τ).loc Cert.AdamConvOutIdeal.main_arg6))
      ∧ r.2.sem = fun _ => 0)

def quiescent_RefAdamConvOutIdeal [hRefAdamConvOutIdeal : Cert.RefAdamConvOutIdeal.Facts] : Prop :=
  ∀ (m : (ℓ : Loc Cert.RefAdamConvOutIdeal.nD Cert.RefAdamConvOutIdeal.τ Cert.RefAdamConvOutIdeal.sig) → Buf (Elt Ideal) ℓ) (g : Dev Cert.RefAdamConvOutIdeal.nD → PrngReg), Pre_RefAdamConvOutIdeal m →
    θ_run (Cert.RefAdamConvOutIdeal.defs (F := Ideal)) (onTc (τ := Cert.RefAdamConvOutIdeal.τ) (Cert.RefAdamConvOutIdeal.main (F := Ideal))) ⟨m, fun _ => 0, g⟩ (fun r => (∀ c : Dev Cert.RefAdamConvOutIdeal.nD,
      r.2.mem ((c.tc : Thread Cert.RefAdamConvOutIdeal.nD Cert.RefAdamConvOutIdeal.τ).loc Cert.RefAdamConvOutIdeal.main_arg0) = m ((c.tc : Thread Cert.RefAdamConvOutIdeal.nD Cert.RefAdamConvOutIdeal.τ).loc Cert.RefAdamConvOutIdeal.main_arg0)
      ∧ r.2.mem ((c.tc : Thread Cert.RefAdamConvOutIdeal.nD Cert.RefAdamConvOutIdeal.τ).loc Cert.RefAdamConvOutIdeal.main_arg1) = m ((c.tc : Thread Cert.RefAdamConvOutIdeal.nD Cert.RefAdamConvOutIdeal.τ).loc Cert.RefAdamConvOutIdeal.main_arg1)
      ∧ r.2.mem ((c.tc : Thread Cert.RefAdamConvOutIdeal.nD Cert.RefAdamConvOutIdeal.τ).loc Cert.RefAdamConvOutIdeal.main_arg2) = m ((c.tc : Thread Cert.RefAdamConvOutIdeal.nD Cert.RefAdamConvOutIdeal.τ).loc Cert.RefAdamConvOutIdeal.main_arg2)
      ∧ r.2.mem ((c.tc : Thread Cert.RefAdamConvOutIdeal.nD Cert.RefAdamConvOutIdeal.τ).loc Cert.RefAdamConvOutIdeal.main_arg3) = m ((c.tc : Thread Cert.RefAdamConvOutIdeal.nD Cert.RefAdamConvOutIdeal.τ).loc Cert.RefAdamConvOutIdeal.main_arg3)
      ∧ r.2.mem ((c.tc : Thread Cert.RefAdamConvOutIdeal.nD Cert.RefAdamConvOutIdeal.τ).loc Cert.RefAdamConvOutIdeal.main_arg4) = m ((c.tc : Thread Cert.RefAdamConvOutIdeal.nD Cert.RefAdamConvOutIdeal.τ).loc Cert.RefAdamConvOutIdeal.main_arg4)
      ∧ r.2.mem ((c.tc : Thread Cert.RefAdamConvOutIdeal.nD Cert.RefAdamConvOutIdeal.τ).loc Cert.RefAdamConvOutIdeal.main_arg5) = m ((c.tc : Thread Cert.RefAdamConvOutIdeal.nD Cert.RefAdamConvOutIdeal.τ).loc Cert.RefAdamConvOutIdeal.main_arg5)
      ∧ r.2.mem ((c.tc : Thread Cert.RefAdamConvOutIdeal.nD Cert.RefAdamConvOutIdeal.τ).loc Cert.RefAdamConvOutIdeal.main_arg6) = m ((c.tc : Thread Cert.RefAdamConvOutIdeal.nD Cert.RefAdamConvOutIdeal.τ).loc Cert.RefAdamConvOutIdeal.main_arg6))
      ∧ r.2.sem = fun _ => 0)

def quiescent_AdamAttnOut [hAdamAttnOut : Cert.AdamAttnOut.Facts] : Prop :=
  ∀ (m : (ℓ : Loc Cert.AdamAttnOut.nD Cert.AdamAttnOut.τ Cert.AdamAttnOut.sig) → Buf (Elt Bits) ℓ) (g : Dev Cert.AdamAttnOut.nD → PrngReg), Pre_AdamAttnOut m →
    θ_run (Cert.AdamAttnOut.defs (F := Bits)) (onTc (τ := Cert.AdamAttnOut.τ) (Cert.AdamAttnOut.main (F := Bits))) ⟨m, fun _ => 0, g⟩ (fun r => (∀ c : Dev Cert.AdamAttnOut.nD,
      r.2.mem ((c.tc : Thread Cert.AdamAttnOut.nD Cert.AdamAttnOut.τ).loc Cert.AdamAttnOut.main_arg0) = m ((c.tc : Thread Cert.AdamAttnOut.nD Cert.AdamAttnOut.τ).loc Cert.AdamAttnOut.main_arg0)
      ∧ r.2.mem ((c.tc : Thread Cert.AdamAttnOut.nD Cert.AdamAttnOut.τ).loc Cert.AdamAttnOut.main_arg1) = m ((c.tc : Thread Cert.AdamAttnOut.nD Cert.AdamAttnOut.τ).loc Cert.AdamAttnOut.main_arg1)
      ∧ r.2.mem ((c.tc : Thread Cert.AdamAttnOut.nD Cert.AdamAttnOut.τ).loc Cert.AdamAttnOut.main_arg2) = m ((c.tc : Thread Cert.AdamAttnOut.nD Cert.AdamAttnOut.τ).loc Cert.AdamAttnOut.main_arg2)
      ∧ r.2.mem ((c.tc : Thread Cert.AdamAttnOut.nD Cert.AdamAttnOut.τ).loc Cert.AdamAttnOut.main_arg3) = m ((c.tc : Thread Cert.AdamAttnOut.nD Cert.AdamAttnOut.τ).loc Cert.AdamAttnOut.main_arg3)
      ∧ r.2.mem ((c.tc : Thread Cert.AdamAttnOut.nD Cert.AdamAttnOut.τ).loc Cert.AdamAttnOut.main_arg4) = m ((c.tc : Thread Cert.AdamAttnOut.nD Cert.AdamAttnOut.τ).loc Cert.AdamAttnOut.main_arg4)
      ∧ r.2.mem ((c.tc : Thread Cert.AdamAttnOut.nD Cert.AdamAttnOut.τ).loc Cert.AdamAttnOut.main_arg5) = m ((c.tc : Thread Cert.AdamAttnOut.nD Cert.AdamAttnOut.τ).loc Cert.AdamAttnOut.main_arg5)
      ∧ r.2.mem ((c.tc : Thread Cert.AdamAttnOut.nD Cert.AdamAttnOut.τ).loc Cert.AdamAttnOut.main_arg6) = m ((c.tc : Thread Cert.AdamAttnOut.nD Cert.AdamAttnOut.τ).loc Cert.AdamAttnOut.main_arg6))
      ∧ r.2.sem = fun _ => 0)

def quiescent_AdamAttnOutIdeal [hAdamAttnOutIdeal : Cert.AdamAttnOutIdeal.Facts] : Prop :=
  ∀ (m : (ℓ : Loc Cert.AdamAttnOutIdeal.nD Cert.AdamAttnOutIdeal.τ Cert.AdamAttnOutIdeal.sig) → Buf (Elt Ideal) ℓ) (g : Dev Cert.AdamAttnOutIdeal.nD → PrngReg), Pre_AdamAttnOutIdeal m →
    θ_run (Cert.AdamAttnOutIdeal.defs (F := Ideal)) (onTc (τ := Cert.AdamAttnOutIdeal.τ) (Cert.AdamAttnOutIdeal.main (F := Ideal))) ⟨m, fun _ => 0, g⟩ (fun r => (∀ c : Dev Cert.AdamAttnOutIdeal.nD,
      r.2.mem ((c.tc : Thread Cert.AdamAttnOutIdeal.nD Cert.AdamAttnOutIdeal.τ).loc Cert.AdamAttnOutIdeal.main_arg0) = m ((c.tc : Thread Cert.AdamAttnOutIdeal.nD Cert.AdamAttnOutIdeal.τ).loc Cert.AdamAttnOutIdeal.main_arg0)
      ∧ r.2.mem ((c.tc : Thread Cert.AdamAttnOutIdeal.nD Cert.AdamAttnOutIdeal.τ).loc Cert.AdamAttnOutIdeal.main_arg1) = m ((c.tc : Thread Cert.AdamAttnOutIdeal.nD Cert.AdamAttnOutIdeal.τ).loc Cert.AdamAttnOutIdeal.main_arg1)
      ∧ r.2.mem ((c.tc : Thread Cert.AdamAttnOutIdeal.nD Cert.AdamAttnOutIdeal.τ).loc Cert.AdamAttnOutIdeal.main_arg2) = m ((c.tc : Thread Cert.AdamAttnOutIdeal.nD Cert.AdamAttnOutIdeal.τ).loc Cert.AdamAttnOutIdeal.main_arg2)
      ∧ r.2.mem ((c.tc : Thread Cert.AdamAttnOutIdeal.nD Cert.AdamAttnOutIdeal.τ).loc Cert.AdamAttnOutIdeal.main_arg3) = m ((c.tc : Thread Cert.AdamAttnOutIdeal.nD Cert.AdamAttnOutIdeal.τ).loc Cert.AdamAttnOutIdeal.main_arg3)
      ∧ r.2.mem ((c.tc : Thread Cert.AdamAttnOutIdeal.nD Cert.AdamAttnOutIdeal.τ).loc Cert.AdamAttnOutIdeal.main_arg4) = m ((c.tc : Thread Cert.AdamAttnOutIdeal.nD Cert.AdamAttnOutIdeal.τ).loc Cert.AdamAttnOutIdeal.main_arg4)
      ∧ r.2.mem ((c.tc : Thread Cert.AdamAttnOutIdeal.nD Cert.AdamAttnOutIdeal.τ).loc Cert.AdamAttnOutIdeal.main_arg5) = m ((c.tc : Thread Cert.AdamAttnOutIdeal.nD Cert.AdamAttnOutIdeal.τ).loc Cert.AdamAttnOutIdeal.main_arg5)
      ∧ r.2.mem ((c.tc : Thread Cert.AdamAttnOutIdeal.nD Cert.AdamAttnOutIdeal.τ).loc Cert.AdamAttnOutIdeal.main_arg6) = m ((c.tc : Thread Cert.AdamAttnOutIdeal.nD Cert.AdamAttnOutIdeal.τ).loc Cert.AdamAttnOutIdeal.main_arg6))
      ∧ r.2.sem = fun _ => 0)

def quiescent_RefAdamAttnOutIdeal [hRefAdamAttnOutIdeal : Cert.RefAdamAttnOutIdeal.Facts] : Prop :=
  ∀ (m : (ℓ : Loc Cert.RefAdamAttnOutIdeal.nD Cert.RefAdamAttnOutIdeal.τ Cert.RefAdamAttnOutIdeal.sig) → Buf (Elt Ideal) ℓ) (g : Dev Cert.RefAdamAttnOutIdeal.nD → PrngReg), Pre_RefAdamAttnOutIdeal m →
    θ_run (Cert.RefAdamAttnOutIdeal.defs (F := Ideal)) (onTc (τ := Cert.RefAdamAttnOutIdeal.τ) (Cert.RefAdamAttnOutIdeal.main (F := Ideal))) ⟨m, fun _ => 0, g⟩ (fun r => (∀ c : Dev Cert.RefAdamAttnOutIdeal.nD,
      r.2.mem ((c.tc : Thread Cert.RefAdamAttnOutIdeal.nD Cert.RefAdamAttnOutIdeal.τ).loc Cert.RefAdamAttnOutIdeal.main_arg0) = m ((c.tc : Thread Cert.RefAdamAttnOutIdeal.nD Cert.RefAdamAttnOutIdeal.τ).loc Cert.RefAdamAttnOutIdeal.main_arg0)
      ∧ r.2.mem ((c.tc : Thread Cert.RefAdamAttnOutIdeal.nD Cert.RefAdamAttnOutIdeal.τ).loc Cert.RefAdamAttnOutIdeal.main_arg1) = m ((c.tc : Thread Cert.RefAdamAttnOutIdeal.nD Cert.RefAdamAttnOutIdeal.τ).loc Cert.RefAdamAttnOutIdeal.main_arg1)
      ∧ r.2.mem ((c.tc : Thread Cert.RefAdamAttnOutIdeal.nD Cert.RefAdamAttnOutIdeal.τ).loc Cert.RefAdamAttnOutIdeal.main_arg2) = m ((c.tc : Thread Cert.RefAdamAttnOutIdeal.nD Cert.RefAdamAttnOutIdeal.τ).loc Cert.RefAdamAttnOutIdeal.main_arg2)
      ∧ r.2.mem ((c.tc : Thread Cert.RefAdamAttnOutIdeal.nD Cert.RefAdamAttnOutIdeal.τ).loc Cert.RefAdamAttnOutIdeal.main_arg3) = m ((c.tc : Thread Cert.RefAdamAttnOutIdeal.nD Cert.RefAdamAttnOutIdeal.τ).loc Cert.RefAdamAttnOutIdeal.main_arg3)
      ∧ r.2.mem ((c.tc : Thread Cert.RefAdamAttnOutIdeal.nD Cert.RefAdamAttnOutIdeal.τ).loc Cert.RefAdamAttnOutIdeal.main_arg4) = m ((c.tc : Thread Cert.RefAdamAttnOutIdeal.nD Cert.RefAdamAttnOutIdeal.τ).loc Cert.RefAdamAttnOutIdeal.main_arg4)
      ∧ r.2.mem ((c.tc : Thread Cert.RefAdamAttnOutIdeal.nD Cert.RefAdamAttnOutIdeal.τ).loc Cert.RefAdamAttnOutIdeal.main_arg5) = m ((c.tc : Thread Cert.RefAdamAttnOutIdeal.nD Cert.RefAdamAttnOutIdeal.τ).loc Cert.RefAdamAttnOutIdeal.main_arg5)
      ∧ r.2.mem ((c.tc : Thread Cert.RefAdamAttnOutIdeal.nD Cert.RefAdamAttnOutIdeal.τ).loc Cert.RefAdamAttnOutIdeal.main_arg6) = m ((c.tc : Thread Cert.RefAdamAttnOutIdeal.nD Cert.RefAdamAttnOutIdeal.τ).loc Cert.RefAdamAttnOutIdeal.main_arg6))
      ∧ r.2.sem = fun _ => 0)

def quiescent_AdamMixOut [hAdamMixOut : Cert.AdamMixOut.Facts] : Prop :=
  ∀ (m : (ℓ : Loc Cert.AdamMixOut.nD Cert.AdamMixOut.τ Cert.AdamMixOut.sig) → Buf (Elt Bits) ℓ) (g : Dev Cert.AdamMixOut.nD → PrngReg), Pre_AdamMixOut m →
    θ_run (Cert.AdamMixOut.defs (F := Bits)) (onTc (τ := Cert.AdamMixOut.τ) (Cert.AdamMixOut.main (F := Bits))) ⟨m, fun _ => 0, g⟩ (fun r => (∀ c : Dev Cert.AdamMixOut.nD,
      r.2.mem ((c.tc : Thread Cert.AdamMixOut.nD Cert.AdamMixOut.τ).loc Cert.AdamMixOut.main_arg0) = m ((c.tc : Thread Cert.AdamMixOut.nD Cert.AdamMixOut.τ).loc Cert.AdamMixOut.main_arg0)
      ∧ r.2.mem ((c.tc : Thread Cert.AdamMixOut.nD Cert.AdamMixOut.τ).loc Cert.AdamMixOut.main_arg1) = m ((c.tc : Thread Cert.AdamMixOut.nD Cert.AdamMixOut.τ).loc Cert.AdamMixOut.main_arg1)
      ∧ r.2.mem ((c.tc : Thread Cert.AdamMixOut.nD Cert.AdamMixOut.τ).loc Cert.AdamMixOut.main_arg2) = m ((c.tc : Thread Cert.AdamMixOut.nD Cert.AdamMixOut.τ).loc Cert.AdamMixOut.main_arg2)
      ∧ r.2.mem ((c.tc : Thread Cert.AdamMixOut.nD Cert.AdamMixOut.τ).loc Cert.AdamMixOut.main_arg3) = m ((c.tc : Thread Cert.AdamMixOut.nD Cert.AdamMixOut.τ).loc Cert.AdamMixOut.main_arg3)
      ∧ r.2.mem ((c.tc : Thread Cert.AdamMixOut.nD Cert.AdamMixOut.τ).loc Cert.AdamMixOut.main_arg4) = m ((c.tc : Thread Cert.AdamMixOut.nD Cert.AdamMixOut.τ).loc Cert.AdamMixOut.main_arg4)
      ∧ r.2.mem ((c.tc : Thread Cert.AdamMixOut.nD Cert.AdamMixOut.τ).loc Cert.AdamMixOut.main_arg5) = m ((c.tc : Thread Cert.AdamMixOut.nD Cert.AdamMixOut.τ).loc Cert.AdamMixOut.main_arg5)
      ∧ r.2.mem ((c.tc : Thread Cert.AdamMixOut.nD Cert.AdamMixOut.τ).loc Cert.AdamMixOut.main_arg6) = m ((c.tc : Thread Cert.AdamMixOut.nD Cert.AdamMixOut.τ).loc Cert.AdamMixOut.main_arg6))
      ∧ r.2.sem = fun _ => 0)

def quiescent_AdamMixOutIdeal [hAdamMixOutIdeal : Cert.AdamMixOutIdeal.Facts] : Prop :=
  ∀ (m : (ℓ : Loc Cert.AdamMixOutIdeal.nD Cert.AdamMixOutIdeal.τ Cert.AdamMixOutIdeal.sig) → Buf (Elt Ideal) ℓ) (g : Dev Cert.AdamMixOutIdeal.nD → PrngReg), Pre_AdamMixOutIdeal m →
    θ_run (Cert.AdamMixOutIdeal.defs (F := Ideal)) (onTc (τ := Cert.AdamMixOutIdeal.τ) (Cert.AdamMixOutIdeal.main (F := Ideal))) ⟨m, fun _ => 0, g⟩ (fun r => (∀ c : Dev Cert.AdamMixOutIdeal.nD,
      r.2.mem ((c.tc : Thread Cert.AdamMixOutIdeal.nD Cert.AdamMixOutIdeal.τ).loc Cert.AdamMixOutIdeal.main_arg0) = m ((c.tc : Thread Cert.AdamMixOutIdeal.nD Cert.AdamMixOutIdeal.τ).loc Cert.AdamMixOutIdeal.main_arg0)
      ∧ r.2.mem ((c.tc : Thread Cert.AdamMixOutIdeal.nD Cert.AdamMixOutIdeal.τ).loc Cert.AdamMixOutIdeal.main_arg1) = m ((c.tc : Thread Cert.AdamMixOutIdeal.nD Cert.AdamMixOutIdeal.τ).loc Cert.AdamMixOutIdeal.main_arg1)
      ∧ r.2.mem ((c.tc : Thread Cert.AdamMixOutIdeal.nD Cert.AdamMixOutIdeal.τ).loc Cert.AdamMixOutIdeal.main_arg2) = m ((c.tc : Thread Cert.AdamMixOutIdeal.nD Cert.AdamMixOutIdeal.τ).loc Cert.AdamMixOutIdeal.main_arg2)
      ∧ r.2.mem ((c.tc : Thread Cert.AdamMixOutIdeal.nD Cert.AdamMixOutIdeal.τ).loc Cert.AdamMixOutIdeal.main_arg3) = m ((c.tc : Thread Cert.AdamMixOutIdeal.nD Cert.AdamMixOutIdeal.τ).loc Cert.AdamMixOutIdeal.main_arg3)
      ∧ r.2.mem ((c.tc : Thread Cert.AdamMixOutIdeal.nD Cert.AdamMixOutIdeal.τ).loc Cert.AdamMixOutIdeal.main_arg4) = m ((c.tc : Thread Cert.AdamMixOutIdeal.nD Cert.AdamMixOutIdeal.τ).loc Cert.AdamMixOutIdeal.main_arg4)
      ∧ r.2.mem ((c.tc : Thread Cert.AdamMixOutIdeal.nD Cert.AdamMixOutIdeal.τ).loc Cert.AdamMixOutIdeal.main_arg5) = m ((c.tc : Thread Cert.AdamMixOutIdeal.nD Cert.AdamMixOutIdeal.τ).loc Cert.AdamMixOutIdeal.main_arg5)
      ∧ r.2.mem ((c.tc : Thread Cert.AdamMixOutIdeal.nD Cert.AdamMixOutIdeal.τ).loc Cert.AdamMixOutIdeal.main_arg6) = m ((c.tc : Thread Cert.AdamMixOutIdeal.nD Cert.AdamMixOutIdeal.τ).loc Cert.AdamMixOutIdeal.main_arg6))
      ∧ r.2.sem = fun _ => 0)

def quiescent_RefAdamMixOutIdeal [hRefAdamMixOutIdeal : Cert.RefAdamMixOutIdeal.Facts] : Prop :=
  ∀ (m : (ℓ : Loc Cert.RefAdamMixOutIdeal.nD Cert.RefAdamMixOutIdeal.τ Cert.RefAdamMixOutIdeal.sig) → Buf (Elt Ideal) ℓ) (g : Dev Cert.RefAdamMixOutIdeal.nD → PrngReg), Pre_RefAdamMixOutIdeal m →
    θ_run (Cert.RefAdamMixOutIdeal.defs (F := Ideal)) (onTc (τ := Cert.RefAdamMixOutIdeal.τ) (Cert.RefAdamMixOutIdeal.main (F := Ideal))) ⟨m, fun _ => 0, g⟩ (fun r => (∀ c : Dev Cert.RefAdamMixOutIdeal.nD,
      r.2.mem ((c.tc : Thread Cert.RefAdamMixOutIdeal.nD Cert.RefAdamMixOutIdeal.τ).loc Cert.RefAdamMixOutIdeal.main_arg0) = m ((c.tc : Thread Cert.RefAdamMixOutIdeal.nD Cert.RefAdamMixOutIdeal.τ).loc Cert.RefAdamMixOutIdeal.main_arg0)
      ∧ r.2.mem ((c.tc : Thread Cert.RefAdamMixOutIdeal.nD Cert.RefAdamMixOutIdeal.τ).loc Cert.RefAdamMixOutIdeal.main_arg1) = m ((c.tc : Thread Cert.RefAdamMixOutIdeal.nD Cert.RefAdamMixOutIdeal.τ).loc Cert.RefAdamMixOutIdeal.main_arg1)
      ∧ r.2.mem ((c.tc : Thread Cert.RefAdamMixOutIdeal.nD Cert.RefAdamMixOutIdeal.τ).loc Cert.RefAdamMixOutIdeal.main_arg2) = m ((c.tc : Thread Cert.RefAdamMixOutIdeal.nD Cert.RefAdamMixOutIdeal.τ).loc Cert.RefAdamMixOutIdeal.main_arg2)
      ∧ r.2.mem ((c.tc : Thread Cert.RefAdamMixOutIdeal.nD Cert.RefAdamMixOutIdeal.τ).loc Cert.RefAdamMixOutIdeal.main_arg3) = m ((c.tc : Thread Cert.RefAdamMixOutIdeal.nD Cert.RefAdamMixOutIdeal.τ).loc Cert.RefAdamMixOutIdeal.main_arg3)
      ∧ r.2.mem ((c.tc : Thread Cert.RefAdamMixOutIdeal.nD Cert.RefAdamMixOutIdeal.τ).loc Cert.RefAdamMixOutIdeal.main_arg4) = m ((c.tc : Thread Cert.RefAdamMixOutIdeal.nD Cert.RefAdamMixOutIdeal.τ).loc Cert.RefAdamMixOutIdeal.main_arg4)
      ∧ r.2.mem ((c.tc : Thread Cert.RefAdamMixOutIdeal.nD Cert.RefAdamMixOutIdeal.τ).loc Cert.RefAdamMixOutIdeal.main_arg5) = m ((c.tc : Thread Cert.RefAdamMixOutIdeal.nD Cert.RefAdamMixOutIdeal.τ).loc Cert.RefAdamMixOutIdeal.main_arg5)
      ∧ r.2.mem ((c.tc : Thread Cert.RefAdamMixOutIdeal.nD Cert.RefAdamMixOutIdeal.τ).loc Cert.RefAdamMixOutIdeal.main_arg6) = m ((c.tc : Thread Cert.RefAdamMixOutIdeal.nD Cert.RefAdamMixOutIdeal.τ).loc Cert.RefAdamMixOutIdeal.main_arg6))
      ∧ r.2.sem = fun _ => 0)

def quiescent_AdamXo [hAdamXo : Cert.AdamXo.Facts] : Prop :=
  ∀ (m : (ℓ : Loc Cert.AdamXo.nD Cert.AdamXo.τ Cert.AdamXo.sig) → Buf (Elt Bits) ℓ) (g : Dev Cert.AdamXo.nD → PrngReg), Pre_AdamXo m →
    θ_run (Cert.AdamXo.defs (F := Bits)) (onTc (τ := Cert.AdamXo.τ) (Cert.AdamXo.main (F := Bits))) ⟨m, fun _ => 0, g⟩ (fun r => (∀ c : Dev Cert.AdamXo.nD,
      r.2.mem ((c.tc : Thread Cert.AdamXo.nD Cert.AdamXo.τ).loc Cert.AdamXo.main_arg0) = m ((c.tc : Thread Cert.AdamXo.nD Cert.AdamXo.τ).loc Cert.AdamXo.main_arg0)
      ∧ r.2.mem ((c.tc : Thread Cert.AdamXo.nD Cert.AdamXo.τ).loc Cert.AdamXo.main_arg1) = m ((c.tc : Thread Cert.AdamXo.nD Cert.AdamXo.τ).loc Cert.AdamXo.main_arg1)
      ∧ r.2.mem ((c.tc : Thread Cert.AdamXo.nD Cert.AdamXo.τ).loc Cert.AdamXo.main_arg2) = m ((c.tc : Thread Cert.AdamXo.nD Cert.AdamXo.τ).loc Cert.AdamXo.main_arg2)
      ∧ r.2.mem ((c.tc : Thread Cert.AdamXo.nD Cert.AdamXo.τ).loc Cert.AdamXo.main_arg3) = m ((c.tc : Thread Cert.AdamXo.nD Cert.AdamXo.τ).loc Cert.AdamXo.main_arg3)
      ∧ r.2.mem ((c.tc : Thread Cert.AdamXo.nD Cert.AdamXo.τ).loc Cert.AdamXo.main_arg4) = m ((c.tc : Thread Cert.AdamXo.nD Cert.AdamXo.τ).loc Cert.AdamXo.main_arg4)
      ∧ r.2.mem ((c.tc : Thread Cert.AdamXo.nD Cert.AdamXo.τ).loc Cert.AdamXo.main_arg5) = m ((c.tc : Thread Cert.AdamXo.nD Cert.AdamXo.τ).loc Cert.AdamXo.main_arg5)
      ∧ r.2.mem ((c.tc : Thread Cert.AdamXo.nD Cert.AdamXo.τ).loc Cert.AdamXo.main_arg6) = m ((c.tc : Thread Cert.AdamXo.nD Cert.AdamXo.τ).loc Cert.AdamXo.main_arg6))
      ∧ r.2.sem = fun _ => 0)

def quiescent_AdamXoIdeal [hAdamXoIdeal : Cert.AdamXoIdeal.Facts] : Prop :=
  ∀ (m : (ℓ : Loc Cert.AdamXoIdeal.nD Cert.AdamXoIdeal.τ Cert.AdamXoIdeal.sig) → Buf (Elt Ideal) ℓ) (g : Dev Cert.AdamXoIdeal.nD → PrngReg), Pre_AdamXoIdeal m →
    θ_run (Cert.AdamXoIdeal.defs (F := Ideal)) (onTc (τ := Cert.AdamXoIdeal.τ) (Cert.AdamXoIdeal.main (F := Ideal))) ⟨m, fun _ => 0, g⟩ (fun r => (∀ c : Dev Cert.AdamXoIdeal.nD,
      r.2.mem ((c.tc : Thread Cert.AdamXoIdeal.nD Cert.AdamXoIdeal.τ).loc Cert.AdamXoIdeal.main_arg0) = m ((c.tc : Thread Cert.AdamXoIdeal.nD Cert.AdamXoIdeal.τ).loc Cert.AdamXoIdeal.main_arg0)
      ∧ r.2.mem ((c.tc : Thread Cert.AdamXoIdeal.nD Cert.AdamXoIdeal.τ).loc Cert.AdamXoIdeal.main_arg1) = m ((c.tc : Thread Cert.AdamXoIdeal.nD Cert.AdamXoIdeal.τ).loc Cert.AdamXoIdeal.main_arg1)
      ∧ r.2.mem ((c.tc : Thread Cert.AdamXoIdeal.nD Cert.AdamXoIdeal.τ).loc Cert.AdamXoIdeal.main_arg2) = m ((c.tc : Thread Cert.AdamXoIdeal.nD Cert.AdamXoIdeal.τ).loc Cert.AdamXoIdeal.main_arg2)
      ∧ r.2.mem ((c.tc : Thread Cert.AdamXoIdeal.nD Cert.AdamXoIdeal.τ).loc Cert.AdamXoIdeal.main_arg3) = m ((c.tc : Thread Cert.AdamXoIdeal.nD Cert.AdamXoIdeal.τ).loc Cert.AdamXoIdeal.main_arg3)
      ∧ r.2.mem ((c.tc : Thread Cert.AdamXoIdeal.nD Cert.AdamXoIdeal.τ).loc Cert.AdamXoIdeal.main_arg4) = m ((c.tc : Thread Cert.AdamXoIdeal.nD Cert.AdamXoIdeal.τ).loc Cert.AdamXoIdeal.main_arg4)
      ∧ r.2.mem ((c.tc : Thread Cert.AdamXoIdeal.nD Cert.AdamXoIdeal.τ).loc Cert.AdamXoIdeal.main_arg5) = m ((c.tc : Thread Cert.AdamXoIdeal.nD Cert.AdamXoIdeal.τ).loc Cert.AdamXoIdeal.main_arg5)
      ∧ r.2.mem ((c.tc : Thread Cert.AdamXoIdeal.nD Cert.AdamXoIdeal.τ).loc Cert.AdamXoIdeal.main_arg6) = m ((c.tc : Thread Cert.AdamXoIdeal.nD Cert.AdamXoIdeal.τ).loc Cert.AdamXoIdeal.main_arg6))
      ∧ r.2.sem = fun _ => 0)

def quiescent_RefAdamXoIdeal [hRefAdamXoIdeal : Cert.RefAdamXoIdeal.Facts] : Prop :=
  ∀ (m : (ℓ : Loc Cert.RefAdamXoIdeal.nD Cert.RefAdamXoIdeal.τ Cert.RefAdamXoIdeal.sig) → Buf (Elt Ideal) ℓ) (g : Dev Cert.RefAdamXoIdeal.nD → PrngReg), Pre_RefAdamXoIdeal m →
    θ_run (Cert.RefAdamXoIdeal.defs (F := Ideal)) (onTc (τ := Cert.RefAdamXoIdeal.τ) (Cert.RefAdamXoIdeal.main (F := Ideal))) ⟨m, fun _ => 0, g⟩ (fun r => (∀ c : Dev Cert.RefAdamXoIdeal.nD,
      r.2.mem ((c.tc : Thread Cert.RefAdamXoIdeal.nD Cert.RefAdamXoIdeal.τ).loc Cert.RefAdamXoIdeal.main_arg0) = m ((c.tc : Thread Cert.RefAdamXoIdeal.nD Cert.RefAdamXoIdeal.τ).loc Cert.RefAdamXoIdeal.main_arg0)
      ∧ r.2.mem ((c.tc : Thread Cert.RefAdamXoIdeal.nD Cert.RefAdamXoIdeal.τ).loc Cert.RefAdamXoIdeal.main_arg1) = m ((c.tc : Thread Cert.RefAdamXoIdeal.nD Cert.RefAdamXoIdeal.τ).loc Cert.RefAdamXoIdeal.main_arg1)
      ∧ r.2.mem ((c.tc : Thread Cert.RefAdamXoIdeal.nD Cert.RefAdamXoIdeal.τ).loc Cert.RefAdamXoIdeal.main_arg2) = m ((c.tc : Thread Cert.RefAdamXoIdeal.nD Cert.RefAdamXoIdeal.τ).loc Cert.RefAdamXoIdeal.main_arg2)
      ∧ r.2.mem ((c.tc : Thread Cert.RefAdamXoIdeal.nD Cert.RefAdamXoIdeal.τ).loc Cert.RefAdamXoIdeal.main_arg3) = m ((c.tc : Thread Cert.RefAdamXoIdeal.nD Cert.RefAdamXoIdeal.τ).loc Cert.RefAdamXoIdeal.main_arg3)
      ∧ r.2.mem ((c.tc : Thread Cert.RefAdamXoIdeal.nD Cert.RefAdamXoIdeal.τ).loc Cert.RefAdamXoIdeal.main_arg4) = m ((c.tc : Thread Cert.RefAdamXoIdeal.nD Cert.RefAdamXoIdeal.τ).loc Cert.RefAdamXoIdeal.main_arg4)
      ∧ r.2.mem ((c.tc : Thread Cert.RefAdamXoIdeal.nD Cert.RefAdamXoIdeal.τ).loc Cert.RefAdamXoIdeal.main_arg5) = m ((c.tc : Thread Cert.RefAdamXoIdeal.nD Cert.RefAdamXoIdeal.τ).loc Cert.RefAdamXoIdeal.main_arg5)
      ∧ r.2.mem ((c.tc : Thread Cert.RefAdamXoIdeal.nD Cert.RefAdamXoIdeal.τ).loc Cert.RefAdamXoIdeal.main_arg6) = m ((c.tc : Thread Cert.RefAdamXoIdeal.nD Cert.RefAdamXoIdeal.τ).loc Cert.RefAdamXoIdeal.main_arg6))
      ∧ r.2.sem = fun _ => 0)

def quiescent_AdamSsdOut [hAdamSsdOut : Cert.AdamSsdOut.Facts] : Prop :=
  ∀ (m : (ℓ : Loc Cert.AdamSsdOut.nD Cert.AdamSsdOut.τ Cert.AdamSsdOut.sig) → Buf (Elt Bits) ℓ) (g : Dev Cert.AdamSsdOut.nD → PrngReg), Pre_AdamSsdOut m →
    θ_run (Cert.AdamSsdOut.defs (F := Bits)) (onTc (τ := Cert.AdamSsdOut.τ) (Cert.AdamSsdOut.main (F := Bits))) ⟨m, fun _ => 0, g⟩ (fun r => (∀ c : Dev Cert.AdamSsdOut.nD,
      r.2.mem ((c.tc : Thread Cert.AdamSsdOut.nD Cert.AdamSsdOut.τ).loc Cert.AdamSsdOut.main_arg0) = m ((c.tc : Thread Cert.AdamSsdOut.nD Cert.AdamSsdOut.τ).loc Cert.AdamSsdOut.main_arg0)
      ∧ r.2.mem ((c.tc : Thread Cert.AdamSsdOut.nD Cert.AdamSsdOut.τ).loc Cert.AdamSsdOut.main_arg1) = m ((c.tc : Thread Cert.AdamSsdOut.nD Cert.AdamSsdOut.τ).loc Cert.AdamSsdOut.main_arg1)
      ∧ r.2.mem ((c.tc : Thread Cert.AdamSsdOut.nD Cert.AdamSsdOut.τ).loc Cert.AdamSsdOut.main_arg2) = m ((c.tc : Thread Cert.AdamSsdOut.nD Cert.AdamSsdOut.τ).loc Cert.AdamSsdOut.main_arg2)
      ∧ r.2.mem ((c.tc : Thread Cert.AdamSsdOut.nD Cert.AdamSsdOut.τ).loc Cert.AdamSsdOut.main_arg3) = m ((c.tc : Thread Cert.AdamSsdOut.nD Cert.AdamSsdOut.τ).loc Cert.AdamSsdOut.main_arg3)
      ∧ r.2.mem ((c.tc : Thread Cert.AdamSsdOut.nD Cert.AdamSsdOut.τ).loc Cert.AdamSsdOut.main_arg4) = m ((c.tc : Thread Cert.AdamSsdOut.nD Cert.AdamSsdOut.τ).loc Cert.AdamSsdOut.main_arg4)
      ∧ r.2.mem ((c.tc : Thread Cert.AdamSsdOut.nD Cert.AdamSsdOut.τ).loc Cert.AdamSsdOut.main_arg5) = m ((c.tc : Thread Cert.AdamSsdOut.nD Cert.AdamSsdOut.τ).loc Cert.AdamSsdOut.main_arg5)
      ∧ r.2.mem ((c.tc : Thread Cert.AdamSsdOut.nD Cert.AdamSsdOut.τ).loc Cert.AdamSsdOut.main_arg6) = m ((c.tc : Thread Cert.AdamSsdOut.nD Cert.AdamSsdOut.τ).loc Cert.AdamSsdOut.main_arg6))
      ∧ r.2.sem = fun _ => 0)

def quiescent_AdamSsdOutIdeal [hAdamSsdOutIdeal : Cert.AdamSsdOutIdeal.Facts] : Prop :=
  ∀ (m : (ℓ : Loc Cert.AdamSsdOutIdeal.nD Cert.AdamSsdOutIdeal.τ Cert.AdamSsdOutIdeal.sig) → Buf (Elt Ideal) ℓ) (g : Dev Cert.AdamSsdOutIdeal.nD → PrngReg), Pre_AdamSsdOutIdeal m →
    θ_run (Cert.AdamSsdOutIdeal.defs (F := Ideal)) (onTc (τ := Cert.AdamSsdOutIdeal.τ) (Cert.AdamSsdOutIdeal.main (F := Ideal))) ⟨m, fun _ => 0, g⟩ (fun r => (∀ c : Dev Cert.AdamSsdOutIdeal.nD,
      r.2.mem ((c.tc : Thread Cert.AdamSsdOutIdeal.nD Cert.AdamSsdOutIdeal.τ).loc Cert.AdamSsdOutIdeal.main_arg0) = m ((c.tc : Thread Cert.AdamSsdOutIdeal.nD Cert.AdamSsdOutIdeal.τ).loc Cert.AdamSsdOutIdeal.main_arg0)
      ∧ r.2.mem ((c.tc : Thread Cert.AdamSsdOutIdeal.nD Cert.AdamSsdOutIdeal.τ).loc Cert.AdamSsdOutIdeal.main_arg1) = m ((c.tc : Thread Cert.AdamSsdOutIdeal.nD Cert.AdamSsdOutIdeal.τ).loc Cert.AdamSsdOutIdeal.main_arg1)
      ∧ r.2.mem ((c.tc : Thread Cert.AdamSsdOutIdeal.nD Cert.AdamSsdOutIdeal.τ).loc Cert.AdamSsdOutIdeal.main_arg2) = m ((c.tc : Thread Cert.AdamSsdOutIdeal.nD Cert.AdamSsdOutIdeal.τ).loc Cert.AdamSsdOutIdeal.main_arg2)
      ∧ r.2.mem ((c.tc : Thread Cert.AdamSsdOutIdeal.nD Cert.AdamSsdOutIdeal.τ).loc Cert.AdamSsdOutIdeal.main_arg3) = m ((c.tc : Thread Cert.AdamSsdOutIdeal.nD Cert.AdamSsdOutIdeal.τ).loc Cert.AdamSsdOutIdeal.main_arg3)
      ∧ r.2.mem ((c.tc : Thread Cert.AdamSsdOutIdeal.nD Cert.AdamSsdOutIdeal.τ).loc Cert.AdamSsdOutIdeal.main_arg4) = m ((c.tc : Thread Cert.AdamSsdOutIdeal.nD Cert.AdamSsdOutIdeal.τ).loc Cert.AdamSsdOutIdeal.main_arg4)
      ∧ r.2.mem ((c.tc : Thread Cert.AdamSsdOutIdeal.nD Cert.AdamSsdOutIdeal.τ).loc Cert.AdamSsdOutIdeal.main_arg5) = m ((c.tc : Thread Cert.AdamSsdOutIdeal.nD Cert.AdamSsdOutIdeal.τ).loc Cert.AdamSsdOutIdeal.main_arg5)
      ∧ r.2.mem ((c.tc : Thread Cert.AdamSsdOutIdeal.nD Cert.AdamSsdOutIdeal.τ).loc Cert.AdamSsdOutIdeal.main_arg6) = m ((c.tc : Thread Cert.AdamSsdOutIdeal.nD Cert.AdamSsdOutIdeal.τ).loc Cert.AdamSsdOutIdeal.main_arg6))
      ∧ r.2.sem = fun _ => 0)

def quiescent_RefAdamSsdOutIdeal [hRefAdamSsdOutIdeal : Cert.RefAdamSsdOutIdeal.Facts] : Prop :=
  ∀ (m : (ℓ : Loc Cert.RefAdamSsdOutIdeal.nD Cert.RefAdamSsdOutIdeal.τ Cert.RefAdamSsdOutIdeal.sig) → Buf (Elt Ideal) ℓ) (g : Dev Cert.RefAdamSsdOutIdeal.nD → PrngReg), Pre_RefAdamSsdOutIdeal m →
    θ_run (Cert.RefAdamSsdOutIdeal.defs (F := Ideal)) (onTc (τ := Cert.RefAdamSsdOutIdeal.τ) (Cert.RefAdamSsdOutIdeal.main (F := Ideal))) ⟨m, fun _ => 0, g⟩ (fun r => (∀ c : Dev Cert.RefAdamSsdOutIdeal.nD,
      r.2.mem ((c.tc : Thread Cert.RefAdamSsdOutIdeal.nD Cert.RefAdamSsdOutIdeal.τ).loc Cert.RefAdamSsdOutIdeal.main_arg0) = m ((c.tc : Thread Cert.RefAdamSsdOutIdeal.nD Cert.RefAdamSsdOutIdeal.τ).loc Cert.RefAdamSsdOutIdeal.main_arg0)
      ∧ r.2.mem ((c.tc : Thread Cert.RefAdamSsdOutIdeal.nD Cert.RefAdamSsdOutIdeal.τ).loc Cert.RefAdamSsdOutIdeal.main_arg1) = m ((c.tc : Thread Cert.RefAdamSsdOutIdeal.nD Cert.RefAdamSsdOutIdeal.τ).loc Cert.RefAdamSsdOutIdeal.main_arg1)
      ∧ r.2.mem ((c.tc : Thread Cert.RefAdamSsdOutIdeal.nD Cert.RefAdamSsdOutIdeal.τ).loc Cert.RefAdamSsdOutIdeal.main_arg2) = m ((c.tc : Thread Cert.RefAdamSsdOutIdeal.nD Cert.RefAdamSsdOutIdeal.τ).loc Cert.RefAdamSsdOutIdeal.main_arg2)
      ∧ r.2.mem ((c.tc : Thread Cert.RefAdamSsdOutIdeal.nD Cert.RefAdamSsdOutIdeal.τ).loc Cert.RefAdamSsdOutIdeal.main_arg3) = m ((c.tc : Thread Cert.RefAdamSsdOutIdeal.nD Cert.RefAdamSsdOutIdeal.τ).loc Cert.RefAdamSsdOutIdeal.main_arg3)
      ∧ r.2.mem ((c.tc : Thread Cert.RefAdamSsdOutIdeal.nD Cert.RefAdamSsdOutIdeal.τ).loc Cert.RefAdamSsdOutIdeal.main_arg4) = m ((c.tc : Thread Cert.RefAdamSsdOutIdeal.nD Cert.RefAdamSsdOutIdeal.τ).loc Cert.RefAdamSsdOutIdeal.main_arg4)
      ∧ r.2.mem ((c.tc : Thread Cert.RefAdamSsdOutIdeal.nD Cert.RefAdamSsdOutIdeal.τ).loc Cert.RefAdamSsdOutIdeal.main_arg5) = m ((c.tc : Thread Cert.RefAdamSsdOutIdeal.nD Cert.RefAdamSsdOutIdeal.τ).loc Cert.RefAdamSsdOutIdeal.main_arg5)
      ∧ r.2.mem ((c.tc : Thread Cert.RefAdamSsdOutIdeal.nD Cert.RefAdamSsdOutIdeal.τ).loc Cert.RefAdamSsdOutIdeal.main_arg6) = m ((c.tc : Thread Cert.RefAdamSsdOutIdeal.nD Cert.RefAdamSsdOutIdeal.τ).loc Cert.RefAdamSsdOutIdeal.main_arg6))
      ∧ r.2.sem = fun _ => 0)

def quiescent_AdamMlpUp [hAdamMlpUp : Cert.AdamMlpUp.Facts] : Prop :=
  ∀ (m : (ℓ : Loc Cert.AdamMlpUp.nD Cert.AdamMlpUp.τ Cert.AdamMlpUp.sig) → Buf (Elt Bits) ℓ) (g : Dev Cert.AdamMlpUp.nD → PrngReg), Pre_AdamMlpUp m →
    θ_run (Cert.AdamMlpUp.defs (F := Bits)) (onTc (τ := Cert.AdamMlpUp.τ) (Cert.AdamMlpUp.main (F := Bits))) ⟨m, fun _ => 0, g⟩ (fun r => (∀ c : Dev Cert.AdamMlpUp.nD,
      r.2.mem ((c.tc : Thread Cert.AdamMlpUp.nD Cert.AdamMlpUp.τ).loc Cert.AdamMlpUp.main_arg0) = m ((c.tc : Thread Cert.AdamMlpUp.nD Cert.AdamMlpUp.τ).loc Cert.AdamMlpUp.main_arg0)
      ∧ r.2.mem ((c.tc : Thread Cert.AdamMlpUp.nD Cert.AdamMlpUp.τ).loc Cert.AdamMlpUp.main_arg1) = m ((c.tc : Thread Cert.AdamMlpUp.nD Cert.AdamMlpUp.τ).loc Cert.AdamMlpUp.main_arg1)
      ∧ r.2.mem ((c.tc : Thread Cert.AdamMlpUp.nD Cert.AdamMlpUp.τ).loc Cert.AdamMlpUp.main_arg2) = m ((c.tc : Thread Cert.AdamMlpUp.nD Cert.AdamMlpUp.τ).loc Cert.AdamMlpUp.main_arg2)
      ∧ r.2.mem ((c.tc : Thread Cert.AdamMlpUp.nD Cert.AdamMlpUp.τ).loc Cert.AdamMlpUp.main_arg3) = m ((c.tc : Thread Cert.AdamMlpUp.nD Cert.AdamMlpUp.τ).loc Cert.AdamMlpUp.main_arg3)
      ∧ r.2.mem ((c.tc : Thread Cert.AdamMlpUp.nD Cert.AdamMlpUp.τ).loc Cert.AdamMlpUp.main_arg4) = m ((c.tc : Thread Cert.AdamMlpUp.nD Cert.AdamMlpUp.τ).loc Cert.AdamMlpUp.main_arg4)
      ∧ r.2.mem ((c.tc : Thread Cert.AdamMlpUp.nD Cert.AdamMlpUp.τ).loc Cert.AdamMlpUp.main_arg5) = m ((c.tc : Thread Cert.AdamMlpUp.nD Cert.AdamMlpUp.τ).loc Cert.AdamMlpUp.main_arg5)
      ∧ r.2.mem ((c.tc : Thread Cert.AdamMlpUp.nD Cert.AdamMlpUp.τ).loc Cert.AdamMlpUp.main_arg6) = m ((c.tc : Thread Cert.AdamMlpUp.nD Cert.AdamMlpUp.τ).loc Cert.AdamMlpUp.main_arg6))
      ∧ r.2.sem = fun _ => 0)

def quiescent_AdamMlpUpIdeal [hAdamMlpUpIdeal : Cert.AdamMlpUpIdeal.Facts] : Prop :=
  ∀ (m : (ℓ : Loc Cert.AdamMlpUpIdeal.nD Cert.AdamMlpUpIdeal.τ Cert.AdamMlpUpIdeal.sig) → Buf (Elt Ideal) ℓ) (g : Dev Cert.AdamMlpUpIdeal.nD → PrngReg), Pre_AdamMlpUpIdeal m →
    θ_run (Cert.AdamMlpUpIdeal.defs (F := Ideal)) (onTc (τ := Cert.AdamMlpUpIdeal.τ) (Cert.AdamMlpUpIdeal.main (F := Ideal))) ⟨m, fun _ => 0, g⟩ (fun r => (∀ c : Dev Cert.AdamMlpUpIdeal.nD,
      r.2.mem ((c.tc : Thread Cert.AdamMlpUpIdeal.nD Cert.AdamMlpUpIdeal.τ).loc Cert.AdamMlpUpIdeal.main_arg0) = m ((c.tc : Thread Cert.AdamMlpUpIdeal.nD Cert.AdamMlpUpIdeal.τ).loc Cert.AdamMlpUpIdeal.main_arg0)
      ∧ r.2.mem ((c.tc : Thread Cert.AdamMlpUpIdeal.nD Cert.AdamMlpUpIdeal.τ).loc Cert.AdamMlpUpIdeal.main_arg1) = m ((c.tc : Thread Cert.AdamMlpUpIdeal.nD Cert.AdamMlpUpIdeal.τ).loc Cert.AdamMlpUpIdeal.main_arg1)
      ∧ r.2.mem ((c.tc : Thread Cert.AdamMlpUpIdeal.nD Cert.AdamMlpUpIdeal.τ).loc Cert.AdamMlpUpIdeal.main_arg2) = m ((c.tc : Thread Cert.AdamMlpUpIdeal.nD Cert.AdamMlpUpIdeal.τ).loc Cert.AdamMlpUpIdeal.main_arg2)
      ∧ r.2.mem ((c.tc : Thread Cert.AdamMlpUpIdeal.nD Cert.AdamMlpUpIdeal.τ).loc Cert.AdamMlpUpIdeal.main_arg3) = m ((c.tc : Thread Cert.AdamMlpUpIdeal.nD Cert.AdamMlpUpIdeal.τ).loc Cert.AdamMlpUpIdeal.main_arg3)
      ∧ r.2.mem ((c.tc : Thread Cert.AdamMlpUpIdeal.nD Cert.AdamMlpUpIdeal.τ).loc Cert.AdamMlpUpIdeal.main_arg4) = m ((c.tc : Thread Cert.AdamMlpUpIdeal.nD Cert.AdamMlpUpIdeal.τ).loc Cert.AdamMlpUpIdeal.main_arg4)
      ∧ r.2.mem ((c.tc : Thread Cert.AdamMlpUpIdeal.nD Cert.AdamMlpUpIdeal.τ).loc Cert.AdamMlpUpIdeal.main_arg5) = m ((c.tc : Thread Cert.AdamMlpUpIdeal.nD Cert.AdamMlpUpIdeal.τ).loc Cert.AdamMlpUpIdeal.main_arg5)
      ∧ r.2.mem ((c.tc : Thread Cert.AdamMlpUpIdeal.nD Cert.AdamMlpUpIdeal.τ).loc Cert.AdamMlpUpIdeal.main_arg6) = m ((c.tc : Thread Cert.AdamMlpUpIdeal.nD Cert.AdamMlpUpIdeal.τ).loc Cert.AdamMlpUpIdeal.main_arg6))
      ∧ r.2.sem = fun _ => 0)

def quiescent_RefAdamMlpUpIdeal [hRefAdamMlpUpIdeal : Cert.RefAdamMlpUpIdeal.Facts] : Prop :=
  ∀ (m : (ℓ : Loc Cert.RefAdamMlpUpIdeal.nD Cert.RefAdamMlpUpIdeal.τ Cert.RefAdamMlpUpIdeal.sig) → Buf (Elt Ideal) ℓ) (g : Dev Cert.RefAdamMlpUpIdeal.nD → PrngReg), Pre_RefAdamMlpUpIdeal m →
    θ_run (Cert.RefAdamMlpUpIdeal.defs (F := Ideal)) (onTc (τ := Cert.RefAdamMlpUpIdeal.τ) (Cert.RefAdamMlpUpIdeal.main (F := Ideal))) ⟨m, fun _ => 0, g⟩ (fun r => (∀ c : Dev Cert.RefAdamMlpUpIdeal.nD,
      r.2.mem ((c.tc : Thread Cert.RefAdamMlpUpIdeal.nD Cert.RefAdamMlpUpIdeal.τ).loc Cert.RefAdamMlpUpIdeal.main_arg0) = m ((c.tc : Thread Cert.RefAdamMlpUpIdeal.nD Cert.RefAdamMlpUpIdeal.τ).loc Cert.RefAdamMlpUpIdeal.main_arg0)
      ∧ r.2.mem ((c.tc : Thread Cert.RefAdamMlpUpIdeal.nD Cert.RefAdamMlpUpIdeal.τ).loc Cert.RefAdamMlpUpIdeal.main_arg1) = m ((c.tc : Thread Cert.RefAdamMlpUpIdeal.nD Cert.RefAdamMlpUpIdeal.τ).loc Cert.RefAdamMlpUpIdeal.main_arg1)
      ∧ r.2.mem ((c.tc : Thread Cert.RefAdamMlpUpIdeal.nD Cert.RefAdamMlpUpIdeal.τ).loc Cert.RefAdamMlpUpIdeal.main_arg2) = m ((c.tc : Thread Cert.RefAdamMlpUpIdeal.nD Cert.RefAdamMlpUpIdeal.τ).loc Cert.RefAdamMlpUpIdeal.main_arg2)
      ∧ r.2.mem ((c.tc : Thread Cert.RefAdamMlpUpIdeal.nD Cert.RefAdamMlpUpIdeal.τ).loc Cert.RefAdamMlpUpIdeal.main_arg3) = m ((c.tc : Thread Cert.RefAdamMlpUpIdeal.nD Cert.RefAdamMlpUpIdeal.τ).loc Cert.RefAdamMlpUpIdeal.main_arg3)
      ∧ r.2.mem ((c.tc : Thread Cert.RefAdamMlpUpIdeal.nD Cert.RefAdamMlpUpIdeal.τ).loc Cert.RefAdamMlpUpIdeal.main_arg4) = m ((c.tc : Thread Cert.RefAdamMlpUpIdeal.nD Cert.RefAdamMlpUpIdeal.τ).loc Cert.RefAdamMlpUpIdeal.main_arg4)
      ∧ r.2.mem ((c.tc : Thread Cert.RefAdamMlpUpIdeal.nD Cert.RefAdamMlpUpIdeal.τ).loc Cert.RefAdamMlpUpIdeal.main_arg5) = m ((c.tc : Thread Cert.RefAdamMlpUpIdeal.nD Cert.RefAdamMlpUpIdeal.τ).loc Cert.RefAdamMlpUpIdeal.main_arg5)
      ∧ r.2.mem ((c.tc : Thread Cert.RefAdamMlpUpIdeal.nD Cert.RefAdamMlpUpIdeal.τ).loc Cert.RefAdamMlpUpIdeal.main_arg6) = m ((c.tc : Thread Cert.RefAdamMlpUpIdeal.nD Cert.RefAdamMlpUpIdeal.τ).loc Cert.RefAdamMlpUpIdeal.main_arg6))
      ∧ r.2.sem = fun _ => 0)

def quiescent_AdamMlpDown [hAdamMlpDown : Cert.AdamMlpDown.Facts] : Prop :=
  ∀ (m : (ℓ : Loc Cert.AdamMlpDown.nD Cert.AdamMlpDown.τ Cert.AdamMlpDown.sig) → Buf (Elt Bits) ℓ) (g : Dev Cert.AdamMlpDown.nD → PrngReg), Pre_AdamMlpDown m →
    θ_run (Cert.AdamMlpDown.defs (F := Bits)) (onTc (τ := Cert.AdamMlpDown.τ) (Cert.AdamMlpDown.main (F := Bits))) ⟨m, fun _ => 0, g⟩ (fun r => (∀ c : Dev Cert.AdamMlpDown.nD,
      r.2.mem ((c.tc : Thread Cert.AdamMlpDown.nD Cert.AdamMlpDown.τ).loc Cert.AdamMlpDown.main_arg0) = m ((c.tc : Thread Cert.AdamMlpDown.nD Cert.AdamMlpDown.τ).loc Cert.AdamMlpDown.main_arg0)
      ∧ r.2.mem ((c.tc : Thread Cert.AdamMlpDown.nD Cert.AdamMlpDown.τ).loc Cert.AdamMlpDown.main_arg1) = m ((c.tc : Thread Cert.AdamMlpDown.nD Cert.AdamMlpDown.τ).loc Cert.AdamMlpDown.main_arg1)
      ∧ r.2.mem ((c.tc : Thread Cert.AdamMlpDown.nD Cert.AdamMlpDown.τ).loc Cert.AdamMlpDown.main_arg2) = m ((c.tc : Thread Cert.AdamMlpDown.nD Cert.AdamMlpDown.τ).loc Cert.AdamMlpDown.main_arg2)
      ∧ r.2.mem ((c.tc : Thread Cert.AdamMlpDown.nD Cert.AdamMlpDown.τ).loc Cert.AdamMlpDown.main_arg3) = m ((c.tc : Thread Cert.AdamMlpDown.nD Cert.AdamMlpDown.τ).loc Cert.AdamMlpDown.main_arg3)
      ∧ r.2.mem ((c.tc : Thread Cert.AdamMlpDown.nD Cert.AdamMlpDown.τ).loc Cert.AdamMlpDown.main_arg4) = m ((c.tc : Thread Cert.AdamMlpDown.nD Cert.AdamMlpDown.τ).loc Cert.AdamMlpDown.main_arg4)
      ∧ r.2.mem ((c.tc : Thread Cert.AdamMlpDown.nD Cert.AdamMlpDown.τ).loc Cert.AdamMlpDown.main_arg5) = m ((c.tc : Thread Cert.AdamMlpDown.nD Cert.AdamMlpDown.τ).loc Cert.AdamMlpDown.main_arg5)
      ∧ r.2.mem ((c.tc : Thread Cert.AdamMlpDown.nD Cert.AdamMlpDown.τ).loc Cert.AdamMlpDown.main_arg6) = m ((c.tc : Thread Cert.AdamMlpDown.nD Cert.AdamMlpDown.τ).loc Cert.AdamMlpDown.main_arg6))
      ∧ r.2.sem = fun _ => 0)

def quiescent_AdamMlpDownIdeal [hAdamMlpDownIdeal : Cert.AdamMlpDownIdeal.Facts] : Prop :=
  ∀ (m : (ℓ : Loc Cert.AdamMlpDownIdeal.nD Cert.AdamMlpDownIdeal.τ Cert.AdamMlpDownIdeal.sig) → Buf (Elt Ideal) ℓ) (g : Dev Cert.AdamMlpDownIdeal.nD → PrngReg), Pre_AdamMlpDownIdeal m →
    θ_run (Cert.AdamMlpDownIdeal.defs (F := Ideal)) (onTc (τ := Cert.AdamMlpDownIdeal.τ) (Cert.AdamMlpDownIdeal.main (F := Ideal))) ⟨m, fun _ => 0, g⟩ (fun r => (∀ c : Dev Cert.AdamMlpDownIdeal.nD,
      r.2.mem ((c.tc : Thread Cert.AdamMlpDownIdeal.nD Cert.AdamMlpDownIdeal.τ).loc Cert.AdamMlpDownIdeal.main_arg0) = m ((c.tc : Thread Cert.AdamMlpDownIdeal.nD Cert.AdamMlpDownIdeal.τ).loc Cert.AdamMlpDownIdeal.main_arg0)
      ∧ r.2.mem ((c.tc : Thread Cert.AdamMlpDownIdeal.nD Cert.AdamMlpDownIdeal.τ).loc Cert.AdamMlpDownIdeal.main_arg1) = m ((c.tc : Thread Cert.AdamMlpDownIdeal.nD Cert.AdamMlpDownIdeal.τ).loc Cert.AdamMlpDownIdeal.main_arg1)
      ∧ r.2.mem ((c.tc : Thread Cert.AdamMlpDownIdeal.nD Cert.AdamMlpDownIdeal.τ).loc Cert.AdamMlpDownIdeal.main_arg2) = m ((c.tc : Thread Cert.AdamMlpDownIdeal.nD Cert.AdamMlpDownIdeal.τ).loc Cert.AdamMlpDownIdeal.main_arg2)
      ∧ r.2.mem ((c.tc : Thread Cert.AdamMlpDownIdeal.nD Cert.AdamMlpDownIdeal.τ).loc Cert.AdamMlpDownIdeal.main_arg3) = m ((c.tc : Thread Cert.AdamMlpDownIdeal.nD Cert.AdamMlpDownIdeal.τ).loc Cert.AdamMlpDownIdeal.main_arg3)
      ∧ r.2.mem ((c.tc : Thread Cert.AdamMlpDownIdeal.nD Cert.AdamMlpDownIdeal.τ).loc Cert.AdamMlpDownIdeal.main_arg4) = m ((c.tc : Thread Cert.AdamMlpDownIdeal.nD Cert.AdamMlpDownIdeal.τ).loc Cert.AdamMlpDownIdeal.main_arg4)
      ∧ r.2.mem ((c.tc : Thread Cert.AdamMlpDownIdeal.nD Cert.AdamMlpDownIdeal.τ).loc Cert.AdamMlpDownIdeal.main_arg5) = m ((c.tc : Thread Cert.AdamMlpDownIdeal.nD Cert.AdamMlpDownIdeal.τ).loc Cert.AdamMlpDownIdeal.main_arg5)
      ∧ r.2.mem ((c.tc : Thread Cert.AdamMlpDownIdeal.nD Cert.AdamMlpDownIdeal.τ).loc Cert.AdamMlpDownIdeal.main_arg6) = m ((c.tc : Thread Cert.AdamMlpDownIdeal.nD Cert.AdamMlpDownIdeal.τ).loc Cert.AdamMlpDownIdeal.main_arg6))
      ∧ r.2.sem = fun _ => 0)

def quiescent_RefAdamMlpDownIdeal [hRefAdamMlpDownIdeal : Cert.RefAdamMlpDownIdeal.Facts] : Prop :=
  ∀ (m : (ℓ : Loc Cert.RefAdamMlpDownIdeal.nD Cert.RefAdamMlpDownIdeal.τ Cert.RefAdamMlpDownIdeal.sig) → Buf (Elt Ideal) ℓ) (g : Dev Cert.RefAdamMlpDownIdeal.nD → PrngReg), Pre_RefAdamMlpDownIdeal m →
    θ_run (Cert.RefAdamMlpDownIdeal.defs (F := Ideal)) (onTc (τ := Cert.RefAdamMlpDownIdeal.τ) (Cert.RefAdamMlpDownIdeal.main (F := Ideal))) ⟨m, fun _ => 0, g⟩ (fun r => (∀ c : Dev Cert.RefAdamMlpDownIdeal.nD,
      r.2.mem ((c.tc : Thread Cert.RefAdamMlpDownIdeal.nD Cert.RefAdamMlpDownIdeal.τ).loc Cert.RefAdamMlpDownIdeal.main_arg0) = m ((c.tc : Thread Cert.RefAdamMlpDownIdeal.nD Cert.RefAdamMlpDownIdeal.τ).loc Cert.RefAdamMlpDownIdeal.main_arg0)
      ∧ r.2.mem ((c.tc : Thread Cert.RefAdamMlpDownIdeal.nD Cert.RefAdamMlpDownIdeal.τ).loc Cert.RefAdamMlpDownIdeal.main_arg1) = m ((c.tc : Thread Cert.RefAdamMlpDownIdeal.nD Cert.RefAdamMlpDownIdeal.τ).loc Cert.RefAdamMlpDownIdeal.main_arg1)
      ∧ r.2.mem ((c.tc : Thread Cert.RefAdamMlpDownIdeal.nD Cert.RefAdamMlpDownIdeal.τ).loc Cert.RefAdamMlpDownIdeal.main_arg2) = m ((c.tc : Thread Cert.RefAdamMlpDownIdeal.nD Cert.RefAdamMlpDownIdeal.τ).loc Cert.RefAdamMlpDownIdeal.main_arg2)
      ∧ r.2.mem ((c.tc : Thread Cert.RefAdamMlpDownIdeal.nD Cert.RefAdamMlpDownIdeal.τ).loc Cert.RefAdamMlpDownIdeal.main_arg3) = m ((c.tc : Thread Cert.RefAdamMlpDownIdeal.nD Cert.RefAdamMlpDownIdeal.τ).loc Cert.RefAdamMlpDownIdeal.main_arg3)
      ∧ r.2.mem ((c.tc : Thread Cert.RefAdamMlpDownIdeal.nD Cert.RefAdamMlpDownIdeal.τ).loc Cert.RefAdamMlpDownIdeal.main_arg4) = m ((c.tc : Thread Cert.RefAdamMlpDownIdeal.nD Cert.RefAdamMlpDownIdeal.τ).loc Cert.RefAdamMlpDownIdeal.main_arg4)
      ∧ r.2.mem ((c.tc : Thread Cert.RefAdamMlpDownIdeal.nD Cert.RefAdamMlpDownIdeal.τ).loc Cert.RefAdamMlpDownIdeal.main_arg5) = m ((c.tc : Thread Cert.RefAdamMlpDownIdeal.nD Cert.RefAdamMlpDownIdeal.τ).loc Cert.RefAdamMlpDownIdeal.main_arg5)
      ∧ r.2.mem ((c.tc : Thread Cert.RefAdamMlpDownIdeal.nD Cert.RefAdamMlpDownIdeal.τ).loc Cert.RefAdamMlpDownIdeal.main_arg6) = m ((c.tc : Thread Cert.RefAdamMlpDownIdeal.nD Cert.RefAdamMlpDownIdeal.τ).loc Cert.RefAdamMlpDownIdeal.main_arg6))
      ∧ r.2.sem = fun _ => 0)

def quiescent_AdamXkv [hAdamXkv : Cert.AdamXkv.Facts] : Prop :=
  ∀ (m : (ℓ : Loc Cert.AdamXkv.nD Cert.AdamXkv.τ Cert.AdamXkv.sig) → Buf (Elt Bits) ℓ) (g : Dev Cert.AdamXkv.nD → PrngReg), Pre_AdamXkv m →
    θ_run (Cert.AdamXkv.defs (F := Bits)) (onTc (τ := Cert.AdamXkv.τ) (Cert.AdamXkv.main (F := Bits))) ⟨m, fun _ => 0, g⟩ (fun r => (∀ c : Dev Cert.AdamXkv.nD,
      r.2.mem ((c.tc : Thread Cert.AdamXkv.nD Cert.AdamXkv.τ).loc Cert.AdamXkv.main_arg0) = m ((c.tc : Thread Cert.AdamXkv.nD Cert.AdamXkv.τ).loc Cert.AdamXkv.main_arg0)
      ∧ r.2.mem ((c.tc : Thread Cert.AdamXkv.nD Cert.AdamXkv.τ).loc Cert.AdamXkv.main_arg1) = m ((c.tc : Thread Cert.AdamXkv.nD Cert.AdamXkv.τ).loc Cert.AdamXkv.main_arg1)
      ∧ r.2.mem ((c.tc : Thread Cert.AdamXkv.nD Cert.AdamXkv.τ).loc Cert.AdamXkv.main_arg2) = m ((c.tc : Thread Cert.AdamXkv.nD Cert.AdamXkv.τ).loc Cert.AdamXkv.main_arg2)
      ∧ r.2.mem ((c.tc : Thread Cert.AdamXkv.nD Cert.AdamXkv.τ).loc Cert.AdamXkv.main_arg3) = m ((c.tc : Thread Cert.AdamXkv.nD Cert.AdamXkv.τ).loc Cert.AdamXkv.main_arg3)
      ∧ r.2.mem ((c.tc : Thread Cert.AdamXkv.nD Cert.AdamXkv.τ).loc Cert.AdamXkv.main_arg4) = m ((c.tc : Thread Cert.AdamXkv.nD Cert.AdamXkv.τ).loc Cert.AdamXkv.main_arg4)
      ∧ r.2.mem ((c.tc : Thread Cert.AdamXkv.nD Cert.AdamXkv.τ).loc Cert.AdamXkv.main_arg5) = m ((c.tc : Thread Cert.AdamXkv.nD Cert.AdamXkv.τ).loc Cert.AdamXkv.main_arg5)
      ∧ r.2.mem ((c.tc : Thread Cert.AdamXkv.nD Cert.AdamXkv.τ).loc Cert.AdamXkv.main_arg6) = m ((c.tc : Thread Cert.AdamXkv.nD Cert.AdamXkv.τ).loc Cert.AdamXkv.main_arg6))
      ∧ r.2.sem = fun _ => 0)

def quiescent_AdamXkvIdeal [hAdamXkvIdeal : Cert.AdamXkvIdeal.Facts] : Prop :=
  ∀ (m : (ℓ : Loc Cert.AdamXkvIdeal.nD Cert.AdamXkvIdeal.τ Cert.AdamXkvIdeal.sig) → Buf (Elt Ideal) ℓ) (g : Dev Cert.AdamXkvIdeal.nD → PrngReg), Pre_AdamXkvIdeal m →
    θ_run (Cert.AdamXkvIdeal.defs (F := Ideal)) (onTc (τ := Cert.AdamXkvIdeal.τ) (Cert.AdamXkvIdeal.main (F := Ideal))) ⟨m, fun _ => 0, g⟩ (fun r => (∀ c : Dev Cert.AdamXkvIdeal.nD,
      r.2.mem ((c.tc : Thread Cert.AdamXkvIdeal.nD Cert.AdamXkvIdeal.τ).loc Cert.AdamXkvIdeal.main_arg0) = m ((c.tc : Thread Cert.AdamXkvIdeal.nD Cert.AdamXkvIdeal.τ).loc Cert.AdamXkvIdeal.main_arg0)
      ∧ r.2.mem ((c.tc : Thread Cert.AdamXkvIdeal.nD Cert.AdamXkvIdeal.τ).loc Cert.AdamXkvIdeal.main_arg1) = m ((c.tc : Thread Cert.AdamXkvIdeal.nD Cert.AdamXkvIdeal.τ).loc Cert.AdamXkvIdeal.main_arg1)
      ∧ r.2.mem ((c.tc : Thread Cert.AdamXkvIdeal.nD Cert.AdamXkvIdeal.τ).loc Cert.AdamXkvIdeal.main_arg2) = m ((c.tc : Thread Cert.AdamXkvIdeal.nD Cert.AdamXkvIdeal.τ).loc Cert.AdamXkvIdeal.main_arg2)
      ∧ r.2.mem ((c.tc : Thread Cert.AdamXkvIdeal.nD Cert.AdamXkvIdeal.τ).loc Cert.AdamXkvIdeal.main_arg3) = m ((c.tc : Thread Cert.AdamXkvIdeal.nD Cert.AdamXkvIdeal.τ).loc Cert.AdamXkvIdeal.main_arg3)
      ∧ r.2.mem ((c.tc : Thread Cert.AdamXkvIdeal.nD Cert.AdamXkvIdeal.τ).loc Cert.AdamXkvIdeal.main_arg4) = m ((c.tc : Thread Cert.AdamXkvIdeal.nD Cert.AdamXkvIdeal.τ).loc Cert.AdamXkvIdeal.main_arg4)
      ∧ r.2.mem ((c.tc : Thread Cert.AdamXkvIdeal.nD Cert.AdamXkvIdeal.τ).loc Cert.AdamXkvIdeal.main_arg5) = m ((c.tc : Thread Cert.AdamXkvIdeal.nD Cert.AdamXkvIdeal.τ).loc Cert.AdamXkvIdeal.main_arg5)
      ∧ r.2.mem ((c.tc : Thread Cert.AdamXkvIdeal.nD Cert.AdamXkvIdeal.τ).loc Cert.AdamXkvIdeal.main_arg6) = m ((c.tc : Thread Cert.AdamXkvIdeal.nD Cert.AdamXkvIdeal.τ).loc Cert.AdamXkvIdeal.main_arg6))
      ∧ r.2.sem = fun _ => 0)

def quiescent_RefAdamXkvIdeal [hRefAdamXkvIdeal : Cert.RefAdamXkvIdeal.Facts] : Prop :=
  ∀ (m : (ℓ : Loc Cert.RefAdamXkvIdeal.nD Cert.RefAdamXkvIdeal.τ Cert.RefAdamXkvIdeal.sig) → Buf (Elt Ideal) ℓ) (g : Dev Cert.RefAdamXkvIdeal.nD → PrngReg), Pre_RefAdamXkvIdeal m →
    θ_run (Cert.RefAdamXkvIdeal.defs (F := Ideal)) (onTc (τ := Cert.RefAdamXkvIdeal.τ) (Cert.RefAdamXkvIdeal.main (F := Ideal))) ⟨m, fun _ => 0, g⟩ (fun r => (∀ c : Dev Cert.RefAdamXkvIdeal.nD,
      r.2.mem ((c.tc : Thread Cert.RefAdamXkvIdeal.nD Cert.RefAdamXkvIdeal.τ).loc Cert.RefAdamXkvIdeal.main_arg0) = m ((c.tc : Thread Cert.RefAdamXkvIdeal.nD Cert.RefAdamXkvIdeal.τ).loc Cert.RefAdamXkvIdeal.main_arg0)
      ∧ r.2.mem ((c.tc : Thread Cert.RefAdamXkvIdeal.nD Cert.RefAdamXkvIdeal.τ).loc Cert.RefAdamXkvIdeal.main_arg1) = m ((c.tc : Thread Cert.RefAdamXkvIdeal.nD Cert.RefAdamXkvIdeal.τ).loc Cert.RefAdamXkvIdeal.main_arg1)
      ∧ r.2.mem ((c.tc : Thread Cert.RefAdamXkvIdeal.nD Cert.RefAdamXkvIdeal.τ).loc Cert.RefAdamXkvIdeal.main_arg2) = m ((c.tc : Thread Cert.RefAdamXkvIdeal.nD Cert.RefAdamXkvIdeal.τ).loc Cert.RefAdamXkvIdeal.main_arg2)
      ∧ r.2.mem ((c.tc : Thread Cert.RefAdamXkvIdeal.nD Cert.RefAdamXkvIdeal.τ).loc Cert.RefAdamXkvIdeal.main_arg3) = m ((c.tc : Thread Cert.RefAdamXkvIdeal.nD Cert.RefAdamXkvIdeal.τ).loc Cert.RefAdamXkvIdeal.main_arg3)
      ∧ r.2.mem ((c.tc : Thread Cert.RefAdamXkvIdeal.nD Cert.RefAdamXkvIdeal.τ).loc Cert.RefAdamXkvIdeal.main_arg4) = m ((c.tc : Thread Cert.RefAdamXkvIdeal.nD Cert.RefAdamXkvIdeal.τ).loc Cert.RefAdamXkvIdeal.main_arg4)
      ∧ r.2.mem ((c.tc : Thread Cert.RefAdamXkvIdeal.nD Cert.RefAdamXkvIdeal.τ).loc Cert.RefAdamXkvIdeal.main_arg5) = m ((c.tc : Thread Cert.RefAdamXkvIdeal.nD Cert.RefAdamXkvIdeal.τ).loc Cert.RefAdamXkvIdeal.main_arg5)
      ∧ r.2.mem ((c.tc : Thread Cert.RefAdamXkvIdeal.nD Cert.RefAdamXkvIdeal.τ).loc Cert.RefAdamXkvIdeal.main_arg6) = m ((c.tc : Thread Cert.RefAdamXkvIdeal.nD Cert.RefAdamXkvIdeal.τ).loc Cert.RefAdamXkvIdeal.main_arg6))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_v141) = v1 c
          ∧ r.2.mem ((c.tc : Thread Cert.ReferenceIdeal.nD Cert.ReferenceIdeal.τ).loc Cert.ReferenceIdeal.main_v142) = v2 c
          ∧ r.2.mem ((c.tc : Thread Cert.ReferenceIdeal.nD Cert.ReferenceIdeal.τ).loc Cert.ReferenceIdeal.main_v143) = v3 c
          ∧ r.2.mem ((c.tc : Thread Cert.ReferenceIdeal.nD Cert.ReferenceIdeal.τ).loc Cert.ReferenceIdeal.main_v144) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_InDw_InDwIdeal : Prop :=
  True

def algebraic_InDwIdeal_RefInDwIdeal [hInDwIdeal : Cert.InDwIdeal.Facts] [hRefInDwIdeal : Cert.RefInDwIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.RefInDwIdeal.nD Cert.RefInDwIdeal.τ Cert.RefInDwIdeal.sig) → Buf (Elt Ideal) ℓ) (g' : Dev Cert.RefInDwIdeal.nD → PrngReg), Pre_InDwIdeal m →
    (∀ c : Dev Cert.InDwIdeal.nD,
      m' ((c.tc : Thread Cert.RefInDwIdeal.nD Cert.RefInDwIdeal.τ).loc Cert.RefInDwIdeal.main_arg0) = m ((c.tc : Thread Cert.InDwIdeal.nD Cert.InDwIdeal.τ).loc Cert.InDwIdeal.main_arg0)
      ∧ m' ((c.tc : Thread Cert.RefInDwIdeal.nD Cert.RefInDwIdeal.τ).loc Cert.RefInDwIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v2)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v2) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.RefInDwIdeal.defs (F := Ideal)) (onTc (τ := Cert.RefInDwIdeal.τ) (Cert.RefInDwIdeal.main (F := Ideal))) ⟨m', fun _ => 0, g'⟩ (fun r => ∀ c : Dev Cert.RefInDwIdeal.nD,
          r.2.mem ((c.tc : Thread Cert.RefInDwIdeal.nD Cert.RefInDwIdeal.τ).loc Cert.RefInDwIdeal.main_v5) = v0 c
          ∧ r.2.mem ((c.tc : Thread Cert.RefInDwIdeal.nD Cert.RefInDwIdeal.τ).loc Cert.RefInDwIdeal.main_arg0) = m' ((c.tc : Thread Cert.RefInDwIdeal.nD Cert.RefInDwIdeal.τ).loc Cert.RefInDwIdeal.main_arg0)
          ∧ r.2.mem ((c.tc : Thread Cert.RefInDwIdeal.nD Cert.RefInDwIdeal.τ).loc Cert.RefInDwIdeal.main_arg1) = m' ((c.tc : Thread Cert.RefInDwIdeal.nD Cert.RefInDwIdeal.τ).loc Cert.RefInDwIdeal.main_arg1))

def preserves_InDx_InDxIdeal : Prop :=
  True

def algebraic_InDxIdeal_RefInDxIdeal [hInDxIdeal : Cert.InDxIdeal.Facts] [hRefInDxIdeal : Cert.RefInDxIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.RefInDxIdeal.nD Cert.RefInDxIdeal.τ Cert.RefInDxIdeal.sig) → Buf (Elt Ideal) ℓ) (g' : Dev Cert.RefInDxIdeal.nD → PrngReg), Pre_InDxIdeal m →
    (∀ c : Dev Cert.InDxIdeal.nD,
      m' ((c.tc : Thread Cert.RefInDxIdeal.nD Cert.RefInDxIdeal.τ).loc Cert.RefInDxIdeal.main_arg0) = m ((c.tc : Thread Cert.InDxIdeal.nD Cert.InDxIdeal.τ).loc Cert.InDxIdeal.main_arg0)
      ∧ m' ((c.tc : Thread Cert.RefInDxIdeal.nD Cert.RefInDxIdeal.τ).loc Cert.RefInDxIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v2)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v2) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.RefInDxIdeal.defs (F := Ideal)) (onTc (τ := Cert.RefInDxIdeal.τ) (Cert.RefInDxIdeal.main (F := Ideal))) ⟨m', fun _ => 0, g'⟩ (fun r => ∀ c : Dev Cert.RefInDxIdeal.nD,
          r.2.mem ((c.tc : Thread Cert.RefInDxIdeal.nD Cert.RefInDxIdeal.τ).loc Cert.RefInDxIdeal.main_v3) = v0 c
          ∧ r.2.mem ((c.tc : Thread Cert.RefInDxIdeal.nD Cert.RefInDxIdeal.τ).loc Cert.RefInDxIdeal.main_arg0) = m' ((c.tc : Thread Cert.RefInDxIdeal.nD Cert.RefInDxIdeal.τ).loc Cert.RefInDxIdeal.main_arg0)
          ∧ r.2.mem ((c.tc : Thread Cert.RefInDxIdeal.nD Cert.RefInDxIdeal.τ).loc Cert.RefInDxIdeal.main_arg1) = m' ((c.tc : Thread Cert.RefInDxIdeal.nD Cert.RefInDxIdeal.τ).loc Cert.RefInDxIdeal.main_arg1))

def preserves_DownDx_DownDxIdeal : Prop :=
  True

def algebraic_DownDxIdeal_RefDownDxIdeal [hDownDxIdeal : Cert.DownDxIdeal.Facts] [hRefDownDxIdeal : Cert.RefDownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.RefDownDxIdeal.nD Cert.RefDownDxIdeal.τ Cert.RefDownDxIdeal.sig) → Buf (Elt Ideal) ℓ) (g' : Dev Cert.RefDownDxIdeal.nD → PrngReg), Pre_DownDxIdeal m →
    (∀ c : Dev Cert.DownDxIdeal.nD,
      m' ((c.tc : Thread Cert.RefDownDxIdeal.nD Cert.RefDownDxIdeal.τ).loc Cert.RefDownDxIdeal.main_arg0) = m ((c.tc : Thread Cert.DownDxIdeal.nD Cert.DownDxIdeal.τ).loc Cert.DownDxIdeal.main_arg0)
      ∧ m' ((c.tc : Thread Cert.RefDownDxIdeal.nD Cert.RefDownDxIdeal.τ).loc Cert.RefDownDxIdeal.main_arg1) = m ((c.tc : Thread Cert.DownDxIdeal.nD Cert.DownDxIdeal.τ).loc Cert.DownDxIdeal.main_arg1)
      ∧ m' ((c.tc : Thread Cert.RefDownDxIdeal.nD Cert.RefDownDxIdeal.τ).loc Cert.RefDownDxIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v1)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v1) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.RefDownDxIdeal.defs (F := Ideal)) (onTc (τ := Cert.RefDownDxIdeal.τ) (Cert.RefDownDxIdeal.main (F := Ideal))) ⟨m', fun _ => 0, g'⟩ (fun r => ∀ c : Dev Cert.RefDownDxIdeal.nD,
          r.2.mem ((c.tc : Thread Cert.RefDownDxIdeal.nD Cert.RefDownDxIdeal.τ).loc Cert.RefDownDxIdeal.main_v12) = v0 c
          ∧ r.2.mem ((c.tc : Thread Cert.RefDownDxIdeal.nD Cert.RefDownDxIdeal.τ).loc Cert.RefDownDxIdeal.main_arg0) = m' ((c.tc : Thread Cert.RefDownDxIdeal.nD Cert.RefDownDxIdeal.τ).loc Cert.RefDownDxIdeal.main_arg0)
          ∧ r.2.mem ((c.tc : Thread Cert.RefDownDxIdeal.nD Cert.RefDownDxIdeal.τ).loc Cert.RefDownDxIdeal.main_arg1) = m' ((c.tc : Thread Cert.RefDownDxIdeal.nD Cert.RefDownDxIdeal.τ).loc Cert.RefDownDxIdeal.main_arg1)
          ∧ r.2.mem ((c.tc : Thread Cert.RefDownDxIdeal.nD Cert.RefDownDxIdeal.τ).loc Cert.RefDownDxIdeal.main_arg2) = m' ((c.tc : Thread Cert.RefDownDxIdeal.nD Cert.RefDownDxIdeal.τ).loc Cert.RefDownDxIdeal.main_arg2))

def preserves_DownDw_DownDwIdeal : Prop :=
  True

def algebraic_DownDwIdeal_RefDownDwIdeal [hDownDwIdeal : Cert.DownDwIdeal.Facts] [hRefDownDwIdeal : Cert.RefDownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.RefDownDwIdeal.nD Cert.RefDownDwIdeal.τ Cert.RefDownDwIdeal.sig) → Buf (Elt Ideal) ℓ) (g' : Dev Cert.RefDownDwIdeal.nD → PrngReg), Pre_DownDwIdeal m →
    (∀ c : Dev Cert.DownDwIdeal.nD,
      m' ((c.tc : Thread Cert.RefDownDwIdeal.nD Cert.RefDownDwIdeal.τ).loc Cert.RefDownDwIdeal.main_arg0) = m ((c.tc : Thread Cert.DownDwIdeal.nD Cert.DownDwIdeal.τ).loc Cert.DownDwIdeal.main_arg0)
      ∧ m' ((c.tc : Thread Cert.RefDownDwIdeal.nD Cert.RefDownDwIdeal.τ).loc Cert.RefDownDwIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v1)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v1) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.RefDownDwIdeal.defs (F := Ideal)) (onTc (τ := Cert.RefDownDwIdeal.τ) (Cert.RefDownDwIdeal.main (F := Ideal))) ⟨m', fun _ => 0, g'⟩ (fun r => ∀ c : Dev Cert.RefDownDwIdeal.nD,
          r.2.mem ((c.tc : Thread Cert.RefDownDwIdeal.nD Cert.RefDownDwIdeal.τ).loc Cert.RefDownDwIdeal.main_v3) = v0 c
          ∧ r.2.mem ((c.tc : Thread Cert.RefDownDwIdeal.nD Cert.RefDownDwIdeal.τ).loc Cert.RefDownDwIdeal.main_arg0) = m' ((c.tc : Thread Cert.RefDownDwIdeal.nD Cert.RefDownDwIdeal.τ).loc Cert.RefDownDwIdeal.main_arg0)
          ∧ r.2.mem ((c.tc : Thread Cert.RefDownDwIdeal.nD Cert.RefDownDwIdeal.τ).loc Cert.RefDownDwIdeal.main_arg1) = m' ((c.tc : Thread Cert.RefDownDwIdeal.nD Cert.RefDownDwIdeal.τ).loc Cert.RefDownDwIdeal.main_arg1))

def preserves_UpDw_UpDwIdeal : Prop :=
  True

def algebraic_UpDwIdeal_RefUpDwIdeal [hUpDwIdeal : Cert.UpDwIdeal.Facts] [hRefUpDwIdeal : Cert.RefUpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.RefUpDwIdeal.nD Cert.RefUpDwIdeal.τ Cert.RefUpDwIdeal.sig) → Buf (Elt Ideal) ℓ) (g' : Dev Cert.RefUpDwIdeal.nD → PrngReg), Pre_UpDwIdeal m →
    (∀ c : Dev Cert.UpDwIdeal.nD,
      m' ((c.tc : Thread Cert.RefUpDwIdeal.nD Cert.RefUpDwIdeal.τ).loc Cert.RefUpDwIdeal.main_arg0) = m ((c.tc : Thread Cert.UpDwIdeal.nD Cert.UpDwIdeal.τ).loc Cert.UpDwIdeal.main_arg0)
      ∧ m' ((c.tc : Thread Cert.RefUpDwIdeal.nD Cert.RefUpDwIdeal.τ).loc Cert.RefUpDwIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v2)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v2) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.RefUpDwIdeal.defs (F := Ideal)) (onTc (τ := Cert.RefUpDwIdeal.τ) (Cert.RefUpDwIdeal.main (F := Ideal))) ⟨m', fun _ => 0, g'⟩ (fun r => ∀ c : Dev Cert.RefUpDwIdeal.nD,
          r.2.mem ((c.tc : Thread Cert.RefUpDwIdeal.nD Cert.RefUpDwIdeal.τ).loc Cert.RefUpDwIdeal.main_v3) = v0 c
          ∧ r.2.mem ((c.tc : Thread Cert.RefUpDwIdeal.nD Cert.RefUpDwIdeal.τ).loc Cert.RefUpDwIdeal.main_arg0) = m' ((c.tc : Thread Cert.RefUpDwIdeal.nD Cert.RefUpDwIdeal.τ).loc Cert.RefUpDwIdeal.main_arg0)
          ∧ r.2.mem ((c.tc : Thread Cert.RefUpDwIdeal.nD Cert.RefUpDwIdeal.τ).loc Cert.RefUpDwIdeal.main_arg1) = m' ((c.tc : Thread Cert.RefUpDwIdeal.nD Cert.RefUpDwIdeal.τ).loc Cert.RefUpDwIdeal.main_arg1))

def preserves_UpDx_UpDxIdeal : Prop :=
  True

def algebraic_UpDxIdeal_RefUpDxIdeal [hUpDxIdeal : Cert.UpDxIdeal.Facts] [hRefUpDxIdeal : Cert.RefUpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.RefUpDxIdeal.nD Cert.RefUpDxIdeal.τ Cert.RefUpDxIdeal.sig) → Buf (Elt Ideal) ℓ) (g' : Dev Cert.RefUpDxIdeal.nD → PrngReg), Pre_UpDxIdeal m →
    (∀ c : Dev Cert.UpDxIdeal.nD,
      m' ((c.tc : Thread Cert.RefUpDxIdeal.nD Cert.RefUpDxIdeal.τ).loc Cert.RefUpDxIdeal.main_arg0) = m ((c.tc : Thread Cert.UpDxIdeal.nD Cert.UpDxIdeal.τ).loc Cert.UpDxIdeal.main_arg0)
      ∧ m' ((c.tc : Thread Cert.RefUpDxIdeal.nD Cert.RefUpDxIdeal.τ).loc Cert.RefUpDxIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v2)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v2) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.RefUpDxIdeal.defs (F := Ideal)) (onTc (τ := Cert.RefUpDxIdeal.τ) (Cert.RefUpDxIdeal.main (F := Ideal))) ⟨m', fun _ => 0, g'⟩ (fun r => ∀ c : Dev Cert.RefUpDxIdeal.nD,
          r.2.mem ((c.tc : Thread Cert.RefUpDxIdeal.nD Cert.RefUpDxIdeal.τ).loc Cert.RefUpDxIdeal.main_v2) = v0 c
          ∧ r.2.mem ((c.tc : Thread Cert.RefUpDxIdeal.nD Cert.RefUpDxIdeal.τ).loc Cert.RefUpDxIdeal.main_arg0) = m' ((c.tc : Thread Cert.RefUpDxIdeal.nD Cert.RefUpDxIdeal.τ).loc Cert.RefUpDxIdeal.main_arg0)
          ∧ r.2.mem ((c.tc : Thread Cert.RefUpDxIdeal.nD Cert.RefUpDxIdeal.τ).loc Cert.RefUpDxIdeal.main_arg1) = m' ((c.tc : Thread Cert.RefUpDxIdeal.nD Cert.RefUpDxIdeal.τ).loc Cert.RefUpDxIdeal.main_arg1))

def preserves_MergeBwd_MergeBwdIdeal : Prop :=
  True

def algebraic_MergeBwdIdeal_RefMergeBwdIdeal [hMergeBwdIdeal : Cert.MergeBwdIdeal.Facts] [hRefMergeBwdIdeal : Cert.RefMergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.RefMergeBwdIdeal.nD Cert.RefMergeBwdIdeal.τ Cert.RefMergeBwdIdeal.sig) → Buf (Elt Ideal) ℓ) (g' : Dev Cert.RefMergeBwdIdeal.nD → PrngReg), Pre_MergeBwdIdeal m →
    (∀ c : Dev Cert.MergeBwdIdeal.nD,
      m' ((c.tc : Thread Cert.RefMergeBwdIdeal.nD Cert.RefMergeBwdIdeal.τ).loc Cert.RefMergeBwdIdeal.main_arg0) = m ((c.tc : Thread Cert.MergeBwdIdeal.nD Cert.MergeBwdIdeal.τ).loc Cert.MergeBwdIdeal.main_arg0)
      ∧ m' ((c.tc : Thread Cert.RefMergeBwdIdeal.nD Cert.RefMergeBwdIdeal.τ).loc Cert.RefMergeBwdIdeal.main_arg1) = m ((c.tc : Thread Cert.MergeBwdIdeal.nD Cert.MergeBwdIdeal.τ).loc Cert.MergeBwdIdeal.main_arg1)
      ∧ m' ((c.tc : Thread Cert.RefMergeBwdIdeal.nD Cert.RefMergeBwdIdeal.τ).loc Cert.RefMergeBwdIdeal.main_arg2) = m ((c.tc : Thread Cert.MergeBwdIdeal.nD Cert.MergeBwdIdeal.τ).loc Cert.MergeBwdIdeal.main_arg2)
      ∧ m' ((c.tc : Thread Cert.RefMergeBwdIdeal.nD Cert.RefMergeBwdIdeal.τ).loc Cert.RefMergeBwdIdeal.main_arg3) = m ((c.tc : Thread Cert.MergeBwdIdeal.nD Cert.MergeBwdIdeal.τ).loc Cert.MergeBwdIdeal.main_arg3)
      ∧ m' ((c.tc : Thread Cert.RefMergeBwdIdeal.nD Cert.RefMergeBwdIdeal.τ).loc Cert.RefMergeBwdIdeal.main_arg4) = m ((c.tc : Thread Cert.MergeBwdIdeal.nD Cert.MergeBwdIdeal.τ).loc Cert.MergeBwdIdeal.main_arg4)
      ∧ m' ((c.tc : Thread Cert.RefMergeBwdIdeal.nD Cert.RefMergeBwdIdeal.τ).loc Cert.RefMergeBwdIdeal.main_arg5) = m ((c.tc : Thread Cert.MergeBwdIdeal.nD Cert.MergeBwdIdeal.τ).loc Cert.MergeBwdIdeal.main_arg5)) →
    ∃ (v0 : (c : Dev Cert.MergeBwdIdeal.nD) → Buf (Elt Ideal) ((c.tc : Thread Cert.MergeBwdIdeal.nD Cert.MergeBwdIdeal.τ).loc Cert.MergeBwdIdeal.main_v1_0)) (v1 : (c : Dev Cert.MergeBwdIdeal.nD) → Buf (Elt Ideal) ((c.tc : Thread Cert.MergeBwdIdeal.nD Cert.MergeBwdIdeal.τ).loc Cert.MergeBwdIdeal.main_v1_1)) (v2 : (c : Dev Cert.MergeBwdIdeal.nD) → Buf (Elt Ideal) ((c.tc : Thread Cert.MergeBwdIdeal.nD Cert.MergeBwdIdeal.τ).loc Cert.MergeBwdIdeal.main_v1_2)) (v3 : (c : Dev Cert.MergeBwdIdeal.nD) → Buf (Elt Ideal) ((c.tc : Thread Cert.MergeBwdIdeal.nD Cert.MergeBwdIdeal.τ).loc Cert.MergeBwdIdeal.main_v1_3)) (v4 : (c : Dev Cert.MergeBwdIdeal.nD) → Buf (Elt Ideal) ((c.tc : Thread Cert.MergeBwdIdeal.nD Cert.MergeBwdIdeal.τ).loc Cert.MergeBwdIdeal.main_v1_4)) (v5 : (c : Dev Cert.MergeBwdIdeal.nD) → Buf (Elt Ideal) ((c.tc : Thread Cert.MergeBwdIdeal.nD Cert.MergeBwdIdeal.τ).loc Cert.MergeBwdIdeal.main_v1_5)) (v6 : (c : Dev Cert.MergeBwdIdeal.nD) → Buf (Elt Ideal) ((c.tc : Thread Cert.MergeBwdIdeal.nD Cert.MergeBwdIdeal.τ).loc Cert.MergeBwdIdeal.main_v1_6)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v1_0) = v0 c
          ∧ r.2.mem ((c.tc : Thread Cert.MergeBwdIdeal.nD Cert.MergeBwdIdeal.τ).loc Cert.MergeBwdIdeal.main_v1_1) = v1 c
          ∧ r.2.mem ((c.tc : Thread Cert.MergeBwdIdeal.nD Cert.MergeBwdIdeal.τ).loc Cert.MergeBwdIdeal.main_v1_2) = v2 c
          ∧ r.2.mem ((c.tc : Thread Cert.MergeBwdIdeal.nD Cert.MergeBwdIdeal.τ).loc Cert.MergeBwdIdeal.main_v1_3) = v3 c
          ∧ r.2.mem ((c.tc : Thread Cert.MergeBwdIdeal.nD Cert.MergeBwdIdeal.τ).loc Cert.MergeBwdIdeal.main_v1_4) = v4 c
          ∧ r.2.mem ((c.tc : Thread Cert.MergeBwdIdeal.nD Cert.MergeBwdIdeal.τ).loc Cert.MergeBwdIdeal.main_v1_5) = v5 c
          ∧ r.2.mem ((c.tc : Thread Cert.MergeBwdIdeal.nD Cert.MergeBwdIdeal.τ).loc Cert.MergeBwdIdeal.main_v1_6) = v6 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5))
      ∧ θ_run (Cert.RefMergeBwdIdeal.defs (F := Ideal)) (onTc (τ := Cert.RefMergeBwdIdeal.τ) (Cert.RefMergeBwdIdeal.main (F := Ideal))) ⟨m', fun _ => 0, g'⟩ (fun r => ∀ c : Dev Cert.RefMergeBwdIdeal.nD,
          r.2.mem ((c.tc : Thread Cert.RefMergeBwdIdeal.nD Cert.RefMergeBwdIdeal.τ).loc Cert.RefMergeBwdIdeal.main_v49) = v0 c
          ∧ r.2.mem ((c.tc : Thread Cert.RefMergeBwdIdeal.nD Cert.RefMergeBwdIdeal.τ).loc Cert.RefMergeBwdIdeal.main_v50) = v1 c
          ∧ r.2.mem ((c.tc : Thread Cert.RefMergeBwdIdeal.nD Cert.RefMergeBwdIdeal.τ).loc Cert.RefMergeBwdIdeal.main_v51) = v2 c
          ∧ r.2.mem ((c.tc : Thread Cert.RefMergeBwdIdeal.nD Cert.RefMergeBwdIdeal.τ).loc Cert.RefMergeBwdIdeal.main_v52) = v3 c
          ∧ r.2.mem ((c.tc : Thread Cert.RefMergeBwdIdeal.nD Cert.RefMergeBwdIdeal.τ).loc Cert.RefMergeBwdIdeal.main_v53) = v4 c
          ∧ r.2.mem ((c.tc : Thread Cert.RefMergeBwdIdeal.nD Cert.RefMergeBwdIdeal.τ).loc Cert.RefMergeBwdIdeal.main_v54) = v5 c
          ∧ r.2.mem ((c.tc : Thread Cert.RefMergeBwdIdeal.nD Cert.RefMergeBwdIdeal.τ).loc Cert.RefMergeBwdIdeal.main_v55) = v6 c
          ∧ r.2.mem ((c.tc : Thread Cert.RefMergeBwdIdeal.nD Cert.RefMergeBwdIdeal.τ).loc Cert.RefMergeBwdIdeal.main_arg0) = m' ((c.tc : Thread Cert.RefMergeBwdIdeal.nD Cert.RefMergeBwdIdeal.τ).loc Cert.RefMergeBwdIdeal.main_arg0)
          ∧ r.2.mem ((c.tc : Thread Cert.RefMergeBwdIdeal.nD Cert.RefMergeBwdIdeal.τ).loc Cert.RefMergeBwdIdeal.main_arg1) = m' ((c.tc : Thread Cert.RefMergeBwdIdeal.nD Cert.RefMergeBwdIdeal.τ).loc Cert.RefMergeBwdIdeal.main_arg1)
          ∧ r.2.mem ((c.tc : Thread Cert.RefMergeBwdIdeal.nD Cert.RefMergeBwdIdeal.τ).loc Cert.RefMergeBwdIdeal.main_arg2) = m' ((c.tc : Thread Cert.RefMergeBwdIdeal.nD Cert.RefMergeBwdIdeal.τ).loc Cert.RefMergeBwdIdeal.main_arg2)
          ∧ r.2.mem ((c.tc : Thread Cert.RefMergeBwdIdeal.nD Cert.RefMergeBwdIdeal.τ).loc Cert.RefMergeBwdIdeal.main_arg3) = m' ((c.tc : Thread Cert.RefMergeBwdIdeal.nD Cert.RefMergeBwdIdeal.τ).loc Cert.RefMergeBwdIdeal.main_arg3)
          ∧ r.2.mem ((c.tc : Thread Cert.RefMergeBwdIdeal.nD Cert.RefMergeBwdIdeal.τ).loc Cert.RefMergeBwdIdeal.main_arg4) = m' ((c.tc : Thread Cert.RefMergeBwdIdeal.nD Cert.RefMergeBwdIdeal.τ).loc Cert.RefMergeBwdIdeal.main_arg4)
          ∧ r.2.mem ((c.tc : Thread Cert.RefMergeBwdIdeal.nD Cert.RefMergeBwdIdeal.τ).loc Cert.RefMergeBwdIdeal.main_arg5) = m' ((c.tc : Thread Cert.RefMergeBwdIdeal.nD Cert.RefMergeBwdIdeal.τ).loc Cert.RefMergeBwdIdeal.main_arg5))

def preserves_RmsBwd_RmsBwdIdeal : Prop :=
  True

def algebraic_RmsBwdIdeal_RefRmsBwdIdeal [hRmsBwdIdeal : Cert.RmsBwdIdeal.Facts] [hRefRmsBwdIdeal : Cert.RefRmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RefRmsBwdIdeal.nD Cert.RefRmsBwdIdeal.τ Cert.RefRmsBwdIdeal.sig) → Buf (Elt Ideal) ℓ) (g' : Dev Cert.RefRmsBwdIdeal.nD → PrngReg), Pre_RmsBwdIdeal m →
    (∀ c : Dev Cert.RmsBwdIdeal.nD,
      m' ((c.tc : Thread Cert.RefRmsBwdIdeal.nD Cert.RefRmsBwdIdeal.τ).loc Cert.RefRmsBwdIdeal.main_arg0) = m ((c.tc : Thread Cert.RmsBwdIdeal.nD Cert.RmsBwdIdeal.τ).loc Cert.RmsBwdIdeal.main_arg0)
      ∧ m' ((c.tc : Thread Cert.RefRmsBwdIdeal.nD Cert.RefRmsBwdIdeal.τ).loc Cert.RefRmsBwdIdeal.main_arg1) = m ((c.tc : Thread Cert.RmsBwdIdeal.nD Cert.RmsBwdIdeal.τ).loc Cert.RmsBwdIdeal.main_arg1)
      ∧ m' ((c.tc : Thread Cert.RefRmsBwdIdeal.nD Cert.RefRmsBwdIdeal.τ).loc Cert.RefRmsBwdIdeal.main_arg2) = m ((c.tc : Thread Cert.RmsBwdIdeal.nD Cert.RmsBwdIdeal.τ).loc Cert.RmsBwdIdeal.main_arg2)
      ∧ m' ((c.tc : Thread Cert.RefRmsBwdIdeal.nD Cert.RefRmsBwdIdeal.τ).loc Cert.RefRmsBwdIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v1_0)) (v1 : (c : Dev Cert.RmsBwdIdeal.nD) → Buf (Elt Ideal) ((c.tc : Thread Cert.RmsBwdIdeal.nD Cert.RmsBwdIdeal.τ).loc Cert.RmsBwdIdeal.main_v1_1)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v1_0) = v0 c
          ∧ r.2.mem ((c.tc : Thread Cert.RmsBwdIdeal.nD Cert.RmsBwdIdeal.τ).loc Cert.RmsBwdIdeal.main_v1_1) = v1 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RefRmsBwdIdeal.defs (F := Ideal)) (onTc (τ := Cert.RefRmsBwdIdeal.τ) (Cert.RefRmsBwdIdeal.main (F := Ideal))) ⟨m', fun _ => 0, g'⟩ (fun r => ∀ c : Dev Cert.RefRmsBwdIdeal.nD,
          r.2.mem ((c.tc : Thread Cert.RefRmsBwdIdeal.nD Cert.RefRmsBwdIdeal.τ).loc Cert.RefRmsBwdIdeal.main_v36) = v0 c
          ∧ r.2.mem ((c.tc : Thread Cert.RefRmsBwdIdeal.nD Cert.RefRmsBwdIdeal.τ).loc Cert.RefRmsBwdIdeal.main_v37) = v1 c
          ∧ r.2.mem ((c.tc : Thread Cert.RefRmsBwdIdeal.nD Cert.RefRmsBwdIdeal.τ).loc Cert.RefRmsBwdIdeal.main_arg0) = m' ((c.tc : Thread Cert.RefRmsBwdIdeal.nD Cert.RefRmsBwdIdeal.τ).loc Cert.RefRmsBwdIdeal.main_arg0)
          ∧ r.2.mem ((c.tc : Thread Cert.RefRmsBwdIdeal.nD Cert.RefRmsBwdIdeal.τ).loc Cert.RefRmsBwdIdeal.main_arg1) = m' ((c.tc : Thread Cert.RefRmsBwdIdeal.nD Cert.RefRmsBwdIdeal.τ).loc Cert.RefRmsBwdIdeal.main_arg1)
          ∧ r.2.mem ((c.tc : Thread Cert.RefRmsBwdIdeal.nD Cert.RefRmsBwdIdeal.τ).loc Cert.RefRmsBwdIdeal.main_arg2) = m' ((c.tc : Thread Cert.RefRmsBwdIdeal.nD Cert.RefRmsBwdIdeal.τ).loc Cert.RefRmsBwdIdeal.main_arg2)
          ∧ r.2.mem ((c.tc : Thread Cert.RefRmsBwdIdeal.nD Cert.RefRmsBwdIdeal.τ).loc Cert.RefRmsBwdIdeal.main_arg3) = m' ((c.tc : Thread Cert.RefRmsBwdIdeal.nD Cert.RefRmsBwdIdeal.τ).loc Cert.RefRmsBwdIdeal.main_arg3))

def preserves_LnSiluBwd_LnSiluBwdIdeal : Prop :=
  True

def algebraic_LnSiluBwdIdeal_RefLnSiluBwdIdeal [hLnSiluBwdIdeal : Cert.LnSiluBwdIdeal.Facts] [hRefLnSiluBwdIdeal : Cert.RefLnSiluBwdIdeal.Facts] : Prop :=
  ∀ (m : (ℓ : Loc Cert.LnSiluBwdIdeal.nD Cert.LnSiluBwdIdeal.τ Cert.LnSiluBwdIdeal.sig) → Buf (Elt Ideal) ℓ) (g : Dev Cert.LnSiluBwdIdeal.nD → PrngReg)
    (m' : (ℓ : Loc Cert.RefLnSiluBwdIdeal.nD Cert.RefLnSiluBwdIdeal.τ Cert.RefLnSiluBwdIdeal.sig) → Buf (Elt Ideal) ℓ) (g' : Dev Cert.RefLnSiluBwdIdeal.nD → PrngReg), Pre_LnSiluBwdIdeal m →
    (∀ c : Dev Cert.LnSiluBwdIdeal.nD,
      m' ((c.tc : Thread Cert.RefLnSiluBwdIdeal.nD Cert.RefLnSiluBwdIdeal.τ).loc Cert.RefLnSiluBwdIdeal.main_arg0) = m ((c.tc : Thread Cert.LnSiluBwdIdeal.nD Cert.LnSiluBwdIdeal.τ).loc Cert.LnSiluBwdIdeal.main_arg0)
      ∧ m' ((c.tc : Thread Cert.RefLnSiluBwdIdeal.nD Cert.RefLnSiluBwdIdeal.τ).loc Cert.RefLnSiluBwdIdeal.main_arg1) = m ((c.tc : Thread Cert.LnSiluBwdIdeal.nD Cert.LnSiluBwdIdeal.τ).loc Cert.LnSiluBwdIdeal.main_arg1)
      ∧ m' ((c.tc : Thread Cert.RefLnSiluBwdIdeal.nD Cert.RefLnSiluBwdIdeal.τ).loc Cert.RefLnSiluBwdIdeal.main_arg2) = m ((c.tc : Thread Cert.LnSiluBwdIdeal.nD Cert.LnSiluBwdIdeal.τ).loc Cert.LnSiluBwdIdeal.main_arg2)
      ∧ m' ((c.tc : Thread Cert.RefLnSiluBwdIdeal.nD Cert.RefLnSiluBwdIdeal.τ).loc Cert.RefLnSiluBwdIdeal.main_arg3) = m ((c.tc : Thread Cert.LnSiluBwdIdeal.nD Cert.LnSiluBwdIdeal.τ).loc Cert.LnSiluBwdIdeal.main_arg3)) →
    ∃ (v0 : (c : Dev Cert.LnSiluBwdIdeal.nD) → Buf (Elt Ideal) ((c.tc : Thread Cert.LnSiluBwdIdeal.nD Cert.LnSiluBwdIdeal.τ).loc Cert.LnSiluBwdIdeal.main_v2_0)) (v1 : (c : Dev Cert.LnSiluBwdIdeal.nD) → Buf (Elt Ideal) ((c.tc : Thread Cert.LnSiluBwdIdeal.nD Cert.LnSiluBwdIdeal.τ).loc Cert.LnSiluBwdIdeal.main_v2_1)) (v2 : (c : Dev Cert.LnSiluBwdIdeal.nD) → Buf (Elt Ideal) ((c.tc : Thread Cert.LnSiluBwdIdeal.nD Cert.LnSiluBwdIdeal.τ).loc Cert.LnSiluBwdIdeal.main_v2_2)),
      θ_run (Cert.LnSiluBwdIdeal.defs (F := Ideal)) (onTc (τ := Cert.LnSiluBwdIdeal.τ) (Cert.LnSiluBwdIdeal.main (F := Ideal))) ⟨m, fun _ => 0, g⟩ (fun r => ∀ c : Dev Cert.LnSiluBwdIdeal.nD,
          r.2.mem ((c.tc : Thread Cert.LnSiluBwdIdeal.nD Cert.LnSiluBwdIdeal.τ).loc Cert.LnSiluBwdIdeal.main_v2_0) = v0 c
          ∧ r.2.mem ((c.tc : Thread Cert.LnSiluBwdIdeal.nD Cert.LnSiluBwdIdeal.τ).loc Cert.LnSiluBwdIdeal.main_v2_1) = v1 c
          ∧ r.2.mem ((c.tc : Thread Cert.LnSiluBwdIdeal.nD Cert.LnSiluBwdIdeal.τ).loc Cert.LnSiluBwdIdeal.main_v2_2) = v2 c
          ∧ r.2.mem ((c.tc : Thread Cert.LnSiluBwdIdeal.nD Cert.LnSiluBwdIdeal.τ).loc Cert.LnSiluBwdIdeal.main_arg0) = m ((c.tc : Thread Cert.LnSiluBwdIdeal.nD Cert.LnSiluBwdIdeal.τ).loc Cert.LnSiluBwdIdeal.main_arg0)
          ∧ r.2.mem ((c.tc : Thread Cert.LnSiluBwdIdeal.nD Cert.LnSiluBwdIdeal.τ).loc Cert.LnSiluBwdIdeal.main_arg1) = m ((c.tc : Thread Cert.LnSiluBwdIdeal.nD Cert.LnSiluBwdIdeal.τ).loc Cert.LnSiluBwdIdeal.main_arg1)
          ∧ r.2.mem ((c.tc : Thread Cert.LnSiluBwdIdeal.nD Cert.LnSiluBwdIdeal.τ).loc Cert.LnSiluBwdIdeal.main_arg2) = m ((c.tc : Thread Cert.LnSiluBwdIdeal.nD Cert.LnSiluBwdIdeal.τ).loc Cert.LnSiluBwdIdeal.main_arg2)
          ∧ r.2.mem ((c.tc : Thread Cert.LnSiluBwdIdeal.nD Cert.LnSiluBwdIdeal.τ).loc Cert.LnSiluBwdIdeal.main_arg3) = m ((c.tc : Thread Cert.LnSiluBwdIdeal.nD Cert.LnSiluBwdIdeal.τ).loc Cert.LnSiluBwdIdeal.main_arg3))
      ∧ θ_run (Cert.RefLnSiluBwdIdeal.defs (F := Ideal)) (onTc (τ := Cert.RefLnSiluBwdIdeal.τ) (Cert.RefLnSiluBwdIdeal.main (F := Ideal))) ⟨m', fun _ => 0, g'⟩ (fun r => ∀ c : Dev Cert.RefLnSiluBwdIdeal.nD,
          r.2.mem ((c.tc : Thread Cert.RefLnSiluBwdIdeal.nD Cert.RefLnSiluBwdIdeal.τ).loc Cert.RefLnSiluBwdIdeal.main_v57) = v0 c
          ∧ r.2.mem ((c.tc : Thread Cert.RefLnSiluBwdIdeal.nD Cert.RefLnSiluBwdIdeal.τ).loc Cert.RefLnSiluBwdIdeal.main_v58) = v1 c
          ∧ r.2.mem ((c.tc : Thread Cert.RefLnSiluBwdIdeal.nD Cert.RefLnSiluBwdIdeal.τ).loc Cert.RefLnSiluBwdIdeal.main_v59) = v2 c
          ∧ r.2.mem ((c.tc : Thread Cert.RefLnSiluBwdIdeal.nD Cert.RefLnSiluBwdIdeal.τ).loc Cert.RefLnSiluBwdIdeal.main_arg0) = m' ((c.tc : Thread Cert.RefLnSiluBwdIdeal.nD Cert.RefLnSiluBwdIdeal.τ).loc Cert.RefLnSiluBwdIdeal.main_arg0)
          ∧ r.2.mem ((c.tc : Thread Cert.RefLnSiluBwdIdeal.nD Cert.RefLnSiluBwdIdeal.τ).loc Cert.RefLnSiluBwdIdeal.main_arg1) = m' ((c.tc : Thread Cert.RefLnSiluBwdIdeal.nD Cert.RefLnSiluBwdIdeal.τ).loc Cert.RefLnSiluBwdIdeal.main_arg1)
          ∧ r.2.mem ((c.tc : Thread Cert.RefLnSiluBwdIdeal.nD Cert.RefLnSiluBwdIdeal.τ).loc Cert.RefLnSiluBwdIdeal.main_arg2) = m' ((c.tc : Thread Cert.RefLnSiluBwdIdeal.nD Cert.RefLnSiluBwdIdeal.τ).loc Cert.RefLnSiluBwdIdeal.main_arg2)
          ∧ r.2.mem ((c.tc : Thread Cert.RefLnSiluBwdIdeal.nD Cert.RefLnSiluBwdIdeal.τ).loc Cert.RefLnSiluBwdIdeal.main_arg3) = m' ((c.tc : Thread Cert.RefLnSiluBwdIdeal.nD Cert.RefLnSiluBwdIdeal.τ).loc Cert.RefLnSiluBwdIdeal.main_arg3))

def preserves_SsdOutDw_SsdOutDwIdeal : Prop :=
  True

def algebraic_SsdOutDwIdeal_RefSsdOutDwIdeal [hSsdOutDwIdeal : Cert.SsdOutDwIdeal.Facts] [hRefSsdOutDwIdeal : Cert.RefSsdOutDwIdeal.Facts] : Prop :=
  ∀ (m : (ℓ : Loc Cert.SsdOutDwIdeal.nD Cert.SsdOutDwIdeal.τ Cert.SsdOutDwIdeal.sig) → Buf (Elt Ideal) ℓ) (g : Dev Cert.SsdOutDwIdeal.nD → PrngReg)
    (m' : (ℓ : Loc Cert.RefSsdOutDwIdeal.nD Cert.RefSsdOutDwIdeal.τ Cert.RefSsdOutDwIdeal.sig) → Buf (Elt Ideal) ℓ) (g' : Dev Cert.RefSsdOutDwIdeal.nD → PrngReg), Pre_SsdOutDwIdeal m →
    (∀ c : Dev Cert.SsdOutDwIdeal.nD,
      m' ((c.tc : Thread Cert.RefSsdOutDwIdeal.nD Cert.RefSsdOutDwIdeal.τ).loc Cert.RefSsdOutDwIdeal.main_arg0) = m ((c.tc : Thread Cert.SsdOutDwIdeal.nD Cert.SsdOutDwIdeal.τ).loc Cert.SsdOutDwIdeal.main_arg0)
      ∧ m' ((c.tc : Thread Cert.RefSsdOutDwIdeal.nD Cert.RefSsdOutDwIdeal.τ).loc Cert.RefSsdOutDwIdeal.main_arg1) = m ((c.tc : Thread Cert.SsdOutDwIdeal.nD Cert.SsdOutDwIdeal.τ).loc Cert.SsdOutDwIdeal.main_arg1)) →
    ∃ (v0 : (c : Dev Cert.SsdOutDwIdeal.nD) → Buf (Elt Ideal) ((c.tc : Thread Cert.SsdOutDwIdeal.nD Cert.SsdOutDwIdeal.τ).loc Cert.SsdOutDwIdeal.main_v2)),
      θ_run (Cert.SsdOutDwIdeal.defs (F := Ideal)) (onTc (τ := Cert.SsdOutDwIdeal.τ) (Cert.SsdOutDwIdeal.main (F := Ideal))) ⟨m, fun _ => 0, g⟩ (fun r => ∀ c : Dev Cert.SsdOutDwIdeal.nD,
          r.2.mem ((c.tc : Thread Cert.SsdOutDwIdeal.nD Cert.SsdOutDwIdeal.τ).loc Cert.SsdOutDwIdeal.main_v2) = v0 c
          ∧ r.2.mem ((c.tc : Thread Cert.SsdOutDwIdeal.nD Cert.SsdOutDwIdeal.τ).loc Cert.SsdOutDwIdeal.main_arg0) = m ((c.tc : Thread Cert.SsdOutDwIdeal.nD Cert.SsdOutDwIdeal.τ).loc Cert.SsdOutDwIdeal.main_arg0)
          ∧ r.2.mem ((c.tc : Thread Cert.SsdOutDwIdeal.nD Cert.SsdOutDwIdeal.τ).loc Cert.SsdOutDwIdeal.main_arg1) = m ((c.tc : Thread Cert.SsdOutDwIdeal.nD Cert.SsdOutDwIdeal.τ).loc Cert.SsdOutDwIdeal.main_arg1))
      ∧ θ_run (Cert.RefSsdOutDwIdeal.defs (F := Ideal)) (onTc (τ := Cert.RefSsdOutDwIdeal.τ) (Cert.RefSsdOutDwIdeal.main (F := Ideal))) ⟨m', fun _ => 0, g'⟩ (fun r => ∀ c : Dev Cert.RefSsdOutDwIdeal.nD,
          r.2.mem ((c.tc : Thread Cert.RefSsdOutDwIdeal.nD Cert.RefSsdOutDwIdeal.τ).loc Cert.RefSsdOutDwIdeal.main_v3) = v0 c
          ∧ r.2.mem ((c.tc : Thread Cert.RefSsdOutDwIdeal.nD Cert.RefSsdOutDwIdeal.τ).loc Cert.RefSsdOutDwIdeal.main_arg0) = m' ((c.tc : Thread Cert.RefSsdOutDwIdeal.nD Cert.RefSsdOutDwIdeal.τ).loc Cert.RefSsdOutDwIdeal.main_arg0)
          ∧ r.2.mem ((c.tc : Thread Cert.RefSsdOutDwIdeal.nD Cert.RefSsdOutDwIdeal.τ).loc Cert.RefSsdOutDwIdeal.main_arg1) = m' ((c.tc : Thread Cert.RefSsdOutDwIdeal.nD Cert.RefSsdOutDwIdeal.τ).loc Cert.RefSsdOutDwIdeal.main_arg1))

def preserves_SsdOutDx_SsdOutDxIdeal : Prop :=
  True

def algebraic_SsdOutDxIdeal_RefSsdOutDxIdeal [hSsdOutDxIdeal : Cert.SsdOutDxIdeal.Facts] [hRefSsdOutDxIdeal : Cert.RefSsdOutDxIdeal.Facts] : Prop :=
  ∀ (m : (ℓ : Loc Cert.SsdOutDxIdeal.nD Cert.SsdOutDxIdeal.τ Cert.SsdOutDxIdeal.sig) → Buf (Elt Ideal) ℓ) (g : Dev Cert.SsdOutDxIdeal.nD → PrngReg)
    (m' : (ℓ : Loc Cert.RefSsdOutDxIdeal.nD Cert.RefSsdOutDxIdeal.τ Cert.RefSsdOutDxIdeal.sig) → Buf (Elt Ideal) ℓ) (g' : Dev Cert.RefSsdOutDxIdeal.nD → PrngReg), Pre_SsdOutDxIdeal m →
    (∀ c : Dev Cert.SsdOutDxIdeal.nD,
      m' ((c.tc : Thread Cert.RefSsdOutDxIdeal.nD Cert.RefSsdOutDxIdeal.τ).loc Cert.RefSsdOutDxIdeal.main_arg0) = m ((c.tc : Thread Cert.SsdOutDxIdeal.nD Cert.SsdOutDxIdeal.τ).loc Cert.SsdOutDxIdeal.main_arg0)
      ∧ m' ((c.tc : Thread Cert.RefSsdOutDxIdeal.nD Cert.RefSsdOutDxIdeal.τ).loc Cert.RefSsdOutDxIdeal.main_arg1) = m ((c.tc : Thread Cert.SsdOutDxIdeal.nD Cert.SsdOutDxIdeal.τ).loc Cert.SsdOutDxIdeal.main_arg1)) →
    ∃ (v0 : (c : Dev Cert.SsdOutDxIdeal.nD) → Buf (Elt Ideal) ((c.tc : Thread Cert.SsdOutDxIdeal.nD Cert.SsdOutDxIdeal.τ).loc Cert.SsdOutDxIdeal.main_v2)),
      θ_run (Cert.SsdOutDxIdeal.defs (F := Ideal)) (onTc (τ := Cert.SsdOutDxIdeal.τ) (Cert.SsdOutDxIdeal.main (F := Ideal))) ⟨m, fun _ => 0, g⟩ (fun r => ∀ c : Dev Cert.SsdOutDxIdeal.nD,
          r.2.mem ((c.tc : Thread Cert.SsdOutDxIdeal.nD Cert.SsdOutDxIdeal.τ).loc Cert.SsdOutDxIdeal.main_v2) = v0 c
          ∧ r.2.mem ((c.tc : Thread Cert.SsdOutDxIdeal.nD Cert.SsdOutDxIdeal.τ).loc Cert.SsdOutDxIdeal.main_arg0) = m ((c.tc : Thread Cert.SsdOutDxIdeal.nD Cert.SsdOutDxIdeal.τ).loc Cert.SsdOutDxIdeal.main_arg0)
          ∧ r.2.mem ((c.tc : Thread Cert.SsdOutDxIdeal.nD Cert.SsdOutDxIdeal.τ).loc Cert.SsdOutDxIdeal.main_arg1) = m ((c.tc : Thread Cert.SsdOutDxIdeal.nD Cert.SsdOutDxIdeal.τ).loc Cert.SsdOutDxIdeal.main_arg1))
      ∧ θ_run (Cert.RefSsdOutDxIdeal.defs (F := Ideal)) (onTc (τ := Cert.RefSsdOutDxIdeal.τ) (Cert.RefSsdOutDxIdeal.main (F := Ideal))) ⟨m', fun _ => 0, g'⟩ (fun r => ∀ c : Dev Cert.RefSsdOutDxIdeal.nD,
          r.2.mem ((c.tc : Thread Cert.RefSsdOutDxIdeal.nD Cert.RefSsdOutDxIdeal.τ).loc Cert.RefSsdOutDxIdeal.main_v2) = v0 c
          ∧ r.2.mem ((c.tc : Thread Cert.RefSsdOutDxIdeal.nD Cert.RefSsdOutDxIdeal.τ).loc Cert.RefSsdOutDxIdeal.main_arg0) = m' ((c.tc : Thread Cert.RefSsdOutDxIdeal.nD Cert.RefSsdOutDxIdeal.τ).loc Cert.RefSsdOutDxIdeal.main_arg0)
          ∧ r.2.mem ((c.tc : Thread Cert.RefSsdOutDxIdeal.nD Cert.RefSsdOutDxIdeal.τ).loc Cert.RefSsdOutDxIdeal.main_arg1) = m' ((c.tc : Thread Cert.RefSsdOutDxIdeal.nD Cert.RefSsdOutDxIdeal.τ).loc Cert.RefSsdOutDxIdeal.main_arg1))

def preserves_XoDw_XoDwIdeal : Prop :=
  True

def algebraic_XoDwIdeal_RefXoDwIdeal [hXoDwIdeal : Cert.XoDwIdeal.Facts] [hRefXoDwIdeal : Cert.RefXoDwIdeal.Facts] : Prop :=
  ∀ (m : (ℓ : Loc Cert.XoDwIdeal.nD Cert.XoDwIdeal.τ Cert.XoDwIdeal.sig) → Buf (Elt Ideal) ℓ) (g : Dev Cert.XoDwIdeal.nD → PrngReg)
    (m' : (ℓ : Loc Cert.RefXoDwIdeal.nD Cert.RefXoDwIdeal.τ Cert.RefXoDwIdeal.sig) → Buf (Elt Ideal) ℓ) (g' : Dev Cert.RefXoDwIdeal.nD → PrngReg), Pre_XoDwIdeal m →
    (∀ c : Dev Cert.XoDwIdeal.nD,
      m' ((c.tc : Thread Cert.RefXoDwIdeal.nD Cert.RefXoDwIdeal.τ).loc Cert.RefXoDwIdeal.main_arg0) = m ((c.tc : Thread Cert.XoDwIdeal.nD Cert.XoDwIdeal.τ).loc Cert.XoDwIdeal.main_arg0)
      ∧ m' ((c.tc : Thread Cert.RefXoDwIdeal.nD Cert.RefXoDwIdeal.τ).loc Cert.RefXoDwIdeal.main_arg1) = m ((c.tc : Thread Cert.XoDwIdeal.nD Cert.XoDwIdeal.τ).loc Cert.XoDwIdeal.main_arg1)) →
    ∃ (v0 : (c : Dev Cert.XoDwIdeal.nD) → Buf (Elt Ideal) ((c.tc : Thread Cert.XoDwIdeal.nD Cert.XoDwIdeal.τ).loc Cert.XoDwIdeal.main_v1)),
      θ_run (Cert.XoDwIdeal.defs (F := Ideal)) (onTc (τ := Cert.XoDwIdeal.τ) (Cert.XoDwIdeal.main (F := Ideal))) ⟨m, fun _ => 0, g⟩ (fun r => ∀ c : Dev Cert.XoDwIdeal.nD,
          r.2.mem ((c.tc : Thread Cert.XoDwIdeal.nD Cert.XoDwIdeal.τ).loc Cert.XoDwIdeal.main_v1) = v0 c
          ∧ r.2.mem ((c.tc : Thread Cert.XoDwIdeal.nD Cert.XoDwIdeal.τ).loc Cert.XoDwIdeal.main_arg0) = m ((c.tc : Thread Cert.XoDwIdeal.nD Cert.XoDwIdeal.τ).loc Cert.XoDwIdeal.main_arg0)
          ∧ r.2.mem ((c.tc : Thread Cert.XoDwIdeal.nD Cert.XoDwIdeal.τ).loc Cert.XoDwIdeal.main_arg1) = m ((c.tc : Thread Cert.XoDwIdeal.nD Cert.XoDwIdeal.τ).loc Cert.XoDwIdeal.main_arg1))
      ∧ θ_run (Cert.RefXoDwIdeal.defs (F := Ideal)) (onTc (τ := Cert.RefXoDwIdeal.τ) (Cert.RefXoDwIdeal.main (F := Ideal))) ⟨m', fun _ => 0, g'⟩ (fun r => ∀ c : Dev Cert.RefXoDwIdeal.nD,
          r.2.mem ((c.tc : Thread Cert.RefXoDwIdeal.nD Cert.RefXoDwIdeal.τ).loc Cert.RefXoDwIdeal.main_v3) = v0 c
          ∧ r.2.mem ((c.tc : Thread Cert.RefXoDwIdeal.nD Cert.RefXoDwIdeal.τ).loc Cert.RefXoDwIdeal.main_arg0) = m' ((c.tc : Thread Cert.RefXoDwIdeal.nD Cert.RefXoDwIdeal.τ).loc Cert.RefXoDwIdeal.main_arg0)
          ∧ r.2.mem ((c.tc : Thread Cert.RefXoDwIdeal.nD Cert.RefXoDwIdeal.τ).loc Cert.RefXoDwIdeal.main_arg1) = m' ((c.tc : Thread Cert.RefXoDwIdeal.nD Cert.RefXoDwIdeal.τ).loc Cert.RefXoDwIdeal.main_arg1))

def preserves_XoDx_XoDxIdeal : Prop :=
  True

def algebraic_XoDxIdeal_RefXoDxIdeal [hXoDxIdeal : Cert.XoDxIdeal.Facts] [hRefXoDxIdeal : Cert.RefXoDxIdeal.Facts] : Prop :=
  ∀ (m : (ℓ : Loc Cert.XoDxIdeal.nD Cert.XoDxIdeal.τ Cert.XoDxIdeal.sig) → Buf (Elt Ideal) ℓ) (g : Dev Cert.XoDxIdeal.nD → PrngReg)
    (m' : (ℓ : Loc Cert.RefXoDxIdeal.nD Cert.RefXoDxIdeal.τ Cert.RefXoDxIdeal.sig) → Buf (Elt Ideal) ℓ) (g' : Dev Cert.RefXoDxIdeal.nD → PrngReg), Pre_XoDxIdeal m →
    (∀ c : Dev Cert.XoDxIdeal.nD,
      m' ((c.tc : Thread Cert.RefXoDxIdeal.nD Cert.RefXoDxIdeal.τ).loc Cert.RefXoDxIdeal.main_arg0) = m ((c.tc : Thread Cert.XoDxIdeal.nD Cert.XoDxIdeal.τ).loc Cert.XoDxIdeal.main_arg0)
      ∧ m' ((c.tc : Thread Cert.RefXoDxIdeal.nD Cert.RefXoDxIdeal.τ).loc Cert.RefXoDxIdeal.main_arg1) = m ((c.tc : Thread Cert.XoDxIdeal.nD Cert.XoDxIdeal.τ).loc Cert.XoDxIdeal.main_arg1)) →
    ∃ (v0 : (c : Dev Cert.XoDxIdeal.nD) → Buf (Elt Ideal) ((c.tc : Thread Cert.XoDxIdeal.nD Cert.XoDxIdeal.τ).loc Cert.XoDxIdeal.main_v1)),
      θ_run (Cert.XoDxIdeal.defs (F := Ideal)) (onTc (τ := Cert.XoDxIdeal.τ) (Cert.XoDxIdeal.main (F := Ideal))) ⟨m, fun _ => 0, g⟩ (fun r => ∀ c : Dev Cert.XoDxIdeal.nD,
          r.2.mem ((c.tc : Thread Cert.XoDxIdeal.nD Cert.XoDxIdeal.τ).loc Cert.XoDxIdeal.main_v1) = v0 c
          ∧ r.2.mem ((c.tc : Thread Cert.XoDxIdeal.nD Cert.XoDxIdeal.τ).loc Cert.XoDxIdeal.main_arg0) = m ((c.tc : Thread Cert.XoDxIdeal.nD Cert.XoDxIdeal.τ).loc Cert.XoDxIdeal.main_arg0)
          ∧ r.2.mem ((c.tc : Thread Cert.XoDxIdeal.nD Cert.XoDxIdeal.τ).loc Cert.XoDxIdeal.main_arg1) = m ((c.tc : Thread Cert.XoDxIdeal.nD Cert.XoDxIdeal.τ).loc Cert.XoDxIdeal.main_arg1))
      ∧ θ_run (Cert.RefXoDxIdeal.defs (F := Ideal)) (onTc (τ := Cert.RefXoDxIdeal.τ) (Cert.RefXoDxIdeal.main (F := Ideal))) ⟨m', fun _ => 0, g'⟩ (fun r => ∀ c : Dev Cert.RefXoDxIdeal.nD,
          r.2.mem ((c.tc : Thread Cert.RefXoDxIdeal.nD Cert.RefXoDxIdeal.τ).loc Cert.RefXoDxIdeal.main_v2) = v0 c
          ∧ r.2.mem ((c.tc : Thread Cert.RefXoDxIdeal.nD Cert.RefXoDxIdeal.τ).loc Cert.RefXoDxIdeal.main_arg0) = m' ((c.tc : Thread Cert.RefXoDxIdeal.nD Cert.RefXoDxIdeal.τ).loc Cert.RefXoDxIdeal.main_arg0)
          ∧ r.2.mem ((c.tc : Thread Cert.RefXoDxIdeal.nD Cert.RefXoDxIdeal.τ).loc Cert.RefXoDxIdeal.main_arg1) = m' ((c.tc : Thread Cert.RefXoDxIdeal.nD Cert.RefXoDxIdeal.τ).loc Cert.RefXoDxIdeal.main_arg1))

def preserves_ConvOutDw_ConvOutDwIdeal : Prop :=
  True

def algebraic_ConvOutDwIdeal_RefConvOutDwIdeal [hConvOutDwIdeal : Cert.ConvOutDwIdeal.Facts] [hRefConvOutDwIdeal : Cert.RefConvOutDwIdeal.Facts] : Prop :=
  ∀ (m : (ℓ : Loc Cert.ConvOutDwIdeal.nD Cert.ConvOutDwIdeal.τ Cert.ConvOutDwIdeal.sig) → Buf (Elt Ideal) ℓ) (g : Dev Cert.ConvOutDwIdeal.nD → PrngReg)
    (m' : (ℓ : Loc Cert.RefConvOutDwIdeal.nD Cert.RefConvOutDwIdeal.τ Cert.RefConvOutDwIdeal.sig) → Buf (Elt Ideal) ℓ) (g' : Dev Cert.RefConvOutDwIdeal.nD → PrngReg), Pre_ConvOutDwIdeal m →
    (∀ c : Dev Cert.ConvOutDwIdeal.nD,
      m' ((c.tc : Thread Cert.RefConvOutDwIdeal.nD Cert.RefConvOutDwIdeal.τ).loc Cert.RefConvOutDwIdeal.main_arg0) = m ((c.tc : Thread Cert.ConvOutDwIdeal.nD Cert.ConvOutDwIdeal.τ).loc Cert.ConvOutDwIdeal.main_arg0)
      ∧ m' ((c.tc : Thread Cert.RefConvOutDwIdeal.nD Cert.RefConvOutDwIdeal.τ).loc Cert.RefConvOutDwIdeal.main_arg1) = m ((c.tc : Thread Cert.ConvOutDwIdeal.nD Cert.ConvOutDwIdeal.τ).loc Cert.ConvOutDwIdeal.main_arg1)) →
    ∃ (v0 : (c : Dev Cert.ConvOutDwIdeal.nD) → Buf (Elt Ideal) ((c.tc : Thread Cert.ConvOutDwIdeal.nD Cert.ConvOutDwIdeal.τ).loc Cert.ConvOutDwIdeal.main_v2)),
      θ_run (Cert.ConvOutDwIdeal.defs (F := Ideal)) (onTc (τ := Cert.ConvOutDwIdeal.τ) (Cert.ConvOutDwIdeal.main (F := Ideal))) ⟨m, fun _ => 0, g⟩ (fun r => ∀ c : Dev Cert.ConvOutDwIdeal.nD,
          r.2.mem ((c.tc : Thread Cert.ConvOutDwIdeal.nD Cert.ConvOutDwIdeal.τ).loc Cert.ConvOutDwIdeal.main_v2) = v0 c
          ∧ r.2.mem ((c.tc : Thread Cert.ConvOutDwIdeal.nD Cert.ConvOutDwIdeal.τ).loc Cert.ConvOutDwIdeal.main_arg0) = m ((c.tc : Thread Cert.ConvOutDwIdeal.nD Cert.ConvOutDwIdeal.τ).loc Cert.ConvOutDwIdeal.main_arg0)
          ∧ r.2.mem ((c.tc : Thread Cert.ConvOutDwIdeal.nD Cert.ConvOutDwIdeal.τ).loc Cert.ConvOutDwIdeal.main_arg1) = m ((c.tc : Thread Cert.ConvOutDwIdeal.nD Cert.ConvOutDwIdeal.τ).loc Cert.ConvOutDwIdeal.main_arg1))
      ∧ θ_run (Cert.RefConvOutDwIdeal.defs (F := Ideal)) (onTc (τ := Cert.RefConvOutDwIdeal.τ) (Cert.RefConvOutDwIdeal.main (F := Ideal))) ⟨m', fun _ => 0, g'⟩ (fun r => ∀ c : Dev Cert.RefConvOutDwIdeal.nD,
          r.2.mem ((c.tc : Thread Cert.RefConvOutDwIdeal.nD Cert.RefConvOutDwIdeal.τ).loc Cert.RefConvOutDwIdeal.main_v3) = v0 c
          ∧ r.2.mem ((c.tc : Thread Cert.RefConvOutDwIdeal.nD Cert.RefConvOutDwIdeal.τ).loc Cert.RefConvOutDwIdeal.main_arg0) = m' ((c.tc : Thread Cert.RefConvOutDwIdeal.nD Cert.RefConvOutDwIdeal.τ).loc Cert.RefConvOutDwIdeal.main_arg0)
          ∧ r.2.mem ((c.tc : Thread Cert.RefConvOutDwIdeal.nD Cert.RefConvOutDwIdeal.τ).loc Cert.RefConvOutDwIdeal.main_arg1) = m' ((c.tc : Thread Cert.RefConvOutDwIdeal.nD Cert.RefConvOutDwIdeal.τ).loc Cert.RefConvOutDwIdeal.main_arg1))

def preserves_ConvOutDx_ConvOutDxIdeal : Prop :=
  True

def algebraic_ConvOutDxIdeal_RefConvOutDxIdeal [hConvOutDxIdeal : Cert.ConvOutDxIdeal.Facts] [hRefConvOutDxIdeal : Cert.RefConvOutDxIdeal.Facts] : Prop :=
  ∀ (m : (ℓ : Loc Cert.ConvOutDxIdeal.nD Cert.ConvOutDxIdeal.τ Cert.ConvOutDxIdeal.sig) → Buf (Elt Ideal) ℓ) (g : Dev Cert.ConvOutDxIdeal.nD → PrngReg)
    (m' : (ℓ : Loc Cert.RefConvOutDxIdeal.nD Cert.RefConvOutDxIdeal.τ Cert.RefConvOutDxIdeal.sig) → Buf (Elt Ideal) ℓ) (g' : Dev Cert.RefConvOutDxIdeal.nD → PrngReg), Pre_ConvOutDxIdeal m →
    (∀ c : Dev Cert.ConvOutDxIdeal.nD,
      m' ((c.tc : Thread Cert.RefConvOutDxIdeal.nD Cert.RefConvOutDxIdeal.τ).loc Cert.RefConvOutDxIdeal.main_arg0) = m ((c.tc : Thread Cert.ConvOutDxIdeal.nD Cert.ConvOutDxIdeal.τ).loc Cert.ConvOutDxIdeal.main_arg0)
      ∧ m' ((c.tc : Thread Cert.RefConvOutDxIdeal.nD Cert.RefConvOutDxIdeal.τ).loc Cert.RefConvOutDxIdeal.main_arg1) = m ((c.tc : Thread Cert.ConvOutDxIdeal.nD Cert.ConvOutDxIdeal.τ).loc Cert.ConvOutDxIdeal.main_arg1)) →
    ∃ (v0 : (c : Dev Cert.ConvOutDxIdeal.nD) → Buf (Elt Ideal) ((c.tc : Thread Cert.ConvOutDxIdeal.nD Cert.ConvOutDxIdeal.τ).loc Cert.ConvOutDxIdeal.main_v2)),
      θ_run (Cert.ConvOutDxIdeal.defs (F := Ideal)) (onTc (τ := Cert.ConvOutDxIdeal.τ) (Cert.ConvOutDxIdeal.main (F := Ideal))) ⟨m, fun _ => 0, g⟩ (fun r => ∀ c : Dev Cert.ConvOutDxIdeal.nD,
          r.2.mem ((c.tc : Thread Cert.ConvOutDxIdeal.nD Cert.ConvOutDxIdeal.τ).loc Cert.ConvOutDxIdeal.main_v2) = v0 c
          ∧ r.2.mem ((c.tc : Thread Cert.ConvOutDxIdeal.nD Cert.ConvOutDxIdeal.τ).loc Cert.ConvOutDxIdeal.main_arg0) = m ((c.tc : Thread Cert.ConvOutDxIdeal.nD Cert.ConvOutDxIdeal.τ).loc Cert.ConvOutDxIdeal.main_arg0)
          ∧ r.2.mem ((c.tc : Thread Cert.ConvOutDxIdeal.nD Cert.ConvOutDxIdeal.τ).loc Cert.ConvOutDxIdeal.main_arg1) = m ((c.tc : Thread Cert.ConvOutDxIdeal.nD Cert.ConvOutDxIdeal.τ).loc Cert.ConvOutDxIdeal.main_arg1))
      ∧ θ_run (Cert.RefConvOutDxIdeal.defs (F := Ideal)) (onTc (τ := Cert.RefConvOutDxIdeal.τ) (Cert.RefConvOutDxIdeal.main (F := Ideal))) ⟨m', fun _ => 0, g'⟩ (fun r => ∀ c : Dev Cert.RefConvOutDxIdeal.nD,
          r.2.mem ((c.tc : Thread Cert.RefConvOutDxIdeal.nD Cert.RefConvOutDxIdeal.τ).loc Cert.RefConvOutDxIdeal.main_v2) = v0 c
          ∧ r.2.mem ((c.tc : Thread Cert.RefConvOutDxIdeal.nD Cert.RefConvOutDxIdeal.τ).loc Cert.RefConvOutDxIdeal.main_arg0) = m' ((c.tc : Thread Cert.RefConvOutDxIdeal.nD Cert.RefConvOutDxIdeal.τ).loc Cert.RefConvOutDxIdeal.main_arg0)
          ∧ r.2.mem ((c.tc : Thread Cert.RefConvOutDxIdeal.nD Cert.RefConvOutDxIdeal.τ).loc Cert.RefConvOutDxIdeal.main_arg1) = m' ((c.tc : Thread Cert.RefConvOutDxIdeal.nD Cert.RefConvOutDxIdeal.τ).loc Cert.RefConvOutDxIdeal.main_arg1))

def preserves_MmIn_MmInIdeal : Prop :=
  True

def algebraic_MmInIdeal_RefMmInIdeal [hMmInIdeal : Cert.MmInIdeal.Facts] [hRefMmInIdeal : Cert.RefMmInIdeal.Facts] : Prop :=
  ∀ (m : (ℓ : Loc Cert.MmInIdeal.nD Cert.MmInIdeal.τ Cert.MmInIdeal.sig) → Buf (Elt Ideal) ℓ) (g : Dev Cert.MmInIdeal.nD → PrngReg)
    (m' : (ℓ : Loc Cert.RefMmInIdeal.nD Cert.RefMmInIdeal.τ Cert.RefMmInIdeal.sig) → Buf (Elt Ideal) ℓ) (g' : Dev Cert.RefMmInIdeal.nD → PrngReg), Pre_MmInIdeal m →
    (∀ c : Dev Cert.MmInIdeal.nD,
      m' ((c.tc : Thread Cert.RefMmInIdeal.nD Cert.RefMmInIdeal.τ).loc Cert.RefMmInIdeal.main_arg0) = m ((c.tc : Thread Cert.MmInIdeal.nD Cert.MmInIdeal.τ).loc Cert.MmInIdeal.main_arg0)
      ∧ m' ((c.tc : Thread Cert.RefMmInIdeal.nD Cert.RefMmInIdeal.τ).loc Cert.RefMmInIdeal.main_arg1) = m ((c.tc : Thread Cert.MmInIdeal.nD Cert.MmInIdeal.τ).loc Cert.MmInIdeal.main_arg1)) →
    ∃ (v0 : (c : Dev Cert.MmInIdeal.nD) → Buf (Elt Ideal) ((c.tc : Thread Cert.MmInIdeal.nD Cert.MmInIdeal.τ).loc Cert.MmInIdeal.main_v2)),
      θ_run (Cert.MmInIdeal.defs (F := Ideal)) (onTc (τ := Cert.MmInIdeal.τ) (Cert.MmInIdeal.main (F := Ideal))) ⟨m, fun _ => 0, g⟩ (fun r => ∀ c : Dev Cert.MmInIdeal.nD,
          r.2.mem ((c.tc : Thread Cert.MmInIdeal.nD Cert.MmInIdeal.τ).loc Cert.MmInIdeal.main_v2) = v0 c
          ∧ r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
          ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ θ_run (Cert.RefMmInIdeal.defs (F := Ideal)) (onTc (τ := Cert.RefMmInIdeal.τ) (Cert.RefMmInIdeal.main (F := Ideal))) ⟨m', fun _ => 0, g'⟩ (fun r => ∀ c : Dev Cert.RefMmInIdeal.nD,
          r.2.mem ((c.tc : Thread Cert.RefMmInIdeal.nD Cert.RefMmInIdeal.τ).loc Cert.RefMmInIdeal.main_v1) = v0 c
          ∧ r.2.mem ((c.tc : Thread Cert.RefMmInIdeal.nD Cert.RefMmInIdeal.τ).loc Cert.RefMmInIdeal.main_arg0) = m' ((c.tc : Thread Cert.RefMmInIdeal.nD Cert.RefMmInIdeal.τ).loc Cert.RefMmInIdeal.main_arg0)
          ∧ r.2.mem ((c.tc : Thread Cert.RefMmInIdeal.nD Cert.RefMmInIdeal.τ).loc Cert.RefMmInIdeal.main_arg1) = m' ((c.tc : Thread Cert.RefMmInIdeal.nD Cert.RefMmInIdeal.τ).loc Cert.RefMmInIdeal.main_arg1))

def preserves_MmUp_MmUpIdeal : Prop :=
  True

def algebraic_MmUpIdeal_RefMmUpIdeal [hMmUpIdeal : Cert.MmUpIdeal.Facts] [hRefMmUpIdeal : Cert.RefMmUpIdeal.Facts] : Prop :=
  ∀ (m : (ℓ : Loc Cert.MmUpIdeal.nD Cert.MmUpIdeal.τ Cert.MmUpIdeal.sig) → Buf (Elt Ideal) ℓ) (g : Dev Cert.MmUpIdeal.nD → PrngReg)
    (m' : (ℓ : Loc Cert.RefMmUpIdeal.nD Cert.RefMmUpIdeal.τ Cert.RefMmUpIdeal.sig) → Buf (Elt Ideal) ℓ) (g' : Dev Cert.RefMmUpIdeal.nD → PrngReg), Pre_MmUpIdeal m →
    (∀ c : Dev Cert.MmUpIdeal.nD,
      m' ((c.tc : Thread Cert.RefMmUpIdeal.nD Cert.RefMmUpIdeal.τ).loc Cert.RefMmUpIdeal.main_arg0) = m ((c.tc : Thread Cert.MmUpIdeal.nD Cert.MmUpIdeal.τ).loc Cert.MmUpIdeal.main_arg0)
      ∧ m' ((c.tc : Thread Cert.RefMmUpIdeal.nD Cert.RefMmUpIdeal.τ).loc Cert.RefMmUpIdeal.main_arg1) = m ((c.tc : Thread Cert.MmUpIdeal.nD Cert.MmUpIdeal.τ).loc Cert.MmUpIdeal.main_arg1)) →
    ∃ (v0 : (c : Dev Cert.MmUpIdeal.nD) → Buf (Elt Ideal) ((c.tc : Thread Cert.MmUpIdeal.nD Cert.MmUpIdeal.τ).loc Cert.MmUpIdeal.main_v2_0)) (v1 : (c : Dev Cert.MmUpIdeal.nD) → Buf (Elt Ideal) ((c.tc : Thread Cert.MmUpIdeal.nD Cert.MmUpIdeal.τ).loc Cert.MmUpIdeal.main_v2_1)),
      θ_run (Cert.MmUpIdeal.defs (F := Ideal)) (onTc (τ := Cert.MmUpIdeal.τ) (Cert.MmUpIdeal.main (F := Ideal))) ⟨m, fun _ => 0, g⟩ (fun r => ∀ c : Dev Cert.MmUpIdeal.nD,
          r.2.mem ((c.tc : Thread Cert.MmUpIdeal.nD Cert.MmUpIdeal.τ).loc Cert.MmUpIdeal.main_v2_0) = v0 c
          ∧ r.2.mem ((c.tc : Thread Cert.MmUpIdeal.nD Cert.MmUpIdeal.τ).loc Cert.MmUpIdeal.main_v2_1) = v1 c
          ∧ r.2.mem ((c.tc : Thread Cert.MmUpIdeal.nD Cert.MmUpIdeal.τ).loc Cert.MmUpIdeal.main_arg0) = m ((c.tc : Thread Cert.MmUpIdeal.nD Cert.MmUpIdeal.τ).loc Cert.MmUpIdeal.main_arg0)
          ∧ r.2.mem ((c.tc : Thread Cert.MmUpIdeal.nD Cert.MmUpIdeal.τ).loc Cert.MmUpIdeal.main_arg1) = m ((c.tc : Thread Cert.MmUpIdeal.nD Cert.MmUpIdeal.τ).loc Cert.MmUpIdeal.main_arg1))
      ∧ θ_run (Cert.RefMmUpIdeal.defs (F := Ideal)) (onTc (τ := Cert.RefMmUpIdeal.τ) (Cert.RefMmUpIdeal.main (F := Ideal))) ⟨m', fun _ => 0, g'⟩ (fun r => ∀ c : Dev Cert.RefMmUpIdeal.nD,
          r.2.mem ((c.tc : Thread Cert.RefMmUpIdeal.nD Cert.RefMmUpIdeal.τ).loc Cert.RefMmUpIdeal.main_v0) = v0 c
          ∧ r.2.mem ((c.tc : Thread Cert.RefMmUpIdeal.nD Cert.RefMmUpIdeal.τ).loc Cert.RefMmUpIdeal.main_v3) = v1 c
          ∧ r.2.mem ((c.tc : Thread Cert.RefMmUpIdeal.nD Cert.RefMmUpIdeal.τ).loc Cert.RefMmUpIdeal.main_arg0) = m' ((c.tc : Thread Cert.RefMmUpIdeal.nD Cert.RefMmUpIdeal.τ).loc Cert.RefMmUpIdeal.main_arg0)
          ∧ r.2.mem ((c.tc : Thread Cert.RefMmUpIdeal.nD Cert.RefMmUpIdeal.τ).loc Cert.RefMmUpIdeal.main_arg1) = m' ((c.tc : Thread Cert.RefMmUpIdeal.nD Cert.RefMmUpIdeal.τ).loc Cert.RefMmUpIdeal.main_arg1))

def preserves_MmDown_MmDownIdeal : Prop :=
  True

def algebraic_MmDownIdeal_RefMmDownIdeal [hMmDownIdeal : Cert.MmDownIdeal.Facts] [hRefMmDownIdeal : Cert.RefMmDownIdeal.Facts] : Prop :=
  ∀ (m : (ℓ : Loc Cert.MmDownIdeal.nD Cert.MmDownIdeal.τ Cert.MmDownIdeal.sig) → Buf (Elt Ideal) ℓ) (g : Dev Cert.MmDownIdeal.nD → PrngReg)
    (m' : (ℓ : Loc Cert.RefMmDownIdeal.nD Cert.RefMmDownIdeal.τ Cert.RefMmDownIdeal.sig) → Buf (Elt Ideal) ℓ) (g' : Dev Cert.RefMmDownIdeal.nD → PrngReg), Pre_MmDownIdeal m →
    (∀ c : Dev Cert.MmDownIdeal.nD,
      m' ((c.tc : Thread Cert.RefMmDownIdeal.nD Cert.RefMmDownIdeal.τ).loc Cert.RefMmDownIdeal.main_arg0) = m ((c.tc : Thread Cert.MmDownIdeal.nD Cert.MmDownIdeal.τ).loc Cert.MmDownIdeal.main_arg0)
      ∧ m' ((c.tc : Thread Cert.RefMmDownIdeal.nD Cert.RefMmDownIdeal.τ).loc Cert.RefMmDownIdeal.main_arg1) = m ((c.tc : Thread Cert.MmDownIdeal.nD Cert.MmDownIdeal.τ).loc Cert.MmDownIdeal.main_arg1)
      ∧ m' ((c.tc : Thread Cert.RefMmDownIdeal.nD Cert.RefMmDownIdeal.τ).loc Cert.RefMmDownIdeal.main_arg2) = m ((c.tc : Thread Cert.MmDownIdeal.nD Cert.MmDownIdeal.τ).loc Cert.MmDownIdeal.main_arg2)) →
    ∃ (v0 : (c : Dev Cert.MmDownIdeal.nD) → Buf (Elt Ideal) ((c.tc : Thread Cert.MmDownIdeal.nD Cert.MmDownIdeal.τ).loc Cert.MmDownIdeal.main_v2)),
      θ_run (Cert.MmDownIdeal.defs (F := Ideal)) (onTc (τ := Cert.MmDownIdeal.τ) (Cert.MmDownIdeal.main (F := Ideal))) ⟨m, fun _ => 0, g⟩ (fun r => ∀ c : Dev Cert.MmDownIdeal.nD,
          r.2.mem ((c.tc : Thread Cert.MmDownIdeal.nD Cert.MmDownIdeal.τ).loc Cert.MmDownIdeal.main_v2) = v0 c
          ∧ r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
          ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1)
          ∧ r.2.mem ((c.tc : Thread Cert.MmDownIdeal.nD Cert.MmDownIdeal.τ).loc Cert.MmDownIdeal.main_arg2) = m ((c.tc : Thread Cert.MmDownIdeal.nD Cert.MmDownIdeal.τ).loc Cert.MmDownIdeal.main_arg2))
      ∧ θ_run (Cert.RefMmDownIdeal.defs (F := Ideal)) (onTc (τ := Cert.RefMmDownIdeal.τ) (Cert.RefMmDownIdeal.main (F := Ideal))) ⟨m', fun _ => 0, g'⟩ (fun r => ∀ c : Dev Cert.RefMmDownIdeal.nD,
          r.2.mem ((c.tc : Thread Cert.RefMmDownIdeal.nD Cert.RefMmDownIdeal.τ).loc Cert.RefMmDownIdeal.main_v1) = v0 c
          ∧ r.2.mem ((c.tc : Thread Cert.RefMmDownIdeal.nD Cert.RefMmDownIdeal.τ).loc Cert.RefMmDownIdeal.main_arg0) = m' ((c.tc : Thread Cert.RefMmDownIdeal.nD Cert.RefMmDownIdeal.τ).loc Cert.RefMmDownIdeal.main_arg0)
          ∧ r.2.mem ((c.tc : Thread Cert.RefMmDownIdeal.nD Cert.RefMmDownIdeal.τ).loc Cert.RefMmDownIdeal.main_arg1) = m' ((c.tc : Thread Cert.RefMmDownIdeal.nD Cert.RefMmDownIdeal.τ).loc Cert.RefMmDownIdeal.main_arg1)
          ∧ r.2.mem ((c.tc : Thread Cert.RefMmDownIdeal.nD Cert.RefMmDownIdeal.τ).loc Cert.RefMmDownIdeal.main_arg2) = m' ((c.tc : Thread Cert.RefMmDownIdeal.nD Cert.RefMmDownIdeal.τ).loc Cert.RefMmDownIdeal.main_arg2))

def preserves_MmSsdOut_MmSsdOutIdeal : Prop :=
  True

def algebraic_MmSsdOutIdeal_RefMmSsdOutIdeal [hMmSsdOutIdeal : Cert.MmSsdOutIdeal.Facts] [hRefMmSsdOutIdeal : Cert.RefMmSsdOutIdeal.Facts] : Prop :=
  ∀ (m : (ℓ : Loc Cert.MmSsdOutIdeal.nD Cert.MmSsdOutIdeal.τ Cert.MmSsdOutIdeal.sig) → Buf (Elt Ideal) ℓ) (g : Dev Cert.MmSsdOutIdeal.nD → PrngReg)
    (m' : (ℓ : Loc Cert.RefMmSsdOutIdeal.nD Cert.RefMmSsdOutIdeal.τ Cert.RefMmSsdOutIdeal.sig) → Buf (Elt Ideal) ℓ) (g' : Dev Cert.RefMmSsdOutIdeal.nD → PrngReg), Pre_MmSsdOutIdeal m →
    (∀ c : Dev Cert.MmSsdOutIdeal.nD,
      m' ((c.tc : Thread Cert.RefMmSsdOutIdeal.nD Cert.RefMmSsdOutIdeal.τ).loc Cert.RefMmSsdOutIdeal.main_arg0) = m ((c.tc : Thread Cert.MmSsdOutIdeal.nD Cert.MmSsdOutIdeal.τ).loc Cert.MmSsdOutIdeal.main_arg0)
      ∧ m' ((c.tc : Thread Cert.RefMmSsdOutIdeal.nD Cert.RefMmSsdOutIdeal.τ).loc Cert.RefMmSsdOutIdeal.main_arg1) = m ((c.tc : Thread Cert.MmSsdOutIdeal.nD Cert.MmSsdOutIdeal.τ).loc Cert.MmSsdOutIdeal.main_arg1)) →
    ∃ (v0 : (c : Dev Cert.MmSsdOutIdeal.nD) → Buf (Elt Ideal) ((c.tc : Thread Cert.MmSsdOutIdeal.nD Cert.MmSsdOutIdeal.τ).loc Cert.MmSsdOutIdeal.main_v2)),
      θ_run (Cert.MmSsdOutIdeal.defs (F := Ideal)) (onTc (τ := Cert.MmSsdOutIdeal.τ) (Cert.MmSsdOutIdeal.main (F := Ideal))) ⟨m, fun _ => 0, g⟩ (fun r => ∀ c : Dev Cert.MmSsdOutIdeal.nD,
          r.2.mem ((c.tc : Thread Cert.MmSsdOutIdeal.nD Cert.MmSsdOutIdeal.τ).loc Cert.MmSsdOutIdeal.main_v2) = v0 c
          ∧ r.2.mem ((c.tc : Thread Cert.MmSsdOutIdeal.nD Cert.MmSsdOutIdeal.τ).loc Cert.MmSsdOutIdeal.main_arg0) = m ((c.tc : Thread Cert.MmSsdOutIdeal.nD Cert.MmSsdOutIdeal.τ).loc Cert.MmSsdOutIdeal.main_arg0)
          ∧ r.2.mem ((c.tc : Thread Cert.MmSsdOutIdeal.nD Cert.MmSsdOutIdeal.τ).loc Cert.MmSsdOutIdeal.main_arg1) = m ((c.tc : Thread Cert.MmSsdOutIdeal.nD Cert.MmSsdOutIdeal.τ).loc Cert.MmSsdOutIdeal.main_arg1))
      ∧ θ_run (Cert.RefMmSsdOutIdeal.defs (F := Ideal)) (onTc (τ := Cert.RefMmSsdOutIdeal.τ) (Cert.RefMmSsdOutIdeal.main (F := Ideal))) ⟨m', fun _ => 0, g'⟩ (fun r => ∀ c : Dev Cert.RefMmSsdOutIdeal.nD,
          r.2.mem ((c.tc : Thread Cert.RefMmSsdOutIdeal.nD Cert.RefMmSsdOutIdeal.τ).loc Cert.RefMmSsdOutIdeal.main_v0) = v0 c
          ∧ r.2.mem ((c.tc : Thread Cert.RefMmSsdOutIdeal.nD Cert.RefMmSsdOutIdeal.τ).loc Cert.RefMmSsdOutIdeal.main_arg0) = m' ((c.tc : Thread Cert.RefMmSsdOutIdeal.nD Cert.RefMmSsdOutIdeal.τ).loc Cert.RefMmSsdOutIdeal.main_arg0)
          ∧ r.2.mem ((c.tc : Thread Cert.RefMmSsdOutIdeal.nD Cert.RefMmSsdOutIdeal.τ).loc Cert.RefMmSsdOutIdeal.main_arg1) = m' ((c.tc : Thread Cert.RefMmSsdOutIdeal.nD Cert.RefMmSsdOutIdeal.τ).loc Cert.RefMmSsdOutIdeal.main_arg1))

def preserves_MmConvOut_MmConvOutIdeal : Prop :=
  True

def algebraic_MmConvOutIdeal_RefMmConvOutIdeal [hMmConvOutIdeal : Cert.MmConvOutIdeal.Facts] [hRefMmConvOutIdeal : Cert.RefMmConvOutIdeal.Facts] : Prop :=
  ∀ (m : (ℓ : Loc Cert.MmConvOutIdeal.nD Cert.MmConvOutIdeal.τ Cert.MmConvOutIdeal.sig) → Buf (Elt Ideal) ℓ) (g : Dev Cert.MmConvOutIdeal.nD → PrngReg)
    (m' : (ℓ : Loc Cert.RefMmConvOutIdeal.nD Cert.RefMmConvOutIdeal.τ Cert.RefMmConvOutIdeal.sig) → Buf (Elt Ideal) ℓ) (g' : Dev Cert.RefMmConvOutIdeal.nD → PrngReg), Pre_MmConvOutIdeal m →
    (∀ c : Dev Cert.MmConvOutIdeal.nD,
      m' ((c.tc : Thread Cert.RefMmConvOutIdeal.nD Cert.RefMmConvOutIdeal.τ).loc Cert.RefMmConvOutIdeal.main_arg0) = m ((c.tc : Thread Cert.MmConvOutIdeal.nD Cert.MmConvOutIdeal.τ).loc Cert.MmConvOutIdeal.main_arg0)
      ∧ m' ((c.tc : Thread Cert.RefMmConvOutIdeal.nD Cert.RefMmConvOutIdeal.τ).loc Cert.RefMmConvOutIdeal.main_arg1) = m ((c.tc : Thread Cert.MmConvOutIdeal.nD Cert.MmConvOutIdeal.τ).loc Cert.MmConvOutIdeal.main_arg1)) →
    ∃ (v0 : (c : Dev Cert.MmConvOutIdeal.nD) → Buf (Elt Ideal) ((c.tc : Thread Cert.MmConvOutIdeal.nD Cert.MmConvOutIdeal.τ).loc Cert.MmConvOutIdeal.main_v2)),
      θ_run (Cert.MmConvOutIdeal.defs (F := Ideal)) (onTc (τ := Cert.MmConvOutIdeal.τ) (Cert.MmConvOutIdeal.main (F := Ideal))) ⟨m, fun _ => 0, g⟩ (fun r => ∀ c : Dev Cert.MmConvOutIdeal.nD,
          r.2.mem ((c.tc : Thread Cert.MmConvOutIdeal.nD Cert.MmConvOutIdeal.τ).loc Cert.MmConvOutIdeal.main_v2) = v0 c
          ∧ r.2.mem ((c.tc : Thread Cert.MmConvOutIdeal.nD Cert.MmConvOutIdeal.τ).loc Cert.MmConvOutIdeal.main_arg0) = m ((c.tc : Thread Cert.MmConvOutIdeal.nD Cert.MmConvOutIdeal.τ).loc Cert.MmConvOutIdeal.main_arg0)
          ∧ r.2.mem ((c.tc : Thread Cert.MmConvOutIdeal.nD Cert.MmConvOutIdeal.τ).loc Cert.MmConvOutIdeal.main_arg1) = m ((c.tc : Thread Cert.MmConvOutIdeal.nD Cert.MmConvOutIdeal.τ).loc Cert.MmConvOutIdeal.main_arg1))
      ∧ θ_run (Cert.RefMmConvOutIdeal.defs (F := Ideal)) (onTc (τ := Cert.RefMmConvOutIdeal.τ) (Cert.RefMmConvOutIdeal.main (F := Ideal))) ⟨m', fun _ => 0, g'⟩ (fun r => ∀ c : Dev Cert.RefMmConvOutIdeal.nD,
          r.2.mem ((c.tc : Thread Cert.RefMmConvOutIdeal.nD Cert.RefMmConvOutIdeal.τ).loc Cert.RefMmConvOutIdeal.main_v0) = v0 c
          ∧ r.2.mem ((c.tc : Thread Cert.RefMmConvOutIdeal.nD Cert.RefMmConvOutIdeal.τ).loc Cert.RefMmConvOutIdeal.main_arg0) = m' ((c.tc : Thread Cert.RefMmConvOutIdeal.nD Cert.RefMmConvOutIdeal.τ).loc Cert.RefMmConvOutIdeal.main_arg0)
          ∧ r.2.mem ((c.tc : Thread Cert.RefMmConvOutIdeal.nD Cert.RefMmConvOutIdeal.τ).loc Cert.RefMmConvOutIdeal.main_arg1) = m' ((c.tc : Thread Cert.RefMmConvOutIdeal.nD Cert.RefMmConvOutIdeal.τ).loc Cert.RefMmConvOutIdeal.main_arg1))

def preserves_MmXo_MmXoIdeal : Prop :=
  True

def algebraic_MmXoIdeal_RefMmXoIdeal [hMmXoIdeal : Cert.MmXoIdeal.Facts] [hRefMmXoIdeal : Cert.RefMmXoIdeal.Facts] : Prop :=
  ∀ (m : (ℓ : Loc Cert.MmXoIdeal.nD Cert.MmXoIdeal.τ Cert.MmXoIdeal.sig) → Buf (Elt Ideal) ℓ) (g : Dev Cert.MmXoIdeal.nD → PrngReg)
    (m' : (ℓ : Loc Cert.RefMmXoIdeal.nD Cert.RefMmXoIdeal.τ Cert.RefMmXoIdeal.sig) → Buf (Elt Ideal) ℓ) (g' : Dev Cert.RefMmXoIdeal.nD → PrngReg), Pre_MmXoIdeal m →
    (∀ c : Dev Cert.MmXoIdeal.nD,
      m' ((c.tc : Thread Cert.RefMmXoIdeal.nD Cert.RefMmXoIdeal.τ).loc Cert.RefMmXoIdeal.main_arg0) = m ((c.tc : Thread Cert.MmXoIdeal.nD Cert.MmXoIdeal.τ).loc Cert.MmXoIdeal.main_arg0)
      ∧ m' ((c.tc : Thread Cert.RefMmXoIdeal.nD Cert.RefMmXoIdeal.τ).loc Cert.RefMmXoIdeal.main_arg1) = m ((c.tc : Thread Cert.MmXoIdeal.nD Cert.MmXoIdeal.τ).loc Cert.MmXoIdeal.main_arg1)
      ∧ m' ((c.tc : Thread Cert.RefMmXoIdeal.nD Cert.RefMmXoIdeal.τ).loc Cert.RefMmXoIdeal.main_arg2) = m ((c.tc : Thread Cert.MmXoIdeal.nD Cert.MmXoIdeal.τ).loc Cert.MmXoIdeal.main_arg2)) →
    ∃ (v0 : (c : Dev Cert.MmXoIdeal.nD) → Buf (Elt Ideal) ((c.tc : Thread Cert.MmXoIdeal.nD Cert.MmXoIdeal.τ).loc Cert.MmXoIdeal.main_v2)),
      θ_run (Cert.MmXoIdeal.defs (F := Ideal)) (onTc (τ := Cert.MmXoIdeal.τ) (Cert.MmXoIdeal.main (F := Ideal))) ⟨m, fun _ => 0, g⟩ (fun r => ∀ c : Dev Cert.MmXoIdeal.nD,
          r.2.mem ((c.tc : Thread Cert.MmXoIdeal.nD Cert.MmXoIdeal.τ).loc Cert.MmXoIdeal.main_v2) = v0 c
          ∧ r.2.mem ((c.tc : Thread Cert.MmXoIdeal.nD Cert.MmXoIdeal.τ).loc Cert.MmXoIdeal.main_arg0) = m ((c.tc : Thread Cert.MmXoIdeal.nD Cert.MmXoIdeal.τ).loc Cert.MmXoIdeal.main_arg0)
          ∧ r.2.mem ((c.tc : Thread Cert.MmXoIdeal.nD Cert.MmXoIdeal.τ).loc Cert.MmXoIdeal.main_arg1) = m ((c.tc : Thread Cert.MmXoIdeal.nD Cert.MmXoIdeal.τ).loc Cert.MmXoIdeal.main_arg1)
          ∧ r.2.mem ((c.tc : Thread Cert.MmXoIdeal.nD Cert.MmXoIdeal.τ).loc Cert.MmXoIdeal.main_arg2) = m ((c.tc : Thread Cert.MmXoIdeal.nD Cert.MmXoIdeal.τ).loc Cert.MmXoIdeal.main_arg2))
      ∧ θ_run (Cert.RefMmXoIdeal.defs (F := Ideal)) (onTc (τ := Cert.RefMmXoIdeal.τ) (Cert.RefMmXoIdeal.main (F := Ideal))) ⟨m', fun _ => 0, g'⟩ (fun r => ∀ c : Dev Cert.RefMmXoIdeal.nD,
          r.2.mem ((c.tc : Thread Cert.RefMmXoIdeal.nD Cert.RefMmXoIdeal.τ).loc Cert.RefMmXoIdeal.main_v1) = v0 c
          ∧ r.2.mem ((c.tc : Thread Cert.RefMmXoIdeal.nD Cert.RefMmXoIdeal.τ).loc Cert.RefMmXoIdeal.main_arg0) = m' ((c.tc : Thread Cert.RefMmXoIdeal.nD Cert.RefMmXoIdeal.τ).loc Cert.RefMmXoIdeal.main_arg0)
          ∧ r.2.mem ((c.tc : Thread Cert.RefMmXoIdeal.nD Cert.RefMmXoIdeal.τ).loc Cert.RefMmXoIdeal.main_arg1) = m' ((c.tc : Thread Cert.RefMmXoIdeal.nD Cert.RefMmXoIdeal.τ).loc Cert.RefMmXoIdeal.main_arg1)
          ∧ r.2.mem ((c.tc : Thread Cert.RefMmXoIdeal.nD Cert.RefMmXoIdeal.τ).loc Cert.RefMmXoIdeal.main_arg2) = m' ((c.tc : Thread Cert.RefMmXoIdeal.nD Cert.RefMmXoIdeal.τ).loc Cert.RefMmXoIdeal.main_arg2))

def preserves_ConvBBwd_ConvBBwdIdeal : Prop :=
  True

def algebraic_ConvBBwdIdeal_RefConvBBwdIdeal_pre_finite_cotangent [hConvBBwdIdeal : Cert.ConvBBwdIdeal.Facts] [hRefConvBBwdIdeal : Cert.RefConvBBwdIdeal.Facts] [hPre_finite_cotangent : Cert.Pre_finite_cotangent.Facts] : Prop :=
  ∀ (m : (ℓ : Loc Cert.ConvBBwdIdeal.nD Cert.ConvBBwdIdeal.τ Cert.ConvBBwdIdeal.sig) → Buf (Elt Ideal) ℓ) (g : Dev Cert.ConvBBwdIdeal.nD → PrngReg)
    (m' : (ℓ : Loc Cert.RefConvBBwdIdeal.nD Cert.RefConvBBwdIdeal.τ Cert.RefConvBBwdIdeal.sig) → Buf (Elt Ideal) ℓ) (g' : Dev Cert.RefConvBBwdIdeal.nD → PrngReg), Pre_ConvBBwdIdeal_finite_cotangent m →
    (∀ c : Dev Cert.ConvBBwdIdeal.nD,
      m' ((c.tc : Thread Cert.RefConvBBwdIdeal.nD Cert.RefConvBBwdIdeal.τ).loc Cert.RefConvBBwdIdeal.main_arg0) = m ((c.tc : Thread Cert.ConvBBwdIdeal.nD Cert.ConvBBwdIdeal.τ).loc Cert.ConvBBwdIdeal.main_arg0)
      ∧ m' ((c.tc : Thread Cert.RefConvBBwdIdeal.nD Cert.RefConvBBwdIdeal.τ).loc Cert.RefConvBBwdIdeal.main_arg1) = m ((c.tc : Thread Cert.ConvBBwdIdeal.nD Cert.ConvBBwdIdeal.τ).loc Cert.ConvBBwdIdeal.main_arg1)
      ∧ m' ((c.tc : Thread Cert.RefConvBBwdIdeal.nD Cert.RefConvBBwdIdeal.τ).loc Cert.RefConvBBwdIdeal.main_arg2) = m ((c.tc : Thread Cert.ConvBBwdIdeal.nD Cert.ConvBBwdIdeal.τ).loc Cert.ConvBBwdIdeal.main_arg2)
      ∧ m' ((c.tc : Thread Cert.RefConvBBwdIdeal.nD Cert.RefConvBBwdIdeal.τ).loc Cert.RefConvBBwdIdeal.main_arg3) = m ((c.tc : Thread Cert.ConvBBwdIdeal.nD Cert.ConvBBwdIdeal.τ).loc Cert.ConvBBwdIdeal.main_arg3)) →
    ∃ (v0 : (c : Dev Cert.ConvBBwdIdeal.nD) → Buf (Elt Ideal) ((c.tc : Thread Cert.ConvBBwdIdeal.nD Cert.ConvBBwdIdeal.τ).loc Cert.ConvBBwdIdeal.main_v33_0)) (v1 : (c : Dev Cert.ConvBBwdIdeal.nD) → Buf (Elt Ideal) ((c.tc : Thread Cert.ConvBBwdIdeal.nD Cert.ConvBBwdIdeal.τ).loc Cert.ConvBBwdIdeal.main_v33_1)) (v2 : (c : Dev Cert.ConvBBwdIdeal.nD) → Buf (Elt Ideal) ((c.tc : Thread Cert.ConvBBwdIdeal.nD Cert.ConvBBwdIdeal.τ).loc Cert.ConvBBwdIdeal.main_v33_2)),
      θ_run (Cert.ConvBBwdIdeal.defs (F := Ideal)) (onTc (τ := Cert.ConvBBwdIdeal.τ) (Cert.ConvBBwdIdeal.main (F := Ideal))) ⟨m, fun _ => 0, g⟩ (fun r => ∀ c : Dev Cert.ConvBBwdIdeal.nD,
          r.2.mem ((c.tc : Thread Cert.ConvBBwdIdeal.nD Cert.ConvBBwdIdeal.τ).loc Cert.ConvBBwdIdeal.main_v33_0) = v0 c
          ∧ r.2.mem ((c.tc : Thread Cert.ConvBBwdIdeal.nD Cert.ConvBBwdIdeal.τ).loc Cert.ConvBBwdIdeal.main_v33_1) = v1 c
          ∧ r.2.mem ((c.tc : Thread Cert.ConvBBwdIdeal.nD Cert.ConvBBwdIdeal.τ).loc Cert.ConvBBwdIdeal.main_v33_2) = v2 c
          ∧ r.2.mem ((c.tc : Thread Cert.ConvBBwdIdeal.nD Cert.ConvBBwdIdeal.τ).loc Cert.ConvBBwdIdeal.main_arg0) = m ((c.tc : Thread Cert.ConvBBwdIdeal.nD Cert.ConvBBwdIdeal.τ).loc Cert.ConvBBwdIdeal.main_arg0)
          ∧ r.2.mem ((c.tc : Thread Cert.ConvBBwdIdeal.nD Cert.ConvBBwdIdeal.τ).loc Cert.ConvBBwdIdeal.main_arg1) = m ((c.tc : Thread Cert.ConvBBwdIdeal.nD Cert.ConvBBwdIdeal.τ).loc Cert.ConvBBwdIdeal.main_arg1)
          ∧ r.2.mem ((c.tc : Thread Cert.ConvBBwdIdeal.nD Cert.ConvBBwdIdeal.τ).loc Cert.ConvBBwdIdeal.main_arg2) = m ((c.tc : Thread Cert.ConvBBwdIdeal.nD Cert.ConvBBwdIdeal.τ).loc Cert.ConvBBwdIdeal.main_arg2)
          ∧ r.2.mem ((c.tc : Thread Cert.ConvBBwdIdeal.nD Cert.ConvBBwdIdeal.τ).loc Cert.ConvBBwdIdeal.main_arg3) = m ((c.tc : Thread Cert.ConvBBwdIdeal.nD Cert.ConvBBwdIdeal.τ).loc Cert.ConvBBwdIdeal.main_arg3))
      ∧ θ_run (Cert.RefConvBBwdIdeal.defs (F := Ideal)) (onTc (τ := Cert.RefConvBBwdIdeal.τ) (Cert.RefConvBBwdIdeal.main (F := Ideal))) ⟨m', fun _ => 0, g'⟩ (fun r => ∀ c : Dev Cert.RefConvBBwdIdeal.nD,
          r.2.mem ((c.tc : Thread Cert.RefConvBBwdIdeal.nD Cert.RefConvBBwdIdeal.τ).loc Cert.RefConvBBwdIdeal.main_v83) = v0 c
          ∧ r.2.mem ((c.tc : Thread Cert.RefConvBBwdIdeal.nD Cert.RefConvBBwdIdeal.τ).loc Cert.RefConvBBwdIdeal.main_v80) = v1 c
          ∧ r.2.mem ((c.tc : Thread Cert.RefConvBBwdIdeal.nD Cert.RefConvBBwdIdeal.τ).loc Cert.RefConvBBwdIdeal.main_v84) = v2 c
          ∧ r.2.mem ((c.tc : Thread Cert.RefConvBBwdIdeal.nD Cert.RefConvBBwdIdeal.τ).loc Cert.RefConvBBwdIdeal.main_arg0) = m' ((c.tc : Thread Cert.RefConvBBwdIdeal.nD Cert.RefConvBBwdIdeal.τ).loc Cert.RefConvBBwdIdeal.main_arg0)
          ∧ r.2.mem ((c.tc : Thread Cert.RefConvBBwdIdeal.nD Cert.RefConvBBwdIdeal.τ).loc Cert.RefConvBBwdIdeal.main_arg1) = m' ((c.tc : Thread Cert.RefConvBBwdIdeal.nD Cert.RefConvBBwdIdeal.τ).loc Cert.RefConvBBwdIdeal.main_arg1)
          ∧ r.2.mem ((c.tc : Thread Cert.RefConvBBwdIdeal.nD Cert.RefConvBBwdIdeal.τ).loc Cert.RefConvBBwdIdeal.main_arg2) = m' ((c.tc : Thread Cert.RefConvBBwdIdeal.nD Cert.RefConvBBwdIdeal.τ).loc Cert.RefConvBBwdIdeal.main_arg2)
          ∧ r.2.mem ((c.tc : Thread Cert.RefConvBBwdIdeal.nD Cert.RefConvBBwdIdeal.τ).loc Cert.RefConvBBwdIdeal.main_arg3) = m' ((c.tc : Thread Cert.RefConvBBwdIdeal.nD Cert.RefConvBBwdIdeal.τ).loc Cert.RefConvBBwdIdeal.main_arg3))

def preserves_ConvB_ConvBIdeal : Prop :=
  True

def algebraic_ConvBIdeal_RefConvBIdeal [hConvBIdeal : Cert.ConvBIdeal.Facts] [hRefConvBIdeal : Cert.RefConvBIdeal.Facts] : Prop :=
  ∀ (m : (ℓ : Loc Cert.ConvBIdeal.nD Cert.ConvBIdeal.τ Cert.ConvBIdeal.sig) → Buf (Elt Ideal) ℓ) (g : Dev Cert.ConvBIdeal.nD → PrngReg)
    (m' : (ℓ : Loc Cert.RefConvBIdeal.nD Cert.RefConvBIdeal.τ Cert.RefConvBIdeal.sig) → Buf (Elt Ideal) ℓ) (g' : Dev Cert.RefConvBIdeal.nD → PrngReg), Pre_ConvBIdeal m →
    (∀ c : Dev Cert.ConvBIdeal.nD,
      m' ((c.tc : Thread Cert.RefConvBIdeal.nD Cert.RefConvBIdeal.τ).loc Cert.RefConvBIdeal.main_arg0) = m ((c.tc : Thread Cert.ConvBIdeal.nD Cert.ConvBIdeal.τ).loc Cert.ConvBIdeal.main_arg0)
      ∧ m' ((c.tc : Thread Cert.RefConvBIdeal.nD Cert.RefConvBIdeal.τ).loc Cert.RefConvBIdeal.main_arg1) = m ((c.tc : Thread Cert.ConvBIdeal.nD Cert.ConvBIdeal.τ).loc Cert.ConvBIdeal.main_arg1)
      ∧ m' ((c.tc : Thread Cert.RefConvBIdeal.nD Cert.RefConvBIdeal.τ).loc Cert.RefConvBIdeal.main_arg2) = m ((c.tc : Thread Cert.ConvBIdeal.nD Cert.ConvBIdeal.τ).loc Cert.ConvBIdeal.main_arg2)) →
    ∃ (v0 : (c : Dev Cert.ConvBIdeal.nD) → Buf (Elt Ideal) ((c.tc : Thread Cert.ConvBIdeal.nD Cert.ConvBIdeal.τ).loc Cert.ConvBIdeal.main_v1_0)) (v1 : (c : Dev Cert.ConvBIdeal.nD) → Buf (Elt Ideal) ((c.tc : Thread Cert.ConvBIdeal.nD Cert.ConvBIdeal.τ).loc Cert.ConvBIdeal.main_v1_1)),
      θ_run (Cert.ConvBIdeal.defs (F := Ideal)) (onTc (τ := Cert.ConvBIdeal.τ) (Cert.ConvBIdeal.main (F := Ideal))) ⟨m, fun _ => 0, g⟩ (fun r => ∀ c : Dev Cert.ConvBIdeal.nD,
          r.2.mem ((c.tc : Thread Cert.ConvBIdeal.nD Cert.ConvBIdeal.τ).loc Cert.ConvBIdeal.main_v1_0) = v0 c
          ∧ r.2.mem ((c.tc : Thread Cert.ConvBIdeal.nD Cert.ConvBIdeal.τ).loc Cert.ConvBIdeal.main_v1_1) = v1 c
          ∧ r.2.mem ((c.tc : Thread Cert.ConvBIdeal.nD Cert.ConvBIdeal.τ).loc Cert.ConvBIdeal.main_arg0) = m ((c.tc : Thread Cert.ConvBIdeal.nD Cert.ConvBIdeal.τ).loc Cert.ConvBIdeal.main_arg0)
          ∧ r.2.mem ((c.tc : Thread Cert.ConvBIdeal.nD Cert.ConvBIdeal.τ).loc Cert.ConvBIdeal.main_arg1) = m ((c.tc : Thread Cert.ConvBIdeal.nD Cert.ConvBIdeal.τ).loc Cert.ConvBIdeal.main_arg1)
          ∧ r.2.mem ((c.tc : Thread Cert.ConvBIdeal.nD Cert.ConvBIdeal.τ).loc Cert.ConvBIdeal.main_arg2) = m ((c.tc : Thread Cert.ConvBIdeal.nD Cert.ConvBIdeal.τ).loc Cert.ConvBIdeal.main_arg2))
      ∧ θ_run (Cert.RefConvBIdeal.defs (F := Ideal)) (onTc (τ := Cert.RefConvBIdeal.τ) (Cert.RefConvBIdeal.main (F := Ideal))) ⟨m', fun _ => 0, g'⟩ (fun r => ∀ c : Dev Cert.RefConvBIdeal.nD,
          r.2.mem ((c.tc : Thread Cert.RefConvBIdeal.nD Cert.RefConvBIdeal.τ).loc Cert.RefConvBIdeal.main_v32) = v0 c
          ∧ r.2.mem ((c.tc : Thread Cert.RefConvBIdeal.nD Cert.RefConvBIdeal.τ).loc Cert.RefConvBIdeal.main_v65) = v1 c
          ∧ r.2.mem ((c.tc : Thread Cert.RefConvBIdeal.nD Cert.RefConvBIdeal.τ).loc Cert.RefConvBIdeal.main_arg0) = m' ((c.tc : Thread Cert.RefConvBIdeal.nD Cert.RefConvBIdeal.τ).loc Cert.RefConvBIdeal.main_arg0)
          ∧ r.2.mem ((c.tc : Thread Cert.RefConvBIdeal.nD Cert.RefConvBIdeal.τ).loc Cert.RefConvBIdeal.main_arg1) = m' ((c.tc : Thread Cert.RefConvBIdeal.nD Cert.RefConvBIdeal.τ).loc Cert.RefConvBIdeal.main_arg1)
          ∧ r.2.mem ((c.tc : Thread Cert.RefConvBIdeal.nD Cert.RefConvBIdeal.τ).loc Cert.RefConvBIdeal.main_arg2) = m' ((c.tc : Thread Cert.RefConvBIdeal.nD Cert.RefConvBIdeal.τ).loc Cert.RefConvBIdeal.main_arg2))

def preserves_Rms_RmsIdeal : Prop :=
  True

def algebraic_RmsIdeal_RefRmsIdeal [hRmsIdeal : Cert.RmsIdeal.Facts] [hRefRmsIdeal : Cert.RefRmsIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RefRmsIdeal.nD Cert.RefRmsIdeal.τ Cert.RefRmsIdeal.sig) → Buf (Elt Ideal) ℓ) (g' : Dev Cert.RefRmsIdeal.nD → PrngReg), Pre_RmsIdeal m →
    (∀ c : Dev Cert.RmsIdeal.nD,
      m' ((c.tc : Thread Cert.RefRmsIdeal.nD Cert.RefRmsIdeal.τ).loc Cert.RefRmsIdeal.main_arg0) = m ((c.tc : Thread Cert.RmsIdeal.nD Cert.RmsIdeal.τ).loc Cert.RmsIdeal.main_arg0)
      ∧ m' ((c.tc : Thread Cert.RefRmsIdeal.nD Cert.RefRmsIdeal.τ).loc Cert.RefRmsIdeal.main_arg1) = m ((c.tc : Thread Cert.RmsIdeal.nD Cert.RmsIdeal.τ).loc Cert.RmsIdeal.main_arg1)) →
    ∃ (v0 : (c : Dev Cert.RmsIdeal.nD) → Buf (Elt Ideal) ((c.tc : Thread Cert.RmsIdeal.nD Cert.RmsIdeal.τ).loc Cert.RmsIdeal.main_v1)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v1) = v0 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ θ_run (Cert.RefRmsIdeal.defs (F := Ideal)) (onTc (τ := Cert.RefRmsIdeal.τ) (Cert.RefRmsIdeal.main (F := Ideal))) ⟨m', fun _ => 0, g'⟩ (fun r => ∀ c : Dev Cert.RefRmsIdeal.nD,
          r.2.mem ((c.tc : Thread Cert.RefRmsIdeal.nD Cert.RefRmsIdeal.τ).loc Cert.RefRmsIdeal.main_v13) = v0 c
          ∧ r.2.mem ((c.tc : Thread Cert.RefRmsIdeal.nD Cert.RefRmsIdeal.τ).loc Cert.RefRmsIdeal.main_arg0) = m' ((c.tc : Thread Cert.RefRmsIdeal.nD Cert.RefRmsIdeal.τ).loc Cert.RefRmsIdeal.main_arg0)
          ∧ r.2.mem ((c.tc : Thread Cert.RefRmsIdeal.nD Cert.RefRmsIdeal.τ).loc Cert.RefRmsIdeal.main_arg1) = m' ((c.tc : Thread Cert.RefRmsIdeal.nD Cert.RefRmsIdeal.τ).loc Cert.RefRmsIdeal.main_arg1))

def preserves_LnSilu_LnSiluIdeal : Prop :=
  True

def algebraic_LnSiluIdeal_RefLnSiluIdeal [hLnSiluIdeal : Cert.LnSiluIdeal.Facts] [hRefLnSiluIdeal : Cert.RefLnSiluIdeal.Facts] : Prop :=
  ∀ (m : (ℓ : Loc Cert.LnSiluIdeal.nD Cert.LnSiluIdeal.τ Cert.LnSiluIdeal.sig) → Buf (Elt Ideal) ℓ) (g : Dev Cert.LnSiluIdeal.nD → PrngReg)
    (m' : (ℓ : Loc Cert.RefLnSiluIdeal.nD Cert.RefLnSiluIdeal.τ Cert.RefLnSiluIdeal.sig) → Buf (Elt Ideal) ℓ) (g' : Dev Cert.RefLnSiluIdeal.nD → PrngReg), Pre_LnSiluIdeal m →
    (∀ c : Dev Cert.LnSiluIdeal.nD,
      m' ((c.tc : Thread Cert.RefLnSiluIdeal.nD Cert.RefLnSiluIdeal.τ).loc Cert.RefLnSiluIdeal.main_arg0) = m ((c.tc : Thread Cert.LnSiluIdeal.nD Cert.LnSiluIdeal.τ).loc Cert.LnSiluIdeal.main_arg0)
      ∧ m' ((c.tc : Thread Cert.RefLnSiluIdeal.nD Cert.RefLnSiluIdeal.τ).loc Cert.RefLnSiluIdeal.main_arg1) = m ((c.tc : Thread Cert.LnSiluIdeal.nD Cert.LnSiluIdeal.τ).loc Cert.LnSiluIdeal.main_arg1)
      ∧ m' ((c.tc : Thread Cert.RefLnSiluIdeal.nD Cert.RefLnSiluIdeal.τ).loc Cert.RefLnSiluIdeal.main_arg2) = m ((c.tc : Thread Cert.LnSiluIdeal.nD Cert.LnSiluIdeal.τ).loc Cert.LnSiluIdeal.main_arg2)) →
    ∃ (v0 : (c : Dev Cert.LnSiluIdeal.nD) → Buf (Elt Ideal) ((c.tc : Thread Cert.LnSiluIdeal.nD Cert.LnSiluIdeal.τ).loc Cert.LnSiluIdeal.main_v2)),
      θ_run (Cert.LnSiluIdeal.defs (F := Ideal)) (onTc (τ := Cert.LnSiluIdeal.τ) (Cert.LnSiluIdeal.main (F := Ideal))) ⟨m, fun _ => 0, g⟩ (fun r => ∀ c : Dev Cert.LnSiluIdeal.nD,
          r.2.mem ((c.tc : Thread Cert.LnSiluIdeal.nD Cert.LnSiluIdeal.τ).loc Cert.LnSiluIdeal.main_v2) = v0 c
          ∧ r.2.mem ((c.tc : Thread Cert.LnSiluIdeal.nD Cert.LnSiluIdeal.τ).loc Cert.LnSiluIdeal.main_arg0) = m ((c.tc : Thread Cert.LnSiluIdeal.nD Cert.LnSiluIdeal.τ).loc Cert.LnSiluIdeal.main_arg0)
          ∧ r.2.mem ((c.tc : Thread Cert.LnSiluIdeal.nD Cert.LnSiluIdeal.τ).loc Cert.LnSiluIdeal.main_arg1) = m ((c.tc : Thread Cert.LnSiluIdeal.nD Cert.LnSiluIdeal.τ).loc Cert.LnSiluIdeal.main_arg1)
          ∧ r.2.mem ((c.tc : Thread Cert.LnSiluIdeal.nD Cert.LnSiluIdeal.τ).loc Cert.LnSiluIdeal.main_arg2) = m ((c.tc : Thread Cert.LnSiluIdeal.nD Cert.LnSiluIdeal.τ).loc Cert.LnSiluIdeal.main_arg2))
      ∧ θ_run (Cert.RefLnSiluIdeal.defs (F := Ideal)) (onTc (τ := Cert.RefLnSiluIdeal.τ) (Cert.RefLnSiluIdeal.main (F := Ideal))) ⟨m', fun _ => 0, g'⟩ (fun r => ∀ c : Dev Cert.RefLnSiluIdeal.nD,
          r.2.mem ((c.tc : Thread Cert.RefLnSiluIdeal.nD Cert.RefLnSiluIdeal.τ).loc Cert.RefLnSiluIdeal.main_v23) = v0 c
          ∧ r.2.mem ((c.tc : Thread Cert.RefLnSiluIdeal.nD Cert.RefLnSiluIdeal.τ).loc Cert.RefLnSiluIdeal.main_arg0) = m' ((c.tc : Thread Cert.RefLnSiluIdeal.nD Cert.RefLnSiluIdeal.τ).loc Cert.RefLnSiluIdeal.main_arg0)
          ∧ r.2.mem ((c.tc : Thread Cert.RefLnSiluIdeal.nD Cert.RefLnSiluIdeal.τ).loc Cert.RefLnSiluIdeal.main_arg1) = m' ((c.tc : Thread Cert.RefLnSiluIdeal.nD Cert.RefLnSiluIdeal.τ).loc Cert.RefLnSiluIdeal.main_arg1)
          ∧ r.2.mem ((c.tc : Thread Cert.RefLnSiluIdeal.nD Cert.RefLnSiluIdeal.τ).loc Cert.RefLnSiluIdeal.main_arg2) = m' ((c.tc : Thread Cert.RefLnSiluIdeal.nD Cert.RefLnSiluIdeal.τ).loc Cert.RefLnSiluIdeal.main_arg2))

def preserves_Merge_MergeIdeal : Prop :=
  True

def algebraic_MergeIdeal_RefMergeIdeal [hMergeIdeal : Cert.MergeIdeal.Facts] [hRefMergeIdeal : Cert.RefMergeIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.RefMergeIdeal.nD Cert.RefMergeIdeal.τ Cert.RefMergeIdeal.sig) → Buf (Elt Ideal) ℓ) (g' : Dev Cert.RefMergeIdeal.nD → PrngReg), Pre_MergeIdeal m →
    (∀ c : Dev Cert.MergeIdeal.nD,
      m' ((c.tc : Thread Cert.RefMergeIdeal.nD Cert.RefMergeIdeal.τ).loc Cert.RefMergeIdeal.main_arg0) = m ((c.tc : Thread Cert.MergeIdeal.nD Cert.MergeIdeal.τ).loc Cert.MergeIdeal.main_arg0)
      ∧ m' ((c.tc : Thread Cert.RefMergeIdeal.nD Cert.RefMergeIdeal.τ).loc Cert.RefMergeIdeal.main_arg1) = m ((c.tc : Thread Cert.MergeIdeal.nD Cert.MergeIdeal.τ).loc Cert.MergeIdeal.main_arg1)
      ∧ m' ((c.tc : Thread Cert.RefMergeIdeal.nD Cert.RefMergeIdeal.τ).loc Cert.RefMergeIdeal.main_arg2) = m ((c.tc : Thread Cert.MergeIdeal.nD Cert.MergeIdeal.τ).loc Cert.MergeIdeal.main_arg2)
      ∧ m' ((c.tc : Thread Cert.RefMergeIdeal.nD Cert.RefMergeIdeal.τ).loc Cert.RefMergeIdeal.main_arg3) = m ((c.tc : Thread Cert.MergeIdeal.nD Cert.MergeIdeal.τ).loc Cert.MergeIdeal.main_arg3)
      ∧ m' ((c.tc : Thread Cert.RefMergeIdeal.nD Cert.RefMergeIdeal.τ).loc Cert.RefMergeIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.RefMergeIdeal.defs (F := Ideal)) (onTc (τ := Cert.RefMergeIdeal.τ) (Cert.RefMergeIdeal.main (F := Ideal))) ⟨m', fun _ => 0, g'⟩ (fun r => ∀ c : Dev Cert.RefMergeIdeal.nD,
          r.2.mem ((c.tc : Thread Cert.RefMergeIdeal.nD Cert.RefMergeIdeal.τ).loc Cert.RefMergeIdeal.main_v22) = v0 c
          ∧ r.2.mem ((c.tc : Thread Cert.RefMergeIdeal.nD Cert.RefMergeIdeal.τ).loc Cert.RefMergeIdeal.main_arg0) = m' ((c.tc : Thread Cert.RefMergeIdeal.nD Cert.RefMergeIdeal.τ).loc Cert.RefMergeIdeal.main_arg0)
          ∧ r.2.mem ((c.tc : Thread Cert.RefMergeIdeal.nD Cert.RefMergeIdeal.τ).loc Cert.RefMergeIdeal.main_arg1) = m' ((c.tc : Thread Cert.RefMergeIdeal.nD Cert.RefMergeIdeal.τ).loc Cert.RefMergeIdeal.main_arg1)
          ∧ r.2.mem ((c.tc : Thread Cert.RefMergeIdeal.nD Cert.RefMergeIdeal.τ).loc Cert.RefMergeIdeal.main_arg2) = m' ((c.tc : Thread Cert.RefMergeIdeal.nD Cert.RefMergeIdeal.τ).loc Cert.RefMergeIdeal.main_arg2)
          ∧ r.2.mem ((c.tc : Thread Cert.RefMergeIdeal.nD Cert.RefMergeIdeal.τ).loc Cert.RefMergeIdeal.main_arg3) = m' ((c.tc : Thread Cert.RefMergeIdeal.nD Cert.RefMergeIdeal.τ).loc Cert.RefMergeIdeal.main_arg3)
          ∧ r.2.mem ((c.tc : Thread Cert.RefMergeIdeal.nD Cert.RefMergeIdeal.τ).loc Cert.RefMergeIdeal.main_arg4) = m' ((c.tc : Thread Cert.RefMergeIdeal.nD Cert.RefMergeIdeal.τ).loc Cert.RefMergeIdeal.main_arg4))

def preserves_XkvDw_XkvDwIdeal : Prop :=
  True

def algebraic_XkvDwIdeal_RefXkvDwIdeal [hXkvDwIdeal : Cert.XkvDwIdeal.Facts] [hRefXkvDwIdeal : Cert.RefXkvDwIdeal.Facts] : Prop :=
  ∀ (m : (ℓ : Loc Cert.XkvDwIdeal.nD Cert.XkvDwIdeal.τ Cert.XkvDwIdeal.sig) → Buf (Elt Ideal) ℓ) (g : Dev Cert.XkvDwIdeal.nD → PrngReg)
    (m' : (ℓ : Loc Cert.RefXkvDwIdeal.nD Cert.RefXkvDwIdeal.τ Cert.RefXkvDwIdeal.sig) → Buf (Elt Ideal) ℓ) (g' : Dev Cert.RefXkvDwIdeal.nD → PrngReg), Pre_XkvDwIdeal m →
    (∀ c : Dev Cert.XkvDwIdeal.nD,
      m' ((c.tc : Thread Cert.RefXkvDwIdeal.nD Cert.RefXkvDwIdeal.τ).loc Cert.RefXkvDwIdeal.main_arg0) = m ((c.tc : Thread Cert.XkvDwIdeal.nD Cert.XkvDwIdeal.τ).loc Cert.XkvDwIdeal.main_arg0)
      ∧ m' ((c.tc : Thread Cert.RefXkvDwIdeal.nD Cert.RefXkvDwIdeal.τ).loc Cert.RefXkvDwIdeal.main_arg1) = m ((c.tc : Thread Cert.XkvDwIdeal.nD Cert.XkvDwIdeal.τ).loc Cert.XkvDwIdeal.main_arg1)) →
    ∃ (v0 : (c : Dev Cert.XkvDwIdeal.nD) → Buf (Elt Ideal) ((c.tc : Thread Cert.XkvDwIdeal.nD Cert.XkvDwIdeal.τ).loc Cert.XkvDwIdeal.main_v1)),
      θ_run (Cert.XkvDwIdeal.defs (F := Ideal)) (onTc (τ := Cert.XkvDwIdeal.τ) (Cert.XkvDwIdeal.main (F := Ideal))) ⟨m, fun _ => 0, g⟩ (fun r => ∀ c : Dev Cert.XkvDwIdeal.nD,
          r.2.mem ((c.tc : Thread Cert.XkvDwIdeal.nD Cert.XkvDwIdeal.τ).loc Cert.XkvDwIdeal.main_v1) = v0 c
          ∧ r.2.mem ((c.tc : Thread Cert.XkvDwIdeal.nD Cert.XkvDwIdeal.τ).loc Cert.XkvDwIdeal.main_arg0) = m ((c.tc : Thread Cert.XkvDwIdeal.nD Cert.XkvDwIdeal.τ).loc Cert.XkvDwIdeal.main_arg0)
          ∧ r.2.mem ((c.tc : Thread Cert.XkvDwIdeal.nD Cert.XkvDwIdeal.τ).loc Cert.XkvDwIdeal.main_arg1) = m ((c.tc : Thread Cert.XkvDwIdeal.nD Cert.XkvDwIdeal.τ).loc Cert.XkvDwIdeal.main_arg1))
      ∧ θ_run (Cert.RefXkvDwIdeal.defs (F := Ideal)) (onTc (τ := Cert.RefXkvDwIdeal.τ) (Cert.RefXkvDwIdeal.main (F := Ideal))) ⟨m', fun _ => 0, g'⟩ (fun r => ∀ c : Dev Cert.RefXkvDwIdeal.nD,
          r.2.mem ((c.tc : Thread Cert.RefXkvDwIdeal.nD Cert.RefXkvDwIdeal.τ).loc Cert.RefXkvDwIdeal.main_v3) = v0 c
          ∧ r.2.mem ((c.tc : Thread Cert.RefXkvDwIdeal.nD Cert.RefXkvDwIdeal.τ).loc Cert.RefXkvDwIdeal.main_arg0) = m' ((c.tc : Thread Cert.RefXkvDwIdeal.nD Cert.RefXkvDwIdeal.τ).loc Cert.RefXkvDwIdeal.main_arg0)
          ∧ r.2.mem ((c.tc : Thread Cert.RefXkvDwIdeal.nD Cert.RefXkvDwIdeal.τ).loc Cert.RefXkvDwIdeal.main_arg1) = m' ((c.tc : Thread Cert.RefXkvDwIdeal.nD Cert.RefXkvDwIdeal.τ).loc Cert.RefXkvDwIdeal.main_arg1))

def preserves_XkvDx_XkvDxIdeal : Prop :=
  True

def algebraic_XkvDxIdeal_RefXkvDxIdeal [hXkvDxIdeal : Cert.XkvDxIdeal.Facts] [hRefXkvDxIdeal : Cert.RefXkvDxIdeal.Facts] : Prop :=
  ∀ (m : (ℓ : Loc Cert.XkvDxIdeal.nD Cert.XkvDxIdeal.τ Cert.XkvDxIdeal.sig) → Buf (Elt Ideal) ℓ) (g : Dev Cert.XkvDxIdeal.nD → PrngReg)
    (m' : (ℓ : Loc Cert.RefXkvDxIdeal.nD Cert.RefXkvDxIdeal.τ Cert.RefXkvDxIdeal.sig) → Buf (Elt Ideal) ℓ) (g' : Dev Cert.RefXkvDxIdeal.nD → PrngReg), Pre_XkvDxIdeal m →
    (∀ c : Dev Cert.XkvDxIdeal.nD,
      m' ((c.tc : Thread Cert.RefXkvDxIdeal.nD Cert.RefXkvDxIdeal.τ).loc Cert.RefXkvDxIdeal.main_arg0) = m ((c.tc : Thread Cert.XkvDxIdeal.nD Cert.XkvDxIdeal.τ).loc Cert.XkvDxIdeal.main_arg0)
      ∧ m' ((c.tc : Thread Cert.RefXkvDxIdeal.nD Cert.RefXkvDxIdeal.τ).loc Cert.RefXkvDxIdeal.main_arg1) = m ((c.tc : Thread Cert.XkvDxIdeal.nD Cert.XkvDxIdeal.τ).loc Cert.XkvDxIdeal.main_arg1)) →
    ∃ (v0 : (c : Dev Cert.XkvDxIdeal.nD) → Buf (Elt Ideal) ((c.tc : Thread Cert.XkvDxIdeal.nD Cert.XkvDxIdeal.τ).loc Cert.XkvDxIdeal.main_v1)),
      θ_run (Cert.XkvDxIdeal.defs (F := Ideal)) (onTc (τ := Cert.XkvDxIdeal.τ) (Cert.XkvDxIdeal.main (F := Ideal))) ⟨m, fun _ => 0, g⟩ (fun r => ∀ c : Dev Cert.XkvDxIdeal.nD,
          r.2.mem ((c.tc : Thread Cert.XkvDxIdeal.nD Cert.XkvDxIdeal.τ).loc Cert.XkvDxIdeal.main_v1) = v0 c
          ∧ r.2.mem ((c.tc : Thread Cert.XkvDxIdeal.nD Cert.XkvDxIdeal.τ).loc Cert.XkvDxIdeal.main_arg0) = m ((c.tc : Thread Cert.XkvDxIdeal.nD Cert.XkvDxIdeal.τ).loc Cert.XkvDxIdeal.main_arg0)
          ∧ r.2.mem ((c.tc : Thread Cert.XkvDxIdeal.nD Cert.XkvDxIdeal.τ).loc Cert.XkvDxIdeal.main_arg1) = m ((c.tc : Thread Cert.XkvDxIdeal.nD Cert.XkvDxIdeal.τ).loc Cert.XkvDxIdeal.main_arg1))
      ∧ θ_run (Cert.RefXkvDxIdeal.defs (F := Ideal)) (onTc (τ := Cert.RefXkvDxIdeal.τ) (Cert.RefXkvDxIdeal.main (F := Ideal))) ⟨m', fun _ => 0, g'⟩ (fun r => ∀ c : Dev Cert.RefXkvDxIdeal.nD,
          r.2.mem ((c.tc : Thread Cert.RefXkvDxIdeal.nD Cert.RefXkvDxIdeal.τ).loc Cert.RefXkvDxIdeal.main_v2) = v0 c
          ∧ r.2.mem ((c.tc : Thread Cert.RefXkvDxIdeal.nD Cert.RefXkvDxIdeal.τ).loc Cert.RefXkvDxIdeal.main_arg0) = m' ((c.tc : Thread Cert.RefXkvDxIdeal.nD Cert.RefXkvDxIdeal.τ).loc Cert.RefXkvDxIdeal.main_arg0)
          ∧ r.2.mem ((c.tc : Thread Cert.RefXkvDxIdeal.nD Cert.RefXkvDxIdeal.τ).loc Cert.RefXkvDxIdeal.main_arg1) = m' ((c.tc : Thread Cert.RefXkvDxIdeal.nD Cert.RefXkvDxIdeal.τ).loc Cert.RefXkvDxIdeal.main_arg1))

def preserves_MmXkv_MmXkvIdeal : Prop :=
  True

def algebraic_MmXkvIdeal_RefMmXkvIdeal [hMmXkvIdeal : Cert.MmXkvIdeal.Facts] [hRefMmXkvIdeal : Cert.RefMmXkvIdeal.Facts] : Prop :=
  ∀ (m : (ℓ : Loc Cert.MmXkvIdeal.nD Cert.MmXkvIdeal.τ Cert.MmXkvIdeal.sig) → Buf (Elt Ideal) ℓ) (g : Dev Cert.MmXkvIdeal.nD → PrngReg)
    (m' : (ℓ : Loc Cert.RefMmXkvIdeal.nD Cert.RefMmXkvIdeal.τ Cert.RefMmXkvIdeal.sig) → Buf (Elt Ideal) ℓ) (g' : Dev Cert.RefMmXkvIdeal.nD → PrngReg), Pre_MmXkvIdeal m →
    (∀ c : Dev Cert.MmXkvIdeal.nD,
      m' ((c.tc : Thread Cert.RefMmXkvIdeal.nD Cert.RefMmXkvIdeal.τ).loc Cert.RefMmXkvIdeal.main_arg0) = m ((c.tc : Thread Cert.MmXkvIdeal.nD Cert.MmXkvIdeal.τ).loc Cert.MmXkvIdeal.main_arg0)
      ∧ m' ((c.tc : Thread Cert.RefMmXkvIdeal.nD Cert.RefMmXkvIdeal.τ).loc Cert.RefMmXkvIdeal.main_arg1) = m ((c.tc : Thread Cert.MmXkvIdeal.nD Cert.MmXkvIdeal.τ).loc Cert.MmXkvIdeal.main_arg1)) →
    ∃ (v0 : (c : Dev Cert.MmXkvIdeal.nD) → Buf (Elt Ideal) ((c.tc : Thread Cert.MmXkvIdeal.nD Cert.MmXkvIdeal.τ).loc Cert.MmXkvIdeal.main_v2)),
      θ_run (Cert.MmXkvIdeal.defs (F := Ideal)) (onTc (τ := Cert.MmXkvIdeal.τ) (Cert.MmXkvIdeal.main (F := Ideal))) ⟨m, fun _ => 0, g⟩ (fun r => ∀ c : Dev Cert.MmXkvIdeal.nD,
          r.2.mem ((c.tc : Thread Cert.MmXkvIdeal.nD Cert.MmXkvIdeal.τ).loc Cert.MmXkvIdeal.main_v2) = v0 c
          ∧ r.2.mem ((c.tc : Thread Cert.MmXkvIdeal.nD Cert.MmXkvIdeal.τ).loc Cert.MmXkvIdeal.main_arg0) = m ((c.tc : Thread Cert.MmXkvIdeal.nD Cert.MmXkvIdeal.τ).loc Cert.MmXkvIdeal.main_arg0)
          ∧ r.2.mem ((c.tc : Thread Cert.MmXkvIdeal.nD Cert.MmXkvIdeal.τ).loc Cert.MmXkvIdeal.main_arg1) = m ((c.tc : Thread Cert.MmXkvIdeal.nD Cert.MmXkvIdeal.τ).loc Cert.MmXkvIdeal.main_arg1))
      ∧ θ_run (Cert.RefMmXkvIdeal.defs (F := Ideal)) (onTc (τ := Cert.RefMmXkvIdeal.τ) (Cert.RefMmXkvIdeal.main (F := Ideal))) ⟨m', fun _ => 0, g'⟩ (fun r => ∀ c : Dev Cert.RefMmXkvIdeal.nD,
          r.2.mem ((c.tc : Thread Cert.RefMmXkvIdeal.nD Cert.RefMmXkvIdeal.τ).loc Cert.RefMmXkvIdeal.main_v0) = v0 c
          ∧ r.2.mem ((c.tc : Thread Cert.RefMmXkvIdeal.nD Cert.RefMmXkvIdeal.τ).loc Cert.RefMmXkvIdeal.main_arg0) = m' ((c.tc : Thread Cert.RefMmXkvIdeal.nD Cert.RefMmXkvIdeal.τ).loc Cert.RefMmXkvIdeal.main_arg0)
          ∧ r.2.mem ((c.tc : Thread Cert.RefMmXkvIdeal.nD Cert.RefMmXkvIdeal.τ).loc Cert.RefMmXkvIdeal.main_arg1) = m' ((c.tc : Thread Cert.RefMmXkvIdeal.nD Cert.RefMmXkvIdeal.τ).loc Cert.RefMmXkvIdeal.main_arg1))

def preserves_Xa_XaIdeal : Prop :=
  True

def algebraic_XaIdeal_RefXaIdeal_pre_finite_arguments [hXaIdeal : Cert.XaIdeal.Facts] [hRefXaIdeal : Cert.RefXaIdeal.Facts] [hPre_finite_arguments : Cert.Pre_finite_arguments.Facts] : Prop :=
  ∀ (m : (ℓ : Loc Cert.XaIdeal.nD Cert.XaIdeal.τ Cert.XaIdeal.sig) → Buf (Elt Ideal) ℓ) (g : Dev Cert.XaIdeal.nD → PrngReg)
    (m' : (ℓ : Loc Cert.RefXaIdeal.nD Cert.RefXaIdeal.τ Cert.RefXaIdeal.sig) → Buf (Elt Ideal) ℓ) (g' : Dev Cert.RefXaIdeal.nD → PrngReg), Pre_XaIdeal_finite_arguments m →
    (∀ c : Dev Cert.XaIdeal.nD,
      m' ((c.tc : Thread Cert.RefXaIdeal.nD Cert.RefXaIdeal.τ).loc Cert.RefXaIdeal.main_arg0) = m ((c.tc : Thread Cert.XaIdeal.nD Cert.XaIdeal.τ).loc Cert.XaIdeal.main_arg0)
      ∧ m' ((c.tc : Thread Cert.RefXaIdeal.nD Cert.RefXaIdeal.τ).loc Cert.RefXaIdeal.main_arg1) = m ((c.tc : Thread Cert.XaIdeal.nD Cert.XaIdeal.τ).loc Cert.XaIdeal.main_arg1)
      ∧ m' ((c.tc : Thread Cert.RefXaIdeal.nD Cert.RefXaIdeal.τ).loc Cert.RefXaIdeal.main_arg2) = m ((c.tc : Thread Cert.XaIdeal.nD Cert.XaIdeal.τ).loc Cert.XaIdeal.main_arg2)
      ∧ m' ((c.tc : Thread Cert.RefXaIdeal.nD Cert.RefXaIdeal.τ).loc Cert.RefXaIdeal.main_arg3) = m ((c.tc : Thread Cert.XaIdeal.nD Cert.XaIdeal.τ).loc Cert.XaIdeal.main_arg3)) →
    ∃ (v0 : (c : Dev Cert.XaIdeal.nD) → Buf (Elt Ideal) ((c.tc : Thread Cert.XaIdeal.nD Cert.XaIdeal.τ).loc Cert.XaIdeal.main_v2)),
      θ_run (Cert.XaIdeal.defs (F := Ideal)) (onTc (τ := Cert.XaIdeal.τ) (Cert.XaIdeal.main (F := Ideal))) ⟨m, fun _ => 0, g⟩ (fun r => ∀ c : Dev Cert.XaIdeal.nD,
          r.2.mem ((c.tc : Thread Cert.XaIdeal.nD Cert.XaIdeal.τ).loc Cert.XaIdeal.main_v2) = v0 c
          ∧ r.2.mem ((c.tc : Thread Cert.XaIdeal.nD Cert.XaIdeal.τ).loc Cert.XaIdeal.main_arg0) = m ((c.tc : Thread Cert.XaIdeal.nD Cert.XaIdeal.τ).loc Cert.XaIdeal.main_arg0)
          ∧ r.2.mem ((c.tc : Thread Cert.XaIdeal.nD Cert.XaIdeal.τ).loc Cert.XaIdeal.main_arg1) = m ((c.tc : Thread Cert.XaIdeal.nD Cert.XaIdeal.τ).loc Cert.XaIdeal.main_arg1)
          ∧ r.2.mem ((c.tc : Thread Cert.XaIdeal.nD Cert.XaIdeal.τ).loc Cert.XaIdeal.main_arg2) = m ((c.tc : Thread Cert.XaIdeal.nD Cert.XaIdeal.τ).loc Cert.XaIdeal.main_arg2)
          ∧ r.2.mem ((c.tc : Thread Cert.XaIdeal.nD Cert.XaIdeal.τ).loc Cert.XaIdeal.main_arg3) = m ((c.tc : Thread Cert.XaIdeal.nD Cert.XaIdeal.τ).loc Cert.XaIdeal.main_arg3))
      ∧ θ_run (Cert.RefXaIdeal.defs (F := Ideal)) (onTc (τ := Cert.RefXaIdeal.τ) (Cert.RefXaIdeal.main (F := Ideal))) ⟨m', fun _ => 0, g'⟩ (fun r => ∀ c : Dev Cert.RefXaIdeal.nD,
          r.2.mem ((c.tc : Thread Cert.RefXaIdeal.nD Cert.RefXaIdeal.τ).loc Cert.RefXaIdeal.main_v48) = v0 c
          ∧ r.2.mem ((c.tc : Thread Cert.RefXaIdeal.nD Cert.RefXaIdeal.τ).loc Cert.RefXaIdeal.main_arg0) = m' ((c.tc : Thread Cert.RefXaIdeal.nD Cert.RefXaIdeal.τ).loc Cert.RefXaIdeal.main_arg0)
          ∧ r.2.mem ((c.tc : Thread Cert.RefXaIdeal.nD Cert.RefXaIdeal.τ).loc Cert.RefXaIdeal.main_arg1) = m' ((c.tc : Thread Cert.RefXaIdeal.nD Cert.RefXaIdeal.τ).loc Cert.RefXaIdeal.main_arg1)
          ∧ r.2.mem ((c.tc : Thread Cert.RefXaIdeal.nD Cert.RefXaIdeal.τ).loc Cert.RefXaIdeal.main_arg2) = m' ((c.tc : Thread Cert.RefXaIdeal.nD Cert.RefXaIdeal.τ).loc Cert.RefXaIdeal.main_arg2)
          ∧ r.2.mem ((c.tc : Thread Cert.RefXaIdeal.nD Cert.RefXaIdeal.τ).loc Cert.RefXaIdeal.main_arg3) = m' ((c.tc : Thread Cert.RefXaIdeal.nD Cert.RefXaIdeal.τ).loc Cert.RefXaIdeal.main_arg3))

def preserves_RmsMem_RmsMemIdeal : Prop :=
  True

def algebraic_RmsMemIdeal_RefRmsMemIdeal [hRmsMemIdeal : Cert.RmsMemIdeal.Facts] [hRefRmsMemIdeal : Cert.RefRmsMemIdeal.Facts] : Prop :=
  ∀ (m : (ℓ : Loc Cert.RmsMemIdeal.nD Cert.RmsMemIdeal.τ Cert.RmsMemIdeal.sig) → Buf (Elt Ideal) ℓ) (g : Dev Cert.RmsMemIdeal.nD → PrngReg)
    (m' : (ℓ : Loc Cert.RefRmsMemIdeal.nD Cert.RefRmsMemIdeal.τ Cert.RefRmsMemIdeal.sig) → Buf (Elt Ideal) ℓ) (g' : Dev Cert.RefRmsMemIdeal.nD → PrngReg), Pre_RmsMemIdeal m →
    (∀ c : Dev Cert.RmsMemIdeal.nD,
      m' ((c.tc : Thread Cert.RefRmsMemIdeal.nD Cert.RefRmsMemIdeal.τ).loc Cert.RefRmsMemIdeal.main_arg0) = m ((c.tc : Thread Cert.RmsMemIdeal.nD Cert.RmsMemIdeal.τ).loc Cert.RmsMemIdeal.main_arg0)
      ∧ m' ((c.tc : Thread Cert.RefRmsMemIdeal.nD Cert.RefRmsMemIdeal.τ).loc Cert.RefRmsMemIdeal.main_arg1) = m ((c.tc : Thread Cert.RmsMemIdeal.nD Cert.RmsMemIdeal.τ).loc Cert.RmsMemIdeal.main_arg1)) →
    ∃ (v0 : (c : Dev Cert.RmsMemIdeal.nD) → Buf (Elt Ideal) ((c.tc : Thread Cert.RmsMemIdeal.nD Cert.RmsMemIdeal.τ).loc Cert.RmsMemIdeal.main_v1)),
      θ_run (Cert.RmsMemIdeal.defs (F := Ideal)) (onTc (τ := Cert.RmsMemIdeal.τ) (Cert.RmsMemIdeal.main (F := Ideal))) ⟨m, fun _ => 0, g⟩ (fun r => ∀ c : Dev Cert.RmsMemIdeal.nD,
          r.2.mem ((c.tc : Thread Cert.RmsMemIdeal.nD Cert.RmsMemIdeal.τ).loc Cert.RmsMemIdeal.main_v1) = v0 c
          ∧ r.2.mem ((c.tc : Thread Cert.RmsMemIdeal.nD Cert.RmsMemIdeal.τ).loc Cert.RmsMemIdeal.main_arg0) = m ((c.tc : Thread Cert.RmsMemIdeal.nD Cert.RmsMemIdeal.τ).loc Cert.RmsMemIdeal.main_arg0)
          ∧ r.2.mem ((c.tc : Thread Cert.RmsMemIdeal.nD Cert.RmsMemIdeal.τ).loc Cert.RmsMemIdeal.main_arg1) = m ((c.tc : Thread Cert.RmsMemIdeal.nD Cert.RmsMemIdeal.τ).loc Cert.RmsMemIdeal.main_arg1))
      ∧ θ_run (Cert.RefRmsMemIdeal.defs (F := Ideal)) (onTc (τ := Cert.RefRmsMemIdeal.τ) (Cert.RefRmsMemIdeal.main (F := Ideal))) ⟨m', fun _ => 0, g'⟩ (fun r => ∀ c : Dev Cert.RefRmsMemIdeal.nD,
          r.2.mem ((c.tc : Thread Cert.RefRmsMemIdeal.nD Cert.RefRmsMemIdeal.τ).loc Cert.RefRmsMemIdeal.main_v13) = v0 c
          ∧ r.2.mem ((c.tc : Thread Cert.RefRmsMemIdeal.nD Cert.RefRmsMemIdeal.τ).loc Cert.RefRmsMemIdeal.main_arg0) = m' ((c.tc : Thread Cert.RefRmsMemIdeal.nD Cert.RefRmsMemIdeal.τ).loc Cert.RefRmsMemIdeal.main_arg0)
          ∧ r.2.mem ((c.tc : Thread Cert.RefRmsMemIdeal.nD Cert.RefRmsMemIdeal.τ).loc Cert.RefRmsMemIdeal.main_arg1) = m' ((c.tc : Thread Cert.RefRmsMemIdeal.nD Cert.RefRmsMemIdeal.τ).loc Cert.RefRmsMemIdeal.main_arg1))

def preserves_RmsMemBwd_RmsMemBwdIdeal : Prop :=
  True

def algebraic_RmsMemBwdIdeal_RefRmsMemBwdIdeal [hRmsMemBwdIdeal : Cert.RmsMemBwdIdeal.Facts] [hRefRmsMemBwdIdeal : Cert.RefRmsMemBwdIdeal.Facts] : Prop :=
  ∀ (m : (ℓ : Loc Cert.RmsMemBwdIdeal.nD Cert.RmsMemBwdIdeal.τ Cert.RmsMemBwdIdeal.sig) → Buf (Elt Ideal) ℓ) (g : Dev Cert.RmsMemBwdIdeal.nD → PrngReg)
    (m' : (ℓ : Loc Cert.RefRmsMemBwdIdeal.nD Cert.RefRmsMemBwdIdeal.τ Cert.RefRmsMemBwdIdeal.sig) → Buf (Elt Ideal) ℓ) (g' : Dev Cert.RefRmsMemBwdIdeal.nD → PrngReg), Pre_RmsMemBwdIdeal m →
    (∀ c : Dev Cert.RmsMemBwdIdeal.nD,
      m' ((c.tc : Thread Cert.RefRmsMemBwdIdeal.nD Cert.RefRmsMemBwdIdeal.τ).loc Cert.RefRmsMemBwdIdeal.main_arg0) = m ((c.tc : Thread Cert.RmsMemBwdIdeal.nD Cert.RmsMemBwdIdeal.τ).loc Cert.RmsMemBwdIdeal.main_arg0)
      ∧ m' ((c.tc : Thread Cert.RefRmsMemBwdIdeal.nD Cert.RefRmsMemBwdIdeal.τ).loc Cert.RefRmsMemBwdIdeal.main_arg1) = m ((c.tc : Thread Cert.RmsMemBwdIdeal.nD Cert.RmsMemBwdIdeal.τ).loc Cert.RmsMemBwdIdeal.main_arg1)
      ∧ m' ((c.tc : Thread Cert.RefRmsMemBwdIdeal.nD Cert.RefRmsMemBwdIdeal.τ).loc Cert.RefRmsMemBwdIdeal.main_arg2) = m ((c.tc : Thread Cert.RmsMemBwdIdeal.nD Cert.RmsMemBwdIdeal.τ).loc Cert.RmsMemBwdIdeal.main_arg2)) →
    ∃ (v0 : (c : Dev Cert.RmsMemBwdIdeal.nD) → Buf (Elt Ideal) ((c.tc : Thread Cert.RmsMemBwdIdeal.nD Cert.RmsMemBwdIdeal.τ).loc Cert.RmsMemBwdIdeal.main_v1_0)) (v1 : (c : Dev Cert.RmsMemBwdIdeal.nD) → Buf (Elt Ideal) ((c.tc : Thread Cert.RmsMemBwdIdeal.nD Cert.RmsMemBwdIdeal.τ).loc Cert.RmsMemBwdIdeal.main_v1_1)),
      θ_run (Cert.RmsMemBwdIdeal.defs (F := Ideal)) (onTc (τ := Cert.RmsMemBwdIdeal.τ) (Cert.RmsMemBwdIdeal.main (F := Ideal))) ⟨m, fun _ => 0, g⟩ (fun r => ∀ c : Dev Cert.RmsMemBwdIdeal.nD,
          r.2.mem ((c.tc : Thread Cert.RmsMemBwdIdeal.nD Cert.RmsMemBwdIdeal.τ).loc Cert.RmsMemBwdIdeal.main_v1_0) = v0 c
          ∧ r.2.mem ((c.tc : Thread Cert.RmsMemBwdIdeal.nD Cert.RmsMemBwdIdeal.τ).loc Cert.RmsMemBwdIdeal.main_v1_1) = v1 c
          ∧ r.2.mem ((c.tc : Thread Cert.RmsMemBwdIdeal.nD Cert.RmsMemBwdIdeal.τ).loc Cert.RmsMemBwdIdeal.main_arg0) = m ((c.tc : Thread Cert.RmsMemBwdIdeal.nD Cert.RmsMemBwdIdeal.τ).loc Cert.RmsMemBwdIdeal.main_arg0)
          ∧ r.2.mem ((c.tc : Thread Cert.RmsMemBwdIdeal.nD Cert.RmsMemBwdIdeal.τ).loc Cert.RmsMemBwdIdeal.main_arg1) = m ((c.tc : Thread Cert.RmsMemBwdIdeal.nD Cert.RmsMemBwdIdeal.τ).loc Cert.RmsMemBwdIdeal.main_arg1)
          ∧ r.2.mem ((c.tc : Thread Cert.RmsMemBwdIdeal.nD Cert.RmsMemBwdIdeal.τ).loc Cert.RmsMemBwdIdeal.main_arg2) = m ((c.tc : Thread Cert.RmsMemBwdIdeal.nD Cert.RmsMemBwdIdeal.τ).loc Cert.RmsMemBwdIdeal.main_arg2))
      ∧ θ_run (Cert.RefRmsMemBwdIdeal.defs (F := Ideal)) (onTc (τ := Cert.RefRmsMemBwdIdeal.τ) (Cert.RefRmsMemBwdIdeal.main (F := Ideal))) ⟨m', fun _ => 0, g'⟩ (fun r => ∀ c : Dev Cert.RefRmsMemBwdIdeal.nD,
          r.2.mem ((c.tc : Thread Cert.RefRmsMemBwdIdeal.nD Cert.RefRmsMemBwdIdeal.τ).loc Cert.RefRmsMemBwdIdeal.main_v35) = v0 c
          ∧ r.2.mem ((c.tc : Thread Cert.RefRmsMemBwdIdeal.nD Cert.RefRmsMemBwdIdeal.τ).loc Cert.RefRmsMemBwdIdeal.main_v36) = v1 c
          ∧ r.2.mem ((c.tc : Thread Cert.RefRmsMemBwdIdeal.nD Cert.RefRmsMemBwdIdeal.τ).loc Cert.RefRmsMemBwdIdeal.main_arg0) = m' ((c.tc : Thread Cert.RefRmsMemBwdIdeal.nD Cert.RefRmsMemBwdIdeal.τ).loc Cert.RefRmsMemBwdIdeal.main_arg0)
          ∧ r.2.mem ((c.tc : Thread Cert.RefRmsMemBwdIdeal.nD Cert.RefRmsMemBwdIdeal.τ).loc Cert.RefRmsMemBwdIdeal.main_arg1) = m' ((c.tc : Thread Cert.RefRmsMemBwdIdeal.nD Cert.RefRmsMemBwdIdeal.τ).loc Cert.RefRmsMemBwdIdeal.main_arg1)
          ∧ r.2.mem ((c.tc : Thread Cert.RefRmsMemBwdIdeal.nD Cert.RefRmsMemBwdIdeal.τ).loc Cert.RefRmsMemBwdIdeal.main_arg2) = m' ((c.tc : Thread Cert.RefRmsMemBwdIdeal.nD Cert.RefRmsMemBwdIdeal.τ).loc Cert.RefRmsMemBwdIdeal.main_arg2))

def preserves_AdamGain_AdamGainIdeal : Prop :=
  True

def algebraic_AdamGainIdeal_RefAdamGainIdeal [hAdamGainIdeal : Cert.AdamGainIdeal.Facts] [hRefAdamGainIdeal : Cert.RefAdamGainIdeal.Facts] : Prop :=
  ∀ (m : (ℓ : Loc Cert.AdamGainIdeal.nD Cert.AdamGainIdeal.τ Cert.AdamGainIdeal.sig) → Buf (Elt Ideal) ℓ) (g : Dev Cert.AdamGainIdeal.nD → PrngReg)
    (m' : (ℓ : Loc Cert.RefAdamGainIdeal.nD Cert.RefAdamGainIdeal.τ Cert.RefAdamGainIdeal.sig) → Buf (Elt Ideal) ℓ) (g' : Dev Cert.RefAdamGainIdeal.nD → PrngReg), Pre_AdamGainIdeal m →
    (∀ c : Dev Cert.AdamGainIdeal.nD,
      m' ((c.tc : Thread Cert.RefAdamGainIdeal.nD Cert.RefAdamGainIdeal.τ).loc Cert.RefAdamGainIdeal.main_arg0) = m ((c.tc : Thread Cert.AdamGainIdeal.nD Cert.AdamGainIdeal.τ).loc Cert.AdamGainIdeal.main_arg0)
      ∧ m' ((c.tc : Thread Cert.RefAdamGainIdeal.nD Cert.RefAdamGainIdeal.τ).loc Cert.RefAdamGainIdeal.main_arg1) = m ((c.tc : Thread Cert.AdamGainIdeal.nD Cert.AdamGainIdeal.τ).loc Cert.AdamGainIdeal.main_arg1)
      ∧ m' ((c.tc : Thread Cert.RefAdamGainIdeal.nD Cert.RefAdamGainIdeal.τ).loc Cert.RefAdamGainIdeal.main_arg2) = m ((c.tc : Thread Cert.AdamGainIdeal.nD Cert.AdamGainIdeal.τ).loc Cert.AdamGainIdeal.main_arg2)
      ∧ m' ((c.tc : Thread Cert.RefAdamGainIdeal.nD Cert.RefAdamGainIdeal.τ).loc Cert.RefAdamGainIdeal.main_arg3) = m ((c.tc : Thread Cert.AdamGainIdeal.nD Cert.AdamGainIdeal.τ).loc Cert.AdamGainIdeal.main_arg3)) →
    ∃ (v0 : (c : Dev Cert.AdamGainIdeal.nD) → Buf (Elt Ideal) ((c.tc : Thread Cert.AdamGainIdeal.nD Cert.AdamGainIdeal.τ).loc Cert.AdamGainIdeal.main_v0_0)) (v1 : (c : Dev Cert.AdamGainIdeal.nD) → Buf (Elt Ideal) ((c.tc : Thread Cert.AdamGainIdeal.nD Cert.AdamGainIdeal.τ).loc Cert.AdamGainIdeal.main_v0_1)) (v2 : (c : Dev Cert.AdamGainIdeal.nD) → Buf (Elt Ideal) ((c.tc : Thread Cert.AdamGainIdeal.nD Cert.AdamGainIdeal.τ).loc Cert.AdamGainIdeal.main_v0_2)),
      θ_run (Cert.AdamGainIdeal.defs (F := Ideal)) (onTc (τ := Cert.AdamGainIdeal.τ) (Cert.AdamGainIdeal.main (F := Ideal))) ⟨m, fun _ => 0, g⟩ (fun r => ∀ c : Dev Cert.AdamGainIdeal.nD,
          r.2.mem ((c.tc : Thread Cert.AdamGainIdeal.nD Cert.AdamGainIdeal.τ).loc Cert.AdamGainIdeal.main_v0_0) = v0 c
          ∧ r.2.mem ((c.tc : Thread Cert.AdamGainIdeal.nD Cert.AdamGainIdeal.τ).loc Cert.AdamGainIdeal.main_v0_1) = v1 c
          ∧ r.2.mem ((c.tc : Thread Cert.AdamGainIdeal.nD Cert.AdamGainIdeal.τ).loc Cert.AdamGainIdeal.main_v0_2) = v2 c
          ∧ r.2.mem ((c.tc : Thread Cert.AdamGainIdeal.nD Cert.AdamGainIdeal.τ).loc Cert.AdamGainIdeal.main_arg0) = m ((c.tc : Thread Cert.AdamGainIdeal.nD Cert.AdamGainIdeal.τ).loc Cert.AdamGainIdeal.main_arg0)
          ∧ r.2.mem ((c.tc : Thread Cert.AdamGainIdeal.nD Cert.AdamGainIdeal.τ).loc Cert.AdamGainIdeal.main_arg1) = m ((c.tc : Thread Cert.AdamGainIdeal.nD Cert.AdamGainIdeal.τ).loc Cert.AdamGainIdeal.main_arg1)
          ∧ r.2.mem ((c.tc : Thread Cert.AdamGainIdeal.nD Cert.AdamGainIdeal.τ).loc Cert.AdamGainIdeal.main_arg2) = m ((c.tc : Thread Cert.AdamGainIdeal.nD Cert.AdamGainIdeal.τ).loc Cert.AdamGainIdeal.main_arg2)
          ∧ r.2.mem ((c.tc : Thread Cert.AdamGainIdeal.nD Cert.AdamGainIdeal.τ).loc Cert.AdamGainIdeal.main_arg3) = m ((c.tc : Thread Cert.AdamGainIdeal.nD Cert.AdamGainIdeal.τ).loc Cert.AdamGainIdeal.main_arg3))
      ∧ θ_run (Cert.RefAdamGainIdeal.defs (F := Ideal)) (onTc (τ := Cert.RefAdamGainIdeal.τ) (Cert.RefAdamGainIdeal.main (F := Ideal))) ⟨m', fun _ => 0, g'⟩ (fun r => ∀ c : Dev Cert.RefAdamGainIdeal.nD,
          r.2.mem ((c.tc : Thread Cert.RefAdamGainIdeal.nD Cert.RefAdamGainIdeal.τ).loc Cert.RefAdamGainIdeal.main_v23) = v0 c
          ∧ r.2.mem ((c.tc : Thread Cert.RefAdamGainIdeal.nD Cert.RefAdamGainIdeal.τ).loc Cert.RefAdamGainIdeal.main_v4) = v1 c
          ∧ r.2.mem ((c.tc : Thread Cert.RefAdamGainIdeal.nD Cert.RefAdamGainIdeal.τ).loc Cert.RefAdamGainIdeal.main_v10) = v2 c
          ∧ r.2.mem ((c.tc : Thread Cert.RefAdamGainIdeal.nD Cert.RefAdamGainIdeal.τ).loc Cert.RefAdamGainIdeal.main_arg0) = m' ((c.tc : Thread Cert.RefAdamGainIdeal.nD Cert.RefAdamGainIdeal.τ).loc Cert.RefAdamGainIdeal.main_arg0)
          ∧ r.2.mem ((c.tc : Thread Cert.RefAdamGainIdeal.nD Cert.RefAdamGainIdeal.τ).loc Cert.RefAdamGainIdeal.main_arg1) = m' ((c.tc : Thread Cert.RefAdamGainIdeal.nD Cert.RefAdamGainIdeal.τ).loc Cert.RefAdamGainIdeal.main_arg1)
          ∧ r.2.mem ((c.tc : Thread Cert.RefAdamGainIdeal.nD Cert.RefAdamGainIdeal.τ).loc Cert.RefAdamGainIdeal.main_arg2) = m' ((c.tc : Thread Cert.RefAdamGainIdeal.nD Cert.RefAdamGainIdeal.τ).loc Cert.RefAdamGainIdeal.main_arg2)
          ∧ r.2.mem ((c.tc : Thread Cert.RefAdamGainIdeal.nD Cert.RefAdamGainIdeal.τ).loc Cert.RefAdamGainIdeal.main_arg3) = m' ((c.tc : Thread Cert.RefAdamGainIdeal.nD Cert.RefAdamGainIdeal.τ).loc Cert.RefAdamGainIdeal.main_arg3))

def preserves_AdamHeads_AdamHeadsIdeal : Prop :=
  True

def algebraic_AdamHeadsIdeal_RefAdamHeadsIdeal [hAdamHeadsIdeal : Cert.AdamHeadsIdeal.Facts] [hRefAdamHeadsIdeal : Cert.RefAdamHeadsIdeal.Facts] : Prop :=
  ∀ (m : (ℓ : Loc Cert.AdamHeadsIdeal.nD Cert.AdamHeadsIdeal.τ Cert.AdamHeadsIdeal.sig) → Buf (Elt Ideal) ℓ) (g : Dev Cert.AdamHeadsIdeal.nD → PrngReg)
    (m' : (ℓ : Loc Cert.RefAdamHeadsIdeal.nD Cert.RefAdamHeadsIdeal.τ Cert.RefAdamHeadsIdeal.sig) → Buf (Elt Ideal) ℓ) (g' : Dev Cert.RefAdamHeadsIdeal.nD → PrngReg), Pre_AdamHeadsIdeal m →
    (∀ c : Dev Cert.AdamHeadsIdeal.nD,
      m' ((c.tc : Thread Cert.RefAdamHeadsIdeal.nD Cert.RefAdamHeadsIdeal.τ).loc Cert.RefAdamHeadsIdeal.main_arg0) = m ((c.tc : Thread Cert.AdamHeadsIdeal.nD Cert.AdamHeadsIdeal.τ).loc Cert.AdamHeadsIdeal.main_arg0)
      ∧ m' ((c.tc : Thread Cert.RefAdamHeadsIdeal.nD Cert.RefAdamHeadsIdeal.τ).loc Cert.RefAdamHeadsIdeal.main_arg1) = m ((c.tc : Thread Cert.AdamHeadsIdeal.nD Cert.AdamHeadsIdeal.τ).loc Cert.AdamHeadsIdeal.main_arg1)
      ∧ m' ((c.tc : Thread Cert.RefAdamHeadsIdeal.nD Cert.RefAdamHeadsIdeal.τ).loc Cert.RefAdamHeadsIdeal.main_arg2) = m ((c.tc : Thread Cert.AdamHeadsIdeal.nD Cert.AdamHeadsIdeal.τ).loc Cert.AdamHeadsIdeal.main_arg2)
      ∧ m' ((c.tc : Thread Cert.RefAdamHeadsIdeal.nD Cert.RefAdamHeadsIdeal.τ).loc Cert.RefAdamHeadsIdeal.main_arg3) = m ((c.tc : Thread Cert.AdamHeadsIdeal.nD Cert.AdamHeadsIdeal.τ).loc Cert.AdamHeadsIdeal.main_arg3)) →
    ∃ (v0 : (c : Dev Cert.AdamHeadsIdeal.nD) → Buf (Elt Ideal) ((c.tc : Thread Cert.AdamHeadsIdeal.nD Cert.AdamHeadsIdeal.τ).loc Cert.AdamHeadsIdeal.main_v0_0)) (v1 : (c : Dev Cert.AdamHeadsIdeal.nD) → Buf (Elt Ideal) ((c.tc : Thread Cert.AdamHeadsIdeal.nD Cert.AdamHeadsIdeal.τ).loc Cert.AdamHeadsIdeal.main_v0_1)) (v2 : (c : Dev Cert.AdamHeadsIdeal.nD) → Buf (Elt Ideal) ((c.tc : Thread Cert.AdamHeadsIdeal.nD Cert.AdamHeadsIdeal.τ).loc Cert.AdamHeadsIdeal.main_v0_2)),
      θ_run (Cert.AdamHeadsIdeal.defs (F := Ideal)) (onTc (τ := Cert.AdamHeadsIdeal.τ) (Cert.AdamHeadsIdeal.main (F := Ideal))) ⟨m, fun _ => 0, g⟩ (fun r => ∀ c : Dev Cert.AdamHeadsIdeal.nD,
          r.2.mem ((c.tc : Thread Cert.AdamHeadsIdeal.nD Cert.AdamHeadsIdeal.τ).loc Cert.AdamHeadsIdeal.main_v0_0) = v0 c
          ∧ r.2.mem ((c.tc : Thread Cert.AdamHeadsIdeal.nD Cert.AdamHeadsIdeal.τ).loc Cert.AdamHeadsIdeal.main_v0_1) = v1 c
          ∧ r.2.mem ((c.tc : Thread Cert.AdamHeadsIdeal.nD Cert.AdamHeadsIdeal.τ).loc Cert.AdamHeadsIdeal.main_v0_2) = v2 c
          ∧ r.2.mem ((c.tc : Thread Cert.AdamHeadsIdeal.nD Cert.AdamHeadsIdeal.τ).loc Cert.AdamHeadsIdeal.main_arg0) = m ((c.tc : Thread Cert.AdamHeadsIdeal.nD Cert.AdamHeadsIdeal.τ).loc Cert.AdamHeadsIdeal.main_arg0)
          ∧ r.2.mem ((c.tc : Thread Cert.AdamHeadsIdeal.nD Cert.AdamHeadsIdeal.τ).loc Cert.AdamHeadsIdeal.main_arg1) = m ((c.tc : Thread Cert.AdamHeadsIdeal.nD Cert.AdamHeadsIdeal.τ).loc Cert.AdamHeadsIdeal.main_arg1)
          ∧ r.2.mem ((c.tc : Thread Cert.AdamHeadsIdeal.nD Cert.AdamHeadsIdeal.τ).loc Cert.AdamHeadsIdeal.main_arg2) = m ((c.tc : Thread Cert.AdamHeadsIdeal.nD Cert.AdamHeadsIdeal.τ).loc Cert.AdamHeadsIdeal.main_arg2)
          ∧ r.2.mem ((c.tc : Thread Cert.AdamHeadsIdeal.nD Cert.AdamHeadsIdeal.τ).loc Cert.AdamHeadsIdeal.main_arg3) = m ((c.tc : Thread Cert.AdamHeadsIdeal.nD Cert.AdamHeadsIdeal.τ).loc Cert.AdamHeadsIdeal.main_arg3))
      ∧ θ_run (Cert.RefAdamHeadsIdeal.defs (F := Ideal)) (onTc (τ := Cert.RefAdamHeadsIdeal.τ) (Cert.RefAdamHeadsIdeal.main (F := Ideal))) ⟨m', fun _ => 0, g'⟩ (fun r => ∀ c : Dev Cert.RefAdamHeadsIdeal.nD,
          r.2.mem ((c.tc : Thread Cert.RefAdamHeadsIdeal.nD Cert.RefAdamHeadsIdeal.τ).loc Cert.RefAdamHeadsIdeal.main_v23) = v0 c
          ∧ r.2.mem ((c.tc : Thread Cert.RefAdamHeadsIdeal.nD Cert.RefAdamHeadsIdeal.τ).loc Cert.RefAdamHeadsIdeal.main_v4) = v1 c
          ∧ r.2.mem ((c.tc : Thread Cert.RefAdamHeadsIdeal.nD Cert.RefAdamHeadsIdeal.τ).loc Cert.RefAdamHeadsIdeal.main_v10) = v2 c
          ∧ r.2.mem ((c.tc : Thread Cert.RefAdamHeadsIdeal.nD Cert.RefAdamHeadsIdeal.τ).loc Cert.RefAdamHeadsIdeal.main_arg0) = m' ((c.tc : Thread Cert.RefAdamHeadsIdeal.nD Cert.RefAdamHeadsIdeal.τ).loc Cert.RefAdamHeadsIdeal.main_arg0)
          ∧ r.2.mem ((c.tc : Thread Cert.RefAdamHeadsIdeal.nD Cert.RefAdamHeadsIdeal.τ).loc Cert.RefAdamHeadsIdeal.main_arg1) = m' ((c.tc : Thread Cert.RefAdamHeadsIdeal.nD Cert.RefAdamHeadsIdeal.τ).loc Cert.RefAdamHeadsIdeal.main_arg1)
          ∧ r.2.mem ((c.tc : Thread Cert.RefAdamHeadsIdeal.nD Cert.RefAdamHeadsIdeal.τ).loc Cert.RefAdamHeadsIdeal.main_arg2) = m' ((c.tc : Thread Cert.RefAdamHeadsIdeal.nD Cert.RefAdamHeadsIdeal.τ).loc Cert.RefAdamHeadsIdeal.main_arg2)
          ∧ r.2.mem ((c.tc : Thread Cert.RefAdamHeadsIdeal.nD Cert.RefAdamHeadsIdeal.τ).loc Cert.RefAdamHeadsIdeal.main_arg3) = m' ((c.tc : Thread Cert.RefAdamHeadsIdeal.nD Cert.RefAdamHeadsIdeal.τ).loc Cert.RefAdamHeadsIdeal.main_arg3))

def preserves_AdamHead_AdamHeadIdeal : Prop :=
  True

def algebraic_AdamHeadIdeal_RefAdamHeadIdeal [hAdamHeadIdeal : Cert.AdamHeadIdeal.Facts] [hRefAdamHeadIdeal : Cert.RefAdamHeadIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg)
    (m' : (ℓ : Loc Cert.RefAdamHeadIdeal.nD Cert.RefAdamHeadIdeal.τ Cert.RefAdamHeadIdeal.sig) → Buf (Elt Ideal) ℓ) (g' : Dev Cert.RefAdamHeadIdeal.nD → PrngReg), Pre_AdamHeadIdeal m →
    (∀ c : Dev Cert.AdamHeadIdeal.nD,
      m' ((c.tc : Thread Cert.RefAdamHeadIdeal.nD Cert.RefAdamHeadIdeal.τ).loc Cert.RefAdamHeadIdeal.main_arg0) = m ((c.tc : Thread Cert.AdamHeadIdeal.nD Cert.AdamHeadIdeal.τ).loc Cert.AdamHeadIdeal.main_arg0)
      ∧ m' ((c.tc : Thread Cert.RefAdamHeadIdeal.nD Cert.RefAdamHeadIdeal.τ).loc Cert.RefAdamHeadIdeal.main_arg1) = m ((c.tc : Thread Cert.AdamHeadIdeal.nD Cert.AdamHeadIdeal.τ).loc Cert.AdamHeadIdeal.main_arg1)
      ∧ m' ((c.tc : Thread Cert.RefAdamHeadIdeal.nD Cert.RefAdamHeadIdeal.τ).loc Cert.RefAdamHeadIdeal.main_arg2) = m ((c.tc : Thread Cert.AdamHeadIdeal.nD Cert.AdamHeadIdeal.τ).loc Cert.AdamHeadIdeal.main_arg2)
      ∧ m' ((c.tc : Thread Cert.RefAdamHeadIdeal.nD Cert.RefAdamHeadIdeal.τ).loc Cert.RefAdamHeadIdeal.main_arg3) = m ((c.tc : Thread Cert.AdamHeadIdeal.nD Cert.AdamHeadIdeal.τ).loc Cert.AdamHeadIdeal.main_arg3)) →
    ∃ (v0 : (c : Dev Cert.AdamHeadIdeal.nD) → Buf (Elt Ideal) ((c.tc : Thread Cert.AdamHeadIdeal.nD Cert.AdamHeadIdeal.τ).loc Cert.AdamHeadIdeal.main_v0_0)) (v1 : (c : Dev Cert.AdamHeadIdeal.nD) → Buf (Elt Ideal) ((c.tc : Thread Cert.AdamHeadIdeal.nD Cert.AdamHeadIdeal.τ).loc Cert.AdamHeadIdeal.main_v0_1)) (v2 : (c : Dev Cert.AdamHeadIdeal.nD) → Buf (Elt Ideal) ((c.tc : Thread Cert.AdamHeadIdeal.nD Cert.AdamHeadIdeal.τ).loc Cert.AdamHeadIdeal.main_v0_2)),
      θ_run (Cert.AdamHeadIdeal.defs (F := Ideal)) (onTc (τ := Cert.AdamHeadIdeal.τ) (Cert.AdamHeadIdeal.main (F := Ideal))) ⟨m, fun _ => 0, g⟩ (fun r => ∀ c : Dev Cert.AdamHeadIdeal.nD,
          r.2.mem ((c.tc : Thread Cert.AdamHeadIdeal.nD Cert.AdamHeadIdeal.τ).loc Cert.AdamHeadIdeal.main_v0_0) = v0 c
          ∧ r.2.mem ((c.tc : Thread Cert.AdamHeadIdeal.nD Cert.AdamHeadIdeal.τ).loc Cert.AdamHeadIdeal.main_v0_1) = v1 c
          ∧ r.2.mem ((c.tc : Thread Cert.AdamHeadIdeal.nD Cert.AdamHeadIdeal.τ).loc Cert.AdamHeadIdeal.main_v0_2) = v2 c
          ∧ r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
          ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
          ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
          ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3))
      ∧ θ_run (Cert.RefAdamHeadIdeal.defs (F := Ideal)) (onTc (τ := Cert.RefAdamHeadIdeal.τ) (Cert.RefAdamHeadIdeal.main (F := Ideal))) ⟨m', fun _ => 0, g'⟩ (fun r => ∀ c : Dev Cert.RefAdamHeadIdeal.nD,
          r.2.mem ((c.tc : Thread Cert.RefAdamHeadIdeal.nD Cert.RefAdamHeadIdeal.τ).loc Cert.RefAdamHeadIdeal.main_v23) = v0 c
          ∧ r.2.mem ((c.tc : Thread Cert.RefAdamHeadIdeal.nD Cert.RefAdamHeadIdeal.τ).loc Cert.RefAdamHeadIdeal.main_v4) = v1 c
          ∧ r.2.mem ((c.tc : Thread Cert.RefAdamHeadIdeal.nD Cert.RefAdamHeadIdeal.τ).loc Cert.RefAdamHeadIdeal.main_v10) = v2 c
          ∧ r.2.mem ((c.tc : Thread Cert.RefAdamHeadIdeal.nD Cert.RefAdamHeadIdeal.τ).loc Cert.RefAdamHeadIdeal.main_arg0) = m' ((c.tc : Thread Cert.RefAdamHeadIdeal.nD Cert.RefAdamHeadIdeal.τ).loc Cert.RefAdamHeadIdeal.main_arg0)
          ∧ r.2.mem ((c.tc : Thread Cert.RefAdamHeadIdeal.nD Cert.RefAdamHeadIdeal.τ).loc Cert.RefAdamHeadIdeal.main_arg1) = m' ((c.tc : Thread Cert.RefAdamHeadIdeal.nD Cert.RefAdamHeadIdeal.τ).loc Cert.RefAdamHeadIdeal.main_arg1)
          ∧ r.2.mem ((c.tc : Thread Cert.RefAdamHeadIdeal.nD Cert.RefAdamHeadIdeal.τ).loc Cert.RefAdamHeadIdeal.main_arg2) = m' ((c.tc : Thread Cert.RefAdamHeadIdeal.nD Cert.RefAdamHeadIdeal.τ).loc Cert.RefAdamHeadIdeal.main_arg2)
          ∧ r.2.mem ((c.tc : Thread Cert.RefAdamHeadIdeal.nD Cert.RefAdamHeadIdeal.τ).loc Cert.RefAdamHeadIdeal.main_arg3) = m' ((c.tc : Thread Cert.RefAdamHeadIdeal.nD Cert.RefAdamHeadIdeal.τ).loc Cert.RefAdamHeadIdeal.main_arg3))

def preserves_AdamCross_AdamCrossIdeal : Prop :=
  True

def algebraic_AdamCrossIdeal_RefAdamCrossIdeal [hAdamCrossIdeal : Cert.AdamCrossIdeal.Facts] [hRefAdamCrossIdeal : Cert.RefAdamCrossIdeal.Facts] : Prop :=
  ∀ (m : (ℓ : Loc Cert.AdamCrossIdeal.nD Cert.AdamCrossIdeal.τ Cert.AdamCrossIdeal.sig) → Buf (Elt Ideal) ℓ) (g : Dev Cert.AdamCrossIdeal.nD → PrngReg)
    (m' : (ℓ : Loc Cert.RefAdamCrossIdeal.nD Cert.RefAdamCrossIdeal.τ Cert.RefAdamCrossIdeal.sig) → Buf (Elt Ideal) ℓ) (g' : Dev Cert.RefAdamCrossIdeal.nD → PrngReg), Pre_AdamCrossIdeal m →
    (∀ c : Dev Cert.AdamCrossIdeal.nD,
      m' ((c.tc : Thread Cert.RefAdamCrossIdeal.nD Cert.RefAdamCrossIdeal.τ).loc Cert.RefAdamCrossIdeal.main_arg0) = m ((c.tc : Thread Cert.AdamCrossIdeal.nD Cert.AdamCrossIdeal.τ).loc Cert.AdamCrossIdeal.main_arg0)
      ∧ m' ((c.tc : Thread Cert.RefAdamCrossIdeal.nD Cert.RefAdamCrossIdeal.τ).loc Cert.RefAdamCrossIdeal.main_arg1) = m ((c.tc : Thread Cert.AdamCrossIdeal.nD Cert.AdamCrossIdeal.τ).loc Cert.AdamCrossIdeal.main_arg1)
      ∧ m' ((c.tc : Thread Cert.RefAdamCrossIdeal.nD Cert.RefAdamCrossIdeal.τ).loc Cert.RefAdamCrossIdeal.main_arg2) = m ((c.tc : Thread Cert.AdamCrossIdeal.nD Cert.AdamCrossIdeal.τ).loc Cert.AdamCrossIdeal.main_arg2)
      ∧ m' ((c.tc : Thread Cert.RefAdamCrossIdeal.nD Cert.RefAdamCrossIdeal.τ).loc Cert.RefAdamCrossIdeal.main_arg3) = m ((c.tc : Thread Cert.AdamCrossIdeal.nD Cert.AdamCrossIdeal.τ).loc Cert.AdamCrossIdeal.main_arg3)) →
    ∃ (v0 : (c : Dev Cert.AdamCrossIdeal.nD) → Buf (Elt Ideal) ((c.tc : Thread Cert.AdamCrossIdeal.nD Cert.AdamCrossIdeal.τ).loc Cert.AdamCrossIdeal.main_v0_0)) (v1 : (c : Dev Cert.AdamCrossIdeal.nD) → Buf (Elt Ideal) ((c.tc : Thread Cert.AdamCrossIdeal.nD Cert.AdamCrossIdeal.τ).loc Cert.AdamCrossIdeal.main_v0_1)) (v2 : (c : Dev Cert.AdamCrossIdeal.nD) → Buf (Elt Ideal) ((c.tc : Thread Cert.AdamCrossIdeal.nD Cert.AdamCrossIdeal.τ).loc Cert.AdamCrossIdeal.main_v0_2)),
      θ_run (Cert.AdamCrossIdeal.defs (F := Ideal)) (onTc (τ := Cert.AdamCrossIdeal.τ) (Cert.AdamCrossIdeal.main (F := Ideal))) ⟨m, fun _ => 0, g⟩ (fun r => ∀ c : Dev Cert.AdamCrossIdeal.nD,
          r.2.mem ((c.tc : Thread Cert.AdamCrossIdeal.nD Cert.AdamCrossIdeal.τ).loc Cert.AdamCrossIdeal.main_v0_0) = v0 c
          ∧ r.2.mem ((c.tc : Thread Cert.AdamCrossIdeal.nD Cert.AdamCrossIdeal.τ).loc Cert.AdamCrossIdeal.main_v0_1) = v1 c
          ∧ r.2.mem ((c.tc : Thread Cert.AdamCrossIdeal.nD Cert.AdamCrossIdeal.τ).loc Cert.AdamCrossIdeal.main_v0_2) = v2 c
          ∧ r.2.mem ((c.tc : Thread Cert.AdamCrossIdeal.nD Cert.AdamCrossIdeal.τ).loc Cert.AdamCrossIdeal.main_arg0) = m ((c.tc : Thread Cert.AdamCrossIdeal.nD Cert.AdamCrossIdeal.τ).loc Cert.AdamCrossIdeal.main_arg0)
          ∧ r.2.mem ((c.tc : Thread Cert.AdamCrossIdeal.nD Cert.AdamCrossIdeal.τ).loc Cert.AdamCrossIdeal.main_arg1) = m ((c.tc : Thread Cert.AdamCrossIdeal.nD Cert.AdamCrossIdeal.τ).loc Cert.AdamCrossIdeal.main_arg1)
          ∧ r.2.mem ((c.tc : Thread Cert.AdamCrossIdeal.nD Cert.AdamCrossIdeal.τ).loc Cert.AdamCrossIdeal.main_arg2) = m ((c.tc : Thread Cert.AdamCrossIdeal.nD Cert.AdamCrossIdeal.τ).loc Cert.AdamCrossIdeal.main_arg2)
          ∧ r.2.mem ((c.tc : Thread Cert.AdamCrossIdeal.nD Cert.AdamCrossIdeal.τ).loc Cert.AdamCrossIdeal.main_arg3) = m ((c.tc : Thread Cert.AdamCrossIdeal.nD Cert.AdamCrossIdeal.τ).loc Cert.AdamCrossIdeal.main_arg3))
      ∧ θ_run (Cert.RefAdamCrossIdeal.defs (F := Ideal)) (onTc (τ := Cert.RefAdamCrossIdeal.τ) (Cert.RefAdamCrossIdeal.main (F := Ideal))) ⟨m', fun _ => 0, g'⟩ (fun r => ∀ c : Dev Cert.RefAdamCrossIdeal.nD,
          r.2.mem ((c.tc : Thread Cert.RefAdamCrossIdeal.nD Cert.RefAdamCrossIdeal.τ).loc Cert.RefAdamCrossIdeal.main_v23) = v0 c
          ∧ r.2.mem ((c.tc : Thread Cert.RefAdamCrossIdeal.nD Cert.RefAdamCrossIdeal.τ).loc Cert.RefAdamCrossIdeal.main_v4) = v1 c
          ∧ r.2.mem ((c.tc : Thread Cert.RefAdamCrossIdeal.nD Cert.RefAdamCrossIdeal.τ).loc Cert.RefAdamCrossIdeal.main_v10) = v2 c
          ∧ r.2.mem ((c.tc : Thread Cert.RefAdamCrossIdeal.nD Cert.RefAdamCrossIdeal.τ).loc Cert.RefAdamCrossIdeal.main_arg0) = m' ((c.tc : Thread Cert.RefAdamCrossIdeal.nD Cert.RefAdamCrossIdeal.τ).loc Cert.RefAdamCrossIdeal.main_arg0)
          ∧ r.2.mem ((c.tc : Thread Cert.RefAdamCrossIdeal.nD Cert.RefAdamCrossIdeal.τ).loc Cert.RefAdamCrossIdeal.main_arg1) = m' ((c.tc : Thread Cert.RefAdamCrossIdeal.nD Cert.RefAdamCrossIdeal.τ).loc Cert.RefAdamCrossIdeal.main_arg1)
          ∧ r.2.mem ((c.tc : Thread Cert.RefAdamCrossIdeal.nD Cert.RefAdamCrossIdeal.τ).loc Cert.RefAdamCrossIdeal.main_arg2) = m' ((c.tc : Thread Cert.RefAdamCrossIdeal.nD Cert.RefAdamCrossIdeal.τ).loc Cert.RefAdamCrossIdeal.main_arg2)
          ∧ r.2.mem ((c.tc : Thread Cert.RefAdamCrossIdeal.nD Cert.RefAdamCrossIdeal.τ).loc Cert.RefAdamCrossIdeal.main_arg3) = m' ((c.tc : Thread Cert.RefAdamCrossIdeal.nD Cert.RefAdamCrossIdeal.τ).loc Cert.RefAdamCrossIdeal.main_arg3))

def preserves_AdamSinks_AdamSinksIdeal : Prop :=
  True

def algebraic_AdamSinksIdeal_RefAdamSinksIdeal [hAdamSinksIdeal : Cert.AdamSinksIdeal.Facts] [hRefAdamSinksIdeal : Cert.RefAdamSinksIdeal.Facts] : Prop :=
  ∀ (m : (ℓ : Loc Cert.AdamSinksIdeal.nD Cert.AdamSinksIdeal.τ Cert.AdamSinksIdeal.sig) → Buf (Elt Ideal) ℓ) (g : Dev Cert.AdamSinksIdeal.nD → PrngReg)
    (m' : (ℓ : Loc Cert.RefAdamSinksIdeal.nD Cert.RefAdamSinksIdeal.τ Cert.RefAdamSinksIdeal.sig) → Buf (Elt Ideal) ℓ) (g' : Dev Cert.RefAdamSinksIdeal.nD → PrngReg), Pre_AdamSinksIdeal m →
    (∀ c : Dev Cert.AdamSinksIdeal.nD,
      m' ((c.tc : Thread Cert.RefAdamSinksIdeal.nD Cert.RefAdamSinksIdeal.τ).loc Cert.RefAdamSinksIdeal.main_arg0) = m ((c.tc : Thread Cert.AdamSinksIdeal.nD Cert.AdamSinksIdeal.τ).loc Cert.AdamSinksIdeal.main_arg0)
      ∧ m' ((c.tc : Thread Cert.RefAdamSinksIdeal.nD Cert.RefAdamSinksIdeal.τ).loc Cert.RefAdamSinksIdeal.main_arg1) = m ((c.tc : Thread Cert.AdamSinksIdeal.nD Cert.AdamSinksIdeal.τ).loc Cert.AdamSinksIdeal.main_arg1)
      ∧ m' ((c.tc : Thread Cert.RefAdamSinksIdeal.nD Cert.RefAdamSinksIdeal.τ).loc Cert.RefAdamSinksIdeal.main_arg2) = m ((c.tc : Thread Cert.AdamSinksIdeal.nD Cert.AdamSinksIdeal.τ).loc Cert.AdamSinksIdeal.main_arg2)
      ∧ m' ((c.tc : Thread Cert.RefAdamSinksIdeal.nD Cert.RefAdamSinksIdeal.τ).loc Cert.RefAdamSinksIdeal.main_arg3) = m ((c.tc : Thread Cert.AdamSinksIdeal.nD Cert.AdamSinksIdeal.τ).loc Cert.AdamSinksIdeal.main_arg3)) →
    ∃ (v0 : (c : Dev Cert.AdamSinksIdeal.nD) → Buf (Elt Ideal) ((c.tc : Thread Cert.AdamSinksIdeal.nD Cert.AdamSinksIdeal.τ).loc Cert.AdamSinksIdeal.main_v0_0)) (v1 : (c : Dev Cert.AdamSinksIdeal.nD) → Buf (Elt Ideal) ((c.tc : Thread Cert.AdamSinksIdeal.nD Cert.AdamSinksIdeal.τ).loc Cert.AdamSinksIdeal.main_v0_1)) (v2 : (c : Dev Cert.AdamSinksIdeal.nD) → Buf (Elt Ideal) ((c.tc : Thread Cert.AdamSinksIdeal.nD Cert.AdamSinksIdeal.τ).loc Cert.AdamSinksIdeal.main_v0_2)),
      θ_run (Cert.AdamSinksIdeal.defs (F := Ideal)) (onTc (τ := Cert.AdamSinksIdeal.τ) (Cert.AdamSinksIdeal.main (F := Ideal))) ⟨m, fun _ => 0, g⟩ (fun r => ∀ c : Dev Cert.AdamSinksIdeal.nD,
          r.2.mem ((c.tc : Thread Cert.AdamSinksIdeal.nD Cert.AdamSinksIdeal.τ).loc Cert.AdamSinksIdeal.main_v0_0) = v0 c
          ∧ r.2.mem ((c.tc : Thread Cert.AdamSinksIdeal.nD Cert.AdamSinksIdeal.τ).loc Cert.AdamSinksIdeal.main_v0_1) = v1 c
          ∧ r.2.mem ((c.tc : Thread Cert.AdamSinksIdeal.nD Cert.AdamSinksIdeal.τ).loc Cert.AdamSinksIdeal.main_v0_2) = v2 c
          ∧ r.2.mem ((c.tc : Thread Cert.AdamSinksIdeal.nD Cert.AdamSinksIdeal.τ).loc Cert.AdamSinksIdeal.main_arg0) = m ((c.tc : Thread Cert.AdamSinksIdeal.nD Cert.AdamSinksIdeal.τ).loc Cert.AdamSinksIdeal.main_arg0)
          ∧ r.2.mem ((c.tc : Thread Cert.AdamSinksIdeal.nD Cert.AdamSinksIdeal.τ).loc Cert.AdamSinksIdeal.main_arg1) = m ((c.tc : Thread Cert.AdamSinksIdeal.nD Cert.AdamSinksIdeal.τ).loc Cert.AdamSinksIdeal.main_arg1)
          ∧ r.2.mem ((c.tc : Thread Cert.AdamSinksIdeal.nD Cert.AdamSinksIdeal.τ).loc Cert.AdamSinksIdeal.main_arg2) = m ((c.tc : Thread Cert.AdamSinksIdeal.nD Cert.AdamSinksIdeal.τ).loc Cert.AdamSinksIdeal.main_arg2)
          ∧ r.2.mem ((c.tc : Thread Cert.AdamSinksIdeal.nD Cert.AdamSinksIdeal.τ).loc Cert.AdamSinksIdeal.main_arg3) = m ((c.tc : Thread Cert.AdamSinksIdeal.nD Cert.AdamSinksIdeal.τ).loc Cert.AdamSinksIdeal.main_arg3))
      ∧ θ_run (Cert.RefAdamSinksIdeal.defs (F := Ideal)) (onTc (τ := Cert.RefAdamSinksIdeal.τ) (Cert.RefAdamSinksIdeal.main (F := Ideal))) ⟨m', fun _ => 0, g'⟩ (fun r => ∀ c : Dev Cert.RefAdamSinksIdeal.nD,
          r.2.mem ((c.tc : Thread Cert.RefAdamSinksIdeal.nD Cert.RefAdamSinksIdeal.τ).loc Cert.RefAdamSinksIdeal.main_v23) = v0 c
          ∧ r.2.mem ((c.tc : Thread Cert.RefAdamSinksIdeal.nD Cert.RefAdamSinksIdeal.τ).loc Cert.RefAdamSinksIdeal.main_v4) = v1 c
          ∧ r.2.mem ((c.tc : Thread Cert.RefAdamSinksIdeal.nD Cert.RefAdamSinksIdeal.τ).loc Cert.RefAdamSinksIdeal.main_v10) = v2 c
          ∧ r.2.mem ((c.tc : Thread Cert.RefAdamSinksIdeal.nD Cert.RefAdamSinksIdeal.τ).loc Cert.RefAdamSinksIdeal.main_arg0) = m' ((c.tc : Thread Cert.RefAdamSinksIdeal.nD Cert.RefAdamSinksIdeal.τ).loc Cert.RefAdamSinksIdeal.main_arg0)
          ∧ r.2.mem ((c.tc : Thread Cert.RefAdamSinksIdeal.nD Cert.RefAdamSinksIdeal.τ).loc Cert.RefAdamSinksIdeal.main_arg1) = m' ((c.tc : Thread Cert.RefAdamSinksIdeal.nD Cert.RefAdamSinksIdeal.τ).loc Cert.RefAdamSinksIdeal.main_arg1)
          ∧ r.2.mem ((c.tc : Thread Cert.RefAdamSinksIdeal.nD Cert.RefAdamSinksIdeal.τ).loc Cert.RefAdamSinksIdeal.main_arg2) = m' ((c.tc : Thread Cert.RefAdamSinksIdeal.nD Cert.RefAdamSinksIdeal.τ).loc Cert.RefAdamSinksIdeal.main_arg2)
          ∧ r.2.mem ((c.tc : Thread Cert.RefAdamSinksIdeal.nD Cert.RefAdamSinksIdeal.τ).loc Cert.RefAdamSinksIdeal.main_arg3) = m' ((c.tc : Thread Cert.RefAdamSinksIdeal.nD Cert.RefAdamSinksIdeal.τ).loc Cert.RefAdamSinksIdeal.main_arg3))

def preserves_AdamTable_AdamTableIdeal : Prop :=
  True

def algebraic_AdamTableIdeal_RefAdamTableIdeal [hAdamTableIdeal : Cert.AdamTableIdeal.Facts] [hRefAdamTableIdeal : Cert.RefAdamTableIdeal.Facts] : Prop :=
  ∀ (m : (ℓ : Loc Cert.AdamTableIdeal.nD Cert.AdamTableIdeal.τ Cert.AdamTableIdeal.sig) → Buf (Elt Ideal) ℓ) (g : Dev Cert.AdamTableIdeal.nD → PrngReg)
    (m' : (ℓ : Loc Cert.RefAdamTableIdeal.nD Cert.RefAdamTableIdeal.τ Cert.RefAdamTableIdeal.sig) → Buf (Elt Ideal) ℓ) (g' : Dev Cert.RefAdamTableIdeal.nD → PrngReg), Pre_AdamTableIdeal m →
    (∀ c : Dev Cert.AdamTableIdeal.nD,
      m' ((c.tc : Thread Cert.RefAdamTableIdeal.nD Cert.RefAdamTableIdeal.τ).loc Cert.RefAdamTableIdeal.main_arg0) = m ((c.tc : Thread Cert.AdamTableIdeal.nD Cert.AdamTableIdeal.τ).loc Cert.AdamTableIdeal.main_arg0)
      ∧ m' ((c.tc : Thread Cert.RefAdamTableIdeal.nD Cert.RefAdamTableIdeal.τ).loc Cert.RefAdamTableIdeal.main_arg1) = m ((c.tc : Thread Cert.AdamTableIdeal.nD Cert.AdamTableIdeal.τ).loc Cert.AdamTableIdeal.main_arg1)
      ∧ m' ((c.tc : Thread Cert.RefAdamTableIdeal.nD Cert.RefAdamTableIdeal.τ).loc Cert.RefAdamTableIdeal.main_arg2) = m ((c.tc : Thread Cert.AdamTableIdeal.nD Cert.AdamTableIdeal.τ).loc Cert.AdamTableIdeal.main_arg2)
      ∧ m' ((c.tc : Thread Cert.RefAdamTableIdeal.nD Cert.RefAdamTableIdeal.τ).loc Cert.RefAdamTableIdeal.main_arg3) = m ((c.tc : Thread Cert.AdamTableIdeal.nD Cert.AdamTableIdeal.τ).loc Cert.AdamTableIdeal.main_arg3)) →
    ∃ (v0 : (c : Dev Cert.AdamTableIdeal.nD) → Buf (Elt Ideal) ((c.tc : Thread Cert.AdamTableIdeal.nD Cert.AdamTableIdeal.τ).loc Cert.AdamTableIdeal.main_v0_0)) (v1 : (c : Dev Cert.AdamTableIdeal.nD) → Buf (Elt Ideal) ((c.tc : Thread Cert.AdamTableIdeal.nD Cert.AdamTableIdeal.τ).loc Cert.AdamTableIdeal.main_v0_1)) (v2 : (c : Dev Cert.AdamTableIdeal.nD) → Buf (Elt Ideal) ((c.tc : Thread Cert.AdamTableIdeal.nD Cert.AdamTableIdeal.τ).loc Cert.AdamTableIdeal.main_v0_2)),
      θ_run (Cert.AdamTableIdeal.defs (F := Ideal)) (onTc (τ := Cert.AdamTableIdeal.τ) (Cert.AdamTableIdeal.main (F := Ideal))) ⟨m, fun _ => 0, g⟩ (fun r => ∀ c : Dev Cert.AdamTableIdeal.nD,
          r.2.mem ((c.tc : Thread Cert.AdamTableIdeal.nD Cert.AdamTableIdeal.τ).loc Cert.AdamTableIdeal.main_v0_0) = v0 c
          ∧ r.2.mem ((c.tc : Thread Cert.AdamTableIdeal.nD Cert.AdamTableIdeal.τ).loc Cert.AdamTableIdeal.main_v0_1) = v1 c
          ∧ r.2.mem ((c.tc : Thread Cert.AdamTableIdeal.nD Cert.AdamTableIdeal.τ).loc Cert.AdamTableIdeal.main_v0_2) = v2 c
          ∧ r.2.mem ((c.tc : Thread Cert.AdamTableIdeal.nD Cert.AdamTableIdeal.τ).loc Cert.AdamTableIdeal.main_arg0) = m ((c.tc : Thread Cert.AdamTableIdeal.nD Cert.AdamTableIdeal.τ).loc Cert.AdamTableIdeal.main_arg0)
          ∧ r.2.mem ((c.tc : Thread Cert.AdamTableIdeal.nD Cert.AdamTableIdeal.τ).loc Cert.AdamTableIdeal.main_arg1) = m ((c.tc : Thread Cert.AdamTableIdeal.nD Cert.AdamTableIdeal.τ).loc Cert.AdamTableIdeal.main_arg1)
          ∧ r.2.mem ((c.tc : Thread Cert.AdamTableIdeal.nD Cert.AdamTableIdeal.τ).loc Cert.AdamTableIdeal.main_arg2) = m ((c.tc : Thread Cert.AdamTableIdeal.nD Cert.AdamTableIdeal.τ).loc Cert.AdamTableIdeal.main_arg2)
          ∧ r.2.mem ((c.tc : Thread Cert.AdamTableIdeal.nD Cert.AdamTableIdeal.τ).loc Cert.AdamTableIdeal.main_arg3) = m ((c.tc : Thread Cert.AdamTableIdeal.nD Cert.AdamTableIdeal.τ).loc Cert.AdamTableIdeal.main_arg3))
      ∧ θ_run (Cert.RefAdamTableIdeal.defs (F := Ideal)) (onTc (τ := Cert.RefAdamTableIdeal.τ) (Cert.RefAdamTableIdeal.main (F := Ideal))) ⟨m', fun _ => 0, g'⟩ (fun r => ∀ c : Dev Cert.RefAdamTableIdeal.nD,
          r.2.mem ((c.tc : Thread Cert.RefAdamTableIdeal.nD Cert.RefAdamTableIdeal.τ).loc Cert.RefAdamTableIdeal.main_v23) = v0 c
          ∧ r.2.mem ((c.tc : Thread Cert.RefAdamTableIdeal.nD Cert.RefAdamTableIdeal.τ).loc Cert.RefAdamTableIdeal.main_v4) = v1 c
          ∧ r.2.mem ((c.tc : Thread Cert.RefAdamTableIdeal.nD Cert.RefAdamTableIdeal.τ).loc Cert.RefAdamTableIdeal.main_v10) = v2 c
          ∧ r.2.mem ((c.tc : Thread Cert.RefAdamTableIdeal.nD Cert.RefAdamTableIdeal.τ).loc Cert.RefAdamTableIdeal.main_arg0) = m' ((c.tc : Thread Cert.RefAdamTableIdeal.nD Cert.RefAdamTableIdeal.τ).loc Cert.RefAdamTableIdeal.main_arg0)
          ∧ r.2.mem ((c.tc : Thread Cert.RefAdamTableIdeal.nD Cert.RefAdamTableIdeal.τ).loc Cert.RefAdamTableIdeal.main_arg1) = m' ((c.tc : Thread Cert.RefAdamTableIdeal.nD Cert.RefAdamTableIdeal.τ).loc Cert.RefAdamTableIdeal.main_arg1)
          ∧ r.2.mem ((c.tc : Thread Cert.RefAdamTableIdeal.nD Cert.RefAdamTableIdeal.τ).loc Cert.RefAdamTableIdeal.main_arg2) = m' ((c.tc : Thread Cert.RefAdamTableIdeal.nD Cert.RefAdamTableIdeal.τ).loc Cert.RefAdamTableIdeal.main_arg2)
          ∧ r.2.mem ((c.tc : Thread Cert.RefAdamTableIdeal.nD Cert.RefAdamTableIdeal.τ).loc Cert.RefAdamTableIdeal.main_arg3) = m' ((c.tc : Thread Cert.RefAdamTableIdeal.nD Cert.RefAdamTableIdeal.τ).loc Cert.RefAdamTableIdeal.main_arg3))

def preserves_AdamInner_AdamInnerIdeal : Prop :=
  True

def algebraic_AdamInnerIdeal_RefAdamInnerIdeal [hAdamInnerIdeal : Cert.AdamInnerIdeal.Facts] [hRefAdamInnerIdeal : Cert.RefAdamInnerIdeal.Facts] : Prop :=
  ∀ (m : (ℓ : Loc Cert.AdamInnerIdeal.nD Cert.AdamInnerIdeal.τ Cert.AdamInnerIdeal.sig) → Buf (Elt Ideal) ℓ) (g : Dev Cert.AdamInnerIdeal.nD → PrngReg)
    (m' : (ℓ : Loc Cert.RefAdamInnerIdeal.nD Cert.RefAdamInnerIdeal.τ Cert.RefAdamInnerIdeal.sig) → Buf (Elt Ideal) ℓ) (g' : Dev Cert.RefAdamInnerIdeal.nD → PrngReg), Pre_AdamInnerIdeal m →
    (∀ c : Dev Cert.AdamInnerIdeal.nD,
      m' ((c.tc : Thread Cert.RefAdamInnerIdeal.nD Cert.RefAdamInnerIdeal.τ).loc Cert.RefAdamInnerIdeal.main_arg0) = m ((c.tc : Thread Cert.AdamInnerIdeal.nD Cert.AdamInnerIdeal.τ).loc Cert.AdamInnerIdeal.main_arg0)
      ∧ m' ((c.tc : Thread Cert.RefAdamInnerIdeal.nD Cert.RefAdamInnerIdeal.τ).loc Cert.RefAdamInnerIdeal.main_arg1) = m ((c.tc : Thread Cert.AdamInnerIdeal.nD Cert.AdamInnerIdeal.τ).loc Cert.AdamInnerIdeal.main_arg1)
      ∧ m' ((c.tc : Thread Cert.RefAdamInnerIdeal.nD Cert.RefAdamInnerIdeal.τ).loc Cert.RefAdamInnerIdeal.main_arg2) = m ((c.tc : Thread Cert.AdamInnerIdeal.nD Cert.AdamInnerIdeal.τ).loc Cert.AdamInnerIdeal.main_arg2)
      ∧ m' ((c.tc : Thread Cert.RefAdamInnerIdeal.nD Cert.RefAdamInnerIdeal.τ).loc Cert.RefAdamInnerIdeal.main_arg3) = m ((c.tc : Thread Cert.AdamInnerIdeal.nD Cert.AdamInnerIdeal.τ).loc Cert.AdamInnerIdeal.main_arg3)) →
    ∃ (v0 : (c : Dev Cert.AdamInnerIdeal.nD) → Buf (Elt Ideal) ((c.tc : Thread Cert.AdamInnerIdeal.nD Cert.AdamInnerIdeal.τ).loc Cert.AdamInnerIdeal.main_v0_0)) (v1 : (c : Dev Cert.AdamInnerIdeal.nD) → Buf (Elt Ideal) ((c.tc : Thread Cert.AdamInnerIdeal.nD Cert.AdamInnerIdeal.τ).loc Cert.AdamInnerIdeal.main_v0_1)) (v2 : (c : Dev Cert.AdamInnerIdeal.nD) → Buf (Elt Ideal) ((c.tc : Thread Cert.AdamInnerIdeal.nD Cert.AdamInnerIdeal.τ).loc Cert.AdamInnerIdeal.main_v0_2)),
      θ_run (Cert.AdamInnerIdeal.defs (F := Ideal)) (onTc (τ := Cert.AdamInnerIdeal.τ) (Cert.AdamInnerIdeal.main (F := Ideal))) ⟨m, fun _ => 0, g⟩ (fun r => ∀ c : Dev Cert.AdamInnerIdeal.nD,
          r.2.mem ((c.tc : Thread Cert.AdamInnerIdeal.nD Cert.AdamInnerIdeal.τ).loc Cert.AdamInnerIdeal.main_v0_0) = v0 c
          ∧ r.2.mem ((c.tc : Thread Cert.AdamInnerIdeal.nD Cert.AdamInnerIdeal.τ).loc Cert.AdamInnerIdeal.main_v0_1) = v1 c
          ∧ r.2.mem ((c.tc : Thread Cert.AdamInnerIdeal.nD Cert.AdamInnerIdeal.τ).loc Cert.AdamInnerIdeal.main_v0_2) = v2 c
          ∧ r.2.mem ((c.tc : Thread Cert.AdamInnerIdeal.nD Cert.AdamInnerIdeal.τ).loc Cert.AdamInnerIdeal.main_arg0) = m ((c.tc : Thread Cert.AdamInnerIdeal.nD Cert.AdamInnerIdeal.τ).loc Cert.AdamInnerIdeal.main_arg0)
          ∧ r.2.mem ((c.tc : Thread Cert.AdamInnerIdeal.nD Cert.AdamInnerIdeal.τ).loc Cert.AdamInnerIdeal.main_arg1) = m ((c.tc : Thread Cert.AdamInnerIdeal.nD Cert.AdamInnerIdeal.τ).loc Cert.AdamInnerIdeal.main_arg1)
          ∧ r.2.mem ((c.tc : Thread Cert.AdamInnerIdeal.nD Cert.AdamInnerIdeal.τ).loc Cert.AdamInnerIdeal.main_arg2) = m ((c.tc : Thread Cert.AdamInnerIdeal.nD Cert.AdamInnerIdeal.τ).loc Cert.AdamInnerIdeal.main_arg2)
          ∧ r.2.mem ((c.tc : Thread Cert.AdamInnerIdeal.nD Cert.AdamInnerIdeal.τ).loc Cert.AdamInnerIdeal.main_arg3) = m ((c.tc : Thread Cert.AdamInnerIdeal.nD Cert.AdamInnerIdeal.τ).loc Cert.AdamInnerIdeal.main_arg3))
      ∧ θ_run (Cert.RefAdamInnerIdeal.defs (F := Ideal)) (onTc (τ := Cert.RefAdamInnerIdeal.τ) (Cert.RefAdamInnerIdeal.main (F := Ideal))) ⟨m', fun _ => 0, g'⟩ (fun r => ∀ c : Dev Cert.RefAdamInnerIdeal.nD,
          r.2.mem ((c.tc : Thread Cert.RefAdamInnerIdeal.nD Cert.RefAdamInnerIdeal.τ).loc Cert.RefAdamInnerIdeal.main_v23) = v0 c
          ∧ r.2.mem ((c.tc : Thread Cert.RefAdamInnerIdeal.nD Cert.RefAdamInnerIdeal.τ).loc Cert.RefAdamInnerIdeal.main_v4) = v1 c
          ∧ r.2.mem ((c.tc : Thread Cert.RefAdamInnerIdeal.nD Cert.RefAdamInnerIdeal.τ).loc Cert.RefAdamInnerIdeal.main_v10) = v2 c
          ∧ r.2.mem ((c.tc : Thread Cert.RefAdamInnerIdeal.nD Cert.RefAdamInnerIdeal.τ).loc Cert.RefAdamInnerIdeal.main_arg0) = m' ((c.tc : Thread Cert.RefAdamInnerIdeal.nD Cert.RefAdamInnerIdeal.τ).loc Cert.RefAdamInnerIdeal.main_arg0)
          ∧ r.2.mem ((c.tc : Thread Cert.RefAdamInnerIdeal.nD Cert.RefAdamInnerIdeal.τ).loc Cert.RefAdamInnerIdeal.main_arg1) = m' ((c.tc : Thread Cert.RefAdamInnerIdeal.nD Cert.RefAdamInnerIdeal.τ).loc Cert.RefAdamInnerIdeal.main_arg1)
          ∧ r.2.mem ((c.tc : Thread Cert.RefAdamInnerIdeal.nD Cert.RefAdamInnerIdeal.τ).loc Cert.RefAdamInnerIdeal.main_arg2) = m' ((c.tc : Thread Cert.RefAdamInnerIdeal.nD Cert.RefAdamInnerIdeal.τ).loc Cert.RefAdamInnerIdeal.main_arg2)
          ∧ r.2.mem ((c.tc : Thread Cert.RefAdamInnerIdeal.nD Cert.RefAdamInnerIdeal.τ).loc Cert.RefAdamInnerIdeal.main_arg3) = m' ((c.tc : Thread Cert.RefAdamInnerIdeal.nD Cert.RefAdamInnerIdeal.τ).loc Cert.RefAdamInnerIdeal.main_arg3))

def preserves_AdamBias_AdamBiasIdeal : Prop :=
  True

def algebraic_AdamBiasIdeal_RefAdamBiasIdeal [hAdamBiasIdeal : Cert.AdamBiasIdeal.Facts] [hRefAdamBiasIdeal : Cert.RefAdamBiasIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg)
    (m' : (ℓ : Loc Cert.RefAdamBiasIdeal.nD Cert.RefAdamBiasIdeal.τ Cert.RefAdamBiasIdeal.sig) → Buf (Elt Ideal) ℓ) (g' : Dev Cert.RefAdamBiasIdeal.nD → PrngReg), Pre_AdamBiasIdeal m →
    (∀ c : Dev Cert.AdamBiasIdeal.nD,
      m' ((c.tc : Thread Cert.RefAdamBiasIdeal.nD Cert.RefAdamBiasIdeal.τ).loc Cert.RefAdamBiasIdeal.main_arg0) = m ((c.tc : Thread Cert.AdamBiasIdeal.nD Cert.AdamBiasIdeal.τ).loc Cert.AdamBiasIdeal.main_arg0)
      ∧ m' ((c.tc : Thread Cert.RefAdamBiasIdeal.nD Cert.RefAdamBiasIdeal.τ).loc Cert.RefAdamBiasIdeal.main_arg1) = m ((c.tc : Thread Cert.AdamBiasIdeal.nD Cert.AdamBiasIdeal.τ).loc Cert.AdamBiasIdeal.main_arg1)
      ∧ m' ((c.tc : Thread Cert.RefAdamBiasIdeal.nD Cert.RefAdamBiasIdeal.τ).loc Cert.RefAdamBiasIdeal.main_arg2) = m ((c.tc : Thread Cert.AdamBiasIdeal.nD Cert.AdamBiasIdeal.τ).loc Cert.AdamBiasIdeal.main_arg2)
      ∧ m' ((c.tc : Thread Cert.RefAdamBiasIdeal.nD Cert.RefAdamBiasIdeal.τ).loc Cert.RefAdamBiasIdeal.main_arg3) = m ((c.tc : Thread Cert.AdamBiasIdeal.nD Cert.AdamBiasIdeal.τ).loc Cert.AdamBiasIdeal.main_arg3)) →
    ∃ (v0 : (c : Dev Cert.AdamBiasIdeal.nD) → Buf (Elt Ideal) ((c.tc : Thread Cert.AdamBiasIdeal.nD Cert.AdamBiasIdeal.τ).loc Cert.AdamBiasIdeal.main_v0_0)) (v1 : (c : Dev Cert.AdamBiasIdeal.nD) → Buf (Elt Ideal) ((c.tc : Thread Cert.AdamBiasIdeal.nD Cert.AdamBiasIdeal.τ).loc Cert.AdamBiasIdeal.main_v0_1)) (v2 : (c : Dev Cert.AdamBiasIdeal.nD) → Buf (Elt Ideal) ((c.tc : Thread Cert.AdamBiasIdeal.nD Cert.AdamBiasIdeal.τ).loc Cert.AdamBiasIdeal.main_v0_2)),
      θ_run (Cert.AdamBiasIdeal.defs (F := Ideal)) (onTc (τ := Cert.AdamBiasIdeal.τ) (Cert.AdamBiasIdeal.main (F := Ideal))) ⟨m, fun _ => 0, g⟩ (fun r => ∀ c : Dev Cert.AdamBiasIdeal.nD,
          r.2.mem ((c.tc : Thread Cert.AdamBiasIdeal.nD Cert.AdamBiasIdeal.τ).loc Cert.AdamBiasIdeal.main_v0_0) = v0 c
          ∧ r.2.mem ((c.tc : Thread Cert.AdamBiasIdeal.nD Cert.AdamBiasIdeal.τ).loc Cert.AdamBiasIdeal.main_v0_1) = v1 c
          ∧ r.2.mem ((c.tc : Thread Cert.AdamBiasIdeal.nD Cert.AdamBiasIdeal.τ).loc Cert.AdamBiasIdeal.main_v0_2) = v2 c
          ∧ r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
          ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
          ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
          ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3))
      ∧ θ_run (Cert.RefAdamBiasIdeal.defs (F := Ideal)) (onTc (τ := Cert.RefAdamBiasIdeal.τ) (Cert.RefAdamBiasIdeal.main (F := Ideal))) ⟨m', fun _ => 0, g'⟩ (fun r => ∀ c : Dev Cert.RefAdamBiasIdeal.nD,
          r.2.mem ((c.tc : Thread Cert.RefAdamBiasIdeal.nD Cert.RefAdamBiasIdeal.τ).loc Cert.RefAdamBiasIdeal.main_v23) = v0 c
          ∧ r.2.mem ((c.tc : Thread Cert.RefAdamBiasIdeal.nD Cert.RefAdamBiasIdeal.τ).loc Cert.RefAdamBiasIdeal.main_v4) = v1 c
          ∧ r.2.mem ((c.tc : Thread Cert.RefAdamBiasIdeal.nD Cert.RefAdamBiasIdeal.τ).loc Cert.RefAdamBiasIdeal.main_v10) = v2 c
          ∧ r.2.mem ((c.tc : Thread Cert.RefAdamBiasIdeal.nD Cert.RefAdamBiasIdeal.τ).loc Cert.RefAdamBiasIdeal.main_arg0) = m' ((c.tc : Thread Cert.RefAdamBiasIdeal.nD Cert.RefAdamBiasIdeal.τ).loc Cert.RefAdamBiasIdeal.main_arg0)
          ∧ r.2.mem ((c.tc : Thread Cert.RefAdamBiasIdeal.nD Cert.RefAdamBiasIdeal.τ).loc Cert.RefAdamBiasIdeal.main_arg1) = m' ((c.tc : Thread Cert.RefAdamBiasIdeal.nD Cert.RefAdamBiasIdeal.τ).loc Cert.RefAdamBiasIdeal.main_arg1)
          ∧ r.2.mem ((c.tc : Thread Cert.RefAdamBiasIdeal.nD Cert.RefAdamBiasIdeal.τ).loc Cert.RefAdamBiasIdeal.main_arg2) = m' ((c.tc : Thread Cert.RefAdamBiasIdeal.nD Cert.RefAdamBiasIdeal.τ).loc Cert.RefAdamBiasIdeal.main_arg2)
          ∧ r.2.mem ((c.tc : Thread Cert.RefAdamBiasIdeal.nD Cert.RefAdamBiasIdeal.τ).loc Cert.RefAdamBiasIdeal.main_arg3) = m' ((c.tc : Thread Cert.RefAdamBiasIdeal.nD Cert.RefAdamBiasIdeal.τ).loc Cert.RefAdamBiasIdeal.main_arg3))

def preserves_AdamGates_AdamGatesIdeal : Prop :=
  True

def algebraic_AdamGatesIdeal_RefAdamGatesIdeal [hAdamGatesIdeal : Cert.AdamGatesIdeal.Facts] [hRefAdamGatesIdeal : Cert.RefAdamGatesIdeal.Facts] : Prop :=
  ∀ (m : (ℓ : Loc Cert.AdamGatesIdeal.nD Cert.AdamGatesIdeal.τ Cert.AdamGatesIdeal.sig) → Buf (Elt Ideal) ℓ) (g : Dev Cert.AdamGatesIdeal.nD → PrngReg)
    (m' : (ℓ : Loc Cert.RefAdamGatesIdeal.nD Cert.RefAdamGatesIdeal.τ Cert.RefAdamGatesIdeal.sig) → Buf (Elt Ideal) ℓ) (g' : Dev Cert.RefAdamGatesIdeal.nD → PrngReg), Pre_AdamGatesIdeal m →
    (∀ c : Dev Cert.AdamGatesIdeal.nD,
      m' ((c.tc : Thread Cert.RefAdamGatesIdeal.nD Cert.RefAdamGatesIdeal.τ).loc Cert.RefAdamGatesIdeal.main_arg0) = m ((c.tc : Thread Cert.AdamGatesIdeal.nD Cert.AdamGatesIdeal.τ).loc Cert.AdamGatesIdeal.main_arg0)
      ∧ m' ((c.tc : Thread Cert.RefAdamGatesIdeal.nD Cert.RefAdamGatesIdeal.τ).loc Cert.RefAdamGatesIdeal.main_arg1) = m ((c.tc : Thread Cert.AdamGatesIdeal.nD Cert.AdamGatesIdeal.τ).loc Cert.AdamGatesIdeal.main_arg1)
      ∧ m' ((c.tc : Thread Cert.RefAdamGatesIdeal.nD Cert.RefAdamGatesIdeal.τ).loc Cert.RefAdamGatesIdeal.main_arg2) = m ((c.tc : Thread Cert.AdamGatesIdeal.nD Cert.AdamGatesIdeal.τ).loc Cert.AdamGatesIdeal.main_arg2)
      ∧ m' ((c.tc : Thread Cert.RefAdamGatesIdeal.nD Cert.RefAdamGatesIdeal.τ).loc Cert.RefAdamGatesIdeal.main_arg3) = m ((c.tc : Thread Cert.AdamGatesIdeal.nD Cert.AdamGatesIdeal.τ).loc Cert.AdamGatesIdeal.main_arg3)) →
    ∃ (v0 : (c : Dev Cert.AdamGatesIdeal.nD) → Buf (Elt Ideal) ((c.tc : Thread Cert.AdamGatesIdeal.nD Cert.AdamGatesIdeal.τ).loc Cert.AdamGatesIdeal.main_v0_0)) (v1 : (c : Dev Cert.AdamGatesIdeal.nD) → Buf (Elt Ideal) ((c.tc : Thread Cert.AdamGatesIdeal.nD Cert.AdamGatesIdeal.τ).loc Cert.AdamGatesIdeal.main_v0_1)) (v2 : (c : Dev Cert.AdamGatesIdeal.nD) → Buf (Elt Ideal) ((c.tc : Thread Cert.AdamGatesIdeal.nD Cert.AdamGatesIdeal.τ).loc Cert.AdamGatesIdeal.main_v0_2)),
      θ_run (Cert.AdamGatesIdeal.defs (F := Ideal)) (onTc (τ := Cert.AdamGatesIdeal.τ) (Cert.AdamGatesIdeal.main (F := Ideal))) ⟨m, fun _ => 0, g⟩ (fun r => ∀ c : Dev Cert.AdamGatesIdeal.nD,
          r.2.mem ((c.tc : Thread Cert.AdamGatesIdeal.nD Cert.AdamGatesIdeal.τ).loc Cert.AdamGatesIdeal.main_v0_0) = v0 c
          ∧ r.2.mem ((c.tc : Thread Cert.AdamGatesIdeal.nD Cert.AdamGatesIdeal.τ).loc Cert.AdamGatesIdeal.main_v0_1) = v1 c
          ∧ r.2.mem ((c.tc : Thread Cert.AdamGatesIdeal.nD Cert.AdamGatesIdeal.τ).loc Cert.AdamGatesIdeal.main_v0_2) = v2 c
          ∧ r.2.mem ((c.tc : Thread Cert.AdamGatesIdeal.nD Cert.AdamGatesIdeal.τ).loc Cert.AdamGatesIdeal.main_arg0) = m ((c.tc : Thread Cert.AdamGatesIdeal.nD Cert.AdamGatesIdeal.τ).loc Cert.AdamGatesIdeal.main_arg0)
          ∧ r.2.mem ((c.tc : Thread Cert.AdamGatesIdeal.nD Cert.AdamGatesIdeal.τ).loc Cert.AdamGatesIdeal.main_arg1) = m ((c.tc : Thread Cert.AdamGatesIdeal.nD Cert.AdamGatesIdeal.τ).loc Cert.AdamGatesIdeal.main_arg1)
          ∧ r.2.mem ((c.tc : Thread Cert.AdamGatesIdeal.nD Cert.AdamGatesIdeal.τ).loc Cert.AdamGatesIdeal.main_arg2) = m ((c.tc : Thread Cert.AdamGatesIdeal.nD Cert.AdamGatesIdeal.τ).loc Cert.AdamGatesIdeal.main_arg2)
          ∧ r.2.mem ((c.tc : Thread Cert.AdamGatesIdeal.nD Cert.AdamGatesIdeal.τ).loc Cert.AdamGatesIdeal.main_arg3) = m ((c.tc : Thread Cert.AdamGatesIdeal.nD Cert.AdamGatesIdeal.τ).loc Cert.AdamGatesIdeal.main_arg3))
      ∧ θ_run (Cert.RefAdamGatesIdeal.defs (F := Ideal)) (onTc (τ := Cert.RefAdamGatesIdeal.τ) (Cert.RefAdamGatesIdeal.main (F := Ideal))) ⟨m', fun _ => 0, g'⟩ (fun r => ∀ c : Dev Cert.RefAdamGatesIdeal.nD,
          r.2.mem ((c.tc : Thread Cert.RefAdamGatesIdeal.nD Cert.RefAdamGatesIdeal.τ).loc Cert.RefAdamGatesIdeal.main_v23) = v0 c
          ∧ r.2.mem ((c.tc : Thread Cert.RefAdamGatesIdeal.nD Cert.RefAdamGatesIdeal.τ).loc Cert.RefAdamGatesIdeal.main_v4) = v1 c
          ∧ r.2.mem ((c.tc : Thread Cert.RefAdamGatesIdeal.nD Cert.RefAdamGatesIdeal.τ).loc Cert.RefAdamGatesIdeal.main_v10) = v2 c
          ∧ r.2.mem ((c.tc : Thread Cert.RefAdamGatesIdeal.nD Cert.RefAdamGatesIdeal.τ).loc Cert.RefAdamGatesIdeal.main_arg0) = m' ((c.tc : Thread Cert.RefAdamGatesIdeal.nD Cert.RefAdamGatesIdeal.τ).loc Cert.RefAdamGatesIdeal.main_arg0)
          ∧ r.2.mem ((c.tc : Thread Cert.RefAdamGatesIdeal.nD Cert.RefAdamGatesIdeal.τ).loc Cert.RefAdamGatesIdeal.main_arg1) = m' ((c.tc : Thread Cert.RefAdamGatesIdeal.nD Cert.RefAdamGatesIdeal.τ).loc Cert.RefAdamGatesIdeal.main_arg1)
          ∧ r.2.mem ((c.tc : Thread Cert.RefAdamGatesIdeal.nD Cert.RefAdamGatesIdeal.τ).loc Cert.RefAdamGatesIdeal.main_arg2) = m' ((c.tc : Thread Cert.RefAdamGatesIdeal.nD Cert.RefAdamGatesIdeal.τ).loc Cert.RefAdamGatesIdeal.main_arg2)
          ∧ r.2.mem ((c.tc : Thread Cert.RefAdamGatesIdeal.nD Cert.RefAdamGatesIdeal.τ).loc Cert.RefAdamGatesIdeal.main_arg3) = m' ((c.tc : Thread Cert.RefAdamGatesIdeal.nD Cert.RefAdamGatesIdeal.τ).loc Cert.RefAdamGatesIdeal.main_arg3))

def preserves_AdamTaps_AdamTapsIdeal : Prop :=
  True

def algebraic_AdamTapsIdeal_RefAdamTapsIdeal [hAdamTapsIdeal : Cert.AdamTapsIdeal.Facts] [hRefAdamTapsIdeal : Cert.RefAdamTapsIdeal.Facts] : Prop :=
  ∀ (m : (ℓ : Loc Cert.AdamTapsIdeal.nD Cert.AdamTapsIdeal.τ Cert.AdamTapsIdeal.sig) → Buf (Elt Ideal) ℓ) (g : Dev Cert.AdamTapsIdeal.nD → PrngReg)
    (m' : (ℓ : Loc Cert.RefAdamTapsIdeal.nD Cert.RefAdamTapsIdeal.τ Cert.RefAdamTapsIdeal.sig) → Buf (Elt Ideal) ℓ) (g' : Dev Cert.RefAdamTapsIdeal.nD → PrngReg), Pre_AdamTapsIdeal m →
    (∀ c : Dev Cert.AdamTapsIdeal.nD,
      m' ((c.tc : Thread Cert.RefAdamTapsIdeal.nD Cert.RefAdamTapsIdeal.τ).loc Cert.RefAdamTapsIdeal.main_arg0) = m ((c.tc : Thread Cert.AdamTapsIdeal.nD Cert.AdamTapsIdeal.τ).loc Cert.AdamTapsIdeal.main_arg0)
      ∧ m' ((c.tc : Thread Cert.RefAdamTapsIdeal.nD Cert.RefAdamTapsIdeal.τ).loc Cert.RefAdamTapsIdeal.main_arg1) = m ((c.tc : Thread Cert.AdamTapsIdeal.nD Cert.AdamTapsIdeal.τ).loc Cert.AdamTapsIdeal.main_arg1)
      ∧ m' ((c.tc : Thread Cert.RefAdamTapsIdeal.nD Cert.RefAdamTapsIdeal.τ).loc Cert.RefAdamTapsIdeal.main_arg2) = m ((c.tc : Thread Cert.AdamTapsIdeal.nD Cert.AdamTapsIdeal.τ).loc Cert.AdamTapsIdeal.main_arg2)
      ∧ m' ((c.tc : Thread Cert.RefAdamTapsIdeal.nD Cert.RefAdamTapsIdeal.τ).loc Cert.RefAdamTapsIdeal.main_arg3) = m ((c.tc : Thread Cert.AdamTapsIdeal.nD Cert.AdamTapsIdeal.τ).loc Cert.AdamTapsIdeal.main_arg3)) →
    ∃ (v0 : (c : Dev Cert.AdamTapsIdeal.nD) → Buf (Elt Ideal) ((c.tc : Thread Cert.AdamTapsIdeal.nD Cert.AdamTapsIdeal.τ).loc Cert.AdamTapsIdeal.main_v0_0)) (v1 : (c : Dev Cert.AdamTapsIdeal.nD) → Buf (Elt Ideal) ((c.tc : Thread Cert.AdamTapsIdeal.nD Cert.AdamTapsIdeal.τ).loc Cert.AdamTapsIdeal.main_v0_1)) (v2 : (c : Dev Cert.AdamTapsIdeal.nD) → Buf (Elt Ideal) ((c.tc : Thread Cert.AdamTapsIdeal.nD Cert.AdamTapsIdeal.τ).loc Cert.AdamTapsIdeal.main_v0_2)),
      θ_run (Cert.AdamTapsIdeal.defs (F := Ideal)) (onTc (τ := Cert.AdamTapsIdeal.τ) (Cert.AdamTapsIdeal.main (F := Ideal))) ⟨m, fun _ => 0, g⟩ (fun r => ∀ c : Dev Cert.AdamTapsIdeal.nD,
          r.2.mem ((c.tc : Thread Cert.AdamTapsIdeal.nD Cert.AdamTapsIdeal.τ).loc Cert.AdamTapsIdeal.main_v0_0) = v0 c
          ∧ r.2.mem ((c.tc : Thread Cert.AdamTapsIdeal.nD Cert.AdamTapsIdeal.τ).loc Cert.AdamTapsIdeal.main_v0_1) = v1 c
          ∧ r.2.mem ((c.tc : Thread Cert.AdamTapsIdeal.nD Cert.AdamTapsIdeal.τ).loc Cert.AdamTapsIdeal.main_v0_2) = v2 c
          ∧ r.2.mem ((c.tc : Thread Cert.AdamTapsIdeal.nD Cert.AdamTapsIdeal.τ).loc Cert.AdamTapsIdeal.main_arg0) = m ((c.tc : Thread Cert.AdamTapsIdeal.nD Cert.AdamTapsIdeal.τ).loc Cert.AdamTapsIdeal.main_arg0)
          ∧ r.2.mem ((c.tc : Thread Cert.AdamTapsIdeal.nD Cert.AdamTapsIdeal.τ).loc Cert.AdamTapsIdeal.main_arg1) = m ((c.tc : Thread Cert.AdamTapsIdeal.nD Cert.AdamTapsIdeal.τ).loc Cert.AdamTapsIdeal.main_arg1)
          ∧ r.2.mem ((c.tc : Thread Cert.AdamTapsIdeal.nD Cert.AdamTapsIdeal.τ).loc Cert.AdamTapsIdeal.main_arg2) = m ((c.tc : Thread Cert.AdamTapsIdeal.nD Cert.AdamTapsIdeal.τ).loc Cert.AdamTapsIdeal.main_arg2)
          ∧ r.2.mem ((c.tc : Thread Cert.AdamTapsIdeal.nD Cert.AdamTapsIdeal.τ).loc Cert.AdamTapsIdeal.main_arg3) = m ((c.tc : Thread Cert.AdamTapsIdeal.nD Cert.AdamTapsIdeal.τ).loc Cert.AdamTapsIdeal.main_arg3))
      ∧ θ_run (Cert.RefAdamTapsIdeal.defs (F := Ideal)) (onTc (τ := Cert.RefAdamTapsIdeal.τ) (Cert.RefAdamTapsIdeal.main (F := Ideal))) ⟨m', fun _ => 0, g'⟩ (fun r => ∀ c : Dev Cert.RefAdamTapsIdeal.nD,
          r.2.mem ((c.tc : Thread Cert.RefAdamTapsIdeal.nD Cert.RefAdamTapsIdeal.τ).loc Cert.RefAdamTapsIdeal.main_v23) = v0 c
          ∧ r.2.mem ((c.tc : Thread Cert.RefAdamTapsIdeal.nD Cert.RefAdamTapsIdeal.τ).loc Cert.RefAdamTapsIdeal.main_v4) = v1 c
          ∧ r.2.mem ((c.tc : Thread Cert.RefAdamTapsIdeal.nD Cert.RefAdamTapsIdeal.τ).loc Cert.RefAdamTapsIdeal.main_v10) = v2 c
          ∧ r.2.mem ((c.tc : Thread Cert.RefAdamTapsIdeal.nD Cert.RefAdamTapsIdeal.τ).loc Cert.RefAdamTapsIdeal.main_arg0) = m' ((c.tc : Thread Cert.RefAdamTapsIdeal.nD Cert.RefAdamTapsIdeal.τ).loc Cert.RefAdamTapsIdeal.main_arg0)
          ∧ r.2.mem ((c.tc : Thread Cert.RefAdamTapsIdeal.nD Cert.RefAdamTapsIdeal.τ).loc Cert.RefAdamTapsIdeal.main_arg1) = m' ((c.tc : Thread Cert.RefAdamTapsIdeal.nD Cert.RefAdamTapsIdeal.τ).loc Cert.RefAdamTapsIdeal.main_arg1)
          ∧ r.2.mem ((c.tc : Thread Cert.RefAdamTapsIdeal.nD Cert.RefAdamTapsIdeal.τ).loc Cert.RefAdamTapsIdeal.main_arg2) = m' ((c.tc : Thread Cert.RefAdamTapsIdeal.nD Cert.RefAdamTapsIdeal.τ).loc Cert.RefAdamTapsIdeal.main_arg2)
          ∧ r.2.mem ((c.tc : Thread Cert.RefAdamTapsIdeal.nD Cert.RefAdamTapsIdeal.τ).loc Cert.RefAdamTapsIdeal.main_arg3) = m' ((c.tc : Thread Cert.RefAdamTapsIdeal.nD Cert.RefAdamTapsIdeal.τ).loc Cert.RefAdamTapsIdeal.main_arg3))

def preserves_AdamFour_AdamFourIdeal : Prop :=
  True

def algebraic_AdamFourIdeal_RefAdamFourIdeal [hAdamFourIdeal : Cert.AdamFourIdeal.Facts] [hRefAdamFourIdeal : Cert.RefAdamFourIdeal.Facts] : Prop :=
  ∀ (m : (ℓ : Loc Cert.AdamFourIdeal.nD Cert.AdamFourIdeal.τ Cert.AdamFourIdeal.sig) → Buf (Elt Ideal) ℓ) (g : Dev Cert.AdamFourIdeal.nD → PrngReg)
    (m' : (ℓ : Loc Cert.RefAdamFourIdeal.nD Cert.RefAdamFourIdeal.τ Cert.RefAdamFourIdeal.sig) → Buf (Elt Ideal) ℓ) (g' : Dev Cert.RefAdamFourIdeal.nD → PrngReg), Pre_AdamFourIdeal m →
    (∀ c : Dev Cert.AdamFourIdeal.nD,
      m' ((c.tc : Thread Cert.RefAdamFourIdeal.nD Cert.RefAdamFourIdeal.τ).loc Cert.RefAdamFourIdeal.main_arg0) = m ((c.tc : Thread Cert.AdamFourIdeal.nD Cert.AdamFourIdeal.τ).loc Cert.AdamFourIdeal.main_arg0)
      ∧ m' ((c.tc : Thread Cert.RefAdamFourIdeal.nD Cert.RefAdamFourIdeal.τ).loc Cert.RefAdamFourIdeal.main_arg1) = m ((c.tc : Thread Cert.AdamFourIdeal.nD Cert.AdamFourIdeal.τ).loc Cert.AdamFourIdeal.main_arg1)
      ∧ m' ((c.tc : Thread Cert.RefAdamFourIdeal.nD Cert.RefAdamFourIdeal.τ).loc Cert.RefAdamFourIdeal.main_arg2) = m ((c.tc : Thread Cert.AdamFourIdeal.nD Cert.AdamFourIdeal.τ).loc Cert.AdamFourIdeal.main_arg2)
      ∧ m' ((c.tc : Thread Cert.RefAdamFourIdeal.nD Cert.RefAdamFourIdeal.τ).loc Cert.RefAdamFourIdeal.main_arg3) = m ((c.tc : Thread Cert.AdamFourIdeal.nD Cert.AdamFourIdeal.τ).loc Cert.AdamFourIdeal.main_arg3)) →
    ∃ (v0 : (c : Dev Cert.AdamFourIdeal.nD) → Buf (Elt Ideal) ((c.tc : Thread Cert.AdamFourIdeal.nD Cert.AdamFourIdeal.τ).loc Cert.AdamFourIdeal.main_v0_0)) (v1 : (c : Dev Cert.AdamFourIdeal.nD) → Buf (Elt Ideal) ((c.tc : Thread Cert.AdamFourIdeal.nD Cert.AdamFourIdeal.τ).loc Cert.AdamFourIdeal.main_v0_1)) (v2 : (c : Dev Cert.AdamFourIdeal.nD) → Buf (Elt Ideal) ((c.tc : Thread Cert.AdamFourIdeal.nD Cert.AdamFourIdeal.τ).loc Cert.AdamFourIdeal.main_v0_2)),
      θ_run (Cert.AdamFourIdeal.defs (F := Ideal)) (onTc (τ := Cert.AdamFourIdeal.τ) (Cert.AdamFourIdeal.main (F := Ideal))) ⟨m, fun _ => 0, g⟩ (fun r => ∀ c : Dev Cert.AdamFourIdeal.nD,
          r.2.mem ((c.tc : Thread Cert.AdamFourIdeal.nD Cert.AdamFourIdeal.τ).loc Cert.AdamFourIdeal.main_v0_0) = v0 c
          ∧ r.2.mem ((c.tc : Thread Cert.AdamFourIdeal.nD Cert.AdamFourIdeal.τ).loc Cert.AdamFourIdeal.main_v0_1) = v1 c
          ∧ r.2.mem ((c.tc : Thread Cert.AdamFourIdeal.nD Cert.AdamFourIdeal.τ).loc Cert.AdamFourIdeal.main_v0_2) = v2 c
          ∧ r.2.mem ((c.tc : Thread Cert.AdamFourIdeal.nD Cert.AdamFourIdeal.τ).loc Cert.AdamFourIdeal.main_arg0) = m ((c.tc : Thread Cert.AdamFourIdeal.nD Cert.AdamFourIdeal.τ).loc Cert.AdamFourIdeal.main_arg0)
          ∧ r.2.mem ((c.tc : Thread Cert.AdamFourIdeal.nD Cert.AdamFourIdeal.τ).loc Cert.AdamFourIdeal.main_arg1) = m ((c.tc : Thread Cert.AdamFourIdeal.nD Cert.AdamFourIdeal.τ).loc Cert.AdamFourIdeal.main_arg1)
          ∧ r.2.mem ((c.tc : Thread Cert.AdamFourIdeal.nD Cert.AdamFourIdeal.τ).loc Cert.AdamFourIdeal.main_arg2) = m ((c.tc : Thread Cert.AdamFourIdeal.nD Cert.AdamFourIdeal.τ).loc Cert.AdamFourIdeal.main_arg2)
          ∧ r.2.mem ((c.tc : Thread Cert.AdamFourIdeal.nD Cert.AdamFourIdeal.τ).loc Cert.AdamFourIdeal.main_arg3) = m ((c.tc : Thread Cert.AdamFourIdeal.nD Cert.AdamFourIdeal.τ).loc Cert.AdamFourIdeal.main_arg3))
      ∧ θ_run (Cert.RefAdamFourIdeal.defs (F := Ideal)) (onTc (τ := Cert.RefAdamFourIdeal.τ) (Cert.RefAdamFourIdeal.main (F := Ideal))) ⟨m', fun _ => 0, g'⟩ (fun r => ∀ c : Dev Cert.RefAdamFourIdeal.nD,
          r.2.mem ((c.tc : Thread Cert.RefAdamFourIdeal.nD Cert.RefAdamFourIdeal.τ).loc Cert.RefAdamFourIdeal.main_v23) = v0 c
          ∧ r.2.mem ((c.tc : Thread Cert.RefAdamFourIdeal.nD Cert.RefAdamFourIdeal.τ).loc Cert.RefAdamFourIdeal.main_v4) = v1 c
          ∧ r.2.mem ((c.tc : Thread Cert.RefAdamFourIdeal.nD Cert.RefAdamFourIdeal.τ).loc Cert.RefAdamFourIdeal.main_v10) = v2 c
          ∧ r.2.mem ((c.tc : Thread Cert.RefAdamFourIdeal.nD Cert.RefAdamFourIdeal.τ).loc Cert.RefAdamFourIdeal.main_arg0) = m' ((c.tc : Thread Cert.RefAdamFourIdeal.nD Cert.RefAdamFourIdeal.τ).loc Cert.RefAdamFourIdeal.main_arg0)
          ∧ r.2.mem ((c.tc : Thread Cert.RefAdamFourIdeal.nD Cert.RefAdamFourIdeal.τ).loc Cert.RefAdamFourIdeal.main_arg1) = m' ((c.tc : Thread Cert.RefAdamFourIdeal.nD Cert.RefAdamFourIdeal.τ).loc Cert.RefAdamFourIdeal.main_arg1)
          ∧ r.2.mem ((c.tc : Thread Cert.RefAdamFourIdeal.nD Cert.RefAdamFourIdeal.τ).loc Cert.RefAdamFourIdeal.main_arg2) = m' ((c.tc : Thread Cert.RefAdamFourIdeal.nD Cert.RefAdamFourIdeal.τ).loc Cert.RefAdamFourIdeal.main_arg2)
          ∧ r.2.mem ((c.tc : Thread Cert.RefAdamFourIdeal.nD Cert.RefAdamFourIdeal.τ).loc Cert.RefAdamFourIdeal.main_arg3) = m' ((c.tc : Thread Cert.RefAdamFourIdeal.nD Cert.RefAdamFourIdeal.τ).loc Cert.RefAdamFourIdeal.main_arg3))

def preserves_AdamXq_AdamXqIdeal : Prop :=
  True

def algebraic_AdamXqIdeal_RefAdamXqIdeal [hAdamXqIdeal : Cert.AdamXqIdeal.Facts] [hRefAdamXqIdeal : Cert.RefAdamXqIdeal.Facts] : Prop :=
  ∀ (m : (ℓ : Loc Cert.AdamXqIdeal.nD Cert.AdamXqIdeal.τ Cert.AdamXqIdeal.sig) → Buf (Elt Ideal) ℓ) (g : Dev Cert.AdamXqIdeal.nD → PrngReg)
    (m' : (ℓ : Loc Cert.RefAdamXqIdeal.nD Cert.RefAdamXqIdeal.τ Cert.RefAdamXqIdeal.sig) → Buf (Elt Ideal) ℓ) (g' : Dev Cert.RefAdamXqIdeal.nD → PrngReg), Pre_AdamXqIdeal m →
    (∀ c : Dev Cert.AdamXqIdeal.nD,
      m' ((c.tc : Thread Cert.RefAdamXqIdeal.nD Cert.RefAdamXqIdeal.τ).loc Cert.RefAdamXqIdeal.main_arg0) = m ((c.tc : Thread Cert.AdamXqIdeal.nD Cert.AdamXqIdeal.τ).loc Cert.AdamXqIdeal.main_arg0)
      ∧ m' ((c.tc : Thread Cert.RefAdamXqIdeal.nD Cert.RefAdamXqIdeal.τ).loc Cert.RefAdamXqIdeal.main_arg1) = m ((c.tc : Thread Cert.AdamXqIdeal.nD Cert.AdamXqIdeal.τ).loc Cert.AdamXqIdeal.main_arg1)
      ∧ m' ((c.tc : Thread Cert.RefAdamXqIdeal.nD Cert.RefAdamXqIdeal.τ).loc Cert.RefAdamXqIdeal.main_arg2) = m ((c.tc : Thread Cert.AdamXqIdeal.nD Cert.AdamXqIdeal.τ).loc Cert.AdamXqIdeal.main_arg2)
      ∧ m' ((c.tc : Thread Cert.RefAdamXqIdeal.nD Cert.RefAdamXqIdeal.τ).loc Cert.RefAdamXqIdeal.main_arg3) = m ((c.tc : Thread Cert.AdamXqIdeal.nD Cert.AdamXqIdeal.τ).loc Cert.AdamXqIdeal.main_arg3)
      ∧ m' ((c.tc : Thread Cert.RefAdamXqIdeal.nD Cert.RefAdamXqIdeal.τ).loc Cert.RefAdamXqIdeal.main_arg4) = m ((c.tc : Thread Cert.AdamXqIdeal.nD Cert.AdamXqIdeal.τ).loc Cert.AdamXqIdeal.main_arg4)
      ∧ m' ((c.tc : Thread Cert.RefAdamXqIdeal.nD Cert.RefAdamXqIdeal.τ).loc Cert.RefAdamXqIdeal.main_arg5) = m ((c.tc : Thread Cert.AdamXqIdeal.nD Cert.AdamXqIdeal.τ).loc Cert.AdamXqIdeal.main_arg5)
      ∧ m' ((c.tc : Thread Cert.RefAdamXqIdeal.nD Cert.RefAdamXqIdeal.τ).loc Cert.RefAdamXqIdeal.main_arg6) = m ((c.tc : Thread Cert.AdamXqIdeal.nD Cert.AdamXqIdeal.τ).loc Cert.AdamXqIdeal.main_arg6)) →
    ∃ (v0 : (c : Dev Cert.AdamXqIdeal.nD) → Buf (Elt Ideal) ((c.tc : Thread Cert.AdamXqIdeal.nD Cert.AdamXqIdeal.τ).loc Cert.AdamXqIdeal.main_v0_0)) (v1 : (c : Dev Cert.AdamXqIdeal.nD) → Buf (Elt Ideal) ((c.tc : Thread Cert.AdamXqIdeal.nD Cert.AdamXqIdeal.τ).loc Cert.AdamXqIdeal.main_v0_1)) (v2 : (c : Dev Cert.AdamXqIdeal.nD) → Buf (Elt Ideal) ((c.tc : Thread Cert.AdamXqIdeal.nD Cert.AdamXqIdeal.τ).loc Cert.AdamXqIdeal.main_v0_2)) (v3 : (c : Dev Cert.AdamXqIdeal.nD) → Buf (Elt Ideal) ((c.tc : Thread Cert.AdamXqIdeal.nD Cert.AdamXqIdeal.τ).loc Cert.AdamXqIdeal.main_v0_3)),
      θ_run (Cert.AdamXqIdeal.defs (F := Ideal)) (onTc (τ := Cert.AdamXqIdeal.τ) (Cert.AdamXqIdeal.main (F := Ideal))) ⟨m, fun _ => 0, g⟩ (fun r => ∀ c : Dev Cert.AdamXqIdeal.nD,
          r.2.mem ((c.tc : Thread Cert.AdamXqIdeal.nD Cert.AdamXqIdeal.τ).loc Cert.AdamXqIdeal.main_v0_0) = v0 c
          ∧ r.2.mem ((c.tc : Thread Cert.AdamXqIdeal.nD Cert.AdamXqIdeal.τ).loc Cert.AdamXqIdeal.main_v0_1) = v1 c
          ∧ r.2.mem ((c.tc : Thread Cert.AdamXqIdeal.nD Cert.AdamXqIdeal.τ).loc Cert.AdamXqIdeal.main_v0_2) = v2 c
          ∧ r.2.mem ((c.tc : Thread Cert.AdamXqIdeal.nD Cert.AdamXqIdeal.τ).loc Cert.AdamXqIdeal.main_v0_3) = v3 c
          ∧ r.2.mem ((c.tc : Thread Cert.AdamXqIdeal.nD Cert.AdamXqIdeal.τ).loc Cert.AdamXqIdeal.main_arg0) = m ((c.tc : Thread Cert.AdamXqIdeal.nD Cert.AdamXqIdeal.τ).loc Cert.AdamXqIdeal.main_arg0)
          ∧ r.2.mem ((c.tc : Thread Cert.AdamXqIdeal.nD Cert.AdamXqIdeal.τ).loc Cert.AdamXqIdeal.main_arg1) = m ((c.tc : Thread Cert.AdamXqIdeal.nD Cert.AdamXqIdeal.τ).loc Cert.AdamXqIdeal.main_arg1)
          ∧ r.2.mem ((c.tc : Thread Cert.AdamXqIdeal.nD Cert.AdamXqIdeal.τ).loc Cert.AdamXqIdeal.main_arg2) = m ((c.tc : Thread Cert.AdamXqIdeal.nD Cert.AdamXqIdeal.τ).loc Cert.AdamXqIdeal.main_arg2)
          ∧ r.2.mem ((c.tc : Thread Cert.AdamXqIdeal.nD Cert.AdamXqIdeal.τ).loc Cert.AdamXqIdeal.main_arg3) = m ((c.tc : Thread Cert.AdamXqIdeal.nD Cert.AdamXqIdeal.τ).loc Cert.AdamXqIdeal.main_arg3)
          ∧ r.2.mem ((c.tc : Thread Cert.AdamXqIdeal.nD Cert.AdamXqIdeal.τ).loc Cert.AdamXqIdeal.main_arg4) = m ((c.tc : Thread Cert.AdamXqIdeal.nD Cert.AdamXqIdeal.τ).loc Cert.AdamXqIdeal.main_arg4)
          ∧ r.2.mem ((c.tc : Thread Cert.AdamXqIdeal.nD Cert.AdamXqIdeal.τ).loc Cert.AdamXqIdeal.main_arg5) = m ((c.tc : Thread Cert.AdamXqIdeal.nD Cert.AdamXqIdeal.τ).loc Cert.AdamXqIdeal.main_arg5)
          ∧ r.2.mem ((c.tc : Thread Cert.AdamXqIdeal.nD Cert.AdamXqIdeal.τ).loc Cert.AdamXqIdeal.main_arg6) = m ((c.tc : Thread Cert.AdamXqIdeal.nD Cert.AdamXqIdeal.τ).loc Cert.AdamXqIdeal.main_arg6))
      ∧ θ_run (Cert.RefAdamXqIdeal.defs (F := Ideal)) (onTc (τ := Cert.RefAdamXqIdeal.τ) (Cert.RefAdamXqIdeal.main (F := Ideal))) ⟨m', fun _ => 0, g'⟩ (fun r => ∀ c : Dev Cert.RefAdamXqIdeal.nD,
          r.2.mem ((c.tc : Thread Cert.RefAdamXqIdeal.nD Cert.RefAdamXqIdeal.τ).loc Cert.RefAdamXqIdeal.main_v8) = v0 c
          ∧ r.2.mem ((c.tc : Thread Cert.RefAdamXqIdeal.nD Cert.RefAdamXqIdeal.τ).loc Cert.RefAdamXqIdeal.main_v32) = v1 c
          ∧ r.2.mem ((c.tc : Thread Cert.RefAdamXqIdeal.nD Cert.RefAdamXqIdeal.τ).loc Cert.RefAdamXqIdeal.main_v13) = v2 c
          ∧ r.2.mem ((c.tc : Thread Cert.RefAdamXqIdeal.nD Cert.RefAdamXqIdeal.τ).loc Cert.RefAdamXqIdeal.main_v19) = v3 c
          ∧ r.2.mem ((c.tc : Thread Cert.RefAdamXqIdeal.nD Cert.RefAdamXqIdeal.τ).loc Cert.RefAdamXqIdeal.main_arg0) = m' ((c.tc : Thread Cert.RefAdamXqIdeal.nD Cert.RefAdamXqIdeal.τ).loc Cert.RefAdamXqIdeal.main_arg0)
          ∧ r.2.mem ((c.tc : Thread Cert.RefAdamXqIdeal.nD Cert.RefAdamXqIdeal.τ).loc Cert.RefAdamXqIdeal.main_arg1) = m' ((c.tc : Thread Cert.RefAdamXqIdeal.nD Cert.RefAdamXqIdeal.τ).loc Cert.RefAdamXqIdeal.main_arg1)
          ∧ r.2.mem ((c.tc : Thread Cert.RefAdamXqIdeal.nD Cert.RefAdamXqIdeal.τ).loc Cert.RefAdamXqIdeal.main_arg2) = m' ((c.tc : Thread Cert.RefAdamXqIdeal.nD Cert.RefAdamXqIdeal.τ).loc Cert.RefAdamXqIdeal.main_arg2)
          ∧ r.2.mem ((c.tc : Thread Cert.RefAdamXqIdeal.nD Cert.RefAdamXqIdeal.τ).loc Cert.RefAdamXqIdeal.main_arg3) = m' ((c.tc : Thread Cert.RefAdamXqIdeal.nD Cert.RefAdamXqIdeal.τ).loc Cert.RefAdamXqIdeal.main_arg3)
          ∧ r.2.mem ((c.tc : Thread Cert.RefAdamXqIdeal.nD Cert.RefAdamXqIdeal.τ).loc Cert.RefAdamXqIdeal.main_arg4) = m' ((c.tc : Thread Cert.RefAdamXqIdeal.nD Cert.RefAdamXqIdeal.τ).loc Cert.RefAdamXqIdeal.main_arg4)
          ∧ r.2.mem ((c.tc : Thread Cert.RefAdamXqIdeal.nD Cert.RefAdamXqIdeal.τ).loc Cert.RefAdamXqIdeal.main_arg5) = m' ((c.tc : Thread Cert.RefAdamXqIdeal.nD Cert.RefAdamXqIdeal.τ).loc Cert.RefAdamXqIdeal.main_arg5)
          ∧ r.2.mem ((c.tc : Thread Cert.RefAdamXqIdeal.nD Cert.RefAdamXqIdeal.τ).loc Cert.RefAdamXqIdeal.main_arg6) = m' ((c.tc : Thread Cert.RefAdamXqIdeal.nD Cert.RefAdamXqIdeal.τ).loc Cert.RefAdamXqIdeal.main_arg6))

def preserves_AdamConvOut_AdamConvOutIdeal : Prop :=
  True

def algebraic_AdamConvOutIdeal_RefAdamConvOutIdeal [hAdamConvOutIdeal : Cert.AdamConvOutIdeal.Facts] [hRefAdamConvOutIdeal : Cert.RefAdamConvOutIdeal.Facts] : Prop :=
  ∀ (m : (ℓ : Loc Cert.AdamConvOutIdeal.nD Cert.AdamConvOutIdeal.τ Cert.AdamConvOutIdeal.sig) → Buf (Elt Ideal) ℓ) (g : Dev Cert.AdamConvOutIdeal.nD → PrngReg)
    (m' : (ℓ : Loc Cert.RefAdamConvOutIdeal.nD Cert.RefAdamConvOutIdeal.τ Cert.RefAdamConvOutIdeal.sig) → Buf (Elt Ideal) ℓ) (g' : Dev Cert.RefAdamConvOutIdeal.nD → PrngReg), Pre_AdamConvOutIdeal m →
    (∀ c : Dev Cert.AdamConvOutIdeal.nD,
      m' ((c.tc : Thread Cert.RefAdamConvOutIdeal.nD Cert.RefAdamConvOutIdeal.τ).loc Cert.RefAdamConvOutIdeal.main_arg0) = m ((c.tc : Thread Cert.AdamConvOutIdeal.nD Cert.AdamConvOutIdeal.τ).loc Cert.AdamConvOutIdeal.main_arg0)
      ∧ m' ((c.tc : Thread Cert.RefAdamConvOutIdeal.nD Cert.RefAdamConvOutIdeal.τ).loc Cert.RefAdamConvOutIdeal.main_arg1) = m ((c.tc : Thread Cert.AdamConvOutIdeal.nD Cert.AdamConvOutIdeal.τ).loc Cert.AdamConvOutIdeal.main_arg1)
      ∧ m' ((c.tc : Thread Cert.RefAdamConvOutIdeal.nD Cert.RefAdamConvOutIdeal.τ).loc Cert.RefAdamConvOutIdeal.main_arg2) = m ((c.tc : Thread Cert.AdamConvOutIdeal.nD Cert.AdamConvOutIdeal.τ).loc Cert.AdamConvOutIdeal.main_arg2)
      ∧ m' ((c.tc : Thread Cert.RefAdamConvOutIdeal.nD Cert.RefAdamConvOutIdeal.τ).loc Cert.RefAdamConvOutIdeal.main_arg3) = m ((c.tc : Thread Cert.AdamConvOutIdeal.nD Cert.AdamConvOutIdeal.τ).loc Cert.AdamConvOutIdeal.main_arg3)
      ∧ m' ((c.tc : Thread Cert.RefAdamConvOutIdeal.nD Cert.RefAdamConvOutIdeal.τ).loc Cert.RefAdamConvOutIdeal.main_arg4) = m ((c.tc : Thread Cert.AdamConvOutIdeal.nD Cert.AdamConvOutIdeal.τ).loc Cert.AdamConvOutIdeal.main_arg4)
      ∧ m' ((c.tc : Thread Cert.RefAdamConvOutIdeal.nD Cert.RefAdamConvOutIdeal.τ).loc Cert.RefAdamConvOutIdeal.main_arg5) = m ((c.tc : Thread Cert.AdamConvOutIdeal.nD Cert.AdamConvOutIdeal.τ).loc Cert.AdamConvOutIdeal.main_arg5)
      ∧ m' ((c.tc : Thread Cert.RefAdamConvOutIdeal.nD Cert.RefAdamConvOutIdeal.τ).loc Cert.RefAdamConvOutIdeal.main_arg6) = m ((c.tc : Thread Cert.AdamConvOutIdeal.nD Cert.AdamConvOutIdeal.τ).loc Cert.AdamConvOutIdeal.main_arg6)) →
    ∃ (v0 : (c : Dev Cert.AdamConvOutIdeal.nD) → Buf (Elt Ideal) ((c.tc : Thread Cert.AdamConvOutIdeal.nD Cert.AdamConvOutIdeal.τ).loc Cert.AdamConvOutIdeal.main_v0_0)) (v1 : (c : Dev Cert.AdamConvOutIdeal.nD) → Buf (Elt Ideal) ((c.tc : Thread Cert.AdamConvOutIdeal.nD Cert.AdamConvOutIdeal.τ).loc Cert.AdamConvOutIdeal.main_v0_1)) (v2 : (c : Dev Cert.AdamConvOutIdeal.nD) → Buf (Elt Ideal) ((c.tc : Thread Cert.AdamConvOutIdeal.nD Cert.AdamConvOutIdeal.τ).loc Cert.AdamConvOutIdeal.main_v0_2)) (v3 : (c : Dev Cert.AdamConvOutIdeal.nD) → Buf (Elt Ideal) ((c.tc : Thread Cert.AdamConvOutIdeal.nD Cert.AdamConvOutIdeal.τ).loc Cert.AdamConvOutIdeal.main_v0_3)),
      θ_run (Cert.AdamConvOutIdeal.defs (F := Ideal)) (onTc (τ := Cert.AdamConvOutIdeal.τ) (Cert.AdamConvOutIdeal.main (F := Ideal))) ⟨m, fun _ => 0, g⟩ (fun r => ∀ c : Dev Cert.AdamConvOutIdeal.nD,
          r.2.mem ((c.tc : Thread Cert.AdamConvOutIdeal.nD Cert.AdamConvOutIdeal.τ).loc Cert.AdamConvOutIdeal.main_v0_0) = v0 c
          ∧ r.2.mem ((c.tc : Thread Cert.AdamConvOutIdeal.nD Cert.AdamConvOutIdeal.τ).loc Cert.AdamConvOutIdeal.main_v0_1) = v1 c
          ∧ r.2.mem ((c.tc : Thread Cert.AdamConvOutIdeal.nD Cert.AdamConvOutIdeal.τ).loc Cert.AdamConvOutIdeal.main_v0_2) = v2 c
          ∧ r.2.mem ((c.tc : Thread Cert.AdamConvOutIdeal.nD Cert.AdamConvOutIdeal.τ).loc Cert.AdamConvOutIdeal.main_v0_3) = v3 c
          ∧ r.2.mem ((c.tc : Thread Cert.AdamConvOutIdeal.nD Cert.AdamConvOutIdeal.τ).loc Cert.AdamConvOutIdeal.main_arg0) = m ((c.tc : Thread Cert.AdamConvOutIdeal.nD Cert.AdamConvOutIdeal.τ).loc Cert.AdamConvOutIdeal.main_arg0)
          ∧ r.2.mem ((c.tc : Thread Cert.AdamConvOutIdeal.nD Cert.AdamConvOutIdeal.τ).loc Cert.AdamConvOutIdeal.main_arg1) = m ((c.tc : Thread Cert.AdamConvOutIdeal.nD Cert.AdamConvOutIdeal.τ).loc Cert.AdamConvOutIdeal.main_arg1)
          ∧ r.2.mem ((c.tc : Thread Cert.AdamConvOutIdeal.nD Cert.AdamConvOutIdeal.τ).loc Cert.AdamConvOutIdeal.main_arg2) = m ((c.tc : Thread Cert.AdamConvOutIdeal.nD Cert.AdamConvOutIdeal.τ).loc Cert.AdamConvOutIdeal.main_arg2)
          ∧ r.2.mem ((c.tc : Thread Cert.AdamConvOutIdeal.nD Cert.AdamConvOutIdeal.τ).loc Cert.AdamConvOutIdeal.main_arg3) = m ((c.tc : Thread Cert.AdamConvOutIdeal.nD Cert.AdamConvOutIdeal.τ).loc Cert.AdamConvOutIdeal.main_arg3)
          ∧ r.2.mem ((c.tc : Thread Cert.AdamConvOutIdeal.nD Cert.AdamConvOutIdeal.τ).loc Cert.AdamConvOutIdeal.main_arg4) = m ((c.tc : Thread Cert.AdamConvOutIdeal.nD Cert.AdamConvOutIdeal.τ).loc Cert.AdamConvOutIdeal.main_arg4)
          ∧ r.2.mem ((c.tc : Thread Cert.AdamConvOutIdeal.nD Cert.AdamConvOutIdeal.τ).loc Cert.AdamConvOutIdeal.main_arg5) = m ((c.tc : Thread Cert.AdamConvOutIdeal.nD Cert.AdamConvOutIdeal.τ).loc Cert.AdamConvOutIdeal.main_arg5)
          ∧ r.2.mem ((c.tc : Thread Cert.AdamConvOutIdeal.nD Cert.AdamConvOutIdeal.τ).loc Cert.AdamConvOutIdeal.main_arg6) = m ((c.tc : Thread Cert.AdamConvOutIdeal.nD Cert.AdamConvOutIdeal.τ).loc Cert.AdamConvOutIdeal.main_arg6))
      ∧ θ_run (Cert.RefAdamConvOutIdeal.defs (F := Ideal)) (onTc (τ := Cert.RefAdamConvOutIdeal.τ) (Cert.RefAdamConvOutIdeal.main (F := Ideal))) ⟨m', fun _ => 0, g'⟩ (fun r => ∀ c : Dev Cert.RefAdamConvOutIdeal.nD,
          r.2.mem ((c.tc : Thread Cert.RefAdamConvOutIdeal.nD Cert.RefAdamConvOutIdeal.τ).loc Cert.RefAdamConvOutIdeal.main_v8) = v0 c
          ∧ r.2.mem ((c.tc : Thread Cert.RefAdamConvOutIdeal.nD Cert.RefAdamConvOutIdeal.τ).loc Cert.RefAdamConvOutIdeal.main_v32) = v1 c
          ∧ r.2.mem ((c.tc : Thread Cert.RefAdamConvOutIdeal.nD Cert.RefAdamConvOutIdeal.τ).loc Cert.RefAdamConvOutIdeal.main_v13) = v2 c
          ∧ r.2.mem ((c.tc : Thread Cert.RefAdamConvOutIdeal.nD Cert.RefAdamConvOutIdeal.τ).loc Cert.RefAdamConvOutIdeal.main_v19) = v3 c
          ∧ r.2.mem ((c.tc : Thread Cert.RefAdamConvOutIdeal.nD Cert.RefAdamConvOutIdeal.τ).loc Cert.RefAdamConvOutIdeal.main_arg0) = m' ((c.tc : Thread Cert.RefAdamConvOutIdeal.nD Cert.RefAdamConvOutIdeal.τ).loc Cert.RefAdamConvOutIdeal.main_arg0)
          ∧ r.2.mem ((c.tc : Thread Cert.RefAdamConvOutIdeal.nD Cert.RefAdamConvOutIdeal.τ).loc Cert.RefAdamConvOutIdeal.main_arg1) = m' ((c.tc : Thread Cert.RefAdamConvOutIdeal.nD Cert.RefAdamConvOutIdeal.τ).loc Cert.RefAdamConvOutIdeal.main_arg1)
          ∧ r.2.mem ((c.tc : Thread Cert.RefAdamConvOutIdeal.nD Cert.RefAdamConvOutIdeal.τ).loc Cert.RefAdamConvOutIdeal.main_arg2) = m' ((c.tc : Thread Cert.RefAdamConvOutIdeal.nD Cert.RefAdamConvOutIdeal.τ).loc Cert.RefAdamConvOutIdeal.main_arg2)
          ∧ r.2.mem ((c.tc : Thread Cert.RefAdamConvOutIdeal.nD Cert.RefAdamConvOutIdeal.τ).loc Cert.RefAdamConvOutIdeal.main_arg3) = m' ((c.tc : Thread Cert.RefAdamConvOutIdeal.nD Cert.RefAdamConvOutIdeal.τ).loc Cert.RefAdamConvOutIdeal.main_arg3)
          ∧ r.2.mem ((c.tc : Thread Cert.RefAdamConvOutIdeal.nD Cert.RefAdamConvOutIdeal.τ).loc Cert.RefAdamConvOutIdeal.main_arg4) = m' ((c.tc : Thread Cert.RefAdamConvOutIdeal.nD Cert.RefAdamConvOutIdeal.τ).loc Cert.RefAdamConvOutIdeal.main_arg4)
          ∧ r.2.mem ((c.tc : Thread Cert.RefAdamConvOutIdeal.nD Cert.RefAdamConvOutIdeal.τ).loc Cert.RefAdamConvOutIdeal.main_arg5) = m' ((c.tc : Thread Cert.RefAdamConvOutIdeal.nD Cert.RefAdamConvOutIdeal.τ).loc Cert.RefAdamConvOutIdeal.main_arg5)
          ∧ r.2.mem ((c.tc : Thread Cert.RefAdamConvOutIdeal.nD Cert.RefAdamConvOutIdeal.τ).loc Cert.RefAdamConvOutIdeal.main_arg6) = m' ((c.tc : Thread Cert.RefAdamConvOutIdeal.nD Cert.RefAdamConvOutIdeal.τ).loc Cert.RefAdamConvOutIdeal.main_arg6))

def preserves_AdamAttnOut_AdamAttnOutIdeal : Prop :=
  True

def algebraic_AdamAttnOutIdeal_RefAdamAttnOutIdeal [hAdamAttnOutIdeal : Cert.AdamAttnOutIdeal.Facts] [hRefAdamAttnOutIdeal : Cert.RefAdamAttnOutIdeal.Facts] : Prop :=
  ∀ (m : (ℓ : Loc Cert.AdamAttnOutIdeal.nD Cert.AdamAttnOutIdeal.τ Cert.AdamAttnOutIdeal.sig) → Buf (Elt Ideal) ℓ) (g : Dev Cert.AdamAttnOutIdeal.nD → PrngReg)
    (m' : (ℓ : Loc Cert.RefAdamAttnOutIdeal.nD Cert.RefAdamAttnOutIdeal.τ Cert.RefAdamAttnOutIdeal.sig) → Buf (Elt Ideal) ℓ) (g' : Dev Cert.RefAdamAttnOutIdeal.nD → PrngReg), Pre_AdamAttnOutIdeal m →
    (∀ c : Dev Cert.AdamAttnOutIdeal.nD,
      m' ((c.tc : Thread Cert.RefAdamAttnOutIdeal.nD Cert.RefAdamAttnOutIdeal.τ).loc Cert.RefAdamAttnOutIdeal.main_arg0) = m ((c.tc : Thread Cert.AdamAttnOutIdeal.nD Cert.AdamAttnOutIdeal.τ).loc Cert.AdamAttnOutIdeal.main_arg0)
      ∧ m' ((c.tc : Thread Cert.RefAdamAttnOutIdeal.nD Cert.RefAdamAttnOutIdeal.τ).loc Cert.RefAdamAttnOutIdeal.main_arg1) = m ((c.tc : Thread Cert.AdamAttnOutIdeal.nD Cert.AdamAttnOutIdeal.τ).loc Cert.AdamAttnOutIdeal.main_arg1)
      ∧ m' ((c.tc : Thread Cert.RefAdamAttnOutIdeal.nD Cert.RefAdamAttnOutIdeal.τ).loc Cert.RefAdamAttnOutIdeal.main_arg2) = m ((c.tc : Thread Cert.AdamAttnOutIdeal.nD Cert.AdamAttnOutIdeal.τ).loc Cert.AdamAttnOutIdeal.main_arg2)
      ∧ m' ((c.tc : Thread Cert.RefAdamAttnOutIdeal.nD Cert.RefAdamAttnOutIdeal.τ).loc Cert.RefAdamAttnOutIdeal.main_arg3) = m ((c.tc : Thread Cert.AdamAttnOutIdeal.nD Cert.AdamAttnOutIdeal.τ).loc Cert.AdamAttnOutIdeal.main_arg3)
      ∧ m' ((c.tc : Thread Cert.RefAdamAttnOutIdeal.nD Cert.RefAdamAttnOutIdeal.τ).loc Cert.RefAdamAttnOutIdeal.main_arg4) = m ((c.tc : Thread Cert.AdamAttnOutIdeal.nD Cert.AdamAttnOutIdeal.τ).loc Cert.AdamAttnOutIdeal.main_arg4)
      ∧ m' ((c.tc : Thread Cert.RefAdamAttnOutIdeal.nD Cert.RefAdamAttnOutIdeal.τ).loc Cert.RefAdamAttnOutIdeal.main_arg5) = m ((c.tc : Thread Cert.AdamAttnOutIdeal.nD Cert.AdamAttnOutIdeal.τ).loc Cert.AdamAttnOutIdeal.main_arg5)
      ∧ m' ((c.tc : Thread Cert.RefAdamAttnOutIdeal.nD Cert.RefAdamAttnOutIdeal.τ).loc Cert.RefAdamAttnOutIdeal.main_arg6) = m ((c.tc : Thread Cert.AdamAttnOutIdeal.nD Cert.AdamAttnOutIdeal.τ).loc Cert.AdamAttnOutIdeal.main_arg6)) →
    ∃ (v0 : (c : Dev Cert.AdamAttnOutIdeal.nD) → Buf (Elt Ideal) ((c.tc : Thread Cert.AdamAttnOutIdeal.nD Cert.AdamAttnOutIdeal.τ).loc Cert.AdamAttnOutIdeal.main_v0_0)) (v1 : (c : Dev Cert.AdamAttnOutIdeal.nD) → Buf (Elt Ideal) ((c.tc : Thread Cert.AdamAttnOutIdeal.nD Cert.AdamAttnOutIdeal.τ).loc Cert.AdamAttnOutIdeal.main_v0_1)) (v2 : (c : Dev Cert.AdamAttnOutIdeal.nD) → Buf (Elt Ideal) ((c.tc : Thread Cert.AdamAttnOutIdeal.nD Cert.AdamAttnOutIdeal.τ).loc Cert.AdamAttnOutIdeal.main_v0_2)) (v3 : (c : Dev Cert.AdamAttnOutIdeal.nD) → Buf (Elt Ideal) ((c.tc : Thread Cert.AdamAttnOutIdeal.nD Cert.AdamAttnOutIdeal.τ).loc Cert.AdamAttnOutIdeal.main_v0_3)),
      θ_run (Cert.AdamAttnOutIdeal.defs (F := Ideal)) (onTc (τ := Cert.AdamAttnOutIdeal.τ) (Cert.AdamAttnOutIdeal.main (F := Ideal))) ⟨m, fun _ => 0, g⟩ (fun r => ∀ c : Dev Cert.AdamAttnOutIdeal.nD,
          r.2.mem ((c.tc : Thread Cert.AdamAttnOutIdeal.nD Cert.AdamAttnOutIdeal.τ).loc Cert.AdamAttnOutIdeal.main_v0_0) = v0 c
          ∧ r.2.mem ((c.tc : Thread Cert.AdamAttnOutIdeal.nD Cert.AdamAttnOutIdeal.τ).loc Cert.AdamAttnOutIdeal.main_v0_1) = v1 c
          ∧ r.2.mem ((c.tc : Thread Cert.AdamAttnOutIdeal.nD Cert.AdamAttnOutIdeal.τ).loc Cert.AdamAttnOutIdeal.main_v0_2) = v2 c
          ∧ r.2.mem ((c.tc : Thread Cert.AdamAttnOutIdeal.nD Cert.AdamAttnOutIdeal.τ).loc Cert.AdamAttnOutIdeal.main_v0_3) = v3 c
          ∧ r.2.mem ((c.tc : Thread Cert.AdamAttnOutIdeal.nD Cert.AdamAttnOutIdeal.τ).loc Cert.AdamAttnOutIdeal.main_arg0) = m ((c.tc : Thread Cert.AdamAttnOutIdeal.nD Cert.AdamAttnOutIdeal.τ).loc Cert.AdamAttnOutIdeal.main_arg0)
          ∧ r.2.mem ((c.tc : Thread Cert.AdamAttnOutIdeal.nD Cert.AdamAttnOutIdeal.τ).loc Cert.AdamAttnOutIdeal.main_arg1) = m ((c.tc : Thread Cert.AdamAttnOutIdeal.nD Cert.AdamAttnOutIdeal.τ).loc Cert.AdamAttnOutIdeal.main_arg1)
          ∧ r.2.mem ((c.tc : Thread Cert.AdamAttnOutIdeal.nD Cert.AdamAttnOutIdeal.τ).loc Cert.AdamAttnOutIdeal.main_arg2) = m ((c.tc : Thread Cert.AdamAttnOutIdeal.nD Cert.AdamAttnOutIdeal.τ).loc Cert.AdamAttnOutIdeal.main_arg2)
          ∧ r.2.mem ((c.tc : Thread Cert.AdamAttnOutIdeal.nD Cert.AdamAttnOutIdeal.τ).loc Cert.AdamAttnOutIdeal.main_arg3) = m ((c.tc : Thread Cert.AdamAttnOutIdeal.nD Cert.AdamAttnOutIdeal.τ).loc Cert.AdamAttnOutIdeal.main_arg3)
          ∧ r.2.mem ((c.tc : Thread Cert.AdamAttnOutIdeal.nD Cert.AdamAttnOutIdeal.τ).loc Cert.AdamAttnOutIdeal.main_arg4) = m ((c.tc : Thread Cert.AdamAttnOutIdeal.nD Cert.AdamAttnOutIdeal.τ).loc Cert.AdamAttnOutIdeal.main_arg4)
          ∧ r.2.mem ((c.tc : Thread Cert.AdamAttnOutIdeal.nD Cert.AdamAttnOutIdeal.τ).loc Cert.AdamAttnOutIdeal.main_arg5) = m ((c.tc : Thread Cert.AdamAttnOutIdeal.nD Cert.AdamAttnOutIdeal.τ).loc Cert.AdamAttnOutIdeal.main_arg5)
          ∧ r.2.mem ((c.tc : Thread Cert.AdamAttnOutIdeal.nD Cert.AdamAttnOutIdeal.τ).loc Cert.AdamAttnOutIdeal.main_arg6) = m ((c.tc : Thread Cert.AdamAttnOutIdeal.nD Cert.AdamAttnOutIdeal.τ).loc Cert.AdamAttnOutIdeal.main_arg6))
      ∧ θ_run (Cert.RefAdamAttnOutIdeal.defs (F := Ideal)) (onTc (τ := Cert.RefAdamAttnOutIdeal.τ) (Cert.RefAdamAttnOutIdeal.main (F := Ideal))) ⟨m', fun _ => 0, g'⟩ (fun r => ∀ c : Dev Cert.RefAdamAttnOutIdeal.nD,
          r.2.mem ((c.tc : Thread Cert.RefAdamAttnOutIdeal.nD Cert.RefAdamAttnOutIdeal.τ).loc Cert.RefAdamAttnOutIdeal.main_v8) = v0 c
          ∧ r.2.mem ((c.tc : Thread Cert.RefAdamAttnOutIdeal.nD Cert.RefAdamAttnOutIdeal.τ).loc Cert.RefAdamAttnOutIdeal.main_v32) = v1 c
          ∧ r.2.mem ((c.tc : Thread Cert.RefAdamAttnOutIdeal.nD Cert.RefAdamAttnOutIdeal.τ).loc Cert.RefAdamAttnOutIdeal.main_v13) = v2 c
          ∧ r.2.mem ((c.tc : Thread Cert.RefAdamAttnOutIdeal.nD Cert.RefAdamAttnOutIdeal.τ).loc Cert.RefAdamAttnOutIdeal.main_v19) = v3 c
          ∧ r.2.mem ((c.tc : Thread Cert.RefAdamAttnOutIdeal.nD Cert.RefAdamAttnOutIdeal.τ).loc Cert.RefAdamAttnOutIdeal.main_arg0) = m' ((c.tc : Thread Cert.RefAdamAttnOutIdeal.nD Cert.RefAdamAttnOutIdeal.τ).loc Cert.RefAdamAttnOutIdeal.main_arg0)
          ∧ r.2.mem ((c.tc : Thread Cert.RefAdamAttnOutIdeal.nD Cert.RefAdamAttnOutIdeal.τ).loc Cert.RefAdamAttnOutIdeal.main_arg1) = m' ((c.tc : Thread Cert.RefAdamAttnOutIdeal.nD Cert.RefAdamAttnOutIdeal.τ).loc Cert.RefAdamAttnOutIdeal.main_arg1)
          ∧ r.2.mem ((c.tc : Thread Cert.RefAdamAttnOutIdeal.nD Cert.RefAdamAttnOutIdeal.τ).loc Cert.RefAdamAttnOutIdeal.main_arg2) = m' ((c.tc : Thread Cert.RefAdamAttnOutIdeal.nD Cert.RefAdamAttnOutIdeal.τ).loc Cert.RefAdamAttnOutIdeal.main_arg2)
          ∧ r.2.mem ((c.tc : Thread Cert.RefAdamAttnOutIdeal.nD Cert.RefAdamAttnOutIdeal.τ).loc Cert.RefAdamAttnOutIdeal.main_arg3) = m' ((c.tc : Thread Cert.RefAdamAttnOutIdeal.nD Cert.RefAdamAttnOutIdeal.τ).loc Cert.RefAdamAttnOutIdeal.main_arg3)
          ∧ r.2.mem ((c.tc : Thread Cert.RefAdamAttnOutIdeal.nD Cert.RefAdamAttnOutIdeal.τ).loc Cert.RefAdamAttnOutIdeal.main_arg4) = m' ((c.tc : Thread Cert.RefAdamAttnOutIdeal.nD Cert.RefAdamAttnOutIdeal.τ).loc Cert.RefAdamAttnOutIdeal.main_arg4)
          ∧ r.2.mem ((c.tc : Thread Cert.RefAdamAttnOutIdeal.nD Cert.RefAdamAttnOutIdeal.τ).loc Cert.RefAdamAttnOutIdeal.main_arg5) = m' ((c.tc : Thread Cert.RefAdamAttnOutIdeal.nD Cert.RefAdamAttnOutIdeal.τ).loc Cert.RefAdamAttnOutIdeal.main_arg5)
          ∧ r.2.mem ((c.tc : Thread Cert.RefAdamAttnOutIdeal.nD Cert.RefAdamAttnOutIdeal.τ).loc Cert.RefAdamAttnOutIdeal.main_arg6) = m' ((c.tc : Thread Cert.RefAdamAttnOutIdeal.nD Cert.RefAdamAttnOutIdeal.τ).loc Cert.RefAdamAttnOutIdeal.main_arg6))

def preserves_AdamMixOut_AdamMixOutIdeal : Prop :=
  True

def algebraic_AdamMixOutIdeal_RefAdamMixOutIdeal [hAdamMixOutIdeal : Cert.AdamMixOutIdeal.Facts] [hRefAdamMixOutIdeal : Cert.RefAdamMixOutIdeal.Facts] : Prop :=
  ∀ (m : (ℓ : Loc Cert.AdamMixOutIdeal.nD Cert.AdamMixOutIdeal.τ Cert.AdamMixOutIdeal.sig) → Buf (Elt Ideal) ℓ) (g : Dev Cert.AdamMixOutIdeal.nD → PrngReg)
    (m' : (ℓ : Loc Cert.RefAdamMixOutIdeal.nD Cert.RefAdamMixOutIdeal.τ Cert.RefAdamMixOutIdeal.sig) → Buf (Elt Ideal) ℓ) (g' : Dev Cert.RefAdamMixOutIdeal.nD → PrngReg), Pre_AdamMixOutIdeal m →
    (∀ c : Dev Cert.AdamMixOutIdeal.nD,
      m' ((c.tc : Thread Cert.RefAdamMixOutIdeal.nD Cert.RefAdamMixOutIdeal.τ).loc Cert.RefAdamMixOutIdeal.main_arg0) = m ((c.tc : Thread Cert.AdamMixOutIdeal.nD Cert.AdamMixOutIdeal.τ).loc Cert.AdamMixOutIdeal.main_arg0)
      ∧ m' ((c.tc : Thread Cert.RefAdamMixOutIdeal.nD Cert.RefAdamMixOutIdeal.τ).loc Cert.RefAdamMixOutIdeal.main_arg1) = m ((c.tc : Thread Cert.AdamMixOutIdeal.nD Cert.AdamMixOutIdeal.τ).loc Cert.AdamMixOutIdeal.main_arg1)
      ∧ m' ((c.tc : Thread Cert.RefAdamMixOutIdeal.nD Cert.RefAdamMixOutIdeal.τ).loc Cert.RefAdamMixOutIdeal.main_arg2) = m ((c.tc : Thread Cert.AdamMixOutIdeal.nD Cert.AdamMixOutIdeal.τ).loc Cert.AdamMixOutIdeal.main_arg2)
      ∧ m' ((c.tc : Thread Cert.RefAdamMixOutIdeal.nD Cert.RefAdamMixOutIdeal.τ).loc Cert.RefAdamMixOutIdeal.main_arg3) = m ((c.tc : Thread Cert.AdamMixOutIdeal.nD Cert.AdamMixOutIdeal.τ).loc Cert.AdamMixOutIdeal.main_arg3)
      ∧ m' ((c.tc : Thread Cert.RefAdamMixOutIdeal.nD Cert.RefAdamMixOutIdeal.τ).loc Cert.RefAdamMixOutIdeal.main_arg4) = m ((c.tc : Thread Cert.AdamMixOutIdeal.nD Cert.AdamMixOutIdeal.τ).loc Cert.AdamMixOutIdeal.main_arg4)
      ∧ m' ((c.tc : Thread Cert.RefAdamMixOutIdeal.nD Cert.RefAdamMixOutIdeal.τ).loc Cert.RefAdamMixOutIdeal.main_arg5) = m ((c.tc : Thread Cert.AdamMixOutIdeal.nD Cert.AdamMixOutIdeal.τ).loc Cert.AdamMixOutIdeal.main_arg5)
      ∧ m' ((c.tc : Thread Cert.RefAdamMixOutIdeal.nD Cert.RefAdamMixOutIdeal.τ).loc Cert.RefAdamMixOutIdeal.main_arg6) = m ((c.tc : Thread Cert.AdamMixOutIdeal.nD Cert.AdamMixOutIdeal.τ).loc Cert.AdamMixOutIdeal.main_arg6)) →
    ∃ (v0 : (c : Dev Cert.AdamMixOutIdeal.nD) → Buf (Elt Ideal) ((c.tc : Thread Cert.AdamMixOutIdeal.nD Cert.AdamMixOutIdeal.τ).loc Cert.AdamMixOutIdeal.main_v0_0)) (v1 : (c : Dev Cert.AdamMixOutIdeal.nD) → Buf (Elt Ideal) ((c.tc : Thread Cert.AdamMixOutIdeal.nD Cert.AdamMixOutIdeal.τ).loc Cert.AdamMixOutIdeal.main_v0_1)) (v2 : (c : Dev Cert.AdamMixOutIdeal.nD) → Buf (Elt Ideal) ((c.tc : Thread Cert.AdamMixOutIdeal.nD Cert.AdamMixOutIdeal.τ).loc Cert.AdamMixOutIdeal.main_v0_2)) (v3 : (c : Dev Cert.AdamMixOutIdeal.nD) → Buf (Elt Ideal) ((c.tc : Thread Cert.AdamMixOutIdeal.nD Cert.AdamMixOutIdeal.τ).loc Cert.AdamMixOutIdeal.main_v0_3)),
      θ_run (Cert.AdamMixOutIdeal.defs (F := Ideal)) (onTc (τ := Cert.AdamMixOutIdeal.τ) (Cert.AdamMixOutIdeal.main (F := Ideal))) ⟨m, fun _ => 0, g⟩ (fun r => ∀ c : Dev Cert.AdamMixOutIdeal.nD,
          r.2.mem ((c.tc : Thread Cert.AdamMixOutIdeal.nD Cert.AdamMixOutIdeal.τ).loc Cert.AdamMixOutIdeal.main_v0_0) = v0 c
          ∧ r.2.mem ((c.tc : Thread Cert.AdamMixOutIdeal.nD Cert.AdamMixOutIdeal.τ).loc Cert.AdamMixOutIdeal.main_v0_1) = v1 c
          ∧ r.2.mem ((c.tc : Thread Cert.AdamMixOutIdeal.nD Cert.AdamMixOutIdeal.τ).loc Cert.AdamMixOutIdeal.main_v0_2) = v2 c
          ∧ r.2.mem ((c.tc : Thread Cert.AdamMixOutIdeal.nD Cert.AdamMixOutIdeal.τ).loc Cert.AdamMixOutIdeal.main_v0_3) = v3 c
          ∧ r.2.mem ((c.tc : Thread Cert.AdamMixOutIdeal.nD Cert.AdamMixOutIdeal.τ).loc Cert.AdamMixOutIdeal.main_arg0) = m ((c.tc : Thread Cert.AdamMixOutIdeal.nD Cert.AdamMixOutIdeal.τ).loc Cert.AdamMixOutIdeal.main_arg0)
          ∧ r.2.mem ((c.tc : Thread Cert.AdamMixOutIdeal.nD Cert.AdamMixOutIdeal.τ).loc Cert.AdamMixOutIdeal.main_arg1) = m ((c.tc : Thread Cert.AdamMixOutIdeal.nD Cert.AdamMixOutIdeal.τ).loc Cert.AdamMixOutIdeal.main_arg1)
          ∧ r.2.mem ((c.tc : Thread Cert.AdamMixOutIdeal.nD Cert.AdamMixOutIdeal.τ).loc Cert.AdamMixOutIdeal.main_arg2) = m ((c.tc : Thread Cert.AdamMixOutIdeal.nD Cert.AdamMixOutIdeal.τ).loc Cert.AdamMixOutIdeal.main_arg2)
          ∧ r.2.mem ((c.tc : Thread Cert.AdamMixOutIdeal.nD Cert.AdamMixOutIdeal.τ).loc Cert.AdamMixOutIdeal.main_arg3) = m ((c.tc : Thread Cert.AdamMixOutIdeal.nD Cert.AdamMixOutIdeal.τ).loc Cert.AdamMixOutIdeal.main_arg3)
          ∧ r.2.mem ((c.tc : Thread Cert.AdamMixOutIdeal.nD Cert.AdamMixOutIdeal.τ).loc Cert.AdamMixOutIdeal.main_arg4) = m ((c.tc : Thread Cert.AdamMixOutIdeal.nD Cert.AdamMixOutIdeal.τ).loc Cert.AdamMixOutIdeal.main_arg4)
          ∧ r.2.mem ((c.tc : Thread Cert.AdamMixOutIdeal.nD Cert.AdamMixOutIdeal.τ).loc Cert.AdamMixOutIdeal.main_arg5) = m ((c.tc : Thread Cert.AdamMixOutIdeal.nD Cert.AdamMixOutIdeal.τ).loc Cert.AdamMixOutIdeal.main_arg5)
          ∧ r.2.mem ((c.tc : Thread Cert.AdamMixOutIdeal.nD Cert.AdamMixOutIdeal.τ).loc Cert.AdamMixOutIdeal.main_arg6) = m ((c.tc : Thread Cert.AdamMixOutIdeal.nD Cert.AdamMixOutIdeal.τ).loc Cert.AdamMixOutIdeal.main_arg6))
      ∧ θ_run (Cert.RefAdamMixOutIdeal.defs (F := Ideal)) (onTc (τ := Cert.RefAdamMixOutIdeal.τ) (Cert.RefAdamMixOutIdeal.main (F := Ideal))) ⟨m', fun _ => 0, g'⟩ (fun r => ∀ c : Dev Cert.RefAdamMixOutIdeal.nD,
          r.2.mem ((c.tc : Thread Cert.RefAdamMixOutIdeal.nD Cert.RefAdamMixOutIdeal.τ).loc Cert.RefAdamMixOutIdeal.main_v8) = v0 c
          ∧ r.2.mem ((c.tc : Thread Cert.RefAdamMixOutIdeal.nD Cert.RefAdamMixOutIdeal.τ).loc Cert.RefAdamMixOutIdeal.main_v32) = v1 c
          ∧ r.2.mem ((c.tc : Thread Cert.RefAdamMixOutIdeal.nD Cert.RefAdamMixOutIdeal.τ).loc Cert.RefAdamMixOutIdeal.main_v13) = v2 c
          ∧ r.2.mem ((c.tc : Thread Cert.RefAdamMixOutIdeal.nD Cert.RefAdamMixOutIdeal.τ).loc Cert.RefAdamMixOutIdeal.main_v19) = v3 c
          ∧ r.2.mem ((c.tc : Thread Cert.RefAdamMixOutIdeal.nD Cert.RefAdamMixOutIdeal.τ).loc Cert.RefAdamMixOutIdeal.main_arg0) = m' ((c.tc : Thread Cert.RefAdamMixOutIdeal.nD Cert.RefAdamMixOutIdeal.τ).loc Cert.RefAdamMixOutIdeal.main_arg0)
          ∧ r.2.mem ((c.tc : Thread Cert.RefAdamMixOutIdeal.nD Cert.RefAdamMixOutIdeal.τ).loc Cert.RefAdamMixOutIdeal.main_arg1) = m' ((c.tc : Thread Cert.RefAdamMixOutIdeal.nD Cert.RefAdamMixOutIdeal.τ).loc Cert.RefAdamMixOutIdeal.main_arg1)
          ∧ r.2.mem ((c.tc : Thread Cert.RefAdamMixOutIdeal.nD Cert.RefAdamMixOutIdeal.τ).loc Cert.RefAdamMixOutIdeal.main_arg2) = m' ((c.tc : Thread Cert.RefAdamMixOutIdeal.nD Cert.RefAdamMixOutIdeal.τ).loc Cert.RefAdamMixOutIdeal.main_arg2)
          ∧ r.2.mem ((c.tc : Thread Cert.RefAdamMixOutIdeal.nD Cert.RefAdamMixOutIdeal.τ).loc Cert.RefAdamMixOutIdeal.main_arg3) = m' ((c.tc : Thread Cert.RefAdamMixOutIdeal.nD Cert.RefAdamMixOutIdeal.τ).loc Cert.RefAdamMixOutIdeal.main_arg3)
          ∧ r.2.mem ((c.tc : Thread Cert.RefAdamMixOutIdeal.nD Cert.RefAdamMixOutIdeal.τ).loc Cert.RefAdamMixOutIdeal.main_arg4) = m' ((c.tc : Thread Cert.RefAdamMixOutIdeal.nD Cert.RefAdamMixOutIdeal.τ).loc Cert.RefAdamMixOutIdeal.main_arg4)
          ∧ r.2.mem ((c.tc : Thread Cert.RefAdamMixOutIdeal.nD Cert.RefAdamMixOutIdeal.τ).loc Cert.RefAdamMixOutIdeal.main_arg5) = m' ((c.tc : Thread Cert.RefAdamMixOutIdeal.nD Cert.RefAdamMixOutIdeal.τ).loc Cert.RefAdamMixOutIdeal.main_arg5)
          ∧ r.2.mem ((c.tc : Thread Cert.RefAdamMixOutIdeal.nD Cert.RefAdamMixOutIdeal.τ).loc Cert.RefAdamMixOutIdeal.main_arg6) = m' ((c.tc : Thread Cert.RefAdamMixOutIdeal.nD Cert.RefAdamMixOutIdeal.τ).loc Cert.RefAdamMixOutIdeal.main_arg6))

def preserves_AdamXo_AdamXoIdeal : Prop :=
  True

def algebraic_AdamXoIdeal_RefAdamXoIdeal [hAdamXoIdeal : Cert.AdamXoIdeal.Facts] [hRefAdamXoIdeal : Cert.RefAdamXoIdeal.Facts] : Prop :=
  ∀ (m : (ℓ : Loc Cert.AdamXoIdeal.nD Cert.AdamXoIdeal.τ Cert.AdamXoIdeal.sig) → Buf (Elt Ideal) ℓ) (g : Dev Cert.AdamXoIdeal.nD → PrngReg)
    (m' : (ℓ : Loc Cert.RefAdamXoIdeal.nD Cert.RefAdamXoIdeal.τ Cert.RefAdamXoIdeal.sig) → Buf (Elt Ideal) ℓ) (g' : Dev Cert.RefAdamXoIdeal.nD → PrngReg), Pre_AdamXoIdeal m →
    (∀ c : Dev Cert.AdamXoIdeal.nD,
      m' ((c.tc : Thread Cert.RefAdamXoIdeal.nD Cert.RefAdamXoIdeal.τ).loc Cert.RefAdamXoIdeal.main_arg0) = m ((c.tc : Thread Cert.AdamXoIdeal.nD Cert.AdamXoIdeal.τ).loc Cert.AdamXoIdeal.main_arg0)
      ∧ m' ((c.tc : Thread Cert.RefAdamXoIdeal.nD Cert.RefAdamXoIdeal.τ).loc Cert.RefAdamXoIdeal.main_arg1) = m ((c.tc : Thread Cert.AdamXoIdeal.nD Cert.AdamXoIdeal.τ).loc Cert.AdamXoIdeal.main_arg1)
      ∧ m' ((c.tc : Thread Cert.RefAdamXoIdeal.nD Cert.RefAdamXoIdeal.τ).loc Cert.RefAdamXoIdeal.main_arg2) = m ((c.tc : Thread Cert.AdamXoIdeal.nD Cert.AdamXoIdeal.τ).loc Cert.AdamXoIdeal.main_arg2)
      ∧ m' ((c.tc : Thread Cert.RefAdamXoIdeal.nD Cert.RefAdamXoIdeal.τ).loc Cert.RefAdamXoIdeal.main_arg3) = m ((c.tc : Thread Cert.AdamXoIdeal.nD Cert.AdamXoIdeal.τ).loc Cert.AdamXoIdeal.main_arg3)
      ∧ m' ((c.tc : Thread Cert.RefAdamXoIdeal.nD Cert.RefAdamXoIdeal.τ).loc Cert.RefAdamXoIdeal.main_arg4) = m ((c.tc : Thread Cert.AdamXoIdeal.nD Cert.AdamXoIdeal.τ).loc Cert.AdamXoIdeal.main_arg4)
      ∧ m' ((c.tc : Thread Cert.RefAdamXoIdeal.nD Cert.RefAdamXoIdeal.τ).loc Cert.RefAdamXoIdeal.main_arg5) = m ((c.tc : Thread Cert.AdamXoIdeal.nD Cert.AdamXoIdeal.τ).loc Cert.AdamXoIdeal.main_arg5)
      ∧ m' ((c.tc : Thread Cert.RefAdamXoIdeal.nD Cert.RefAdamXoIdeal.τ).loc Cert.RefAdamXoIdeal.main_arg6) = m ((c.tc : Thread Cert.AdamXoIdeal.nD Cert.AdamXoIdeal.τ).loc Cert.AdamXoIdeal.main_arg6)) →
    ∃ (v0 : (c : Dev Cert.AdamXoIdeal.nD) → Buf (Elt Ideal) ((c.tc : Thread Cert.AdamXoIdeal.nD Cert.AdamXoIdeal.τ).loc Cert.AdamXoIdeal.main_v0_0)) (v1 : (c : Dev Cert.AdamXoIdeal.nD) → Buf (Elt Ideal) ((c.tc : Thread Cert.AdamXoIdeal.nD Cert.AdamXoIdeal.τ).loc Cert.AdamXoIdeal.main_v0_1)) (v2 : (c : Dev Cert.AdamXoIdeal.nD) → Buf (Elt Ideal) ((c.tc : Thread Cert.AdamXoIdeal.nD Cert.AdamXoIdeal.τ).loc Cert.AdamXoIdeal.main_v0_2)) (v3 : (c : Dev Cert.AdamXoIdeal.nD) → Buf (Elt Ideal) ((c.tc : Thread Cert.AdamXoIdeal.nD Cert.AdamXoIdeal.τ).loc Cert.AdamXoIdeal.main_v0_3)),
      θ_run (Cert.AdamXoIdeal.defs (F := Ideal)) (onTc (τ := Cert.AdamXoIdeal.τ) (Cert.AdamXoIdeal.main (F := Ideal))) ⟨m, fun _ => 0, g⟩ (fun r => ∀ c : Dev Cert.AdamXoIdeal.nD,
          r.2.mem ((c.tc : Thread Cert.AdamXoIdeal.nD Cert.AdamXoIdeal.τ).loc Cert.AdamXoIdeal.main_v0_0) = v0 c
          ∧ r.2.mem ((c.tc : Thread Cert.AdamXoIdeal.nD Cert.AdamXoIdeal.τ).loc Cert.AdamXoIdeal.main_v0_1) = v1 c
          ∧ r.2.mem ((c.tc : Thread Cert.AdamXoIdeal.nD Cert.AdamXoIdeal.τ).loc Cert.AdamXoIdeal.main_v0_2) = v2 c
          ∧ r.2.mem ((c.tc : Thread Cert.AdamXoIdeal.nD Cert.AdamXoIdeal.τ).loc Cert.AdamXoIdeal.main_v0_3) = v3 c
          ∧ r.2.mem ((c.tc : Thread Cert.AdamXoIdeal.nD Cert.AdamXoIdeal.τ).loc Cert.AdamXoIdeal.main_arg0) = m ((c.tc : Thread Cert.AdamXoIdeal.nD Cert.AdamXoIdeal.τ).loc Cert.AdamXoIdeal.main_arg0)
          ∧ r.2.mem ((c.tc : Thread Cert.AdamXoIdeal.nD Cert.AdamXoIdeal.τ).loc Cert.AdamXoIdeal.main_arg1) = m ((c.tc : Thread Cert.AdamXoIdeal.nD Cert.AdamXoIdeal.τ).loc Cert.AdamXoIdeal.main_arg1)
          ∧ r.2.mem ((c.tc : Thread Cert.AdamXoIdeal.nD Cert.AdamXoIdeal.τ).loc Cert.AdamXoIdeal.main_arg2) = m ((c.tc : Thread Cert.AdamXoIdeal.nD Cert.AdamXoIdeal.τ).loc Cert.AdamXoIdeal.main_arg2)
          ∧ r.2.mem ((c.tc : Thread Cert.AdamXoIdeal.nD Cert.AdamXoIdeal.τ).loc Cert.AdamXoIdeal.main_arg3) = m ((c.tc : Thread Cert.AdamXoIdeal.nD Cert.AdamXoIdeal.τ).loc Cert.AdamXoIdeal.main_arg3)
          ∧ r.2.mem ((c.tc : Thread Cert.AdamXoIdeal.nD Cert.AdamXoIdeal.τ).loc Cert.AdamXoIdeal.main_arg4) = m ((c.tc : Thread Cert.AdamXoIdeal.nD Cert.AdamXoIdeal.τ).loc Cert.AdamXoIdeal.main_arg4)
          ∧ r.2.mem ((c.tc : Thread Cert.AdamXoIdeal.nD Cert.AdamXoIdeal.τ).loc Cert.AdamXoIdeal.main_arg5) = m ((c.tc : Thread Cert.AdamXoIdeal.nD Cert.AdamXoIdeal.τ).loc Cert.AdamXoIdeal.main_arg5)
          ∧ r.2.mem ((c.tc : Thread Cert.AdamXoIdeal.nD Cert.AdamXoIdeal.τ).loc Cert.AdamXoIdeal.main_arg6) = m ((c.tc : Thread Cert.AdamXoIdeal.nD Cert.AdamXoIdeal.τ).loc Cert.AdamXoIdeal.main_arg6))
      ∧ θ_run (Cert.RefAdamXoIdeal.defs (F := Ideal)) (onTc (τ := Cert.RefAdamXoIdeal.τ) (Cert.RefAdamXoIdeal.main (F := Ideal))) ⟨m', fun _ => 0, g'⟩ (fun r => ∀ c : Dev Cert.RefAdamXoIdeal.nD,
          r.2.mem ((c.tc : Thread Cert.RefAdamXoIdeal.nD Cert.RefAdamXoIdeal.τ).loc Cert.RefAdamXoIdeal.main_v8) = v0 c
          ∧ r.2.mem ((c.tc : Thread Cert.RefAdamXoIdeal.nD Cert.RefAdamXoIdeal.τ).loc Cert.RefAdamXoIdeal.main_v32) = v1 c
          ∧ r.2.mem ((c.tc : Thread Cert.RefAdamXoIdeal.nD Cert.RefAdamXoIdeal.τ).loc Cert.RefAdamXoIdeal.main_v13) = v2 c
          ∧ r.2.mem ((c.tc : Thread Cert.RefAdamXoIdeal.nD Cert.RefAdamXoIdeal.τ).loc Cert.RefAdamXoIdeal.main_v19) = v3 c
          ∧ r.2.mem ((c.tc : Thread Cert.RefAdamXoIdeal.nD Cert.RefAdamXoIdeal.τ).loc Cert.RefAdamXoIdeal.main_arg0) = m' ((c.tc : Thread Cert.RefAdamXoIdeal.nD Cert.RefAdamXoIdeal.τ).loc Cert.RefAdamXoIdeal.main_arg0)
          ∧ r.2.mem ((c.tc : Thread Cert.RefAdamXoIdeal.nD Cert.RefAdamXoIdeal.τ).loc Cert.RefAdamXoIdeal.main_arg1) = m' ((c.tc : Thread Cert.RefAdamXoIdeal.nD Cert.RefAdamXoIdeal.τ).loc Cert.RefAdamXoIdeal.main_arg1)
          ∧ r.2.mem ((c.tc : Thread Cert.RefAdamXoIdeal.nD Cert.RefAdamXoIdeal.τ).loc Cert.RefAdamXoIdeal.main_arg2) = m' ((c.tc : Thread Cert.RefAdamXoIdeal.nD Cert.RefAdamXoIdeal.τ).loc Cert.RefAdamXoIdeal.main_arg2)
          ∧ r.2.mem ((c.tc : Thread Cert.RefAdamXoIdeal.nD Cert.RefAdamXoIdeal.τ).loc Cert.RefAdamXoIdeal.main_arg3) = m' ((c.tc : Thread Cert.RefAdamXoIdeal.nD Cert.RefAdamXoIdeal.τ).loc Cert.RefAdamXoIdeal.main_arg3)
          ∧ r.2.mem ((c.tc : Thread Cert.RefAdamXoIdeal.nD Cert.RefAdamXoIdeal.τ).loc Cert.RefAdamXoIdeal.main_arg4) = m' ((c.tc : Thread Cert.RefAdamXoIdeal.nD Cert.RefAdamXoIdeal.τ).loc Cert.RefAdamXoIdeal.main_arg4)
          ∧ r.2.mem ((c.tc : Thread Cert.RefAdamXoIdeal.nD Cert.RefAdamXoIdeal.τ).loc Cert.RefAdamXoIdeal.main_arg5) = m' ((c.tc : Thread Cert.RefAdamXoIdeal.nD Cert.RefAdamXoIdeal.τ).loc Cert.RefAdamXoIdeal.main_arg5)
          ∧ r.2.mem ((c.tc : Thread Cert.RefAdamXoIdeal.nD Cert.RefAdamXoIdeal.τ).loc Cert.RefAdamXoIdeal.main_arg6) = m' ((c.tc : Thread Cert.RefAdamXoIdeal.nD Cert.RefAdamXoIdeal.τ).loc Cert.RefAdamXoIdeal.main_arg6))

def preserves_AdamSsdOut_AdamSsdOutIdeal : Prop :=
  True

def algebraic_AdamSsdOutIdeal_RefAdamSsdOutIdeal [hAdamSsdOutIdeal : Cert.AdamSsdOutIdeal.Facts] [hRefAdamSsdOutIdeal : Cert.RefAdamSsdOutIdeal.Facts] : Prop :=
  ∀ (m : (ℓ : Loc Cert.AdamSsdOutIdeal.nD Cert.AdamSsdOutIdeal.τ Cert.AdamSsdOutIdeal.sig) → Buf (Elt Ideal) ℓ) (g : Dev Cert.AdamSsdOutIdeal.nD → PrngReg)
    (m' : (ℓ : Loc Cert.RefAdamSsdOutIdeal.nD Cert.RefAdamSsdOutIdeal.τ Cert.RefAdamSsdOutIdeal.sig) → Buf (Elt Ideal) ℓ) (g' : Dev Cert.RefAdamSsdOutIdeal.nD → PrngReg), Pre_AdamSsdOutIdeal m →
    (∀ c : Dev Cert.AdamSsdOutIdeal.nD,
      m' ((c.tc : Thread Cert.RefAdamSsdOutIdeal.nD Cert.RefAdamSsdOutIdeal.τ).loc Cert.RefAdamSsdOutIdeal.main_arg0) = m ((c.tc : Thread Cert.AdamSsdOutIdeal.nD Cert.AdamSsdOutIdeal.τ).loc Cert.AdamSsdOutIdeal.main_arg0)
      ∧ m' ((c.tc : Thread Cert.RefAdamSsdOutIdeal.nD Cert.RefAdamSsdOutIdeal.τ).loc Cert.RefAdamSsdOutIdeal.main_arg1) = m ((c.tc : Thread Cert.AdamSsdOutIdeal.nD Cert.AdamSsdOutIdeal.τ).loc Cert.AdamSsdOutIdeal.main_arg1)
      ∧ m' ((c.tc : Thread Cert.RefAdamSsdOutIdeal.nD Cert.RefAdamSsdOutIdeal.τ).loc Cert.RefAdamSsdOutIdeal.main_arg2) = m ((c.tc : Thread Cert.AdamSsdOutIdeal.nD Cert.AdamSsdOutIdeal.τ).loc Cert.AdamSsdOutIdeal.main_arg2)
      ∧ m' ((c.tc : Thread Cert.RefAdamSsdOutIdeal.nD Cert.RefAdamSsdOutIdeal.τ).loc Cert.RefAdamSsdOutIdeal.main_arg3) = m ((c.tc : Thread Cert.AdamSsdOutIdeal.nD Cert.AdamSsdOutIdeal.τ).loc Cert.AdamSsdOutIdeal.main_arg3)
      ∧ m' ((c.tc : Thread Cert.RefAdamSsdOutIdeal.nD Cert.RefAdamSsdOutIdeal.τ).loc Cert.RefAdamSsdOutIdeal.main_arg4) = m ((c.tc : Thread Cert.AdamSsdOutIdeal.nD Cert.AdamSsdOutIdeal.τ).loc Cert.AdamSsdOutIdeal.main_arg4)
      ∧ m' ((c.tc : Thread Cert.RefAdamSsdOutIdeal.nD Cert.RefAdamSsdOutIdeal.τ).loc Cert.RefAdamSsdOutIdeal.main_arg5) = m ((c.tc : Thread Cert.AdamSsdOutIdeal.nD Cert.AdamSsdOutIdeal.τ).loc Cert.AdamSsdOutIdeal.main_arg5)
      ∧ m' ((c.tc : Thread Cert.RefAdamSsdOutIdeal.nD Cert.RefAdamSsdOutIdeal.τ).loc Cert.RefAdamSsdOutIdeal.main_arg6) = m ((c.tc : Thread Cert.AdamSsdOutIdeal.nD Cert.AdamSsdOutIdeal.τ).loc Cert.AdamSsdOutIdeal.main_arg6)) →
    ∃ (v0 : (c : Dev Cert.AdamSsdOutIdeal.nD) → Buf (Elt Ideal) ((c.tc : Thread Cert.AdamSsdOutIdeal.nD Cert.AdamSsdOutIdeal.τ).loc Cert.AdamSsdOutIdeal.main_v0_0)) (v1 : (c : Dev Cert.AdamSsdOutIdeal.nD) → Buf (Elt Ideal) ((c.tc : Thread Cert.AdamSsdOutIdeal.nD Cert.AdamSsdOutIdeal.τ).loc Cert.AdamSsdOutIdeal.main_v0_1)) (v2 : (c : Dev Cert.AdamSsdOutIdeal.nD) → Buf (Elt Ideal) ((c.tc : Thread Cert.AdamSsdOutIdeal.nD Cert.AdamSsdOutIdeal.τ).loc Cert.AdamSsdOutIdeal.main_v0_2)) (v3 : (c : Dev Cert.AdamSsdOutIdeal.nD) → Buf (Elt Ideal) ((c.tc : Thread Cert.AdamSsdOutIdeal.nD Cert.AdamSsdOutIdeal.τ).loc Cert.AdamSsdOutIdeal.main_v0_3)),
      θ_run (Cert.AdamSsdOutIdeal.defs (F := Ideal)) (onTc (τ := Cert.AdamSsdOutIdeal.τ) (Cert.AdamSsdOutIdeal.main (F := Ideal))) ⟨m, fun _ => 0, g⟩ (fun r => ∀ c : Dev Cert.AdamSsdOutIdeal.nD,
          r.2.mem ((c.tc : Thread Cert.AdamSsdOutIdeal.nD Cert.AdamSsdOutIdeal.τ).loc Cert.AdamSsdOutIdeal.main_v0_0) = v0 c
          ∧ r.2.mem ((c.tc : Thread Cert.AdamSsdOutIdeal.nD Cert.AdamSsdOutIdeal.τ).loc Cert.AdamSsdOutIdeal.main_v0_1) = v1 c
          ∧ r.2.mem ((c.tc : Thread Cert.AdamSsdOutIdeal.nD Cert.AdamSsdOutIdeal.τ).loc Cert.AdamSsdOutIdeal.main_v0_2) = v2 c
          ∧ r.2.mem ((c.tc : Thread Cert.AdamSsdOutIdeal.nD Cert.AdamSsdOutIdeal.τ).loc Cert.AdamSsdOutIdeal.main_v0_3) = v3 c
          ∧ r.2.mem ((c.tc : Thread Cert.AdamSsdOutIdeal.nD Cert.AdamSsdOutIdeal.τ).loc Cert.AdamSsdOutIdeal.main_arg0) = m ((c.tc : Thread Cert.AdamSsdOutIdeal.nD Cert.AdamSsdOutIdeal.τ).loc Cert.AdamSsdOutIdeal.main_arg0)
          ∧ r.2.mem ((c.tc : Thread Cert.AdamSsdOutIdeal.nD Cert.AdamSsdOutIdeal.τ).loc Cert.AdamSsdOutIdeal.main_arg1) = m ((c.tc : Thread Cert.AdamSsdOutIdeal.nD Cert.AdamSsdOutIdeal.τ).loc Cert.AdamSsdOutIdeal.main_arg1)
          ∧ r.2.mem ((c.tc : Thread Cert.AdamSsdOutIdeal.nD Cert.AdamSsdOutIdeal.τ).loc Cert.AdamSsdOutIdeal.main_arg2) = m ((c.tc : Thread Cert.AdamSsdOutIdeal.nD Cert.AdamSsdOutIdeal.τ).loc Cert.AdamSsdOutIdeal.main_arg2)
          ∧ r.2.mem ((c.tc : Thread Cert.AdamSsdOutIdeal.nD Cert.AdamSsdOutIdeal.τ).loc Cert.AdamSsdOutIdeal.main_arg3) = m ((c.tc : Thread Cert.AdamSsdOutIdeal.nD Cert.AdamSsdOutIdeal.τ).loc Cert.AdamSsdOutIdeal.main_arg3)
          ∧ r.2.mem ((c.tc : Thread Cert.AdamSsdOutIdeal.nD Cert.AdamSsdOutIdeal.τ).loc Cert.AdamSsdOutIdeal.main_arg4) = m ((c.tc : Thread Cert.AdamSsdOutIdeal.nD Cert.AdamSsdOutIdeal.τ).loc Cert.AdamSsdOutIdeal.main_arg4)
          ∧ r.2.mem ((c.tc : Thread Cert.AdamSsdOutIdeal.nD Cert.AdamSsdOutIdeal.τ).loc Cert.AdamSsdOutIdeal.main_arg5) = m ((c.tc : Thread Cert.AdamSsdOutIdeal.nD Cert.AdamSsdOutIdeal.τ).loc Cert.AdamSsdOutIdeal.main_arg5)
          ∧ r.2.mem ((c.tc : Thread Cert.AdamSsdOutIdeal.nD Cert.AdamSsdOutIdeal.τ).loc Cert.AdamSsdOutIdeal.main_arg6) = m ((c.tc : Thread Cert.AdamSsdOutIdeal.nD Cert.AdamSsdOutIdeal.τ).loc Cert.AdamSsdOutIdeal.main_arg6))
      ∧ θ_run (Cert.RefAdamSsdOutIdeal.defs (F := Ideal)) (onTc (τ := Cert.RefAdamSsdOutIdeal.τ) (Cert.RefAdamSsdOutIdeal.main (F := Ideal))) ⟨m', fun _ => 0, g'⟩ (fun r => ∀ c : Dev Cert.RefAdamSsdOutIdeal.nD,
          r.2.mem ((c.tc : Thread Cert.RefAdamSsdOutIdeal.nD Cert.RefAdamSsdOutIdeal.τ).loc Cert.RefAdamSsdOutIdeal.main_v8) = v0 c
          ∧ r.2.mem ((c.tc : Thread Cert.RefAdamSsdOutIdeal.nD Cert.RefAdamSsdOutIdeal.τ).loc Cert.RefAdamSsdOutIdeal.main_v32) = v1 c
          ∧ r.2.mem ((c.tc : Thread Cert.RefAdamSsdOutIdeal.nD Cert.RefAdamSsdOutIdeal.τ).loc Cert.RefAdamSsdOutIdeal.main_v13) = v2 c
          ∧ r.2.mem ((c.tc : Thread Cert.RefAdamSsdOutIdeal.nD Cert.RefAdamSsdOutIdeal.τ).loc Cert.RefAdamSsdOutIdeal.main_v19) = v3 c
          ∧ r.2.mem ((c.tc : Thread Cert.RefAdamSsdOutIdeal.nD Cert.RefAdamSsdOutIdeal.τ).loc Cert.RefAdamSsdOutIdeal.main_arg0) = m' ((c.tc : Thread Cert.RefAdamSsdOutIdeal.nD Cert.RefAdamSsdOutIdeal.τ).loc Cert.RefAdamSsdOutIdeal.main_arg0)
          ∧ r.2.mem ((c.tc : Thread Cert.RefAdamSsdOutIdeal.nD Cert.RefAdamSsdOutIdeal.τ).loc Cert.RefAdamSsdOutIdeal.main_arg1) = m' ((c.tc : Thread Cert.RefAdamSsdOutIdeal.nD Cert.RefAdamSsdOutIdeal.τ).loc Cert.RefAdamSsdOutIdeal.main_arg1)
          ∧ r.2.mem ((c.tc : Thread Cert.RefAdamSsdOutIdeal.nD Cert.RefAdamSsdOutIdeal.τ).loc Cert.RefAdamSsdOutIdeal.main_arg2) = m' ((c.tc : Thread Cert.RefAdamSsdOutIdeal.nD Cert.RefAdamSsdOutIdeal.τ).loc Cert.RefAdamSsdOutIdeal.main_arg2)
          ∧ r.2.mem ((c.tc : Thread Cert.RefAdamSsdOutIdeal.nD Cert.RefAdamSsdOutIdeal.τ).loc Cert.RefAdamSsdOutIdeal.main_arg3) = m' ((c.tc : Thread Cert.RefAdamSsdOutIdeal.nD Cert.RefAdamSsdOutIdeal.τ).loc Cert.RefAdamSsdOutIdeal.main_arg3)
          ∧ r.2.mem ((c.tc : Thread Cert.RefAdamSsdOutIdeal.nD Cert.RefAdamSsdOutIdeal.τ).loc Cert.RefAdamSsdOutIdeal.main_arg4) = m' ((c.tc : Thread Cert.RefAdamSsdOutIdeal.nD Cert.RefAdamSsdOutIdeal.τ).loc Cert.RefAdamSsdOutIdeal.main_arg4)
          ∧ r.2.mem ((c.tc : Thread Cert.RefAdamSsdOutIdeal.nD Cert.RefAdamSsdOutIdeal.τ).loc Cert.RefAdamSsdOutIdeal.main_arg5) = m' ((c.tc : Thread Cert.RefAdamSsdOutIdeal.nD Cert.RefAdamSsdOutIdeal.τ).loc Cert.RefAdamSsdOutIdeal.main_arg5)
          ∧ r.2.mem ((c.tc : Thread Cert.RefAdamSsdOutIdeal.nD Cert.RefAdamSsdOutIdeal.τ).loc Cert.RefAdamSsdOutIdeal.main_arg6) = m' ((c.tc : Thread Cert.RefAdamSsdOutIdeal.nD Cert.RefAdamSsdOutIdeal.τ).loc Cert.RefAdamSsdOutIdeal.main_arg6))

def preserves_AdamMlpUp_AdamMlpUpIdeal : Prop :=
  True

def algebraic_AdamMlpUpIdeal_RefAdamMlpUpIdeal [hAdamMlpUpIdeal : Cert.AdamMlpUpIdeal.Facts] [hRefAdamMlpUpIdeal : Cert.RefAdamMlpUpIdeal.Facts] : Prop :=
  ∀ (m : (ℓ : Loc Cert.AdamMlpUpIdeal.nD Cert.AdamMlpUpIdeal.τ Cert.AdamMlpUpIdeal.sig) → Buf (Elt Ideal) ℓ) (g : Dev Cert.AdamMlpUpIdeal.nD → PrngReg)
    (m' : (ℓ : Loc Cert.RefAdamMlpUpIdeal.nD Cert.RefAdamMlpUpIdeal.τ Cert.RefAdamMlpUpIdeal.sig) → Buf (Elt Ideal) ℓ) (g' : Dev Cert.RefAdamMlpUpIdeal.nD → PrngReg), Pre_AdamMlpUpIdeal m →
    (∀ c : Dev Cert.AdamMlpUpIdeal.nD,
      m' ((c.tc : Thread Cert.RefAdamMlpUpIdeal.nD Cert.RefAdamMlpUpIdeal.τ).loc Cert.RefAdamMlpUpIdeal.main_arg0) = m ((c.tc : Thread Cert.AdamMlpUpIdeal.nD Cert.AdamMlpUpIdeal.τ).loc Cert.AdamMlpUpIdeal.main_arg0)
      ∧ m' ((c.tc : Thread Cert.RefAdamMlpUpIdeal.nD Cert.RefAdamMlpUpIdeal.τ).loc Cert.RefAdamMlpUpIdeal.main_arg1) = m ((c.tc : Thread Cert.AdamMlpUpIdeal.nD Cert.AdamMlpUpIdeal.τ).loc Cert.AdamMlpUpIdeal.main_arg1)
      ∧ m' ((c.tc : Thread Cert.RefAdamMlpUpIdeal.nD Cert.RefAdamMlpUpIdeal.τ).loc Cert.RefAdamMlpUpIdeal.main_arg2) = m ((c.tc : Thread Cert.AdamMlpUpIdeal.nD Cert.AdamMlpUpIdeal.τ).loc Cert.AdamMlpUpIdeal.main_arg2)
      ∧ m' ((c.tc : Thread Cert.RefAdamMlpUpIdeal.nD Cert.RefAdamMlpUpIdeal.τ).loc Cert.RefAdamMlpUpIdeal.main_arg3) = m ((c.tc : Thread Cert.AdamMlpUpIdeal.nD Cert.AdamMlpUpIdeal.τ).loc Cert.AdamMlpUpIdeal.main_arg3)
      ∧ m' ((c.tc : Thread Cert.RefAdamMlpUpIdeal.nD Cert.RefAdamMlpUpIdeal.τ).loc Cert.RefAdamMlpUpIdeal.main_arg4) = m ((c.tc : Thread Cert.AdamMlpUpIdeal.nD Cert.AdamMlpUpIdeal.τ).loc Cert.AdamMlpUpIdeal.main_arg4)
      ∧ m' ((c.tc : Thread Cert.RefAdamMlpUpIdeal.nD Cert.RefAdamMlpUpIdeal.τ).loc Cert.RefAdamMlpUpIdeal.main_arg5) = m ((c.tc : Thread Cert.AdamMlpUpIdeal.nD Cert.AdamMlpUpIdeal.τ).loc Cert.AdamMlpUpIdeal.main_arg5)
      ∧ m' ((c.tc : Thread Cert.RefAdamMlpUpIdeal.nD Cert.RefAdamMlpUpIdeal.τ).loc Cert.RefAdamMlpUpIdeal.main_arg6) = m ((c.tc : Thread Cert.AdamMlpUpIdeal.nD Cert.AdamMlpUpIdeal.τ).loc Cert.AdamMlpUpIdeal.main_arg6)) →
    ∃ (v0 : (c : Dev Cert.AdamMlpUpIdeal.nD) → Buf (Elt Ideal) ((c.tc : Thread Cert.AdamMlpUpIdeal.nD Cert.AdamMlpUpIdeal.τ).loc Cert.AdamMlpUpIdeal.main_v0_0)) (v1 : (c : Dev Cert.AdamMlpUpIdeal.nD) → Buf (Elt Ideal) ((c.tc : Thread Cert.AdamMlpUpIdeal.nD Cert.AdamMlpUpIdeal.τ).loc Cert.AdamMlpUpIdeal.main_v0_1)) (v2 : (c : Dev Cert.AdamMlpUpIdeal.nD) → Buf (Elt Ideal) ((c.tc : Thread Cert.AdamMlpUpIdeal.nD Cert.AdamMlpUpIdeal.τ).loc Cert.AdamMlpUpIdeal.main_v0_2)) (v3 : (c : Dev Cert.AdamMlpUpIdeal.nD) → Buf (Elt Ideal) ((c.tc : Thread Cert.AdamMlpUpIdeal.nD Cert.AdamMlpUpIdeal.τ).loc Cert.AdamMlpUpIdeal.main_v0_3)),
      θ_run (Cert.AdamMlpUpIdeal.defs (F := Ideal)) (onTc (τ := Cert.AdamMlpUpIdeal.τ) (Cert.AdamMlpUpIdeal.main (F := Ideal))) ⟨m, fun _ => 0, g⟩ (fun r => ∀ c : Dev Cert.AdamMlpUpIdeal.nD,
          r.2.mem ((c.tc : Thread Cert.AdamMlpUpIdeal.nD Cert.AdamMlpUpIdeal.τ).loc Cert.AdamMlpUpIdeal.main_v0_0) = v0 c
          ∧ r.2.mem ((c.tc : Thread Cert.AdamMlpUpIdeal.nD Cert.AdamMlpUpIdeal.τ).loc Cert.AdamMlpUpIdeal.main_v0_1) = v1 c
          ∧ r.2.mem ((c.tc : Thread Cert.AdamMlpUpIdeal.nD Cert.AdamMlpUpIdeal.τ).loc Cert.AdamMlpUpIdeal.main_v0_2) = v2 c
          ∧ r.2.mem ((c.tc : Thread Cert.AdamMlpUpIdeal.nD Cert.AdamMlpUpIdeal.τ).loc Cert.AdamMlpUpIdeal.main_v0_3) = v3 c
          ∧ r.2.mem ((c.tc : Thread Cert.AdamMlpUpIdeal.nD Cert.AdamMlpUpIdeal.τ).loc Cert.AdamMlpUpIdeal.main_arg0) = m ((c.tc : Thread Cert.AdamMlpUpIdeal.nD Cert.AdamMlpUpIdeal.τ).loc Cert.AdamMlpUpIdeal.main_arg0)
          ∧ r.2.mem ((c.tc : Thread Cert.AdamMlpUpIdeal.nD Cert.AdamMlpUpIdeal.τ).loc Cert.AdamMlpUpIdeal.main_arg1) = m ((c.tc : Thread Cert.AdamMlpUpIdeal.nD Cert.AdamMlpUpIdeal.τ).loc Cert.AdamMlpUpIdeal.main_arg1)
          ∧ r.2.mem ((c.tc : Thread Cert.AdamMlpUpIdeal.nD Cert.AdamMlpUpIdeal.τ).loc Cert.AdamMlpUpIdeal.main_arg2) = m ((c.tc : Thread Cert.AdamMlpUpIdeal.nD Cert.AdamMlpUpIdeal.τ).loc Cert.AdamMlpUpIdeal.main_arg2)
          ∧ r.2.mem ((c.tc : Thread Cert.AdamMlpUpIdeal.nD Cert.AdamMlpUpIdeal.τ).loc Cert.AdamMlpUpIdeal.main_arg3) = m ((c.tc : Thread Cert.AdamMlpUpIdeal.nD Cert.AdamMlpUpIdeal.τ).loc Cert.AdamMlpUpIdeal.main_arg3)
          ∧ r.2.mem ((c.tc : Thread Cert.AdamMlpUpIdeal.nD Cert.AdamMlpUpIdeal.τ).loc Cert.AdamMlpUpIdeal.main_arg4) = m ((c.tc : Thread Cert.AdamMlpUpIdeal.nD Cert.AdamMlpUpIdeal.τ).loc Cert.AdamMlpUpIdeal.main_arg4)
          ∧ r.2.mem ((c.tc : Thread Cert.AdamMlpUpIdeal.nD Cert.AdamMlpUpIdeal.τ).loc Cert.AdamMlpUpIdeal.main_arg5) = m ((c.tc : Thread Cert.AdamMlpUpIdeal.nD Cert.AdamMlpUpIdeal.τ).loc Cert.AdamMlpUpIdeal.main_arg5)
          ∧ r.2.mem ((c.tc : Thread Cert.AdamMlpUpIdeal.nD Cert.AdamMlpUpIdeal.τ).loc Cert.AdamMlpUpIdeal.main_arg6) = m ((c.tc : Thread Cert.AdamMlpUpIdeal.nD Cert.AdamMlpUpIdeal.τ).loc Cert.AdamMlpUpIdeal.main_arg6))
      ∧ θ_run (Cert.RefAdamMlpUpIdeal.defs (F := Ideal)) (onTc (τ := Cert.RefAdamMlpUpIdeal.τ) (Cert.RefAdamMlpUpIdeal.main (F := Ideal))) ⟨m', fun _ => 0, g'⟩ (fun r => ∀ c : Dev Cert.RefAdamMlpUpIdeal.nD,
          r.2.mem ((c.tc : Thread Cert.RefAdamMlpUpIdeal.nD Cert.RefAdamMlpUpIdeal.τ).loc Cert.RefAdamMlpUpIdeal.main_v8) = v0 c
          ∧ r.2.mem ((c.tc : Thread Cert.RefAdamMlpUpIdeal.nD Cert.RefAdamMlpUpIdeal.τ).loc Cert.RefAdamMlpUpIdeal.main_v32) = v1 c
          ∧ r.2.mem ((c.tc : Thread Cert.RefAdamMlpUpIdeal.nD Cert.RefAdamMlpUpIdeal.τ).loc Cert.RefAdamMlpUpIdeal.main_v13) = v2 c
          ∧ r.2.mem ((c.tc : Thread Cert.RefAdamMlpUpIdeal.nD Cert.RefAdamMlpUpIdeal.τ).loc Cert.RefAdamMlpUpIdeal.main_v19) = v3 c
          ∧ r.2.mem ((c.tc : Thread Cert.RefAdamMlpUpIdeal.nD Cert.RefAdamMlpUpIdeal.τ).loc Cert.RefAdamMlpUpIdeal.main_arg0) = m' ((c.tc : Thread Cert.RefAdamMlpUpIdeal.nD Cert.RefAdamMlpUpIdeal.τ).loc Cert.RefAdamMlpUpIdeal.main_arg0)
          ∧ r.2.mem ((c.tc : Thread Cert.RefAdamMlpUpIdeal.nD Cert.RefAdamMlpUpIdeal.τ).loc Cert.RefAdamMlpUpIdeal.main_arg1) = m' ((c.tc : Thread Cert.RefAdamMlpUpIdeal.nD Cert.RefAdamMlpUpIdeal.τ).loc Cert.RefAdamMlpUpIdeal.main_arg1)
          ∧ r.2.mem ((c.tc : Thread Cert.RefAdamMlpUpIdeal.nD Cert.RefAdamMlpUpIdeal.τ).loc Cert.RefAdamMlpUpIdeal.main_arg2) = m' ((c.tc : Thread Cert.RefAdamMlpUpIdeal.nD Cert.RefAdamMlpUpIdeal.τ).loc Cert.RefAdamMlpUpIdeal.main_arg2)
          ∧ r.2.mem ((c.tc : Thread Cert.RefAdamMlpUpIdeal.nD Cert.RefAdamMlpUpIdeal.τ).loc Cert.RefAdamMlpUpIdeal.main_arg3) = m' ((c.tc : Thread Cert.RefAdamMlpUpIdeal.nD Cert.RefAdamMlpUpIdeal.τ).loc Cert.RefAdamMlpUpIdeal.main_arg3)
          ∧ r.2.mem ((c.tc : Thread Cert.RefAdamMlpUpIdeal.nD Cert.RefAdamMlpUpIdeal.τ).loc Cert.RefAdamMlpUpIdeal.main_arg4) = m' ((c.tc : Thread Cert.RefAdamMlpUpIdeal.nD Cert.RefAdamMlpUpIdeal.τ).loc Cert.RefAdamMlpUpIdeal.main_arg4)
          ∧ r.2.mem ((c.tc : Thread Cert.RefAdamMlpUpIdeal.nD Cert.RefAdamMlpUpIdeal.τ).loc Cert.RefAdamMlpUpIdeal.main_arg5) = m' ((c.tc : Thread Cert.RefAdamMlpUpIdeal.nD Cert.RefAdamMlpUpIdeal.τ).loc Cert.RefAdamMlpUpIdeal.main_arg5)
          ∧ r.2.mem ((c.tc : Thread Cert.RefAdamMlpUpIdeal.nD Cert.RefAdamMlpUpIdeal.τ).loc Cert.RefAdamMlpUpIdeal.main_arg6) = m' ((c.tc : Thread Cert.RefAdamMlpUpIdeal.nD Cert.RefAdamMlpUpIdeal.τ).loc Cert.RefAdamMlpUpIdeal.main_arg6))

def preserves_AdamMlpDown_AdamMlpDownIdeal : Prop :=
  True

def algebraic_AdamMlpDownIdeal_RefAdamMlpDownIdeal [hAdamMlpDownIdeal : Cert.AdamMlpDownIdeal.Facts] [hRefAdamMlpDownIdeal : Cert.RefAdamMlpDownIdeal.Facts] : Prop :=
  ∀ (m : (ℓ : Loc Cert.AdamMlpDownIdeal.nD Cert.AdamMlpDownIdeal.τ Cert.AdamMlpDownIdeal.sig) → Buf (Elt Ideal) ℓ) (g : Dev Cert.AdamMlpDownIdeal.nD → PrngReg)
    (m' : (ℓ : Loc Cert.RefAdamMlpDownIdeal.nD Cert.RefAdamMlpDownIdeal.τ Cert.RefAdamMlpDownIdeal.sig) → Buf (Elt Ideal) ℓ) (g' : Dev Cert.RefAdamMlpDownIdeal.nD → PrngReg), Pre_AdamMlpDownIdeal m →
    (∀ c : Dev Cert.AdamMlpDownIdeal.nD,
      m' ((c.tc : Thread Cert.RefAdamMlpDownIdeal.nD Cert.RefAdamMlpDownIdeal.τ).loc Cert.RefAdamMlpDownIdeal.main_arg0) = m ((c.tc : Thread Cert.AdamMlpDownIdeal.nD Cert.AdamMlpDownIdeal.τ).loc Cert.AdamMlpDownIdeal.main_arg0)
      ∧ m' ((c.tc : Thread Cert.RefAdamMlpDownIdeal.nD Cert.RefAdamMlpDownIdeal.τ).loc Cert.RefAdamMlpDownIdeal.main_arg1) = m ((c.tc : Thread Cert.AdamMlpDownIdeal.nD Cert.AdamMlpDownIdeal.τ).loc Cert.AdamMlpDownIdeal.main_arg1)
      ∧ m' ((c.tc : Thread Cert.RefAdamMlpDownIdeal.nD Cert.RefAdamMlpDownIdeal.τ).loc Cert.RefAdamMlpDownIdeal.main_arg2) = m ((c.tc : Thread Cert.AdamMlpDownIdeal.nD Cert.AdamMlpDownIdeal.τ).loc Cert.AdamMlpDownIdeal.main_arg2)
      ∧ m' ((c.tc : Thread Cert.RefAdamMlpDownIdeal.nD Cert.RefAdamMlpDownIdeal.τ).loc Cert.RefAdamMlpDownIdeal.main_arg3) = m ((c.tc : Thread Cert.AdamMlpDownIdeal.nD Cert.AdamMlpDownIdeal.τ).loc Cert.AdamMlpDownIdeal.main_arg3)
      ∧ m' ((c.tc : Thread Cert.RefAdamMlpDownIdeal.nD Cert.RefAdamMlpDownIdeal.τ).loc Cert.RefAdamMlpDownIdeal.main_arg4) = m ((c.tc : Thread Cert.AdamMlpDownIdeal.nD Cert.AdamMlpDownIdeal.τ).loc Cert.AdamMlpDownIdeal.main_arg4)
      ∧ m' ((c.tc : Thread Cert.RefAdamMlpDownIdeal.nD Cert.RefAdamMlpDownIdeal.τ).loc Cert.RefAdamMlpDownIdeal.main_arg5) = m ((c.tc : Thread Cert.AdamMlpDownIdeal.nD Cert.AdamMlpDownIdeal.τ).loc Cert.AdamMlpDownIdeal.main_arg5)
      ∧ m' ((c.tc : Thread Cert.RefAdamMlpDownIdeal.nD Cert.RefAdamMlpDownIdeal.τ).loc Cert.RefAdamMlpDownIdeal.main_arg6) = m ((c.tc : Thread Cert.AdamMlpDownIdeal.nD Cert.AdamMlpDownIdeal.τ).loc Cert.AdamMlpDownIdeal.main_arg6)) →
    ∃ (v0 : (c : Dev Cert.AdamMlpDownIdeal.nD) → Buf (Elt Ideal) ((c.tc : Thread Cert.AdamMlpDownIdeal.nD Cert.AdamMlpDownIdeal.τ).loc Cert.AdamMlpDownIdeal.main_v0_0)) (v1 : (c : Dev Cert.AdamMlpDownIdeal.nD) → Buf (Elt Ideal) ((c.tc : Thread Cert.AdamMlpDownIdeal.nD Cert.AdamMlpDownIdeal.τ).loc Cert.AdamMlpDownIdeal.main_v0_1)) (v2 : (c : Dev Cert.AdamMlpDownIdeal.nD) → Buf (Elt Ideal) ((c.tc : Thread Cert.AdamMlpDownIdeal.nD Cert.AdamMlpDownIdeal.τ).loc Cert.AdamMlpDownIdeal.main_v0_2)) (v3 : (c : Dev Cert.AdamMlpDownIdeal.nD) → Buf (Elt Ideal) ((c.tc : Thread Cert.AdamMlpDownIdeal.nD Cert.AdamMlpDownIdeal.τ).loc Cert.AdamMlpDownIdeal.main_v0_3)),
      θ_run (Cert.AdamMlpDownIdeal.defs (F := Ideal)) (onTc (τ := Cert.AdamMlpDownIdeal.τ) (Cert.AdamMlpDownIdeal.main (F := Ideal))) ⟨m, fun _ => 0, g⟩ (fun r => ∀ c : Dev Cert.AdamMlpDownIdeal.nD,
          r.2.mem ((c.tc : Thread Cert.AdamMlpDownIdeal.nD Cert.AdamMlpDownIdeal.τ).loc Cert.AdamMlpDownIdeal.main_v0_0) = v0 c
          ∧ r.2.mem ((c.tc : Thread Cert.AdamMlpDownIdeal.nD Cert.AdamMlpDownIdeal.τ).loc Cert.AdamMlpDownIdeal.main_v0_1) = v1 c
          ∧ r.2.mem ((c.tc : Thread Cert.AdamMlpDownIdeal.nD Cert.AdamMlpDownIdeal.τ).loc Cert.AdamMlpDownIdeal.main_v0_2) = v2 c
          ∧ r.2.mem ((c.tc : Thread Cert.AdamMlpDownIdeal.nD Cert.AdamMlpDownIdeal.τ).loc Cert.AdamMlpDownIdeal.main_v0_3) = v3 c
          ∧ r.2.mem ((c.tc : Thread Cert.AdamMlpDownIdeal.nD Cert.AdamMlpDownIdeal.τ).loc Cert.AdamMlpDownIdeal.main_arg0) = m ((c.tc : Thread Cert.AdamMlpDownIdeal.nD Cert.AdamMlpDownIdeal.τ).loc Cert.AdamMlpDownIdeal.main_arg0)
          ∧ r.2.mem ((c.tc : Thread Cert.AdamMlpDownIdeal.nD Cert.AdamMlpDownIdeal.τ).loc Cert.AdamMlpDownIdeal.main_arg1) = m ((c.tc : Thread Cert.AdamMlpDownIdeal.nD Cert.AdamMlpDownIdeal.τ).loc Cert.AdamMlpDownIdeal.main_arg1)
          ∧ r.2.mem ((c.tc : Thread Cert.AdamMlpDownIdeal.nD Cert.AdamMlpDownIdeal.τ).loc Cert.AdamMlpDownIdeal.main_arg2) = m ((c.tc : Thread Cert.AdamMlpDownIdeal.nD Cert.AdamMlpDownIdeal.τ).loc Cert.AdamMlpDownIdeal.main_arg2)
          ∧ r.2.mem ((c.tc : Thread Cert.AdamMlpDownIdeal.nD Cert.AdamMlpDownIdeal.τ).loc Cert.AdamMlpDownIdeal.main_arg3) = m ((c.tc : Thread Cert.AdamMlpDownIdeal.nD Cert.AdamMlpDownIdeal.τ).loc Cert.AdamMlpDownIdeal.main_arg3)
          ∧ r.2.mem ((c.tc : Thread Cert.AdamMlpDownIdeal.nD Cert.AdamMlpDownIdeal.τ).loc Cert.AdamMlpDownIdeal.main_arg4) = m ((c.tc : Thread Cert.AdamMlpDownIdeal.nD Cert.AdamMlpDownIdeal.τ).loc Cert.AdamMlpDownIdeal.main_arg4)
          ∧ r.2.mem ((c.tc : Thread Cert.AdamMlpDownIdeal.nD Cert.AdamMlpDownIdeal.τ).loc Cert.AdamMlpDownIdeal.main_arg5) = m ((c.tc : Thread Cert.AdamMlpDownIdeal.nD Cert.AdamMlpDownIdeal.τ).loc Cert.AdamMlpDownIdeal.main_arg5)
          ∧ r.2.mem ((c.tc : Thread Cert.AdamMlpDownIdeal.nD Cert.AdamMlpDownIdeal.τ).loc Cert.AdamMlpDownIdeal.main_arg6) = m ((c.tc : Thread Cert.AdamMlpDownIdeal.nD Cert.AdamMlpDownIdeal.τ).loc Cert.AdamMlpDownIdeal.main_arg6))
      ∧ θ_run (Cert.RefAdamMlpDownIdeal.defs (F := Ideal)) (onTc (τ := Cert.RefAdamMlpDownIdeal.τ) (Cert.RefAdamMlpDownIdeal.main (F := Ideal))) ⟨m', fun _ => 0, g'⟩ (fun r => ∀ c : Dev Cert.RefAdamMlpDownIdeal.nD,
          r.2.mem ((c.tc : Thread Cert.RefAdamMlpDownIdeal.nD Cert.RefAdamMlpDownIdeal.τ).loc Cert.RefAdamMlpDownIdeal.main_v8) = v0 c
          ∧ r.2.mem ((c.tc : Thread Cert.RefAdamMlpDownIdeal.nD Cert.RefAdamMlpDownIdeal.τ).loc Cert.RefAdamMlpDownIdeal.main_v32) = v1 c
          ∧ r.2.mem ((c.tc : Thread Cert.RefAdamMlpDownIdeal.nD Cert.RefAdamMlpDownIdeal.τ).loc Cert.RefAdamMlpDownIdeal.main_v13) = v2 c
          ∧ r.2.mem ((c.tc : Thread Cert.RefAdamMlpDownIdeal.nD Cert.RefAdamMlpDownIdeal.τ).loc Cert.RefAdamMlpDownIdeal.main_v19) = v3 c
          ∧ r.2.mem ((c.tc : Thread Cert.RefAdamMlpDownIdeal.nD Cert.RefAdamMlpDownIdeal.τ).loc Cert.RefAdamMlpDownIdeal.main_arg0) = m' ((c.tc : Thread Cert.RefAdamMlpDownIdeal.nD Cert.RefAdamMlpDownIdeal.τ).loc Cert.RefAdamMlpDownIdeal.main_arg0)
          ∧ r.2.mem ((c.tc : Thread Cert.RefAdamMlpDownIdeal.nD Cert.RefAdamMlpDownIdeal.τ).loc Cert.RefAdamMlpDownIdeal.main_arg1) = m' ((c.tc : Thread Cert.RefAdamMlpDownIdeal.nD Cert.RefAdamMlpDownIdeal.τ).loc Cert.RefAdamMlpDownIdeal.main_arg1)
          ∧ r.2.mem ((c.tc : Thread Cert.RefAdamMlpDownIdeal.nD Cert.RefAdamMlpDownIdeal.τ).loc Cert.RefAdamMlpDownIdeal.main_arg2) = m' ((c.tc : Thread Cert.RefAdamMlpDownIdeal.nD Cert.RefAdamMlpDownIdeal.τ).loc Cert.RefAdamMlpDownIdeal.main_arg2)
          ∧ r.2.mem ((c.tc : Thread Cert.RefAdamMlpDownIdeal.nD Cert.RefAdamMlpDownIdeal.τ).loc Cert.RefAdamMlpDownIdeal.main_arg3) = m' ((c.tc : Thread Cert.RefAdamMlpDownIdeal.nD Cert.RefAdamMlpDownIdeal.τ).loc Cert.RefAdamMlpDownIdeal.main_arg3)
          ∧ r.2.mem ((c.tc : Thread Cert.RefAdamMlpDownIdeal.nD Cert.RefAdamMlpDownIdeal.τ).loc Cert.RefAdamMlpDownIdeal.main_arg4) = m' ((c.tc : Thread Cert.RefAdamMlpDownIdeal.nD Cert.RefAdamMlpDownIdeal.τ).loc Cert.RefAdamMlpDownIdeal.main_arg4)
          ∧ r.2.mem ((c.tc : Thread Cert.RefAdamMlpDownIdeal.nD Cert.RefAdamMlpDownIdeal.τ).loc Cert.RefAdamMlpDownIdeal.main_arg5) = m' ((c.tc : Thread Cert.RefAdamMlpDownIdeal.nD Cert.RefAdamMlpDownIdeal.τ).loc Cert.RefAdamMlpDownIdeal.main_arg5)
          ∧ r.2.mem ((c.tc : Thread Cert.RefAdamMlpDownIdeal.nD Cert.RefAdamMlpDownIdeal.τ).loc Cert.RefAdamMlpDownIdeal.main_arg6) = m' ((c.tc : Thread Cert.RefAdamMlpDownIdeal.nD Cert.RefAdamMlpDownIdeal.τ).loc Cert.RefAdamMlpDownIdeal.main_arg6))

def preserves_AdamXkv_AdamXkvIdeal : Prop :=
  True

def algebraic_AdamXkvIdeal_RefAdamXkvIdeal [hAdamXkvIdeal : Cert.AdamXkvIdeal.Facts] [hRefAdamXkvIdeal : Cert.RefAdamXkvIdeal.Facts] : Prop :=
  ∀ (m : (ℓ : Loc Cert.AdamXkvIdeal.nD Cert.AdamXkvIdeal.τ Cert.AdamXkvIdeal.sig) → Buf (Elt Ideal) ℓ) (g : Dev Cert.AdamXkvIdeal.nD → PrngReg)
    (m' : (ℓ : Loc Cert.RefAdamXkvIdeal.nD Cert.RefAdamXkvIdeal.τ Cert.RefAdamXkvIdeal.sig) → Buf (Elt Ideal) ℓ) (g' : Dev Cert.RefAdamXkvIdeal.nD → PrngReg), Pre_AdamXkvIdeal m →
    (∀ c : Dev Cert.AdamXkvIdeal.nD,
      m' ((c.tc : Thread Cert.RefAdamXkvIdeal.nD Cert.RefAdamXkvIdeal.τ).loc Cert.RefAdamXkvIdeal.main_arg0) = m ((c.tc : Thread Cert.AdamXkvIdeal.nD Cert.AdamXkvIdeal.τ).loc Cert.AdamXkvIdeal.main_arg0)
      ∧ m' ((c.tc : Thread Cert.RefAdamXkvIdeal.nD Cert.RefAdamXkvIdeal.τ).loc Cert.RefAdamXkvIdeal.main_arg1) = m ((c.tc : Thread Cert.AdamXkvIdeal.nD Cert.AdamXkvIdeal.τ).loc Cert.AdamXkvIdeal.main_arg1)
      ∧ m' ((c.tc : Thread Cert.RefAdamXkvIdeal.nD Cert.RefAdamXkvIdeal.τ).loc Cert.RefAdamXkvIdeal.main_arg2) = m ((c.tc : Thread Cert.AdamXkvIdeal.nD Cert.AdamXkvIdeal.τ).loc Cert.AdamXkvIdeal.main_arg2)
      ∧ m' ((c.tc : Thread Cert.RefAdamXkvIdeal.nD Cert.RefAdamXkvIdeal.τ).loc Cert.RefAdamXkvIdeal.main_arg3) = m ((c.tc : Thread Cert.AdamXkvIdeal.nD Cert.AdamXkvIdeal.τ).loc Cert.AdamXkvIdeal.main_arg3)
      ∧ m' ((c.tc : Thread Cert.RefAdamXkvIdeal.nD Cert.RefAdamXkvIdeal.τ).loc Cert.RefAdamXkvIdeal.main_arg4) = m ((c.tc : Thread Cert.AdamXkvIdeal.nD Cert.AdamXkvIdeal.τ).loc Cert.AdamXkvIdeal.main_arg4)
      ∧ m' ((c.tc : Thread Cert.RefAdamXkvIdeal.nD Cert.RefAdamXkvIdeal.τ).loc Cert.RefAdamXkvIdeal.main_arg5) = m ((c.tc : Thread Cert.AdamXkvIdeal.nD Cert.AdamXkvIdeal.τ).loc Cert.AdamXkvIdeal.main_arg5)
      ∧ m' ((c.tc : Thread Cert.RefAdamXkvIdeal.nD Cert.RefAdamXkvIdeal.τ).loc Cert.RefAdamXkvIdeal.main_arg6) = m ((c.tc : Thread Cert.AdamXkvIdeal.nD Cert.AdamXkvIdeal.τ).loc Cert.AdamXkvIdeal.main_arg6)) →
    ∃ (v0 : (c : Dev Cert.AdamXkvIdeal.nD) → Buf (Elt Ideal) ((c.tc : Thread Cert.AdamXkvIdeal.nD Cert.AdamXkvIdeal.τ).loc Cert.AdamXkvIdeal.main_v0_0)) (v1 : (c : Dev Cert.AdamXkvIdeal.nD) → Buf (Elt Ideal) ((c.tc : Thread Cert.AdamXkvIdeal.nD Cert.AdamXkvIdeal.τ).loc Cert.AdamXkvIdeal.main_v0_1)) (v2 : (c : Dev Cert.AdamXkvIdeal.nD) → Buf (Elt Ideal) ((c.tc : Thread Cert.AdamXkvIdeal.nD Cert.AdamXkvIdeal.τ).loc Cert.AdamXkvIdeal.main_v0_2)) (v3 : (c : Dev Cert.AdamXkvIdeal.nD) → Buf (Elt Ideal) ((c.tc : Thread Cert.AdamXkvIdeal.nD Cert.AdamXkvIdeal.τ).loc Cert.AdamXkvIdeal.main_v0_3)),
      θ_run (Cert.AdamXkvIdeal.defs (F := Ideal)) (onTc (τ := Cert.AdamXkvIdeal.τ) (Cert.AdamXkvIdeal.main (F := Ideal))) ⟨m, fun _ => 0, g⟩ (fun r => ∀ c : Dev Cert.AdamXkvIdeal.nD,
          r.2.mem ((c.tc : Thread Cert.AdamXkvIdeal.nD Cert.AdamXkvIdeal.τ).loc Cert.AdamXkvIdeal.main_v0_0) = v0 c
          ∧ r.2.mem ((c.tc : Thread Cert.AdamXkvIdeal.nD Cert.AdamXkvIdeal.τ).loc Cert.AdamXkvIdeal.main_v0_1) = v1 c
          ∧ r.2.mem ((c.tc : Thread Cert.AdamXkvIdeal.nD Cert.AdamXkvIdeal.τ).loc Cert.AdamXkvIdeal.main_v0_2) = v2 c
          ∧ r.2.mem ((c.tc : Thread Cert.AdamXkvIdeal.nD Cert.AdamXkvIdeal.τ).loc Cert.AdamXkvIdeal.main_v0_3) = v3 c
          ∧ r.2.mem ((c.tc : Thread Cert.AdamXkvIdeal.nD Cert.AdamXkvIdeal.τ).loc Cert.AdamXkvIdeal.main_arg0) = m ((c.tc : Thread Cert.AdamXkvIdeal.nD Cert.AdamXkvIdeal.τ).loc Cert.AdamXkvIdeal.main_arg0)
          ∧ r.2.mem ((c.tc : Thread Cert.AdamXkvIdeal.nD Cert.AdamXkvIdeal.τ).loc Cert.AdamXkvIdeal.main_arg1) = m ((c.tc : Thread Cert.AdamXkvIdeal.nD Cert.AdamXkvIdeal.τ).loc Cert.AdamXkvIdeal.main_arg1)
          ∧ r.2.mem ((c.tc : Thread Cert.AdamXkvIdeal.nD Cert.AdamXkvIdeal.τ).loc Cert.AdamXkvIdeal.main_arg2) = m ((c.tc : Thread Cert.AdamXkvIdeal.nD Cert.AdamXkvIdeal.τ).loc Cert.AdamXkvIdeal.main_arg2)
          ∧ r.2.mem ((c.tc : Thread Cert.AdamXkvIdeal.nD Cert.AdamXkvIdeal.τ).loc Cert.AdamXkvIdeal.main_arg3) = m ((c.tc : Thread Cert.AdamXkvIdeal.nD Cert.AdamXkvIdeal.τ).loc Cert.AdamXkvIdeal.main_arg3)
          ∧ r.2.mem ((c.tc : Thread Cert.AdamXkvIdeal.nD Cert.AdamXkvIdeal.τ).loc Cert.AdamXkvIdeal.main_arg4) = m ((c.tc : Thread Cert.AdamXkvIdeal.nD Cert.AdamXkvIdeal.τ).loc Cert.AdamXkvIdeal.main_arg4)
          ∧ r.2.mem ((c.tc : Thread Cert.AdamXkvIdeal.nD Cert.AdamXkvIdeal.τ).loc Cert.AdamXkvIdeal.main_arg5) = m ((c.tc : Thread Cert.AdamXkvIdeal.nD Cert.AdamXkvIdeal.τ).loc Cert.AdamXkvIdeal.main_arg5)
          ∧ r.2.mem ((c.tc : Thread Cert.AdamXkvIdeal.nD Cert.AdamXkvIdeal.τ).loc Cert.AdamXkvIdeal.main_arg6) = m ((c.tc : Thread Cert.AdamXkvIdeal.nD Cert.AdamXkvIdeal.τ).loc Cert.AdamXkvIdeal.main_arg6))
      ∧ θ_run (Cert.RefAdamXkvIdeal.defs (F := Ideal)) (onTc (τ := Cert.RefAdamXkvIdeal.τ) (Cert.RefAdamXkvIdeal.main (F := Ideal))) ⟨m', fun _ => 0, g'⟩ (fun r => ∀ c : Dev Cert.RefAdamXkvIdeal.nD,
          r.2.mem ((c.tc : Thread Cert.RefAdamXkvIdeal.nD Cert.RefAdamXkvIdeal.τ).loc Cert.RefAdamXkvIdeal.main_v4) = v0 c
          ∧ r.2.mem ((c.tc : Thread Cert.RefAdamXkvIdeal.nD Cert.RefAdamXkvIdeal.τ).loc Cert.RefAdamXkvIdeal.main_v28) = v1 c
          ∧ r.2.mem ((c.tc : Thread Cert.RefAdamXkvIdeal.nD Cert.RefAdamXkvIdeal.τ).loc Cert.RefAdamXkvIdeal.main_v9) = v2 c
          ∧ r.2.mem ((c.tc : Thread Cert.RefAdamXkvIdeal.nD Cert.RefAdamXkvIdeal.τ).loc Cert.RefAdamXkvIdeal.main_v15) = v3 c
          ∧ r.2.mem ((c.tc : Thread Cert.RefAdamXkvIdeal.nD Cert.RefAdamXkvIdeal.τ).loc Cert.RefAdamXkvIdeal.main_arg0) = m' ((c.tc : Thread Cert.RefAdamXkvIdeal.nD Cert.RefAdamXkvIdeal.τ).loc Cert.RefAdamXkvIdeal.main_arg0)
          ∧ r.2.mem ((c.tc : Thread Cert.RefAdamXkvIdeal.nD Cert.RefAdamXkvIdeal.τ).loc Cert.RefAdamXkvIdeal.main_arg1) = m' ((c.tc : Thread Cert.RefAdamXkvIdeal.nD Cert.RefAdamXkvIdeal.τ).loc Cert.RefAdamXkvIdeal.main_arg1)
          ∧ r.2.mem ((c.tc : Thread Cert.RefAdamXkvIdeal.nD Cert.RefAdamXkvIdeal.τ).loc Cert.RefAdamXkvIdeal.main_arg2) = m' ((c.tc : Thread Cert.RefAdamXkvIdeal.nD Cert.RefAdamXkvIdeal.τ).loc Cert.RefAdamXkvIdeal.main_arg2)
          ∧ r.2.mem ((c.tc : Thread Cert.RefAdamXkvIdeal.nD Cert.RefAdamXkvIdeal.τ).loc Cert.RefAdamXkvIdeal.main_arg3) = m' ((c.tc : Thread Cert.RefAdamXkvIdeal.nD Cert.RefAdamXkvIdeal.τ).loc Cert.RefAdamXkvIdeal.main_arg3)
          ∧ r.2.mem ((c.tc : Thread Cert.RefAdamXkvIdeal.nD Cert.RefAdamXkvIdeal.τ).loc Cert.RefAdamXkvIdeal.main_arg4) = m' ((c.tc : Thread Cert.RefAdamXkvIdeal.nD Cert.RefAdamXkvIdeal.τ).loc Cert.RefAdamXkvIdeal.main_arg4)
          ∧ r.2.mem ((c.tc : Thread Cert.RefAdamXkvIdeal.nD Cert.RefAdamXkvIdeal.τ).loc Cert.RefAdamXkvIdeal.main_arg5) = m' ((c.tc : Thread Cert.RefAdamXkvIdeal.nD Cert.RefAdamXkvIdeal.τ).loc Cert.RefAdamXkvIdeal.main_arg5)
          ∧ r.2.mem ((c.tc : Thread Cert.RefAdamXkvIdeal.nD Cert.RefAdamXkvIdeal.τ).loc Cert.RefAdamXkvIdeal.main_arg6) = m' ((c.tc : Thread Cert.RefAdamXkvIdeal.nD Cert.RefAdamXkvIdeal.τ).loc Cert.RefAdamXkvIdeal.main_arg6))

def Claim : Prop :=
  ∃ (hKernel : Cert.Kernel.Facts) (hKernelIdeal : Cert.KernelIdeal.Facts) (hReferenceIdeal : Cert.ReferenceIdeal.Facts) (hInDw : Cert.InDw.Facts) (hInDwIdeal : Cert.InDwIdeal.Facts) (hRefInDwIdeal : Cert.RefInDwIdeal.Facts) (hInDx : Cert.InDx.Facts) (hInDxIdeal : Cert.InDxIdeal.Facts) (hRefInDxIdeal : Cert.RefInDxIdeal.Facts) (hDownDx : Cert.DownDx.Facts) (hDownDxIdeal : Cert.DownDxIdeal.Facts) (hRefDownDxIdeal : Cert.RefDownDxIdeal.Facts) (hDownDw : Cert.DownDw.Facts) (hDownDwIdeal : Cert.DownDwIdeal.Facts) (hRefDownDwIdeal : Cert.RefDownDwIdeal.Facts) (hUpDw : Cert.UpDw.Facts) (hUpDwIdeal : Cert.UpDwIdeal.Facts) (hRefUpDwIdeal : Cert.RefUpDwIdeal.Facts) (hUpDx : Cert.UpDx.Facts) (hUpDxIdeal : Cert.UpDxIdeal.Facts) (hRefUpDxIdeal : Cert.RefUpDxIdeal.Facts) (hMergeBwd : Cert.MergeBwd.Facts) (hMergeBwdIdeal : Cert.MergeBwdIdeal.Facts) (hRefMergeBwdIdeal : Cert.RefMergeBwdIdeal.Facts) (hRmsBwd : Cert.RmsBwd.Facts) (hRmsBwdIdeal : Cert.RmsBwdIdeal.Facts) (hRefRmsBwdIdeal : Cert.RefRmsBwdIdeal.Facts) (hLnSiluBwd : Cert.LnSiluBwd.Facts) (hLnSiluBwdIdeal : Cert.LnSiluBwdIdeal.Facts) (hRefLnSiluBwdIdeal : Cert.RefLnSiluBwdIdeal.Facts) (hSsdOutDw : Cert.SsdOutDw.Facts) (hSsdOutDwIdeal : Cert.SsdOutDwIdeal.Facts) (hRefSsdOutDwIdeal : Cert.RefSsdOutDwIdeal.Facts) (hSsdOutDx : Cert.SsdOutDx.Facts) (hSsdOutDxIdeal : Cert.SsdOutDxIdeal.Facts) (hRefSsdOutDxIdeal : Cert.RefSsdOutDxIdeal.Facts) (hXoDw : Cert.XoDw.Facts) (hXoDwIdeal : Cert.XoDwIdeal.Facts) (hRefXoDwIdeal : Cert.RefXoDwIdeal.Facts) (hXoDx : Cert.XoDx.Facts) (hXoDxIdeal : Cert.XoDxIdeal.Facts) (hRefXoDxIdeal : Cert.RefXoDxIdeal.Facts) (hConvOutDw : Cert.ConvOutDw.Facts) (hConvOutDwIdeal : Cert.ConvOutDwIdeal.Facts) (hRefConvOutDwIdeal : Cert.RefConvOutDwIdeal.Facts) (hConvOutDx : Cert.ConvOutDx.Facts) (hConvOutDxIdeal : Cert.ConvOutDxIdeal.Facts) (hRefConvOutDxIdeal : Cert.RefConvOutDxIdeal.Facts) (hMmIn : Cert.MmIn.Facts) (hMmInIdeal : Cert.MmInIdeal.Facts) (hRefMmInIdeal : Cert.RefMmInIdeal.Facts) (hMmUp : Cert.MmUp.Facts) (hMmUpIdeal : Cert.MmUpIdeal.Facts) (hRefMmUpIdeal : Cert.RefMmUpIdeal.Facts) (hMmDown : Cert.MmDown.Facts) (hMmDownIdeal : Cert.MmDownIdeal.Facts) (hRefMmDownIdeal : Cert.RefMmDownIdeal.Facts) (hMmSsdOut : Cert.MmSsdOut.Facts) (hMmSsdOutIdeal : Cert.MmSsdOutIdeal.Facts) (hRefMmSsdOutIdeal : Cert.RefMmSsdOutIdeal.Facts) (hMmConvOut : Cert.MmConvOut.Facts) (hMmConvOutIdeal : Cert.MmConvOutIdeal.Facts) (hRefMmConvOutIdeal : Cert.RefMmConvOutIdeal.Facts) (hMmXo : Cert.MmXo.Facts) (hMmXoIdeal : Cert.MmXoIdeal.Facts) (hRefMmXoIdeal : Cert.RefMmXoIdeal.Facts) (hConvBBwd : Cert.ConvBBwd.Facts) (hConvBBwdIdeal : Cert.ConvBBwdIdeal.Facts) (hRefConvBBwdIdeal : Cert.RefConvBBwdIdeal.Facts) (hConvB : Cert.ConvB.Facts) (hConvBIdeal : Cert.ConvBIdeal.Facts) (hRefConvBIdeal : Cert.RefConvBIdeal.Facts) (hRms : Cert.Rms.Facts) (hRmsIdeal : Cert.RmsIdeal.Facts) (hRefRmsIdeal : Cert.RefRmsIdeal.Facts) (hLnSilu : Cert.LnSilu.Facts) (hLnSiluIdeal : Cert.LnSiluIdeal.Facts) (hRefLnSiluIdeal : Cert.RefLnSiluIdeal.Facts) (hMerge : Cert.Merge.Facts) (hMergeIdeal : Cert.MergeIdeal.Facts) (hRefMergeIdeal : Cert.RefMergeIdeal.Facts) (hXkvDw : Cert.XkvDw.Facts) (hXkvDwIdeal : Cert.XkvDwIdeal.Facts) (hRefXkvDwIdeal : Cert.RefXkvDwIdeal.Facts) (hXkvDx : Cert.XkvDx.Facts) (hXkvDxIdeal : Cert.XkvDxIdeal.Facts) (hRefXkvDxIdeal : Cert.RefXkvDxIdeal.Facts) (hMmXkv : Cert.MmXkv.Facts) (hMmXkvIdeal : Cert.MmXkvIdeal.Facts) (hRefMmXkvIdeal : Cert.RefMmXkvIdeal.Facts) (hXa : Cert.Xa.Facts) (hXaIdeal : Cert.XaIdeal.Facts) (hRefXaIdeal : Cert.RefXaIdeal.Facts) (hRmsMem : Cert.RmsMem.Facts) (hRmsMemIdeal : Cert.RmsMemIdeal.Facts) (hRefRmsMemIdeal : Cert.RefRmsMemIdeal.Facts) (hRmsMemBwd : Cert.RmsMemBwd.Facts) (hRmsMemBwdIdeal : Cert.RmsMemBwdIdeal.Facts) (hRefRmsMemBwdIdeal : Cert.RefRmsMemBwdIdeal.Facts) (hAdamGain : Cert.AdamGain.Facts) (hAdamGainIdeal : Cert.AdamGainIdeal.Facts) (hRefAdamGainIdeal : Cert.RefAdamGainIdeal.Facts) (hAdamHeads : Cert.AdamHeads.Facts) (hAdamHeadsIdeal : Cert.AdamHeadsIdeal.Facts) (hRefAdamHeadsIdeal : Cert.RefAdamHeadsIdeal.Facts) (hAdamHead : Cert.AdamHead.Facts) (hAdamHeadIdeal : Cert.AdamHeadIdeal.Facts) (hRefAdamHeadIdeal : Cert.RefAdamHeadIdeal.Facts) (hAdamCross : Cert.AdamCross.Facts) (hAdamCrossIdeal : Cert.AdamCrossIdeal.Facts) (hRefAdamCrossIdeal : Cert.RefAdamCrossIdeal.Facts) (hAdamSinks : Cert.AdamSinks.Facts) (hAdamSinksIdeal : Cert.AdamSinksIdeal.Facts) (hRefAdamSinksIdeal : Cert.RefAdamSinksIdeal.Facts) (hAdamTable : Cert.AdamTable.Facts) (hAdamTableIdeal : Cert.AdamTableIdeal.Facts) (hRefAdamTableIdeal : Cert.RefAdamTableIdeal.Facts) (hAdamInner : Cert.AdamInner.Facts) (hAdamInnerIdeal : Cert.AdamInnerIdeal.Facts) (hRefAdamInnerIdeal : Cert.RefAdamInnerIdeal.Facts) (hAdamBias : Cert.AdamBias.Facts) (hAdamBiasIdeal : Cert.AdamBiasIdeal.Facts) (hRefAdamBiasIdeal : Cert.RefAdamBiasIdeal.Facts) (hAdamGates : Cert.AdamGates.Facts) (hAdamGatesIdeal : Cert.AdamGatesIdeal.Facts) (hRefAdamGatesIdeal : Cert.RefAdamGatesIdeal.Facts) (hAdamTaps : Cert.AdamTaps.Facts) (hAdamTapsIdeal : Cert.AdamTapsIdeal.Facts) (hRefAdamTapsIdeal : Cert.RefAdamTapsIdeal.Facts) (hAdamFour : Cert.AdamFour.Facts) (hAdamFourIdeal : Cert.AdamFourIdeal.Facts) (hRefAdamFourIdeal : Cert.RefAdamFourIdeal.Facts) (hAdamXq : Cert.AdamXq.Facts) (hAdamXqIdeal : Cert.AdamXqIdeal.Facts) (hRefAdamXqIdeal : Cert.RefAdamXqIdeal.Facts) (hAdamConvOut : Cert.AdamConvOut.Facts) (hAdamConvOutIdeal : Cert.AdamConvOutIdeal.Facts) (hRefAdamConvOutIdeal : Cert.RefAdamConvOutIdeal.Facts) (hAdamAttnOut : Cert.AdamAttnOut.Facts) (hAdamAttnOutIdeal : Cert.AdamAttnOutIdeal.Facts) (hRefAdamAttnOutIdeal : Cert.RefAdamAttnOutIdeal.Facts) (hAdamMixOut : Cert.AdamMixOut.Facts) (hAdamMixOutIdeal : Cert.AdamMixOutIdeal.Facts) (hRefAdamMixOutIdeal : Cert.RefAdamMixOutIdeal.Facts) (hAdamXo : Cert.AdamXo.Facts) (hAdamXoIdeal : Cert.AdamXoIdeal.Facts) (hRefAdamXoIdeal : Cert.RefAdamXoIdeal.Facts) (hAdamSsdOut : Cert.AdamSsdOut.Facts) (hAdamSsdOutIdeal : Cert.AdamSsdOutIdeal.Facts) (hRefAdamSsdOutIdeal : Cert.RefAdamSsdOutIdeal.Facts) (hAdamMlpUp : Cert.AdamMlpUp.Facts) (hAdamMlpUpIdeal : Cert.AdamMlpUpIdeal.Facts) (hRefAdamMlpUpIdeal : Cert.RefAdamMlpUpIdeal.Facts) (hAdamMlpDown : Cert.AdamMlpDown.Facts) (hAdamMlpDownIdeal : Cert.AdamMlpDownIdeal.Facts) (hRefAdamMlpDownIdeal : Cert.RefAdamMlpDownIdeal.Facts) (hAdamXkv : Cert.AdamXkv.Facts) (hAdamXkvIdeal : Cert.AdamXkvIdeal.Facts) (hRefAdamXkvIdeal : Cert.RefAdamXkvIdeal.Facts) (hPre_finite_inputs : Cert.Pre_finite_inputs.Facts) (hPre_finite_cotangent : Cert.Pre_finite_cotangent.Facts) (hPre_finite_arguments : Cert.Pre_finite_arguments.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_InDw (hInDw := hInDw)
    ∧ quiescent_InDwIdeal (hInDwIdeal := hInDwIdeal)
    ∧ quiescent_RefInDwIdeal (hRefInDwIdeal := hRefInDwIdeal)
    ∧ quiescent_InDx (hInDx := hInDx)
    ∧ quiescent_InDxIdeal (hInDxIdeal := hInDxIdeal)
    ∧ quiescent_RefInDxIdeal (hRefInDxIdeal := hRefInDxIdeal)
    ∧ quiescent_DownDx (hDownDx := hDownDx)
    ∧ quiescent_DownDxIdeal (hDownDxIdeal := hDownDxIdeal)
    ∧ quiescent_RefDownDxIdeal (hRefDownDxIdeal := hRefDownDxIdeal)
    ∧ quiescent_DownDw (hDownDw := hDownDw)
    ∧ quiescent_DownDwIdeal (hDownDwIdeal := hDownDwIdeal)
    ∧ quiescent_RefDownDwIdeal (hRefDownDwIdeal := hRefDownDwIdeal)
    ∧ quiescent_UpDw (hUpDw := hUpDw)
    ∧ quiescent_UpDwIdeal (hUpDwIdeal := hUpDwIdeal)
    ∧ quiescent_RefUpDwIdeal (hRefUpDwIdeal := hRefUpDwIdeal)
    ∧ quiescent_UpDx (hUpDx := hUpDx)
    ∧ quiescent_UpDxIdeal (hUpDxIdeal := hUpDxIdeal)
    ∧ quiescent_RefUpDxIdeal (hRefUpDxIdeal := hRefUpDxIdeal)
    ∧ quiescent_MergeBwd (hMergeBwd := hMergeBwd)
    ∧ quiescent_MergeBwdIdeal (hMergeBwdIdeal := hMergeBwdIdeal)
    ∧ quiescent_RefMergeBwdIdeal (hRefMergeBwdIdeal := hRefMergeBwdIdeal)
    ∧ quiescent_RmsBwd (hRmsBwd := hRmsBwd)
    ∧ quiescent_RmsBwdIdeal (hRmsBwdIdeal := hRmsBwdIdeal)
    ∧ quiescent_RefRmsBwdIdeal (hRefRmsBwdIdeal := hRefRmsBwdIdeal)
    ∧ quiescent_LnSiluBwd (hLnSiluBwd := hLnSiluBwd)
    ∧ quiescent_LnSiluBwdIdeal (hLnSiluBwdIdeal := hLnSiluBwdIdeal)
    ∧ quiescent_RefLnSiluBwdIdeal (hRefLnSiluBwdIdeal := hRefLnSiluBwdIdeal)
    ∧ quiescent_SsdOutDw (hSsdOutDw := hSsdOutDw)
    ∧ quiescent_SsdOutDwIdeal (hSsdOutDwIdeal := hSsdOutDwIdeal)
    ∧ quiescent_RefSsdOutDwIdeal (hRefSsdOutDwIdeal := hRefSsdOutDwIdeal)
    ∧ quiescent_SsdOutDx (hSsdOutDx := hSsdOutDx)
    ∧ quiescent_SsdOutDxIdeal (hSsdOutDxIdeal := hSsdOutDxIdeal)
    ∧ quiescent_RefSsdOutDxIdeal (hRefSsdOutDxIdeal := hRefSsdOutDxIdeal)
    ∧ quiescent_XoDw (hXoDw := hXoDw)
    ∧ quiescent_XoDwIdeal (hXoDwIdeal := hXoDwIdeal)
    ∧ quiescent_RefXoDwIdeal (hRefXoDwIdeal := hRefXoDwIdeal)
    ∧ quiescent_XoDx (hXoDx := hXoDx)
    ∧ quiescent_XoDxIdeal (hXoDxIdeal := hXoDxIdeal)
    ∧ quiescent_RefXoDxIdeal (hRefXoDxIdeal := hRefXoDxIdeal)
    ∧ quiescent_ConvOutDw (hConvOutDw := hConvOutDw)
    ∧ quiescent_ConvOutDwIdeal (hConvOutDwIdeal := hConvOutDwIdeal)
    ∧ quiescent_RefConvOutDwIdeal (hRefConvOutDwIdeal := hRefConvOutDwIdeal)
    ∧ quiescent_ConvOutDx (hConvOutDx := hConvOutDx)
    ∧ quiescent_ConvOutDxIdeal (hConvOutDxIdeal := hConvOutDxIdeal)
    ∧ quiescent_RefConvOutDxIdeal (hRefConvOutDxIdeal := hRefConvOutDxIdeal)
    ∧ quiescent_MmIn (hMmIn := hMmIn)
    ∧ quiescent_MmInIdeal (hMmInIdeal := hMmInIdeal)
    ∧ quiescent_RefMmInIdeal (hRefMmInIdeal := hRefMmInIdeal)
    ∧ quiescent_MmUp (hMmUp := hMmUp)
    ∧ quiescent_MmUpIdeal (hMmUpIdeal := hMmUpIdeal)
    ∧ quiescent_RefMmUpIdeal (hRefMmUpIdeal := hRefMmUpIdeal)
    ∧ quiescent_MmDown (hMmDown := hMmDown)
    ∧ quiescent_MmDownIdeal (hMmDownIdeal := hMmDownIdeal)
    ∧ quiescent_RefMmDownIdeal (hRefMmDownIdeal := hRefMmDownIdeal)
    ∧ quiescent_MmSsdOut (hMmSsdOut := hMmSsdOut)
    ∧ quiescent_MmSsdOutIdeal (hMmSsdOutIdeal := hMmSsdOutIdeal)
    ∧ quiescent_RefMmSsdOutIdeal (hRefMmSsdOutIdeal := hRefMmSsdOutIdeal)
    ∧ quiescent_MmConvOut (hMmConvOut := hMmConvOut)
    ∧ quiescent_MmConvOutIdeal (hMmConvOutIdeal := hMmConvOutIdeal)
    ∧ quiescent_RefMmConvOutIdeal (hRefMmConvOutIdeal := hRefMmConvOutIdeal)
    ∧ quiescent_MmXo (hMmXo := hMmXo)
    ∧ quiescent_MmXoIdeal (hMmXoIdeal := hMmXoIdeal)
    ∧ quiescent_RefMmXoIdeal (hRefMmXoIdeal := hRefMmXoIdeal)
    ∧ quiescent_ConvBBwd (hConvBBwd := hConvBBwd)
    ∧ quiescent_ConvBBwdIdeal (hConvBBwdIdeal := hConvBBwdIdeal)
    ∧ quiescent_ConvBBwdIdeal_pre_finite_cotangent (hConvBBwdIdeal := hConvBBwdIdeal) (hPre_finite_cotangent := hPre_finite_cotangent)
    ∧ quiescent_RefConvBBwdIdeal (hRefConvBBwdIdeal := hRefConvBBwdIdeal)
    ∧ quiescent_RefConvBBwdIdeal_pre_finite_cotangent (hRefConvBBwdIdeal := hRefConvBBwdIdeal) (hPre_finite_cotangent := hPre_finite_cotangent)
    ∧ quiescent_ConvB (hConvB := hConvB)
    ∧ quiescent_ConvBIdeal (hConvBIdeal := hConvBIdeal)
    ∧ quiescent_RefConvBIdeal (hRefConvBIdeal := hRefConvBIdeal)
    ∧ quiescent_Rms (hRms := hRms)
    ∧ quiescent_RmsIdeal (hRmsIdeal := hRmsIdeal)
    ∧ quiescent_RefRmsIdeal (hRefRmsIdeal := hRefRmsIdeal)
    ∧ quiescent_LnSilu (hLnSilu := hLnSilu)
    ∧ quiescent_LnSiluIdeal (hLnSiluIdeal := hLnSiluIdeal)
    ∧ quiescent_RefLnSiluIdeal (hRefLnSiluIdeal := hRefLnSiluIdeal)
    ∧ quiescent_Merge (hMerge := hMerge)
    ∧ quiescent_MergeIdeal (hMergeIdeal := hMergeIdeal)
    ∧ quiescent_RefMergeIdeal (hRefMergeIdeal := hRefMergeIdeal)
    ∧ quiescent_XkvDw (hXkvDw := hXkvDw)
    ∧ quiescent_XkvDwIdeal (hXkvDwIdeal := hXkvDwIdeal)
    ∧ quiescent_RefXkvDwIdeal (hRefXkvDwIdeal := hRefXkvDwIdeal)
    ∧ quiescent_XkvDx (hXkvDx := hXkvDx)
    ∧ quiescent_XkvDxIdeal (hXkvDxIdeal := hXkvDxIdeal)
    ∧ quiescent_RefXkvDxIdeal (hRefXkvDxIdeal := hRefXkvDxIdeal)
    ∧ quiescent_MmXkv (hMmXkv := hMmXkv)
    ∧ quiescent_MmXkvIdeal (hMmXkvIdeal := hMmXkvIdeal)
    ∧ quiescent_RefMmXkvIdeal (hRefMmXkvIdeal := hRefMmXkvIdeal)
    ∧ quiescent_Xa (hXa := hXa)
    ∧ quiescent_XaIdeal (hXaIdeal := hXaIdeal)
    ∧ quiescent_XaIdeal_pre_finite_arguments (hXaIdeal := hXaIdeal) (hPre_finite_arguments := hPre_finite_arguments)
    ∧ quiescent_RefXaIdeal (hRefXaIdeal := hRefXaIdeal)
    ∧ quiescent_RefXaIdeal_pre_finite_arguments (hRefXaIdeal := hRefXaIdeal) (hPre_finite_arguments := hPre_finite_arguments)
    ∧ quiescent_RmsMem (hRmsMem := hRmsMem)
    ∧ quiescent_RmsMemIdeal (hRmsMemIdeal := hRmsMemIdeal)
    ∧ quiescent_RefRmsMemIdeal (hRefRmsMemIdeal := hRefRmsMemIdeal)
    ∧ quiescent_RmsMemBwd (hRmsMemBwd := hRmsMemBwd)
    ∧ quiescent_RmsMemBwdIdeal (hRmsMemBwdIdeal := hRmsMemBwdIdeal)
    ∧ quiescent_RefRmsMemBwdIdeal (hRefRmsMemBwdIdeal := hRefRmsMemBwdIdeal)
    ∧ quiescent_AdamGain (hAdamGain := hAdamGain)
    ∧ quiescent_AdamGainIdeal (hAdamGainIdeal := hAdamGainIdeal)
    ∧ quiescent_RefAdamGainIdeal (hRefAdamGainIdeal := hRefAdamGainIdeal)
    ∧ quiescent_AdamHeads (hAdamHeads := hAdamHeads)
    ∧ quiescent_AdamHeadsIdeal (hAdamHeadsIdeal := hAdamHeadsIdeal)
    ∧ quiescent_RefAdamHeadsIdeal (hRefAdamHeadsIdeal := hRefAdamHeadsIdeal)
    ∧ quiescent_AdamHead (hAdamHead := hAdamHead)
    ∧ quiescent_AdamHeadIdeal (hAdamHeadIdeal := hAdamHeadIdeal)
    ∧ quiescent_RefAdamHeadIdeal (hRefAdamHeadIdeal := hRefAdamHeadIdeal)
    ∧ quiescent_AdamCross (hAdamCross := hAdamCross)
    ∧ quiescent_AdamCrossIdeal (hAdamCrossIdeal := hAdamCrossIdeal)
    ∧ quiescent_RefAdamCrossIdeal (hRefAdamCrossIdeal := hRefAdamCrossIdeal)
    ∧ quiescent_AdamSinks (hAdamSinks := hAdamSinks)
    ∧ quiescent_AdamSinksIdeal (hAdamSinksIdeal := hAdamSinksIdeal)
    ∧ quiescent_RefAdamSinksIdeal (hRefAdamSinksIdeal := hRefAdamSinksIdeal)
    ∧ quiescent_AdamTable (hAdamTable := hAdamTable)
    ∧ quiescent_AdamTableIdeal (hAdamTableIdeal := hAdamTableIdeal)
    ∧ quiescent_RefAdamTableIdeal (hRefAdamTableIdeal := hRefAdamTableIdeal)
    ∧ quiescent_AdamInner (hAdamInner := hAdamInner)
    ∧ quiescent_AdamInnerIdeal (hAdamInnerIdeal := hAdamInnerIdeal)
    ∧ quiescent_RefAdamInnerIdeal (hRefAdamInnerIdeal := hRefAdamInnerIdeal)
    ∧ quiescent_AdamBias (hAdamBias := hAdamBias)
    ∧ quiescent_AdamBiasIdeal (hAdamBiasIdeal := hAdamBiasIdeal)
    ∧ quiescent_RefAdamBiasIdeal (hRefAdamBiasIdeal := hRefAdamBiasIdeal)
    ∧ quiescent_AdamGates (hAdamGates := hAdamGates)
    ∧ quiescent_AdamGatesIdeal (hAdamGatesIdeal := hAdamGatesIdeal)
    ∧ quiescent_RefAdamGatesIdeal (hRefAdamGatesIdeal := hRefAdamGatesIdeal)
    ∧ quiescent_AdamTaps (hAdamTaps := hAdamTaps)
    ∧ quiescent_AdamTapsIdeal (hAdamTapsIdeal := hAdamTapsIdeal)
    ∧ quiescent_RefAdamTapsIdeal (hRefAdamTapsIdeal := hRefAdamTapsIdeal)
    ∧ quiescent_AdamFour (hAdamFour := hAdamFour)
    ∧ quiescent_AdamFourIdeal (hAdamFourIdeal := hAdamFourIdeal)
    ∧ quiescent_RefAdamFourIdeal (hRefAdamFourIdeal := hRefAdamFourIdeal)
    ∧ quiescent_AdamXq (hAdamXq := hAdamXq)
    ∧ quiescent_AdamXqIdeal (hAdamXqIdeal := hAdamXqIdeal)
    ∧ quiescent_RefAdamXqIdeal (hRefAdamXqIdeal := hRefAdamXqIdeal)
    ∧ quiescent_AdamConvOut (hAdamConvOut := hAdamConvOut)
    ∧ quiescent_AdamConvOutIdeal (hAdamConvOutIdeal := hAdamConvOutIdeal)
    ∧ quiescent_RefAdamConvOutIdeal (hRefAdamConvOutIdeal := hRefAdamConvOutIdeal)
    ∧ quiescent_AdamAttnOut (hAdamAttnOut := hAdamAttnOut)
    ∧ quiescent_AdamAttnOutIdeal (hAdamAttnOutIdeal := hAdamAttnOutIdeal)
    ∧ quiescent_RefAdamAttnOutIdeal (hRefAdamAttnOutIdeal := hRefAdamAttnOutIdeal)
    ∧ quiescent_AdamMixOut (hAdamMixOut := hAdamMixOut)
    ∧ quiescent_AdamMixOutIdeal (hAdamMixOutIdeal := hAdamMixOutIdeal)
    ∧ quiescent_RefAdamMixOutIdeal (hRefAdamMixOutIdeal := hRefAdamMixOutIdeal)
    ∧ quiescent_AdamXo (hAdamXo := hAdamXo)
    ∧ quiescent_AdamXoIdeal (hAdamXoIdeal := hAdamXoIdeal)
    ∧ quiescent_RefAdamXoIdeal (hRefAdamXoIdeal := hRefAdamXoIdeal)
    ∧ quiescent_AdamSsdOut (hAdamSsdOut := hAdamSsdOut)
    ∧ quiescent_AdamSsdOutIdeal (hAdamSsdOutIdeal := hAdamSsdOutIdeal)
    ∧ quiescent_RefAdamSsdOutIdeal (hRefAdamSsdOutIdeal := hRefAdamSsdOutIdeal)
    ∧ quiescent_AdamMlpUp (hAdamMlpUp := hAdamMlpUp)
    ∧ quiescent_AdamMlpUpIdeal (hAdamMlpUpIdeal := hAdamMlpUpIdeal)
    ∧ quiescent_RefAdamMlpUpIdeal (hRefAdamMlpUpIdeal := hRefAdamMlpUpIdeal)
    ∧ quiescent_AdamMlpDown (hAdamMlpDown := hAdamMlpDown)
    ∧ quiescent_AdamMlpDownIdeal (hAdamMlpDownIdeal := hAdamMlpDownIdeal)
    ∧ quiescent_RefAdamMlpDownIdeal (hRefAdamMlpDownIdeal := hRefAdamMlpDownIdeal)
    ∧ quiescent_AdamXkv (hAdamXkv := hAdamXkv)
    ∧ quiescent_AdamXkvIdeal (hAdamXkvIdeal := hAdamXkvIdeal)
    ∧ quiescent_RefAdamXkvIdeal (hRefAdamXkvIdeal := hRefAdamXkvIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_InDw_InDwIdeal
    ∧ algebraic_InDwIdeal_RefInDwIdeal (hInDwIdeal := hInDwIdeal) (hRefInDwIdeal := hRefInDwIdeal)
    ∧ preserves_InDx_InDxIdeal
    ∧ algebraic_InDxIdeal_RefInDxIdeal (hInDxIdeal := hInDxIdeal) (hRefInDxIdeal := hRefInDxIdeal)
    ∧ preserves_DownDx_DownDxIdeal
    ∧ algebraic_DownDxIdeal_RefDownDxIdeal (hDownDxIdeal := hDownDxIdeal) (hRefDownDxIdeal := hRefDownDxIdeal)
    ∧ preserves_DownDw_DownDwIdeal
    ∧ algebraic_DownDwIdeal_RefDownDwIdeal (hDownDwIdeal := hDownDwIdeal) (hRefDownDwIdeal := hRefDownDwIdeal)
    ∧ preserves_UpDw_UpDwIdeal
    ∧ algebraic_UpDwIdeal_RefUpDwIdeal (hUpDwIdeal := hUpDwIdeal) (hRefUpDwIdeal := hRefUpDwIdeal)
    ∧ preserves_UpDx_UpDxIdeal
    ∧ algebraic_UpDxIdeal_RefUpDxIdeal (hUpDxIdeal := hUpDxIdeal) (hRefUpDxIdeal := hRefUpDxIdeal)
    ∧ preserves_MergeBwd_MergeBwdIdeal
    ∧ algebraic_MergeBwdIdeal_RefMergeBwdIdeal (hMergeBwdIdeal := hMergeBwdIdeal) (hRefMergeBwdIdeal := hRefMergeBwdIdeal)
    ∧ preserves_RmsBwd_RmsBwdIdeal
    ∧ algebraic_RmsBwdIdeal_RefRmsBwdIdeal (hRmsBwdIdeal := hRmsBwdIdeal) (hRefRmsBwdIdeal := hRefRmsBwdIdeal)
    ∧ preserves_LnSiluBwd_LnSiluBwdIdeal
    ∧ algebraic_LnSiluBwdIdeal_RefLnSiluBwdIdeal (hLnSiluBwdIdeal := hLnSiluBwdIdeal) (hRefLnSiluBwdIdeal := hRefLnSiluBwdIdeal)
    ∧ preserves_SsdOutDw_SsdOutDwIdeal
    ∧ algebraic_SsdOutDwIdeal_RefSsdOutDwIdeal (hSsdOutDwIdeal := hSsdOutDwIdeal) (hRefSsdOutDwIdeal := hRefSsdOutDwIdeal)
    ∧ preserves_SsdOutDx_SsdOutDxIdeal
    ∧ algebraic_SsdOutDxIdeal_RefSsdOutDxIdeal (hSsdOutDxIdeal := hSsdOutDxIdeal) (hRefSsdOutDxIdeal := hRefSsdOutDxIdeal)
    ∧ preserves_XoDw_XoDwIdeal
    ∧ algebraic_XoDwIdeal_RefXoDwIdeal (hXoDwIdeal := hXoDwIdeal) (hRefXoDwIdeal := hRefXoDwIdeal)
    ∧ preserves_XoDx_XoDxIdeal
    ∧ algebraic_XoDxIdeal_RefXoDxIdeal (hXoDxIdeal := hXoDxIdeal) (hRefXoDxIdeal := hRefXoDxIdeal)
    ∧ preserves_ConvOutDw_ConvOutDwIdeal
    ∧ algebraic_ConvOutDwIdeal_RefConvOutDwIdeal (hConvOutDwIdeal := hConvOutDwIdeal) (hRefConvOutDwIdeal := hRefConvOutDwIdeal)
    ∧ preserves_ConvOutDx_ConvOutDxIdeal
    ∧ algebraic_ConvOutDxIdeal_RefConvOutDxIdeal (hConvOutDxIdeal := hConvOutDxIdeal) (hRefConvOutDxIdeal := hRefConvOutDxIdeal)
    ∧ preserves_MmIn_MmInIdeal
    ∧ algebraic_MmInIdeal_RefMmInIdeal (hMmInIdeal := hMmInIdeal) (hRefMmInIdeal := hRefMmInIdeal)
    ∧ preserves_MmUp_MmUpIdeal
    ∧ algebraic_MmUpIdeal_RefMmUpIdeal (hMmUpIdeal := hMmUpIdeal) (hRefMmUpIdeal := hRefMmUpIdeal)
    ∧ preserves_MmDown_MmDownIdeal
    ∧ algebraic_MmDownIdeal_RefMmDownIdeal (hMmDownIdeal := hMmDownIdeal) (hRefMmDownIdeal := hRefMmDownIdeal)
    ∧ preserves_MmSsdOut_MmSsdOutIdeal
    ∧ algebraic_MmSsdOutIdeal_RefMmSsdOutIdeal (hMmSsdOutIdeal := hMmSsdOutIdeal) (hRefMmSsdOutIdeal := hRefMmSsdOutIdeal)
    ∧ preserves_MmConvOut_MmConvOutIdeal
    ∧ algebraic_MmConvOutIdeal_RefMmConvOutIdeal (hMmConvOutIdeal := hMmConvOutIdeal) (hRefMmConvOutIdeal := hRefMmConvOutIdeal)
    ∧ preserves_MmXo_MmXoIdeal
    ∧ algebraic_MmXoIdeal_RefMmXoIdeal (hMmXoIdeal := hMmXoIdeal) (hRefMmXoIdeal := hRefMmXoIdeal)
    ∧ preserves_ConvBBwd_ConvBBwdIdeal
    ∧ algebraic_ConvBBwdIdeal_RefConvBBwdIdeal_pre_finite_cotangent (hConvBBwdIdeal := hConvBBwdIdeal) (hRefConvBBwdIdeal := hRefConvBBwdIdeal) (hPre_finite_cotangent := hPre_finite_cotangent)
    ∧ preserves_ConvB_ConvBIdeal
    ∧ algebraic_ConvBIdeal_RefConvBIdeal (hConvBIdeal := hConvBIdeal) (hRefConvBIdeal := hRefConvBIdeal)
    ∧ preserves_Rms_RmsIdeal
    ∧ algebraic_RmsIdeal_RefRmsIdeal (hRmsIdeal := hRmsIdeal) (hRefRmsIdeal := hRefRmsIdeal)
    ∧ preserves_LnSilu_LnSiluIdeal
    ∧ algebraic_LnSiluIdeal_RefLnSiluIdeal (hLnSiluIdeal := hLnSiluIdeal) (hRefLnSiluIdeal := hRefLnSiluIdeal)
    ∧ preserves_Merge_MergeIdeal
    ∧ algebraic_MergeIdeal_RefMergeIdeal (hMergeIdeal := hMergeIdeal) (hRefMergeIdeal := hRefMergeIdeal)
    ∧ preserves_XkvDw_XkvDwIdeal
    ∧ algebraic_XkvDwIdeal_RefXkvDwIdeal (hXkvDwIdeal := hXkvDwIdeal) (hRefXkvDwIdeal := hRefXkvDwIdeal)
    ∧ preserves_XkvDx_XkvDxIdeal
    ∧ algebraic_XkvDxIdeal_RefXkvDxIdeal (hXkvDxIdeal := hXkvDxIdeal) (hRefXkvDxIdeal := hRefXkvDxIdeal)
    ∧ preserves_MmXkv_MmXkvIdeal
    ∧ algebraic_MmXkvIdeal_RefMmXkvIdeal (hMmXkvIdeal := hMmXkvIdeal) (hRefMmXkvIdeal := hRefMmXkvIdeal)
    ∧ preserves_Xa_XaIdeal
    ∧ algebraic_XaIdeal_RefXaIdeal_pre_finite_arguments (hXaIdeal := hXaIdeal) (hRefXaIdeal := hRefXaIdeal) (hPre_finite_arguments := hPre_finite_arguments)
    ∧ preserves_RmsMem_RmsMemIdeal
    ∧ algebraic_RmsMemIdeal_RefRmsMemIdeal (hRmsMemIdeal := hRmsMemIdeal) (hRefRmsMemIdeal := hRefRmsMemIdeal)
    ∧ preserves_RmsMemBwd_RmsMemBwdIdeal
    ∧ algebraic_RmsMemBwdIdeal_RefRmsMemBwdIdeal (hRmsMemBwdIdeal := hRmsMemBwdIdeal) (hRefRmsMemBwdIdeal := hRefRmsMemBwdIdeal)
    ∧ preserves_AdamGain_AdamGainIdeal
    ∧ algebraic_AdamGainIdeal_RefAdamGainIdeal (hAdamGainIdeal := hAdamGainIdeal) (hRefAdamGainIdeal := hRefAdamGainIdeal)
    ∧ preserves_AdamHeads_AdamHeadsIdeal
    ∧ algebraic_AdamHeadsIdeal_RefAdamHeadsIdeal (hAdamHeadsIdeal := hAdamHeadsIdeal) (hRefAdamHeadsIdeal := hRefAdamHeadsIdeal)
    ∧ preserves_AdamHead_AdamHeadIdeal
    ∧ algebraic_AdamHeadIdeal_RefAdamHeadIdeal (hAdamHeadIdeal := hAdamHeadIdeal) (hRefAdamHeadIdeal := hRefAdamHeadIdeal)
    ∧ preserves_AdamCross_AdamCrossIdeal
    ∧ algebraic_AdamCrossIdeal_RefAdamCrossIdeal (hAdamCrossIdeal := hAdamCrossIdeal) (hRefAdamCrossIdeal := hRefAdamCrossIdeal)
    ∧ preserves_AdamSinks_AdamSinksIdeal
    ∧ algebraic_AdamSinksIdeal_RefAdamSinksIdeal (hAdamSinksIdeal := hAdamSinksIdeal) (hRefAdamSinksIdeal := hRefAdamSinksIdeal)
    ∧ preserves_AdamTable_AdamTableIdeal
    ∧ algebraic_AdamTableIdeal_RefAdamTableIdeal (hAdamTableIdeal := hAdamTableIdeal) (hRefAdamTableIdeal := hRefAdamTableIdeal)
    ∧ preserves_AdamInner_AdamInnerIdeal
    ∧ algebraic_AdamInnerIdeal_RefAdamInnerIdeal (hAdamInnerIdeal := hAdamInnerIdeal) (hRefAdamInnerIdeal := hRefAdamInnerIdeal)
    ∧ preserves_AdamBias_AdamBiasIdeal
    ∧ algebraic_AdamBiasIdeal_RefAdamBiasIdeal (hAdamBiasIdeal := hAdamBiasIdeal) (hRefAdamBiasIdeal := hRefAdamBiasIdeal)
    ∧ preserves_AdamGates_AdamGatesIdeal
    ∧ algebraic_AdamGatesIdeal_RefAdamGatesIdeal (hAdamGatesIdeal := hAdamGatesIdeal) (hRefAdamGatesIdeal := hRefAdamGatesIdeal)
    ∧ preserves_AdamTaps_AdamTapsIdeal
    ∧ algebraic_AdamTapsIdeal_RefAdamTapsIdeal (hAdamTapsIdeal := hAdamTapsIdeal) (hRefAdamTapsIdeal := hRefAdamTapsIdeal)
    ∧ preserves_AdamFour_AdamFourIdeal
    ∧ algebraic_AdamFourIdeal_RefAdamFourIdeal (hAdamFourIdeal := hAdamFourIdeal) (hRefAdamFourIdeal := hRefAdamFourIdeal)
    ∧ preserves_AdamXq_AdamXqIdeal
    ∧ algebraic_AdamXqIdeal_RefAdamXqIdeal (hAdamXqIdeal := hAdamXqIdeal) (hRefAdamXqIdeal := hRefAdamXqIdeal)
    ∧ preserves_AdamConvOut_AdamConvOutIdeal
    ∧ algebraic_AdamConvOutIdeal_RefAdamConvOutIdeal (hAdamConvOutIdeal := hAdamConvOutIdeal) (hRefAdamConvOutIdeal := hRefAdamConvOutIdeal)
    ∧ preserves_AdamAttnOut_AdamAttnOutIdeal
    ∧ algebraic_AdamAttnOutIdeal_RefAdamAttnOutIdeal (hAdamAttnOutIdeal := hAdamAttnOutIdeal) (hRefAdamAttnOutIdeal := hRefAdamAttnOutIdeal)
    ∧ preserves_AdamMixOut_AdamMixOutIdeal
    ∧ algebraic_AdamMixOutIdeal_RefAdamMixOutIdeal (hAdamMixOutIdeal := hAdamMixOutIdeal) (hRefAdamMixOutIdeal := hRefAdamMixOutIdeal)
    ∧ preserves_AdamXo_AdamXoIdeal
    ∧ algebraic_AdamXoIdeal_RefAdamXoIdeal (hAdamXoIdeal := hAdamXoIdeal) (hRefAdamXoIdeal := hRefAdamXoIdeal)
    ∧ preserves_AdamSsdOut_AdamSsdOutIdeal
    ∧ algebraic_AdamSsdOutIdeal_RefAdamSsdOutIdeal (hAdamSsdOutIdeal := hAdamSsdOutIdeal) (hRefAdamSsdOutIdeal := hRefAdamSsdOutIdeal)
    ∧ preserves_AdamMlpUp_AdamMlpUpIdeal
    ∧ algebraic_AdamMlpUpIdeal_RefAdamMlpUpIdeal (hAdamMlpUpIdeal := hAdamMlpUpIdeal) (hRefAdamMlpUpIdeal := hRefAdamMlpUpIdeal)
    ∧ preserves_AdamMlpDown_AdamMlpDownIdeal
    ∧ algebraic_AdamMlpDownIdeal_RefAdamMlpDownIdeal (hAdamMlpDownIdeal := hAdamMlpDownIdeal) (hRefAdamMlpDownIdeal := hRefAdamMlpDownIdeal)
    ∧ preserves_AdamXkv_AdamXkvIdeal
    ∧ algebraic_AdamXkvIdeal_RefAdamXkvIdeal (hAdamXkvIdeal := hAdamXkvIdeal) (hRefAdamXkvIdeal := hRefAdamXkvIdeal)
-- ==== Pre_finite_arguments.lean ====
abbrev S4096x1024 : Shape := ⟨2, ![4096, 1024]⟩
abbrev S256x2048 : Shape := ⟨2, ![256, 2048]⟩
abbrev S256 : Shape := ⟨1, ![256]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S4096x1024 .f32) (main_arg1 : FVec F S256x2048 .f32) (main_arg2 : FVec F S256 .f32) (main_arg3 : FVec F S256 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Pre_finite_cotangent.lean ====
abbrev S4096x3072 : Shape := ⟨2, ![4096, 3072]⟩
abbrev S4096x12288 : Shape := ⟨2, ![4096, 12288]⟩
abbrev S4x3072 : Shape := ⟨2, ![4, 3072]⟩
abbrev S3072 : Shape := ⟨1, ![3072]⟩
abbrev S_ : Shape := ⟨0, ![]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel

variable [Facts]

def fn {F : FTy → Type} [FloatOps F] (main_arg0 : FVec F S4096x3072 .f32) (main_arg1 : FVec F S4096x12288 .f32) (main_arg2 : FVec F S4x3072 .f32) (main_arg3 : FVec F S3072 .f32) : IVec S_ 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_c : IVec S_ 1 := constantI S_ 1 1#1
  let main_v3 : IVec S_ 1 := (fun x v => Host.reduce IntOp.andi x v reducesTo_S4096x3072_S_d0_1 h_S_) main_v2 main_c
  main_v3
-- ==== Pre_finite_inputs.lean ====
abbrev S4096x1024 : Shape := ⟨2, ![4096, 1024]⟩
abbrev S256x2048 : Shape := ⟨2, ![256, 2048]⟩
abbrev S256 : Shape := ⟨1, ![256]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S4096x1024 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x1024 .f32) (main_arg1 : FVec F S256x2048 .f32) (main_arg2 : FVec F S256 .f32) (main_arg3 : FVec F S256 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_v13 main_v16
-- ==== Kernel.lean ====
abbrev S4096x1024 : Shape := ⟨2, ![4096, 1024]⟩
abbrev S256x2048 : Shape := ⟨2, ![256, 2048]⟩
abbrev S256 : Shape := ⟨1, ![256]⟩
abbrev S1x256 : Shape := ⟨2, ![1, 256]⟩
abbrev S256x1024 : Shape := ⟨2, ![256, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩
abbrev S256x1 : Shape := ⟨2, ![256, 1]⟩

abbrev nBuf : Space → Nat
  | .hbm => 12
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S256x2048, .f32⟩
  | .hbm, ⟨2, _⟩ => ⟨S256, .f32⟩
  | .hbm, ⟨3, _⟩ => ⟨S256, .f32⟩
  | .hbm, ⟨4, _⟩ => ⟨S4096x1024, .f32⟩
  | .hbm, ⟨5, _⟩ => ⟨S1x256, .f32⟩
  | .hbm, ⟨6, _⟩ => ⟨S1x256, .f32⟩
  | .hbm, ⟨7, _⟩ => ⟨S4096x1024, .bf16⟩
  | .hbm, ⟨8, _⟩ => ⟨S256x1024, .f32⟩
  | .hbm, ⟨9, _⟩ => ⟨S256x1024, .f32⟩
  | .hbm, ⟨10, _⟩ => ⟨S1x256, .f32⟩
  | .hbm, ⟨11, _⟩ => ⟨S1x256, .f32⟩
  | .local _ .vmem, ⟨0, _⟩ => ⟨S512x256, .f32⟩
  | .local _ .vmem, ⟨1, _⟩ => ⟨S512x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S1x256, .f32⟩
  | .local _ .vmem, ⟨8, _⟩ => ⟨S512x256, .f32⟩
  | .local _ .vmem, ⟨9, _⟩ => ⟨S512x256, .f32⟩
  | .local _ .vmem, ⟨10, _⟩ => ⟨S512x256, .bf16⟩
  | .local _ .vmem, ⟨11, _⟩ => ⟨S512x256, .bf16⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S1x256, .f32⟩
  | .local _ .vmem, ⟨17, _⟩ => ⟨S1x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ReferenceIdeal.lean ====
abbrev S4096x1024 : Shape := ⟨2, ![4096, 1024]⟩
abbrev S256x2048 : Shape := ⟨2, ![256, 2048]⟩
abbrev S256 : Shape := ⟨1, ![256]⟩
abbrev S4096x4x256 : Shape := ⟨3, ![4096, 4, 256]⟩
abbrev S_ : Shape := ⟨0, ![]⟩
abbrev S4096x4 : Shape := ⟨2, ![4096, 4]⟩
abbrev S4096x4x1 : Shape := ⟨3, ![4096, 4, 1]⟩
abbrev S1x1x256 : Shape := ⟨3, ![1, 1, 256]⟩
abbrev S256x1024 : Shape := ⟨2, ![256, 1024]⟩
abbrev S256x4x256 : Shape := ⟨3, ![256, 4, 256]⟩
abbrev S256x4 : Shape := ⟨2, ![256, 4]⟩
abbrev S256x4x1 : Shape := ⟨3, ![256, 4, 1]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩
abbrev S1x256 : Shape := ⟨2, ![1, 256]⟩

abbrev nBuf : Space → Nat
  | .hbm => 184
  | .vmem => 0
  | .smem => 0
  | _ => 0

abbrev hbmTy0_0 (i : Nat) : BufTy := match i % 128 with
  | 0 => ⟨S4096x1024, .f32⟩
  | 1 => ⟨S256x2048, .f32⟩
  | 2 => ⟨S256, .f32⟩
  | 3 => ⟨S256, .f32⟩
  | 4 => ⟨S4096x1024, .f32⟩
  | 5 => ⟨S4096x4x256, .f32⟩
  | 6 => ⟨S4096x4x256, .f32⟩
  | 7 => ⟨S_, .f32⟩
  | 8 => ⟨S4096x4, .f32⟩
  | 9 => ⟨S4096x4x1, .f32⟩
  | 10 => ⟨S_, .f32⟩
  | 11 => ⟨S4096x4x1, .f32⟩
  | 12 => ⟨S4096x4x1, .f32⟩
  | 13 => ⟨S_, .f32⟩
  | 14 => ⟨S4096x4x1, .f32⟩
  | 15 => ⟨S4096x4x1, .f32⟩
  | 16 => ⟨S4096x4x1, .f32⟩
  | 17 => ⟨S4096x4x1, .f32⟩
  | 18 => ⟨S_, .f32⟩
  | 19 => ⟨S4096x4x1, .f32⟩
  | 20 => ⟨S4096x4x1, .f32⟩
  | 21 => ⟨S4096x4x256, .f32⟩
  | 22 => ⟨S4096x4x256, .f32⟩
  | 23 => ⟨S1x1x256, .f32⟩
  | 24 => ⟨S4096x4x256, .f32⟩
  | 25 => ⟨S4096x4x256, .f32⟩
  | 26 => ⟨S256x1024, .f32⟩
  | 27 => ⟨S256x4x256, .f32⟩
  | 28 => ⟨S256x4x256, .f32⟩
  | 29 => ⟨S_, .f32⟩
  | 30 => ⟨S256x4, .f32⟩
  | 31 => ⟨S256x4x1, .f32⟩
  | 32 => ⟨S_, .f32⟩
  | 33 => ⟨S256x4x1, .f32⟩
  | 34 => ⟨S256x4x1, .f32⟩
  | 35 => ⟨S_, .f32⟩
  | 36 => ⟨S256x4x1, .f32⟩
  | 37 => ⟨S256x4x1, .f32⟩
  | 38 => ⟨S256x4x1, .f32⟩
  | 39 => ⟨S256x4x1, .f32⟩
  | 40 => ⟨S_, .f32⟩
  | 41 => ⟨S256x4x1, .f32⟩
  | 42 => ⟨S256x4x1, .f32⟩
  | 43 => ⟨S256x4x256, .f32⟩
  | 44 => ⟨S256x4x256, .f32⟩
  | 45 => ⟨S1x1x256, .f32⟩
  | 46 => ⟨S256x4x256, .f32⟩
  | 47 => ⟨S256x4x256, .f32⟩
  | 48 => ⟨S256x1024, .f32⟩
  | 49 => ⟨S256x4x256, .f32⟩
  | 50 => ⟨S4x4096x256, .f32⟩
  | 51 => ⟨S_, .f32⟩
  | 52 => ⟨S4x4096x256, .f32⟩
  | 53 => ⟨S4x4096x256, .f32⟩
  | 54 => ⟨S_, .f32⟩
  | 55 => ⟨S4x4096, .f32⟩
  | 56 => ⟨S4x4096x1, .f32⟩
  | 57 => ⟨S4x4096x256, .f32⟩
  | 58 => ⟨S4x4096x256, .i1⟩
  | 59 => ⟨S4x4096x256, .f32⟩
  | 60 => ⟨S_, .f32⟩
  | 61 => ⟨S4x4096, .f32⟩
  | 62 => ⟨S_, .f32⟩
  | 63 => ⟨S4x4096, .f32⟩
  | 64 => ⟨S4x4096, .f32⟩
  | 65 => ⟨S_, .f32⟩
  | 66 => ⟨S4x4096, .f32⟩
  | 67 => ⟨S4x4096, .i1⟩
  | 68 => ⟨S_, .f32⟩
  | 69 => ⟨S4x4096, .f32⟩
  | 70 => ⟨S4x4096, .i1⟩
  | 71 => ⟨S_, .f32⟩
  | 72 => ⟨S4x4096, .f32⟩
  | 73 => ⟨S_, .f32⟩
  | 74 => ⟨S4x4096, .f32⟩
  | 75 => ⟨S_, .f32⟩
  | 76 => ⟨S4x4096, .f32⟩
  | 77 => ⟨S4x4096, .f32⟩
  | 78 => ⟨S4x4096, .f32⟩
  | 79 => ⟨S4x4096x1, .f32⟩
  | 80 => ⟨S4x4096x256, .f32⟩
  | 81 => ⟨S4x4096x256, .f32⟩
  | 82 => ⟨S4x4096x256, .f32⟩
  | 83 => ⟨S_, .f32⟩
  | 84 => ⟨S4x4096, .f32⟩
  | 85 => ⟨S4x4096x1, .f32⟩
  | 86 => ⟨S4x4096x256, .f32⟩
  | 87 => ⟨S4x4096x256, .f32⟩
  | 88 => ⟨S4x4096x1, .f32⟩
  | 89 => ⟨S_, .f32⟩
  | 90 => ⟨S4x4096x1, .f32⟩
  | 91 => ⟨S4x4096x1, .f32⟩
  | 92 => ⟨S4x256x4096, .f32⟩
  | 93 => ⟨S4096x4x256, .f32⟩
  | 94 => ⟨S4096x1024, .f32⟩
  | 95 => ⟨S4096x4x256, .f32⟩
  | 96 => ⟨S4x256x4096, .f32⟩
  | 97 => ⟨S4x4096x256, .f32⟩
  | 98 => ⟨S4x256x256, .f32⟩
  | 99 => ⟨S256x4x256, .f32⟩
  | 100 => ⟨S4x4096x256, .f32⟩
  | 101 => ⟨S4x4096x256, .f32⟩
  | 102 => ⟨S4x4096x256, .f32⟩
  | 103 => ⟨S_, .f32⟩
  | 104 => ⟨S4x4096, .f32⟩
  | 105 => ⟨S4x4096x1, .f32⟩
  | 106 => ⟨S4x4096x1, .f32⟩
  | 107 => ⟨S4x4096x256, .f32⟩
  | 108 => ⟨S4x4096x256, .f32⟩
  | 109 => ⟨S_, .f32⟩
  | 110 => ⟨S4x4096, .f32⟩
  | 111 => ⟨S4x4096x256, .f32⟩
  | 112 => ⟨S4x4096x256, .f32⟩
  | 113 => ⟨S4x4096x256, .f32⟩
  | 114 => ⟨S_, .f32⟩
  | 115 => ⟨S4x4096x256, .f32⟩
  | 116 => ⟨S4x4096x256, .f32⟩
  | 117 => ⟨S4x256x256, .f32⟩
  | 118 => ⟨S256x4x256, .f32⟩
  | 119 => ⟨S4x4096x256, .f32⟩
  | 120 => ⟨S4096x4x256, .f32⟩
  | 121 => ⟨S256x1024, .f32⟩
  | 122 => ⟨S_, .f32⟩
  | 123 => ⟨S256x2048, .f32⟩
  | 124 => ⟨S256x4x256, .f32⟩
  | 125 => ⟨S_, .f32⟩
  | 126 => ⟨S256, .f32⟩
  | 127 => ⟨S1x1x256, .f32⟩
  | _ => ⟨S4096x1024, .f32⟩

abbrev hbmTy0_1 (i : Nat) : BufTy := match i % 128 with
  | 0 => ⟨S256x4x256, .f32⟩
  | 1 => ⟨S256x4x256, .f32⟩
  | 2 => ⟨S_, .f32⟩
  | 3 => ⟨S256, .f32⟩
  | 4 => ⟨S256x4x256, .f32⟩
  | 5 => ⟨S_, .f32⟩
  | 6 => ⟨S256x4, .f32⟩
  | 7 => ⟨S256x4x1, .f32⟩
  | 8 => ⟨S256x4x256, .f32⟩
  | 9 => ⟨S256x4x256, .f32⟩
  | 10 => ⟨S256x4x1, .f32⟩
  | 11 => ⟨S_, .f32⟩
  | 12 => ⟨S256x4x1, .f32⟩
  | 13 => ⟨S256x4x1, .f32⟩
  | 14 => ⟨S_, .f32⟩
  | 15 => ⟨S256x4, .f32⟩
  | 16 => ⟨S256x4x256, .f32⟩
  | 17 => ⟨S256x4x256, .f32⟩
  | 18 => ⟨S256x4x256, .f32⟩
  | 19 => ⟨S256x4x256, .f32⟩
  | 20 => ⟨S256x4x256, .f32⟩
  | 21 => ⟨S256x1024, .f32⟩
  | 22 => ⟨S_, .f32⟩
  | 23 => ⟨S256x2048, .f32⟩
  | 24 => ⟨S256x2048, .f32⟩
  | 25 => ⟨S4096x4x256, .f32⟩
  | 26 => ⟨S_, .f32⟩
  | 27 => ⟨S256, .f32⟩
  | 28 => ⟨S1x1x256, .f32⟩
  | 29 => ⟨S4096x4x256, .f32⟩
  | 30 => ⟨S4096x4x256, .f32⟩
  | 31 => ⟨S_, .f32⟩
  | 32 => ⟨S256, .f32⟩
  | 33 => ⟨S4096x4x256, .f32⟩
  | 34 => ⟨S_, .f32⟩
  | 35 => ⟨S4096x4, .f32⟩
  | 36 => ⟨S4096x4x1, .f32⟩
  | 37 => ⟨S4096x4x256, .f32⟩
  | 38 => ⟨S4096x4x256, .f32⟩
  | 39 => ⟨S4096x4x1, .f32⟩
  | 40 => ⟨S_, .f32⟩
  | 41 => ⟨S4096x4x1, .f32⟩
  | 42 => ⟨S4096x4x1, .f32⟩
  | 43 => ⟨S_, .f32⟩
  | 44 => ⟨S4096x4, .f32⟩
  | 45 => ⟨S4096x4x256, .f32⟩
  | 46 => ⟨S4096x4x256, .f32⟩
  | 47 => ⟨S4096x4x256, .f32⟩
  | 48 => ⟨S4096x4x256, .f32⟩
  | 49 => ⟨S4096x4x256, .f32⟩
  | 50 => ⟨S4096x1024, .f32⟩
  | 51 => ⟨S4096x1024, .bf16⟩
  | 52 => ⟨S256x1024, .f32⟩
  | 53 => ⟨S256x1024, .f32⟩
  | 54 => ⟨S1x256, .f32⟩
  | 55 => ⟨S1x256, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_cst_11 : Ref sig .tc := ⟨.hbm, 65, rfl⟩
abbrev main_v48 : Ref sig .tc := ⟨.hbm, 66, rfl⟩
abbrev main_v49 : Ref sig .tc := ⟨.hbm, 67, rfl⟩
abbrev main_cst_12 : Ref sig .tc := ⟨.hbm, 68, rfl⟩
abbrev main_v50 : Ref sig .tc := ⟨.hbm, 69, rfl⟩
abbrev main_v51 : Ref sig .tc := ⟨.hbm, 70, rfl⟩
abbrev main_cst_13 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_cst_15 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_16 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_17 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_18 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_19 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_20 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_21 : Ref sig .tc := ⟨.hbm, 122, rfl⟩
abbrev main_v95 : Ref sig .tc := ⟨.hbm, 123, rfl⟩
abbrev main_v96 : Ref sig .tc := ⟨.hbm, 124, rfl⟩
abbrev main_cst_22 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_23 : Ref sig .tc := ⟨.hbm, 130, rfl⟩
abbrev main_v101 : Ref sig .tc := ⟨.hbm, 131, rfl⟩
abbrev main_v102 : Ref sig .tc := ⟨.hbm, 132, rfl⟩
abbrev main_cst_24 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_25 : Ref sig .tc := ⟨.hbm, 139, rfl⟩
abbrev main_v108 : Ref sig .tc := ⟨.hbm, 140, rfl⟩
abbrev main_v109 : Ref sig .tc := ⟨.hbm, 141, rfl⟩
abbrev main_cst_26 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_cst_27 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_cst_28 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_cst_29 : Ref sig .tc := ⟨.hbm, 159, rfl⟩
abbrev main_v124 : Ref sig .tc := ⟨.hbm, 160, rfl⟩
abbrev main_v125 : Ref sig .tc := ⟨.hbm, 161, rfl⟩
abbrev main_cst_30 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_cst_31 : Ref sig .tc := ⟨.hbm, 168, rfl⟩
abbrev main_v131 : Ref sig .tc := ⟨.hbm, 169, rfl⟩
abbrev main_v132 : Ref sig .tc := ⟨.hbm, 170, rfl⟩
abbrev main_cst_32 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩

abbrev nD : Nat := 1
abbrev τ : Topo := Topo.v7x

variable {F : FTy → Type} [FloatOps F]
-- ==== InDw.lean ====
abbrev S4096x12288 : Shape := ⟨2, ![4096, 12288]⟩
abbrev S4096x1024 : Shape := ⟨2, ![4096, 1024]⟩
abbrev S12288x1024 : Shape := ⟨2, ![12288, 1024]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x12288, .f32⟩
  | .hbm, ⟨1, _⟩ => ⟨S4096x1024, .f32⟩
  | .hbm, ⟨2, _⟩ => ⟨S4096x12288, .bf16⟩
  | .hbm, ⟨3, _⟩ => ⟨S4096x1024, .bf16⟩
  | .hbm, ⟨4, _⟩ => ⟨S12288x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![12, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefInDwIdeal.lean ====
abbrev S4096x12288 : Shape := ⟨2, ![4096, 12288]⟩
abbrev S4096x1024 : Shape := ⟨2, ![4096, 1024]⟩
abbrev S_ : Shape := ⟨0, ![]⟩
abbrev S12288x1024 : Shape := ⟨2, ![12288, 1024]⟩
abbrev S1024x12288 : Shape := ⟨2, ![1024, 12288]⟩

abbrev nBuf : Space → Nat
  | .hbm => 9
  | .vmem => 0
  | .smem => 0
  | _ => 0

abbrev bufTy : (tb : Table) → Fin (tcTables nBuf tb) → BufTy
  | .hbm, ⟨0, _⟩ => ⟨S4096x12288, .f32⟩
  | .hbm, ⟨1, _⟩ => ⟨S4096x1024, .f32⟩
  | .hbm, ⟨2, _⟩ => ⟨S_, .f32⟩
  | .hbm, ⟨3, _⟩ => ⟨S12288x1024, .f32⟩
  | .hbm, ⟨4, _⟩ => ⟨S1024x12288, .f32⟩
  | .hbm, ⟨5, _⟩ => ⟨S4096x12288, .f32⟩
  | .hbm, ⟨6, _⟩ => ⟨S12288x1024, .f32⟩
  | .hbm, ⟨7, _⟩ => ⟨S1024x12288, .f32⟩
  | .hbm, ⟨8, _⟩ => ⟨S12288x1024, .f32⟩
  | _, _ => ⟨S4096x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InDx.lean ====
abbrev S4096x12288 : Shape := ⟨2, ![4096, 12288]⟩
abbrev S12288x1024 : Shape := ⟨2, ![12288, 1024]⟩
abbrev S4096x1024 : Shape := ⟨2, ![4096, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x12288, .f32⟩
  | .hbm, ⟨1, _⟩ => ⟨S12288x1024, .f32⟩
  | .hbm, ⟨2, _⟩ => ⟨S4096x12288, .bf16⟩
  | .hbm, ⟨3, _⟩ => ⟨S12288x1024, .bf16⟩
  | .hbm, ⟨4, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 6], ![false, false, false]⟩

def k0_cond3 (i : grid0.Coords) : BitVec 1 :=
  let arg2 : BitVec 32 := BitVec.ofNat 32 (i 2).val
  let c5_i32_6 : BitVec 32 := 5#32
  let v13 : BitVec 1 := Scalar.cmpi .eq arg2 c5_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefInDxIdeal.lean ====
abbrev S4096x12288 : Shape := ⟨2, ![4096, 12288]⟩
abbrev S12288x1024 : Shape := ⟨2, ![12288, 1024]⟩
abbrev S_ : Shape := ⟨0, ![]⟩
abbrev S4096x1024 : Shape := ⟨2, ![4096, 1024]⟩
abbrev S1024x12288 : Shape := ⟨2, ![1024, 12288]⟩

abbrev nBuf : Space → Nat
  | .hbm => 7
  | .vmem => 0
  | .smem => 0
  | _ => 0

abbrev bufTy : (tb : Table) → Fin (tcTables nBuf tb) → BufTy
  | .hbm, ⟨0, _⟩ => ⟨S4096x12288, .f32⟩
  | .hbm, ⟨1, _⟩ => ⟨S12288x1024, .f32⟩
  | .hbm, ⟨2, _⟩ => ⟨S_, .f32⟩
  | .hbm, ⟨3, _⟩ => ⟨S4096x1024, .f32⟩
  | .hbm, ⟨4, _⟩ => ⟨S1024x12288, .f32⟩
  | .hbm, ⟨5, _⟩ => ⟨S4096x12288, .f32⟩
  | .hbm, ⟨6, _⟩ => ⟨S4096x1024, .f32⟩
  | _, _ => ⟨S4096x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownDx.lean ====
abbrev S4096x1024 : Shape := ⟨2, ![4096, 1024]⟩
abbrev S4096x4096 : Shape := ⟨2, ![4096, 4096]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x4096, .f32⟩
  | .hbm, ⟨3, _⟩ => ⟨S4096x1024, .bf16⟩
  | .hbm, ⟨4, _⟩ => ⟨S4096x4096, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefDownDxIdeal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== DownDw.lean ====
abbrev S4096x4096 : Shape := ⟨2, ![4096, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x4096, .bf16⟩
  | .hbm, ⟨3, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDownDwIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S1024x4096, .f32⟩
  | .hbm, ⟨6, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UpDw.lean ====
abbrev S4096x1024 : Shape := ⟨2, ![4096, 1024]⟩
abbrev S4096x4096 : Shape := ⟨2, ![4096, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S4096x4096, .bf16⟩
  | .hbm, ⟨4, _⟩ => ⟨S1024x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefUpDwIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UpDx.lean ====
abbrev S4096x4096 : Shape := ⟨2, ![4096, 4096]⟩
abbrev S1024x4096 : Shape := ⟨2, ![1024, 4096]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S4096x4096, .bf16⟩
  | .hbm, ⟨3, _⟩ => ⟨S1024x4096, .bf16⟩
  | .hbm, ⟨4, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefUpDxIdeal.lean ====
abbrev S4096x4096 : Shape := ⟨2, ![4096, 4096]⟩
abbrev S1024x4096 : Shape := ⟨2, ![1024, 4096]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MergeBwd.lean ====
abbrev S4096x12288 : Shape := ⟨2, ![4096, 12288]⟩
abbrev S4096x1024 : Shape := ⟨2, ![4096, 1024]⟩
abbrev S3x1024 : Shape := ⟨2, ![3, 1024]⟩
abbrev S1x3072 : Shape := ⟨2, ![1, 3072]⟩
abbrev S256x1024 : Shape := ⟨2, ![256, 1024]⟩
abbrev S1x1024 : Shape := ⟨2, ![1, 1024]⟩
abbrev S1024 : Shape := ⟨1, ![1024]⟩
abbrev S1x2048 : Shape := ⟨2, ![1, 2048]⟩

abbrev nBuf : Space → Nat
  | .hbm => 14
  | .vmem => 28
  | .smem => 0
  | _ => 0

abbrev bufTy : (tb : Table) → Fin (tcTables nBuf tb) → BufTy
  | .hbm, ⟨0, _⟩ => ⟨S4096x12288, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S3x1024, .f32⟩
  | .hbm, ⟨5, _⟩ => ⟨S4096x1024, .f32⟩
  | .hbm, ⟨6, _⟩ => ⟨S1x3072, .f32⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S4096x1024, .bf16⟩
  | .hbm, ⟨13, _⟩ => ⟨S1x3072, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x3072, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S1x3072, .f32⟩
  | _, _ => ⟨S4096x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev main_v1_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x3072 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== RefMergeBwdIdeal.lean ====
abbrev S4096x12288 : Shape := ⟨2, ![4096, 12288]⟩
abbrev S4096x1024 : Shape := ⟨2, ![4096, 1024]⟩
abbrev S3x1024 : Shape := ⟨2, ![3, 1024]⟩
abbrev S4096x3072 : Shape := ⟨2, ![4096, 3072]⟩
abbrev S4096x3x1024 : Shape := ⟨3, ![4096, 3, 1024]⟩
abbrev S1x3x1024 : Shape := ⟨3, ![1, 3, 1024]⟩
abbrev S_ : Shape := ⟨0, ![]⟩
abbrev S4096x1x1024 : Shape := ⟨3, ![4096, 1, 1024]⟩
abbrev S1x3072 : Shape := ⟨2, ![1, 3072]⟩

abbrev nBuf : Space → Nat
  | .hbm => 70
  | .vmem => 0
  | .smem => 0
  | _ => 0

abbrev bufTy : (tb : Table) → Fin (tcTables nBuf tb) → BufTy
  | .hbm, ⟨0, _⟩ => ⟨S4096x12288, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S3x1024, .f32⟩
  | .hbm, ⟨5, _⟩ => ⟨S4096x1024, .f32⟩
  | .hbm, ⟨6, _⟩ => ⟨S4096x3072, .f32⟩
  | .hbm, ⟨7, _⟩ => ⟨S4096x3x1024, .f32⟩
  | .hbm, ⟨8, _⟩ => ⟨S1x3x1024, .f32⟩
  | .hbm, ⟨9, _⟩ => ⟨S4096x3x1024, .f32⟩
  | .hbm, ⟨10, _⟩ => ⟨S4096x3x1024, .f32⟩
  | .hbm, ⟨11, _⟩ => ⟨S4096x3x1024, .f32⟩
  | .hbm, ⟨12, _⟩ => ⟨S4096x3x1024, .f32⟩
  | .hbm, ⟨13, _⟩ => ⟨S_, .f32⟩
  | .hbm, ⟨14, _⟩ => ⟨S4096x3x1024, .f32⟩
  | .hbm, ⟨15, _⟩ => ⟨S4096x3x1024, .f32⟩
  | .hbm, ⟨16, _⟩ => ⟨S_, .f32⟩
  | .hbm, ⟨17, _⟩ => ⟨S4096x3x1024, .f32⟩
  | .hbm, ⟨18, _⟩ => ⟨S4096x3x1024, .f32⟩
  | .hbm, ⟨19, _⟩ => ⟨S_, .f32⟩
  | .hbm, ⟨20, _⟩ => ⟨S4096x3x1024, .f32⟩
  | .hbm, ⟨21, _⟩ => ⟨S4096x3x1024, .f32⟩
  | .hbm, ⟨22, _⟩ => ⟨S4096x3x1024, .f32⟩
  | .hbm, ⟨23, _⟩ => ⟨S4096x1x1024, .f32⟩
  | .hbm, ⟨24, _⟩ => ⟨S4096x1024, .f32⟩
  | .hbm, ⟨25, _⟩ => ⟨S4096x1024, .f32⟩
  | .hbm, ⟨26, _⟩ => ⟨S4096x1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1x1024, .f32⟩
  | .hbm, ⟨39, _⟩ => ⟨S_, .f32⟩
  | .hbm, ⟨40, _⟩ => ⟨S4096x3x1024, .f32⟩
  | .hbm, ⟨41, _⟩ => ⟨S4096x1024, .f32⟩
  | .hbm, ⟨42, _⟩ => ⟨S4096x1024, .f32⟩
  | .hbm, ⟨43, _⟩ => ⟨S4096x1x1024, .f32⟩
  | .hbm, ⟨44, _⟩ => ⟨S_, .f32⟩
  | .hbm, ⟨45, _⟩ => ⟨S4096x3x1024, .f32⟩
  | .hbm, ⟨46, _⟩ => ⟨S4096x3x1024, .f32⟩
  | .hbm, ⟨47, _⟩ => ⟨S4096x1024, .f32⟩
  | .hbm, ⟨48, _⟩ => ⟨S4096x1024, .f32⟩
  | .hbm, ⟨49, _⟩ => ⟨S4096x1x1024, .f32⟩
  | .hbm, ⟨50, _⟩ => ⟨S_, .f32⟩
  | .hbm, ⟨51, _⟩ => ⟨S4096x3x1024, .f32⟩
  | .hbm, ⟨52, _⟩ => ⟨S4096x3x1024, .f32⟩
  | .hbm, ⟨53, _⟩ => ⟨S4096x3x1024, .f32⟩
  | .hbm, ⟨54, _⟩ => ⟨S_, .f32⟩
  | .hbm, ⟨55, _⟩ => ⟨S3x1024, .f32⟩
  | .hbm, ⟨56, _⟩ => ⟨S1x3x1024, .f32⟩
  | .hbm, ⟨57, _⟩ => ⟨S_, .f32⟩
  | .hbm, ⟨58, _⟩ => ⟨S3x1024, .f32⟩
  | .hbm, ⟨59, _⟩ => ⟨S4096x3072, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .bf16⟩
  | .hbm, ⟨64, _⟩ => ⟨S4096x1024, .bf16⟩
  | .hbm, ⟨65, _⟩ => ⟨S4096x1024, .bf16⟩
  | .hbm, ⟨66, _⟩ => ⟨S4096x1024, .bf16⟩
  | .hbm, ⟨67, _⟩ => ⟨S4096x1024, .bf16⟩
  | .hbm, ⟨68, _⟩ => ⟨S4096x1024, .bf16⟩
  | .hbm, ⟨69, _⟩ => ⟨S1x3072, .f32⟩
  | _, _ => ⟨S4096x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩

abbrev nD : Nat := 1
abbrev τ : Topo := Topo.v7x

variable {F : FTy → Type} [FloatOps F]
-- ==== RmsBwd.lean ====
abbrev S4096x1024 : Shape := ⟨2, ![4096, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RefRmsBwdIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== LnSiluBwd.lean ====
abbrev S4096x1024 : Shape := ⟨2, ![4096, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S1x1024, .f32⟩
  | .hbm, ⟨8, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RefLnSiluBwdIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 95
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S_, .f32⟩
  | .hbm, ⟨56, _⟩ => ⟨S1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S4096x1024, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S4096x1024, .f32⟩
  | .hbm, ⟨70, _⟩ => ⟨S4096x1024, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S_, .f32⟩
  | .hbm, ⟨76, _⟩ => ⟨S4096, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S_, .f32⟩
  | .hbm, ⟨90, _⟩ => ⟨S4096, .f32⟩
  | .hbm, ⟨91, _⟩ => ⟨S4096x1024, .f32⟩
  | .hbm, ⟨92, _⟩ => ⟨S4096x1024, .f32⟩
  | .hbm, ⟨93, _⟩ => ⟨S1x1024, .f32⟩
  | .hbm, ⟨94, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v25_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v25_1 : Ref sig .tc := ⟨.hbm, 46, rfl⟩
abbrev main_v25_0 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_cst_7 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_8 : Ref sig .tc := ⟨.hbm, 63, rfl⟩
abbrev main_v35 : Ref sig .tc := ⟨.hbm, 64, rfl⟩
abbrev main_v36 : Ref sig .tc := ⟨.hbm, 65, rfl⟩
abbrev main_cst_9 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_10 : Ref sig .tc := ⟨.hbm, 72, rfl⟩
abbrev main_v42 : Ref sig .tc := ⟨.hbm, 73, rfl⟩
abbrev main_v43 : Ref sig .tc := ⟨.hbm, 74, rfl⟩
abbrev main_cst_11 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_12 : Ref sig .tc := ⟨.hbm, 83, rfl⟩
abbrev main_v51 : Ref sig .tc := ⟨.hbm, 84, rfl⟩
abbrev main_v52 : Ref sig .tc := ⟨.hbm, 85, rfl⟩
abbrev main_cst_13 : Ref sig .tc := ⟨.hbm, 86, rfl⟩
abbrev main_v53 : Ref sig .tc := ⟨.hbm, 87, rfl⟩
abbrev main_v54 : Ref sig .tc := ⟨.hbm, 88, rfl⟩
abbrev main_cst_14 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩

abbrev nD : Nat := 1
abbrev τ : Topo := Topo.v7x

variable {F : FTy → Type} [FloatOps F]
-- ==== SsdOutDw.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x2048, .bf16⟩
  | .hbm, ⟨3, _⟩ => ⟨S4096x1024, .bf16⟩
  | .hbm, ⟨4, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefSsdOutDwIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S_, .f32⟩
  | .hbm, ⟨3, _⟩ => ⟨S2048x1024, .f32⟩
  | .hbm, ⟨4, _⟩ => ⟨S4096x1024, .f32⟩
  | .hbm, ⟨5, _⟩ => ⟨S1024x2048, .f32⟩
  | .hbm, ⟨6, _⟩ => ⟨S2048x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== SsdOutDx.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2048x1024, .f32⟩
  | .hbm, ⟨2, _⟩ => ⟨S4096x1024, .bf16⟩
  | .hbm, ⟨3, _⟩ => ⟨S2048x1024, .bf16⟩
  | .hbm, ⟨4, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefSsdOutDxIdeal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2048x1024, .f32⟩
  | .hbm, ⟨2, _⟩ => ⟨S_, .f32⟩
  | .hbm, ⟨3, _⟩ => ⟨S4096x2048, .f32⟩
  | .hbm, ⟨4, _⟩ => ⟨S4096x1024, .f32⟩
  | .hbm, ⟨5, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== XoDw.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefXoDwIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== XoDx.lean ====
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .bf16⟩
  | .hbm, ⟨3, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefXoDxIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ConvOutDw.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefConvOutDwIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ConvOutDx.lean ====
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefConvOutDxIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MmIn.lean ====
abbrev S4096x1024 : Shape := ⟨2, ![4096, 1024]⟩
abbrev S12288x1024 : Shape := ⟨2, ![12288, 1024]⟩
abbrev S4096x12288 : Shape := ⟨2, ![4096, 12288]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S12288x1024, .f32⟩
  | .hbm, ⟨2, _⟩ => ⟨S4096x1024, .bf16⟩
  | .hbm, ⟨3, _⟩ => ⟨S12288x1024, .bf16⟩
  | .hbm, ⟨4, _⟩ => ⟨S4096x12288, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefMmInIdeal.lean ====
abbrev S4096x1024 : Shape := ⟨2, ![4096, 1024]⟩
abbrev S12288x1024 : Shape := ⟨2, ![12288, 1024]⟩
abbrev S1024x12288 : Shape := ⟨2, ![1024, 12288]⟩
abbrev S4096x12288 : Shape := ⟨2, ![4096, 12288]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S12288x1024, .f32⟩
  | .hbm, ⟨2, _⟩ => ⟨S1024x12288, .f32⟩
  | .hbm, ⟨3, _⟩ => ⟨S4096x12288, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmUp.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .bf16⟩
  | .hbm, ⟨3, _⟩ => ⟨S1024x4096, .bf16⟩
  | .hbm, ⟨4, _⟩ => ⟨S4096x4096, .f32⟩
  | .hbm, ⟨5, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefMmUpIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== MmDown.lean ====
abbrev S4096x4096 : Shape := ⟨2, ![4096, 4096]⟩
abbrev S4096x1024 : Shape := ⟨2, ![4096, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x4096, .bf16⟩
  | .hbm, ⟨4, _⟩ => ⟨S4096x1024, .bf16⟩
  | .hbm, ⟨5, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefMmDownIdeal.lean ====
abbrev S4096x4096 : Shape := ⟨2, ![4096, 4096]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== MmSsdOut.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x2048, .bf16⟩
  | .hbm, ⟨3, _⟩ => ⟨S2048x1024, .bf16⟩
  | .hbm, ⟨4, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefMmSsdOutIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MmConvOut.lean ====
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefMmConvOutIdeal.lean ====
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MmXo.lean ====
abbrev S4096x1024 : Shape := ⟨2, ![4096, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefMmXoIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== ConvBBwd.lean ====
abbrev S4096x3072 : Shape := ⟨2, ![4096, 3072]⟩
abbrev S4096x12288 : Shape := ⟨2, ![4096, 12288]⟩
abbrev S4x3072 : Shape := ⟨2, ![4, 3072]⟩
abbrev S3072 : Shape := ⟨1, ![3072]⟩
abbrev S_ : Shape := ⟨0, ![]⟩
abbrev S3x3072 : Shape := ⟨2, ![3, 3072]⟩
abbrev S4099x3072 : Shape := ⟨2, ![4099, 3072]⟩
abbrev S1x3072 : Shape := ⟨2, ![1, 3072]⟩
abbrev S512x256 : Shape := ⟨2, ![512, 256]⟩
abbrev S32x256 : Shape := ⟨2, ![32, 256]⟩
abbrev S4x256 : Shape := ⟨2, ![4, 256]⟩
abbrev S1x256 : Shape := ⟨2, ![1, 256]⟩
abbrev S544x256 : Shape := ⟨2, ![544, 256]⟩
abbrev S128x256 : Shape := ⟨2, ![128, 256]⟩
abbrev S256 : Shape := ⟨1, ![256]⟩

abbrev nBuf : Space → Nat
  | .hbm => 41
  | .vmem => 22
  | .smem => 0
  | _ => 0

abbrev bufTy : (tb : Table) → Fin (tcTables nBuf tb) → BufTy
  | .hbm, ⟨0, _⟩ => ⟨S4096x3072, .f32⟩
  | .hbm, ⟨1, _⟩ => ⟨S4096x12288, .f32⟩
  | .hbm, ⟨2, _⟩ => ⟨S4x3072, .f32⟩
  | .hbm, ⟨3, _⟩ => ⟨S3072, .f32⟩
  | .hbm, ⟨4, _⟩ => ⟨S4096x3072, .f32⟩
  | .hbm, ⟨5, _⟩ => ⟨S_, .f32⟩
  | .hbm, ⟨6, _⟩ => ⟨S3x3072, .f32⟩
  | .hbm, ⟨7, _⟩ => ⟨S4099x3072, .f32⟩
  | .hbm, ⟨8, _⟩ => ⟨S1x3072, .f32⟩
  | .hbm, ⟨9, _⟩ => ⟨S3072, .f32⟩
  | .hbm, ⟨10, _⟩ => ⟨S4096x3072, .f32⟩
  | .hbm, ⟨11, _⟩ => ⟨S1x3072, .f32⟩
  | .hbm, ⟨12, _⟩ => ⟨S4096x3072, .f32⟩
  | .hbm, ⟨13, _⟩ => ⟨S4096x3072, .f32⟩
  | .hbm, ⟨14, _⟩ => ⟨S1x3072, .f32⟩
  | .hbm, ⟨15, _⟩ => ⟨S3072, .f32⟩
  | .hbm, ⟨16, _⟩ => ⟨S4096x3072, .f32⟩
  | .hbm, ⟨17, _⟩ => ⟨S1x3072, .f32⟩
  | .hbm, ⟨18, _⟩ => ⟨S4096x3072, .f32⟩
  | .hbm, ⟨19, _⟩ => ⟨S4096x3072, .f32⟩
  | .hbm, ⟨20, _⟩ => ⟨S4096x3072, .f32⟩
  | .hbm, ⟨21, _⟩ => ⟨S1x3072, .f32⟩
  | .hbm, ⟨22, _⟩ => ⟨S3072, .f32⟩
  | .hbm, ⟨23, _⟩ => ⟨S4096x3072, .f32⟩
  | .hbm, ⟨24, _⟩ => ⟨S1x3072, .f32⟩
  | .hbm, ⟨25, _⟩ => ⟨S4096x3072, .f32⟩
  | .hbm, ⟨26, _⟩ => ⟨S4096x3072, .f32⟩
  | .hbm, ⟨27, _⟩ => ⟨S4096x3072, .f32⟩
  | .hbm, ⟨28, _⟩ => ⟨S1x3072, .f32⟩
  | .hbm, ⟨29, _⟩ => ⟨S3072, .f32⟩
  | .hbm, ⟨30, _⟩ => ⟨S4096x3072, .f32⟩
  | .hbm, ⟨31, _⟩ => ⟨S1x3072, .f32⟩
  | .hbm, ⟨32, _⟩ => ⟨S4096x3072, .f32⟩
  | .hbm, ⟨33, _⟩ => ⟨S4096x3072, .f32⟩
  | .hbm, ⟨34, _⟩ => ⟨S4096x3072, .f32⟩
  | .hbm, ⟨35, _⟩ => ⟨S1x3072, .f32⟩
  | .hbm, ⟨36, _⟩ => ⟨S4096x3072, .f32⟩
  | .hbm, ⟨37, _⟩ => ⟨S4096x3072, .f32⟩
  | .hbm, ⟨38, _⟩ => ⟨S4096x3072, .bf16⟩
  | .hbm, ⟨39, _⟩ => ⟨S4x3072, .f32⟩
  | .hbm, ⟨40, _⟩ => ⟨S1x3072, .f32⟩
  | .local _ .vmem, ⟨0, _⟩ => ⟨S512x256, .f32⟩
  | .local _ .vmem, ⟨1, _⟩ => ⟨S512x256, .f32⟩
  | .local _ .vmem, ⟨2, _⟩ => ⟨S32x256, .f32⟩
  | .local _ .vmem, ⟨3, _⟩ => ⟨S32x256, .f32⟩
  | .local _ .vmem, ⟨4, _⟩ => ⟨S512x256, .f32⟩
  | .local _ .vmem, ⟨5, _⟩ => ⟨S512x256, .f32⟩
  | .local _ .vmem, ⟨6, _⟩ => ⟨S32x256, .f32⟩
  | .local _ .vmem, ⟨7, _⟩ => ⟨S32x256, .f32⟩
  | .local _ .vmem, ⟨8, _⟩ => ⟨S512x256, .f32⟩
  | .local _ .vmem, ⟨9, _⟩ => ⟨S512x256, .f32⟩
  | .local _ .vmem, ⟨10, _⟩ => ⟨S32x256, .f32⟩
  | .local _ .vmem, ⟨11, _⟩ => ⟨S32x256, .f32⟩
  | .local _ .vmem, ⟨12, _⟩ => ⟨S4x256, .f32⟩
  | .local _ .vmem, ⟨13, _⟩ => ⟨S4x256, .f32⟩
  | .local _ .vmem, ⟨14, _⟩ => ⟨S512x256, .bf16⟩
  | .local _ .vmem, ⟨15, _⟩ => ⟨S512x256, .bf16⟩
  | .local _ .vmem, ⟨16, _⟩ => ⟨S4x256, .f32⟩
  | .local _ .vmem, ⟨17, _⟩ => ⟨S4x256, .f32⟩
  | .local _ .vmem, ⟨18, _⟩ => ⟨S1x256, .f32⟩
  | .local _ .vmem, ⟨19, _⟩ => ⟨S1x256, .f32⟩
  | .local _ .vmem, ⟨20, _⟩ => ⟨S544x256, .f32⟩
  | .local _ .vmem, ⟨21, _⟩ => ⟨S544x256, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33_0 : Ref sig .tc := ⟨.hbm, 38, rfl⟩
abbrev main_v33_1 : Ref sig .tc := ⟨.hbm, 39, rfl⟩
abbrev main_v33_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![12, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c16_i32_0 : BitVec 32 := 16#32
  let v3 : BitVec 32 := Scalar.addi c16_i32_0 arg0
  let c0_i32_1 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== RefConvBBwdIdeal.lean ====
abbrev S4096x3072 : Shape := ⟨2, ![4096, 3072]⟩
abbrev S4096x12288 : Shape := ⟨2, ![4096, 12288]⟩
abbrev S4x3072 : Shape := ⟨2, ![4, 3072]⟩
abbrev S3072 : Shape := ⟨1, ![3072]⟩
abbrev S_ : Shape := ⟨0, ![]⟩
abbrev S3x3072 : Shape := ⟨2, ![3, 3072]⟩
abbrev S4099x3072 : Shape := ⟨2, ![4099, 3072]⟩
abbrev S1x3072 : Shape := ⟨2, ![1, 3072]⟩

abbrev nBuf : Space → Nat
  | .hbm => 124
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x12288, .f32⟩
  | .hbm, ⟨2, _⟩ => ⟨S4x3072, .f32⟩
  | .hbm, ⟨3, _⟩ => ⟨S3072, .f32⟩
  | .hbm, ⟨4, _⟩ => ⟨S4096x3072, .f32⟩
  | .hbm, ⟨5, _⟩ => ⟨S_, .f32⟩
  | .hbm, ⟨6, _⟩ => ⟨S3x3072, .f32⟩
  | .hbm, ⟨7, _⟩ => ⟨S4099x3072, .f32⟩
  | .hbm, ⟨8, _⟩ => ⟨S_, .f32⟩
  | .hbm, ⟨9, _⟩ => ⟨S3x3072, .f32⟩
  | .hbm, ⟨10, _⟩ => ⟨S1x3072, .f32⟩
  | .hbm, ⟨11, _⟩ => ⟨S3072, .f32⟩
  | .hbm, ⟨12, _⟩ => ⟨S4096x3072, .f32⟩
  | .hbm, ⟨13, _⟩ => ⟨S1x3072, .f32⟩
  | .hbm, ⟨14, _⟩ => ⟨S4096x3072, .f32⟩
  | .hbm, ⟨15, _⟩ => ⟨S4096x3072, .f32⟩
  | .hbm, ⟨16, _⟩ => ⟨S1x3072, .f32⟩
  | .hbm, ⟨17, _⟩ => ⟨S3072, .f32⟩
  | .hbm, ⟨18, _⟩ => ⟨S4096x3072, .f32⟩
  | .hbm, ⟨19, _⟩ => ⟨S1x3072, .f32⟩
  | .hbm, ⟨20, _⟩ => ⟨S4096x3072, .f32⟩
  | .hbm, ⟨21, _⟩ => ⟨S4096x3072, .f32⟩
  | .hbm, ⟨22, _⟩ => ⟨S4096x3072, .f32⟩
  | .hbm, ⟨23, _⟩ => ⟨S1x3072, .f32⟩
  | .hbm, ⟨24, _⟩ => ⟨S3072, .f32⟩
  | .hbm, ⟨25, _⟩ => ⟨S4096x3072, .f32⟩
  | .hbm, ⟨26, _⟩ => ⟨S1x3072, .f32⟩
  | .hbm, ⟨27, _⟩ => ⟨S4096x3072, .f32⟩
  | .hbm, ⟨28, _⟩ => ⟨S4096x3072, .f32⟩
  | .hbm, ⟨29, _⟩ => ⟨S4096x3072, .f32⟩
  | .hbm, ⟨30, _⟩ => ⟨S1x3072, .f32⟩
  | .hbm, ⟨31, _⟩ => ⟨S3072, .f32⟩
  | .hbm, ⟨32, _⟩ => ⟨S4096x3072, .f32⟩
  | .hbm, ⟨33, _⟩ => ⟨S1x3072, .f32⟩
  | .hbm, ⟨34, _⟩ => ⟨S4096x3072, .f32⟩
  | .hbm, ⟨35, _⟩ => ⟨S4096x3072, .f32⟩
  | .hbm, ⟨36, _⟩ => ⟨S4096x3072, .f32⟩
  | .hbm, ⟨37, _⟩ => ⟨S1x3072, .f32⟩
  | .hbm, ⟨38, _⟩ => ⟨S4096x3072, .f32⟩
  | .hbm, ⟨39, _⟩ => ⟨S4096x3072, .f32⟩
  | .hbm, ⟨40, _⟩ => ⟨S4096x3072, .f32⟩
  | .hbm, ⟨41, _⟩ => ⟨S4096x3072, .f32⟩
  | .hbm, ⟨42, _⟩ => ⟨S_, .f32⟩
  | .hbm, ⟨43, _⟩ => ⟨S4096x3072, .f32⟩
  | .hbm, ⟨44, _⟩ => ⟨S4096x3072, .f32⟩
  | .hbm, ⟨45, _⟩ => ⟨S_, .f32⟩
  | .hbm, ⟨46, _⟩ => ⟨S4096x3072, .f32⟩
  | .hbm, ⟨47, _⟩ => ⟨S4096x3072, .f32⟩
  | .hbm, ⟨48, _⟩ => ⟨S_, .f32⟩
  | .hbm, ⟨49, _⟩ => ⟨S4096x3072, .f32⟩
  | .hbm, ⟨50, _⟩ => ⟨S4096x3072, .f32⟩
  | .hbm, ⟨51, _⟩ => ⟨S4096x3072, .f32⟩
  | .hbm, ⟨52, _⟩ => ⟨S4096x3072, .f32⟩
  | .hbm, ⟨53, _⟩ => ⟨S4096x3072, .f32⟩
  | .hbm, ⟨54, _⟩ => ⟨S4096x3072, .f32⟩
  | .hbm, ⟨55, _⟩ => ⟨S4096x3072, .f32⟩
  | .hbm, ⟨56, _⟩ => ⟨S4096x3072, .f32⟩
  | .hbm, ⟨57, _⟩ => ⟨S_, .f32⟩
  | .hbm, ⟨58, _⟩ => ⟨S3072, .f32⟩
  | .hbm, ⟨59, _⟩ => ⟨S1x3072, .f32⟩
  | .hbm, ⟨60, _⟩ => ⟨S_, .f32⟩
  | .hbm, ⟨61, _⟩ => ⟨S3072, .f32⟩
  | .hbm, ⟨62, _⟩ => ⟨S4096x3072, .f32⟩
  | .hbm, ⟨63, _⟩ => ⟨S4096x3072, .f32⟩
  | .hbm, ⟨64, _⟩ => ⟨S4096x3072, .f32⟩
  | .hbm, ⟨65, _⟩ => ⟨S_, .f32⟩
  | .hbm, ⟨66, _⟩ => ⟨S3072, .f32⟩
  | .hbm, ⟨67, _⟩ => ⟨S1x3072, .f32⟩
  | .hbm, ⟨68, _⟩ => ⟨S_, .f32⟩
  | .hbm, ⟨69, _⟩ => ⟨S3072, .f32⟩
  | .hbm, ⟨70, _⟩ => ⟨S_, .f32⟩
  | .hbm, ⟨71, _⟩ => ⟨S4099x3072, .f32⟩
  | .hbm, ⟨72, _⟩ => ⟨S1x3072, .f32⟩
  | .hbm, ⟨73, _⟩ => ⟨S_, .f32⟩
  | .hbm, ⟨74, _⟩ => ⟨S4x3072, .f32⟩
  | .hbm, ⟨75, _⟩ => ⟨S4096x3072, .f32⟩
  | .hbm, ⟨76, _⟩ => ⟨S4096x3072, .f32⟩
  | .hbm, ⟨77, _⟩ => ⟨S4096x3072, .f32⟩
  | .hbm, ⟨78, _⟩ => ⟨S_, .f32⟩
  | .hbm, ⟨79, _⟩ => ⟨S3072, .f32⟩
  | .hbm, ⟨80, _⟩ => ⟨S1x3072, .f32⟩
  | .hbm, ⟨81, _⟩ => ⟨S_, .f32⟩
  | .hbm, ⟨82, _⟩ => ⟨S3072, .f32⟩
  | .hbm, ⟨83, _⟩ => ⟨S_, .f32⟩
  | .hbm, ⟨84, _⟩ => ⟨S4099x3072, .f32⟩
  | .hbm, ⟨85, _⟩ => ⟨S4099x3072, .f32⟩
  | .hbm, ⟨86, _⟩ => ⟨S1x3072, .f32⟩
  | .hbm, ⟨87, _⟩ => ⟨S_, .f32⟩
  | .hbm, ⟨88, _⟩ => ⟨S4x3072, .f32⟩
  | .hbm, ⟨89, _⟩ => ⟨S4x3072, .f32⟩
  | .hbm, ⟨90, _⟩ => ⟨S4096x3072, .f32⟩
  | .hbm, ⟨91, _⟩ => ⟨S4096x3072, .f32⟩
  | .hbm, ⟨92, _⟩ => ⟨S4096x3072, .f32⟩
  | .hbm, ⟨93, _⟩ => ⟨S_, .f32⟩
  | .hbm, ⟨94, _⟩ => ⟨S3072, .f32⟩
  | .hbm, ⟨95, _⟩ => ⟨S1x3072, .f32⟩
  | .hbm, ⟨96, _⟩ => ⟨S_, .f32⟩
  | .hbm, ⟨97, _⟩ => ⟨S3072, .f32⟩
  | .hbm, ⟨98, _⟩ => ⟨S_, .f32⟩
  | .hbm, ⟨99, _⟩ => ⟨S4099x3072, .f32⟩
  | .hbm, ⟨100, _⟩ => ⟨S4099x3072, .f32⟩
  | .hbm, ⟨101, _⟩ => ⟨S1x3072, .f32⟩
  | .hbm, ⟨102, _⟩ => ⟨S_, .f32⟩
  | .hbm, ⟨103, _⟩ => ⟨S4x3072, .f32⟩
  | .hbm, ⟨104, _⟩ => ⟨S4x3072, .f32⟩
  | .hbm, ⟨105, _⟩ => ⟨S4096x3072, .f32⟩
  | .hbm, ⟨106, _⟩ => ⟨S4096x3072, .f32⟩
  | .hbm, ⟨107, _⟩ => ⟨S4096x3072, .f32⟩
  | .hbm, ⟨108, _⟩ => ⟨S_, .f32⟩
  | .hbm, ⟨109, _⟩ => ⟨S3072, .f32⟩
  | .hbm, ⟨110, _⟩ => ⟨S1x3072, .f32⟩
  | .hbm, ⟨111, _⟩ => ⟨S_, .f32⟩
  | .hbm, ⟨112, _⟩ => ⟨S3072, .f32⟩
  | .hbm, ⟨113, _⟩ => ⟨S_, .f32⟩
  | .hbm, ⟨114, _⟩ => ⟨S4099x3072, .f32⟩
  | .hbm, ⟨115, _⟩ => ⟨S4099x3072, .f32⟩
  | .hbm, ⟨116, _⟩ => ⟨S1x3072, .f32⟩
  | .hbm, ⟨117, _⟩ => ⟨S_, .f32⟩
  | .hbm, ⟨118, _⟩ => ⟨S4x3072, .f32⟩
  | .hbm, ⟨119, _⟩ => ⟨S4x3072, .f32⟩
  | .hbm, ⟨120, _⟩ => ⟨S3x3072, .f32⟩
  | .hbm, ⟨121, _⟩ => ⟨S4096x3072, .f32⟩
  | .hbm, ⟨122, _⟩ => ⟨S4096x3072, .bf16⟩
  | .hbm, ⟨123, _⟩ => ⟨S1x3072, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v34_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v34_1 : Ref sig .tc := ⟨.hbm, 51, rfl⟩
abbrev main_v34_0 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v35 : Ref sig .tc := ⟨.hbm, 56, rfl⟩
abbrev main_cst_1 : Ref sig .tc := ⟨.hbm, 57, rfl⟩
abbrev main_v36 : Ref sig .tc := ⟨.hbm, 58, rfl⟩
abbrev main_v37 : Ref sig .tc := ⟨.hbm, 59, rfl⟩
abbrev main_cst_2 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_3 : Ref sig .tc := ⟨.hbm, 65, rfl⟩
abbrev main_v42 : Ref sig .tc := ⟨.hbm, 66, rfl⟩
abbrev main_v43 : Ref sig .tc := ⟨.hbm, 67, rfl⟩
abbrev main_cst_4 : Ref sig .tc := ⟨.hbm, 68, rfl⟩
abbrev main_v44 : Ref sig .tc := ⟨.hbm, 69, rfl⟩
abbrev main_cst_5 : Ref sig .tc := ⟨.hbm, 70, rfl⟩
abbrev main_v45 : Ref sig .tc := ⟨.hbm, 71, rfl⟩
abbrev main_v46 : Ref sig .tc := ⟨.hbm, 72, rfl⟩
abbrev main_cst_6 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_7 : Ref sig .tc := ⟨.hbm, 78, rfl⟩
abbrev main_v51 : Ref sig .tc := ⟨.hbm, 79, rfl⟩
abbrev main_v52 : Ref sig .tc := ⟨.hbm, 80, rfl⟩
abbrev main_cst_8 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_v63 : Ref sig .tc := ⟨.hbm, 95, rfl⟩
abbrev main_cst_12 : Ref sig .tc := ⟨.hbm, 96, rfl⟩
abbrev main_v64 : Ref sig .tc := ⟨.hbm, 97, rfl⟩
abbrev main_cst_13 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_14 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_15 : Ref sig .tc := ⟨.hbm, 108, rfl⟩
abbrev main_v73 : Ref sig .tc := ⟨.hbm, 109, rfl⟩
abbrev main_v74 : Ref sig .tc := ⟨.hbm, 110, rfl⟩
abbrev main_cst_16 : Ref sig .tc := ⟨.hbm, 111, rfl⟩
abbrev main_v75 : Ref sig .tc := ⟨.hbm, 112, rfl⟩
abbrev main_cst_17 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_18 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩

abbrev nD : Nat := 1
abbrev τ : Topo := Topo.v7x

variable {F : FTy → Type} [FloatOps F]
-- ==== ConvB.lean ====
abbrev S4096x12288 : Shape := ⟨2, ![4096, 12288]⟩
abbrev S4x3072 : Shape := ⟨2, ![4, 3072]⟩
abbrev S3072 : Shape := ⟨1, ![3072]⟩
abbrev S1x3072 : Shape := ⟨2, ![1, 3072]⟩
abbrev S4096x3072 : Shape := ⟨2, ![4096, 3072]⟩
abbrev S512x256 : Shape := ⟨2, ![512, 256]⟩
abbrev S32x256 : Shape := ⟨2, ![32, 256]⟩
abbrev S4x256 : Shape := ⟨2, ![4, 256]⟩
abbrev S1x256 : Shape := ⟨2, ![1, 256]⟩
abbrev S544x256 : Shape := ⟨2, ![544, 256]⟩
abbrev S128x256 : Shape := ⟨2, ![128, 256]⟩

abbrev nBuf : Space → Nat
  | .hbm => 6
  | .vmem => 13
  | .smem => 0
  | _ => 0

abbrev bufTy : (tb : Table) → Fin (tcTables nBuf tb) → BufTy
  | .hbm, ⟨0, _⟩ => ⟨S4096x12288, .f32⟩
  | .hbm, ⟨1, _⟩ => ⟨S4x3072, .f32⟩
  | .hbm, ⟨2, _⟩ => ⟨S3072, .f32⟩
  | .hbm, ⟨3, _⟩ => ⟨S1x3072, .f32⟩
  | .hbm, ⟨4, _⟩ => ⟨S4096x3072, .f32⟩
  | .hbm, ⟨5, _⟩ => ⟨S4096x3072, .f32⟩
  | .local _ .vmem, ⟨0, _⟩ => ⟨S512x256, .f32⟩
  | .local _ .vmem, ⟨1, _⟩ => ⟨S512x256, .f32⟩
  | .local _ .vmem, ⟨2, _⟩ => ⟨S32x256, .f32⟩
  | .local _ .vmem, ⟨3, _⟩ => ⟨S32x256, .f32⟩
  | .local _ .vmem, ⟨4, _⟩ => ⟨S4x256, .f32⟩
  | .local _ .vmem, ⟨5, _⟩ => ⟨S4x256, .f32⟩
  | .local _ .vmem, ⟨6, _⟩ => ⟨S1x256, .f32⟩
  | .local _ .vmem, ⟨7, _⟩ => ⟨S1x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S544x256, .f32⟩
  | _, _ => ⟨S4096x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![12, 8], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c16_i32_0 : BitVec 32 := 16#32
  let v3 : BitVec 32 := Scalar.addi c16_i32_0 arg0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RefConvBIdeal.lean ====
abbrev S4096x12288 : Shape := ⟨2, ![4096, 12288]⟩
abbrev S4x3072 : Shape := ⟨2, ![4, 3072]⟩
abbrev S3072 : Shape := ⟨1, ![3072]⟩
abbrev S4096x3072 : Shape := ⟨2, ![4096, 3072]⟩
abbrev S_ : Shape := ⟨0, ![]⟩
abbrev S3x3072 : Shape := ⟨2, ![3, 3072]⟩
abbrev S4099x3072 : Shape := ⟨2, ![4099, 3072]⟩
abbrev S1x3072 : Shape := ⟨2, ![1, 3072]⟩

abbrev nBuf : Space → Nat
  | .hbm => 79
  | .vmem => 0
  | .smem => 0
  | _ => 0

abbrev bufTy : (tb : Table) → Fin (tcTables nBuf tb) → BufTy
  | .hbm, ⟨0, _⟩ => ⟨S4096x12288, .f32⟩
  | .hbm, ⟨1, _⟩ => ⟨S4x3072, .f32⟩
  | .hbm, ⟨2, _⟩ => ⟨S3072, .f32⟩
  | .hbm, ⟨3, _⟩ => ⟨S4096x3072, .f32⟩
  | .hbm, ⟨4, _⟩ => ⟨S_, .f32⟩
  | .hbm, ⟨5, _⟩ => ⟨S3x3072, .f32⟩
  | .hbm, ⟨6, _⟩ => ⟨S4099x3072, .f32⟩
  | .hbm, ⟨7, _⟩ => ⟨S1x3072, .f32⟩
  | .hbm, ⟨8, _⟩ => ⟨S3072, .f32⟩
  | .hbm, ⟨9, _⟩ => ⟨S4096x3072, .f32⟩
  | .hbm, ⟨10, _⟩ => ⟨S1x3072, .f32⟩
  | .hbm, ⟨11, _⟩ => ⟨S4096x3072, .f32⟩
  | .hbm, ⟨12, _⟩ => ⟨S4096x3072, .f32⟩
  | .hbm, ⟨13, _⟩ => ⟨S1x3072, .f32⟩
  | .hbm, ⟨14, _⟩ => ⟨S3072, .f32⟩
  | .hbm, ⟨15, _⟩ => ⟨S4096x3072, .f32⟩
  | .hbm, ⟨16, _⟩ => ⟨S1x3072, .f32⟩
  | .hbm, ⟨17, _⟩ => ⟨S4096x3072, .f32⟩
  | .hbm, ⟨18, _⟩ => ⟨S4096x3072, .f32⟩
  | .hbm, ⟨19, _⟩ => ⟨S4096x3072, .f32⟩
  | .hbm, ⟨20, _⟩ => ⟨S1x3072, .f32⟩
  | .hbm, ⟨21, _⟩ => ⟨S3072, .f32⟩
  | .hbm, ⟨22, _⟩ => ⟨S4096x3072, .f32⟩
  | .hbm, ⟨23, _⟩ => ⟨S1x3072, .f32⟩
  | .hbm, ⟨24, _⟩ => ⟨S4096x3072, .f32⟩
  | .hbm, ⟨25, _⟩ => ⟨S4096x3072, .f32⟩
  | .hbm, ⟨26, _⟩ => ⟨S4096x3072, .f32⟩
  | .hbm, ⟨27, _⟩ => ⟨S1x3072, .f32⟩
  | .hbm, ⟨28, _⟩ => ⟨S3072, .f32⟩
  | .hbm, ⟨29, _⟩ => ⟨S4096x3072, .f32⟩
  | .hbm, ⟨30, _⟩ => ⟨S1x3072, .f32⟩
  | .hbm, ⟨31, _⟩ => ⟨S4096x3072, .f32⟩
  | .hbm, ⟨32, _⟩ => ⟨S4096x3072, .f32⟩
  | .hbm, ⟨33, _⟩ => ⟨S4096x3072, .f32⟩
  | .hbm, ⟨34, _⟩ => ⟨S1x3072, .f32⟩
  | .hbm, ⟨35, _⟩ => ⟨S4096x3072, .f32⟩
  | .hbm, ⟨36, _⟩ => ⟨S4096x3072, .f32⟩
  | .hbm, ⟨37, _⟩ => ⟨S_, .f32⟩
  | .hbm, ⟨38, _⟩ => ⟨S3x3072, .f32⟩
  | .hbm, ⟨39, _⟩ => ⟨S4099x3072, .f32⟩
  | .hbm, ⟨40, _⟩ => ⟨S1x3072, .f32⟩
  | .hbm, ⟨41, _⟩ => ⟨S3072, .f32⟩
  | .hbm, ⟨42, _⟩ => ⟨S4096x3072, .f32⟩
  | .hbm, ⟨43, _⟩ => ⟨S1x3072, .f32⟩
  | .hbm, ⟨44, _⟩ => ⟨S4096x3072, .f32⟩
  | .hbm, ⟨45, _⟩ => ⟨S4096x3072, .f32⟩
  | .hbm, ⟨46, _⟩ => ⟨S1x3072, .f32⟩
  | .hbm, ⟨47, _⟩ => ⟨S3072, .f32⟩
  | .hbm, ⟨48, _⟩ => ⟨S4096x3072, .f32⟩
  | .hbm, ⟨49, _⟩ => ⟨S1x3072, .f32⟩
  | .hbm, ⟨50, _⟩ => ⟨S4096x3072, .f32⟩
  | .hbm, ⟨51, _⟩ => ⟨S4096x3072, .f32⟩
  | .hbm, ⟨52, _⟩ => ⟨S4096x3072, .f32⟩
  | .hbm, ⟨53, _⟩ => ⟨S1x3072, .f32⟩
  | .hbm, ⟨54, _⟩ => ⟨S3072, .f32⟩
  | .hbm, ⟨55, _⟩ => ⟨S4096x3072, .f32⟩
  | .hbm, ⟨56, _⟩ => ⟨S1x3072, .f32⟩
  | .hbm, ⟨57, _⟩ => ⟨S4096x3072, .f32⟩
  | .hbm, ⟨58, _⟩ => ⟨S4096x3072, .f32⟩
  | .hbm, ⟨59, _⟩ => ⟨S4096x3072, .f32⟩
  | .hbm, ⟨60, _⟩ => ⟨S1x3072, .f32⟩
  | .hbm, ⟨61, _⟩ => ⟨S3072, .f32⟩
  | .hbm, ⟨62, _⟩ => ⟨S4096x3072, .f32⟩
  | .hbm, ⟨63, _⟩ => ⟨S1x3072, .f32⟩
  | .hbm, ⟨64, _⟩ => ⟨S4096x3072, .f32⟩
  | .hbm, ⟨65, _⟩ => ⟨S4096x3072, .f32⟩
  | .hbm, ⟨66, _⟩ => ⟨S4096x3072, .f32⟩
  | .hbm, ⟨67, _⟩ => ⟨S1x3072, .f32⟩
  | .hbm, ⟨68, _⟩ => ⟨S4096x3072, .f32⟩
  | .hbm, ⟨69, _⟩ => ⟨S4096x3072, .f32⟩
  | .hbm, ⟨70, _⟩ => ⟨S4096x3072, .f32⟩
  | .hbm, ⟨71, _⟩ => ⟨S4096x3072, .f32⟩
  | .hbm, ⟨72, _⟩ => ⟨S_, .f32⟩
  | .hbm, ⟨73, _⟩ => ⟨S4096x3072, .f32⟩
  | .hbm, ⟨74, _⟩ => ⟨S4096x3072, .f32⟩
  | .hbm, ⟨75, _⟩ => ⟨S_, .f32⟩
  | .hbm, ⟨76, _⟩ => ⟨S4096x3072, .f32⟩
  | .hbm, ⟨77, _⟩ => ⟨S4096x3072, .f32⟩
  | .hbm, ⟨78, _⟩ => ⟨S4096x3072, .f32⟩
  | _, _ => ⟨S4096x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_cst_0 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_call0_v0 : Ref sig .tc := ⟨.hbm, 70, rfl⟩
abbrev main_call0_v1 : Ref sig .tc := ⟨.hbm, 71, rfl⟩
abbrev main_call0_cst : Ref sig .tc := ⟨.hbm, 72, rfl⟩
abbrev main_call0_v2 : Ref sig .tc := ⟨.hbm, 73, rfl⟩
abbrev main_call0_v3 : Ref sig .tc := ⟨.hbm, 74, rfl⟩
abbrev main_call0_cst_0 : Ref sig .tc := ⟨.hbm, 75, rfl⟩
abbrev main_call0_v4 : Ref sig .tc := ⟨.hbm, 76, rfl⟩
abbrev main_call0_v5 : Ref sig .tc := ⟨.hbm, 77, rfl⟩
abbrev main_v65 : Ref sig .tc := ⟨.hbm, 78, rfl⟩

abbrev nD : Nat := 1
abbrev τ : Topo := Topo.v7x

variable {F : FTy → Type} [FloatOps F]
-- ==== Rms.lean ====
abbrev S4096x1024 : Shape := ⟨2, ![4096, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefRmsIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== LnSilu.lean ====
abbrev S4096x1024 : Shape := ⟨2, ![4096, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1x1024, .f32⟩
  | .hbm, ⟨4, _⟩ => ⟨S1x1024, .f32⟩
  | .hbm, ⟨5, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .bf16⟩
  | .local _ .vmem, ⟨5, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefLnSiluIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== Merge.lean ====
abbrev S4096x12288 : Shape := ⟨2, ![4096, 12288]⟩
abbrev S4096x1024 : Shape := ⟨2, ![4096, 1024]⟩
abbrev S3x1024 : Shape := ⟨2, ![3, 1024]⟩
abbrev S1x3072 : Shape := ⟨2, ![1, 3072]⟩
abbrev S256x1024 : Shape := ⟨2, ![256, 1024]⟩
abbrev S1x1024 : Shape := ⟨2, ![1, 1024]⟩

abbrev nBuf : Space → Nat
  | .hbm => 7
  | .vmem => 15
  | .smem => 0
  | _ => 0

abbrev bufTy : (tb : Table) → Fin (tcTables nBuf tb) → BufTy
  | .hbm, ⟨0, _⟩ => ⟨S4096x12288, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S3x1024, .f32⟩
  | .hbm, ⟨5, _⟩ => ⟨S1x3072, .f32⟩
  | .hbm, ⟨6, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x3072, .f32⟩
  | .local _ .vmem, ⟨13, _⟩ => ⟨S256x1024, .bf16⟩
  | .local _ .vmem, ⟨14, _⟩ => ⟨S256x1024, .bf16⟩
  | _, _ => ⟨S4096x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefMergeIdeal.lean ====
abbrev S4096x12288 : Shape := ⟨2, ![4096, 12288]⟩
abbrev S4096x1024 : Shape := ⟨2, ![4096, 1024]⟩
abbrev S3x1024 : Shape := ⟨2, ![3, 1024]⟩
abbrev S4096x3072 : Shape := ⟨2, ![4096, 3072]⟩
abbrev S4096x3x1024 : Shape := ⟨3, ![4096, 3, 1024]⟩
abbrev S1x3x1024 : Shape := ⟨3, ![1, 3, 1024]⟩
abbrev S_ : Shape := ⟨0, ![]⟩
abbrev S4096x1x1024 : Shape := ⟨3, ![4096, 1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4096x12288, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S3x1024, .f32⟩
  | .hbm, ⟨5, _⟩ => ⟨S4096x3072, .f32⟩
  | .hbm, ⟨6, _⟩ => ⟨S4096x3x1024, .f32⟩
  | .hbm, ⟨7, _⟩ => ⟨S1x3x1024, .f32⟩
  | .hbm, ⟨8, _⟩ => ⟨S4096x3x1024, .f32⟩
  | .hbm, ⟨9, _⟩ => ⟨S4096x3x1024, .f32⟩
  | .hbm, ⟨10, _⟩ => ⟨S4096x3x1024, .f32⟩
  | .hbm, ⟨11, _⟩ => ⟨S4096x3x1024, .f32⟩
  | .hbm, ⟨12, _⟩ => ⟨S_, .f32⟩
  | .hbm, ⟨13, _⟩ => ⟨S4096x3x1024, .f32⟩
  | .hbm, ⟨14, _⟩ => ⟨S4096x3x1024, .f32⟩
  | .hbm, ⟨15, _⟩ => ⟨S_, .f32⟩
  | .hbm, ⟨16, _⟩ => ⟨S4096x3x1024, .f32⟩
  | .hbm, ⟨17, _⟩ => ⟨S4096x3x1024, .f32⟩
  | .hbm, ⟨18, _⟩ => ⟨S4096x1x1024, .f32⟩
  | .hbm, ⟨19, _⟩ => ⟨S4096x1024, .f32⟩
  | .hbm, ⟨20, _⟩ => ⟨S4096x1024, .f32⟩
  | .hbm, ⟨21, _⟩ => ⟨S4096x1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .bf16⟩
  | _, _ => ⟨S4096x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== XkvDw.lean ====
abbrev S256x1024 : Shape := ⟨2, ![256, 1024]⟩
abbrev S256x2048 : Shape := ⟨2, ![256, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S256x2048, .f32⟩
  | .hbm, ⟨2, _⟩ => ⟨S256x1024, .bf16⟩
  | .hbm, ⟨3, _⟩ => ⟨S1024x2048, .f32⟩
  | .local _ .vmem, ⟨0, _⟩ => ⟨S256x1024, .bf16⟩
  | .local _ .vmem, ⟨1, _⟩ => ⟨S256x1024, .f32⟩
  | .local _ .vmem, ⟨2, _⟩ => ⟨S256x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefXkvDwIdeal.lean ====
abbrev S256x1024 : Shape := ⟨2, ![256, 1024]⟩
abbrev S256x2048 : Shape := ⟨2, ![256, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x2048, .f32⟩
  | .hbm, ⟨2, _⟩ => ⟨S_, .f32⟩
  | .hbm, ⟨3, _⟩ => ⟨S1024x2048, .f32⟩
  | .hbm, ⟨4, _⟩ => ⟨S256x2048, .f32⟩
  | .hbm, ⟨5, _⟩ => ⟨S2048x1024, .f32⟩
  | .hbm, ⟨6, _⟩ => ⟨S1024x2048, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== XkvDx.lean ====
abbrev S256x2048 : Shape := ⟨2, ![256, 2048]⟩
abbrev S1024x2048 : Shape := ⟨2, ![1024, 2048]⟩
abbrev S256x1024 : Shape := ⟨2, ![256, 1024]⟩

abbrev nBuf : Space → Nat
  | .hbm => 4
  | .vmem => 4
  | .smem => 0
  | _ => 0

abbrev bufTy : (tb : Table) → Fin (tcTables nBuf tb) → BufTy
  | .hbm, ⟨0, _⟩ => ⟨S256x2048, .f32⟩
  | .hbm, ⟨1, _⟩ => ⟨S1024x2048, .f32⟩
  | .hbm, ⟨2, _⟩ => ⟨S1024x2048, .bf16⟩
  | .hbm, ⟨3, _⟩ => ⟨S256x1024, .f32⟩
  | .local _ .vmem, ⟨0, _⟩ => ⟨S256x2048, .f32⟩
  | .local _ .vmem, ⟨1, _⟩ => ⟨S1024x2048, .bf16⟩
  | .local _ .vmem, ⟨2, _⟩ => ⟨S256x1024, .f32⟩
  | .local _ .vmem, ⟨3, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefXkvDxIdeal.lean ====
abbrev S256x2048 : Shape := ⟨2, ![256, 2048]⟩
abbrev S1024x2048 : Shape := ⟨2, ![1024, 2048]⟩
abbrev S_ : Shape := ⟨0, ![]⟩
abbrev S256x1024 : Shape := ⟨2, ![256, 1024]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1024x2048, .f32⟩
  | .hbm, ⟨2, _⟩ => ⟨S_, .f32⟩
  | .hbm, ⟨3, _⟩ => ⟨S256x1024, .f32⟩
  | .hbm, ⟨4, _⟩ => ⟨S256x2048, .f32⟩
  | .hbm, ⟨5, _⟩ => ⟨S256x1024, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MmXkv.lean ====
abbrev S256x1024 : Shape := ⟨2, ![256, 1024]⟩
abbrev S1024x2048 : Shape := ⟨2, ![1024, 2048]⟩
abbrev S256x2048 : Shape := ⟨2, ![256, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1024x2048, .f32⟩
  | .hbm, ⟨2, _⟩ => ⟨S256x1024, .bf16⟩
  | .hbm, ⟨3, _⟩ => ⟨S1024x2048, .bf16⟩
  | .hbm, ⟨4, _⟩ => ⟨S256x2048, .f32⟩
  | .local _ .vmem, ⟨0, _⟩ => ⟨S256x1024, .bf16⟩
  | .local _ .vmem, ⟨1, _⟩ => ⟨S1024x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefMmXkvIdeal.lean ====
abbrev S256x1024 : Shape := ⟨2, ![256, 1024]⟩
abbrev S1024x2048 : Shape := ⟨2, ![1024, 2048]⟩
abbrev S256x2048 : Shape := ⟨2, ![256, 2048]⟩

abbrev nBuf : Space → Nat
  | .hbm => 3
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x2048, .f32⟩
  | .hbm, ⟨2, _⟩ => ⟨S256x2048, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Xa.lean ====
abbrev S4096x1024 : Shape := ⟨2, ![4096, 1024]⟩
abbrev S256x2048 : Shape := ⟨2, ![256, 2048]⟩
abbrev S256 : Shape := ⟨1, ![256]⟩
abbrev S1x256 : Shape := ⟨2, ![1, 256]⟩
abbrev S512x256 : Shape := ⟨2, ![512, 256]⟩
abbrev S256x256 : Shape := ⟨2, ![256, 256]⟩
abbrev S512 : Shape := ⟨1, ![512]⟩
abbrev S512x1 : Shape := ⟨2, ![512, 1]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S256x2048, .f32⟩
  | .hbm, ⟨2, _⟩ => ⟨S256, .f32⟩
  | .hbm, ⟨3, _⟩ => ⟨S256, .f32⟩
  | .hbm, ⟨4, _⟩ => ⟨S1x256, .f32⟩
  | .hbm, ⟨5, _⟩ => ⟨S1x256, .f32⟩
  | .hbm, ⟨6, _⟩ => ⟨S4096x1024, .bf16⟩
  | .local _ .vmem, ⟨0, _⟩ => ⟨S512x256, .f32⟩
  | .local _ .vmem, ⟨1, _⟩ => ⟨S512x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S1x256, .f32⟩
  | .local _ .vmem, ⟨8, _⟩ => ⟨S512x256, .bf16⟩
  | .local _ .vmem, ⟨9, _⟩ => ⟨S512x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RefXaIdeal.lean ====
abbrev S4096x1024 : Shape := ⟨2, ![4096, 1024]⟩
abbrev S256x2048 : Shape := ⟨2, ![256, 2048]⟩
abbrev S256 : Shape := ⟨1, ![256]⟩
abbrev S4096x4x256 : Shape := ⟨3, ![4096, 4, 256]⟩
abbrev S_ : Shape := ⟨0, ![]⟩
abbrev S4096x4 : Shape := ⟨2, ![4096, 4]⟩
abbrev S4096x4x1 : Shape := ⟨3, ![4096, 4, 1]⟩
abbrev S1x1x256 : Shape := ⟨3, ![1, 1, 256]⟩
abbrev S256x1024 : Shape := ⟨2, ![256, 1024]⟩
abbrev S256x4x256 : Shape := ⟨3, ![256, 4, 256]⟩
abbrev S256x4 : Shape := ⟨2, ![256, 4]⟩
abbrev S256x4x1 : Shape := ⟨3, ![256, 4, 1]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 63
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x2048, .f32⟩
  | .hbm, ⟨2, _⟩ => ⟨S256, .f32⟩
  | .hbm, ⟨3, _⟩ => ⟨S256, .f32⟩
  | .hbm, ⟨4, _⟩ => ⟨S4096x4x256, .f32⟩
  | .hbm, ⟨5, _⟩ => ⟨S4096x4x256, .f32⟩
  | .hbm, ⟨6, _⟩ => ⟨S_, .f32⟩
  | .hbm, ⟨7, _⟩ => ⟨S4096x4, .f32⟩
  | .hbm, ⟨8, _⟩ => ⟨S4096x4x1, .f32⟩
  | .hbm, ⟨9, _⟩ => ⟨S_, .f32⟩
  | .hbm, ⟨10, _⟩ => ⟨S4096x4x1, .f32⟩
  | .hbm, ⟨11, _⟩ => ⟨S4096x4x1, .f32⟩
  | .hbm, ⟨12, _⟩ => ⟨S_, .f32⟩
  | .hbm, ⟨13, _⟩ => ⟨S4096x4x1, .f32⟩
  | .hbm, ⟨14, _⟩ => ⟨S4096x4x1, .f32⟩
  | .hbm, ⟨15, _⟩ => ⟨S4096x4x1, .f32⟩
  | .hbm, ⟨16, _⟩ => ⟨S4096x4x256, .f32⟩
  | .hbm, ⟨17, _⟩ => ⟨S4096x4x256, .f32⟩
  | .hbm, ⟨18, _⟩ => ⟨S1x1x256, .f32⟩
  | .hbm, ⟨19, _⟩ => ⟨S4096x4x256, .f32⟩
  | .hbm, ⟨20, _⟩ => ⟨S4096x4x256, .f32⟩
  | .hbm, ⟨21, _⟩ => ⟨S256x1024, .f32⟩
  | .hbm, ⟨22, _⟩ => ⟨S256x4x256, .f32⟩
  | .hbm, ⟨23, _⟩ => ⟨S256x4x256, .f32⟩
  | .hbm, ⟨24, _⟩ => ⟨S_, .f32⟩
  | .hbm, ⟨25, _⟩ => ⟨S256x4, .f32⟩
  | .hbm, ⟨26, _⟩ => ⟨S256x4x1, .f32⟩
  | .hbm, ⟨27, _⟩ => ⟨S_, .f32⟩
  | .hbm, ⟨28, _⟩ => ⟨S256x4x1, .f32⟩
  | .hbm, ⟨29, _⟩ => ⟨S256x4x1, .f32⟩
  | .hbm, ⟨30, _⟩ => ⟨S_, .f32⟩
  | .hbm, ⟨31, _⟩ => ⟨S256x4x1, .f32⟩
  | .hbm, ⟨32, _⟩ => ⟨S256x4x1, .f32⟩
  | .hbm, ⟨33, _⟩ => ⟨S256x4x1, .f32⟩
  | .hbm, ⟨34, _⟩ => ⟨S256x4x256, .f32⟩
  | .hbm, ⟨35, _⟩ => ⟨S256x4x256, .f32⟩
  | .hbm, ⟨36, _⟩ => ⟨S1x1x256, .f32⟩
  | .hbm, ⟨37, _⟩ => ⟨S256x4x256, .f32⟩
  | .hbm, ⟨38, _⟩ => ⟨S256x4x256, .f32⟩
  | .hbm, ⟨39, _⟩ => ⟨S256x1024, .f32⟩
  | .hbm, ⟨40, _⟩ => ⟨S256x4x256, .f32⟩
  | .hbm, ⟨41, _⟩ => ⟨S4x4096x256, .f32⟩
  | .hbm, ⟨42, _⟩ => ⟨S_, .f32⟩
  | .hbm, ⟨43, _⟩ => ⟨S4x4096x256, .f32⟩
  | .hbm, ⟨44, _⟩ => ⟨S4x4096x256, .f32⟩
  | .hbm, ⟨45, _⟩ => ⟨S_, .f32⟩
  | .hbm, ⟨46, _⟩ => ⟨S4x4096, .f32⟩
  | .hbm, ⟨47, _⟩ => ⟨S_, .f32⟩
  | .hbm, ⟨48, _⟩ => ⟨S4x4096, .f32⟩
  | .hbm, ⟨49, _⟩ => ⟨S4x4096, .f32⟩
  | .hbm, ⟨50, _⟩ => ⟨S4x4096x1, .f32⟩
  | .hbm, ⟨51, _⟩ => ⟨S4x4096x256, .f32⟩
  | .hbm, ⟨52, _⟩ => ⟨S4x4096x256, .f32⟩
  | .hbm, ⟨53, _⟩ => ⟨S4x4096x256, .f32⟩
  | .hbm, ⟨54, _⟩ => ⟨S_, .f32⟩
  | .hbm, ⟨55, _⟩ => ⟨S4x4096, .f32⟩
  | .hbm, ⟨56, _⟩ => ⟨S4x4096x1, .f32⟩
  | .hbm, ⟨57, _⟩ => ⟨S4x4096x256, .f32⟩
  | .hbm, ⟨58, _⟩ => ⟨S4x4096x256, .f32⟩
  | .hbm, ⟨59, _⟩ => ⟨S4x256x4096, .f32⟩
  | .hbm, ⟨60, _⟩ => ⟨S4096x4x256, .f32⟩
  | .hbm, ⟨61, _⟩ => ⟨S4096x1024, .f32⟩
  | .hbm, ⟨62, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== RmsMem.lean ====
abbrev S256x1024 : Shape := ⟨2, ![256, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1x1024, .f32⟩
  | .hbm, ⟨3, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== RefRmsMemIdeal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S1x1024, .f32⟩
  | .hbm, ⟨16, _⟩ => ⟨S256x1024, .f32⟩
  | .hbm, ⟨17, _⟩ => ⟨S256x1024, .f32⟩
  | .hbm, ⟨18, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== RmsMemBwd.lean ====
abbrev S256x1024 : Shape := ⟨2, ![256, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S1x1024, .f32⟩
  | .hbm, ⟨4, _⟩ => ⟨S256x1024, .f32⟩
  | .hbm, ⟨5, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RefRmsMemBwdIdeal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S1x1024, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S1024, .f32⟩
  | .hbm, ⟨31, _⟩ => ⟨S256x1024, .f32⟩
  | .hbm, ⟨32, _⟩ => ⟨S_, .f32⟩
  | .hbm, ⟨33, _⟩ => ⟨S256, .f32⟩
  | .hbm, ⟨34, _⟩ => ⟨S256x1, .f32⟩
  | .hbm, ⟨35, _⟩ => ⟨S256x1024, .f32⟩
  | .hbm, ⟨36, _⟩ => ⟨S256x1024, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S_, .f32⟩
  | .hbm, ⟨42, _⟩ => ⟨S256, .f32⟩
  | .hbm, ⟨43, _⟩ => ⟨S256x1024, .f32⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== AdamGain.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGainIdeal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdamGainIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamHeads.lean ====
abbrev S4x32 : Shape := ⟨2, ![4, 32]⟩

abbrev nBuf : Space → Nat
  | .hbm => 7
  | .vmem => 7
  | .smem => 0
  | _ => 0

abbrev bufTy : (tb : Table) → Fin (tcTables nBuf tb) → BufTy
  | .hbm, ⟨0, _⟩ => ⟨S4x32, .f32⟩
  | .hbm, ⟨1, _⟩ => ⟨S4x32, .f32⟩
  | .hbm, ⟨2, _⟩ => ⟨S4x32, .f32⟩
  | .hbm, ⟨3, _⟩ => ⟨S4x32, .f32⟩
  | .hbm, ⟨4, _⟩ => ⟨S4x32, .f32⟩
  | .hbm, ⟨5, _⟩ => ⟨S4x32, .f32⟩
  | .hbm, ⟨6, _⟩ => ⟨S4x32, .f32⟩
  | .local _ .vmem, ⟨0, _⟩ => ⟨S4x32, .f32⟩
  | .local _ .vmem, ⟨1, _⟩ => ⟨S4x32, .f32⟩
  | .local _ .vmem, ⟨2, _⟩ => ⟨S4x32, .f32⟩
  | .local _ .vmem, ⟨3, _⟩ => ⟨S4x32, .f32⟩
  | .local _ .vmem, ⟨4, _⟩ => ⟨S4x32, .f32⟩
  | .local _ .vmem, ⟨5, _⟩ => ⟨S4x32, .f32⟩
  | .local _ .vmem, ⟨6, _⟩ => ⟨S4x32, .f32⟩
  | _, _ => ⟨S4x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamHeadsIdeal.lean ====
abbrev S4x32 : Shape := ⟨2, ![4, 32]⟩

abbrev nBuf : Space → Nat
  | .hbm => 7
  | .vmem => 7
  | .smem => 0
  | _ => 0

abbrev bufTy : (tb : Table) → Fin (tcTables nBuf tb) → BufTy
  | .hbm, ⟨0, _⟩ => ⟨S4x32, .f32⟩
  | .hbm, ⟨1, _⟩ => ⟨S4x32, .f32⟩
  | .hbm, ⟨2, _⟩ => ⟨S4x32, .f32⟩
  | .hbm, ⟨3, _⟩ => ⟨S4x32, .f32⟩
  | .hbm, ⟨4, _⟩ => ⟨S4x32, .f32⟩
  | .hbm, ⟨5, _⟩ => ⟨S4x32, .f32⟩
  | .hbm, ⟨6, _⟩ => ⟨S4x32, .f32⟩
  | .local _ .vmem, ⟨0, _⟩ => ⟨S4x32, .f32⟩
  | .local _ .vmem, ⟨1, _⟩ => ⟨S4x32, .f32⟩
  | .local _ .vmem, ⟨2, _⟩ => ⟨S4x32, .f32⟩
  | .local _ .vmem, ⟨3, _⟩ => ⟨S4x32, .f32⟩
  | .local _ .vmem, ⟨4, _⟩ => ⟨S4x32, .f32⟩
  | .local _ .vmem, ⟨5, _⟩ => ⟨S4x32, .f32⟩
  | .local _ .vmem, ⟨6, _⟩ => ⟨S4x32, .f32⟩
  | _, _ => ⟨S4x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdamHeadsIdeal.lean ====
abbrev S4x32 : Shape := ⟨2, ![4, 32]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x32, .f32⟩
  | .hbm, ⟨1, _⟩ => ⟨S4x32, .f32⟩
  | .hbm, ⟨2, _⟩ => ⟨S4x32, .f32⟩
  | .hbm, ⟨3, _⟩ => ⟨S4x32, .f32⟩
  | .hbm, ⟨4, _⟩ => ⟨S_, .f32⟩
  | .hbm, ⟨5, _⟩ => ⟨S4x32, .f32⟩
  | .hbm, ⟨6, _⟩ => ⟨S4x32, .f32⟩
  | .hbm, ⟨7, _⟩ => ⟨S_, .f32⟩
  | .hbm, ⟨8, _⟩ => ⟨S4x32, .f32⟩
  | .hbm, ⟨9, _⟩ => ⟨S4x32, .f32⟩
  | .hbm, ⟨10, _⟩ => ⟨S4x32, .f32⟩
  | .hbm, ⟨11, _⟩ => ⟨S_, .f32⟩
  | .hbm, ⟨12, _⟩ => ⟨S4x32, .f32⟩
  | .hbm, ⟨13, _⟩ => ⟨S4x32, .f32⟩
  | .hbm, ⟨14, _⟩ => ⟨S4x32, .f32⟩
  | .hbm, ⟨15, _⟩ => ⟨S_, .f32⟩
  | .hbm, ⟨16, _⟩ => ⟨S4x32, .f32⟩
  | .hbm, ⟨17, _⟩ => ⟨S4x32, .f32⟩
  | .hbm, ⟨18, _⟩ => ⟨S4x32, .f32⟩
  | .hbm, ⟨19, _⟩ => ⟨S_, .f32⟩
  | .hbm, ⟨20, _⟩ => ⟨S4x32, .f32⟩
  | .hbm, ⟨21, _⟩ => ⟨S4x32, .f32⟩
  | .hbm, ⟨22, _⟩ => ⟨S_, .f32⟩
  | .hbm, ⟨23, _⟩ => ⟨S4x32, .f32⟩
  | .hbm, ⟨24, _⟩ => ⟨S4x32, .f32⟩
  | .hbm, ⟨25, _⟩ => ⟨S4x32, .f32⟩
  | .hbm, ⟨26, _⟩ => ⟨S_, .f32⟩
  | .hbm, ⟨27, _⟩ => ⟨S4x32, .f32⟩
  | .hbm, ⟨28, _⟩ => ⟨S4x32, .f32⟩
  | .hbm, ⟨29, _⟩ => ⟨S4x32, .f32⟩
  | .hbm, ⟨30, _⟩ => ⟨S_, .f32⟩
  | .hbm, ⟨31, _⟩ => ⟨S4x32, .f32⟩
  | .hbm, ⟨32, _⟩ => ⟨S4x32, .f32⟩
  | .hbm, ⟨33, _⟩ => ⟨S4x32, .f32⟩
  | .hbm, ⟨34, _⟩ => ⟨S_, .f32⟩
  | .hbm, ⟨35, _⟩ => ⟨S4x32, .f32⟩
  | .hbm, ⟨36, _⟩ => ⟨S4x32, .f32⟩
  | _, _ => ⟨S4x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamHead.lean ====
abbrev S4x64 : Shape := ⟨2, ![4, 64]⟩

abbrev nBuf : Space → Nat
  | .hbm => 7
  | .vmem => 7
  | .smem => 0
  | _ => 0

abbrev bufTy : (tb : Table) → Fin (tcTables nBuf tb) → BufTy
  | .hbm, ⟨0, _⟩ => ⟨S4x64, .f32⟩
  | .hbm, ⟨1, _⟩ => ⟨S4x64, .f32⟩
  | .hbm, ⟨2, _⟩ => ⟨S4x64, .f32⟩
  | .hbm, ⟨3, _⟩ => ⟨S4x64, .f32⟩
  | .hbm, ⟨4, _⟩ => ⟨S4x64, .f32⟩
  | .hbm, ⟨5, _⟩ => ⟨S4x64, .f32⟩
  | .hbm, ⟨6, _⟩ => ⟨S4x64, .f32⟩
  | .local _ .vmem, ⟨0, _⟩ => ⟨S4x64, .f32⟩
  | .local _ .vmem, ⟨1, _⟩ => ⟨S4x64, .f32⟩
  | .local _ .vmem, ⟨2, _⟩ => ⟨S4x64, .f32⟩
  | .local _ .vmem, ⟨3, _⟩ => ⟨S4x64, .f32⟩
  | .local _ .vmem, ⟨4, _⟩ => ⟨S4x64, .f32⟩
  | .local _ .vmem, ⟨5, _⟩ => ⟨S4x64, .f32⟩
  | .local _ .vmem, ⟨6, _⟩ => ⟨S4x64, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamHeadIdeal.lean ====
abbrev S4x64 : Shape := ⟨2, ![4, 64]⟩

abbrev nBuf : Space → Nat
  | .hbm => 7
  | .vmem => 7
  | .smem => 0
  | _ => 0

abbrev bufTy : (tb : Table) → Fin (tcTables nBuf tb) → BufTy
  | .hbm, ⟨0, _⟩ => ⟨S4x64, .f32⟩
  | .hbm, ⟨1, _⟩ => ⟨S4x64, .f32⟩
  | .hbm, ⟨2, _⟩ => ⟨S4x64, .f32⟩
  | .hbm, ⟨3, _⟩ => ⟨S4x64, .f32⟩
  | .hbm, ⟨4, _⟩ => ⟨S4x64, .f32⟩
  | .hbm, ⟨5, _⟩ => ⟨S4x64, .f32⟩
  | .hbm, ⟨6, _⟩ => ⟨S4x64, .f32⟩
  | .local _ .vmem, ⟨0, _⟩ => ⟨S4x64, .f32⟩
  | .local _ .vmem, ⟨1, _⟩ => ⟨S4x64, .f32⟩
  | .local _ .vmem, ⟨2, _⟩ => ⟨S4x64, .f32⟩
  | .local _ .vmem, ⟨3, _⟩ => ⟨S4x64, .f32⟩
  | .local _ .vmem, ⟨4, _⟩ => ⟨S4x64, .f32⟩
  | .local _ .vmem, ⟨5, _⟩ => ⟨S4x64, .f32⟩
  | .local _ .vmem, ⟨6, _⟩ => ⟨S4x64, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdamHeadIdeal.lean ====
abbrev S4x64 : Shape := ⟨2, ![4, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x64, .f32⟩
  | .hbm, ⟨1, _⟩ => ⟨S4x64, .f32⟩
  | .hbm, ⟨2, _⟩ => ⟨S4x64, .f32⟩
  | .hbm, ⟨3, _⟩ => ⟨S4x64, .f32⟩
  | .hbm, ⟨4, _⟩ => ⟨S_, .f32⟩
  | .hbm, ⟨5, _⟩ => ⟨S4x64, .f32⟩
  | .hbm, ⟨6, _⟩ => ⟨S4x64, .f32⟩
  | .hbm, ⟨7, _⟩ => ⟨S_, .f32⟩
  | .hbm, ⟨8, _⟩ => ⟨S4x64, .f32⟩
  | .hbm, ⟨9, _⟩ => ⟨S4x64, .f32⟩
  | .hbm, ⟨10, _⟩ => ⟨S4x64, .f32⟩
  | .hbm, ⟨11, _⟩ => ⟨S_, .f32⟩
  | .hbm, ⟨12, _⟩ => ⟨S4x64, .f32⟩
  | .hbm, ⟨13, _⟩ => ⟨S4x64, .f32⟩
  | .hbm, ⟨14, _⟩ => ⟨S4x64, .f32⟩
  | .hbm, ⟨15, _⟩ => ⟨S_, .f32⟩
  | .hbm, ⟨16, _⟩ => ⟨S4x64, .f32⟩
  | .hbm, ⟨17, _⟩ => ⟨S4x64, .f32⟩
  | .hbm, ⟨18, _⟩ => ⟨S4x64, .f32⟩
  | .hbm, ⟨19, _⟩ => ⟨S_, .f32⟩
  | .hbm, ⟨20, _⟩ => ⟨S4x64, .f32⟩
  | .hbm, ⟨21, _⟩ => ⟨S4x64, .f32⟩
  | .hbm, ⟨22, _⟩ => ⟨S_, .f32⟩
  | .hbm, ⟨23, _⟩ => ⟨S4x64, .f32⟩
  | .hbm, ⟨24, _⟩ => ⟨S4x64, .f32⟩
  | .hbm, ⟨25, _⟩ => ⟨S4x64, .f32⟩
  | .hbm, ⟨26, _⟩ => ⟨S_, .f32⟩
  | .hbm, ⟨27, _⟩ => ⟨S4x64, .f32⟩
  | .hbm, ⟨28, _⟩ => ⟨S4x64, .f32⟩
  | .hbm, ⟨29, _⟩ => ⟨S4x64, .f32⟩
  | .hbm, ⟨30, _⟩ => ⟨S_, .f32⟩
  | .hbm, ⟨31, _⟩ => ⟨S4x64, .f32⟩
  | .hbm, ⟨32, _⟩ => ⟨S4x64, .f32⟩
  | .hbm, ⟨33, _⟩ => ⟨S4x64, .f32⟩
  | .hbm, ⟨34, _⟩ => ⟨S_, .f32⟩
  | .hbm, ⟨35, _⟩ => ⟨S4x64, .f32⟩
  | .hbm, ⟨36, _⟩ => ⟨S4x64, .f32⟩
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamCross.lean ====
abbrev S4x256 : Shape := ⟨2, ![4, 256]⟩

abbrev nBuf : Space → Nat
  | .hbm => 7
  | .vmem => 7
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S4x256, .f32⟩
  | .hbm, ⟨5, _⟩ => ⟨S4x256, .f32⟩
  | .hbm, ⟨6, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamCrossIdeal.lean ====
abbrev S4x256 : Shape := ⟨2, ![4, 256]⟩

abbrev nBuf : Space → Nat
  | .hbm => 7
  | .vmem => 7
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S4x256, .f32⟩
  | .hbm, ⟨5, _⟩ => ⟨S4x256, .f32⟩
  | .hbm, ⟨6, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdamCrossIdeal.lean ====
abbrev S4x256 : Shape := ⟨2, ![4, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S_, .f32⟩
  | .hbm, ⟨5, _⟩ => ⟨S4x256, .f32⟩
  | .hbm, ⟨6, _⟩ => ⟨S4x256, .f32⟩
  | .hbm, ⟨7, _⟩ => ⟨S_, .f32⟩
  | .hbm, ⟨8, _⟩ => ⟨S4x256, .f32⟩
  | .hbm, ⟨9, _⟩ => ⟨S4x256, .f32⟩
  | .hbm, ⟨10, _⟩ => ⟨S4x256, .f32⟩
  | .hbm, ⟨11, _⟩ => ⟨S_, .f32⟩
  | .hbm, ⟨12, _⟩ => ⟨S4x256, .f32⟩
  | .hbm, ⟨13, _⟩ => ⟨S4x256, .f32⟩
  | .hbm, ⟨14, _⟩ => ⟨S4x256, .f32⟩
  | .hbm, ⟨15, _⟩ => ⟨S_, .f32⟩
  | .hbm, ⟨16, _⟩ => ⟨S4x256, .f32⟩
  | .hbm, ⟨17, _⟩ => ⟨S4x256, .f32⟩
  | .hbm, ⟨18, _⟩ => ⟨S4x256, .f32⟩
  | .hbm, ⟨19, _⟩ => ⟨S_, .f32⟩
  | .hbm, ⟨20, _⟩ => ⟨S4x256, .f32⟩
  | .hbm, ⟨21, _⟩ => ⟨S4x256, .f32⟩
  | .hbm, ⟨22, _⟩ => ⟨S_, .f32⟩
  | .hbm, ⟨23, _⟩ => ⟨S4x256, .f32⟩
  | .hbm, ⟨24, _⟩ => ⟨S4x256, .f32⟩
  | .hbm, ⟨25, _⟩ => ⟨S4x256, .f32⟩
  | .hbm, ⟨26, _⟩ => ⟨S_, .f32⟩
  | .hbm, ⟨27, _⟩ => ⟨S4x256, .f32⟩
  | .hbm, ⟨28, _⟩ => ⟨S4x256, .f32⟩
  | .hbm, ⟨29, _⟩ => ⟨S4x256, .f32⟩
  | .hbm, ⟨30, _⟩ => ⟨S_, .f32⟩
  | .hbm, ⟨31, _⟩ => ⟨S4x256, .f32⟩
  | .hbm, ⟨32, _⟩ => ⟨S4x256, .f32⟩
  | .hbm, ⟨33, _⟩ => ⟨S4x256, .f32⟩
  | .hbm, ⟨34, _⟩ => ⟨S_, .f32⟩
  | .hbm, ⟨35, _⟩ => ⟨S4x256, .f32⟩
  | .hbm, ⟨36, _⟩ => ⟨S4x256, .f32⟩
  | _, _ => ⟨S4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSinks.lean ====
abbrev S4x16 : Shape := ⟨2, ![4, 16]⟩

abbrev nBuf : Space → Nat
  | .hbm => 7
  | .vmem => 7
  | .smem => 0
  | _ => 0

abbrev bufTy : (tb : Table) → Fin (tcTables nBuf tb) → BufTy
  | .hbm, ⟨0, _⟩ => ⟨S4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S4x16, .f32⟩
  | .hbm, ⟨5, _⟩ => ⟨S4x16, .f32⟩
  | .hbm, ⟨6, _⟩ => ⟨S4x16, .f32⟩
  | .local _ .vmem, ⟨0, _⟩ => ⟨S4x16, .f32⟩
  | .local _ .vmem, ⟨1, _⟩ => ⟨S4x16, .f32⟩
  | .local _ .vmem, ⟨2, _⟩ => ⟨S4x16, .f32⟩
  | .local _ .vmem, ⟨3, _⟩ => ⟨S4x16, .f32⟩
  | .local _ .vmem, ⟨4, _⟩ => ⟨S4x16, .f32⟩
  | .local _ .vmem, ⟨5, _⟩ => ⟨S4x16, .f32⟩
  | .local _ .vmem, ⟨6, _⟩ => ⟨S4x16, .f32⟩
  | _, _ => ⟨S4x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSinksIdeal.lean ====
abbrev S4x16 : Shape := ⟨2, ![4, 16]⟩

abbrev nBuf : Space → Nat
  | .hbm => 7
  | .vmem => 7
  | .smem => 0
  | _ => 0

abbrev bufTy : (tb : Table) → Fin (tcTables nBuf tb) → BufTy
  | .hbm, ⟨0, _⟩ => ⟨S4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S4x16, .f32⟩
  | .hbm, ⟨5, _⟩ => ⟨S4x16, .f32⟩
  | .hbm, ⟨6, _⟩ => ⟨S4x16, .f32⟩
  | .local _ .vmem, ⟨0, _⟩ => ⟨S4x16, .f32⟩
  | .local _ .vmem, ⟨1, _⟩ => ⟨S4x16, .f32⟩
  | .local _ .vmem, ⟨2, _⟩ => ⟨S4x16, .f32⟩
  | .local _ .vmem, ⟨3, _⟩ => ⟨S4x16, .f32⟩
  | .local _ .vmem, ⟨4, _⟩ => ⟨S4x16, .f32⟩
  | .local _ .vmem, ⟨5, _⟩ => ⟨S4x16, .f32⟩
  | .local _ .vmem, ⟨6, _⟩ => ⟨S4x16, .f32⟩
  | _, _ => ⟨S4x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdamSinksIdeal.lean ====
abbrev S4x16 : Shape := ⟨2, ![4, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S_, .f32⟩
  | .hbm, ⟨5, _⟩ => ⟨S4x16, .f32⟩
  | .hbm, ⟨6, _⟩ => ⟨S4x16, .f32⟩
  | .hbm, ⟨7, _⟩ => ⟨S_, .f32⟩
  | .hbm, ⟨8, _⟩ => ⟨S4x16, .f32⟩
  | .hbm, ⟨9, _⟩ => ⟨S4x16, .f32⟩
  | .hbm, ⟨10, _⟩ => ⟨S4x16, .f32⟩
  | .hbm, ⟨11, _⟩ => ⟨S_, .f32⟩
  | .hbm, ⟨12, _⟩ => ⟨S4x16, .f32⟩
  | .hbm, ⟨13, _⟩ => ⟨S4x16, .f32⟩
  | .hbm, ⟨14, _⟩ => ⟨S4x16, .f32⟩
  | .hbm, ⟨15, _⟩ => ⟨S_, .f32⟩
  | .hbm, ⟨16, _⟩ => ⟨S4x16, .f32⟩
  | .hbm, ⟨17, _⟩ => ⟨S4x16, .f32⟩
  | .hbm, ⟨18, _⟩ => ⟨S4x16, .f32⟩
  | .hbm, ⟨19, _⟩ => ⟨S_, .f32⟩
  | .hbm, ⟨20, _⟩ => ⟨S4x16, .f32⟩
  | .hbm, ⟨21, _⟩ => ⟨S4x16, .f32⟩
  | .hbm, ⟨22, _⟩ => ⟨S_, .f32⟩
  | .hbm, ⟨23, _⟩ => ⟨S4x16, .f32⟩
  | .hbm, ⟨24, _⟩ => ⟨S4x16, .f32⟩
  | .hbm, ⟨25, _⟩ => ⟨S4x16, .f32⟩
  | .hbm, ⟨26, _⟩ => ⟨S_, .f32⟩
  | .hbm, ⟨27, _⟩ => ⟨S4x16, .f32⟩
  | .hbm, ⟨28, _⟩ => ⟨S4x16, .f32⟩
  | .hbm, ⟨29, _⟩ => ⟨S4x16, .f32⟩
  | .hbm, ⟨30, _⟩ => ⟨S_, .f32⟩
  | .hbm, ⟨31, _⟩ => ⟨S4x16, .f32⟩
  | .hbm, ⟨32, _⟩ => ⟨S4x16, .f32⟩
  | .hbm, ⟨33, _⟩ => ⟨S4x16, .f32⟩
  | .hbm, ⟨34, _⟩ => ⟨S_, .f32⟩
  | .hbm, ⟨35, _⟩ => ⟨S4x16, .f32⟩
  | .hbm, ⟨36, _⟩ => ⟨S4x16, .f32⟩
  | _, _ => ⟨S4x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamTable.lean ====
abbrev S32x16 : Shape := ⟨2, ![32, 16]⟩

abbrev nBuf : Space → Nat
  | .hbm => 7
  | .vmem => 7
  | .smem => 0
  | _ => 0

abbrev bufTy : (tb : Table) → Fin (tcTables nBuf tb) → BufTy
  | .hbm, ⟨0, _⟩ => ⟨S32x16, .f32⟩
  | .hbm, ⟨1, _⟩ => ⟨S32x16, .f32⟩
  | .hbm, ⟨2, _⟩ => ⟨S32x16, .f32⟩
  | .hbm, ⟨3, _⟩ => ⟨S32x16, .f32⟩
  | .hbm, ⟨4, _⟩ => ⟨S32x16, .f32⟩
  | .hbm, ⟨5, _⟩ => ⟨S32x16, .f32⟩
  | .hbm, ⟨6, _⟩ => ⟨S32x16, .f32⟩
  | .local _ .vmem, ⟨0, _⟩ => ⟨S32x16, .f32⟩
  | .local _ .vmem, ⟨1, _⟩ => ⟨S32x16, .f32⟩
  | .local _ .vmem, ⟨2, _⟩ => ⟨S32x16, .f32⟩
  | .local _ .vmem, ⟨3, _⟩ => ⟨S32x16, .f32⟩
  | .local _ .vmem, ⟨4, _⟩ => ⟨S32x16, .f32⟩
  | .local _ .vmem, ⟨5, _⟩ => ⟨S32x16, .f32⟩
  | .local _ .vmem, ⟨6, _⟩ => ⟨S32x16, .f32⟩
  | _, _ => ⟨S32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamTableIdeal.lean ====
abbrev S32x16 : Shape := ⟨2, ![32, 16]⟩

abbrev nBuf : Space → Nat
  | .hbm => 7
  | .vmem => 7
  | .smem => 0
  | _ => 0

abbrev bufTy : (tb : Table) → Fin (tcTables nBuf tb) → BufTy
  | .hbm, ⟨0, _⟩ => ⟨S32x16, .f32⟩
  | .hbm, ⟨1, _⟩ => ⟨S32x16, .f32⟩
  | .hbm, ⟨2, _⟩ => ⟨S32x16, .f32⟩
  | .hbm, ⟨3, _⟩ => ⟨S32x16, .f32⟩
  | .hbm, ⟨4, _⟩ => ⟨S32x16, .f32⟩
  | .hbm, ⟨5, _⟩ => ⟨S32x16, .f32⟩
  | .hbm, ⟨6, _⟩ => ⟨S32x16, .f32⟩
  | .local _ .vmem, ⟨0, _⟩ => ⟨S32x16, .f32⟩
  | .local _ .vmem, ⟨1, _⟩ => ⟨S32x16, .f32⟩
  | .local _ .vmem, ⟨2, _⟩ => ⟨S32x16, .f32⟩
  | .local _ .vmem, ⟨3, _⟩ => ⟨S32x16, .f32⟩
  | .local _ .vmem, ⟨4, _⟩ => ⟨S32x16, .f32⟩
  | .local _ .vmem, ⟨5, _⟩ => ⟨S32x16, .f32⟩
  | .local _ .vmem, ⟨6, _⟩ => ⟨S32x16, .f32⟩
  | _, _ => ⟨S32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdamTableIdeal.lean ====
abbrev S32x16 : Shape := ⟨2, ![32, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S32x16, .f32⟩
  | .hbm, ⟨2, _⟩ => ⟨S32x16, .f32⟩
  | .hbm, ⟨3, _⟩ => ⟨S32x16, .f32⟩
  | .hbm, ⟨4, _⟩ => ⟨S_, .f32⟩
  | .hbm, ⟨5, _⟩ => ⟨S32x16, .f32⟩
  | .hbm, ⟨6, _⟩ => ⟨S32x16, .f32⟩
  | .hbm, ⟨7, _⟩ => ⟨S_, .f32⟩
  | .hbm, ⟨8, _⟩ => ⟨S32x16, .f32⟩
  | .hbm, ⟨9, _⟩ => ⟨S32x16, .f32⟩
  | .hbm, ⟨10, _⟩ => ⟨S32x16, .f32⟩
  | .hbm, ⟨11, _⟩ => ⟨S_, .f32⟩
  | .hbm, ⟨12, _⟩ => ⟨S32x16, .f32⟩
  | .hbm, ⟨13, _⟩ => ⟨S32x16, .f32⟩
  | .hbm, ⟨14, _⟩ => ⟨S32x16, .f32⟩
  | .hbm, ⟨15, _⟩ => ⟨S_, .f32⟩
  | .hbm, ⟨16, _⟩ => ⟨S32x16, .f32⟩
  | .hbm, ⟨17, _⟩ => ⟨S32x16, .f32⟩
  | .hbm, ⟨18, _⟩ => ⟨S32x16, .f32⟩
  | .hbm, ⟨19, _⟩ => ⟨S_, .f32⟩
  | .hbm, ⟨20, _⟩ => ⟨S32x16, .f32⟩
  | .hbm, ⟨21, _⟩ => ⟨S32x16, .f32⟩
  | .hbm, ⟨22, _⟩ => ⟨S_, .f32⟩
  | .hbm, ⟨23, _⟩ => ⟨S32x16, .f32⟩
  | .hbm, ⟨24, _⟩ => ⟨S32x16, .f32⟩
  | .hbm, ⟨25, _⟩ => ⟨S32x16, .f32⟩
  | .hbm, ⟨26, _⟩ => ⟨S_, .f32⟩
  | .hbm, ⟨27, _⟩ => ⟨S32x16, .f32⟩
  | .hbm, ⟨28, _⟩ => ⟨S32x16, .f32⟩
  | .hbm, ⟨29, _⟩ => ⟨S32x16, .f32⟩
  | .hbm, ⟨30, _⟩ => ⟨S_, .f32⟩
  | .hbm, ⟨31, _⟩ => ⟨S32x16, .f32⟩
  | .hbm, ⟨32, _⟩ => ⟨S32x16, .f32⟩
  | .hbm, ⟨33, _⟩ => ⟨S32x16, .f32⟩
  | .hbm, ⟨34, _⟩ => ⟨S_, .f32⟩
  | .hbm, ⟨35, _⟩ => ⟨S32x16, .f32⟩
  | .hbm, ⟨36, _⟩ => ⟨S32x16, .f32⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamInner.lean ====
abbrev S4x2048 : Shape := ⟨2, ![4, 2048]⟩

abbrev nBuf : Space → Nat
  | .hbm => 7
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S4x2048, .f32⟩
  | .hbm, ⟨6, _⟩ => ⟨S4x2048, .f32⟩
  | .local _ .vmem, ⟨0, _⟩ => ⟨S4x2048, .f32⟩
  | .local _ .vmem, ⟨1, _⟩ => ⟨S4x2048, .f32⟩
  | .local _ .vmem, ⟨2, _⟩ => ⟨S4x2048, .f32⟩
  | .local _ .vmem, ⟨3, _⟩ => ⟨S4x2048, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamInnerIdeal.lean ====
abbrev S4x2048 : Shape := ⟨2, ![4, 2048]⟩

abbrev nBuf : Space → Nat
  | .hbm => 7
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S4x2048, .f32⟩
  | .hbm, ⟨6, _⟩ => ⟨S4x2048, .f32⟩
  | .local _ .vmem, ⟨0, _⟩ => ⟨S4x2048, .f32⟩
  | .local _ .vmem, ⟨1, _⟩ => ⟨S4x2048, .f32⟩
  | .local _ .vmem, ⟨2, _⟩ => ⟨S4x2048, .f32⟩
  | .local _ .vmem, ⟨3, _⟩ => ⟨S4x2048, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdamInnerIdeal.lean ====
abbrev S4x2048 : Shape := ⟨2, ![4, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S_, .f32⟩
  | .hbm, ⟨5, _⟩ => ⟨S4x2048, .f32⟩
  | .hbm, ⟨6, _⟩ => ⟨S4x2048, .f32⟩
  | .hbm, ⟨7, _⟩ => ⟨S_, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S_, .f32⟩
  | .hbm, ⟨12, _⟩ => ⟨S4x2048, .f32⟩
  | .hbm, ⟨13, _⟩ => ⟨S4x2048, .f32⟩
  | .hbm, ⟨14, _⟩ => ⟨S4x2048, .f32⟩
  | .hbm, ⟨15, _⟩ => ⟨S_, .f32⟩
  | .hbm, ⟨16, _⟩ => ⟨S4x2048, .f32⟩
  | .hbm, ⟨17, _⟩ => ⟨S4x2048, .f32⟩
  | .hbm, ⟨18, _⟩ => ⟨S4x2048, .f32⟩
  | .hbm, ⟨19, _⟩ => ⟨S_, .f32⟩
  | .hbm, ⟨20, _⟩ => ⟨S4x2048, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048, .f32⟩
  | .hbm, ⟨34, _⟩ => ⟨S_, .f32⟩
  | .hbm, ⟨35, _⟩ => ⟨S4x2048, .f32⟩
  | .hbm, ⟨36, _⟩ => ⟨S4x2048, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBias.lean ====
abbrev S4x3072 : Shape := ⟨2, ![4, 3072]⟩

abbrev nBuf : Space → Nat
  | .hbm => 7
  | .vmem => 7
  | .smem => 0
  | _ => 0

abbrev bufTy : (tb : Table) → Fin (tcTables nBuf tb) → BufTy
  | .hbm, ⟨0, _⟩ => ⟨S4x3072, .f32⟩
  | .hbm, ⟨1, _⟩ => ⟨S4x3072, .f32⟩
  | .hbm, ⟨2, _⟩ => ⟨S4x3072, .f32⟩
  | .hbm, ⟨3, _⟩ => ⟨S4x3072, .f32⟩
  | .hbm, ⟨4, _⟩ => ⟨S4x3072, .f32⟩
  | .hbm, ⟨5, _⟩ => ⟨S4x3072, .f32⟩
  | .hbm, ⟨6, _⟩ => ⟨S4x3072, .f32⟩
  | .local _ .vmem, ⟨0, _⟩ => ⟨S4x3072, .f32⟩
  | .local _ .vmem, ⟨1, _⟩ => ⟨S4x3072, .f32⟩
  | .local _ .vmem, ⟨2, _⟩ => ⟨S4x3072, .f32⟩
  | .local _ .vmem, ⟨3, _⟩ => ⟨S4x3072, .f32⟩
  | .local _ .vmem, ⟨4, _⟩ => ⟨S4x3072, .f32⟩
  | .local _ .vmem, ⟨5, _⟩ => ⟨S4x3072, .f32⟩
  | .local _ .vmem, ⟨6, _⟩ => ⟨S4x3072, .f32⟩
  | _, _ => ⟨S4x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBiasIdeal.lean ====
abbrev S4x3072 : Shape := ⟨2, ![4, 3072]⟩

abbrev nBuf : Space → Nat
  | .hbm => 7
  | .vmem => 7
  | .smem => 0
  | _ => 0

abbrev bufTy : (tb : Table) → Fin (tcTables nBuf tb) → BufTy
  | .hbm, ⟨0, _⟩ => ⟨S4x3072, .f32⟩
  | .hbm, ⟨1, _⟩ => ⟨S4x3072, .f32⟩
  | .hbm, ⟨2, _⟩ => ⟨S4x3072, .f32⟩
  | .hbm, ⟨3, _⟩ => ⟨S4x3072, .f32⟩
  | .hbm, ⟨4, _⟩ => ⟨S4x3072, .f32⟩
  | .hbm, ⟨5, _⟩ => ⟨S4x3072, .f32⟩
  | .hbm, ⟨6, _⟩ => ⟨S4x3072, .f32⟩
  | .local _ .vmem, ⟨0, _⟩ => ⟨S4x3072, .f32⟩
  | .local _ .vmem, ⟨1, _⟩ => ⟨S4x3072, .f32⟩
  | .local _ .vmem, ⟨2, _⟩ => ⟨S4x3072, .f32⟩
  | .local _ .vmem, ⟨3, _⟩ => ⟨S4x3072, .f32⟩
  | .local _ .vmem, ⟨4, _⟩ => ⟨S4x3072, .f32⟩
  | .local _ .vmem, ⟨5, _⟩ => ⟨S4x3072, .f32⟩
  | .local _ .vmem, ⟨6, _⟩ => ⟨S4x3072, .f32⟩
  | _, _ => ⟨S4x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdamBiasIdeal.lean ====
abbrev S4x3072 : Shape := ⟨2, ![4, 3072]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x3072, .f32⟩
  | .hbm, ⟨1, _⟩ => ⟨S4x3072, .f32⟩
  | .hbm, ⟨2, _⟩ => ⟨S4x3072, .f32⟩
  | .hbm, ⟨3, _⟩ => ⟨S4x3072, .f32⟩
  | .hbm, ⟨4, _⟩ => ⟨S_, .f32⟩
  | .hbm, ⟨5, _⟩ => ⟨S4x3072, .f32⟩
  | .hbm, ⟨6, _⟩ => ⟨S4x3072, .f32⟩
  | .hbm, ⟨7, _⟩ => ⟨S_, .f32⟩
  | .hbm, ⟨8, _⟩ => ⟨S4x3072, .f32⟩
  | .hbm, ⟨9, _⟩ => ⟨S4x3072, .f32⟩
  | .hbm, ⟨10, _⟩ => ⟨S4x3072, .f32⟩
  | .hbm, ⟨11, _⟩ => ⟨S_, .f32⟩
  | .hbm, ⟨12, _⟩ => ⟨S4x3072, .f32⟩
  | .hbm, ⟨13, _⟩ => ⟨S4x3072, .f32⟩
  | .hbm, ⟨14, _⟩ => ⟨S4x3072, .f32⟩
  | .hbm, ⟨15, _⟩ => ⟨S_, .f32⟩
  | .hbm, ⟨16, _⟩ => ⟨S4x3072, .f32⟩
  | .hbm, ⟨17, _⟩ => ⟨S4x3072, .f32⟩
  | .hbm, ⟨18, _⟩ => ⟨S4x3072, .f32⟩
  | .hbm, ⟨19, _⟩ => ⟨S_, .f32⟩
  | .hbm, ⟨20, _⟩ => ⟨S4x3072, .f32⟩
  | .hbm, ⟨21, _⟩ => ⟨S4x3072, .f32⟩
  | .hbm, ⟨22, _⟩ => ⟨S_, .f32⟩
  | .hbm, ⟨23, _⟩ => ⟨S4x3072, .f32⟩
  | .hbm, ⟨24, _⟩ => ⟨S4x3072, .f32⟩
  | .hbm, ⟨25, _⟩ => ⟨S4x3072, .f32⟩
  | .hbm, ⟨26, _⟩ => ⟨S_, .f32⟩
  | .hbm, ⟨27, _⟩ => ⟨S4x3072, .f32⟩
  | .hbm, ⟨28, _⟩ => ⟨S4x3072, .f32⟩
  | .hbm, ⟨29, _⟩ => ⟨S4x3072, .f32⟩
  | .hbm, ⟨30, _⟩ => ⟨S_, .f32⟩
  | .hbm, ⟨31, _⟩ => ⟨S4x3072, .f32⟩
  | .hbm, ⟨32, _⟩ => ⟨S4x3072, .f32⟩
  | .hbm, ⟨33, _⟩ => ⟨S4x3072, .f32⟩
  | .hbm, ⟨34, _⟩ => ⟨S_, .f32⟩
  | .hbm, ⟨35, _⟩ => ⟨S4x3072, .f32⟩
  | .hbm, ⟨36, _⟩ => ⟨S4x3072, .f32⟩
  | _, _ => ⟨S4x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGates.lean ====
abbrev S12x256 : Shape := ⟨2, ![12, 256]⟩

abbrev nBuf : Space → Nat
  | .hbm => 7
  | .vmem => 7
  | .smem => 0
  | _ => 0

abbrev bufTy : (tb : Table) → Fin (tcTables nBuf tb) → BufTy
  | .hbm, ⟨0, _⟩ => ⟨S12x256, .f32⟩
  | .hbm, ⟨1, _⟩ => ⟨S12x256, .f32⟩
  | .hbm, ⟨2, _⟩ => ⟨S12x256, .f32⟩
  | .hbm, ⟨3, _⟩ => ⟨S12x256, .f32⟩
  | .hbm, ⟨4, _⟩ => ⟨S12x256, .f32⟩
  | .hbm, ⟨5, _⟩ => ⟨S12x256, .f32⟩
  | .hbm, ⟨6, _⟩ => ⟨S12x256, .f32⟩
  | .local _ .vmem, ⟨0, _⟩ => ⟨S12x256, .f32⟩
  | .local _ .vmem, ⟨1, _⟩ => ⟨S12x256, .f32⟩
  | .local _ .vmem, ⟨2, _⟩ => ⟨S12x256, .f32⟩
  | .local _ .vmem, ⟨3, _⟩ => ⟨S12x256, .f32⟩
  | .local _ .vmem, ⟨4, _⟩ => ⟨S12x256, .f32⟩
  | .local _ .vmem, ⟨5, _⟩ => ⟨S12x256, .f32⟩
  | .local _ .vmem, ⟨6, _⟩ => ⟨S12x256, .f32⟩
  | _, _ => ⟨S12x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGatesIdeal.lean ====
abbrev S12x256 : Shape := ⟨2, ![12, 256]⟩

abbrev nBuf : Space → Nat
  | .hbm => 7
  | .vmem => 7
  | .smem => 0
  | _ => 0

abbrev bufTy : (tb : Table) → Fin (tcTables nBuf tb) → BufTy
  | .hbm, ⟨0, _⟩ => ⟨S12x256, .f32⟩
  | .hbm, ⟨1, _⟩ => ⟨S12x256, .f32⟩
  | .hbm, ⟨2, _⟩ => ⟨S12x256, .f32⟩
  | .hbm, ⟨3, _⟩ => ⟨S12x256, .f32⟩
  | .hbm, ⟨4, _⟩ => ⟨S12x256, .f32⟩
  | .hbm, ⟨5, _⟩ => ⟨S12x256, .f32⟩
  | .hbm, ⟨6, _⟩ => ⟨S12x256, .f32⟩
  | .local _ .vmem, ⟨0, _⟩ => ⟨S12x256, .f32⟩
  | .local _ .vmem, ⟨1, _⟩ => ⟨S12x256, .f32⟩
  | .local _ .vmem, ⟨2, _⟩ => ⟨S12x256, .f32⟩
  | .local _ .vmem, ⟨3, _⟩ => ⟨S12x256, .f32⟩
  | .local _ .vmem, ⟨4, _⟩ => ⟨S12x256, .f32⟩
  | .local _ .vmem, ⟨5, _⟩ => ⟨S12x256, .f32⟩
  | .local _ .vmem, ⟨6, _⟩ => ⟨S12x256, .f32⟩
  | _, _ => ⟨S12x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdamGatesIdeal.lean ====
abbrev S12x256 : Shape := ⟨2, ![12, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S12x256, .f32⟩
  | .hbm, ⟨1, _⟩ => ⟨S12x256, .f32⟩
  | .hbm, ⟨2, _⟩ => ⟨S12x256, .f32⟩
  | .hbm, ⟨3, _⟩ => ⟨S12x256, .f32⟩
  | .hbm, ⟨4, _⟩ => ⟨S_, .f32⟩
  | .hbm, ⟨5, _⟩ => ⟨S12x256, .f32⟩
  | .hbm, ⟨6, _⟩ => ⟨S12x256, .f32⟩
  | .hbm, ⟨7, _⟩ => ⟨S_, .f32⟩
  | .hbm, ⟨8, _⟩ => ⟨S12x256, .f32⟩
  | .hbm, ⟨9, _⟩ => ⟨S12x256, .f32⟩
  | .hbm, ⟨10, _⟩ => ⟨S12x256, .f32⟩
  | .hbm, ⟨11, _⟩ => ⟨S_, .f32⟩
  | .hbm, ⟨12, _⟩ => ⟨S12x256, .f32⟩
  | .hbm, ⟨13, _⟩ => ⟨S12x256, .f32⟩
  | .hbm, ⟨14, _⟩ => ⟨S12x256, .f32⟩
  | .hbm, ⟨15, _⟩ => ⟨S_, .f32⟩
  | .hbm, ⟨16, _⟩ => ⟨S12x256, .f32⟩
  | .hbm, ⟨17, _⟩ => ⟨S12x256, .f32⟩
  | .hbm, ⟨18, _⟩ => ⟨S12x256, .f32⟩
  | .hbm, ⟨19, _⟩ => ⟨S_, .f32⟩
  | .hbm, ⟨20, _⟩ => ⟨S12x256, .f32⟩
  | .hbm, ⟨21, _⟩ => ⟨S12x256, .f32⟩
  | .hbm, ⟨22, _⟩ => ⟨S_, .f32⟩
  | .hbm, ⟨23, _⟩ => ⟨S12x256, .f32⟩
  | .hbm, ⟨24, _⟩ => ⟨S12x256, .f32⟩
  | .hbm, ⟨25, _⟩ => ⟨S12x256, .f32⟩
  | .hbm, ⟨26, _⟩ => ⟨S_, .f32⟩
  | .hbm, ⟨27, _⟩ => ⟨S12x256, .f32⟩
  | .hbm, ⟨28, _⟩ => ⟨S12x256, .f32⟩
  | .hbm, ⟨29, _⟩ => ⟨S12x256, .f32⟩
  | .hbm, ⟨30, _⟩ => ⟨S_, .f32⟩
  | .hbm, ⟨31, _⟩ => ⟨S12x256, .f32⟩
  | .hbm, ⟨32, _⟩ => ⟨S12x256, .f32⟩
  | .hbm, ⟨33, _⟩ => ⟨S12x256, .f32⟩
  | .hbm, ⟨34, _⟩ => ⟨S_, .f32⟩
  | .hbm, ⟨35, _⟩ => ⟨S12x256, .f32⟩
  | .hbm, ⟨36, _⟩ => ⟨S12x256, .f32⟩
  | _, _ => ⟨S12x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamTaps.lean ====
abbrev S124x256 : Shape := ⟨2, ![124, 256]⟩

abbrev nBuf : Space → Nat
  | .hbm => 7
  | .vmem => 7
  | .smem => 0
  | _ => 0

abbrev bufTy : (tb : Table) → Fin (tcTables nBuf tb) → BufTy
  | .hbm, ⟨0, _⟩ => ⟨S124x256, .f32⟩
  | .hbm, ⟨1, _⟩ => ⟨S124x256, .f32⟩
  | .hbm, ⟨2, _⟩ => ⟨S124x256, .f32⟩
  | .hbm, ⟨3, _⟩ => ⟨S124x256, .f32⟩
  | .hbm, ⟨4, _⟩ => ⟨S124x256, .f32⟩
  | .hbm, ⟨5, _⟩ => ⟨S124x256, .f32⟩
  | .hbm, ⟨6, _⟩ => ⟨S124x256, .f32⟩
  | .local _ .vmem, ⟨0, _⟩ => ⟨S124x256, .f32⟩
  | .local _ .vmem, ⟨1, _⟩ => ⟨S124x256, .f32⟩
  | .local _ .vmem, ⟨2, _⟩ => ⟨S124x256, .f32⟩
  | .local _ .vmem, ⟨3, _⟩ => ⟨S124x256, .f32⟩
  | .local _ .vmem, ⟨4, _⟩ => ⟨S124x256, .f32⟩
  | .local _ .vmem, ⟨5, _⟩ => ⟨S124x256, .f32⟩
  | .local _ .vmem, ⟨6, _⟩ => ⟨S124x256, .f32⟩
  | _, _ => ⟨S124x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S124x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S124x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S124x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S124x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S124x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S124x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S124x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamTapsIdeal.lean ====
abbrev S124x256 : Shape := ⟨2, ![124, 256]⟩

abbrev nBuf : Space → Nat
  | .hbm => 7
  | .vmem => 7
  | .smem => 0
  | _ => 0

abbrev bufTy : (tb : Table) → Fin (tcTables nBuf tb) → BufTy
  | .hbm, ⟨0, _⟩ => ⟨S124x256, .f32⟩
  | .hbm, ⟨1, _⟩ => ⟨S124x256, .f32⟩
  | .hbm, ⟨2, _⟩ => ⟨S124x256, .f32⟩
  | .hbm, ⟨3, _⟩ => ⟨S124x256, .f32⟩
  | .hbm, ⟨4, _⟩ => ⟨S124x256, .f32⟩
  | .hbm, ⟨5, _⟩ => ⟨S124x256, .f32⟩
  | .hbm, ⟨6, _⟩ => ⟨S124x256, .f32⟩
  | .local _ .vmem, ⟨0, _⟩ => ⟨S124x256, .f32⟩
  | .local _ .vmem, ⟨1, _⟩ => ⟨S124x256, .f32⟩
  | .local _ .vmem, ⟨2, _⟩ => ⟨S124x256, .f32⟩
  | .local _ .vmem, ⟨3, _⟩ => ⟨S124x256, .f32⟩
  | .local _ .vmem, ⟨4, _⟩ => ⟨S124x256, .f32⟩
  | .local _ .vmem, ⟨5, _⟩ => ⟨S124x256, .f32⟩
  | .local _ .vmem, ⟨6, _⟩ => ⟨S124x256, .f32⟩
  | _, _ => ⟨S124x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S124x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S124x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S124x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S124x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S124x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S124x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S124x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdamTapsIdeal.lean ====
abbrev S124x256 : Shape := ⟨2, ![124, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S124x256, .f32⟩
  | .hbm, ⟨1, _⟩ => ⟨S124x256, .f32⟩
  | .hbm, ⟨2, _⟩ => ⟨S124x256, .f32⟩
  | .hbm, ⟨3, _⟩ => ⟨S124x256, .f32⟩
  | .hbm, ⟨4, _⟩ => ⟨S_, .f32⟩
  | .hbm, ⟨5, _⟩ => ⟨S124x256, .f32⟩
  | .hbm, ⟨6, _⟩ => ⟨S124x256, .f32⟩
  | .hbm, ⟨7, _⟩ => ⟨S_, .f32⟩
  | .hbm, ⟨8, _⟩ => ⟨S124x256, .f32⟩
  | .hbm, ⟨9, _⟩ => ⟨S124x256, .f32⟩
  | .hbm, ⟨10, _⟩ => ⟨S124x256, .f32⟩
  | .hbm, ⟨11, _⟩ => ⟨S_, .f32⟩
  | .hbm, ⟨12, _⟩ => ⟨S124x256, .f32⟩
  | .hbm, ⟨13, _⟩ => ⟨S124x256, .f32⟩
  | .hbm, ⟨14, _⟩ => ⟨S124x256, .f32⟩
  | .hbm, ⟨15, _⟩ => ⟨S_, .f32⟩
  | .hbm, ⟨16, _⟩ => ⟨S124x256, .f32⟩
  | .hbm, ⟨17, _⟩ => ⟨S124x256, .f32⟩
  | .hbm, ⟨18, _⟩ => ⟨S124x256, .f32⟩
  | .hbm, ⟨19, _⟩ => ⟨S_, .f32⟩
  | .hbm, ⟨20, _⟩ => ⟨S124x256, .f32⟩
  | .hbm, ⟨21, _⟩ => ⟨S124x256, .f32⟩
  | .hbm, ⟨22, _⟩ => ⟨S_, .f32⟩
  | .hbm, ⟨23, _⟩ => ⟨S124x256, .f32⟩
  | .hbm, ⟨24, _⟩ => ⟨S124x256, .f32⟩
  | .hbm, ⟨25, _⟩ => ⟨S124x256, .f32⟩
  | .hbm, ⟨26, _⟩ => ⟨S_, .f32⟩
  | .hbm, ⟨27, _⟩ => ⟨S124x256, .f32⟩
  | .hbm, ⟨28, _⟩ => ⟨S124x256, .f32⟩
  | .hbm, ⟨29, _⟩ => ⟨S124x256, .f32⟩
  | .hbm, ⟨30, _⟩ => ⟨S_, .f32⟩
  | .hbm, ⟨31, _⟩ => ⟨S124x256, .f32⟩
  | .hbm, ⟨32, _⟩ => ⟨S124x256, .f32⟩
  | .hbm, ⟨33, _⟩ => ⟨S124x256, .f32⟩
  | .hbm, ⟨34, _⟩ => ⟨S_, .f32⟩
  | .hbm, ⟨35, _⟩ => ⟨S124x256, .f32⟩
  | .hbm, ⟨36, _⟩ => ⟨S124x256, .f32⟩
  | _, _ => ⟨S124x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFour.lean ====
abbrev S16x768 : Shape := ⟨2, ![16, 768]⟩

abbrev nBuf : Space → Nat
  | .hbm => 7
  | .vmem => 7
  | .smem => 0
  | _ => 0

abbrev bufTy : (tb : Table) → Fin (tcTables nBuf tb) → BufTy
  | .hbm, ⟨0, _⟩ => ⟨S16x768, .f32⟩
  | .hbm, ⟨1, _⟩ => ⟨S16x768, .f32⟩
  | .hbm, ⟨2, _⟩ => ⟨S16x768, .f32⟩
  | .hbm, ⟨3, _⟩ => ⟨S16x768, .f32⟩
  | .hbm, ⟨4, _⟩ => ⟨S16x768, .f32⟩
  | .hbm, ⟨5, _⟩ => ⟨S16x768, .f32⟩
  | .hbm, ⟨6, _⟩ => ⟨S16x768, .f32⟩
  | .local _ .vmem, ⟨0, _⟩ => ⟨S16x768, .f32⟩
  | .local _ .vmem, ⟨1, _⟩ => ⟨S16x768, .f32⟩
  | .local _ .vmem, ⟨2, _⟩ => ⟨S16x768, .f32⟩
  | .local _ .vmem, ⟨3, _⟩ => ⟨S16x768, .f32⟩
  | .local _ .vmem, ⟨4, _⟩ => ⟨S16x768, .f32⟩
  | .local _ .vmem, ⟨5, _⟩ => ⟨S16x768, .f32⟩
  | .local _ .vmem, ⟨6, _⟩ => ⟨S16x768, .f32⟩
  | _, _ => ⟨S16x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdamFourIdeal.lean ====
abbrev S16x768 : Shape := ⟨2, ![16, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x768, .f32⟩
  | .hbm, ⟨1, _⟩ => ⟨S16x768, .f32⟩
  | .hbm, ⟨2, _⟩ => ⟨S16x768, .f32⟩
  | .hbm, ⟨3, _⟩ => ⟨S16x768, .f32⟩
  | .hbm, ⟨4, _⟩ => ⟨S_, .f32⟩
  | .hbm, ⟨5, _⟩ => ⟨S16x768, .f32⟩
  | .hbm, ⟨6, _⟩ => ⟨S16x768, .f32⟩
  | .hbm, ⟨7, _⟩ => ⟨S_, .f32⟩
  | .hbm, ⟨8, _⟩ => ⟨S16x768, .f32⟩
  | .hbm, ⟨9, _⟩ => ⟨S16x768, .f32⟩
  | .hbm, ⟨10, _⟩ => ⟨S16x768, .f32⟩
  | .hbm, ⟨11, _⟩ => ⟨S_, .f32⟩
  | .hbm, ⟨12, _⟩ => ⟨S16x768, .f32⟩
  | .hbm, ⟨13, _⟩ => ⟨S16x768, .f32⟩
  | .hbm, ⟨14, _⟩ => ⟨S16x768, .f32⟩
  | .hbm, ⟨15, _⟩ => ⟨S_, .f32⟩
  | .hbm, ⟨16, _⟩ => ⟨S16x768, .f32⟩
  | .hbm, ⟨17, _⟩ => ⟨S16x768, .f32⟩
  | .hbm, ⟨18, _⟩ => ⟨S16x768, .f32⟩
  | .hbm, ⟨19, _⟩ => ⟨S_, .f32⟩
  | .hbm, ⟨20, _⟩ => ⟨S16x768, .f32⟩
  | .hbm, ⟨21, _⟩ => ⟨S16x768, .f32⟩
  | .hbm, ⟨22, _⟩ => ⟨S_, .f32⟩
  | .hbm, ⟨23, _⟩ => ⟨S16x768, .f32⟩
  | .hbm, ⟨24, _⟩ => ⟨S16x768, .f32⟩
  | .hbm, ⟨25, _⟩ => ⟨S16x768, .f32⟩
  | .hbm, ⟨26, _⟩ => ⟨S_, .f32⟩
  | .hbm, ⟨27, _⟩ => ⟨S16x768, .f32⟩
  | .hbm, ⟨28, _⟩ => ⟨S16x768, .f32⟩
  | .hbm, ⟨29, _⟩ => ⟨S16x768, .f32⟩
  | .hbm, ⟨30, _⟩ => ⟨S_, .f32⟩
  | .hbm, ⟨31, _⟩ => ⟨S16x768, .f32⟩
  | .hbm, ⟨32, _⟩ => ⟨S16x768, .f32⟩
  | .hbm, ⟨33, _⟩ => ⟨S16x768, .f32⟩
  | .hbm, ⟨34, _⟩ => ⟨S_, .f32⟩
  | .hbm, ⟨35, _⟩ => ⟨S16x768, .f32⟩
  | .hbm, ⟨36, _⟩ => ⟨S16x768, .f32⟩
  | _, _ => ⟨S16x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamXq.lean ====
abbrev S4x256x1024 : Shape := ⟨3, ![4, 256, 1024]⟩
abbrev S3840x1024 : Shape := ⟨2, ![3840, 1024]⟩
abbrev S1x256x1024 : Shape := ⟨3, ![1, 256, 1024]⟩
abbrev S256x1024 : Shape := ⟨2, ![256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S3840x1024, .f32⟩
  | .hbm, ⟨4, _⟩ => ⟨S3840x1024, .f32⟩
  | .hbm, ⟨5, _⟩ => ⟨S3840x1024, .f32⟩
  | .hbm, ⟨6, _⟩ => ⟨S3840x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c5_i32 : BitVec 32 := 5#32
  let v1 : BitVec 32 := Scalar.addi c5_i32 arg1
  let c0_i32_0 : BitVec 32 := 0#32
  let v2 : BitVec 32 := Scalar.select v0 v1 c0_i32_0
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c5_i32 : BitVec 32 := 5#32
  let v1 : BitVec 32 := Scalar.addi c5_i32 arg1
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c5_i32 : BitVec 32 := 5#32
  let v1 : BitVec 32 := Scalar.addi c5_i32 arg1
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c5_i32 : BitVec 32 := 5#32
  let v1 : BitVec 32 := Scalar.addi c5_i32 arg1
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamXqIdeal.lean ====
abbrev S4x256x1024 : Shape := ⟨3, ![4, 256, 1024]⟩
abbrev S3840x1024 : Shape := ⟨2, ![3840, 1024]⟩
abbrev S1x256x1024 : Shape := ⟨3, ![1, 256, 1024]⟩
abbrev S256x1024 : Shape := ⟨2, ![256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S3840x1024, .f32⟩
  | .hbm, ⟨4, _⟩ => ⟨S3840x1024, .f32⟩
  | .hbm, ⟨5, _⟩ => ⟨S3840x1024, .f32⟩
  | .hbm, ⟨6, _⟩ => ⟨S3840x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c5_i32 : BitVec 32 := 5#32
  let v1 : BitVec 32 := Scalar.addi c5_i32 arg1
  let c0_i32_0 : BitVec 32 := 0#32
  let v2 : BitVec 32 := Scalar.select v0 v1 c0_i32_0
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c5_i32 : BitVec 32 := 5#32
  let v1 : BitVec 32 := Scalar.addi c5_i32 arg1
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c5_i32 : BitVec 32 := 5#32
  let v1 : BitVec 32 := Scalar.addi c5_i32 arg1
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c5_i32 : BitVec 32 := 5#32
  let v1 : BitVec 32 := Scalar.addi c5_i32 arg1
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== RefAdamXqIdeal.lean ====
abbrev S4x256x1024 : Shape := ⟨3, ![4, 256, 1024]⟩
abbrev S3840x1024 : Shape := ⟨2, ![3840, 1024]⟩
abbrev S256x1024 : Shape := ⟨2, ![256, 1024]⟩
abbrev S1x256x1024 : Shape := ⟨3, ![1, 256, 1024]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S3840x1024, .f32⟩
  | .hbm, ⟨4, _⟩ => ⟨S3840x1024, .f32⟩
  | .hbm, ⟨5, _⟩ => ⟨S3840x1024, .f32⟩
  | .hbm, ⟨6, _⟩ => ⟨S3840x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S1x256x1024, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S4x256x1024, .f32⟩
  | .hbm, ⟨16, _⟩ => ⟨S_, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S4x256x1024, .f32⟩
  | .hbm, ⟨23, _⟩ => ⟨S_, .f32⟩
  | .hbm, ⟨24, _⟩ => ⟨S4x256x1024, .f32⟩
  | .hbm, ⟨25, _⟩ => ⟨S4x256x1024, .f32⟩
  | .hbm, ⟨26, _⟩ => ⟨S4x256x1024, .f32⟩
  | .hbm, ⟨27, _⟩ => ⟨S_, .f32⟩
  | .hbm, ⟨28, _⟩ => ⟨S4x256x1024, .f32⟩
  | .hbm, ⟨29, _⟩ => ⟨S4x256x1024, .f32⟩
  | .hbm, ⟨30, _⟩ => ⟨S4x256x1024, .f32⟩
  | .hbm, ⟨31, _⟩ => ⟨S_, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | .hbm, ⟨37, _⟩ => ⟨S4x256x1024, .f32⟩
  | .hbm, ⟨38, _⟩ => ⟨S_, .f32⟩
  | .hbm, ⟨39, _⟩ => ⟨S4x256x1024, .f32⟩
  | .hbm, ⟨40, _⟩ => ⟨S4x256x1024, .f32⟩
  | .hbm, ⟨41, _⟩ => ⟨S4x256x1024, .f32⟩
  | .hbm, ⟨42, _⟩ => ⟨S_, .f32⟩
  | .hbm, ⟨43, _⟩ => ⟨S4x256x1024, .f32⟩
  | .hbm, ⟨44, _⟩ => ⟨S4x256x1024, .f32⟩
  | .hbm, ⟨45, _⟩ => ⟨S4x256x1024, .f32⟩
  | .hbm, ⟨46, _⟩ => ⟨S_, .f32⟩
  | .hbm, ⟨47, _⟩ => ⟨S4x256x1024, .f32⟩
  | .hbm, ⟨48, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== AdamConvOut.lean ====
abbrev S4x256x1024 : Shape := ⟨3, ![4, 256, 1024]⟩
abbrev S3840x1024 : Shape := ⟨2, ![3840, 1024]⟩
abbrev S1x256x1024 : Shape := ⟨3, ![1, 256, 1024]⟩
abbrev S256x1024 : Shape := ⟨2, ![256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S3840x1024, .f32⟩
  | .hbm, ⟨4, _⟩ => ⟨S3840x1024, .f32⟩
  | .hbm, ⟨5, _⟩ => ⟨S3840x1024, .f32⟩
  | .hbm, ⟨6, _⟩ => ⟨S3840x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.addi c0_i32_0 arg1
  let c0_i32_1 : BitVec 32 := 0#32
  let v2 : BitVec 32 := Scalar.select v0 v1 c0_i32_1
  let c0_i32_2 : BitVec 32 := 0#32
  let c0_i32_3 : BitVec 32 := 0#32
  ![v2.toNat, c0_i32_2.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.addi c0_i32 arg1
  let c0_i32_0 : BitVec 32 := 0#32
  let v2 : BitVec 32 := Scalar.select v0 v1 c0_i32_0
  let c0_i32_1 : BitVec 32 := 0#32
  let c0_i32_2 : BitVec 32 := 0#32
  ![v2.toNat, c0_i32_1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.addi c0_i32 arg1
  let c0_i32_0 : BitVec 32 := 0#32
  let v2 : BitVec 32 := Scalar.select v0 v1 c0_i32_0
  let c0_i32_1 : BitVec 32 := 0#32
  let c0_i32_2 : BitVec 32 := 0#32
  ![v2.toNat, c0_i32_1.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.addi c0_i32 arg1
  let c0_i32_0 : BitVec 32 := 0#32
  let v2 : BitVec 32 := Scalar.select v0 v1 c0_i32_0
  let c0_i32_1 : BitVec 32 := 0#32
  let c0_i32_2 : BitVec 32 := 0#32
  ![v2.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamConvOutIdeal.lean ====
abbrev S4x256x1024 : Shape := ⟨3, ![4, 256, 1024]⟩
abbrev S3840x1024 : Shape := ⟨2, ![3840, 1024]⟩
abbrev S1x256x1024 : Shape := ⟨3, ![1, 256, 1024]⟩
abbrev S256x1024 : Shape := ⟨2, ![256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S3840x1024, .f32⟩
  | .hbm, ⟨4, _⟩ => ⟨S3840x1024, .f32⟩
  | .hbm, ⟨5, _⟩ => ⟨S3840x1024, .f32⟩
  | .hbm, ⟨6, _⟩ => ⟨S3840x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.addi c0_i32_0 arg1
  let c0_i32_1 : BitVec 32 := 0#32
  let v2 : BitVec 32 := Scalar.select v0 v1 c0_i32_1
  let c0_i32_2 : BitVec 32 := 0#32
  let c0_i32_3 : BitVec 32 := 0#32
  ![v2.toNat, c0_i32_2.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.addi c0_i32 arg1
  let c0_i32_0 : BitVec 32 := 0#32
  let v2 : BitVec 32 := Scalar.select v0 v1 c0_i32_0
  let c0_i32_1 : BitVec 32 := 0#32
  let c0_i32_2 : BitVec 32 := 0#32
  ![v2.toNat, c0_i32_1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.addi c0_i32 arg1
  let c0_i32_0 : BitVec 32 := 0#32
  let v2 : BitVec 32 := Scalar.select v0 v1 c0_i32_0
  let c0_i32_1 : BitVec 32 := 0#32
  let c0_i32_2 : BitVec 32 := 0#32
  ![v2.toNat, c0_i32_1.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.addi c0_i32 arg1
  let c0_i32_0 : BitVec 32 := 0#32
  let v2 : BitVec 32 := Scalar.select v0 v1 c0_i32_0
  let c0_i32_1 : BitVec 32 := 0#32
  let c0_i32_2 : BitVec 32 := 0#32
  ![v2.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== RefAdamConvOutIdeal.lean ====
abbrev S4x256x1024 : Shape := ⟨3, ![4, 256, 1024]⟩
abbrev S3840x1024 : Shape := ⟨2, ![3840, 1024]⟩
abbrev S256x1024 : Shape := ⟨2, ![256, 1024]⟩
abbrev S1x256x1024 : Shape := ⟨3, ![1, 256, 1024]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S3840x1024, .f32⟩
  | .hbm, ⟨4, _⟩ => ⟨S3840x1024, .f32⟩
  | .hbm, ⟨5, _⟩ => ⟨S3840x1024, .f32⟩
  | .hbm, ⟨6, _⟩ => ⟨S3840x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S1x256x1024, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S4x256x1024, .f32⟩
  | .hbm, ⟨16, _⟩ => ⟨S_, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S4x256x1024, .f32⟩
  | .hbm, ⟨23, _⟩ => ⟨S_, .f32⟩
  | .hbm, ⟨24, _⟩ => ⟨S4x256x1024, .f32⟩
  | .hbm, ⟨25, _⟩ => ⟨S4x256x1024, .f32⟩
  | .hbm, ⟨26, _⟩ => ⟨S4x256x1024, .f32⟩
  | .hbm, ⟨27, _⟩ => ⟨S_, .f32⟩
  | .hbm, ⟨28, _⟩ => ⟨S4x256x1024, .f32⟩
  | .hbm, ⟨29, _⟩ => ⟨S4x256x1024, .f32⟩
  | .hbm, ⟨30, _⟩ => ⟨S4x256x1024, .f32⟩
  | .hbm, ⟨31, _⟩ => ⟨S_, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | .hbm, ⟨37, _⟩ => ⟨S4x256x1024, .f32⟩
  | .hbm, ⟨38, _⟩ => ⟨S_, .f32⟩
  | .hbm, ⟨39, _⟩ => ⟨S4x256x1024, .f32⟩
  | .hbm, ⟨40, _⟩ => ⟨S4x256x1024, .f32⟩
  | .hbm, ⟨41, _⟩ => ⟨S4x256x1024, .f32⟩
  | .hbm, ⟨42, _⟩ => ⟨S_, .f32⟩
  | .hbm, ⟨43, _⟩ => ⟨S4x256x1024, .f32⟩
  | .hbm, ⟨44, _⟩ => ⟨S4x256x1024, .f32⟩
  | .hbm, ⟨45, _⟩ => ⟨S4x256x1024, .f32⟩
  | .hbm, ⟨46, _⟩ => ⟨S_, .f32⟩
  | .hbm, ⟨47, _⟩ => ⟨S4x256x1024, .f32⟩
  | .hbm, ⟨48, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== AdamAttnOut.lean ====
abbrev S4x256x1024 : Shape := ⟨3, ![4, 256, 1024]⟩
abbrev S3840x1024 : Shape := ⟨2, ![3840, 1024]⟩
abbrev S1x256x1024 : Shape := ⟨3, ![1, 256, 1024]⟩
abbrev S256x1024 : Shape := ⟨2, ![256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S3840x1024, .f32⟩
  | .hbm, ⟨4, _⟩ => ⟨S3840x1024, .f32⟩
  | .hbm, ⟨5, _⟩ => ⟨S3840x1024, .f32⟩
  | .hbm, ⟨6, _⟩ => ⟨S3840x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.addi c3_i32 arg1
  let c0_i32_0 : BitVec 32 := 0#32
  let v2 : BitVec 32 := Scalar.select v0 v1 c0_i32_0
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c3_i32 : BitVec 32 := 3#32
  let v1 : BitVec 32 := Scalar.addi c3_i32 arg1
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c3_i32 : BitVec 32 := 3#32
  let v1 : BitVec 32 := Scalar.addi c3_i32 arg1
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 32 := Scalar.addi c3_i32_0 arg1
  let c0_i32 : BitVec 32 := 0#32
  let v2 : BitVec 32 := Scalar.select v0 v1 c0_i32
  let c0_i32_1 : BitVec 32 := 0#32
  let c0_i32_2 : BitVec 32 := 0#32
  ![v2.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamAttnOutIdeal.lean ====
abbrev S4x256x1024 : Shape := ⟨3, ![4, 256, 1024]⟩
abbrev S3840x1024 : Shape := ⟨2, ![3840, 1024]⟩
abbrev S1x256x1024 : Shape := ⟨3, ![1, 256, 1024]⟩
abbrev S256x1024 : Shape := ⟨2, ![256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S3840x1024, .f32⟩
  | .hbm, ⟨4, _⟩ => ⟨S3840x1024, .f32⟩
  | .hbm, ⟨5, _⟩ => ⟨S3840x1024, .f32⟩
  | .hbm, ⟨6, _⟩ => ⟨S3840x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.addi c3_i32 arg1
  let c0_i32_0 : BitVec 32 := 0#32
  let v2 : BitVec 32 := Scalar.select v0 v1 c0_i32_0
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c3_i32 : BitVec 32 := 3#32
  let v1 : BitVec 32 := Scalar.addi c3_i32 arg1
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c3_i32 : BitVec 32 := 3#32
  let v1 : BitVec 32 := Scalar.addi c3_i32 arg1
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 32 := Scalar.addi c3_i32_0 arg1
  let c0_i32 : BitVec 32 := 0#32
  let v2 : BitVec 32 := Scalar.select v0 v1 c0_i32
  let c0_i32_1 : BitVec 32 := 0#32
  let c0_i32_2 : BitVec 32 := 0#32
  ![v2.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== RefAdamAttnOutIdeal.lean ====
abbrev S4x256x1024 : Shape := ⟨3, ![4, 256, 1024]⟩
abbrev S3840x1024 : Shape := ⟨2, ![3840, 1024]⟩
abbrev S256x1024 : Shape := ⟨2, ![256, 1024]⟩
abbrev S1x256x1024 : Shape := ⟨3, ![1, 256, 1024]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S3840x1024, .f32⟩
  | .hbm, ⟨4, _⟩ => ⟨S3840x1024, .f32⟩
  | .hbm, ⟨5, _⟩ => ⟨S3840x1024, .f32⟩
  | .hbm, ⟨6, _⟩ => ⟨S3840x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S1x256x1024, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S4x256x1024, .f32⟩
  | .hbm, ⟨16, _⟩ => ⟨S_, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S4x256x1024, .f32⟩
  | .hbm, ⟨23, _⟩ => ⟨S_, .f32⟩
  | .hbm, ⟨24, _⟩ => ⟨S4x256x1024, .f32⟩
  | .hbm, ⟨25, _⟩ => ⟨S4x256x1024, .f32⟩
  | .hbm, ⟨26, _⟩ => ⟨S4x256x1024, .f32⟩
  | .hbm, ⟨27, _⟩ => ⟨S_, .f32⟩
  | .hbm, ⟨28, _⟩ => ⟨S4x256x1024, .f32⟩
  | .hbm, ⟨29, _⟩ => ⟨S4x256x1024, .f32⟩
  | .hbm, ⟨30, _⟩ => ⟨S4x256x1024, .f32⟩
  | .hbm, ⟨31, _⟩ => ⟨S_, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | .hbm, ⟨37, _⟩ => ⟨S4x256x1024, .f32⟩
  | .hbm, ⟨38, _⟩ => ⟨S_, .f32⟩
  | .hbm, ⟨39, _⟩ => ⟨S4x256x1024, .f32⟩
  | .hbm, ⟨40, _⟩ => ⟨S4x256x1024, .f32⟩
  | .hbm, ⟨41, _⟩ => ⟨S4x256x1024, .f32⟩
  | .hbm, ⟨42, _⟩ => ⟨S_, .f32⟩
  | .hbm, ⟨43, _⟩ => ⟨S4x256x1024, .f32⟩
  | .hbm, ⟨44, _⟩ => ⟨S4x256x1024, .f32⟩
  | .hbm, ⟨45, _⟩ => ⟨S4x256x1024, .f32⟩
  | .hbm, ⟨46, _⟩ => ⟨S_, .f32⟩
  | .hbm, ⟨47, _⟩ => ⟨S4x256x1024, .f32⟩
  | .hbm, ⟨48, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== AdamMixOut.lean ====
abbrev S4x256x1024 : Shape := ⟨3, ![4, 256, 1024]⟩
abbrev S3840x1024 : Shape := ⟨2, ![3840, 1024]⟩
abbrev S1x256x1024 : Shape := ⟨3, ![1, 256, 1024]⟩
abbrev S256x1024 : Shape := ⟨2, ![256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S3840x1024, .f32⟩
  | .hbm, ⟨4, _⟩ => ⟨S3840x1024, .f32⟩
  | .hbm, ⟨5, _⟩ => ⟨S3840x1024, .f32⟩
  | .hbm, ⟨6, _⟩ => ⟨S3840x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c4_i32 : BitVec 32 := 4#32
  let v1 : BitVec 32 := Scalar.addi c4_i32 arg1
  let c0_i32_0 : BitVec 32 := 0#32
  let v2 : BitVec 32 := Scalar.select v0 v1 c0_i32_0
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c4_i32 : BitVec 32 := 4#32
  let v1 : BitVec 32 := Scalar.addi c4_i32 arg1
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c4_i32 : BitVec 32 := 4#32
  let v1 : BitVec 32 := Scalar.addi c4_i32 arg1
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c4_i32 : BitVec 32 := 4#32
  let v1 : BitVec 32 := Scalar.addi c4_i32 arg1
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamMixOutIdeal.lean ====
abbrev S4x256x1024 : Shape := ⟨3, ![4, 256, 1024]⟩
abbrev S3840x1024 : Shape := ⟨2, ![3840, 1024]⟩
abbrev S1x256x1024 : Shape := ⟨3, ![1, 256, 1024]⟩
abbrev S256x1024 : Shape := ⟨2, ![256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S3840x1024, .f32⟩
  | .hbm, ⟨4, _⟩ => ⟨S3840x1024, .f32⟩
  | .hbm, ⟨5, _⟩ => ⟨S3840x1024, .f32⟩
  | .hbm, ⟨6, _⟩ => ⟨S3840x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c4_i32 : BitVec 32 := 4#32
  let v1 : BitVec 32 := Scalar.addi c4_i32 arg1
  let c0_i32_0 : BitVec 32 := 0#32
  let v2 : BitVec 32 := Scalar.select v0 v1 c0_i32_0
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c4_i32 : BitVec 32 := 4#32
  let v1 : BitVec 32 := Scalar.addi c4_i32 arg1
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c4_i32 : BitVec 32 := 4#32
  let v1 : BitVec 32 := Scalar.addi c4_i32 arg1
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c4_i32 : BitVec 32 := 4#32
  let v1 : BitVec 32 := Scalar.addi c4_i32 arg1
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== RefAdamMixOutIdeal.lean ====
abbrev S4x256x1024 : Shape := ⟨3, ![4, 256, 1024]⟩
abbrev S3840x1024 : Shape := ⟨2, ![3840, 1024]⟩
abbrev S256x1024 : Shape := ⟨2, ![256, 1024]⟩
abbrev S1x256x1024 : Shape := ⟨3, ![1, 256, 1024]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S3840x1024, .f32⟩
  | .hbm, ⟨4, _⟩ => ⟨S3840x1024, .f32⟩
  | .hbm, ⟨5, _⟩ => ⟨S3840x1024, .f32⟩
  | .hbm, ⟨6, _⟩ => ⟨S3840x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S1x256x1024, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S4x256x1024, .f32⟩
  | .hbm, ⟨16, _⟩ => ⟨S_, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S4x256x1024, .f32⟩
  | .hbm, ⟨23, _⟩ => ⟨S_, .f32⟩
  | .hbm, ⟨24, _⟩ => ⟨S4x256x1024, .f32⟩
  | .hbm, ⟨25, _⟩ => ⟨S4x256x1024, .f32⟩
  | .hbm, ⟨26, _⟩ => ⟨S4x256x1024, .f32⟩
  | .hbm, ⟨27, _⟩ => ⟨S_, .f32⟩
  | .hbm, ⟨28, _⟩ => ⟨S4x256x1024, .f32⟩
  | .hbm, ⟨29, _⟩ => ⟨S4x256x1024, .f32⟩
  | .hbm, ⟨30, _⟩ => ⟨S4x256x1024, .f32⟩
  | .hbm, ⟨31, _⟩ => ⟨S_, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | .hbm, ⟨37, _⟩ => ⟨S4x256x1024, .f32⟩
  | .hbm, ⟨38, _⟩ => ⟨S_, .f32⟩
  | .hbm, ⟨39, _⟩ => ⟨S4x256x1024, .f32⟩
  | .hbm, ⟨40, _⟩ => ⟨S4x256x1024, .f32⟩
  | .hbm, ⟨41, _⟩ => ⟨S4x256x1024, .f32⟩
  | .hbm, ⟨42, _⟩ => ⟨S_, .f32⟩
  | .hbm, ⟨43, _⟩ => ⟨S4x256x1024, .f32⟩
  | .hbm, ⟨44, _⟩ => ⟨S4x256x1024, .f32⟩
  | .hbm, ⟨45, _⟩ => ⟨S4x256x1024, .f32⟩
  | .hbm, ⟨46, _⟩ => ⟨S_, .f32⟩
  | .hbm, ⟨47, _⟩ => ⟨S4x256x1024, .f32⟩
  | .hbm, ⟨48, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== AdamXo.lean ====
abbrev S4x256x1024 : Shape := ⟨3, ![4, 256, 1024]⟩
abbrev S3840x1024 : Shape := ⟨2, ![3840, 1024]⟩
abbrev S1x256x1024 : Shape := ⟨3, ![1, 256, 1024]⟩
abbrev S256x1024 : Shape := ⟨2, ![256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S3840x1024, .f32⟩
  | .hbm, ⟨4, _⟩ => ⟨S3840x1024, .f32⟩
  | .hbm, ⟨5, _⟩ => ⟨S3840x1024, .f32⟩
  | .hbm, ⟨6, _⟩ => ⟨S3840x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c6_i32 : BitVec 32 := 6#32
  let v1 : BitVec 32 := Scalar.addi c6_i32 arg1
  let c0_i32_0 : BitVec 32 := 0#32
  let v2 : BitVec 32 := Scalar.select v0 v1 c0_i32_0
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c6_i32 : BitVec 32 := 6#32
  let v1 : BitVec 32 := Scalar.addi c6_i32 arg1
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c6_i32 : BitVec 32 := 6#32
  let v1 : BitVec 32 := Scalar.addi c6_i32 arg1
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c6_i32 : BitVec 32 := 6#32
  let v1 : BitVec 32 := Scalar.addi c6_i32 arg1
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamXoIdeal.lean ====
abbrev S4x256x1024 : Shape := ⟨3, ![4, 256, 1024]⟩
abbrev S3840x1024 : Shape := ⟨2, ![3840, 1024]⟩
abbrev S1x256x1024 : Shape := ⟨3, ![1, 256, 1024]⟩
abbrev S256x1024 : Shape := ⟨2, ![256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S3840x1024, .f32⟩
  | .hbm, ⟨4, _⟩ => ⟨S3840x1024, .f32⟩
  | .hbm, ⟨5, _⟩ => ⟨S3840x1024, .f32⟩
  | .hbm, ⟨6, _⟩ => ⟨S3840x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c6_i32 : BitVec 32 := 6#32
  let v1 : BitVec 32 := Scalar.addi c6_i32 arg1
  let c0_i32_0 : BitVec 32 := 0#32
  let v2 : BitVec 32 := Scalar.select v0 v1 c0_i32_0
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c6_i32 : BitVec 32 := 6#32
  let v1 : BitVec 32 := Scalar.addi c6_i32 arg1
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c6_i32 : BitVec 32 := 6#32
  let v1 : BitVec 32 := Scalar.addi c6_i32 arg1
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c6_i32 : BitVec 32 := 6#32
  let v1 : BitVec 32 := Scalar.addi c6_i32 arg1
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== RefAdamXoIdeal.lean ====
abbrev S4x256x1024 : Shape := ⟨3, ![4, 256, 1024]⟩
abbrev S3840x1024 : Shape := ⟨2, ![3840, 1024]⟩
abbrev S256x1024 : Shape := ⟨2, ![256, 1024]⟩
abbrev S1x256x1024 : Shape := ⟨3, ![1, 256, 1024]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S3840x1024, .f32⟩
  | .hbm, ⟨4, _⟩ => ⟨S3840x1024, .f32⟩
  | .hbm, ⟨5, _⟩ => ⟨S3840x1024, .f32⟩
  | .hbm, ⟨6, _⟩ => ⟨S3840x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S1x256x1024, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S4x256x1024, .f32⟩
  | .hbm, ⟨16, _⟩ => ⟨S_, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S4x256x1024, .f32⟩
  | .hbm, ⟨23, _⟩ => ⟨S_, .f32⟩
  | .hbm, ⟨24, _⟩ => ⟨S4x256x1024, .f32⟩
  | .hbm, ⟨25, _⟩ => ⟨S4x256x1024, .f32⟩
  | .hbm, ⟨26, _⟩ => ⟨S4x256x1024, .f32⟩
  | .hbm, ⟨27, _⟩ => ⟨S_, .f32⟩
  | .hbm, ⟨28, _⟩ => ⟨S4x256x1024, .f32⟩
  | .hbm, ⟨29, _⟩ => ⟨S4x256x1024, .f32⟩
  | .hbm, ⟨30, _⟩ => ⟨S4x256x1024, .f32⟩
  | .hbm, ⟨31, _⟩ => ⟨S_, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | .hbm, ⟨37, _⟩ => ⟨S4x256x1024, .f32⟩
  | .hbm, ⟨38, _⟩ => ⟨S_, .f32⟩
  | .hbm, ⟨39, _⟩ => ⟨S4x256x1024, .f32⟩
  | .hbm, ⟨40, _⟩ => ⟨S4x256x1024, .f32⟩
  | .hbm, ⟨41, _⟩ => ⟨S4x256x1024, .f32⟩
  | .hbm, ⟨42, _⟩ => ⟨S_, .f32⟩
  | .hbm, ⟨43, _⟩ => ⟨S4x256x1024, .f32⟩
  | .hbm, ⟨44, _⟩ => ⟨S4x256x1024, .f32⟩
  | .hbm, ⟨45, _⟩ => ⟨S4x256x1024, .f32⟩
  | .hbm, ⟨46, _⟩ => ⟨S_, .f32⟩
  | .hbm, ⟨47, _⟩ => ⟨S4x256x1024, .f32⟩
  | .hbm, ⟨48, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== AdamSsdOut.lean ====
abbrev S4x512x1024 : Shape := ⟨3, ![4, 512, 1024]⟩
abbrev S3840x1024 : Shape := ⟨2, ![3840, 1024]⟩
abbrev S1x256x1024 : Shape := ⟨3, ![1, 256, 1024]⟩
abbrev S256x1024 : Shape := ⟨2, ![256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x512x1024, .f32⟩
  | .hbm, ⟨1, _⟩ => ⟨S4x512x1024, .f32⟩
  | .hbm, ⟨2, _⟩ => ⟨S4x512x1024, .f32⟩
  | .hbm, ⟨3, _⟩ => ⟨S3840x1024, .f32⟩
  | .hbm, ⟨4, _⟩ => ⟨S3840x1024, .f32⟩
  | .hbm, ⟨5, _⟩ => ⟨S3840x1024, .f32⟩
  | .hbm, ⟨6, _⟩ => ⟨S3840x1024, .f32⟩
  | .hbm, ⟨7, _⟩ => ⟨S4x512x1024, .f32⟩
  | .hbm, ⟨8, _⟩ => ⟨S4x512x1024, .f32⟩
  | .hbm, ⟨9, _⟩ => ⟨S4x512x1024, .f32⟩
  | .hbm, ⟨10, _⟩ => ⟨S4x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.addi c1_i32 arg1
  let c0_i32_0 : BitVec 32 := 0#32
  let v2 : BitVec 32 := Scalar.select v0 v1 c0_i32_0
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 32 := Scalar.addi c1_i32_0 arg1
  let c0_i32 : BitVec 32 := 0#32
  let v2 : BitVec 32 := Scalar.select v0 v1 c0_i32
  let c0_i32_1 : BitVec 32 := 0#32
  let c0_i32_2 : BitVec 32 := 0#32
  ![v2.toNat, c0_i32_1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c1_i32 : BitVec 32 := 1#32
  let v1 : BitVec 32 := Scalar.addi c1_i32 arg1
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c1_i32 : BitVec 32 := 1#32
  let v1 : BitVec 32 := Scalar.addi c1_i32 arg1
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamSsdOutIdeal.lean ====
abbrev S4x512x1024 : Shape := ⟨3, ![4, 512, 1024]⟩
abbrev S3840x1024 : Shape := ⟨2, ![3840, 1024]⟩
abbrev S1x256x1024 : Shape := ⟨3, ![1, 256, 1024]⟩
abbrev S256x1024 : Shape := ⟨2, ![256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x512x1024, .f32⟩
  | .hbm, ⟨1, _⟩ => ⟨S4x512x1024, .f32⟩
  | .hbm, ⟨2, _⟩ => ⟨S4x512x1024, .f32⟩
  | .hbm, ⟨3, _⟩ => ⟨S3840x1024, .f32⟩
  | .hbm, ⟨4, _⟩ => ⟨S3840x1024, .f32⟩
  | .hbm, ⟨5, _⟩ => ⟨S3840x1024, .f32⟩
  | .hbm, ⟨6, _⟩ => ⟨S3840x1024, .f32⟩
  | .hbm, ⟨7, _⟩ => ⟨S4x512x1024, .f32⟩
  | .hbm, ⟨8, _⟩ => ⟨S4x512x1024, .f32⟩
  | .hbm, ⟨9, _⟩ => ⟨S4x512x1024, .f32⟩
  | .hbm, ⟨10, _⟩ => ⟨S4x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.addi c1_i32 arg1
  let c0_i32_0 : BitVec 32 := 0#32
  let v2 : BitVec 32 := Scalar.select v0 v1 c0_i32_0
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 32 := Scalar.addi c1_i32_0 arg1
  let c0_i32 : BitVec 32 := 0#32
  let v2 : BitVec 32 := Scalar.select v0 v1 c0_i32
  let c0_i32_1 : BitVec 32 := 0#32
  let c0_i32_2 : BitVec 32 := 0#32
  ![v2.toNat, c0_i32_1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c1_i32 : BitVec 32 := 1#32
  let v1 : BitVec 32 := Scalar.addi c1_i32 arg1
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c1_i32 : BitVec 32 := 1#32
  let v1 : BitVec 32 := Scalar.addi c1_i32 arg1
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== RefAdamSsdOutIdeal.lean ====
abbrev S4x512x1024 : Shape := ⟨3, ![4, 512, 1024]⟩
abbrev S3840x1024 : Shape := ⟨2, ![3840, 1024]⟩
abbrev S512x1024 : Shape := ⟨2, ![512, 1024]⟩
abbrev S1x512x1024 : Shape := ⟨3, ![1, 512, 1024]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4x512x1024, .f32⟩
  | .hbm, ⟨1, _⟩ => ⟨S4x512x1024, .f32⟩
  | .hbm, ⟨2, _⟩ => ⟨S4x512x1024, .f32⟩
  | .hbm, ⟨3, _⟩ => ⟨S3840x1024, .f32⟩
  | .hbm, ⟨4, _⟩ => ⟨S3840x1024, .f32⟩
  | .hbm, ⟨5, _⟩ => ⟨S3840x1024, .f32⟩
  | .hbm, ⟨6, _⟩ => ⟨S3840x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S1x512x1024, .f32⟩
  | .hbm, ⟨12, _⟩ => ⟨S1x512x1024, .f32⟩
  | .hbm, ⟨13, _⟩ => ⟨S1x512x1024, .f32⟩
  | .hbm, ⟨14, _⟩ => ⟨S1x512x1024, .f32⟩
  | .hbm, ⟨15, _⟩ => ⟨S4x512x1024, .f32⟩
  | .hbm, ⟨16, _⟩ => ⟨S_, .f32⟩
  | .hbm, ⟨17, _⟩ => ⟨S4x512x1024, .f32⟩
  | .hbm, ⟨18, _⟩ => ⟨S4x512x1024, .f32⟩
  | .hbm, ⟨19, _⟩ => ⟨S_, .f32⟩
  | .hbm, ⟨20, _⟩ => ⟨S4x512x1024, .f32⟩
  | .hbm, ⟨21, _⟩ => ⟨S4x512x1024, .f32⟩
  | .hbm, ⟨22, _⟩ => ⟨S4x512x1024, .f32⟩
  | .hbm, ⟨23, _⟩ => ⟨S_, .f32⟩
  | .hbm, ⟨24, _⟩ => ⟨S4x512x1024, .f32⟩
  | .hbm, ⟨25, _⟩ => ⟨S4x512x1024, .f32⟩
  | .hbm, ⟨26, _⟩ => ⟨S4x512x1024, .f32⟩
  | .hbm, ⟨27, _⟩ => ⟨S_, .f32⟩
  | .hbm, ⟨28, _⟩ => ⟨S4x512x1024, .f32⟩
  | .hbm, ⟨29, _⟩ => ⟨S4x512x1024, .f32⟩
  | .hbm, ⟨30, _⟩ => ⟨S4x512x1024, .f32⟩
  | .hbm, ⟨31, _⟩ => ⟨S_, .f32⟩
  | .hbm, ⟨32, _⟩ => ⟨S4x512x1024, .f32⟩
  | .hbm, ⟨33, _⟩ => ⟨S4x512x1024, .f32⟩
  | .hbm, ⟨34, _⟩ => ⟨S_, .f32⟩
  | .hbm, ⟨35, _⟩ => ⟨S4x512x1024, .f32⟩
  | .hbm, ⟨36, _⟩ => ⟨S4x512x1024, .f32⟩
  | .hbm, ⟨37, _⟩ => ⟨S4x512x1024, .f32⟩
  | .hbm, ⟨38, _⟩ => ⟨S_, .f32⟩
  | .hbm, ⟨39, _⟩ => ⟨S4x512x1024, .f32⟩
  | .hbm, ⟨40, _⟩ => ⟨S4x512x1024, .f32⟩
  | .hbm, ⟨41, _⟩ => ⟨S4x512x1024, .f32⟩
  | .hbm, ⟨42, _⟩ => ⟨S_, .f32⟩
  | .hbm, ⟨43, _⟩ => ⟨S4x512x1024, .f32⟩
  | .hbm, ⟨44, _⟩ => ⟨S4x512x1024, .f32⟩
  | .hbm, ⟨45, _⟩ => ⟨S4x512x1024, .f32⟩
  | .hbm, ⟨46, _⟩ => ⟨S_, .f32⟩
  | .hbm, ⟨47, _⟩ => ⟨S4x512x1024, .f32⟩
  | .hbm, ⟨48, _⟩ => ⟨S4x512x1024, .f32⟩
  | _, _ => ⟨S4x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== AdamMlpUp.lean ====
abbrev S4x1024x1024 : Shape := ⟨3, ![4, 1024, 1024]⟩
abbrev S3840x1024 : Shape := ⟨2, ![3840, 1024]⟩
abbrev S1x256x1024 : Shape := ⟨3, ![1, 256, 1024]⟩
abbrev S256x1024 : Shape := ⟨2, ![256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S3840x1024, .f32⟩
  | .hbm, ⟨4, _⟩ => ⟨S3840x1024, .f32⟩
  | .hbm, ⟨5, _⟩ => ⟨S3840x1024, .f32⟩
  | .hbm, ⟨6, _⟩ => ⟨S3840x1024, .f32⟩
  | .hbm, ⟨7, _⟩ => ⟨S4x1024x1024, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.addi c7_i32 arg1
  let c0_i32_0 : BitVec 32 := 0#32
  let v2 : BitVec 32 := Scalar.select v0 v1 c0_i32_0
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c7_i32 : BitVec 32 := 7#32
  let v1 : BitVec 32 := Scalar.addi c7_i32 arg1
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c7_i32 : BitVec 32 := 7#32
  let v1 : BitVec 32 := Scalar.addi c7_i32 arg1
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c7_i32 : BitVec 32 := 7#32
  let v1 : BitVec 32 := Scalar.addi c7_i32 arg1
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamMlpUpIdeal.lean ====
abbrev S4x1024x1024 : Shape := ⟨3, ![4, 1024, 1024]⟩
abbrev S3840x1024 : Shape := ⟨2, ![3840, 1024]⟩
abbrev S1x256x1024 : Shape := ⟨3, ![1, 256, 1024]⟩
abbrev S256x1024 : Shape := ⟨2, ![256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S3840x1024, .f32⟩
  | .hbm, ⟨4, _⟩ => ⟨S3840x1024, .f32⟩
  | .hbm, ⟨5, _⟩ => ⟨S3840x1024, .f32⟩
  | .hbm, ⟨6, _⟩ => ⟨S3840x1024, .f32⟩
  | .hbm, ⟨7, _⟩ => ⟨S4x1024x1024, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.addi c7_i32 arg1
  let c0_i32_0 : BitVec 32 := 0#32
  let v2 : BitVec 32 := Scalar.select v0 v1 c0_i32_0
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c7_i32 : BitVec 32 := 7#32
  let v1 : BitVec 32 := Scalar.addi c7_i32 arg1
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c7_i32 : BitVec 32 := 7#32
  let v1 : BitVec 32 := Scalar.addi c7_i32 arg1
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c7_i32 : BitVec 32 := 7#32
  let v1 : BitVec 32 := Scalar.addi c7_i32 arg1
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== RefAdamMlpUpIdeal.lean ====
abbrev S4x1024x1024 : Shape := ⟨3, ![4, 1024, 1024]⟩
abbrev S3840x1024 : Shape := ⟨2, ![3840, 1024]⟩
abbrev S1024x1024 : Shape := ⟨2, ![1024, 1024]⟩
abbrev S1x1024x1024 : Shape := ⟨3, ![1, 1024, 1024]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S3840x1024, .f32⟩
  | .hbm, ⟨4, _⟩ => ⟨S3840x1024, .f32⟩
  | .hbm, ⟨5, _⟩ => ⟨S3840x1024, .f32⟩
  | .hbm, ⟨6, _⟩ => ⟨S3840x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1x1024x1024, .f32⟩
  | .hbm, ⟨12, _⟩ => ⟨S1x1024x1024, .f32⟩
  | .hbm, ⟨13, _⟩ => ⟨S1x1024x1024, .f32⟩
  | .hbm, ⟨14, _⟩ => ⟨S1x1024x1024, .f32⟩
  | .hbm, ⟨15, _⟩ => ⟨S4x1024x1024, .f32⟩
  | .hbm, ⟨16, _⟩ => ⟨S_, .f32⟩
  | .hbm, ⟨17, _⟩ => ⟨S4x1024x1024, .f32⟩
  | .hbm, ⟨18, _⟩ => ⟨S4x1024x1024, .f32⟩
  | .hbm, ⟨19, _⟩ => ⟨S_, .f32⟩
  | .hbm, ⟨20, _⟩ => ⟨S4x1024x1024, .f32⟩
  | .hbm, ⟨21, _⟩ => ⟨S4x1024x1024, .f32⟩
  | .hbm, ⟨22, _⟩ => ⟨S4x1024x1024, .f32⟩
  | .hbm, ⟨23, _⟩ => ⟨S_, .f32⟩
  | .hbm, ⟨24, _⟩ => ⟨S4x1024x1024, .f32⟩
  | .hbm, ⟨25, _⟩ => ⟨S4x1024x1024, .f32⟩
  | .hbm, ⟨26, _⟩ => ⟨S4x1024x1024, .f32⟩
  | .hbm, ⟨27, _⟩ => ⟨S_, .f32⟩
  | .hbm, ⟨28, _⟩ => ⟨S4x1024x1024, .f32⟩
  | .hbm, ⟨29, _⟩ => ⟨S4x1024x1024, .f32⟩
  | .hbm, ⟨30, _⟩ => ⟨S4x1024x1024, .f32⟩
  | .hbm, ⟨31, _⟩ => ⟨S_, .f32⟩
  | .hbm, ⟨32, _⟩ => ⟨S4x1024x1024, .f32⟩
  | .hbm, ⟨33, _⟩ => ⟨S4x1024x1024, .f32⟩
  | .hbm, ⟨34, _⟩ => ⟨S_, .f32⟩
  | .hbm, ⟨35, _⟩ => ⟨S4x1024x1024, .f32⟩
  | .hbm, ⟨36, _⟩ => ⟨S4x1024x1024, .f32⟩
  | .hbm, ⟨37, _⟩ => ⟨S4x1024x1024, .f32⟩
  | .hbm, ⟨38, _⟩ => ⟨S_, .f32⟩
  | .hbm, ⟨39, _⟩ => ⟨S4x1024x1024, .f32⟩
  | .hbm, ⟨40, _⟩ => ⟨S4x1024x1024, .f32⟩
  | .hbm, ⟨41, _⟩ => ⟨S4x1024x1024, .f32⟩
  | .hbm, ⟨42, _⟩ => ⟨S_, .f32⟩
  | .hbm, ⟨43, _⟩ => ⟨S4x1024x1024, .f32⟩
  | .hbm, ⟨44, _⟩ => ⟨S4x1024x1024, .f32⟩
  | .hbm, ⟨45, _⟩ => ⟨S4x1024x1024, .f32⟩
  | .hbm, ⟨46, _⟩ => ⟨S_, .f32⟩
  | .hbm, ⟨47, _⟩ => ⟨S4x1024x1024, .f32⟩
  | .hbm, ⟨48, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== AdamMlpDown.lean ====
abbrev S4x1024x1024 : Shape := ⟨3, ![4, 1024, 1024]⟩
abbrev S3840x1024 : Shape := ⟨2, ![3840, 1024]⟩
abbrev S1x256x1024 : Shape := ⟨3, ![1, 256, 1024]⟩
abbrev S256x1024 : Shape := ⟨2, ![256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S3840x1024, .f32⟩
  | .hbm, ⟨4, _⟩ => ⟨S3840x1024, .f32⟩
  | .hbm, ⟨5, _⟩ => ⟨S3840x1024, .f32⟩
  | .hbm, ⟨6, _⟩ => ⟨S3840x1024, .f32⟩
  | .hbm, ⟨7, _⟩ => ⟨S4x1024x1024, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c11_i32 : BitVec 32 := 11#32
  let v1 : BitVec 32 := Scalar.addi c11_i32 arg1
  let c0_i32_0 : BitVec 32 := 0#32
  let v2 : BitVec 32 := Scalar.select v0 v1 c0_i32_0
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c11_i32 : BitVec 32 := 11#32
  let v1 : BitVec 32 := Scalar.addi c11_i32 arg1
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c11_i32 : BitVec 32 := 11#32
  let v1 : BitVec 32 := Scalar.addi c11_i32 arg1
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c11_i32 : BitVec 32 := 11#32
  let v1 : BitVec 32 := Scalar.addi c11_i32 arg1
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamMlpDownIdeal.lean ====
abbrev S4x1024x1024 : Shape := ⟨3, ![4, 1024, 1024]⟩
abbrev S3840x1024 : Shape := ⟨2, ![3840, 1024]⟩
abbrev S1x256x1024 : Shape := ⟨3, ![1, 256, 1024]⟩
abbrev S256x1024 : Shape := ⟨2, ![256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S3840x1024, .f32⟩
  | .hbm, ⟨4, _⟩ => ⟨S3840x1024, .f32⟩
  | .hbm, ⟨5, _⟩ => ⟨S3840x1024, .f32⟩
  | .hbm, ⟨6, _⟩ => ⟨S3840x1024, .f32⟩
  | .hbm, ⟨7, _⟩ => ⟨S4x1024x1024, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c11_i32 : BitVec 32 := 11#32
  let v1 : BitVec 32 := Scalar.addi c11_i32 arg1
  let c0_i32_0 : BitVec 32 := 0#32
  let v2 : BitVec 32 := Scalar.select v0 v1 c0_i32_0
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c11_i32 : BitVec 32 := 11#32
  let v1 : BitVec 32 := Scalar.addi c11_i32 arg1
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c11_i32 : BitVec 32 := 11#32
  let v1 : BitVec 32 := Scalar.addi c11_i32 arg1
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c11_i32 : BitVec 32 := 11#32
  let v1 : BitVec 32 := Scalar.addi c11_i32 arg1
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== RefAdamMlpDownIdeal.lean ====
abbrev S4x1024x1024 : Shape := ⟨3, ![4, 1024, 1024]⟩
abbrev S3840x1024 : Shape := ⟨2, ![3840, 1024]⟩
abbrev S1024x1024 : Shape := ⟨2, ![1024, 1024]⟩
abbrev S1x1024x1024 : Shape := ⟨3, ![1, 1024, 1024]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S3840x1024, .f32⟩
  | .hbm, ⟨4, _⟩ => ⟨S3840x1024, .f32⟩
  | .hbm, ⟨5, _⟩ => ⟨S3840x1024, .f32⟩
  | .hbm, ⟨6, _⟩ => ⟨S3840x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1x1024x1024, .f32⟩
  | .hbm, ⟨12, _⟩ => ⟨S1x1024x1024, .f32⟩
  | .hbm, ⟨13, _⟩ => ⟨S1x1024x1024, .f32⟩
  | .hbm, ⟨14, _⟩ => ⟨S1x1024x1024, .f32⟩
  | .hbm, ⟨15, _⟩ => ⟨S4x1024x1024, .f32⟩
  | .hbm, ⟨16, _⟩ => ⟨S_, .f32⟩
  | .hbm, ⟨17, _⟩ => ⟨S4x1024x1024, .f32⟩
  | .hbm, ⟨18, _⟩ => ⟨S4x1024x1024, .f32⟩
  | .hbm, ⟨19, _⟩ => ⟨S_, .f32⟩
  | .hbm, ⟨20, _⟩ => ⟨S4x1024x1024, .f32⟩
  | .hbm, ⟨21, _⟩ => ⟨S4x1024x1024, .f32⟩
  | .hbm, ⟨22, _⟩ => ⟨S4x1024x1024, .f32⟩
  | .hbm, ⟨23, _⟩ => ⟨S_, .f32⟩
  | .hbm, ⟨24, _⟩ => ⟨S4x1024x1024, .f32⟩
  | .hbm, ⟨25, _⟩ => ⟨S4x1024x1024, .f32⟩
  | .hbm, ⟨26, _⟩ => ⟨S4x1024x1024, .f32⟩
  | .hbm, ⟨27, _⟩ => ⟨S_, .f32⟩
  | .hbm, ⟨28, _⟩ => ⟨S4x1024x1024, .f32⟩
  | .hbm, ⟨29, _⟩ => ⟨S4x1024x1024, .f32⟩
  | .hbm, ⟨30, _⟩ => ⟨S4x1024x1024, .f32⟩
  | .hbm, ⟨31, _⟩ => ⟨S_, .f32⟩
  | .hbm, ⟨32, _⟩ => ⟨S4x1024x1024, .f32⟩
  | .hbm, ⟨33, _⟩ => ⟨S4x1024x1024, .f32⟩
  | .hbm, ⟨34, _⟩ => ⟨S_, .f32⟩
  | .hbm, ⟨35, _⟩ => ⟨S4x1024x1024, .f32⟩
  | .hbm, ⟨36, _⟩ => ⟨S4x1024x1024, .f32⟩
  | .hbm, ⟨37, _⟩ => ⟨S4x1024x1024, .f32⟩
  | .hbm, ⟨38, _⟩ => ⟨S_, .f32⟩
  | .hbm, ⟨39, _⟩ => ⟨S4x1024x1024, .f32⟩
  | .hbm, ⟨40, _⟩ => ⟨S4x1024x1024, .f32⟩
  | .hbm, ⟨41, _⟩ => ⟨S4x1024x1024, .f32⟩
  | .hbm, ⟨42, _⟩ => ⟨S_, .f32⟩
  | .hbm, ⟨43, _⟩ => ⟨S4x1024x1024, .f32⟩
  | .hbm, ⟨44, _⟩ => ⟨S4x1024x1024, .f32⟩
  | .hbm, ⟨45, _⟩ => ⟨S4x1024x1024, .f32⟩
  | .hbm, ⟨46, _⟩ => ⟨S_, .f32⟩
  | .hbm, ⟨47, _⟩ => ⟨S4x1024x1024, .f32⟩
  | .hbm, ⟨48, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== AdamXkv.lean ====
abbrev S4x1024x512 : Shape := ⟨3, ![4, 1024, 512]⟩
abbrev S1024x512 : Shape := ⟨2, ![1024, 512]⟩
abbrev S1x1024x512 : Shape := ⟨3, ![1, 1024, 512]⟩

abbrev nBuf : Space → Nat
  | .hbm => 11
  | .vmem => 22
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S4x1024x512, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1x1024x512, .f32⟩
  | .local _ .vmem, ⟨15, _⟩ => ⟨S1x1024x512, .f32⟩
  | .local _ .vmem, ⟨16, _⟩ => ⟨S1x1024x512, .f32⟩
  | .local _ .vmem, ⟨17, _⟩ => ⟨S1x1024x512, .f32⟩
  | .local _ .vmem, ⟨18, _⟩ => ⟨S1x1024x512, .f32⟩
  | .local _ .vmem, ⟨19, _⟩ => ⟨S1x1024x512, .f32⟩
  | .local _ .vmem, ⟨20, _⟩ => ⟨S1x1024x512, .f32⟩
  | .local _ .vmem, ⟨21, _⟩ => ⟨S1x1024x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.addi c0_i32_0 arg1
  let c0_i32_1 : BitVec 32 := 0#32
  let v2 : BitVec 32 := Scalar.select v0 v1 c0_i32_1
  let c0_i32_2 : BitVec 32 := 0#32
  let c0_i32_3 : BitVec 32 := 0#32
  ![v2.toNat, c0_i32_2.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.addi c0_i32 arg1
  let c0_i32_0 : BitVec 32 := 0#32
  let v2 : BitVec 32 := Scalar.select v0 v1 c0_i32_0
  let c0_i32_1 : BitVec 32 := 0#32
  let c0_i32_2 : BitVec 32 := 0#32
  ![v2.toNat, c0_i32_1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.addi c0_i32 arg1
  let c0_i32_0 : BitVec 32 := 0#32
  let v2 : BitVec 32 := Scalar.select v0 v1 c0_i32_0
  let c0_i32_1 : BitVec 32 := 0#32
  let c0_i32_2 : BitVec 32 := 0#32
  ![v2.toNat, c0_i32_1.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.addi c0_i32 arg1
  let c0_i32_0 : BitVec 32 := 0#32
  let v2 : BitVec 32 := Scalar.select v0 v1 c0_i32_0
  let c0_i32_1 : BitVec 32 := 0#32
  let c0_i32_2 : BitVec 32 := 0#32
  ![v2.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== RefAdamXkvIdeal.lean ====
abbrev S4x1024x512 : Shape := ⟨3, ![4, 1024, 512]⟩
abbrev S1024x512 : Shape := ⟨2, ![1024, 512]⟩
abbrev S1x1024x512 : Shape := ⟨3, ![1, 1024, 512]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1x1024x512, .f32⟩
  | .hbm, ⟨8, _⟩ => ⟨S1x1024x512, .f32⟩
  | .hbm, ⟨9, _⟩ => ⟨S1x1024x512, .f32⟩
  | .hbm, ⟨10, _⟩ => ⟨S1x1024x512, .f32⟩
  | .hbm, ⟨11, _⟩ => ⟨S4x1024x512, .f32⟩
  | .hbm, ⟨12, _⟩ => ⟨S_, .f32⟩
  | .hbm, ⟨13, _⟩ => ⟨S4x1024x512, .f32⟩
  | .hbm, ⟨14, _⟩ => ⟨S4x1024x512, .f32⟩
  | .hbm, ⟨15, _⟩ => ⟨S_, .f32⟩
  | .hbm, ⟨16, _⟩ => ⟨S4x1024x512, .f32⟩
  | .hbm, ⟨17, _⟩ => ⟨S4x1024x512, .f32⟩
  | .hbm, ⟨18, _⟩ => ⟨S4x1024x512, .f32⟩
  | .hbm, ⟨19, _⟩ => ⟨S_, .f32⟩
  | .hbm, ⟨20, _⟩ => ⟨S4x1024x512, .f32⟩
  | .hbm, ⟨21, _⟩ => ⟨S4x1024x512, .f32⟩
  | .hbm, ⟨22, _⟩ => ⟨S4x1024x512, .f32⟩
  | .hbm, ⟨23, _⟩ => ⟨S_, .f32⟩
  | .hbm, ⟨24, _⟩ => ⟨S4x1024x512, .f32⟩
  | .hbm, ⟨25, _⟩ => ⟨S4x1024x512, .f32⟩
  | .hbm, ⟨26, _⟩ => ⟨S4x1024x512, .f32⟩
  | .hbm, ⟨27, _⟩ => ⟨S_, .f32⟩
  | .hbm, ⟨28, _⟩ => ⟨S4x1024x512, .f32⟩
  | .hbm, ⟨29, _⟩ => ⟨S4x1024x512, .f32⟩
  | .hbm, ⟨30, _⟩ => ⟨S_, .f32⟩
  | .hbm, ⟨31, _⟩ => ⟨S4x1024x512, .f32⟩
  | .hbm, ⟨32, _⟩ => ⟨S4x1024x512, .f32⟩
  | .hbm, ⟨33, _⟩ => ⟨S4x1024x512, .f32⟩
  | .hbm, ⟨34, _⟩ => ⟨S_, .f32⟩
  | .hbm, ⟨35, _⟩ => ⟨S4x1024x512, .f32⟩
  | .hbm, ⟨36, _⟩ => ⟨S4x1024x512, .f32⟩
  | .hbm, ⟨37, _⟩ => ⟨S4x1024x512, .f32⟩
  | .hbm, ⟨38, _⟩ => ⟨S_, .f32⟩
  | .hbm, ⟨39, _⟩ => ⟨S4x1024x512, .f32⟩
  | .hbm, ⟨40, _⟩ => ⟨S4x1024x512, .f32⟩
  | .hbm, ⟨41, _⟩ => ⟨S4x1024x512, .f32⟩
  | .hbm, ⟨42, _⟩ => ⟨S_, .f32⟩
  | .hbm, ⟨43, _⟩ => ⟨S4x1024x512, .f32⟩
  | .hbm, ⟨44, _⟩ => ⟨S4x1024x512, .f32⟩
  | _, _ => ⟨S4x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Proof.Lift.lean ====
/-
  Arrays of finite numbers, operation by operation. `Is1 v f`, `Is2 v f`, `Is3 v f`: the extended-real array `v` holds, at
  every index, the real number that `f` gives at the index's coordinates. Each lemma below says of one vector operation
  (a kernel's or the host's) what real numbers its result holds when its operands hold real numbers.
-/
module

public import Idealize.ShloMosaic.Lib.Pointwise
public import Idealize.ShloMosaic.Lib.ValueIdx

@[expose] public section

noncomputable section

namespace Cert.Lift

open Idealize.ShloMosaic

/-- A real sum, as an extended real, is the sum of the terms. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A maximum of reals from below everything, over a nonempty index type, is the real maximum. -/
theorem fold_max {n : Nat} [NeZero n] (f : Fin n → ℝ) :
    Finset.univ.fold max (⊥ : EReal) (fun k => (f k : EReal))
      = ((Finset.univ.sup' ⟨0, Finset.mem_univ _⟩ f : ℝ) : EReal) := by
  apply le_antisymm
  · rw [Finset.fold_max_le]
    exact ⟨bot_le, fun k _ => EReal.coe_le_coe_iff.2 (Finset.le_sup' f (Finset.mem_univ k))⟩
  · obtain ⟨k, _, hk⟩ := Finset.exists_mem_eq_sup' ⟨0, Finset.mem_univ (0 : Fin n)⟩ f
    rw [hk, Finset.le_fold_max]
    exact Or.inr ⟨k, Finset.mem_univ k, le_rfl⟩

/-- The coordinate that a broadcast reads on an axis of `n` from `n`, also where `n` is one. -/
theorem lane_val {n : Nat} (i : Fin n) (p : n = 1 → 0 < n) (q : ¬ n = 1 → i.val < n) :
    (if h : n = 1 then (⟨0, p h⟩ : Fin n) else ⟨i.val, q h⟩).val = i.val := by
  have := i.isLt
  split
  · show 0 = i.val; omega
  · rfl

/-- `-∞` at `f32` is below everything. -/
theorem ofBits_ninf : Ideal.ofBits .f32 0xFF800000#32 = ⊥ := by simp [Ideal.ofBits, Ideal.ieee]

/-- The largest of finitely many reals. -/
def top {n : Nat} [NeZero n] (f : Fin n → ℝ) : ℝ := Finset.univ.sup' ⟨0, Finset.mem_univ _⟩ f

variable {φ ψ : FTy} {n0 n1 n2 : Nat}

/-- A scalar array holds the real `r`. -/
def Is0 (v : FVec Ideal ⟨0, ![]⟩ φ) (r : ℝ) : Prop := ∀ j, v j = (r : EReal)
/-- A vector holds the reals `f i`. -/
def Is1 (v : FVec Ideal ⟨1, ![n0]⟩ φ) (f : Fin n0 → ℝ) : Prop := ∀ i, v (ix1 i) = (f i : EReal)
/-- A matrix holds the reals `f i j`. -/
def Is2 (v : FVec Ideal ⟨2, ![n0, n1]⟩ φ) (f : Fin n0 → Fin n1 → ℝ) : Prop := ∀ i j, v (ix2 i j) = (f i j : EReal)
/-- An array of three axes holds the reals `f i j k`. -/
def Is3 (v : FVec Ideal ⟨3, ![n0, n1, n2]⟩ φ) (f : Fin n0 → Fin n1 → Fin n2 → ℝ) : Prop :=
  ∀ i j k, v (ix3 i j k) = (f i j k : EReal)

theorem ix1_of (i : (⟨1, ![n0]⟩ : Shape).Idx) : ∃ a : Fin n0, i = ix1 a := ⟨i 0, funext fun a => match a with | ⟨0, _⟩ => rfl⟩
theorem ix2_of (i : (⟨2, ![n0, n1]⟩ : Shape).Idx) : ∃ (a : Fin n0) (b : Fin n1), i = ix2 a b :=
  ⟨i 0, i 1, funext fun a => match a with | ⟨0, _⟩ => rfl | ⟨1, _⟩ => rfl⟩
theorem ix3_of (i : (⟨3, ![n0, n1, n2]⟩ : Shape).Idx) : ∃ (a : Fin n0) (b : Fin n1) (c : Fin n2), i = ix3 a b c :=
  ⟨i 0, i 1, i 2, funext fun a => match a with | ⟨0, _⟩ => rfl | ⟨1, _⟩ => rfl | ⟨2, _⟩ => rfl⟩
/-- The same matrix under another name for its numbers. -/
theorem is2_congr {a : FVec Ideal ⟨2, ![n0, n1]⟩ φ} {f g : Fin n0 → Fin n1 → ℝ} (h : Is2 a f)
    (e : ∀ i j, f i j = g i j) : Is2 a g := fun i j => (h i j).trans (congrArg _ (e i j))
/-- The same array of three axes under another name for its numbers. -/
theorem is3_congr {a : FVec Ideal ⟨3, ![n0, n1, n2]⟩ φ} {f g : Fin n0 → Fin n1 → Fin n2 → ℝ} (h : Is3 a f)
    (e : ∀ i j k, f i j k = g i j k) : Is3 a g := fun i j k => (h i j k).trans (congrArg _ (e i j k))

/-! ## The scalar facts -/

theorem div_real {x y : ℝ} (h : y ≠ 0) : Ideal.div (x : EReal) (y : EReal) = ((x / y : ℝ) : EReal) := by
  rw [Ideal.div_coe h, ← EReal.coe_mul, mul_one_div]

theorem rsqrt_real {x : ℝ} (h : 0 < x) : Ideal.rsqrt (x : EReal) = (((√x)⁻¹ : ℝ) : EReal) := by
  rw [Ideal.rsqrt_coe, if_neg (not_lt.2 h.le), if_neg h.ne']

/-! ## Elementwise operations -/

section Elementwise

variable {a b : FVec Ideal ⟨1, ![n0]⟩ φ} {f g : Fin n0 → ℝ}

theorem mul1 (ha : Is1 a f) (hb : Is1 b g) : Is1 (mulf a b) (fun i => f i * g i) := fun i => by
  rw [EReal.coe_mul, ← ha, ← hb]; rfl
theorem add1 (ha : Is1 a f) (hb : Is1 b g) : Is1 (addf a b) (fun i => f i + g i) := fun i => by
  rw [EReal.coe_add, ← ha, ← hb]; rfl
theorem sub1 (ha : Is1 a f) (hb : Is1 b g) : Is1 (subf a b) (fun i => f i - g i) := fun i => by
  rw [EReal.coe_sub, ← ha, ← hb]; rfl

end Elementwise

section Elementwise

variable {a b : FVec Ideal ⟨2, ![n0, n1]⟩ φ} {f g : Fin n0 → Fin n1 → ℝ}

theorem mul2 (ha : Is2 a f) (hb : Is2 b g) : Is2 (mulf a b) (fun i j => f i j * g i j) := fun i j => by
  rw [EReal.coe_mul, ← ha, ← hb]; rfl
theorem add2 (ha : Is2 a f) (hb : Is2 b g) : Is2 (addf a b) (fun i j => f i j + g i j) := fun i j => by
  rw [EReal.coe_add, ← ha, ← hb]; rfl
theorem sub2 (ha : Is2 a f) (hb : Is2 b g) : Is2 (subf a b) (fun i j => f i j - g i j) := fun i j => by
  rw [EReal.coe_sub, ← ha, ← hb]; rfl
theorem div2 (ha : Is2 a f) (hb : Is2 b g) (h : ∀ i j, g i j ≠ 0) : Is2 (divf a b) (fun i j => f i j / g i j) := fun i j => by
  rw [← div_real (h i j), ← ha, ← hb]; rfl
theorem hdiv2 (ha : Is2 a f) (hb : Is2 b g) (h : ∀ i j, g i j ≠ 0) : Is2 (Host.divf a b) (fun i j => f i j / g i j) := fun i j => by
  rw [← div_real (h i j), ← ha, ← hb]; rfl
theorem rsqrt2 (ha : Is2 a f) (h : ∀ i j, 0 < f i j) : Is2 (rsqrt a) (fun i j => (√(f i j))⁻¹) := fun i j => by
  rw [← rsqrt_real (h i j), ← ha]; rfl
theorem exp2 (ha : Is2 a f) : Is2 (exp a) (fun i j => Real.exp (f i j)) := fun i j => by
  rw [← Ideal.exp_coe, ← ha]; rfl
theorem trunc2 (h : ψ.bits < φ.bits) (ha : Is2 a f) : Is2 (truncf ψ a h) f := fun i j => by
  rw [← ha]; rfl
/-- A scalar of the kernel, at every index. -/
theorem splat2 {r : ℝ} (x : Ideal φ) (h : x = (r : EReal)) :
    Is2 (broadcast ⟨2, ![n0, n1]⟩ x) (fun _ _ => r) := fun _ _ => h

end Elementwise

section Elementwise

variable {a b : FVec Ideal ⟨3, ![n0, n1, n2]⟩ φ} {f g : Fin n0 → Fin n1 → Fin n2 → ℝ}

theorem mul3 (ha : Is3 a f) (hb : Is3 b g) : Is3 (mulf a b) (fun i j k => f i j k * g i j k) := fun i j k => by
  rw [EReal.coe_mul, ← ha, ← hb]; rfl
theorem add3 (ha : Is3 a f) (hb : Is3 b g) : Is3 (addf a b) (fun i j k => f i j k + g i j k) := fun i j k => by
  rw [EReal.coe_add, ← ha, ← hb]; rfl
theorem sub3 (ha : Is3 a f) (hb : Is3 b g) : Is3 (subf a b) (fun i j k => f i j k - g i j k) := fun i j k => by
  rw [EReal.coe_sub, ← ha, ← hb]; rfl
theorem hneg3 (ha : Is3 a f) : Is3 (Host.negf a) (fun i j k => - f i j k) := fun i j k => by
  rw [EReal.coe_neg, ← ha]; rfl
theorem hdiv3 (ha : Is3 a f) (hb : Is3 b g) (h : ∀ i j k, g i j k ≠ 0) :
    Is3 (Host.divf a b) (fun i j k => f i j k / g i j k) := fun i j k => by
  rw [← div_real (h i j k), ← ha, ← hb]; rfl
theorem hrsqrt3 (ha : Is3 a f) (h : ∀ i j k, 0 < f i j k) : Is3 (Host.rsqrt a) (fun i j k => (√(f i j k))⁻¹) := fun i j k => by
  rw [← rsqrt_real (h i j k), ← ha]; rfl
theorem hexp3 (ha : Is3 a f) : Is3 (Host.exp a) (fun i j k => Real.exp (f i j k)) := fun i j k => by
  rw [← Ideal.exp_coe, ← ha]; rfl

end Elementwise

/-! ## A host constant at every index -/

theorem const0 {r : ℝ} (b : BitVec φ.bits) (h : Ideal.ofBits φ b = (r : EReal)) :
    Is0 (constant (F := Ideal) ⟨0, ![]⟩ φ b) r := fun _ => h
theorem hsplat2 {a : FVec Ideal ⟨0, ![]⟩ φ} {r : ℝ} (ha : Is0 a r)
    {h : (⟨0, ![]⟩ : Shape).BroadcastsInDim ⟨2, ![n0, n1]⟩ ![]} :
    Is2 (broadcastInDim ⟨2, ![n0, n1]⟩ ![] h a) (fun _ _ => r) := fun _ _ => ha _
theorem hsplat3 {a : FVec Ideal ⟨0, ![]⟩ φ} {r : ℝ} (ha : Is0 a r)
    {h : (⟨0, ![]⟩ : Shape).BroadcastsInDim ⟨3, ![n0, n1, n2]⟩ ![]} :
    Is3 (broadcastInDim ⟨3, ![n0, n1, n2]⟩ ![] h a) (fun _ _ _ => r) := fun _ _ _ => ha _

/-! ## The kernel's re-indexings and sums -/

theorem lane2 {a : FVec Ideal ⟨2, ![n0, 1]⟩ φ} {f : Fin n0 → Fin 1 → ℝ} (ha : Is2 a f)
    {h : (⟨2, ![n0, 1]⟩ : Shape).Broadcasts ⟨2, ![n0, n1]⟩} :
    Is2 (broadcastTo ⟨2, ![n0, n1]⟩ a h) (fun i _ => f i 0) := fun i j => by
  rw [← ha]; pointwise
  refine congrArg a (funext fun c => Fin.ext ?_)
  simp only [Shape.Idx.norm_def]
  fin_cases c
  · exact lane_val i _ _
  · rfl
theorem row2 {a : FVec Ideal ⟨2, ![1, n1]⟩ φ} {f : Fin 1 → Fin n1 → ℝ} (ha : Is2 a f)
    {h : (⟨2, ![1, n1]⟩ : Shape).Broadcasts ⟨2, ![n0, n1]⟩} :
    Is2 (broadcastTo ⟨2, ![n0, n1]⟩ a h) (fun _ j => f 0 j) := fun i j => by
  rw [← ha]; pointwise
  refine congrArg a (funext fun c => Fin.ext ?_)
  simp only [Shape.Idx.norm_def]
  fin_cases c
  · rfl
  · exact lane_val j _ _
theorem col_cast {a : FVec Ideal ⟨1, ![n0]⟩ φ} {f : Fin n0 → ℝ} (ha : Is1 a f)
    {h : (⟨1, ![n0]⟩ : Shape).ShapeCasts ⟨2, ![n0, 1]⟩} :
    Is2 (shapeCast ⟨2, ![n0, 1]⟩ a h) (fun i _ => f i) := fun i j => by
  rw [← ha]; pointwise
  refine congrArg a (Shape.reshapeEquiv_eq_of_vals _ _ _ _ _ (rowMajor_val1 _) (rowMajor_val2 _ 1 rfl) ?_)
  have := j.isLt; show i.val = i.val * 1 + j.val; omega
theorem row_cast {a : FVec Ideal ⟨1, ![n1]⟩ φ} {f : Fin n1 → ℝ} (ha : Is1 a f)
    {h : (⟨1, ![n1]⟩ : Shape).ShapeCasts ⟨2, ![1, n1]⟩} :
    Is2 (shapeCast ⟨2, ![1, n1]⟩ a h) (fun _ j => f j) := fun i j => by
  rw [← ha]; pointwise
  refine congrArg a (Shape.reshapeEquiv_eq_of_vals _ _ _ _ _ (rowMajor_val1 _) (rowMajor_val2 _ n1 rfl) ?_)
  have := i.isLt; have h0 : i.val = 0 := by omega
  show j.val = i.val * n1 + j.val; rw [h0]; omega
theorem row_sum {a : FVec Ideal ⟨2, ![n0, n1]⟩ φ} {f : Fin n0 → Fin n1 → ℝ} (ha : Is2 a f)
    {z : BitVec φ.bits} {h : (⟨2, ![n0, n1]⟩ : Shape).Reduces [1] ⟨1, ![n0]⟩} {h1 h2} :
    Is1 (multiReduction .add [1] ⟨1, ![n0]⟩ a z h h1 h2) (fun i => ∑ k, f i k) := fun i => by
  simp only [coe_sum, ← ha _ _]; pointwise
theorem col_sum {a : FVec Ideal ⟨2, ![n0, n1]⟩ φ} {f : Fin n0 → Fin n1 → ℝ} (ha : Is2 a f)
    {z : BitVec φ.bits} {h : (⟨2, ![n0, n1]⟩ : Shape).Reduces [0] ⟨1, ![n1]⟩} {h1 h2} :
    Is1 (multiReduction .add [0] ⟨1, ![n1]⟩ a z h h1 h2) (fun j => ∑ k, f k j) := fun i => by
  simp only [coe_sum, ← ha _ _]; pointwise
theorem row_max [NeZero n1] {a : FVec Ideal ⟨2, ![n0, n1]⟩ .f32} {f : Fin n0 → Fin n1 → ℝ} (ha : Is2 a f)
    {h : (⟨2, ![n0, n1]⟩ : Shape).Reduces [1] ⟨1, ![n0]⟩} {h1 h2} :
    Is1 (multiReduction .maximumf [1] ⟨1, ![n0]⟩ a 0xFF800000#32 h h1 h2) (fun i => top (f i)) := fun i => by
  show _ = ((Finset.univ.sup' ⟨0, Finset.mem_univ _⟩ (f i) : ℝ) : EReal)
  rw [← fold_max]; simp only [← ha _ _]; pointwise; rw [ofBits_ninf]

/-! ## Products, of any dimension numbers: the caller reads the product as a sum -/

/-- A matrix read as a sum of products of real entries. -/
theorem prod2 {K : Nat} {v : FVec Ideal ⟨2, ![n0, n1]⟩ φ} {A B : Fin n0 → Fin n1 → Fin K → EReal}
    {f g : Fin n0 → Fin n1 → Fin K → ℝ} (hA : ∀ i j k, A i j k = (f i j k : EReal)) (hB : ∀ i j k, B i j k = (g i j k : EReal))
    (h : ∀ i j, v (ix2 i j) = ∑ k, A i j k * B i j k) : Is2 v (fun i j => ∑ k, f i j k * g i j k) := fun i j => by
  rw [h, coe_sum]; exact Finset.sum_congr rfl fun k _ => by rw [hA, hB, EReal.coe_mul]
/-- An array of three axes read as a sum of products of real entries. -/
theorem prod3 {K : Nat} {v : FVec Ideal ⟨3, ![n0, n1, n2]⟩ φ} {A B : Fin n0 → Fin n1 → Fin n2 → Fin K → EReal}
    {f g : Fin n0 → Fin n1 → Fin n2 → Fin K → ℝ} (hA : ∀ i j k l, A i j k l = (f i j k l : EReal))
    (hB : ∀ i j k l, B i j k l = (g i j k l : EReal))
    (h : ∀ i j k, v (ix3 i j k) = ∑ l, A i j k l * B i j k l) : Is3 v (fun i j k => ∑ l, f i j k l * g i j k l) := fun i j k => by
  rw [h, coe_sum]; exact Finset.sum_congr rfl fun l _ => by rw [hA, hB, EReal.coe_mul]

/-! ## The host's re-indexings and sums -/

theorem hsum3 {a : FVec Ideal ⟨3, ![n0, n1, n2]⟩ φ} {z : FVec Ideal ⟨0, ![]⟩ φ} {f : Fin n0 → Fin n1 → Fin n2 → ℝ}
    (ha : Is3 a f) (hz : Is0 z 0) {h : (⟨3, ![n0, n1, n2]⟩ : Shape).ReducesTo [2] ⟨2, ![n0, n1]⟩} {hs} :
    Is2 (Host.reduceAdd a z h hs) (fun i j => ∑ k, f i j k) := fun i j => by
  simp only [coe_sum, ← ha _ _ _]; pointwise; rw [hz]; exact zero_add (_ : EReal)

/-- The host's sum over the two leading axes. -/
theorem hsum01 {a : FVec Ideal ⟨3, ![n0, n1, n2]⟩ φ} {z : FVec Ideal ⟨0, ![]⟩ φ} {f : Fin n0 → Fin n1 → Fin n2 → ℝ}
    (ha : Is3 a f) (hz : Is0 z 0) {h : (⟨3, ![n0, n1, n2]⟩ : Shape).ReducesTo [0, 1] ⟨1, ![n2]⟩} {hs} :
    Is1 (Host.reduceAdd a z h hs) (fun k => ∑ i, ∑ j, f i j k) := fun k => by
  have key : ∀ x : (⟨3, ![n0, n1, n2]⟩ : Shape).Idx, h.drop x = ix1 k ↔ ∃ p : Fin n0 × Fin n1, ix3 p.1 p.2 k = x := fun x => by
    constructor
    · intro e
      refine ⟨(x 0, x 1), funext fun c => ?_⟩
      match c with
      | ⟨0, _⟩ => rfl
      | ⟨1, _⟩ => rfl
      | ⟨2, _⟩ => exact Fin.ext (congrArg Fin.val (congrFun e 0)).symm
    · rintro ⟨p, rfl⟩
      funext b
      match b with
      | ⟨0, _⟩ => rfl
  simp only [coe_sum, ← ha _ _ _]; pointwise; rw [hz]
  show (0 : EReal) + ∑ i ∈ Finset.univ.filter (fun i => h.drop i = ix1 k), a i = _
  rw [zero_add, Finset.sum_filter_eq_sum_of_fiber _ (fun p : Fin n0 × Fin n1 => ix3 p.1 p.2 k)
    (fun p q e => Prod.ext (congrFun e 0) (congrFun e 1)) key, Fintype.sum_prod_type]

theorem hmax3 [NeZero n2] {a : FVec Ideal ⟨3, ![n0, n1, n2]⟩ .f32} {f : Fin n0 → Fin n1 → Fin n2 → ℝ} (ha : Is3 a f)
    {h : (⟨3, ![n0, n1, n2]⟩ : Shape).ReducesTo [2] ⟨2, ![n0, n1]⟩} {hs} :
    Is2 (Host.reduce (FloatOps.maximumf (F := Ideal) (φ := .f32)) a (constant (F := Ideal) ⟨0, ![]⟩ .f32 0xFF800000#32) h hs) (fun i j => top (f i j)) := fun i j => by
  show _ = ((Finset.univ.sup' ⟨0, Finset.mem_univ _⟩ (f i j) : ℝ) : EReal)
  rw [← fold_max]; simp only [← ha _ _ _]; pointwise; rw [ofBits_ninf]

/-- A maximum with `-∞` changes nothing. -/
theorem floor2 {a : FVec Ideal ⟨2, ![n0, n1]⟩ .f32} {f : Fin n0 → Fin n1 → ℝ} (ha : Is2 a f)
    {h : (⟨0, ![]⟩ : Shape).BroadcastsInDim ⟨2, ![n0, n1]⟩ ![]} :
    Is2 (maximumf (broadcastInDim ⟨2, ![n0, n1]⟩ ![] h (constant (F := Ideal) ⟨0, ![]⟩ .f32 0xFF800000#32)) a) f := fun i j => by
  show max (Ideal.ofBits .f32 0xFF800000#32) (a (ix2 i j)) = _
  rw [ofBits_ninf, max_eq_right bot_le, ha]

/-- The host's broadcast of a matrix along a new last axis. -/
theorem hlane3 {a : FVec Ideal ⟨2, ![n0, n1]⟩ φ} {f : Fin n0 → Fin n1 → ℝ} (ha : Is2 a f)
    {h : (⟨2, ![n0, n1]⟩ : Shape).BroadcastsInDim ⟨3, ![n0, n1, n2]⟩ ![0, 1]} :
    Is3 (broadcastInDim ⟨3, ![n0, n1, n2]⟩ ![0, 1] h a) (fun i j _ => f i j) := fun i j k => by
  rw [← ha]; pointwise
  refine congrArg a (funext fun c => Fin.ext ?_)
  simp only [Shape.Idx.norm_def]
  fin_cases c
  · exact lane_val i _ _
  · exact lane_val j _ _
/-- The host's broadcast of a last axis of one. -/
theorem hstretch3 {a : FVec Ideal ⟨3, ![n0, n1, 1]⟩ φ} {f : Fin n0 → Fin n1 → Fin 1 → ℝ} (ha : Is3 a f)
    {h : (⟨3, ![n0, n1, 1]⟩ : Shape).BroadcastsInDim ⟨3, ![n0, n1, n2]⟩ ![0, 1, 2]} :
    Is3 (broadcastInDim ⟨3, ![n0, n1, n2]⟩ ![0, 1, 2] h a) (fun i j _ => f i j 0) := fun i j k => by
  rw [← ha]; pointwise
  refine congrArg a (funext fun c => Fin.ext ?_)
  simp only [Shape.Idx.norm_def]
  fin_cases c
  · exact lane_val i _ _
  · exact lane_val j _ _
  · rfl
/-- The host's broadcast of a vector, first along two axes of one. -/
theorem hvec3 {a : FVec Ideal ⟨1, ![n2]⟩ φ} {f : Fin n2 → ℝ} (ha : Is1 a f)
    {h : (⟨1, ![n2]⟩ : Shape).BroadcastsInDim ⟨3, ![1, 1, n2]⟩ ![2]}
    {h' : (⟨3, ![1, 1, n2]⟩ : Shape).BroadcastsInDim ⟨3, ![n0, n1, n2]⟩ ![0, 1, 2]} :
    Is3 (broadcastInDim ⟨3, ![n0, n1, n2]⟩ ![0, 1, 2] h' (broadcastInDim ⟨3, ![1, 1, n2]⟩ ![2] h a)) (fun _ _ k => f k) := fun i j k => by
  rw [← ha]; pointwise
  refine congrArg a (funext fun c => Fin.ext ?_)
  simp only [Shape.Idx.norm_def]
  fin_cases c
  refine (lane_val _ _ _).trans ?_
  exact lane_val k _ _
/-- A matrix with a new last axis of one. -/
theorem hcol_cast {a : FVec Ideal ⟨2, ![n0, n1]⟩ φ} {f : Fin n0 → Fin n1 → ℝ} (ha : Is2 a f)
    {h : (⟨2, ![n0, n1]⟩ : Shape).ShapeCasts ⟨3, ![n0, n1, 1]⟩} :
    Is3 (shapeCast ⟨3, ![n0, n1, 1]⟩ a h) (fun i j _ => f i j) := fun i j k => by
  rw [← ha]; pointwise
  refine congrArg a (Shape.reshapeEquiv_eq_of_vals _ _ _ _ _ (rowMajor_val2 _ n1 rfl)
    (rowMajor_val3 _ (n1 * 1) 1 rfl rfl) ?_)
  have := k.isLt
  show i.val * n1 + j.val = i.val * (n1 * 1) + j.val * 1 + k.val; rw [Nat.mul_one]; omega
/-- A vector as an array of three axes whose first two have length one. -/
theorem hcube_cast {a : FVec Ideal ⟨1, ![n2]⟩ φ} {f : Fin n2 → ℝ} (ha : Is1 a f)
    {h : (⟨1, ![n2]⟩ : Shape).ShapeCasts ⟨3, ![1, 1, n2]⟩} :
    Is3 (shapeCast ⟨3, ![1, 1, n2]⟩ a h) (fun _ _ k => f k) := fun i j k => by
  rw [← ha]; pointwise
  refine congrArg a (Shape.reshapeEquiv_eq_of_vals _ _ _ _ _ (rowMajor_val1 _)
    (rowMajor_val3 _ (1 * n2) n2 rfl rfl) ?_)
  have h0 : i.val = 0 := by omega
  have h1 : j.val = 0 := by omega
  show k.val = i.val * (1 * n2) + j.val * n2 + k.val; rw [h0, h1]; omega
/-- The host's re-orderings of three axes. -/
theorem swap102 {a : FVec Ideal ⟨3, ![n0, n1, n2]⟩ φ} {f : Fin n0 → Fin n1 → Fin n2 → ℝ} (ha : Is3 a f)
    {h : (⟨3, ![n0, n1, n2]⟩ : Shape).Transposes [1, 0, 2] ⟨3, ![n1, n0, n2]⟩} :
    Is3 (transpose ⟨3, ![n1, n0, n2]⟩ [1, 0, 2] a h) (fun i j k => f j i k) := fun i j k => by
  rw [← ha]; pointwise
  refine congrArg a (funext fun c => Fin.ext ?_)
  simp only [Shape.Idx.norm_def]
  fin_cases c <;> rfl
theorem swap201 {a : FVec Ideal ⟨3, ![n0, n1, n2]⟩ φ} {f : Fin n0 → Fin n1 → Fin n2 → ℝ} (ha : Is3 a f)
    {h : (⟨3, ![n0, n1, n2]⟩ : Shape).Transposes [2, 0, 1] ⟨3, ![n2, n0, n1]⟩} :
    Is3 (transpose ⟨3, ![n2, n0, n1]⟩ [2, 0, 1] a h) (fun i j k => f j k i) := fun i j k => by
  rw [← ha]; pointwise
  refine congrArg a (funext fun c => Fin.ext ?_)
  simp only [Shape.Idx.norm_def]
  fin_cases c <;> rfl
theorem swap120 {a : FVec Ideal ⟨3, ![n0, n1, n2]⟩ φ} {f : Fin n0 → Fin n1 → Fin n2 → ℝ} (ha : Is3 a f)
    {h : (⟨3, ![n0, n1, n2]⟩ : Shape).Transposes [1, 2, 0] ⟨3, ![n1, n2, n0]⟩} :
    Is3 (transpose ⟨3, ![n1, n2, n0]⟩ [1, 2, 0] a h) (fun i j k => f k i j) := fun i j k => by
  rw [← ha]; pointwise
  refine congrArg a (funext fun c => Fin.ext ?_)
  simp only [Shape.Idx.norm_def]
  fin_cases c <;> rfl
/-- The last axis split in two, and the two last axes joined. -/
theorem split3 {w : Nat} {a : FVec Ideal ⟨2, ![n0, w]⟩ φ} {f : Fin n0 → Fin n1 → Fin n2 → ℝ} (hw : w = n1 * n2)
    (ha : ∀ i j k (l : Fin w), l.val = j.val * n2 + k.val → a (ix2 i l) = ((f i j k : ℝ) : EReal))
    {h : (⟨2, ![n0, w]⟩ : Shape).ShapeCasts ⟨3, ![n0, n1, n2]⟩} :
    Is3 (shapeCast ⟨3, ![n0, n1, n2]⟩ a h) f := fun i j k => by
  subst hw
  have hl : j.val * n2 + k.val < n1 * n2 := by
    calc j.val * n2 + k.val < j.val * n2 + n2 := by have := k.isLt; omega
      _ = (j.val + 1) * n2 := (Nat.succ_mul _ _).symm
      _ ≤ n1 * n2 := Nat.mul_le_mul_right _ j.isLt
  rw [← ha i j k ⟨_, hl⟩ rfl]; pointwise
  refine congrArg a (Shape.reshapeEquiv_eq_of_vals _ _ _ _ _ (rowMajor_val2 _ (n1 * n2) rfl)
    (rowMajor_val3 _ (n1 * n2) n2 rfl rfl) ?_)
  show i.val * (n1 * n2) + (j.val * n2 + k.val) = i.val * (n1 * n2) + j.val * n2 + k.val; omega
theorem join3 {w : Nat} {a : FVec Ideal ⟨3, ![n0, n1, n2]⟩ φ} {f : Fin n0 → Fin n1 → Fin n2 → ℝ} {g : Fin n0 → Fin w → ℝ}
    (hw : w = n1 * n2) (hn : 0 < n2) (ha : Is3 a f)
    (hg : ∀ i l (hj : l.val / n2 < n1), g i l = f i ⟨l.val / n2, hj⟩ ⟨l.val % n2, Nat.mod_lt _ hn⟩)
    {h : (⟨3, ![n0, n1, n2]⟩ : Shape).ShapeCasts ⟨2, ![n0, w]⟩} :
    Is2 (shapeCast ⟨2, ![n0, w]⟩ a h) g := fun i l => by
  subst hw
  have hj : l.val / n2 < n1 := Nat.div_lt_of_lt_mul (lt_of_lt_of_eq l.isLt (Nat.mul_comm n1 n2))
  rw [hg i l hj, ← ha]; pointwise
  refine congrArg a (Shape.reshapeEquiv_eq_of_vals _ _ _ _ _ (rowMajor_val3 _ (n1 * n2) n2 rfl rfl)
    (rowMajor_val2 _ (n1 * n2) rfl) ?_)
  show i.val * (n1 * n2) + l.val / n2 * n2 + l.val % n2 = i.val * (n1 * n2) + l.val
  have := Nat.div_add_mod' l.val n2; omega

end Cert.Lift
-- ==== Proof.Model.lean ====
/-
  The backward pass of the memory cross-attention over the real numbers: one head, one query row at a time. `nm` is the
  row's RMS normalisation, `lg` its logits against the memory's rows, `ds` the gradient of the logits, `bk` the gradient
  that the normalisation passes on to its argument.
-/
module

public import proofs.«01_k».proof.Proof.Lift

@[expose] public section

noncomputable section

namespace Cert.Model

open Cert.Lift Idealize.ShloMosaic

/-- The number that the pattern of `1e-6` denotes. -/
def eps : ℝ := 8796093 / 2 ^ 43

theorem ofBits_eps : Ideal.ofBits .f32 0x358637BD#32 = ((eps : ℝ) : EReal) := by
  simp [Ideal.ofBits, Ideal.ieee, eps, -EReal.coe_mul]; norm_num
theorem eps_pos : 0 < eps := by norm_num [eps]
theorem ofBits_256 : Ideal.ofBits .f32 0x43800000#32 = ((256 : ℝ) : EReal) := by
  simp [Ideal.ofBits, Ideal.ieee, -EReal.coe_mul]; norm_num
theorem ofBits_16th : Ideal.ofBits .f32 0x3D800000#32 = ((1 / 16 : ℝ) : EReal) := by
  simp [Ideal.ofBits, Ideal.ieee, -EReal.coe_mul]; norm_num
theorem ofBits_mhalf : Ideal.ofBits .f32 0xBF000000#32 = ((-(1 / 2) : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_zero : Ideal.ofBits .f32 0x00000000#32 = ((0 : ℝ) : EReal) := by
  simp [Ideal.ofBits, Ideal.ieee]

/-- A row of 256 numbers. -/
abbrev Row := Fin 256 → ℝ

/-- The mean square of a row, and the small number. -/
def ms (x : Row) : ℝ := (∑ d, x d * x d) / 256 + eps
/-- The reciprocal root of it, by which the row is scaled. -/
def rr (x : Row) : ℝ := (√(ms x))⁻¹
/-- The derivative of that scale. -/
def cc (x : Row) : ℝ := -(1 / 2) * (rr x / ms x)
/-- The normalised row. -/
def nm (x g : Row) (d : Fin 256) : ℝ := x d * rr x * g d

theorem ms_pos (x : Row) : 0 < ms x :=
  add_pos_of_nonneg_of_pos (div_nonneg (Finset.sum_nonneg fun d _ => mul_self_nonneg (x d)) (by norm_num)) eps_pos
theorem ms_ne (x : Row) : ms x ≠ 0 := (ms_pos x).ne'

/-- The logit of a query row against row `j` of the memory. -/
def lg (x gq : Row) (K : Fin 256 → Row) (gk : Row) (j : Fin 256) : ℝ :=
  (∑ d, nm x gq d * nm (K j) gk d) * (1 / 16)
/-- Its exponential, the largest logit of the row taken off. -/
def ee (x gq : Row) (K : Fin 256 → Row) (gk : Row) (j : Fin 256) : ℝ :=
  Real.exp (lg x gq K gk j - top (lg x gq K gk))
/-- The softmax's denominator. -/
def ss (x gq : Row) (K : Fin 256 → Row) (gk : Row) : ℝ := ∑ j, ee x gq K gk j

theorem ss_pos (x gq : Row) (K : Fin 256 → Row) (gk : Row) : 0 < ss x gq K gk :=
  Finset.sum_pos (fun _ _ => Real.exp_pos _) ⟨0, Finset.mem_univ _⟩
theorem ss_ne (x gq : Row) (K : Fin 256 → Row) (gk : Row) : ss x gq K gk ≠ 0 := (ss_pos x gq K gk).ne'

/-- The gradient of the probability of row `j`: the cotangent row against the value row. -/
def dp (o : Row) (V : Fin 256 → Row) (j : Fin 256) : ℝ := ∑ d, o d * V j d
/-- The gradient of the logit. -/
def ds (x gq : Row) (K : Fin 256 → Row) (gk : Row) (V : Fin 256 → Row) (o : Row) (j : Fin 256) : ℝ :=
  ((dp o V j / ss x gq K gk
    - (∑ l, ee x gq K gk l * dp o V l) / (ss x gq K gk * ss x gq K gk)) * ee x gq K gk j) * (1 / 16)
/-- The probability of row `j`. -/
def pr (x gq : Row) (K : Fin 256 → Row) (gk : Row) (j : Fin 256) : ℝ := ee x gq K gk j / ss x gq K gk
/-- The gradient of the normalised query row. -/
def dqn (x gq : Row) (K : Fin 256 → Row) (gk : Row) (V : Fin 256 → Row) (o : Row) (d : Fin 256) : ℝ :=
  ∑ j, ds x gq K gk V o j * nm (K j) gk d

/-- What the normalisation with gain `g` passes on of the gradient `y` of its result. -/
def bk (x g y : Row) (d : Fin 256) : ℝ :=
  y d * g d * rr x + 2 * x d * ((∑ c, x c * (y c * g c)) * cc x / 256)

/-- The gradient is linear: of a sum it is the sum. -/
theorem bk_sum {ι : Type*} (s : Finset ι) (x g : Row) (y : ι → Row) (d : Fin 256) :
    bk x g (fun c => ∑ i ∈ s, y i c) d = ∑ i ∈ s, bk x g (y i) d := by
  unfold bk
  rw [Finset.sum_add_distrib, ← Finset.mul_sum, ← Finset.sum_div, ← Finset.sum_mul, ← Finset.sum_mul, ← Finset.sum_mul]
  congr 5
  rw [Finset.sum_comm]
  refine Finset.sum_congr rfl fun c _ => ?_
  rw [Finset.sum_mul, Finset.mul_sum]

end Cert.Model
-- ==== Proof.Nums.lean ====
/-
  The numbers of the whole problem, and the gradients that both programs are to hold. Arrays are read as functions of natural
  numbers, so that a block of an array is the array at shifted coordinates.
-/
module

public import proofs.«01_k».proof.Proof.Model

@[expose] public section

noncomputable section

namespace Cert

open Cert.Model

/-- A sum over `a * b` numbers, in `a` runs of `b`. -/
theorem sum_runs (f : ℕ → ℝ) (b : ℕ) : ∀ a : ℕ,
    ∑ i ∈ Finset.range (a * b), f i = ∑ k ∈ Finset.range a, ∑ r ∈ Finset.range b, f (k * b + r)
  | 0 => by simp
  | a + 1 => by rw [Nat.succ_mul, Finset.sum_range_add, sum_runs f b a, Finset.sum_range_succ]

/-- The numbers of the five arguments. -/
structure Nums where
  /-- the queries -/
  X : ℕ → ℕ → ℝ
  /-- the keys and the values, side by side -/
  KV : ℕ → ℕ → ℝ
  /-- the two gains -/
  GQ : Row
  GK : Row
  /-- the cotangent -/
  O : ℕ → ℕ → ℝ

namespace Nums
variable (p : Nums)

/-- The rows of head `h`. -/
def q (h i : ℕ) : Row := fun d => p.X i (256 * h + d)
def o (h i : ℕ) : Row := fun d => p.O i (256 * h + d)
def k (h : ℕ) (j : Fin 256) : Row := fun d => p.KV j (256 * h + d)
def v (h : ℕ) (j : Fin 256) : Row := fun d => p.KV j (1024 + (256 * h + d))

/-- Of query row `i` in head `h`: the gradient of its logits, and of its normalised row. -/
def s (h i : ℕ) (j : Fin 256) : ℝ := ds (p.q h i) p.GQ (p.k h) p.GK (p.v h) (p.o h i) j
def y (h i : ℕ) : Row := dqn (p.q h i) p.GQ (p.k h) p.GK (p.v h) (p.o h i)

/-- The gradient of the query row. -/
def dq (h i : ℕ) : Row := bk (p.q h i) p.GQ (p.y h i)
/-- What query row `i` contributes to the gradients of the keys, the values and the two gains. -/
def dk1 (h i : ℕ) (j : Fin 256) : Row := bk (p.k h j) p.GK fun d => p.s h i j * nm (p.q h i) p.GQ d
def dv1 (h i : ℕ) (j : Fin 256) (d : Fin 256) : ℝ := pr (p.q h i) p.GQ (p.k h) p.GK j * p.o h i d
def gq1 (h i : ℕ) (d : Fin 256) : ℝ := p.q h i d * rr (p.q h i) * p.y h i d
def gk1 (h i : ℕ) (d : Fin 256) : ℝ := ∑ j, p.k h j d * rr (p.k h j) * (p.s h i j * nm (p.q h i) p.GQ d)

end Nums

end Cert
-- ==== Proof.Block.lean ====
/-
  What one grid point of the kernel computes. On blocks that hold real numbers (a tile of 512 query rows, one head's keys and
  values, the two gains, the tile's cotangent) every payload of the body holds the real numbers of Model.lean.
-/
module

public import proofs.«01_k».proof.Proof.Model
public import proofs.«01_k».proof.Proof.Gen.KernelIdeal.Skeleton

@[expose] public section

noncomputable section

namespace Cert.Block

open Cert.Lift Cert.Model Cert.KernelIdeal Cert.KernelIdeal.Gen Idealize.ShloMosaic

/-- The blocks of one grid point and the numbers they hold. -/
structure Real (q o : FVec Ideal S512x256 .f32) (k v : FVec Ideal S256x256 .f32) (gq gk : FVec Ideal S1x256 .f32)
    (Q O : Fin 512 → Row) (K V : Fin 256 → Row) (GQ GK : Row) : Prop where
  q : Is2 q Q
  o : Is2 o O
  k : Is2 k K
  v : Is2 v V
  gq : Is2 gq fun _ => GQ
  gk : Is2 gk fun _ => GK

variable {q o : FVec Ideal S512x256 .f32} {k v : FVec Ideal S256x256 .f32} {gq gk : FVec Ideal S1x256 .f32}
  {Q O : Fin 512 → Row} {K V : Fin 256 → Row} {GQ GK : Row}

/-! ## The two normalisations -/

theorem pay10 (h : Is2 gq fun _ => GQ) : Is2 (k0_pay10 gq) fun _ => GQ := by
  dsimp only [k0_pay10]; rw [shapeCast_id]; exact h
theorem pay11 (h : Is2 gk fun _ => GK) : Is2 (k0_pay11 gk) fun _ => GK := by
  dsimp only [k0_pay11]; rw [shapeCast_id]; exact h

theorem pay12 (h : Is2 q Q) : Is2 (k0_pay12 q) fun i _ => ms (Q i) :=
  add2 (div2 (col_cast (row_sum (mul2 h h))) (splat2 _ ofBits_256) fun _ _ => by norm_num) (splat2 _ ofBits_eps)
theorem pay13 (h : Is2 q Q) : Is2 (k0_pay13 q) fun i _ => rr (Q i) :=
  rsqrt2 (pay12 h) fun i _ => ms_pos (Q i)
theorem pay14 (h : Is2 q Q) : Is2 (k0_pay14 q) fun i _ => cc (Q i) :=
  mul2 (splat2 _ ofBits_mhalf) (div2 (pay13 h) (pay12 h) fun i _ => ms_ne (Q i))
theorem pay15 (h : Is2 q Q) : Is2 (k0_pay15 q) fun i d => Q i d * rr (Q i) :=
  mul2 h (lane2 (pay13 h))
theorem pay16 (h : Is2 q Q) (hg : Is2 gq fun _ => GQ) : Is2 (k0_pay16 q gq) fun i => nm (Q i) GQ :=
  mul2 (pay15 h) (row2 (pay10 hg))

theorem pay18 (h : Is2 k K) : Is2 (k0_pay18 (k0_pay17 k)) fun j _ => ms (K j) :=
  add2 (div2 (col_cast (row_sum (mul2 h h))) (splat2 _ ofBits_256) fun _ _ => by norm_num) (splat2 _ ofBits_eps)
theorem pay19 (h : Is2 k K) : Is2 (k0_pay19 (k0_pay17 k)) fun j _ => rr (K j) :=
  rsqrt2 (pay18 h) fun j _ => ms_pos (K j)
theorem pay20 (h : Is2 k K) : Is2 (k0_pay20 (k0_pay17 k)) fun j _ => cc (K j) :=
  mul2 (splat2 _ ofBits_mhalf) (div2 (pay19 h) (pay18 h) fun j _ => ms_ne (K j))
theorem pay21 (h : Is2 k K) : Is2 (k0_pay21 k (k0_pay17 k)) fun j d => K j d * rr (K j) :=
  mul2 h (lane2 (pay19 h))
theorem pay22 (h : Is2 k K) (hg : Is2 gk fun _ => GK) :
    Is2 (k0_pay22 k (k0_pay11 gk) (k0_pay17 k)) fun j => nm (K j) GK :=
  mul2 (pay21 h) (row2 (pay11 hg))

/-! ## Products of blocks -/

theorem mm_nt {a : FVec Ideal S512x256 .bf16} {b : FVec Ideal S256x256 .bf16} {f : Fin 512 → Row} {g : Fin 256 → Row}
    (ha : Is2 a f) (hb : Is2 b g) :
    Is2 (matmul dot_S512x256_S256x256_S512x256_1_1_0_0_n_n none a b (constant S512x256 .f32 0x00000000#32))
      fun i j => ∑ d, f i d * g j d :=
  prod2 (fun i j d => ha i d) (fun i j d => hb j d) fun i j => by pointwise
theorem mm_nn {a : FVec Ideal S512x256 .bf16} {b : FVec Ideal S256x256 .bf16} {f : Fin 512 → Row} {g : Fin 256 → Row}
    (ha : Is2 a f) (hb : Is2 b g) :
    Is2 (matmul dot_S512x256_S256x256_S512x256_1_0_0_1_n_n none a b (constant S512x256 .f32 0x00000000#32))
      fun i d => ∑ j, f i j * g j d :=
  prod2 (fun i d j => ha i j) (fun i d j => hb j d) fun i d => by pointwise
theorem mm_tn {a : FVec Ideal S512x256 .bf16} {b : FVec Ideal S512x256 .bf16} {f g : Fin 512 → Row}
    (ha : Is2 a f) (hb : Is2 b g) :
    Is2 (matmul dot_S512x256_S512x256_S256x256_0_0_1_1_n_n none a b (constant S256x256 .f32 0x00000000#32))
      fun j d => ∑ i, f i j * g i d :=
  prod2 (fun j d i => ha i j) (fun j d i => hb i d) fun j d => by pointwise

/-! ## The softmax and its gradient -/

section
variable (h : Real q o k v gq gk Q O K V GQ GK)
include h

theorem pay23 : Is2 (k0_pay23 k (k0_pay11 gk) (k0_pay16 q gq) (k0_pay17 k)) fun i => ee (Q i) GQ K GK :=
  have hl := mul2 (mm_nt (trunc2 bitsLt_bf16_f32 (pay16 h.q h.gq)) (trunc2 bitsLt_bf16_f32 (pay22 h.k h.gk)))
    (splat2 (Scalar.ofBits (F := Ideal) .f32 0x3D800000#32) ofBits_16th)
  exp2 (sub2 hl (lane2 (col_cast (row_max hl))))
theorem pay24 : Is2 (k0_pay24 k (k0_pay11 gk) (k0_pay16 q gq) (k0_pay17 k)) fun i _ => ss (Q i) GQ K GK :=
  col_cast (row_sum (pay23 h))
theorem pay25 : Is2 (k0_pay25 k (k0_pay11 gk) (k0_pay16 q gq) (k0_pay17 k)) fun i _ => 1 / ss (Q i) GQ K GK :=
  div2 (splat2 _ ofBits_one) (pay24 h) fun i _ => ss_ne _ _ _ _
theorem pay26 : Is2 (k0_pay26 v o) fun i => dp (O i) V :=
  mm_nt (trunc2 bitsLt_bf16_f32 h.o) (trunc2 bitsLt_bf16_f32 h.v)
theorem pay27 : Is2 (k0_pay27 k (k0_pay11 gk) (k0_pay16 q gq) (k0_pay17 k) o)
    fun j d => ∑ i, pr (Q i) GQ K GK j * O i d :=
  is2_congr (mm_tn (trunc2 bitsLt_bf16_f32 (mul2 (pay23 h) (lane2 (pay25 h)))) (trunc2 bitsLt_bf16_f32 h.o)) fun j d =>
    Finset.sum_congr rfl fun i _ => by rw [pr, mul_one_div]
theorem pay28 : Is2 (k0_pay28 k v (k0_pay11 gk) (k0_pay16 q gq) (k0_pay17 k) o)
    fun i j => dp (O i) V j * (1 / ss (Q i) GQ K GK) :=
  mul2 (pay26 h) (lane2 (pay25 h))
theorem pay29 : Is2 (k0_pay29 k v (k0_pay11 gk) (k0_pay16 q gq) (k0_pay17 k) o)
    fun i _ => (∑ l, ee (Q i) GQ K GK l * dp (O i) V l) * (1 / (ss (Q i) GQ K GK * ss (Q i) GQ K GK)) * 1 :=
  mul2 (mul2 (col_cast (row_sum (mul2 (pay23 h) (pay26 h))))
    (div2 (splat2 _ ofBits_one) (mul2 (pay24 h) (pay24 h)) fun i _ => mul_ne_zero (ss_ne _ _ _ _) (ss_ne _ _ _ _)))
    (splat2 _ ofBits_one)
end

/-- The exponentials of a tile. -/
abbrev E (q : FVec Ideal S512x256 .f32) (k : FVec Ideal S256x256 .f32) (gq gk : FVec Ideal S1x256 .f32) : FVec Ideal S512x256 .f32 :=
  k0_pay23 k (k0_pay11 gk) (k0_pay16 q gq) (k0_pay17 k)
/-- The probabilities' gradient over the denominator. -/
abbrev A (q o : FVec Ideal S512x256 .f32) (k v : FVec Ideal S256x256 .f32) (gq gk : FVec Ideal S1x256 .f32) : FVec Ideal S512x256 .f32 :=
  k0_pay28 k v (k0_pay11 gk) (k0_pay16 q gq) (k0_pay17 k) o
/-- The denominator's share of the gradient. -/
abbrev B (q o : FVec Ideal S512x256 .f32) (k v : FVec Ideal S256x256 .f32) (gq gk : FVec Ideal S1x256 .f32) : FVec Ideal S512x1 .f32 :=
  k0_pay29 k v (k0_pay11 gk) (k0_pay16 q gq) (k0_pay17 k) o

section
variable (h : Real q o k v gq gk Q O K V GQ GK)
include h

theorem pay31 : Is2 (k0_pay31 (E q k gq gk) (A q o k v gq gk) (B q o k v gq gk) k0_pay30) fun i => ds (Q i) GQ K GK V (O i) :=
  is2_congr (mul2 (mul2 (add2 (pay28 h) (lane2 (col_cast (row_sum (sub2 (splat2 _ ofBits_zero) (pay29 h)))))) (pay23 h))
    (splat2 _ ofBits_16th)) fun i j => by
      simp only [ds, Fin.sum_univ_one]; ring

/-- The tile's gradient of the normalised keys. -/
theorem pay33 : Is2 (k0_pay33 (k0_pay16 q gq) (E q k gq gk)
      (A q o k v gq gk)
      (B q o k v gq gk) k0_pay30)
    fun j d => ∑ i, ds (Q i) GQ K GK V (O i) j * nm (Q i) GQ d :=
  mm_tn (trunc2 bitsLt_bf16_f32 (pay31 h)) (trunc2 bitsLt_bf16_f32 (pay16 h.q h.gq))
theorem pay32 : Is2 (k0_pay32 (k0_pay22 k (k0_pay11 gk) (k0_pay17 k)) (E q k gq gk)
      (A q o k v gq gk)
      (B q o k v gq gk) k0_pay30)
    fun i => dqn (Q i) GQ K GK V (O i) :=
  mm_nn (trunc2 bitsLt_bf16_f32 (pay31 h)) (trunc2 bitsLt_bf16_f32 (pay22 h.k h.gk))

/-- The tile's share of the key gain's gradient. -/
theorem pay34 : Is2 (k0_pay34 (k0_pay16 q gq) (k0_pay21 k (k0_pay17 k)) (E q k gq gk)
      (A q o k v gq gk)
      (B q o k v gq gk) k0_pay30)
    fun _ d => ∑ j, K j d * rr (K j) * ∑ i, ds (Q i) GQ K GK V (O i) j * nm (Q i) GQ d :=
  row_cast (col_sum (mul2 (pay21 h.k) (pay33 h)))
/-- The tile's share of the keys' gradient. -/
theorem pay35 : Is2 (k0_pay35 k (k0_pay11 gk) (k0_pay16 q gq) (k0_pay19 (k0_pay17 k)) (k0_pay20 (k0_pay17 k))
      (E q k gq gk)
      (A q o k v gq gk)
      (B q o k v gq gk) k0_pay30)
    fun j => bk (K j) GK fun d => ∑ i, ds (Q i) GQ K GK V (O i) j * nm (Q i) GQ d :=
  have hy := mul2 (pay33 h) (row2 (pay11 h.gk))
  have ht := lane2 (n1 := 256) (h := broadcasts_S256x1_S256x256) (col_cast (h := shapeCasts_S256_S256x1) (row_sum (h := reduces_S256x1_S256) (z := 0x00000000#32) (h1 := .inl rfl) (h2 := rfl)
    (div2 (mul2 (col_cast (row_sum (mul2 h.k hy))) (pay20 h.k)) (splat2 _ ofBits_256) fun _ _ => by norm_num)))
  is2_congr (add2 (add2 (mul2 hy (lane2 (pay19 h.k))) (mul2 h.k ht)) (mul2 ht h.k)) fun j d => by
    simp only [bk, Fin.sum_univ_one]; ring
/-- The tile's share of the query gain's gradient. -/
theorem pay36 : Is2 (k0_pay36 (k0_pay15 q) (k0_pay22 k (k0_pay11 gk) (k0_pay17 k)) (E q k gq gk)
      (A q o k v gq gk)
      (B q o k v gq gk) k0_pay30)
    fun _ d => ∑ i, Q i d * rr (Q i) * dqn (Q i) GQ K GK V (O i) d :=
  row_cast (col_sum (mul2 (pay15 h.q) (pay32 h)))

/-- The tile's gradient of the queries, as the kernel stores it. -/
theorem pay1 : Is2 (k0_pay1 q
      (k0_pay38 (k0_pay10 gq) (k0_pay13 q) (k0_pay22 k (k0_pay11 gk) (k0_pay17 k)) (E q k gq gk)
        (A q o k v gq gk)
        (B q o k v gq gk) k0_pay30)
      (k0_pay39 q (k0_pay10 gq) (k0_pay14 q) (k0_pay22 k (k0_pay11 gk) (k0_pay17 k)) (E q k gq gk)
        (A q o k v gq gk)
        (B q o k v gq gk) k0_pay30))
    fun i => bk (Q i) GQ (dqn (Q i) GQ K GK V (O i)) :=
  have hy := mul2 (pay32 h) (row2 (pay10 h.gq))
  have ht := lane2 (n1 := 256) (h := broadcasts_S512x1_S512x256) (col_cast (h := shapeCasts_S512_S512x1) (row_sum (h := reduces_S512x1_S512) (z := 0x00000000#32) (h1 := .inl rfl) (h2 := rfl)
    (div2 (mul2 (col_cast (row_sum (mul2 h.q hy))) (pay14 h.q)) (splat2 _ ofBits_256) fun _ _ => by norm_num)))
  is2_congr (trunc2 bitsLt_bf16_f32 (add2 (add2 (mul2 hy (lane2 (pay13 h.q))) (mul2 h.q ht)) (mul2 ht h.q))) fun i d => by
    simp only [bk, Fin.sum_univ_one]; ring
end

end Cert.Block
-- ==== Proof.Outs.lean ====
/-
  What the body leaves in each result's staging buffer at one grid point, as payloads of the blocks it reads: at a head's
  first tile the two blocks of the keys and values start from zeros, at the very first point the two gains' rows do too, and
  every other point adds its tile to what the buffer held.
-/
module

public import proofs.«01_k».proof.Proof.Gen.KernelIdeal.Value

@[expose] public section

set_option maxRecDepth 16384

noncomputable section

namespace Cert.Outs

open Cert.KernelIdeal Cert.KernelIdeal.Gen Idealize.ShloMosaic Idealize.ShloMosaic.TcCoe Idealize.ShloMosaic.Tactic
open Idealize.SL Idealize.SL.RA Idealize.SL.BI Idealize.SL.ProofMode Idealize.SL.Sem

variable {F : FTy → Type} [FloatOps F]

/-! ## A tile's five contributions -/

section
variable (q : FVec F S512x256 .f32) (k v : FVec F S256x256 .f32) (gq gk : FVec F S1x256 .f32) (o : FVec F S512x256 .f32)

/-- The exponentials of a tile's logits. -/
abbrev expT : FVec F S512x256 .f32 := k0_pay23 k (k0_pay11 gk) (k0_pay16 q gq) (k0_pay17 k)
/-- The probabilities' gradient over the denominator. -/
abbrev divT : FVec F S512x256 .f32 := k0_pay28 k v (k0_pay11 gk) (k0_pay16 q gq) (k0_pay17 k) o
/-- The denominator's share of the gradient. -/
abbrev denT : FVec F S512x1 .f32 := k0_pay29 k v (k0_pay11 gk) (k0_pay16 q gq) (k0_pay17 k) o
/-- The queries' gradient. -/
abbrev dqT : FVec F S512x256 .bf16 :=
  k0_pay1 q
    (k0_pay38 (k0_pay10 gq) (k0_pay13 q) (k0_pay22 k (k0_pay11 gk) (k0_pay17 k)) (expT q k gq gk) (divT q k v gq gk o) (denT q k v gq gk o) k0_pay30)
    (k0_pay39 q (k0_pay10 gq) (k0_pay14 q) (k0_pay22 k (k0_pay11 gk) (k0_pay17 k)) (expT q k gq gk) (divT q k v gq gk o) (denT q k v gq gk o) k0_pay30)
/-- The keys' gradient. -/
abbrev dkT : FVec F S256x256 .f32 :=
  k0_pay35 k (k0_pay11 gk) (k0_pay16 q gq) (k0_pay19 (k0_pay17 k)) (k0_pay20 (k0_pay17 k)) (expT q k gq gk) (divT q k v gq gk o) (denT q k v gq gk o) k0_pay30
/-- The values' gradient. -/
abbrev dvT : FVec F S256x256 .f32 := k0_pay27 k (k0_pay11 gk) (k0_pay16 q gq) (k0_pay17 k) o
/-- The query gain's gradient. -/
abbrev gqT : FVec F S1x256 .f32 :=
  k0_pay36 (k0_pay15 q) (k0_pay22 k (k0_pay11 gk) (k0_pay17 k)) (expT q k gq gk) (divT q k v gq gk o) (denT q k v gq gk o) k0_pay30
/-- The key gain's gradient. -/
abbrev gkT : FVec F S1x256 .f32 :=
  k0_pay34 (k0_pay16 q gq) (k0_pay21 k (k0_pay17 k)) (expT q k gq gk) (divT q k v gq gk o) (denT q k v gq gk o) k0_pay30
end

/-! ## The three kinds of points -/

theorem hz : (![0, 0] : Fin 2 → Nat) = fun _ => 0 := funext fun a => by fin_cases a <;> rfl

section
variable (c : Dev nD) (i : grid0.Coords)
  (a2 : Memref sig .tc .vmem S512x256 .f32) (h2 : a2.IsWhole)
  (a3 : Memref sig .tc .vmem S256x256 .f32) (h3 : a3.IsWhole)
  (a4 : Memref sig .tc .vmem S256x256 .f32) (h4 : a4.IsWhole)
  (a5 : Memref sig .tc .vmem S1x256 .f32) (h5 : a5.IsWhole)
  (a6 : Memref sig .tc .vmem S1x256 .f32) (h6 : a6.IsWhole)
  (a7 : Memref sig .tc .vmem S512x256 .f32) (h7 : a7.IsWhole)
  (a8 : Memref sig .tc .vmem S512x256 .bf16) (h8 : a8.IsWhole)
  (a9 : Memref sig .tc .vmem S256x256 .f32) (h9 : a9.IsWhole)
  (a10 : Memref sig .tc .vmem S256x256 .f32) (h10 : a10.IsWhole)
  (a11 : Memref sig .tc .vmem S1x256 .f32) (h11 : a11.IsWhole)
  (a12 : Memref sig .tc .vmem S1x256 .f32) (h12 : a12.IsWhole)
  (x0 : Vec F S512x256 .f32) (x1 x2 : Vec F S256x256 .f32) (x3 x4 : Vec F S1x256 .f32) (x5 : Vec F S512x256 .f32)
  (y7 y8 : Vec F S256x256 .f32) (y9 y10 : Vec F S1x256 .f32)

theorem out_A_6 (hc0 : cond0_0 i) (hc1 : cond0_1 i) :
    out0_A_6 c i a2 h2 a3 h3 a4 h4 a5 h5 a6 h6 a7 h7 a8 h8 a9 h9 a10 h10 a11 h11 a12 h12 hc0 hc1 x0 x1 x2 x3 x4 x5 = dqT x0 x1 x2 x3 x4 x5 := by
  unfold out0_A_6
  rw [View.read_writes_eq_canon _ _ _ (cover0_A_6 c i a2 h2 a3 h3 a4 h4 a5 h5 a6 h6 a7 h7 a8 h8 a9 h9 a10 h10 a11 h11 a12 h12 hc0 hc1 x0 x1 x2 x3 x4 x5)]
  unfold kernelRun0_A
  dsimp only
  sl_unfold_words
  rw [View.canon_unit_zero hz]
  simp only [View.readAt_eq_ld, h2.read_unread, h3.read_unread, h4.read_unread, h5.read_unread, h6.read_unread, h7.read_unread, h9.read_unread, h10.read_unread, h11.read_unread, h12.read_unread, View.ld_unit_zero (S := S512x256) hz, View.ld_unit_zero (S := S256x256) hz, View.ld_unit_zero (S := S1x256) hz]

theorem out_A_7 (hc0 : cond0_0 i) (hc1 : cond0_1 i) :
    out0_A_7 c i a2 h2 a3 h3 a4 h4 a5 h5 a6 h6 a7 h7 a8 h8 a9 h9 a10 h10 a11 h11 a12 h12 hc0 hc1 x0 x1 x2 x3 x4 x5 = k0_pay2 (dkT x0 x1 x2 x3 x4 x5) k0_pay6 := by
  unfold out0_A_7
  rw [View.read_writes_eq_canon _ _ _ (cover0_A_7 c i a2 h2 a3 h3 a4 h4 a5 h5 a6 h6 a7 h7 a8 h8 a9 h9 a10 h10 a11 h11 a12 h12 hc0 hc1 x0 x1 x2 x3 x4 x5)]
  unfold kernelRun0_A
  dsimp only
  sl_unfold_words
  rw [View.canon_cons_unit_zero (S := S256x256) hz, View.readCov_unit_zero (S := S256x256) _ hz]
  simp only [View.readAt_eq_ld, h2.read_unread, h3.read_unread, h4.read_unread, h5.read_unread, h6.read_unread, h7.read_unread, h9.read_unread, h10.read_unread, h11.read_unread, h12.read_unread, View.ld_unit_zero (S := S512x256) hz, View.ld_unit_zero (S := S256x256) hz, View.ld_unit_zero (S := S1x256) hz]

theorem out_A_8 (hc0 : cond0_0 i) (hc1 : cond0_1 i) :
    out0_A_8 c i a2 h2 a3 h3 a4 h4 a5 h5 a6 h6 a7 h7 a8 h8 a9 h9 a10 h10 a11 h11 a12 h12 hc0 hc1 x0 x1 x2 x3 x4 x5 = k0_pay3 (dvT x0 x1 x3 x4 x5) k0_pay7 := by
  unfold out0_A_8
  rw [View.read_writes_eq_canon _ _ _ (cover0_A_8 c i a2 h2 a3 h3 a4 h4 a5 h5 a6 h6 a7 h7 a8 h8 a9 h9 a10 h10 a11 h11 a12 h12 hc0 hc1 x0 x1 x2 x3 x4 x5)]
  unfold kernelRun0_A
  dsimp only
  sl_unfold_words
  rw [View.canon_cons_unit_zero (S := S256x256) hz, View.readCov_unit_zero (S := S256x256) _ hz]
  simp only [View.readAt_eq_ld, h2.read_unread, h3.read_unread, h4.read_unread, h5.read_unread, h6.read_unread, h7.read_unread, h9.read_unread, h10.read_unread, h11.read_unread, h12.read_unread, View.ld_unit_zero (S := S512x256) hz, View.ld_unit_zero (S := S256x256) hz, View.ld_unit_zero (S := S1x256) hz]

theorem out_A_9 (hc0 : cond0_0 i) (hc1 : cond0_1 i) :
    out0_A_9 c i a2 h2 a3 h3 a4 h4 a5 h5 a6 h6 a7 h7 a8 h8 a9 h9 a10 h10 a11 h11 a12 h12 hc0 hc1 x0 x1 x2 x3 x4 x5 = k0_pay4 (gqT x0 x1 x2 x3 x4 x5) k0_pay8 := by
  unfold out0_A_9
  rw [View.read_writes_eq_canon _ _ _ (cover0_A_9 c i a2 h2 a3 h3 a4 h4 a5 h5 a6 h6 a7 h7 a8 h8 a9 h9 a10 h10 a11 h11 a12 h12 hc0 hc1 x0 x1 x2 x3 x4 x5)]
  unfold kernelRun0_A
  dsimp only
  sl_unfold_words
  rw [View.canon_cons_unit_zero (S := S1x256) hz, View.readCov_unit_zero (S := S1x256) _ hz]
  simp only [View.readAt_eq_ld, h2.read_unread, h3.read_unread, h4.read_unread, h5.read_unread, h6.read_unread, h7.read_unread, h9.read_unread, h10.read_unread, h11.read_unread, h12.read_unread, View.ld_unit_zero (S := S512x256) hz, View.ld_unit_zero (S := S256x256) hz, View.ld_unit_zero (S := S1x256) hz]

theorem out_A_10 (hc0 : cond0_0 i) (hc1 : cond0_1 i) :
    out0_A_10 c i a2 h2 a3 h3 a4 h4 a5 h5 a6 h6 a7 h7 a8 h8 a9 h9 a10 h10 a11 h11 a12 h12 hc0 hc1 x0 x1 x2 x3 x4 x5 = k0_pay5 (gkT x0 x1 x2 x3 x4 x5) k0_pay9 := by
  unfold out0_A_10
  rw [View.read_writes_eq_canon _ _ _ (cover0_A_10 c i a2 h2 a3 h3 a4 h4 a5 h5 a6 h6 a7 h7 a8 h8 a9 h9 a10 h10 a11 h11 a12 h12 hc0 hc1 x0 x1 x2 x3 x4 x5)]
  unfold kernelRun0_A
  dsimp only
  sl_unfold_words
  rw [View.canon_cons_unit_zero (S := S1x256) hz, View.readCov_unit_zero (S := S1x256) _ hz]
  simp only [View.readAt_eq_ld, h2.read_unread, h3.read_unread, h4.read_unread, h5.read_unread, h6.read_unread, h7.read_unread, h9.read_unread, h10.read_unread, h11.read_unread, h12.read_unread, View.ld_unit_zero (S := S512x256) hz, View.ld_unit_zero (S := S256x256) hz, View.ld_unit_zero (S := S1x256) hz]

theorem out_B_6 (hc0 : ¬cond0_0 i) (hc1 : ¬cond0_1 i) :
    out0_B_6 c i a2 h2 a3 h3 a4 h4 a5 h5 a6 h6 a7 h7 a8 h8 a9 h9 a10 h10 a11 h11 a12 h12 hc0 hc1 x0 x1 x2 x3 x4 x5 y7 y8 y9 y10 = dqT x0 x1 x2 x3 x4 x5 := by
  unfold out0_B_6
  rw [View.read_writes_eq_canon _ _ _ (cover0_B_6 c i a2 h2 a3 h3 a4 h4 a5 h5 a6 h6 a7 h7 a8 h8 a9 h9 a10 h10 a11 h11 a12 h12 hc0 hc1 x0 x1 x2 x3 x4 x5 y7 y8 y9 y10)]
  unfold kernelRun0_B
  dsimp only
  sl_unfold_words
  rw [View.canon_unit_zero hz]
  simp only [View.readAt_eq_ld, h2.read_unread, h3.read_unread, h4.read_unread, h5.read_unread, h6.read_unread, h7.read_unread, h9.read_unread, h10.read_unread, h11.read_unread, h12.read_unread, View.ld_unit_zero (S := S512x256) hz, View.ld_unit_zero (S := S256x256) hz, View.ld_unit_zero (S := S1x256) hz]

theorem out_B_7 (hc0 : ¬cond0_0 i) (hc1 : ¬cond0_1 i) :
    out0_B_7 c i a2 h2 a3 h3 a4 h4 a5 h5 a6 h6 a7 h7 a8 h8 a9 h9 a10 h10 a11 h11 a12 h12 hc0 hc1 x0 x1 x2 x3 x4 x5 y7 y8 y9 y10 = k0_pay2 (dkT x0 x1 x2 x3 x4 x5) y7 := by
  unfold out0_B_7
  rw [View.read_writes_eq_canon _ _ _ (cover0_B_7 c i a2 h2 a3 h3 a4 h4 a5 h5 a6 h6 a7 h7 a8 h8 a9 h9 a10 h10 a11 h11 a12 h12 hc0 hc1 x0 x1 x2 x3 x4 x5 y7 y8 y9 y10)]
  unfold kernelRun0_B
  dsimp only
  sl_unfold_words
  rw [View.canon_unit_zero hz]
  simp only [View.readAt_eq_ld, h2.read_unread, h3.read_unread, h4.read_unread, h5.read_unread, h6.read_unread, h7.read_unread, h9.read_unread, h10.read_unread, h11.read_unread, h12.read_unread, View.ld_unit_zero (S := S512x256) hz, View.ld_unit_zero (S := S256x256) hz, View.ld_unit_zero (S := S1x256) hz]

theorem out_B_8 (hc0 : ¬cond0_0 i) (hc1 : ¬cond0_1 i) :
    out0_B_8 c i a2 h2 a3 h3 a4 h4 a5 h5 a6 h6 a7 h7 a8 h8 a9 h9 a10 h10 a11 h11 a12 h12 hc0 hc1 x0 x1 x2 x3 x4 x5 y7 y8 y9 y10 = k0_pay3 (dvT x0 x1 x3 x4 x5) y8 := by
  unfold out0_B_8
  rw [View.read_writes_eq_canon _ _ _ (cover0_B_8 c i a2 h2 a3 h3 a4 h4 a5 h5 a6 h6 a7 h7 a8 h8 a9 h9 a10 h10 a11 h11 a12 h12 hc0 hc1 x0 x1 x2 x3 x4 x5 y7 y8 y9 y10)]
  unfold kernelRun0_B
  dsimp only
  sl_unfold_words
  rw [View.canon_unit_zero hz]
  simp only [View.readAt_eq_ld, h2.read_unread, h3.read_unread, h4.read_unread, h5.read_unread, h6.read_unread, h7.read_unread, h9.read_unread, h10.read_unread, h11.read_unread, h12.read_unread, View.ld_unit_zero (S := S512x256) hz, View.ld_unit_zero (S := S256x256) hz, View.ld_unit_zero (S := S1x256) hz]

theorem out_B_9 (hc0 : ¬cond0_0 i) (hc1 : ¬cond0_1 i) :
    out0_B_9 c i a2 h2 a3 h3 a4 h4 a5 h5 a6 h6 a7 h7 a8 h8 a9 h9 a10 h10 a11 h11 a12 h12 hc0 hc1 x0 x1 x2 x3 x4 x5 y7 y8 y9 y10 = k0_pay4 (gqT x0 x1 x2 x3 x4 x5) y9 := by
  unfold out0_B_9
  rw [View.read_writes_eq_canon _ _ _ (cover0_B_9 c i a2 h2 a3 h3 a4 h4 a5 h5 a6 h6 a7 h7 a8 h8 a9 h9 a10 h10 a11 h11 a12 h12 hc0 hc1 x0 x1 x2 x3 x4 x5 y7 y8 y9 y10)]
  unfold kernelRun0_B
  dsimp only
  sl_unfold_words
  rw [View.canon_unit_zero hz]
  simp only [View.readAt_eq_ld, h2.read_unread, h3.read_unread, h4.read_unread, h5.read_unread, h6.read_unread, h7.read_unread, h9.read_unread, h10.read_unread, h11.read_unread, h12.read_unread, View.ld_unit_zero (S := S512x256) hz, View.ld_unit_zero (S := S256x256) hz, View.ld_unit_zero (S := S1x256) hz]

theorem out_B_10 (hc0 : ¬cond0_0 i) (hc1 : ¬cond0_1 i) :
    out0_B_10 c i a2 h2 a3 h3 a4 h4 a5 h5 a6 h6 a7 h7 a8 h8 a9 h9 a10 h10 a11 h11 a12 h12 hc0 hc1 x0 x1 x2 x3 x4 x5 y7 y8 y9 y10 = k0_pay5 (gkT x0 x1 x2 x3 x4 x5) y10 := by
  unfold out0_B_10
  rw [View.read_writes_eq_canon _ _ _ (cover0_B_10 c i a2 h2 a3 h3 a4 h4 a5 h5 a6 h6 a7 h7 a8 h8 a9 h9 a10 h10 a11 h11 a12 h12 hc0 hc1 x0 x1 x2 x3 x4 x5 y7 y8 y9 y10)]
  unfold kernelRun0_B
  dsimp only
  sl_unfold_words
  rw [View.canon_unit_zero hz]
  simp only [View.readAt_eq_ld, h2.read_unread, h3.read_unread, h4.read_unread, h5.read_unread, h6.read_unread, h7.read_unread, h9.read_unread, h10.read_unread, h11.read_unread, h12.read_unread, View.ld_unit_zero (S := S512x256) hz, View.ld_unit_zero (S := S256x256) hz, View.ld_unit_zero (S := S1x256) hz]

theorem out_C_6 (hc0 : cond0_0 i) (hc1 : ¬cond0_1 i) :
    out0_C_6 c i a2 h2 a3 h3 a4 h4 a5 h5 a6 h6 a7 h7 a8 h8 a9 h9 a10 h10 a11 h11 a12 h12 hc0 hc1 x0 x1 x2 x3 x4 x5 y9 y10 = dqT x0 x1 x2 x3 x4 x5 := by
  unfold out0_C_6
  rw [View.read_writes_eq_canon _ _ _ (cover0_C_6 c i a2 h2 a3 h3 a4 h4 a5 h5 a6 h6 a7 h7 a8 h8 a9 h9 a10 h10 a11 h11 a12 h12 hc0 hc1 x0 x1 x2 x3 x4 x5 y9 y10)]
  unfold kernelRun0_C
  dsimp only
  sl_unfold_words
  rw [View.canon_unit_zero hz]
  simp only [View.readAt_eq_ld, h2.read_unread, h3.read_unread, h4.read_unread, h5.read_unread, h6.read_unread, h7.read_unread, h9.read_unread, h10.read_unread, h11.read_unread, h12.read_unread, View.ld_unit_zero (S := S512x256) hz, View.ld_unit_zero (S := S256x256) hz, View.ld_unit_zero (S := S1x256) hz]

theorem out_C_7 (hc0 : cond0_0 i) (hc1 : ¬cond0_1 i) :
    out0_C_7 c i a2 h2 a3 h3 a4 h4 a5 h5 a6 h6 a7 h7 a8 h8 a9 h9 a10 h10 a11 h11 a12 h12 hc0 hc1 x0 x1 x2 x3 x4 x5 y9 y10 = k0_pay2 (dkT x0 x1 x2 x3 x4 x5) k0_pay6 := by
  unfold out0_C_7
  rw [View.read_writes_eq_canon _ _ _ (cover0_C_7 c i a2 h2 a3 h3 a4 h4 a5 h5 a6 h6 a7 h7 a8 h8 a9 h9 a10 h10 a11 h11 a12 h12 hc0 hc1 x0 x1 x2 x3 x4 x5 y9 y10)]
  unfold kernelRun0_C
  dsimp only
  sl_unfold_words
  rw [View.canon_cons_unit_zero (S := S256x256) hz, View.readCov_unit_zero (S := S256x256) _ hz]
  simp only [View.readAt_eq_ld, h2.read_unread, h3.read_unread, h4.read_unread, h5.read_unread, h6.read_unread, h7.read_unread, h9.read_unread, h10.read_unread, h11.read_unread, h12.read_unread, View.ld_unit_zero (S := S512x256) hz, View.ld_unit_zero (S := S256x256) hz, View.ld_unit_zero (S := S1x256) hz]

theorem out_C_8 (hc0 : cond0_0 i) (hc1 : ¬cond0_1 i) :
    out0_C_8 c i a2 h2 a3 h3 a4 h4 a5 h5 a6 h6 a7 h7 a8 h8 a9 h9 a10 h10 a11 h11 a12 h12 hc0 hc1 x0 x1 x2 x3 x4 x5 y9 y10 = k0_pay3 (dvT x0 x1 x3 x4 x5) k0_pay7 := by
  unfold out0_C_8
  rw [View.read_writes_eq_canon _ _ _ (cover0_C_8 c i a2 h2 a3 h3 a4 h4 a5 h5 a6 h6 a7 h7 a8 h8 a9 h9 a10 h10 a11 h11 a12 h12 hc0 hc1 x0 x1 x2 x3 x4 x5 y9 y10)]
  unfold kernelRun0_C
  dsimp only
  sl_unfold_words
  rw [View.canon_cons_unit_zero (S := S256x256) hz, View.readCov_unit_zero (S := S256x256) _ hz]
  simp only [View.readAt_eq_ld, h2.read_unread, h3.read_unread, h4.read_unread, h5.read_unread, h6.read_unread, h7.read_unread, h9.read_unread, h10.read_unread, h11.read_unread, h12.read_unread, View.ld_unit_zero (S := S512x256) hz, View.ld_unit_zero (S := S256x256) hz, View.ld_unit_zero (S := S1x256) hz]

theorem out_C_9 (hc0 : cond0_0 i) (hc1 : ¬cond0_1 i) :
    out0_C_9 c i a2 h2 a3 h3 a4 h4 a5 h5 a6 h6 a7 h7 a8 h8 a9 h9 a10 h10 a11 h11 a12 h12 hc0 hc1 x0 x1 x2 x3 x4 x5 y9 y10 = k0_pay4 (gqT x0 x1 x2 x3 x4 x5) y9 := by
  unfold out0_C_9
  rw [View.read_writes_eq_canon _ _ _ (cover0_C_9 c i a2 h2 a3 h3 a4 h4 a5 h5 a6 h6 a7 h7 a8 h8 a9 h9 a10 h10 a11 h11 a12 h12 hc0 hc1 x0 x1 x2 x3 x4 x5 y9 y10)]
  unfold kernelRun0_C
  dsimp only
  sl_unfold_words
  rw [View.canon_unit_zero hz]
  simp only [View.readAt_eq_ld, h2.read_unread, h3.read_unread, h4.read_unread, h5.read_unread, h6.read_unread, h7.read_unread, h9.read_unread, h10.read_unread, h11.read_unread, h12.read_unread, View.ld_unit_zero (S := S512x256) hz, View.ld_unit_zero (S := S256x256) hz, View.ld_unit_zero (S := S1x256) hz]

theorem out_C_10 (hc0 : cond0_0 i) (hc1 : ¬cond0_1 i) :
    out0_C_10 c i a2 h2 a3 h3 a4 h4 a5 h5 a6 h6 a7 h7 a8 h8 a9 h9 a10 h10 a11 h11 a12 h12 hc0 hc1 x0 x1 x2 x3 x4 x5 y9 y10 = k0_pay5 (gkT x0 x1 x2 x3 x4 x5) y10 := by
  unfold out0_C_10
  rw [View.read_writes_eq_canon _ _ _ (cover0_C_10 c i a2 h2 a3 h3 a4 h4 a5 h5 a6 h6 a7 h7 a8 h8 a9 h9 a10 h10 a11 h11 a12 h12 hc0 hc1 x0 x1 x2 x3 x4 x5 y9 y10)]
  unfold kernelRun0_C
  dsimp only
  sl_unfold_words
  rw [View.canon_unit_zero hz]
  simp only [View.readAt_eq_ld, h2.read_unread, h3.read_unread, h4.read_unread, h5.read_unread, h6.read_unread, h7.read_unread, h9.read_unread, h10.read_unread, h11.read_unread, h12.read_unread, View.ld_unit_zero (S := S512x256) hz, View.ld_unit_zero (S := S256x256) hz, View.ld_unit_zero (S := S1x256) hz]

end

end Cert.Outs
-- ==== Proof.Fold.lean ====
/-
  What the results' staging buffers hold after each grid point, as numbers: point `t` is tile `t % 8` of 512 query rows of
  head `t / 8`. The queries' gradient is the tile's own. The keys' and values' gradients are summed over the query rows of
  the head so far, the gains' gradients over all the tiles so far.
-/
module

public import proofs.«01_k».proof.Proof.Nums
public import proofs.«01_k».proof.Proof.Block
public import proofs.«01_k».proof.Proof.Outs

@[expose] public section

set_option maxRecDepth 16384

noncomputable section

namespace Cert.Fold

open Cert.Lift Cert.Model Cert.Block Cert.Outs Cert.KernelIdeal Cert.KernelIdeal.Gen
open Idealize.ShloMosaic Idealize.ShloMosaic.TcCoe Idealize.SL Idealize.SL.Sem

/-- Device `c`'s arguments hold the numbers `p`. -/
structure Holds (m : (ℓ : Loc nD τ sig) → Buf (Elt Ideal) ℓ) (c : Dev nD) (p : Nums) : Prop where
  x : ∀ i : S4096x1024.Idx, (m ((c : Thread nD τ).loc main_arg0) : FVec Ideal S4096x1024 .f32) i = ((p.X (i 0).val (i 1).val : ℝ) : EReal)
  kv : ∀ i : S256x2048.Idx, (m ((c : Thread nD τ).loc main_arg1) : FVec Ideal S256x2048 .f32) i = ((p.KV (i 0).val (i 1).val : ℝ) : EReal)
  gq : Is1 (φ := .f32) (m ((c : Thread nD τ).loc main_arg2)) p.GQ
  gk : Is1 (φ := .f32) (m ((c : Thread nD τ).loc main_arg3)) p.GK
  o : ∀ i : S4096x1024.Idx, (m ((c : Thread nD τ).loc main_arg4) : FVec Ideal S4096x1024 .f32) i = ((p.O (i 0).val (i 1).val : ℝ) : EReal)

variable {m : (ℓ : Loc nD τ sig) → Buf (Elt Ideal) ℓ} {c : Dev nD} {p : Nums}

/-! ## The blocks that a point reads -/

theorem at0 : ∀ t : Fin grid0.N, win0_0.index t 0 = t.val % 8 ∧ win0_0.index t 1 = t.val / 8 := by decide +kernel
theorem at1 : ∀ t : Fin grid0.N, win0_1.index t 0 = 0 ∧ win0_1.index t 1 = t.val / 8 := by decide +kernel
theorem at2 : ∀ t : Fin grid0.N, win0_2.index t 0 = 0 ∧ win0_2.index t 1 = 4 + t.val / 8 := by decide +kernel
theorem at3 : ∀ t : Fin grid0.N, win0_3.index t 0 = 0 ∧ win0_3.index t 1 = 0 := by decide +kernel
theorem at4 : ∀ t : Fin grid0.N, win0_4.index t 0 = 0 ∧ win0_4.index t 1 = 0 := by decide +kernel
theorem at5 : ∀ t : Fin grid0.N, win0_5.index t 0 = t.val % 8 ∧ win0_5.index t 1 = t.val / 8 := by decide +kernel

/-- The query row that row `r` of tile `t` is. -/
abbrev qi (t r : ℕ) : ℕ := t % 8 * 512 + r

theorem row_of_vec {v : FVec Ideal S256 .f32} {g : Row} (h : Is1 v g) : Is2 (shapeCast S1x256 v shapeCasts_S256_S1x256) fun _ => g :=
  row_cast h

theorem real (hm : Holds m c p) (t : Fin cfg0.N) :
    Real (iblk m c 0 t) (iblk m c 5 t) (iblk m c 1 t) (iblk m c 2 t) (iblk m c 3 t) (iblk m c 4 t)
      (fun r => p.q (t.val / 8) (qi t.val r)) (fun r => p.o (t.val / 8) (qi t.val r)) (p.k (t.val / 8)) (p.v (t.val / 8)) p.GQ p.GK where
  q := fun r d => by
    unfold iblk; rw [View.read_apply]
    show V m c main_arg0 _ = _
    rw [V_main_arg0]
    refine (hm.x _).trans (congrArg _ (congrArg₂ p.X ?_ ?_))
    · show win0_0.index t 0 * 512 + 1 * r.val = t.val % 8 * 512 + r.val; rw [(at0 t).1]; omega
    · show win0_0.index t 1 * 256 + 1 * d.val = 256 * (t.val / 8) + d.val; rw [(at0 t).2]; omega
  o := fun r d => by
    unfold iblk; rw [View.read_apply]
    show V m c main_arg4 _ = _
    rw [V_main_arg4]
    refine (hm.o _).trans (congrArg _ (congrArg₂ p.O ?_ ?_))
    · show win0_5.index t 0 * 512 + 1 * r.val = t.val % 8 * 512 + r.val; rw [(at5 t).1]; omega
    · show win0_5.index t 1 * 256 + 1 * d.val = 256 * (t.val / 8) + d.val; rw [(at5 t).2]; omega
  k := fun r d => by
    unfold iblk; rw [View.read_apply]
    show V m c main_arg1 _ = _
    rw [V_main_arg1]
    refine (hm.kv _).trans (congrArg _ (congrArg₂ p.KV ?_ ?_))
    · show win0_1.index t 0 * 256 + 1 * r.val = r.val; rw [(at1 t).1]; omega
    · show win0_1.index t 1 * 256 + 1 * d.val = 256 * (t.val / 8) + d.val; rw [(at1 t).2]; omega
  v := fun r d => by
    unfold iblk; rw [View.read_apply]
    show V m c main_arg1 _ = _
    rw [V_main_arg1]
    refine (hm.kv _).trans (congrArg _ (congrArg₂ p.KV ?_ ?_))
    · show win0_2.index t 0 * 256 + 1 * r.val = r.val; rw [(at2 t).1]; omega
    · show win0_2.index t 1 * 256 + 1 * d.val = 1024 + (256 * (t.val / 8) + d.val); rw [(at2 t).2]; omega
  gq := fun r d => by
    unfold iblk; rw [View.read_apply]
    show (shapeCast S1x256 (m ((c : Thread nD τ).loc main_arg2)) shapeCasts_S256_S1x256 : FVec Ideal S1x256 .f32) _ = _
    refine Eq.trans (congrArg _ ?_) (row_of_vec hm.gq r d)
    funext a; apply Fin.ext
    match a with
    | ⟨0, _⟩ => show win0_3.index t 0 * 1 + 1 * r.val = r.val; rw [(at3 t).1]; omega
    | ⟨1, _⟩ => show win0_3.index t 1 * 256 + 1 * d.val = d.val; rw [(at3 t).2]; omega
  gk := fun r d => by
    unfold iblk; rw [View.read_apply]
    show (shapeCast S1x256 (m ((c : Thread nD τ).loc main_arg3)) shapeCasts_S256_S1x256 : FVec Ideal S1x256 .f32) _ = _
    refine Eq.trans (congrArg _ ?_) (row_of_vec hm.gk r d)
    funext a; apply Fin.ext
    match a with
    | ⟨0, _⟩ => show win0_4.index t 0 * 1 + 1 * r.val = r.val; rw [(at4 t).1]; omega
    | ⟨1, _⟩ => show win0_4.index t 1 * 256 + 1 * d.val = d.val; rw [(at4 t).2]; omega

/-! ## One point's five contributions -/

section
variable {q o : FVec Ideal S512x256 .f32} {k v : FVec Ideal S256x256 .f32} {gq gk : FVec Ideal S1x256 .f32} {n : ℕ}
variable (h : Real q o k v gq gk (fun r => p.q (n / 8) (qi n r)) (fun r => p.o (n / 8) (qi n r)) (p.k (n / 8)) (p.v (n / 8)) p.GQ p.GK)
include h

theorem dq_tile : Is2 (dqT q k v gq gk o) fun r => p.dq (n / 8) (qi n r) := pay1 h
theorem dk_tile : Is2 (dkT q k v gq gk o) fun j d => ∑ r ∈ Finset.range 512, p.dk1 (n / 8) (qi n r) j d :=
  is2_congr (pay35 h) fun j d => by rw [bk_sum, Finset.sum_range]; rfl
theorem dv_tile : Is2 (dvT q k gq gk o) fun j d => ∑ r ∈ Finset.range 512, p.dv1 (n / 8) (qi n r) j d :=
  is2_congr (pay27 h) fun j d => by rw [Finset.sum_range]; rfl
theorem gq_tile : Is2 (gqT q k v gq gk o) fun _ d => ∑ r ∈ Finset.range 512, p.gq1 (n / 8) (qi n r) d :=
  is2_congr (pay36 h) fun j d => by rw [Finset.sum_range]; rfl
theorem gk_tile : Is2 (gkT q k v gq gk o) fun _ d => ∑ r ∈ Finset.range 512, p.gk1 (n / 8) (qi n r) d :=
  is2_congr (pay34 h) fun _ d => by
    simp only [Finset.mul_sum]; rw [Finset.sum_comm, Finset.sum_range]; rfl
end

/-! ## The sums over the points -/

theorem add_dk {x y : FVec Ideal S256x256 .f32} {f g : Fin 256 → Row} (hx : Is2 x f) (hy : Is2 y g) :
    Is2 (k0_pay2 x y) fun i d => g i d + f i d := by
  dsimp only [k0_pay2]; rw [shapeCast_id]; exact add2 hy hx
theorem add_dv {x y : FVec Ideal S256x256 .f32} {f g : Fin 256 → Row} (hx : Is2 x f) (hy : Is2 y g) :
    Is2 (k0_pay3 x y) fun i d => g i d + f i d := by
  dsimp only [k0_pay3]; rw [shapeCast_id]; exact add2 hy hx
theorem add_gq {x y : FVec Ideal S1x256 .f32} {f g : Fin 1 → Row} (hx : Is2 x f) (hy : Is2 y g) :
    Is2 (k0_pay4 x y) fun i d => g i d + f i d := by
  dsimp only [k0_pay4]; rw [shapeCast_id]; exact add2 hy hx
theorem add_gk {x y : FVec Ideal S1x256 .f32} {f g : Fin 1 → Row} (hx : Is2 x f) (hy : Is2 y g) :
    Is2 (k0_pay5 x y) fun i d => g i d + f i d := by
  dsimp only [k0_pay5]; rw [shapeCast_id]; exact add2 hy hx
theorem zero_dk : Is2 (k0_pay6 (F := Ideal)) fun _ _ => 0 := splat2 _ ofBits_zero
theorem zero_dv : Is2 (k0_pay7 (F := Ideal)) fun _ _ => 0 := splat2 _ ofBits_zero
theorem zero_gq : Is2 (k0_pay8 (F := Ideal)) fun _ _ => 0 := splat2 _ ofBits_zero
theorem zero_gk : Is2 (k0_pay9 (F := Ideal)) fun _ _ => 0 := splat2 _ ofBits_zero

/-- The five buffers after point `n`. -/
structure Held (p : Nums) (n : ℕ)
    (x : FVec Ideal S512x256 .bf16 × FVec Ideal S256x256 .f32 × FVec Ideal S256x256 .f32 × FVec Ideal S1x256 .f32 × FVec Ideal S1x256 .f32) : Prop where
  dq : Is2 x.1 fun r => p.dq (n / 8) (qi n r)
  dk : Is2 x.2.1 fun j d => ∑ i ∈ Finset.range ((n % 8 + 1) * 512), p.dk1 (n / 8) i j d
  dv : Is2 x.2.2.1 fun j d => ∑ i ∈ Finset.range ((n % 8 + 1) * 512), p.dv1 (n / 8) i j d
  gq : Is2 x.2.2.2.1 fun _ d => ∑ t ∈ Finset.range (n + 1), ∑ r ∈ Finset.range 512, p.gq1 (t / 8) (qi t r) d
  gk : Is2 x.2.2.2.2 fun _ d => ∑ t ∈ Finset.range (n + 1), ∑ r ∈ Finset.range 512, p.gk1 (t / 8) (qi t r) d

/-- At a head's first tile the sum is the tile's. -/
theorem first_run (f : ℕ → ℕ → ℝ) {n : ℕ} (h0 : n % 8 = 0) :
    0 + ∑ r ∈ Finset.range 512, f (n / 8) (qi n r) = ∑ i ∈ Finset.range ((n % 8 + 1) * 512), f (n / 8) i := by
  simp only [qi, h0, zero_mul, zero_add, one_mul]
/-- At a later tile it is what was there and the tile's. -/
theorem next_run (f : ℕ → ℕ → ℝ) {n : ℕ} (h0 : ¬n % 8 = 0) :
    ∑ i ∈ Finset.range (((n - 1) % 8 + 1) * 512), f ((n - 1) / 8) i + ∑ r ∈ Finset.range 512, f (n / 8) (qi n r)
      = ∑ i ∈ Finset.range ((n % 8 + 1) * 512), f (n / 8) i := by
  have e1 : (n - 1) % 8 + 1 = n % 8 := by omega
  have e2 : (n - 1) / 8 = n / 8 := by omega
  rw [e1, e2, Nat.succ_mul, Finset.sum_range_add]
/-- The sum over all the points so far, one point further. -/
theorem next_all (f : ℕ → ℝ) {n : ℕ} (h1 : ¬n % 32 = 0) :
    ∑ t ∈ Finset.range (n - 1 + 1), f t + f n = ∑ t ∈ Finset.range (n + 1), f t := by
  rw [show n - 1 + 1 = n by omega, Finset.sum_range_succ]
theorem first_all (f : ℕ → ℝ) {n : ℕ} (h : n = 0) : 0 + f n = ∑ t ∈ Finset.range (n + 1), f t := by
  subst h; simp

theorem held (hm : Holds m c p) : ∀ (n : ℕ) (h : n < cfg0.N), Held p n (outsAt0 m c n h) := by
  intro n
  induction n using Nat.strong_induction_on with
  | _ n ih =>
    intro h
    have hN : n < 32 := lt_of_lt_of_eq h N_0
    have hr := real hm ⟨n, h⟩
    by_cases h0 : n % 8 = 0
    · by_cases h1 : n % 32 = 0
      · have hn : n = 0 := by omega
        rw [show outsAt0 m c n h = _ from outsAt0_A m c ⟨n, h⟩ h0 h1]
        refine ⟨?_, ?_, ?_, ?_, ?_⟩
        · dsimp only; rw [out_A_6]; exact dq_tile hr
        · dsimp only; rw [out_A_7]
          exact is2_congr (add_dk (dk_tile hr) zero_dk) fun j d => first_run (fun h i => p.dk1 h i j d) h0
        · dsimp only; rw [out_A_8]
          exact is2_congr (add_dv (dv_tile hr) zero_dv) fun j d => first_run (fun h i => p.dv1 h i j d) h0
        · dsimp only; rw [out_A_9]
          exact is2_congr (add_gq (gq_tile hr) zero_gq) fun _ d =>
            first_all (fun t => ∑ r ∈ Finset.range 512, p.gq1 (t / 8) (qi t r) d) hn
        · dsimp only; rw [out_A_10]
          exact is2_congr (add_gk (gk_tile hr) zero_gk) fun _ d =>
            first_all (fun t => ∑ r ∈ Finset.range 512, p.gk1 (t / 8) (qi t r) d) hn
      · have hp := ih (n - 1) (by omega) (Nat.lt_of_le_of_lt (Nat.sub_le _ _) h)
        rw [show outsAt0 m c n h = _ from outsAt0_C m c ⟨n, h⟩ h0 h1]
        refine ⟨?_, ?_, ?_, ?_, ?_⟩
        · dsimp only; rw [out_C_6]; exact dq_tile hr
        · dsimp only; rw [out_C_7]
          exact is2_congr (add_dk (dk_tile hr) zero_dk) fun j d => first_run (fun h i => p.dk1 h i j d) h0
        · dsimp only; rw [out_C_8]
          exact is2_congr (add_dv (dv_tile hr) zero_dv) fun j d => first_run (fun h i => p.dv1 h i j d) h0
        · dsimp only; rw [out_C_9]
          exact is2_congr (add_gq (gq_tile hr) hp.gq) fun _ d =>
            next_all (fun t => ∑ r ∈ Finset.range 512, p.gq1 (t / 8) (qi t r) d) h1
        · dsimp only; rw [out_C_10]
          exact is2_congr (add_gk (gk_tile hr) hp.gk) fun _ d =>
            next_all (fun t => ∑ r ∈ Finset.range 512, p.gk1 (t / 8) (qi t r) d) h1
    · have h1 : ¬n % 32 = 0 := by omega
      have hp := ih (n - 1) (by omega) (Nat.lt_of_le_of_lt (Nat.sub_le _ _) h)
      rw [show outsAt0 m c n h = _ from outsAt0_B m c ⟨n, h⟩ h0 h1]
      refine ⟨?_, ?_, ?_, ?_, ?_⟩
      · dsimp only; rw [out_B_6]; exact dq_tile hr
      · dsimp only; rw [out_B_7]
        exact is2_congr (add_dk (dk_tile hr) hp.dk) fun j d => next_run (fun h i => p.dk1 h i j d) h0
      · dsimp only; rw [out_B_8]
        exact is2_congr (add_dv (dv_tile hr) hp.dv) fun j d => next_run (fun h i => p.dv1 h i j d) h0
      · dsimp only; rw [out_B_9]
        exact is2_congr (add_gq (gq_tile hr) hp.gq) fun _ d =>
          next_all (fun t => ∑ r ∈ Finset.range 512, p.gq1 (t / 8) (qi t r) d) h1
      · dsimp only; rw [out_B_10]
        exact is2_congr (add_gk (gk_tile hr) hp.gk) fun _ d =>
          next_all (fun t => ∑ r ∈ Finset.range 512, p.gk1 (t / 8) (qi t r) d) h1

end Cert.Fold
-- ==== Proof.Arrays.lean ====
/-
  What the kernel's five result arrays hold when it ends, as numbers.
-/
module

public import proofs.«01_k».proof.Proof.Fold

@[expose] public section

set_option maxRecDepth 16384

noncomputable section

namespace Cert

open Cert.Lift Cert.Model
open Idealize.ShloMosaic

/-- The column inside its head. -/
abbrev lane (n : ℕ) : Fin 256 := ⟨n % 256, Nat.mod_lt _ (by norm_num)⟩

namespace Nums
variable (p : Nums)

/-- The five gradients, as arrays. -/
def dQ : FVec Ideal ⟨2, ![4096, 1024]⟩ .bf16 := fun i => ((p.dq ((i 1).val / 256) (i 0).val (lane (i 1).val) : ℝ) : EReal)
def dK : FVec Ideal ⟨2, ![256, 1024]⟩ .f32 := fun i =>
  ((∑ r ∈ Finset.range 4096, p.dk1 ((i 1).val / 256) r (lane (i 0).val) (lane (i 1).val) : ℝ) : EReal)
def dV : FVec Ideal ⟨2, ![256, 1024]⟩ .f32 := fun i =>
  ((∑ r ∈ Finset.range 4096, p.dv1 ((i 1).val / 256) r (lane (i 0).val) (lane (i 1).val) : ℝ) : EReal)
def dGQ : FVec Ideal ⟨2, ![1, 256]⟩ .f32 := fun i =>
  ((∑ h ∈ Finset.range 4, ∑ r ∈ Finset.range 4096, p.gq1 h r (lane (i 1).val) : ℝ) : EReal)
def dGK : FVec Ideal ⟨2, ![1, 256]⟩ .f32 := fun i =>
  ((∑ h ∈ Finset.range 4, ∑ r ∈ Finset.range 4096, p.gk1 h r (lane (i 1).val) : ℝ) : EReal)
end Nums

namespace Arrays

open Cert.Fold Cert.KernelIdeal Cert.KernelIdeal.Gen Cert.KernelIdeal.Value
open Idealize.ShloMosaic.TcCoe Idealize.SL Idealize.SL.Sem

variable {m : (ℓ : Loc nD τ sig) → Buf (Elt Ideal) ℓ} {c : Dev nD} {p : Nums}

theorem at6 : ∀ t : Fin grid0.N, win0_6.index t 0 = t.val % 8 ∧ win0_6.index t 1 = t.val / 8 := by decide +kernel
theorem at7 : ∀ t : Fin grid0.N, win0_7.index t 0 = 0 ∧ win0_7.index t 1 = t.val / 8 := by decide +kernel
theorem at8 : ∀ t : Fin grid0.N, win0_8.index t 0 = 0 ∧ win0_8.index t 1 = t.val / 8 := by decide +kernel
theorem at9 : ∀ t : Fin grid0.N, win0_9.index t 0 = 0 ∧ win0_9.index t 1 = 0 := by decide +kernel
theorem at10 : ∀ t : Fin grid0.N, win0_10.index t 0 = 0 ∧ win0_10.index t 1 = 0 := by decide +kernel

/-- The last tile of head `h`. -/
theorem last_lt {h : ℕ} (hh : h < 4) : h * 8 + 7 < cfg0.N := by rw [show cfg0.N = 32 from N_0]; omega

theorem dq_flushed (hm : Holds m c p) (t : Fin cfg0.N) (_ : (cfg0.win 6).flush t = true) :
    (dats m 0 c).flushed 6 t = ((cfg0.win 6).blk t).view.read (Elt Ideal) p.dQ := by
  rw [flushed6]
  refine funext fun (j : (⟨2, ![512, 256]⟩ : Shape).Idx) => ?_
  obtain ⟨a, b, rfl⟩ := ix2_of j
  rw [View.read_apply]
  refine ((held hm t.val t.isLt).dq a b).trans ?_
  have e0 : win0_6.index t 0 * 512 + 1 * a.val = t.val % 8 * 512 + a.val := by rw [(at6 t).1]; omega
  have e1 : win0_6.index t 1 * 256 + 1 * b.val = 256 * (t.val / 8) + b.val := by rw [(at6 t).2]; omega
  have hj : b.val < 256 := b.isLt
  show _ = ((p.dq ((win0_6.index t 1 * 256 + 1 * b.val) / 256) (win0_6.index t 0 * 512 + 1 * a.val)
    (lane (win0_6.index t 1 * 256 + 1 * b.val)) : ℝ) : EReal)
  rw [e0, e1, show (256 * (t.val / 8) + b.val) / 256 = t.val / 8 by omega]
  exact congrArg _ (congrArg _ (Fin.ext (show b.val = (256 * (t.val / 8) + b.val) % 256 by omega)))

theorem dq_final (hm : Holds m c p) : (dats m 0 c).arrAt 6 cfg0.N = p.dQ :=
  (dats m 0 c).arrAt_eq_of_cover 6 p.dQ (dq_flushed hm) fun i => by
    have h0 : (i 0 : Nat) < 4096 := (i 0).isLt
    have h1 : (i 1 : Nat) < 1024 := (i 1).isLt
    refine ⟨⟨(i 1).val / 256 * 8 + (i 0).val / 512, ?_⟩, flush0_6 _, ?_⟩
    · rw [show cfg0.N = 32 from N_0]; omega
    · generalize ht : (⟨(i 1).val / 256 * 8 + (i 0).val / 512, _⟩ : Fin cfg0.N) = t
      have hv : t.val = (i 1).val / 256 * 8 + (i 0).val / 512 := by rw [← ht]
      show i ∈ ((View.whole main_v2_0).slice (win0_6.rect t)).set
      rw [View.set_slice_whole, Rect.mem_set_unit]
      intro a
      match a with
      | ⟨0, _⟩ => show win0_6.index t 0 * 512 ≤ (i 0 : Nat) ∧ (i 0 : Nat) < win0_6.index t 0 * 512 + 512
                  rw [(at6 t).1]; omega
      | ⟨1, _⟩ => show win0_6.index t 1 * 256 ≤ (i 1 : Nat) ∧ (i 1 : Nat) < win0_6.index t 1 * 256 + 256
                  rw [(at6 t).2]; omega

theorem dk_flushed (hm : Holds m c p) (t : Fin cfg0.N) (hf : (cfg0.win 7).flush t = true) :
    (dats m 0 c).flushed 7 t = ((cfg0.win 7).blk t).view.read (Elt Ideal) p.dK := by
  have h7 := (flush0_7 t).mp hf
  rw [flushed7]
  refine funext fun (j : (⟨2, ![256, 256]⟩ : Shape).Idx) => ?_
  obtain ⟨a, b, rfl⟩ := ix2_of j
  rw [View.read_apply]
  refine ((held hm t.val t.isLt).dk a b).trans ?_
  have e0 : win0_7.index t 0 * 256 + 1 * a.val = a.val := by rw [(at7 t).1]; omega
  have e1 : win0_7.index t 1 * 256 + 1 * b.val = 256 * (t.val / 8) + b.val := by rw [(at7 t).2]; omega
  have hj : b.val < 256 := b.isLt
  show _ = ((∑ r ∈ Finset.range 4096, p.dk1 ((win0_7.index t 1 * 256 + 1 * b.val) / 256) r
    (lane (win0_7.index t 0 * 256 + 1 * a.val)) (lane (win0_7.index t 1 * 256 + 1 * b.val)) : ℝ) : EReal)
  have f0 : lane a.val = a := Fin.ext (Nat.mod_eq_of_lt a.isLt)
  have f1 : lane (256 * (t.val / 8) + b.val) = b :=
    Fin.ext (show (256 * (t.val / 8) + b.val) % 256 = b.val by omega)
  rw [e0, f0, e1, f1, show (256 * (t.val / 8) + b.val) / 256 = t.val / 8 by omega]
  dsimp only
  rw [h7]

theorem dk_final (hm : Holds m c p) : (dats m 0 c).arrAt 7 cfg0.N = p.dK :=
  (dats m 0 c).arrAt_eq_of_cover 7 p.dK (dk_flushed hm) fun i => by
    have h0 : (i 0 : Nat) < 256 := (i 0).isLt
    have h1 : (i 1 : Nat) < 1024 := (i 1).isLt
    refine ⟨⟨(i 1).val / 256 * 8 + 7, last_lt (by omega)⟩, (flush0_7 _).mpr (by dsimp only; omega), ?_⟩
    generalize ht : (⟨(i 1).val / 256 * 8 + 7, _⟩ : Fin cfg0.N) = t
    have hv : t.val = (i 1).val / 256 * 8 + 7 := by rw [← ht]
    show i ∈ ((View.whole main_v2_1).slice (win0_7.rect t)).set
    rw [View.set_slice_whole, Rect.mem_set_unit]
    intro a
    match a with
    | ⟨0, _⟩ => show win0_7.index t 0 * 256 ≤ (i 0 : Nat) ∧ (i 0 : Nat) < win0_7.index t 0 * 256 + 256
                rw [(at7 t).1]; omega
    | ⟨1, _⟩ => show win0_7.index t 1 * 256 ≤ (i 1 : Nat) ∧ (i 1 : Nat) < win0_7.index t 1 * 256 + 256
                rw [(at7 t).2]; omega

theorem dv_flushed (hm : Holds m c p) (t : Fin cfg0.N) (hf : (cfg0.win 8).flush t = true) :
    (dats m 0 c).flushed 8 t = ((cfg0.win 8).blk t).view.read (Elt Ideal) p.dV := by
  have h7 := (flush0_8 t).mp hf
  rw [flushed8]
  refine funext fun (j : (⟨2, ![256, 256]⟩ : Shape).Idx) => ?_
  obtain ⟨a, b, rfl⟩ := ix2_of j
  rw [View.read_apply]
  refine ((held hm t.val t.isLt).dv a b).trans ?_
  have e0 : win0_8.index t 0 * 256 + 1 * a.val = a.val := by rw [(at8 t).1]; omega
  have e1 : win0_8.index t 1 * 256 + 1 * b.val = 256 * (t.val / 8) + b.val := by rw [(at8 t).2]; omega
  have hj : b.val < 256 := b.isLt
  show _ = ((∑ r ∈ Finset.range 4096, p.dv1 ((win0_8.index t 1 * 256 + 1 * b.val) / 256) r
    (lane (win0_8.index t 0 * 256 + 1 * a.val)) (lane (win0_8.index t 1 * 256 + 1 * b.val)) : ℝ) : EReal)
  have f0 : lane a.val = a := Fin.ext (Nat.mod_eq_of_lt a.isLt)
  have f1 : lane (256 * (t.val / 8) + b.val) = b :=
    Fin.ext (show (256 * (t.val / 8) + b.val) % 256 = b.val by omega)
  rw [e0, f0, e1, f1, show (256 * (t.val / 8) + b.val) / 256 = t.val / 8 by omega]
  dsimp only
  rw [h7]

theorem dv_final (hm : Holds m c p) : (dats m 0 c).arrAt 8 cfg0.N = p.dV :=
  (dats m 0 c).arrAt_eq_of_cover 8 p.dV (dv_flushed hm) fun i => by
    have h0 : (i 0 : Nat) < 256 := (i 0).isLt
    have h1 : (i 1 : Nat) < 1024 := (i 1).isLt
    refine ⟨⟨(i 1).val / 256 * 8 + 7, last_lt (by omega)⟩, (flush0_8 _).mpr (by dsimp only; omega), ?_⟩
    generalize ht : (⟨(i 1).val / 256 * 8 + 7, _⟩ : Fin cfg0.N) = t
    have hv : t.val = (i 1).val / 256 * 8 + 7 := by rw [← ht]
    show i ∈ ((View.whole main_v2_2).slice (win0_8.rect t)).set
    rw [View.set_slice_whole, Rect.mem_set_unit]
    intro a
    match a with
    | ⟨0, _⟩ => show win0_8.index t 0 * 256 ≤ (i 0 : Nat) ∧ (i 0 : Nat) < win0_8.index t 0 * 256 + 256
                rw [(at8 t).1]; omega
    | ⟨1, _⟩ => show win0_8.index t 1 * 256 ≤ (i 1 : Nat) ∧ (i 1 : Nat) < win0_8.index t 1 * 256 + 256
                rw [(at8 t).2]; omega

/-- The sum over all 32 tiles is the sum over the heads and the query rows. -/
theorem all_tiles (f : ℕ → ℕ → ℝ) :
    ∑ t ∈ Finset.range 32, ∑ r ∈ Finset.range 512, f (t / 8) (qi t r) = ∑ h ∈ Finset.range 4, ∑ i ∈ Finset.range 4096, f h i := by
  rw [show (32 : ℕ) = 4 * 8 from rfl, sum_runs (fun t => ∑ r ∈ Finset.range 512, f (t / 8) (qi t r))]
  refine Finset.sum_congr rfl fun h _ => ?_
  rw [show (4096 : ℕ) = 8 * 512 from rfl, sum_runs (f h)]
  refine Finset.sum_congr rfl fun k hk => ?_
  have hk := Finset.mem_range.1 hk
  simp only [qi, show (h * 8 + k) / 8 = h by omega, show (h * 8 + k) % 8 = k by omega]

/-- The last point. -/
def last : Fin cfg0.N := ⟨31, by rw [show cfg0.N = 32 from N_0]; norm_num⟩

theorem gq_flushed (hm : Holds m c p) (t : Fin cfg0.N) (hf : (cfg0.win 9).flush t = true) :
    (dats m 0 c).flushed 9 t = ((cfg0.win 9).blk t).view.read (Elt Ideal) p.dGQ := by
  have h31 : t.val = 31 := by
    have h := (flush0_9 t).mp hf
    have hN : t.val < 32 := lt_of_lt_of_eq t.isLt N_0
    omega
  rw [flushed9]
  refine funext fun (j : (⟨2, ![1, 256]⟩ : Shape).Idx) => ?_
  obtain ⟨a, b, rfl⟩ := ix2_of j
  rw [View.read_apply]
  refine ((held hm t.val t.isLt).gq a b).trans ?_
  have e1 : win0_9.index t 1 * 256 + 1 * b.val = b.val := by rw [(at9 t).2]; omega
  show _ = ((∑ h ∈ Finset.range 4, ∑ r ∈ Finset.range 4096, p.gq1 h r (lane (win0_9.index t 1 * 256 + 1 * b.val)) : ℝ) : EReal)
  have f1 : lane b.val = b := Fin.ext (Nat.mod_eq_of_lt b.isLt)
  dsimp only
  rw [h31, e1, f1, ← all_tiles fun h i => p.gq1 h i b]

theorem gq_final (hm : Holds m c p) : (dats m 0 c).arrAt 9 cfg0.N = p.dGQ :=
  (dats m 0 c).arrAt_eq_of_cover 9 p.dGQ (gq_flushed hm) fun i => by
    have h0 : (i 0 : Nat) < 1 := (i 0).isLt
    have h1 : (i 1 : Nat) < 256 := (i 1).isLt
    refine ⟨last, (flush0_9 _).mpr rfl, ?_⟩
    generalize last = t
    show i ∈ ((View.whole main_v2_3).slice (win0_9.rect t)).set
    rw [View.set_slice_whole, Rect.mem_set_unit]
    intro a
    match a with
    | ⟨0, _⟩ => show win0_9.index t 0 * 1 ≤ (i 0 : Nat) ∧ (i 0 : Nat) < win0_9.index t 0 * 1 + 1
                rw [(at9 t).1]; omega
    | ⟨1, _⟩ => show win0_9.index t 1 * 256 ≤ (i 1 : Nat) ∧ (i 1 : Nat) < win0_9.index t 1 * 256 + 256
                rw [(at9 t).2]; omega

theorem gk_flushed (hm : Holds m c p) (t : Fin cfg0.N) (hf : (cfg0.win 10).flush t = true) :
    (dats m 0 c).flushed 10 t = ((cfg0.win 10).blk t).view.read (Elt Ideal) p.dGK := by
  have h31 : t.val = 31 := by
    have h := (flush0_10 t).mp hf
    have hN : t.val < 32 := lt_of_lt_of_eq t.isLt N_0
    omega
  rw [flushed10]
  refine funext fun (j : (⟨2, ![1, 256]⟩ : Shape).Idx) => ?_
  obtain ⟨a, b, rfl⟩ := ix2_of j
  rw [View.read_apply]
  refine ((held hm t.val t.isLt).gk a b).trans ?_
  have e1 : win0_10.index t 1 * 256 + 1 * b.val = b.val := by rw [(at10 t).2]; omega
  show _ = ((∑ h ∈ Finset.range 4, ∑ r ∈ Finset.range 4096, p.gk1 h r (lane (win0_10.index t 1 * 256 + 1 * b.val)) : ℝ) : EReal)
  have f1 : lane b.val = b := Fin.ext (Nat.mod_eq_of_lt b.isLt)
  dsimp only
  rw [h31, e1, f1, ← all_tiles fun h i => p.gk1 h i b]

theorem gk_final (hm : Holds m c p) : (dats m 0 c).arrAt 10 cfg0.N = p.dGK :=
  (dats m 0 c).arrAt_eq_of_cover 10 p.dGK (gk_flushed hm) fun i => by
    have h0 : (i 0 : Nat) < 1 := (i 0).isLt
    have h1 : (i 1 : Nat) < 256 := (i 1).isLt
    refine ⟨last, (flush0_10 _).mpr rfl, ?_⟩
    generalize last = t
    show i ∈ ((View.whole main_v2_4).slice (win0_10.rect t)).set
    rw [View.set_slice_whole, Rect.mem_set_unit]
    intro a
    match a with
    | ⟨0, _⟩ => show win0_10.index t 0 * 1 ≤ (i 0 : Nat) ∧ (i 0 : Nat) < win0_10.index t 0 * 1 + 1
                rw [(at10 t).1]; omega
    | ⟨1, _⟩ => show win0_10.index t 1 * 256 ≤ (i 1 : Nat) ∧ (i 1 : Nat) < win0_10.index t 1 * 256 + 256
                rw [(at10 t).2]; omega

end Arrays

end Cert
-- ==== Proof.Ref.lean ====
/-
  The reference, stage by stage: what its operations compute of the five arguments, and that each stage holds the numbers of
  Nums.lean when the arguments hold numbers.
-/
module

public import proofs.«01_k».proof.Proof.Arrays
public import proofs.«01_k».proof.Proof.Gen.ReferenceIdeal.Run

@[expose] public section

set_option maxRecDepth 16384

noncomputable section

namespace Cert.Ref

open Cert.Lift Cert.Model Cert.ReferenceIdeal Cert.ReferenceIdeal.Gen Idealize.ShloMosaic

/-! ## The stages -/

section
variable (x0 : FVec Ideal S4096x1024 .f32) (x1 : FVec Ideal S256x2048 .f32) (x2 x3 : FVec Ideal S256 .f32)
  (x4 : FVec Ideal S4096x1024 .f32)

/-- The zero that the sums start from. -/
abbrev z : FVec Ideal S_ .f32 := constant S_ .f32 0x00000000#32

/-- The queries by heads; their scale; its derivative; the scaled rows; the normalised rows. -/
def q3 : FVec Ideal S4096x4x256 .f32 := shapeCast _ x0 shapeCasts_S4096x1024_S4096x4x256
def mq : FVec Ideal S4096x4x1 .f32 :=
  addf (Host.divf (broadcastInDim S4096x4x1 ![0, 1] bcast_S4096x4_S4096x4x1_0_1
      (Host.reduceAdd (mulf (q3 x0) (q3 x0)) z reducesTo_S4096x4x256_S4096x4_d2 h_S_))
    (broadcastInDim S4096x4x1 ![] bcast_S_S4096x4x1 (constant S_ .f32 0x43800000#32)))
    (broadcastInDim S4096x4x1 ![] bcast_S_S4096x4x1 (constant S_ .f32 0x358637BD#32))
def rq : FVec Ideal S4096x4x1 .f32 := Host.rsqrt (mq x0)
def cq : FVec Ideal S4096x4x1 .f32 :=
  mulf (broadcastInDim S4096x4x1 ![] bcast_S_S4096x4x1 (constant S_ .f32 0xBF000000#32)) (Host.divf (rq x0) (mq x0))
def sq : FVec Ideal S4096x4x256 .f32 :=
  mulf (q3 x0) (broadcastInDim S4096x4x256 ![0, 1, 2] bcast_S4096x4x1_S4096x4x256_0_1_2 (rq x0))
def gq3 : FVec Ideal S4096x4x256 .f32 :=
  broadcastInDim S4096x4x256 ![0, 1, 2] bcast_S1x1x256_S4096x4x256_0_1_2 (broadcastInDim S1x1x256 ![2] bcast_S256_S1x1x256_2 x2)
def qn : FVec Ideal S4096x4x256 .f32 := mulf (sq x0) (gq3 x2)

/-- The same of the keys; the values by heads. -/
def k3 : FVec Ideal S256x4x256 .f32 :=
  shapeCast _ (extractStridedSlice S256x1024 ![0, 0] x1 slices_S256x2048_S256x1024_0_0) shapeCasts_S256x1024_S256x4x256
def mk : FVec Ideal S256x4x1 .f32 :=
  addf (Host.divf (broadcastInDim S256x4x1 ![0, 1] bcast_S256x4_S256x4x1_0_1
      (Host.reduceAdd (mulf (k3 x1) (k3 x1)) z reducesTo_S256x4x256_S256x4_d2 h_S_))
    (broadcastInDim S256x4x1 ![] bcast_S_S256x4x1 (constant S_ .f32 0x43800000#32)))
    (broadcastInDim S256x4x1 ![] bcast_S_S256x4x1 (constant S_ .f32 0x358637BD#32))
def rk : FVec Ideal S256x4x1 .f32 := Host.rsqrt (mk x1)
def ck : FVec Ideal S256x4x1 .f32 :=
  mulf (broadcastInDim S256x4x1 ![] bcast_S_S256x4x1 (constant S_ .f32 0xBF000000#32)) (Host.divf (rk x1) (mk x1))
def sk : FVec Ideal S256x4x256 .f32 :=
  mulf (k3 x1) (broadcastInDim S256x4x256 ![0, 1, 2] bcast_S256x4x1_S256x4x256_0_1_2 (rk x1))
def gk3 : FVec Ideal S256x4x256 .f32 :=
  broadcastInDim S256x4x256 ![0, 1, 2] bcast_S1x1x256_S256x4x256_0_1_2 (broadcastInDim S1x1x256 ![2] bcast_S256_S1x1x256_2 x3)
def kn : FVec Ideal S256x4x256 .f32 := mulf (sk x1) (gk3 x3)
def v3 : FVec Ideal S256x4x256 .f32 :=
  shapeCast _ (extractStridedSlice S256x1024 ![0, 1024] x1 slices_S256x2048_S256x1024_0_1024) shapeCasts_S256x1024_S256x4x256

/-- The logits; their exponentials; the denominators; the probabilities. -/
def lg3 : FVec Ideal S4x4096x256 .f32 :=
  mulf (Host.dotGeneral dot_S4096x4x256_S256x4x256_S4x4096x256_2_2_0_0_1_1 none (qn x0 x2) (kn x1 x3))
    (broadcastInDim S4x4096x256 ![] bcast_S_S4x4096x256 (constant S_ .f32 0x3D800000#32))
def mx : FVec Ideal S4x4096 .f32 :=
  maximumf (broadcastInDim S4x4096 ![] bcast_S_S4x4096 (constant S_ .f32 0xFF800000#32))
    (Host.reduce FloatOps.maximumf (lg3 x0 x1 x2 x3) (constant S_ .f32 0xFF800000#32) reducesTo_S4x4096x256_S4x4096_d2 h_S_)
def ex : FVec Ideal S4x4096x256 .f32 :=
  Host.exp (subf (lg3 x0 x1 x2 x3) (broadcastInDim S4x4096x256 ![0, 1, 2] bcast_S4x4096x1_S4x4096x256_0_1_2
    (broadcastInDim S4x4096x1 ![0, 1] bcast_S4x4096_S4x4096x1_0_1 (mx x0 x1 x2 x3))))
def sm : FVec Ideal S4x4096x1 .f32 :=
  broadcastInDim S4x4096x1 ![0, 1] bcast_S4x4096_S4x4096x1_0_1
    (Host.reduceAdd (ex x0 x1 x2 x3) z reducesTo_S4x4096x256_S4x4096_d2 h_S_)
def pr3 : FVec Ideal S4x4096x256 .f32 :=
  Host.divf (ex x0 x1 x2 x3) (broadcastInDim S4x4096x256 ![0, 1, 2] bcast_S4x4096x1_S4x4096x256_0_1_2 (sm x0 x1 x2 x3))

/-- The cotangent by heads; the gradients of the probabilities, the values and the logits. -/
def o3 : FVec Ideal S4x256x4096 .f32 :=
  transpose S4x256x4096 [1, 2, 0] (shapeCast _ x4 shapeCasts_S4096x1024_S4096x4x256) transposes_S4096x4x256_S4x256x4096_1_2_0
def dp3 : FVec Ideal S4x4096x256 .f32 :=
  Host.dotGeneral dot_S4x256x4096_S256x4x256_S4x4096x256_1_2_2_0_0_1 none (o3 x4) (v3 x1)
def dv3 : FVec Ideal S256x4x256 .f32 :=
  transpose S256x4x256 [2, 0, 1] (Host.dotGeneral dot_S4x256x4096_S4x4096x256_S4x256x256_2_1_1_2_0_0 none (o3 x4) (pr3 x0 x1 x2 x3))
    transposes_S4x256x256_S256x4x256_2_0_1
def nd : FVec Ideal S4x4096x1 .f32 :=
  Host.negf (shapeCast _ (Host.reduceAdd (mulf (mulf (dp3 x1 x4)
    (broadcastInDim S4x4096x256 ![0, 1, 2] bcast_S4x4096x1_S4x4096x256_0_1_2
      (Host.divf (broadcastInDim S4x4096x1 ![] bcast_S_S4x4096x1 (constant S_ .f32 0x3F800000#32))
        (mulf (sm x0 x1 x2 x3) (sm x0 x1 x2 x3))))) (ex x0 x1 x2 x3)) z reducesTo_S4x4096x256_S4x4096_d2 h_S_)
    shapeCasts_S4x4096_S4x4096x1)
def ds3 : FVec Ideal S4x4096x256 .f32 :=
  mulf (mulf (addf (Host.divf (dp3 x1 x4) (broadcastInDim S4x4096x256 ![0, 1, 2] bcast_S4x4096x1_S4x4096x256_0_1_2 (sm x0 x1 x2 x3)))
      (broadcastInDim S4x4096x256 ![0, 1] bcast_S4x4096_S4x4096x256_0_1
        (Host.reduceAdd (nd x0 x1 x2 x3 x4) z reducesTo_S4x4096x1_S4x4096_d2 h_S_)))
    (ex x0 x1 x2 x3)) (broadcastInDim S4x4096x256 ![] bcast_S_S4x4096x256 (constant S_ .f32 0x3D800000#32))

/-- The gradients of the normalised keys and queries. -/
def dkn : FVec Ideal S256x4x256 .f32 :=
  transpose S256x4x256 [1, 0, 2] (Host.dotGeneral dot_S4x4096x256_S4096x4x256_S4x256x256_1_0_2_2_0_1 none (ds3 x0 x1 x2 x3 x4) (qn x0 x2))
    transposes_S4x256x256_S256x4x256_1_0_2
def dqn3 : FVec Ideal S4096x4x256 .f32 :=
  transpose S4096x4x256 [1, 0, 2] (Host.dotGeneral dot_S4x4096x256_S256x4x256_S4x4096x256_2_0_1_2_0_1 none (ds3 x0 x1 x2 x3 x4) (kn x1 x3))
    transposes_S4x4096x256_S4096x4x256_1_0_2

/-- The gradient of the key gain and of the keys. -/
def dgk : FVec Ideal S256 .f32 :=
  Host.reduceAdd (shapeCast _ (Host.reduceAdd (mulf (sk x1) (dkn x0 x1 x2 x3 x4)) z reducesTo_S256x4x256_S256_d0_1 h_S_)
    shapeCasts_S256_S1x1x256) z reducesTo_S1x1x256_S256_d0_1 h_S_
def yk : FVec Ideal S256x4x256 .f32 := mulf (dkn x0 x1 x2 x3 x4) (gk3 x3)
def tk : FVec Ideal S256x4x256 .f32 :=
  broadcastInDim S256x4x256 ![0, 1] bcast_S256x4_S256x4x256_0_1 (Host.reduceAdd (Host.divf (mulf
    (shapeCast _ (Host.reduceAdd (mulf (k3 x1) (yk x0 x1 x2 x3 x4)) z reducesTo_S256x4x256_S256x4_d2 h_S_) shapeCasts_S256x4_S256x4x1)
    (ck x1)) (broadcastInDim S256x4x1 ![] bcast_S_S256x4x1 (constant S_ .f32 0x43800000#32))) z reducesTo_S256x4x1_S256x4_d2 h_S_)
def dk3 : FVec Ideal S256x4x256 .f32 :=
  addf (addf (mulf (yk x0 x1 x2 x3 x4) (broadcastInDim S256x4x256 ![0, 1, 2] bcast_S256x4x1_S256x4x256_0_1_2 (rk x1)))
    (mulf (k3 x1) (tk x0 x1 x2 x3 x4))) (mulf (tk x0 x1 x2 x3 x4) (k3 x1))
/-- The keys' and values' gradients side by side. -/
def dkv : FVec Ideal S256x2048 .f32 :=
  addf (pad S256x2048 ![0, 1024] ![0, 0] ![0, 0] (shapeCast S256x1024 (dv3 x0 x1 x2 x3 x4) shapeCasts_S256x4x256_S256x1024) z
      pads_S256x1024_S256x2048_000_102400 h_S_)
    (pad S256x2048 ![0, 0] ![0, 1024] ![0, 0] (shapeCast S256x1024 (dk3 x0 x1 x2 x3 x4) shapeCasts_S256x4x256_S256x1024) z
      pads_S256x1024_S256x2048_000_010240 h_S_)

/-- The gradient of the query gain and of the queries. -/
def dgq : FVec Ideal S256 .f32 :=
  Host.reduceAdd (shapeCast _ (Host.reduceAdd (mulf (sq x0) (dqn3 x0 x1 x2 x3 x4)) z reducesTo_S4096x4x256_S256_d0_1 h_S_)
    shapeCasts_S256_S1x1x256) z reducesTo_S1x1x256_S256_d0_1 h_S_
def yq : FVec Ideal S4096x4x256 .f32 := mulf (dqn3 x0 x1 x2 x3 x4) (gq3 x2)
def tq : FVec Ideal S4096x4x256 .f32 :=
  broadcastInDim S4096x4x256 ![0, 1] bcast_S4096x4_S4096x4x256_0_1 (Host.reduceAdd (Host.divf (mulf
    (shapeCast _ (Host.reduceAdd (mulf (q3 x0) (yq x0 x1 x2 x3 x4)) z reducesTo_S4096x4x256_S4096x4_d2 h_S_) shapeCasts_S4096x4_S4096x4x1)
    (cq x0)) (broadcastInDim S4096x4x1 ![] bcast_S_S4096x4x1 (constant S_ .f32 0x43800000#32))) z reducesTo_S4096x4x1_S4096x4_d2 h_S_)
def dq3 : FVec Ideal S4096x4x256 .f32 :=
  addf (addf (mulf (yq x0 x1 x2 x3 x4) (broadcastInDim S4096x4x256 ![0, 1, 2] bcast_S4096x4x1_S4096x4x256_0_1_2 (rq x0)))
    (mulf (q3 x0) (tq x0 x1 x2 x3 x4))) (mulf (tq x0 x1 x2 x3 x4) (q3 x0))

/-- The five results. -/
def out0 : FVec Ideal S4096x1024 .bf16 :=
  truncf .bf16 (shapeCast S4096x1024 (dq3 x0 x1 x2 x3 x4) shapeCasts_S4096x4x256_S4096x1024) bitsLt_bf16_f32
def out1 : FVec Ideal S256x1024 .f32 := extractStridedSlice S256x1024 ![0, 0] (dkv x0 x1 x2 x3 x4) slices_S256x2048_S256x1024_0_0
def out2 : FVec Ideal S256x1024 .f32 := extractStridedSlice S256x1024 ![0, 1024] (dkv x0 x1 x2 x3 x4) slices_S256x2048_S256x1024_0_1024
def out3 : FVec Ideal S1x256 .f32 := shapeCast S1x256 (dgq x0 x1 x2 x3 x4) shapeCasts_S256_S1x256
def out4 : FVec Ideal S1x256 .f32 := shapeCast S1x256 (dgk x0 x1 x2 x3 x4) shapeCasts_S256_S1x256
end

/-! ## What the stages hold -/

/-- The arguments hold the numbers `p`. -/
structure Holds (x0 : FVec Ideal S4096x1024 .f32) (x1 : FVec Ideal S256x2048 .f32) (x2 x3 : FVec Ideal S256 .f32)
    (x4 : FVec Ideal S4096x1024 .f32) (p : Nums) : Prop where
  x : ∀ i : S4096x1024.Idx, x0 i = ((p.X (i 0).val (i 1).val : ℝ) : EReal)
  kv : ∀ i : S256x2048.Idx, x1 i = ((p.KV (i 0).val (i 1).val : ℝ) : EReal)
  gq : Is1 x2 p.GQ
  gk : Is1 x3 p.GK
  o : ∀ i : S4096x1024.Idx, x4 i = ((p.O (i 0).val (i 1).val : ℝ) : EReal)

variable {x0 : FVec Ideal S4096x1024 .f32} {x1 : FVec Ideal S256x2048 .f32} {x2 x3 : FVec Ideal S256 .f32}
  {x4 : FVec Ideal S4096x1024 .f32} {p : Nums}

theorem z_is : Is0 z 0 := const0 _ ofBits_zero

section
variable (h : Holds x0 x1 x2 x3 x4 p)
include h

theorem q3_is : Is3 (q3 x0) fun i h => p.q h.val i.val :=
  split3 rfl fun i j k l e => (h.x _).trans (congrArg _ (congrArg (p.X i.val) (by show l.val = 256 * j.val + k.val; omega)))
theorem mq_is : Is3 (mq x0) fun i h _ => ms (p.q h.val i.val) :=
  add3 (hdiv3 (hlane3 (hsum3 (mul3 (q3_is h) (q3_is h)) z_is)) (hsplat3 (const0 _ ofBits_256)) fun _ _ _ => by norm_num)
    (hsplat3 (const0 _ ofBits_eps))
theorem rq_is : Is3 (rq x0) fun i h _ => rr (p.q h.val i.val) := hrsqrt3 (mq_is h) fun _ _ _ => ms_pos _
theorem cq_is : Is3 (cq x0) fun i h _ => cc (p.q h.val i.val) :=
  mul3 (hsplat3 (const0 _ ofBits_mhalf)) (hdiv3 (rq_is h) (mq_is h) fun _ _ _ => ms_ne _)
theorem sq_is : Is3 (sq x0) fun i h d => p.q h.val i.val d * rr (p.q h.val i.val) := mul3 (q3_is h) (hstretch3 (rq_is h))
theorem gq3_is : Is3 (gq3 x2) fun _ _ => p.GQ := hvec3 h.gq
theorem qn_is : Is3 (qn x0 x2) fun i h => nm (p.q h.val i.val) p.GQ := mul3 (sq_is h) (gq3_is h)

theorem k3_is : Is3 (k3 x1) fun j h => p.k h.val j :=
  split3 rfl fun i j k l e => by
    pointwise
    refine (h.kv _).trans (congrArg _ (congrArg₂ p.KV ?_ ?_))
    · rfl
    · show l.val = 256 * j.val + k.val; omega
theorem mk_is : Is3 (mk x1) fun j h _ => ms (p.k h.val j) :=
  add3 (hdiv3 (hlane3 (hsum3 (mul3 (k3_is h) (k3_is h)) z_is)) (hsplat3 (const0 _ ofBits_256)) fun _ _ _ => by norm_num)
    (hsplat3 (const0 _ ofBits_eps))
theorem rk_is : Is3 (rk x1) fun j h _ => rr (p.k h.val j) := hrsqrt3 (mk_is h) fun _ _ _ => ms_pos _
theorem ck_is : Is3 (ck x1) fun j h _ => cc (p.k h.val j) :=
  mul3 (hsplat3 (const0 _ ofBits_mhalf)) (hdiv3 (rk_is h) (mk_is h) fun _ _ _ => ms_ne _)
theorem sk_is : Is3 (sk x1) fun j h d => p.k h.val j d * rr (p.k h.val j) := mul3 (k3_is h) (hstretch3 (rk_is h))
theorem gk3_is : Is3 (gk3 x3) fun _ _ => p.GK := hvec3 h.gk
theorem kn_is : Is3 (kn x1 x3) fun j h => nm (p.k h.val j) p.GK := mul3 (sk_is h) (gk3_is h)
theorem v3_is : Is3 (v3 x1) fun j h => p.v h.val j :=
  split3 rfl fun i j k l e => by
    pointwise
    refine (h.kv _).trans (congrArg _ (congrArg₂ p.KV ?_ ?_))
    · rfl
    · show 1024 + l.val = 1024 + (256 * j.val + k.val); omega

theorem lg_is : Is3 (lg3 x0 x1 x2 x3) fun h i => lg (p.q h.val i.val) p.GQ (p.k h.val) p.GK :=
  mul3 (prod3 (fun h' i j d => qn_is h i h' d) (fun h' i j d => kn_is h j h' d) fun h' i j => by pointwise)
    (hsplat3 (const0 _ ofBits_16th))
theorem mx_is : Is2 (mx x0 x1 x2 x3) fun h i => top (lg (p.q h.val i.val) p.GQ (p.k h.val) p.GK) :=
  floor2 (hmax3 (lg_is h))
theorem ex_is : Is3 (ex x0 x1 x2 x3) fun h i => ee (p.q h.val i.val) p.GQ (p.k h.val) p.GK :=
  hexp3 (sub3 (lg_is h) (hstretch3 (hlane3 (mx_is h))))
theorem sm_is : Is3 (sm x0 x1 x2 x3) fun h i _ => ss (p.q h.val i.val) p.GQ (p.k h.val) p.GK :=
  hlane3 (hsum3 (ex_is h) z_is)
theorem pr_is : Is3 (pr3 x0 x1 x2 x3) fun h i => pr (p.q h.val i.val) p.GQ (p.k h.val) p.GK :=
  hdiv3 (ex_is h) (hstretch3 (sm_is h)) fun _ _ _ => ss_ne _ _ _ _

theorem o3_is : Is3 (o3 x4) fun h d i => p.o h.val i.val d :=
  swap120 (f := fun i h d => p.o h.val i.val d) (split3 rfl fun i j k l e =>
    (h.o _).trans (congrArg _ (congrArg (p.O i.val) (by show l.val = 256 * j.val + k.val; omega))))
theorem dp_is : Is3 (dp3 x1 x4) fun h i => dp (p.o h.val i.val) (p.v h.val) :=
  prod3 (fun h' i j d => o3_is h h' d i) (fun h' i j d => v3_is h j h' d) fun h' i j => by unfold dp3; pointwise
theorem dv_is : Is3 (dv3 x0 x1 x2 x3 x4) fun j h d => ∑ i : Fin 4096, p.dv1 h.val i.val j d :=
  is3_congr (swap201 (prod3 (fun h' d j i => o3_is h h' d i) (fun h' d j i => pr_is h h' i j) fun h' d j => by pointwise))
    fun j h' d => Finset.sum_congr rfl fun i _ => mul_comm _ _
theorem nd_is : Is3 (nd x0 x1 x2 x3 x4) fun h i _ =>
    -∑ j, dp (p.o h.val i.val) (p.v h.val) j
      * (1 / (ss (p.q h.val i.val) p.GQ (p.k h.val) p.GK * ss (p.q h.val i.val) p.GQ (p.k h.val) p.GK))
      * ee (p.q h.val i.val) p.GQ (p.k h.val) p.GK j :=
  hneg3 (hcol_cast (hsum3 (mul3 (mul3 (dp_is h) (hstretch3 (hdiv3 (hsplat3 (const0 _ ofBits_one)) (mul3 (sm_is h) (sm_is h))
    fun _ _ _ => mul_ne_zero (ss_ne _ _ _ _) (ss_ne _ _ _ _)))) (ex_is h)) z_is))
theorem ds_is : Is3 (ds3 x0 x1 x2 x3 x4) fun h i => p.s h.val i.val :=
  is3_congr (mul3 (mul3 (add3 (hdiv3 (dp_is h) (hstretch3 (sm_is h)) fun _ _ _ => ss_ne _ _ _ _)
    (hlane3 (hsum3 (nd_is h) z_is))) (ex_is h)) (hsplat3 (const0 _ ofBits_16th))) fun h' i j => by
      simp only [Nums.s, ds, Fin.sum_univ_one, sub_eq_add_neg, ← Finset.sum_div, div_eq_mul_inv, one_mul]
      congr 3
      rw [Finset.sum_mul]
      exact congrArg _ (Finset.sum_congr rfl fun l _ => by ring)

theorem dkn_is : Is3 (dkn x0 x1 x2 x3 x4) fun j h d => ∑ i : Fin 4096, p.s h.val i.val j * nm (p.q h.val i.val) p.GQ d :=
  swap102 (prod3 (fun h' j d i => ds_is h h' i j) (fun h' j d i => qn_is h i h' d) fun h' j d => by pointwise)
theorem dqn_is : Is3 (dqn3 x0 x1 x2 x3 x4) fun i h => p.y h.val i.val :=
  swap102 (prod3 (fun h' i d j => ds_is h h' i j) (fun h' i d j => kn_is h j h' d) fun h' i d => by pointwise)
end

end Cert.Ref
-- ==== Proof.Grads.lean ====
/-
  The reference's five results hold the numbers of Nums.lean: its gradients of the summed cotangents are the kernel's sums of the
  rows' gradients.
-/
module

public import proofs.«01_k».proof.Proof.Ref

@[expose] public section

set_option maxRecDepth 16384

noncomputable section

namespace Cert.Ref

open Cert.Lift Cert.Model Cert.ReferenceIdeal Cert.ReferenceIdeal.Gen Idealize.ShloMosaic

variable {x0 : FVec Ideal S4096x1024 .f32} {x1 : FVec Ideal S256x2048 .f32} {x2 x3 : FVec Ideal S256 .f32}
  {x4 : FVec Ideal S4096x1024 .f32} {p : Nums}

section
variable (h : Holds x0 x1 x2 x3 x4 p)
include h

/-! ## Back through the normalisations -/

theorem dgq_is : Is1 (dgq x0 x1 x2 x3 x4) fun d => ∑ i : Fin 4096, ∑ h : Fin 4, p.gq1 h.val i.val d := fun d => by
  refine (hsum01 (hcube_cast (hsum01 (mul3 (sq_is h) (dqn_is h)) z_is)) z_is d).trans ?_
  simp only [Fin.sum_univ_one, Nums.gq1]

theorem yq_is : Is3 (yq x0 x1 x2 x3 x4) fun i h d => p.y h.val i.val d * p.GQ d := mul3 (dqn_is h) (gq3_is h)
theorem tq_is : Is3 (tq x0 x1 x2 x3 x4) fun i h _ =>
    (∑ c, p.q h.val i.val c * (p.y h.val i.val c * p.GQ c)) * cc (p.q h.val i.val) / 256 :=
  is3_congr (hlane3 (hsum3 (hdiv3 (mul3 (hcol_cast (hsum3 (mul3 (q3_is h) (yq_is h)) z_is)) (cq_is h))
    (hsplat3 (const0 _ ofBits_256)) fun _ _ _ => by norm_num) z_is)) fun _ _ _ => by simp only [Fin.sum_univ_one]
theorem dq3_is : Is3 (dq3 x0 x1 x2 x3 x4) fun i h => p.dq h.val i.val :=
  is3_congr (add3 (add3 (mul3 (yq_is h) (hstretch3 (rq_is h))) (mul3 (q3_is h) (tq_is h))) (mul3 (tq_is h) (q3_is h)))
    fun i h' d => by simp only [Nums.dq, bk]; ring

theorem dgk_is : Is1 (dgk x0 x1 x2 x3 x4) fun d => ∑ i : Fin 4096, ∑ h : Fin 4, p.gk1 h.val i.val d := fun d => by
  refine (hsum01 (hcube_cast (hsum01 (mul3 (sk_is h) (dkn_is h)) z_is)) z_is d).trans (congrArg _ ?_)
  simp only [Fin.sum_univ_one, Nums.gk1, Finset.mul_sum]
  rw [Finset.sum_comm]
  simp only [Finset.sum_comm (s := (Finset.univ : Finset (Fin 256)))]
  exact Finset.sum_comm

theorem yk_is : Is3 (yk x0 x1 x2 x3 x4) fun j h d =>
    (∑ i : Fin 4096, p.s h.val i.val j * nm (p.q h.val i.val) p.GQ d) * p.GK d := mul3 (dkn_is h) (gk3_is h)
theorem tk_is : Is3 (tk x0 x1 x2 x3 x4) fun j h _ =>
    (∑ c, p.k h.val j c * ((∑ i : Fin 4096, p.s h.val i.val j * nm (p.q h.val i.val) p.GQ c) * p.GK c)) * cc (p.k h.val j) / 256 :=
  is3_congr (hlane3 (hsum3 (hdiv3 (mul3 (hcol_cast (hsum3 (mul3 (k3_is h) (yk_is h)) z_is)) (ck_is h))
    (hsplat3 (const0 _ ofBits_256)) fun _ _ _ => by norm_num) z_is)) fun _ _ _ => by simp only [Fin.sum_univ_one]
theorem dk3_is : Is3 (dk3 x0 x1 x2 x3 x4) fun j h d => ∑ i : Fin 4096, p.dk1 h.val i.val j d :=
  is3_congr (add3 (add3 (mul3 (yk_is h) (hstretch3 (rk_is h))) (mul3 (k3_is h) (tk_is h))) (mul3 (tk_is h) (k3_is h)))
    fun j h' d => by
      simp only [Nums.dk1]
      rw [← bk_sum Finset.univ (p.k h'.val j) p.GK (fun (i : Fin 4096) c => p.s h'.val i.val j * nm (p.q h'.val i.val) p.GQ c) d]
      simp only [bk]; ring

/-! ## The results -/

theorem out0_eq : out0 x0 x1 x2 x3 x4 = p.dQ := funext fun i => by
  obtain ⟨a, b, rfl⟩ := ix2_of i
  exact trunc2 (f := fun (i : Fin 4096) (l : Fin 1024) => p.dq (l.val / 256) i.val (lane l.val)) bitsLt_bf16_f32
    (join3 rfl (by norm_num) (dq3_is h) fun i l hj => rfl) a b

/-- The gradient of the values, as an array of two axes; that of the keys. -/
theorem dvf_is : Is2 (shapeCast S256x1024 (dv3 x0 x1 x2 x3 x4) shapeCasts_S256x4x256_S256x1024)
    fun j l => ∑ i : Fin 4096, p.dv1 (l.val / 256) i.val j (lane l.val) :=
  join3 rfl (by norm_num) (dv_is h) fun i l hj => rfl
theorem dkf_is : Is2 (shapeCast S256x1024 (dk3 x0 x1 x2 x3 x4) shapeCasts_S256x4x256_S256x1024)
    fun j l => ∑ i : Fin 4096, p.dk1 (l.val / 256) i.val j (lane l.val) :=
  join3 rfl (by norm_num) (dk3_is h) fun i l hj => rfl

end

/-- The two orders of summation over rows and heads. -/
theorem sum_swap (f : ℕ → ℕ → ℝ) :
    ∑ i : Fin 4096, ∑ h : Fin 4, f h.val i.val = ∑ h ∈ Finset.range 4, ∑ r ∈ Finset.range 4096, f h r := by
  rw [Finset.sum_comm, Finset.sum_range]
  exact Finset.sum_congr rfl fun h _ => (Finset.sum_range (f h.val)).symm

/-- Of two arrays padded side by side and added, the left half is one of them and the right half is the other. -/
theorem left_half (a b : FVec Ideal S256x1024 .f32) (j : Fin 256) (l : Fin 1024) :
    extractStridedSlice S256x1024 ![0, 0] (addf
      (pad S256x2048 ![0, 1024] ![0, 0] ![0, 0] a z pads_S256x1024_S256x2048_000_102400 h_S_)
      (pad S256x2048 ![0, 0] ![0, 1024] ![0, 0] b z pads_S256x1024_S256x2048_000_010240 h_S_))
      slices_S256x2048_S256x1024_0_0 (ix2 j l) = b (ix2 j l) := by
  pointwise
  rw [dif_neg (fun e => e.1)]
  exact zero_add (_ : EReal)
theorem right_half (a b : FVec Ideal S256x1024 .f32) (j : Fin 256) (l : Fin 1024) :
    extractStridedSlice S256x1024 ![0, 1024] (addf
      (pad S256x2048 ![0, 1024] ![0, 0] ![0, 0] a z pads_S256x1024_S256x2048_000_102400 h_S_)
      (pad S256x2048 ![0, 0] ![0, 1024] ![0, 0] b z pads_S256x1024_S256x2048_000_010240 h_S_))
      slices_S256x2048_S256x1024_0_1024 (ix2 j l) = a (ix2 j l) := by
  pointwise

section
variable (h : Holds x0 x1 x2 x3 x4 p)
include h

theorem out1_eq : out1 x0 x1 x2 x3 x4 = p.dK := funext fun i => by
  obtain ⟨a, b, rfl⟩ := ix2_of i
  refine (left_half _ _ a b).trans ((dkf_is h a b).trans (congrArg _ ?_))
  rw [show lane ((ix2 a b) 0).val = a from Fin.ext (Nat.mod_eq_of_lt a.isLt)]
  exact (Finset.sum_range fun r => p.dk1 (b.val / 256) r a (lane b.val)).symm
theorem out2_eq : out2 x0 x1 x2 x3 x4 = p.dV := funext fun i => by
  obtain ⟨a, b, rfl⟩ := ix2_of i
  refine (right_half _ _ a b).trans ((dvf_is h a b).trans (congrArg _ ?_))
  rw [show lane ((ix2 a b) 0).val = a from Fin.ext (Nat.mod_eq_of_lt a.isLt)]
  exact (Finset.sum_range fun r => p.dv1 (b.val / 256) r a (lane b.val)).symm

theorem out3_eq : out3 x0 x1 x2 x3 x4 = p.dGQ := funext fun i => by
  obtain ⟨a, b, rfl⟩ := ix2_of i
  refine (row_cast (dgq_is h) a b).trans (congrArg _ ?_)
  dsimp only
  rw [sum_swap fun h r => p.gq1 h r b]
  show _ = ∑ h ∈ Finset.range 4, ∑ r ∈ Finset.range 4096, p.gq1 h r (lane b.val)
  rw [show lane b.val = b from Fin.ext (Nat.mod_eq_of_lt b.isLt)]
theorem out4_eq : out4 x0 x1 x2 x3 x4 = p.dGK := funext fun i => by
  obtain ⟨a, b, rfl⟩ := ix2_of i
  refine (row_cast (dgk_is h) a b).trans (congrArg _ ?_)
  dsimp only
  rw [sum_swap fun h r => p.gk1 h r b]
  show _ = ∑ h ∈ Finset.range 4, ∑ r ∈ Finset.range 4096, p.gk1 h r (lane b.val)
  rw [show lane b.val = b from Fin.ext (Nat.mod_eq_of_lt b.isLt)]
end

end Cert.Ref
-- ==== Proof.Finite.lean ====
/-
  Arguments without infinite entries hold real numbers.
-/
module

public import proofs.«01_k».proof.Proof.Gen.Pre_finite_inputs
public import proofs.«01_k».proof.Proof.Nums
public import proofs.«01_k».proof.Proof.Lift
public import Idealize.ShloMosaic.Lib.ReduceAll
public import Idealize.ShloMosaic.Lib.Pointwise

@[expose] public section

set_option maxRecDepth 16384

noncomputable section

namespace Cert.Finite

open Cert.Lift Cert.Pre_finite_inputs Cert.Pre_finite_inputs.Gen Idealize.ShloMosaic

instance : Subsingleton S_.Idx := ⟨fun _ _ => funext fun a => a.elim0⟩

/-- A value whose absolute value is below infinity is real. -/
theorem real_of_lt {x : EReal} (h : max x (-x) < ⊤) : x = ((x.toReal : ℝ) : EReal) := by
  refine (EReal.coe_toReal ?_ ?_).symm
  · rintro rfl; simp at h
  · rintro rfl; simp at h

theorem ofBits_inf : Ideal.ofBits .f32 0x7F800000#32 = ⊤ := by simp [Ideal.ofBits, Ideal.ieee]

/-- The test that the precondition makes of one array. -/
theorem real_of_all {s : Shape} {axes : List (Fin s.rank)} (x : FVec Ideal s .f32) (hb : S_.BroadcastsInDim s ![]) (hr : s.ReducesTo axes S_)
    (j : S_.Idx) (h : Host.reduce IntOp.andi (cmpf .olt (Host.absf x) (broadcastInDim s ![] hb (constant (F := Ideal) S_ .f32 0x7F800000#32)))
      (constantI S_ 1 1#1) hr h_S_ j = 1#1) (i : s.Idx) : x i = (((x i).toReal : ℝ) : EReal) := by
  have e : Ideal.cmp .olt (max (x i) (-(x i))) (Ideal.ofBits .f32 0x7F800000#32) = 1#1 := Host.reduce_andi_all _ _ _ _ j h i
  rw [ofBits_inf] at e
  exact real_of_lt ((Ideal.cmp_olt_eq_one _ _).1 e)

/-- The numbers that five arrays hold. -/
def nums (x0 : FVec Ideal S4096x1024 .f32) (x1 : FVec Ideal S256x2048 .f32) (x2 x3 : FVec Ideal S256 .f32)
    (x4 : FVec Ideal S4096x1024 .f32) : Nums where
  X a b := if h : a < 4096 ∧ b < 1024 then (x0 (ix2 ⟨a, h.1⟩ ⟨b, h.2⟩)).toReal else 0
  KV a b := if h : a < 256 ∧ b < 2048 then (x1 (ix2 ⟨a, h.1⟩ ⟨b, h.2⟩)).toReal else 0
  GQ d := (x2 (ix1 d)).toReal
  GK d := (x3 (ix1 d)).toReal
  O a b := if h : a < 4096 ∧ b < 1024 then (x4 (ix2 ⟨a, h.1⟩ ⟨b, h.2⟩)).toReal else 0

/-- Each array read as reals, under the precondition. -/
theorem real (x0 : FVec Ideal S4096x1024 .f32) (x1 : FVec Ideal S256x2048 .f32) (x2 x3 : FVec Ideal S256 .f32)
    (x4 : FVec Ideal S4096x1024 .f32) (h : fn (F := Ideal) x0 x1 x2 x3 x4 = fun _ => 1#1) :
    (∀ i, x0 i = (((x0 i).toReal : ℝ) : EReal)) ∧ (∀ i, x1 i = (((x1 i).toReal : ℝ) : EReal))
      ∧ (∀ i, x2 i = (((x2 i).toReal : ℝ) : EReal)) ∧ (∀ i, x3 i = (((x3 i).toReal : ℝ) : EReal))
      ∧ ∀ i, x4 i = (((x4 i).toReal : ℝ) : EReal) := by
  let j : S_.Idx := fun a => a.elim0
  have e := congrFun h j
  obtain ⟨e, h4⟩ := IntOp.andi_eq_one.1 (show IntOp.andi _ _ = 1#1 from e)
  obtain ⟨e, h3⟩ := IntOp.andi_eq_one.1 (show IntOp.andi _ _ = 1#1 from e)
  obtain ⟨e, h2⟩ := IntOp.andi_eq_one.1 (show IntOp.andi _ _ = 1#1 from e)
  obtain ⟨h0, h1⟩ := IntOp.andi_eq_one.1 (show IntOp.andi _ _ = 1#1 from e)
  exact ⟨real_of_all x0 bcast_S_S4096x1024 reducesTo_S4096x1024_S_d0_1 j h0, real_of_all x1 bcast_S_S256x2048 reducesTo_S256x2048_S_d0_1 j h1,
    real_of_all x2 bcast_S_S256 reducesTo_S256_S_d0 j h2, real_of_all x3 bcast_S_S256 reducesTo_S256_S_d0 j h3,
    real_of_all x4 bcast_S_S4096x1024 reducesTo_S4096x1024_S_d0_1 j h4⟩

section
variable {x0 : FVec Ideal S4096x1024 .f32} {x1 : FVec Ideal S256x2048 .f32} {x2 x3 : FVec Ideal S256 .f32}
  {x4 : FVec Ideal S4096x1024 .f32} (h : fn (F := Ideal) x0 x1 x2 x3 x4 = fun _ => 1#1)
include h

theorem x_of (i : S4096x1024.Idx) : x0 i = (((nums x0 x1 x2 x3 x4).X (i 0).val (i 1).val : ℝ) : EReal) := by
  obtain ⟨a, b, rfl⟩ := ix2_of i
  refine ((real x0 x1 x2 x3 x4 h).1 _).trans (congrArg _ (Eq.symm ?_))
  unfold nums
  exact dif_pos (And.intro a.isLt b.isLt)
theorem kv_of (i : S256x2048.Idx) : x1 i = (((nums x0 x1 x2 x3 x4).KV (i 0).val (i 1).val : ℝ) : EReal) := by
  obtain ⟨a, b, rfl⟩ := ix2_of i
  refine ((real x0 x1 x2 x3 x4 h).2.1 _).trans (congrArg _ (Eq.symm ?_))
  unfold nums
  exact dif_pos (And.intro a.isLt b.isLt)
theorem gq_of : Is1 x2 (nums x0 x1 x2 x3 x4).GQ := fun _ => (real x0 x1 x2 x3 x4 h).2.2.1 _
theorem gk_of : Is1 x3 (nums x0 x1 x2 x3 x4).GK := fun _ => (real x0 x1 x2 x3 x4 h).2.2.2.1 _
theorem o_of (i : S4096x1024.Idx) : x4 i = (((nums x0 x1 x2 x3 x4).O (i 0).val (i 1).val : ℝ) : EReal) := by
  obtain ⟨a, b, rfl⟩ := ix2_of i
  refine ((real x0 x1 x2 x3 x4 h).2.2.2.2 _).trans (congrArg _ (Eq.symm ?_))
  unfold nums
  exact dif_pos (And.intro a.isLt b.isLt)
end

end Cert.Finite
-- ==== Proof.Blocked.lean ====
/-
  A product summed block by block, as the extended reals' one sum: what a running sum over the blocks of the summed axis
  holds, entry by entry. No entry need be finite: only the sum's order and grouping change.
-/
module

public import proofs.«01_k».proof.Proof.Lift

@[expose] public section

noncomputable section

namespace Cert.Blocked

open Idealize.ShloMosaic Cert.Lift

variable {φ : FTy} {n0 n1 : Nat}

theorem origin : (![0, 0] : Fin 2 → Nat) = fun _ => 0 := funext fun a => by fin_cases a <;> rfl

/-- The entry of a matrix at two numbers, zero outside it. -/
def cell (A : FVec Ideal ⟨2, ![n0, n1]⟩ φ) (i j : ℕ) : EReal :=
  if h : i < n0 ∧ j < n1 then A (ix2 ⟨i, h.1⟩ ⟨j, h.2⟩) else 0

theorem cell_eq (A : FVec Ideal ⟨2, ![n0, n1]⟩ φ) (x : (⟨2, ![n0, n1]⟩ : Shape).Idx) {i j : ℕ} (hi : (x 0).val = i)
    (hj : (x 1).val = j) : A x = cell A i j := by
  subst hi hj
  obtain ⟨a, b, rfl⟩ := ix2_of x
  unfold cell
  rw [dif_pos (show (ix2 a b 0).val < n0 ∧ (ix2 a b 1).val < n1 from ⟨a.isLt, b.isLt⟩)]
  rfl

theorem addf_at {s : Shape} (a b : FVec Ideal s φ) (i : s.Idx) : addf a b i = (a i : EReal) + b i := rfl

/-- A sum over the first numbers, grown by one more block. -/
theorem grow (f : ℕ → EReal) (l t : ℕ) :
    (∑ k ∈ Finset.range (l * t), f k) + ∑ k ∈ Finset.range t, f (l * t + k) = ∑ k ∈ Finset.range ((l + 1) * t), f k := by
  rw [Nat.add_mul, one_mul, Finset.sum_range_add]

/-- A running sum that starts again every `nk` points and otherwise adds its point's block: what it holds before the
    last point of its run. -/
theorem running {N nk t : ℕ} (hk : 0 < nk) (f : ℕ → ℕ → EReal) (s : ∀ n, n < N → EReal)
    (h0 : ∀ n hn, n % nk = 0 → s n hn = ∑ k ∈ Finset.range t, f (n / nk) k)
    (h1 : ∀ n hn, (n + 1) % nk ≠ 0 → (n + 1) % nk + 1 < nk →
      s (n + 1) hn = s n (Nat.lt_of_succ_lt hn) + ∑ k ∈ Finset.range t, f ((n + 1) / nk) ((n + 1) % nk * t + k)) :
    ∀ n hn, n % nk + 1 < nk → s n hn = ∑ k ∈ Finset.range ((n % nk + 1) * t), f (n / nk) k := by
  intro n
  induction n with
  | zero => intro hn _; rw [h0 0 hn (Nat.zero_mod nk), Nat.zero_mod, zero_add, one_mul]
  | succ n ih =>
    intro hn hl
    by_cases hz : (n + 1) % nk = 0
    · rw [h0 _ hn hz, hz, zero_add, one_mul]
    · have e := Nat.div_add_mod (n + 1) nk
      have hm : n = nk * ((n + 1) / nk) + ((n + 1) % nk - 1) := by omega
      have hlt : (n + 1) % nk - 1 < nk := by omega
      have hd : n / nk = (n + 1) / nk := by
        conv_lhs => rw [hm, Nat.mul_add_div hk, Nat.div_eq_of_lt hlt, add_zero]
      have hr : n % nk + 1 = (n + 1) % nk := by
        have : n % nk = (n + 1) % nk - 1 := by
          conv_lhs => rw [hm, Nat.mul_add_mod, Nat.mod_eq_of_lt hlt]
        omega
      rw [h1 n hn hz hl, ih (Nat.lt_of_succ_lt hn) (by omega), hr, hd, grow]

end Cert.Blocked

end
-- ==== Proof.InDw.lean ====
/-
  The gradient of the input projection's weights: the combined projection's gradient against the normalised rows, the 4096
  tokens summed in two blocks of 2048 in a scratch buffer.
-/
module

public import proofs.«01_k».proof.Proof.Gen.InDwIdeal.Value
public import proofs.«01_k».proof.Proof.Gen.RefInDwIdeal.Run
public import proofs.«01_k».proof.Proof.Blocked
public import proofs.«01_k».proof.Defs

@[expose] public section

set_option maxRecDepth 16384

noncomputable section

namespace Cert.InDwValue

open Cert.Lift Cert.Blocked Cert.InDwIdeal Cert.InDwIdeal.Gen Cert.InDwIdeal.Value
open Idealize.ShloMosaic Idealize.ShloMosaic.TcCoe Idealize.ShloMosaic.Tactic Idealize.SL.Sem

/-! ## What the body leaves at one point -/

section
variable {F : FTy → Type} [FloatOps F] (c : Dev nD) (i : grid0.Coords)
  (a3 : Memref sig .tc .vmem S2048x1024 .bf16) (h3 : a3.IsWhole) (a4 : Memref sig .tc .vmem S2048x1024 .bf16) (h4 : a4.IsWhole)
  (a5 : Memref sig .tc .vmem S1024x1024 .f32) (h5 : a5.IsWhole) (a6 : Memref sig .tc .vmem S1024x1024 .f32) (h6 : a6.IsWhole)
  (x : Vec F S2048x1024 .bf16) (y : Vec F S2048x1024 .bf16) (s : Vec F S1024x1024 .f32)

theorem first (hc0 : cond0_0 i) (hc1 : ¬cond0_1 i) (hc2 : ¬cond0_2 i) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero origin]
  unfold k0_pay2
  simp only [View.readAt_eq_ld, h3.read_unread, h4.read_unread, View.ld_unit_zero (S := S2048x1024) origin, shapeCast_self]

theorem last (hc0 : ¬cond0_0 i) (hc1 : ¬cond0_1 i) (hc2 : cond0_2 i) :
    out0_B_2 c i a3 h3 a4 h4 a5 h5 a6 h6 hc0 hc1 hc2 x y s = addf s (k0_pay1 x y) := by
  unfold out0_B_2
  rw [View.read_writes_eq_canon _ _ _ (cover0_B_2 c i a3 h3 a4 h4 a5 h5 a6 h6 hc0 hc1 hc2 x y s)]
  unfold kernelRun0_B
  dsimp only
  sl_unfold_words
  rw [View.canon_unit_zero origin]
  unfold k0_pay4
  simp only [View.readAt_eq_ld, h3.read_unread, h4.read_unread, h6.read_unread, View.ld_unit_zero (S := S2048x1024) origin, View.ld_unit_zero (S := S1024x1024) origin]

end

/-! ## One point's product -/

section
variable (m : (ℓ : Loc nD τ sig) → Buf (Elt Ideal) ℓ) (c : Dev nD)

abbrev A : FVec Ideal ⟨2, ![4096, 12288]⟩ .f32 := m ((c : Thread nD τ).loc main_arg0)
abbrev B : FVec Ideal ⟨2, ![4096, 1024]⟩ .f32 := m ((c : Thread nD τ).loc main_arg1)
/-- The products that entry `i`, `j` of the result sums. -/
abbrev term (i j k : ℕ) : EReal := cell (A m c) k i * cell (B m c) k j

theorem at0 : ∀ t : Fin grid0.N, win0_0.index t 0 = t.val % 2 ∧ win0_0.index t 1 = t.val / 2 := by decide +kernel
theorem at1 : ∀ t : Fin grid0.N, win0_1.index t 0 = t.val % 2 ∧ win0_1.index t 1 = 0 := by decide +kernel

theorem left (t : Fin cfg0.N) (a : Fin 2048) (b : Fin 1024) :
    (iblk m c 0 t : FVec Ideal S2048x1024 .bf16) (ix2 a b) = cell (A m c) (t.val % 2 * 2048 + a.val) (t.val / 2 * 1024 + b.val) := by
  unfold iblk; rw [View.read_apply]
  show A m c _ = _
  refine cell_eq _ _ ?_ ?_
  · show win0_0.index t 0 * 2048 + 1 * a.val = _; rw [(at0 t).1, one_mul]
  · show win0_0.index t 1 * 1024 + 1 * b.val = _; rw [(at0 t).2, one_mul]

theorem right (t : Fin cfg0.N) (a : Fin 2048) (b : Fin 1024) :
    (iblk m c 1 t : FVec Ideal S2048x1024 .bf16) (ix2 a b) = cell (B m c) (t.val % 2 * 2048 + a.val) (0 * 1024 + b.val) := by
  unfold iblk; rw [View.read_apply]
  show B m c _ = _
  refine cell_eq _ _ ?_ ?_
  · show win0_1.index t 0 * 2048 + 1 * a.val = _; rw [(at1 t).1, one_mul]
  · show win0_1.index t 1 * 1024 + 1 * b.val = _; rw [(at1 t).2, one_mul]

theorem pay (x : FVec Ideal S2048x1024 .bf16) (y : FVec Ideal S2048x1024 .bf16) (a b : Fin 1024) :
    k0_pay1 (F := Ideal) x y (ix2 a b) = ∑ k, (x (ix2 k a) : EReal) * y (ix2 k b) := by
  unfold k0_pay1; simp only [shapeCast_self]; pointwise

/-- The product of point `t`'s two blocks. -/
def part (t : Fin cfg0.N) : FVec Ideal S1024x1024 .f32 := k0_pay1 (iblk m c 0 t) (iblk m c 1 t)

theorem point (t : Fin cfg0.N) (a b : Fin 1024) : part m c t (ix2 a b) =
    ∑ k ∈ Finset.range 2048, term m c (t.val / 2 * 1024 + a.val) (0 * 1024 + b.val) (t.val % 2 * 2048 + k) := by
  unfold part
  rw [pay, Finset.sum_range]
  exact Finset.sum_congr rfl fun k _ => by rw [left, right]

/-! ## The scratch buffer, and the result -/

theorem at_first (t : Fin cfg0.N) (h : t.val % 2 = 0) : (outsAt0 m c t.val t.isLt).2 = part m c t := by
  rw [outsAt0_A m c t h (by omega)]; dsimp only; rw [first]; rfl
theorem at_last (t : Fin cfg0.N) (h : t.val % 2 = 1) : (outsAt0 m c t.val t.isLt).1 =
    addf (outsAt0 m c (t.val - 1) (Nat.lt_of_le_of_lt (Nat.sub_le _ _) t.isLt)).2 (part m c t) := by
  rw [outsAt0_B m c t (by omega) h]; dsimp only; rw [last]; rfl

theorem written (a b : Fin 1024) (t : Fin cfg0.N) (h : t.val % 2 = 1) : (outsAt0 m c t.val t.isLt).1 (ix2 a b) =
    ∑ k ∈ Finset.range 4096, term m c (t.val / 2 * 1024 + a.val) (0 * 1024 + b.val) k := by
  have hl : t.val - 1 < cfg0.N := Nat.lt_of_le_of_lt (Nat.sub_le _ _) t.isLt
  rw [at_last m c t h, addf_at, at_first m c ⟨t.val - 1, hl⟩ (by dsimp only; omega), point, point]
  dsimp only
  rw [show (t.val - 1) % 2 = 0 by omega, show (t.val - 1) / 2 = t.val / 2 by omega, h]
  refine Eq.trans ?_ (grow (term m c (t.val / 2 * 1024 + a.val) (0 * 1024 + b.val)) 1 2048)
  simp only [zero_mul, zero_add, one_mul]

/-- The result: every entry the whole sum. -/
def whole : FVec Ideal S12288x1024 .f32 := fun i => ∑ k ∈ Finset.range 4096, term m c (i 0).val (i 1).val k

theorem result : (dats m 0 c).arrAt 2 cfg0.N = whole m c := by
  rw [final2]
  funext i
  have h0 : (i 0).val < 12288 := (i 0).isLt
  have h1 : (i 1).val < 1024 := (i 1).isLt
  have e : pt2Of i = 2 * (1 * ((i 0).val / 1024 - 0) + 1 * ((i 1).val / 1024 - 0)) + 1 := rfl
  have hp : pt2Of i < cfg0.N := by rw [show cfg0.N = 24 from N_0, e]; omega
  unfold G2
  rw [dif_pos hp, ← outsAt0_sweep m c (pt2Of i) hp]
  obtain ⟨a, b, hl⟩ := ix2_of (loc2Of i)
  have ha : (i 0).val % 1024 = a.val := congrArg (fun x : S1024x1024.Idx => (x 0).val) hl
  have hb : (i 1).val % 1024 = b.val := congrArg (fun x : S1024x1024.Idx => (x 1).val) hl
  rw [hl, written m c a b ⟨pt2Of i, hp⟩ (by dsimp only; omega)]
  unfold whole
  dsimp only
  rw [show pt2Of i / 2 * 1024 + a.val = (i 0).val by rw [e]; omega, show 0 * 1024 + b.val = (i 1).val by rw [zero_mul, zero_add]; omega]

end

/-! ## The reference -/

theorem reference (x : FVec Ideal Cert.RefInDwIdeal.S4096x12288 .f32) (y : FVec Ideal Cert.RefInDwIdeal.S4096x1024 .f32) :
    transpose Cert.RefInDwIdeal.S12288x1024 [1, 0] (transpose Cert.RefInDwIdeal.S1024x12288 [1, 0] (Host.dotGeneral Cert.RefInDwIdeal.dot_S4096x12288_S4096x1024_S12288x1024_0_0_1_1_n_n none x y) Cert.RefInDwIdeal.Facts₀.transposes_S12288x1024_S1024x12288_1_0) Cert.RefInDwIdeal.Facts₀.transposes_S1024x12288_S12288x1024_1_0
      = fun i => ∑ k ∈ Finset.range 4096, cell x k (i 0).val * cell y k (i 1).val := by
  funext i
  obtain ⟨a, b, rfl⟩ := ix2_of i
  rw [Finset.sum_range]
  refine Eq.trans (b := ∑ k : Fin 4096, x (ix2 k a) * y (ix2 k b)) (by pointwise) ?_
  exact Finset.sum_congr rfl fun k _ => congrArg₂ (· * ·) (cell_eq _ _ rfl rfl) (cell_eq _ _ rfl rfl)

end Cert.InDwValue

end
-- ==== Proof.InDx.lean ====
/-
  The gradient of the input projection's argument: the combined projection's gradient times the weights, summed over the
  12288 columns in six blocks of 2048 in a scratch buffer.
-/
module

public import proofs.«01_k».proof.Proof.Gen.InDxIdeal.Value
public import proofs.«01_k».proof.Proof.Gen.RefInDxIdeal.Run
public import proofs.«01_k».proof.Proof.Blocked
public import proofs.«01_k».proof.Defs

@[expose] public section

set_option maxRecDepth 16384

noncomputable section

namespace Cert.InDxValue

open Cert.Lift Cert.Blocked Cert.InDxIdeal Cert.InDxIdeal.Gen Cert.InDxIdeal.Value
open Idealize.ShloMosaic Idealize.ShloMosaic.TcCoe Idealize.ShloMosaic.Tactic Idealize.SL.Sem

/-! ## What the body leaves at one point -/

section
variable {F : FTy → Type} [FloatOps F] (c : Dev nD) (i : grid0.Coords)
  (a3 : Memref sig .tc .vmem S1024x2048 .bf16) (h3 : a3.IsWhole) (a4 : Memref sig .tc .vmem S2048x1024 .bf16) (h4 : a4.IsWhole)
  (a5 : Memref sig .tc .vmem S1024x1024 .f32) (h5 : a5.IsWhole) (a6 : Memref sig .tc .vmem S1024x1024 .f32) (h6 : a6.IsWhole)
  (x : Vec F S1024x2048 .bf16) (y : Vec F S2048x1024 .bf16) (s : Vec F S1024x1024 .f32)

theorem first (hc0 : cond0_0 i) (hc1 : ¬cond0_1 i) (hc2 : ¬cond0_2 i) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero origin]
  unfold k0_pay2
  simp only [View.readAt_eq_ld, h3.read_unread, h4.read_unread, View.ld_unit_zero (S := S1024x2048) origin, View.ld_unit_zero (S := S2048x1024) origin, shapeCast_self]

theorem middle (hc0 : ¬cond0_0 i) (hc1 : cond0_1 i) (hc2 : ¬cond0_2 i) :
    sout0_B_0 c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  sl_unfold_words
  rw [View.canon_unit_zero origin]
  unfold k0_pay3
  simp only [View.readAt_eq_ld, h3.read_unread, h4.read_unread, h6.read_unread, View.ld_unit_zero (S := S1024x2048) origin, View.ld_unit_zero (S := S2048x1024) origin, View.ld_unit_zero (S := S1024x1024) origin, shapeCast_self]

theorem last (hc0 : ¬cond0_0 i) (hc1 : ¬cond0_1 i) (hc2 : cond0_2 i) :
    out0_C_2 c i a3 h3 a4 h4 a5 h5 a6 h6 hc0 hc1 hc2 x y s = addf s (k0_pay1 x y) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero origin]
  unfold k0_pay4
  simp only [View.readAt_eq_ld, h3.read_unread, h4.read_unread, h6.read_unread, View.ld_unit_zero (S := S1024x2048) origin, View.ld_unit_zero (S := S2048x1024) origin, View.ld_unit_zero (S := S1024x1024) origin]

end

/-! ## One point's product -/

section
variable (m : (ℓ : Loc nD τ sig) → Buf (Elt Ideal) ℓ) (c : Dev nD)

abbrev A : FVec Ideal ⟨2, ![4096, 12288]⟩ .f32 := m ((c : Thread nD τ).loc main_arg0)
abbrev B : FVec Ideal ⟨2, ![12288, 1024]⟩ .f32 := m ((c : Thread nD τ).loc main_arg1)
/-- The products that entry `i`, `j` of the result sums. -/
abbrev term (i j k : ℕ) : EReal := cell (A m c) i k * cell (B m c) k j

theorem at0 : ∀ t : Fin grid0.N, win0_0.index t 0 = t.val / 6 ∧ win0_0.index t 1 = t.val % 6 := by decide +kernel
theorem at1 : ∀ t : Fin grid0.N, win0_1.index t 0 = t.val % 6 ∧ win0_1.index t 1 = 0 := by decide +kernel

theorem left (t : Fin cfg0.N) (a : Fin 1024) (k : Fin 2048) :
    (iblk m c 0 t : FVec Ideal S1024x2048 .bf16) (ix2 a k) = cell (A m c) (t.val / 6 * 1024 + a.val) (t.val % 6 * 2048 + k.val) := by
  unfold iblk; rw [View.read_apply]
  show A m c _ = _
  refine cell_eq _ _ ?_ ?_
  · show win0_0.index t 0 * 1024 + 1 * a.val = _; rw [(at0 t).1]; omega
  · show win0_0.index t 1 * 2048 + 1 * k.val = _; rw [(at0 t).2]; omega

theorem right (t : Fin cfg0.N) (k : Fin 2048) (b : Fin 1024) :
    (iblk m c 1 t : FVec Ideal S2048x1024 .bf16) (ix2 k b) = cell (B m c) (t.val % 6 * 2048 + k.val) b.val := by
  unfold iblk; rw [View.read_apply]
  show B m c _ = _
  refine cell_eq _ _ ?_ ?_
  · show win0_1.index t 0 * 2048 + 1 * k.val = _; rw [(at1 t).1]; omega
  · show win0_1.index t 1 * 1024 + 1 * b.val = _; rw [(at1 t).2]; omega

theorem pay (x : FVec Ideal S1024x2048 .bf16) (y : FVec Ideal S2048x1024 .bf16) (a b : Fin 1024) :
    k0_pay1 (F := Ideal) x y (ix2 a b) = ∑ k, (x (ix2 a k) : EReal) * y (ix2 k b) := by
  unfold k0_pay1; simp only [shapeCast_self]; pointwise

/-- The product of point `t`'s two blocks. -/
def part (t : Fin cfg0.N) : FVec Ideal S1024x1024 .f32 := k0_pay1 (iblk m c 0 t) (iblk m c 1 t)

theorem point (t : Fin cfg0.N) (a b : Fin 1024) : part m c t (ix2 a b) =
    ∑ k ∈ Finset.range 2048, term m c (t.val / 6 * 1024 + a.val) b.val (t.val % 6 * 2048 + k) := by
  unfold part
  rw [pay, Finset.sum_range]
  exact Finset.sum_congr rfl fun k _ => by rw [left, right]

/-! ## The scratch buffer, and the result -/

theorem at_first (t : Fin cfg0.N) (h : t.val % 6 = 0) : (outsAt0 m c t.val t.isLt).2 = part m c t := by
  rw [outsAt0_A m c t h (by omega) (by omega)]; dsimp only; rw [first]; rfl
theorem at_middle (t : Fin cfg0.N) (h : ¬t.val % 6 = 0) (h' : t.val % 6 + 1 < 6) : (outsAt0 m c t.val t.isLt).2 =
    addf (outsAt0 m c (t.val - 1) (Nat.lt_of_le_of_lt (Nat.sub_le _ _) t.isLt)).2 (part m c t) := by
  rw [outsAt0_B m c t h (by omega) (by omega)]; dsimp only; rw [middle]; rfl
theorem at_last (t : Fin cfg0.N) (h : t.val % 6 = 5) : (outsAt0 m c t.val t.isLt).1 =
    addf (outsAt0 m c (t.val - 1) (Nat.lt_of_le_of_lt (Nat.sub_le _ _) t.isLt)).2 (part m c t) := by
  rw [outsAt0_C m c t (by omega) (by omega) h]; dsimp only; rw [last]; rfl

theorem held (a b : Fin 1024) : ∀ n (hn : n < cfg0.N), n % 6 + 1 < 6 → (outsAt0 m c n hn).2 (ix2 a b) =
    ∑ k ∈ Finset.range ((n % 6 + 1) * 2048), term m c (n / 6 * 1024 + a.val) b.val k :=
  running (t := 2048) (by omega) (fun r k => term m c (r * 1024 + a.val) b.val k) (fun n hn => (outsAt0 m c n hn).2 (ix2 a b))
    (fun n hn h => by
      rw [at_first m c ⟨n, hn⟩ h, point]
      simp only [h, zero_mul, zero_add])
    (fun n hn h h' => by
      rw [at_middle m c ⟨n + 1, hn⟩ h h', addf_at, point]
      rfl)

theorem written (a b : Fin 1024) (n : ℕ) (hn : n < cfg0.N) (h : n % 6 = 5) : (outsAt0 m c n hn).1 (ix2 a b) =
    ∑ k ∈ Finset.range 12288, term m c (n / 6 * 1024 + a.val) b.val k := by
  rw [at_last m c ⟨n, hn⟩ h, addf_at, point, held m c a b (n - 1) _ (by omega),
    show (n - 1) % 6 + 1 = 5 by omega, show (n - 1) / 6 = n / 6 by omega]
  simp only [h]
  exact grow _ 5 2048

/-- The result: every entry the whole sum. -/
def whole : FVec Ideal S4096x1024 .f32 := fun i => ∑ k ∈ Finset.range 12288, term m c (i 0).val (i 1).val k

theorem result : (dats m 0 c).arrAt 2 cfg0.N = whole m c := by
  rw [final2]
  funext i
  have h0 : (i 0).val < 4096 := (i 0).isLt
  have h1 : (i 1).val < 1024 := (i 1).isLt
  have hp : pt2Of i < cfg0.N := by rw [show cfg0.N = 24 from N_0]; show 6 * (1 * ((i 0).val / 1024 - 0) + 1 * ((i 1).val / 1024 - 0)) + 5 < 24; omega
  have hr : pt2Of i / 6 = (i 0).val / 1024 := by show (6 * (1 * ((i 0).val / 1024 - 0) + 1 * ((i 1).val / 1024 - 0)) + 5) / 6 = _; omega
  unfold G2
  rw [dif_pos hp, ← outsAt0_sweep m c (pt2Of i) hp]
  obtain ⟨a, b, hl⟩ := ix2_of (loc2Of i)
  have ha : (i 0).val % 1024 = a.val := congrArg (fun x : S1024x1024.Idx => (x 0).val) hl
  have hb : (i 1).val % 1024 = b.val := congrArg (fun x : S1024x1024.Idx => (x 1).val) hl
  rw [hl, written m c a b _ hp (by show (6 * _ + 5) % 6 = 5; omega), hr]
  unfold whole
  rw [show (i 0).val / 1024 * 1024 + a.val = (i 0).val by omega, show b.val = (i 1).val by omega]

end

/-! ## The reference -/

theorem reference (x : FVec Ideal Cert.RefInDxIdeal.S4096x12288 .f32) (y : FVec Ideal Cert.RefInDxIdeal.S12288x1024 .f32) :
    Host.dotGeneral Cert.RefInDxIdeal.dot_S4096x12288_S1024x12288_S4096x1024_1_1_0_0_n_n none x
      (transpose Cert.RefInDxIdeal.S1024x12288 [1, 0] y Cert.RefInDxIdeal.Facts₀.transposes_S12288x1024_S1024x12288_1_0)
      = fun i => ∑ k ∈ Finset.range 12288, cell x (i 0).val k * cell y k (i 1).val := by
  funext i
  obtain ⟨a, b, rfl⟩ := ix2_of i
  rw [Finset.sum_range]
  refine Eq.trans (b := ∑ k : Fin 12288, x (ix2 a k) * y (ix2 k b)) (by pointwise) ?_
  exact Finset.sum_congr rfl fun k _ => congrArg₂ (· * ·) (cell_eq _ _ rfl rfl) (cell_eq _ _ rfl rfl)

end Cert.InDxValue

end
-- ==== Proof.DownDx.lean ====
/-
  The gradient at the MLP's hidden layer: the gradient of the layer's output times the transposed weights, times the
  derivative of the squared rectifier at the rows that the forward pass saved.
-/
module

public import proofs.«01_k».proof.Proof.Gen.DownDxIdeal.Value
public import proofs.«01_k».proof.Proof.Gen.RefDownDxIdeal.Run
public import proofs.«01_k».proof.Proof.Blocked
public import proofs.«01_k».proof.Defs

@[expose] public section

set_option maxRecDepth 16384

noncomputable section

namespace Cert.DownDxValue

open Cert.Lift Cert.Blocked Cert.DownDxIdeal Cert.DownDxIdeal.Gen Cert.DownDxIdeal.Value
open Idealize.ShloMosaic Idealize.ShloMosaic.TcCoe Idealize.ShloMosaic.Tactic Idealize.SL.Sem

/-- What the body writes at one point. -/
theorem block {F : FTy → Type} [FloatOps F] (c : Dev nD) (i : grid0.Coords)
    (a3 : Memref sig .tc .vmem S1024x1024 .f32) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .bf16) (h6 : a6.IsWhole)
    (a7 : Memref sig .tc .vmem S1024x1024 .f32) (h7 : a7.IsWhole)
    (x : Vec F S1024x1024 .f32) (y : Vec F S1024x1024 .bf16) (u : Vec F S1024x1024 .f32) :
    out0_A_3 c i a3 h3 a4 h4 a5 h5 a6 h6 a7 h7 x y u = k0_pay1 x y u := by
  unfold out0_A_3
  rw [View.read_writes_eq_canon _ _ _ (cover0_A_3 c i a3 h3 a4 h4 a5 h5 a6 h6 a7 h7 x y u)]
  unfold kernelRun0_A
  dsimp only
  sl_unfold_words
  rw [View.canon_unit_zero origin]
  simp only [View.readAt_eq_ld, h3.read_unread, h4.read_unread, h5.read_unread, View.ld_unit_zero (S := S1024x1024) origin]

/-- The derivative of the squared rectifier, its factor two as the programs hold it. -/
abbrev slope (u : EReal) : EReal := Ideal.ofBits .f32 0x40000000#32 * max u 0

section
variable (m : (ℓ : Loc nD τ sig) → Buf (Elt Ideal) ℓ) (c : Dev nD)

abbrev A : FVec Ideal ⟨2, ![4096, 1024]⟩ .f32 := m ((c : Thread nD τ).loc main_arg0)
abbrev B : FVec Ideal ⟨2, ![4096, 1024]⟩ .f32 := m ((c : Thread nD τ).loc main_arg1)
abbrev U : FVec Ideal ⟨2, ![4096, 4096]⟩ .f32 := m ((c : Thread nD τ).loc main_arg2)

theorem at0 : ∀ t : Fin grid0.N, win0_0.index t 0 = t.val / 4 ∧ win0_0.index t 1 = 0 := by decide +kernel
theorem at1 : ∀ t : Fin grid0.N, win0_1.index t 0 = t.val % 4 ∧ win0_1.index t 1 = 0 := by decide +kernel
theorem at2 : ∀ t : Fin grid0.N, win0_2.index t 0 = t.val / 4 ∧ win0_2.index t 1 = t.val % 4 := by decide +kernel
theorem at3 : ∀ t : Fin grid0.N, win0_3.index t 0 = t.val / 4 ∧ win0_3.index t 1 = t.val % 4 := by decide +kernel

theorem left (t : Fin cfg0.N) (a : Fin 1024) (b : Fin 1024) :
    (iblk m c 0 t : FVec Ideal S1024x1024 .f32) (ix2 a b) = cell (A m c) (t.val / 4 * 1024 + a.val) b.val := by
  unfold iblk; rw [View.read_apply]
  show A m c _ = _
  refine cell_eq _ _ ?_ ?_
  · show win0_0.index t 0 * 1024 + 1 * a.val = _; rw [(at0 t).1, one_mul]
  · show win0_0.index t 1 * 1024 + 1 * b.val = _; rw [(at0 t).2]; omega

theorem right (t : Fin cfg0.N) (a : Fin 1024) (b : Fin 1024) :
    (iblk m c 1 t : FVec Ideal S1024x1024 .bf16) (ix2 a b) = cell (B m c) (t.val % 4 * 1024 + a.val) b.val := by
  unfold iblk; rw [View.read_apply]
  show B m c _ = _
  refine cell_eq _ _ ?_ ?_
  · show win0_1.index t 0 * 1024 + 1 * a.val = _; rw [(at1 t).1, one_mul]
  · show win0_1.index t 1 * 1024 + 1 * b.val = _; rw [(at1 t).2]; omega

theorem saved (t : Fin cfg0.N) (a : Fin 1024) (b : Fin 1024) :
    (iblk m c 2 t : FVec Ideal S1024x1024 .f32) (ix2 a b) = cell (U m c) (t.val / 4 * 1024 + a.val) (t.val % 4 * 1024 + b.val) := by
  unfold iblk; rw [View.read_apply]
  show U m c _ = _
  refine cell_eq _ _ ?_ ?_
  · show win0_2.index t 0 * 1024 + 1 * a.val = _; rw [(at2 t).1, one_mul]
  · show win0_2.index t 1 * 1024 + 1 * b.val = _; rw [(at2 t).2, one_mul]

theorem pay (x : FVec Ideal S1024x1024 .f32) (y : FVec Ideal S1024x1024 .bf16) (u : FVec Ideal S1024x1024 .f32) (a b : Fin 1024) :
    k0_pay1 (F := Ideal) x y u (ix2 a b) = (∑ k, (x (ix2 a k) : EReal) * y (ix2 b k)) * slope (u (ix2 a b)) := by
  unfold k0_pay1; simp only [shapeCast_self]; pointwise

/-- Entry `i`, `j` of the result. -/
def value (A B : FVec Ideal ⟨2, ![4096, 1024]⟩ .f32) (U : FVec Ideal ⟨2, ![4096, 4096]⟩ .f32) (i j : ℕ) : EReal :=
  (∑ k ∈ Finset.range 1024, cell A i k * cell B j k) * slope (cell U i j)

/-- The result. -/
def whole : FVec Ideal S4096x4096 .bf16 := fun i => value (A m c) (B m c) (U m c) (i 0).val (i 1).val

theorem point (t : Fin cfg0.N) (a b : Fin 1024) :
    outsAt0 m c t (ix2 a b) = value (A m c) (B m c) (U m c) (t.val / 4 * 1024 + a.val) (t.val % 4 * 1024 + b.val) := by
  unfold outsAt0 value
  rw [block, pay, saved, Finset.sum_range]
  exact congrArg (· * _) (Finset.sum_congr rfl fun k _ => by rw [left, right])

theorem flushed_whole (t : Fin cfg0.N) (_ : (cfg0.win 3).flush t = true) :
    (dats m 0 c).flushed 3 t = ((cfg0.win 3).blk t).view.read (Elt Ideal) (whole m c) := by
  rw [flushed3]
  refine funext fun (j : (⟨2, ![1024, 1024]⟩ : Shape).Idx) => ?_
  obtain ⟨a, b, rfl⟩ := ix2_of j
  rw [View.read_apply]
  refine (point m c t a b).trans ?_
  show _ = value (A m c) (B m c) (U m c) (win0_3.index t 0 * 1024 + 1 * a.val) (win0_3.index t 1 * 1024 + 1 * b.val)
  rw [(at3 t).1, (at3 t).2, one_mul, one_mul]

theorem result : (dats m 0 c).arrAt 3 cfg0.N = whole m c :=
  (dats m 0 c).arrAt_eq_of_cover 3 (whole m c) (flushed_whole m c) fun i => by
    have h0 : (i 0 : Nat) < 4096 := (i 0).isLt
    have h1 : (i 1 : Nat) < 4096 := (i 1).isLt
    refine ⟨⟨(i 0).val / 1024 * 4 + (i 1).val / 1024, ?_⟩, flush0_3 _, ?_⟩
    · rw [show cfg0.N = 16 from N_0]; omega
    · generalize ht : (⟨(i 0).val / 1024 * 4 + (i 1).val / 1024, _⟩ : Fin cfg0.N) = t
      have hv : t.val = (i 0).val / 1024 * 4 + (i 1).val / 1024 := by rw [← ht]
      show i ∈ ((View.whole main_v1).slice (win0_3.rect t)).set
      rw [View.set_slice_whole, Rect.mem_set_unit]
      intro a
      match a with
      | ⟨0, _⟩ => show win0_3.index t 0 * 1024 ≤ (i 0 : Nat) ∧ (i 0 : Nat) < win0_3.index t 0 * 1024 + 1024
                  rw [(at3 t).1]; omega
      | ⟨1, _⟩ => show win0_3.index t 1 * 1024 ≤ (i 1 : Nat) ∧ (i 1 : Nat) < win0_3.index t 1 * 1024 + 1024
                  rw [(at3 t).2]; omega

end

/-! ## The reference -/

open Cert.RefDownDxIdeal in
theorem reference (x : FVec Ideal Cert.RefDownDxIdeal.S4096x1024 .f32) (y : FVec Ideal Cert.RefDownDxIdeal.S4096x1024 .f32)
    (u : FVec Ideal Cert.RefDownDxIdeal.S4096x4096 .f32) :
    truncf .bf16 (select (cmpf .ogt u (broadcastInDim Cert.RefDownDxIdeal.S4096x4096 ![] Cert.RefDownDxIdeal.Facts₀.bcast_S_S4096x4096 (constant Cert.RefDownDxIdeal.S_ .f32 0x00000000#32)))
        (mulf (Host.dotGeneral Cert.RefDownDxIdeal.dot_S4096x1024_S4096x1024_S4096x4096_1_1_0_0_n_n none x y)
          (mulf (broadcastInDim Cert.RefDownDxIdeal.S4096x4096 ![] Cert.RefDownDxIdeal.Facts₀.bcast_S_S4096x4096 (constant Cert.RefDownDxIdeal.S_ .f32 0x40000000#32))
            (maximumf u (broadcastInDim Cert.RefDownDxIdeal.S4096x4096 ![] Cert.RefDownDxIdeal.Facts₀.bcast_S_S4096x4096 (constant Cert.RefDownDxIdeal.S_ .f32 0x00000000#32)))))
        (broadcastInDim Cert.RefDownDxIdeal.S4096x4096 ![] Cert.RefDownDxIdeal.Facts₀.bcast_S_S4096x4096 (constant Cert.RefDownDxIdeal.S_ .f32 0x00000000#32)))
      Cert.RefDownDxIdeal.Facts₀.bitsLt_bf16_f32
      = fun i => value x y u (i 0).val (i 1).val := by
  funext i
  obtain ⟨a, b, rfl⟩ := ix2_of i
  unfold value
  rw [Finset.sum_range]
  refine Eq.trans (b := if 0 < u (ix2 a b) then (∑ k : Fin 1024, x (ix2 a k) * y (ix2 b k)) * slope (u (ix2 a b)) else 0) (by pointwise) ?_
  split
  · exact congrArg₂ (· * ·) (Finset.sum_congr rfl fun k _ => congrArg₂ (· * ·) (cell_eq _ _ rfl rfl) (cell_eq _ _ rfl rfl))
      (congrArg slope (cell_eq _ _ rfl rfl))
  · rename_i h
    have e : slope (u (ix2 a b)) = 0 := by unfold slope; rw [max_eq_right (not_lt.mp h), mul_zero]
    have e' : slope (cell u a.val b.val) = 0 := (congrArg slope (cell_eq u (ix2 a b) rfl rfl)).symm.trans e
    exact (mul_eq_zero_of_right _ e').symm

end Cert.DownDxValue

end
-- ==== Proof.DownDw.lean ====
/-
  The gradient of the MLP's second weights: the activations against the gradient of the layer's output, the 4096 tokens
  summed in two blocks of 2048 in a scratch buffer.
-/
module

public import proofs.«01_k».proof.Proof.Gen.DownDwIdeal.Value
public import proofs.«01_k».proof.Proof.Gen.RefDownDwIdeal.Run
public import proofs.«01_k».proof.Proof.Blocked
public import proofs.«01_k».proof.Defs

@[expose] public section

set_option maxRecDepth 16384

noncomputable section

namespace Cert.DownDwValue

open Cert.Lift Cert.Blocked Cert.DownDwIdeal Cert.DownDwIdeal.Gen Cert.DownDwIdeal.Value
open Idealize.ShloMosaic Idealize.ShloMosaic.TcCoe Idealize.ShloMosaic.Tactic Idealize.SL.Sem

/-! ## What the body leaves at one point -/

section
variable {F : FTy → Type} [FloatOps F] (c : Dev nD) (i : grid0.Coords)
  (a3 : Memref sig .tc .vmem S2048x1024 .bf16) (h3 : a3.IsWhole) (a4 : Memref sig .tc .vmem S2048x1024 .f32) (h4 : a4.IsWhole)
  (a5 : Memref sig .tc .vmem S1024x1024 .f32) (h5 : a5.IsWhole) (a6 : Memref sig .tc .vmem S1024x1024 .f32) (h6 : a6.IsWhole)
  (x : Vec F S2048x1024 .bf16) (y : Vec F S2048x1024 .f32) (s : Vec F S1024x1024 .f32)

theorem first (hc0 : cond0_0 i) (hc1 : ¬cond0_1 i) (hc2 : ¬cond0_2 i) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero origin]
  unfold k0_pay2
  simp only [View.readAt_eq_ld, h3.read_unread, h4.read_unread, View.ld_unit_zero (S := S2048x1024) origin, shapeCast_self]

theorem last (hc0 : ¬cond0_0 i) (hc1 : ¬cond0_1 i) (hc2 : cond0_2 i) :
    out0_B_2 c i a3 h3 a4 h4 a5 h5 a6 h6 hc0 hc1 hc2 x y s = addf s (k0_pay1 x y) := by
  unfold out0_B_2
  rw [View.read_writes_eq_canon _ _ _ (cover0_B_2 c i a3 h3 a4 h4 a5 h5 a6 h6 hc0 hc1 hc2 x y s)]
  unfold kernelRun0_B
  dsimp only
  sl_unfold_words
  rw [View.canon_unit_zero origin]
  unfold k0_pay4
  simp only [View.readAt_eq_ld, h3.read_unread, h4.read_unread, h6.read_unread, View.ld_unit_zero (S := S2048x1024) origin, View.ld_unit_zero (S := S1024x1024) origin]

end

/-! ## One point's product -/

section
variable (m : (ℓ : Loc nD τ sig) → Buf (Elt Ideal) ℓ) (c : Dev nD)

abbrev A : FVec Ideal ⟨2, ![4096, 4096]⟩ .f32 := m ((c : Thread nD τ).loc main_arg0)
abbrev B : FVec Ideal ⟨2, ![4096, 1024]⟩ .f32 := m ((c : Thread nD τ).loc main_arg1)
/-- The products that entry `i`, `j` of the result sums. -/
abbrev term (i j k : ℕ) : EReal := cell (A m c) k i * cell (B m c) k j

theorem at0 : ∀ t : Fin grid0.N, win0_0.index t 0 = t.val % 2 ∧ win0_0.index t 1 = t.val / 2 := by decide +kernel
theorem at1 : ∀ t : Fin grid0.N, win0_1.index t 0 = t.val % 2 ∧ win0_1.index t 1 = 0 := by decide +kernel

theorem left (t : Fin cfg0.N) (a : Fin 2048) (b : Fin 1024) :
    (iblk m c 0 t : FVec Ideal S2048x1024 .bf16) (ix2 a b) = cell (A m c) (t.val % 2 * 2048 + a.val) (t.val / 2 * 1024 + b.val) := by
  unfold iblk; rw [View.read_apply]
  show A m c _ = _
  refine cell_eq _ _ ?_ ?_
  · show win0_0.index t 0 * 2048 + 1 * a.val = _; rw [(at0 t).1, one_mul]
  · show win0_0.index t 1 * 1024 + 1 * b.val = _; rw [(at0 t).2, one_mul]

theorem right (t : Fin cfg0.N) (a : Fin 2048) (b : Fin 1024) :
    (iblk m c 1 t : FVec Ideal S2048x1024 .f32) (ix2 a b) = cell (B m c) (t.val % 2 * 2048 + a.val) (0 * 1024 + b.val) := by
  unfold iblk; rw [View.read_apply]
  show B m c _ = _
  refine cell_eq _ _ ?_ ?_
  · show win0_1.index t 0 * 2048 + 1 * a.val = _; rw [(at1 t).1, one_mul]
  · show win0_1.index t 1 * 1024 + 1 * b.val = _; rw [(at1 t).2, one_mul]

theorem pay (x : FVec Ideal S2048x1024 .bf16) (y : FVec Ideal S2048x1024 .f32) (a b : Fin 1024) :
    k0_pay1 (F := Ideal) x y (ix2 a b) = ∑ k, (x (ix2 k a) : EReal) * y (ix2 k b) := by
  unfold k0_pay1; simp only [shapeCast_self]; pointwise

/-- The product of point `t`'s two blocks. -/
def part (t : Fin cfg0.N) : FVec Ideal S1024x1024 .f32 := k0_pay1 (iblk m c 0 t) (iblk m c 1 t)

theorem point (t : Fin cfg0.N) (a b : Fin 1024) : part m c t (ix2 a b) =
    ∑ k ∈ Finset.range 2048, term m c (t.val / 2 * 1024 + a.val) (0 * 1024 + b.val) (t.val % 2 * 2048 + k) := by
  unfold part
  rw [pay, Finset.sum_range]
  exact Finset.sum_congr rfl fun k _ => by rw [left, right]

/-! ## The scratch buffer, and the result -/

theorem at_first (t : Fin cfg0.N) (h : t.val % 2 = 0) : (outsAt0 m c t.val t.isLt).2 = part m c t := by
  rw [outsAt0_A m c t h (by omega)]; dsimp only; rw [first]; rfl
theorem at_last (t : Fin cfg0.N) (h : t.val % 2 = 1) : (outsAt0 m c t.val t.isLt).1 =
    addf (outsAt0 m c (t.val - 1) (Nat.lt_of_le_of_lt (Nat.sub_le _ _) t.isLt)).2 (part m c t) := by
  rw [outsAt0_B m c t (by omega) h]; dsimp only; rw [last]; rfl

theorem written (a b : Fin 1024) (t : Fin cfg0.N) (h : t.val % 2 = 1) : (outsAt0 m c t.val t.isLt).1 (ix2 a b) =
    ∑ k ∈ Finset.range 4096, term m c (t.val / 2 * 1024 + a.val) (0 * 1024 + b.val) k := by
  have hl : t.val - 1 < cfg0.N := Nat.lt_of_le_of_lt (Nat.sub_le _ _) t.isLt
  rw [at_last m c t h, addf_at, at_first m c ⟨t.val - 1, hl⟩ (by dsimp only; omega), point, point]
  dsimp only
  rw [show (t.val - 1) % 2 = 0 by omega, show (t.val - 1) / 2 = t.val / 2 by omega, h]
  refine Eq.trans ?_ (grow (term m c (t.val / 2 * 1024 + a.val) (0 * 1024 + b.val)) 1 2048)
  simp only [zero_mul, zero_add, one_mul]

/-- The result: every entry the whole sum. -/
def whole : FVec Ideal S4096x1024 .f32 := fun i => ∑ k ∈ Finset.range 4096, term m c (i 0).val (i 1).val k

theorem result : (dats m 0 c).arrAt 2 cfg0.N = whole m c := by
  rw [final2]
  funext i
  have h0 : (i 0).val < 4096 := (i 0).isLt
  have h1 : (i 1).val < 1024 := (i 1).isLt
  have e : pt2Of i = 2 * (1 * ((i 0).val / 1024 - 0) + 1 * ((i 1).val / 1024 - 0)) + 1 := rfl
  have hp : pt2Of i < cfg0.N := by rw [show cfg0.N = 8 from N_0, e]; omega
  unfold G2
  rw [dif_pos hp, ← outsAt0_sweep m c (pt2Of i) hp]
  obtain ⟨a, b, hl⟩ := ix2_of (loc2Of i)
  have ha : (i 0).val % 1024 = a.val := congrArg (fun x : S1024x1024.Idx => (x 0).val) hl
  have hb : (i 1).val % 1024 = b.val := congrArg (fun x : S1024x1024.Idx => (x 1).val) hl
  rw [hl, written m c a b ⟨pt2Of i, hp⟩ (by dsimp only; omega)]
  unfold whole
  dsimp only
  rw [show pt2Of i / 2 * 1024 + a.val = (i 0).val by rw [e]; omega, show 0 * 1024 + b.val = (i 1).val by rw [zero_mul, zero_add]; omega]

end

/-! ## The reference -/

theorem reference (x : FVec Ideal Cert.RefDownDwIdeal.S4096x4096 .f32) (y : FVec Ideal Cert.RefDownDwIdeal.S4096x1024 .f32) :
    transpose Cert.RefDownDwIdeal.S4096x1024 [1, 0] (Host.dotGeneral Cert.RefDownDwIdeal.dot_S4096x1024_S4096x4096_S1024x4096_0_0_1_1_n_n none y x) Cert.RefDownDwIdeal.Facts₀.transposes_S1024x4096_S4096x1024_1_0
      = fun i => ∑ k ∈ Finset.range 4096, cell x k (i 0).val * cell y k (i 1).val := by
  funext i
  obtain ⟨a, b, rfl⟩ := ix2_of i
  rw [Finset.sum_range]
  refine Eq.trans (b := ∑ k : Fin 4096, y (ix2 k b) * x (ix2 k a)) (by pointwise) ?_
  exact Finset.sum_congr rfl fun k _ => (mul_comm _ _).trans (congrArg₂ (· * ·) (cell_eq _ _ rfl rfl) (cell_eq _ _ rfl rfl))

end Cert.DownDwValue

end
-- ==== Proof.UpDw.lean ====
/-
  The gradient of the MLP's first weights: the normalised rows against the gradient at the hidden layer, the 4096 tokens
  summed in two blocks of 2048 in a scratch buffer.
-/
module

public import proofs.«01_k».proof.Proof.Gen.UpDwIdeal.Value
public import proofs.«01_k».proof.Proof.Gen.RefUpDwIdeal.Run
public import proofs.«01_k».proof.Proof.Blocked
public import proofs.«01_k».proof.Defs

@[expose] public section

set_option maxRecDepth 16384

noncomputable section

namespace Cert.UpDwValue

open Cert.Lift Cert.Blocked Cert.UpDwIdeal Cert.UpDwIdeal.Gen Cert.UpDwIdeal.Value
open Idealize.ShloMosaic Idealize.ShloMosaic.TcCoe Idealize.ShloMosaic.Tactic Idealize.SL.Sem

/-! ## What the body leaves at one point -/

section
variable {F : FTy → Type} [FloatOps F] (c : Dev nD) (i : grid0.Coords)
  (a3 : Memref sig .tc .vmem S2048x1024 .bf16) (h3 : a3.IsWhole) (a4 : Memref sig .tc .vmem S2048x1024 .bf16) (h4 : a4.IsWhole)
  (a5 : Memref sig .tc .vmem S1024x1024 .f32) (h5 : a5.IsWhole) (a6 : Memref sig .tc .vmem S1024x1024 .f32) (h6 : a6.IsWhole)
  (x : Vec F S2048x1024 .bf16) (y : Vec F S2048x1024 .bf16) (s : Vec F S1024x1024 .f32)

theorem first (hc0 : cond0_0 i) (hc1 : ¬cond0_1 i) (hc2 : ¬cond0_2 i) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero origin]
  unfold k0_pay2
  simp only [View.readAt_eq_ld, h3.read_unread, h4.read_unread, View.ld_unit_zero (S := S2048x1024) origin, shapeCast_self]

theorem last (hc0 : ¬cond0_0 i) (hc1 : ¬cond0_1 i) (hc2 : cond0_2 i) :
    out0_B_2 c i a3 h3 a4 h4 a5 h5 a6 h6 hc0 hc1 hc2 x y s = addf s (k0_pay1 x y) := by
  unfold out0_B_2
  rw [View.read_writes_eq_canon _ _ _ (cover0_B_2 c i a3 h3 a4 h4 a5 h5 a6 h6 hc0 hc1 hc2 x y s)]
  unfold kernelRun0_B
  dsimp only
  sl_unfold_words
  rw [View.canon_unit_zero origin]
  unfold k0_pay4
  simp only [View.readAt_eq_ld, h3.read_unread, h4.read_unread, h6.read_unread, View.ld_unit_zero (S := S2048x1024) origin, View.ld_unit_zero (S := S1024x1024) origin]

end

/-! ## One point's product -/

section
variable (m : (ℓ : Loc nD τ sig) → Buf (Elt Ideal) ℓ) (c : Dev nD)

abbrev A : FVec Ideal ⟨2, ![4096, 1024]⟩ .f32 := m ((c : Thread nD τ).loc main_arg0)
abbrev B : FVec Ideal ⟨2, ![4096, 4096]⟩ .f32 := m ((c : Thread nD τ).loc main_arg1)
/-- The products that entry `i`, `j` of the result sums. -/
abbrev term (i j k : ℕ) : EReal := cell (A m c) k i * cell (B m c) k j

theorem at0 : ∀ t : Fin grid0.N, win0_0.index t 0 = t.val % 2 ∧ win0_0.index t 1 = 0 := by decide +kernel
theorem at1 : ∀ t : Fin grid0.N, win0_1.index t 0 = t.val % 2 ∧ win0_1.index t 1 = t.val / 2 := by decide +kernel

theorem left (t : Fin cfg0.N) (a : Fin 2048) (b : Fin 1024) :
    (iblk m c 0 t : FVec Ideal S2048x1024 .bf16) (ix2 a b) = cell (A m c) (t.val % 2 * 2048 + a.val) (0 * 1024 + b.val) := by
  unfold iblk; rw [View.read_apply]
  show A m c _ = _
  refine cell_eq _ _ ?_ ?_
  · show win0_0.index t 0 * 2048 + 1 * a.val = _; rw [(at0 t).1, one_mul]
  · show win0_0.index t 1 * 1024 + 1 * b.val = _; rw [(at0 t).2, one_mul]

theorem right (t : Fin cfg0.N) (a : Fin 2048) (b : Fin 1024) :
    (iblk m c 1 t : FVec Ideal S2048x1024 .bf16) (ix2 a b) = cell (B m c) (t.val % 2 * 2048 + a.val) (t.val / 2 * 1024 + b.val) := by
  unfold iblk; rw [View.read_apply]
  show B m c _ = _
  refine cell_eq _ _ ?_ ?_
  · show win0_1.index t 0 * 2048 + 1 * a.val = _; rw [(at1 t).1, one_mul]
  · show win0_1.index t 1 * 1024 + 1 * b.val = _; rw [(at1 t).2, one_mul]

theorem pay (x : FVec Ideal S2048x1024 .bf16) (y : FVec Ideal S2048x1024 .bf16) (a b : Fin 1024) :
    k0_pay1 (F := Ideal) x y (ix2 a b) = ∑ k, (x (ix2 k a) : EReal) * y (ix2 k b) := by
  unfold k0_pay1; simp only [shapeCast_self]; pointwise

/-- The product of point `t`'s two blocks. -/
def part (t : Fin cfg0.N) : FVec Ideal S1024x1024 .f32 := k0_pay1 (iblk m c 0 t) (iblk m c 1 t)

theorem point (t : Fin cfg0.N) (a b : Fin 1024) : part m c t (ix2 a b) =
    ∑ k ∈ Finset.range 2048, term m c (0 * 1024 + a.val) (t.val / 2 * 1024 + b.val) (t.val % 2 * 2048 + k) := by
  unfold part
  rw [pay, Finset.sum_range]
  exact Finset.sum_congr rfl fun k _ => by rw [left, right]

/-! ## The scratch buffer, and the result -/

theorem at_first (t : Fin cfg0.N) (h : t.val % 2 = 0) : (outsAt0 m c t.val t.isLt).2 = part m c t := by
  rw [outsAt0_A m c t h (by omega)]; dsimp only; rw [first]; rfl
theorem at_last (t : Fin cfg0.N) (h : t.val % 2 = 1) : (outsAt0 m c t.val t.isLt).1 =
    addf (outsAt0 m c (t.val - 1) (Nat.lt_of_le_of_lt (Nat.sub_le _ _) t.isLt)).2 (part m c t) := by
  rw [outsAt0_B m c t (by omega) h]; dsimp only; rw [last]; rfl

theorem written (a b : Fin 1024) (t : Fin cfg0.N) (h : t.val % 2 = 1) : (outsAt0 m c t.val t.isLt).1 (ix2 a b) =
    ∑ k ∈ Finset.range 4096, term m c (0 * 1024 + a.val) (t.val / 2 * 1024 + b.val) k := by
  have hl : t.val - 1 < cfg0.N := Nat.lt_of_le_of_lt (Nat.sub_le _ _) t.isLt
  rw [at_last m c t h, addf_at, at_first m c ⟨t.val - 1, hl⟩ (by dsimp only; omega), point, point]
  dsimp only
  rw [show (t.val - 1) % 2 = 0 by omega, show (t.val - 1) / 2 = t.val / 2 by omega, h]
  refine Eq.trans ?_ (grow (term m c (0 * 1024 + a.val) (t.val / 2 * 1024 + b.val)) 1 2048)
  simp only [zero_mul, zero_add, one_mul]

/-- The result: every entry the whole sum. -/
def whole : FVec Ideal S1024x4096 .f32 := fun i => ∑ k ∈ Finset.range 4096, term m c (i 0).val (i 1).val k

theorem result : (dats m 0 c).arrAt 2 cfg0.N = whole m c := by
  rw [final2]
  funext i
  have h0 : (i 0).val < 1024 := (i 0).isLt
  have h1 : (i 1).val < 4096 := (i 1).isLt
  have e : pt2Of i = 2 * (4 * ((i 0).val / 1024 - 0) + 1 * ((i 1).val / 1024 - 0)) + 1 := rfl
  have hp : pt2Of i < cfg0.N := by rw [show cfg0.N = 8 from N_0, e]; omega
  unfold G2
  rw [dif_pos hp, ← outsAt0_sweep m c (pt2Of i) hp]
  obtain ⟨a, b, hl⟩ := ix2_of (loc2Of i)
  have ha : (i 0).val % 1024 = a.val := congrArg (fun x : S1024x1024.Idx => (x 0).val) hl
  have hb : (i 1).val % 1024 = b.val := congrArg (fun x : S1024x1024.Idx => (x 1).val) hl
  rw [hl, written m c a b ⟨pt2Of i, hp⟩ (by dsimp only; omega)]
  unfold whole
  dsimp only
  rw [show 0 * 1024 + a.val = (i 0).val by rw [zero_mul, zero_add]; omega, show pt2Of i / 2 * 1024 + b.val = (i 1).val by rw [e]; omega]

end

/-! ## The reference -/

theorem reference (x : FVec Ideal Cert.RefUpDwIdeal.S4096x1024 .f32) (y : FVec Ideal Cert.RefUpDwIdeal.S4096x4096 .f32) :
    transpose Cert.RefUpDwIdeal.S1024x4096 [1, 0] (Host.dotGeneral Cert.RefUpDwIdeal.dot_S4096x4096_S4096x1024_S4096x1024_0_0_1_1_n_n none y x) Cert.RefUpDwIdeal.Facts₀.transposes_S4096x1024_S1024x4096_1_0
      = fun i => ∑ k ∈ Finset.range 4096, cell x k (i 0).val * cell y k (i 1).val := by
  funext i
  obtain ⟨a, b, rfl⟩ := ix2_of i
  rw [Finset.sum_range]
  refine Eq.trans (b := ∑ k : Fin 4096, y (ix2 k b) * x (ix2 k a)) (by pointwise) ?_
  exact Finset.sum_congr rfl fun k _ => (mul_comm _ _).trans (congrArg₂ (· * ·) (cell_eq _ _ rfl rfl) (cell_eq _ _ rfl rfl))

end Cert.UpDwValue

end
-- ==== Proof.UpDx.lean ====
/-
  The gradient of the MLP's argument: the gradient at the hidden layer times the transposed weights, the 4096 hidden columns
  summed in two blocks of 2048 in a scratch buffer.
-/
module

public import proofs.«01_k».proof.Proof.Gen.UpDxIdeal.Value
public import proofs.«01_k».proof.Proof.Gen.RefUpDxIdeal.Run
public import proofs.«01_k».proof.Proof.Blocked
public import proofs.«01_k».proof.Defs

@[expose] public section

set_option maxRecDepth 16384

noncomputable section

namespace Cert.UpDxValue

open Cert.Lift Cert.Blocked Cert.UpDxIdeal Cert.UpDxIdeal.Gen Cert.UpDxIdeal.Value
open Idealize.ShloMosaic Idealize.ShloMosaic.TcCoe Idealize.ShloMosaic.Tactic Idealize.SL.Sem

/-! ## What the body leaves at one point -/

section
variable {F : FTy → Type} [FloatOps F] (c : Dev nD) (i : grid0.Coords)
  (a3 : Memref sig .tc .vmem S1024x2048 .bf16) (h3 : a3.IsWhole) (a4 : Memref sig .tc .vmem S1024x2048 .bf16) (h4 : a4.IsWhole)
  (a5 : Memref sig .tc .vmem S1024x1024 .f32) (h5 : a5.IsWhole) (a6 : Memref sig .tc .vmem S1024x1024 .f32) (h6 : a6.IsWhole)
  (x : Vec F S1024x2048 .bf16) (y : Vec F S1024x2048 .bf16) (s : Vec F S1024x1024 .f32)

theorem first (hc0 : cond0_0 i) (hc1 : ¬cond0_1 i) (hc2 : ¬cond0_2 i) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero origin]
  unfold k0_pay2
  simp only [View.readAt_eq_ld, h3.read_unread, h4.read_unread, View.ld_unit_zero (S := S1024x2048) origin, shapeCast_self]

theorem last (hc0 : ¬cond0_0 i) (hc1 : ¬cond0_1 i) (hc2 : cond0_2 i) :
    out0_B_2 c i a3 h3 a4 h4 a5 h5 a6 h6 hc0 hc1 hc2 x y s = addf s (k0_pay1 x y) := by
  unfold out0_B_2
  rw [View.read_writes_eq_canon _ _ _ (cover0_B_2 c i a3 h3 a4 h4 a5 h5 a6 h6 hc0 hc1 hc2 x y s)]
  unfold kernelRun0_B
  dsimp only
  sl_unfold_words
  rw [View.canon_unit_zero origin]
  unfold k0_pay4
  simp only [View.readAt_eq_ld, h3.read_unread, h4.read_unread, h6.read_unread, View.ld_unit_zero (S := S1024x2048) origin, View.ld_unit_zero (S := S1024x1024) origin]

end

/-! ## One point's product -/

section
variable (m : (ℓ : Loc nD τ sig) → Buf (Elt Ideal) ℓ) (c : Dev nD)

abbrev A : FVec Ideal ⟨2, ![4096, 4096]⟩ .f32 := m ((c : Thread nD τ).loc main_arg0)
abbrev B : FVec Ideal ⟨2, ![1024, 4096]⟩ .f32 := m ((c : Thread nD τ).loc main_arg1)
/-- The products that entry `i`, `j` of the result sums. -/
abbrev term (i j k : ℕ) : EReal := cell (A m c) i k * cell (B m c) j k

theorem at0 : ∀ t : Fin grid0.N, win0_0.index t 0 = t.val / 2 ∧ win0_0.index t 1 = t.val % 2 := by decide +kernel
theorem at1 : ∀ t : Fin grid0.N, win0_1.index t 0 = 0 ∧ win0_1.index t 1 = t.val % 2 := by decide +kernel

theorem left (t : Fin cfg0.N) (a : Fin 1024) (b : Fin 2048) :
    (iblk m c 0 t : FVec Ideal S1024x2048 .bf16) (ix2 a b) = cell (A m c) (t.val / 2 * 1024 + a.val) (t.val % 2 * 2048 + b.val) := by
  unfold iblk; rw [View.read_apply]
  show A m c _ = _
  refine cell_eq _ _ ?_ ?_
  · show win0_0.index t 0 * 1024 + 1 * a.val = _; rw [(at0 t).1, one_mul]
  · show win0_0.index t 1 * 2048 + 1 * b.val = _; rw [(at0 t).2, one_mul]

theorem right (t : Fin cfg0.N) (a : Fin 1024) (b : Fin 2048) :
    (iblk m c 1 t : FVec Ideal S1024x2048 .bf16) (ix2 a b) = cell (B m c) (0 * 1024 + a.val) (t.val % 2 * 2048 + b.val) := by
  unfold iblk; rw [View.read_apply]
  show B m c _ = _
  refine cell_eq _ _ ?_ ?_
  · show win0_1.index t 0 * 1024 + 1 * a.val = _; rw [(at1 t).1, one_mul]
  · show win0_1.index t 1 * 2048 + 1 * b.val = _; rw [(at1 t).2, one_mul]

theorem pay (x : FVec Ideal S1024x2048 .bf16) (y : FVec Ideal S1024x2048 .bf16) (a b : Fin 1024) :
    k0_pay1 (F := Ideal) x y (ix2 a b) = ∑ k, (x (ix2 a k) : EReal) * y (ix2 b k) := by
  unfold k0_pay1; simp only [shapeCast_self]; pointwise

/-- The product of point `t`'s two blocks. -/
def part (t : Fin cfg0.N) : FVec Ideal S1024x1024 .f32 := k0_pay1 (iblk m c 0 t) (iblk m c 1 t)

theorem point (t : Fin cfg0.N) (a b : Fin 1024) : part m c t (ix2 a b) =
    ∑ k ∈ Finset.range 2048, term m c (t.val / 2 * 1024 + a.val) (0 * 1024 + b.val) (t.val % 2 * 2048 + k) := by
  unfold part
  rw [pay, Finset.sum_range]
  exact Finset.sum_congr rfl fun k _ => by rw [left, right]

/-! ## The scratch buffer, and the result -/

theorem at_first (t : Fin cfg0.N) (h : t.val % 2 = 0) : (outsAt0 m c t.val t.isLt).2 = part m c t := by
  rw [outsAt0_A m c t h (by omega)]; dsimp only; rw [first]; rfl
theorem at_last (t : Fin cfg0.N) (h : t.val % 2 = 1) : (outsAt0 m c t.val t.isLt).1 =
    addf (outsAt0 m c (t.val - 1) (Nat.lt_of_le_of_lt (Nat.sub_le _ _) t.isLt)).2 (part m c t) := by
  rw [outsAt0_B m c t (by omega) h]; dsimp only; rw [last]; rfl

theorem written (a b : Fin 1024) (t : Fin cfg0.N) (h : t.val % 2 = 1) : (outsAt0 m c t.val t.isLt).1 (ix2 a b) =
    ∑ k ∈ Finset.range 4096, term m c (t.val / 2 * 1024 + a.val) (0 * 1024 + b.val) k := by
  have hl : t.val - 1 < cfg0.N := Nat.lt_of_le_of_lt (Nat.sub_le _ _) t.isLt
  rw [at_last m c t h, addf_at, at_first m c ⟨t.val - 1, hl⟩ (by dsimp only; omega), point, point]
  dsimp only
  rw [show (t.val - 1) % 2 = 0 by omega, show (t.val - 1) / 2 = t.val / 2 by omega, h]
  refine Eq.trans ?_ (grow (term m c (t.val / 2 * 1024 + a.val) (0 * 1024 + b.val)) 1 2048)
  simp only [zero_mul, zero_add, one_mul]

/-- The result: every entry the whole sum. -/
def whole : FVec Ideal S4096x1024 .f32 := fun i => ∑ k ∈ Finset.range 4096, term m c (i 0).val (i 1).val k

theorem result : (dats m 0 c).arrAt 2 cfg0.N = whole m c := by
  rw [final2]
  funext i
  have h0 : (i 0).val < 4096 := (i 0).isLt
  have h1 : (i 1).val < 1024 := (i 1).isLt
  have e : pt2Of i = 2 * (1 * ((i 0).val / 1024 - 0) + 1 * ((i 1).val / 1024 - 0)) + 1 := rfl
  have hp : pt2Of i < cfg0.N := by rw [show cfg0.N = 8 from N_0, e]; omega
  unfold G2
  rw [dif_pos hp, ← outsAt0_sweep m c (pt2Of i) hp]
  obtain ⟨a, b, hl⟩ := ix2_of (loc2Of i)
  have ha : (i 0).val % 1024 = a.val := congrArg (fun x : S1024x1024.Idx => (x 0).val) hl
  have hb : (i 1).val % 1024 = b.val := congrArg (fun x : S1024x1024.Idx => (x 1).val) hl
  rw [hl, written m c a b ⟨pt2Of i, hp⟩ (by dsimp only; omega)]
  unfold whole
  dsimp only
  rw [show pt2Of i / 2 * 1024 + a.val = (i 0).val by rw [e]; omega, show 0 * 1024 + b.val = (i 1).val by rw [zero_mul, zero_add]; omega]

end

/-! ## The reference -/

theorem reference (x : FVec Ideal Cert.RefUpDxIdeal.S4096x4096 .f32) (y : FVec Ideal Cert.RefUpDxIdeal.S1024x4096 .f32) :
    Host.dotGeneral Cert.RefUpDxIdeal.dot_S4096x4096_S1024x4096_S4096x1024_1_1_0_0_n_n none x y
      = fun i => ∑ k ∈ Finset.range 4096, cell x (i 0).val k * cell y (i 1).val k := by
  funext i
  obtain ⟨a, b, rfl⟩ := ix2_of i
  rw [Finset.sum_range]
  refine Eq.trans (b := ∑ k : Fin 4096, x (ix2 a k) * y (ix2 b k)) (by pointwise) ?_
  exact Finset.sum_congr rfl fun k _ => congrArg₂ (· * ·) (cell_eq _ _ rfl rfl) (cell_eq _ _ rfl rfl)

end Cert.UpDxValue

end
-- ==== Proof.Products.lean ====
/-
  The claims about the products of the backward pass: for each, the kernel's result and the reference's are the same sums.
-/
module

public import proofs.«01_k».proof.Proof.InDw
public import proofs.«01_k».proof.Proof.InDx
public import proofs.«01_k».proof.Proof.DownDx
public import proofs.«01_k».proof.Proof.DownDw
public import proofs.«01_k».proof.Proof.UpDw
public import proofs.«01_k».proof.Proof.UpDx
public import Idealize.ShloMosaic.Lib.Claim
public import Idealize.ShloMosaic.Adequacy
public import Idealize.ShloMosaic.Init

@[expose] public section

noncomputable section

namespace Cert.Products

open Idealize.ShloMosaic Idealize.SL.Sem

theorem frame_refInDw [Cert.RefInDwIdeal.Facts] : Cert.quiescent_RefInDwIdeal := fun m ρ _ =>
  (θ_run Cert.RefInDwIdeal.defs _ _).mono (fun r h => ⟨fun c => (h c).2, sem_eq_zero_of_no_sems (by decide) r.2⟩)
    (Cert.RefInDwIdeal.Value.run m ρ)

theorem inDw [Cert.InDwIdeal.Facts] [Cert.RefInDwIdeal.Facts] : Cert.algebraic_InDwIdeal_RefInDwIdeal := fun m g m' g' _ hm => by
  refine ⟨fun c => Cert.InDwValue.whole m c,
    (θ_run Cert.InDwIdeal.defs _ _).mono (fun r h c => ⟨(h c).1.trans (Cert.InDwValue.result m c), (h c).2⟩) (Cert.InDwIdeal.Value.run_blocks m g),
    (θ_run Cert.RefInDwIdeal.defs _ _).mono (fun r h c => ⟨(h c).1.trans ?_, (h c).2⟩) (Cert.RefInDwIdeal.Value.run m' g')⟩
  obtain ⟨e0, e1⟩ := hm c
  rw [e0, e1]
  exact Cert.InDwValue.reference _ _

theorem frame_refInDx [Cert.RefInDxIdeal.Facts] : Cert.quiescent_RefInDxIdeal := fun m ρ _ =>
  (θ_run Cert.RefInDxIdeal.defs _ _).mono (fun r h => ⟨fun c => (h c).2, sem_eq_zero_of_no_sems (by decide) r.2⟩)
    (Cert.RefInDxIdeal.Value.run m ρ)

theorem inDx [Cert.InDxIdeal.Facts] [Cert.RefInDxIdeal.Facts] : Cert.algebraic_InDxIdeal_RefInDxIdeal := fun m g m' g' _ hm => by
  refine ⟨fun c => Cert.InDxValue.whole m c,
    (θ_run Cert.InDxIdeal.defs _ _).mono (fun r h c => ⟨(h c).1.trans (Cert.InDxValue.result m c), (h c).2⟩) (Cert.InDxIdeal.Value.run_blocks m g),
    (θ_run Cert.RefInDxIdeal.defs _ _).mono (fun r h c => ⟨(h c).1.trans ?_, (h c).2⟩) (Cert.RefInDxIdeal.Value.run m' g')⟩
  obtain ⟨e0, e1⟩ := hm c
  rw [e0, e1]
  exact Cert.InDxValue.reference _ _

theorem frame_refDownDx [Cert.RefDownDxIdeal.Facts] : Cert.quiescent_RefDownDxIdeal := fun m ρ _ =>
  (θ_run Cert.RefDownDxIdeal.defs _ _).mono (fun r h => ⟨fun c => (h c).2, sem_eq_zero_of_no_sems (by decide) r.2⟩)
    (Cert.RefDownDxIdeal.Value.run m ρ)

theorem downDx [Cert.DownDxIdeal.Facts] [Cert.RefDownDxIdeal.Facts] : Cert.algebraic_DownDxIdeal_RefDownDxIdeal := fun m g m' g' _ hm => by
  refine ⟨fun c => Cert.DownDxValue.whole m c,
    (θ_run Cert.DownDxIdeal.defs _ _).mono (fun r h c => ⟨(h c).1.trans (Cert.DownDxValue.result m c), (h c).2⟩) (Cert.DownDxIdeal.Value.run_blocks m g),
    (θ_run Cert.RefDownDxIdeal.defs _ _).mono (fun r h c => ⟨(h c).1.trans ?_, (h c).2⟩) (Cert.RefDownDxIdeal.Value.run m' g')⟩
  obtain ⟨e0, e1, e2⟩ := hm c
  rw [e0, e1, e2]
  exact Cert.DownDxValue.reference _ _ _

theorem frame_refDownDw [Cert.RefDownDwIdeal.Facts] : Cert.quiescent_RefDownDwIdeal := fun m ρ _ =>
  (θ_run Cert.RefDownDwIdeal.defs _ _).mono (fun r h => ⟨fun c => (h c).2, sem_eq_zero_of_no_sems (by decide) r.2⟩)
    (Cert.RefDownDwIdeal.Value.run m ρ)

theorem downDw [Cert.DownDwIdeal.Facts] [Cert.RefDownDwIdeal.Facts] : Cert.algebraic_DownDwIdeal_RefDownDwIdeal := fun m g m' g' _ hm => by
  refine ⟨fun c => Cert.DownDwValue.whole m c,
    (θ_run Cert.DownDwIdeal.defs _ _).mono (fun r h c => ⟨(h c).1.trans (Cert.DownDwValue.result m c), (h c).2⟩) (Cert.DownDwIdeal.Value.run_blocks m g),
    (θ_run Cert.RefDownDwIdeal.defs _ _).mono (fun r h c => ⟨(h c).1.trans ?_, (h c).2⟩) (Cert.RefDownDwIdeal.Value.run m' g')⟩
  obtain ⟨e0, e1⟩ := hm c
  rw [e0, e1]
  exact Cert.DownDwValue.reference _ _

theorem frame_refUpDw [Cert.RefUpDwIdeal.Facts] : Cert.quiescent_RefUpDwIdeal := fun m ρ _ =>
  (θ_run Cert.RefUpDwIdeal.defs _ _).mono (fun r h => ⟨fun c => (h c).2, sem_eq_zero_of_no_sems (by decide) r.2⟩)
    (Cert.RefUpDwIdeal.Value.run m ρ)

theorem upDw [Cert.UpDwIdeal.Facts] [Cert.RefUpDwIdeal.Facts] : Cert.algebraic_UpDwIdeal_RefUpDwIdeal := fun m g m' g' _ hm => by
  refine ⟨fun c => Cert.UpDwValue.whole m c,
    (θ_run Cert.UpDwIdeal.defs _ _).mono (fun r h c => ⟨(h c).1.trans (Cert.UpDwValue.result m c), (h c).2⟩) (Cert.UpDwIdeal.Value.run_blocks m g),
    (θ_run Cert.RefUpDwIdeal.defs _ _).mono (fun r h c => ⟨(h c).1.trans ?_, (h c).2⟩) (Cert.RefUpDwIdeal.Value.run m' g')⟩
  obtain ⟨e0, e1⟩ := hm c
  rw [e0, e1]
  exact Cert.UpDwValue.reference _ _

theorem frame_refUpDx [Cert.RefUpDxIdeal.Facts] : Cert.quiescent_RefUpDxIdeal := fun m ρ _ =>
  (θ_run Cert.RefUpDxIdeal.defs _ _).mono (fun r h => ⟨fun c => (h c).2, sem_eq_zero_of_no_sems (by decide) r.2⟩)
    (Cert.RefUpDxIdeal.Value.run m ρ)

theorem upDx [Cert.UpDxIdeal.Facts] [Cert.RefUpDxIdeal.Facts] : Cert.algebraic_UpDxIdeal_RefUpDxIdeal := fun m g m' g' _ hm => by
  refine ⟨fun c => Cert.UpDxValue.whole m c,
    (θ_run Cert.UpDxIdeal.defs _ _).mono (fun r h c => ⟨(h c).1.trans (Cert.UpDxValue.result m c), (h c).2⟩) (Cert.UpDxIdeal.Value.run_blocks m g),
    (θ_run Cert.RefUpDxIdeal.defs _ _).mono (fun r h c => ⟨(h c).1.trans ?_, (h c).2⟩) (Cert.RefUpDxIdeal.Value.run m' g')⟩
  obtain ⟨e0, e1⟩ := hm c
  rw [e0, e1]
  exact Cert.UpDxValue.reference _ _

end Cert.Products

end
-- ==== Proof.Rows.lean ====
/-
  Calls that walk over the rows in tiles: the rows of a matrix, and a sum over all rows that grows by one tile at a point.
-/
module

public import proofs.«01_k».proof.Proof.Blocked

@[expose] public section

noncomputable section

namespace Cert.Rows

open Idealize.ShloMosaic Idealize.ShloMosaic.Tactic Cert.Lift Cert.Blocked

variable {φ : FTy} {n0 n1 : Nat}

/-- A row of a matrix, zero outside it. -/
def row (A : FVec Ideal ⟨2, ![n0, n1]⟩ φ) (r : ℕ) : Fin n1 → EReal := fun k => cell A r k.val

theorem row_eq (A : FVec Ideal ⟨2, ![n0, n1]⟩ φ) (r : Fin n0) : (fun k => (A (ix2 r k) : EReal)) = row A r.val :=
  funext fun _ => cell_eq A _ rfl rfl

/-- A list of numbers, laid out as a matrix of one row. -/
theorem row_of_list (v : FVec Ideal ⟨1, ![1024]⟩ φ) (h : (⟨1, ![1024]⟩ : Shape).ShapeCasts ⟨2, ![1, 1024]⟩)
    (i : (⟨2, ![1, 1024]⟩ : Shape).Idx) {b : Fin 1024} (hb : (i 1).val = b.val) :
    shapeCast ⟨2, ![1, 1024]⟩ v h i = v (ix1 b) := by
  obtain ⟨a, b', rfl⟩ := ix2_of i
  obtain rfl : b' = b := Fin.ext hb
  pointwise

/-- A running sum over the rows that takes `w` of them at each point. -/
theorem tally {N w : ℕ} (f : ℕ → EReal) (s : ∀ n, n < N → EReal)
    (h0 : ∀ hn, s 0 hn = ∑ k ∈ Finset.range w, f k)
    (h1 : ∀ n hn, s (n + 1) hn = s n (Nat.lt_of_succ_lt hn) + ∑ k ∈ Finset.range w, f ((n + 1) * w + k)) :
    ∀ n hn, s n hn = ∑ k ∈ Finset.range ((n + 1) * w), f k := by
  intro n
  induction n with
  | zero => intro hn; rw [h0 hn, zero_add, one_mul]
  | succ n ih => intro hn; rw [h1 n hn, ih, grow]

end Cert.Rows

end
-- ==== Proof.MergeRef.lean ====
/-
  The gradient of the merge of the three branches under their gates, entry by entry: what it is, and that the reference holds it.
-/
module

public import proofs.«01_k».proof.Proof.Gen.RefMergeBwdIdeal.Run
public import proofs.«01_k».proof.Proof.Rows
public import proofs.«01_k».proof.Defs

@[expose] public section

set_option maxRecDepth 16384

noncomputable section

namespace Cert.MergeBwdValue

open Cert.Lift Cert.Blocked Cert.Rows
open Idealize.ShloMosaic Idealize.ShloMosaic.TcCoe Idealize.ShloMosaic.Tactic Idealize.SL.Sem

theorem cell_at {n0 n1 : ℕ} {φ : FTy} (A : FVec Ideal ⟨2, ![n0, n1]⟩ φ) (a : Fin n0) (b : Fin n1) : cell A a.val b.val = A (ix2 a b) :=
  (cell_eq A (ix2 a b) rfl rfl).symm

/-- A gate, from its entry of the projection and its offset. -/
def gate (p b : EReal) : EReal := Ideal.logistic (p + b)

/-- The gradient at a gate's argument: the cotangent times the branch, times the gate's derivative. -/
def turn (p b y d : EReal) : EReal := d * y * (gate p b * (1 - gate p b))

/-- Column `b` of gate `k` among the columns of the projection. -/
def col (k b : ℕ) : ℕ := 8192 + (k * 1024 + b)

section
variable (P : FVec Ideal ⟨2, ![4096, 12288]⟩ .f32) (Ya Yb Yc Y D : FVec Ideal ⟨2, ![4096, 1024]⟩ .f32) (B : FVec Ideal ⟨2, ![3, 1024]⟩ .f32)

/-- The gradient at branch `k`. -/
def passed (k r b : ℕ) : EReal := gate (cell P r (col k b)) (cell B k b) * cell D r b

/-- The gradient at the argument of gate `k`, that of branch `Y`. -/
def turned (k r b : ℕ) : EReal := turn (cell P r (col k b)) (cell B k b) (cell Y r b) (cell D r b)

/-- The branch of gate `k`. -/
def branch (k : ℕ) : FVec Ideal ⟨2, ![4096, 1024]⟩ .f32 := if k = 0 then Ya else if k = 1 then Yb else Yc

/-- The gradient of the offset of gate `k`. -/
def offset (k b : ℕ) : EReal := ∑ r ∈ Finset.range 4096, turned P (branch Ya Yb Yc k) D B k r b

end

section
open Cert.RefMergeBwdIdeal Cert.RefMergeBwdIdeal.Gen
variable [Cert.RefMergeBwdIdeal.Facts₀] (P : FVec Ideal S4096x12288 .f32) (Ya Yb Yc D : FVec Ideal S4096x1024 .f32) (B : FVec Ideal S3x1024 .f32)

/-- The three gates of every row, as the reference has them. -/
def gates : FVec Ideal S4096x3x1024 .f32 :=
  Host.divf (broadcastInDim S4096x3x1024 ![] bcast_S_S4096x3x1024 (constant S_ .f32 0x3F800000#32)) (addf (broadcastInDim S4096x3x1024 ![] bcast_S_S4096x3x1024 (constant S_ .f32 0x3F800000#32)) (Host.exp (Host.negf (addf (shapeCast _ (extractStridedSlice S4096x3072 ![0, 8192] P slices_S4096x12288_S4096x3072_0_8192) shapeCasts_S4096x3072_S4096x3x1024) (broadcastInDim S4096x3x1024 ![0, 1, 2] bcast_S1x3x1024_S4096x3x1024_0_1_2 (broadcastInDim S1x3x1024 ![1, 2] bcast_S3x1024_S1x3x1024_1_2 B))))))

theorem gates_at (a : Fin 4096) (k : Fin 3) (b : Fin 1024) :
    gates P B (ix3 a k b) = gate (cell P a.val (col k.val b.val)) (cell B k.val b.val) := by
  rw [cell_at, show cell P a.val (col k.val b.val) = P (ix2 a ⟨8192 + (k.val * 1024 + b.val), by omega⟩) from cell_at P a ⟨8192 + (k.val * 1024 + b.val), by omega⟩]
  unfold gates gate
  pointwise
  rfl

theorem gates_of (k : ℕ) (hk : k < 3) (a : Fin 4096) (b : Fin 1024) :
    gate (cell P a.val (col k b.val)) (cell B k b.val) = gates P B (ix3 a ⟨k, hk⟩ b) := (gates_at P B a ⟨k, hk⟩ b).symm

/-- The gradient at the three gates' arguments, as the reference has it. -/
def slopes : FVec Ideal S4096x3x1024 .f32 :=
  mulf (addf (addf (pad S4096x3x1024 ![0, 2, 0] ![0, 0, 0] ![0, 0, 0] (broadcastInDim S4096x1x1024 ![0, 2] bcast_S4096x1024_S4096x1x1024_0_2 (mulf (shapeCast _ D shapeCasts_S4096x1024_S4096x1024) Yc)) (constant S_ .f32 0x00000000#32) pads_S4096x1x1024_S4096x3x1024_000_200_000 h_S_) (pad S4096x3x1024 ![0, 1, 0] ![0, 1, 0] ![0, 0, 0] (broadcastInDim S4096x1x1024 ![0, 2] bcast_S4096x1024_S4096x1x1024_0_2 (mulf (shapeCast _ D shapeCasts_S4096x1024_S4096x1024) Yb)) (constant S_ .f32 0x00000000#32) pads_S4096x1x1024_S4096x3x1024_000_110_000 h_S_)) (pad S4096x3x1024 ![0, 0, 0] ![0, 2, 0] ![0, 0, 0] (broadcastInDim S4096x1x1024 ![0, 2] bcast_S4096x1024_S4096x1x1024_0_2 (mulf (shapeCast _ D shapeCasts_S4096x1024_S4096x1024) Ya)) (constant S_ .f32 0x00000000#32) pads_S4096x1x1024_S4096x3x1024_000_020_000 h_S_)) (mulf (gates P B) (subf (broadcastInDim S4096x3x1024 ![] bcast_S_S4096x3x1024 (constant S_ .f32 0x3F800000#32)) (gates P B)))

theorem slopes_a (a : Fin 4096) (b : Fin 1024) : slopes P Ya Yb Yc D B (ix3 a 0 b) = turned P Ya D B 0 a.val b.val := by
  unfold slopes turned turn
  rw [gates_of P B 0 (by omega), cell_at, cell_at]
  show _ = (D (ix2 a b) * Ya (ix2 a b) * (gates P B (ix3 a 0 b) * (1 - gates P B (ix3 a 0 b))) : EReal)
  pointwise

theorem slopes_b (a : Fin 4096) (b : Fin 1024) : slopes P Ya Yb Yc D B (ix3 a 1 b) = turned P Yb D B 1 a.val b.val := by
  unfold slopes turned turn
  rw [gates_of P B 1 (by omega), cell_at, cell_at]
  show _ = (D (ix2 a b) * Yb (ix2 a b) * (gates P B (ix3 a 1 b) * (1 - gates P B (ix3 a 1 b))) : EReal)
  pointwise

theorem slopes_c (a : Fin 4096) (b : Fin 1024) : slopes P Ya Yb Yc D B (ix3 a 2 b) = turned P Yc D B 2 a.val b.val := by
  unfold slopes turned turn
  rw [gates_of P B 2 (by omega), cell_at, cell_at]
  show _ = (D (ix2 a b) * Yc (ix2 a b) * (gates P B (ix3 a 2 b) * (1 - gates P B (ix3 a 2 b))) : EReal)
  pointwise

theorem turned_a : truncf .bf16 (extractStridedSlice S4096x1024 ![0, 0] (shapeCast _ (slopes P Ya Yb Yc D B) shapeCasts_S4096x3x1024_S4096x3072) slices_S4096x3072_S4096x1024_0_0) bitsLt_bf16_f32 = (fun i => turned P Ya D B 0 (i 0).val (i 1).val : FVec Ideal S4096x1024 .bf16) := by
  funext i
  obtain ⟨a, b, rfl⟩ := ix2_of i
  refine Eq.trans ?_ (slopes_a P Ya Yb Yc D B a b)
  pointwise
  exact congrArg₂ (fun k b => (slopes P Ya Yb Yc D B (ix3 a k b) : EReal)) (Fin.ext (by show b.val / 1024 = 0; omega)) (Fin.ext (Nat.mod_eq_of_lt b.isLt))

theorem turned_b : truncf .bf16 (extractStridedSlice S4096x1024 ![0, 1024] (shapeCast _ (slopes P Ya Yb Yc D B) shapeCasts_S4096x3x1024_S4096x3072) slices_S4096x3072_S4096x1024_0_1024) bitsLt_bf16_f32 = (fun i => turned P Yb D B 1 (i 0).val (i 1).val : FVec Ideal S4096x1024 .bf16) := by
  funext i
  obtain ⟨a, b, rfl⟩ := ix2_of i
  refine Eq.trans ?_ (slopes_b P Ya Yb Yc D B a b)
  pointwise
  exact congrArg₂ (fun k b => (slopes P Ya Yb Yc D B (ix3 a k b) : EReal)) (Fin.ext (by show (1024 + b.val) / 1024 = 1; omega)) rfl

theorem turned_c : truncf .bf16 (extractStridedSlice S4096x1024 ![0, 2048] (shapeCast _ (slopes P Ya Yb Yc D B) shapeCasts_S4096x3x1024_S4096x3072) slices_S4096x3072_S4096x1024_0_2048) bitsLt_bf16_f32 = (fun i => turned P Yc D B 2 (i 0).val (i 1).val : FVec Ideal S4096x1024 .bf16) := by
  funext i
  obtain ⟨a, b, rfl⟩ := ix2_of i
  refine Eq.trans ?_ (slopes_c P Ya Yb Yc D B a b)
  pointwise
  exact congrArg₂ (fun k b => (slopes P Ya Yb Yc D B (ix3 a k b) : EReal)) (Fin.ext (by show (2048 + b.val) / 1024 = 2; omega)) rfl

theorem passed_a : truncf .bf16 (mulf (shapeCast _ (extractStridedSlice S4096x1x1024 ![0, 0, 0] (gates P B) slices_S4096x3x1024_S4096x1x1024_0_0_0) shapeCasts_S4096x1x1024_S4096x1024) (shapeCast _ D shapeCasts_S4096x1024_S4096x1024)) bitsLt_bf16_f32 = (fun i => passed P D B 0 (i 0).val (i 1).val : FVec Ideal S4096x1024 .bf16) := by
  funext i
  obtain ⟨a, b, rfl⟩ := ix2_of i
  show _ = passed P D B 0 a.val b.val
  unfold passed
  rw [gates_of P B 0 (by omega), cell_at]
  show _ = (gates P B (ix3 a 0 b) * D (ix2 a b) : EReal)
  pointwise

theorem passed_b : truncf .bf16 (mulf (shapeCast _ (extractStridedSlice S4096x1x1024 ![0, 1, 0] (gates P B) slices_S4096x3x1024_S4096x1x1024_0_1_0) shapeCasts_S4096x1x1024_S4096x1024) (shapeCast _ D shapeCasts_S4096x1024_S4096x1024)) bitsLt_bf16_f32 = (fun i => passed P D B 1 (i 0).val (i 1).val : FVec Ideal S4096x1024 .bf16) := by
  funext i
  obtain ⟨a, b, rfl⟩ := ix2_of i
  show _ = passed P D B 1 a.val b.val
  unfold passed
  rw [gates_of P B 1 (by omega), cell_at]
  show _ = (gates P B (ix3 a 1 b) * D (ix2 a b) : EReal)
  pointwise

theorem passed_c : truncf .bf16 (mulf (shapeCast _ (extractStridedSlice S4096x1x1024 ![0, 2, 0] (gates P B) slices_S4096x3x1024_S4096x1x1024_0_2_0) shapeCasts_S4096x1x1024_S4096x1024) (shapeCast _ D shapeCasts_S4096x1024_S4096x1024)) bitsLt_bf16_f32 = (fun i => passed P D B 2 (i 0).val (i 1).val : FVec Ideal S4096x1024 .bf16) := by
  funext i
  obtain ⟨a, b, rfl⟩ := ix2_of i
  show _ = passed P D B 2 a.val b.val
  unfold passed
  rw [gates_of P B 2 (by omega), cell_at]
  show _ = (gates P B (ix3 a 2 b) * D (ix2 a b) : EReal)
  pointwise

theorem offset_at (k : Fin 3) (b : Fin 1024) : offset P Ya Yb Yc D B k.val b.val = ∑ a : Fin 4096, (slopes P Ya Yb Yc D B (ix3 a k b) : EReal) := by
  unfold offset
  rw [Finset.sum_range]
  refine Finset.sum_congr rfl fun a _ => ?_
  match k with
  | ⟨0, _⟩ => exact (slopes_a P Ya Yb Yc D B a b).symm
  | ⟨1, _⟩ => exact (slopes_b P Ya Yb Yc D B a b).symm
  | ⟨2, _⟩ => exact (slopes_c P Ya Yb Yc D B a b).symm

theorem offsets : shapeCast _ (Host.reduceAdd (shapeCast _ (Host.reduceAdd (slopes P Ya Yb Yc D B) (constant S_ .f32 0x00000000#32) reducesTo_S4096x3x1024_S3x1024_d0 h_S_) shapeCasts_S3x1024_S1x3x1024) (constant S_ .f32 0x00000000#32) reducesTo_S1x3x1024_S3x1024_d0 h_S_) shapeCasts_S3x1024_S1x3072 = (fun i => offset P Ya Yb Yc D B ((i 1).val / 1024) ((i 1).val % 1024) : FVec Ideal S1x3072 .f32) := by
  funext i
  obtain ⟨a, j, rfl⟩ := ix2_of i
  obtain rfl : a = 0 := Subsingleton.elim _ _
  refine Eq.trans ?_ (offset_at P Ya Yb Yc D B ⟨j.val / 1024, by omega⟩ ⟨j.val % 1024, by omega⟩).symm
  pointwise
  simp only [Finset.univ_unique, Finset.sum_singleton]

end

end Cert.MergeBwdValue

end
-- ==== Proof.MergeBwd.lean ====
/-
  The gradient of the merge of the three branches under their gates: what the kernel leaves, tile by tile for the branches and
  the projection, and summed over all rows for the gates' offsets.
-/
module

public import proofs.«01_k».proof.Proof.Gen.MergeBwdIdeal.Value
public import proofs.«01_k».proof.Proof.MergeRef

@[expose] public section

set_option maxRecDepth 16384

noncomputable section

namespace Cert.MergeBwdValue

open Cert.Lift Cert.Blocked Cert.Rows Cert.MergeBwdIdeal Cert.MergeBwdIdeal.Gen Cert.MergeBwdIdeal.Value
open Idealize.ShloMosaic Idealize.ShloMosaic.TcCoe Idealize.ShloMosaic.Tactic Idealize.SL.Sem

/-! ## What the body leaves at one point -/

section
variable {F : FTy → Type} [FloatOps F] (c : Dev nD) (i : grid0.Coords)
  (a1 : Memref sig .tc .vmem S256x1024 .f32) (h1 : a1.IsWhole)
  (a2 : Memref sig .tc .vmem S256x1024 .f32) (h2 : a2.IsWhole)
  (a3 : Memref sig .tc .vmem S256x1024 .f32) (h3 : a3.IsWhole)
  (a4 : Memref sig .tc .vmem S256x1024 .f32) (h4 : a4.IsWhole)
  (a5 : Memref sig .tc .vmem S256x1024 .f32) (h5 : a5.IsWhole)
  (a6 : Memref sig .tc .vmem S256x1024 .f32) (h6 : a6.IsWhole)
  (a7 : Memref sig .tc .vmem S1x3072 .f32) (h7 : a7.IsWhole)
  (a8 : Memref sig .tc .vmem S256x1024 .f32) (h8 : a8.IsWhole)
  (a9 : Memref sig .tc .vmem S256x1024 .bf16) (h9 : a9.IsWhole)
  (a10 : Memref sig .tc .vmem S256x1024 .bf16) (h10 : a10.IsWhole)
  (a11 : Memref sig .tc .vmem S256x1024 .bf16) (h11 : a11.IsWhole)
  (a12 : Memref sig .tc .vmem S256x1024 .bf16) (h12 : a12.IsWhole)
  (a13 : Memref sig .tc .vmem S256x1024 .bf16) (h13 : a13.IsWhole)
  (a14 : Memref sig .tc .vmem S256x1024 .bf16) (h14 : a14.IsWhole)
  (a15 : Memref sig .tc .vmem S1x3072 .f32) (h15 : a15.IsWhole)
  (x0 x1 x2 x3 x4 x5 : Vec F S256x1024 .f32) (x6 : Vec F S1x3072 .f32) (x7 : Vec F S256x1024 .f32) (s : Vec F S1x3072 .f32)

theorem out8_A (hc0 : cond0_0 i) : out0_A_8 c i a1 h1 a2 h2 a3 h3 a4 h4 a5 h5 a6 h6 a7 h7 a8 h8 a9 h9 a10 h10 a11 h11 a12 h12 a13 h13 a14 h14 a15 h15 hc0 x0 x1 x2 x3 x4 x5 x6 x7 = k0_pay19 (k0_pay4 x0 x6) (k0_pay14 x3 x7) := by
  unfold out0_A_8
  rw [View.read_writes_eq_canon _ _ _ (cover0_A_8 c i a1 h1 a2 h2 a3 h3 a4 h4 a5 h5 a6 h6 a7 h7 a8 h8 a9 h9 a10 h10 a11 h11 a12 h12 a13 h13 a14 h14 a15 h15 hc0 x0 x1 x2 x3 x4 x5 x6 x7)]
  unfold kernelRun0_A
  dsimp only
  sl_unfold_words
  rw [View.canon_unit_zero origin]
  simp only [View.readAt_eq_ld, h1.read_unread, h2.read_unread, h3.read_unread, h4.read_unread, h5.read_unread, h6.read_unread, h7.read_unread, h8.read_unread, View.ld_unit_zero (S := S256x1024) origin, View.ld_unit_zero (S := S1x3072) origin]

theorem out9_A (hc0 : cond0_0 i) : out0_A_9 c i a1 h1 a2 h2 a3 h3 a4 h4 a5 h5 a6 h6 a7 h7 a8 h8 a9 h9 a10 h10 a11 h11 a12 h12 a13 h13 a14 h14 a15 h15 hc0 x0 x1 x2 x3 x4 x5 x6 x7 = k0_pay20 (k0_pay6 x1 x6) (k0_pay12 x4 x7) := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 a14 h14 a15 h15 hc0 x0 x1 x2 x3 x4 x5 x6 x7)]
  unfold kernelRun0_A
  dsimp only
  sl_unfold_words
  rw [View.canon_unit_zero origin]
  simp only [View.readAt_eq_ld, h1.read_unread, h2.read_unread, h3.read_unread, h4.read_unread, h5.read_unread, h6.read_unread, h7.read_unread, h8.read_unread, View.ld_unit_zero (S := S256x1024) origin, View.ld_unit_zero (S := S1x3072) origin]

theorem out10_A (hc0 : cond0_0 i) : out0_A_10 c i a1 h1 a2 h2 a3 h3 a4 h4 a5 h5 a6 h6 a7 h7 a8 h8 a9 h9 a10 h10 a11 h11 a12 h12 a13 h13 a14 h14 a15 h15 hc0 x0 x1 x2 x3 x4 x5 x6 x7 = k0_pay21 (k0_pay15 x2 x5 x6 x7) := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 a15 h15 hc0 x0 x1 x2 x3 x4 x5 x6 x7)]
  unfold kernelRun0_A
  dsimp only
  sl_unfold_words
  rw [View.canon_unit_zero origin]
  simp only [View.readAt_eq_ld, h1.read_unread, h2.read_unread, h3.read_unread, h4.read_unread, h5.read_unread, h6.read_unread, h7.read_unread, h8.read_unread, View.ld_unit_zero (S := S256x1024) origin, View.ld_unit_zero (S := S1x3072) origin]

theorem out11_A (hc0 : cond0_0 i) : out0_A_11 c i a1 h1 a2 h2 a3 h3 a4 h4 a5 h5 a6 h6 a7 h7 a8 h8 a9 h9 a10 h10 a11 h11 a12 h12 a13 h13 a14 h14 a15 h15 hc0 x0 x1 x2 x3 x4 x5 x6 x7 = k0_pay22 (k0_pay13 x0 x6 x7) := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 a15 h15 hc0 x0 x1 x2 x3 x4 x5 x6 x7)]
  unfold kernelRun0_A
  dsimp only
  sl_unfold_words
  rw [View.canon_unit_zero origin]
  simp only [View.readAt_eq_ld, h1.read_unread, h2.read_unread, h3.read_unread, h4.read_unread, h5.read_unread, h6.read_unread, h7.read_unread, h8.read_unread, View.ld_unit_zero (S := S256x1024) origin, View.ld_unit_zero (S := S1x3072) origin]

theorem out12_A (hc0 : cond0_0 i) : out0_A_12 c i a1 h1 a2 h2 a3 h3 a4 h4 a5 h5 a6 h6 a7 h7 a8 h8 a9 h9 a10 h10 a11 h11 a12 h12 a13 h13 a14 h14 a15 h15 hc0 x0 x1 x2 x3 x4 x5 x6 x7 = k0_pay23 (k0_pay11 x1 x6 x7) := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 hc0 x0 x1 x2 x3 x4 x5 x6 x7)]
  unfold kernelRun0_A
  dsimp only
  sl_unfold_words
  rw [View.canon_unit_zero origin]
  simp only [View.readAt_eq_ld, h1.read_unread, h2.read_unread, h3.read_unread, h4.read_unread, h5.read_unread, h6.read_unread, h7.read_unread, h8.read_unread, View.ld_unit_zero (S := S256x1024) origin, View.ld_unit_zero (S := S1x3072) origin]

theorem out13_A (hc0 : cond0_0 i) : out0_A_13 c i a1 h1 a2 h2 a3 h3 a4 h4 a5 h5 a6 h6 a7 h7 a8 h8 a9 h9 a10 h10 a11 h11 a12 h12 a13 h13 a14 h14 a15 h15 hc0 x0 x1 x2 x3 x4 x5 x6 x7 = k0_pay24 (k0_pay10 x2 x6 x7) := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 hc0 x0 x1 x2 x3 x4 x5 x6 x7)]
  unfold kernelRun0_A
  dsimp only
  sl_unfold_words
  rw [View.canon_unit_zero origin]
  simp only [View.readAt_eq_ld, h1.read_unread, h2.read_unread, h3.read_unread, h4.read_unread, h5.read_unread, h6.read_unread, h7.read_unread, h8.read_unread, View.ld_unit_zero (S := S256x1024) origin, View.ld_unit_zero (S := S1x3072) origin]

theorem out14_A (hc0 : cond0_0 i) : out0_A_14 c i a1 h1 a2 h2 a3 h3 a4 h4 a5 h5 a6 h6 a7 h7 a8 h8 a9 h9 a10 h10 a11 h11 a12 h12 a13 h13 a14 h14 a15 h15 hc0 x0 x1 x2 x3 x4 x5 x6 x7 = k0_pay1 (k0_pay18 (k0_pay4 x0 x6) (k0_pay6 x1 x6) (k0_pay12 x4 x7) (k0_pay14 x3 x7) (k0_pay15 x2 x5 x6 x7)) k0_pay25 := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 hc0 x0 x1 x2 x3 x4 x5 x6 x7)]
  unfold kernelRun0_A
  dsimp only
  sl_unfold_words
  rw [View.canon_cons_unit_zero (S := S1x3072) origin, View.readCov_unit_zero (S := S1x3072) _ origin]
  simp only [View.readAt_eq_ld, h1.read_unread, h2.read_unread, h3.read_unread, h4.read_unread, h5.read_unread, h6.read_unread, h7.read_unread, h8.read_unread, View.ld_unit_zero (S := S256x1024) origin, View.ld_unit_zero (S := S1x3072) origin]

theorem out8_B (hc0 : ¬cond0_0 i) : out0_B_8 c i a1 h1 a2 h2 a3 h3 a4 h4 a5 h5 a6 h6 a7 h7 a8 h8 a9 h9 a10 h10 a11 h11 a12 h12 a13 h13 a14 h14 a15 h15 hc0 x0 x1 x2 x3 x4 x5 x6 x7 s = k0_pay19 (k0_pay4 x0 x6) (k0_pay14 x3 x7) := by
  unfold out0_B_8
  rw [View.read_writes_eq_canon _ _ _ (cover0_B_8 c i a1 h1 a2 h2 a3 h3 a4 h4 a5 h5 a6 h6 a7 h7 a8 h8 a9 h9 a10 h10 a11 h11 a12 h12 a13 h13 a14 h14 a15 h15 hc0 x0 x1 x2 x3 x4 x5 x6 x7 s)]
  unfold kernelRun0_B
  dsimp only
  sl_unfold_words
  rw [View.canon_unit_zero origin]
  simp only [View.readAt_eq_ld, h1.read_unread, h2.read_unread, h3.read_unread, h4.read_unread, h5.read_unread, h6.read_unread, h7.read_unread, h8.read_unread, View.ld_unit_zero (S := S256x1024) origin, View.ld_unit_zero (S := S1x3072) origin]

theorem out9_B (hc0 : ¬cond0_0 i) : out0_B_9 c i a1 h1 a2 h2 a3 h3 a4 h4 a5 h5 a6 h6 a7 h7 a8 h8 a9 h9 a10 h10 a11 h11 a12 h12 a13 h13 a14 h14 a15 h15 hc0 x0 x1 x2 x3 x4 x5 x6 x7 s = k0_pay20 (k0_pay6 x1 x6) (k0_pay12 x4 x7) := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 a14 h14 a15 h15 hc0 x0 x1 x2 x3 x4 x5 x6 x7 s)]
  unfold kernelRun0_B
  dsimp only
  sl_unfold_words
  rw [View.canon_unit_zero origin]
  simp only [View.readAt_eq_ld, h1.read_unread, h2.read_unread, h3.read_unread, h4.read_unread, h5.read_unread, h6.read_unread, h7.read_unread, h8.read_unread, View.ld_unit_zero (S := S256x1024) origin, View.ld_unit_zero (S := S1x3072) origin]

theorem out10_B (hc0 : ¬cond0_0 i) : out0_B_10 c i a1 h1 a2 h2 a3 h3 a4 h4 a5 h5 a6 h6 a7 h7 a8 h8 a9 h9 a10 h10 a11 h11 a12 h12 a13 h13 a14 h14 a15 h15 hc0 x0 x1 x2 x3 x4 x5 x6 x7 s = k0_pay21 (k0_pay15 x2 x5 x6 x7) := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 a15 h15 hc0 x0 x1 x2 x3 x4 x5 x6 x7 s)]
  unfold kernelRun0_B
  dsimp only
  sl_unfold_words
  rw [View.canon_unit_zero origin]
  simp only [View.readAt_eq_ld, h1.read_unread, h2.read_unread, h3.read_unread, h4.read_unread, h5.read_unread, h6.read_unread, h7.read_unread, h8.read_unread, View.ld_unit_zero (S := S256x1024) origin, View.ld_unit_zero (S := S1x3072) origin]

theorem out11_B (hc0 : ¬cond0_0 i) : out0_B_11 c i a1 h1 a2 h2 a3 h3 a4 h4 a5 h5 a6 h6 a7 h7 a8 h8 a9 h9 a10 h10 a11 h11 a12 h12 a13 h13 a14 h14 a15 h15 hc0 x0 x1 x2 x3 x4 x5 x6 x7 s = k0_pay22 (k0_pay13 x0 x6 x7) := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 a15 h15 hc0 x0 x1 x2 x3 x4 x5 x6 x7 s)]
  unfold kernelRun0_B
  dsimp only
  sl_unfold_words
  rw [View.canon_unit_zero origin]
  simp only [View.readAt_eq_ld, h1.read_unread, h2.read_unread, h3.read_unread, h4.read_unread, h5.read_unread, h6.read_unread, h7.read_unread, h8.read_unread, View.ld_unit_zero (S := S256x1024) origin, View.ld_unit_zero (S := S1x3072) origin]

theorem out12_B (hc0 : ¬cond0_0 i) : out0_B_12 c i a1 h1 a2 h2 a3 h3 a4 h4 a5 h5 a6 h6 a7 h7 a8 h8 a9 h9 a10 h10 a11 h11 a12 h12 a13 h13 a14 h14 a15 h15 hc0 x0 x1 x2 x3 x4 x5 x6 x7 s = k0_pay23 (k0_pay11 x1 x6 x7) := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 hc0 x0 x1 x2 x3 x4 x5 x6 x7 s)]
  unfold kernelRun0_B
  dsimp only
  sl_unfold_words
  rw [View.canon_unit_zero origin]
  simp only [View.readAt_eq_ld, h1.read_unread, h2.read_unread, h3.read_unread, h4.read_unread, h5.read_unread, h6.read_unread, h7.read_unread, h8.read_unread, View.ld_unit_zero (S := S256x1024) origin, View.ld_unit_zero (S := S1x3072) origin]

theorem out13_B (hc0 : ¬cond0_0 i) : out0_B_13 c i a1 h1 a2 h2 a3 h3 a4 h4 a5 h5 a6 h6 a7 h7 a8 h8 a9 h9 a10 h10 a11 h11 a12 h12 a13 h13 a14 h14 a15 h15 hc0 x0 x1 x2 x3 x4 x5 x6 x7 s = k0_pay24 (k0_pay10 x2 x6 x7) := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 hc0 x0 x1 x2 x3 x4 x5 x6 x7 s)]
  unfold kernelRun0_B
  dsimp only
  sl_unfold_words
  rw [View.canon_unit_zero origin]
  simp only [View.readAt_eq_ld, h1.read_unread, h2.read_unread, h3.read_unread, h4.read_unread, h5.read_unread, h6.read_unread, h7.read_unread, h8.read_unread, View.ld_unit_zero (S := S256x1024) origin, View.ld_unit_zero (S := S1x3072) origin]

theorem out14_B (hc0 : ¬cond0_0 i) : out0_B_14 c i a1 h1 a2 h2 a3 h3 a4 h4 a5 h5 a6 h6 a7 h7 a8 h8 a9 h9 a10 h10 a11 h11 a12 h12 a13 h13 a14 h14 a15 h15 hc0 x0 x1 x2 x3 x4 x5 x6 x7 s = k0_pay1 (k0_pay18 (k0_pay4 x0 x6) (k0_pay6 x1 x6) (k0_pay12 x4 x7) (k0_pay14 x3 x7) (k0_pay15 x2 x5 x6 x7)) s := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14 a15 h15 hc0 x0 x1 x2 x3 x4 x5 x6 x7 s)]
  unfold kernelRun0_B
  dsimp only
  sl_unfold_words
  rw [View.canon_unit_zero origin]
  simp only [View.readAt_eq_ld, h1.read_unread, h2.read_unread, h3.read_unread, h4.read_unread, h5.read_unread, h6.read_unread, h7.read_unread, h8.read_unread, h15.read_unread, View.ld_unit_zero (S := S256x1024) origin, View.ld_unit_zero (S := S1x3072) origin]

end

/-! ## One entry of a tile -/

section
variable (x0 x1 x2 x3 x4 x5 : FVec Ideal S256x1024 .f32) (x6 : FVec Ideal S1x3072 .f32) (x7 : FVec Ideal S256x1024 .f32) (s : FVec Ideal S1x3072 .f32)
  (a : Fin 256) (b : Fin 1024)

theorem turn_a : (k0_pay17 (F := Ideal) (k0_pay4 x0 x6) (k0_pay14 x3 x7)) (ix2 a b) = turn (x0 (ix2 a b)) (x6 (ix2 0 ⟨b.val, by omega⟩)) (x3 (ix2 a b)) (x7 (ix2 a b)) := by
  unfold k0_pay17 k0_pay4 k0_pay3 k0_pay2 k0_pay14 k0_pay8 turn gate; simp only [shapeCast_self]; pointwise

theorem turn_b : (k0_pay16 (F := Ideal) (k0_pay6 x1 x6) (k0_pay12 x4 x7)) (ix2 a b) = turn (x1 (ix2 a b)) (x6 (ix2 0 ⟨1024 + b.val, by omega⟩)) (x4 (ix2 a b)) (x7 (ix2 a b)) := by
  unfold k0_pay16 k0_pay6 k0_pay5 k0_pay2 k0_pay12 k0_pay8 turn gate; simp only [shapeCast_self]; pointwise

theorem turn_c : (k0_pay15 (F := Ideal) x2 x5 x6 x7) (ix2 a b) = turn (x2 (ix2 a b)) (x6 (ix2 0 ⟨2048 + b.val, by omega⟩)) (x5 (ix2 a b)) (x7 (ix2 a b)) := by
  unfold k0_pay15 k0_pay7 k0_pay2 k0_pay9 turn gate; simp only [shapeCast_self]; pointwise

theorem pass_a : (k0_pay13 (F := Ideal) x0 x6 x7) (ix2 a b) = gate (x0 (ix2 a b)) (x6 (ix2 0 ⟨b.val, by omega⟩)) * x7 (ix2 a b) := by
  unfold k0_pay13 k0_pay3 k0_pay2 k0_pay8 gate; simp only [shapeCast_self]; pointwise

theorem pass_b : (k0_pay11 (F := Ideal) x1 x6 x7) (ix2 a b) = gate (x1 (ix2 a b)) (x6 (ix2 0 ⟨1024 + b.val, by omega⟩)) * x7 (ix2 a b) := by
  unfold k0_pay11 k0_pay5 k0_pay2 k0_pay8 gate; simp only [shapeCast_self]; pointwise

theorem pass_c : (k0_pay10 (F := Ideal) x2 x6 x7) (ix2 a b) = gate (x2 (ix2 a b)) (x6 (ix2 0 ⟨2048 + b.val, by omega⟩)) * x7 (ix2 a b) := by
  unfold k0_pay10 k0_pay7 k0_pay2 k0_pay9 gate; simp only [shapeCast_self]; pointwise

theorem zeros (j : Fin 3072) : k0_pay25 (F := Ideal) (ix2 0 j) = (0 : EReal) := by
  unfold k0_pay25; pointwise

theorem sum_a (p u v q w : FVec Ideal S256x1024 .f32) : k0_pay1 (F := Ideal) (k0_pay18 p u v q w) s (ix2 0 ⟨b.val, by omega⟩) = s (ix2 0 ⟨b.val, by omega⟩) + ∑ a : Fin 256, (k0_pay17 (F := Ideal) p q (ix2 a b) : EReal) := by
  unfold k0_pay1 k0_pay18; simp only [shapeCast_self]; pointwise
  simp only [dif_pos (show b.val < 2048 by omega), zero_add]

theorem sum_b (p u v q w : FVec Ideal S256x1024 .f32) : k0_pay1 (F := Ideal) (k0_pay18 p u v q w) s (ix2 0 ⟨1024 + b.val, by omega⟩) = s (ix2 0 ⟨1024 + b.val, by omega⟩) + ∑ a : Fin 256, (k0_pay16 (F := Ideal) u v (ix2 a b) : EReal) := by
  unfold k0_pay1 k0_pay18; simp only [shapeCast_self]; pointwise
  simp only [dif_neg (show ¬1024 + b.val < 1024 by omega), dif_pos (show 1024 + b.val < 2048 by omega), zero_add]

theorem sum_c (p u v q w : FVec Ideal S256x1024 .f32) : k0_pay1 (F := Ideal) (k0_pay18 p u v q w) s (ix2 0 ⟨2048 + b.val, by omega⟩) = s (ix2 0 ⟨2048 + b.val, by omega⟩) + ∑ a : Fin 256, (w (ix2 a b) : EReal) := by
  unfold k0_pay1 k0_pay18; simp only [shapeCast_self]; pointwise
  simp only [dif_neg (show ¬2048 + b.val < 1024 by omega), add_zero]

end

/-! ## The blocks -/

section
variable (m : (ℓ : Loc nD τ sig) → Buf (Elt Ideal) ℓ) (c : Dev nD)

abbrev P : FVec Ideal ⟨2, ![4096, 12288]⟩ .f32 := m ((c : Thread nD τ).loc main_arg0)
abbrev Ya : FVec Ideal ⟨2, ![4096, 1024]⟩ .f32 := m ((c : Thread nD τ).loc main_arg1)
abbrev Yb : FVec Ideal ⟨2, ![4096, 1024]⟩ .f32 := m ((c : Thread nD τ).loc main_arg2)
abbrev Yc : FVec Ideal ⟨2, ![4096, 1024]⟩ .f32 := m ((c : Thread nD τ).loc main_arg3)
abbrev B : FVec Ideal ⟨2, ![3, 1024]⟩ .f32 := m ((c : Thread nD τ).loc main_arg4)
abbrev D : FVec Ideal ⟨2, ![4096, 1024]⟩ .f32 := m ((c : Thread nD τ).loc main_arg5)

theorem at0 : ∀ t : Fin grid0.N, win0_0.index t 0 = t.val ∧ win0_0.index t 1 = 8 := by decide +kernel
theorem at1 : ∀ t : Fin grid0.N, win0_1.index t 0 = t.val ∧ win0_1.index t 1 = 9 := by decide +kernel
theorem at2 : ∀ t : Fin grid0.N, win0_2.index t 0 = t.val ∧ win0_2.index t 1 = 10 := by decide +kernel
theorem at3 : ∀ t : Fin grid0.N, win0_3.index t 0 = t.val ∧ win0_3.index t 1 = 0 := by decide +kernel
theorem at4 : ∀ t : Fin grid0.N, win0_4.index t 0 = t.val ∧ win0_4.index t 1 = 0 := by decide +kernel
theorem at5 : ∀ t : Fin grid0.N, win0_5.index t 0 = t.val ∧ win0_5.index t 1 = 0 := by decide +kernel
theorem at6 : ∀ t : Fin grid0.N, win0_6.index t 0 = 0 ∧ win0_6.index t 1 = 0 := by decide +kernel
theorem at7 : ∀ t : Fin grid0.N, win0_7.index t 0 = t.val ∧ win0_7.index t 1 = 0 := by decide +kernel
theorem at8 : ∀ t : Fin grid0.N, win0_8.index t 0 = t.val ∧ win0_8.index t 1 = 0 := by decide +kernel
theorem at9 : ∀ t : Fin grid0.N, win0_9.index t 0 = t.val ∧ win0_9.index t 1 = 0 := by decide +kernel
theorem at10 : ∀ t : Fin grid0.N, win0_10.index t 0 = t.val ∧ win0_10.index t 1 = 0 := by decide +kernel
theorem at11 : ∀ t : Fin grid0.N, win0_11.index t 0 = t.val ∧ win0_11.index t 1 = 0 := by decide +kernel
theorem at12 : ∀ t : Fin grid0.N, win0_12.index t 0 = t.val ∧ win0_12.index t 1 = 0 := by decide +kernel
theorem at13 : ∀ t : Fin grid0.N, win0_13.index t 0 = t.val ∧ win0_13.index t 1 = 0 := by decide +kernel
theorem at14 : ∀ t : Fin grid0.N, win0_14.index t 0 = 0 ∧ win0_14.index t 1 = 0 := by decide +kernel

theorem part_a (t : Fin cfg0.N) (a : Fin 256) (b : Fin 1024) :
    (iblk m c 0 t : FVec Ideal S256x1024 .f32) (ix2 a b) = cell (P m c) (t.val * 256 + a.val) (col 0 b.val) := by
  unfold iblk; rw [View.read_apply]
  show P m c _ = _
  refine cell_eq _ _ ?_ ?_
  · show win0_0.index t 0 * 256 + 1 * a.val = _; rw [(at0 t).1, one_mul]
  · show win0_0.index t 1 * 1024 + 1 * b.val = _; rw [(at0 t).2]; unfold col; omega

theorem part_b (t : Fin cfg0.N) (a : Fin 256) (b : Fin 1024) :
    (iblk m c 1 t : FVec Ideal S256x1024 .f32) (ix2 a b) = cell (P m c) (t.val * 256 + a.val) (col 1 b.val) := by
  unfold iblk; rw [View.read_apply]
  show P m c _ = _
  refine cell_eq _ _ ?_ ?_
  · show win0_1.index t 0 * 256 + 1 * a.val = _; rw [(at1 t).1, one_mul]
  · show win0_1.index t 1 * 1024 + 1 * b.val = _; rw [(at1 t).2]; unfold col; omega

theorem part_c (t : Fin cfg0.N) (a : Fin 256) (b : Fin 1024) :
    (iblk m c 2 t : FVec Ideal S256x1024 .f32) (ix2 a b) = cell (P m c) (t.val * 256 + a.val) (col 2 b.val) := by
  unfold iblk; rw [View.read_apply]
  show P m c _ = _
  refine cell_eq _ _ ?_ ?_
  · show win0_2.index t 0 * 256 + 1 * a.val = _; rw [(at2 t).1, one_mul]
  · show win0_2.index t 1 * 1024 + 1 * b.val = _; rw [(at2 t).2]; unfold col; omega

theorem branch_a (t : Fin cfg0.N) (a : Fin 256) (b : Fin 1024) :
    (iblk m c 3 t : FVec Ideal S256x1024 .f32) (ix2 a b) = cell (Ya m c) (t.val * 256 + a.val) b.val := by
  unfold iblk; rw [View.read_apply]
  show Ya m c _ = _
  refine cell_eq _ _ ?_ ?_
  · show win0_3.index t 0 * 256 + 1 * a.val = _; rw [(at3 t).1, one_mul]
  · show win0_3.index t 1 * 1024 + 1 * b.val = _; rw [(at3 t).2]; omega

theorem branch_b (t : Fin cfg0.N) (a : Fin 256) (b : Fin 1024) :
    (iblk m c 4 t : FVec Ideal S256x1024 .f32) (ix2 a b) = cell (Yb m c) (t.val * 256 + a.val) b.val := by
  unfold iblk; rw [View.read_apply]
  show Yb m c _ = _
  refine cell_eq _ _ ?_ ?_
  · show win0_4.index t 0 * 256 + 1 * a.val = _; rw [(at4 t).1, one_mul]
  · show win0_4.index t 1 * 1024 + 1 * b.val = _; rw [(at4 t).2]; omega

theorem branch_c (t : Fin cfg0.N) (a : Fin 256) (b : Fin 1024) :
    (iblk m c 5 t : FVec Ideal S256x1024 .f32) (ix2 a b) = cell (Yc m c) (t.val * 256 + a.val) b.val := by
  unfold iblk; rw [View.read_apply]
  show Yc m c _ = _
  refine cell_eq _ _ ?_ ?_
  · show win0_5.index t 0 * 256 + 1 * a.val = _; rw [(at5 t).1, one_mul]
  · show win0_5.index t 1 * 1024 + 1 * b.val = _; rw [(at5 t).2]; omega

theorem given (t : Fin cfg0.N) (a : Fin 256) (b : Fin 1024) :
    (iblk m c 7 t : FVec Ideal S256x1024 .f32) (ix2 a b) = cell (D m c) (t.val * 256 + a.val) b.val := by
  unfold iblk; rw [View.read_apply]
  show D m c _ = _
  refine cell_eq _ _ ?_ ?_
  · show win0_7.index t 0 * 256 + 1 * a.val = _; rw [(at7 t).1, one_mul]
  · show win0_7.index t 1 * 1024 + 1 * b.val = _; rw [(at7 t).2]; omega

theorem flat (v : FVec Ideal ⟨2, ![3, 1024]⟩ .f32) (h : (⟨2, ![3, 1024]⟩ : Shape).ShapeCasts ⟨2, ![1, 3072]⟩)
    (i : (⟨2, ![1, 3072]⟩ : Shape).Idx) {k b : ℕ} (hk : k < 3) (hb : b < 1024) (hi : (i 1).val = 1024 * k + b) :
    shapeCast ⟨2, ![1, 3072]⟩ v h i = cell v k b := by
  obtain ⟨a, j, rfl⟩ := ix2_of i
  obtain rfl : a = 0 := Subsingleton.elim _ _
  replace hi : j.val = 1024 * k + b := hi
  rw [← cell_eq v (ix2 ⟨j.val / 1024, by omega⟩ ⟨j.val % 1024, by omega⟩) (show j.val / 1024 = k by omega) (show j.val % 1024 = b by omega)]
  pointwise

theorem offs (t : Fin cfg0.N) (j : Fin 3072) {k b : ℕ} (hk : k < 3) (hb : b < 1024) (hi : j.val = 1024 * k + b) :
    (iblk m c 6 t : FVec Ideal S1x3072 .f32) (ix2 0 j) = cell (B m c) k b := by
  unfold iblk; rw [View.read_apply]
  show (shapeCast S1x3072 (B m c) shapeCasts_S3x1024_S1x3072 : FVec Ideal S1x3072 .f32) _ = _
  refine flat _ _ _ hk hb ?_
  show win0_6.index t 1 * 3072 + 1 * j.val = _; rw [(at6 t).2]; omega

theorem offs_a (t : Fin cfg0.N) (b : Fin 1024) : (iblk m c 6 t : FVec Ideal S1x3072 .f32) (ix2 0 ⟨b.val, by omega⟩) = cell (B m c) 0 b.val :=
  offs m c t _ (by omega) b.isLt (show b.val = 1024 * 0 + b.val by omega)

theorem offs_b (t : Fin cfg0.N) (b : Fin 1024) : (iblk m c 6 t : FVec Ideal S1x3072 .f32) (ix2 0 ⟨1024 + b.val, by omega⟩) = cell (B m c) 1 b.val :=
  offs m c t _ (by omega) b.isLt (show 1024 + b.val = 1024 * 1 + b.val by omega)

theorem offs_c (t : Fin cfg0.N) (b : Fin 1024) : (iblk m c 6 t : FVec Ideal S1x3072 .f32) (ix2 0 ⟨2048 + b.val, by omega⟩) = cell (B m c) 2 b.val :=
  offs m c t _ (by omega) b.isLt (show 2048 + b.val = 1024 * 2 + b.val by omega)

theorem tile8 (t : Fin cfg0.N) (a : Fin 256) (b : Fin 1024) :
    (outsAt0 m c t.val t.isLt).1 (ix2 a b) = turned (P m c) (Ya m c) (D m c) (B m c) 0 (t.val * 256 + a.val) b.val := by
  have e : (outsAt0 m c t.val t.isLt).1 = k0_pay19 (k0_pay4 (iblk m c 0 t) (iblk m c 6 t)) (k0_pay14 (iblk m c 3 t) (iblk m c 7 t)) := by
    by_cases h : t.val % 16 = 0
    · rw [outsAt0_A m c t h]; dsimp only; rw [out8_A]
    · rw [outsAt0_B m c t h]; dsimp only; rw [out8_B]
  rw [e]
  refine (turn_a _ _ _ _ a b).trans ?_
  unfold turned
  simp only [part_a, branch_a, given, offs_a]

/-- A result. -/
def whole8 : FVec Ideal S4096x1024 .bf16 := fun i => turned (P m c) (Ya m c) (D m c) (B m c) 0 (i 0).val (i 1).val

theorem flushed_tile8 (t : Fin cfg0.N) (_ : (cfg0.win 8).flush t = true) :
    (dats m 0 c).flushed 8 t = ((cfg0.win 8).blk t).view.read (Elt Ideal) (whole8 m c) := by
  rw [flushed8]
  refine funext fun (j : (⟨2, ![256, 1024]⟩ : Shape).Idx) => ?_
  obtain ⟨a, b, rfl⟩ := ix2_of j
  rw [View.read_apply]
  refine (tile8 m c t a b).trans (congrArg₂ (turned (P m c) (Ya m c) (D m c) (B m c) 0) ?_ ?_)
  · show _ = win0_8.index t 0 * 256 + 1 * a.val; rw [(at8 t).1, one_mul]
  · show _ = win0_8.index t 1 * 1024 + 1 * b.val; rw [(at8 t).2]; omega

theorem result8 : (dats m 0 c).arrAt 8 cfg0.N = whole8 m c :=
  (dats m 0 c).arrAt_eq_of_cover 8 (whole8 m c) (flushed_tile8 m c) fun i => by
    have h0 : (i 0 : Nat) < 4096 := (i 0).isLt
    have h1 : (i 1 : Nat) < 1024 := (i 1).isLt
    refine ⟨⟨(i 0).val / 256, ?_⟩, flush0_8 _, ?_⟩
    · rw [show cfg0.N = 16 from N_0]; omega
    · generalize ht : (⟨(i 0).val / 256, _⟩ : Fin cfg0.N) = t
      have hv : t.val = (i 0).val / 256 := by rw [← ht]
      show i ∈ ((View.whole main_v1_0).slice (win0_8.rect t)).set
      rw [View.set_slice_whole, Rect.mem_set_unit]
      intro a
      match a with
      | ⟨0, _⟩ => show win0_8.index t 0 * 256 ≤ (i 0 : Nat) ∧ (i 0 : Nat) < win0_8.index t 0 * 256 + 256
                  rw [(at8 t).1]; omega
      | ⟨1, _⟩ => show win0_8.index t 1 * 1024 ≤ (i 1 : Nat) ∧ (i 1 : Nat) < win0_8.index t 1 * 1024 + 1024
                  rw [(at8 t).2]; omega

theorem tile9 (t : Fin cfg0.N) (a : Fin 256) (b : Fin 1024) :
    (outsAt0 m c t.val t.isLt).2.1 (ix2 a b) = turned (P m c) (Yb m c) (D m c) (B m c) 1 (t.val * 256 + a.val) b.val := by
  have e : (outsAt0 m c t.val t.isLt).2.1 = k0_pay20 (k0_pay6 (iblk m c 1 t) (iblk m c 6 t)) (k0_pay12 (iblk m c 4 t) (iblk m c 7 t)) := by
    by_cases h : t.val % 16 = 0
    · rw [outsAt0_A m c t h]; dsimp only; rw [out9_A]
    · rw [outsAt0_B m c t h]; dsimp only; rw [out9_B]
  rw [e]
  refine (turn_b _ _ _ _ a b).trans ?_
  unfold turned
  simp only [part_b, branch_b, given, offs_b]

/-- A result. -/
def whole9 : FVec Ideal S4096x1024 .bf16 := fun i => turned (P m c) (Yb m c) (D m c) (B m c) 1 (i 0).val (i 1).val

theorem flushed_tile9 (t : Fin cfg0.N) (_ : (cfg0.win 9).flush t = true) :
    (dats m 0 c).flushed 9 t = ((cfg0.win 9).blk t).view.read (Elt Ideal) (whole9 m c) := by
  rw [flushed9]
  refine funext fun (j : (⟨2, ![256, 1024]⟩ : Shape).Idx) => ?_
  obtain ⟨a, b, rfl⟩ := ix2_of j
  rw [View.read_apply]
  refine (tile9 m c t a b).trans (congrArg₂ (turned (P m c) (Yb m c) (D m c) (B m c) 1) ?_ ?_)
  · show _ = win0_9.index t 0 * 256 + 1 * a.val; rw [(at9 t).1, one_mul]
  · show _ = win0_9.index t 1 * 1024 + 1 * b.val; rw [(at9 t).2]; omega

theorem result9 : (dats m 0 c).arrAt 9 cfg0.N = whole9 m c :=
  (dats m 0 c).arrAt_eq_of_cover 9 (whole9 m c) (flushed_tile9 m c) fun i => by
    have h0 : (i 0 : Nat) < 4096 := (i 0).isLt
    have h1 : (i 1 : Nat) < 1024 := (i 1).isLt
    refine ⟨⟨(i 0).val / 256, ?_⟩, flush0_9 _, ?_⟩
    · rw [show cfg0.N = 16 from N_0]; omega
    · generalize ht : (⟨(i 0).val / 256, _⟩ : Fin cfg0.N) = t
      have hv : t.val = (i 0).val / 256 := by rw [← ht]
      show i ∈ ((View.whole main_v1_1).slice (win0_9.rect t)).set
      rw [View.set_slice_whole, Rect.mem_set_unit]
      intro a
      match a with
      | ⟨0, _⟩ => show win0_9.index t 0 * 256 ≤ (i 0 : Nat) ∧ (i 0 : Nat) < win0_9.index t 0 * 256 + 256
                  rw [(at9 t).1]; omega
      | ⟨1, _⟩ => show win0_9.index t 1 * 1024 ≤ (i 1 : Nat) ∧ (i 1 : Nat) < win0_9.index t 1 * 1024 + 1024
                  rw [(at9 t).2]; omega

theorem tile10 (t : Fin cfg0.N) (a : Fin 256) (b : Fin 1024) :
    (outsAt0 m c t.val t.isLt).2.2.1 (ix2 a b) = turned (P m c) (Yc m c) (D m c) (B m c) 2 (t.val * 256 + a.val) b.val := by
  have e : (outsAt0 m c t.val t.isLt).2.2.1 = k0_pay21 (k0_pay15 (iblk m c 2 t) (iblk m c 5 t) (iblk m c 6 t) (iblk m c 7 t)) := by
    by_cases h : t.val % 16 = 0
    · rw [outsAt0_A m c t h]; dsimp only; rw [out10_A]
    · rw [outsAt0_B m c t h]; dsimp only; rw [out10_B]
  rw [e]
  refine (turn_c _ _ _ _ a b).trans ?_
  unfold turned
  simp only [part_c, branch_c, given, offs_c]

/-- A result. -/
def whole10 : FVec Ideal S4096x1024 .bf16 := fun i => turned (P m c) (Yc m c) (D m c) (B m c) 2 (i 0).val (i 1).val

theorem flushed_tile10 (t : Fin cfg0.N) (_ : (cfg0.win 10).flush t = true) :
    (dats m 0 c).flushed 10 t = ((cfg0.win 10).blk t).view.read (Elt Ideal) (whole10 m c) := by
  rw [flushed10]
  refine funext fun (j : (⟨2, ![256, 1024]⟩ : Shape).Idx) => ?_
  obtain ⟨a, b, rfl⟩ := ix2_of j
  rw [View.read_apply]
  refine (tile10 m c t a b).trans (congrArg₂ (turned (P m c) (Yc m c) (D m c) (B m c) 2) ?_ ?_)
  · show _ = win0_10.index t 0 * 256 + 1 * a.val; rw [(at10 t).1, one_mul]
  · show _ = win0_10.index t 1 * 1024 + 1 * b.val; rw [(at10 t).2]; omega

theorem result10 : (dats m 0 c).arrAt 10 cfg0.N = whole10 m c :=
  (dats m 0 c).arrAt_eq_of_cover 10 (whole10 m c) (flushed_tile10 m c) fun i => by
    have h0 : (i 0 : Nat) < 4096 := (i 0).isLt
    have h1 : (i 1 : Nat) < 1024 := (i 1).isLt
    refine ⟨⟨(i 0).val / 256, ?_⟩, flush0_10 _, ?_⟩
    · rw [show cfg0.N = 16 from N_0]; omega
    · generalize ht : (⟨(i 0).val / 256, _⟩ : Fin cfg0.N) = t
      have hv : t.val = (i 0).val / 256 := by rw [← ht]
      show i ∈ ((View.whole main_v1_2).slice (win0_10.rect t)).set
      rw [View.set_slice_whole, Rect.mem_set_unit]
      intro a
      match a with
      | ⟨0, _⟩ => show win0_10.index t 0 * 256 ≤ (i 0 : Nat) ∧ (i 0 : Nat) < win0_10.index t 0 * 256 + 256
                  rw [(at10 t).1]; omega
      | ⟨1, _⟩ => show win0_10.index t 1 * 1024 ≤ (i 1 : Nat) ∧ (i 1 : Nat) < win0_10.index t 1 * 1024 + 1024
                  rw [(at10 t).2]; omega

theorem tile11 (t : Fin cfg0.N) (a : Fin 256) (b : Fin 1024) :
    (outsAt0 m c t.val t.isLt).2.2.2.1 (ix2 a b) = passed (P m c) (D m c) (B m c) 0 (t.val * 256 + a.val) b.val := by
  have e : (outsAt0 m c t.val t.isLt).2.2.2.1 = k0_pay22 (k0_pay13 (iblk m c 0 t) (iblk m c 6 t) (iblk m c 7 t)) := by
    by_cases h : t.val % 16 = 0
    · rw [outsAt0_A m c t h]; dsimp only; rw [out11_A]
    · rw [outsAt0_B m c t h]; dsimp only; rw [out11_B]
  rw [e]
  refine (pass_a _ _ _ a b).trans ?_
  unfold passed
  simp only [part_a, given, offs_a]

/-- A result. -/
def whole11 : FVec Ideal S4096x1024 .bf16 := fun i => passed (P m c) (D m c) (B m c) 0 (i 0).val (i 1).val

theorem flushed_tile11 (t : Fin cfg0.N) (_ : (cfg0.win 11).flush t = true) :
    (dats m 0 c).flushed 11 t = ((cfg0.win 11).blk t).view.read (Elt Ideal) (whole11 m c) := by
  rw [flushed11]
  refine funext fun (j : (⟨2, ![256, 1024]⟩ : Shape).Idx) => ?_
  obtain ⟨a, b, rfl⟩ := ix2_of j
  rw [View.read_apply]
  refine (tile11 m c t a b).trans (congrArg₂ (passed (P m c) (D m c) (B m c) 0) ?_ ?_)
  · show _ = win0_11.index t 0 * 256 + 1 * a.val; rw [(at11 t).1, one_mul]
  · show _ = win0_11.index t 1 * 1024 + 1 * b.val; rw [(at11 t).2]; omega

theorem result11 : (dats m 0 c).arrAt 11 cfg0.N = whole11 m c :=
  (dats m 0 c).arrAt_eq_of_cover 11 (whole11 m c) (flushed_tile11 m c) fun i => by
    have h0 : (i 0 : Nat) < 4096 := (i 0).isLt
    have h1 : (i 1 : Nat) < 1024 := (i 1).isLt
    refine ⟨⟨(i 0).val / 256, ?_⟩, flush0_11 _, ?_⟩
    · rw [show cfg0.N = 16 from N_0]; omega
    · generalize ht : (⟨(i 0).val / 256, _⟩ : Fin cfg0.N) = t
      have hv : t.val = (i 0).val / 256 := by rw [← ht]
      show i ∈ ((View.whole main_v1_3).slice (win0_11.rect t)).set
      rw [View.set_slice_whole, Rect.mem_set_unit]
      intro a
      match a with
      | ⟨0, _⟩ => show win0_11.index t 0 * 256 ≤ (i 0 : Nat) ∧ (i 0 : Nat) < win0_11.index t 0 * 256 + 256
                  rw [(at11 t).1]; omega
      | ⟨1, _⟩ => show win0_11.index t 1 * 1024 ≤ (i 1 : Nat) ∧ (i 1 : Nat) < win0_11.index t 1 * 1024 + 1024
                  rw [(at11 t).2]; omega

theorem tile12 (t : Fin cfg0.N) (a : Fin 256) (b : Fin 1024) :
    (outsAt0 m c t.val t.isLt).2.2.2.2.1 (ix2 a b) = passed (P m c) (D m c) (B m c) 1 (t.val * 256 + a.val) b.val := by
  have e : (outsAt0 m c t.val t.isLt).2.2.2.2.1 = k0_pay23 (k0_pay11 (iblk m c 1 t) (iblk m c 6 t) (iblk m c 7 t)) := by
    by_cases h : t.val % 16 = 0
    · rw [outsAt0_A m c t h]; dsimp only; rw [out12_A]
    · rw [outsAt0_B m c t h]; dsimp only; rw [out12_B]
  rw [e]
  refine (pass_b _ _ _ a b).trans ?_
  unfold passed
  simp only [part_b, given, offs_b]

/-- A result. -/
def whole12 : FVec Ideal S4096x1024 .bf16 := fun i => passed (P m c) (D m c) (B m c) 1 (i 0).val (i 1).val

theorem flushed_tile12 (t : Fin cfg0.N) (_ : (cfg0.win 12).flush t = true) :
    (dats m 0 c).flushed 12 t = ((cfg0.win 12).blk t).view.read (Elt Ideal) (whole12 m c) := by
  rw [flushed12]
  refine funext fun (j : (⟨2, ![256, 1024]⟩ : Shape).Idx) => ?_
  obtain ⟨a, b, rfl⟩ := ix2_of j
  rw [View.read_apply]
  refine (tile12 m c t a b).trans (congrArg₂ (passed (P m c) (D m c) (B m c) 1) ?_ ?_)
  · show _ = win0_12.index t 0 * 256 + 1 * a.val; rw [(at12 t).1, one_mul]
  · show _ = win0_12.index t 1 * 1024 + 1 * b.val; rw [(at12 t).2]; omega

theorem result12 : (dats m 0 c).arrAt 12 cfg0.N = whole12 m c :=
  (dats m 0 c).arrAt_eq_of_cover 12 (whole12 m c) (flushed_tile12 m c) fun i => by
    have h0 : (i 0 : Nat) < 4096 := (i 0).isLt
    have h1 : (i 1 : Nat) < 1024 := (i 1).isLt
    refine ⟨⟨(i 0).val / 256, ?_⟩, flush0_12 _, ?_⟩
    · rw [show cfg0.N = 16 from N_0]; omega
    · generalize ht : (⟨(i 0).val / 256, _⟩ : Fin cfg0.N) = t
      have hv : t.val = (i 0).val / 256 := by rw [← ht]
      show i ∈ ((View.whole main_v1_4).slice (win0_12.rect t)).set
      rw [View.set_slice_whole, Rect.mem_set_unit]
      intro a
      match a with
      | ⟨0, _⟩ => show win0_12.index t 0 * 256 ≤ (i 0 : Nat) ∧ (i 0 : Nat) < win0_12.index t 0 * 256 + 256
                  rw [(at12 t).1]; omega
      | ⟨1, _⟩ => show win0_12.index t 1 * 1024 ≤ (i 1 : Nat) ∧ (i 1 : Nat) < win0_12.index t 1 * 1024 + 1024
                  rw [(at12 t).2]; omega

theorem tile13 (t : Fin cfg0.N) (a : Fin 256) (b : Fin 1024) :
    (outsAt0 m c t.val t.isLt).2.2.2.2.2.1 (ix2 a b) = passed (P m c) (D m c) (B m c) 2 (t.val * 256 + a.val) b.val := by
  have e : (outsAt0 m c t.val t.isLt).2.2.2.2.2.1 = k0_pay24 (k0_pay10 (iblk m c 2 t) (iblk m c 6 t) (iblk m c 7 t)) := by
    by_cases h : t.val % 16 = 0
    · rw [outsAt0_A m c t h]; dsimp only; rw [out13_A]
    · rw [outsAt0_B m c t h]; dsimp only; rw [out13_B]
  rw [e]
  refine (pass_c _ _ _ a b).trans ?_
  unfold passed
  simp only [part_c, given, offs_c]

/-- A result. -/
def whole13 : FVec Ideal S4096x1024 .bf16 := fun i => passed (P m c) (D m c) (B m c) 2 (i 0).val (i 1).val

theorem flushed_tile13 (t : Fin cfg0.N) (_ : (cfg0.win 13).flush t = true) :
    (dats m 0 c).flushed 13 t = ((cfg0.win 13).blk t).view.read (Elt Ideal) (whole13 m c) := by
  rw [flushed13]
  refine funext fun (j : (⟨2, ![256, 1024]⟩ : Shape).Idx) => ?_
  obtain ⟨a, b, rfl⟩ := ix2_of j
  rw [View.read_apply]
  refine (tile13 m c t a b).trans (congrArg₂ (passed (P m c) (D m c) (B m c) 2) ?_ ?_)
  · show _ = win0_13.index t 0 * 256 + 1 * a.val; rw [(at13 t).1, one_mul]
  · show _ = win0_13.index t 1 * 1024 + 1 * b.val; rw [(at13 t).2]; omega

theorem result13 : (dats m 0 c).arrAt 13 cfg0.N = whole13 m c :=
  (dats m 0 c).arrAt_eq_of_cover 13 (whole13 m c) (flushed_tile13 m c) fun i => by
    have h0 : (i 0 : Nat) < 4096 := (i 0).isLt
    have h1 : (i 1 : Nat) < 1024 := (i 1).isLt
    refine ⟨⟨(i 0).val / 256, ?_⟩, flush0_13 _, ?_⟩
    · rw [show cfg0.N = 16 from N_0]; omega
    · generalize ht : (⟨(i 0).val / 256, _⟩ : Fin cfg0.N) = t
      have hv : t.val = (i 0).val / 256 := by rw [← ht]
      show i ∈ ((View.whole main_v1_5).slice (win0_13.rect t)).set
      rw [View.set_slice_whole, Rect.mem_set_unit]
      intro a
      match a with
      | ⟨0, _⟩ => show win0_13.index t 0 * 256 ≤ (i 0 : Nat) ∧ (i 0 : Nat) < win0_13.index t 0 * 256 + 256
                  rw [(at13 t).1]; omega
      | ⟨1, _⟩ => show win0_13.index t 1 * 1024 ≤ (i 1 : Nat) ∧ (i 1 : Nat) < win0_13.index t 1 * 1024 + 1024
                  rw [(at13 t).2]; omega

theorem sums_a : ∀ q (hq : q < cfg0.N) (b : Fin 1024), (outsAt0 m c q hq).2.2.2.2.2.2 (ix2 0 ⟨b.val, by omega⟩)
    = ∑ r ∈ Finset.range ((q + 1) * 256), turned (P m c) (Ya m c) (D m c) (B m c) 0 r b.val := fun q hq b => by
  refine tally (N := cfg0.N) (fun r => turned (P m c) (Ya m c) (D m c) (B m c) 0 r b.val) (fun q hq => (outsAt0 m c q hq).2.2.2.2.2.2 (ix2 0 ⟨b.val, by omega⟩)) (fun hq => ?_) (fun q hq => ?_) q hq
  · rw [outsAt0_A m c ⟨0, hq⟩ rfl]; dsimp only
    rw [out14_A, sum_a, zeros, zero_add, Finset.sum_range]
    refine Finset.sum_congr rfl fun a _ => ?_
    refine (turn_a _ _ _ _ a b).trans ?_
    unfold turned
    simp only [part_a, branch_a, given, offs_a, Nat.zero_mul, Nat.zero_add]
  · have hN : q + 1 < 16 := lt_of_lt_of_eq hq N_0
    rw [outsAt0_B m c ⟨q + 1, hq⟩ (by dsimp only; omega)]; dsimp only
    rw [out14_B, sum_a, Finset.sum_range]
    refine congrArg₂ (· + ·) rfl (Finset.sum_congr rfl fun a _ => ?_)
    refine (turn_a _ _ _ _ a b).trans ?_
    unfold turned
    simp only [part_a, branch_a, given, offs_a]

theorem sums_b : ∀ q (hq : q < cfg0.N) (b : Fin 1024), (outsAt0 m c q hq).2.2.2.2.2.2 (ix2 0 ⟨1024 + b.val, by omega⟩)
    = ∑ r ∈ Finset.range ((q + 1) * 256), turned (P m c) (Yb m c) (D m c) (B m c) 1 r b.val := fun q hq b => by
  refine tally (N := cfg0.N) (fun r => turned (P m c) (Yb m c) (D m c) (B m c) 1 r b.val) (fun q hq => (outsAt0 m c q hq).2.2.2.2.2.2 (ix2 0 ⟨1024 + b.val, by omega⟩)) (fun hq => ?_) (fun q hq => ?_) q hq
  · rw [outsAt0_A m c ⟨0, hq⟩ rfl]; dsimp only
    rw [out14_A, sum_b, zeros, zero_add, Finset.sum_range]
    refine Finset.sum_congr rfl fun a _ => ?_
    refine (turn_b _ _ _ _ a b).trans ?_
    unfold turned
    simp only [part_b, branch_b, given, offs_b, Nat.zero_mul, Nat.zero_add]
  · have hN : q + 1 < 16 := lt_of_lt_of_eq hq N_0
    rw [outsAt0_B m c ⟨q + 1, hq⟩ (by dsimp only; omega)]; dsimp only
    rw [out14_B, sum_b, Finset.sum_range]
    refine congrArg₂ (· + ·) rfl (Finset.sum_congr rfl fun a _ => ?_)
    refine (turn_b _ _ _ _ a b).trans ?_
    unfold turned
    simp only [part_b, branch_b, given, offs_b]

theorem sums_c : ∀ q (hq : q < cfg0.N) (b : Fin 1024), (outsAt0 m c q hq).2.2.2.2.2.2 (ix2 0 ⟨2048 + b.val, by omega⟩)
    = ∑ r ∈ Finset.range ((q + 1) * 256), turned (P m c) (Yc m c) (D m c) (B m c) 2 r b.val := fun q hq b => by
  refine tally (N := cfg0.N) (fun r => turned (P m c) (Yc m c) (D m c) (B m c) 2 r b.val) (fun q hq => (outsAt0 m c q hq).2.2.2.2.2.2 (ix2 0 ⟨2048 + b.val, by omega⟩)) (fun hq => ?_) (fun q hq => ?_) q hq
  · rw [outsAt0_A m c ⟨0, hq⟩ rfl]; dsimp only
    rw [out14_A, sum_c, zeros, zero_add, Finset.sum_range]
    refine Finset.sum_congr rfl fun a _ => ?_
    refine (turn_c _ _ _ _ a b).trans ?_
    unfold turned
    simp only [part_c, branch_c, given, offs_c, Nat.zero_mul, Nat.zero_add]
  · have hN : q + 1 < 16 := lt_of_lt_of_eq hq N_0
    rw [outsAt0_B m c ⟨q + 1, hq⟩ (by dsimp only; omega)]; dsimp only
    rw [out14_B, sum_c, Finset.sum_range]
    refine congrArg₂ (· + ·) rfl (Finset.sum_congr rfl fun a _ => ?_)
    refine (turn_c _ _ _ _ a b).trans ?_
    unfold turned
    simp only [part_c, branch_c, given, offs_c]

/-- The gradient of the gates' offsets. -/
def whole14 : FVec Ideal S1x3072 .f32 := fun i => offset (P m c) (Ya m c) (Yb m c) (Yc m c) (D m c) (B m c) ((i 1).val / 1024) ((i 1).val % 1024)

theorem last (t : Fin cfg0.N) (ht : t.val = 15) (j : Fin 3072) :
    (outsAt0 m c t.val t.isLt).2.2.2.2.2.2 (ix2 0 j) = offset (P m c) (Ya m c) (Yb m c) (Yc m c) (D m c) (B m c) (j.val / 1024) (j.val % 1024) := by
  by_cases h0 : j.val < 1024
  · rw [show j.val / 1024 = 0 by omega, show j = ⟨j.val % 1024, by omega⟩ from Fin.ext (by show j.val = j.val % 1024; omega)]
    refine (sums_a m c t.val t.isLt ⟨j.val % 1024, by omega⟩).trans ?_
    rw [ht]
    show _ = offset _ _ _ _ _ _ 0 (j.val % 1024 % 1024)
    rw [Nat.mod_mod]; rfl
  · by_cases h1 : j.val < 2048
    · rw [show j.val / 1024 = 1 by omega, show j = ⟨1024 + j.val % 1024, by omega⟩ from Fin.ext (by show j.val = 1024 + j.val % 1024; omega)]
      refine (sums_b m c t.val t.isLt ⟨j.val % 1024, by omega⟩).trans ?_
      rw [ht]
      show _ = offset _ _ _ _ _ _ 1 ((1024 + j.val % 1024) % 1024)
      rw [show (1024 + j.val % 1024) % 1024 = j.val % 1024 by omega]; rfl
    · rw [show j.val / 1024 = 2 by omega, show j = ⟨2048 + j.val % 1024, by omega⟩ from Fin.ext (by show j.val = 2048 + j.val % 1024; omega)]
      refine (sums_c m c t.val t.isLt ⟨j.val % 1024, by omega⟩).trans ?_
      rw [ht]
      show _ = offset _ _ _ _ _ _ 2 ((2048 + j.val % 1024) % 1024)
      rw [show (2048 + j.val % 1024) % 1024 = j.val % 1024 by omega]; rfl

theorem flushed_offs (t : Fin cfg0.N) (hf : (cfg0.win 14).flush t = true) :
    (dats m 0 c).flushed 14 t = ((cfg0.win 14).blk t).view.read (Elt Ideal) (whole14 m c) := by
  have h15 : t.val = 15 := by
    have h := (flush0_14 t).mp hf
    have hN : t.val < 16 := lt_of_lt_of_eq t.isLt N_0
    omega
  rw [flushed14]
  refine funext fun (j : (⟨2, ![1, 3072]⟩ : Shape).Idx) => ?_
  obtain ⟨a, b, rfl⟩ := ix2_of j
  obtain rfl : a = 0 := Subsingleton.elim _ _
  rw [View.read_apply]
  refine (last m c t h15 b).trans ?_
  refine congrArg (fun j : ℕ => offset (P m c) (Ya m c) (Yb m c) (Yc m c) (D m c) (B m c) (j / 1024) (j % 1024)) ?_
  show _ = win0_14.index t 1 * 3072 + 1 * b.val; rw [(at14 t).2]; omega

theorem result14 : (dats m 0 c).arrAt 14 cfg0.N = whole14 m c :=
  (dats m 0 c).arrAt_eq_of_cover 14 (whole14 m c) (flushed_offs m c) fun i => by
    have h0 : (i 0 : Nat) < 1 := (i 0).isLt
    have h1 : (i 1 : Nat) < 3072 := (i 1).isLt
    refine ⟨⟨15, ?_⟩, (flush0_14 _).mpr rfl, ?_⟩
    · rw [show cfg0.N = 16 from N_0]; omega
    · generalize (⟨15, _⟩ : Fin cfg0.N) = t
      show i ∈ ((View.whole main_v1_6).slice (win0_14.rect t)).set
      rw [View.set_slice_whole, Rect.mem_set_unit]
      intro a
      match a with
      | ⟨0, _⟩ => show win0_14.index t 0 * 1 ≤ (i 0 : Nat) ∧ (i 0 : Nat) < win0_14.index t 0 * 1 + 1
                  rw [(at14 t).1]; omega
      | ⟨1, _⟩ => show win0_14.index t 1 * 3072 ≤ (i 1 : Nat) ∧ (i 1 : Nat) < win0_14.index t 1 * 3072 + 3072
                  rw [(at14 t).2]; omega

end

end Cert.MergeBwdValue

end
-- ==== Proof.RmsBwd.lean ====
/-
  The gradient of a root-mean-square norm whose argument also runs past it in the residual stream: row by row for the rows,
  and summed over all rows for the gain.
-/
module

public import proofs.«01_k».proof.Proof.Gen.RmsBwdIdeal.Value
public import proofs.«01_k».proof.Proof.Gen.RefRmsBwdIdeal.Run
public import proofs.«01_k».proof.Proof.Rows
public import proofs.«01_k».proof.Defs

@[expose] public section

set_option maxRecDepth 16384

noncomputable section

namespace Cert.RmsBwdValue

open Cert.Lift Cert.Blocked Cert.Rows Cert.RmsBwdIdeal Cert.RmsBwdIdeal.Gen Cert.RmsBwdIdeal.Value
open Idealize.ShloMosaic Idealize.ShloMosaic.TcCoe Idealize.ShloMosaic.Tactic Idealize.SL.Sem

/-! ## What the body leaves at one point -/

section
variable {F : FTy → Type} [FloatOps F] (c : Dev nD) (i : grid0.Coords)
  (a1 : Memref sig .tc .vmem S256x1024 .f32) (h1 : a1.IsWhole) (a2 : Memref sig .tc .vmem S1x1024 .f32) (h2 : a2.IsWhole)
  (a3 : Memref sig .tc .vmem S256x1024 .f32) (h3 : a3.IsWhole) (a4 : Memref sig .tc .vmem S256x1024 .f32) (h4 : a4.IsWhole)
  (a5 : Memref sig .tc .vmem S256x1024 .f32) (h5 : a5.IsWhole) (a6 : Memref sig .tc .vmem S1x1024 .f32) (h6 : a6.IsWhole)
  (x : Vec F S256x1024 .f32) (g : Vec F S1x1024 .f32) (u d : Vec F S256x1024 .f32) (s : Vec F S1x1024 .f32)

theorem tile_A (hc0 : cond0_0 i) : out0_A_4 c i a1 h1 a2 h2 a3 h3 a4 h4 a5 h5 a6 h6 hc0 x g u d = k0_pay6 x g u d := by
  unfold out0_A_4
  rw [View.read_writes_eq_canon _ _ _ (cover0_A_4 c i a1 h1 a2 h2 a3 h3 a4 h4 a5 h5 a6 h6 hc0 x g u d)]
  unfold kernelRun0_A
  dsimp only
  sl_unfold_words
  rw [View.canon_unit_zero origin]
  simp only [View.readAt_eq_ld, h1.read_unread, h2.read_unread, h3.read_unread, h4.read_unread, View.ld_unit_zero (S := S256x1024) origin, View.ld_unit_zero (S := S1x1024) origin]

theorem tile_B (hc0 : ¬cond0_0 i) : out0_B_4 c i a1 h1 a2 h2 a3 h3 a4 h4 a5 h5 a6 h6 hc0 x g u d s = k0_pay6 x g u d := by
  unfold out0_B_4
  rw [View.read_writes_eq_canon _ _ _ (cover0_B_4 c i a1 h1 a2 h2 a3 h3 a4 h4 a5 h5 a6 h6 hc0 x g u d s)]
  unfold kernelRun0_B
  dsimp only
  sl_unfold_words
  rw [View.canon_unit_zero origin]
  simp only [View.readAt_eq_ld, h1.read_unread, h2.read_unread, h3.read_unread, h4.read_unread, View.ld_unit_zero (S := S256x1024) origin, View.ld_unit_zero (S := S1x1024) origin]

theorem gain_A (hc0 : cond0_0 i) : out0_A_5 c i a1 h1 a2 h2 a3 h3 a4 h4 a5 h5 a6 h6 hc0 x g u d = k0_pay2 (k0_pay5 x u) k0_pay1 := by
  unfold out0_A_5
  rw [View.read_writes_eq_canon _ _ _ (cover0_A_5 c i a1 h1 a2 h2 a3 h3 a4 h4 a5 h5 a6 h6 hc0 x g u d)]
  unfold kernelRun0_A
  dsimp only
  sl_unfold_words
  rw [View.canon_cons_unit_zero (S := S1x1024) origin, View.readCov_unit_zero (S := S1x1024) _ origin]
  simp only [View.readAt_eq_ld, h1.read_unread, h2.read_unread, h3.read_unread, h4.read_unread, View.ld_unit_zero (S := S256x1024) origin, View.ld_unit_zero (S := S1x1024) origin]

theorem gain_B (hc0 : ¬cond0_0 i) : out0_B_5 c i a1 h1 a2 h2 a3 h3 a4 h4 a5 h5 a6 h6 hc0 x g u d s = k0_pay2 (k0_pay5 x u) s := by
  unfold out0_B_5
  rw [View.read_writes_eq_canon _ _ _ (cover0_B_5 c i a1 h1 a2 h2 a3 h3 a4 h4 a5 h5 a6 h6 hc0 x g u d s)]
  unfold kernelRun0_B
  dsimp only
  sl_unfold_words
  rw [View.canon_unit_zero origin]
  simp only [View.readAt_eq_ld, h1.read_unread, h2.read_unread, h3.read_unread, h4.read_unread, h6.read_unread, View.ld_unit_zero (S := S256x1024) origin, View.ld_unit_zero (S := S1x1024) origin]

end

/-! ## One row -/

/-- A row's mean square, and the small number. -/
def square (h : Fin 1024 → EReal) : EReal :=
  Ideal.div (∑ k, h k * h k) (Ideal.ofBits .f32 0x44800000#32) + Ideal.ofBits .f32 0x358637BD#32

/-- The gradient at the mean square, shared out to the row's columns. -/
def share (h g u : Fin 1024 → EReal) : EReal :=
  Ideal.div ((∑ k, h k * (u k * g k)) * (Ideal.ofBits .f32 0xBF000000#32 * Ideal.div (Ideal.rsqrt (square h)) (square h)))
    (Ideal.ofBits .f32 0x44800000#32)

/-- The gradient at a row's entry. -/
def slope (h g u : Fin 1024 → EReal) (b : Fin 1024) : EReal :=
  u b * g b * Ideal.rsqrt (square h) + h b * share h g u + share h g u * h b

/-- A row's addend to the gradient of the gain. -/
def weigh (h u : Fin 1024 → EReal) (b : Fin 1024) : EReal := h b * Ideal.rsqrt (square h) * u b

theorem pay_tile (x : FVec Ideal S256x1024 .f32) (g : FVec Ideal S1x1024 .f32) (u d : FVec Ideal S256x1024 .f32) (a : Fin 256) (b : Fin 1024) :
    k0_pay6 (F := Ideal) x g u d (ix2 a b)
      = slope (fun k => x (ix2 a k)) (fun k => g (ix2 0 k)) (fun k => u (ix2 a k)) b + d (ix2 a b) := by
  unfold k0_pay6 k0_pay4 k0_pay3 slope share square; simp only [shapeCast_self]; pointwise
  simp only [Finset.univ_unique, Finset.sum_singleton]

theorem pay_gain (x u : FVec Ideal S256x1024 .f32) (s : FVec Ideal S1x1024 .f32) (b : Fin 1024) :
    k0_pay2 (F := Ideal) (k0_pay5 x u) s (ix2 0 b)
      = s (ix2 0 b) + ∑ a : Fin 256, weigh (fun k => x (ix2 a k)) (fun k => u (ix2 a k)) b := by
  unfold k0_pay2 k0_pay5 k0_pay4 k0_pay3 weigh square; simp only [shapeCast_self]; pointwise

theorem pay_zero (b : Fin 1024) : k0_pay1 (F := Ideal) (ix2 0 b) = (0 : EReal) := by
  unfold k0_pay1; pointwise

/-! ## The blocks -/

section
variable (m : (ℓ : Loc nD τ sig) → Buf (Elt Ideal) ℓ) (c : Dev nD)

abbrev X : FVec Ideal ⟨2, ![4096, 1024]⟩ .f32 := m ((c : Thread nD τ).loc main_arg0)
abbrev G : FVec Ideal ⟨1, ![1024]⟩ .f32 := m ((c : Thread nD τ).loc main_arg1)
abbrev U : FVec Ideal ⟨2, ![4096, 1024]⟩ .f32 := m ((c : Thread nD τ).loc main_arg2)
abbrev D : FVec Ideal ⟨2, ![4096, 1024]⟩ .f32 := m ((c : Thread nD τ).loc main_arg3)

theorem at0 : ∀ t : Fin grid0.N, win0_0.index t 0 = t.val ∧ win0_0.index t 1 = 0 := by decide +kernel
theorem at1 : ∀ t : Fin grid0.N, win0_1.index t 0 = 0 ∧ win0_1.index t 1 = 0 := by decide +kernel
theorem at2 : ∀ t : Fin grid0.N, win0_2.index t 0 = t.val ∧ win0_2.index t 1 = 0 := by decide +kernel
theorem at3 : ∀ t : Fin grid0.N, win0_3.index t 0 = t.val ∧ win0_3.index t 1 = 0 := by decide +kernel
theorem at4 : ∀ t : Fin grid0.N, win0_4.index t 0 = t.val ∧ win0_4.index t 1 = 0 := by decide +kernel
theorem at5 : ∀ t : Fin grid0.N, win0_5.index t 0 = 0 ∧ win0_5.index t 1 = 0 := by decide +kernel

theorem rows (t : Fin cfg0.N) (a : Fin 256) (b : Fin 1024) :
    (iblk m c 0 t : FVec Ideal S256x1024 .f32) (ix2 a b) = cell (X m c) (t.val * 256 + a.val) b.val := by
  unfold iblk; rw [View.read_apply]
  show X m c _ = _
  refine cell_eq _ _ ?_ ?_
  · show win0_0.index t 0 * 256 + 1 * a.val = _; rw [(at0 t).1, one_mul]
  · show win0_0.index t 1 * 1024 + 1 * b.val = _; rw [(at0 t).2]; omega

theorem given (t : Fin cfg0.N) (a : Fin 256) (b : Fin 1024) :
    (iblk m c 2 t : FVec Ideal S256x1024 .f32) (ix2 a b) = cell (U m c) (t.val * 256 + a.val) b.val := by
  unfold iblk; rw [View.read_apply]
  show U m c _ = _
  refine cell_eq _ _ ?_ ?_
  · show win0_2.index t 0 * 256 + 1 * a.val = _; rw [(at2 t).1, one_mul]
  · show win0_2.index t 1 * 1024 + 1 * b.val = _; rw [(at2 t).2]; omega

theorem past (t : Fin cfg0.N) (a : Fin 256) (b : Fin 1024) :
    (iblk m c 3 t : FVec Ideal S256x1024 .f32) (ix2 a b) = cell (D m c) (t.val * 256 + a.val) b.val := by
  unfold iblk; rw [View.read_apply]
  show D m c _ = _
  refine cell_eq _ _ ?_ ?_
  · show win0_3.index t 0 * 256 + 1 * a.val = _; rw [(at3 t).1, one_mul]
  · show win0_3.index t 1 * 1024 + 1 * b.val = _; rw [(at3 t).2]; omega

theorem gain (t : Fin cfg0.N) (b : Fin 1024) : (iblk m c 1 t : FVec Ideal S1x1024 .f32) (ix2 0 b) = G m c (ix1 b) := by
  unfold iblk; rw [View.read_apply]
  show (shapeCast S1x1024 (G m c) shapeCasts_S1024_S1x1024 : FVec Ideal S1x1024 .f32) _ = _
  refine row_of_list _ _ _ ?_
  show win0_1.index t 1 * 1024 + 1 * b.val = _; rw [(at1 t).2]; omega

/-- An entry of the gradient at the rows. -/
def value (X : FVec Ideal ⟨2, ![4096, 1024]⟩ .f32) (G : FVec Ideal ⟨1, ![1024]⟩ .f32) (U D : FVec Ideal ⟨2, ![4096, 1024]⟩ .f32)
    (r : ℕ) (b : Fin 1024) : EReal := slope (row X r) (fun k => G (ix1 k)) (row U r) b + row D r b

/-- The gradient at the rows. -/
def whole : FVec Ideal S4096x1024 .f32 := fun i => value (X m c) (G m c) (U m c) (D m c) (i 0).val (i 1)
theorem whole_at (i : (⟨2, ![4096, 1024]⟩ : Shape).Idx) {r : ℕ} {b : Fin 1024} (hr : (i 0).val = r) (hb : (i 1).val = b.val) :
    whole m c i = value (X m c) (G m c) (U m c) (D m c) r b := by
  subst hr
  exact congrArg (value (X m c) (G m c) (U m c) (D m c) _) (Fin.ext hb)

/-- The gradient of the gain. -/
def wholeG : FVec Ideal S1x1024 .f32 := fun i => ∑ r ∈ Finset.range 4096, weigh (row (X m c) r) (row (U m c) r) (i 1)

theorem wholeG_at (i : (⟨2, ![1, 1024]⟩ : Shape).Idx) {b : Fin 1024} (hb : (i 1).val = b.val) :
    wholeG m c i = ∑ r ∈ Finset.range 4096, weigh (row (X m c) r) (row (U m c) r) b :=
  Finset.sum_congr rfl fun _ _ => congrArg (weigh _ _) (Fin.ext hb)

theorem tile (t : Fin cfg0.N) (a : Fin 256) (b : Fin 1024) :
    (outsAt0 m c t.val t.isLt).1 (ix2 a b) = value (X m c) (G m c) (U m c) (D m c) (t.val * 256 + a.val) b := by
  have e : (outsAt0 m c t.val t.isLt).1 = k0_pay6 (iblk m c 0 t) (iblk m c 1 t) (iblk m c 2 t) (iblk m c 3 t) := by
    by_cases h : t.val % 16 = 0
    · rw [outsAt0_A m c t h]; dsimp only; rw [tile_A]
    · rw [outsAt0_B m c t h]; dsimp only; rw [tile_B]
  rw [e, pay_tile]
  unfold value
  simp only [rows, gain, given, past]
  rfl

theorem sums : ∀ n (hn : n < cfg0.N) (b : Fin 1024), (outsAt0 m c n hn).2 (ix2 0 b)
    = ∑ r ∈ Finset.range ((n + 1) * 256), weigh (row (X m c) r) (row (U m c) r) b := fun n hn b => by
  refine tally (N := cfg0.N) (fun r => weigh (row (X m c) r) (row (U m c) r) b) (fun n hn => (outsAt0 m c n hn).2 (ix2 0 b)) (fun hn => ?_) (fun n hn => ?_) n hn
  · rw [outsAt0_A m c ⟨0, hn⟩ rfl]; dsimp only
    rw [gain_A, pay_gain, pay_zero, zero_add, Finset.sum_range]
    refine Finset.sum_congr rfl fun a _ => ?_
    simp only [rows, given, Nat.zero_mul, Nat.zero_add]
    rfl
  · have hN : n + 1 < 16 := lt_of_lt_of_eq hn N_0
    rw [outsAt0_B m c ⟨n + 1, hn⟩ (by dsimp only; omega)]; dsimp only
    rw [gain_B, pay_gain, Finset.sum_range]
    refine congrArg₂ (· + ·) rfl (Finset.sum_congr rfl fun a _ => ?_)
    simp only [rows, given]
    rfl

theorem flushed_whole (t : Fin cfg0.N) (_ : (cfg0.win 4).flush t = true) :
    (dats m 0 c).flushed 4 t = ((cfg0.win 4).blk t).view.read (Elt Ideal) (whole m c) := by
  rw [flushed4]
  refine funext fun (j : (⟨2, ![256, 1024]⟩ : Shape).Idx) => ?_
  obtain ⟨a, b, rfl⟩ := ix2_of j
  rw [View.read_apply]
  refine (tile m c t a b).trans ?_
  refine (whole_at m c _ ?_ ?_).symm
  · show win0_4.index t 0 * 256 + 1 * a.val = _; rw [(at4 t).1, one_mul]
  · show win0_4.index t 1 * 1024 + 1 * b.val = _; rw [(at4 t).2]; omega

theorem result : (dats m 0 c).arrAt 4 cfg0.N = whole m c :=
  (dats m 0 c).arrAt_eq_of_cover 4 (whole m c) (flushed_whole m c) fun i => by
    have h0 : (i 0 : Nat) < 4096 := (i 0).isLt
    have h1 : (i 1 : Nat) < 1024 := (i 1).isLt
    refine ⟨⟨(i 0).val / 256, ?_⟩, flush0_4 _, ?_⟩
    · rw [show cfg0.N = 16 from N_0]; omega
    · generalize ht : (⟨(i 0).val / 256, _⟩ : Fin cfg0.N) = t
      have hv : t.val = (i 0).val / 256 := by rw [← ht]
      show i ∈ ((View.whole main_v1_0).slice (win0_4.rect t)).set
      rw [View.set_slice_whole, Rect.mem_set_unit]
      intro a
      match a with
      | ⟨0, _⟩ => show win0_4.index t 0 * 256 ≤ (i 0 : Nat) ∧ (i 0 : Nat) < win0_4.index t 0 * 256 + 256
                  rw [(at4 t).1]; omega
      | ⟨1, _⟩ => show win0_4.index t 1 * 1024 ≤ (i 1 : Nat) ∧ (i 1 : Nat) < win0_4.index t 1 * 1024 + 1024
                  rw [(at4 t).2]; omega

theorem flushed_gain (t : Fin cfg0.N) (hf : (cfg0.win 5).flush t = true) :
    (dats m 0 c).flushed 5 t = ((cfg0.win 5).blk t).view.read (Elt Ideal) (wholeG m c) := by
  have h15 : t.val = 15 := by
    have h := (flush0_5 t).mp hf
    have hN : t.val < 16 := lt_of_lt_of_eq t.isLt N_0
    omega
  rw [flushed5]
  refine funext fun (j : (⟨2, ![1, 1024]⟩ : Shape).Idx) => ?_
  obtain ⟨a, b, rfl⟩ := ix2_of j
  obtain rfl : a = 0 := Subsingleton.elim _ _
  rw [View.read_apply]
  refine (sums m c t.val t.isLt b).trans ?_
  rw [h15]
  refine (wholeG_at m c _ ?_).symm
  show win0_5.index t 1 * 1024 + 1 * b.val = _; rw [(at5 t).2]; omega

theorem result_gain : (dats m 0 c).arrAt 5 cfg0.N = wholeG m c :=
  (dats m 0 c).arrAt_eq_of_cover 5 (wholeG m c) (flushed_gain m c) fun i => by
    have h0 : (i 0 : Nat) < 1 := (i 0).isLt
    have h1 : (i 1 : Nat) < 1024 := (i 1).isLt
    refine ⟨⟨15, ?_⟩, (flush0_5 _).mpr rfl, ?_⟩
    · rw [show cfg0.N = 16 from N_0]; omega
    · generalize (⟨15, _⟩ : Fin cfg0.N) = t
      show i ∈ ((View.whole main_v1_1).slice (win0_5.rect t)).set
      rw [View.set_slice_whole, Rect.mem_set_unit]
      intro a
      match a with
      | ⟨0, _⟩ => show win0_5.index t 0 * 1 ≤ (i 0 : Nat) ∧ (i 0 : Nat) < win0_5.index t 0 * 1 + 1
                  rw [(at5 t).1]; omega
      | ⟨1, _⟩ => show win0_5.index t 1 * 1024 ≤ (i 1 : Nat) ∧ (i 1 : Nat) < win0_5.index t 1 * 1024 + 1024
                  rw [(at5 t).2]; omega

end

/-! ## The reference -/

section
open Cert.RefRmsBwdIdeal
theorem ref_rows [Cert.RefRmsBwdIdeal.Facts₀] (x : FVec Ideal Cert.RefRmsBwdIdeal.S4096x1024 .f32) (g : FVec Ideal Cert.RefRmsBwdIdeal.S1024 .f32)
    (u d : FVec Ideal Cert.RefRmsBwdIdeal.S4096x1024 .f32) (a : Fin 4096) (b : Fin 1024) :
    (addf (addf (addf d (mulf (mulf u (broadcastInDim Cert.RefRmsBwdIdeal.S4096x1024 ![0, 1] Cert.RefRmsBwdIdeal.Facts₀.bcast_S1x1024_S4096x1024_0_1 (broadcastInDim Cert.RefRmsBwdIdeal.S1x1024 ![1] Cert.RefRmsBwdIdeal.Facts₀.bcast_S1024_S1x1024_1 g))) (broadcastInDim Cert.RefRmsBwdIdeal.S4096x1024 ![0, 1] Cert.RefRmsBwdIdeal.Facts₀.bcast_S4096x1_S4096x1024_0_1 (Host.rsqrt (addf (Host.divf (broadcastInDim Cert.RefRmsBwdIdeal.S4096x1 ![0] Cert.RefRmsBwdIdeal.Facts₀.bcast_S4096_S4096x1_0 (Host.reduceAdd (mulf x x) (constant Cert.RefRmsBwdIdeal.S_ .f32 0x00000000#32) Cert.RefRmsBwdIdeal.Facts₀.reducesTo_S4096x1024_S4096_d1 Cert.RefRmsBwdIdeal.Facts₀.h_S_)) (broadcastInDim Cert.RefRmsBwdIdeal.S4096x1 ![] Cert.RefRmsBwdIdeal.Facts₀.bcast_S_S4096x1 (constant Cert.RefRmsBwdIdeal.S_ .f32 0x44800000#32))) (broadcastInDim Cert.RefRmsBwdIdeal.S4096x1 ![] Cert.RefRmsBwdIdeal.Facts₀.bcast_S_S4096x1 (constant Cert.RefRmsBwdIdeal.S_ .f32 0x358637BD#32))))))) (mulf x (broadcastInDim Cert.RefRmsBwdIdeal.S4096x1024 ![0] Cert.RefRmsBwdIdeal.Facts₀.bcast_S4096_S4096x1024_0 (Host.reduceAdd (Host.divf (mulf (shapeCast _ (Host.reduceAdd (mulf x (mulf u (broadcastInDim Cert.RefRmsBwdIdeal.S4096x1024 ![0, 1] Cert.RefRmsBwdIdeal.Facts₀.bcast_S1x1024_S4096x1024_0_1 (broadcastInDim Cert.RefRmsBwdIdeal.S1x1024 ![1] Cert.RefRmsBwdIdeal.Facts₀.bcast_S1024_S1x1024_1 g)))) (constant Cert.RefRmsBwdIdeal.S_ .f32 0x00000000#32) Cert.RefRmsBwdIdeal.Facts₀.reducesTo_S4096x1024_S4096_d1 Cert.RefRmsBwdIdeal.Facts₀.h_S_) Cert.RefRmsBwdIdeal.Facts₀.shapeCasts_S4096_S4096x1) (mulf (broadcastInDim Cert.RefRmsBwdIdeal.S4096x1 ![] Cert.RefRmsBwdIdeal.Facts₀.bcast_S_S4096x1 (constant Cert.RefRmsBwdIdeal.S_ .f32 0xBF000000#32)) (Host.divf (Host.rsqrt (addf (Host.divf (broadcastInDim Cert.RefRmsBwdIdeal.S4096x1 ![0] Cert.RefRmsBwdIdeal.Facts₀.bcast_S4096_S4096x1_0 (Host.reduceAdd (mulf x x) (constant Cert.RefRmsBwdIdeal.S_ .f32 0x00000000#32) Cert.RefRmsBwdIdeal.Facts₀.reducesTo_S4096x1024_S4096_d1 Cert.RefRmsBwdIdeal.Facts₀.h_S_)) (broadcastInDim Cert.RefRmsBwdIdeal.S4096x1 ![] Cert.RefRmsBwdIdeal.Facts₀.bcast_S_S4096x1 (constant Cert.RefRmsBwdIdeal.S_ .f32 0x44800000#32))) (broadcastInDim Cert.RefRmsBwdIdeal.S4096x1 ![] Cert.RefRmsBwdIdeal.Facts₀.bcast_S_S4096x1 (constant Cert.RefRmsBwdIdeal.S_ .f32 0x358637BD#32)))) (addf (Host.divf (broadcastInDim Cert.RefRmsBwdIdeal.S4096x1 ![0] Cert.RefRmsBwdIdeal.Facts₀.bcast_S4096_S4096x1_0 (Host.reduceAdd (mulf x x) (constant Cert.RefRmsBwdIdeal.S_ .f32 0x00000000#32) Cert.RefRmsBwdIdeal.Facts₀.reducesTo_S4096x1024_S4096_d1 Cert.RefRmsBwdIdeal.Facts₀.h_S_)) (broadcastInDim Cert.RefRmsBwdIdeal.S4096x1 ![] Cert.RefRmsBwdIdeal.Facts₀.bcast_S_S4096x1 (constant Cert.RefRmsBwdIdeal.S_ .f32 0x44800000#32))) (broadcastInDim Cert.RefRmsBwdIdeal.S4096x1 ![] Cert.RefRmsBwdIdeal.Facts₀.bcast_S_S4096x1 (constant Cert.RefRmsBwdIdeal.S_ .f32 0x358637BD#32)))))) (broadcastInDim Cert.RefRmsBwdIdeal.S4096x1 ![] Cert.RefRmsBwdIdeal.Facts₀.bcast_S_S4096x1 (constant Cert.RefRmsBwdIdeal.S_ .f32 0x44800000#32))) (constant Cert.RefRmsBwdIdeal.S_ .f32 0x00000000#32) Cert.RefRmsBwdIdeal.Facts₀.reducesTo_S4096x1_S4096_d1 Cert.RefRmsBwdIdeal.Facts₀.h_S_)))) (mulf (broadcastInDim Cert.RefRmsBwdIdeal.S4096x1024 ![0] Cert.RefRmsBwdIdeal.Facts₀.bcast_S4096_S4096x1024_0 (Host.reduceAdd (Host.divf (mulf (shapeCast _ (Host.reduceAdd (mulf x (mulf u (broadcastInDim Cert.RefRmsBwdIdeal.S4096x1024 ![0, 1] Cert.RefRmsBwdIdeal.Facts₀.bcast_S1x1024_S4096x1024_0_1 (broadcastInDim Cert.RefRmsBwdIdeal.S1x1024 ![1] Cert.RefRmsBwdIdeal.Facts₀.bcast_S1024_S1x1024_1 g)))) (constant Cert.RefRmsBwdIdeal.S_ .f32 0x00000000#32) Cert.RefRmsBwdIdeal.Facts₀.reducesTo_S4096x1024_S4096_d1 Cert.RefRmsBwdIdeal.Facts₀.h_S_) Cert.RefRmsBwdIdeal.Facts₀.shapeCasts_S4096_S4096x1) (mulf (broadcastInDim Cert.RefRmsBwdIdeal.S4096x1 ![] Cert.RefRmsBwdIdeal.Facts₀.bcast_S_S4096x1 (constant Cert.RefRmsBwdIdeal.S_ .f32 0xBF000000#32)) (Host.divf (Host.rsqrt (addf (Host.divf (broadcastInDim Cert.RefRmsBwdIdeal.S4096x1 ![0] Cert.RefRmsBwdIdeal.Facts₀.bcast_S4096_S4096x1_0 (Host.reduceAdd (mulf x x) (constant Cert.RefRmsBwdIdeal.S_ .f32 0x00000000#32) Cert.RefRmsBwdIdeal.Facts₀.reducesTo_S4096x1024_S4096_d1 Cert.RefRmsBwdIdeal.Facts₀.h_S_)) (broadcastInDim Cert.RefRmsBwdIdeal.S4096x1 ![] Cert.RefRmsBwdIdeal.Facts₀.bcast_S_S4096x1 (constant Cert.RefRmsBwdIdeal.S_ .f32 0x44800000#32))) (broadcastInDim Cert.RefRmsBwdIdeal.S4096x1 ![] Cert.RefRmsBwdIdeal.Facts₀.bcast_S_S4096x1 (constant Cert.RefRmsBwdIdeal.S_ .f32 0x358637BD#32)))) (addf (Host.divf (broadcastInDim Cert.RefRmsBwdIdeal.S4096x1 ![0] Cert.RefRmsBwdIdeal.Facts₀.bcast_S4096_S4096x1_0 (Host.reduceAdd (mulf x x) (constant Cert.RefRmsBwdIdeal.S_ .f32 0x00000000#32) Cert.RefRmsBwdIdeal.Facts₀.reducesTo_S4096x1024_S4096_d1 Cert.RefRmsBwdIdeal.Facts₀.h_S_)) (broadcastInDim Cert.RefRmsBwdIdeal.S4096x1 ![] Cert.RefRmsBwdIdeal.Facts₀.bcast_S_S4096x1 (constant Cert.RefRmsBwdIdeal.S_ .f32 0x44800000#32))) (broadcastInDim Cert.RefRmsBwdIdeal.S4096x1 ![] Cert.RefRmsBwdIdeal.Facts₀.bcast_S_S4096x1 (constant Cert.RefRmsBwdIdeal.S_ .f32 0x358637BD#32)))))) (broadcastInDim Cert.RefRmsBwdIdeal.S4096x1 ![] Cert.RefRmsBwdIdeal.Facts₀.bcast_S_S4096x1 (constant Cert.RefRmsBwdIdeal.S_ .f32 0x44800000#32))) (constant Cert.RefRmsBwdIdeal.S_ .f32 0x00000000#32) Cert.RefRmsBwdIdeal.Facts₀.reducesTo_S4096x1_S4096_d1 Cert.RefRmsBwdIdeal.Facts₀.h_S_)) x)) (ix2 a b) = d (ix2 a b) + u (ix2 a b) * g (ix1 b) * Ideal.rsqrt (square fun k => x (ix2 a k)) + x (ix2 a b) * share (fun k => x (ix2 a k)) (fun k => g (ix1 k)) (fun k => u (ix2 a k))
      + share (fun k => x (ix2 a k)) (fun k => g (ix1 k)) (fun k => u (ix2 a k)) * x (ix2 a b) := by
  unfold share square
  pointwise
  simp only [Finset.univ_unique, Finset.sum_singleton]

theorem ref_gain [Cert.RefRmsBwdIdeal.Facts₀] (x : FVec Ideal Cert.RefRmsBwdIdeal.S4096x1024 .f32) (u : FVec Ideal Cert.RefRmsBwdIdeal.S4096x1024 .f32) (b : Fin 1024) :
    (shapeCast _ (Host.reduceAdd (shapeCast _ (Host.reduceAdd (mulf (mulf x (broadcastInDim Cert.RefRmsBwdIdeal.S4096x1024 ![0, 1] Cert.RefRmsBwdIdeal.Facts₀.bcast_S4096x1_S4096x1024_0_1 (Host.rsqrt (addf (Host.divf (broadcastInDim Cert.RefRmsBwdIdeal.S4096x1 ![0] Cert.RefRmsBwdIdeal.Facts₀.bcast_S4096_S4096x1_0 (Host.reduceAdd (mulf x x) (constant Cert.RefRmsBwdIdeal.S_ .f32 0x00000000#32) Cert.RefRmsBwdIdeal.Facts₀.reducesTo_S4096x1024_S4096_d1 Cert.RefRmsBwdIdeal.Facts₀.h_S_)) (broadcastInDim Cert.RefRmsBwdIdeal.S4096x1 ![] Cert.RefRmsBwdIdeal.Facts₀.bcast_S_S4096x1 (constant Cert.RefRmsBwdIdeal.S_ .f32 0x44800000#32))) (broadcastInDim Cert.RefRmsBwdIdeal.S4096x1 ![] Cert.RefRmsBwdIdeal.Facts₀.bcast_S_S4096x1 (constant Cert.RefRmsBwdIdeal.S_ .f32 0x358637BD#32)))))) u) (constant Cert.RefRmsBwdIdeal.S_ .f32 0x00000000#32) Cert.RefRmsBwdIdeal.Facts₀.reducesTo_S4096x1024_S1024_d0 Cert.RefRmsBwdIdeal.Facts₀.h_S_) Cert.RefRmsBwdIdeal.Facts₀.shapeCasts_S1024_S1x1024) (constant Cert.RefRmsBwdIdeal.S_ .f32 0x00000000#32) Cert.RefRmsBwdIdeal.Facts₀.reducesTo_S1x1024_S1024_d0 Cert.RefRmsBwdIdeal.Facts₀.h_S_) Cert.RefRmsBwdIdeal.Facts₀.shapeCasts_S1024_S1x1024) (ix2 0 b) = ∑ a : Fin 4096, weigh (fun k => x (ix2 a k)) (fun k => u (ix2 a k)) b := by
  unfold weigh square
  pointwise
  simp only [Finset.univ_unique, Finset.sum_singleton]

theorem reference [Cert.RefRmsBwdIdeal.Facts₀] (x : FVec Ideal Cert.RefRmsBwdIdeal.S4096x1024 .f32) (g : FVec Ideal Cert.RefRmsBwdIdeal.S1024 .f32)
    (u d : FVec Ideal Cert.RefRmsBwdIdeal.S4096x1024 .f32) :
    addf (addf (addf d (mulf (mulf u (broadcastInDim Cert.RefRmsBwdIdeal.S4096x1024 ![0, 1] Cert.RefRmsBwdIdeal.Facts₀.bcast_S1x1024_S4096x1024_0_1 (broadcastInDim Cert.RefRmsBwdIdeal.S1x1024 ![1] Cert.RefRmsBwdIdeal.Facts₀.bcast_S1024_S1x1024_1 g))) (broadcastInDim Cert.RefRmsBwdIdeal.S4096x1024 ![0, 1] Cert.RefRmsBwdIdeal.Facts₀.bcast_S4096x1_S4096x1024_0_1 (Host.rsqrt (addf (Host.divf (broadcastInDim Cert.RefRmsBwdIdeal.S4096x1 ![0] Cert.RefRmsBwdIdeal.Facts₀.bcast_S4096_S4096x1_0 (Host.reduceAdd (mulf x x) (constant Cert.RefRmsBwdIdeal.S_ .f32 0x00000000#32) Cert.RefRmsBwdIdeal.Facts₀.reducesTo_S4096x1024_S4096_d1 Cert.RefRmsBwdIdeal.Facts₀.h_S_)) (broadcastInDim Cert.RefRmsBwdIdeal.S4096x1 ![] Cert.RefRmsBwdIdeal.Facts₀.bcast_S_S4096x1 (constant Cert.RefRmsBwdIdeal.S_ .f32 0x44800000#32))) (broadcastInDim Cert.RefRmsBwdIdeal.S4096x1 ![] Cert.RefRmsBwdIdeal.Facts₀.bcast_S_S4096x1 (constant Cert.RefRmsBwdIdeal.S_ .f32 0x358637BD#32))))))) (mulf x (broadcastInDim Cert.RefRmsBwdIdeal.S4096x1024 ![0] Cert.RefRmsBwdIdeal.Facts₀.bcast_S4096_S4096x1024_0 (Host.reduceAdd (Host.divf (mulf (shapeCast _ (Host.reduceAdd (mulf x (mulf u (broadcastInDim Cert.RefRmsBwdIdeal.S4096x1024 ![0, 1] Cert.RefRmsBwdIdeal.Facts₀.bcast_S1x1024_S4096x1024_0_1 (broadcastInDim Cert.RefRmsBwdIdeal.S1x1024 ![1] Cert.RefRmsBwdIdeal.Facts₀.bcast_S1024_S1x1024_1 g)))) (constant Cert.RefRmsBwdIdeal.S_ .f32 0x00000000#32) Cert.RefRmsBwdIdeal.Facts₀.reducesTo_S4096x1024_S4096_d1 Cert.RefRmsBwdIdeal.Facts₀.h_S_) Cert.RefRmsBwdIdeal.Facts₀.shapeCasts_S4096_S4096x1) (mulf (broadcastInDim Cert.RefRmsBwdIdeal.S4096x1 ![] Cert.RefRmsBwdIdeal.Facts₀.bcast_S_S4096x1 (constant Cert.RefRmsBwdIdeal.S_ .f32 0xBF000000#32)) (Host.divf (Host.rsqrt (addf (Host.divf (broadcastInDim Cert.RefRmsBwdIdeal.S4096x1 ![0] Cert.RefRmsBwdIdeal.Facts₀.bcast_S4096_S4096x1_0 (Host.reduceAdd (mulf x x) (constant Cert.RefRmsBwdIdeal.S_ .f32 0x00000000#32) Cert.RefRmsBwdIdeal.Facts₀.reducesTo_S4096x1024_S4096_d1 Cert.RefRmsBwdIdeal.Facts₀.h_S_)) (broadcastInDim Cert.RefRmsBwdIdeal.S4096x1 ![] Cert.RefRmsBwdIdeal.Facts₀.bcast_S_S4096x1 (constant Cert.RefRmsBwdIdeal.S_ .f32 0x44800000#32))) (broadcastInDim Cert.RefRmsBwdIdeal.S4096x1 ![] Cert.RefRmsBwdIdeal.Facts₀.bcast_S_S4096x1 (constant Cert.RefRmsBwdIdeal.S_ .f32 0x358637BD#32)))) (addf (Host.divf (broadcastInDim Cert.RefRmsBwdIdeal.S4096x1 ![0] Cert.RefRmsBwdIdeal.Facts₀.bcast_S4096_S4096x1_0 (Host.reduceAdd (mulf x x) (constant Cert.RefRmsBwdIdeal.S_ .f32 0x00000000#32) Cert.RefRmsBwdIdeal.Facts₀.reducesTo_S4096x1024_S4096_d1 Cert.RefRmsBwdIdeal.Facts₀.h_S_)) (broadcastInDim Cert.RefRmsBwdIdeal.S4096x1 ![] Cert.RefRmsBwdIdeal.Facts₀.bcast_S_S4096x1 (constant Cert.RefRmsBwdIdeal.S_ .f32 0x44800000#32))) (broadcastInDim Cert.RefRmsBwdIdeal.S4096x1 ![] Cert.RefRmsBwdIdeal.Facts₀.bcast_S_S4096x1 (constant Cert.RefRmsBwdIdeal.S_ .f32 0x358637BD#32)))))) (broadcastInDim Cert.RefRmsBwdIdeal.S4096x1 ![] Cert.RefRmsBwdIdeal.Facts₀.bcast_S_S4096x1 (constant Cert.RefRmsBwdIdeal.S_ .f32 0x44800000#32))) (constant Cert.RefRmsBwdIdeal.S_ .f32 0x00000000#32) Cert.RefRmsBwdIdeal.Facts₀.reducesTo_S4096x1_S4096_d1 Cert.RefRmsBwdIdeal.Facts₀.h_S_)))) (mulf (broadcastInDim Cert.RefRmsBwdIdeal.S4096x1024 ![0] Cert.RefRmsBwdIdeal.Facts₀.bcast_S4096_S4096x1024_0 (Host.reduceAdd (Host.divf (mulf (shapeCast _ (Host.reduceAdd (mulf x (mulf u (broadcastInDim Cert.RefRmsBwdIdeal.S4096x1024 ![0, 1] Cert.RefRmsBwdIdeal.Facts₀.bcast_S1x1024_S4096x1024_0_1 (broadcastInDim Cert.RefRmsBwdIdeal.S1x1024 ![1] Cert.RefRmsBwdIdeal.Facts₀.bcast_S1024_S1x1024_1 g)))) (constant Cert.RefRmsBwdIdeal.S_ .f32 0x00000000#32) Cert.RefRmsBwdIdeal.Facts₀.reducesTo_S4096x1024_S4096_d1 Cert.RefRmsBwdIdeal.Facts₀.h_S_) Cert.RefRmsBwdIdeal.Facts₀.shapeCasts_S4096_S4096x1) (mulf (broadcastInDim Cert.RefRmsBwdIdeal.S4096x1 ![] Cert.RefRmsBwdIdeal.Facts₀.bcast_S_S4096x1 (constant Cert.RefRmsBwdIdeal.S_ .f32 0xBF000000#32)) (Host.divf (Host.rsqrt (addf (Host.divf (broadcastInDim Cert.RefRmsBwdIdeal.S4096x1 ![0] Cert.RefRmsBwdIdeal.Facts₀.bcast_S4096_S4096x1_0 (Host.reduceAdd (mulf x x) (constant Cert.RefRmsBwdIdeal.S_ .f32 0x00000000#32) Cert.RefRmsBwdIdeal.Facts₀.reducesTo_S4096x1024_S4096_d1 Cert.RefRmsBwdIdeal.Facts₀.h_S_)) (broadcastInDim Cert.RefRmsBwdIdeal.S4096x1 ![] Cert.RefRmsBwdIdeal.Facts₀.bcast_S_S4096x1 (constant Cert.RefRmsBwdIdeal.S_ .f32 0x44800000#32))) (broadcastInDim Cert.RefRmsBwdIdeal.S4096x1 ![] Cert.RefRmsBwdIdeal.Facts₀.bcast_S_S4096x1 (constant Cert.RefRmsBwdIdeal.S_ .f32 0x358637BD#32)))) (addf (Host.divf (broadcastInDim Cert.RefRmsBwdIdeal.S4096x1 ![0] Cert.RefRmsBwdIdeal.Facts₀.bcast_S4096_S4096x1_0 (Host.reduceAdd (mulf x x) (constant Cert.RefRmsBwdIdeal.S_ .f32 0x00000000#32) Cert.RefRmsBwdIdeal.Facts₀.reducesTo_S4096x1024_S4096_d1 Cert.RefRmsBwdIdeal.Facts₀.h_S_)) (broadcastInDim Cert.RefRmsBwdIdeal.S4096x1 ![] Cert.RefRmsBwdIdeal.Facts₀.bcast_S_S4096x1 (constant Cert.RefRmsBwdIdeal.S_ .f32 0x44800000#32))) (broadcastInDim Cert.RefRmsBwdIdeal.S4096x1 ![] Cert.RefRmsBwdIdeal.Facts₀.bcast_S_S4096x1 (constant Cert.RefRmsBwdIdeal.S_ .f32 0x358637BD#32)))))) (broadcastInDim Cert.RefRmsBwdIdeal.S4096x1 ![] Cert.RefRmsBwdIdeal.Facts₀.bcast_S_S4096x1 (constant Cert.RefRmsBwdIdeal.S_ .f32 0x44800000#32))) (constant Cert.RefRmsBwdIdeal.S_ .f32 0x00000000#32) Cert.RefRmsBwdIdeal.Facts₀.reducesTo_S4096x1_S4096_d1 Cert.RefRmsBwdIdeal.Facts₀.h_S_)) x) = fun i => value x g u d (i 0).val (i 1) := by
  funext i
  obtain ⟨a, b, rfl⟩ := ix2_of i
  refine (ref_rows x g u d a b).trans ?_
  show _ = value x g u d a.val b
  unfold value slope
  rw [← row_eq x a, ← row_eq u a, ← row_eq d a]
  beta_reduce
  ac_rfl

theorem reference_gain [Cert.RefRmsBwdIdeal.Facts₀] (x : FVec Ideal Cert.RefRmsBwdIdeal.S4096x1024 .f32) (u : FVec Ideal Cert.RefRmsBwdIdeal.S4096x1024 .f32) :
    shapeCast _ (Host.reduceAdd (shapeCast _ (Host.reduceAdd (mulf (mulf x (broadcastInDim Cert.RefRmsBwdIdeal.S4096x1024 ![0, 1] Cert.RefRmsBwdIdeal.Facts₀.bcast_S4096x1_S4096x1024_0_1 (Host.rsqrt (addf (Host.divf (broadcastInDim Cert.RefRmsBwdIdeal.S4096x1 ![0] Cert.RefRmsBwdIdeal.Facts₀.bcast_S4096_S4096x1_0 (Host.reduceAdd (mulf x x) (constant Cert.RefRmsBwdIdeal.S_ .f32 0x00000000#32) Cert.RefRmsBwdIdeal.Facts₀.reducesTo_S4096x1024_S4096_d1 Cert.RefRmsBwdIdeal.Facts₀.h_S_)) (broadcastInDim Cert.RefRmsBwdIdeal.S4096x1 ![] Cert.RefRmsBwdIdeal.Facts₀.bcast_S_S4096x1 (constant Cert.RefRmsBwdIdeal.S_ .f32 0x44800000#32))) (broadcastInDim Cert.RefRmsBwdIdeal.S4096x1 ![] Cert.RefRmsBwdIdeal.Facts₀.bcast_S_S4096x1 (constant Cert.RefRmsBwdIdeal.S_ .f32 0x358637BD#32)))))) u) (constant Cert.RefRmsBwdIdeal.S_ .f32 0x00000000#32) Cert.RefRmsBwdIdeal.Facts₀.reducesTo_S4096x1024_S1024_d0 Cert.RefRmsBwdIdeal.Facts₀.h_S_) Cert.RefRmsBwdIdeal.Facts₀.shapeCasts_S1024_S1x1024) (constant Cert.RefRmsBwdIdeal.S_ .f32 0x00000000#32) Cert.RefRmsBwdIdeal.Facts₀.reducesTo_S1x1024_S1024_d0 Cert.RefRmsBwdIdeal.Facts₀.h_S_) Cert.RefRmsBwdIdeal.Facts₀.shapeCasts_S1024_S1x1024 = fun i => ∑ r ∈ Finset.range 4096, weigh (row x r) (row u r) (i 1) := by
  funext i
  obtain ⟨a, b, rfl⟩ := ix2_of i
  obtain rfl : a = 0 := Subsingleton.elim _ _
  refine (ref_gain x u b).trans ?_
  rw [Finset.sum_range]
  exact Finset.sum_congr rfl fun a _ => by rw [row_eq x a, row_eq u a]; rfl

end

end Cert.RmsBwdValue

end
-- ==== Proof.LnSiluRef.lean ====
/-
  The gradient of a layer norm followed by its gate, row by row: what it is, and that the reference holds it.
-/
module

public import proofs.«01_k».proof.Proof.Gen.RefLnSiluBwdIdeal.Run
public import proofs.«01_k».proof.Proof.Rows
public import proofs.«01_k».proof.Defs

@[expose] public section

set_option maxRecDepth 16384

noncomputable section

namespace Cert.LnSiluBwdValue

open Cert.Lift Cert.Blocked Cert.Rows
open Idealize.ShloMosaic Idealize.ShloMosaic.TcCoe Idealize.ShloMosaic.Tactic Idealize.SL.Sem

/-! ## One row -/

section
variable (x g b d : Fin 1024 → EReal) (k : Fin 1024)

/-- The mean over a row. -/
def mean (x : Fin 1024 → EReal) : EReal := Ideal.div (∑ k, x k) (Ideal.ofBits .f32 0x44800000#32)

/-- An entry less its row's mean. -/
def centre : EReal := x k - mean x

/-- The row's mean square about its mean, and the small number. -/
def spread : EReal := Ideal.div (∑ k, centre x k * centre x k) (Ideal.ofBits .f32 0x44800000#32) + Ideal.ofBits .f32 0x358637BD#32

/-- The normed entry. -/
def normed : EReal := centre x k * Ideal.rsqrt (spread x)

/-- The normed entry with gain and offset. -/
def affine : EReal := normed x k * g k + b k

/-- The gradient behind the gate. -/
def behind : EReal :=
  d k * Ideal.logistic (affine x g b k)
    + affine x g b k * d k * (Ideal.logistic (affine x g b k) * (1 - Ideal.logistic (affine x g b k)))

/-- The gradient at the mean square, shared out to the row's columns. -/
def share : EReal :=
  Ideal.div ((∑ k, centre x k * (behind x g b d k * g k)) * (Ideal.ofBits .f32 0xBF000000#32 * Ideal.div (Ideal.rsqrt (spread x)) (spread x)))
    (Ideal.ofBits .f32 0x44800000#32)

/-- The gradient at a centred entry. -/
def central : EReal :=
  behind x g b d k * g k * Ideal.rsqrt (spread x) + centre x k * share x g b d + share x g b d * centre x k

/-- The gradient at an entry. -/
def slope : EReal := central x g b d k + mean fun k => -central x g b d k

end

/-! ## The reference -/

section
open Cert.RefLnSiluBwdIdeal Cert.RefLnSiluBwdIdeal.Gen
variable [Cert.RefLnSiluBwdIdeal.Facts₀] (X : FVec Ideal S4096x1024 .f32) (G B : FVec Ideal S1024 .f32) (D : FVec Ideal S4096x1024 .f32)

def means (X : FVec Ideal S4096x1024 .f32) : FVec Ideal S4096x1 .f32 :=
  Host.divf (broadcastInDim S4096x1 ![0] bcast_S4096_S4096x1_0 (Host.reduceAdd X (constant S_ .f32 0x00000000#32) reducesTo_S4096x1024_S4096_d1 h_S_)) (broadcastInDim S4096x1 ![] bcast_S_S4096x1 (constant S_ .f32 0x44800000#32))

def centres : FVec Ideal S4096x1024 .f32 := subf X (broadcastInDim S4096x1024 ![0, 1] bcast_S4096x1_S4096x1024_0_1 (means X))

def spreads : FVec Ideal S4096x1 .f32 :=
  addf (means (mulf (centres X) (centres X))) (broadcastInDim S4096x1 ![] bcast_S_S4096x1 (constant S_ .f32 0x358637BD#32))

def normeds : FVec Ideal S4096x1024 .f32 :=
  mulf (centres X) (broadcastInDim S4096x1024 ![0, 1] bcast_S4096x1_S4096x1024_0_1 (Host.rsqrt (spreads X)))

def affines : FVec Ideal S4096x1024 .f32 :=
  addf (mulf (normeds X) (broadcastInDim S4096x1024 ![0, 1] bcast_S1x1024_S4096x1024_0_1 (broadcastInDim S1x1024 ![1] bcast_S1024_S1x1024_1 G)))
    (broadcastInDim S4096x1024 ![0, 1] bcast_S1x1024_S4096x1024_0_1 (broadcastInDim S1x1024 ![1] bcast_S1024_S1x1024_1 B))

def ones : FVec Ideal S4096x1024 .f32 := broadcastInDim S4096x1024 ![] bcast_S_S4096x1024 (constant S_ .f32 0x3F800000#32)

def gates : FVec Ideal S4096x1024 .f32 := Host.divf ones (addf ones (Host.exp (Host.negf (affines X G B))))

def behinds : FVec Ideal S4096x1024 .f32 :=
  addf (mulf D (gates X G B)) (mulf (mulf (affines X G B) D) (mulf (gates X G B) (subf ones (gates X G B))))

def gained : FVec Ideal S4096x1024 .f32 :=
  mulf (behinds X G B D) (broadcastInDim S4096x1024 ![0, 1] bcast_S1x1024_S4096x1024_0_1 (broadcastInDim S1x1024 ![1] bcast_S1024_S1x1024_1 G))

def shares : FVec Ideal S4096x1024 .f32 :=
  broadcastInDim S4096x1024 ![0] bcast_S4096_S4096x1024_0 (Host.reduceAdd (Host.divf (mulf (shapeCast S4096x1 (Host.reduceAdd (mulf (centres X) (gained X G B D)) (constant S_ .f32 0x00000000#32) reducesTo_S4096x1024_S4096_d1 h_S_) shapeCasts_S4096_S4096x1)
    (mulf (broadcastInDim S4096x1 ![] bcast_S_S4096x1 (constant S_ .f32 0xBF000000#32)) (Host.divf (Host.rsqrt (spreads X)) (spreads X))))
    (broadcastInDim S4096x1 ![] bcast_S_S4096x1 (constant S_ .f32 0x44800000#32))) (constant S_ .f32 0x00000000#32) reducesTo_S4096x1_S4096_d1 h_S_)

def centrals : FVec Ideal S4096x1024 .f32 :=
  addf (addf (mulf (gained X G B D) (broadcastInDim S4096x1024 ![0, 1] bcast_S4096x1_S4096x1024_0_1 (Host.rsqrt (spreads X)))) (mulf (centres X) (shares X G B D)))
    (mulf (shares X G B D) (centres X))

def slopes : FVec Ideal S4096x1024 .f32 :=
  addf (centrals X G B D) (broadcastInDim S4096x1024 ![0] bcast_S4096_S4096x1024_0 (Host.reduceAdd (Host.divf (shapeCast S4096x1 (Host.reduceAdd (Host.negf (centrals X G B D)) (constant S_ .f32 0x00000000#32) reducesTo_S4096x1024_S4096_d1 h_S_) shapeCasts_S4096_S4096x1)
    (broadcastInDim S4096x1 ![] bcast_S_S4096x1 (constant S_ .f32 0x44800000#32))) (constant S_ .f32 0x00000000#32) reducesTo_S4096x1_S4096_d1 h_S_))

/-- The sum over all rows, in the reference's two steps. -/
def columns (Z : FVec Ideal S4096x1024 .f32) : FVec Ideal S1x1024 .f32 :=
  shapeCast S1x1024 (Host.reduceAdd (shapeCast S1x1024 (Host.reduceAdd Z (constant S_ .f32 0x00000000#32) reducesTo_S4096x1024_S1024_d0 h_S_) shapeCasts_S1024_S1x1024) (constant S_ .f32 0x00000000#32) reducesTo_S1x1024_S1024_d0 h_S_) shapeCasts_S1024_S1x1024

theorem columns_at (Z : FVec Ideal S4096x1024 .f32) (b : Fin 1024) : columns Z (ix2 0 b) = ∑ a : Fin 4096, (Z (ix2 a b) : EReal) := by
  unfold columns; pointwise
  simp only [Finset.univ_unique, Finset.sum_singleton]

variable (a : Fin 4096) (k : Fin 1024)

theorem means_at (X : FVec Ideal S4096x1024 .f32) : means X (ix2 a 0) = mean fun k => X (ix2 a k) := by
  unfold means mean; pointwise

theorem centres_at : centres X (ix2 a k) = centre (fun k => X (ix2 a k)) k := by
  unfold centres centre; rw [← means_at]; pointwise

theorem spreads_at : spreads X (ix2 a 0) = spread fun k => X (ix2 a k) := by
  unfold spreads spread; simp only [← centres_at]; unfold means; pointwise

theorem normeds_at : normeds X (ix2 a k) = normed (fun k => X (ix2 a k)) k := by
  unfold normeds normed; rw [← centres_at, ← spreads_at]; pointwise

theorem affines_at : affines X G B (ix2 a k) = affine (fun k => X (ix2 a k)) (fun k => G (ix1 k)) (fun k => B (ix1 k)) k := by
  unfold affines affine; rw [← normeds_at]; pointwise

theorem gates_at : gates X G B (ix2 a k) = Ideal.logistic (affine (fun k => X (ix2 a k)) (fun k => G (ix1 k)) (fun k => B (ix1 k)) k) := by
  rw [← affines_at]; unfold gates ones; pointwise; rfl

theorem behinds_at : behinds X G B D (ix2 a k) = behind (fun k => X (ix2 a k)) (fun k => G (ix1 k)) (fun k => B (ix1 k)) (fun k => D (ix2 a k)) k := by
  unfold behinds behind; rw [← gates_at, ← affines_at]; unfold ones; pointwise

theorem gained_at : gained X G B D (ix2 a k) = behind (fun k => X (ix2 a k)) (fun k => G (ix1 k)) (fun k => B (ix1 k)) (fun k => D (ix2 a k)) k * G (ix1 k) := by
  rw [← behinds_at]; unfold gained; pointwise

theorem shares_at : shares X G B D (ix2 a k) = share (fun k => X (ix2 a k)) (fun k => G (ix1 k)) (fun k => B (ix1 k)) (fun k => D (ix2 a k)) := by
  unfold share; rw [← spreads_at]; simp only [← gained_at, ← centres_at]
  unfold shares; pointwise
  simp only [Finset.univ_unique, Finset.sum_singleton]
  rfl

theorem centrals_at : centrals X G B D (ix2 a k) = central (fun k => X (ix2 a k)) (fun k => G (ix1 k)) (fun k => B (ix1 k)) (fun k => D (ix2 a k)) k := by
  unfold central; rw [← spreads_at, ← shares_at (k := k), ← gained_at, ← centres_at]
  unfold centrals; pointwise

theorem slopes_at : slopes X G B D (ix2 a k) = slope (fun k => X (ix2 a k)) (fun k => G (ix1 k)) (fun k => B (ix1 k)) (fun k => D (ix2 a k)) k := by
  unfold slope mean; simp only [← centrals_at]
  unfold slopes; pointwise
  simp only [Finset.univ_unique, Finset.sum_singleton]

end

/-! ## What the call leaves -/

section
variable (X D : FVec Ideal ⟨2, ![4096, 1024]⟩ .f32) (G B : FVec Ideal ⟨1, ![1024]⟩ .f32)

/-- The gradient behind the gate, at a row of the whole array. -/
def rowBehind (r : ℕ) (k : Fin 1024) : EReal := behind (row X r) (fun k => G (ix1 k)) (fun k => B (ix1 k)) (row D r) k

def whole : FVec Ideal ⟨2, ![4096, 1024]⟩ .f32 := fun i => slope (row X (i 0).val) (fun k => G (ix1 k)) (fun k => B (ix1 k)) (row D (i 0).val) (i 1)

def wholeG : FVec Ideal ⟨2, ![1, 1024]⟩ .f32 := fun i => ∑ r ∈ Finset.range 4096, normed (row X r) (i 1) * rowBehind X D G B r (i 1)

def wholeB : FVec Ideal ⟨2, ![1, 1024]⟩ .f32 := fun i => ∑ r ∈ Finset.range 4096, rowBehind X D G B r (i 1)

end

section
open Cert.RefLnSiluBwdIdeal Cert.RefLnSiluBwdIdeal.Value
variable [Cert.RefLnSiluBwdIdeal.Facts₀] (m : (ℓ : Loc nD τ sig) → Buf (Elt Ideal) ℓ) (c : Dev nD)

abbrev rX : FVec Ideal S4096x1024 .f32 := m ((c : Thread nD τ).loc main_arg0)
abbrev rG : FVec Ideal S1024 .f32 := m ((c : Thread nD τ).loc main_arg1)
abbrev rB : FVec Ideal S1024 .f32 := m ((c : Thread nD τ).loc main_arg2)
abbrev rD : FVec Ideal S4096x1024 .f32 := m ((c : Thread nD τ).loc main_arg3)

theorem reference : res_main_v57 m c = whole (rX m c) (rD m c) (rG m c) (rB m c) := by
  refine Eq.trans (show res_main_v57 m c = slopes (rX m c) (rG m c) (rB m c) (rD m c) from rfl) ?_
  funext i
  obtain ⟨a, b, rfl⟩ := ix2_of i
  refine (slopes_at _ _ _ _ a b).trans ?_
  rw [row_eq (rX m c) a, row_eq (rD m c) a]
  rfl

theorem reference_gain : res_main_v58 m c = wholeG (rX m c) (rD m c) (rG m c) (rB m c) := by
  refine Eq.trans (show res_main_v58 m c = columns (mulf (normeds (rX m c)) (behinds (rX m c) (rG m c) (rB m c) (rD m c))) from rfl) ?_
  funext i
  obtain ⟨a, b, rfl⟩ := ix2_of i
  obtain rfl : a = 0 := Subsingleton.elim _ _
  rw [columns_at]
  unfold wholeG rowBehind
  rw [Finset.sum_range]
  refine Finset.sum_congr rfl fun a _ => ?_
  rw [← row_eq (rX m c) a, ← row_eq (rD m c) a]
  show _ = normed _ b * behind _ _ _ _ b
  rw [← normeds_at, ← behinds_at]
  rfl

theorem reference_offset : res_main_v59 m c = wholeB (rX m c) (rD m c) (rG m c) (rB m c) := by
  refine Eq.trans (show res_main_v59 m c = columns (behinds (rX m c) (rG m c) (rB m c) (rD m c)) from rfl) ?_
  funext i
  obtain ⟨a, b, rfl⟩ := ix2_of i
  obtain rfl : a = 0 := Subsingleton.elim _ _
  rw [columns_at]
  unfold wholeB rowBehind
  rw [Finset.sum_range]
  refine Finset.sum_congr rfl fun a _ => ?_
  rw [← row_eq (rX m c) a, ← row_eq (rD m c) a]
  exact behinds_at _ _ _ _ a b

end

end Cert.LnSiluBwdValue

end
-- ==== Proof.LnSiluBwd.lean ====
/-
  The gradient of a layer norm followed by its gate: what the kernel leaves, row by row for the rows, and summed over all rows
  for the gain and the offset.
-/
module

public import proofs.«01_k».proof.Proof.Gen.LnSiluBwdIdeal.Value
public import proofs.«01_k».proof.Proof.LnSiluRef

@[expose] public section

set_option maxRecDepth 16384

noncomputable section

namespace Cert.LnSiluBwdValue

open Cert.Lift Cert.Blocked Cert.Rows Cert.LnSiluBwdIdeal Cert.LnSiluBwdIdeal.Gen Cert.LnSiluBwdIdeal.Value
open Idealize.ShloMosaic Idealize.ShloMosaic.TcCoe Idealize.ShloMosaic.Tactic Idealize.SL.Sem

/-! ## What the body leaves at one point -/

section
variable {F : FTy → Type} [FloatOps F] (c : Dev nD) (i : grid0.Coords)
  (a1 : Memref sig .tc .vmem S256x1024 .f32) (h1 : a1.IsWhole)
  (a2 : Memref sig .tc .vmem S1x1024 .f32) (h2 : a2.IsWhole)
  (a3 : Memref sig .tc .vmem S1x1024 .f32) (h3 : a3.IsWhole)
  (a4 : Memref sig .tc .vmem S256x1024 .f32) (h4 : a4.IsWhole)
  (a5 : Memref sig .tc .vmem S256x1024 .f32) (h5 : a5.IsWhole)
  (a6 : Memref sig .tc .vmem S1x1024 .f32) (h6 : a6.IsWhole)
  (a7 : Memref sig .tc .vmem S1x1024 .f32) (h7 : a7.IsWhole)
  (x : Vec F S256x1024 .f32) (g b : Vec F S1x1024 .f32) (d : Vec F S256x1024 .f32) (s s' : Vec F S1x1024 .f32)

theorem out4_A (hc0 : cond0_0 i) : out0_A_4 c i a1 h1 a2 h2 a3 h3 a4 h4 a5 h5 a6 h6 a7 h7 hc0 x g b d = k0_pay10 (k0_pay1 g) (k0_pay2 x) (k0_pay4 x) (k0_pay5 x) (k0_pay7 x g b d) := by
  unfold out0_A_4
  rw [View.read_writes_eq_canon _ _ _ (cover0_A_4 c i a1 h1 a2 h2 a3 h3 a4 h4 a5 h5 a6 h6 a7 h7 hc0 x g b d)]
  unfold kernelRun0_A
  dsimp only
  sl_unfold_words
  rw [View.canon_unit_zero origin]
  simp only [View.readAt_eq_ld, h1.read_unread, h2.read_unread, h3.read_unread, h4.read_unread, View.ld_unit_zero (S := S256x1024) origin, View.ld_unit_zero (S := S1x1024) origin]

theorem out5_A (hc0 : cond0_0 i) : out0_A_5 c i a1 h1 a2 h2 a3 h3 a4 h4 a5 h5 a6 h6 a7 h7 hc0 x g b d = k0_pay13 (k0_pay9 x g b d) k0_pay11 := by
  unfold out0_A_5
  rw [View.read_writes_eq_canon _ _ _ (cover0_A_5 c i a1 h1 a2 h2 a3 h3 a4 h4 a5 h5 a6 h6 a7 h7 hc0 x g b d)]
  unfold kernelRun0_A
  dsimp only
  sl_unfold_words
  rw [View.canon_cons_unit_zero (S := S1x1024) origin, View.readCov_unit_zero (S := S1x1024) _ origin]
  simp only [View.readAt_eq_ld, h1.read_unread, h2.read_unread, h3.read_unread, h4.read_unread, View.ld_unit_zero (S := S256x1024) origin, View.ld_unit_zero (S := S1x1024) origin]

theorem out6_A (hc0 : cond0_0 i) : out0_A_6 c i a1 h1 a2 h2 a3 h3 a4 h4 a5 h5 a6 h6 a7 h7 hc0 x g b d = k0_pay14 (k0_pay8 x g b d) k0_pay12 := by
  unfold out0_A_6
  rw [View.read_writes_eq_canon _ _ _ (cover0_A_6 c i a1 h1 a2 h2 a3 h3 a4 h4 a5 h5 a6 h6 a7 h7 hc0 x g b d)]
  unfold kernelRun0_A
  dsimp only
  sl_unfold_words
  rw [View.canon_cons_unit_zero (S := S1x1024) origin, View.readCov_unit_zero (S := S1x1024) _ origin]
  simp only [View.readAt_eq_ld, h1.read_unread, h2.read_unread, h3.read_unread, h4.read_unread, View.ld_unit_zero (S := S256x1024) origin, View.ld_unit_zero (S := S1x1024) origin]

theorem out4_B (hc0 : ¬cond0_0 i) : out0_B_4 c i a1 h1 a2 h2 a3 h3 a4 h4 a5 h5 a6 h6 a7 h7 hc0 x g b d s s' = k0_pay10 (k0_pay1 g) (k0_pay2 x) (k0_pay4 x) (k0_pay5 x) (k0_pay7 x g b d) := by
  unfold out0_B_4
  rw [View.read_writes_eq_canon _ _ _ (cover0_B_4 c i a1 h1 a2 h2 a3 h3 a4 h4 a5 h5 a6 h6 a7 h7 hc0 x g b d s s')]
  unfold kernelRun0_B
  dsimp only
  sl_unfold_words
  rw [View.canon_unit_zero origin]
  simp only [View.readAt_eq_ld, h1.read_unread, h2.read_unread, h3.read_unread, h4.read_unread, View.ld_unit_zero (S := S256x1024) origin, View.ld_unit_zero (S := S1x1024) origin]

theorem out5_B (hc0 : ¬cond0_0 i) : out0_B_5 c i a1 h1 a2 h2 a3 h3 a4 h4 a5 h5 a6 h6 a7 h7 hc0 x g b d s s' = k0_pay13 (k0_pay9 x g b d) s := by
  unfold out0_B_5
  rw [View.read_writes_eq_canon _ _ _ (cover0_B_5 c i a1 h1 a2 h2 a3 h3 a4 h4 a5 h5 a6 h6 a7 h7 hc0 x g b d s s')]
  unfold kernelRun0_B
  dsimp only
  sl_unfold_words
  rw [View.canon_unit_zero origin]
  simp only [View.readAt_eq_ld, h1.read_unread, h2.read_unread, h3.read_unread, h4.read_unread, h6.read_unread, View.ld_unit_zero (S := S256x1024) origin, View.ld_unit_zero (S := S1x1024) origin]

theorem out6_B (hc0 : ¬cond0_0 i) : out0_B_6 c i a1 h1 a2 h2 a3 h3 a4 h4 a5 h5 a6 h6 a7 h7 hc0 x g b d s s' = k0_pay14 (k0_pay8 x g b d) s' := by
  unfold out0_B_6
  rw [View.read_writes_eq_canon _ _ _ (cover0_B_6 c i a1 h1 a2 h2 a3 h3 a4 h4 a5 h5 a6 h6 a7 h7 hc0 x g b d s s')]
  unfold kernelRun0_B
  dsimp only
  sl_unfold_words
  rw [View.canon_unit_zero origin]
  simp only [View.readAt_eq_ld, h1.read_unread, h2.read_unread, h3.read_unread, h4.read_unread, h7.read_unread, View.ld_unit_zero (S := S256x1024) origin, View.ld_unit_zero (S := S1x1024) origin]

end

/-! ## One entry of a tile -/

section
variable (x : FVec Ideal S256x1024 .f32) (g b : FVec Ideal S1x1024 .f32) (d : FVec Ideal S256x1024 .f32) (s : FVec Ideal S1x1024 .f32)
  (a : Fin 256) (k : Fin 1024)

theorem centre_at : k0_pay2 (F := Ideal) x (ix2 a k) = centre (fun k => x (ix2 a k)) k := by
  unfold k0_pay2 centre mean; pointwise

theorem spread_at : k0_pay3 (F := Ideal) x (ix2 a 0) = spread fun k => x (ix2 a k) := by
  unfold k0_pay3 spread; simp only [← centre_at]; pointwise

theorem root_at : k0_pay4 (F := Ideal) x (ix2 a 0) = Ideal.rsqrt (spread fun k => x (ix2 a k)) := by
  rw [← spread_at]; unfold k0_pay4; pointwise

theorem half_at : k0_pay5 (F := Ideal) x (ix2 a 0)
    = Ideal.ofBits .f32 0xBF000000#32 * Ideal.div (Ideal.rsqrt (spread fun k => x (ix2 a k))) (spread fun k => x (ix2 a k)) := by
  rw [← root_at, ← spread_at]; unfold k0_pay5; pointwise

theorem normed_at : k0_pay6 (F := Ideal) x (ix2 a k) = normed (fun k => x (ix2 a k)) k := by
  unfold normed; rw [← centre_at, ← root_at]; unfold k0_pay6; pointwise

theorem behind_at : k0_pay7 (F := Ideal) x g b d (ix2 a k)
    = behind (fun k => x (ix2 a k)) (fun k => g (ix2 0 k)) (fun k => b (ix2 0 k)) (fun k => d (ix2 a k)) k := by
  unfold behind affine; rw [← normed_at]; unfold k0_pay7 k0_pay1; simp only [shapeCast_self]; pointwise

theorem slope_at : k0_pay10 (F := Ideal) (k0_pay1 g) (k0_pay2 x) (k0_pay4 x) (k0_pay5 x) (k0_pay7 x g b d) (ix2 a k)
    = slope (fun k => x (ix2 a k)) (fun k => g (ix2 0 k)) (fun k => b (ix2 0 k)) (fun k => d (ix2 a k)) k := by
  unfold slope central share mean
  rw [← half_at, ← root_at]
  simp only [← behind_at, ← centre_at]
  unfold k0_pay10 k0_pay1; simp only [shapeCast_self]
  generalize k0_pay2 (F := Ideal) x = u, k0_pay4 (F := Ideal) x = v, k0_pay5 (F := Ideal) x = w, k0_pay7 (F := Ideal) x g b d = z
  pointwise
  simp only [Finset.univ_unique, Finset.sum_singleton, sub_eq_add_neg, zero_add]
  rfl

theorem sum_gain : k0_pay13 (F := Ideal) (k0_pay9 x g b d) s (ix2 0 k) = s (ix2 0 k) + ∑ a : Fin 256, normed (fun k => x (ix2 a k)) k
    * behind (fun k => x (ix2 a k)) (fun k => g (ix2 0 k)) (fun k => b (ix2 0 k)) (fun k => d (ix2 a k)) k := by
  simp only [← behind_at, ← normed_at]
  unfold k0_pay13 k0_pay9; simp only [shapeCast_self]; pointwise

theorem sum_offset : k0_pay14 (F := Ideal) (k0_pay8 x g b d) s (ix2 0 k) = s (ix2 0 k) + ∑ a : Fin 256,
    behind (fun k => x (ix2 a k)) (fun k => g (ix2 0 k)) (fun k => b (ix2 0 k)) (fun k => d (ix2 a k)) k := by
  simp only [← behind_at]
  unfold k0_pay14 k0_pay8; simp only [shapeCast_self]; pointwise

theorem zero_gain : k0_pay11 (F := Ideal) (ix2 0 k) = (0 : EReal) := by
  unfold k0_pay11; pointwise

theorem zero_offset : k0_pay12 (F := Ideal) (ix2 0 k) = (0 : EReal) := by
  unfold k0_pay12; pointwise

end

/-! ## The blocks -/

section
variable (m : (ℓ : Loc nD τ sig) → Buf (Elt Ideal) ℓ) (c : Dev nD)

abbrev X : FVec Ideal ⟨2, ![4096, 1024]⟩ .f32 := m ((c : Thread nD τ).loc main_arg0)
abbrev G : FVec Ideal ⟨1, ![1024]⟩ .f32 := m ((c : Thread nD τ).loc main_arg1)
abbrev B : FVec Ideal ⟨1, ![1024]⟩ .f32 := m ((c : Thread nD τ).loc main_arg2)
abbrev D : FVec Ideal ⟨2, ![4096, 1024]⟩ .f32 := m ((c : Thread nD τ).loc main_arg3)

theorem at0 : ∀ t : Fin grid0.N, win0_0.index t 0 = t.val ∧ win0_0.index t 1 = 0 := by decide +kernel
theorem at1 : ∀ t : Fin grid0.N, win0_1.index t 0 = 0 ∧ win0_1.index t 1 = 0 := by decide +kernel
theorem at2 : ∀ t : Fin grid0.N, win0_2.index t 0 = 0 ∧ win0_2.index t 1 = 0 := by decide +kernel
theorem at3 : ∀ t : Fin grid0.N, win0_3.index t 0 = t.val ∧ win0_3.index t 1 = 0 := by decide +kernel
theorem at4 : ∀ t : Fin grid0.N, win0_4.index t 0 = t.val ∧ win0_4.index t 1 = 0 := by decide +kernel
theorem at5 : ∀ t : Fin grid0.N, win0_5.index t 0 = 0 ∧ win0_5.index t 1 = 0 := by decide +kernel
theorem at6 : ∀ t : Fin grid0.N, win0_6.index t 0 = 0 ∧ win0_6.index t 1 = 0 := by decide +kernel

theorem rows (t : Fin cfg0.N) (a : Fin 256) (b : Fin 1024) :
    (iblk m c 0 t : FVec Ideal S256x1024 .f32) (ix2 a b) = row (X m c) (t.val * 256 + a.val) b := by
  unfold iblk; rw [View.read_apply]
  show X m c _ = _
  refine cell_eq _ _ ?_ ?_
  · show win0_0.index t 0 * 256 + 1 * a.val = _; rw [(at0 t).1, one_mul]
  · show win0_0.index t 1 * 1024 + 1 * b.val = _; rw [(at0 t).2]; omega

theorem given (t : Fin cfg0.N) (a : Fin 256) (b : Fin 1024) :
    (iblk m c 3 t : FVec Ideal S256x1024 .f32) (ix2 a b) = row (D m c) (t.val * 256 + a.val) b := by
  unfold iblk; rw [View.read_apply]
  show D m c _ = _
  refine cell_eq _ _ ?_ ?_
  · show win0_3.index t 0 * 256 + 1 * a.val = _; rw [(at3 t).1, one_mul]
  · show win0_3.index t 1 * 1024 + 1 * b.val = _; rw [(at3 t).2]; omega

theorem gain (t : Fin cfg0.N) (b : Fin 1024) : (iblk m c 1 t : FVec Ideal S1x1024 .f32) (ix2 0 b) = G m c (ix1 b) := by
  unfold iblk; rw [View.read_apply]
  show (shapeCast S1x1024 (G m c) shapeCasts_S1024_S1x1024 : FVec Ideal S1x1024 .f32) _ = _
  refine row_of_list _ _ _ ?_
  show win0_1.index t 1 * 1024 + 1 * b.val = _; rw [(at1 t).2]; omega

theorem offset (t : Fin cfg0.N) (b : Fin 1024) : (iblk m c 2 t : FVec Ideal S1x1024 .f32) (ix2 0 b) = B m c (ix1 b) := by
  unfold iblk; rw [View.read_apply]
  show (shapeCast S1x1024 (B m c) shapeCasts_S1024_S1x1024 : FVec Ideal S1x1024 .f32) _ = _
  refine row_of_list _ _ _ ?_
  show win0_2.index t 1 * 1024 + 1 * b.val = _; rw [(at2 t).2]; omega

theorem tile (t : Fin cfg0.N) (a : Fin 256) (b : Fin 1024) : (outsAt0 m c t.val t.isLt).1 (ix2 a b)
    = slope (row (X m c) (t.val * 256 + a.val)) (fun k => G m c (ix1 k)) (fun k => B m c (ix1 k)) (row (D m c) (t.val * 256 + a.val)) b := by
  have e : (outsAt0 m c t.val t.isLt).1 = k0_pay10 (k0_pay1 (iblk m c 1 t)) (k0_pay2 (iblk m c 0 t)) (k0_pay4 (iblk m c 0 t)) (k0_pay5 (iblk m c 0 t)) (k0_pay7 (iblk m c 0 t) (iblk m c 1 t) (iblk m c 2 t) (iblk m c 3 t)) := by
    by_cases h : t.val % 16 = 0
    · rw [outsAt0_A m c t h]; dsimp only; rw [out4_A]
    · rw [outsAt0_B m c t h]; dsimp only; rw [out4_B]
  rw [e, slope_at]
  simp only [rows, gain, offset, given]

theorem sums_gain : ∀ n (hn : n < cfg0.N) (b : Fin 1024), (outsAt0 m c n hn).2.1 (ix2 0 b)
    = ∑ r ∈ Finset.range ((n + 1) * 256), normed (row (X m c) r) b * rowBehind (X m c) (D m c) (G m c) (B m c) r b := fun n hn b => by
  refine tally (N := cfg0.N) (fun r => normed (row (X m c) r) b * rowBehind (X m c) (D m c) (G m c) (B m c) r b) (fun n hn => (outsAt0 m c n hn).2.1 (ix2 0 b)) (fun hn => ?_) (fun n hn => ?_) n hn
  · rw [outsAt0_A m c ⟨0, hn⟩ rfl]; dsimp only
    rw [out5_A, sum_gain, zero_gain, zero_add, Finset.sum_range]
    refine Finset.sum_congr rfl fun a _ => ?_
    unfold rowBehind
    simp only [rows, gain, offset, given, Nat.zero_mul, Nat.zero_add]
  · have hN : n + 1 < 16 := lt_of_lt_of_eq hn N_0
    rw [outsAt0_B m c ⟨n + 1, hn⟩ (by dsimp only; omega)]; dsimp only
    rw [out5_B, sum_gain, Finset.sum_range]
    refine congrArg₂ (· + ·) rfl (Finset.sum_congr rfl fun a _ => ?_)
    unfold rowBehind
    simp only [rows, gain, offset, given]

theorem sums_offset : ∀ n (hn : n < cfg0.N) (b : Fin 1024), (outsAt0 m c n hn).2.2 (ix2 0 b)
    = ∑ r ∈ Finset.range ((n + 1) * 256), rowBehind (X m c) (D m c) (G m c) (B m c) r b := fun n hn b => by
  refine tally (N := cfg0.N) (fun r => rowBehind (X m c) (D m c) (G m c) (B m c) r b) (fun n hn => (outsAt0 m c n hn).2.2 (ix2 0 b)) (fun hn => ?_) (fun n hn => ?_) n hn
  · rw [outsAt0_A m c ⟨0, hn⟩ rfl]; dsimp only
    rw [out6_A, sum_offset, zero_offset, zero_add, Finset.sum_range]
    refine Finset.sum_congr rfl fun a _ => ?_
    unfold rowBehind
    simp only [rows, gain, offset, given, Nat.zero_mul, Nat.zero_add]
  · have hN : n + 1 < 16 := lt_of_lt_of_eq hn N_0
    rw [outsAt0_B m c ⟨n + 1, hn⟩ (by dsimp only; omega)]; dsimp only
    rw [out6_B, sum_offset, Finset.sum_range]
    refine congrArg₂ (· + ·) rfl (Finset.sum_congr rfl fun a _ => ?_)
    unfold rowBehind
    simp only [rows, gain, offset, given]

theorem whole_at (i : (⟨2, ![4096, 1024]⟩ : Shape).Idx) {r : ℕ} {b : Fin 1024} (hr : (i 0).val = r) (hb : (i 1).val = b.val) :
    whole (X m c) (D m c) (G m c) (B m c) i = slope (row (X m c) r) (fun k => G m c (ix1 k)) (fun k => B m c (ix1 k)) (row (D m c) r) b := by
  subst hr
  exact congrArg (slope _ _ _ _) (Fin.ext hb)

theorem flushed_whole (t : Fin cfg0.N) (_ : (cfg0.win 4).flush t = true) :
    (dats m 0 c).flushed 4 t = ((cfg0.win 4).blk t).view.read (Elt Ideal) (whole (X m c) (D m c) (G m c) (B m c)) := by
  rw [flushed4]
  refine funext fun (j : (⟨2, ![256, 1024]⟩ : Shape).Idx) => ?_
  obtain ⟨a, b, rfl⟩ := ix2_of j
  rw [View.read_apply]
  refine (tile m c t a b).trans ?_
  refine (whole_at m c _ ?_ ?_).symm
  · show win0_4.index t 0 * 256 + 1 * a.val = _; rw [(at4 t).1, one_mul]
  · show win0_4.index t 1 * 1024 + 1 * b.val = _; rw [(at4 t).2]; omega

theorem result : (dats m 0 c).arrAt 4 cfg0.N = whole (X m c) (D m c) (G m c) (B m c) :=
  (dats m 0 c).arrAt_eq_of_cover 4 (whole (X m c) (D m c) (G m c) (B m c)) (flushed_whole m c) fun i => by
    have h0 : (i 0 : Nat) < 4096 := (i 0).isLt
    have h1 : (i 1 : Nat) < 1024 := (i 1).isLt
    refine ⟨⟨(i 0).val / 256, ?_⟩, flush0_4 _, ?_⟩
    · rw [show cfg0.N = 16 from N_0]; omega
    · generalize ht : (⟨(i 0).val / 256, _⟩ : Fin cfg0.N) = t
      have hv : t.val = (i 0).val / 256 := by rw [← ht]
      show i ∈ ((View.whole main_v2_0).slice (win0_4.rect t)).set
      rw [View.set_slice_whole, Rect.mem_set_unit]
      intro a
      match a with
      | ⟨0, _⟩ => show win0_4.index t 0 * 256 ≤ (i 0 : Nat) ∧ (i 0 : Nat) < win0_4.index t 0 * 256 + 256
                  rw [(at4 t).1]; omega
      | ⟨1, _⟩ => show win0_4.index t 1 * 1024 ≤ (i 1 : Nat) ∧ (i 1 : Nat) < win0_4.index t 1 * 1024 + 1024
                  rw [(at4 t).2]; omega

theorem wholeG_at (i : (⟨2, ![1, 1024]⟩ : Shape).Idx) {b : Fin 1024} (hb : (i 1).val = b.val) : wholeG (X m c) (D m c) (G m c) (B m c) i = wholeG (X m c) (D m c) (G m c) (B m c) (ix2 0 b) := by
  obtain ⟨a, b', rfl⟩ := ix2_of i
  obtain rfl : b' = b := Fin.ext hb
  rfl

theorem flushed_gain (t : Fin cfg0.N) (hf : (cfg0.win 5).flush t = true) :
    (dats m 0 c).flushed 5 t = ((cfg0.win 5).blk t).view.read (Elt Ideal) (wholeG (X m c) (D m c) (G m c) (B m c)) := by
  have h15 : t.val = 15 := by
    have h := (flush0_5 t).mp hf
    have hN : t.val < 16 := lt_of_lt_of_eq t.isLt N_0
    omega
  rw [flushed5]
  refine funext fun (j : (⟨2, ![1, 1024]⟩ : Shape).Idx) => ?_
  obtain ⟨a, b, rfl⟩ := ix2_of j
  obtain rfl : a = 0 := Subsingleton.elim _ _
  rw [View.read_apply]
  refine (sums_gain m c t.val t.isLt b).trans ?_
  rw [h15]
  refine Eq.trans ?_ (wholeG_at m c _ (b := b) ?_).symm
  · rfl
  · show win0_5.index t 1 * 1024 + 1 * b.val = _; rw [(at5 t).2]; omega

theorem result_gain : (dats m 0 c).arrAt 5 cfg0.N = wholeG (X m c) (D m c) (G m c) (B m c) :=
  (dats m 0 c).arrAt_eq_of_cover 5 (wholeG (X m c) (D m c) (G m c) (B m c)) (flushed_gain m c) fun i => by
    have h0 : (i 0 : Nat) < 1 := (i 0).isLt
    have h1 : (i 1 : Nat) < 1024 := (i 1).isLt
    refine ⟨⟨15, ?_⟩, (flush0_5 _).mpr rfl, ?_⟩
    · rw [show cfg0.N = 16 from N_0]; omega
    · generalize (⟨15, _⟩ : Fin cfg0.N) = t
      show i ∈ ((View.whole main_v2_1).slice (win0_5.rect t)).set
      rw [View.set_slice_whole, Rect.mem_set_unit]
      intro a
      match a with
      | ⟨0, _⟩ => show win0_5.index t 0 * 1 ≤ (i 0 : Nat) ∧ (i 0 : Nat) < win0_5.index t 0 * 1 + 1
                  rw [(at5 t).1]; omega
      | ⟨1, _⟩ => show win0_5.index t 1 * 1024 ≤ (i 1 : Nat) ∧ (i 1 : Nat) < win0_5.index t 1 * 1024 + 1024
                  rw [(at5 t).2]; omega

theorem wholeB_at (i : (⟨2, ![1, 1024]⟩ : Shape).Idx) {b : Fin 1024} (hb : (i 1).val = b.val) : wholeB (X m c) (D m c) (G m c) (B m c) i = wholeB (X m c) (D m c) (G m c) (B m c) (ix2 0 b) := by
  obtain ⟨a, b', rfl⟩ := ix2_of i
  obtain rfl : b' = b := Fin.ext hb
  rfl

theorem flushed_offset (t : Fin cfg0.N) (hf : (cfg0.win 6).flush t = true) :
    (dats m 0 c).flushed 6 t = ((cfg0.win 6).blk t).view.read (Elt Ideal) (wholeB (X m c) (D m c) (G m c) (B m c)) := by
  have h15 : t.val = 15 := by
    have h := (flush0_6 t).mp hf
    have hN : t.val < 16 := lt_of_lt_of_eq t.isLt N_0
    omega
  rw [flushed6]
  refine funext fun (j : (⟨2, ![1, 1024]⟩ : Shape).Idx) => ?_
  obtain ⟨a, b, rfl⟩ := ix2_of j
  obtain rfl : a = 0 := Subsingleton.elim _ _
  rw [View.read_apply]
  refine (sums_offset m c t.val t.isLt b).trans ?_
  rw [h15]
  refine Eq.trans ?_ (wholeB_at m c _ (b := b) ?_).symm
  · rfl
  · show win0_6.index t 1 * 1024 + 1 * b.val = _; rw [(at6 t).2]; omega

theorem result_offset : (dats m 0 c).arrAt 6 cfg0.N = wholeB (X m c) (D m c) (G m c) (B m c) :=
  (dats m 0 c).arrAt_eq_of_cover 6 (wholeB (X m c) (D m c) (G m c) (B m c)) (flushed_offset m c) fun i => by
    have h0 : (i 0 : Nat) < 1 := (i 0).isLt
    have h1 : (i 1 : Nat) < 1024 := (i 1).isLt
    refine ⟨⟨15, ?_⟩, (flush0_6 _).mpr rfl, ?_⟩
    · rw [show cfg0.N = 16 from N_0]; omega
    · generalize (⟨15, _⟩ : Fin cfg0.N) = t
      show i ∈ ((View.whole main_v2_2).slice (win0_6.rect t)).set
      rw [View.set_slice_whole, Rect.mem_set_unit]
      intro a
      match a with
      | ⟨0, _⟩ => show win0_6.index t 0 * 1 ≤ (i 0 : Nat) ∧ (i 0 : Nat) < win0_6.index t 0 * 1 + 1
                  rw [(at6 t).1]; omega
      | ⟨1, _⟩ => show win0_6.index t 1 * 1024 ≤ (i 1 : Nat) ∧ (i 1 : Nat) < win0_6.index t 1 * 1024 + 1024
                  rw [(at6 t).2]; omega

end

end Cert.LnSiluBwdValue

end
-- ==== Proof.SsdOutDw.lean ====
/-
  The gradient of the scan's output weights: the scan's rows against the gradient of the projection, the 4096 tokens summed in
  two blocks of 2048 in a scratch buffer.
-/
module

public import proofs.«01_k».proof.Proof.Gen.SsdOutDwIdeal.Value
public import proofs.«01_k».proof.Proof.Gen.RefSsdOutDwIdeal.Run
public import proofs.«01_k».proof.Proof.Blocked
public import proofs.«01_k».proof.Defs

@[expose] public section

set_option maxRecDepth 16384

noncomputable section

namespace Cert.SsdOutDwValue

open Cert.Lift Cert.Blocked Cert.SsdOutDwIdeal Cert.SsdOutDwIdeal.Gen Cert.SsdOutDwIdeal.Value
open Idealize.ShloMosaic Idealize.ShloMosaic.TcCoe Idealize.ShloMosaic.Tactic Idealize.SL.Sem

/-! ## What the body leaves at one point -/

section
variable {F : FTy → Type} [FloatOps F] (c : Dev nD) (i : grid0.Coords)
  (a3 : Memref sig .tc .vmem S2048x1024 .bf16) (h3 : a3.IsWhole) (a4 : Memref sig .tc .vmem S2048x1024 .bf16) (h4 : a4.IsWhole)
  (a5 : Memref sig .tc .vmem S1024x1024 .f32) (h5 : a5.IsWhole) (a6 : Memref sig .tc .vmem S1024x1024 .f32) (h6 : a6.IsWhole)
  (x : Vec F S2048x1024 .bf16) (y : Vec F S2048x1024 .bf16) (s : Vec F S1024x1024 .f32)

theorem first (hc0 : cond0_0 i) (hc1 : ¬cond0_1 i) (hc2 : ¬cond0_2 i) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero origin]
  unfold k0_pay2
  simp only [View.readAt_eq_ld, h3.read_unread, h4.read_unread, View.ld_unit_zero (S := S2048x1024) origin, shapeCast_self]

theorem last (hc0 : ¬cond0_0 i) (hc1 : ¬cond0_1 i) (hc2 : cond0_2 i) :
    out0_B_2 c i a3 h3 a4 h4 a5 h5 a6 h6 hc0 hc1 hc2 x y s = addf s (k0_pay1 x y) := by
  unfold out0_B_2
  rw [View.read_writes_eq_canon _ _ _ (cover0_B_2 c i a3 h3 a4 h4 a5 h5 a6 h6 hc0 hc1 hc2 x y s)]
  unfold kernelRun0_B
  dsimp only
  sl_unfold_words
  rw [View.canon_unit_zero origin]
  unfold k0_pay4
  simp only [View.readAt_eq_ld, h3.read_unread, h4.read_unread, h6.read_unread, View.ld_unit_zero (S := S2048x1024) origin, View.ld_unit_zero (S := S1024x1024) origin]

end

/-! ## One point's product -/

section
variable (m : (ℓ : Loc nD τ sig) → Buf (Elt Ideal) ℓ) (c : Dev nD)

abbrev A : FVec Ideal ⟨2, ![4096, 2048]⟩ .f32 := m ((c : Thread nD τ).loc main_arg0)
abbrev B : FVec Ideal ⟨2, ![4096, 1024]⟩ .f32 := m ((c : Thread nD τ).loc main_arg1)
/-- The products that entry `i`, `j` of the result sums. -/
abbrev term (i j k : ℕ) : EReal := cell (A m c) k i * cell (B m c) k j

theorem at0 : ∀ t : Fin grid0.N, win0_0.index t 0 = t.val % 2 ∧ win0_0.index t 1 = t.val / 2 := by decide +kernel
theorem at1 : ∀ t : Fin grid0.N, win0_1.index t 0 = t.val % 2 ∧ win0_1.index t 1 = 0 := by decide +kernel

theorem left (t : Fin cfg0.N) (a : Fin 2048) (b : Fin 1024) :
    (iblk m c 0 t : FVec Ideal S2048x1024 .bf16) (ix2 a b) = cell (A m c) (t.val % 2 * 2048 + a.val) (t.val / 2 * 1024 + b.val) := by
  unfold iblk; rw [View.read_apply]
  show A m c _ = _
  refine cell_eq _ _ ?_ ?_
  · show win0_0.index t 0 * 2048 + 1 * a.val = _; rw [(at0 t).1, one_mul]
  · show win0_0.index t 1 * 1024 + 1 * b.val = _; rw [(at0 t).2, one_mul]

theorem right (t : Fin cfg0.N) (a : Fin 2048) (b : Fin 1024) :
    (iblk m c 1 t : FVec Ideal S2048x1024 .bf16) (ix2 a b) = cell (B m c) (t.val % 2 * 2048 + a.val) (0 * 1024 + b.val) := by
  unfold iblk; rw [View.read_apply]
  show B m c _ = _
  refine cell_eq _ _ ?_ ?_
  · show win0_1.index t 0 * 2048 + 1 * a.val = _; rw [(at1 t).1, one_mul]
  · show win0_1.index t 1 * 1024 + 1 * b.val = _; rw [(at1 t).2, one_mul]

theorem pay (x : FVec Ideal S2048x1024 .bf16) (y : FVec Ideal S2048x1024 .bf16) (a b : Fin 1024) :
    k0_pay1 (F := Ideal) x y (ix2 a b) = ∑ k, (x (ix2 k a) : EReal) * y (ix2 k b) := by
  unfold k0_pay1; simp only [shapeCast_self]; pointwise

/-- The product of point `t`'s two blocks. -/
def part (t : Fin cfg0.N) : FVec Ideal S1024x1024 .f32 := k0_pay1 (iblk m c 0 t) (iblk m c 1 t)

theorem point (t : Fin cfg0.N) (a b : Fin 1024) : part m c t (ix2 a b) =
    ∑ k ∈ Finset.range 2048, term m c (t.val / 2 * 1024 + a.val) (0 * 1024 + b.val) (t.val % 2 * 2048 + k) := by
  unfold part
  rw [pay, Finset.sum_range]
  exact Finset.sum_congr rfl fun k _ => by rw [left, right]

/-! ## The scratch buffer, and the result -/

theorem at_first (t : Fin cfg0.N) (h : t.val % 2 = 0) : (outsAt0 m c t.val t.isLt).2 = part m c t := by
  rw [outsAt0_A m c t h (by omega)]; dsimp only; rw [first]; rfl
theorem at_last (t : Fin cfg0.N) (h : t.val % 2 = 1) : (outsAt0 m c t.val t.isLt).1 =
    addf (outsAt0 m c (t.val - 1) (Nat.lt_of_le_of_lt (Nat.sub_le _ _) t.isLt)).2 (part m c t) := by
  rw [outsAt0_B m c t (by omega) h]; dsimp only; rw [last]; rfl

theorem written (a b : Fin 1024) (t : Fin cfg0.N) (h : t.val % 2 = 1) : (outsAt0 m c t.val t.isLt).1 (ix2 a b) =
    ∑ k ∈ Finset.range 4096, term m c (t.val / 2 * 1024 + a.val) (0 * 1024 + b.val) k := by
  have hl : t.val - 1 < cfg0.N := Nat.lt_of_le_of_lt (Nat.sub_le _ _) t.isLt
  rw [at_last m c t h, addf_at, at_first m c ⟨t.val - 1, hl⟩ (by dsimp only; omega), point, point]
  dsimp only
  rw [show (t.val - 1) % 2 = 0 by omega, show (t.val - 1) / 2 = t.val / 2 by omega, h]
  refine Eq.trans ?_ (grow (term m c (t.val / 2 * 1024 + a.val) (0 * 1024 + b.val)) 1 2048)
  simp only [zero_mul, zero_add, one_mul]

/-- The result: every entry the whole sum. -/
def whole : FVec Ideal S2048x1024 .f32 := fun i => ∑ k ∈ Finset.range 4096, term m c (i 0).val (i 1).val k

theorem result : (dats m 0 c).arrAt 2 cfg0.N = whole m c := by
  rw [final2]
  funext i
  have h0 : (i 0).val < 2048 := (i 0).isLt
  have h1 : (i 1).val < 1024 := (i 1).isLt
  have e : pt2Of i = 2 * (1 * ((i 0).val / 1024 - 0) + 1 * ((i 1).val / 1024 - 0)) + 1 := rfl
  have hp : pt2Of i < cfg0.N := by rw [show cfg0.N = 4 from N_0, e]; omega
  unfold G2
  rw [dif_pos hp, ← outsAt0_sweep m c (pt2Of i) hp]
  obtain ⟨a, b, hl⟩ := ix2_of (loc2Of i)
  have ha : (i 0).val % 1024 = a.val := congrArg (fun x : S1024x1024.Idx => (x 0).val) hl
  have hb : (i 1).val % 1024 = b.val := congrArg (fun x : S1024x1024.Idx => (x 1).val) hl
  rw [hl, written m c a b ⟨pt2Of i, hp⟩ (by dsimp only; omega)]
  unfold whole
  dsimp only
  rw [show pt2Of i / 2 * 1024 + a.val = (i 0).val by rw [e]; omega, show 0 * 1024 + b.val = (i 1).val by rw [zero_mul, zero_add]; omega]

end

/-! ## The reference -/

theorem reference (x : FVec Ideal Cert.RefSsdOutDwIdeal.S4096x2048 .f32) (y : FVec Ideal Cert.RefSsdOutDwIdeal.S4096x1024 .f32) :
    transpose Cert.RefSsdOutDwIdeal.S2048x1024 [1, 0] (Host.dotGeneral Cert.RefSsdOutDwIdeal.dot_S4096x1024_S4096x2048_S1024x2048_0_0_1_1_n_n none y x) Cert.RefSsdOutDwIdeal.Facts₀.transposes_S1024x2048_S2048x1024_1_0
      = fun i => ∑ k ∈ Finset.range 4096, cell x k (i 0).val * cell y k (i 1).val := by
  funext i
  obtain ⟨a, b, rfl⟩ := ix2_of i
  rw [Finset.sum_range]
  refine Eq.trans (b := ∑ k : Fin 4096, y (ix2 k b) * x (ix2 k a)) (by pointwise) ?_
  exact Finset.sum_congr rfl fun k _ => (mul_comm _ _).trans (congrArg₂ (· * ·) (cell_eq _ _ rfl rfl) (cell_eq _ _ rfl rfl))

end Cert.SsdOutDwValue

end
-- ==== Proof.SsdOutDx.lean ====
/-
  The gradient at the scan's output: the gradient of its output projection times the transposed weights.
-/
module

public import proofs.«01_k».proof.Proof.Gen.SsdOutDxIdeal.Value
public import proofs.«01_k».proof.Proof.Gen.RefSsdOutDxIdeal.Run
public import proofs.«01_k».proof.Proof.Blocked
public import proofs.«01_k».proof.Defs

@[expose] public section

set_option maxRecDepth 16384

noncomputable section

namespace Cert.SsdOutDxValue

open Cert.Lift Cert.Blocked Cert.SsdOutDxIdeal Cert.SsdOutDxIdeal.Gen Cert.SsdOutDxIdeal.Value
open Idealize.ShloMosaic Idealize.ShloMosaic.TcCoe Idealize.ShloMosaic.Tactic Idealize.SL.Sem

/-- What the body writes at one point. -/
theorem block {F : FTy → Type} [FloatOps F] (c : Dev nD) (i : grid0.Coords)
    (a3 : Memref sig .tc .vmem S1024x1024 .bf16) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .f32) (h6 : a6.IsWhole)
    (x : Vec F S1024x1024 .bf16) (y : Vec F S1024x1024 .bf16) :
    out0_A_2 c i a3 h3 a4 h4 a5 h5 a6 h6 x y = k0_pay1 x y := by
  unfold out0_A_2
  rw [View.read_writes_eq_canon _ _ _ (cover0_A_2 c i a3 h3 a4 h4 a5 h5 a6 h6 x y)]
  unfold kernelRun0_A
  dsimp only
  sl_unfold_words
  rw [View.canon_unit_zero origin]
  simp only [View.readAt_eq_ld, h3.read_unread, h4.read_unread, View.ld_unit_zero (S := S1024x1024) origin]

section
variable (m : (ℓ : Loc nD τ sig) → Buf (Elt Ideal) ℓ) (c : Dev nD)

abbrev A : FVec Ideal ⟨2, ![4096, 1024]⟩ .f32 := m ((c : Thread nD τ).loc main_arg0)
abbrev B : FVec Ideal ⟨2, ![2048, 1024]⟩ .f32 := m ((c : Thread nD τ).loc main_arg1)

theorem at0 : ∀ t : Fin grid0.N, win0_0.index t 0 = t.val / 2 ∧ win0_0.index t 1 = 0 := by decide +kernel
theorem at1 : ∀ t : Fin grid0.N, win0_1.index t 0 = t.val % 2 ∧ win0_1.index t 1 = 0 := by decide +kernel
theorem at2 : ∀ t : Fin grid0.N, win0_2.index t 0 = t.val / 2 ∧ win0_2.index t 1 = t.val % 2 := by decide +kernel

theorem left (t : Fin cfg0.N) (a : Fin 1024) (b : Fin 1024) :
    (iblk m c 0 t : FVec Ideal S1024x1024 .bf16) (ix2 a b) = cell (A m c) (t.val / 2 * 1024 + a.val) b.val := by
  unfold iblk; rw [View.read_apply]
  show A m c _ = _
  refine cell_eq _ _ ?_ ?_
  · show win0_0.index t 0 * 1024 + 1 * a.val = _; rw [(at0 t).1, one_mul]
  · show win0_0.index t 1 * 1024 + 1 * b.val = _; rw [(at0 t).2]; omega

theorem right (t : Fin cfg0.N) (a : Fin 1024) (b : Fin 1024) :
    (iblk m c 1 t : FVec Ideal S1024x1024 .bf16) (ix2 a b) = cell (B m c) (t.val % 2 * 1024 + a.val) b.val := by
  unfold iblk; rw [View.read_apply]
  show B m c _ = _
  refine cell_eq _ _ ?_ ?_
  · show win0_1.index t 0 * 1024 + 1 * a.val = _; rw [(at1 t).1, one_mul]
  · show win0_1.index t 1 * 1024 + 1 * b.val = _; rw [(at1 t).2]; omega

theorem pay (x : FVec Ideal S1024x1024 .bf16) (y : FVec Ideal S1024x1024 .bf16) (a b : Fin 1024) :
    k0_pay1 (F := Ideal) x y (ix2 a b) = (∑ k, (x (ix2 a k) : EReal) * y (ix2 b k)) := by
  unfold k0_pay1; simp only [shapeCast_self]; pointwise

/-- Entry `i`, `j` of the result. -/
def value (A : FVec Ideal ⟨2, ![4096, 1024]⟩ .f32) (B : FVec Ideal ⟨2, ![2048, 1024]⟩ .f32) (i j : ℕ) : EReal :=
  (∑ k ∈ Finset.range 1024, cell A i k * cell B j k)

/-- The result. -/
def whole : FVec Ideal S4096x2048 .f32 := fun i => value (A m c) (B m c) (i 0).val (i 1).val

theorem point (t : Fin cfg0.N) (a b : Fin 1024) :
    (outsAt0 m c t) (ix2 a b) = value (A m c) (B m c) (t.val / 2 * 1024 + a.val) (t.val % 2 * 1024 + b.val) := by
  unfold outsAt0 value
  rw [block, pay, Finset.sum_range]
  exact (Finset.sum_congr rfl fun k _ => by rw [left, right])

theorem flushed_whole (t : Fin cfg0.N) (_ : (cfg0.win 2).flush t = true) :
    (dats m 0 c).flushed 2 t = ((cfg0.win 2).blk t).view.read (Elt Ideal) (whole m c) := by
  rw [flushed2]
  refine funext fun (j : (⟨2, ![1024, 1024]⟩ : Shape).Idx) => ?_
  obtain ⟨a, b, rfl⟩ := ix2_of j
  rw [View.read_apply]
  refine (point m c t a b).trans ?_
  show _ = value (A m c) (B m c) (win0_2.index t 0 * 1024 + 1 * a.val) (win0_2.index t 1 * 1024 + 1 * b.val)
  rw [(at2 t).1, (at2 t).2, one_mul, one_mul]

theorem result : (dats m 0 c).arrAt 2 cfg0.N = whole m c :=
  (dats m 0 c).arrAt_eq_of_cover 2 (whole m c) (flushed_whole m c) fun i => by
    have h0 : (i 0 : Nat) < 4096 := (i 0).isLt
    have h1 : (i 1 : Nat) < 2048 := (i 1).isLt
    refine ⟨⟨(i 0).val / 1024 * 2 + (i 1).val / 1024, ?_⟩, flush0_2 _, ?_⟩
    · rw [show cfg0.N = 8 from N_0]; omega
    · generalize ht : (⟨(i 0).val / 1024 * 2 + (i 1).val / 1024, _⟩ : Fin cfg0.N) = t
      have hv : t.val = (i 0).val / 1024 * 2 + (i 1).val / 1024 := by rw [← ht]
      show i ∈ ((View.whole main_v2).slice (win0_2.rect t)).set
      rw [View.set_slice_whole, Rect.mem_set_unit]
      intro a
      match a with
      | ⟨0, _⟩ => show win0_2.index t 0 * 1024 ≤ (i 0 : Nat) ∧ (i 0 : Nat) < win0_2.index t 0 * 1024 + 1024
                  rw [(at2 t).1]; omega
      | ⟨1, _⟩ => show win0_2.index t 1 * 1024 ≤ (i 1 : Nat) ∧ (i 1 : Nat) < win0_2.index t 1 * 1024 + 1024
                  rw [(at2 t).2]; omega

end

/-! ## The reference -/

theorem reference (x : FVec Ideal Cert.RefSsdOutDxIdeal.S4096x1024 .f32) (y : FVec Ideal Cert.RefSsdOutDxIdeal.S2048x1024 .f32) :
    Host.dotGeneral Cert.RefSsdOutDxIdeal.dot_S4096x1024_S2048x1024_S4096x2048_1_1_0_0_n_n none x y
      = fun i => value x y (i 0).val (i 1).val := by
  funext i
  obtain ⟨a, b, rfl⟩ := ix2_of i
  unfold value
  rw [Finset.sum_range]
  refine Eq.trans (b := (∑ k : Fin 1024, x (ix2 a k) * y (ix2 b k))) (by pointwise) ?_
  exact Finset.sum_congr rfl fun k _ => congrArg₂ (· * ·) (cell_eq _ _ rfl rfl) (cell_eq _ _ rfl rfl)

end Cert.SsdOutDxValue

end
-- ==== Proof.XoDw.lean ====
/-
  The gradient of the memory attention's output weights: its rows against the gradient of the residual stream, the 4096 tokens
  summed in two blocks of 2048 in a scratch buffer.
-/
module

public import proofs.«01_k».proof.Proof.Gen.XoDwIdeal.Value
public import proofs.«01_k».proof.Proof.Gen.RefXoDwIdeal.Run
public import proofs.«01_k».proof.Proof.Blocked
public import proofs.«01_k».proof.Defs

@[expose] public section

set_option maxRecDepth 16384

noncomputable section

namespace Cert.XoDwValue

open Cert.Lift Cert.Blocked Cert.XoDwIdeal Cert.XoDwIdeal.Gen Cert.XoDwIdeal.Value
open Idealize.ShloMosaic Idealize.ShloMosaic.TcCoe Idealize.ShloMosaic.Tactic Idealize.SL.Sem

/-! ## What the body leaves at one point -/

section
variable {F : FTy → Type} [FloatOps F] (c : Dev nD) (i : grid0.Coords)
  (a3 : Memref sig .tc .vmem S2048x1024 .bf16) (h3 : a3.IsWhole) (a4 : Memref sig .tc .vmem S2048x1024 .f32) (h4 : a4.IsWhole)
  (a5 : Memref sig .tc .vmem S1024x1024 .f32) (h5 : a5.IsWhole) (a6 : Memref sig .tc .vmem S1024x1024 .f32) (h6 : a6.IsWhole)
  (x : Vec F S2048x1024 .bf16) (y : Vec F S2048x1024 .f32) (s : Vec F S1024x1024 .f32)

theorem first (hc0 : cond0_0 i) (hc1 : ¬cond0_1 i) (hc2 : ¬cond0_2 i) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero origin]
  unfold k0_pay2
  simp only [View.readAt_eq_ld, h3.read_unread, h4.read_unread, View.ld_unit_zero (S := S2048x1024) origin, shapeCast_self]

theorem last (hc0 : ¬cond0_0 i) (hc1 : ¬cond0_1 i) (hc2 : cond0_2 i) :
    out0_B_2 c i a3 h3 a4 h4 a5 h5 a6 h6 hc0 hc1 hc2 x y s = addf s (k0_pay1 x y) := by
  unfold out0_B_2
  rw [View.read_writes_eq_canon _ _ _ (cover0_B_2 c i a3 h3 a4 h4 a5 h5 a6 h6 hc0 hc1 hc2 x y s)]
  unfold kernelRun0_B
  dsimp only
  sl_unfold_words
  rw [View.canon_unit_zero origin]
  unfold k0_pay4
  simp only [View.readAt_eq_ld, h3.read_unread, h4.read_unread, h6.read_unread, View.ld_unit_zero (S := S2048x1024) origin, View.ld_unit_zero (S := S1024x1024) origin]

end

/-! ## One point's product -/

section
variable (m : (ℓ : Loc nD τ sig) → Buf (Elt Ideal) ℓ) (c : Dev nD)

abbrev A : FVec Ideal ⟨2, ![4096, 1024]⟩ .f32 := m ((c : Thread nD τ).loc main_arg0)
abbrev B : FVec Ideal ⟨2, ![4096, 1024]⟩ .f32 := m ((c : Thread nD τ).loc main_arg1)
/-- The products that entry `i`, `j` of the result sums. -/
abbrev term (i j k : ℕ) : EReal := cell (A m c) k i * cell (B m c) k j

theorem at0 : ∀ t : Fin grid0.N, win0_0.index t 0 = t.val % 2 ∧ win0_0.index t 1 = t.val / 2 := by decide +kernel
theorem at1 : ∀ t : Fin grid0.N, win0_1.index t 0 = t.val % 2 ∧ win0_1.index t 1 = 0 := by decide +kernel

theorem left (t : Fin cfg0.N) (a : Fin 2048) (b : Fin 1024) :
    (iblk m c 0 t : FVec Ideal S2048x1024 .bf16) (ix2 a b) = cell (A m c) (t.val % 2 * 2048 + a.val) (t.val / 2 * 1024 + b.val) := by
  unfold iblk; rw [View.read_apply]
  show A m c _ = _
  refine cell_eq _ _ ?_ ?_
  · show win0_0.index t 0 * 2048 + 1 * a.val = _; rw [(at0 t).1, one_mul]
  · show win0_0.index t 1 * 1024 + 1 * b.val = _; rw [(at0 t).2, one_mul]

theorem right (t : Fin cfg0.N) (a : Fin 2048) (b : Fin 1024) :
    (iblk m c 1 t : FVec Ideal S2048x1024 .f32) (ix2 a b) = cell (B m c) (t.val % 2 * 2048 + a.val) (0 * 1024 + b.val) := by
  unfold iblk; rw [View.read_apply]
  show B m c _ = _
  refine cell_eq _ _ ?_ ?_
  · show win0_1.index t 0 * 2048 + 1 * a.val = _; rw [(at1 t).1, one_mul]
  · show win0_1.index t 1 * 1024 + 1 * b.val = _; rw [(at1 t).2, one_mul]

theorem pay (x : FVec Ideal S2048x1024 .bf16) (y : FVec Ideal S2048x1024 .f32) (a b : Fin 1024) :
    k0_pay1 (F := Ideal) x y (ix2 a b) = ∑ k, (x (ix2 k a) : EReal) * y (ix2 k b) := by
  unfold k0_pay1; simp only [shapeCast_self]; pointwise

/-- The product of point `t`'s two blocks. -/
def part (t : Fin cfg0.N) : FVec Ideal S1024x1024 .f32 := k0_pay1 (iblk m c 0 t) (iblk m c 1 t)

theorem point (t : Fin cfg0.N) (a b : Fin 1024) : part m c t (ix2 a b) =
    ∑ k ∈ Finset.range 2048, term m c (t.val / 2 * 1024 + a.val) (0 * 1024 + b.val) (t.val % 2 * 2048 + k) := by
  unfold part
  rw [pay, Finset.sum_range]
  exact Finset.sum_congr rfl fun k _ => by rw [left, right]

/-! ## The scratch buffer, and the result -/

theorem at_first (t : Fin cfg0.N) (h : t.val % 2 = 0) : (outsAt0 m c t.val t.isLt).2 = part m c t := by
  rw [outsAt0_A m c t h (by omega)]; dsimp only; rw [first]; rfl
theorem at_last (t : Fin cfg0.N) (h : t.val % 2 = 1) : (outsAt0 m c t.val t.isLt).1 =
    addf (outsAt0 m c (t.val - 1) (Nat.lt_of_le_of_lt (Nat.sub_le _ _) t.isLt)).2 (part m c t) := by
  rw [outsAt0_B m c t (by omega) h]; dsimp only; rw [last]; rfl

theorem written (a b : Fin 1024) (t : Fin cfg0.N) (h : t.val % 2 = 1) : (outsAt0 m c t.val t.isLt).1 (ix2 a b) =
    ∑ k ∈ Finset.range 4096, term m c (t.val / 2 * 1024 + a.val) (0 * 1024 + b.val) k := by
  have hl : t.val - 1 < cfg0.N := Nat.lt_of_le_of_lt (Nat.sub_le _ _) t.isLt
  rw [at_last m c t h, addf_at, at_first m c ⟨t.val - 1, hl⟩ (by dsimp only; omega), point, point]
  dsimp only
  rw [show (t.val - 1) % 2 = 0 by omega, show (t.val - 1) / 2 = t.val / 2 by omega, h]
  refine Eq.trans ?_ (grow (term m c (t.val / 2 * 1024 + a.val) (0 * 1024 + b.val)) 1 2048)
  simp only [zero_mul, zero_add, one_mul]

/-- The result: every entry the whole sum. -/
def whole : FVec Ideal S1024x1024 .f32 := fun i => ∑ k ∈ Finset.range 4096, term m c (i 0).val (i 1).val k

theorem result : (dats m 0 c).arrAt 2 cfg0.N = whole m c := by
  rw [final2]
  funext i
  have h0 : (i 0).val < 1024 := (i 0).isLt
  have h1 : (i 1).val < 1024 := (i 1).isLt
  have e : pt2Of i = 2 * (1 * ((i 0).val / 1024 - 0) + 1 * ((i 1).val / 1024 - 0)) + 1 := rfl
  have hp : pt2Of i < cfg0.N := by rw [show cfg0.N = 2 from N_0, e]; omega
  unfold G2
  rw [dif_pos hp, ← outsAt0_sweep m c (pt2Of i) hp]
  obtain ⟨a, b, hl⟩ := ix2_of (loc2Of i)
  have ha : (i 0).val % 1024 = a.val := congrArg (fun x : S1024x1024.Idx => (x 0).val) hl
  have hb : (i 1).val % 1024 = b.val := congrArg (fun x : S1024x1024.Idx => (x 1).val) hl
  rw [hl, written m c a b ⟨pt2Of i, hp⟩ (by dsimp only; omega)]
  unfold whole
  dsimp only
  rw [show pt2Of i / 2 * 1024 + a.val = (i 0).val by rw [e]; omega, show 0 * 1024 + b.val = (i 1).val by rw [zero_mul, zero_add]; omega]

end

/-! ## The reference -/

theorem reference (x : FVec Ideal Cert.RefXoDwIdeal.S4096x1024 .f32) (y : FVec Ideal Cert.RefXoDwIdeal.S4096x1024 .f32) :
    transpose Cert.RefXoDwIdeal.S1024x1024 [1, 0] (Host.dotGeneral Cert.RefXoDwIdeal.dot_S4096x1024_S4096x1024_S1024x1024_0_0_1_1_n_n none y x) Cert.RefXoDwIdeal.Facts₀.transposes_S1024x1024_S1024x1024_1_0
      = fun i => ∑ k ∈ Finset.range 4096, cell x k (i 0).val * cell y k (i 1).val := by
  funext i
  obtain ⟨a, b, rfl⟩ := ix2_of i
  rw [Finset.sum_range]
  refine Eq.trans (b := ∑ k : Fin 4096, y (ix2 k b) * x (ix2 k a)) (by pointwise) ?_
  exact Finset.sum_congr rfl fun k _ => (mul_comm _ _).trans (congrArg₂ (· * ·) (cell_eq _ _ rfl rfl) (cell_eq _ _ rfl rfl))

end Cert.XoDwValue

end
-- ==== Proof.XoDx.lean ====
/-
  The gradient at the memory attention's output: the gradient of its output projection times the transposed weights.
-/
module

public import proofs.«01_k».proof.Proof.Gen.XoDxIdeal.Value
public import proofs.«01_k».proof.Proof.Gen.RefXoDxIdeal.Run
public import proofs.«01_k».proof.Proof.Blocked
public import proofs.«01_k».proof.Defs

@[expose] public section

set_option maxRecDepth 16384

noncomputable section

namespace Cert.XoDxValue

open Cert.Lift Cert.Blocked Cert.XoDxIdeal Cert.XoDxIdeal.Gen Cert.XoDxIdeal.Value
open Idealize.ShloMosaic Idealize.ShloMosaic.TcCoe Idealize.ShloMosaic.Tactic Idealize.SL.Sem

/-- What the body writes at one point. -/
theorem block {F : FTy → Type} [FloatOps F] (c : Dev nD) (i : grid0.Coords)
    (a3 : Memref sig .tc .vmem S1024x1024 .f32) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .f32) (h6 : a6.IsWhole)
    (x : Vec F S1024x1024 .f32) (y : Vec F S1024x1024 .bf16) :
    out0_A_2 c i a3 h3 a4 h4 a5 h5 a6 h6 x y = k0_pay1 x y := by
  unfold out0_A_2
  rw [View.read_writes_eq_canon _ _ _ (cover0_A_2 c i a3 h3 a4 h4 a5 h5 a6 h6 x y)]
  unfold kernelRun0_A
  dsimp only
  sl_unfold_words
  rw [View.canon_unit_zero origin]
  simp only [View.readAt_eq_ld, h3.read_unread, h4.read_unread, View.ld_unit_zero (S := S1024x1024) origin]

section
variable (m : (ℓ : Loc nD τ sig) → Buf (Elt Ideal) ℓ) (c : Dev nD)

abbrev A : FVec Ideal ⟨2, ![4096, 1024]⟩ .f32 := m ((c : Thread nD τ).loc main_arg0)
abbrev B : FVec Ideal ⟨2, ![1024, 1024]⟩ .f32 := m ((c : Thread nD τ).loc main_arg1)

theorem at0 : ∀ t : Fin grid0.N, win0_0.index t 0 = t.val ∧ win0_0.index t 1 = 0 := by decide +kernel
theorem at1 : ∀ t : Fin grid0.N, win0_1.index t 0 = 0 ∧ win0_1.index t 1 = 0 := by decide +kernel
theorem at2 : ∀ t : Fin grid0.N, win0_2.index t 0 = t.val ∧ win0_2.index t 1 = 0 := by decide +kernel

theorem left (t : Fin cfg0.N) (a : Fin 1024) (b : Fin 1024) :
    (iblk m c 0 t : FVec Ideal S1024x1024 .f32) (ix2 a b) = cell (A m c) (t.val * 1024 + a.val) b.val := by
  unfold iblk; rw [View.read_apply]
  show A m c _ = _
  refine cell_eq _ _ ?_ ?_
  · show win0_0.index t 0 * 1024 + 1 * a.val = _; rw [(at0 t).1, one_mul]
  · show win0_0.index t 1 * 1024 + 1 * b.val = _; rw [(at0 t).2]; omega

theorem right (t : Fin cfg0.N) (a : Fin 1024) (b : Fin 1024) :
    (iblk m c 1 t : FVec Ideal S1024x1024 .bf16) (ix2 a b) = cell (B m c) (0 * 1024 + a.val) b.val := by
  unfold iblk; rw [View.read_apply]
  show B m c _ = _
  refine cell_eq _ _ ?_ ?_
  · show win0_1.index t 0 * 1024 + 1 * a.val = _; rw [(at1 t).1, one_mul]
  · show win0_1.index t 1 * 1024 + 1 * b.val = _; rw [(at1 t).2]; omega

theorem pay (x : FVec Ideal S1024x1024 .f32) (y : FVec Ideal S1024x1024 .bf16) (a b : Fin 1024) :
    k0_pay1 (F := Ideal) x y (ix2 a b) = (∑ k, (x (ix2 a k) : EReal) * y (ix2 b k)) := by
  unfold k0_pay1; simp only [shapeCast_self]; pointwise

/-- Entry `i`, `j` of the result. -/
def value (A : FVec Ideal ⟨2, ![4096, 1024]⟩ .f32) (B : FVec Ideal ⟨2, ![1024, 1024]⟩ .f32) (i j : ℕ) : EReal :=
  (∑ k ∈ Finset.range 1024, cell A i k * cell B j k)

/-- The result. -/
def whole : FVec Ideal S4096x1024 .f32 := fun i => value (A m c) (B m c) (i 0).val (i 1).val

theorem point (t : Fin cfg0.N) (a b : Fin 1024) :
    (outsAt0 m c t) (ix2 a b) = value (A m c) (B m c) (t.val * 1024 + a.val) (0 * 1024 + b.val) := by
  unfold outsAt0 value
  rw [block, pay, Finset.sum_range]
  exact (Finset.sum_congr rfl fun k _ => by rw [left, right])

theorem flushed_whole (t : Fin cfg0.N) (_ : (cfg0.win 2).flush t = true) :
    (dats m 0 c).flushed 2 t = ((cfg0.win 2).blk t).view.read (Elt Ideal) (whole m c) := by
  rw [flushed2]
  refine funext fun (j : (⟨2, ![1024, 1024]⟩ : Shape).Idx) => ?_
  obtain ⟨a, b, rfl⟩ := ix2_of j
  rw [View.read_apply]
  refine (point m c t a b).trans ?_
  show _ = value (A m c) (B m c) (win0_2.index t 0 * 1024 + 1 * a.val) (win0_2.index t 1 * 1024 + 1 * b.val)
  rw [(at2 t).1, (at2 t).2, one_mul, one_mul]

theorem result : (dats m 0 c).arrAt 2 cfg0.N = whole m c :=
  (dats m 0 c).arrAt_eq_of_cover 2 (whole m c) (flushed_whole m c) fun i => by
    have h0 : (i 0 : Nat) < 4096 := (i 0).isLt
    have h1 : (i 1 : Nat) < 1024 := (i 1).isLt
    refine ⟨⟨(i 0).val / 1024 * 1 + (i 1).val / 1024, ?_⟩, flush0_2 _, ?_⟩
    · rw [show cfg0.N = 4 from N_0]; omega
    · generalize ht : (⟨(i 0).val / 1024 * 1 + (i 1).val / 1024, _⟩ : Fin cfg0.N) = t
      have hv : t.val = (i 0).val / 1024 * 1 + (i 1).val / 1024 := by rw [← ht]
      show i ∈ ((View.whole main_v1).slice (win0_2.rect t)).set
      rw [View.set_slice_whole, Rect.mem_set_unit]
      intro a
      match a with
      | ⟨0, _⟩ => show win0_2.index t 0 * 1024 ≤ (i 0 : Nat) ∧ (i 0 : Nat) < win0_2.index t 0 * 1024 + 1024
                  rw [(at2 t).1]; omega
      | ⟨1, _⟩ => show win0_2.index t 1 * 1024 ≤ (i 1 : Nat) ∧ (i 1 : Nat) < win0_2.index t 1 * 1024 + 1024
                  rw [(at2 t).2]; omega

end

/-! ## The reference -/

theorem reference (x : FVec Ideal Cert.RefXoDxIdeal.S4096x1024 .f32) (y : FVec Ideal Cert.RefXoDxIdeal.S1024x1024 .f32) :
    Host.dotGeneral Cert.RefXoDxIdeal.dot_S4096x1024_S1024x1024_S4096x1024_1_1_0_0_n_n none x y
      = fun i => value x y (i 0).val (i 1).val := by
  funext i
  obtain ⟨a, b, rfl⟩ := ix2_of i
  unfold value
  rw [Finset.sum_range]
  refine Eq.trans (b := (∑ k : Fin 1024, x (ix2 a k) * y (ix2 b k))) (by pointwise) ?_
  exact Finset.sum_congr rfl fun k _ => congrArg₂ (· * ·) (cell_eq _ _ rfl rfl) (cell_eq _ _ rfl rfl)

end Cert.XoDxValue

end
-- ==== Proof.ConvOutDw.lean ====
/-
  The gradient of the convolution branch's output weights: its rows against the gradient of the projection, the 4096 tokens
  summed in two blocks of 2048 in a scratch buffer.
-/
module

public import proofs.«01_k».proof.Proof.Gen.ConvOutDwIdeal.Value
public import proofs.«01_k».proof.Proof.Gen.RefConvOutDwIdeal.Run
public import proofs.«01_k».proof.Proof.Blocked
public import proofs.«01_k».proof.Defs

@[expose] public section

set_option maxRecDepth 16384

noncomputable section

namespace Cert.ConvOutDwValue

open Cert.Lift Cert.Blocked Cert.ConvOutDwIdeal Cert.ConvOutDwIdeal.Gen Cert.ConvOutDwIdeal.Value
open Idealize.ShloMosaic Idealize.ShloMosaic.TcCoe Idealize.ShloMosaic.Tactic Idealize.SL.Sem

/-! ## What the body leaves at one point -/

section
variable {F : FTy → Type} [FloatOps F] (c : Dev nD) (i : grid0.Coords)
  (a3 : Memref sig .tc .vmem S2048x1024 .bf16) (h3 : a3.IsWhole) (a4 : Memref sig .tc .vmem S2048x1024 .bf16) (h4 : a4.IsWhole)
  (a5 : Memref sig .tc .vmem S1024x1024 .f32) (h5 : a5.IsWhole) (a6 : Memref sig .tc .vmem S1024x1024 .f32) (h6 : a6.IsWhole)
  (x : Vec F S2048x1024 .bf16) (y : Vec F S2048x1024 .bf16) (s : Vec F S1024x1024 .f32)

theorem first (hc0 : cond0_0 i) (hc1 : ¬cond0_1 i) (hc2 : ¬cond0_2 i) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero origin]
  unfold k0_pay2
  simp only [View.readAt_eq_ld, h3.read_unread, h4.read_unread, View.ld_unit_zero (S := S2048x1024) origin, shapeCast_self]

theorem last (hc0 : ¬cond0_0 i) (hc1 : ¬cond0_1 i) (hc2 : cond0_2 i) :
    out0_B_2 c i a3 h3 a4 h4 a5 h5 a6 h6 hc0 hc1 hc2 x y s = addf s (k0_pay1 x y) := by
  unfold out0_B_2
  rw [View.read_writes_eq_canon _ _ _ (cover0_B_2 c i a3 h3 a4 h4 a5 h5 a6 h6 hc0 hc1 hc2 x y s)]
  unfold kernelRun0_B
  dsimp only
  sl_unfold_words
  rw [View.canon_unit_zero origin]
  unfold k0_pay4
  simp only [View.readAt_eq_ld, h3.read_unread, h4.read_unread, h6.read_unread, View.ld_unit_zero (S := S2048x1024) origin, View.ld_unit_zero (S := S1024x1024) origin]

end

/-! ## One point's product -/

section
variable (m : (ℓ : Loc nD τ sig) → Buf (Elt Ideal) ℓ) (c : Dev nD)

abbrev A : FVec Ideal ⟨2, ![4096, 1024]⟩ .f32 := m ((c : Thread nD τ).loc main_arg0)
abbrev B : FVec Ideal ⟨2, ![4096, 1024]⟩ .f32 := m ((c : Thread nD τ).loc main_arg1)
/-- The products that entry `i`, `j` of the result sums. -/
abbrev term (i j k : ℕ) : EReal := cell (A m c) k i * cell (B m c) k j

theorem at0 : ∀ t : Fin grid0.N, win0_0.index t 0 = t.val % 2 ∧ win0_0.index t 1 = t.val / 2 := by decide +kernel
theorem at1 : ∀ t : Fin grid0.N, win0_1.index t 0 = t.val % 2 ∧ win0_1.index t 1 = 0 := by decide +kernel

theorem left (t : Fin cfg0.N) (a : Fin 2048) (b : Fin 1024) :
    (iblk m c 0 t : FVec Ideal S2048x1024 .bf16) (ix2 a b) = cell (A m c) (t.val % 2 * 2048 + a.val) (t.val / 2 * 1024 + b.val) := by
  unfold iblk; rw [View.read_apply]
  show A m c _ = _
  refine cell_eq _ _ ?_ ?_
  · show win0_0.index t 0 * 2048 + 1 * a.val = _; rw [(at0 t).1, one_mul]
  · show win0_0.index t 1 * 1024 + 1 * b.val = _; rw [(at0 t).2, one_mul]

theorem right (t : Fin cfg0.N) (a : Fin 2048) (b : Fin 1024) :
    (iblk m c 1 t : FVec Ideal S2048x1024 .bf16) (ix2 a b) = cell (B m c) (t.val % 2 * 2048 + a.val) (0 * 1024 + b.val) := by
  unfold iblk; rw [View.read_apply]
  show B m c _ = _
  refine cell_eq _ _ ?_ ?_
  · show win0_1.index t 0 * 2048 + 1 * a.val = _; rw [(at1 t).1, one_mul]
  · show win0_1.index t 1 * 1024 + 1 * b.val = _; rw [(at1 t).2, one_mul]

theorem pay (x : FVec Ideal S2048x1024 .bf16) (y : FVec Ideal S2048x1024 .bf16) (a b : Fin 1024) :
    k0_pay1 (F := Ideal) x y (ix2 a b) = ∑ k, (x (ix2 k a) : EReal) * y (ix2 k b) := by
  unfold k0_pay1; simp only [shapeCast_self]; pointwise

/-- The product of point `t`'s two blocks. -/
def part (t : Fin cfg0.N) : FVec Ideal S1024x1024 .f32 := k0_pay1 (iblk m c 0 t) (iblk m c 1 t)

theorem point (t : Fin cfg0.N) (a b : Fin 1024) : part m c t (ix2 a b) =
    ∑ k ∈ Finset.range 2048, term m c (t.val / 2 * 1024 + a.val) (0 * 1024 + b.val) (t.val % 2 * 2048 + k) := by
  unfold part
  rw [pay, Finset.sum_range]
  exact Finset.sum_congr rfl fun k _ => by rw [left, right]

/-! ## The scratch buffer, and the result -/

theorem at_first (t : Fin cfg0.N) (h : t.val % 2 = 0) : (outsAt0 m c t.val t.isLt).2 = part m c t := by
  rw [outsAt0_A m c t h (by omega)]; dsimp only; rw [first]; rfl
theorem at_last (t : Fin cfg0.N) (h : t.val % 2 = 1) : (outsAt0 m c t.val t.isLt).1 =
    addf (outsAt0 m c (t.val - 1) (Nat.lt_of_le_of_lt (Nat.sub_le _ _) t.isLt)).2 (part m c t) := by
  rw [outsAt0_B m c t (by omega) h]; dsimp only; rw [last]; rfl

theorem written (a b : Fin 1024) (t : Fin cfg0.N) (h : t.val % 2 = 1) : (outsAt0 m c t.val t.isLt).1 (ix2 a b) =
    ∑ k ∈ Finset.range 4096, term m c (t.val / 2 * 1024 + a.val) (0 * 1024 + b.val) k := by
  have hl : t.val - 1 < cfg0.N := Nat.lt_of_le_of_lt (Nat.sub_le _ _) t.isLt
  rw [at_last m c t h, addf_at, at_first m c ⟨t.val - 1, hl⟩ (by dsimp only; omega), point, point]
  dsimp only
  rw [show (t.val - 1) % 2 = 0 by omega, show (t.val - 1) / 2 = t.val / 2 by omega, h]
  refine Eq.trans ?_ (grow (term m c (t.val / 2 * 1024 + a.val) (0 * 1024 + b.val)) 1 2048)
  simp only [zero_mul, zero_add, one_mul]

/-- The result: every entry the whole sum. -/
def whole : FVec Ideal S1024x1024 .f32 := fun i => ∑ k ∈ Finset.range 4096, term m c (i 0).val (i 1).val k

theorem result : (dats m 0 c).arrAt 2 cfg0.N = whole m c := by
  rw [final2]
  funext i
  have h0 : (i 0).val < 1024 := (i 0).isLt
  have h1 : (i 1).val < 1024 := (i 1).isLt
  have e : pt2Of i = 2 * (1 * ((i 0).val / 1024 - 0) + 1 * ((i 1).val / 1024 - 0)) + 1 := rfl
  have hp : pt2Of i < cfg0.N := by rw [show cfg0.N = 2 from N_0, e]; omega
  unfold G2
  rw [dif_pos hp, ← outsAt0_sweep m c (pt2Of i) hp]
  obtain ⟨a, b, hl⟩ := ix2_of (loc2Of i)
  have ha : (i 0).val % 1024 = a.val := congrArg (fun x : S1024x1024.Idx => (x 0).val) hl
  have hb : (i 1).val % 1024 = b.val := congrArg (fun x : S1024x1024.Idx => (x 1).val) hl
  rw [hl, written m c a b ⟨pt2Of i, hp⟩ (by dsimp only; omega)]
  unfold whole
  dsimp only
  rw [show pt2Of i / 2 * 1024 + a.val = (i 0).val by rw [e]; omega, show 0 * 1024 + b.val = (i 1).val by rw [zero_mul, zero_add]; omega]

end

/-! ## The reference -/

theorem reference (x : FVec Ideal Cert.RefConvOutDwIdeal.S4096x1024 .f32) (y : FVec Ideal Cert.RefConvOutDwIdeal.S4096x1024 .f32) :
    transpose Cert.RefConvOutDwIdeal.S1024x1024 [1, 0] (Host.dotGeneral Cert.RefConvOutDwIdeal.dot_S4096x1024_S4096x1024_S1024x1024_0_0_1_1_n_n none y x) Cert.RefConvOutDwIdeal.Facts₀.transposes_S1024x1024_S1024x1024_1_0
      = fun i => ∑ k ∈ Finset.range 4096, cell x k (i 0).val * cell y k (i 1).val := by
  funext i
  obtain ⟨a, b, rfl⟩ := ix2_of i
  rw [Finset.sum_range]
  refine Eq.trans (b := ∑ k : Fin 4096, y (ix2 k b) * x (ix2 k a)) (by pointwise) ?_
  exact Finset.sum_congr rfl fun k _ => (mul_comm _ _).trans (congrArg₂ (· * ·) (cell_eq _ _ rfl rfl) (cell_eq _ _ rfl rfl))

end Cert.ConvOutDwValue

end
-- ==== Proof.ConvOutDx.lean ====
/-
  The gradient at the convolution branch's output: the gradient of its output projection times the transposed weights.
-/
module

public import proofs.«01_k».proof.Proof.Gen.ConvOutDxIdeal.Value
public import proofs.«01_k».proof.Proof.Gen.RefConvOutDxIdeal.Run
public import proofs.«01_k».proof.Proof.Blocked
public import proofs.«01_k».proof.Defs

@[expose] public section

set_option maxRecDepth 16384

noncomputable section

namespace Cert.ConvOutDxValue

open Cert.Lift Cert.Blocked Cert.ConvOutDxIdeal Cert.ConvOutDxIdeal.Gen Cert.ConvOutDxIdeal.Value
open Idealize.ShloMosaic Idealize.ShloMosaic.TcCoe Idealize.ShloMosaic.Tactic Idealize.SL.Sem

/-- What the body writes at one point. -/
theorem block {F : FTy → Type} [FloatOps F] (c : Dev nD) (i : grid0.Coords)
    (a3 : Memref sig .tc .vmem S1024x1024 .bf16) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .f32) (h6 : a6.IsWhole)
    (x : Vec F S1024x1024 .bf16) (y : Vec F S1024x1024 .bf16) :
    out0_A_2 c i a3 h3 a4 h4 a5 h5 a6 h6 x y = k0_pay1 x y := by
  unfold out0_A_2
  rw [View.read_writes_eq_canon _ _ _ (cover0_A_2 c i a3 h3 a4 h4 a5 h5 a6 h6 x y)]
  unfold kernelRun0_A
  dsimp only
  sl_unfold_words
  rw [View.canon_unit_zero origin]
  simp only [View.readAt_eq_ld, h3.read_unread, h4.read_unread, View.ld_unit_zero (S := S1024x1024) origin]

section
variable (m : (ℓ : Loc nD τ sig) → Buf (Elt Ideal) ℓ) (c : Dev nD)

abbrev A : FVec Ideal ⟨2, ![4096, 1024]⟩ .f32 := m ((c : Thread nD τ).loc main_arg0)
abbrev B : FVec Ideal ⟨2, ![1024, 1024]⟩ .f32 := m ((c : Thread nD τ).loc main_arg1)

theorem at0 : ∀ t : Fin grid0.N, win0_0.index t 0 = t.val ∧ win0_0.index t 1 = 0 := by decide +kernel
theorem at1 : ∀ t : Fin grid0.N, win0_1.index t 0 = 0 ∧ win0_1.index t 1 = 0 := by decide +kernel
theorem at2 : ∀ t : Fin grid0.N, win0_2.index t 0 = t.val ∧ win0_2.index t 1 = 0 := by decide +kernel

theorem left (t : Fin cfg0.N) (a : Fin 1024) (b : Fin 1024) :
    (iblk m c 0 t : FVec Ideal S1024x1024 .bf16) (ix2 a b) = cell (A m c) (t.val * 1024 + a.val) b.val := by
  unfold iblk; rw [View.read_apply]
  show A m c _ = _
  refine cell_eq _ _ ?_ ?_
  · show win0_0.index t 0 * 1024 + 1 * a.val = _; rw [(at0 t).1, one_mul]
  · show win0_0.index t 1 * 1024 + 1 * b.val = _; rw [(at0 t).2]; omega

theorem right (t : Fin cfg0.N) (a : Fin 1024) (b : Fin 1024) :
    (iblk m c 1 t : FVec Ideal S1024x1024 .bf16) (ix2 a b) = cell (B m c) (0 * 1024 + a.val) b.val := by
  unfold iblk; rw [View.read_apply]
  show B m c _ = _
  refine cell_eq _ _ ?_ ?_
  · show win0_1.index t 0 * 1024 + 1 * a.val = _; rw [(at1 t).1, one_mul]
  · show win0_1.index t 1 * 1024 + 1 * b.val = _; rw [(at1 t).2]; omega

theorem pay (x : FVec Ideal S1024x1024 .bf16) (y : FVec Ideal S1024x1024 .bf16) (a b : Fin 1024) :
    k0_pay1 (F := Ideal) x y (ix2 a b) = (∑ k, (x (ix2 a k) : EReal) * y (ix2 b k)) := by
  unfold k0_pay1; simp only [shapeCast_self]; pointwise

/-- Entry `i`, `j` of the result. -/
def value (A : FVec Ideal ⟨2, ![4096, 1024]⟩ .f32) (B : FVec Ideal ⟨2, ![1024, 1024]⟩ .f32) (i j : ℕ) : EReal :=
  (∑ k ∈ Finset.range 1024, cell A i k * cell B j k)

/-- The result. -/
def whole : FVec Ideal S4096x1024 .f32 := fun i => value (A m c) (B m c) (i 0).val (i 1).val

theorem point (t : Fin cfg0.N) (a b : Fin 1024) :
    (outsAt0 m c t) (ix2 a b) = value (A m c) (B m c) (t.val * 1024 + a.val) (0 * 1024 + b.val) := by
  unfold outsAt0 value
  rw [block, pay, Finset.sum_range]
  exact (Finset.sum_congr rfl fun k _ => by rw [left, right])

theorem flushed_whole (t : Fin cfg0.N) (_ : (cfg0.win 2).flush t = true) :
    (dats m 0 c).flushed 2 t = ((cfg0.win 2).blk t).view.read (Elt Ideal) (whole m c) := by
  rw [flushed2]
  refine funext fun (j : (⟨2, ![1024, 1024]⟩ : Shape).Idx) => ?_
  obtain ⟨a, b, rfl⟩ := ix2_of j
  rw [View.read_apply]
  refine (point m c t a b).trans ?_
  show _ = value (A m c) (B m c) (win0_2.index t 0 * 1024 + 1 * a.val) (win0_2.index t 1 * 1024 + 1 * b.val)
  rw [(at2 t).1, (at2 t).2, one_mul, one_mul]

theorem result : (dats m 0 c).arrAt 2 cfg0.N = whole m c :=
  (dats m 0 c).arrAt_eq_of_cover 2 (whole m c) (flushed_whole m c) fun i => by
    have h0 : (i 0 : Nat) < 4096 := (i 0).isLt
    have h1 : (i 1 : Nat) < 1024 := (i 1).isLt
    refine ⟨⟨(i 0).val / 1024 * 1 + (i 1).val / 1024, ?_⟩, flush0_2 _, ?_⟩
    · rw [show cfg0.N = 4 from N_0]; omega
    · generalize ht : (⟨(i 0).val / 1024 * 1 + (i 1).val / 1024, _⟩ : Fin cfg0.N) = t
      have hv : t.val = (i 0).val / 1024 * 1 + (i 1).val / 1024 := by rw [← ht]
      show i ∈ ((View.whole main_v2).slice (win0_2.rect t)).set
      rw [View.set_slice_whole, Rect.mem_set_unit]
      intro a
      match a with
      | ⟨0, _⟩ => show win0_2.index t 0 * 1024 ≤ (i 0 : Nat) ∧ (i 0 : Nat) < win0_2.index t 0 * 1024 + 1024
                  rw [(at2 t).1]; omega
      | ⟨1, _⟩ => show win0_2.index t 1 * 1024 ≤ (i 1 : Nat) ∧ (i 1 : Nat) < win0_2.index t 1 * 1024 + 1024
                  rw [(at2 t).2]; omega

end

/-! ## The reference -/

theorem reference (x : FVec Ideal Cert.RefConvOutDxIdeal.S4096x1024 .f32) (y : FVec Ideal Cert.RefConvOutDxIdeal.S1024x1024 .f32) :
    Host.dotGeneral Cert.RefConvOutDxIdeal.dot_S4096x1024_S1024x1024_S4096x1024_1_1_0_0_n_n none x y
      = fun i => value x y (i 0).val (i 1).val := by
  funext i
  obtain ⟨a, b, rfl⟩ := ix2_of i
  unfold value
  rw [Finset.sum_range]
  refine Eq.trans (b := (∑ k : Fin 1024, x (ix2 a k) * y (ix2 b k))) (by pointwise) ?_
  exact Finset.sum_congr rfl fun k _ => congrArg₂ (· * ·) (cell_eq _ _ rfl rfl) (cell_eq _ _ rfl rfl)

end Cert.ConvOutDxValue

end
-- ==== Proof.MmIn.lean ====
/-
  The input projection of the forward pass: the normalised rows against the gathered weights, whose rows are the columns of
  the projection.
-/
module

public import proofs.«01_k».proof.Proof.Gen.MmInIdeal.Value
public import proofs.«01_k».proof.Proof.Gen.RefMmInIdeal.Run
public import proofs.«01_k».proof.Proof.Blocked
public import proofs.«01_k».proof.Defs

@[expose] public section

set_option maxRecDepth 16384

noncomputable section

namespace Cert.MmInValue

open Cert.Lift Cert.Blocked Cert.MmInIdeal Cert.MmInIdeal.Gen Cert.MmInIdeal.Value
open Idealize.ShloMosaic Idealize.ShloMosaic.TcCoe Idealize.ShloMosaic.Tactic Idealize.SL.Sem

/-- What the body writes at one point. -/
theorem block {F : FTy → Type} [FloatOps F] (c : Dev nD) (i : grid0.Coords)
    (a3 : Memref sig .tc .vmem S1024x1024 .bf16) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .f32) (h6 : a6.IsWhole)
    (x : Vec F S1024x1024 .bf16) (y : Vec F S1024x1024 .bf16) :
    out0_A_2 c i a3 h3 a4 h4 a5 h5 a6 h6 x y = k0_pay1 x y := by
  unfold out0_A_2
  rw [View.read_writes_eq_canon _ _ _ (cover0_A_2 c i a3 h3 a4 h4 a5 h5 a6 h6 x y)]
  unfold kernelRun0_A
  dsimp only
  sl_unfold_words
  rw [View.canon_unit_zero origin]
  simp only [View.readAt_eq_ld, h3.read_unread, h4.read_unread, View.ld_unit_zero (S := S1024x1024) origin]

section
variable (m : (ℓ : Loc nD τ sig) → Buf (Elt Ideal) ℓ) (c : Dev nD)

abbrev A : FVec Ideal ⟨2, ![4096, 1024]⟩ .f32 := m ((c : Thread nD τ).loc main_arg0)
abbrev B : FVec Ideal ⟨2, ![12288, 1024]⟩ .f32 := m ((c : Thread nD τ).loc main_arg1)

theorem at0 : ∀ t : Fin grid0.N, win0_0.index t 0 = t.val / 12 ∧ win0_0.index t 1 = 0 := by decide +kernel
theorem at1 : ∀ t : Fin grid0.N, win0_1.index t 0 = t.val % 12 ∧ win0_1.index t 1 = 0 := by decide +kernel
theorem at2 : ∀ t : Fin grid0.N, win0_2.index t 0 = t.val / 12 ∧ win0_2.index t 1 = t.val % 12 := by decide +kernel

theorem left (t : Fin cfg0.N) (a : Fin 1024) (b : Fin 1024) :
    (iblk m c 0 t : FVec Ideal S1024x1024 .bf16) (ix2 a b) = cell (A m c) (t.val / 12 * 1024 + a.val) b.val := by
  unfold iblk; rw [View.read_apply]
  show A m c _ = _
  refine cell_eq _ _ ?_ ?_
  · show win0_0.index t 0 * 1024 + 1 * a.val = _; rw [(at0 t).1, one_mul]
  · show win0_0.index t 1 * 1024 + 1 * b.val = _; rw [(at0 t).2]; omega

theorem right (t : Fin cfg0.N) (a : Fin 1024) (b : Fin 1024) :
    (iblk m c 1 t : FVec Ideal S1024x1024 .bf16) (ix2 a b) = cell (B m c) (t.val % 12 * 1024 + a.val) b.val := by
  unfold iblk; rw [View.read_apply]
  show B m c _ = _
  refine cell_eq _ _ ?_ ?_
  · show win0_1.index t 0 * 1024 + 1 * a.val = _; rw [(at1 t).1, one_mul]
  · show win0_1.index t 1 * 1024 + 1 * b.val = _; rw [(at1 t).2]; omega

theorem pay (x : FVec Ideal S1024x1024 .bf16) (y : FVec Ideal S1024x1024 .bf16) (a b : Fin 1024) :
    k0_pay1 (F := Ideal) x y (ix2 a b) = (∑ k, (x (ix2 a k) : EReal) * y (ix2 b k)) := by
  unfold k0_pay1; simp only [shapeCast_self]; pointwise

/-- Entry `i`, `j` of the result. -/
def value (A : FVec Ideal ⟨2, ![4096, 1024]⟩ .f32) (B : FVec Ideal ⟨2, ![12288, 1024]⟩ .f32) (i j : ℕ) : EReal :=
  (∑ k ∈ Finset.range 1024, cell A i k * cell B j k)

/-- The result. -/
def whole : FVec Ideal S4096x12288 .f32 := fun i => value (A m c) (B m c) (i 0).val (i 1).val

theorem point (t : Fin cfg0.N) (a b : Fin 1024) :
    (outsAt0 m c t) (ix2 a b) = value (A m c) (B m c) (t.val / 12 * 1024 + a.val) (t.val % 12 * 1024 + b.val) := by
  unfold outsAt0 value
  rw [block, pay, Finset.sum_range]
  exact (Finset.sum_congr rfl fun k _ => by rw [left, right])

theorem flushed_whole (t : Fin cfg0.N) (_ : (cfg0.win 2).flush t = true) :
    (dats m 0 c).flushed 2 t = ((cfg0.win 2).blk t).view.read (Elt Ideal) (whole m c) := by
  rw [flushed2]
  refine funext fun (j : (⟨2, ![1024, 1024]⟩ : Shape).Idx) => ?_
  obtain ⟨a, b, rfl⟩ := ix2_of j
  rw [View.read_apply]
  refine (point m c t a b).trans ?_
  show _ = value (A m c) (B m c) (win0_2.index t 0 * 1024 + 1 * a.val) (win0_2.index t 1 * 1024 + 1 * b.val)
  rw [(at2 t).1, (at2 t).2, one_mul, one_mul]

theorem result : (dats m 0 c).arrAt 2 cfg0.N = whole m c :=
  (dats m 0 c).arrAt_eq_of_cover 2 (whole m c) (flushed_whole m c) fun i => by
    have h0 : (i 0 : Nat) < 4096 := (i 0).isLt
    have h1 : (i 1 : Nat) < 12288 := (i 1).isLt
    refine ⟨⟨(i 0).val / 1024 * 12 + (i 1).val / 1024, ?_⟩, flush0_2 _, ?_⟩
    · rw [show cfg0.N = 48 from N_0]; omega
    · generalize ht : (⟨(i 0).val / 1024 * 12 + (i 1).val / 1024, _⟩ : Fin cfg0.N) = t
      have hv : t.val = (i 0).val / 1024 * 12 + (i 1).val / 1024 := by rw [← ht]
      show i ∈ ((View.whole main_v2).slice (win0_2.rect t)).set
      rw [View.set_slice_whole, Rect.mem_set_unit]
      intro a
      match a with
      | ⟨0, _⟩ => show win0_2.index t 0 * 1024 ≤ (i 0 : Nat) ∧ (i 0 : Nat) < win0_2.index t 0 * 1024 + 1024
                  rw [(at2 t).1]; omega
      | ⟨1, _⟩ => show win0_2.index t 1 * 1024 ≤ (i 1 : Nat) ∧ (i 1 : Nat) < win0_2.index t 1 * 1024 + 1024
                  rw [(at2 t).2]; omega

end

/-! ## The reference -/

theorem reference (x : FVec Ideal Cert.RefMmInIdeal.S4096x1024 .f32) (y : FVec Ideal Cert.RefMmInIdeal.S12288x1024 .f32) :
    Host.dotGeneral Cert.RefMmInIdeal.dot_S4096x1024_S1024x12288_S4096x12288_1_0_0_1_n_n none x (transpose Cert.RefMmInIdeal.S1024x12288 [1, 0] y Cert.RefMmInIdeal.Facts₀.transposes_S12288x1024_S1024x12288_1_0)
      = fun i => value x y (i 0).val (i 1).val := by
  funext i
  obtain ⟨a, b, rfl⟩ := ix2_of i
  unfold value
  rw [Finset.sum_range]
  refine Eq.trans (b := (∑ k : Fin 1024, x (ix2 a k) * y (ix2 b k))) (by pointwise) ?_
  exact Finset.sum_congr rfl fun k _ => congrArg₂ (· * ·) (cell_eq _ _ rfl rfl) (cell_eq _ _ rfl rfl)

end Cert.MmInValue

end
-- ==== Proof.MmUp.lean ====
/-
  The MLP's first product in the forward pass, and its squared rectifier.
-/
module

public import proofs.«01_k».proof.Proof.Gen.MmUpIdeal.Value
public import proofs.«01_k».proof.Proof.Gen.RefMmUpIdeal.Run
public import proofs.«01_k».proof.Proof.Blocked
public import proofs.«01_k».proof.Defs

@[expose] public section

set_option maxRecDepth 16384

noncomputable section

namespace Cert.MmUpValue

open Cert.Lift Cert.Blocked Cert.MmUpIdeal Cert.MmUpIdeal.Gen Cert.MmUpIdeal.Value
open Idealize.ShloMosaic Idealize.ShloMosaic.TcCoe Idealize.ShloMosaic.Tactic Idealize.SL.Sem

/-- What the body writes at one point, the product. -/
theorem block {F : FTy → Type} [FloatOps F] (c : Dev nD) (i : grid0.Coords)
    (a3 : Memref sig .tc .vmem S1024x1024 .bf16) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .bf16) (h6 : a6.IsWhole)
    (a7 : Memref sig .tc .vmem S1024x1024 .f32) (h7 : a7.IsWhole)
    (x : Vec F S1024x1024 .bf16) (y : Vec F S1024x1024 .bf16) :
    out0_A_2 c i a3 h3 a4 h4 a5 h5 a6 h6 a7 h7 x y = k0_pay1 x y := by
  unfold out0_A_2
  rw [View.read_writes_eq_canon _ _ _ (cover0_A_2 c i a3 h3 a4 h4 a5 h5 a6 h6 a7 h7 x y)]
  unfold kernelRun0_A
  dsimp only
  sl_unfold_words
  rw [View.canon_unit_zero origin]
  simp only [View.readAt_eq_ld, h3.read_unread, h4.read_unread, View.ld_unit_zero (S := S1024x1024) origin]

/-- What the body writes at one point, the activation. -/
theorem block' {F : FTy → Type} [FloatOps F] (c : Dev nD) (i : grid0.Coords)
    (a3 : Memref sig .tc .vmem S1024x1024 .bf16) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .bf16) (h6 : a6.IsWhole)
    (a7 : Memref sig .tc .vmem S1024x1024 .f32) (h7 : a7.IsWhole)
    (x : Vec F S1024x1024 .bf16) (y : Vec F S1024x1024 .bf16) :
    out0_A_3 c i a3 h3 a4 h4 a5 h5 a6 h6 a7 h7 x y = k0_pay2 x y := by
  unfold out0_A_3
  rw [View.read_writes_eq_canon _ _ _ (cover0_A_3 c i a3 h3 a4 h4 a5 h5 a6 h6 a7 h7 x y)]
  unfold kernelRun0_A
  dsimp only
  sl_unfold_words
  rw [View.canon_unit_zero origin]
  simp only [View.readAt_eq_ld, h3.read_unread, h4.read_unread, View.ld_unit_zero (S := S1024x1024) origin]

section
variable (m : (ℓ : Loc nD τ sig) → Buf (Elt Ideal) ℓ) (c : Dev nD)

abbrev A : FVec Ideal ⟨2, ![4096, 1024]⟩ .f32 := m ((c : Thread nD τ).loc main_arg0)
abbrev B : FVec Ideal ⟨2, ![1024, 4096]⟩ .f32 := m ((c : Thread nD τ).loc main_arg1)

theorem at0 : ∀ t : Fin grid0.N, win0_0.index t 0 = t.val / 4 ∧ win0_0.index t 1 = 0 := by decide +kernel
theorem at1 : ∀ t : Fin grid0.N, win0_1.index t 0 = 0 ∧ win0_1.index t 1 = t.val % 4 := by decide +kernel
theorem at2 : ∀ t : Fin grid0.N, win0_2.index t 0 = t.val / 4 ∧ win0_2.index t 1 = t.val % 4 := by decide +kernel
theorem at3 : ∀ t : Fin grid0.N, win0_3.index t 0 = t.val / 4 ∧ win0_3.index t 1 = t.val % 4 := by decide +kernel

theorem left (t : Fin cfg0.N) (a : Fin 1024) (b : Fin 1024) :
    (iblk m c 0 t : FVec Ideal S1024x1024 .bf16) (ix2 a b) = cell (A m c) (t.val / 4 * 1024 + a.val) b.val := by
  unfold iblk; rw [View.read_apply]
  show A m c _ = _
  refine cell_eq _ _ ?_ ?_
  · show win0_0.index t 0 * 1024 + 1 * a.val = _; rw [(at0 t).1, one_mul]
  · show win0_0.index t 1 * 1024 + 1 * b.val = _; rw [(at0 t).2]; omega

theorem right (t : Fin cfg0.N) (a : Fin 1024) (b : Fin 1024) :
    (iblk m c 1 t : FVec Ideal S1024x1024 .bf16) (ix2 a b) = cell (B m c) a.val (t.val % 4 * 1024 + b.val) := by
  unfold iblk; rw [View.read_apply]
  show B m c _ = _
  refine cell_eq _ _ ?_ ?_
  · show win0_1.index t 0 * 1024 + 1 * a.val = _; rw [(at1 t).1]; omega
  · show win0_1.index t 1 * 1024 + 1 * b.val = _; rw [(at1 t).2, one_mul]

theorem pay (x : FVec Ideal S1024x1024 .bf16) (y : FVec Ideal S1024x1024 .bf16) (a b : Fin 1024) :
    k0_pay1 (F := Ideal) x y (ix2 a b) = (∑ k, (x (ix2 a k) : EReal) * y (ix2 k b)) := by
  unfold k0_pay1; simp only [shapeCast_self]; pointwise

/-- Entry `i`, `j` of the result. -/
def value (A : FVec Ideal ⟨2, ![4096, 1024]⟩ .f32) (B : FVec Ideal ⟨2, ![1024, 4096]⟩ .f32) (i j : ℕ) : EReal :=
  (∑ k ∈ Finset.range 1024, cell A i k * cell B k j)

/-- The result, the product. -/
def whole : FVec Ideal S4096x4096 .f32 := fun i => value (A m c) (B m c) (i 0).val (i 1).val

theorem point (t : Fin cfg0.N) (a b : Fin 1024) :
    (outsAt0 m c t).1 (ix2 a b) = value (A m c) (B m c) (t.val / 4 * 1024 + a.val) (t.val % 4 * 1024 + b.val) := by
  unfold outsAt0 value
  dsimp only
  rw [block, pay, Finset.sum_range]
  exact Finset.sum_congr rfl fun k _ => by rw [left, right]

theorem flushed_whole (t : Fin cfg0.N) (_ : (cfg0.win 2).flush t = true) :
    (dats m 0 c).flushed 2 t = ((cfg0.win 2).blk t).view.read (Elt Ideal) (whole m c) := by
  rw [flushed2]
  refine funext fun (j : (⟨2, ![1024, 1024]⟩ : Shape).Idx) => ?_
  obtain ⟨a, b, rfl⟩ := ix2_of j
  rw [View.read_apply]
  refine (point m c t a b).trans ?_
  show _ = value (A m c) (B m c) (win0_2.index t 0 * 1024 + 1 * a.val) (win0_2.index t 1 * 1024 + 1 * b.val)
  rw [(at2 t).1, (at2 t).2, one_mul, one_mul]

theorem result : (dats m 0 c).arrAt 2 cfg0.N = whole m c :=
  (dats m 0 c).arrAt_eq_of_cover 2 (whole m c) (flushed_whole m c) fun i => by
    have h0 : (i 0 : Nat) < 4096 := (i 0).isLt
    have h1 : (i 1 : Nat) < 4096 := (i 1).isLt
    refine ⟨⟨(i 0).val / 1024 * 4 + (i 1).val / 1024, ?_⟩, flush0_2 _, ?_⟩
    · rw [show cfg0.N = 16 from N_0]; omega
    · generalize ht : (⟨(i 0).val / 1024 * 4 + (i 1).val / 1024, _⟩ : Fin cfg0.N) = t
      have hv : t.val = (i 0).val / 1024 * 4 + (i 1).val / 1024 := by rw [← ht]
      show i ∈ ((View.whole main_v2_0).slice (win0_2.rect t)).set
      rw [View.set_slice_whole, Rect.mem_set_unit]
      intro a
      match a with
      | ⟨0, _⟩ => show win0_2.index t 0 * 1024 ≤ (i 0 : Nat) ∧ (i 0 : Nat) < win0_2.index t 0 * 1024 + 1024
                  rw [(at2 t).1]; omega
      | ⟨1, _⟩ => show win0_2.index t 1 * 1024 ≤ (i 1 : Nat) ∧ (i 1 : Nat) < win0_2.index t 1 * 1024 + 1024
                  rw [(at2 t).2]; omega

/-- The squared rectifier. -/
def lifted (z : EReal) : EReal := max z 0 * max z 0

theorem pay' (x : FVec Ideal S1024x1024 .bf16) (y : FVec Ideal S1024x1024 .bf16) (a b : Fin 1024) :
    k0_pay2 (F := Ideal) x y (ix2 a b) = lifted (k0_pay1 (F := Ideal) x y (ix2 a b)) := by
  unfold k0_pay2 lifted; generalize k0_pay1 (F := Ideal) x y = z; pointwise

/-- Entry `i`, `j` of the activation: the squared rectifier of the product's entry. -/
def value' (A : FVec Ideal ⟨2, ![4096, 1024]⟩ .f32) (B : FVec Ideal ⟨2, ![1024, 4096]⟩ .f32) (i j : ℕ) : EReal := lifted (value A B i j)

/-- The result, the activation. -/
def whole' : FVec Ideal S4096x4096 .bf16 := fun i => value' (A m c) (B m c) (i 0).val (i 1).val

theorem point' (t : Fin cfg0.N) (a b : Fin 1024) :
    (outsAt0 m c t).2 (ix2 a b) = value' (A m c) (B m c) (t.val / 4 * 1024 + a.val) (t.val % 4 * 1024 + b.val) := by
  have h := point m c t a b
  unfold outsAt0 at h ⊢
  dsimp only at h ⊢
  rw [block] at h
  rw [block', pay']
  unfold value'
  rw [← h]

theorem flushed_whole' (t : Fin cfg0.N) (_ : (cfg0.win 3).flush t = true) :
    (dats m 0 c).flushed 3 t = ((cfg0.win 3).blk t).view.read (Elt Ideal) (whole' m c) := by
  rw [flushed3]
  refine funext fun (j : (⟨2, ![1024, 1024]⟩ : Shape).Idx) => ?_
  obtain ⟨a, b, rfl⟩ := ix2_of j
  rw [View.read_apply]
  refine (point' m c t a b).trans ?_
  show _ = value' (A m c) (B m c) (win0_3.index t 0 * 1024 + 1 * a.val) (win0_3.index t 1 * 1024 + 1 * b.val)
  rw [(at3 t).1, (at3 t).2, one_mul, one_mul]

theorem result' : (dats m 0 c).arrAt 3 cfg0.N = whole' m c :=
  (dats m 0 c).arrAt_eq_of_cover 3 (whole' m c) (flushed_whole' m c) fun i => by
    have h0 : (i 0 : Nat) < 4096 := (i 0).isLt
    have h1 : (i 1 : Nat) < 4096 := (i 1).isLt
    refine ⟨⟨(i 0).val / 1024 * 4 + (i 1).val / 1024, ?_⟩, flush0_3 _, ?_⟩
    · rw [show cfg0.N = 16 from N_0]; omega
    · generalize ht : (⟨(i 0).val / 1024 * 4 + (i 1).val / 1024, _⟩ : Fin cfg0.N) = t
      have hv : t.val = (i 0).val / 1024 * 4 + (i 1).val / 1024 := by rw [← ht]
      show i ∈ ((View.whole main_v2_1).slice (win0_3.rect t)).set
      rw [View.set_slice_whole, Rect.mem_set_unit]
      intro a
      match a with
      | ⟨0, _⟩ => show win0_3.index t 0 * 1024 ≤ (i 0 : Nat) ∧ (i 0 : Nat) < win0_3.index t 0 * 1024 + 1024
                  rw [(at3 t).1]; omega
      | ⟨1, _⟩ => show win0_3.index t 1 * 1024 ≤ (i 1 : Nat) ∧ (i 1 : Nat) < win0_3.index t 1 * 1024 + 1024
                  rw [(at3 t).2]; omega

end

/-! ## The reference -/

theorem reference (x : FVec Ideal Cert.RefMmUpIdeal.S4096x1024 .f32) (y : FVec Ideal Cert.RefMmUpIdeal.S1024x4096 .f32) :
    Host.dotGeneral Cert.RefMmUpIdeal.dot_S4096x1024_S1024x4096_S4096x4096_1_0_0_1_n_n none x y
      = fun i => value x y (i 0).val (i 1).val := by
  funext i
  obtain ⟨a, b, rfl⟩ := ix2_of i
  unfold value
  rw [Finset.sum_range]
  refine Eq.trans (b := (∑ k : Fin 1024, x (ix2 a k) * y (ix2 k b))) (by pointwise) ?_
  exact Finset.sum_congr rfl fun k _ => congrArg₂ (· * ·) (cell_eq _ _ rfl rfl) (cell_eq _ _ rfl rfl)

theorem reference' (x : FVec Ideal Cert.RefMmUpIdeal.S4096x1024 .f32) (y : FVec Ideal Cert.RefMmUpIdeal.S1024x4096 .f32) :
    truncf .bf16 (mulf
        (maximumf (Host.dotGeneral Cert.RefMmUpIdeal.dot_S4096x1024_S1024x4096_S4096x4096_1_0_0_1_n_n none x y) (broadcastInDim Cert.RefMmUpIdeal.S4096x4096 ![] Cert.RefMmUpIdeal.Facts₀.bcast_S_S4096x4096 (constant Cert.RefMmUpIdeal.S_ .f32 0x00000000#32)))
        (maximumf (Host.dotGeneral Cert.RefMmUpIdeal.dot_S4096x1024_S1024x4096_S4096x4096_1_0_0_1_n_n none x y) (broadcastInDim Cert.RefMmUpIdeal.S4096x4096 ![] Cert.RefMmUpIdeal.Facts₀.bcast_S_S4096x4096 (constant Cert.RefMmUpIdeal.S_ .f32 0x00000000#32))))
      Cert.RefMmUpIdeal.Facts₀.bitsLt_bf16_f32
      = fun i => value' x y (i 0).val (i 1).val := by
  rw [reference]
  funext i
  obtain ⟨a, b, rfl⟩ := ix2_of i
  unfold value'
  generalize value x y = z
  unfold lifted
  pointwise

end Cert.MmUpValue

end
-- ==== Proof.MmDown.lean ====
/-
  The MLP's second product in the forward pass, the 4096 hidden columns summed in two blocks of 2048 in a scratch buffer, added to
  the residual stream.
-/
module

public import proofs.«01_k».proof.Proof.Gen.MmDownIdeal.Value
public import proofs.«01_k».proof.Proof.Gen.RefMmDownIdeal.Run
public import proofs.«01_k».proof.Proof.Blocked
public import proofs.«01_k».proof.Defs

@[expose] public section

set_option maxRecDepth 16384

noncomputable section

namespace Cert.MmDownValue

open Cert.Lift Cert.Blocked Cert.MmDownIdeal Cert.MmDownIdeal.Gen Cert.MmDownIdeal.Value
open Idealize.ShloMosaic Idealize.ShloMosaic.TcCoe Idealize.ShloMosaic.Tactic Idealize.SL.Sem

/-! ## What the body leaves at one point -/

section
variable {F : FTy → Type} [FloatOps F] (c : Dev nD) (i : grid0.Coords)
  (a3 : Memref sig .tc .vmem S1024x2048 .bf16) (h3 : a3.IsWhole) (a4 : Memref sig .tc .vmem S2048x1024 .bf16) (h4 : a4.IsWhole)
  (a5 : Memref sig .tc .vmem S1024x1024 .f32) (h5 : a5.IsWhole) (a6 : Memref sig .tc .vmem S1024x1024 .f32) (h6 : a6.IsWhole)
  (a7 : Memref sig .tc .vmem S1024x1024 .f32) (h7 : a7.IsWhole)
  (x : Vec F S1024x2048 .bf16) (y : Vec F S2048x1024 .bf16) (u s : Vec F S1024x1024 .f32)

theorem first (hc0 : cond0_0 i) (hc1 : ¬cond0_1 i) (hc2 : ¬cond0_2 i) :
    sout0_A_0 c i a3 h3 a4 h4 a5 h5 a6 h6 a7 h7 hc0 hc1 hc2 x y u = k0_pay1 x y := by
  unfold sout0_A_0
  rw [View.read_writes_eq_canon _ _ _ (scover0_A_0 c i a3 h3 a4 h4 a5 h5 a6 h6 a7 h7 hc0 hc1 hc2 x y u)]
  unfold kernelRun0_A
  dsimp only
  sl_unfold_words
  rw [View.canon_unit_zero origin]
  unfold k0_pay2
  simp only [View.readAt_eq_ld, h3.read_unread, h4.read_unread, View.ld_unit_zero (S := S1024x2048) origin, View.ld_unit_zero (S := S2048x1024) origin, shapeCast_self]

theorem last (hc0 : ¬cond0_0 i) (hc1 : ¬cond0_1 i) (hc2 : cond0_2 i) :
    out0_B_3 c i a3 h3 a4 h4 a5 h5 a6 h6 a7 h7 hc0 hc1 hc2 x y u s = addf (addf s (k0_pay1 x y)) u := by
  unfold out0_B_3
  rw [View.read_writes_eq_canon _ _ _ (cover0_B_3 c i a3 h3 a4 h4 a5 h5 a6 h6 a7 h7 hc0 hc1 hc2 x y u s)]
  unfold kernelRun0_B
  dsimp only
  sl_unfold_words
  rw [View.canon_unit_zero origin]
  unfold k0_pay4
  simp only [View.readAt_eq_ld, h3.read_unread, h4.read_unread, h5.read_unread, h7.read_unread, View.ld_unit_zero (S := S1024x2048) origin, View.ld_unit_zero (S := S2048x1024) origin, View.ld_unit_zero (S := S1024x1024) origin]

end

/-! ## One point's product -/

section
variable (m : (ℓ : Loc nD τ sig) → Buf (Elt Ideal) ℓ) (c : Dev nD)

abbrev A : FVec Ideal ⟨2, ![4096, 4096]⟩ .f32 := m ((c : Thread nD τ).loc main_arg0)
abbrev B : FVec Ideal ⟨2, ![4096, 1024]⟩ .f32 := m ((c : Thread nD τ).loc main_arg1)
abbrev E : FVec Ideal ⟨2, ![4096, 1024]⟩ .f32 := m ((c : Thread nD τ).loc main_arg2)
/-- The products that entry `i`, `j` of the result sums. -/
abbrev term (i j k : ℕ) : EReal := cell (A m c) i k * cell (B m c) k j

theorem at0 : ∀ t : Fin grid0.N, win0_0.index t 0 = t.val / 2 ∧ win0_0.index t 1 = t.val % 2 := by decide +kernel
theorem at1 : ∀ t : Fin grid0.N, win0_1.index t 0 = t.val % 2 ∧ win0_1.index t 1 = 0 := by decide +kernel
theorem at2 : ∀ t : Fin grid0.N, win0_2.index t 0 = t.val / 2 ∧ win0_2.index t 1 = 0 := by decide +kernel

theorem left (t : Fin cfg0.N) (a : Fin 1024) (b : Fin 2048) :
    (iblk m c 0 t : FVec Ideal S1024x2048 .bf16) (ix2 a b) = cell (A m c) (t.val / 2 * 1024 + a.val) (t.val % 2 * 2048 + b.val) := by
  unfold iblk; rw [View.read_apply]
  show A m c _ = _
  refine cell_eq _ _ ?_ ?_
  · show win0_0.index t 0 * 1024 + 1 * a.val = _; rw [(at0 t).1, one_mul]
  · show win0_0.index t 1 * 2048 + 1 * b.val = _; rw [(at0 t).2, one_mul]

theorem right (t : Fin cfg0.N) (a : Fin 2048) (b : Fin 1024) :
    (iblk m c 1 t : FVec Ideal S2048x1024 .bf16) (ix2 a b) = cell (B m c) (t.val % 2 * 2048 + a.val) b.val := by
  unfold iblk; rw [View.read_apply]
  show B m c _ = _
  refine cell_eq _ _ ?_ ?_
  · show win0_1.index t 0 * 2048 + 1 * a.val = _; rw [(at1 t).1, one_mul]
  · show win0_1.index t 1 * 1024 + 1 * b.val = _; rw [(at1 t).2]; omega

theorem saved (t : Fin cfg0.N) (a : Fin 1024) (b : Fin 1024) :
    (iblk m c 2 t : FVec Ideal S1024x1024 .f32) (ix2 a b) = cell (E m c) (t.val / 2 * 1024 + a.val) b.val := by
  unfold iblk; rw [View.read_apply]
  show E m c _ = _
  refine cell_eq _ _ ?_ ?_
  · show win0_2.index t 0 * 1024 + 1 * a.val = _; rw [(at2 t).1, one_mul]
  · show win0_2.index t 1 * 1024 + 1 * b.val = _; rw [(at2 t).2]; omega

theorem pay (x : FVec Ideal S1024x2048 .bf16) (y : FVec Ideal S2048x1024 .bf16) (a b : Fin 1024) :
    k0_pay1 (F := Ideal) x y (ix2 a b) = ∑ k, (x (ix2 a k) : EReal) * y (ix2 k b) := by
  unfold k0_pay1; simp only [shapeCast_self]; pointwise

/-- The product of point `t`'s two blocks. -/
def part (t : Fin cfg0.N) : FVec Ideal S1024x1024 .f32 := k0_pay1 (iblk m c 0 t) (iblk m c 1 t)

theorem point (t : Fin cfg0.N) (a b : Fin 1024) : part m c t (ix2 a b) =
    ∑ k ∈ Finset.range 2048, term m c (t.val / 2 * 1024 + a.val) b.val (t.val % 2 * 2048 + k) := by
  unfold part
  rw [pay, Finset.sum_range]
  exact Finset.sum_congr rfl fun k _ => by rw [left, right]

/-! ## The scratch buffer, and the result -/

theorem at_first (t : Fin cfg0.N) (h : t.val % 2 = 0) : (outsAt0 m c t.val t.isLt).2 = part m c t := by
  rw [outsAt0_A m c t h (by omega)]; dsimp only; rw [first]; rfl
theorem at_last (t : Fin cfg0.N) (h : t.val % 2 = 1) : (outsAt0 m c t.val t.isLt).1 =
    addf (addf (outsAt0 m c (t.val - 1) (Nat.lt_of_le_of_lt (Nat.sub_le _ _) t.isLt)).2 (part m c t)) (iblk m c 2 t) := by
  rw [outsAt0_B m c t (by omega) h]; dsimp only; rw [last]; rfl

theorem written (a b : Fin 1024) (t : Fin cfg0.N) (h : t.val % 2 = 1) : (outsAt0 m c t.val t.isLt).1 (ix2 a b) =
    (∑ k ∈ Finset.range 4096, term m c (t.val / 2 * 1024 + a.val) b.val k) + cell (E m c) (t.val / 2 * 1024 + a.val) b.val := by
  have hl : t.val - 1 < cfg0.N := Nat.lt_of_le_of_lt (Nat.sub_le _ _) t.isLt
  rw [at_last m c t h, addf_at, addf_at, saved, at_first m c ⟨t.val - 1, hl⟩ (by dsimp only; omega), point, point]
  dsimp only
  rw [show (t.val - 1) % 2 = 0 by omega, show (t.val - 1) / 2 = t.val / 2 by omega, h]
  refine congrArg (· + _) (Eq.trans ?_ (grow (term m c (t.val / 2 * 1024 + a.val) b.val) 1 2048))
  simp only [zero_mul, zero_add, one_mul]

/-- The result: every entry the whole sum, and the residual stream's entry. -/
def whole : FVec Ideal S4096x1024 .f32 := fun i =>
  (∑ k ∈ Finset.range 4096, term m c (i 0).val (i 1).val k) + cell (E m c) (i 0).val (i 1).val

theorem result : (dats m 0 c).arrAt 3 cfg0.N = whole m c := by
  rw [final3]
  funext i
  have h0 : (i 0).val < 4096 := (i 0).isLt
  have h1 : (i 1).val < 1024 := (i 1).isLt
  have e : pt3Of i = 2 * (1 * ((i 0).val / 1024 - 0) + 1 * ((i 1).val / 1024 - 0)) + 1 := rfl
  have hp : pt3Of i < cfg0.N := by rw [show cfg0.N = 8 from N_0, e]; omega
  unfold G3
  rw [dif_pos hp, ← outsAt0_sweep m c (pt3Of i) hp]
  obtain ⟨a, b, hl⟩ := ix2_of (loc3Of i)
  have ha : (i 0).val % 1024 = a.val := congrArg (fun x : S1024x1024.Idx => (x 0).val) hl
  have hb : (i 1).val % 1024 = b.val := congrArg (fun x : S1024x1024.Idx => (x 1).val) hl
  rw [hl, written m c a b ⟨pt3Of i, hp⟩ (by dsimp only; omega)]
  unfold whole
  dsimp only
  rw [show pt3Of i / 2 * 1024 + a.val = (i 0).val by rw [e]; omega, show b.val = (i 1).val by omega]

end

/-! ## The reference -/

theorem reference (x : FVec Ideal Cert.RefMmDownIdeal.S4096x4096 .f32) (y : FVec Ideal Cert.RefMmDownIdeal.S4096x1024 .f32)
    (u : FVec Ideal Cert.RefMmDownIdeal.S4096x1024 .f32) :
    addf u (Host.dotGeneral Cert.RefMmDownIdeal.dot_S4096x4096_S4096x1024_S4096x1024_1_0_0_1_n_n none x y)
      = fun i => (∑ k ∈ Finset.range 4096, cell x (i 0).val k * cell y k (i 1).val) + cell u (i 0).val (i 1).val := by
  funext i
  obtain ⟨a, b, rfl⟩ := ix2_of i
  rw [Finset.sum_range]
  refine Eq.trans (b := u (ix2 a b) + ∑ k : Fin 4096, x (ix2 a k) * y (ix2 k b)) (by pointwise) ?_
  exact (add_comm _ _).trans (congrArg₂ (· + ·) (Finset.sum_congr rfl fun k _ =>
    congrArg₂ (· * ·) (cell_eq _ _ rfl rfl) (cell_eq _ _ rfl rfl)) (cell_eq _ _ rfl rfl))

end Cert.MmDownValue

end
-- ==== Proof.MmSsdOut.lean ====
/-
  The scan's output projection in the forward pass.
-/
module

public import proofs.«01_k».proof.Proof.Gen.MmSsdOutIdeal.Value
public import proofs.«01_k».proof.Proof.Gen.RefMmSsdOutIdeal.Run
public import proofs.«01_k».proof.Proof.Blocked
public import proofs.«01_k».proof.Defs

@[expose] public section

set_option maxRecDepth 16384

noncomputable section

namespace Cert.MmSsdOutValue

open Cert.Lift Cert.Blocked Cert.MmSsdOutIdeal Cert.MmSsdOutIdeal.Gen Cert.MmSsdOutIdeal.Value
open Idealize.ShloMosaic Idealize.ShloMosaic.TcCoe Idealize.ShloMosaic.Tactic Idealize.SL.Sem

/-- What the body writes at one point. -/
theorem block {F : FTy → Type} [FloatOps F] (c : Dev nD) (i : grid0.Coords)
    (a3 : Memref sig .tc .vmem S1024x2048 .bf16) (h3 : a3.IsWhole) (a4 : Memref sig .tc .vmem S2048x1024 .bf16) (h4 : a4.IsWhole)
    (a5 : Memref sig .tc .vmem S1024x1024 .f32) (h5 : a5.IsWhole) (a6 : Memref sig .tc .vmem S1024x1024 .f32) (h6 : a6.IsWhole)
    (x : Vec F S1024x2048 .bf16) (y : Vec F S2048x1024 .bf16) :
    out0_A_2 c i a3 h3 a4 h4 a5 h5 a6 h6 x y = k0_pay1 x y := by
  unfold out0_A_2
  rw [View.read_writes_eq_canon _ _ _ (cover0_A_2 c i a3 h3 a4 h4 a5 h5 a6 h6 x y)]
  unfold kernelRun0_A
  dsimp only
  sl_unfold_words
  rw [View.canon_unit_zero origin]
  simp only [View.readAt_eq_ld, h3.read_unread, h4.read_unread, View.ld_unit_zero (S := S1024x2048) origin, View.ld_unit_zero (S := S2048x1024) origin]

section
variable (m : (ℓ : Loc nD τ sig) → Buf (Elt Ideal) ℓ) (c : Dev nD)

abbrev A : FVec Ideal ⟨2, ![4096, 2048]⟩ .f32 := m ((c : Thread nD τ).loc main_arg0)
abbrev B : FVec Ideal ⟨2, ![2048, 1024]⟩ .f32 := m ((c : Thread nD τ).loc main_arg1)

theorem at0 : ∀ t : Fin grid0.N, win0_0.index t 0 = t.val ∧ win0_0.index t 1 = 0 := by decide +kernel
theorem at1 : ∀ t : Fin grid0.N, win0_1.index t 0 = 0 ∧ win0_1.index t 1 = 0 := by decide +kernel
theorem at2 : ∀ t : Fin grid0.N, win0_2.index t 0 = t.val ∧ win0_2.index t 1 = 0 := by decide +kernel

theorem left (t : Fin cfg0.N) (a : Fin 1024) (b : Fin 2048) :
    (iblk m c 0 t : FVec Ideal S1024x2048 .bf16) (ix2 a b) = cell (A m c) (t.val * 1024 + a.val) b.val := by
  unfold iblk; rw [View.read_apply]
  show A m c _ = _
  refine cell_eq _ _ ?_ ?_
  · show win0_0.index t 0 * 1024 + 1 * a.val = _; rw [(at0 t).1, one_mul]
  · show win0_0.index t 1 * 2048 + 1 * b.val = _; rw [(at0 t).2]; omega

theorem right (t : Fin cfg0.N) (a : Fin 2048) (b : Fin 1024) :
    (iblk m c 1 t : FVec Ideal S2048x1024 .bf16) (ix2 a b) = cell (B m c) a.val (0 * 1024 + b.val) := by
  unfold iblk; rw [View.read_apply]
  show B m c _ = _
  refine cell_eq _ _ ?_ ?_
  · show win0_1.index t 0 * 2048 + 1 * a.val = _; rw [(at1 t).1]; omega
  · show win0_1.index t 1 * 1024 + 1 * b.val = _; rw [(at1 t).2, one_mul]

theorem pay (x : FVec Ideal S1024x2048 .bf16) (y : FVec Ideal S2048x1024 .bf16) (a b : Fin 1024) :
    k0_pay1 (F := Ideal) x y (ix2 a b) = (∑ k, (x (ix2 a k) : EReal) * y (ix2 k b)) := by
  unfold k0_pay1; simp only [shapeCast_self]; pointwise

/-- Entry `i`, `j` of the result. -/
def value (A : FVec Ideal ⟨2, ![4096, 2048]⟩ .f32) (B : FVec Ideal ⟨2, ![2048, 1024]⟩ .f32) (i j : ℕ) : EReal :=
  (∑ k ∈ Finset.range 2048, cell A i k * cell B k j)

/-- The result. -/
def whole : FVec Ideal S4096x1024 .f32 := fun i => value (A m c) (B m c) (i 0).val (i 1).val

theorem point (t : Fin cfg0.N) (a b : Fin 1024) :
    (outsAt0 m c t) (ix2 a b) = value (A m c) (B m c) (t.val * 1024 + a.val) (0 * 1024 + b.val) := by
  unfold outsAt0 value
  rw [block, pay, Finset.sum_range]
  exact (Finset.sum_congr rfl fun k _ => by rw [left, right])

theorem flushed_whole (t : Fin cfg0.N) (_ : (cfg0.win 2).flush t = true) :
    (dats m 0 c).flushed 2 t = ((cfg0.win 2).blk t).view.read (Elt Ideal) (whole m c) := by
  rw [flushed2]
  refine funext fun (j : (⟨2, ![1024, 1024]⟩ : Shape).Idx) => ?_
  obtain ⟨a, b, rfl⟩ := ix2_of j
  rw [View.read_apply]
  refine (point m c t a b).trans ?_
  show _ = value (A m c) (B m c) (win0_2.index t 0 * 1024 + 1 * a.val) (win0_2.index t 1 * 1024 + 1 * b.val)
  rw [(at2 t).1, (at2 t).2, one_mul, one_mul]

theorem result : (dats m 0 c).arrAt 2 cfg0.N = whole m c :=
  (dats m 0 c).arrAt_eq_of_cover 2 (whole m c) (flushed_whole m c) fun i => by
    have h0 : (i 0 : Nat) < 4096 := (i 0).isLt
    have h1 : (i 1 : Nat) < 1024 := (i 1).isLt
    refine ⟨⟨(i 0).val / 1024 * 1 + (i 1).val / 1024, ?_⟩, flush0_2 _, ?_⟩
    · rw [show cfg0.N = 4 from N_0]; omega
    · generalize ht : (⟨(i 0).val / 1024 * 1 + (i 1).val / 1024, _⟩ : Fin cfg0.N) = t
      have hv : t.val = (i 0).val / 1024 * 1 + (i 1).val / 1024 := by rw [← ht]
      show i ∈ ((View.whole main_v2).slice (win0_2.rect t)).set
      rw [View.set_slice_whole, Rect.mem_set_unit]
      intro a
      match a with
      | ⟨0, _⟩ => show win0_2.index t 0 * 1024 ≤ (i 0 : Nat) ∧ (i 0 : Nat) < win0_2.index t 0 * 1024 + 1024
                  rw [(at2 t).1]; omega
      | ⟨1, _⟩ => show win0_2.index t 1 * 1024 ≤ (i 1 : Nat) ∧ (i 1 : Nat) < win0_2.index t 1 * 1024 + 1024
                  rw [(at2 t).2]; omega

end

/-! ## The reference -/

theorem reference (x : FVec Ideal Cert.RefMmSsdOutIdeal.S4096x2048 .f32) (y : FVec Ideal Cert.RefMmSsdOutIdeal.S2048x1024 .f32) :
    Host.dotGeneral Cert.RefMmSsdOutIdeal.dot_S4096x2048_S2048x1024_S4096x1024_1_0_0_1_n_n none x y
      = fun i => value x y (i 0).val (i 1).val := by
  funext i
  obtain ⟨a, b, rfl⟩ := ix2_of i
  unfold value
  rw [Finset.sum_range]
  refine Eq.trans (b := (∑ k : Fin 2048, x (ix2 a k) * y (ix2 k b))) (by pointwise) ?_
  exact Finset.sum_congr rfl fun k _ => congrArg₂ (· * ·) (cell_eq _ _ rfl rfl) (cell_eq _ _ rfl rfl)

end Cert.MmSsdOutValue

end
-- ==== Proof.MmConvOut.lean ====
/-
  The convolution branch's output projection in the forward pass.
-/
module

public import proofs.«01_k».proof.Proof.Gen.MmConvOutIdeal.Value
public import proofs.«01_k».proof.Proof.Gen.RefMmConvOutIdeal.Run
public import proofs.«01_k».proof.Proof.Blocked
public import proofs.«01_k».proof.Defs

@[expose] public section

set_option maxRecDepth 16384

noncomputable section

namespace Cert.MmConvOutValue

open Cert.Lift Cert.Blocked Cert.MmConvOutIdeal Cert.MmConvOutIdeal.Gen Cert.MmConvOutIdeal.Value
open Idealize.ShloMosaic Idealize.ShloMosaic.TcCoe Idealize.ShloMosaic.Tactic Idealize.SL.Sem

/-- What the body writes at one point. -/
theorem block {F : FTy → Type} [FloatOps F] (c : Dev nD) (i : grid0.Coords)
    (a3 : Memref sig .tc .vmem S1024x1024 .bf16) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .f32) (h6 : a6.IsWhole)
    (x : Vec F S1024x1024 .bf16) (y : Vec F S1024x1024 .bf16) :
    out0_A_2 c i a3 h3 a4 h4 a5 h5 a6 h6 x y = k0_pay1 x y := by
  unfold out0_A_2
  rw [View.read_writes_eq_canon _ _ _ (cover0_A_2 c i a3 h3 a4 h4 a5 h5 a6 h6 x y)]
  unfold kernelRun0_A
  dsimp only
  sl_unfold_words
  rw [View.canon_unit_zero origin]
  simp only [View.readAt_eq_ld, h3.read_unread, h4.read_unread, View.ld_unit_zero (S := S1024x1024) origin]

section
variable (m : (ℓ : Loc nD τ sig) → Buf (Elt Ideal) ℓ) (c : Dev nD)

abbrev A : FVec Ideal ⟨2, ![4096, 1024]⟩ .f32 := m ((c : Thread nD τ).loc main_arg0)
abbrev B : FVec Ideal ⟨2, ![1024, 1024]⟩ .f32 := m ((c : Thread nD τ).loc main_arg1)

theorem at0 : ∀ t : Fin grid0.N, win0_0.index t 0 = t.val ∧ win0_0.index t 1 = 0 := by decide +kernel
theorem at1 : ∀ t : Fin grid0.N, win0_1.index t 0 = 0 ∧ win0_1.index t 1 = 0 := by decide +kernel
theorem at2 : ∀ t : Fin grid0.N, win0_2.index t 0 = t.val ∧ win0_2.index t 1 = 0 := by decide +kernel

theorem left (t : Fin cfg0.N) (a : Fin 1024) (b : Fin 1024) :
    (iblk m c 0 t : FVec Ideal S1024x1024 .bf16) (ix2 a b) = cell (A m c) (t.val * 1024 + a.val) b.val := by
  unfold iblk; rw [View.read_apply]
  show A m c _ = _
  refine cell_eq _ _ ?_ ?_
  · show win0_0.index t 0 * 1024 + 1 * a.val = _; rw [(at0 t).1, one_mul]
  · show win0_0.index t 1 * 1024 + 1 * b.val = _; rw [(at0 t).2]; omega

theorem right (t : Fin cfg0.N) (a : Fin 1024) (b : Fin 1024) :
    (iblk m c 1 t : FVec Ideal S1024x1024 .bf16) (ix2 a b) = cell (B m c) a.val (0 * 1024 + b.val) := by
  unfold iblk; rw [View.read_apply]
  show B m c _ = _
  refine cell_eq _ _ ?_ ?_
  · show win0_1.index t 0 * 1024 + 1 * a.val = _; rw [(at1 t).1]; omega
  · show win0_1.index t 1 * 1024 + 1 * b.val = _; rw [(at1 t).2, one_mul]

theorem pay (x : FVec Ideal S1024x1024 .bf16) (y : FVec Ideal S1024x1024 .bf16) (a b : Fin 1024) :
    k0_pay1 (F := Ideal) x y (ix2 a b) = (∑ k, (x (ix2 a k) : EReal) * y (ix2 k b)) := by
  unfold k0_pay1; simp only [shapeCast_self]; pointwise

/-- Entry `i`, `j` of the result. -/
def value (A : FVec Ideal ⟨2, ![4096, 1024]⟩ .f32) (B : FVec Ideal ⟨2, ![1024, 1024]⟩ .f32) (i j : ℕ) : EReal :=
  (∑ k ∈ Finset.range 1024, cell A i k * cell B k j)

/-- The result. -/
def whole : FVec Ideal S4096x1024 .f32 := fun i => value (A m c) (B m c) (i 0).val (i 1).val

theorem point (t : Fin cfg0.N) (a b : Fin 1024) :
    (outsAt0 m c t) (ix2 a b) = value (A m c) (B m c) (t.val * 1024 + a.val) (0 * 1024 + b.val) := by
  unfold outsAt0 value
  rw [block, pay, Finset.sum_range]
  exact (Finset.sum_congr rfl fun k _ => by rw [left, right])

theorem flushed_whole (t : Fin cfg0.N) (_ : (cfg0.win 2).flush t = true) :
    (dats m 0 c).flushed 2 t = ((cfg0.win 2).blk t).view.read (Elt Ideal) (whole m c) := by
  rw [flushed2]
  refine funext fun (j : (⟨2, ![1024, 1024]⟩ : Shape).Idx) => ?_
  obtain ⟨a, b, rfl⟩ := ix2_of j
  rw [View.read_apply]
  refine (point m c t a b).trans ?_
  show _ = value (A m c) (B m c) (win0_2.index t 0 * 1024 + 1 * a.val) (win0_2.index t 1 * 1024 + 1 * b.val)
  rw [(at2 t).1, (at2 t).2, one_mul, one_mul]

theorem result : (dats m 0 c).arrAt 2 cfg0.N = whole m c :=
  (dats m 0 c).arrAt_eq_of_cover 2 (whole m c) (flushed_whole m c) fun i => by
    have h0 : (i 0 : Nat) < 4096 := (i 0).isLt
    have h1 : (i 1 : Nat) < 1024 := (i 1).isLt
    refine ⟨⟨(i 0).val / 1024 * 1 + (i 1).val / 1024, ?_⟩, flush0_2 _, ?_⟩
    · rw [show cfg0.N = 4 from N_0]; omega
    · generalize ht : (⟨(i 0).val / 1024 * 1 + (i 1).val / 1024, _⟩ : Fin cfg0.N) = t
      have hv : t.val = (i 0).val / 1024 * 1 + (i 1).val / 1024 := by rw [← ht]
      show i ∈ ((View.whole main_v2).slice (win0_2.rect t)).set
      rw [View.set_slice_whole, Rect.mem_set_unit]
      intro a
      match a with
      | ⟨0, _⟩ => show win0_2.index t 0 * 1024 ≤ (i 0 : Nat) ∧ (i 0 : Nat) < win0_2.index t 0 * 1024 + 1024
                  rw [(at2 t).1]; omega
      | ⟨1, _⟩ => show win0_2.index t 1 * 1024 ≤ (i 1 : Nat) ∧ (i 1 : Nat) < win0_2.index t 1 * 1024 + 1024
                  rw [(at2 t).2]; omega

end

/-! ## The reference -/

theorem reference (x : FVec Ideal Cert.RefMmConvOutIdeal.S4096x1024 .f32) (y : FVec Ideal Cert.RefMmConvOutIdeal.S1024x1024 .f32) :
    Host.dotGeneral Cert.RefMmConvOutIdeal.dot_S4096x1024_S1024x1024_S4096x1024_1_0_0_1_n_n none x y
      = fun i => value x y (i 0).val (i 1).val := by
  funext i
  obtain ⟨a, b, rfl⟩ := ix2_of i
  unfold value
  rw [Finset.sum_range]
  refine Eq.trans (b := (∑ k : Fin 1024, x (ix2 a k) * y (ix2 k b))) (by pointwise) ?_
  exact Finset.sum_congr rfl fun k _ => congrArg₂ (· * ·) (cell_eq _ _ rfl rfl) (cell_eq _ _ rfl rfl)

end Cert.MmConvOutValue

end
-- ==== Proof.MmXo.lean ====
/-
  The memory attention's output projection in the forward pass, added to the residual stream.
-/
module

public import proofs.«01_k».proof.Proof.Gen.MmXoIdeal.Value
public import proofs.«01_k».proof.Proof.Gen.RefMmXoIdeal.Run
public import proofs.«01_k».proof.Proof.Blocked
public import proofs.«01_k».proof.Defs

@[expose] public section

set_option maxRecDepth 16384

noncomputable section

namespace Cert.MmXoValue

open Cert.Lift Cert.Blocked Cert.MmXoIdeal Cert.MmXoIdeal.Gen Cert.MmXoIdeal.Value
open Idealize.ShloMosaic Idealize.ShloMosaic.TcCoe Idealize.ShloMosaic.Tactic Idealize.SL.Sem

/-- What the body writes at one point. -/
theorem block {F : FTy → Type} [FloatOps F] (c : Dev nD) (i : grid0.Coords)
    (a3 : Memref sig .tc .vmem S1024x1024 .bf16) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .f32) (h6 : a6.IsWhole)
    (a7 : Memref sig .tc .vmem S1024x1024 .f32) (h7 : a7.IsWhole)
    (x : Vec F S1024x1024 .bf16) (y : Vec F S1024x1024 .bf16) (u : Vec F S1024x1024 .f32) :
    out0_A_3 c i a3 h3 a4 h4 a5 h5 a6 h6 a7 h7 x y u = k0_pay1 x y u := by
  unfold out0_A_3
  rw [View.read_writes_eq_canon _ _ _ (cover0_A_3 c i a3 h3 a4 h4 a5 h5 a6 h6 a7 h7 x y u)]
  unfold kernelRun0_A
  dsimp only
  sl_unfold_words
  rw [View.canon_unit_zero origin]
  simp only [View.readAt_eq_ld, h3.read_unread, h4.read_unread, h5.read_unread, View.ld_unit_zero (S := S1024x1024) origin]

section
variable (m : (ℓ : Loc nD τ sig) → Buf (Elt Ideal) ℓ) (c : Dev nD)

abbrev A : FVec Ideal ⟨2, ![4096, 1024]⟩ .f32 := m ((c : Thread nD τ).loc main_arg0)
abbrev B : FVec Ideal ⟨2, ![1024, 1024]⟩ .f32 := m ((c : Thread nD τ).loc main_arg1)
abbrev E : FVec Ideal ⟨2, ![4096, 1024]⟩ .f32 := m ((c : Thread nD τ).loc main_arg2)

theorem at0 : ∀ t : Fin grid0.N, win0_0.index t 0 = t.val ∧ win0_0.index t 1 = 0 := by decide +kernel
theorem at1 : ∀ t : Fin grid0.N, win0_1.index t 0 = 0 ∧ win0_1.index t 1 = 0 := by decide +kernel
theorem at2 : ∀ t : Fin grid0.N, win0_2.index t 0 = t.val ∧ win0_2.index t 1 = 0 := by decide +kernel
theorem at3 : ∀ t : Fin grid0.N, win0_3.index t 0 = t.val ∧ win0_3.index t 1 = 0 := by decide +kernel

theorem left (t : Fin cfg0.N) (a : Fin 1024) (b : Fin 1024) :
    (iblk m c 0 t : FVec Ideal S1024x1024 .bf16) (ix2 a b) = cell (A m c) (t.val * 1024 + a.val) b.val := by
  unfold iblk; rw [View.read_apply]
  show A m c _ = _
  refine cell_eq _ _ ?_ ?_
  · show win0_0.index t 0 * 1024 + 1 * a.val = _; rw [(at0 t).1, one_mul]
  · show win0_0.index t 1 * 1024 + 1 * b.val = _; rw [(at0 t).2]; omega

theorem right (t : Fin cfg0.N) (a : Fin 1024) (b : Fin 1024) :
    (iblk m c 1 t : FVec Ideal S1024x1024 .bf16) (ix2 a b) = cell (B m c) a.val (0 * 1024 + b.val) := by
  unfold iblk; rw [View.read_apply]
  show B m c _ = _
  refine cell_eq _ _ ?_ ?_
  · show win0_1.index t 0 * 1024 + 1 * a.val = _; rw [(at1 t).1]; omega
  · show win0_1.index t 1 * 1024 + 1 * b.val = _; rw [(at1 t).2, one_mul]

theorem saved (t : Fin cfg0.N) (a : Fin 1024) (b : Fin 1024) :
    (iblk m c 2 t : FVec Ideal S1024x1024 .f32) (ix2 a b) = cell (E m c) (t.val * 1024 + a.val) (0 * 1024 + b.val) := by
  unfold iblk; rw [View.read_apply]
  show E m c _ = _
  refine cell_eq _ _ ?_ ?_
  · show win0_2.index t 0 * 1024 + 1 * a.val = _; rw [(at2 t).1, one_mul]
  · show win0_2.index t 1 * 1024 + 1 * b.val = _; rw [(at2 t).2]; omega

theorem pay (x : FVec Ideal S1024x1024 .bf16) (y : FVec Ideal S1024x1024 .bf16) (u : FVec Ideal S1024x1024 .f32) (a b : Fin 1024) :
    k0_pay1 (F := Ideal) x y u (ix2 a b) = (∑ k, (x (ix2 a k) : EReal) * y (ix2 k b)) + u (ix2 a b) := by
  unfold k0_pay1; simp only [shapeCast_self]; pointwise

/-- Entry `i`, `j` of the result. -/
def value (A : FVec Ideal ⟨2, ![4096, 1024]⟩ .f32) (B : FVec Ideal ⟨2, ![1024, 1024]⟩ .f32) (E : FVec Ideal ⟨2, ![4096, 1024]⟩ .f32) (i j : ℕ) : EReal :=
  (∑ k ∈ Finset.range 1024, cell A i k * cell B k j) + cell E i j

/-- The result. -/
def whole : FVec Ideal S4096x1024 .f32 := fun i => value (A m c) (B m c) (E m c) (i 0).val (i 1).val

theorem point (t : Fin cfg0.N) (a b : Fin 1024) :
    (outsAt0 m c t) (ix2 a b) = value (A m c) (B m c) (E m c) (t.val * 1024 + a.val) (0 * 1024 + b.val) := by
  unfold outsAt0 value
  rw [block, pay, saved, Finset.sum_range]
  exact congrArg (· + _) (Finset.sum_congr rfl fun k _ => by rw [left, right])

theorem flushed_whole (t : Fin cfg0.N) (_ : (cfg0.win 3).flush t = true) :
    (dats m 0 c).flushed 3 t = ((cfg0.win 3).blk t).view.read (Elt Ideal) (whole m c) := by
  rw [flushed3]
  refine funext fun (j : (⟨2, ![1024, 1024]⟩ : Shape).Idx) => ?_
  obtain ⟨a, b, rfl⟩ := ix2_of j
  rw [View.read_apply]
  refine (point m c t a b).trans ?_
  show _ = value (A m c) (B m c) (E m c) (win0_3.index t 0 * 1024 + 1 * a.val) (win0_3.index t 1 * 1024 + 1 * b.val)
  rw [(at3 t).1, (at3 t).2, one_mul, one_mul]

theorem result : (dats m 0 c).arrAt 3 cfg0.N = whole m c :=
  (dats m 0 c).arrAt_eq_of_cover 3 (whole m c) (flushed_whole m c) fun i => by
    have h0 : (i 0 : Nat) < 4096 := (i 0).isLt
    have h1 : (i 1 : Nat) < 1024 := (i 1).isLt
    refine ⟨⟨(i 0).val / 1024 * 1 + (i 1).val / 1024, ?_⟩, flush0_3 _, ?_⟩
    · rw [show cfg0.N = 4 from N_0]; omega
    · generalize ht : (⟨(i 0).val / 1024 * 1 + (i 1).val / 1024, _⟩ : Fin cfg0.N) = t
      have hv : t.val = (i 0).val / 1024 * 1 + (i 1).val / 1024 := by rw [← ht]
      show i ∈ ((View.whole main_v2).slice (win0_3.rect t)).set
      rw [View.set_slice_whole, Rect.mem_set_unit]
      intro a
      match a with
      | ⟨0, _⟩ => show win0_3.index t 0 * 1024 ≤ (i 0 : Nat) ∧ (i 0 : Nat) < win0_3.index t 0 * 1024 + 1024
                  rw [(at3 t).1]; omega
      | ⟨1, _⟩ => show win0_3.index t 1 * 1024 ≤ (i 1 : Nat) ∧ (i 1 : Nat) < win0_3.index t 1 * 1024 + 1024
                  rw [(at3 t).2]; omega

end

/-! ## The reference -/

theorem reference (x : FVec Ideal Cert.RefMmXoIdeal.S4096x1024 .f32) (y : FVec Ideal Cert.RefMmXoIdeal.S1024x1024 .f32) (u : FVec Ideal Cert.RefMmXoIdeal.S4096x1024 .f32) :
    addf u (Host.dotGeneral Cert.RefMmXoIdeal.dot_S4096x1024_S1024x1024_S4096x1024_1_0_0_1_n_n none x y)
      = fun i => value x y u (i 0).val (i 1).val := by
  funext i
  obtain ⟨a, b, rfl⟩ := ix2_of i
  unfold value
  rw [Finset.sum_range]
  refine Eq.trans (b := u (ix2 a b) + (∑ k : Fin 1024, x (ix2 a k) * y (ix2 k b))) (by pointwise) ?_
  exact (add_comm _ _).trans (congrArg₂ (· + ·) (Finset.sum_congr rfl fun k _ => congrArg₂ (· * ·) (cell_eq _ _ rfl rfl) (cell_eq _ _ rfl rfl)) (cell_eq _ _ rfl rfl))

end Cert.MmXoValue

end
-- ==== Proof.Others.lean ====
/-
  The claims about the merge of the branches, the norms and the remaining products: for each, the kernel's results and the
  reference's are the same sums, entry by entry.
-/
module

public import proofs.«01_k».proof.Proof.MergeBwd
public import proofs.«01_k».proof.Proof.RmsBwd
public import proofs.«01_k».proof.Proof.LnSiluBwd
public import proofs.«01_k».proof.Proof.SsdOutDw
public import proofs.«01_k».proof.Proof.SsdOutDx
public import proofs.«01_k».proof.Proof.XoDw
public import proofs.«01_k».proof.Proof.XoDx
public import proofs.«01_k».proof.Proof.ConvOutDw
public import proofs.«01_k».proof.Proof.ConvOutDx
public import proofs.«01_k».proof.Proof.MmIn
public import proofs.«01_k».proof.Proof.MmUp
public import proofs.«01_k».proof.Proof.MmDown
public import proofs.«01_k».proof.Proof.MmSsdOut
public import proofs.«01_k».proof.Proof.MmConvOut
public import proofs.«01_k».proof.Proof.MmXo
public import Idealize.ShloMosaic.Lib.Claim
public import Idealize.ShloMosaic.Adequacy
public import Idealize.ShloMosaic.Init

@[expose] public section

noncomputable section

namespace Cert.Others

open Idealize.ShloMosaic Idealize.SL.Sem

theorem frame_refMergeBwd [Cert.RefMergeBwdIdeal.Facts] : Cert.quiescent_RefMergeBwdIdeal := fun m ρ _ =>
  (θ_run Cert.RefMergeBwdIdeal.defs _ _).mono (fun r h => ⟨fun c => (h c).2.2.2.2.2.2.2, sem_eq_zero_of_no_sems (by decide) r.2⟩)
    (Cert.RefMergeBwdIdeal.Value.run m ρ)

theorem mergeBwd [Cert.MergeBwdIdeal.Facts] [Cert.RefMergeBwdIdeal.Facts] : Cert.algebraic_MergeBwdIdeal_RefMergeBwdIdeal := fun m g m' g' _ hm => by
  refine ⟨fun c => Cert.MergeBwdValue.whole8 m c, fun c => Cert.MergeBwdValue.whole9 m c, fun c => Cert.MergeBwdValue.whole10 m c, fun c => Cert.MergeBwdValue.whole11 m c, fun c => Cert.MergeBwdValue.whole12 m c, fun c => Cert.MergeBwdValue.whole13 m c, fun c => Cert.MergeBwdValue.whole14 m c,
    (θ_run Cert.MergeBwdIdeal.defs _ _).mono (fun r h c => ⟨(h c).1.trans (Cert.MergeBwdValue.result8 m c), (h c).2.1.trans (Cert.MergeBwdValue.result9 m c), (h c).2.2.1.trans (Cert.MergeBwdValue.result10 m c), (h c).2.2.2.1.trans (Cert.MergeBwdValue.result11 m c), (h c).2.2.2.2.1.trans (Cert.MergeBwdValue.result12 m c), (h c).2.2.2.2.2.1.trans (Cert.MergeBwdValue.result13 m c), (h c).2.2.2.2.2.2.1.trans (Cert.MergeBwdValue.result14 m c), (h c).2.2.2.2.2.2.2⟩) (Cert.MergeBwdIdeal.Value.run_blocks m g),
    (θ_run Cert.RefMergeBwdIdeal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩) (Cert.RefMergeBwdIdeal.Value.run m' g')⟩
  · obtain ⟨e0, e1, e2, e3, e4, e5⟩ := hm c
    rw [e0, e1, e2, e3, e4, e5]
    exact Cert.MergeBwdValue.turned_a _ _ _ _ _ _
  · obtain ⟨e0, e1, e2, e3, e4, e5⟩ := hm c
    rw [e0, e1, e2, e3, e4, e5]
    exact Cert.MergeBwdValue.turned_b _ _ _ _ _ _
  · obtain ⟨e0, e1, e2, e3, e4, e5⟩ := hm c
    rw [e0, e1, e2, e3, e4, e5]
    exact Cert.MergeBwdValue.turned_c _ _ _ _ _ _
  · obtain ⟨e0, e1, e2, e3, e4, e5⟩ := hm c
    rw [e0, e4, e5]
    exact Cert.MergeBwdValue.passed_a _ _ _
  · obtain ⟨e0, e1, e2, e3, e4, e5⟩ := hm c
    rw [e0, e4, e5]
    exact Cert.MergeBwdValue.passed_b _ _ _
  · obtain ⟨e0, e1, e2, e3, e4, e5⟩ := hm c
    rw [e0, e4, e5]
    exact Cert.MergeBwdValue.passed_c _ _ _
  · obtain ⟨e0, e1, e2, e3, e4, e5⟩ := hm c
    rw [e0, e1, e2, e3, e4, e5]
    exact Cert.MergeBwdValue.offsets _ _ _ _ _ _

theorem frame_refRmsBwd [Cert.RefRmsBwdIdeal.Facts] : Cert.quiescent_RefRmsBwdIdeal := fun m ρ _ =>
  (θ_run Cert.RefRmsBwdIdeal.defs _ _).mono (fun r h => ⟨fun c => (h c).2.2, sem_eq_zero_of_no_sems (by decide) r.2⟩)
    (Cert.RefRmsBwdIdeal.Value.run m ρ)

theorem rmsBwd [Cert.RmsBwdIdeal.Facts] [Cert.RefRmsBwdIdeal.Facts] : Cert.algebraic_RmsBwdIdeal_RefRmsBwdIdeal := fun m g m' g' _ hm => by
  refine ⟨fun c => Cert.RmsBwdValue.whole m c, fun c => Cert.RmsBwdValue.wholeG m c,
    (θ_run Cert.RmsBwdIdeal.defs _ _).mono (fun r h c => ⟨(h c).1.trans (Cert.RmsBwdValue.result m c), (h c).2.1.trans (Cert.RmsBwdValue.result_gain m c), (h c).2.2⟩) (Cert.RmsBwdIdeal.Value.run_blocks m g),
    (θ_run Cert.RefRmsBwdIdeal.defs _ _).mono (fun r h c => ⟨(h c).1.trans ?_, (h c).2.1.trans ?_, (h c).2.2⟩) (Cert.RefRmsBwdIdeal.Value.run m' g')⟩
  · obtain ⟨e0, e1, e2, e3⟩ := hm c
    rw [e0, e1, e2, e3]
    exact Cert.RmsBwdValue.reference _ _ _ _
  · obtain ⟨e0, e1, e2, e3⟩ := hm c
    rw [e0, e2]
    exact Cert.RmsBwdValue.reference_gain _ _

theorem frame_refLnSiluBwd [Cert.RefLnSiluBwdIdeal.Facts] : Cert.quiescent_RefLnSiluBwdIdeal := fun m ρ _ =>
  (θ_run Cert.RefLnSiluBwdIdeal.defs _ _).mono (fun r h => ⟨fun c => (h c).2.2.2, sem_eq_zero_of_no_sems (by decide) r.2⟩)
    (Cert.RefLnSiluBwdIdeal.Value.run m ρ)

theorem lnSiluBwd [Cert.LnSiluBwdIdeal.Facts] [Cert.RefLnSiluBwdIdeal.Facts] : Cert.algebraic_LnSiluBwdIdeal_RefLnSiluBwdIdeal := fun m g m' g' _ hm => by
  refine ⟨fun c => Cert.LnSiluBwdValue.whole (Cert.LnSiluBwdValue.X m c) (Cert.LnSiluBwdValue.D m c) (Cert.LnSiluBwdValue.G m c) (Cert.LnSiluBwdValue.B m c), fun c => Cert.LnSiluBwdValue.wholeG (Cert.LnSiluBwdValue.X m c) (Cert.LnSiluBwdValue.D m c) (Cert.LnSiluBwdValue.G m c) (Cert.LnSiluBwdValue.B m c), fun c => Cert.LnSiluBwdValue.wholeB (Cert.LnSiluBwdValue.X m c) (Cert.LnSiluBwdValue.D m c) (Cert.LnSiluBwdValue.G m c) (Cert.LnSiluBwdValue.B m c),
    (θ_run Cert.LnSiluBwdIdeal.defs _ _).mono (fun r h c => ⟨(h c).1.trans (Cert.LnSiluBwdValue.result m c), (h c).2.1.trans (Cert.LnSiluBwdValue.result_gain m c), (h c).2.2.1.trans (Cert.LnSiluBwdValue.result_offset m c), (h c).2.2.2⟩) (Cert.LnSiluBwdIdeal.Value.run_blocks m g),
    (θ_run Cert.RefLnSiluBwdIdeal.defs _ _).mono (fun r h c => ⟨(h c).1.trans ?_, (h c).2.1.trans ?_, (h c).2.2.1.trans ?_, (h c).2.2.2⟩) (Cert.RefLnSiluBwdIdeal.Value.run m' g')⟩
  · obtain ⟨e0, e1, e2, e3⟩ := hm c
    have h := Cert.LnSiluBwdValue.reference m' c
    unfold Cert.LnSiluBwdValue.rX Cert.LnSiluBwdValue.rD Cert.LnSiluBwdValue.rG Cert.LnSiluBwdValue.rB at h
    rw [e0, e1, e2, e3] at h
    exact h
  · obtain ⟨e0, e1, e2, e3⟩ := hm c
    have h := Cert.LnSiluBwdValue.reference_gain m' c
    unfold Cert.LnSiluBwdValue.rX Cert.LnSiluBwdValue.rD Cert.LnSiluBwdValue.rG Cert.LnSiluBwdValue.rB at h
    rw [e0, e1, e2, e3] at h
    exact h
  · obtain ⟨e0, e1, e2, e3⟩ := hm c
    have h := Cert.LnSiluBwdValue.reference_offset m' c
    unfold Cert.LnSiluBwdValue.rX Cert.LnSiluBwdValue.rD Cert.LnSiluBwdValue.rG Cert.LnSiluBwdValue.rB at h
    rw [e0, e1, e2, e3] at h
    exact h

theorem frame_refSsdOutDw [Cert.RefSsdOutDwIdeal.Facts] : Cert.quiescent_RefSsdOutDwIdeal := fun m ρ _ =>
  (θ_run Cert.RefSsdOutDwIdeal.defs _ _).mono (fun r h => ⟨fun c => (h c).2, sem_eq_zero_of_no_sems (by decide) r.2⟩)
    (Cert.RefSsdOutDwIdeal.Value.run m ρ)

theorem ssdOutDw [Cert.SsdOutDwIdeal.Facts] [Cert.RefSsdOutDwIdeal.Facts] : Cert.algebraic_SsdOutDwIdeal_RefSsdOutDwIdeal := fun m g m' g' _ hm => by
  refine ⟨fun c => Cert.SsdOutDwValue.whole m c,
    (θ_run Cert.SsdOutDwIdeal.defs _ _).mono (fun r h c => ⟨(h c).1.trans (Cert.SsdOutDwValue.result m c), (h c).2⟩) (Cert.SsdOutDwIdeal.Value.run_blocks m g),
    (θ_run Cert.RefSsdOutDwIdeal.defs _ _).mono (fun r h c => ⟨(h c).1.trans ?_, (h c).2⟩) (Cert.RefSsdOutDwIdeal.Value.run m' g')⟩
  obtain ⟨e0, e1⟩ := hm c
  rw [e0, e1]
  exact Cert.SsdOutDwValue.reference _ _

theorem frame_refSsdOutDx [Cert.RefSsdOutDxIdeal.Facts] : Cert.quiescent_RefSsdOutDxIdeal := fun m ρ _ =>
  (θ_run Cert.RefSsdOutDxIdeal.defs _ _).mono (fun r h => ⟨fun c => (h c).2, sem_eq_zero_of_no_sems (by decide) r.2⟩)
    (Cert.RefSsdOutDxIdeal.Value.run m ρ)

theorem ssdOutDx [Cert.SsdOutDxIdeal.Facts] [Cert.RefSsdOutDxIdeal.Facts] : Cert.algebraic_SsdOutDxIdeal_RefSsdOutDxIdeal := fun m g m' g' _ hm => by
  refine ⟨fun c => Cert.SsdOutDxValue.whole m c,
    (θ_run Cert.SsdOutDxIdeal.defs _ _).mono (fun r h c => ⟨(h c).1.trans (Cert.SsdOutDxValue.result m c), (h c).2⟩) (Cert.SsdOutDxIdeal.Value.run_blocks m g),
    (θ_run Cert.RefSsdOutDxIdeal.defs _ _).mono (fun r h c => ⟨(h c).1.trans ?_, (h c).2⟩) (Cert.RefSsdOutDxIdeal.Value.run m' g')⟩
  obtain ⟨e0, e1⟩ := hm c
  rw [e0, e1]
  exact Cert.SsdOutDxValue.reference _ _

theorem frame_refXoDw [Cert.RefXoDwIdeal.Facts] : Cert.quiescent_RefXoDwIdeal := fun m ρ _ =>
  (θ_run Cert.RefXoDwIdeal.defs _ _).mono (fun r h => ⟨fun c => (h c).2, sem_eq_zero_of_no_sems (by decide) r.2⟩)
    (Cert.RefXoDwIdeal.Value.run m ρ)

theorem xoDw [Cert.XoDwIdeal.Facts] [Cert.RefXoDwIdeal.Facts] : Cert.algebraic_XoDwIdeal_RefXoDwIdeal := fun m g m' g' _ hm => by
  refine ⟨fun c => Cert.XoDwValue.whole m c,
    (θ_run Cert.XoDwIdeal.defs _ _).mono (fun r h c => ⟨(h c).1.trans (Cert.XoDwValue.result m c), (h c).2⟩) (Cert.XoDwIdeal.Value.run_blocks m g),
    (θ_run Cert.RefXoDwIdeal.defs _ _).mono (fun r h c => ⟨(h c).1.trans ?_, (h c).2⟩) (Cert.RefXoDwIdeal.Value.run m' g')⟩
  obtain ⟨e0, e1⟩ := hm c
  rw [e0, e1]
  exact Cert.XoDwValue.reference _ _

theorem frame_refXoDx [Cert.RefXoDxIdeal.Facts] : Cert.quiescent_RefXoDxIdeal := fun m ρ _ =>
  (θ_run Cert.RefXoDxIdeal.defs _ _).mono (fun r h => ⟨fun c => (h c).2, sem_eq_zero_of_no_sems (by decide) r.2⟩)
    (Cert.RefXoDxIdeal.Value.run m ρ)

theorem xoDx [Cert.XoDxIdeal.Facts] [Cert.RefXoDxIdeal.Facts] : Cert.algebraic_XoDxIdeal_RefXoDxIdeal := fun m g m' g' _ hm => by
  refine ⟨fun c => Cert.XoDxValue.whole m c,
    (θ_run Cert.XoDxIdeal.defs _ _).mono (fun r h c => ⟨(h c).1.trans (Cert.XoDxValue.result m c), (h c).2⟩) (Cert.XoDxIdeal.Value.run_blocks m g),
    (θ_run Cert.RefXoDxIdeal.defs _ _).mono (fun r h c => ⟨(h c).1.trans ?_, (h c).2⟩) (Cert.RefXoDxIdeal.Value.run m' g')⟩
  obtain ⟨e0, e1⟩ := hm c
  rw [e0, e1]
  exact Cert.XoDxValue.reference _ _

theorem frame_refConvOutDw [Cert.RefConvOutDwIdeal.Facts] : Cert.quiescent_RefConvOutDwIdeal := fun m ρ _ =>
  (θ_run Cert.RefConvOutDwIdeal.defs _ _).mono (fun r h => ⟨fun c => (h c).2, sem_eq_zero_of_no_sems (by decide) r.2⟩)
    (Cert.RefConvOutDwIdeal.Value.run m ρ)

theorem convOutDw [Cert.ConvOutDwIdeal.Facts] [Cert.RefConvOutDwIdeal.Facts] : Cert.algebraic_ConvOutDwIdeal_RefConvOutDwIdeal := fun m g m' g' _ hm => by
  refine ⟨fun c => Cert.ConvOutDwValue.whole m c,
    (θ_run Cert.ConvOutDwIdeal.defs _ _).mono (fun r h c => ⟨(h c).1.trans (Cert.ConvOutDwValue.result m c), (h c).2⟩) (Cert.ConvOutDwIdeal.Value.run_blocks m g),
    (θ_run Cert.RefConvOutDwIdeal.defs _ _).mono (fun r h c => ⟨(h c).1.trans ?_, (h c).2⟩) (Cert.RefConvOutDwIdeal.Value.run m' g')⟩
  obtain ⟨e0, e1⟩ := hm c
  rw [e0, e1]
  exact Cert.ConvOutDwValue.reference _ _

theorem frame_refConvOutDx [Cert.RefConvOutDxIdeal.Facts] : Cert.quiescent_RefConvOutDxIdeal := fun m ρ _ =>
  (θ_run Cert.RefConvOutDxIdeal.defs _ _).mono (fun r h => ⟨fun c => (h c).2, sem_eq_zero_of_no_sems (by decide) r.2⟩)
    (Cert.RefConvOutDxIdeal.Value.run m ρ)

theorem convOutDx [Cert.ConvOutDxIdeal.Facts] [Cert.RefConvOutDxIdeal.Facts] : Cert.algebraic_ConvOutDxIdeal_RefConvOutDxIdeal := fun m g m' g' _ hm => by
  refine ⟨fun c => Cert.ConvOutDxValue.whole m c,
    (θ_run Cert.ConvOutDxIdeal.defs _ _).mono (fun r h c => ⟨(h c).1.trans (Cert.ConvOutDxValue.result m c), (h c).2⟩) (Cert.ConvOutDxIdeal.Value.run_blocks m g),
    (θ_run Cert.RefConvOutDxIdeal.defs _ _).mono (fun r h c => ⟨(h c).1.trans ?_, (h c).2⟩) (Cert.RefConvOutDxIdeal.Value.run m' g')⟩
  obtain ⟨e0, e1⟩ := hm c
  rw [e0, e1]
  exact Cert.ConvOutDxValue.reference _ _

theorem frame_refMmIn [Cert.RefMmInIdeal.Facts] : Cert.quiescent_RefMmInIdeal := fun m ρ _ =>
  (θ_run Cert.RefMmInIdeal.defs _ _).mono (fun r h => ⟨fun c => (h c).2, sem_eq_zero_of_no_sems (by decide) r.2⟩)
    (Cert.RefMmInIdeal.Value.run m ρ)

theorem mmIn [Cert.MmInIdeal.Facts] [Cert.RefMmInIdeal.Facts] : Cert.algebraic_MmInIdeal_RefMmInIdeal := fun m g m' g' _ hm => by
  refine ⟨fun c => Cert.MmInValue.whole m c,
    (θ_run Cert.MmInIdeal.defs _ _).mono (fun r h c => ⟨(h c).1.trans (Cert.MmInValue.result m c), (h c).2⟩) (Cert.MmInIdeal.Value.run_blocks m g),
    (θ_run Cert.RefMmInIdeal.defs _ _).mono (fun r h c => ⟨(h c).1.trans ?_, (h c).2⟩) (Cert.RefMmInIdeal.Value.run m' g')⟩
  obtain ⟨e0, e1⟩ := hm c
  rw [e0, e1]
  exact Cert.MmInValue.reference _ _

theorem frame_refMmUp [Cert.RefMmUpIdeal.Facts] : Cert.quiescent_RefMmUpIdeal := fun m ρ _ =>
  (θ_run Cert.RefMmUpIdeal.defs _ _).mono (fun r h => ⟨fun c => (h c).2.2, sem_eq_zero_of_no_sems (by decide) r.2⟩)
    (Cert.RefMmUpIdeal.Value.run m ρ)

theorem mmUp [Cert.MmUpIdeal.Facts] [Cert.RefMmUpIdeal.Facts] : Cert.algebraic_MmUpIdeal_RefMmUpIdeal := fun m g m' g' _ hm => by
  refine ⟨fun c => Cert.MmUpValue.whole m c, fun c => Cert.MmUpValue.whole' m c,
    (θ_run Cert.MmUpIdeal.defs _ _).mono (fun r h c => ⟨(h c).1.trans (Cert.MmUpValue.result m c), (h c).2.1.trans (Cert.MmUpValue.result' m c), (h c).2.2⟩) (Cert.MmUpIdeal.Value.run_blocks m g),
    (θ_run Cert.RefMmUpIdeal.defs _ _).mono (fun r h c => ⟨(h c).1.trans ?_, (h c).2.1.trans ?_, (h c).2.2⟩) (Cert.RefMmUpIdeal.Value.run m' g')⟩
  · obtain ⟨e0, e1⟩ := hm c
    rw [e0, e1]
    exact Cert.MmUpValue.reference _ _
  · obtain ⟨e0, e1⟩ := hm c
    rw [e0, e1]
    exact Cert.MmUpValue.reference' _ _

theorem frame_refMmDown [Cert.RefMmDownIdeal.Facts] : Cert.quiescent_RefMmDownIdeal := fun m ρ _ =>
  (θ_run Cert.RefMmDownIdeal.defs _ _).mono (fun r h => ⟨fun c => (h c).2, sem_eq_zero_of_no_sems (by decide) r.2⟩)
    (Cert.RefMmDownIdeal.Value.run m ρ)

theorem mmDown [Cert.MmDownIdeal.Facts] [Cert.RefMmDownIdeal.Facts] : Cert.algebraic_MmDownIdeal_RefMmDownIdeal := fun m g m' g' _ hm => by
  refine ⟨fun c => Cert.MmDownValue.whole m c,
    (θ_run Cert.MmDownIdeal.defs _ _).mono (fun r h c => ⟨(h c).1.trans (Cert.MmDownValue.result m c), (h c).2⟩) (Cert.MmDownIdeal.Value.run_blocks m g),
    (θ_run Cert.RefMmDownIdeal.defs _ _).mono (fun r h c => ⟨(h c).1.trans ?_, (h c).2⟩) (Cert.RefMmDownIdeal.Value.run m' g')⟩
  obtain ⟨e0, e1, e2⟩ := hm c
  rw [e0, e1, e2]
  exact Cert.MmDownValue.reference _ _ _

theorem frame_refMmSsdOut [Cert.RefMmSsdOutIdeal.Facts] : Cert.quiescent_RefMmSsdOutIdeal := fun m ρ _ =>
  (θ_run Cert.RefMmSsdOutIdeal.defs _ _).mono (fun r h => ⟨fun c => (h c).2, sem_eq_zero_of_no_sems (by decide) r.2⟩)
    (Cert.RefMmSsdOutIdeal.Value.run m ρ)

theorem mmSsdOut [Cert.MmSsdOutIdeal.Facts] [Cert.RefMmSsdOutIdeal.Facts] : Cert.algebraic_MmSsdOutIdeal_RefMmSsdOutIdeal := fun m g m' g' _ hm => by
  refine ⟨fun c => Cert.MmSsdOutValue.whole m c,
    (θ_run Cert.MmSsdOutIdeal.defs _ _).mono (fun r h c => ⟨(h c).1.trans (Cert.MmSsdOutValue.result m c), (h c).2⟩) (Cert.MmSsdOutIdeal.Value.run_blocks m g),
    (θ_run Cert.RefMmSsdOutIdeal.defs _ _).mono (fun r h c => ⟨(h c).1.trans ?_, (h c).2⟩) (Cert.RefMmSsdOutIdeal.Value.run m' g')⟩
  obtain ⟨e0, e1⟩ := hm c
  rw [e0, e1]
  exact Cert.MmSsdOutValue.reference _ _

theorem frame_refMmConvOut [Cert.RefMmConvOutIdeal.Facts] : Cert.quiescent_RefMmConvOutIdeal := fun m ρ _ =>
  (θ_run Cert.RefMmConvOutIdeal.defs _ _).mono (fun r h => ⟨fun c => (h c).2, sem_eq_zero_of_no_sems (by decide) r.2⟩)
    (Cert.RefMmConvOutIdeal.Value.run m ρ)

theorem mmConvOut [Cert.MmConvOutIdeal.Facts] [Cert.RefMmConvOutIdeal.Facts] : Cert.algebraic_MmConvOutIdeal_RefMmConvOutIdeal := fun m g m' g' _ hm => by
  refine ⟨fun c => Cert.MmConvOutValue.whole m c,
    (θ_run Cert.MmConvOutIdeal.defs _ _).mono (fun r h c => ⟨(h c).1.trans (Cert.MmConvOutValue.result m c), (h c).2⟩) (Cert.MmConvOutIdeal.Value.run_blocks m g),
    (θ_run Cert.RefMmConvOutIdeal.defs _ _).mono (fun r h c => ⟨(h c).1.trans ?_, (h c).2⟩) (Cert.RefMmConvOutIdeal.Value.run m' g')⟩
  obtain ⟨e0, e1⟩ := hm c
  rw [e0, e1]
  exact Cert.MmConvOutValue.reference _ _

theorem frame_refMmXo [Cert.RefMmXoIdeal.Facts] : Cert.quiescent_RefMmXoIdeal := fun m ρ _ =>
  (θ_run Cert.RefMmXoIdeal.defs _ _).mono (fun r h => ⟨fun c => (h c).2, sem_eq_zero_of_no_sems (by decide) r.2⟩)
    (Cert.RefMmXoIdeal.Value.run m ρ)

theorem mmXo [Cert.MmXoIdeal.Facts] [Cert.RefMmXoIdeal.Facts] : Cert.algebraic_MmXoIdeal_RefMmXoIdeal := fun m g m' g' _ hm => by
  refine ⟨fun c => Cert.MmXoValue.whole m c,
    (θ_run Cert.MmXoIdeal.defs _ _).mono (fun r h c => ⟨(h c).1.trans (Cert.MmXoValue.result m c), (h c).2⟩) (Cert.MmXoIdeal.Value.run_blocks m g),
    (θ_run Cert.RefMmXoIdeal.defs _ _).mono (fun r h c => ⟨(h c).1.trans ?_, (h c).2⟩) (Cert.RefMmXoIdeal.Value.run m' g')⟩
  obtain ⟨e0, e1, e2⟩ := hm c
  rw [e0, e1, e2]
  exact Cert.MmXoValue.reference _ _ _

end Cert.Others

end
-- ==== Proof.ConvB.lean ====
/-
  The short convolution of the forward pass along the sequence: four taps per channel, a bias, and the result gated
  by its own logistic. A block of rows reaches three rows back, into the block before it; the kernel lays the last
  rows of that block and its own rows one after the other into one buffer and reads the taps out of it.
-/
module

public import proofs.«01_k».proof.Proof.Gen.ConvBIdeal.Value
public import proofs.«01_k».proof.Proof.Gen.RefConvBIdeal.Run
public import proofs.«01_k».proof.Proof.Rows
public import proofs.«01_k».proof.Defs

@[expose] public section

set_option maxRecDepth 16384

noncomputable section

namespace Cert.ConvBValue

open Cert.Lift Cert.Blocked Cert.Rows Cert.ConvBIdeal Cert.ConvBIdeal.Gen Cert.ConvBIdeal.Value
open Idealize.ShloMosaic Idealize.ShloMosaic.TcCoe Idealize.ShloMosaic.Tactic Idealize.SL.Sem

/-! ## One block -/

/-- The bias and the four products, added in the kernel's order. -/
def acc (b x0 w0 x1 w1 x2 w2 x3 w3 : EReal) : EReal := b + x0 * w0 + x1 * w1 + x2 * w2 + x3 * w3

theorem acc_congr {b x0 w0 x1 w1 x2 w2 x3 w3 b' x0' w0' x1' w1' x2' w2' x3' w3' : EReal} (e : b = b') (e0 : x0 = x0') (f0 : w0 = w0')
    (e1 : x1 = x1') (f1 : w1 = w1') (e2 : x2 = x2') (f2 : w2 = w2') (e3 : x3 = x3') (f3 : w3 = w3') :
    acc b x0 w0 x1 w1 x2 w2 x3 w3 = acc b' x0' w0' x1' w1' x2' w2' x3' w3' := by subst e e0 f0 e1 f1 e2 f2 e3 f3; rfl

/-- A number times its logistic. -/
def silu (x : EReal) : EReal := x * Ideal.logistic x

section
variable (b : FVec Ideal S1x256 .f32) (x0 : FVec Ideal S128x256 .f32) (w0 : FVec Ideal S1x256 .f32)
  (x1 : FVec Ideal S128x256 .f32) (w1 : FVec Ideal S1x256 .f32) (x2 : FVec Ideal S128x256 .f32) (w2 : FVec Ideal S1x256 .f32)
  (x3 : FVec Ideal S128x256 .f32) (w3 : FVec Ideal S1x256 .f32) (i : S128x256.Idx)

/-- The taps of one entry, out of the loaded rows. -/
abbrev taps : EReal :=
  acc (b (ix2 0 (i 1))) (x0 i) (w0 (ix2 0 (i 1))) (x1 i) (w1 (ix2 0 (i 1))) (x2 i) (w2 (ix2 0 (i 1))) (x3 i) (w3 (ix2 0 (i 1)))

theorem pay1 : k0_pay1 (F := Ideal) b x0 w0 x1 w1 x2 w2 x3 w3 i = taps b x0 w0 x1 w1 x2 w2 x3 w3 i := by
  obtain ⟨r, d, rfl⟩ := ix2_of i
  unfold k0_pay1 taps acc; simp only [shapeCast_self]; pointwise
theorem pay8 : k0_pay8 (F := Ideal) b x0 w0 x1 w1 x2 w2 x3 w3 i = taps b x0 w0 x1 w1 x2 w2 x3 w3 i := pay1 ..
theorem pay10 : k0_pay10 (F := Ideal) b x0 w0 x1 w1 x2 w2 x3 w3 i = taps b x0 w0 x1 w1 x2 w2 x3 w3 i := pay1 ..
theorem pay6 : k0_pay6 (F := Ideal) (k0_pay5 b x0 w0 x1 w1 x2 w2) x3 w3 i = taps b x0 w0 x1 w1 x2 w2 x3 w3 i := pay1 ..
theorem pay2 : k0_pay2 (F := Ideal) b x0 w0 x1 w1 x2 w2 x3 w3 i = silu (taps b x0 w0 x1 w1 x2 w2 x3 w3 i) :=
  congrArg silu (pay1 b x0 w0 x1 w1 x2 w2 x3 w3 i)
theorem pay9 : k0_pay9 (F := Ideal) (k0_pay8 b x0 w0 x1 w1 x2 w2 x3 w3) i = silu (taps b x0 w0 x1 w1 x2 w2 x3 w3 i) := pay2 ..
theorem pay11 : k0_pay11 (F := Ideal) b x0 w0 x1 w1 x2 w2 x3 w3 i = silu (taps b x0 w0 x1 w1 x2 w2 x3 w3 i) := pay2 ..
theorem pay7 : k0_pay7 (F := Ideal) (k0_pay5 b x0 w0 x1 w1 x2 w2) x3 w3 i = silu (taps b x0 w0 x1 w1 x2 w2 x3 w3 i) := pay2 ..

end

/-- The buffer: thirty-two rows of the block before, then the block's own. -/
def stage (h : FVec Ideal S32x256 .f32) (x : FVec Ideal S512x256 .f32) (n d : ℕ) : EReal :=
  if n < 32 then cell h n d else cell x (n - 32) d

/-- What the buffer holds after both stores. -/
theorem staged (h : FVec Ideal S32x256 .f32) (x : FVec Ideal S512x256 .f32) (y : S544x256.Idx) :
    View.canon (Val := Elt Ideal) (e := .f32) [⟨Rect.unit ![32, 0] ![512, 256] inb_S544x256_S512x256_32_0, x⟩,
      ⟨Rect.unit ![0, 0] ![32, 256] inb_S544x256_S32x256_0_0, h⟩] y = stage h x (y 0).val (y 1).val := by
  refine View.canon_apply_of_pieces (S := S544x256) (Val := Elt Ideal) (e := .f32) (fun y => (stage h x (y 0).val (y 1).val : EReal)) _ ?_ y ?_
  · intro p hp z
    simp only [List.mem_cons, List.not_mem_nil, or_false] at hp
    rcases hp with rfl | rfl
    · show x z = stage h x (32 + 1 * (z 0).val) (0 + 1 * (z 1).val)
      unfold stage
      rw [if_neg (by omega)]
      exact cell_eq x z (by omega) (by omega)
    · have hz : (z 0).val < 32 := (z 0).isLt
      show h z = stage h x (0 + 1 * (z 0).val) (0 + 1 * (z 1).val)
      unfold stage
      rw [if_pos (by omega)]
      exact cell_eq h z (by omega) (by omega)
  · have h0 : (y 0 : ℕ) < 544 := (y 0).isLt
    have h1 : (y 1 : ℕ) < 256 := (y 1).isLt
    by_cases hy : (y 0 : ℕ) < 32
    · refine ⟨_, List.mem_cons_of_mem _ (List.mem_singleton_self _), ?_⟩
      rw [Rect.mem_set_unit]
      intro a
      match a with
      | ⟨0, _⟩ => show 0 ≤ (y 0 : ℕ) ∧ (y 0 : ℕ) < 0 + 32; omega
      | ⟨1, _⟩ => show 0 ≤ (y 1 : ℕ) ∧ (y 1 : ℕ) < 0 + 256; omega
    · refine ⟨_, List.mem_cons_self .., ?_⟩
      rw [Rect.mem_set_unit]
      intro a
      match a with
      | ⟨0, _⟩ => show 32 ≤ (y 0 : ℕ) ∧ (y 0 : ℕ) < 32 + 512; omega
      | ⟨1, _⟩ => show 0 ≤ (y 1 : ℕ) ∧ (y 1 : ℕ) < 0 + 256; omega

/-- Rows read back out of the buffer. -/
theorem read_back {sig' : RefSig} {κ : Kind} {sp : Space} (v : View sig' κ sp S544x256 .f32) (h : FVec Ideal S32x256 .f32)
    (x : FVec Ideal S512x256 .f32) (k : ℕ) (inb : ∀ a, (![k, 0] : Fin 2 → ℕ) a + (![128, 256] : Fin 2 → ℕ) a ≤ S544x256.size a)
    (z : S128x256.Idx) :
    v.readCov (Val := Elt Ideal) [⟨Rect.unit ![32, 0] ![512, 256] inb_S544x256_S512x256_32_0, x⟩,
      ⟨Rect.unit ![0, 0] ![32, 256] inb_S544x256_S32x256_0_0, h⟩] (Rect.unit (s := S544x256) ![k, 0] ![128, 256] inb).toLoadRect z
    = stage h x (k + (z 0).val) (z 1).val := by
  rw [View.readCov_eq_canon']
  refine (staged h x _).trans ?_
  show stage h x (k + 1 * (z 0).val) (0 + 1 * (z 1).val) = _
  rw [one_mul, one_mul, Nat.zero_add]

/-- A row of the weights. -/
theorem weight (w : Vec Ideal S4x256 .f32) (k : ℕ) (inb : ∀ a, (![k, 0] : Fin 2 → ℕ) a + (![1, 256] : Fin 2 → ℕ) a ≤ S4x256.size a)
    (d : Fin 256) : View.ld w (Rect.unit (s := S4x256) ![k, 0] ![1, 256] inb) (ix2 0 d) = cell (φ := .f32) w k d.val := by
  refine cell_eq w _ ?_ ?_
  · show k + 1 * 0 = k; omega
  · show 0 + 1 * d.val = d.val; omega

/-- An entry of the block before the gate. -/
def conv (h : FVec Ideal S32x256 .f32) (x : FVec Ideal S512x256 .f32) (w : FVec Ideal S4x256 .f32) (b : FVec Ideal S1x256 .f32)
    (r d : ℕ) : EReal :=
  acc (cell b 0 d) (stage h x (r + 29) d) (cell w 0 d) (stage h x (r + 30) d) (cell w 1 d) (stage h x (r + 31) d) (cell w 2 d)
    (stage h x (r + 32) d) (cell w 3 d)

/-- The taps of one entry of a quarter of the block, read out of the buffer. -/
theorem quarter {sig' : RefSig} {κ : Kind} {sp : Space} (v : View sig' κ sp S544x256 .f32) (h : FVec Ideal S32x256 .f32)
    (x : FVec Ideal S512x256 .f32) (w : Vec Ideal S4x256 .f32) (b : FVec Ideal S1x256 .f32) (k k0 k1 k2 k3 : ℕ)
    (i0 : ∀ a, (![k0, 0] : Fin 2 → ℕ) a + (![128, 256] : Fin 2 → ℕ) a ≤ S544x256.size a)
    (i1 : ∀ a, (![k1, 0] : Fin 2 → ℕ) a + (![128, 256] : Fin 2 → ℕ) a ≤ S544x256.size a)
    (i2 : ∀ a, (![k2, 0] : Fin 2 → ℕ) a + (![128, 256] : Fin 2 → ℕ) a ≤ S544x256.size a)
    (i3 : ∀ a, (![k3, 0] : Fin 2 → ℕ) a + (![128, 256] : Fin 2 → ℕ) a ≤ S544x256.size a)
    (e0 : k0 = k + 29) (e1 : k1 = k + 30) (e2 : k2 = k + 31) (e3 : k3 = k + 32) (z : S128x256.Idx) :
    taps b
      (v.readCov (Val := Elt Ideal) [⟨Rect.unit ![32, 0] ![512, 256] inb_S544x256_S512x256_32_0, x⟩,
        ⟨Rect.unit ![0, 0] ![32, 256] inb_S544x256_S32x256_0_0, h⟩] (Rect.unit (s := S544x256) ![k0, 0] ![128, 256] i0).toLoadRect)
      (View.ld w (Rect.unit (s := S4x256) ![0, 0] ![1, 256] inb_S4x256_S1x256_0_0))
      (v.readCov (Val := Elt Ideal) [⟨Rect.unit ![32, 0] ![512, 256] inb_S544x256_S512x256_32_0, x⟩,
        ⟨Rect.unit ![0, 0] ![32, 256] inb_S544x256_S32x256_0_0, h⟩] (Rect.unit (s := S544x256) ![k1, 0] ![128, 256] i1).toLoadRect)
      (View.ld w (Rect.unit (s := S4x256) ![1, 0] ![1, 256] inb_S4x256_S1x256_1_0))
      (v.readCov (Val := Elt Ideal) [⟨Rect.unit ![32, 0] ![512, 256] inb_S544x256_S512x256_32_0, x⟩,
        ⟨Rect.unit ![0, 0] ![32, 256] inb_S544x256_S32x256_0_0, h⟩] (Rect.unit (s := S544x256) ![k2, 0] ![128, 256] i2).toLoadRect)
      (View.ld w (Rect.unit (s := S4x256) ![2, 0] ![1, 256] inb_S4x256_S1x256_2_0))
      (v.readCov (Val := Elt Ideal) [⟨Rect.unit ![32, 0] ![512, 256] inb_S544x256_S512x256_32_0, x⟩,
        ⟨Rect.unit ![0, 0] ![32, 256] inb_S544x256_S32x256_0_0, h⟩] (Rect.unit (s := S544x256) ![k3, 0] ![128, 256] i3).toLoadRect)
      (View.ld w (Rect.unit (s := S4x256) ![3, 0] ![1, 256] inb_S4x256_S1x256_3_0)) z
    = conv h x w b (k + 1 * (z 0).val) (0 + 1 * (z 1).val) := by
  subst e0 e1 e2 e3
  refine acc_congr (cell_eq b _ rfl (by show (z 1).val = _; omega)) ?_ ?_ ?_ ?_ ?_ ?_ ?_ ?_
  · exact (read_back v h x _ i0 z).trans (congrArg₂ (stage h x) (by omega) (by omega))
  · exact (weight w 0 _ (z 1)).trans (congrArg (cell (φ := .f32) w 0) (by omega))
  · exact (read_back v h x _ i1 z).trans (congrArg₂ (stage h x) (by omega) (by omega))
  · exact (weight w 1 _ (z 1)).trans (congrArg (cell (φ := .f32) w 1) (by omega))
  · exact (read_back v h x _ i2 z).trans (congrArg₂ (stage h x) (by omega) (by omega))
  · exact (weight w 2 _ (z 1)).trans (congrArg (cell (φ := .f32) w 2) (by omega))
  · exact (read_back v h x _ i3 z).trans (congrArg₂ (stage h x) (by omega) (by omega))
  · exact (weight w 3 _ (z 1)).trans (congrArg (cell (φ := .f32) w 3) (by omega))

section
variable (c : Dev nD) (i : grid0.Coords)
  (a2 : Memref sig .tc .vmem S512x256 .f32) (h2 : a2.IsWhole) (a3 : Memref sig .tc .vmem S32x256 .f32) (h3 : a3.IsWhole)
  (a4 : Memref sig .tc .vmem S4x256 .f32) (h4 : a4.IsWhole) (a5 : Memref sig .tc .vmem S1x256 .f32) (h5 : a5.IsWhole)
  (a6 : Memref sig .tc .vmem S512x256 .f32) (h6 : a6.IsWhole) (a7 : Memref sig .tc .vmem S512x256 .f32) (h7 : a7.IsWhole)
  (a8 : Memref sig .tc .vmem S544x256 .f32) (h8 : a8.IsWhole)
  (x : Vec Ideal S512x256 .f32) (p : Vec Ideal S32x256 .f32) (w : Vec Ideal S4x256 .f32) (b : Vec Ideal S1x256 .f32)

theorem pay4 : k0_pay4 (F := Ideal) x = x := shapeCast_self _ _

theorem out4 (y : S512x256.Idx) : out0_A_4 (F := Ideal) c i a2 h2 a3 h3 a4 h4 a5 h5 a6 h6 a7 h7 a8 h8 x p w b y
    = conv (k0_pay3 i p) x w b (y 0).val (y 1).val := by
  unfold out0_A_4
  refine (congrFun (View.read_writes_eq_canon _ _ _ (cover0_A_4 c i a2 h2 a3 h3 a4 h4 a5 h5 a6 h6 a7 h7 a8 h8 x p w b)) y).trans ?_
  refine View.canon_apply_of_pieces (S := S512x256) (Val := Elt Ideal) (e := .f32)
    (fun y => (conv (k0_pay3 i p) x w b (y 0).val (y 1).val : EReal)) _ ?_ y
    (cover0_A_4 c i a2 h2 a3 h3 a4 h4 a5 h5 a6 h6 a7 h7 a8 h8 x p w b y)
  unfold kernelRun0_A
  dsimp only
  sl_unfold_words
  simp only [View.readAt_eq_ld, h2.read_unread, h3.read_unread, h4.read_unread, h5.read_unread, View.ld_unit_zero (S := S512x256) origin,
    View.ld_unit_zero (S := S32x256) origin, View.ld_unit_zero (S := S1x256) origin, pay4]
  intro q hq z
  simp only [List.mem_cons, List.not_mem_nil, or_false] at hq
  rcases hq with rfl | rfl | rfl | rfl
  · exact (pay1 ..).trans (quarter a8.view (k0_pay3 i p) x w b 384 _ _ _ _ _ _ _ _ rfl rfl rfl rfl z)
  · exact (pay10 ..).trans (quarter a8.view (k0_pay3 i p) x w b 256 _ _ _ _ _ _ _ _ rfl rfl rfl rfl z)
  · exact (pay8 ..).trans (quarter a8.view (k0_pay3 i p) x w b 128 _ _ _ _ _ _ _ _ rfl rfl rfl rfl z)
  · exact (pay6 ..).trans (quarter a8.view (k0_pay3 i p) x w b 0 _ _ _ _ _ _ _ _ rfl rfl rfl rfl z)

theorem out5 (y : S512x256.Idx) : out0_A_5 (F := Ideal) c i a2 h2 a3 h3 a4 h4 a5 h5 a6 h6 a7 h7 a8 h8 x p w b y
    = silu (conv (k0_pay3 i p) x w b (y 0).val (y 1).val) := by
  unfold out0_A_5
  refine (congrFun (View.read_writes_eq_canon _ _ _ (cover0_A_5 c i a2 h2 a3 h3 a4 h4 a5 h5 a6 h6 a7 h7 a8 h8 x p w b)) y).trans ?_
  refine View.canon_apply_of_pieces (S := S512x256) (Val := Elt Ideal) (e := .f32)
    (fun y => (silu (conv (k0_pay3 i p) x w b (y 0).val (y 1).val) : EReal)) _ ?_ y
    (cover0_A_5 c i a2 h2 a3 h3 a4 h4 a5 h5 a6 h6 a7 h7 a8 h8 x p w b y)
  unfold kernelRun0_A
  dsimp only
  sl_unfold_words
  simp only [View.readAt_eq_ld, h2.read_unread, h3.read_unread, h4.read_unread, h5.read_unread, View.ld_unit_zero (S := S512x256) origin,
    View.ld_unit_zero (S := S32x256) origin, View.ld_unit_zero (S := S1x256) origin, pay4]
  intro q hq z
  simp only [List.mem_cons, List.not_mem_nil, or_false] at hq
  rcases hq with rfl | rfl | rfl | rfl
  · exact (pay2 ..).trans (congrArg silu (quarter a8.view (k0_pay3 i p) x w b 384 _ _ _ _ _ _ _ _ rfl rfl rfl rfl z))
  · exact (pay11 ..).trans (congrArg silu (quarter a8.view (k0_pay3 i p) x w b 256 _ _ _ _ _ _ _ _ rfl rfl rfl rfl z))
  · exact (pay9 ..).trans (congrArg silu (quarter a8.view (k0_pay3 i p) x w b 128 _ _ _ _ _ _ _ _ rfl rfl rfl rfl z))
  · exact (pay7 ..).trans (congrArg silu (quarter a8.view (k0_pay3 i p) x w b 0 _ _ _ _ _ _ _ _ rfl rfl rfl rfl z))

end

/-! ## The whole arrays -/

/-- The rows with three zero rows before them; the columns are those of the convolved part. -/
def padded (P : FVec Ideal ⟨2, ![4096, 12288]⟩ .f32) (n d : ℕ) : EReal := if n < 3 then 0 else cell P (n - 3) (4096 + d)

/-- An entry of the convolution. -/
def convolved (P : FVec Ideal ⟨2, ![4096, 12288]⟩ .f32) (W : FVec Ideal ⟨2, ![4, 3072]⟩ .f32) (B : FVec Ideal ⟨1, ![3072]⟩ .f32)
    (r : ℕ) (d : Fin 3072) : EReal :=
  acc (B (ix1 d)) (padded P r d.val) (cell W 0 d.val) (padded P (r + 1) d.val) (cell W 1 d.val) (padded P (r + 2) d.val) (cell W 2 d.val)
    (padded P (r + 3) d.val) (cell W 3 d.val)

def wholePre (P : FVec Ideal ⟨2, ![4096, 12288]⟩ .f32) (W : FVec Ideal ⟨2, ![4, 3072]⟩ .f32) (B : FVec Ideal ⟨1, ![3072]⟩ .f32) :
    FVec Ideal ⟨2, ![4096, 3072]⟩ .f32 := fun i => convolved P W B (i 0).val (i 1)

def wholeAct (P : FVec Ideal ⟨2, ![4096, 12288]⟩ .f32) (W : FVec Ideal ⟨2, ![4, 3072]⟩ .f32) (B : FVec Ideal ⟨1, ![3072]⟩ .f32) :
    FVec Ideal ⟨2, ![4096, 3072]⟩ .f32 := fun i => silu (convolved P W B (i 0).val (i 1))

section
variable (m : (ℓ : Loc nD τ sig) → Buf (Elt Ideal) ℓ) (c : Dev nD)

abbrev P : FVec Ideal ⟨2, ![4096, 12288]⟩ .f32 := m ((c : Thread nD τ).loc main_arg0)
abbrev W : FVec Ideal ⟨2, ![4, 3072]⟩ .f32 := m ((c : Thread nD τ).loc main_arg1)
abbrev B : FVec Ideal ⟨1, ![3072]⟩ .f32 := m ((c : Thread nD τ).loc main_arg2)

theorem at0 : ∀ t : Fin grid0.N, win0_0.index t 0 = t.val % 8 ∧ win0_0.index t 1 = 16 + t.val / 8 := by decide +kernel
theorem at1 : ∀ t : Fin grid0.N, win0_1.index t 0 = t.val % 8 * 16 - 1 ∧ win0_1.index t 1 = 16 + t.val / 8 := by decide +kernel
theorem at2 : ∀ t : Fin grid0.N, win0_2.index t 0 = 0 ∧ win0_2.index t 1 = t.val / 8 := by decide +kernel
theorem at3 : ∀ t : Fin grid0.N, win0_3.index t 0 = 0 ∧ win0_3.index t 1 = t.val / 8 := by decide +kernel
theorem at4 : ∀ t : Fin grid0.N, win0_4.index t 0 = t.val % 8 ∧ win0_4.index t 1 = t.val / 8 := by decide +kernel
theorem at5 : ∀ t : Fin grid0.N, win0_5.index t 0 = t.val % 8 ∧ win0_5.index t 1 = t.val / 8 := by decide +kernel
theorem first : ∀ t : Fin grid0.N, Scalar.cmpi .sgt (BitVec.ofNat 32 (grid0.coords t 1).val) 0#32 = if t.val % 8 = 0 then 0#1 else 1#1 := by
  decide +kernel

/-- A block's entry at two numbers inside it. -/
theorem cell_in {n0 n1 : ℕ} (A : FVec Ideal ⟨2, ![n0, n1]⟩ .f32) (a : Fin n0) (b : Fin n1) : cell A a.val b.val = A (ix2 a b) :=
  (cell_eq A (ix2 a b) rfl rfl).symm

theorem own (t : Fin cfg0.N) (a : Fin 512) (b : Fin 256) : cell (φ := .f32) (iblk m c 0 t : FVec Ideal S512x256 .f32) a.val b.val
    = cell (P m c) (t.val % 8 * 512 + a.val) (4096 + (t.val / 8 * 256 + b.val)) := by
  rw [cell_in]
  unfold iblk; rw [View.read_apply]
  show P m c _ = _
  refine cell_eq _ _ ?_ ?_
  · show win0_0.index t 0 * 512 + 1 * a.val = _; rw [(at0 t).1, one_mul]
  · show win0_0.index t 1 * 256 + 1 * b.val = _; rw [(at0 t).2]; omega

theorem before (t : Fin cfg0.N) (a : Fin 32) (b : Fin 256) : cell (φ := .f32) (iblk m c 1 t : FVec Ideal S32x256 .f32) a.val b.val
    = cell (P m c) ((t.val % 8 * 16 - 1) * 32 + a.val) (4096 + (t.val / 8 * 256 + b.val)) := by
  rw [cell_in]
  unfold iblk; rw [View.read_apply]
  show P m c _ = _
  refine cell_eq _ _ ?_ ?_
  · show win0_1.index t 0 * 32 + 1 * a.val = _; rw [(at1 t).1, one_mul]
  · show win0_1.index t 1 * 256 + 1 * b.val = _; rw [(at1 t).2]; omega

theorem weights (t : Fin cfg0.N) (a : Fin 4) (b : Fin 256) : cell (φ := .f32) (iblk m c 2 t : FVec Ideal S4x256 .f32) a.val b.val
    = cell (W m c) a.val (t.val / 8 * 256 + b.val) := by
  rw [cell_in]
  unfold iblk; rw [View.read_apply]
  show W m c _ = _
  refine cell_eq _ _ ?_ ?_
  · show win0_2.index t 0 * 4 + 1 * a.val = _; rw [(at2 t).1]; omega
  · show win0_2.index t 1 * 256 + 1 * b.val = _; rw [(at2 t).2]; omega

/-- A list of numbers, laid out as a matrix of one row. -/
theorem list_row (v : FVec Ideal ⟨1, ![3072]⟩ .f32) (h : (⟨1, ![3072]⟩ : Shape).ShapeCasts ⟨2, ![1, 3072]⟩)
    (i : (⟨2, ![1, 3072]⟩ : Shape).Idx) {b : Fin 3072} (hb : (i 1).val = b.val) :
    shapeCast ⟨2, ![1, 3072]⟩ v h i = v (ix1 b) := by
  obtain ⟨a, b', rfl⟩ := ix2_of i
  obtain rfl : b' = b := Fin.ext hb
  pointwise

theorem bias (t : Fin cfg0.N) (b : Fin 256) (d : Fin 3072) (hd : d.val = t.val / 8 * 256 + b.val) :
    cell (φ := .f32) (iblk m c 3 t : FVec Ideal S1x256 .f32) 0 b.val = B m c (ix1 d) := by
  refine (cell_in _ (0 : Fin 1) b).trans ?_
  unfold iblk; rw [View.read_apply]
  show (shapeCast S1x3072 (B m c) shapeCasts_S3072_S1x3072 : FVec Ideal S1x3072 .f32) _ = _
  refine list_row _ _ _ ?_
  show win0_3.index t 1 * 256 + 1 * b.val = _; rw [(at3 t).2, hd]; omega

/-- The rows before the block, zero at the start of the sequence. -/
theorem halo (t : Fin cfg0.N) (a : Fin 32) (b : Fin 256) :
    cell (k0_pay3 (F := Ideal) (grid0.coords t) (iblk m c 1 t)) a.val b.val
      = if t.val % 8 = 0 then 0 else cell (P m c) ((t.val % 8 * 16 - 1) * 32 + a.val) (4096 + (t.val / 8 * 256 + b.val)) := by
  rw [cell_in, ← before, cell_in]
  unfold k0_pay3
  dsimp only
  rw [shapeCast_self, first]
  by_cases h : t.val % 8 = 0
  · rw [if_pos h, if_pos h]; unfold Scalar.select; rw [if_neg (by decide)]; pointwise
  · rw [if_neg h, if_neg h]; rfl

/-- Out of the buffer come the padded rows. -/
theorem staged_rows (t : Fin cfg0.N) (n r : ℕ) (b : Fin 256) (h : 29 ≤ n) (h' : n < 544) (hr : r + 29 = t.val % 8 * 512 + n) :
    stage (k0_pay3 (F := Ideal) (grid0.coords t) (iblk m c 1 t)) (iblk m c 0 t) n b.val = padded (P m c) r (t.val / 8 * 256 + b.val) := by
  unfold stage padded
  by_cases hn : n < 32
  · rw [if_pos hn]
    refine (halo m c t ⟨n, hn⟩ b).trans ?_
    by_cases h0 : t.val % 8 = 0
    · rw [if_pos h0, if_pos (by omega)]
    · rw [if_neg h0, if_neg (by omega)]
      exact congrArg₂ (cell _) (by show _ + n = _; omega) rfl
  · rw [if_neg hn]
    refine (own m c t ⟨n - 32, by omega⟩ b).trans ?_
    rw [if_neg (by omega)]
    exact congrArg₂ (cell _) (by show _ + (n - 32) = _; omega) rfl

theorem tile (t : Fin cfg0.N) (a : Fin 512) (b : Fin 256) (r : ℕ) (d : Fin 3072) (hr : r = t.val % 8 * 512 + a.val)
    (hd : d.val = t.val / 8 * 256 + b.val) :
    conv (k0_pay3 (F := Ideal) (grid0.coords t) (iblk m c 1 t)) (iblk m c 0 t) (iblk m c 2 t) (iblk m c 3 t) a.val b.val
      = convolved (P m c) (W m c) (B m c) r d := by
  unfold conv convolved
  rw [hd]
  exact acc_congr (bias m c t b d hd) (staged_rows m c t _ _ b (by omega) (by omega) (by omega)) (weights m c t 0 b)
    (staged_rows m c t _ _ b (by omega) (by omega) (by omega)) (weights m c t 1 b)
    (staged_rows m c t _ _ b (by omega) (by omega) (by omega)) (weights m c t 2 b)
    (staged_rows m c t _ _ b (by omega) (by omega) (by omega)) (weights m c t 3 b)

theorem flushed_Pre (t : Fin cfg0.N) (_ : (cfg0.win 4).flush t = true) :
    (dats m 0 c).flushed 4 t = ((cfg0.win 4).blk t).view.read (Elt Ideal) (wholePre (P m c) (W m c) (B m c)) := by
  rw [flushed4_A]
  refine funext fun (j : (⟨2, ![512, 256]⟩ : Shape).Idx) => ?_
  obtain ⟨a, b, rfl⟩ := ix2_of j
  rw [View.read_apply]
  refine (out4 ..).trans ?_
  refine tile m c t a b _ _ ?_ ?_
  · show win0_4.index t 0 * 512 + 1 * a.val = _; rw [(at4 t).1, one_mul]
  · show win0_4.index t 1 * 256 + 1 * b.val = _; rw [(at4 t).2, one_mul]

theorem result_Pre : (dats m 0 c).arrAt 4 cfg0.N = wholePre (P m c) (W m c) (B m c) :=
  (dats m 0 c).arrAt_eq_of_cover 4 (wholePre (P m c) (W m c) (B m c)) (flushed_Pre m c) fun i => by
    have h0 : (i 0 : Nat) < 4096 := (i 0).isLt
    have h1 : (i 1 : Nat) < 3072 := (i 1).isLt
    refine ⟨⟨(i 1).val / 256 * 8 + (i 0).val / 512, ?_⟩, flush0_4 _, ?_⟩
    · rw [show cfg0.N = 96 from N_0]; omega
    · generalize ht : (⟨(i 1).val / 256 * 8 + (i 0).val / 512, _⟩ : Fin cfg0.N) = t
      have hv : t.val = (i 1).val / 256 * 8 + (i 0).val / 512 := by rw [← ht]
      show i ∈ ((View.whole main_v1_0).slice (win0_4.rect t)).set
      rw [View.set_slice_whole, Rect.mem_set_unit]
      intro a
      match a with
      | ⟨0, _⟩ => show win0_4.index t 0 * 512 ≤ (i 0 : Nat) ∧ (i 0 : Nat) < win0_4.index t 0 * 512 + 512
                  rw [(at4 t).1]; omega
      | ⟨1, _⟩ => show win0_4.index t 1 * 256 ≤ (i 1 : Nat) ∧ (i 1 : Nat) < win0_4.index t 1 * 256 + 256
                  rw [(at4 t).2]; omega

theorem flushed_Act (t : Fin cfg0.N) (_ : (cfg0.win 5).flush t = true) :
    (dats m 0 c).flushed 5 t = ((cfg0.win 5).blk t).view.read (Elt Ideal) (wholeAct (P m c) (W m c) (B m c)) := by
  rw [flushed5_A]
  refine funext fun (j : (⟨2, ![512, 256]⟩ : Shape).Idx) => ?_
  obtain ⟨a, b, rfl⟩ := ix2_of j
  rw [View.read_apply]
  refine (out5 ..).trans ?_
  refine congrArg silu (tile m c t a b _ _ ?_ ?_)
  · show win0_5.index t 0 * 512 + 1 * a.val = _; rw [(at5 t).1, one_mul]
  · show win0_5.index t 1 * 256 + 1 * b.val = _; rw [(at5 t).2, one_mul]

theorem result_Act : (dats m 0 c).arrAt 5 cfg0.N = wholeAct (P m c) (W m c) (B m c) :=
  (dats m 0 c).arrAt_eq_of_cover 5 (wholeAct (P m c) (W m c) (B m c)) (flushed_Act m c) fun i => by
    have h0 : (i 0 : Nat) < 4096 := (i 0).isLt
    have h1 : (i 1 : Nat) < 3072 := (i 1).isLt
    refine ⟨⟨(i 1).val / 256 * 8 + (i 0).val / 512, ?_⟩, flush0_5 _, ?_⟩
    · rw [show cfg0.N = 96 from N_0]; omega
    · generalize ht : (⟨(i 1).val / 256 * 8 + (i 0).val / 512, _⟩ : Fin cfg0.N) = t
      have hv : t.val = (i 1).val / 256 * 8 + (i 0).val / 512 := by rw [← ht]
      show i ∈ ((View.whole main_v1_1).slice (win0_5.rect t)).set
      rw [View.set_slice_whole, Rect.mem_set_unit]
      intro a
      match a with
      | ⟨0, _⟩ => show win0_5.index t 0 * 512 ≤ (i 0 : Nat) ∧ (i 0 : Nat) < win0_5.index t 0 * 512 + 512
                  rw [(at5 t).1]; omega
      | ⟨1, _⟩ => show win0_5.index t 1 * 256 ≤ (i 1 : Nat) ∧ (i 1 : Nat) < win0_5.index t 1 * 256 + 256
                  rw [(at5 t).2]; omega

end

/-! ## The reference -/

section
open Cert.RefConvBIdeal
variable [Cert.RefConvBIdeal.Facts₀] (P : FVec Ideal Cert.RefConvBIdeal.S4096x12288 .f32) (W : FVec Ideal Cert.RefConvBIdeal.S4x3072 .f32)
  (B : FVec Ideal Cert.RefConvBIdeal.S3072 .f32)

/-- The convolved columns under three zero rows. -/
def rows : FVec Ideal Cert.RefConvBIdeal.S4099x3072 .f32 :=
  concatenate Cert.RefConvBIdeal.S4099x3072 0 [⟨Cert.RefConvBIdeal.S3x3072, (broadcastInDim Cert.RefConvBIdeal.S3x3072 ![] Facts₀.bcast_S_S3x3072 (constant (F := Ideal) Cert.RefConvBIdeal.S_ .f32 0x00000000#32))⟩, ⟨Cert.RefConvBIdeal.S4096x3072, (extractStridedSlice Cert.RefConvBIdeal.S4096x3072 ![0, 4096] P Facts₀.slices_S4096x12288_S4096x3072_0_4096)⟩] Facts₀.concatenates_S3x3072_S4096x3072_S4099x3072_d0

/-- One tap of every entry. -/
def shifted (k : ℕ) (hw : Cert.RefConvBIdeal.S4x3072.Slices ![k, 0] Cert.RefConvBIdeal.S1x3072)
    (hp : Cert.RefConvBIdeal.S4099x3072.Slices ![k, 0] Cert.RefConvBIdeal.S4096x3072) : FVec Ideal Cert.RefConvBIdeal.S4096x3072 .f32 :=
  mulf (broadcastInDim Cert.RefConvBIdeal.S4096x3072 ![0, 1] Facts₀.bcast_S1x3072_S4096x3072_0_1 (broadcastInDim Cert.RefConvBIdeal.S1x3072 ![1] Facts₀.bcast_S3072_S1x3072_1 (shapeCast Cert.RefConvBIdeal.S3072 (extractStridedSlice Cert.RefConvBIdeal.S1x3072 ![k, 0] W hw) Facts₀.shapeCasts_S1x3072_S3072))) (extractStridedSlice Cert.RefConvBIdeal.S4096x3072 ![k, 0] (rows P) hp)

/-- What the reference returns first; -/
def pre : FVec Ideal Cert.RefConvBIdeal.S4096x3072 .f32 :=
  addf (addf (addf (addf (shifted P W 0 Facts₀.slices_S4x3072_S1x3072_0_0 Facts₀.slices_S4099x3072_S4096x3072_0_0)
    (shifted P W 1 Facts₀.slices_S4x3072_S1x3072_1_0 Facts₀.slices_S4099x3072_S4096x3072_1_0))
    (shifted P W 2 Facts₀.slices_S4x3072_S1x3072_2_0 Facts₀.slices_S4099x3072_S4096x3072_2_0))
    (shifted P W 3 Facts₀.slices_S4x3072_S1x3072_3_0 Facts₀.slices_S4099x3072_S4096x3072_3_0))
    (broadcastInDim Cert.RefConvBIdeal.S4096x3072 ![0, 1] Facts₀.bcast_S1x3072_S4096x3072_0_1 (broadcastInDim Cert.RefConvBIdeal.S1x3072 ![1] Facts₀.bcast_S3072_S1x3072_1 B))

/-- and second. -/
def act : FVec Ideal Cert.RefConvBIdeal.S4096x3072 .f32 :=
  mulf (pre P W B) (Host.divf (broadcastInDim Cert.RefConvBIdeal.S4096x3072 ![] Facts₀.bcast_S_S4096x3072 (constant Cert.RefConvBIdeal.S_ .f32 0x3F800000#32)) (addf (broadcastInDim Cert.RefConvBIdeal.S4096x3072 ![] Facts₀.bcast_S_S4096x3072 (constant Cert.RefConvBIdeal.S_ .f32 0x3F800000#32)) (Host.exp (Host.negf (pre P W B)))))

theorem rows_at (n : Fin 4099) (d : Fin 3072) : rows P (ix2 n d) = padded P n.val d.val := by
  unfold rows padded
  by_cases h : n.val < 3
  · rw [if_pos h]; pointwise; rw [dif_pos h]
  · rw [if_neg h]; pointwise; rw [dif_neg h]; exact cell_eq P _ rfl rfl

theorem shifted_at (k : Fin 4) (hw) (hp) (r : Fin 4096) (d : Fin 3072) :
    shifted P W k.val hw hp (ix2 r d) = padded P (r.val + k.val) d.val * cell W k.val d.val := by
  unfold shifted
  pointwise
  rw [rows_at, mul_comm]
  exact congrArg₂ (fun n w : EReal => n * w) (congrArg (fun n => padded P n d.val) (Nat.add_comm ..)) (cell_eq W _ rfl rfl)

theorem reference_pre : pre P W B = wholePre P W B := by
  funext i
  obtain ⟨r, d, rfl⟩ := ix2_of i
  show _ = convolved P W B r.val d
  have h0 := shifted_at P W 0 Facts₀.slices_S4x3072_S1x3072_0_0 Facts₀.slices_S4099x3072_S4096x3072_0_0 r d
  have h1 := shifted_at P W 1 Facts₀.slices_S4x3072_S1x3072_1_0 Facts₀.slices_S4099x3072_S4096x3072_1_0 r d
  have h2 := shifted_at P W 2 Facts₀.slices_S4x3072_S1x3072_2_0 Facts₀.slices_S4099x3072_S4096x3072_2_0 r d
  have h3 := shifted_at P W 3 Facts₀.slices_S4x3072_S1x3072_3_0 Facts₀.slices_S4099x3072_S4096x3072_3_0 r d
  unfold pre convolved acc
  pointwise
  refine (congrArg (· + B (ix1 d)) (congrArg₂ (· + ·) (congrArg₂ (· + ·) (congrArg₂ (· + ·) h0 h1) h2) h3)).trans ?_
  rw [add_comm _ (B (ix1 d))]
  simp only [← add_assoc]
  rfl

theorem reference_act : act P W B = wholeAct P W B := by
  funext i
  have h : pre P W B i = convolved P W B (i 0).val (i 1) := congrFun (reference_pre P W B) i
  show _ = silu (convolved P W B (i 0).val (i 1))
  rw [← h]
  obtain ⟨r, d, rfl⟩ := ix2_of i
  unfold act silu Ideal.logistic
  pointwise

end

end Cert.ConvBValue

end
-- ==== Proof.ConvBBwd.lean ====
/-
  The gradient of the short convolution of the forward pass and of the gate on it. A block of rows reaches three rows on for
  the gradient at the rows and three rows back for the gradient at the taps; the kernel lays the block's rows and the next
  block's first ones into one buffer, the last rows of the block before and the block's own into another.
-/
module

public import proofs.«01_k».proof.Proof.Gen.ConvBBwdIdeal.Value
public import proofs.«01_k».proof.Proof.ConvB

@[expose] public section

set_option maxRecDepth 16384

noncomputable section

namespace Cert.ConvBBwdValue

open Cert.Lift Cert.Blocked Cert.Rows Cert.ConvBBwdIdeal Cert.ConvBBwdIdeal.Gen Cert.ConvBBwdIdeal.Value
open Cert.ConvBValue (acc acc_congr stage cell_in list_row padded convolved)
open Idealize.ShloMosaic Idealize.ShloMosaic.TcCoe Idealize.ShloMosaic.Tactic Idealize.SL.Sem

/-! ## The payloads -/

/-- The gradient before the gate. -/
def slope (d p : EReal) : EReal := d * (Ideal.logistic p * (1 + p * (1 - Ideal.logistic p)))

theorem pay4_at (u p : FVec Ideal S512x256 .f32) (a : Fin 512) (b : Fin 256) :
    k0_pay4 (F := Ideal) u p (ix2 a b) = slope (u (ix2 a b)) (p (ix2 a b)) := by
  unfold k0_pay4 slope; simp only [shapeCast_self]; pointwise

theorem pay1_at (v x : FVec Ideal S128x256 .f32) (s : FVec Ideal S1x256 .f32) (d : Fin 256) :
    k0_pay1 (F := Ideal) v x s (ix2 0 d) = s (ix2 0 d) + ∑ a : Fin 128, v (ix2 a d) * x (ix2 a d) := by
  unfold k0_pay1; simp only [shapeCast_self]; pointwise

theorem pay2_at (v : FVec Ideal S128x256 .f32) (s : FVec Ideal S1x256 .f32) (d : Fin 256) :
    k0_pay2 (F := Ideal) v s (ix2 0 d) = s (ix2 0 d) + ∑ a : Fin 128, v (ix2 a d) := by
  unfold k0_pay2; simp only [shapeCast_self]; pointwise

theorem pay8_at (k : Fin 4) (d : Fin 256) : k0_pay8 (F := Ideal) (ix2 k d) = (0 : EReal) := by unfold k0_pay8; pointwise
theorem pay9_at (d : Fin 256) : k0_pay9 (F := Ideal) (ix2 0 d) = (0 : EReal) := by unfold k0_pay9; pointwise

/-- A row's addend to the gradient of a tap, under the names the quarters give it. -/
theorem taps_names : (k0_pay11 = k0_pay1 (F := Ideal) ∧ k0_pay13 = k0_pay1 (F := Ideal) ∧ k0_pay14 = k0_pay1 (F := Ideal))
    ∧ (k0_pay22 = k0_pay1 (F := Ideal) ∧ k0_pay23 = k0_pay1 (F := Ideal) ∧ k0_pay24 = k0_pay1 (F := Ideal))
    ∧ (k0_pay31 = k0_pay1 (F := Ideal) ∧ k0_pay32 = k0_pay1 (F := Ideal) ∧ k0_pay33 = k0_pay1 (F := Ideal) ∧ k0_pay35 = k0_pay1 (F := Ideal))
    ∧ (k0_pay39 = k0_pay1 (F := Ideal) ∧ k0_pay40 = k0_pay1 (F := Ideal) ∧ k0_pay41 = k0_pay1 (F := Ideal)) :=
  ⟨⟨rfl, rfl, rfl⟩, ⟨rfl, rfl, rfl⟩, ⟨rfl, rfl, rfl, rfl⟩, ⟨rfl, rfl, rfl⟩⟩

theorem pay18_eq (v x : FVec Ideal S128x256 .f32) (s : FVec Ideal S1x256 .f32) : k0_pay18 (F := Ideal) (k0_pay16 s) (k0_pay17 v x) = k0_pay1 (F := Ideal) v x s := rfl
theorem pay27_eq (v x : FVec Ideal S128x256 .f32) (s : FVec Ideal S1x256 .f32) : k0_pay27 (F := Ideal) v x (k0_pay26 s) = k0_pay1 (F := Ideal) v x s := rfl
theorem bias_names : k0_pay19 = k0_pay2 (F := Ideal) ∧ k0_pay28 = k0_pay2 (F := Ideal) ∧ k0_pay36 = k0_pay2 (F := Ideal) := ⟨rfl, rfl, rfl⟩

section
variable (x0 : FVec Ideal S128x256 .f32) (w0 : FVec Ideal S1x256 .f32)
  (x1 : FVec Ideal S128x256 .f32) (w1 : FVec Ideal S1x256 .f32) (x2 : FVec Ideal S128x256 .f32) (w2 : FVec Ideal S1x256 .f32)
  (x3 : FVec Ideal S128x256 .f32) (w3 : FVec Ideal S1x256 .f32) (i : S128x256.Idx)

/-- The four products of one entry of the gradient at the rows. -/
abbrev taps : EReal :=
  acc 0 (x0 i) (w0 (ix2 0 (i 1))) (x1 i) (w1 (ix2 0 (i 1))) (x2 i) (w2 (ix2 0 (i 1))) (x3 i) (w3 (ix2 0 (i 1)))

theorem pay20_at : k0_pay20 (F := Ideal) (k0_pay15 (k0_pay10 x0 w0) (k0_pay12 x1 w1) x2 w2 x3 w3) i = taps x0 w0 x1 w1 x2 w2 x3 w3 i := by
  obtain ⟨r, d, rfl⟩ := ix2_of i
  unfold k0_pay20 k0_pay15 k0_pay12 k0_pay10 taps acc; simp only [shapeCast_self]; pointwise
theorem pay29_at : k0_pay29 (F := Ideal) (k0_pay25 (k0_pay21 x0 w0) x1 w1 x2 w2 x3 w3) i = taps x0 w0 x1 w1 x2 w2 x3 w3 i := pay20_at ..
theorem pay37_at : k0_pay37 (F := Ideal) (k0_pay34 (k0_pay30 x0 w0) x1 w1 x2 w2 x3 w3) i = taps x0 w0 x1 w1 x2 w2 x3 w3 i := pay20_at ..
theorem pay3_at : k0_pay3 (F := Ideal) (k0_pay42 (k0_pay38 x0 w0) x1 w1 x2 w2 x3 w3) i = taps x0 w0 x1 w1 x2 w2 x3 w3 i := pay20_at ..
end

/-! ## The buffers -/

/-- The buffer of gradients: the block's own rows, then thirty-two of the next block. -/
def ahead (x : FVec Ideal S512x256 .f32) (h : FVec Ideal S32x256 .f32) (n d : ℕ) : EReal :=
  if n < 512 then cell x n d else cell h (n - 512) d

/-- What it holds after both stores. -/
theorem ahead_at (x : FVec Ideal S512x256 .f32) (h : FVec Ideal S32x256 .f32) (y : S544x256.Idx) :
    View.canon (Val := Elt Ideal) (e := .f32) [⟨Rect.unit ![512, 0] ![32, 256] inb_S544x256_S32x256_512_0, h⟩,
      ⟨Rect.unit ![0, 0] ![512, 256] inb_S544x256_S512x256_0_0, x⟩] y = ahead x h (y 0).val (y 1).val := by
  refine View.canon_apply_of_pieces (S := S544x256) (Val := Elt Ideal) (e := .f32) (fun y => (ahead x h (y 0).val (y 1).val : EReal)) _ ?_ y ?_
  · intro p hp z
    simp only [List.mem_cons, List.not_mem_nil, or_false] at hp
    rcases hp with rfl | rfl
    · show h z = ahead x h (512 + 1 * (z 0).val) (0 + 1 * (z 1).val)
      unfold ahead
      rw [if_neg (by omega)]
      exact cell_eq h z (by omega) (by omega)
    · have hz : (z 0).val < 512 := (z 0).isLt
      show x z = ahead x h (0 + 1 * (z 0).val) (0 + 1 * (z 1).val)
      unfold ahead
      rw [if_pos (by omega)]
      exact cell_eq x z (by omega) (by omega)
  · have h0 : (y 0 : ℕ) < 544 := (y 0).isLt
    have h1 : (y 1 : ℕ) < 256 := (y 1).isLt
    by_cases hy : (y 0 : ℕ) < 512
    · refine ⟨_, List.mem_cons_of_mem _ (List.mem_singleton_self _), ?_⟩
      rw [Rect.mem_set_unit]
      intro a
      match a with
      | ⟨0, _⟩ => show 0 ≤ (y 0 : ℕ) ∧ (y 0 : ℕ) < 0 + 512; omega
      | ⟨1, _⟩ => show 0 ≤ (y 1 : ℕ) ∧ (y 1 : ℕ) < 0 + 256; omega
    · refine ⟨_, List.mem_cons_self .., ?_⟩
      rw [Rect.mem_set_unit]
      intro a
      match a with
      | ⟨0, _⟩ => show 512 ≤ (y 0 : ℕ) ∧ (y 0 : ℕ) < 512 + 32; omega
      | ⟨1, _⟩ => show 0 ≤ (y 1 : ℕ) ∧ (y 1 : ℕ) < 0 + 256; omega

section
variable {sig' : RefSig} {κ : Kind} {sp : Space} (v : View sig' κ sp S544x256 .f32)

/-- The two stores into the buffer of gradients, and the two into the buffer of rows. -/
abbrev gradients (x : FVec Ideal S512x256 .f32) (h : FVec Ideal S32x256 .f32) : List (View.Piece (Elt Ideal) S544x256 .f32) :=
  [⟨Rect.unit ![512, 0] ![32, 256] inb_S544x256_S32x256_512_0, h⟩, ⟨Rect.unit ![0, 0] ![512, 256] inb_S544x256_S512x256_0_0, x⟩]
abbrev rows (h : FVec Ideal S32x256 .f32) (x : FVec Ideal S512x256 .f32) : List (View.Piece (Elt Ideal) S544x256 .f32) :=
  [⟨Rect.unit ![32, 0] ![512, 256] inb_S544x256_S512x256_32_0, x⟩, ⟨Rect.unit ![0, 0] ![32, 256] inb_S544x256_S32x256_0_0, h⟩]

theorem read_gradients (x : FVec Ideal S512x256 .f32) (h : FVec Ideal S32x256 .f32) (k : ℕ)
    (inb : ∀ a, (![k, 0] : Fin 2 → ℕ) a + (![128, 256] : Fin 2 → ℕ) a ≤ S544x256.size a) (z : S128x256.Idx) :
    v.readCov (gradients x h) (Rect.unit (s := S544x256) ![k, 0] ![128, 256] inb).toLoadRect z = ahead x h (k + (z 0).val) (z 1).val := by
  rw [View.readCov_eq_canon']
  refine (ahead_at x h _).trans ?_
  show ahead x h (k + 1 * (z 0).val) (0 + 1 * (z 1).val) = _
  rw [one_mul, one_mul, Nat.zero_add]

theorem read_rows (h : FVec Ideal S32x256 .f32) (x : FVec Ideal S512x256 .f32) (k : ℕ)
    (inb : ∀ a, (![k, 0] : Fin 2 → ℕ) a + (![128, 256] : Fin 2 → ℕ) a ≤ S544x256.size a) (z : S128x256.Idx) :
    v.readCov (rows h x) (Rect.unit (s := S544x256) ![k, 0] ![128, 256] inb).toLoadRect z = stage h x (k + (z 0).val) (z 1).val :=
  Cert.ConvBValue.read_back v h x k inb z

end

/-- An entry of the block of the gradient at the rows. -/
def back (x : FVec Ideal S512x256 .f32) (h : FVec Ideal S32x256 .f32) (w : FVec Ideal S4x256 .f32) (r d : ℕ) : EReal :=
  acc 0 (ahead x h (r + 3) d) (cell w 0 d) (ahead x h (r + 2) d) (cell w 1 d) (ahead x h (r + 1) d) (cell w 2 d)
    (ahead x h r d) (cell w 3 d)

/-- One entry of a quarter of it, read out of the buffer. -/
theorem quarter {sig' : RefSig} {κ : Kind} {sp : Space} (v : View sig' κ sp S544x256 .f32) (x : FVec Ideal S512x256 .f32)
    (h : FVec Ideal S32x256 .f32) (w : Vec Ideal S4x256 .f32) (k k0 k1 k2 : ℕ)
    (i0 : ∀ a, (![k0, 0] : Fin 2 → ℕ) a + (![128, 256] : Fin 2 → ℕ) a ≤ S544x256.size a)
    (i1 : ∀ a, (![k1, 0] : Fin 2 → ℕ) a + (![128, 256] : Fin 2 → ℕ) a ≤ S544x256.size a)
    (i2 : ∀ a, (![k2, 0] : Fin 2 → ℕ) a + (![128, 256] : Fin 2 → ℕ) a ≤ S544x256.size a)
    (i3 : ∀ a, (![k, 0] : Fin 2 → ℕ) a + (![128, 256] : Fin 2 → ℕ) a ≤ S544x256.size a)
    (e0 : k0 = k + 3) (e1 : k1 = k + 2) (e2 : k2 = k + 1) (z : S128x256.Idx) :
    taps
      (v.readCov (gradients x h) (Rect.unit (s := S544x256) ![k0, 0] ![128, 256] i0).toLoadRect)
      (View.ld w (Rect.unit (s := S4x256) ![0, 0] ![1, 256] inb_S4x256_S1x256_0_0))
      (v.readCov (gradients x h) (Rect.unit (s := S544x256) ![k1, 0] ![128, 256] i1).toLoadRect)
      (View.ld w (Rect.unit (s := S4x256) ![1, 0] ![1, 256] inb_S4x256_S1x256_1_0))
      (v.readCov (gradients x h) (Rect.unit (s := S544x256) ![k2, 0] ![128, 256] i2).toLoadRect)
      (View.ld w (Rect.unit (s := S4x256) ![2, 0] ![1, 256] inb_S4x256_S1x256_2_0))
      (v.readCov (gradients x h) (Rect.unit (s := S544x256) ![k, 0] ![128, 256] i3).toLoadRect)
      (View.ld w (Rect.unit (s := S4x256) ![3, 0] ![1, 256] inb_S4x256_S1x256_3_0)) z
    = back x h w (k + 1 * (z 0).val) (0 + 1 * (z 1).val) := by
  subst e0 e1 e2
  refine acc_congr rfl ?_ ?_ ?_ ?_ ?_ ?_ ?_ ?_
  · exact (read_gradients v x h _ i0 z).trans (congrArg₂ (ahead x h) (by omega) (by omega))
  · exact (Cert.ConvBValue.weight w 0 _ (z 1)).trans (congrArg (cell (φ := .f32) w 0) (by omega))
  · exact (read_gradients v x h _ i1 z).trans (congrArg₂ (ahead x h) (by omega) (by omega))
  · exact (Cert.ConvBValue.weight w 1 _ (z 1)).trans (congrArg (cell (φ := .f32) w 1) (by omega))
  · exact (read_gradients v x h _ i2 z).trans (congrArg₂ (ahead x h) (by omega) (by omega))
  · exact (Cert.ConvBValue.weight w 2 _ (z 1)).trans (congrArg (cell (φ := .f32) w 2) (by omega))
  · exact (read_gradients v x h _ i3 z).trans (congrArg₂ (ahead x h) (by omega) (by omega))
  · exact (Cert.ConvBValue.weight w 3 _ (z 1)).trans (congrArg (cell (φ := .f32) w 3) (by omega))

/-! ## The gradient of the taps: four rows, each grown in turn by every quarter -/

section
variable {sig' : RefSig} {κ : Kind} {sp : Space} (v : View sig' κ sp S4x256 .f32)

/-- Row `j` of the taps' gradient is written over. -/
abbrev put (L : List (View.Piece (Elt Ideal) S4x256 .f32)) (j : ℕ) (inb : ∀ a, (![j, 0] : Fin 2 → ℕ) a + (![1, 256] : Fin 2 → ℕ) a ≤ S4x256.size a)
    (p : Vec Ideal S1x256 .f32) : List (View.Piece (Elt Ideal) S4x256 .f32) :=
  ⟨Rect.unit (s := S4x256) ![j, 0] ![1, 256] inb, p⟩ :: L

/-- The same row is read, added to and written over. -/
abbrev grown (D X : Vec Ideal S128x256 .f32) (L : List (View.Piece (Elt Ideal) S4x256 .f32)) (j : ℕ)
    (inb : ∀ a, (![j, 0] : Fin 2 → ℕ) a + (![1, 256] : Fin 2 → ℕ) a ≤ S4x256.size a) : List (View.Piece (Elt Ideal) S4x256 .f32) :=
  put L j inb (k0_pay1 (F := Ideal) D X (v.readCov L (Rect.unit (s := S4x256) ![j, 0] ![1, 256] inb).toLoadRect))

theorem canon_put (L : List (View.Piece (Elt Ideal) S4x256 .f32)) (j : ℕ) (inb) (p : Vec Ideal S1x256 .f32) (k : Fin 4) (d : Fin 256) :
    View.canon (put L j inb p) (ix2 k d) = if k.val = j then p (ix2 0 d) else View.canon L (ix2 k d) := by
  by_cases h : k.val = j
  · rw [if_pos h]
    subst h
    refine (congrArg (View.canon (put L k.val inb p)) (funext fun a => ?_)).trans
      (View.canon_cons_emb (Val := Elt Ideal) (e := .f32) (Rect.unit (s := S4x256) ![k.val, 0] ![1, 256] inb) p L (ix2 (0 : Fin 1) d))
    match a with
    | ⟨0, _⟩ => exact Fin.ext (show k.val = k.val + 1 * 0 by omega)
    | ⟨1, _⟩ => exact Fin.ext (show d.val = 0 + 1 * d.val by omega)
  · rw [if_neg h]
    refine View.canon_cons_of_not_mem _ _ fun hm => h ?_
    rw [Rect.mem_set_unit] at hm
    have := hm 0
    have h' : j ≤ k.val ∧ k.val < j + 1 := this
    omega

theorem read_row (L : List (View.Piece (Elt Ideal) S4x256 .f32)) (j : Fin 4) (inb) (d : Fin 256) :
    v.readCov L (Rect.unit (s := S4x256) ![j.val, 0] ![1, 256] inb).toLoadRect (ix2 0 d) = View.canon L (ix2 j d) := by
  rw [View.readCov_eq_canon']
  refine congrArg (View.canon L) ?_
  funext a
  match a with
  | ⟨0, _⟩ => exact Fin.ext (show j.val + 1 * 0 = j.val by omega)
  | ⟨1, _⟩ => exact Fin.ext (show 0 + 1 * d.val = d.val by omega)

/-- One quarter's four stores: every row grows by the sum over the quarter's rows. -/
theorem four {L : List (View.Piece (Elt Ideal) S4x256 .f32)} (base : Fin 4 → Fin 256 → EReal) (g : ℕ → ℕ → ℕ → EReal) (c : ℕ)
    (hL : ∀ k d, View.canon L (ix2 k d) = base k d + ∑ n ∈ Finset.range c, g k.val n d.val)
    {D X0 X1 X2 X3 : Vec Ideal S128x256 .f32} {i0} {i1} {i2} {i3}
    (h0 : ∀ d, ∑ a : Fin 128, (D (ix2 a d) : EReal) * X0 (ix2 a d) = ∑ a ∈ Finset.range 128, g 0 (c + a) d.val)
    (h1 : ∀ d, ∑ a : Fin 128, (D (ix2 a d) : EReal) * X1 (ix2 a d) = ∑ a ∈ Finset.range 128, g 1 (c + a) d.val)
    (h2 : ∀ d, ∑ a : Fin 128, (D (ix2 a d) : EReal) * X2 (ix2 a d) = ∑ a ∈ Finset.range 128, g 2 (c + a) d.val)
    (h3 : ∀ d, ∑ a : Fin 128, (D (ix2 a d) : EReal) * X3 (ix2 a d) = ∑ a ∈ Finset.range 128, g 3 (c + a) d.val) (k : Fin 4) (d : Fin 256) :
    View.canon (grown v D X3 (grown v D X2 (grown v D X1 (grown v D X0 L 0 i0) 1 i1) 2 i2) 3 i3) (ix2 k d)
      = base k d + ∑ n ∈ Finset.range (c + 128), g k.val n d.val := by
  have step : ∀ (L' : List (View.Piece (Elt Ideal) S4x256 .f32)) (X : Vec Ideal S128x256 .f32) (j : Fin 4) (inb) (k : Fin 4) (d : Fin 256),
      View.canon (grown v D X L' j.val inb) (ix2 k d)
        = if k = j then (View.canon L' (ix2 j d) : EReal) + ∑ a : Fin 128, (D (ix2 a d) : EReal) * X (ix2 a d) else View.canon L' (ix2 k d) := by
    intro L' X j inb k d
    refine (canon_put L' j.val inb _ k d).trans ?_
    by_cases h : k = j
    · rw [if_pos h, if_pos (congrArg Fin.val h)]
      refine (pay1_at _ _ _ d).trans ?_
      rw [read_row]
    · rw [if_neg h, if_neg (fun e => h (Fin.ext e))]
  rw [Finset.sum_range_add, ← add_assoc, ← hL]
  have s0 (k : Fin 4) (d) : _ = if k = 0 then (View.canon L (ix2 0 d) : EReal) + _ else View.canon L (ix2 k d) := step L X0 0 i0 k d
  set L0 := grown v D X0 L 0 i0
  have s1 (k : Fin 4) (d) : _ = if k = 1 then (View.canon L0 (ix2 1 d) : EReal) + _ else View.canon L0 (ix2 k d) := step L0 X1 1 i1 k d
  set L1 := grown v D X1 L0 1 i1
  have s2 (k : Fin 4) (d) : _ = if k = 2 then (View.canon L1 (ix2 2 d) : EReal) + _ else View.canon L1 (ix2 k d) := step L1 X2 2 i2 k d
  set L2 := grown v D X2 L1 2 i2
  refine (step L2 X3 3 i3 k d).trans ?_
  have e0 : (View.canon L0 (ix2 1 d) : EReal) = View.canon L (ix2 1 d) := (s0 1 d).trans (if_neg (by decide))
  have e1 : (View.canon L1 (ix2 2 d) : EReal) = View.canon L (ix2 2 d) := ((s1 2 d).trans (if_neg (by decide))).trans ((s0 2 d).trans (if_neg (by decide)))
  have e2 : (View.canon L2 (ix2 3 d) : EReal) = View.canon L (ix2 3 d) :=
    (((s2 3 d).trans (if_neg (by decide))).trans ((s1 3 d).trans (if_neg (by decide)))).trans ((s0 3 d).trans (if_neg (by decide)))
  match k with
  | 0 =>
    refine (if_neg (by decide)).trans (((s2 0 d).trans (if_neg (by decide))).trans (((s1 0 d).trans (if_neg (by decide))).trans ((s0 0 d).trans ?_)))
    exact (if_pos rfl).trans (congrArg (_ + ·) (h0 d))
  | 1 =>
    refine (if_neg (by decide)).trans (((s2 1 d).trans (if_neg (by decide))).trans ((s1 1 d).trans ?_))
    exact (if_pos rfl).trans (congrArg₂ (· + ·) e0 (h1 d))
  | 2 =>
    refine (if_neg (by decide)).trans ((s2 2 d).trans ?_)
    exact (if_pos rfl).trans (congrArg₂ (· + ·) e1 (h2 d))
  | 3 => exact (if_pos rfl).trans (congrArg₂ (· + ·) e2 (h3 d))

/-- The first quarter's four stores, over what the block before left. -/
theorem first_four (o : Vec Ideal S4x256 .f32) (g : ℕ → ℕ → ℕ → EReal)
    {D X0 X1 X2 X3 : Vec Ideal S128x256 .f32} {i0} {i1} {i2} {i3}
    (h0 : ∀ d, ∑ a : Fin 128, (D (ix2 a d) : EReal) * X0 (ix2 a d) = ∑ a ∈ Finset.range 128, g 0 (0 + a) d.val)
    (h1 : ∀ d, ∑ a : Fin 128, (D (ix2 a d) : EReal) * X1 (ix2 a d) = ∑ a ∈ Finset.range 128, g 1 (0 + a) d.val)
    (h2 : ∀ d, ∑ a : Fin 128, (D (ix2 a d) : EReal) * X2 (ix2 a d) = ∑ a ∈ Finset.range 128, g 2 (0 + a) d.val)
    (h3 : ∀ d, ∑ a : Fin 128, (D (ix2 a d) : EReal) * X3 (ix2 a d) = ∑ a ∈ Finset.range 128, g 3 (0 + a) d.val) (k : Fin 4) (d : Fin 256) :
    View.canon (put (put (put (put [] 0 i0 (k0_pay1 (F := Ideal) D X0 (View.ld o (Rect.unit (s := S4x256) ![0, 0] ![1, 256] i0))))
        1 i1 (k0_pay1 (F := Ideal) D X1 (View.ld o (Rect.unit (s := S4x256) ![1, 0] ![1, 256] i1))))
        2 i2 (k0_pay1 (F := Ideal) D X2 (View.ld o (Rect.unit (s := S4x256) ![2, 0] ![1, 256] i2))))
        3 i3 (k0_pay1 (F := Ideal) D X3 (View.ld o (Rect.unit (s := S4x256) ![3, 0] ![1, 256] i3)))) (ix2 k d)
      = (o (ix2 k d) : EReal) + ∑ n ∈ Finset.range 128, g k.val n d.val := by
  have row : ∀ (j : Fin 4) (inb) (d : Fin 256), View.ld o (Rect.unit (s := S4x256) ![j.val, 0] ![1, 256] inb) (ix2 0 d) = o (ix2 j d) :=
    fun j inb d => (Cert.ConvBValue.weight o j.val inb d).trans (cell_in (A := o) j d)
  simp only [Nat.zero_add] at h0 h1 h2 h3
  match k with
  | 0 =>
    refine (canon_put _ 3 i3 _ 0 d).trans ?_; refine (if_neg (by decide)).trans ?_
    refine (canon_put _ 2 i2 _ 0 d).trans ?_; refine (if_neg (by decide)).trans ?_
    refine (canon_put _ 1 i1 _ 0 d).trans ?_; refine (if_neg (by decide)).trans ?_
    refine (canon_put _ 0 i0 _ 0 d).trans ?_; refine (if_pos rfl).trans ?_
    exact (pay1_at _ _ _ d).trans (congrArg₂ (· + ·) (row 0 i0 d) (h0 d))
  | 1 =>
    refine (canon_put _ 3 i3 _ 1 d).trans ?_; refine (if_neg (by decide)).trans ?_
    refine (canon_put _ 2 i2 _ 1 d).trans ?_; refine (if_neg (by decide)).trans ?_
    refine (canon_put _ 1 i1 _ 1 d).trans ?_; refine (if_pos rfl).trans ?_
    exact (pay1_at _ _ _ d).trans (congrArg₂ (· + ·) (row 1 i1 d) (h1 d))
  | 2 =>
    refine (canon_put _ 3 i3 _ 2 d).trans ?_; refine (if_neg (by decide)).trans ?_
    refine (canon_put _ 2 i2 _ 2 d).trans ?_; refine (if_pos rfl).trans ?_
    exact (pay1_at _ _ _ d).trans (congrArg₂ (· + ·) (row 2 i2 d) (h2 d))
  | 3 =>
    refine (canon_put _ 3 i3 _ 3 d).trans ?_; refine (if_pos rfl).trans ?_
    exact (pay1_at _ _ _ d).trans (congrArg₂ (· + ·) (row 3 i3 d) (h3 d))

theorem zeroed (k : Fin 4) (d : Fin 256) :
    View.canon (Val := Elt Ideal) (e := .f32) [⟨Rect.unit (s := S4x256) ![0, 0] ![4, 256] inb_S4x256_S4x256_0_0, k0_pay8 (F := Ideal)⟩] (ix2 k d)
      = (0 : EReal) := by
  rw [View.canon_unit_zero (S := S4x256) origin]; exact pay8_at k d

end

/-- What row `n` of the block adds to row `j` of the taps' gradient, in column `d`. -/
def dot (x : FVec Ideal S512x256 .f32) (h h' : FVec Ideal S32x256 .f32) (x' : FVec Ideal S512x256 .f32) (j n d : ℕ) : EReal :=
  ahead x h n d * stage h' x' (n + 29 + j) d

/-- A quarter's sum of them, read out of the buffers. -/
theorem dots {sig' : RefSig} {κ : Kind} {sp : Space} (v v' : View sig' κ sp S544x256 .f32) (x : FVec Ideal S512x256 .f32)
    (h h' : FVec Ideal S32x256 .f32) (x' : FVec Ideal S512x256 .f32) (c k j : ℕ)
    (i0 : ∀ a, (![c, 0] : Fin 2 → ℕ) a + (![128, 256] : Fin 2 → ℕ) a ≤ S544x256.size a)
    (i1 : ∀ a, (![k, 0] : Fin 2 → ℕ) a + (![128, 256] : Fin 2 → ℕ) a ≤ S544x256.size a) (e : k = c + 29 + j) (d : Fin 256) :
    ∑ a : Fin 128, (v.readCov (gradients x h) (Rect.unit (s := S544x256) ![c, 0] ![128, 256] i0).toLoadRect (ix2 a d) : EReal)
        * v'.readCov (rows h' x') (Rect.unit (s := S544x256) ![k, 0] ![128, 256] i1).toLoadRect (ix2 a d)
      = ∑ a ∈ Finset.range 128, dot x h h' x' j (c + a) d.val := by
  rw [Finset.sum_range]
  refine Finset.sum_congr rfl fun a _ => congrArg₂ (fun p q : EReal => p * q) (read_gradients v x h c i0 (ix2 a d)) ?_
  refine (read_rows v' h' x' k i1 (ix2 a d)).trans (congrArg (fun n => stage h' x' n d.val) ?_)
  show k + a.val = _
  omega

/-- A quarter's sum of the rows of the gradient. -/
theorem sums {sig' : RefSig} {κ : Kind} {sp : Space} (v : View sig' κ sp S544x256 .f32) (x : FVec Ideal S512x256 .f32)
    (h : FVec Ideal S32x256 .f32) (c : ℕ)
    (i0 : ∀ a, (![c, 0] : Fin 2 → ℕ) a + (![128, 256] : Fin 2 → ℕ) a ≤ S544x256.size a) (d : Fin 256) :
    ∑ a : Fin 128, (v.readCov (gradients x h) (Rect.unit (s := S544x256) ![c, 0] ![128, 256] i0).toLoadRect (ix2 a d) : EReal)
      = ∑ a ∈ Finset.range 128, ahead x h (c + a) d.val := by
  rw [Finset.sum_range]
  exact Finset.sum_congr rfl fun a _ => read_gradients v x h c i0 (ix2 a d)

theorem pay7_eq (x : Vec Ideal S512x256 .f32) : k0_pay7 (F := Ideal) x = x := by unfold k0_pay7; exact shapeCast_self ..

/-! ## A block's point -/

section
variable (c : Dev nD) (i : grid0.Coords)
  (a2 : Memref sig .tc .vmem S512x256 .f32) (h2 : a2.IsWhole)
  (a3 : Memref sig .tc .vmem S32x256 .f32) (h3 : a3.IsWhole)
  (a4 : Memref sig .tc .vmem S512x256 .f32) (h4 : a4.IsWhole)
  (a5 : Memref sig .tc .vmem S32x256 .f32) (h5 : a5.IsWhole)
  (a6 : Memref sig .tc .vmem S512x256 .f32) (h6 : a6.IsWhole)
  (a7 : Memref sig .tc .vmem S32x256 .f32) (h7 : a7.IsWhole)
  (a8 : Memref sig .tc .vmem S4x256 .f32) (h8 : a8.IsWhole)
  (a9 : Memref sig .tc .vmem S512x256 .bf16) (h9 : a9.IsWhole)
  (a10 : Memref sig .tc .vmem S4x256 .f32) (h10 : a10.IsWhole)
  (a11 : Memref sig .tc .vmem S1x256 .f32) (h11 : a11.IsWhole)
  (a12 : Memref sig .tc .vmem S544x256 .f32) (h12 : a12.IsWhole)
  (a13 : Memref sig .tc .vmem S544x256 .f32) (h13 : a13.IsWhole)
  (hA : cond0_0 i) (hB : ¬cond0_0 i)
  (x0 : Vec Ideal S512x256 .f32)
  (x1 : Vec Ideal S32x256 .f32)
  (x2 : Vec Ideal S512x256 .f32)
  (x3 : Vec Ideal S32x256 .f32)
  (x4 : Vec Ideal S512x256 .f32)
  (x5 : Vec Ideal S32x256 .f32)
  (x6 : Vec Ideal S4x256 .f32)
  (o8 : Vec Ideal S4x256 .f32) (o9 : Vec Ideal S1x256 .f32)

theorem rows_A (y : S512x256.Idx) : out0_A_7 (F := Ideal) c i a2 h2 a3 h3 a4 h4 a5 h5 a6 h6 a7 h7 a8 h8 a9 h9 a10 h10 a11 h11 a12 h12 a13 h13 hA x0 x1 x2 x3 x4 x5 x6 y = back (k0_pay4 x0 x2) (k0_pay5 i x1 x3) x6 (y 0).val (y 1).val := by
  unfold out0_A_7
  refine (congrFun (View.read_writes_eq_canon _ _ _ (cover0_A_7 c i a2 h2 a3 h3 a4 h4 a5 h5 a6 h6 a7 h7 a8 h8 a9 h9 a10 h10 a11 h11 a12 h12 a13 h13 hA x0 x1 x2 x3 x4 x5 x6)) y).trans ?_
  refine View.canon_apply_of_pieces (S := S512x256) (Val := Elt Ideal) (e := .bf16)
    (fun y => (back (k0_pay4 x0 x2) (k0_pay5 i x1 x3) x6 (y 0).val (y 1).val : EReal)) _ ?_ y (cover0_A_7 c i a2 h2 a3 h3 a4 h4 a5 h5 a6 h6 a7 h7 a8 h8 a9 h9 a10 h10 a11 h11 a12 h12 a13 h13 hA x0 x1 x2 x3 x4 x5 x6 y)
  unfold kernelRun0_A
  dsimp only
  sl_unfold_words
  simp only [View.readAt_eq_ld, h2.read_unread, h3.read_unread, h4.read_unread, h5.read_unread, h6.read_unread, h7.read_unread, h8.read_unread,
    h10.read_unread, h11.read_unread, View.ld_unit_zero (S := S512x256) origin, View.ld_unit_zero (S := S32x256) origin,
    View.ld_unit_zero (S := S1x256) origin, pay7_eq]
  intro q hq z
  simp only [List.mem_cons, List.not_mem_nil, or_false] at hq
  rcases hq with rfl | rfl | rfl | rfl
  · exact (pay3_at ..).trans (quarter a12.view (k0_pay4 x0 x2) (k0_pay5 i x1 x3) x6 384 _ _ _ _ _ _ _ rfl rfl rfl z)
  · exact (pay37_at ..).trans (quarter a12.view (k0_pay4 x0 x2) (k0_pay5 i x1 x3) x6 256 _ _ _ _ _ _ _ rfl rfl rfl z)
  · exact (pay29_at ..).trans (quarter a12.view (k0_pay4 x0 x2) (k0_pay5 i x1 x3) x6 128 _ _ _ _ _ _ _ rfl rfl rfl z)
  · exact (pay20_at ..).trans (quarter a12.view (k0_pay4 x0 x2) (k0_pay5 i x1 x3) x6 0 _ _ _ _ _ _ _ rfl rfl rfl z)

theorem taps_A (k : Fin 4) (d : Fin 256) : out0_A_8 (F := Ideal) c i a2 h2 a3 h3 a4 h4 a5 h5 a6 h6 a7 h7 a8 h8 a9 h9 a10 h10 a11 h11 a12 h12 a13 h13 hA x0 x1 x2 x3 x4 x5 x6 (ix2 k d)
    = 0 + ∑ n ∈ Finset.range 512, dot (k0_pay4 x0 x2) (k0_pay5 i x1 x3) (k0_pay6 (BitVec.ofNat 32 (i 1).val) x5 0#32) x4 k.val n d.val := by
  unfold out0_A_8
  refine (congrFun (View.read_writes_eq_canon _ _ _ (cover0_A_8 c i a2 h2 a3 h3 a4 h4 a5 h5 a6 h6 a7 h7 a8 h8 a9 h9 a10 h10 a11 h11 a12 h12 a13 h13 hA x0 x1 x2 x3 x4 x5 x6)) (ix2 k d)).trans ?_
  unfold kernelRun0_A
  dsimp only
  sl_unfold_words
  simp only [View.readAt_eq_ld, h2.read_unread, h3.read_unread, h4.read_unread, h5.read_unread, h6.read_unread, h7.read_unread, h8.read_unread,
    h10.read_unread, h11.read_unread, View.ld_unit_zero (S := S512x256) origin, View.ld_unit_zero (S := S32x256) origin,
    View.ld_unit_zero (S := S1x256) origin, pay7_eq, taps_names, pay18_eq, pay27_eq]
  exact four _ (fun _ _ => 0) (dot (k0_pay4 x0 x2) (k0_pay5 i x1 x3) (k0_pay6 (BitVec.ofNat 32 (i 1).val) x5 0#32) x4) 384 (four _ (fun _ _ => 0) (dot (k0_pay4 x0 x2) (k0_pay5 i x1 x3) (k0_pay6 (BitVec.ofNat 32 (i 1).val) x5 0#32) x4) 256 (four _ (fun _ _ => 0) (dot (k0_pay4 x0 x2) (k0_pay5 i x1 x3) (k0_pay6 (BitVec.ofNat 32 (i 1).val) x5 0#32) x4) 128 (four _ (fun _ _ => 0) (dot (k0_pay4 x0 x2) (k0_pay5 i x1 x3) (k0_pay6 (BitVec.ofNat 32 (i 1).val) x5 0#32) x4) 0 (fun k d => (zeroed k d).trans (by rw [Finset.range_zero, Finset.sum_empty, add_zero])) (dots _ _ _ _ _ _ _ _ _ _ _ rfl) (dots _ _ _ _ _ _ _ _ _ _ _ rfl)
    (dots _ _ _ _ _ _ _ _ _ _ _ rfl) (dots _ _ _ _ _ _ _ _ _ _ _ rfl)) (dots _ _ _ _ _ _ _ _ _ _ _ rfl) (dots _ _ _ _ _ _ _ _ _ _ _ rfl)
    (dots _ _ _ _ _ _ _ _ _ _ _ rfl) (dots _ _ _ _ _ _ _ _ _ _ _ rfl)) (dots _ _ _ _ _ _ _ _ _ _ _ rfl) (dots _ _ _ _ _ _ _ _ _ _ _ rfl)
    (dots _ _ _ _ _ _ _ _ _ _ _ rfl) (dots _ _ _ _ _ _ _ _ _ _ _ rfl)) (dots _ _ _ _ _ _ _ _ _ _ _ rfl) (dots _ _ _ _ _ _ _ _ _ _ _ rfl)
    (dots _ _ _ _ _ _ _ _ _ _ _ rfl) (dots _ _ _ _ _ _ _ _ _ _ _ rfl) k d

theorem bias_A (d : Fin 256) : out0_A_9 (F := Ideal) c i a2 h2 a3 h3 a4 h4 a5 h5 a6 h6 a7 h7 a8 h8 a9 h9 a10 h10 a11 h11 a12 h12 a13 h13 hA x0 x1 x2 x3 x4 x5 x6 (ix2 0 d)
    = 0 + ∑ n ∈ Finset.range 512, ahead (k0_pay4 x0 x2) (k0_pay5 i x1 x3) n d.val := by
  unfold out0_A_9
  refine (congrFun (View.read_writes_eq_canon _ _ _ (cover0_A_9 c i a2 h2 a3 h3 a4 h4 a5 h5 a6 h6 a7 h7 a8 h8 a9 h9 a10 h10 a11 h11 a12 h12 a13 h13 hA x0 x1 x2 x3 x4 x5 x6)) (ix2 0 d)).trans ?_
  unfold kernelRun0_A
  dsimp only
  sl_unfold_words
  simp only [View.readAt_eq_ld, h2.read_unread, h3.read_unread, h4.read_unread, h5.read_unread, h6.read_unread, h7.read_unread, h8.read_unread,
    h10.read_unread, h11.read_unread, View.ld_unit_zero (S := S512x256) origin, View.ld_unit_zero (S := S32x256) origin,
    View.ld_unit_zero (S := S1x256) origin, pay7_eq, bias_names, View.readCov_cons_toLoadRect]
  rw [View.canon_cons_unit_zero (S := S1x256) origin]
  refine (pay2_at _ _ d).trans ?_
  rw [pay2_at, pay2_at, pay2_at, sums, sums, sums, sums, pay9_at]
  rw [show (512 : ℕ) = 0 + 128 + 128 + 128 + 128 from rfl, Finset.sum_range_add, Finset.sum_range_add, Finset.sum_range_add, Finset.sum_range_add,
    Finset.range_zero, Finset.sum_empty]
  simp only [zero_add, Nat.reduceAdd, add_assoc (G := EReal)]

theorem rows_B (y : S512x256.Idx) : out0_B_7 (F := Ideal) c i a2 h2 a3 h3 a4 h4 a5 h5 a6 h6 a7 h7 a8 h8 a9 h9 a10 h10 a11 h11 a12 h12 a13 h13 hB x0 x1 x2 x3 x4 x5 x6 o8 o9 y = back (k0_pay4 x0 x2) (k0_pay5 i x1 x3) x6 (y 0).val (y 1).val := by
  unfold out0_B_7
  refine (congrFun (View.read_writes_eq_canon _ _ _ (cover0_B_7 c i a2 h2 a3 h3 a4 h4 a5 h5 a6 h6 a7 h7 a8 h8 a9 h9 a10 h10 a11 h11 a12 h12 a13 h13 hB x0 x1 x2 x3 x4 x5 x6 o8 o9)) y).trans ?_
  refine View.canon_apply_of_pieces (S := S512x256) (Val := Elt Ideal) (e := .bf16)
    (fun y => (back (k0_pay4 x0 x2) (k0_pay5 i x1 x3) x6 (y 0).val (y 1).val : EReal)) _ ?_ y (cover0_B_7 c i a2 h2 a3 h3 a4 h4 a5 h5 a6 h6 a7 h7 a8 h8 a9 h9 a10 h10 a11 h11 a12 h12 a13 h13 hB x0 x1 x2 x3 x4 x5 x6 o8 o9 y)
  unfold kernelRun0_B
  dsimp only
  sl_unfold_words
  simp only [View.readAt_eq_ld, h2.read_unread, h3.read_unread, h4.read_unread, h5.read_unread, h6.read_unread, h7.read_unread, h8.read_unread,
    h10.read_unread, h11.read_unread, View.ld_unit_zero (S := S512x256) origin, View.ld_unit_zero (S := S32x256) origin,
    View.ld_unit_zero (S := S1x256) origin, pay7_eq]
  intro q hq z
  simp only [List.mem_cons, List.not_mem_nil, or_false] at hq
  rcases hq with rfl | rfl | rfl | rfl
  · exact (pay3_at ..).trans (quarter a12.view (k0_pay4 x0 x2) (k0_pay5 i x1 x3) x6 384 _ _ _ _ _ _ _ rfl rfl rfl z)
  · exact (pay37_at ..).trans (quarter a12.view (k0_pay4 x0 x2) (k0_pay5 i x1 x3) x6 256 _ _ _ _ _ _ _ rfl rfl rfl z)
  · exact (pay29_at ..).trans (quarter a12.view (k0_pay4 x0 x2) (k0_pay5 i x1 x3) x6 128 _ _ _ _ _ _ _ rfl rfl rfl z)
  · exact (pay20_at ..).trans (quarter a12.view (k0_pay4 x0 x2) (k0_pay5 i x1 x3) x6 0 _ _ _ _ _ _ _ rfl rfl rfl z)

theorem taps_B (k : Fin 4) (d : Fin 256) : out0_B_8 (F := Ideal) c i a2 h2 a3 h3 a4 h4 a5 h5 a6 h6 a7 h7 a8 h8 a9 h9 a10 h10 a11 h11 a12 h12 a13 h13 hB x0 x1 x2 x3 x4 x5 x6 o8 o9 (ix2 k d)
    = (o8 (ix2 k d) : EReal) + ∑ n ∈ Finset.range 512, dot (k0_pay4 x0 x2) (k0_pay5 i x1 x3) (k0_pay6 (BitVec.ofNat 32 (i 1).val) x5 0#32) x4 k.val n d.val := by
  unfold out0_B_8
  refine (congrFun (View.read_writes_eq_canon _ _ _ (cover0_B_8 c i a2 h2 a3 h3 a4 h4 a5 h5 a6 h6 a7 h7 a8 h8 a9 h9 a10 h10 a11 h11 a12 h12 a13 h13 hB x0 x1 x2 x3 x4 x5 x6 o8 o9)) (ix2 k d)).trans ?_
  unfold kernelRun0_B
  dsimp only
  sl_unfold_words
  simp only [View.readAt_eq_ld, h2.read_unread, h3.read_unread, h4.read_unread, h5.read_unread, h6.read_unread, h7.read_unread, h8.read_unread,
    h10.read_unread, h11.read_unread, View.ld_unit_zero (S := S512x256) origin, View.ld_unit_zero (S := S32x256) origin,
    View.ld_unit_zero (S := S1x256) origin, pay7_eq, taps_names, pay18_eq, pay27_eq]
  exact four _ (fun k d => o8 (ix2 k d)) (dot (k0_pay4 x0 x2) (k0_pay5 i x1 x3) (k0_pay6 (BitVec.ofNat 32 (i 1).val) x5 0#32) x4) 384 (four _ (fun k d => o8 (ix2 k d)) (dot (k0_pay4 x0 x2) (k0_pay5 i x1 x3) (k0_pay6 (BitVec.ofNat 32 (i 1).val) x5 0#32) x4) 256 (four _ (fun k d => o8 (ix2 k d)) (dot (k0_pay4 x0 x2) (k0_pay5 i x1 x3) (k0_pay6 (BitVec.ofNat 32 (i 1).val) x5 0#32) x4) 128 (first_four o8 (dot (k0_pay4 x0 x2) (k0_pay5 i x1 x3) (k0_pay6 (BitVec.ofNat 32 (i 1).val) x5 0#32) x4) (dots _ _ _ _ _ _ _ _ _ _ _ rfl) (dots _ _ _ _ _ _ _ _ _ _ _ rfl) (dots _ _ _ _ _ _ _ _ _ _ _ rfl) (dots _ _ _ _ _ _ _ _ _ _ _ rfl)) (dots _ _ _ _ _ _ _ _ _ _ _ rfl) (dots _ _ _ _ _ _ _ _ _ _ _ rfl)
    (dots _ _ _ _ _ _ _ _ _ _ _ rfl) (dots _ _ _ _ _ _ _ _ _ _ _ rfl)) (dots _ _ _ _ _ _ _ _ _ _ _ rfl) (dots _ _ _ _ _ _ _ _ _ _ _ rfl)
    (dots _ _ _ _ _ _ _ _ _ _ _ rfl) (dots _ _ _ _ _ _ _ _ _ _ _ rfl)) (dots _ _ _ _ _ _ _ _ _ _ _ rfl) (dots _ _ _ _ _ _ _ _ _ _ _ rfl)
    (dots _ _ _ _ _ _ _ _ _ _ _ rfl) (dots _ _ _ _ _ _ _ _ _ _ _ rfl) k d

theorem bias_B (d : Fin 256) : out0_B_9 (F := Ideal) c i a2 h2 a3 h3 a4 h4 a5 h5 a6 h6 a7 h7 a8 h8 a9 h9 a10 h10 a11 h11 a12 h12 a13 h13 hB x0 x1 x2 x3 x4 x5 x6 o8 o9 (ix2 0 d)
    = (o9 (ix2 0 d) : EReal) + ∑ n ∈ Finset.range 512, ahead (k0_pay4 x0 x2) (k0_pay5 i x1 x3) n d.val := by
  unfold out0_B_9
  refine (congrFun (View.read_writes_eq_canon _ _ _ (cover0_B_9 c i a2 h2 a3 h3 a4 h4 a5 h5 a6 h6 a7 h7 a8 h8 a9 h9 a10 h10 a11 h11 a12 h12 a13 h13 hB x0 x1 x2 x3 x4 x5 x6 o8 o9)) (ix2 0 d)).trans ?_
  unfold kernelRun0_B
  dsimp only
  sl_unfold_words
  simp only [View.readAt_eq_ld, h2.read_unread, h3.read_unread, h4.read_unread, h5.read_unread, h6.read_unread, h7.read_unread, h8.read_unread,
    h10.read_unread, h11.read_unread, View.ld_unit_zero (S := S512x256) origin, View.ld_unit_zero (S := S32x256) origin,
    View.ld_unit_zero (S := S1x256) origin, pay7_eq, bias_names, View.readCov_cons_toLoadRect]
  rw [View.canon_cons_unit_zero (S := S1x256) origin]
  refine (pay2_at _ _ d).trans ?_
  rw [pay2_at, pay2_at, pay2_at, sums, sums, sums, sums]
  rw [show (512 : ℕ) = 0 + 128 + 128 + 128 + 128 from rfl, Finset.sum_range_add, Finset.sum_range_add, Finset.sum_range_add, Finset.sum_range_add,
    Finset.range_zero, Finset.sum_empty]
  simp only [zero_add, Nat.reduceAdd, add_assoc (G := EReal)]

end

/-! ## The whole arrays -/

/-- The gradient at the convolution's value, zero past the last row. -/
def DP (T E : FVec Ideal ⟨2, ![4096, 3072]⟩ .f32) (r d : ℕ) : EReal := slope (cell T r d) (cell E r d)

/-- The gradient at an entry of the rows: the four entries of the convolution it entered. -/
def dxAt (T E : FVec Ideal ⟨2, ![4096, 3072]⟩ .f32) (W : FVec Ideal ⟨2, ![4, 3072]⟩ .f32) (r d : ℕ) : EReal :=
  acc 0 (DP T E (r + 3) d) (cell W 0 d) (DP T E (r + 2) d) (cell W 1 d) (DP T E (r + 1) d) (cell W 2 d) (DP T E r d) (cell W 3 d)

def wholeDx (T E : FVec Ideal ⟨2, ![4096, 3072]⟩ .f32) (W : FVec Ideal ⟨2, ![4, 3072]⟩ .f32) : FVec Ideal ⟨2, ![4096, 3072]⟩ .bf16 :=
  fun i => dxAt T E W (i 0).val (i 1).val

def wholeDw (T E : FVec Ideal ⟨2, ![4096, 3072]⟩ .f32) (P : FVec Ideal ⟨2, ![4096, 12288]⟩ .f32) : FVec Ideal ⟨2, ![4, 3072]⟩ .f32 :=
  fun i => ∑ n ∈ Finset.range 4096, DP T E n (i 1).val * padded P (n + (i 0).val) (i 1).val

def wholeDb (T E : FVec Ideal ⟨2, ![4096, 3072]⟩ .f32) : FVec Ideal ⟨2, ![1, 3072]⟩ .f32 :=
  fun i => ∑ n ∈ Finset.range 4096, DP T E n (i 1).val

/-- A sum that starts again every eight points. -/
theorem run_sum {N w : ℕ} (f : ℕ → ℕ → EReal) (s : ∀ n, n < N → EReal)
    (h0 : ∀ n hn, n % 8 = 0 → s n hn = ∑ k ∈ Finset.range w, f (n / 8) (n % 8 * w + k))
    (h1 : ∀ n hn, (n + 1) % 8 ≠ 0 →
      s (n + 1) hn = s n (Nat.lt_of_succ_lt hn) + ∑ k ∈ Finset.range w, f ((n + 1) / 8) ((n + 1) % 8 * w + k)) :
    ∀ n hn, s n hn = ∑ k ∈ Finset.range ((n % 8 + 1) * w), f (n / 8) k := by
  have start : ∀ n hn, n % 8 = 0 → s n hn = ∑ k ∈ Finset.range ((n % 8 + 1) * w), f (n / 8) k := fun n hn hz => by
    rw [h0 n hn hz, hz]; simp only [Nat.zero_mul, Nat.zero_add, Nat.one_mul]
  intro n
  induction n with
  | zero => intro hn; exact start 0 hn rfl
  | succ n ih =>
    intro hn
    by_cases hz : (n + 1) % 8 = 0
    · exact start _ hn hz
    · have hd : n / 8 = (n + 1) / 8 := by omega
      have hr : n % 8 + 1 = (n + 1) % 8 := by omega
      rw [h1 n hn hz, ih (Nat.lt_of_succ_lt hn), hr, hd, grow]

section
variable (m : (ℓ : Loc nD τ sig) → Buf (Elt Ideal) ℓ) (c : Dev nD)

abbrev T : FVec Ideal ⟨2, ![4096, 3072]⟩ .f32 := m ((c : Thread nD τ).loc main_arg0)
abbrev P : FVec Ideal ⟨2, ![4096, 12288]⟩ .f32 := m ((c : Thread nD τ).loc main_arg1)
abbrev W : FVec Ideal ⟨2, ![4, 3072]⟩ .f32 := m ((c : Thread nD τ).loc main_arg2)
abbrev B : FVec Ideal ⟨1, ![3072]⟩ .f32 := m ((c : Thread nD τ).loc main_arg3)
/-- What the convolution gave, before the gate. -/
abbrev E : FVec Ideal ⟨2, ![4096, 3072]⟩ .f32 := Cert.ConvBValue.pre (P m c) (W m c) (B m c)

theorem at0 : ∀ t : Fin grid0.N, win0_0.index t 0 = t.val % 8 ∧ win0_0.index t 1 = t.val / 8 := by decide +kernel
theorem at1 : ∀ t : Fin grid0.N, win0_1.index t 0 = min ((t.val % 8 + 1) * 16) 127 ∧ win0_1.index t 1 = t.val / 8 := by decide +kernel
theorem at2 : ∀ t : Fin grid0.N, win0_2.index t 0 = t.val % 8 ∧ win0_2.index t 1 = t.val / 8 := by decide +kernel
theorem at3 : ∀ t : Fin grid0.N, win0_3.index t 0 = min ((t.val % 8 + 1) * 16) 127 ∧ win0_3.index t 1 = t.val / 8 := by decide +kernel
theorem at4 : ∀ t : Fin grid0.N, win0_4.index t 0 = t.val % 8 ∧ win0_4.index t 1 = 16 + t.val / 8 := by decide +kernel
theorem at5 : ∀ t : Fin grid0.N, win0_5.index t 0 = t.val % 8 * 16 - 1 ∧ win0_5.index t 1 = 16 + t.val / 8 := by decide +kernel
theorem at6 : ∀ t : Fin grid0.N, win0_6.index t 0 = 0 ∧ win0_6.index t 1 = t.val / 8 := by decide +kernel
theorem at7 : ∀ t : Fin grid0.N, win0_7.index t 0 = t.val % 8 ∧ win0_7.index t 1 = t.val / 8 := by decide +kernel
theorem at8 : ∀ t : Fin grid0.N, win0_8.index t 0 = 0 ∧ win0_8.index t 1 = t.val / 8 := by decide +kernel
theorem at9 : ∀ t : Fin grid0.N, win0_9.index t 0 = 0 ∧ win0_9.index t 1 = t.val / 8 := by decide +kernel
theorem first : ∀ t : Fin grid0.N, Scalar.cmpi .sgt (BitVec.ofNat 32 (grid0.coords t 1).val) 0#32 = if t.val % 8 = 0 then 0#1 else 1#1 := by
  decide +kernel
theorem last : ∀ t : Fin grid0.N, Scalar.cmpi .slt (BitVec.ofNat 32 (grid0.coords t 1).val) 7#32 = if t.val % 8 = 7 then 0#1 else 1#1 := by
  decide +kernel

set_option maxHeartbeats 4000000 in
/-- The host's lines before the call leave it in the buffer the call reads. -/
theorem pre_whole : (V m c main_v32 : FVec Ideal ⟨2, ![4096, 3072]⟩ .f32) = E m c := by
  show StableHlo.after hostOps0 (fun b => m (c, b)) (Proc.devRef .tc main_v32) = _
  simp only [hostOps0, List.flatten_cons, List.flatten_nil, List.append_nil, List.cons_append, List.nil_append]
  after_results_simp
  all_goals rfl

theorem top_own (t : Fin cfg0.N) (a : Fin 512) (b : Fin 256) : cell (φ := .f32) (iblk m c 0 t : FVec Ideal S512x256 .f32) a.val b.val
    = cell (T m c) (t.val % 8 * 512 + a.val) (t.val / 8 * 256 + b.val) := by
  rw [cell_in]
  unfold iblk; rw [View.read_apply]
  show T m c _ = _
  refine cell_eq _ _ ?_ ?_
  · show win0_0.index t 0 * 512 + 1 * a.val = _; rw [(at0 t).1]; rw [one_mul]
  · show win0_0.index t 1 * 256 + 1 * b.val = _; rw [(at0 t).2]; omega

theorem top_next (t : Fin cfg0.N) (a : Fin 32) (b : Fin 256) : cell (φ := .f32) (iblk m c 1 t : FVec Ideal S32x256 .f32) a.val b.val
    = cell (T m c) (min ((t.val % 8 + 1) * 16) 127 * 32 + a.val) (t.val / 8 * 256 + b.val) := by
  rw [cell_in]
  unfold iblk; rw [View.read_apply]
  show T m c _ = _
  refine cell_eq _ _ ?_ ?_
  · show win0_1.index t 0 * 32 + 1 * a.val = _; rw [(at1 t).1]; rw [one_mul]
  · show win0_1.index t 1 * 256 + 1 * b.val = _; rw [(at1 t).2]; omega

theorem pre_own (t : Fin cfg0.N) (a : Fin 512) (b : Fin 256) : cell (φ := .f32) (iblk m c 2 t : FVec Ideal S512x256 .f32) a.val b.val
    = cell (E m c) (t.val % 8 * 512 + a.val) (t.val / 8 * 256 + b.val) := by
  rw [cell_in]
  unfold iblk; rw [View.read_apply]
  refine (congrFun (pre_whole m c) _).trans ?_
  refine cell_eq _ _ ?_ ?_
  · show win0_2.index t 0 * 512 + 1 * a.val = _; rw [(at2 t).1]; rw [one_mul]
  · show win0_2.index t 1 * 256 + 1 * b.val = _; rw [(at2 t).2]; omega

theorem pre_next (t : Fin cfg0.N) (a : Fin 32) (b : Fin 256) : cell (φ := .f32) (iblk m c 3 t : FVec Ideal S32x256 .f32) a.val b.val
    = cell (E m c) (min ((t.val % 8 + 1) * 16) 127 * 32 + a.val) (t.val / 8 * 256 + b.val) := by
  rw [cell_in]
  unfold iblk; rw [View.read_apply]
  refine (congrFun (pre_whole m c) _).trans ?_
  refine cell_eq _ _ ?_ ?_
  · show win0_3.index t 0 * 32 + 1 * a.val = _; rw [(at3 t).1]; rw [one_mul]
  · show win0_3.index t 1 * 256 + 1 * b.val = _; rw [(at3 t).2]; omega

theorem own (t : Fin cfg0.N) (a : Fin 512) (b : Fin 256) : cell (φ := .f32) (iblk m c 4 t : FVec Ideal S512x256 .f32) a.val b.val
    = cell (P m c) (t.val % 8 * 512 + a.val) (4096 + (t.val / 8 * 256 + b.val)) := by
  rw [cell_in]
  unfold iblk; rw [View.read_apply]
  show P m c _ = _
  refine cell_eq _ _ ?_ ?_
  · show win0_4.index t 0 * 512 + 1 * a.val = _; rw [(at4 t).1]; rw [one_mul]
  · show win0_4.index t 1 * 256 + 1 * b.val = _; rw [(at4 t).2]; omega

theorem before (t : Fin cfg0.N) (a : Fin 32) (b : Fin 256) : cell (φ := .f32) (iblk m c 5 t : FVec Ideal S32x256 .f32) a.val b.val
    = cell (P m c) ((t.val % 8 * 16 - 1) * 32 + a.val) (4096 + (t.val / 8 * 256 + b.val)) := by
  rw [cell_in]
  unfold iblk; rw [View.read_apply]
  show P m c _ = _
  refine cell_eq _ _ ?_ ?_
  · show win0_5.index t 0 * 32 + 1 * a.val = _; rw [(at5 t).1]; rw [one_mul]
  · show win0_5.index t 1 * 256 + 1 * b.val = _; rw [(at5 t).2]; omega

theorem weights (t : Fin cfg0.N) (a : Fin 4) (b : Fin 256) : cell (φ := .f32) (iblk m c 6 t : FVec Ideal S4x256 .f32) a.val b.val
    = cell (W m c) (a.val) (t.val / 8 * 256 + b.val) := by
  rw [cell_in]
  unfold iblk; rw [View.read_apply]
  show W m c _ = _
  refine cell_eq _ _ ?_ ?_
  · show win0_6.index t 0 * 4 + 1 * a.val = _; rw [(at6 t).1]; omega
  · show win0_6.index t 1 * 256 + 1 * b.val = _; rw [(at6 t).2]; omega

/-- Past the last row a gradient is zero. -/
theorem DP_past (T E : FVec Ideal ⟨2, ![4096, 3072]⟩ .f32) (r d : ℕ) (h : 4096 ≤ r) : DP T E r d = 0 := by
  unfold DP slope
  rw [show (cell T r d : EReal) = 0 from dif_neg (fun e => absurd e.1 (by show ¬ r < 4096; omega)), zero_mul]

/-- Out of the buffer of gradients come the whole array's. -/
theorem staged_gradients (t : Fin cfg0.N) (n : ℕ) (b : Fin 256) (h : n < 544) :
    ahead (k0_pay4 (F := Ideal) (iblk m c 0 t) (iblk m c 2 t)) (k0_pay5 (F := Ideal) (grid0.coords t) (iblk m c 1 t) (iblk m c 3 t)) n b.val = DP (T m c) (E m c) (t.val % 8 * 512 + n) (t.val / 8 * 256 + b.val) := by
  unfold ahead
  by_cases hn : n < 512
  · rw [if_pos hn]
    refine (cell_in (k0_pay4 (F := Ideal) (iblk m c 0 t) (iblk m c 2 t)) ⟨n, hn⟩ b).trans ((pay4_at _ _ _ _).trans ?_)
    rw [← cell_in (iblk m c 0 t) ⟨n, hn⟩ b, ← cell_in (iblk m c 2 t) ⟨n, hn⟩ b, top_own, pre_own]
    rfl
  · rw [if_neg hn]
    refine (cell_in (k0_pay5 (F := Ideal) (grid0.coords t) (iblk m c 1 t) (iblk m c 3 t)) ⟨n - 512, by omega⟩ b).trans ?_
    unfold k0_pay5
    dsimp only
    simp only [shapeCast_self]
    rw [last]
    by_cases h7 : t.val % 8 = 7
    · rw [if_pos h7, DP_past _ _ _ _ (by omega)]; unfold Scalar.select; rw [if_neg (by decide)]; pointwise
    · rw [if_neg h7]; unfold Scalar.select; rw [if_pos (show (1#1 : BitVec 1) = 1 from rfl)]
      have e0 := (cell_in (iblk m c 1 t) (⟨n - 512, by omega⟩ : Fin 32) b).symm.trans (top_next m c t ⟨n - 512, by omega⟩ b)
      have e1 := (cell_in (iblk m c 3 t) (⟨n - 512, by omega⟩ : Fin 32) b).symm.trans (pre_next m c t ⟨n - 512, by omega⟩ b)
      have hr : min ((t.val % 8 + 1) * 16) 127 * 32 + (n - 512) = t.val % 8 * 512 + n := by omega
      dsimp only at e0 e1
      rw [hr] at e0 e1
      unfold DP slope
      rw [← e0, ← e1]
      pointwise

/-- The rows before the block, zero at the start of the sequence. -/
theorem halo (t : Fin cfg0.N) (a : Fin 32) (b : Fin 256) :
    cell (k0_pay6 (F := Ideal) (BitVec.ofNat 32 (grid0.coords t 1).val) (iblk m c 5 t) 0#32) a.val b.val
      = if t.val % 8 = 0 then 0 else cell (P m c) ((t.val % 8 * 16 - 1) * 32 + a.val) (4096 + (t.val / 8 * 256 + b.val)) := by
  rw [cell_in, ← before, cell_in]
  unfold k0_pay6
  dsimp only
  rw [shapeCast_self, first]
  by_cases h : t.val % 8 = 0
  · rw [if_pos h, if_pos h]; unfold Scalar.select; rw [if_neg (by decide)]; pointwise
  · rw [if_neg h, if_neg h]; rfl

/-- Out of the buffer of rows come the padded rows. -/
theorem staged_rows (t : Fin cfg0.N) (n r : ℕ) (b : Fin 256) (h : 29 ≤ n) (h' : n < 544) (hr : r + 29 = t.val % 8 * 512 + n) :
    stage (k0_pay6 (F := Ideal) (BitVec.ofNat 32 (grid0.coords t 1).val) (iblk m c 5 t) 0#32) (iblk m c 4 t) n b.val = padded (P m c) r (t.val / 8 * 256 + b.val) := by
  unfold stage padded
  by_cases hn : n < 32
  · rw [if_pos hn]
    refine (halo m c t ⟨n, hn⟩ b).trans ?_
    by_cases h0 : t.val % 8 = 0
    · rw [if_pos h0, if_pos (by omega)]
    · rw [if_neg h0, if_neg (by omega)]
      exact congrArg₂ (cell _) (by show _ + n = _; omega) rfl
  · rw [if_neg hn]
    refine (own m c t ⟨n - 32, by omega⟩ b).trans ?_
    rw [if_neg (by omega)]
    exact congrArg₂ (cell _) (by show _ + (n - 32) = _; omega) rfl

theorem tile (t : Fin cfg0.N) (a : Fin 512) (b : Fin 256) :
    back (k0_pay4 (F := Ideal) (iblk m c 0 t) (iblk m c 2 t)) (k0_pay5 (F := Ideal) (grid0.coords t) (iblk m c 1 t) (iblk m c 3 t)) (iblk m c 6 t) a.val b.val
      = dxAt (T m c) (E m c) (W m c) (t.val % 8 * 512 + a.val) (t.val / 8 * 256 + b.val) := by
  unfold back dxAt
  exact acc_congr rfl (staged_gradients m c t _ b (by omega)) (weights m c t 0 b) (staged_gradients m c t _ b (by omega)) (weights m c t 1 b)
    (staged_gradients m c t _ b (by omega)) (weights m c t 2 b) (staged_gradients m c t _ b (by omega)) (weights m c t 3 b)

theorem tile_at (t : Fin cfg0.N) (a : Fin 512) (b : Fin 256) :
    (outsAt0 m c t.val t.isLt).1 (ix2 a b) = dxAt (T m c) (E m c) (W m c) (t.val % 8 * 512 + a.val) (t.val / 8 * 256 + b.val) := by
  refine Eq.trans ?_ (tile m c t a b)
  by_cases h : t.val % 8 = 0
  · rw [outsAt0_A m c t h]; dsimp only; exact rows_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _)
      ((hcond0_0 t).mpr h) (iblk m c 0 t) (iblk m c 1 t) (iblk m c 2 t) (iblk m c 3 t) (iblk m c 4 t) (iblk m c 5 t) (iblk m c 6 t) (ix2 a b)
  · rw [outsAt0_B m c t h]; dsimp only; exact rows_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _)
      (fun hc => h ((hcond0_0 t).mp hc)) (iblk m c 0 t) (iblk m c 1 t) (iblk m c 2 t) (iblk m c 3 t) (iblk m c 4 t) (iblk m c 5 t) (iblk m c 6 t) _ _ (ix2 a b)

/-- What a block adds to a row of the taps' gradient. -/
theorem block_taps (t : Fin cfg0.N) (k : Fin 4) (b : Fin 256) :
    ∑ n ∈ Finset.range 512, dot (k0_pay4 (F := Ideal) (iblk m c 0 t) (iblk m c 2 t)) (k0_pay5 (F := Ideal) (grid0.coords t) (iblk m c 1 t) (iblk m c 3 t)) (k0_pay6 (F := Ideal) (BitVec.ofNat 32 (grid0.coords t 1).val) (iblk m c 5 t) 0#32) (iblk m c 4 t) k.val n b.val
      = ∑ n ∈ Finset.range 512, DP (T m c) (E m c) (t.val % 8 * 512 + n) (t.val / 8 * 256 + b.val)
          * padded (P m c) (t.val % 8 * 512 + n + k.val) (t.val / 8 * 256 + b.val) := by
  refine Finset.sum_congr rfl fun n hn => ?_
  have hn := Finset.mem_range.mp hn
  exact congrArg₂ (fun p q : EReal => p * q) (staged_gradients m c t n b (by omega)) (staged_rows m c t _ _ b (by omega) (by omega) (by omega))

theorem block_bias (t : Fin cfg0.N) (b : Fin 256) :
    ∑ n ∈ Finset.range 512, ahead (k0_pay4 (F := Ideal) (iblk m c 0 t) (iblk m c 2 t)) (k0_pay5 (F := Ideal) (grid0.coords t) (iblk m c 1 t) (iblk m c 3 t)) n b.val
      = ∑ n ∈ Finset.range 512, DP (T m c) (E m c) (t.val % 8 * 512 + n) (t.val / 8 * 256 + b.val) :=
  Finset.sum_congr rfl fun n hn => staged_gradients m c t n b (by have := Finset.mem_range.mp hn; omega)

theorem taps_at (k : Fin 4) (b : Fin 256) : ∀ n (hn : n < cfg0.N), (outsAt0 m c n hn).2.1 (ix2 k b)
    = ∑ r ∈ Finset.range ((n % 8 + 1) * 512), DP (T m c) (E m c) r (n / 8 * 256 + b.val) * padded (P m c) (r + k.val) (n / 8 * 256 + b.val) := by
  refine run_sum (N := cfg0.N) (w := 512) (fun q r => DP (T m c) (E m c) r (q * 256 + b.val) * padded (P m c) (r + k.val) (q * 256 + b.val))
    (fun n hn => (outsAt0 m c n hn).2.1 (ix2 k b)) (fun n hn h => ?_) (fun n hn h => ?_)
  · refine Eq.trans ?_ (block_taps m c ⟨n, hn⟩ k b)
    rw [outsAt0_A m c ⟨n, hn⟩ h]; dsimp only
    exact (taps_A c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) (ms0_9 ⟨n, hn⟩) (hs0_9 ⟨n, hn⟩) scM0_0 (Memref.isWhole_whole _) scM0_1 (Memref.isWhole_whole _)
      ((hcond0_0 ⟨n, hn⟩).mpr h) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) k b).trans (zero_add _)
  · refine Eq.trans ?_ (congrArg (_ + ·) (block_taps m c ⟨n + 1, hn⟩ k b))
    rw [outsAt0_B m c ⟨n + 1, hn⟩ h]; dsimp only
    exact taps_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _)
      (fun hc => h ((hcond0_0 ⟨n + 1, hn⟩).mp hc)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 m c n (Nat.lt_of_succ_lt hn)).2.1 (outsAt0 m c n (Nat.lt_of_succ_lt hn)).2.2 k b

theorem bias_at (b : Fin 256) : ∀ n (hn : n < cfg0.N), (outsAt0 m c n hn).2.2 (ix2 0 b)
    = ∑ r ∈ Finset.range ((n % 8 + 1) * 512), DP (T m c) (E m c) r (n / 8 * 256 + b.val) := by
  refine run_sum (N := cfg0.N) (w := 512) (fun q r => DP (T m c) (E m c) r (q * 256 + b.val))
    (fun n hn => (outsAt0 m c n hn).2.2 (ix2 0 b)) (fun n hn h => ?_) (fun n hn h => ?_)
  · refine Eq.trans ?_ (block_bias m c ⟨n, hn⟩ b)
    rw [outsAt0_A m c ⟨n, hn⟩ h]; dsimp only
    exact (bias_A c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) (ms0_9 ⟨n, hn⟩) (hs0_9 ⟨n, hn⟩) scM0_0 (Memref.isWhole_whole _) scM0_1 (Memref.isWhole_whole _)
      ((hcond0_0 ⟨n, hn⟩).mpr h) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) b).trans (zero_add _)
  · refine Eq.trans ?_ (congrArg (_ + ·) (block_bias m c ⟨n + 1, hn⟩ b))
    rw [outsAt0_B m c ⟨n + 1, hn⟩ h]; dsimp only
    exact bias_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _)
      (fun hc => h ((hcond0_0 ⟨n + 1, hn⟩).mp hc)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 m c n (Nat.lt_of_succ_lt hn)).2.1 (outsAt0 m c n (Nat.lt_of_succ_lt hn)).2.2 b

theorem flushed_Dx (t : Fin cfg0.N) (_ : (cfg0.win 7).flush t = true) :
    (dats m 0 c).flushed 7 t = ((cfg0.win 7).blk t).view.read (Elt Ideal) (wholeDx (T m c) (E m c) (W m c)) := by
  rw [flushed7]
  refine funext fun (j : (⟨2, ![512, 256]⟩ : Shape).Idx) => ?_
  obtain ⟨a, b, rfl⟩ := ix2_of j
  rw [View.read_apply]
  refine (tile_at m c t a b).trans ?_
  refine congrArg₂ (dxAt (T m c) (E m c) (W m c)) ?_ ?_
  · show _ = win0_7.index t 0 * 512 + 1 * a.val; rw [(at7 t).1, one_mul]
  · show _ = win0_7.index t 1 * 256 + 1 * b.val; rw [(at7 t).2, one_mul]

theorem result_Dx : (dats m 0 c).arrAt 7 cfg0.N = wholeDx (T m c) (E m c) (W m c) :=
  (dats m 0 c).arrAt_eq_of_cover 7 (wholeDx (T m c) (E m c) (W m c)) (flushed_Dx m c) fun i => by
    have h0 : (i 0 : Nat) < 4096 := (i 0).isLt
    have h1 : (i 1 : Nat) < 3072 := (i 1).isLt
    refine ⟨⟨(i 1).val / 256 * 8 + (i 0).val / 512, ?_⟩, flush0_7 _, ?_⟩
    · rw [show cfg0.N = 96 from N_0]; omega
    · generalize ht : (⟨(i 1).val / 256 * 8 + (i 0).val / 512, _⟩ : Fin cfg0.N) = t
      have hv : t.val = (i 1).val / 256 * 8 + (i 0).val / 512 := by rw [← ht]
      show i ∈ ((View.whole main_v33_0).slice (win0_7.rect t)).set
      rw [View.set_slice_whole, Rect.mem_set_unit]
      intro a
      match a with
      | ⟨0, _⟩ => show win0_7.index t 0 * 512 ≤ (i 0 : Nat) ∧ (i 0 : Nat) < win0_7.index t 0 * 512 + 512
                  rw [(at7 t).1]; omega
      | ⟨1, _⟩ => show win0_7.index t 1 * 256 ≤ (i 1 : Nat) ∧ (i 1 : Nat) < win0_7.index t 1 * 256 + 256
                  rw [(at7 t).2]; omega

theorem flushed_Dw (t : Fin cfg0.N) (hf : (cfg0.win 8).flush t = true) :
    (dats m 0 c).flushed 8 t = ((cfg0.win 8).blk t).view.read (Elt Ideal) (wholeDw (T m c) (E m c) (P m c)) := by
  rw [flushed8]
  refine funext fun (j : (⟨2, ![4, 256]⟩ : Shape).Idx) => ?_
  obtain ⟨a, b, rfl⟩ := ix2_of j
  rw [View.read_apply]
  refine (taps_at m c a b t.val t.isLt).trans ?_
  have h7 : t.val % 8 = 7 := (flush0_8 t).mp hf
  have e0 : win0_8.index t 0 * 4 + 1 * a.val = a.val := by rw [(at8 t).1]; omega
  have e1 : win0_8.index t 1 * 256 + 1 * b.val = t.val / 8 * 256 + b.val := by rw [(at8 t).2, one_mul]
  show _ = ∑ n ∈ Finset.range 4096, DP (T m c) (E m c) n (win0_8.index t 1 * 256 + 1 * b.val)
    * padded (P m c) (n + (win0_8.index t 0 * 4 + 1 * a.val)) (win0_8.index t 1 * 256 + 1 * b.val)
  rw [e0, e1, h7]

theorem result_Dw : (dats m 0 c).arrAt 8 cfg0.N = wholeDw (T m c) (E m c) (P m c) :=
  (dats m 0 c).arrAt_eq_of_cover 8 (wholeDw (T m c) (E m c) (P m c)) (flushed_Dw m c) fun i => by
    have h0 : (i 0 : Nat) < 4 := (i 0).isLt
    have h1 : (i 1 : Nat) < 3072 := (i 1).isLt
    refine ⟨⟨(i 1).val / 256 * 8 + 7, ?_⟩, (flush0_8 _).mpr (by dsimp only; omega), ?_⟩
    · rw [show cfg0.N = 96 from N_0]; omega
    · generalize ht : (⟨(i 1).val / 256 * 8 + 7, _⟩ : Fin cfg0.N) = t
      have hv : t.val = (i 1).val / 256 * 8 + 7 := by rw [← ht]
      show i ∈ ((View.whole main_v33_1).slice (win0_8.rect t)).set
      rw [View.set_slice_whole, Rect.mem_set_unit]
      intro a
      match a with
      | ⟨0, _⟩ => show win0_8.index t 0 * 4 ≤ (i 0 : Nat) ∧ (i 0 : Nat) < win0_8.index t 0 * 4 + 4
                  rw [(at8 t).1]; omega
      | ⟨1, _⟩ => show win0_8.index t 1 * 256 ≤ (i 1 : Nat) ∧ (i 1 : Nat) < win0_8.index t 1 * 256 + 256
                  rw [(at8 t).2]; omega

theorem flushed_Db (t : Fin cfg0.N) (hf : (cfg0.win 9).flush t = true) :
    (dats m 0 c).flushed 9 t = ((cfg0.win 9).blk t).view.read (Elt Ideal) (wholeDb (T m c) (E m c)) := by
  rw [flushed9]
  refine funext fun (j : (⟨2, ![1, 256]⟩ : Shape).Idx) => ?_
  obtain ⟨a, b, rfl⟩ := ix2_of j
  rw [View.read_apply]
  obtain rfl : a = 0 := Subsingleton.elim _ _
  refine (bias_at m c b t.val t.isLt).trans ?_
  have h7 : t.val % 8 = 7 := (flush0_9 t).mp hf
  have e1 : win0_9.index t 1 * 256 + 1 * b.val = t.val / 8 * 256 + b.val := by rw [(at9 t).2, one_mul]
  show _ = ∑ n ∈ Finset.range 4096, DP (T m c) (E m c) n (win0_9.index t 1 * 256 + 1 * b.val)
  rw [e1, h7]

theorem result_Db : (dats m 0 c).arrAt 9 cfg0.N = wholeDb (T m c) (E m c) :=
  (dats m 0 c).arrAt_eq_of_cover 9 (wholeDb (T m c) (E m c)) (flushed_Db m c) fun i => by
    have h0 : (i 0 : Nat) < 1 := (i 0).isLt
    have h1 : (i 1 : Nat) < 3072 := (i 1).isLt
    refine ⟨⟨(i 1).val / 256 * 8 + 7, ?_⟩, (flush0_9 _).mpr (by dsimp only; omega), ?_⟩
    · rw [show cfg0.N = 96 from N_0]; omega
    · generalize ht : (⟨(i 1).val / 256 * 8 + 7, _⟩ : Fin cfg0.N) = t
      have hv : t.val = (i 1).val / 256 * 8 + 7 := by rw [← ht]
      show i ∈ ((View.whole main_v33_2).slice (win0_9.rect t)).set
      rw [View.set_slice_whole, Rect.mem_set_unit]
      intro a
      match a with
      | ⟨0, _⟩ => show win0_9.index t 0 * 1 ≤ (i 0 : Nat) ∧ (i 0 : Nat) < win0_9.index t 0 * 1 + 1
                  rw [(at9 t).1]; omega
      | ⟨1, _⟩ => show win0_9.index t 1 * 256 ≤ (i 1 : Nat) ∧ (i 1 : Nat) < win0_9.index t 1 * 256 + 256
                  rw [(at9 t).2]; omega

end

end Cert.ConvBBwdValue

end
-- ==== Proof.ConvBBwdRef.lean ====
/-
  The gradient of the short convolution and of the gate on it, as the reference writes it: the transposed convolution as four
  shifted and padded arrays added up, the taps' gradient as four sums over all rows.
-/
module

public import proofs.«01_k».proof.Proof.Gen.RefConvBBwdIdeal.Run
public import proofs.«01_k».proof.Proof.Gen.Pre_finite_cotangent
public import proofs.«01_k».proof.Proof.ConvBBwd
public import proofs.«01_k».proof.Proof.Finite
public import proofs.«01_k».proof.Defs

@[expose] public section

set_option maxRecDepth 16384

noncomputable section

namespace Cert.ConvBBwdValue.Reference

open Cert.Lift Cert.Blocked Cert.RefConvBBwdIdeal Cert.RefConvBBwdIdeal.Gen
open Cert.ConvBValue (acc acc_congr padded)
open Cert.ConvBBwdValue (slope DP DP_past dxAt wholeDx wholeDw wholeDb)
open Idealize.ShloMosaic Idealize.ShloMosaic.TcCoe Idealize.ShloMosaic.Tactic Idealize.SL.Sem

/-- The two ways of writing the gradient before the gate agree where the gradient after it is a number. -/
theorem slope_real (u : ℝ) (p : EReal) :
    (u : EReal) * Ideal.logistic p + p * u * (Ideal.logistic p * (1 - Ideal.logistic p)) = slope u p := by
  have e : (1 : EReal) - 1 = 0 := by rw [← EReal.coe_one, ← EReal.coe_sub, sub_self, EReal.coe_zero]
  unfold slope
  induction p using EReal.rec with
  | bot => rw [Ideal.logistic_bot]; simp only [zero_mul, mul_zero, add_zero]
  | top => rw [Ideal.logistic_top, e]; simp only [mul_zero, add_zero, mul_one]
  | coe p =>
    rw [Ideal.logistic_coe]
    generalize (1 + Real.exp (-p))⁻¹ = s
    norm_cast
    ring

section
variable (T Q G : FVec Ideal S4096x3072 .f32) (P : FVec Ideal S4096x12288 .f32) (W : FVec Ideal S4x3072 .f32)

/-- The logistic, entry by entry. -/
def gate : FVec Ideal S4096x3072 .f32 := Host.divf (broadcastInDim S4096x3072 ![] bcast_S_S4096x3072 (constant S_ .f32 0x3F800000#32)) (addf (broadcastInDim S4096x3072 ![] bcast_S_S4096x3072 (constant S_ .f32 0x3F800000#32)) (Host.exp (Host.negf Q)))

/-- The gradient at the convolution's value. -/
def grad : FVec Ideal S4096x3072 .f32 := addf (mulf T (gate Q)) (mulf (mulf Q T) (mulf (gate Q) (subf (broadcastInDim S4096x3072 ![] bcast_S_S4096x3072 (constant S_ .f32 0x3F800000#32)) (gate Q))))

/-- The convolved columns under three zero rows. -/
def padRows : FVec Ideal S4099x3072 .f32 :=
  concatenate S4099x3072 0 [⟨S3x3072, (broadcastInDim S3x3072 ![] bcast_S_S3x3072 (constant S_ .f32 0x00000000#32))⟩, ⟨S4096x3072, (extractStridedSlice S4096x3072 ![0, 4096] P slices_S4096x12288_S4096x3072_0_4096)⟩] concatenates_S3x3072_S4096x3072_S4099x3072_d0

/-- The sums of the columns. -/
def total : FVec Ideal S3072 .f32 :=
  Host.reduceAdd (shapeCast _ (Host.reduceAdd G (constant S_ .f32 0x00000000#32) reducesTo_S4096x3072_S3072_d0 h_S_) shapeCasts_S3072_S1x3072) (constant S_ .f32 0x00000000#32) reducesTo_S1x3072_S3072_d0 h_S_

/-- A row of the taps' gradient. -/
def tap (k : ℕ) (h : S4099x3072.Slices ![k, 0] S4096x3072) : FVec Ideal S1x3072 .f32 :=
  broadcastInDim S1x3072 ![1] bcast_S3072_S1x3072_1 (total (mulf G (extractStridedSlice S4096x3072 ![k, 0] (padRows P) h)))

/-- The gradient under one tap. -/
def weighed (k : ℕ) (h : S4x3072.Slices ![k, 0] S1x3072) : FVec Ideal S4096x3072 .f32 :=
  mulf (broadcastInDim S4096x3072 ![0, 1] bcast_S1x3072_S4096x3072_0_1 (broadcastInDim S1x3072 ![1] bcast_S3072_S1x3072_1 (shapeCast S3072 (extractStridedSlice S1x3072 ![k, 0] W h) shapeCasts_S1x3072_S3072))) G

def dxs : FVec Ideal S4096x3072 .bf16 :=
  truncf .bf16 (extractStridedSlice S4096x3072 ![3, 0] (addf (addf (addf (pad S4099x3072 ![3, 0] ![0, 0] ![0, 0] (weighed G W 3 slices_S4x3072_S1x3072_3_0) (constant S_ .f32 0x00000000#32) pads_S4096x3072_S4099x3072_300_000 h_S_) (pad S4099x3072 ![2, 0] ![1, 0] ![0, 0] (weighed G W 2 slices_S4x3072_S1x3072_2_0) (constant S_ .f32 0x00000000#32) pads_S4096x3072_S4099x3072_210_000 h_S_)) (pad S4099x3072 ![1, 0] ![2, 0] ![0, 0] (weighed G W 1 slices_S4x3072_S1x3072_1_0) (constant S_ .f32 0x00000000#32) pads_S4096x3072_S4099x3072_120_000 h_S_)) (pad S4099x3072 ![0, 0] ![3, 0] ![0, 0] (weighed G W 0 slices_S4x3072_S1x3072_0_0) (constant S_ .f32 0x00000000#32) pads_S4096x3072_S4099x3072_030_000 h_S_)) slices_S4099x3072_S4096x3072_3_0) bitsLt_bf16_f32

def dws : FVec Ideal S4x3072 .f32 :=
  addf (addf (addf (pad S4x3072 ![3, 0] ![0, 0] ![0, 0] (tap G P 3 slices_S4099x3072_S4096x3072_3_0) (constant S_ .f32 0x00000000#32) pads_S1x3072_S4x3072_300_000 h_S_) (pad S4x3072 ![2, 0] ![1, 0] ![0, 0] (tap G P 2 slices_S4099x3072_S4096x3072_2_0) (constant S_ .f32 0x00000000#32) pads_S1x3072_S4x3072_210_000 h_S_)) (pad S4x3072 ![1, 0] ![2, 0] ![0, 0] (tap G P 1 slices_S4099x3072_S4096x3072_1_0) (constant S_ .f32 0x00000000#32) pads_S1x3072_S4x3072_120_000 h_S_)) (pad S4x3072 ![0, 0] ![3, 0] ![0, 0] (tap G P 0 slices_S4099x3072_S4096x3072_0_0) (constant S_ .f32 0x00000000#32) pads_S1x3072_S4x3072_030_000 h_S_)

def dbs : FVec Ideal S1x3072 .f32 :=
  shapeCast S1x3072 (total G) shapeCasts_S3072_S1x3072

theorem grad_at (hT : ∀ i, ∃ u : ℝ, T i = ((u : ℝ) : EReal)) (r : Fin 4096) (d : Fin 3072) : grad T Q (ix2 r d) = DP T Q r.val d.val := by
  unfold DP
  rw [Cert.ConvBValue.cell_in T r d, Cert.ConvBValue.cell_in Q r d]
  obtain ⟨u, hu⟩ := hT (ix2 r d)
  have hg : gate Q (ix2 r d) = Ideal.logistic (Q (ix2 r d)) := by unfold gate Ideal.logistic; pointwise
  rw [hu, ← slope_real, ← hu, ← hg]
  unfold grad
  pointwise

theorem padRows_at (n : Fin 4099) (d : Fin 3072) : padRows P (ix2 n d) = padded P n.val d.val := by
  unfold padRows padded
  by_cases h : n.val < 3
  · rw [if_pos h]; pointwise; rw [dif_pos h]
  · rw [if_neg h]; pointwise; rw [dif_neg h]; exact cell_eq P _ rfl rfl

theorem total_at (d : Fin 3072) : total G (ix1 d) = ∑ r : Fin 4096, (G (ix2 r d) : EReal) := by
  unfold total
  pointwise
  exact Fin.sum_univ_one _

theorem tap_at (k : Fin 4) (h) (d : Fin 3072) : tap G P k.val h (ix2 0 d) = ∑ r : Fin 4096, (G (ix2 r d) : EReal) * padded P (r.val + k.val) d.val := by
  unfold tap
  pointwise
  refine (total_at _ d).trans (Finset.sum_congr rfl fun r _ => ?_)
  pointwise
  rw [padRows_at]
  refine congrArg (G (ix2 r d) * ·) (congrArg (fun n => padded P n d.val) ?_)
  exact Nat.add_comm ..

theorem weighed_at (k : Fin 4) (h) (r : Fin 4096) (d : Fin 3072) : weighed G W k.val h (ix2 r d) = (G (ix2 r d) : EReal) * cell W k.val d.val := by
  unfold weighed
  pointwise
  rw [mul_comm]
  exact congrArg (G (ix2 r d) * ·) (cell_eq W _ rfl rfl)

/-- A row set into four. -/
theorem single (X : FVec Ideal S1x3072 .f32) (j : ℕ) (q q' : Prop) [Decidable q] [Decidable q'] (hq : q ↔ q') (p : q → j < 1) (d : Fin 3072) :
    (if h : q then (X (ix2 ⟨j, p h⟩ d) : EReal) else 0) = if q' then (X (ix2 0 d) : EReal) else 0 := by
  by_cases e : q
  · rw [dif_pos e, if_pos (hq.mp e)]
    exact congrArg (fun z => X (ix2 z d)) (Fin.ext (by have := p e; show j = 0; omega))
  · rw [dif_neg e, if_neg (fun h => e (hq.mpr h))]

variable (hG : ∀ (r : Fin 4096) (d : Fin 3072), G (ix2 r d) = DP T Q r.val d.val)
include hG

/-- The gradient under one tap, moved down: past the last row there is none. -/
theorem shifted (k : Fin 4) (h) (j : ℕ) (q : Prop) [Decidable q] (hq : q ↔ j < 4096) (p : q → j < 4096) (d : Fin 3072) :
    (if e : q then (weighed G W k.val h (ix2 ⟨j, p e⟩ d) : EReal) else 0) = DP T Q j d.val * cell W k.val d.val := by
  by_cases e : q
  · rw [dif_pos e, weighed_at, hG]
  · rw [dif_neg e, DP_past T Q _ _ (Nat.le_of_not_lt fun h => e (hq.mpr h)), zero_mul]

theorem dbs_eq : dbs G = wholeDb T Q := funext fun i => by
  obtain ⟨a, d, rfl⟩ := Cert.Lift.ix2_of i
  unfold dbs
  refine (Cert.ConvBValue.list_row (total G) _ _ rfl).trans ((total_at G d).trans ?_)
  show _ = ∑ n ∈ Finset.range 4096, DP T Q n d.val
  rw [Finset.sum_range]
  exact Finset.sum_congr rfl fun r _ => hG r d

theorem dws_eq : dws G P = wholeDw T Q P := funext fun i => by
  obtain ⟨k, d, rfl⟩ := Cert.Lift.ix2_of i
  unfold dws
  have t (j : Fin 4) (h) : tap G P j.val h (ix2 0 d) = ∑ n ∈ Finset.range 4096, DP T Q n d.val * padded P (n + j.val) d.val := by
    rw [tap_at, Finset.sum_range]
    exact Finset.sum_congr rfl fun r _ => congrArg (· * _) (hG r d)
  pointwise
  refine (congrArg₂ (· + ·) (congrArg₂ (· + ·) (congrArg₂ (· + ·) (single _ _ _ (k = 3) (by omega) _ d) (single _ _ _ (k = 2) (by omega) _ d))
    (single _ _ _ (k = 1) (by omega) _ d)) (single _ _ _ (k = 0) (by omega) _ d)).trans ?_
  rw [show tap G P 3 _ (ix2 0 d) = _ from t 3 _, show tap G P 2 _ (ix2 0 d) = _ from t 2 _, show tap G P 1 _ (ix2 0 d) = _ from t 1 _,
    show tap G P 0 _ (ix2 0 d) = _ from t 0 _]
  show _ = ∑ n ∈ Finset.range 4096, DP T Q n d.val * padded P (n + k.val) d.val
  fin_cases k <;> simp

theorem dxs_eq : dxs G W = wholeDx T Q W := funext fun i => by
  obtain ⟨r, d, rfl⟩ := Cert.Lift.ix2_of i
  have hr := r.isLt
  unfold dxs
  pointwise
  have e0 : weighed G W 3 slices_S4x3072_S1x3072_3_0 (ix2 r d) = DP T Q r.val d.val * cell W 3 d.val := by
    rw [show weighed G W 3 _ (ix2 r d) = _ from weighed_at G W 3 _ r d, hG]; rfl
  refine (congrArg₂ (· + ·) (congrArg₂ (· + ·) (congrArg₂ (· + ·) e0 (shifted T Q G W hG 2 _ (3 + r.val - 2) _ (by omega) _ d))
    (shifted T Q G W hG 1 _ (3 + r.val - 1) _ (by omega) _ d)) (shifted T Q G W hG 0 _ (3 + r.val) _ (by omega) _ d)).trans ?_
  show _ = acc 0 (DP T Q (r.val + 3) d.val) (cell W 0 d.val) (DP T Q (r.val + 2) d.val) (cell W 1 d.val) (DP T Q (r.val + 1) d.val) (cell W 2 d.val)
    (DP T Q r.val d.val) (cell W 3 d.val)
  rw [show 3 + r.val - 2 = r.val + 1 by omega, show 3 + r.val - 1 = r.val + 2 by omega, Nat.add_comm 3 r.val]
  show DP T Q r.val d.val * cell W 3 d.val + DP T Q (r.val + 1) d.val * cell W 2 d.val + DP T Q (r.val + 2) d.val * cell W 1 d.val
    + DP T Q (r.val + 3) d.val * cell W 0 d.val = _
  unfold acc
  rw [zero_add]
  generalize DP T Q r.val d.val * cell W 3 d.val = x3
  generalize DP T Q (r.val + 1) d.val * cell W 2 d.val = x2
  generalize DP T Q (r.val + 2) d.val * cell W 1 d.val = x1
  generalize DP T Q (r.val + 3) d.val * cell W 0 d.val = x0
  rw [add_comm x3 x2, add_comm _ x1, add_comm _ x0, ← add_assoc, ← add_assoc, ]

end

/-! ## What the reference gives -/

section
variable [Cert.RefConvBBwdIdeal.Facts] (m : (ℓ : Loc nD τ sig) → Buf (Elt Ideal) ℓ) (c : Dev nD)

abbrev T : FVec Ideal S4096x3072 .f32 := m ((c.tc : Thread nD τ).loc main_arg0)
abbrev P : FVec Ideal S4096x12288 .f32 := m ((c.tc : Thread nD τ).loc main_arg1)
abbrev W : FVec Ideal S4x3072 .f32 := m ((c.tc : Thread nD τ).loc main_arg2)
abbrev B : FVec Ideal S3072 .f32 := m ((c.tc : Thread nD τ).loc main_arg3)
abbrev E : FVec Ideal S4096x3072 .f32 := Cert.ConvBValue.pre (P m c) (W m c) (B m c)

theorem result_Dx : Cert.RefConvBBwdIdeal.Value.res_main_v83 m c = dxs (grad (T m c) (E m c)) (W m c) := by
  unfold Cert.RefConvBBwdIdeal.Value.res_main_v83; rfl

theorem result_Dw : Cert.RefConvBBwdIdeal.Value.res_main_v80 m c = dws (grad (T m c) (E m c)) (P m c) := by
  unfold Cert.RefConvBBwdIdeal.Value.res_main_v80; rfl

theorem result_Db : Cert.RefConvBBwdIdeal.Value.res_main_v84 m c = dbs (grad (T m c) (E m c)) := by
  unfold Cert.RefConvBBwdIdeal.Value.res_main_v84; rfl

end

/-- The precondition makes the incoming gradient a number everywhere. -/
theorem holds [Cert.Pre_finite_cotangent.Facts] (T : FVec Ideal S4096x3072 .f32) (P : FVec Ideal S4096x12288 .f32) (W : FVec Ideal S4x3072 .f32)
    (B : FVec Ideal S3072 .f32) (h : Cert.Pre_finite_cotangent.fn (F := Ideal) T P W B = fun _ => 1#1) (i : S4096x3072.Idx) :
    ∃ u : ℝ, T i = ((u : ℝ) : EReal) := by
  let j : S_.Idx := fun a => a.elim0
  have e := congrFun h j
  unfold Cert.Pre_finite_cotangent.fn at e
  dsimp only at e
  exact ⟨_, Cert.Finite.real_of_all T _ _ j e i⟩

end Cert.ConvBBwdValue.Reference

/-! ## The claim -/

namespace Cert.ConvBBwdValue

open Idealize.ShloMosaic

theorem value [Cert.ConvBBwdIdeal.Facts] [Cert.RefConvBBwdIdeal.Facts] [Cert.Pre_finite_cotangent.Facts] :
    Cert.algebraic_ConvBBwdIdeal_RefConvBBwdIdeal_pre_finite_cotangent := fun m g m' g' hp hm => by
  have hG (c) := Reference.grad_at (T m c) (E m c) (Reference.holds _ _ _ _ (hp c))
  refine ⟨fun c => wholeDx (T m c) (E m c) (W m c), fun c => wholeDw (T m c) (E m c) (P m c), fun c => wholeDb (T m c) (E m c),
    (θ_run Cert.ConvBBwdIdeal.defs _ _).mono
      (fun r h c => ⟨(h c).1.trans (result_Dx m c), (h c).2.1.trans (result_Dw m c), (h c).2.2.1.trans (result_Db m c), (h c).2.2.2⟩)
      (Cert.ConvBBwdIdeal.Value.run_blocks m g),
    (θ_run Cert.RefConvBBwdIdeal.defs _ _).mono
      (fun r h c => ⟨(h c).1.trans ?_, (h c).2.1.trans ?_, (h c).2.2.1.trans ?_, (h c).2.2.2⟩) (Cert.RefConvBBwdIdeal.Value.run m' g')⟩
  · rw [Reference.result_Dx]
    obtain ⟨e0, e1, e2, e3⟩ := hm c
    unfold Reference.T Reference.E Reference.P Reference.W Reference.B
    rw [e0, e1, e2, e3]
    exact Reference.dxs_eq _ _ _ _ (hG c)
  · rw [Reference.result_Dw]
    obtain ⟨e0, e1, e2, e3⟩ := hm c
    unfold Reference.T Reference.E Reference.P Reference.W Reference.B
    rw [e0, e1, e2, e3]
    exact Reference.dws_eq _ _ _ _ (hG c)
  · rw [Reference.result_Db]
    obtain ⟨e0, e1, e2, e3⟩ := hm c
    unfold Reference.T Reference.E Reference.P Reference.W Reference.B
    rw [e0, e1, e2, e3]
    exact Reference.dbs_eq _ _ _ (hG c)

end Cert.ConvBBwdValue

end
-- ==== Proof.Rms.lean ====
/-
  The root-mean-square norm of the forward pass, row by row.
-/
module

public import proofs.«01_k».proof.Proof.Gen.RmsIdeal.Value
public import proofs.«01_k».proof.Proof.Gen.RefRmsIdeal.Run
public import proofs.«01_k».proof.Proof.RmsBwd
public import proofs.«01_k».proof.Defs

@[expose] public section

set_option maxRecDepth 16384

noncomputable section

namespace Cert.RmsValue

open Cert.Lift Cert.Blocked Cert.Rows Cert.RmsIdeal Cert.RmsIdeal.Gen Cert.RmsIdeal.Value
open Idealize.ShloMosaic Idealize.ShloMosaic.TcCoe Idealize.ShloMosaic.Tactic Idealize.SL.Sem

theorem body {F : FTy → Type} [FloatOps F] (x : Vec F S256x1024 .f32) (g : Vec F S1x1024 .f32) : out0_2 x g = k0_pay1 x g := by
  unfold out0_2
  rw [View.canon_unit_zero origin]
  simp only [View.ld_unit_zero (S := S256x1024) origin, View.ld_unit_zero (S := S1x1024) origin]

/-- An entry of a normed row, with its gain. -/
def normed (h g : Fin 1024 → EReal) (b : Fin 1024) : EReal := h b * Ideal.rsqrt (Cert.RmsBwdValue.square h) * g b

theorem pay (x : FVec Ideal S256x1024 .f32) (g : FVec Ideal S1x1024 .f32) (a : Fin 256) (b : Fin 1024) :
    k0_pay1 (F := Ideal) x g (ix2 a b) = normed (fun k => x (ix2 a k)) (fun k => g (ix2 0 k)) b := by
  unfold k0_pay1 normed Cert.RmsBwdValue.square; simp only [shapeCast_self]; pointwise

/-- Every row, normed. -/
def whole (X : FVec Ideal ⟨2, ![4096, 1024]⟩ .f32) (G : FVec Ideal ⟨1, ![1024]⟩ .f32) : FVec Ideal ⟨2, ![4096, 1024]⟩ .bf16 :=
  fun i => normed (row X (i 0).val) (fun k => G (ix1 k)) (i 1)

section
variable (m : (ℓ : Loc nD τ sig) → Buf (Elt Ideal) ℓ) (c : Dev nD)

abbrev X : FVec Ideal ⟨2, ![4096, 1024]⟩ .f32 := m ((c : Thread nD τ).loc main_arg0)
abbrev G : FVec Ideal ⟨1, ![1024]⟩ .f32 := m ((c : Thread nD τ).loc main_arg1)

theorem at0 : ∀ t : Fin grid0.N, win0_0.index t 0 = t.val ∧ win0_0.index t 1 = 0 := by decide +kernel
theorem at1 : ∀ t : Fin grid0.N, win0_1.index t 0 = 0 ∧ win0_1.index t 1 = 0 := by decide +kernel
theorem at2 : ∀ t : Fin grid0.N, win0_2.index t 0 = t.val ∧ win0_2.index t 1 = 0 := by decide +kernel

theorem rows (t : Fin cfg0.N) (a : Fin 256) (b : Fin 1024) :
    (iblk m c 0 t : FVec Ideal S256x1024 .f32) (ix2 a b) = row (X m c) (t.val * 256 + a.val) b := by
  unfold iblk; rw [View.read_apply]
  show X m c _ = _
  refine cell_eq _ _ ?_ ?_
  · show win0_0.index t 0 * 256 + 1 * a.val = _; rw [(at0 t).1, one_mul]
  · show win0_0.index t 1 * 1024 + 1 * b.val = _; rw [(at0 t).2]; omega

theorem gain (t : Fin cfg0.N) (b : Fin 1024) : (iblk m c 1 t : FVec Ideal S1x1024 .f32) (ix2 0 b) = G m c (ix1 b) := by
  unfold iblk; rw [View.read_apply]
  show (shapeCast S1x1024 (G m c) shapeCasts_S1024_S1x1024 : FVec Ideal S1x1024 .f32) _ = _
  refine row_of_list _ _ _ ?_
  show win0_1.index t 1 * 1024 + 1 * b.val = _; rw [(at1 t).2]; omega

theorem tile (t : Fin cfg0.N) (a : Fin 256) (b : Fin 1024) : out0_2 (iblk m c 0 t) (iblk m c 1 t) (ix2 a b)
    = normed (row (X m c) (t.val * 256 + a.val)) (fun k => G m c (ix1 k)) b := by
  rw [body, pay]
  simp only [rows, gain]

theorem whole_at (i : (⟨2, ![4096, 1024]⟩ : Shape).Idx) {r : ℕ} {b : Fin 1024} (hr : (i 0).val = r) (hb : (i 1).val = b.val) :
    whole (X m c) (G m c) i = normed (row (X m c) r) (fun k => G m c (ix1 k)) b := by
  subst hr
  exact congrArg (normed _ _) (Fin.ext hb)

theorem flushed_whole (t : Fin cfg0.N) (_ : (cfg0.win 2).flush t = true) :
    (dats m 0 c).flushed 2 t = ((cfg0.win 2).blk t).view.read (Elt Ideal) (whole (X m c) (G m c)) := by
  rw [flushed2]
  refine funext fun (j : (⟨2, ![256, 1024]⟩ : Shape).Idx) => ?_
  obtain ⟨a, b, rfl⟩ := ix2_of j
  rw [View.read_apply]
  refine (tile m c t a b).trans ?_
  refine (whole_at m c _ ?_ ?_).symm
  · show win0_2.index t 0 * 256 + 1 * a.val = _; rw [(at2 t).1, one_mul]
  · show win0_2.index t 1 * 1024 + 1 * b.val = _; rw [(at2 t).2]; omega

theorem result : (dats m 0 c).arrAt 2 cfg0.N = whole (X m c) (G m c) :=
  (dats m 0 c).arrAt_eq_of_cover 2 (whole (X m c) (G m c)) (flushed_whole m c) fun i => by
    have h0 : (i 0 : Nat) < 4096 := (i 0).isLt
    have h1 : (i 1 : Nat) < 1024 := (i 1).isLt
    refine ⟨⟨(i 0).val / 256, ?_⟩, flush0_2 _, ?_⟩
    · rw [show cfg0.N = 16 from N_0]; omega
    · generalize ht : (⟨(i 0).val / 256, _⟩ : Fin cfg0.N) = t
      have hv : t.val = (i 0).val / 256 := by rw [← ht]
      show i ∈ ((View.whole main_v1).slice (win0_2.rect t)).set
      rw [View.set_slice_whole, Rect.mem_set_unit]
      intro a
      match a with
      | ⟨0, _⟩ => show win0_2.index t 0 * 256 ≤ (i 0 : Nat) ∧ (i 0 : Nat) < win0_2.index t 0 * 256 + 256
                  rw [(at2 t).1]; omega
      | ⟨1, _⟩ => show win0_2.index t 1 * 1024 ≤ (i 1 : Nat) ∧ (i 1 : Nat) < win0_2.index t 1 * 1024 + 1024
                  rw [(at2 t).2]; omega

end

/-! ## The reference -/

section
open Cert.RefRmsIdeal
variable [Cert.RefRmsIdeal.Facts₀] (x : FVec Ideal Cert.RefRmsIdeal.S4096x1024 .f32) (g : FVec Ideal Cert.RefRmsIdeal.S1024 .f32)

/-- The rows' mean squares, with the small number, as the reference has them. -/
def squares : FVec Ideal Cert.RefRmsIdeal.S4096x1 .f32 :=
  addf (Host.divf (broadcastInDim Cert.RefRmsIdeal.S4096x1 ![0] Facts₀.bcast_S4096_S4096x1_0 (Host.reduceAdd (mulf x x) (constant Cert.RefRmsIdeal.S_ .f32 0x00000000#32) Facts₀.reducesTo_S4096x1024_S4096_d1 Facts₀.h_S_)) (broadcastInDim Cert.RefRmsIdeal.S4096x1 ![] Facts₀.bcast_S_S4096x1 (constant Cert.RefRmsIdeal.S_ .f32 0x44800000#32))) (broadcastInDim Cert.RefRmsIdeal.S4096x1 ![] Facts₀.bcast_S_S4096x1 (constant Cert.RefRmsIdeal.S_ .f32 0x358637BD#32))

/-- What the reference returns. -/
def norms : FVec Ideal Cert.RefRmsIdeal.S4096x1024 .bf16 :=
  truncf .bf16 (mulf (mulf x (broadcastInDim Cert.RefRmsIdeal.S4096x1024 ![0, 1] Facts₀.bcast_S4096x1_S4096x1024_0_1 (Host.rsqrt (squares x)))) (broadcastInDim Cert.RefRmsIdeal.S4096x1024 ![0, 1] Facts₀.bcast_S1x1024_S4096x1024_0_1 (broadcastInDim Cert.RefRmsIdeal.S1x1024 ![1] Facts₀.bcast_S1024_S1x1024_1 g))) Cert.RefRmsIdeal.Facts₀.bitsLt_bf16_f32

theorem reference : norms x g = whole x g := by
  funext i
  obtain ⟨a, b, rfl⟩ := ix2_of i
  show _ = normed (row x a.val) (fun k => g (ix1 k)) b
  rw [← row_eq x a]
  unfold norms squares normed Cert.RmsBwdValue.square
  pointwise

end

end Cert.RmsValue

end
-- ==== Proof.LnSilu.lean ====
/-
  The layer norm of the forward pass and its gate, row by row.
-/
module

public import proofs.«01_k».proof.Proof.Gen.LnSiluIdeal.Value
public import proofs.«01_k».proof.Proof.Gen.RefLnSiluIdeal.Run
public import proofs.«01_k».proof.Proof.LnSiluRef
public import proofs.«01_k».proof.Defs

@[expose] public section

set_option maxRecDepth 16384

noncomputable section

namespace Cert.LnSiluValue

open Cert.Lift Cert.Blocked Cert.Rows Cert.LnSiluIdeal Cert.LnSiluIdeal.Gen Cert.LnSiluIdeal.Value
open Idealize.ShloMosaic Idealize.ShloMosaic.TcCoe Idealize.ShloMosaic.Tactic Idealize.SL.Sem

theorem body {F : FTy → Type} [FloatOps F] (x : Vec F S256x1024 .f32) (g b : Vec F S1x1024 .f32) : out0_3 x g b = k0_pay1 x g b := by
  unfold out0_3
  rw [View.canon_unit_zero origin]
  simp only [View.ld_unit_zero (S := S256x1024) origin, View.ld_unit_zero (S := S1x1024) origin]

open Cert.LnSiluBwdValue in
/-- An entry of a normed row, gated by itself. -/
def gated (x g b : Fin 1024 → EReal) (k : Fin 1024) : EReal := affine x g b k * Ideal.logistic (affine x g b k)

theorem pay (x : FVec Ideal S256x1024 .f32) (g b : FVec Ideal S1x1024 .f32) (a : Fin 256) (k : Fin 1024) :
    k0_pay1 (F := Ideal) x g b (ix2 a k) = gated (fun k => x (ix2 a k)) (fun k => g (ix2 0 k)) (fun k => b (ix2 0 k)) k := by
  unfold k0_pay1 gated Cert.LnSiluBwdValue.affine Cert.LnSiluBwdValue.normed Cert.LnSiluBwdValue.spread Cert.LnSiluBwdValue.centre Cert.LnSiluBwdValue.mean
  simp only [shapeCast_self]; pointwise

/-- Every row, normed and gated. -/
def whole (X : FVec Ideal ⟨2, ![4096, 1024]⟩ .f32) (G B : FVec Ideal ⟨1, ![1024]⟩ .f32) : FVec Ideal ⟨2, ![4096, 1024]⟩ .bf16 :=
  fun i => gated (row X (i 0).val) (fun k => G (ix1 k)) (fun k => B (ix1 k)) (i 1)

section
variable (m : (ℓ : Loc nD τ sig) → Buf (Elt Ideal) ℓ) (c : Dev nD)

abbrev X : FVec Ideal ⟨2, ![4096, 1024]⟩ .f32 := m ((c : Thread nD τ).loc main_arg0)
abbrev G : FVec Ideal ⟨1, ![1024]⟩ .f32 := m ((c : Thread nD τ).loc main_arg1)
abbrev B : FVec Ideal ⟨1, ![1024]⟩ .f32 := m ((c : Thread nD τ).loc main_arg2)

theorem at0 : ∀ t : Fin grid0.N, win0_0.index t 0 = t.val ∧ win0_0.index t 1 = 0 := by decide +kernel
theorem at1 : ∀ t : Fin grid0.N, win0_1.index t 0 = 0 ∧ win0_1.index t 1 = 0 := by decide +kernel
theorem at2 : ∀ t : Fin grid0.N, win0_2.index t 0 = 0 ∧ win0_2.index t 1 = 0 := by decide +kernel
theorem at3 : ∀ t : Fin grid0.N, win0_3.index t 0 = t.val ∧ win0_3.index t 1 = 0 := by decide +kernel

theorem rows (t : Fin cfg0.N) (a : Fin 256) (b : Fin 1024) :
    (iblk m c 0 t : FVec Ideal S256x1024 .f32) (ix2 a b) = row (X m c) (t.val * 256 + a.val) b := by
  unfold iblk; rw [View.read_apply]
  show X m c _ = _
  refine cell_eq _ _ ?_ ?_
  · show win0_0.index t 0 * 256 + 1 * a.val = _; rw [(at0 t).1, one_mul]
  · show win0_0.index t 1 * 1024 + 1 * b.val = _; rw [(at0 t).2]; omega

theorem gain (t : Fin cfg0.N) (b : Fin 1024) : (iblk m c 1 t : FVec Ideal S1x1024 .f32) (ix2 0 b) = G m c (ix1 b) := by
  unfold iblk; rw [View.read_apply]
  show (shapeCast S1x1024 (G m c) shapeCasts_S1024_S1x1024 : FVec Ideal S1x1024 .f32) _ = _
  refine row_of_list _ _ _ ?_
  show win0_1.index t 1 * 1024 + 1 * b.val = _; rw [(at1 t).2]; omega

theorem offset (t : Fin cfg0.N) (b : Fin 1024) : (iblk m c 2 t : FVec Ideal S1x1024 .f32) (ix2 0 b) = B m c (ix1 b) := by
  unfold iblk; rw [View.read_apply]
  show (shapeCast S1x1024 (B m c) shapeCasts_S1024_S1x1024 : FVec Ideal S1x1024 .f32) _ = _
  refine row_of_list _ _ _ ?_
  show win0_2.index t 1 * 1024 + 1 * b.val = _; rw [(at2 t).2]; omega

theorem tile (t : Fin cfg0.N) (a : Fin 256) (b : Fin 1024) : out0_3 (iblk m c 0 t) (iblk m c 1 t) (iblk m c 2 t) (ix2 a b)
    = gated (row (X m c) (t.val * 256 + a.val)) (fun k => G m c (ix1 k)) (fun k => B m c (ix1 k)) b := by
  rw [body, pay]
  simp only [rows, gain, offset]

theorem whole_at (i : (⟨2, ![4096, 1024]⟩ : Shape).Idx) {r : ℕ} {b : Fin 1024} (hr : (i 0).val = r) (hb : (i 1).val = b.val) :
    whole (X m c) (G m c) (B m c) i = gated (row (X m c) r) (fun k => G m c (ix1 k)) (fun k => B m c (ix1 k)) b := by
  subst hr
  exact congrArg (gated _ _ _) (Fin.ext hb)

theorem flushed_whole (t : Fin cfg0.N) (_ : (cfg0.win 3).flush t = true) :
    (dats m 0 c).flushed 3 t = ((cfg0.win 3).blk t).view.read (Elt Ideal) (whole (X m c) (G m c) (B m c)) := by
  rw [flushed3]
  refine funext fun (j : (⟨2, ![256, 1024]⟩ : Shape).Idx) => ?_
  obtain ⟨a, b, rfl⟩ := ix2_of j
  rw [View.read_apply]
  refine (tile m c t a b).trans ?_
  refine (whole_at m c _ ?_ ?_).symm
  · show win0_3.index t 0 * 256 + 1 * a.val = _; rw [(at3 t).1, one_mul]
  · show win0_3.index t 1 * 1024 + 1 * b.val = _; rw [(at3 t).2]; omega

theorem result : (dats m 0 c).arrAt 3 cfg0.N = whole (X m c) (G m c) (B m c) :=
  (dats m 0 c).arrAt_eq_of_cover 3 (whole (X m c) (G m c) (B m c)) (flushed_whole m c) fun i => by
    have h0 : (i 0 : Nat) < 4096 := (i 0).isLt
    have h1 : (i 1 : Nat) < 1024 := (i 1).isLt
    refine ⟨⟨(i 0).val / 256, ?_⟩, flush0_3 _, ?_⟩
    · rw [show cfg0.N = 16 from N_0]; omega
    · generalize ht : (⟨(i 0).val / 256, _⟩ : Fin cfg0.N) = t
      have hv : t.val = (i 0).val / 256 := by rw [← ht]
      show i ∈ ((View.whole main_v2).slice (win0_3.rect t)).set
      rw [View.set_slice_whole, Rect.mem_set_unit]
      intro a
      match a with
      | ⟨0, _⟩ => show win0_3.index t 0 * 256 ≤ (i 0 : Nat) ∧ (i 0 : Nat) < win0_3.index t 0 * 256 + 256
                  rw [(at3 t).1]; omega
      | ⟨1, _⟩ => show win0_3.index t 1 * 1024 ≤ (i 1 : Nat) ∧ (i 1 : Nat) < win0_3.index t 1 * 1024 + 1024
                  rw [(at3 t).2]; omega

end

/-! ## The reference -/

section
open Cert.RefLnSiluBwdIdeal Cert.LnSiluBwdValue
variable [Cert.RefLnSiluBwdIdeal.Facts₀] (X : FVec Ideal Cert.RefLnSiluBwdIdeal.S4096x1024 .f32) (G B : FVec Ideal Cert.RefLnSiluBwdIdeal.S1024 .f32)

theorem reference (h : FTy.bf16.bits < FTy.f32.bits) : truncf .bf16 (mulf (affines X G B) (gates X G B)) h = Cert.LnSiluValue.whole X G B := by
  funext i
  obtain ⟨a, b, rfl⟩ := ix2_of i
  show (affines X G B (ix2 a b) : EReal) * gates X G B (ix2 a b) = gated (row X a.val) (fun k => G (ix1 k)) (fun k => B (ix1 k)) b
  rw [affines_at, gates_at, ← row_eq X a]
  rfl

end

end Cert.LnSiluValue

end
-- ==== Proof.Merge.lean ====
/-
  The merge of the three branches under their gates in the forward pass, entry by entry.
-/
module

public import proofs.«01_k».proof.Proof.Gen.MergeIdeal.Frame
public import proofs.«01_k».proof.Proof.Gen.RefMergeIdeal.Run
public import proofs.«01_k».proof.Proof.MergeBwd
public import proofs.«01_k».proof.Defs

@[expose] public section

set_option maxRecDepth 16384

noncomputable section

namespace Cert.MergeValue

open Cert.Lift Cert.Blocked Cert.Rows Cert.MergeIdeal Cert.MergeIdeal.Gen
open Idealize.ShloMosaic Idealize.ShloMosaic.TcCoe Idealize.ShloMosaic.Tactic Idealize.SL.Sem

open Cert.MergeBwdValue (gate col passed cell_at flat)

section
variable {F : FTy → Type} [FloatOps F] (m : (ℓ : Loc nD τ sig) → Buf (Elt F) ℓ) (ρ : Dev nD → PrngReg)

/-- What a point writes back is what the body leaves of the blocks at that point. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t) (iblk m c 5 t) (iblk m c 6 t)) := by
  show (cfg0.win 7).cut (grid0.coords t) ((dats m 0 c).after 7 t) = _
  rw [after0_7]

/-- The result after the run is what the windows left. -/
theorem post7 (r : PUnit × MemSt nD τ sig (Elt F)) (h : Pipeline.FramePost cfgs (dats m) 0 (V m) r) (c : Dev nD) :
    r.2.mem ((c : Thread nD τ).loc main_v1) = (dats m 0 c).arrAt 7 cfg0.N :=
  (h c).1 7

/-- The projection is unchanged. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

/-- Branch 1 is unchanged. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 3).trans (((dats m 0 c).arrAt_in 3 rfl _).trans ((A_eq m c 3).trans (V_main_arg1 m c)))

/-- Branch 2 is unchanged. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 4).trans (((dats m 0 c).arrAt_in 4 rfl _).trans ((A_eq m c 4).trans (V_main_arg2 m c)))

/-- Branch 3 is unchanged. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 5).trans (((dats m 0 c).arrAt_in 5 rfl _).trans ((A_eq m c 5).trans (V_main_arg3 m c)))

/-- The gates' offsets are unchanged. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The run: the result is what the windows left, the arguments are unchanged. -/
theorem run_blocks : θ_run defs (onTc (τ := τ) (main (F := F))) ⟨m, fun _ => 0, ρ⟩ fun r => ∀ c : Dev nD,
      r.2.mem ((c : Thread nD τ).loc main_v1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post7 m r h c,
      kept_main_arg0 m r h c,
      kept_main_arg1 m r h c,
      kept_main_arg2 m r h c,
      kept_main_arg3 m r h c,
      kept_main_arg4 m r h c⟩)
    (run_main m ρ)

end

theorem body {F : FTy → Type} [FloatOps F] (x0 x1 x2 x3 x4 x5 : Vec F S256x1024 .f32) (x6 : Vec F S1x3072 .f32) : out0_7 x0 x1 x2 x3 x4 x5 x6 = k0_pay1 x0 x1 x2 x3 x4 x5 x6 := by
  unfold out0_7
  rw [View.canon_unit_zero origin]
  simp only [View.ld_unit_zero (S := S256x1024) origin, View.ld_unit_zero (S := S1x3072) origin]

theorem pay (x0 x1 x2 x3 x4 x5 : FVec Ideal S256x1024 .f32) (x6 : FVec Ideal S1x3072 .f32) (a : Fin 256) (b : Fin 1024) :
    k0_pay1 (F := Ideal) x0 x1 x2 x3 x4 x5 x6 (ix2 a b)
      = gate (x0 (ix2 a b)) (x6 (ix2 0 ⟨b.val, by omega⟩)) * x3 (ix2 a b) + gate (x1 (ix2 a b)) (x6 (ix2 0 ⟨1024 + b.val, by omega⟩)) * x4 (ix2 a b)
        + gate (x2 (ix2 a b)) (x6 (ix2 0 ⟨2048 + b.val, by omega⟩)) * x5 (ix2 a b) := by
  unfold k0_pay1 gate; simp only [shapeCast_self]; pointwise

/-- An entry of the merge: each branch times its gate. -/
def merged (P : FVec Ideal ⟨2, ![4096, 12288]⟩ .f32) (Ya Yb Yc : FVec Ideal ⟨2, ![4096, 1024]⟩ .f32) (B : FVec Ideal ⟨2, ![3, 1024]⟩ .f32) (r b : ℕ) : EReal :=
  passed P Ya B 0 r b + passed P Yb B 1 r b + passed P Yc B 2 r b

/-- The merge. -/
def whole (P : FVec Ideal ⟨2, ![4096, 12288]⟩ .f32) (Ya Yb Yc : FVec Ideal ⟨2, ![4096, 1024]⟩ .f32) (B : FVec Ideal ⟨2, ![3, 1024]⟩ .f32) :
    FVec Ideal ⟨2, ![4096, 1024]⟩ .bf16 := fun i => merged P Ya Yb Yc B (i 0).val (i 1).val

section
variable (m : (ℓ : Loc nD τ sig) → Buf (Elt Ideal) ℓ) (c : Dev nD)

abbrev P : FVec Ideal ⟨2, ![4096, 12288]⟩ .f32 := m ((c : Thread nD τ).loc main_arg0)
abbrev Ya : FVec Ideal ⟨2, ![4096, 1024]⟩ .f32 := m ((c : Thread nD τ).loc main_arg1)
abbrev Yb : FVec Ideal ⟨2, ![4096, 1024]⟩ .f32 := m ((c : Thread nD τ).loc main_arg2)
abbrev Yc : FVec Ideal ⟨2, ![4096, 1024]⟩ .f32 := m ((c : Thread nD τ).loc main_arg3)
abbrev B : FVec Ideal ⟨2, ![3, 1024]⟩ .f32 := m ((c : Thread nD τ).loc main_arg4)

theorem at0 : ∀ t : Fin grid0.N, win0_0.index t 0 = t.val ∧ win0_0.index t 1 = 8 := by decide +kernel
theorem at1 : ∀ t : Fin grid0.N, win0_1.index t 0 = t.val ∧ win0_1.index t 1 = 9 := by decide +kernel
theorem at2 : ∀ t : Fin grid0.N, win0_2.index t 0 = t.val ∧ win0_2.index t 1 = 10 := by decide +kernel
theorem at3 : ∀ t : Fin grid0.N, win0_3.index t 0 = t.val ∧ win0_3.index t 1 = 0 := by decide +kernel
theorem at4 : ∀ t : Fin grid0.N, win0_4.index t 0 = t.val ∧ win0_4.index t 1 = 0 := by decide +kernel
theorem at5 : ∀ t : Fin grid0.N, win0_5.index t 0 = t.val ∧ win0_5.index t 1 = 0 := by decide +kernel
theorem at6 : ∀ t : Fin grid0.N, win0_6.index t 0 = 0 ∧ win0_6.index t 1 = 0 := by decide +kernel
theorem at7 : ∀ t : Fin grid0.N, win0_7.index t 0 = t.val ∧ win0_7.index t 1 = 0 := by decide +kernel

theorem part_a (t : Fin cfg0.N) (a : Fin 256) (b : Fin 1024) :
    (iblk m c 0 t : FVec Ideal S256x1024 .f32) (ix2 a b) = cell (P m c) (t.val * 256 + a.val) (col 0 b.val) := by
  unfold iblk; rw [View.read_apply]
  show P m c _ = _
  refine cell_eq _ _ ?_ ?_
  · show win0_0.index t 0 * 256 + 1 * a.val = _; rw [(at0 t).1, one_mul]
  · show win0_0.index t 1 * 1024 + 1 * b.val = _; rw [(at0 t).2]; unfold col; omega

theorem part_b (t : Fin cfg0.N) (a : Fin 256) (b : Fin 1024) :
    (iblk m c 1 t : FVec Ideal S256x1024 .f32) (ix2 a b) = cell (P m c) (t.val * 256 + a.val) (col 1 b.val) := by
  unfold iblk; rw [View.read_apply]
  show P m c _ = _
  refine cell_eq _ _ ?_ ?_
  · show win0_1.index t 0 * 256 + 1 * a.val = _; rw [(at1 t).1, one_mul]
  · show win0_1.index t 1 * 1024 + 1 * b.val = _; rw [(at1 t).2]; unfold col; omega

theorem part_c (t : Fin cfg0.N) (a : Fin 256) (b : Fin 1024) :
    (iblk m c 2 t : FVec Ideal S256x1024 .f32) (ix2 a b) = cell (P m c) (t.val * 256 + a.val) (col 2 b.val) := by
  unfold iblk; rw [View.read_apply]
  show P m c _ = _
  refine cell_eq _ _ ?_ ?_
  · show win0_2.index t 0 * 256 + 1 * a.val = _; rw [(at2 t).1, one_mul]
  · show win0_2.index t 1 * 1024 + 1 * b.val = _; rw [(at2 t).2]; unfold col; omega

theorem branch_a (t : Fin cfg0.N) (a : Fin 256) (b : Fin 1024) :
    (iblk m c 3 t : FVec Ideal S256x1024 .f32) (ix2 a b) = cell (Ya m c) (t.val * 256 + a.val) b.val := by
  unfold iblk; rw [View.read_apply]
  show Ya m c _ = _
  refine cell_eq _ _ ?_ ?_
  · show win0_3.index t 0 * 256 + 1 * a.val = _; rw [(at3 t).1, one_mul]
  · show win0_3.index t 1 * 1024 + 1 * b.val = _; rw [(at3 t).2]; omega

theorem branch_b (t : Fin cfg0.N) (a : Fin 256) (b : Fin 1024) :
    (iblk m c 4 t : FVec Ideal S256x1024 .f32) (ix2 a b) = cell (Yb m c) (t.val * 256 + a.val) b.val := by
  unfold iblk; rw [View.read_apply]
  show Yb m c _ = _
  refine cell_eq _ _ ?_ ?_
  · show win0_4.index t 0 * 256 + 1 * a.val = _; rw [(at4 t).1, one_mul]
  · show win0_4.index t 1 * 1024 + 1 * b.val = _; rw [(at4 t).2]; omega

theorem branch_c (t : Fin cfg0.N) (a : Fin 256) (b : Fin 1024) :
    (iblk m c 5 t : FVec Ideal S256x1024 .f32) (ix2 a b) = cell (Yc m c) (t.val * 256 + a.val) b.val := by
  unfold iblk; rw [View.read_apply]
  show Yc m c _ = _
  refine cell_eq _ _ ?_ ?_
  · show win0_5.index t 0 * 256 + 1 * a.val = _; rw [(at5 t).1, one_mul]
  · show win0_5.index t 1 * 1024 + 1 * b.val = _; rw [(at5 t).2]; omega

theorem offs (t : Fin cfg0.N) (j : Fin 3072) {k b : ℕ} (hk : k < 3) (hb : b < 1024) (hi : j.val = 1024 * k + b) :
    (iblk m c 6 t : FVec Ideal S1x3072 .f32) (ix2 0 j) = cell (B m c) k b := by
  unfold iblk; rw [View.read_apply]
  show (shapeCast S1x3072 (B m c) shapeCasts_S3x1024_S1x3072 : FVec Ideal S1x3072 .f32) _ = _
  refine flat _ _ _ hk hb ?_
  show win0_6.index t 1 * 3072 + 1 * j.val = _; rw [(at6 t).2]; omega

theorem tile (t : Fin cfg0.N) (a : Fin 256) (b : Fin 1024) :
    out0_7 (iblk m c 0 t) (iblk m c 1 t) (iblk m c 2 t) (iblk m c 3 t) (iblk m c 4 t) (iblk m c 5 t) (iblk m c 6 t) (ix2 a b)
      = merged (P m c) (Ya m c) (Yb m c) (Yc m c) (B m c) (t.val * 256 + a.val) b.val := by
  rw [body, pay, part_a, part_b, part_c, branch_a, branch_b, branch_c,
    offs m c t ⟨b.val, by omega⟩ (show 0 < 3 by omega) b.isLt (show b.val = 1024 * 0 + b.val by omega),
    offs m c t ⟨1024 + b.val, by omega⟩ (show 1 < 3 by omega) b.isLt (show 1024 + b.val = 1024 * 1 + b.val by omega),
    offs m c t ⟨2048 + b.val, by omega⟩ (show 2 < 3 by omega) b.isLt (show 2048 + b.val = 1024 * 2 + b.val by omega)]
  rfl

theorem whole_at (i : (⟨2, ![4096, 1024]⟩ : Shape).Idx) {r : ℕ} {b : Fin 1024} (hr : (i 0).val = r) (hb : (i 1).val = b.val) :
    whole (P m c) (Ya m c) (Yb m c) (Yc m c) (B m c) i = merged (P m c) (Ya m c) (Yb m c) (Yc m c) (B m c) r b.val := by
  subst hr
  exact congrArg (merged _ _ _ _ _ _) hb

theorem flushed_whole (t : Fin cfg0.N) (_ : (cfg0.win 7).flush t = true) :
    (dats m 0 c).flushed 7 t = ((cfg0.win 7).blk t).view.read (Elt Ideal) (whole (P m c) (Ya m c) (Yb m c) (Yc m c) (B m c)) := by
  rw [flushed7]
  refine funext fun (j : (⟨2, ![256, 1024]⟩ : Shape).Idx) => ?_
  obtain ⟨a, b, rfl⟩ := ix2_of j
  rw [View.read_apply]
  refine (tile m c t a b).trans ?_
  refine (whole_at m c _ ?_ ?_).symm
  · show win0_7.index t 0 * 256 + 1 * a.val = _; rw [(at7 t).1, one_mul]
  · show win0_7.index t 1 * 1024 + 1 * b.val = _; rw [(at7 t).2]; omega

theorem result : (dats m 0 c).arrAt 7 cfg0.N = whole (P m c) (Ya m c) (Yb m c) (Yc m c) (B m c) :=
  (dats m 0 c).arrAt_eq_of_cover 7 (whole (P m c) (Ya m c) (Yb m c) (Yc m c) (B m c)) (flushed_whole m c) fun i => by
    have h0 : (i 0 : Nat) < 4096 := (i 0).isLt
    have h1 : (i 1 : Nat) < 1024 := (i 1).isLt
    refine ⟨⟨(i 0).val / 256, ?_⟩, flush0_7 _, ?_⟩
    · rw [show cfg0.N = 16 from N_0]; omega
    · generalize ht : (⟨(i 0).val / 256, _⟩ : Fin cfg0.N) = t
      have hv : t.val = (i 0).val / 256 := by rw [← ht]
      show i ∈ ((View.whole main_v1).slice (win0_7.rect t)).set
      rw [View.set_slice_whole, Rect.mem_set_unit]
      intro a
      match a with
      | ⟨0, _⟩ => show win0_7.index t 0 * 256 ≤ (i 0 : Nat) ∧ (i 0 : Nat) < win0_7.index t 0 * 256 + 256
                  rw [(at7 t).1]; omega
      | ⟨1, _⟩ => show win0_7.index t 1 * 1024 ≤ (i 1 : Nat) ∧ (i 1 : Nat) < win0_7.index t 1 * 1024 + 1024
                  rw [(at7 t).2]; omega

end

/-! ## The reference -/

section
open Cert.RefMergeBwdIdeal Cert.MergeBwdValue
variable [Cert.RefMergeBwdIdeal.Facts₀] (P : FVec Ideal Cert.RefMergeBwdIdeal.S4096x12288 .f32) (Ya Yb Yc : FVec Ideal Cert.RefMergeBwdIdeal.S4096x1024 .f32) (B : FVec Ideal Cert.RefMergeBwdIdeal.S3x1024 .f32)

/-- What the reference returns. -/
def merges : FVec Ideal Cert.RefMergeBwdIdeal.S4096x1024 .bf16 :=
  truncf .bf16 (addf (addf (mulf (shapeCast _ (extractStridedSlice Cert.RefMergeBwdIdeal.S4096x1x1024 ![0, 0, 0] (gates P B) Facts₀.slices_S4096x3x1024_S4096x1x1024_0_0_0) Facts₀.shapeCasts_S4096x1x1024_S4096x1024) Ya)
    (mulf (shapeCast _ (extractStridedSlice Cert.RefMergeBwdIdeal.S4096x1x1024 ![0, 1, 0] (gates P B) Facts₀.slices_S4096x3x1024_S4096x1x1024_0_1_0) Facts₀.shapeCasts_S4096x1x1024_S4096x1024) Yb))
    (mulf (shapeCast _ (extractStridedSlice Cert.RefMergeBwdIdeal.S4096x1x1024 ![0, 2, 0] (gates P B) Facts₀.slices_S4096x3x1024_S4096x1x1024_0_2_0) Facts₀.shapeCasts_S4096x1x1024_S4096x1024) Yc)) Cert.RefMergeBwdIdeal.Facts₀.bitsLt_bf16_f32

theorem reference : merges P Ya Yb Yc B = Cert.MergeValue.whole P Ya Yb Yc B := by
  funext i
  obtain ⟨a, b, rfl⟩ := ix2_of i
  show _ = merged P Ya Yb Yc B a.val b.val
  unfold merged passed
  rw [gates_of P B 0 (by omega), gates_of P B 1 (by omega), gates_of P B 2 (by omega), cell_at, cell_at, cell_at]
  show _ = (gates P B (ix3 a 0 b) * Ya (ix2 a b) + gates P B (ix3 a 1 b) * Yb (ix2 a b) + gates P B (ix3 a 2 b) * Yc (ix2 a b) : EReal)
  unfold merges
  pointwise

end

end Cert.MergeValue

end
-- ==== Proof.XkvDw.lean ====
/-
  The gradient of the weights of keys and values: the memory's 256 normed rows against the gradient of keys and values.
-/
module

public import proofs.«01_k».proof.Proof.Gen.XkvDwIdeal.Value
public import proofs.«01_k».proof.Proof.Gen.RefXkvDwIdeal.Run
public import proofs.«01_k».proof.Proof.Blocked
public import proofs.«01_k».proof.Defs

@[expose] public section

set_option maxRecDepth 16384

noncomputable section

namespace Cert.XkvDwValue

open Cert.Lift Cert.Blocked Cert.XkvDwIdeal Cert.XkvDwIdeal.Gen Cert.XkvDwIdeal.Value
open Idealize.ShloMosaic Idealize.ShloMosaic.TcCoe Idealize.ShloMosaic.Tactic Idealize.SL.Sem

/-- What the body writes at one point. -/
theorem block {F : FTy → Type} [FloatOps F] (c : Dev nD) (i : grid0.Coords)
    (a3 : Memref sig .tc .vmem S256x1024 .bf16) (h3 : a3.IsWhole) (a4 : Memref sig .tc .vmem S256x1024 .f32) (h4 : a4.IsWhole)
    (a5 : Memref sig .tc .vmem S1024x1024 .f32) (h5 : a5.IsWhole) (a6 : Memref sig .tc .vmem S1024x1024 .f32) (h6 : a6.IsWhole)
    (x : Vec F S256x1024 .bf16) (y : Vec F S256x1024 .f32) :
    out0_A_2 c i a3 h3 a4 h4 a5 h5 a6 h6 x y = k0_pay1 x y := by
  unfold out0_A_2
  rw [View.read_writes_eq_canon _ _ _ (cover0_A_2 c i a3 h3 a4 h4 a5 h5 a6 h6 x y)]
  unfold kernelRun0_A
  dsimp only
  sl_unfold_words
  rw [View.canon_unit_zero origin]
  simp only [View.readAt_eq_ld, h3.read_unread, h4.read_unread, View.ld_unit_zero (S := S256x1024) origin]

section
variable (m : (ℓ : Loc nD τ sig) → Buf (Elt Ideal) ℓ) (c : Dev nD)

abbrev A : FVec Ideal ⟨2, ![256, 1024]⟩ .f32 := m ((c : Thread nD τ).loc main_arg0)
abbrev B : FVec Ideal ⟨2, ![256, 2048]⟩ .f32 := m ((c : Thread nD τ).loc main_arg1)

theorem at0 : ∀ t : Fin grid0.N, win0_0.index t 0 = 0 ∧ win0_0.index t 1 = 0 := by decide +kernel
theorem at1 : ∀ t : Fin grid0.N, win0_1.index t 0 = 0 ∧ win0_1.index t 1 = t.val := by decide +kernel
theorem at2 : ∀ t : Fin grid0.N, win0_2.index t 0 = 0 ∧ win0_2.index t 1 = t.val := by decide +kernel

theorem left (t : Fin cfg0.N) (a : Fin 256) (b : Fin 1024) :
    (iblk m c 0 t : FVec Ideal S256x1024 .bf16) (ix2 a b) = cell (A m c) (a.val) (b.val) := by
  unfold iblk; rw [View.read_apply]
  show A m c _ = _
  refine cell_eq _ _ ?_ ?_
  · show win0_0.index t 0 * 256 + 1 * a.val = _; rw [(at0 t).1]; omega
  · show win0_0.index t 1 * 1024 + 1 * b.val = _; rw [(at0 t).2]; omega

theorem right (t : Fin cfg0.N) (a : Fin 256) (b : Fin 1024) :
    (iblk m c 1 t : FVec Ideal S256x1024 .f32) (ix2 a b) = cell (B m c) (a.val) (t.val * 1024 + b.val) := by
  unfold iblk; rw [View.read_apply]
  show B m c _ = _
  refine cell_eq _ _ ?_ ?_
  · show win0_1.index t 0 * 256 + 1 * a.val = _; rw [(at1 t).1]; omega
  · show win0_1.index t 1 * 1024 + 1 * b.val = _; rw [(at1 t).2]; omega

theorem pay (x : FVec Ideal S256x1024 .bf16) (y : FVec Ideal S256x1024 .f32) (a : Fin 1024) (b : Fin 1024) :
    k0_pay1 (F := Ideal) x y (ix2 a b) = (∑ k, (x (ix2 k a) : EReal) * y (ix2 k b)) := by
  unfold k0_pay1; simp only [shapeCast_self]; pointwise

/-- Entry `i`, `j` of the result. -/
def value (A : FVec Ideal ⟨2, ![256, 1024]⟩ .f32) (B : FVec Ideal ⟨2, ![256, 2048]⟩ .f32) (i j : ℕ) : EReal :=
  (∑ k ∈ Finset.range 256, cell A k i * cell B k j)

/-- The result. -/
def whole : FVec Ideal S1024x2048 .f32 := fun i => value (A m c) (B m c) (i 0).val (i 1).val

theorem point (t : Fin cfg0.N) (a : Fin 1024) (b : Fin 1024) :
    (outsAt0 m c t) (ix2 a b) = value (A m c) (B m c) (a.val) (t.val * 1024 + b.val) := by
  unfold outsAt0 value
  rw [block, pay, Finset.sum_range]
  exact (Finset.sum_congr rfl fun k _ => by rw [left, right])

theorem flushed_whole (t : Fin cfg0.N) (_ : (cfg0.win 2).flush t = true) :
    (dats m 0 c).flushed 2 t = ((cfg0.win 2).blk t).view.read (Elt Ideal) (whole m c) := by
  rw [flushed2]
  refine funext fun (j : (⟨2, ![1024, 1024]⟩ : Shape).Idx) => ?_
  obtain ⟨a, b, rfl⟩ := ix2_of j
  rw [View.read_apply]
  refine (point m c t a b).trans ?_
  show _ = value (A m c) (B m c) (win0_2.index t 0 * 1024 + 1 * a.val) (win0_2.index t 1 * 1024 + 1 * b.val)
  rw [(at2 t).1, (at2 t).2]
  exact congrArg₂ (value (A m c) (B m c)) (by omega) (by omega)

theorem result : (dats m 0 c).arrAt 2 cfg0.N = whole m c :=
  (dats m 0 c).arrAt_eq_of_cover 2 (whole m c) (flushed_whole m c) fun i => by
    have h0 : (i 0 : Nat) < 1024 := (i 0).isLt
    have h1 : (i 1 : Nat) < 2048 := (i 1).isLt
    refine ⟨⟨(i 1).val / 1024, ?_⟩, flush0_2 _, ?_⟩
    · rw [show cfg0.N = 2 from N_0]; omega
    · generalize ht : (⟨(i 1).val / 1024, _⟩ : Fin cfg0.N) = t
      have hv : t.val = (i 1).val / 1024 := by rw [← ht]
      show i ∈ ((View.whole main_v1).slice (win0_2.rect t)).set
      rw [View.set_slice_whole, Rect.mem_set_unit]
      intro a
      match a with
      | ⟨0, _⟩ => show win0_2.index t 0 * 1024 ≤ (i 0 : Nat) ∧ (i 0 : Nat) < win0_2.index t 0 * 1024 + 1024
                  rw [(at2 t).1]; omega
      | ⟨1, _⟩ => show win0_2.index t 1 * 1024 ≤ (i 1 : Nat) ∧ (i 1 : Nat) < win0_2.index t 1 * 1024 + 1024
                  rw [(at2 t).2]; omega

end

/-! ## The reference -/

theorem reference (x : FVec Ideal Cert.RefXkvDwIdeal.S256x1024 .f32) (y : FVec Ideal Cert.RefXkvDwIdeal.S256x2048 .f32) :
    transpose Cert.RefXkvDwIdeal.S1024x2048 [1, 0] (Host.dotGeneral Cert.RefXkvDwIdeal.dot_S256x2048_S256x1024_S2048x1024_0_0_1_1_n_n none y x) Cert.RefXkvDwIdeal.Facts₀.transposes_S2048x1024_S1024x2048_1_0
      = fun i => value x y (i 0).val (i 1).val := by
  funext i
  obtain ⟨a, b, rfl⟩ := ix2_of i
  unfold value
  rw [Finset.sum_range]
  refine Eq.trans (b := (∑ k : Fin 256, x (ix2 k a) * y (ix2 k b))) (by pointwise; exact Finset.sum_congr rfl fun k _ => mul_comm _ _) ?_
  exact Finset.sum_congr rfl fun k _ => congrArg₂ (· * ·) (cell_eq _ _ rfl rfl) (cell_eq _ _ rfl rfl)

end Cert.XkvDwValue

end
-- ==== Proof.XkvDx.lean ====
/-
  The gradient at the memory's normed rows: the gradient of keys and values times the transposed weights.
-/
module

public import proofs.«01_k».proof.Proof.Gen.XkvDxIdeal.Value
public import proofs.«01_k».proof.Proof.Gen.RefXkvDxIdeal.Run
public import proofs.«01_k».proof.Proof.Blocked
public import proofs.«01_k».proof.Defs

@[expose] public section

set_option maxRecDepth 16384

noncomputable section

namespace Cert.XkvDxValue

open Cert.Lift Cert.Blocked Cert.XkvDxIdeal Cert.XkvDxIdeal.Gen Cert.XkvDxIdeal.Value
open Idealize.ShloMosaic Idealize.ShloMosaic.TcCoe Idealize.ShloMosaic.Tactic Idealize.SL.Sem

/-- What the body writes at one point. -/
theorem block {F : FTy → Type} [FloatOps F] (c : Dev nD) (i : grid0.Coords)
    (a3 : Memref sig .tc .vmem S256x2048 .f32) (h3 : a3.IsWhole) (a4 : Memref sig .tc .vmem S1024x2048 .bf16) (h4 : a4.IsWhole)
    (a5 : Memref sig .tc .vmem S256x1024 .f32) (h5 : a5.IsWhole) (a6 : Memref sig .tc .vmem S256x1024 .f32) (h6 : a6.IsWhole)
    (x : Vec F S256x2048 .f32) (y : Vec F S1024x2048 .bf16) :
    out0_A_2 c i a3 h3 a4 h4 a5 h5 a6 h6 x y = k0_pay1 x y := by
  unfold out0_A_2
  rw [View.read_writes_eq_canon _ _ _ (cover0_A_2 c i a3 h3 a4 h4 a5 h5 a6 h6 x y)]
  unfold kernelRun0_A
  dsimp only
  sl_unfold_words
  rw [View.canon_unit_zero origin]
  simp only [View.readAt_eq_ld, h3.read_unread, h4.read_unread, View.ld_unit_zero (S := S1024x2048) origin, View.ld_unit_zero (S := S256x2048) origin]

section
variable (m : (ℓ : Loc nD τ sig) → Buf (Elt Ideal) ℓ) (c : Dev nD)

abbrev A : FVec Ideal ⟨2, ![256, 2048]⟩ .f32 := m ((c : Thread nD τ).loc main_arg0)
abbrev B : FVec Ideal ⟨2, ![1024, 2048]⟩ .f32 := m ((c : Thread nD τ).loc main_arg1)

theorem at0 : ∀ t : Fin grid0.N, win0_0.index t 0 = 0 ∧ win0_0.index t 1 = 0 := by decide +kernel
theorem at1 : ∀ t : Fin grid0.N, win0_1.index t 0 = 0 ∧ win0_1.index t 1 = 0 := by decide +kernel
theorem at2 : ∀ t : Fin grid0.N, win0_2.index t 0 = 0 ∧ win0_2.index t 1 = 0 := by decide +kernel

theorem left (t : Fin cfg0.N) (a : Fin 256) (b : Fin 2048) :
    (iblk m c 0 t : FVec Ideal S256x2048 .f32) (ix2 a b) = cell (A m c) (a.val) (b.val) := by
  unfold iblk; rw [View.read_apply]
  show A m c _ = _
  refine cell_eq _ _ ?_ ?_
  · show win0_0.index t 0 * 256 + 1 * a.val = _; rw [(at0 t).1]; omega
  · show win0_0.index t 1 * 2048 + 1 * b.val = _; rw [(at0 t).2]; omega

theorem right (t : Fin cfg0.N) (a : Fin 1024) (b : Fin 2048) :
    (iblk m c 1 t : FVec Ideal S1024x2048 .bf16) (ix2 a b) = cell (B m c) (a.val) (b.val) := by
  unfold iblk; rw [View.read_apply]
  show B m c _ = _
  refine cell_eq _ _ ?_ ?_
  · show win0_1.index t 0 * 1024 + 1 * a.val = _; rw [(at1 t).1]; omega
  · show win0_1.index t 1 * 2048 + 1 * b.val = _; rw [(at1 t).2]; omega

theorem pay (x : FVec Ideal S256x2048 .f32) (y : FVec Ideal S1024x2048 .bf16) (a : Fin 256) (b : Fin 1024) :
    k0_pay1 (F := Ideal) x y (ix2 a b) = (∑ k, (x (ix2 a k) : EReal) * y (ix2 b k)) := by
  unfold k0_pay1; simp only [shapeCast_self]; pointwise

/-- Entry `i`, `j` of the result. -/
def value (A : FVec Ideal ⟨2, ![256, 2048]⟩ .f32) (B : FVec Ideal ⟨2, ![1024, 2048]⟩ .f32) (i j : ℕ) : EReal :=
  (∑ k ∈ Finset.range 2048, cell A i k * cell B j k)

/-- The result. -/
def whole : FVec Ideal S256x1024 .f32 := fun i => value (A m c) (B m c) (i 0).val (i 1).val

theorem point (t : Fin cfg0.N) (a : Fin 256) (b : Fin 1024) :
    (outsAt0 m c t) (ix2 a b) = value (A m c) (B m c) (a.val) (b.val) := by
  unfold outsAt0 value
  rw [block, pay, Finset.sum_range]
  exact (Finset.sum_congr rfl fun k _ => by rw [left, right])

theorem flushed_whole (t : Fin cfg0.N) (_ : (cfg0.win 2).flush t = true) :
    (dats m 0 c).flushed 2 t = ((cfg0.win 2).blk t).view.read (Elt Ideal) (whole m c) := by
  rw [flushed2]
  refine funext fun (j : (⟨2, ![256, 1024]⟩ : Shape).Idx) => ?_
  obtain ⟨a, b, rfl⟩ := ix2_of j
  rw [View.read_apply]
  refine (point m c t a b).trans ?_
  show _ = value (A m c) (B m c) (win0_2.index t 0 * 256 + 1 * a.val) (win0_2.index t 1 * 1024 + 1 * b.val)
  rw [(at2 t).1, (at2 t).2]
  exact congrArg₂ (value (A m c) (B m c)) (by omega) (by omega)

theorem result : (dats m 0 c).arrAt 2 cfg0.N = whole m c :=
  (dats m 0 c).arrAt_eq_of_cover 2 (whole m c) (flushed_whole m c) fun i => by
    have h0 : (i 0 : Nat) < 256 := (i 0).isLt
    have h1 : (i 1 : Nat) < 1024 := (i 1).isLt
    refine ⟨⟨0, ?_⟩, flush0_2 _, ?_⟩
    · rw [show cfg0.N = 1 from N_0]; omega
    · generalize ht : (⟨0, _⟩ : Fin cfg0.N) = t
      have hv : t.val = 0 := by rw [← ht]
      show i ∈ ((View.whole main_v1).slice (win0_2.rect t)).set
      rw [View.set_slice_whole, Rect.mem_set_unit]
      intro a
      match a with
      | ⟨0, _⟩ => show win0_2.index t 0 * 256 ≤ (i 0 : Nat) ∧ (i 0 : Nat) < win0_2.index t 0 * 256 + 256
                  rw [(at2 t).1]; omega
      | ⟨1, _⟩ => show win0_2.index t 1 * 1024 ≤ (i 1 : Nat) ∧ (i 1 : Nat) < win0_2.index t 1 * 1024 + 1024
                  rw [(at2 t).2]; omega

end

/-! ## The reference -/

theorem reference (x : FVec Ideal Cert.RefXkvDxIdeal.S256x2048 .f32) (y : FVec Ideal Cert.RefXkvDxIdeal.S1024x2048 .f32) :
    Host.dotGeneral Cert.RefXkvDxIdeal.dot_S256x2048_S1024x2048_S256x1024_1_1_0_0_n_n none x y
      = fun i => value x y (i 0).val (i 1).val := by
  funext i
  obtain ⟨a, b, rfl⟩ := ix2_of i
  unfold value
  rw [Finset.sum_range]
  refine Eq.trans (b := (∑ k : Fin 2048, x (ix2 a k) * y (ix2 b k))) (by pointwise) ?_
  exact Finset.sum_congr rfl fun k _ => congrArg₂ (· * ·) (cell_eq _ _ rfl rfl) (cell_eq _ _ rfl rfl)

end Cert.XkvDxValue

end
-- ==== Proof.MmXkv.lean ====
/-
  The projection of the memory in the forward pass: its 256 normed rows against the weights of keys and values.
-/
module

public import proofs.«01_k».proof.Proof.Gen.MmXkvIdeal.Value
public import proofs.«01_k».proof.Proof.Gen.RefMmXkvIdeal.Run
public import proofs.«01_k».proof.Proof.Blocked
public import proofs.«01_k».proof.Defs

@[expose] public section

set_option maxRecDepth 16384

noncomputable section

namespace Cert.MmXkvValue

open Cert.Lift Cert.Blocked Cert.MmXkvIdeal Cert.MmXkvIdeal.Gen Cert.MmXkvIdeal.Value
open Idealize.ShloMosaic Idealize.ShloMosaic.TcCoe Idealize.ShloMosaic.Tactic Idealize.SL.Sem

/-- What the body writes at one point. -/
theorem block {F : FTy → Type} [FloatOps F] (c : Dev nD) (i : grid0.Coords)
    (a3 : Memref sig .tc .vmem S256x1024 .bf16) (h3 : a3.IsWhole) (a4 : Memref sig .tc .vmem S1024x1024 .bf16) (h4 : a4.IsWhole)
    (a5 : Memref sig .tc .vmem S256x1024 .f32) (h5 : a5.IsWhole) (a6 : Memref sig .tc .vmem S256x1024 .f32) (h6 : a6.IsWhole)
    (x : Vec F S256x1024 .bf16) (y : Vec F S1024x1024 .bf16) :
    out0_A_2 c i a3 h3 a4 h4 a5 h5 a6 h6 x y = k0_pay1 x y := by
  unfold out0_A_2
  rw [View.read_writes_eq_canon _ _ _ (cover0_A_2 c i a3 h3 a4 h4 a5 h5 a6 h6 x y)]
  unfold kernelRun0_A
  dsimp only
  sl_unfold_words
  rw [View.canon_unit_zero origin]
  simp only [View.readAt_eq_ld, h3.read_unread, h4.read_unread, View.ld_unit_zero (S := S1024x1024) origin, View.ld_unit_zero (S := S256x1024) origin]

section
variable (m : (ℓ : Loc nD τ sig) → Buf (Elt Ideal) ℓ) (c : Dev nD)

abbrev A : FVec Ideal ⟨2, ![256, 1024]⟩ .f32 := m ((c : Thread nD τ).loc main_arg0)
abbrev B : FVec Ideal ⟨2, ![1024, 2048]⟩ .f32 := m ((c : Thread nD τ).loc main_arg1)

theorem at0 : ∀ t : Fin grid0.N, win0_0.index t 0 = 0 ∧ win0_0.index t 1 = 0 := by decide +kernel
theorem at1 : ∀ t : Fin grid0.N, win0_1.index t 0 = 0 ∧ win0_1.index t 1 = t.val := by decide +kernel
theorem at2 : ∀ t : Fin grid0.N, win0_2.index t 0 = 0 ∧ win0_2.index t 1 = t.val := by decide +kernel

theorem left (t : Fin cfg0.N) (a : Fin 256) (b : Fin 1024) :
    (iblk m c 0 t : FVec Ideal S256x1024 .bf16) (ix2 a b) = cell (A m c) (a.val) (b.val) := by
  unfold iblk; rw [View.read_apply]
  show A m c _ = _
  refine cell_eq _ _ ?_ ?_
  · show win0_0.index t 0 * 256 + 1 * a.val = _; rw [(at0 t).1]; omega
  · show win0_0.index t 1 * 1024 + 1 * b.val = _; rw [(at0 t).2]; omega

theorem right (t : Fin cfg0.N) (a : Fin 1024) (b : Fin 1024) :
    (iblk m c 1 t : FVec Ideal S1024x1024 .bf16) (ix2 a b) = cell (B m c) (a.val) (t.val * 1024 + b.val) := by
  unfold iblk; rw [View.read_apply]
  show B m c _ = _
  refine cell_eq _ _ ?_ ?_
  · show win0_1.index t 0 * 1024 + 1 * a.val = _; rw [(at1 t).1]; omega
  · show win0_1.index t 1 * 1024 + 1 * b.val = _; rw [(at1 t).2]; omega

theorem pay (x : FVec Ideal S256x1024 .bf16) (y : FVec Ideal S1024x1024 .bf16) (a : Fin 256) (b : Fin 1024) :
    k0_pay1 (F := Ideal) x y (ix2 a b) = (∑ k, (x (ix2 a k) : EReal) * y (ix2 k b)) := by
  unfold k0_pay1; simp only [shapeCast_self]; pointwise

/-- Entry `i`, `j` of the result. -/
def value (A : FVec Ideal ⟨2, ![256, 1024]⟩ .f32) (B : FVec Ideal ⟨2, ![1024, 2048]⟩ .f32) (i j : ℕ) : EReal :=
  (∑ k ∈ Finset.range 1024, cell A i k * cell B k j)

/-- The result. -/
def whole : FVec Ideal S256x2048 .f32 := fun i => value (A m c) (B m c) (i 0).val (i 1).val

theorem point (t : Fin cfg0.N) (a : Fin 256) (b : Fin 1024) :
    (outsAt0 m c t) (ix2 a b) = value (A m c) (B m c) (a.val) (t.val * 1024 + b.val) := by
  unfold outsAt0 value
  rw [block, pay, Finset.sum_range]
  exact (Finset.sum_congr rfl fun k _ => by rw [left, right])

theorem flushed_whole (t : Fin cfg0.N) (_ : (cfg0.win 2).flush t = true) :
    (dats m 0 c).flushed 2 t = ((cfg0.win 2).blk t).view.read (Elt Ideal) (whole m c) := by
  rw [flushed2]
  refine funext fun (j : (⟨2, ![256, 1024]⟩ : Shape).Idx) => ?_
  obtain ⟨a, b, rfl⟩ := ix2_of j
  rw [View.read_apply]
  refine (point m c t a b).trans ?_
  show _ = value (A m c) (B m c) (win0_2.index t 0 * 256 + 1 * a.val) (win0_2.index t 1 * 1024 + 1 * b.val)
  rw [(at2 t).1, (at2 t).2]
  exact congrArg₂ (value (A m c) (B m c)) (by omega) (by omega)

theorem result : (dats m 0 c).arrAt 2 cfg0.N = whole m c :=
  (dats m 0 c).arrAt_eq_of_cover 2 (whole m c) (flushed_whole m c) fun i => by
    have h0 : (i 0 : Nat) < 256 := (i 0).isLt
    have h1 : (i 1 : Nat) < 2048 := (i 1).isLt
    refine ⟨⟨(i 1).val / 1024, ?_⟩, flush0_2 _, ?_⟩
    · rw [show cfg0.N = 2 from N_0]; omega
    · generalize ht : (⟨(i 1).val / 1024, _⟩ : Fin cfg0.N) = t
      have hv : t.val = (i 1).val / 1024 := by rw [← ht]
      show i ∈ ((View.whole main_v2).slice (win0_2.rect t)).set
      rw [View.set_slice_whole, Rect.mem_set_unit]
      intro a
      match a with
      | ⟨0, _⟩ => show win0_2.index t 0 * 256 ≤ (i 0 : Nat) ∧ (i 0 : Nat) < win0_2.index t 0 * 256 + 256
                  rw [(at2 t).1]; omega
      | ⟨1, _⟩ => show win0_2.index t 1 * 1024 ≤ (i 1 : Nat) ∧ (i 1 : Nat) < win0_2.index t 1 * 1024 + 1024
                  rw [(at2 t).2]; omega

end

/-! ## The reference -/

theorem reference (x : FVec Ideal Cert.RefMmXkvIdeal.S256x1024 .f32) (y : FVec Ideal Cert.RefMmXkvIdeal.S1024x2048 .f32) :
    Host.dotGeneral Cert.RefMmXkvIdeal.dot_S256x1024_S1024x2048_S256x2048_1_0_0_1_n_n none x y
      = fun i => value x y (i 0).val (i 1).val := by
  funext i
  obtain ⟨a, b, rfl⟩ := ix2_of i
  unfold value
  rw [Finset.sum_range]
  refine Eq.trans (b := (∑ k : Fin 1024, x (ix2 a k) * y (ix2 k b))) (by pointwise) ?_
  exact Finset.sum_congr rfl fun k _ => congrArg₂ (· * ·) (cell_eq _ _ rfl rfl) (cell_eq _ _ rfl rfl)

end Cert.MmXkvValue

end
-- ==== Proof.Xa.lean ====
/-
  The cross-attention's forward call. One grid point takes 512 query rows of one head, and the head's 256 memory rows; its
  result holds, per query row, the value rows weighted by the row's softmax. The same numbers come out of the reference's
  batched products, when every entry of the arguments is finite.
-/
module

public import proofs.«01_k».proof.Proof.Ref
public import proofs.«01_k».proof.Proof.Finite
public import proofs.«01_k».proof.Proof.Gen.XaIdeal.Value
public import proofs.«01_k».proof.Proof.Gen.RefXaIdeal.Run
public import proofs.«01_k».proof.Proof.Gen.Pre_finite_arguments
public import proofs.«01_k».proof.Defs

@[expose] public section

set_option maxRecDepth 16384

noncomputable section

namespace Cert.XaValue

open Cert.Lift Cert.Model Cert.XaIdeal Cert.XaIdeal.Gen Cert.XaIdeal.Value
open Idealize.ShloMosaic Idealize.ShloMosaic.TcCoe Idealize.SL Idealize.SL.Sem

/-! ## One grid point -/

/-- A query row's attention over the memory: the value rows weighted by the probabilities. -/
def att (x gq : Row) (K : Fin 256 → Row) (gk : Row) (V : Fin 256 → Row) (d : Fin 256) : ℝ := ∑ j, pr x gq K gk j * V j d

theorem origin : (![0, 0] : Fin 2 → ℕ) = fun _ => 0 := by decide

theorem body {F : FTy → Type} [FloatOps F] (q : Vec F S512x256 .f32) (k v : Vec F S256x256 .f32) (gq gk : Vec F S1x256 .f32) :
    out0_5 q k v gq gk = k0_pay1 v (k0_pay2 q k gq gk) (k0_pay3 q k gq gk) := by
  unfold out0_5
  rw [View.canon_unit_zero origin]
  simp only [View.ld_unit_zero (S := S512x256) origin, View.ld_unit_zero (S := S256x256) origin, View.ld_unit_zero (S := S1x256) origin]

section
variable {q : FVec Ideal S512x256 .f32} {k v : FVec Ideal S256x256 .f32} {gq gk : FVec Ideal S1x256 .f32}
  {Q : Fin 512 → Row} {K V : Fin 256 → Row} {GQ GK : Row}

/-- The tile's logits. -/
theorem logits (hq : Is2 q Q) (hk : Is2 k K) (hgq : Is2 gq fun _ => GQ) (hgk : Is2 gk fun _ => GK) :
    Is2 (k0_pay2 q k gq gk) fun i => lg (Q i) GQ K GK := by
  dsimp only [k0_pay2]
  rw [shapeCast_id, shapeCast_id]
  have hn := mul2 (mul2 hq (lane2 (h := broadcasts_S512x1_S512x256) (rsqrt2 (add2 (div2 (col_cast (h := shapeCasts_S512_S512x1) (row_sum (h := reduces_S512x256_S512) (z := 0x00000000#32) (h1 := .inl rfl) (h2 := rfl) (mul2 hq hq)))
    (splat2 _ ofBits_256) fun _ _ => by norm_num) (splat2 _ ofBits_eps)) fun i _ => ms_pos (Q i)))) (row2 (h := broadcasts_S1x256_S512x256) hgq)
  have hm := mul2 (mul2 hk (lane2 (h := broadcasts_S256x1_S256x256) (rsqrt2 (add2 (div2 (col_cast (h := shapeCasts_S256_S256x1) (row_sum (h := reduces_S256x256_S256) (z := 0x00000000#32) (h1 := .inl rfl) (h2 := rfl) (mul2 hk hk)))
    (splat2 _ ofBits_256) fun _ _ => by norm_num) (splat2 _ ofBits_eps)) fun i _ => ms_pos (K i)))) (row2 (h := broadcasts_S1x256_S256x256) hgk)
  exact mul2 (Cert.Block.mm_nt (trunc2 bitsLt_bf16_f32 hn) (trunc2 bitsLt_bf16_f32 hm)) (splat2 _ ofBits_16th)

/-- The tile's result. -/
theorem tile (hq : Is2 q Q) (hk : Is2 k K) (hv : Is2 v V) (hgq : Is2 gq fun _ => GQ) (hgk : Is2 gk fun _ => GK) :
    Is2 (k0_pay1 v (k0_pay2 q k gq gk) (k0_pay3 q k gq gk)) fun i => att (Q i) GQ K GK V :=
  have hl := logits hq hk hgq hgk
  have he : Is2 _ fun i => ee (Q i) GQ K GK := exp2 (sub2 hl (lane2 (h := broadcasts_S512x1_S512x256) (col_cast (h := shapeCasts_S512_S512x1)
    (row_max (h := reduces_S512x256_S512) (h1 := .inl rfl) (h2 := rfl) hl))))
  have hs : Is2 _ fun i _ => ss (Q i) GQ K GK := col_cast (h := shapeCasts_S512_S512x1)
    (row_sum (h := reduces_S512x256_S512) (z := 0x00000000#32) (h1 := .inl rfl) (h2 := rfl) he)
  is2_congr (trunc2 bitsLt_bf16_f32 (Cert.Block.mm_nn (trunc2 bitsLt_bf16_f32 (mul2 he (lane2 (div2 (splat2 _ ofBits_one) hs
    fun i _ => ss_ne _ _ _ _)))) (trunc2 bitsLt_bf16_f32 hv))) fun i d => Finset.sum_congr rfl fun j _ => by rw [pr, mul_one_div]
end

/-! ## The whole result -/

/-- The result's numbers. -/
def whole (p : Nums) : FVec Ideal ⟨2, ![4096, 1024]⟩ .bf16 := fun i =>
  ((att (p.q ((i 1).val / 256) (i 0).val) p.GQ (p.k ((i 1).val / 256)) p.GK (p.v ((i 1).val / 256)) (lane (i 1).val) : ℝ) : EReal)

/-- The four arguments hold the numbers `p`. -/
structure Holds (x : FVec Ideal S4096x1024 .f32) (kv : FVec Ideal S256x2048 .f32) (gq gk : FVec Ideal S256 .f32) (p : Nums) : Prop where
  x : ∀ i : S4096x1024.Idx, x i = ((p.X (i 0).val (i 1).val : ℝ) : EReal)
  kv : ∀ i : S256x2048.Idx, kv i = ((p.KV (i 0).val (i 1).val : ℝ) : EReal)
  gq : Is1 gq p.GQ
  gk : Is1 gk p.GK

section
variable {m : (ℓ : Loc nD τ sig) → Buf (Elt Ideal) ℓ} {c : Dev nD} {p : Nums}
  (hm : Holds (m ((c : Thread nD τ).loc main_arg0)) (m ((c : Thread nD τ).loc main_arg1))
    (m ((c : Thread nD τ).loc main_arg2)) (m ((c : Thread nD τ).loc main_arg3)) p)

theorem at0 : ∀ t : Fin grid0.N, win0_0.index t 0 = t.val % 8 ∧ win0_0.index t 1 = t.val / 8 := by decide +kernel
theorem at1 : ∀ t : Fin grid0.N, win0_1.index t 0 = 0 ∧ win0_1.index t 1 = t.val / 8 := by decide +kernel
theorem at2 : ∀ t : Fin grid0.N, win0_2.index t 0 = 0 ∧ win0_2.index t 1 = 4 + t.val / 8 := by decide +kernel
theorem at3 : ∀ t : Fin grid0.N, win0_3.index t 0 = 0 ∧ win0_3.index t 1 = 0 := by decide +kernel
theorem at4 : ∀ t : Fin grid0.N, win0_4.index t 0 = 0 ∧ win0_4.index t 1 = 0 := by decide +kernel
theorem at5 : ∀ t : Fin grid0.N, win0_5.index t 0 = t.val % 8 ∧ win0_5.index t 1 = t.val / 8 := by decide +kernel

include hm

theorem point (t : Fin cfg0.N) :
    Is2 (φ := .bf16) (out0_5 (iblk m c 0 t) (iblk m c 1 t) (iblk m c 2 t) (iblk m c 3 t) (iblk m c 4 t))
      fun r => att (p.q (t.val / 8) (t.val % 8 * 512 + r)) p.GQ (p.k (t.val / 8)) p.GK (p.v (t.val / 8)) := by
  rw [body]
  refine tile (Q := fun r => p.q (t.val / 8) (t.val % 8 * 512 + r)) (fun r d => ?_) (fun r d => ?_) (fun r d => ?_) (fun r d => ?_) (fun r d => ?_)
  · unfold iblk; rw [View.read_apply]
    show V m c main_arg0 _ = _
    rw [V_main_arg0]
    refine (hm.x _).trans (congrArg _ (congrArg₂ p.X ?_ ?_))
    · show win0_0.index t 0 * 512 + 1 * r.val = t.val % 8 * 512 + r.val; rw [(at0 t).1]; omega
    · show win0_0.index t 1 * 256 + 1 * d.val = 256 * (t.val / 8) + d.val; rw [(at0 t).2]; omega
  · unfold iblk; rw [View.read_apply]
    show V m c main_arg1 _ = _
    rw [V_main_arg1]
    refine (hm.kv _).trans (congrArg _ (congrArg₂ p.KV ?_ ?_))
    · show win0_1.index t 0 * 256 + 1 * r.val = r.val; rw [(at1 t).1]; omega
    · show win0_1.index t 1 * 256 + 1 * d.val = 256 * (t.val / 8) + d.val; rw [(at1 t).2]; omega
  · unfold iblk; rw [View.read_apply]
    show V m c main_arg1 _ = _
    rw [V_main_arg1]
    refine (hm.kv _).trans (congrArg _ (congrArg₂ p.KV ?_ ?_))
    · show win0_2.index t 0 * 256 + 1 * r.val = r.val; rw [(at2 t).1]; omega
    · show win0_2.index t 1 * 256 + 1 * d.val = 1024 + (256 * (t.val / 8) + d.val); rw [(at2 t).2]; omega
  · unfold iblk; rw [View.read_apply]
    show (shapeCast S1x256 (m ((c : Thread nD τ).loc main_arg2)) shapeCasts_S256_S1x256 : FVec Ideal S1x256 .f32) _ = _
    refine Eq.trans (congrArg _ ?_) (row_cast hm.gq r d)
    funext a; apply Fin.ext
    match a with
    | ⟨0, _⟩ => show win0_3.index t 0 * 1 + 1 * r.val = r.val; rw [(at3 t).1]; omega
    | ⟨1, _⟩ => show win0_3.index t 1 * 256 + 1 * d.val = d.val; rw [(at3 t).2]; omega
  · unfold iblk; rw [View.read_apply]
    show (shapeCast S1x256 (m ((c : Thread nD τ).loc main_arg3)) shapeCasts_S256_S1x256 : FVec Ideal S1x256 .f32) _ = _
    refine Eq.trans (congrArg _ ?_) (row_cast hm.gk r d)
    funext a; apply Fin.ext
    match a with
    | ⟨0, _⟩ => show win0_4.index t 0 * 1 + 1 * r.val = r.val; rw [(at4 t).1]; omega
    | ⟨1, _⟩ => show win0_4.index t 1 * 256 + 1 * d.val = d.val; rw [(at4 t).2]; omega

theorem flushed_whole (t : Fin cfg0.N) (_ : (cfg0.win 5).flush t = true) :
    (dats m 0 c).flushed 5 t = ((cfg0.win 5).blk t).view.read (Elt Ideal) (whole p) := by
  rw [flushed5]
  refine funext fun (j : (⟨2, ![512, 256]⟩ : Shape).Idx) => ?_
  obtain ⟨a, b, rfl⟩ := ix2_of j
  rw [View.read_apply]
  refine (point hm t a b).trans ?_
  have e0 : win0_5.index t 0 * 512 + 1 * a.val = t.val % 8 * 512 + a.val := by rw [(at5 t).1]; omega
  have e1 : win0_5.index t 1 * 256 + 1 * b.val = 256 * (t.val / 8) + b.val := by rw [(at5 t).2]; omega
  have hj : b.val < 256 := b.isLt
  show _ = ((att (p.q ((win0_5.index t 1 * 256 + 1 * b.val) / 256) (win0_5.index t 0 * 512 + 1 * a.val)) p.GQ
    (p.k ((win0_5.index t 1 * 256 + 1 * b.val) / 256)) p.GK (p.v ((win0_5.index t 1 * 256 + 1 * b.val) / 256))
    (lane (win0_5.index t 1 * 256 + 1 * b.val)) : ℝ) : EReal)
  rw [e0, e1, show (256 * (t.val / 8) + b.val) / 256 = t.val / 8 by omega]
  exact congrArg _ (congrArg _ (Fin.ext (show b.val = (256 * (t.val / 8) + b.val) % 256 by omega)))

theorem result : (dats m 0 c).arrAt 5 cfg0.N = whole p :=
  (dats m 0 c).arrAt_eq_of_cover 5 (whole p) (flushed_whole hm) fun i => by
    have h0 : (i 0 : Nat) < 4096 := (i 0).isLt
    have h1 : (i 1 : Nat) < 1024 := (i 1).isLt
    refine ⟨⟨(i 1).val / 256 * 8 + (i 0).val / 512, ?_⟩, flush0_5 _, ?_⟩
    · rw [show cfg0.N = 32 from N_0]; omega
    · generalize ht : (⟨(i 1).val / 256 * 8 + (i 0).val / 512, _⟩ : Fin cfg0.N) = t
      have hv : t.val = (i 1).val / 256 * 8 + (i 0).val / 512 := by rw [← ht]
      show i ∈ ((View.whole main_v2).slice (win0_5.rect t)).set
      rw [View.set_slice_whole, Rect.mem_set_unit]
      intro a
      match a with
      | ⟨0, _⟩ => show win0_5.index t 0 * 512 ≤ (i 0 : Nat) ∧ (i 0 : Nat) < win0_5.index t 0 * 512 + 512
                  rw [(at5 t).1]; omega
      | ⟨1, _⟩ => show win0_5.index t 1 * 256 ≤ (i 1 : Nat) ∧ (i 1 : Nat) < win0_5.index t 1 * 256 + 256
                  rw [(at5 t).2]; omega
end

end Cert.XaValue

/-! ## The reference -/

namespace Cert.XaValue.Reference

open Cert.Lift Cert.Model Cert.RefXaIdeal Cert.RefXaIdeal.Gen Idealize.ShloMosaic

section
variable {x : FVec Ideal S4096x1024 .f32} {kv : FVec Ideal S256x2048 .f32} {gq gk : FVec Ideal S256 .f32} {p : Nums}

/-- The same numbers, as those of the backward call's reference under a cotangent of zeros. -/
theorem with_zeros (h : Holds x kv gq gk p) : Cert.Ref.Holds x kv gq gk (fun _ => ((0 : ℝ) : EReal)) { p with O := fun _ _ => 0 } :=
  ⟨h.x, h.kv, h.gq, h.gk, fun _ => rfl⟩

/-- The reference's last stage: the probabilities against the values, heads side by side. -/
def joined (x : FVec Ideal S4096x1024 .f32) (kv : FVec Ideal S256x2048 .f32) (gq gk : FVec Ideal S256 .f32) : FVec Ideal S4096x1024 .bf16 :=
  truncf .bf16 (shapeCast S4096x1024 (transpose S4096x4x256 [2, 0, 1]
    (Host.dotGeneral dot_S256x4x256_S4x4096x256_S4x256x4096_0_2_2_1_1_0 none (Cert.Ref.v3 kv) (Cert.Ref.pr3 x kv gq gk))
    transposes_S4x256x4096_S4096x4x256_2_0_1) shapeCasts_S4096x4x256_S4096x1024) bitsLt_bf16_f32

theorem joined_eq (h : Holds x kv gq gk p) : joined x kv gq gk = whole p := funext fun i => by
  obtain ⟨a, b, rfl⟩ := ix2_of i
  have h' := with_zeros h
  have hp : Is3 (Host.dotGeneral dot_S256x4x256_S4x4096x256_S4x256x4096_0_2_2_1_1_0 none (Cert.Ref.v3 kv) (Cert.Ref.pr3 x kv gq gk))
      fun h d i => ∑ j, p.v h.val j d * pr (p.q h.val i.val) p.GQ (p.k h.val) p.GK j :=
    prod3 (fun h d i j => Cert.Ref.v3_is h' j h d) (fun h d i j => Cert.Ref.pr_is h' h i j) fun h d i => by pointwise
  have hd := is3_congr (swap201 (h := transposes_S4x256x4096_S4096x4x256_2_0_1) hp)
    (g := fun i h => att (p.q h.val i.val) p.GQ (p.k h.val) p.GK (p.v h.val))
    fun i h d => Finset.sum_congr rfl fun j _ => mul_comm _ _
  exact trunc2 (f := fun (i : Fin 4096) (l : Fin 1024) =>
      att (p.q (l.val / 256) i.val) p.GQ (p.k (l.val / 256)) p.GK (p.v (l.val / 256)) (lane l.val)) bitsLt_bf16_f32
    (join3 rfl (by norm_num) hd fun i l hj => rfl) a b
end

/-- The numbers that finite arguments hold. -/
def nums (x : FVec Ideal S4096x1024 .f32) (kv : FVec Ideal S256x2048 .f32) (gq gk : FVec Ideal S256 .f32) : Nums :=
  Cert.Finite.nums x kv gq gk fun _ => 0

theorem holds (x : FVec Ideal S4096x1024 .f32) (kv : FVec Ideal S256x2048 .f32) (gq gk : FVec Ideal S256 .f32)
    (h : Cert.Pre_finite_arguments.fn (F := Ideal) x kv gq gk = fun _ => 1#1) : Holds x kv gq gk (nums x kv gq gk) := by
  let j : S_.Idx := fun a => a.elim0
  have e := congrFun h j
  obtain ⟨e, h3⟩ := IntOp.andi_eq_one.1 (show IntOp.andi _ _ = 1#1 from e)
  obtain ⟨e, h2⟩ := IntOp.andi_eq_one.1 (show IntOp.andi _ _ = 1#1 from e)
  obtain ⟨h0, h1⟩ := IntOp.andi_eq_one.1 (show IntOp.andi _ _ = 1#1 from e)
  refine ⟨fun i => ?_, fun i => ?_, fun _ => Cert.Finite.real_of_all gq _ _ j h2 _, fun _ => Cert.Finite.real_of_all gk _ _ j h3 _⟩
  · obtain ⟨a, b, rfl⟩ := ix2_of i
    refine (Cert.Finite.real_of_all x _ _ j h0 _).trans (congrArg _ (Eq.symm ?_))
    unfold nums Cert.Finite.nums
    exact dif_pos (And.intro a.isLt b.isLt)
  · obtain ⟨a, b, rfl⟩ := ix2_of i
    refine (Cert.Finite.real_of_all kv _ _ j h1 _).trans (congrArg _ (Eq.symm ?_))
    unfold nums Cert.Finite.nums
    exact dif_pos (And.intro a.isLt b.isLt)

theorem result_eq (m : (ℓ : Loc nD τ sig) → Buf (Elt Ideal) ℓ) (c : Dev nD) :
    Cert.RefXaIdeal.Value.res_main_v48 m c = joined (m ((c.tc : Thread nD τ).loc main_arg0)) (m ((c.tc : Thread nD τ).loc main_arg1))
      (m ((c.tc : Thread nD τ).loc main_arg2)) (m ((c.tc : Thread nD τ).loc main_arg3)) := by
  unfold Cert.RefXaIdeal.Value.res_main_v48; rfl

end Cert.XaValue.Reference

/-! ## The claim -/

namespace Cert.XaValue

open Idealize.ShloMosaic

theorem value [Cert.XaIdeal.Facts] [Cert.RefXaIdeal.Facts] [Cert.Pre_finite_arguments.Facts] :
    Cert.algebraic_XaIdeal_RefXaIdeal_pre_finite_arguments := fun m g m' g' hp hm => by
  refine ⟨fun c => whole (Reference.nums
      (m ((c.tc : Thread Cert.XaIdeal.nD Cert.XaIdeal.τ).loc Cert.XaIdeal.main_arg0)) (m ((c.tc : Thread Cert.XaIdeal.nD Cert.XaIdeal.τ).loc Cert.XaIdeal.main_arg1))
      (m ((c.tc : Thread Cert.XaIdeal.nD Cert.XaIdeal.τ).loc Cert.XaIdeal.main_arg2)) (m ((c.tc : Thread Cert.XaIdeal.nD Cert.XaIdeal.τ).loc Cert.XaIdeal.main_arg3))),
    (θ_run Cert.XaIdeal.defs _ _).mono (fun r h c => ⟨(h c).1.trans (result (Reference.holds _ _ _ _ (hp c))), (h c).2⟩)
      (Cert.XaIdeal.Value.run_blocks m g),
    (θ_run Cert.RefXaIdeal.defs _ _).mono (fun r h c => ⟨(h c).1.trans ?_, (h c).2⟩) (Cert.RefXaIdeal.Value.run m' g')⟩
  rw [Reference.result_eq]
  obtain ⟨e0, e1, e2, e3⟩ := hm c
  rw [e0, e1, e2, e3]
  exact Reference.joined_eq (Reference.holds _ _ _ _ (hp c))

end Cert.XaValue

end
-- ==== Proof.More.lean ====
/-
  The claims about the forward calls of the convolution, the norms and the gates and about the memory's projection: for each, the
  kernel's results and the reference's are the same, entry by entry.
-/
module

public import proofs.«01_k».proof.Proof.ConvBBwdRef
public import proofs.«01_k».proof.Proof.ConvB
public import proofs.«01_k».proof.Proof.Rms
public import proofs.«01_k».proof.Proof.LnSilu
public import proofs.«01_k».proof.Proof.Merge
public import proofs.«01_k».proof.Proof.XkvDw
public import proofs.«01_k».proof.Proof.XkvDx
public import proofs.«01_k».proof.Proof.MmXkv
public import proofs.«01_k».proof.Proof.Xa
public import Idealize.ShloMosaic.Lib.Claim
public import Idealize.ShloMosaic.Adequacy
public import Idealize.ShloMosaic.Init

@[expose] public section

noncomputable section

namespace Cert.More

open Idealize.ShloMosaic Idealize.SL.Sem

theorem frame_refConvBBwd [Cert.RefConvBBwdIdeal.Facts] : Cert.quiescent_RefConvBBwdIdeal := fun m ρ _ =>
  (θ_run Cert.RefConvBBwdIdeal.defs _ _).mono (fun r h => ⟨fun c => (h c).2.2.2, sem_eq_zero_of_no_sems (by decide) r.2⟩)
    (Cert.RefConvBBwdIdeal.Value.run m ρ)

theorem frame_refConvB [Cert.RefConvBIdeal.Facts] : Cert.quiescent_RefConvBIdeal := fun m ρ _ =>
  (θ_run Cert.RefConvBIdeal.defs _ _).mono (fun r h => ⟨fun c => (h c).2.2, sem_eq_zero_of_no_sems (by decide) r.2⟩)
    (Cert.RefConvBIdeal.Value.run m ρ)

theorem convB [Cert.ConvBIdeal.Facts] [Cert.RefConvBIdeal.Facts] : Cert.algebraic_ConvBIdeal_RefConvBIdeal := fun m g m' g' _ hm => by
  refine ⟨fun c => Cert.ConvBValue.wholePre (Cert.ConvBValue.P m c) (Cert.ConvBValue.W m c) (Cert.ConvBValue.B m c), fun c => Cert.ConvBValue.wholeAct (Cert.ConvBValue.P m c) (Cert.ConvBValue.W m c) (Cert.ConvBValue.B m c),
    (θ_run Cert.ConvBIdeal.defs _ _).mono (fun r h c => ⟨(h c).1.trans (Cert.ConvBValue.result_Pre m c), (h c).2.1.trans (Cert.ConvBValue.result_Act m c), (h c).2.2⟩) (Cert.ConvBIdeal.Value.run_blocks m g),
    (θ_run Cert.RefConvBIdeal.defs _ _).mono (fun r h c => ⟨(h c).1.trans ?_, (h c).2.1.trans ?_, (h c).2.2⟩) (Cert.RefConvBIdeal.Value.run m' g')⟩
  · obtain ⟨e0, e1, e2⟩ := hm c
    rw [e0, e1, e2]
    exact @Cert.ConvBValue.reference_pre Cert.RefConvBIdeal.Gen.facts.toFacts₀ _ _ _
  · obtain ⟨e0, e1, e2⟩ := hm c
    unfold Cert.RefConvBIdeal.Value.res_main_v65
    rw [e0, e1, e2]
    exact @Cert.ConvBValue.reference_act Cert.RefConvBIdeal.Gen.facts.toFacts₀ _ _ _

theorem frame_refRms [Cert.RefRmsIdeal.Facts] : Cert.quiescent_RefRmsIdeal := fun m ρ _ =>
  (θ_run Cert.RefRmsIdeal.defs _ _).mono (fun r h => ⟨fun c => (h c).2, sem_eq_zero_of_no_sems (by decide) r.2⟩)
    (Cert.RefRmsIdeal.Value.run m ρ)

theorem rms [Cert.RmsIdeal.Facts] [Cert.RefRmsIdeal.Facts] : Cert.algebraic_RmsIdeal_RefRmsIdeal := fun m g m' g' _ hm => by
  refine ⟨fun c => Cert.RmsValue.whole (Cert.RmsValue.X m c) (Cert.RmsValue.G m c),
    (θ_run Cert.RmsIdeal.defs _ _).mono (fun r h c => ⟨(h c).1.trans (Cert.RmsValue.result m c), (h c).2⟩) (Cert.RmsIdeal.Value.run_blocks m g),
    (θ_run Cert.RefRmsIdeal.defs _ _).mono (fun r h c => ⟨(h c).1.trans ?_, (h c).2⟩) (Cert.RefRmsIdeal.Value.run m' g')⟩
  obtain ⟨e0, e1⟩ := hm c
  rw [e0, e1]
  exact Cert.RmsValue.reference _ _

theorem frame_refLnSilu [Cert.RefLnSiluIdeal.Facts] : Cert.quiescent_RefLnSiluIdeal := fun m ρ _ =>
  (θ_run Cert.RefLnSiluIdeal.defs _ _).mono (fun r h => ⟨fun c => (h c).2, sem_eq_zero_of_no_sems (by decide) r.2⟩)
    (Cert.RefLnSiluIdeal.Value.run m ρ)

theorem lnSilu [Cert.LnSiluIdeal.Facts] [Cert.RefLnSiluIdeal.Facts] : Cert.algebraic_LnSiluIdeal_RefLnSiluIdeal := fun m g m' g' _ hm => by
  refine ⟨fun c => Cert.LnSiluValue.whole (Cert.LnSiluValue.X m c) (Cert.LnSiluValue.G m c) (Cert.LnSiluValue.B m c),
    (θ_run Cert.LnSiluIdeal.defs _ _).mono (fun r h c => ⟨(h c).1.trans (Cert.LnSiluValue.result m c), (h c).2⟩) (Cert.LnSiluIdeal.Value.run_blocks m g),
    (θ_run Cert.RefLnSiluIdeal.defs _ _).mono (fun r h c => ⟨(h c).1.trans ?_, (h c).2⟩) (Cert.RefLnSiluIdeal.Value.run m' g')⟩
  obtain ⟨e0, e1, e2⟩ := hm c
  rw [e0, e1, e2]
  exact @Cert.LnSiluValue.reference Cert.RefLnSiluBwdIdeal.Gen.facts.toFacts₀ _ _ _ _

theorem frame_refMerge [Cert.RefMergeIdeal.Facts] : Cert.quiescent_RefMergeIdeal := fun m ρ _ =>
  (θ_run Cert.RefMergeIdeal.defs _ _).mono (fun r h => ⟨fun c => (h c).2, sem_eq_zero_of_no_sems (by decide) r.2⟩)
    (Cert.RefMergeIdeal.Value.run m ρ)

theorem merge [Cert.MergeIdeal.Facts] [Cert.RefMergeIdeal.Facts] : Cert.algebraic_MergeIdeal_RefMergeIdeal := fun m g m' g' _ hm => by
  refine ⟨fun c => Cert.MergeValue.whole (Cert.MergeValue.P m c) (Cert.MergeValue.Ya m c) (Cert.MergeValue.Yb m c) (Cert.MergeValue.Yc m c) (Cert.MergeValue.B m c),
    (θ_run Cert.MergeIdeal.defs _ _).mono (fun r h c => ⟨(h c).1.trans (Cert.MergeValue.result m c), (h c).2⟩) (Cert.MergeValue.run_blocks m g),
    (θ_run Cert.RefMergeIdeal.defs _ _).mono (fun r h c => ⟨(h c).1.trans ?_, (h c).2⟩) (Cert.RefMergeIdeal.Value.run m' g')⟩
  obtain ⟨e0, e1, e2, e3, e4⟩ := hm c
  rw [e0, e1, e2, e3, e4]
  exact @Cert.MergeValue.reference Cert.RefMergeBwdIdeal.Gen.facts.toFacts₀ _ _ _ _ _

theorem frame_refXkvDw [Cert.RefXkvDwIdeal.Facts] : Cert.quiescent_RefXkvDwIdeal := fun m ρ _ =>
  (θ_run Cert.RefXkvDwIdeal.defs _ _).mono (fun r h => ⟨fun c => (h c).2, sem_eq_zero_of_no_sems (by decide) r.2⟩)
    (Cert.RefXkvDwIdeal.Value.run m ρ)

theorem xkvDw [Cert.XkvDwIdeal.Facts] [Cert.RefXkvDwIdeal.Facts] : Cert.algebraic_XkvDwIdeal_RefXkvDwIdeal := fun m g m' g' _ hm => by
  refine ⟨fun c => Cert.XkvDwValue.whole m c,
    (θ_run Cert.XkvDwIdeal.defs _ _).mono (fun r h c => ⟨(h c).1.trans (Cert.XkvDwValue.result m c), (h c).2⟩) (Cert.XkvDwIdeal.Value.run_blocks m g),
    (θ_run Cert.RefXkvDwIdeal.defs _ _).mono (fun r h c => ⟨(h c).1.trans ?_, (h c).2⟩) (Cert.RefXkvDwIdeal.Value.run m' g')⟩
  obtain ⟨e0, e1⟩ := hm c
  rw [e0, e1]
  exact Cert.XkvDwValue.reference _ _

theorem frame_refXkvDx [Cert.RefXkvDxIdeal.Facts] : Cert.quiescent_RefXkvDxIdeal := fun m ρ _ =>
  (θ_run Cert.RefXkvDxIdeal.defs _ _).mono (fun r h => ⟨fun c => (h c).2, sem_eq_zero_of_no_sems (by decide) r.2⟩)
    (Cert.RefXkvDxIdeal.Value.run m ρ)

theorem xkvDx [Cert.XkvDxIdeal.Facts] [Cert.RefXkvDxIdeal.Facts] : Cert.algebraic_XkvDxIdeal_RefXkvDxIdeal := fun m g m' g' _ hm => by
  refine ⟨fun c => Cert.XkvDxValue.whole m c,
    (θ_run Cert.XkvDxIdeal.defs _ _).mono (fun r h c => ⟨(h c).1.trans (Cert.XkvDxValue.result m c), (h c).2⟩) (Cert.XkvDxIdeal.Value.run_blocks m g),
    (θ_run Cert.RefXkvDxIdeal.defs _ _).mono (fun r h c => ⟨(h c).1.trans ?_, (h c).2⟩) (Cert.RefXkvDxIdeal.Value.run m' g')⟩
  obtain ⟨e0, e1⟩ := hm c
  rw [e0, e1]
  exact Cert.XkvDxValue.reference _ _

theorem frame_refMmXkv [Cert.RefMmXkvIdeal.Facts] : Cert.quiescent_RefMmXkvIdeal := fun m ρ _ =>
  (θ_run Cert.RefMmXkvIdeal.defs _ _).mono (fun r h => ⟨fun c => (h c).2, sem_eq_zero_of_no_sems (by decide) r.2⟩)
    (Cert.RefMmXkvIdeal.Value.run m ρ)

theorem mmXkv [Cert.MmXkvIdeal.Facts] [Cert.RefMmXkvIdeal.Facts] : Cert.algebraic_MmXkvIdeal_RefMmXkvIdeal := fun m g m' g' _ hm => by
  refine ⟨fun c => Cert.MmXkvValue.whole m c,
    (θ_run Cert.MmXkvIdeal.defs _ _).mono (fun r h c => ⟨(h c).1.trans (Cert.MmXkvValue.result m c), (h c).2⟩) (Cert.MmXkvIdeal.Value.run_blocks m g),
    (θ_run Cert.RefMmXkvIdeal.defs _ _).mono (fun r h c => ⟨(h c).1.trans ?_, (h c).2⟩) (Cert.RefMmXkvIdeal.Value.run m' g')⟩
  obtain ⟨e0, e1⟩ := hm c
  rw [e0, e1]
  exact Cert.MmXkvValue.reference _ _

theorem frame_refXa [Cert.RefXaIdeal.Facts] : Cert.quiescent_RefXaIdeal := fun m ρ _ =>
  (θ_run Cert.RefXaIdeal.defs _ _).mono (fun r h => ⟨fun c => (h c).2, sem_eq_zero_of_no_sems (by decide) r.2⟩)
    (Cert.RefXaIdeal.Value.run m ρ)

end Cert.More

end
-- ==== Proof.Memory.lean ====
/-
  The norm of the memory's rows and its gradient: one block of 256 rows, at one point.
-/
module

public import proofs.«01_k».proof.Proof.Gen.RmsMemIdeal.Value
public import proofs.«01_k».proof.Proof.Gen.RefRmsMemIdeal.Run
public import proofs.«01_k».proof.Proof.Gen.RmsMemBwdIdeal.Value
public import proofs.«01_k».proof.Proof.Gen.RefRmsMemBwdIdeal.Run
public import proofs.«01_k».proof.Proof.Rms
public import proofs.«01_k».proof.Proof.ConvB
public import proofs.«01_k».proof.Defs
public import Idealize.ShloMosaic.Lib.Claim
public import Idealize.ShloMosaic.Adequacy
public import Idealize.ShloMosaic.Init

@[expose] public section

set_option maxRecDepth 16384

noncomputable section

namespace Cert.Memory

open Idealize.ShloMosaic Idealize.ShloMosaic.TcCoe Idealize.ShloMosaic.Tactic Idealize.SL.Sem
open Cert.Lift Cert.Blocked Cert.Rows
open Cert.RmsValue (normed)
open Cert.RmsBwdValue (square share weigh)

/-- Every row, normed. -/
def whole (X : FVec Ideal ⟨2, ![256, 1024]⟩ .f32) (G : FVec Ideal ⟨1, ![1024]⟩ .f32) : FVec Ideal ⟨2, ![256, 1024]⟩ .bf16 :=
  fun i => normed (fun k => X (ix2 (i 0) k)) (fun k => G (ix1 k)) (i 1)

/-- The gradient at the rows. -/
def wholeX (X : FVec Ideal ⟨2, ![256, 1024]⟩ .f32) (G : FVec Ideal ⟨1, ![1024]⟩ .f32) (U : FVec Ideal ⟨2, ![256, 1024]⟩ .f32) :
    FVec Ideal ⟨2, ![256, 1024]⟩ .f32 :=
  fun i => Cert.RmsBwdValue.slope (fun k => X (ix2 (i 0) k)) (fun k => G (ix1 k)) (fun k => U (ix2 (i 0) k)) (i 1)

/-- The gradient of the gain. -/
def wholeG (X U : FVec Ideal ⟨2, ![256, 1024]⟩ .f32) : FVec Ideal ⟨2, ![1, 1024]⟩ .f32 :=
  fun i => ∑ a : Fin 256, weigh (fun k => X (ix2 a k)) (fun k => U (ix2 a k)) (i 1)

/-- An index of a block that starts at the origin. -/
theorem at_origin {n0 n1 : ℕ} {φ : FTy} (A : FVec Ideal ⟨2, ![n0, n1]⟩ φ) (i : (⟨2, ![n0, n1]⟩ : Shape).Idx) {a : Fin n0} {b : Fin n1}
    (h0 : (i 0).val = a.val) (h1 : (i 1).val = b.val) : A i = A (ix2 a b) :=
  (cell_eq A i h0 h1).trans (cell_eq A (ix2 a b) rfl rfl).symm

/-! ## The norm -/

namespace Norm

open Cert.RmsMemIdeal Cert.RmsMemIdeal.Gen Cert.RmsMemIdeal.Value

theorem body {F : FTy → Type} [FloatOps F] (x : Vec F S256x1024 .f32) (g : Vec F S1x1024 .f32) : out0_2 x g = k0_pay1 x g := by
  unfold out0_2
  rw [View.canon_unit_zero origin]
  simp only [View.ld_unit_zero (S := S256x1024) origin, View.ld_unit_zero (S := S1x1024) origin]

theorem pay (x : FVec Ideal S256x1024 .f32) (g : FVec Ideal S1x1024 .f32) (a : Fin 256) (b : Fin 1024) :
    k0_pay1 (F := Ideal) x g (ix2 a b) = normed (fun k => x (ix2 a k)) (fun k => g (ix2 0 k)) b := by
  unfold k0_pay1 normed square; simp only [shapeCast_self]; pointwise

section
variable (m : (ℓ : Loc nD τ sig) → Buf (Elt Ideal) ℓ) (c : Dev nD)

abbrev X : FVec Ideal ⟨2, ![256, 1024]⟩ .f32 := m ((c : Thread nD τ).loc main_arg0)
abbrev G : FVec Ideal ⟨1, ![1024]⟩ .f32 := m ((c : Thread nD τ).loc main_arg1)

theorem at0 : ∀ t : Fin grid0.N, win0_0.index t 0 = 0 ∧ win0_0.index t 1 = 0 := by decide +kernel
theorem at1 : ∀ t : Fin grid0.N, win0_1.index t 0 = 0 ∧ win0_1.index t 1 = 0 := by decide +kernel
theorem at2 : ∀ t : Fin grid0.N, win0_2.index t 0 = 0 ∧ win0_2.index t 1 = 0 := by decide +kernel

theorem rows (t : Fin cfg0.N) (a : Fin 256) (b : Fin 1024) : (iblk m c 0 t : FVec Ideal S256x1024 .f32) (ix2 a b) = X m c (ix2 a b) := by
  unfold iblk; rw [View.read_apply]
  show X m c _ = _
  refine at_origin _ _ ?_ ?_
  · show win0_0.index t 0 * 256 + 1 * a.val = _; rw [(at0 t).1]; omega
  · show win0_0.index t 1 * 1024 + 1 * b.val = _; rw [(at0 t).2]; omega

theorem gain (t : Fin cfg0.N) (b : Fin 1024) : (iblk m c 1 t : FVec Ideal S1x1024 .f32) (ix2 0 b) = G m c (ix1 b) := by
  unfold iblk; rw [View.read_apply]
  show (shapeCast S1x1024 (G m c) shapeCasts_S1024_S1x1024 : FVec Ideal S1x1024 .f32) _ = _
  refine row_of_list _ _ _ ?_
  show win0_1.index t 1 * 1024 + 1 * b.val = _; rw [(at1 t).2]; omega

theorem flushed_whole (t : Fin cfg0.N) (_ : (cfg0.win 2).flush t = true) :
    (dats m 0 c).flushed 2 t = ((cfg0.win 2).blk t).view.read (Elt Ideal) (whole (X m c) (G m c)) := by
  rw [flushed2]
  refine funext fun (j : (⟨2, ![256, 1024]⟩ : Shape).Idx) => ?_
  obtain ⟨a, b, rfl⟩ := ix2_of j
  rw [View.read_apply]
  have e : out0_2 (iblk m c 0 t) (iblk m c 1 t) (ix2 a b) = whole (X m c) (G m c) (ix2 a b) := by
    rw [body, pay]
    simp only [rows, gain]
    rfl
  refine e.trans (at_origin (whole (X m c) (G m c)) _ ?_ ?_).symm
  · show win0_2.index t 0 * 256 + 1 * a.val = _; rw [(at2 t).1]; omega
  · show win0_2.index t 1 * 1024 + 1 * b.val = _; rw [(at2 t).2]; omega

theorem result : (dats m 0 c).arrAt 2 cfg0.N = whole (X m c) (G m c) :=
  (dats m 0 c).arrAt_eq_of_cover 2 (whole (X m c) (G m c)) (flushed_whole m c) fun i => by
    have h0 : (i 0 : Nat) < 256 := (i 0).isLt
    have h1 : (i 1 : Nat) < 1024 := (i 1).isLt
    refine ⟨⟨0, ?_⟩, flush0_2 _, ?_⟩
    · rw [show cfg0.N = 1 from N_0]; omega
    · generalize (⟨0, _⟩ : Fin cfg0.N) = t
      show i ∈ ((View.whole main_v1).slice (win0_2.rect t)).set
      rw [View.set_slice_whole, Rect.mem_set_unit]
      intro a
      match a with
      | ⟨0, _⟩ => show win0_2.index t 0 * 256 ≤ (i 0 : Nat) ∧ (i 0 : Nat) < win0_2.index t 0 * 256 + 256
                  rw [(at2 t).1]; omega
      | ⟨1, _⟩ => show win0_2.index t 1 * 1024 ≤ (i 1 : Nat) ∧ (i 1 : Nat) < win0_2.index t 1 * 1024 + 1024
                  rw [(at2 t).2]; omega

end

end Norm

section
open Cert.RefRmsMemIdeal Cert.RefRmsMemIdeal.Gen

theorem reference (x : FVec Ideal S256x1024 .f32) (g : FVec Ideal S1024 .f32) :
    truncf .bf16 (mulf (mulf x (broadcastInDim S256x1024 ![0, 1] bcast_S256x1_S256x1024_0_1 (Host.rsqrt (addf (Host.divf (broadcastInDim S256x1 ![0] bcast_S256_S256x1_0 (Host.reduceAdd (mulf x x) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (broadcastInDim S256x1024 ![0, 1] bcast_S1x1024_S256x1024_0_1 (broadcastInDim S1x1024 ![1] bcast_S1024_S1x1024_1 g))) bitsLt_bf16_f32 = whole x g := by
  funext i
  obtain ⟨a, b, rfl⟩ := ix2_of i
  show _ = normed (fun k => x (ix2 a k)) (fun k => g (ix1 k)) b
  unfold normed square
  pointwise

end

/-! ## Its gradient -/

namespace Grad

open Cert.RmsMemBwdIdeal Cert.RmsMemBwdIdeal.Gen Cert.RmsMemBwdIdeal.Value

section
variable {F : FTy → Type} [FloatOps F] (c : Dev nD) (i : grid0.Coords)
  (a1 : Memref sig .tc .vmem S256x1024 .f32) (h1 : a1.IsWhole) (a2 : Memref sig .tc .vmem S1x1024 .f32) (h2 : a2.IsWhole)
  (a3 : Memref sig .tc .vmem S256x1024 .f32) (h3 : a3.IsWhole) (a4 : Memref sig .tc .vmem S256x1024 .f32) (h4 : a4.IsWhole)
  (a5 : Memref sig .tc .vmem S1x1024 .f32) (h5 : a5.IsWhole) (x : Vec F S256x1024 .f32) (g : Vec F S1x1024 .f32) (u : Vec F S256x1024 .f32)

theorem body_rows (hc0 : cond0_0 i) : out0_A_3 c i a1 h1 a2 h2 a3 h3 a4 h4 a5 h5 hc0 x g u = k0_pay6 x g u := by
  unfold out0_A_3
  rw [View.read_writes_eq_canon _ _ _ (cover0_A_3 c i a1 h1 a2 h2 a3 h3 a4 h4 a5 h5 hc0 x g u)]
  unfold kernelRun0_A
  dsimp only
  sl_unfold_words
  rw [View.canon_unit_zero origin]
  simp only [View.readAt_eq_ld, h1.read_unread, h2.read_unread, h3.read_unread, View.ld_unit_zero (S := S256x1024) origin, View.ld_unit_zero (S := S1x1024) origin]

theorem body_gain (hc0 : cond0_0 i) : out0_A_4 c i a1 h1 a2 h2 a3 h3 a4 h4 a5 h5 hc0 x g u = k0_pay2 (k0_pay5 x u) k0_pay1 := by
  unfold out0_A_4
  rw [View.read_writes_eq_canon _ _ _ (cover0_A_4 c i a1 h1 a2 h2 a3 h3 a4 h4 a5 h5 hc0 x g u)]
  unfold kernelRun0_A
  dsimp only
  sl_unfold_words
  rw [View.canon_cons_unit_zero (S := S1x1024) origin, View.readCov_unit_zero (S := S1x1024) _ origin]
  simp only [View.readAt_eq_ld, h1.read_unread, h2.read_unread, h3.read_unread, View.ld_unit_zero (S := S256x1024) origin, View.ld_unit_zero (S := S1x1024) origin]

end

theorem pay_rows (x : FVec Ideal S256x1024 .f32) (g : FVec Ideal S1x1024 .f32) (u : FVec Ideal S256x1024 .f32) (a : Fin 256) (b : Fin 1024) :
    k0_pay6 (F := Ideal) x g u (ix2 a b) = Cert.RmsBwdValue.slope (fun k => x (ix2 a k)) (fun k => g (ix2 0 k)) (fun k => u (ix2 a k)) b := by
  unfold k0_pay6 k0_pay4 k0_pay3 Cert.RmsBwdValue.slope share square; simp only [shapeCast_self]; pointwise
  simp only [Finset.univ_unique, Finset.sum_singleton]

theorem pay_gain (x u : FVec Ideal S256x1024 .f32) (b : Fin 1024) :
    k0_pay2 (F := Ideal) (k0_pay5 x u) (k0_pay1 (F := Ideal)) (ix2 0 b) = ∑ a : Fin 256, weigh (fun k => x (ix2 a k)) (fun k => u (ix2 a k)) b := by
  unfold k0_pay2 k0_pay5 k0_pay4 k0_pay3 k0_pay1 weigh square; simp only [shapeCast_self]; pointwise

section
variable (m : (ℓ : Loc nD τ sig) → Buf (Elt Ideal) ℓ) (c : Dev nD)

abbrev X : FVec Ideal ⟨2, ![256, 1024]⟩ .f32 := m ((c : Thread nD τ).loc main_arg0)
abbrev G : FVec Ideal ⟨1, ![1024]⟩ .f32 := m ((c : Thread nD τ).loc main_arg1)
abbrev U : FVec Ideal ⟨2, ![256, 1024]⟩ .f32 := m ((c : Thread nD τ).loc main_arg2)

theorem at0 : ∀ t : Fin grid0.N, win0_0.index t 0 = 0 ∧ win0_0.index t 1 = 0 := by decide +kernel
theorem at1 : ∀ t : Fin grid0.N, win0_1.index t 0 = 0 ∧ win0_1.index t 1 = 0 := by decide +kernel
theorem at2 : ∀ t : Fin grid0.N, win0_2.index t 0 = 0 ∧ win0_2.index t 1 = 0 := by decide +kernel
theorem at3 : ∀ t : Fin grid0.N, win0_3.index t 0 = 0 ∧ win0_3.index t 1 = 0 := by decide +kernel
theorem at4 : ∀ t : Fin grid0.N, win0_4.index t 0 = 0 ∧ win0_4.index t 1 = 0 := by decide +kernel

theorem rows (t : Fin cfg0.N) (a : Fin 256) (b : Fin 1024) : (iblk m c 0 t : FVec Ideal S256x1024 .f32) (ix2 a b) = X m c (ix2 a b) := by
  unfold iblk; rw [View.read_apply]
  show X m c _ = _
  refine at_origin _ _ ?_ ?_
  · show win0_0.index t 0 * 256 + 1 * a.val = _; rw [(at0 t).1]; omega
  · show win0_0.index t 1 * 1024 + 1 * b.val = _; rw [(at0 t).2]; omega

theorem given (t : Fin cfg0.N) (a : Fin 256) (b : Fin 1024) : (iblk m c 2 t : FVec Ideal S256x1024 .f32) (ix2 a b) = U m c (ix2 a b) := by
  unfold iblk; rw [View.read_apply]
  show U m c _ = _
  refine at_origin _ _ ?_ ?_
  · show win0_2.index t 0 * 256 + 1 * a.val = _; rw [(at2 t).1]; omega
  · show win0_2.index t 1 * 1024 + 1 * b.val = _; rw [(at2 t).2]; omega

theorem gain (t : Fin cfg0.N) (b : Fin 1024) : (iblk m c 1 t : FVec Ideal S1x1024 .f32) (ix2 0 b) = G m c (ix1 b) := by
  unfold iblk; rw [View.read_apply]
  show (shapeCast S1x1024 (G m c) shapeCasts_S1024_S1x1024 : FVec Ideal S1x1024 .f32) _ = _
  refine row_of_list _ _ _ ?_
  show win0_1.index t 1 * 1024 + 1 * b.val = _; rw [(at1 t).2]; omega

theorem flushed_rows (t : Fin cfg0.N) (_ : (cfg0.win 3).flush t = true) :
    (dats m 0 c).flushed 3 t = ((cfg0.win 3).blk t).view.read (Elt Ideal) (wholeX (X m c) (G m c) (U m c)) := by
  rw [flushed3]
  refine funext fun (j : (⟨2, ![256, 1024]⟩ : Shape).Idx) => ?_
  obtain ⟨a, b, rfl⟩ := ix2_of j
  rw [View.read_apply]
  have e : (outsAt0 m c t).1 (ix2 a b) = wholeX (X m c) (G m c) (U m c) (ix2 a b) := by
    unfold outsAt0
    dsimp only
    rw [body_rows, pay_rows]
    simp only [rows, gain, given]
    rfl
  refine e.trans (at_origin (wholeX (X m c) (G m c) (U m c)) _ ?_ ?_).symm
  · show win0_3.index t 0 * 256 + 1 * a.val = _; rw [(at3 t).1]; omega
  · show win0_3.index t 1 * 1024 + 1 * b.val = _; rw [(at3 t).2]; omega

theorem flushed_gain (t : Fin cfg0.N) (_ : (cfg0.win 4).flush t = true) :
    (dats m 0 c).flushed 4 t = ((cfg0.win 4).blk t).view.read (Elt Ideal) (wholeG (X m c) (U m c)) := by
  rw [flushed4]
  refine funext fun (j : (⟨2, ![1, 1024]⟩ : Shape).Idx) => ?_
  obtain ⟨a, b, rfl⟩ := ix2_of j
  obtain rfl : a = 0 := Subsingleton.elim _ _
  rw [View.read_apply]
  have e : (outsAt0 m c t).2 (ix2 0 b) = wholeG (X m c) (U m c) (ix2 0 b) := by
    unfold outsAt0
    dsimp only
    rw [body_gain, pay_gain]
    simp only [rows, given]
    rfl
  refine e.trans (at_origin (wholeG (X m c) (U m c)) _ ?_ ?_).symm
  · show win0_4.index t 0 * 1 + 1 * 0 = _; rw [(at4 t).1]; rfl
  · show win0_4.index t 1 * 1024 + 1 * b.val = _; rw [(at4 t).2]; omega

theorem result : (dats m 0 c).arrAt 3 cfg0.N = wholeX (X m c) (G m c) (U m c) :=
  (dats m 0 c).arrAt_eq_of_cover 3 (wholeX (X m c) (G m c) (U m c)) (flushed_rows m c) fun i => by
    have h0 : (i 0 : Nat) < 256 := (i 0).isLt
    have h1 : (i 1 : Nat) < 1024 := (i 1).isLt
    refine ⟨⟨0, ?_⟩, flush0_3 _, ?_⟩
    · rw [show cfg0.N = 1 from N_0]; omega
    · generalize (⟨0, _⟩ : Fin cfg0.N) = t
      show i ∈ ((View.whole main_v1_0).slice (win0_3.rect t)).set
      rw [View.set_slice_whole, Rect.mem_set_unit]
      intro a
      match a with
      | ⟨0, _⟩ => show win0_3.index t 0 * 256 ≤ (i 0 : Nat) ∧ (i 0 : Nat) < win0_3.index t 0 * 256 + 256
                  rw [(at3 t).1]; omega
      | ⟨1, _⟩ => show win0_3.index t 1 * 1024 ≤ (i 1 : Nat) ∧ (i 1 : Nat) < win0_3.index t 1 * 1024 + 1024
                  rw [(at3 t).2]; omega

theorem result_gain : (dats m 0 c).arrAt 4 cfg0.N = wholeG (X m c) (U m c) :=
  (dats m 0 c).arrAt_eq_of_cover 4 (wholeG (X m c) (U m c)) (flushed_gain m c) fun i => by
    have h0 : (i 0 : Nat) < 1 := (i 0).isLt
    have h1 : (i 1 : Nat) < 1024 := (i 1).isLt
    refine ⟨⟨0, ?_⟩, flush0_4 _, ?_⟩
    · rw [show cfg0.N = 1 from N_0]; omega
    · generalize (⟨0, _⟩ : Fin cfg0.N) = t
      show i ∈ ((View.whole main_v1_1).slice (win0_4.rect t)).set
      rw [View.set_slice_whole, Rect.mem_set_unit]
      intro a
      match a with
      | ⟨0, _⟩ => show win0_4.index t 0 * 1 ≤ (i 0 : Nat) ∧ (i 0 : Nat) < win0_4.index t 0 * 1 + 1
                  rw [(at4 t).1]; omega
      | ⟨1, _⟩ => show win0_4.index t 1 * 1024 ≤ (i 1 : Nat) ∧ (i 1 : Nat) < win0_4.index t 1 * 1024 + 1024
                  rw [(at4 t).2]; omega

end

end Grad

section
open Cert.RefRmsMemBwdIdeal Cert.RefRmsMemBwdIdeal.Gen
variable (x : FVec Ideal S256x1024 .f32) (g : FVec Ideal S1024 .f32) (u : FVec Ideal S256x1024 .f32)

theorem reference_rows :
    addf (addf (mulf (mulf u (broadcastInDim S256x1024 ![0, 1] bcast_S1x1024_S256x1024_0_1 (broadcastInDim S1x1024 ![1] bcast_S1024_S1x1024_1 g))) (broadcastInDim S256x1024 ![0, 1] bcast_S256x1_S256x1024_0_1 (Host.rsqrt (addf (Host.divf (broadcastInDim S256x1 ![0] bcast_S256_S256x1_0 (Host.reduceAdd (mulf x x) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (mulf x (broadcastInDim S256x1024 ![0] bcast_S256_S256x1024_0 (Host.reduceAdd (Host.divf (mulf (shapeCast _ (Host.reduceAdd (mulf x (mulf u (broadcastInDim S256x1024 ![0, 1] bcast_S1x1024_S256x1024_0_1 (broadcastInDim S1x1024 ![1] bcast_S1024_S1x1024_1 g)))) (constant S_ .f32 0x00000000#32) reducesTo_S256x1024_S256_d1 h_S_) shapeCasts_S256_S256x1) (mulf (broadcastInDim S256x1 ![] bcast_S_S256x1 (constant S_ .f32 0xBF000000#32)) (Host.divf (Host.rsqrt (addf (Host.divf (broadcastInDim S256x1 ![0] bcast_S256_S256x1_0 (Host.reduceAdd (mulf x x) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))) (addf (Host.divf (broadcastInDim S256x1 ![0] bcast_S256_S256x1_0 (Host.reduceAdd (mulf x x) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (broadcastInDim S256x1 ![] bcast_S_S256x1 (constant S_ .f32 0x44800000#32))) (constant S_ .f32 0x00000000#32) reducesTo_S256x1_S256_d1 h_S_)))) (mulf (broadcastInDim S256x1024 ![0] bcast_S256_S256x1024_0 (Host.reduceAdd (Host.divf (mulf (shapeCast _ (Host.reduceAdd (mulf x (mulf u (broadcastInDim S256x1024 ![0, 1] bcast_S1x1024_S256x1024_0_1 (broadcastInDim S1x1024 ![1] bcast_S1024_S1x1024_1 g)))) (constant S_ .f32 0x00000000#32) reducesTo_S256x1024_S256_d1 h_S_) shapeCasts_S256_S256x1) (mulf (broadcastInDim S256x1 ![] bcast_S_S256x1 (constant S_ .f32 0xBF000000#32)) (Host.divf (Host.rsqrt (addf (Host.divf (broadcastInDim S256x1 ![0] bcast_S256_S256x1_0 (Host.reduceAdd (mulf x x) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))) (addf (Host.divf (broadcastInDim S256x1 ![0] bcast_S256_S256x1_0 (Host.reduceAdd (mulf x x) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (broadcastInDim S256x1 ![] bcast_S_S256x1 (constant S_ .f32 0x44800000#32))) (constant S_ .f32 0x00000000#32) reducesTo_S256x1_S256_d1 h_S_)) x) = wholeX x g u := by
  funext i
  obtain ⟨a, b, rfl⟩ := ix2_of i
  show _ = Cert.RmsBwdValue.slope (fun k => x (ix2 a k)) (fun k => g (ix1 k)) (fun k => u (ix2 a k)) b
  unfold Cert.RmsBwdValue.slope share square
  pointwise
  simp only [Finset.univ_unique, Finset.sum_singleton]

theorem reference_gain :
    shapeCast _ (Host.reduceAdd (shapeCast _ (Host.reduceAdd (mulf (mulf x (broadcastInDim S256x1024 ![0, 1] bcast_S256x1_S256x1024_0_1 (Host.rsqrt (addf (Host.divf (broadcastInDim S256x1 ![0] bcast_S256_S256x1_0 (Host.reduceAdd (mulf x x) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) u) (constant S_ .f32 0x00000000#32) reducesTo_S256x1024_S1024_d0 h_S_) shapeCasts_S1024_S1x1024) (constant S_ .f32 0x00000000#32) reducesTo_S1x1024_S1024_d0 h_S_) shapeCasts_S1024_S1x1024 = wholeG x u := by
  funext i
  obtain ⟨a, b, rfl⟩ := ix2_of i
  obtain rfl : a = 0 := Subsingleton.elim _ _
  show _ = ∑ a : Fin 256, weigh (fun k => x (ix2 a k)) (fun k => u (ix2 a k)) b
  unfold weigh square
  pointwise
  simp only [Finset.univ_unique, Finset.sum_singleton]

end

/-! ## The claims -/

theorem frame_refRmsMem [Cert.RefRmsMemIdeal.Facts] : Cert.quiescent_RefRmsMemIdeal := fun m ρ _ =>
  (θ_run Cert.RefRmsMemIdeal.defs _ _).mono (fun r h => ⟨fun c => (h c).2, sem_eq_zero_of_no_sems (by decide) r.2⟩)
    (Cert.RefRmsMemIdeal.Value.run m ρ)

theorem frame_refRmsMemBwd [Cert.RefRmsMemBwdIdeal.Facts] : Cert.quiescent_RefRmsMemBwdIdeal := fun m ρ _ =>
  (θ_run Cert.RefRmsMemBwdIdeal.defs _ _).mono (fun r h => ⟨fun c => (h c).2.2, sem_eq_zero_of_no_sems (by decide) r.2⟩)
    (Cert.RefRmsMemBwdIdeal.Value.run m ρ)

theorem rmsMem [Cert.RmsMemIdeal.Facts] [Cert.RefRmsMemIdeal.Facts] : Cert.algebraic_RmsMemIdeal_RefRmsMemIdeal := fun m g m' g' _ hm => by
  refine ⟨fun c => whole (Norm.X m c) (Norm.G m c),
    (θ_run Cert.RmsMemIdeal.defs _ _).mono (fun r h c => ⟨(h c).1.trans (Norm.result m c), (h c).2⟩) (Cert.RmsMemIdeal.Value.run_blocks m g),
    (θ_run Cert.RefRmsMemIdeal.defs _ _).mono (fun r h c => ⟨(h c).1.trans ?_, (h c).2⟩) (Cert.RefRmsMemIdeal.Value.run m' g')⟩
  obtain ⟨e0, e1⟩ := hm c
  rw [e0, e1]
  exact reference _ _

theorem rmsMemBwd [Cert.RmsMemBwdIdeal.Facts] [Cert.RefRmsMemBwdIdeal.Facts] : Cert.algebraic_RmsMemBwdIdeal_RefRmsMemBwdIdeal := fun m g m' g' _ hm => by
  refine ⟨fun c => wholeX (Grad.X m c) (Grad.G m c) (Grad.U m c), fun c => wholeG (Grad.X m c) (Grad.U m c),
    (θ_run Cert.RmsMemBwdIdeal.defs _ _).mono (fun r h c => ⟨(h c).1.trans (Grad.result m c), (h c).2.1.trans (Grad.result_gain m c), (h c).2.2⟩)
      (Cert.RmsMemBwdIdeal.Value.run_blocks m g),
    (θ_run Cert.RefRmsMemBwdIdeal.defs _ _).mono (fun r h c => ⟨(h c).1.trans ?_, (h c).2.1.trans ?_, (h c).2.2⟩) (Cert.RefRmsMemBwdIdeal.Value.run m' g')⟩
  · obtain ⟨e0, e1, e2⟩ := hm c
    rw [e0, e1, e2]
    exact reference_rows _ _ _
  · obtain ⟨e0, e1, e2⟩ := hm c
    rw [e0, e2]
    exact reference_gain _ _

end Cert.Memory

end
-- ==== Proof.Adam.lean ====
/-
  One AdamW step of the small parameters, at each of their shapes. The step works entry by entry and is one block at one
  point, so the call's closed form is the reference's term read at an entry.
-/
module

public import proofs.«01_k».proof.Proof.Gen.AdamGainIdeal.Value
public import proofs.«01_k».proof.Proof.Gen.RefAdamGainIdeal.Run
public import proofs.«01_k».proof.Proof.Gen.AdamHeadsIdeal.Value
public import proofs.«01_k».proof.Proof.Gen.RefAdamHeadsIdeal.Run
public import proofs.«01_k».proof.Proof.Gen.AdamHeadIdeal.Value
public import proofs.«01_k».proof.Proof.Gen.RefAdamHeadIdeal.Run
public import proofs.«01_k».proof.Proof.Gen.AdamCrossIdeal.Value
public import proofs.«01_k».proof.Proof.Gen.RefAdamCrossIdeal.Run
public import proofs.«01_k».proof.Proof.Gen.AdamSinksIdeal.Value
public import proofs.«01_k».proof.Proof.Gen.RefAdamSinksIdeal.Run
public import proofs.«01_k».proof.Proof.Gen.AdamTableIdeal.Value
public import proofs.«01_k».proof.Proof.Gen.RefAdamTableIdeal.Run
public import proofs.«01_k».proof.Proof.Gen.AdamInnerIdeal.Value
public import proofs.«01_k».proof.Proof.Gen.RefAdamInnerIdeal.Run
public import proofs.«01_k».proof.Proof.Gen.AdamBiasIdeal.Value
public import proofs.«01_k».proof.Proof.Gen.RefAdamBiasIdeal.Run
public import proofs.«01_k».proof.Proof.Gen.AdamGatesIdeal.Value
public import proofs.«01_k».proof.Proof.Gen.RefAdamGatesIdeal.Run
public import proofs.«01_k».proof.Proof.Gen.AdamTapsIdeal.Value
public import proofs.«01_k».proof.Proof.Gen.RefAdamTapsIdeal.Run
public import proofs.«01_k».proof.Proof.Gen.AdamFourIdeal.Value
public import proofs.«01_k».proof.Proof.Gen.RefAdamFourIdeal.Run
public import proofs.«01_k».proof.Defs
public import Idealize.ShloMosaic.Lib.Claim
public import Idealize.ShloMosaic.Adequacy
public import Idealize.ShloMosaic.Init

@[expose] public section

set_option maxRecDepth 16384

noncomputable section

namespace Cert.Adam

open Idealize.ShloMosaic Idealize.ShloMosaic.TcCoe Idealize.ShloMosaic.Tactic Idealize.SL.Sem

/-! ## 4 x 1024 -/

theorem frame_refAdamGain [Cert.RefAdamGainIdeal.Facts] : Cert.quiescent_RefAdamGainIdeal := fun m ρ _ =>
  (θ_run Cert.RefAdamGainIdeal.defs _ _).mono (fun r h => ⟨fun c => (h c).2.2.2, sem_eq_zero_of_no_sems (by decide) r.2⟩)
    (Cert.RefAdamGainIdeal.Value.run m ρ)

theorem adamGain [Cert.AdamGainIdeal.Facts] [Cert.RefAdamGainIdeal.Facts] : Cert.algebraic_AdamGainIdeal_RefAdamGainIdeal := fun m g m' g' _ hm => by
  refine ⟨_, _, _, Cert.AdamGainIdeal.Value.run m g,
    (θ_run Cert.RefAdamGainIdeal.defs _ _).mono (fun r h c => ⟨(h c).1.trans ?_, (h c).2.1.trans ?_, (h c).2.2.1.trans ?_, (h c).2.2.2⟩)
      (Cert.RefAdamGainIdeal.Value.run m' g')⟩
  all_goals
    obtain ⟨e0, e1, e2, e3⟩ := hm c
    simp only [e0, e1, e2, e3]
    rfl

/-! ## 4 x 32 -/

theorem frame_refAdamHeads [Cert.RefAdamHeadsIdeal.Facts] : Cert.quiescent_RefAdamHeadsIdeal := fun m ρ _ =>
  (θ_run Cert.RefAdamHeadsIdeal.defs _ _).mono (fun r h => ⟨fun c => (h c).2.2.2, sem_eq_zero_of_no_sems (by decide) r.2⟩)
    (Cert.RefAdamHeadsIdeal.Value.run m ρ)

theorem adamHeads [Cert.AdamHeadsIdeal.Facts] [Cert.RefAdamHeadsIdeal.Facts] : Cert.algebraic_AdamHeadsIdeal_RefAdamHeadsIdeal := fun m g m' g' _ hm => by
  refine ⟨_, _, _, Cert.AdamHeadsIdeal.Value.run m g,
    (θ_run Cert.RefAdamHeadsIdeal.defs _ _).mono (fun r h c => ⟨(h c).1.trans ?_, (h c).2.1.trans ?_, (h c).2.2.1.trans ?_, (h c).2.2.2⟩)
      (Cert.RefAdamHeadsIdeal.Value.run m' g')⟩
  all_goals
    obtain ⟨e0, e1, e2, e3⟩ := hm c
    simp only [e0, e1, e2, e3]
    rfl

/-! ## 4 x 64 -/

theorem frame_refAdamHead [Cert.RefAdamHeadIdeal.Facts] : Cert.quiescent_RefAdamHeadIdeal := fun m ρ _ =>
  (θ_run Cert.RefAdamHeadIdeal.defs _ _).mono (fun r h => ⟨fun c => (h c).2.2.2, sem_eq_zero_of_no_sems (by decide) r.2⟩)
    (Cert.RefAdamHeadIdeal.Value.run m ρ)

theorem adamHead [Cert.AdamHeadIdeal.Facts] [Cert.RefAdamHeadIdeal.Facts] : Cert.algebraic_AdamHeadIdeal_RefAdamHeadIdeal := fun m g m' g' _ hm => by
  refine ⟨_, _, _, Cert.AdamHeadIdeal.Value.run m g,
    (θ_run Cert.RefAdamHeadIdeal.defs _ _).mono (fun r h c => ⟨(h c).1.trans ?_, (h c).2.1.trans ?_, (h c).2.2.1.trans ?_, (h c).2.2.2⟩)
      (Cert.RefAdamHeadIdeal.Value.run m' g')⟩
  all_goals
    obtain ⟨e0, e1, e2, e3⟩ := hm c
    simp only [e0, e1, e2, e3]
    rfl

/-! ## 4 x 256 -/

theorem frame_refAdamCross [Cert.RefAdamCrossIdeal.Facts] : Cert.quiescent_RefAdamCrossIdeal := fun m ρ _ =>
  (θ_run Cert.RefAdamCrossIdeal.defs _ _).mono (fun r h => ⟨fun c => (h c).2.2.2, sem_eq_zero_of_no_sems (by decide) r.2⟩)
    (Cert.RefAdamCrossIdeal.Value.run m ρ)

theorem adamCross [Cert.AdamCrossIdeal.Facts] [Cert.RefAdamCrossIdeal.Facts] : Cert.algebraic_AdamCrossIdeal_RefAdamCrossIdeal := fun m g m' g' _ hm => by
  refine ⟨_, _, _, Cert.AdamCrossIdeal.Value.run m g,
    (θ_run Cert.RefAdamCrossIdeal.defs _ _).mono (fun r h c => ⟨(h c).1.trans ?_, (h c).2.1.trans ?_, (h c).2.2.1.trans ?_, (h c).2.2.2⟩)
      (Cert.RefAdamCrossIdeal.Value.run m' g')⟩
  all_goals
    obtain ⟨e0, e1, e2, e3⟩ := hm c
    simp only [e0, e1, e2, e3]
    rfl

/-! ## 4 x 16 -/

theorem frame_refAdamSinks [Cert.RefAdamSinksIdeal.Facts] : Cert.quiescent_RefAdamSinksIdeal := fun m ρ _ =>
  (θ_run Cert.RefAdamSinksIdeal.defs _ _).mono (fun r h => ⟨fun c => (h c).2.2.2, sem_eq_zero_of_no_sems (by decide) r.2⟩)
    (Cert.RefAdamSinksIdeal.Value.run m ρ)

theorem adamSinks [Cert.AdamSinksIdeal.Facts] [Cert.RefAdamSinksIdeal.Facts] : Cert.algebraic_AdamSinksIdeal_RefAdamSinksIdeal := fun m g m' g' _ hm => by
  refine ⟨_, _, _, Cert.AdamSinksIdeal.Value.run m g,
    (θ_run Cert.RefAdamSinksIdeal.defs _ _).mono (fun r h c => ⟨(h c).1.trans ?_, (h c).2.1.trans ?_, (h c).2.2.1.trans ?_, (h c).2.2.2⟩)
      (Cert.RefAdamSinksIdeal.Value.run m' g')⟩
  all_goals
    obtain ⟨e0, e1, e2, e3⟩ := hm c
    simp only [e0, e1, e2, e3]
    rfl

/-! ## 32 x 16 -/

theorem frame_refAdamTable [Cert.RefAdamTableIdeal.Facts] : Cert.quiescent_RefAdamTableIdeal := fun m ρ _ =>
  (θ_run Cert.RefAdamTableIdeal.defs _ _).mono (fun r h => ⟨fun c => (h c).2.2.2, sem_eq_zero_of_no_sems (by decide) r.2⟩)
    (Cert.RefAdamTableIdeal.Value.run m ρ)

theorem adamTable [Cert.AdamTableIdeal.Facts] [Cert.RefAdamTableIdeal.Facts] : Cert.algebraic_AdamTableIdeal_RefAdamTableIdeal := fun m g m' g' _ hm => by
  refine ⟨_, _, _, Cert.AdamTableIdeal.Value.run m g,
    (θ_run Cert.RefAdamTableIdeal.defs _ _).mono (fun r h c => ⟨(h c).1.trans ?_, (h c).2.1.trans ?_, (h c).2.2.1.trans ?_, (h c).2.2.2⟩)
      (Cert.RefAdamTableIdeal.Value.run m' g')⟩
  all_goals
    obtain ⟨e0, e1, e2, e3⟩ := hm c
    simp only [e0, e1, e2, e3]
    rfl

/-! ## 4 x 2048 -/

theorem frame_refAdamInner [Cert.RefAdamInnerIdeal.Facts] : Cert.quiescent_RefAdamInnerIdeal := fun m ρ _ =>
  (θ_run Cert.RefAdamInnerIdeal.defs _ _).mono (fun r h => ⟨fun c => (h c).2.2.2, sem_eq_zero_of_no_sems (by decide) r.2⟩)
    (Cert.RefAdamInnerIdeal.Value.run m ρ)

theorem adamInner [Cert.AdamInnerIdeal.Facts] [Cert.RefAdamInnerIdeal.Facts] : Cert.algebraic_AdamInnerIdeal_RefAdamInnerIdeal := fun m g m' g' _ hm => by
  refine ⟨_, _, _, Cert.AdamInnerIdeal.Value.run m g,
    (θ_run Cert.RefAdamInnerIdeal.defs _ _).mono (fun r h c => ⟨(h c).1.trans ?_, (h c).2.1.trans ?_, (h c).2.2.1.trans ?_, (h c).2.2.2⟩)
      (Cert.RefAdamInnerIdeal.Value.run m' g')⟩
  all_goals
    obtain ⟨e0, e1, e2, e3⟩ := hm c
    simp only [e0, e1, e2, e3]
    rfl

/-! ## 4 x 3072 -/

theorem frame_refAdamBias [Cert.RefAdamBiasIdeal.Facts] : Cert.quiescent_RefAdamBiasIdeal := fun m ρ _ =>
  (θ_run Cert.RefAdamBiasIdeal.defs _ _).mono (fun r h => ⟨fun c => (h c).2.2.2, sem_eq_zero_of_no_sems (by decide) r.2⟩)
    (Cert.RefAdamBiasIdeal.Value.run m ρ)

theorem adamBias [Cert.AdamBiasIdeal.Facts] [Cert.RefAdamBiasIdeal.Facts] : Cert.algebraic_AdamBiasIdeal_RefAdamBiasIdeal := fun m g m' g' _ hm => by
  refine ⟨_, _, _, Cert.AdamBiasIdeal.Value.run m g,
    (θ_run Cert.RefAdamBiasIdeal.defs _ _).mono (fun r h c => ⟨(h c).1.trans ?_, (h c).2.1.trans ?_, (h c).2.2.1.trans ?_, (h c).2.2.2⟩)
      (Cert.RefAdamBiasIdeal.Value.run m' g')⟩
  all_goals
    obtain ⟨e0, e1, e2, e3⟩ := hm c
    simp only [e0, e1, e2, e3]
    rfl

/-! ## 12 x 256 -/

theorem frame_refAdamGates [Cert.RefAdamGatesIdeal.Facts] : Cert.quiescent_RefAdamGatesIdeal := fun m ρ _ =>
  (θ_run Cert.RefAdamGatesIdeal.defs _ _).mono (fun r h => ⟨fun c => (h c).2.2.2, sem_eq_zero_of_no_sems (by decide) r.2⟩)
    (Cert.RefAdamGatesIdeal.Value.run m ρ)

theorem adamGates [Cert.AdamGatesIdeal.Facts] [Cert.RefAdamGatesIdeal.Facts] : Cert.algebraic_AdamGatesIdeal_RefAdamGatesIdeal := fun m g m' g' _ hm => by
  refine ⟨_, _, _, Cert.AdamGatesIdeal.Value.run m g,
    (θ_run Cert.RefAdamGatesIdeal.defs _ _).mono (fun r h c => ⟨(h c).1.trans ?_, (h c).2.1.trans ?_, (h c).2.2.1.trans ?_, (h c).2.2.2⟩)
      (Cert.RefAdamGatesIdeal.Value.run m' g')⟩
  all_goals
    obtain ⟨e0, e1, e2, e3⟩ := hm c
    simp only [e0, e1, e2, e3]
    rfl

/-! ## 124 x 256 -/

theorem frame_refAdamTaps [Cert.RefAdamTapsIdeal.Facts] : Cert.quiescent_RefAdamTapsIdeal := fun m ρ _ =>
  (θ_run Cert.RefAdamTapsIdeal.defs _ _).mono (fun r h => ⟨fun c => (h c).2.2.2, sem_eq_zero_of_no_sems (by decide) r.2⟩)
    (Cert.RefAdamTapsIdeal.Value.run m ρ)

theorem adamTaps [Cert.AdamTapsIdeal.Facts] [Cert.RefAdamTapsIdeal.Facts] : Cert.algebraic_AdamTapsIdeal_RefAdamTapsIdeal := fun m g m' g' _ hm => by
  refine ⟨_, _, _, Cert.AdamTapsIdeal.Value.run m g,
    (θ_run Cert.RefAdamTapsIdeal.defs _ _).mono (fun r h c => ⟨(h c).1.trans ?_, (h c).2.1.trans ?_, (h c).2.2.1.trans ?_, (h c).2.2.2⟩)
      (Cert.RefAdamTapsIdeal.Value.run m' g')⟩
  all_goals
    obtain ⟨e0, e1, e2, e3⟩ := hm c
    simp only [e0, e1, e2, e3]
    rfl

/-! ## 16 x 768 -/

theorem frame_refAdamFour [Cert.RefAdamFourIdeal.Facts] : Cert.quiescent_RefAdamFourIdeal := fun m ρ _ =>
  (θ_run Cert.RefAdamFourIdeal.defs _ _).mono (fun r h => ⟨fun c => (h c).2.2.2, sem_eq_zero_of_no_sems (by decide) r.2⟩)
    (Cert.RefAdamFourIdeal.Value.run m ρ)

theorem adamFour [Cert.AdamFourIdeal.Facts] [Cert.RefAdamFourIdeal.Facts] : Cert.algebraic_AdamFourIdeal_RefAdamFourIdeal := fun m g m' g' _ hm => by
  refine ⟨_, _, _, Cert.AdamFourIdeal.Value.run m g,
    (θ_run Cert.RefAdamFourIdeal.defs _ _).mono (fun r h c => ⟨(h c).1.trans ?_, (h c).2.1.trans ?_, (h c).2.2.1.trans ?_, (h c).2.2.2⟩)
      (Cert.RefAdamFourIdeal.Value.run m' g')⟩
  all_goals
    obtain ⟨e0, e1, e2, e3⟩ := hm c
    simp only [e0, e1, e2, e3]
    rfl

end Cert.Adam

end
-- ==== Proof.Layers.lean ====
/-
  One AdamW step of a large weight, all layers. A block takes the rows of its layer's gradient out of that layer's array, so the
  gradient the call works with is the four arrays' rows, one layer above the other, as in the reference; the rest is entry by entry.
-/
module

public import proofs.«01_k».proof.Proof.Gen.AdamXqIdeal.Value
public import proofs.«01_k».proof.Proof.Gen.RefAdamXqIdeal.Run
public import proofs.«01_k».proof.Proof.Gen.AdamConvOutIdeal.Value
public import proofs.«01_k».proof.Proof.Gen.RefAdamConvOutIdeal.Run
public import proofs.«01_k».proof.Proof.Gen.AdamAttnOutIdeal.Value
public import proofs.«01_k».proof.Proof.Gen.RefAdamAttnOutIdeal.Run
public import proofs.«01_k».proof.Proof.Gen.AdamMixOutIdeal.Value
public import proofs.«01_k».proof.Proof.Gen.RefAdamMixOutIdeal.Run
public import proofs.«01_k».proof.Proof.Gen.AdamXoIdeal.Value
public import proofs.«01_k».proof.Proof.Gen.RefAdamXoIdeal.Run
public import proofs.«01_k».proof.Proof.Gen.AdamSsdOutIdeal.Value
public import proofs.«01_k».proof.Proof.Gen.RefAdamSsdOutIdeal.Run
public import proofs.«01_k».proof.Proof.Gen.AdamMlpUpIdeal.Value
public import proofs.«01_k».proof.Proof.Gen.RefAdamMlpUpIdeal.Run
public import proofs.«01_k».proof.Proof.Gen.AdamMlpDownIdeal.Value
public import proofs.«01_k».proof.Proof.Gen.RefAdamMlpDownIdeal.Run
public import proofs.«01_k».proof.Proof.Gen.AdamXkvIdeal.Value
public import proofs.«01_k».proof.Proof.Gen.RefAdamXkvIdeal.Run
public import proofs.«01_k».proof.Proof.Blocked
public import proofs.«01_k».proof.Defs
public import Idealize.ShloMosaic.Lib.Claim
public import Idealize.ShloMosaic.Adequacy
public import Idealize.ShloMosaic.Init

@[expose] public section

set_option maxRecDepth 16384

noncomputable section

namespace Cert.Layers

open Idealize.ShloMosaic Idealize.ShloMosaic.TcCoe Idealize.ShloMosaic.Tactic Idealize.SL.Sem
open Cert.Lift Cert.Blocked

/-- The new mean of the gradients. -/
def mean (g m : EReal) : EReal :=
  FloatOps.addf (F := Ideal) (φ := .f32) (FloatOps.mulf (Scalar.ofBits .f32 0x3F666666#32) m) (FloatOps.mulf (Scalar.ofBits .f32 0x3DCCCCCD#32) g)

/-- The new mean of their squares. -/
def spread (g v : EReal) : EReal :=
  FloatOps.addf (F := Ideal) (φ := .f32) (FloatOps.mulf (Scalar.ofBits .f32 0x3F7FBE77#32) v)
    (FloatOps.mulf (Scalar.ofBits .f32 0x3A83126F#32) (FloatOps.mulf (F := Ideal) (φ := .f32) g g))

/-- What is added to a parameter. -/
def delta (w g m v : EReal) : EReal :=
  FloatOps.mulf (F := Ideal) (φ := .f32) (Scalar.ofBits .f32 0xBA83126F#32)
    (FloatOps.addf
      (FloatOps.divf (FloatOps.divf (F := Ideal) (φ := .f32) (mean g m) (Scalar.ofBits .f32 0x3F26BD02#32))
        (FloatOps.addf (FloatOps.sqrt (FloatOps.divf (F := Ideal) (φ := .f32) (spread g v) (Scalar.ofBits .f32 0x3C231ACC#32)))
          (Scalar.ofBits .f32 0x322BCC77#32)))
      (FloatOps.mulf (Scalar.ofBits .f32 0x3C23D70A#32) w))

section
variable {S C R n0 n1 n2 : ℕ}

/-- The gradient's entry in a layer: that layer's array, `r0` rows down. -/
def pick (r0 : ℕ) (G0 G1 G2 G3 : FVec Ideal ⟨2, ![S, C]⟩ .f32) (l r b : ℕ) : EReal :=
  if l = 3 then cell G3 (r0 + r) b else if l = 2 then cell G2 (r0 + r) b else if l = 1 then cell G1 (r0 + r) b else cell G0 (r0 + r) b

/-- The layers' gradients, one above the other. -/
def stack (r0 R : ℕ) (G0 G1 G2 G3 : FVec Ideal ⟨2, ![S, C]⟩ .f32) : FVec Ideal ⟨3, ![4, R, C]⟩ .f32 :=
  fun i => pick r0 G0 G1 G2 G3 (i 0).val (i 1).val (i 2).val

def means (G M : FVec Ideal ⟨3, ![n0, n1, n2]⟩ .f32) : FVec Ideal ⟨3, ![n0, n1, n2]⟩ .f32 := fun i => mean (G i) (M i)
def spreads (G V : FVec Ideal ⟨3, ![n0, n1, n2]⟩ .f32) : FVec Ideal ⟨3, ![n0, n1, n2]⟩ .f32 := fun i => spread (G i) (V i)
def deltas (W G M V : FVec Ideal ⟨3, ![n0, n1, n2]⟩ .f32) : FVec Ideal ⟨3, ![n0, n1, n2]⟩ .f32 := fun i => delta (W i) (G i) (M i) (V i)

/-- An index lies in a block of one layer, `T` rows and `C` columns. -/
theorem inside {R T C : ℕ} (f : Fin 3 → ℕ) (i : (⟨3, ![4, R, C]⟩ : Shape).Idx) (h0 : f 0 = (i 0).val) (h1 : f 1 = (i 1).val / T) (h2 : f 2 = 0)
    (hT : 0 < T) (a : Fin 3) : f a * (![1, T, C] : Fin 3 → ℕ) a ≤ (i a).val ∧ (i a).val < f a * (![1, T, C] : Fin 3 → ℕ) a + (![1, T, C] : Fin 3 → ℕ) a := by
  match a with
  | ⟨0, _⟩ => show f 0 * 1 ≤ (i 0).val ∧ (i 0).val < f 0 * 1 + 1
              rw [h0]; omega
  | ⟨1, _⟩ => show f 1 * T ≤ (i 1).val ∧ (i 1).val < f 1 * T + T
              rw [h1]; exact ⟨Nat.div_mul_le_self _ _, Nat.lt_div_mul_add hT⟩
  | ⟨2, _⟩ => show f 2 * C ≤ (i 2).val ∧ (i 2).val < f 2 * C + C
              rw [h2]; have h : (i 2).val < C := (i 2).isLt; omega

end

/-- A block's contents, entry by entry. -/
theorem entries {T C : ℕ} {f g : (⟨3, ![1, T, C]⟩ : Shape).Idx → EReal} (h : ∀ (a : Fin T) (b : Fin C), f (ix3 0 a b) = g (ix3 0 a b)) : f = g :=
  funext fun j => by
    obtain ⟨o, a, b, rfl⟩ := ix3_of j
    obtain rfl : o = 0 := Subsingleton.elim _ _
    exact h a b

/-- One of the four layers. -/
theorem choose {α : Type} (l : ℕ) (h : l < 4) (x y z w : α) :
    Scalar.select (Scalar.cmpi .eq (BitVec.ofNat 32 l) 3#32) w (Scalar.select (Scalar.cmpi .eq (BitVec.ofNat 32 l) 2#32) z
      (Scalar.select (Scalar.cmpi .eq (BitVec.ofNat 32 l) 1#32) y x)) = if l = 3 then w else if l = 2 then z else if l = 1 then y else x := by
  interval_cases l <;> rfl

theorem origin2 : (![0, 0] : Fin 2 → ℕ) = fun _ => 0 := by decide
theorem origin3 : (![0, 0, 0] : Fin 3 → ℕ) = fun _ => 0 := by decide

/-! ## adamXq -/

namespace AdamXq

section
open Cert.AdamXqIdeal Cert.AdamXqIdeal.Gen Cert.AdamXqIdeal.Value

section
variable (i : grid0.Coords) (x0 x1 x2 : FVec Ideal S1x256x1024 .f32) (x3 x4 x5 x6 : FVec Ideal S256x1024 .f32) (a : Fin 256) (b : Fin 1024)

theorem bodies : out0_7 (F := Ideal) i x0 x1 x2 x3 x4 x5 x6 (ix3 0 a b) = k0_pay4 (F := Ideal) i x3 x4 x5 x6 (ix2 a b) ∧
    out0_8 (F := Ideal) i x0 x1 x2 x3 x4 x5 x6 (ix3 0 a b)
      = delta (x0 (ix3 0 a b)) (k0_pay4 (F := Ideal) i x3 x4 x5 x6 (ix2 a b)) (x1 (ix3 0 a b)) (x2 (ix3 0 a b)) ∧
    out0_9 (F := Ideal) i x0 x1 x2 x3 x4 x5 x6 (ix3 0 a b) = mean (k0_pay4 (F := Ideal) i x3 x4 x5 x6 (ix2 a b)) (x1 (ix3 0 a b)) ∧
    out0_10 (F := Ideal) i x0 x1 x2 x3 x4 x5 x6 (ix3 0 a b) = spread (k0_pay4 (F := Ideal) i x3 x4 x5 x6 (ix2 a b)) (x2 (ix3 0 a b)) := by
  unfold out0_7 out0_8 out0_9 out0_10
  simp only [View.canon_unit_zero (S := S1x256x1024) origin3, View.ld_unit_zero (S := S256x1024) origin2, View.ld_unit_zero (S := S1x256x1024) origin3]
  unfold k0_pay1 k0_pay2 k0_pay3 k0_pay7 k0_pay8 k0_pay9 k0_pay5 k0_pay6 delta mean spread
  generalize k0_pay4 (F := Ideal) i x3 x4 x5 x6 = g
  refine ⟨?_, ?_, ?_, ?_⟩ <;> pointwise

end

variable (m : (ℓ : Loc nD τ sig) → Buf (Elt Ideal) ℓ) (c : Dev nD)

abbrev A (k : Fin 3) : FVec Ideal ⟨3, ![4, 256, 1024]⟩ .f32 :=
  match k with
  | 0 => m ((c : Thread nD τ).loc main_arg0)
  | 1 => m ((c : Thread nD τ).loc main_arg1)
  | 2 => m ((c : Thread nD τ).loc main_arg2)

abbrev G (k : Fin 4) : FVec Ideal ⟨2, ![3840, 1024]⟩ .f32 :=
  match k with
  | 0 => m ((c : Thread nD τ).loc main_arg3)
  | 1 => m ((c : Thread nD τ).loc main_arg4)
  | 2 => m ((c : Thread nD τ).loc main_arg5)
  | 3 => m ((c : Thread nD τ).loc main_arg6)

abbrev ST : FVec Ideal ⟨3, ![4, 256, 1024]⟩ .f32 := stack 1280 256 (G m c 0) (G m c 1) (G m c 2) (G m c 3)

theorem at7 : ∀ t : Fin grid0.N, win0_7.index t 0 = t.val / 1 ∧ win0_7.index t 1 = t.val % 1 ∧ win0_7.index t 2 = 0 := by decide +kernel
theorem layer : ∀ t : Fin grid0.N, (grid0.coords t 0).val = t.val / 1 := by decide +kernel
theorem at3 : ∀ t : Fin grid0.N, (t.val / 1 = 0 → win0_3.index t 0 = 5 + t.val % 1) ∧ win0_3.index t 1 = 0 := by decide +kernel
theorem at4 : ∀ t : Fin grid0.N, (t.val / 1 = 1 → win0_4.index t 0 = 5 + t.val % 1) ∧ win0_4.index t 1 = 0 := by decide +kernel
theorem at5 : ∀ t : Fin grid0.N, (t.val / 1 = 2 → win0_5.index t 0 = 5 + t.val % 1) ∧ win0_5.index t 1 = 0 := by decide +kernel
theorem at6 : ∀ t : Fin grid0.N, (t.val / 1 = 3 → win0_6.index t 0 = 5 + t.val % 1) ∧ win0_6.index t 1 = 0 := by decide +kernel

/-- Where a block's entry lies in the whole array. -/
abbrev place (t : Fin cfg0.N) (a : Fin 256) (b : Fin 1024) : (⟨3, ![4, 256, 1024]⟩ : Shape).Idx := ((cfg0.win 7).blk t).view.emb (ix3 0 a b)

theorem gradient (t : Fin cfg0.N) (a : Fin 256) (b : Fin 1024) :
    k0_pay4 (F := Ideal) (grid0.coords t) (iblk m c 3 t) (iblk m c 4 t) (iblk m c 5 t) (iblk m c 6 t) (ix2 a b) = ST m c (place t a b) := by
  have hl : t.val / 1 < 4 := by have hn : t.val < 4 := lt_of_lt_of_eq t.isLt N_0; omega
  have h0 : (place t a b 0).val = t.val / 1 := by show win0_7.index t 0 * 1 + 1 * 0 = _; rw [(at7 t).1]; omega
  have h1 : (place t a b 1).val = t.val % 1 * 256 + a.val := by show win0_7.index t 1 * 256 + 1 * a.val = _; rw [(at7 t).2.1]; omega
  have h2 : (place t a b 2).val = b.val := by show win0_7.index t 2 * 1024 + 1 * b.val = _; rw [(at7 t).2.2]; omega
  unfold k0_pay4 ST stack pick
  rw [h0, h1, h2]
  simp only [layer]
  rw [choose _ hl]
  split_ifs with e3 e2 e1
  · exact cell_eq (G m c 3) (((cfg0.win 6).blk t).view.emb (ix2 a b))
      (show win0_6.index t 0 * 256 + 1 * a.val = _ by rw [(at6 t).1 (by omega)]; omega) (show win0_6.index t 1 * 1024 + 1 * b.val = _ by rw [(at6 t).2]; omega)
  · exact cell_eq (G m c 2) (((cfg0.win 5).blk t).view.emb (ix2 a b))
      (show win0_5.index t 0 * 256 + 1 * a.val = _ by rw [(at5 t).1 (by omega)]; omega) (show win0_5.index t 1 * 1024 + 1 * b.val = _ by rw [(at5 t).2]; omega)
  · exact cell_eq (G m c 1) (((cfg0.win 4).blk t).view.emb (ix2 a b))
      (show win0_4.index t 0 * 256 + 1 * a.val = _ by rw [(at4 t).1 (by omega)]; omega) (show win0_4.index t 1 * 1024 + 1 * b.val = _ by rw [(at4 t).2]; omega)
  · exact cell_eq (G m c 0) (((cfg0.win 3).blk t).view.emb (ix2 a b))
      (show win0_3.index t 0 * 256 + 1 * a.val = _ by rw [(at3 t).1 (by omega)]; omega) (show win0_3.index t 1 * 1024 + 1 * b.val = _ by rw [(at3 t).2]; omega)

theorem covered (i : (⟨3, ![4, 256, 1024]⟩ : Shape).Idx) : ∃ t : Fin cfg0.N, i ∈ ((cfg0.win 7).blk t).view.set := by
  have h0 : (i 0 : Nat) < 4 := (i 0).isLt
  have h1 : (i 1 : Nat) < 256 := (i 1).isLt
  refine ⟨⟨(i 0).val * 1 + (i 1).val / 256, by rw [show cfg0.N = 4 from N_0]; omega⟩, ?_⟩
  generalize ht : (⟨(i 0).val * 1 + (i 1).val / 256, _⟩ : Fin cfg0.N) = t
  have hv : t.val = (i 0).val * 1 + (i 1).val / 256 := by rw [← ht]
  show i ∈ ((View.whole main_v0_0).slice (win0_7.rect t)).set
  rw [View.set_slice_whole, Rect.mem_set_unit]
  exact inside (R := 256) (T := 256) (C := 1024) (win0_7.index t) i (by rw [(at7 t).1]; omega) (by rw [(at7 t).2.1]; omega) (at7 t).2.2 (by omega)

theorem result_7 : (dats m 0 c).arrAt 7 cfg0.N = ST m c :=
  (dats m 0 c).arrAt_eq_of_cover 7 (ST m c) (fun t _ => (flushed7 m c t).trans (entries (T := 256) (C := 1024) fun a b =>
      (bodies (grid0.coords t) (iblk m c 0 t) (iblk m c 1 t) (iblk m c 2 t) _ _ _ _ a b).1.trans (by rw [gradient]; rfl)))
    fun i => (covered i).imp fun t ht => ⟨flush0_7 _, ht⟩

theorem result_8 : (dats m 0 c).arrAt 8 cfg0.N = deltas (A m c 0) (ST m c) (A m c 1) (A m c 2) :=
  (dats m 0 c).arrAt_eq_of_cover 8 (deltas (A m c 0) (ST m c) (A m c 1) (A m c 2)) (fun t _ => (flushed8 m c t).trans (entries (T := 256) (C := 1024) fun a b =>
      (bodies (grid0.coords t) (iblk m c 0 t) (iblk m c 1 t) (iblk m c 2 t) _ _ _ _ a b).2.1.trans (by rw [gradient]; rfl)))
    fun i => (covered i).imp fun t ht => ⟨flush0_8 _, ht⟩

theorem result_9 : (dats m 0 c).arrAt 9 cfg0.N = means (ST m c) (A m c 1) :=
  (dats m 0 c).arrAt_eq_of_cover 9 (means (ST m c) (A m c 1)) (fun t _ => (flushed9 m c t).trans (entries (T := 256) (C := 1024) fun a b =>
      (bodies (grid0.coords t) (iblk m c 0 t) (iblk m c 1 t) (iblk m c 2 t) _ _ _ _ a b).2.2.1.trans (by rw [gradient]; rfl)))
    fun i => (covered i).imp fun t ht => ⟨flush0_9 _, ht⟩

theorem result_10 : (dats m 0 c).arrAt 10 cfg0.N = spreads (ST m c) (A m c 2) :=
  (dats m 0 c).arrAt_eq_of_cover 10 (spreads (ST m c) (A m c 2)) (fun t _ => (flushed10 m c t).trans (entries (T := 256) (C := 1024) fun a b =>
      (bodies (grid0.coords t) (iblk m c 0 t) (iblk m c 1 t) (iblk m c 2 t) _ _ _ _ a b).2.2.2.trans (by rw [gradient]; rfl)))
    fun i => (covered i).imp fun t ht => ⟨flush0_10 _, ht⟩

end

section
open Cert.RefAdamXqIdeal Cert.RefAdamXqIdeal.Gen

theorem reference (g0 g1 g2 g3 : FVec Ideal ⟨2, ![3840, 1024]⟩ .f32) :
    (concatenate S4x256x1024 0 [⟨S1x256x1024, ((broadcastInDim S1x256x1024 ![1, 2] bcast_S256x1024_S1x256x1024_1_2 (extractStridedSlice S256x1024 ![1280, 0] g0 slices_S3840x1024_S256x1024_1280_0)) : (⟨S1x256x1024, .f32⟩ : BufTy).Contents (Elt Ideal))⟩, ⟨S1x256x1024, ((broadcastInDim S1x256x1024 ![1, 2] bcast_S256x1024_S1x256x1024_1_2 (extractStridedSlice S256x1024 ![1280, 0] g1 slices_S3840x1024_S256x1024_1280_0)) : (⟨S1x256x1024, .f32⟩ : BufTy).Contents (Elt Ideal))⟩, ⟨S1x256x1024, ((broadcastInDim S1x256x1024 ![1, 2] bcast_S256x1024_S1x256x1024_1_2 (extractStridedSlice S256x1024 ![1280, 0] g2 slices_S3840x1024_S256x1024_1280_0)) : (⟨S1x256x1024, .f32⟩ : BufTy).Contents (Elt Ideal))⟩, ⟨S1x256x1024, ((broadcastInDim S1x256x1024 ![1, 2] bcast_S256x1024_S1x256x1024_1_2 (extractStridedSlice S256x1024 ![1280, 0] g3 slices_S3840x1024_S256x1024_1280_0)) : (⟨S1x256x1024, .f32⟩ : BufTy).Contents (Elt Ideal))⟩] concatenates_S1x256x1024_S1x256x1024_S1x256x1024_S1x256x1024_S4x256x1024_d0 : (⟨S4x256x1024, .f32⟩ : BufTy).Contents (Elt Ideal)) = stack 1280 256 g0 g1 g2 g3 := by
  funext i
  obtain ⟨l, a, b, rfl⟩ := ix3_of i
  show _ = pick 1280 g0 g1 g2 g3 l.val a.val b.val
  unfold pick
  fin_cases l <;> pointwise <;> exact cell_eq _ _ rfl rfl

end

end AdamXq

/-! ## adamConvOut -/

namespace AdamConvOut

section
open Cert.AdamConvOutIdeal Cert.AdamConvOutIdeal.Gen Cert.AdamConvOutIdeal.Value

section
variable (i : grid0.Coords) (x0 x1 x2 : FVec Ideal S1x256x1024 .f32) (x3 x4 x5 x6 : FVec Ideal S256x1024 .f32) (a : Fin 256) (b : Fin 1024)

theorem bodies : out0_7 (F := Ideal) i x0 x1 x2 x3 x4 x5 x6 (ix3 0 a b) = k0_pay4 (F := Ideal) i x3 x4 x5 x6 (ix2 a b) ∧
    out0_8 (F := Ideal) i x0 x1 x2 x3 x4 x5 x6 (ix3 0 a b)
      = delta (x0 (ix3 0 a b)) (k0_pay4 (F := Ideal) i x3 x4 x5 x6 (ix2 a b)) (x1 (ix3 0 a b)) (x2 (ix3 0 a b)) ∧
    out0_9 (F := Ideal) i x0 x1 x2 x3 x4 x5 x6 (ix3 0 a b) = mean (k0_pay4 (F := Ideal) i x3 x4 x5 x6 (ix2 a b)) (x1 (ix3 0 a b)) ∧
    out0_10 (F := Ideal) i x0 x1 x2 x3 x4 x5 x6 (ix3 0 a b) = spread (k0_pay4 (F := Ideal) i x3 x4 x5 x6 (ix2 a b)) (x2 (ix3 0 a b)) := by
  unfold out0_7 out0_8 out0_9 out0_10
  simp only [View.canon_unit_zero (S := S1x256x1024) origin3, View.ld_unit_zero (S := S256x1024) origin2, View.ld_unit_zero (S := S1x256x1024) origin3]
  unfold k0_pay1 k0_pay2 k0_pay3 k0_pay7 k0_pay8 k0_pay9 k0_pay5 k0_pay6 delta mean spread
  generalize k0_pay4 (F := Ideal) i x3 x4 x5 x6 = g
  refine ⟨?_, ?_, ?_, ?_⟩ <;> pointwise

end

variable (m : (ℓ : Loc nD τ sig) → Buf (Elt Ideal) ℓ) (c : Dev nD)

abbrev A (k : Fin 3) : FVec Ideal ⟨3, ![4, 256, 1024]⟩ .f32 :=
  match k with
  | 0 => m ((c : Thread nD τ).loc main_arg0)
  | 1 => m ((c : Thread nD τ).loc main_arg1)
  | 2 => m ((c : Thread nD τ).loc main_arg2)

abbrev G (k : Fin 4) : FVec Ideal ⟨2, ![3840, 1024]⟩ .f32 :=
  match k with
  | 0 => m ((c : Thread nD τ).loc main_arg3)
  | 1 => m ((c : Thread nD τ).loc main_arg4)
  | 2 => m ((c : Thread nD τ).loc main_arg5)
  | 3 => m ((c : Thread nD τ).loc main_arg6)

abbrev ST : FVec Ideal ⟨3, ![4, 256, 1024]⟩ .f32 := stack 0 256 (G m c 0) (G m c 1) (G m c 2) (G m c 3)

theorem at7 : ∀ t : Fin grid0.N, win0_7.index t 0 = t.val / 1 ∧ win0_7.index t 1 = t.val % 1 ∧ win0_7.index t 2 = 0 := by decide +kernel
theorem layer : ∀ t : Fin grid0.N, (grid0.coords t 0).val = t.val / 1 := by decide +kernel
theorem at3 : ∀ t : Fin grid0.N, (t.val / 1 = 0 → win0_3.index t 0 = 0 + t.val % 1) ∧ win0_3.index t 1 = 0 := by decide +kernel
theorem at4 : ∀ t : Fin grid0.N, (t.val / 1 = 1 → win0_4.index t 0 = 0 + t.val % 1) ∧ win0_4.index t 1 = 0 := by decide +kernel
theorem at5 : ∀ t : Fin grid0.N, (t.val / 1 = 2 → win0_5.index t 0 = 0 + t.val % 1) ∧ win0_5.index t 1 = 0 := by decide +kernel
theorem at6 : ∀ t : Fin grid0.N, (t.val / 1 = 3 → win0_6.index t 0 = 0 + t.val % 1) ∧ win0_6.index t 1 = 0 := by decide +kernel

/-- Where a block's entry lies in the whole array. -/
abbrev place (t : Fin cfg0.N) (a : Fin 256) (b : Fin 1024) : (⟨3, ![4, 256, 1024]⟩ : Shape).Idx := ((cfg0.win 7).blk t).view.emb (ix3 0 a b)

theorem gradient (t : Fin cfg0.N) (a : Fin 256) (b : Fin 1024) :
    k0_pay4 (F := Ideal) (grid0.coords t) (iblk m c 3 t) (iblk m c 4 t) (iblk m c 5 t) (iblk m c 6 t) (ix2 a b) = ST m c (place t a b) := by
  have hl : t.val / 1 < 4 := by have hn : t.val < 4 := lt_of_lt_of_eq t.isLt N_0; omega
  have h0 : (place t a b 0).val = t.val / 1 := by show win0_7.index t 0 * 1 + 1 * 0 = _; rw [(at7 t).1]; omega
  have h1 : (place t a b 1).val = t.val % 1 * 256 + a.val := by show win0_7.index t 1 * 256 + 1 * a.val = _; rw [(at7 t).2.1]; omega
  have h2 : (place t a b 2).val = b.val := by show win0_7.index t 2 * 1024 + 1 * b.val = _; rw [(at7 t).2.2]; omega
  unfold k0_pay4 ST stack pick
  rw [h0, h1, h2]
  simp only [layer]
  rw [choose _ hl]
  split_ifs with e3 e2 e1
  · exact cell_eq (G m c 3) (((cfg0.win 6).blk t).view.emb (ix2 a b))
      (show win0_6.index t 0 * 256 + 1 * a.val = _ by rw [(at6 t).1 (by omega)]; omega) (show win0_6.index t 1 * 1024 + 1 * b.val = _ by rw [(at6 t).2]; omega)
  · exact cell_eq (G m c 2) (((cfg0.win 5).blk t).view.emb (ix2 a b))
      (show win0_5.index t 0 * 256 + 1 * a.val = _ by rw [(at5 t).1 (by omega)]; omega) (show win0_5.index t 1 * 1024 + 1 * b.val = _ by rw [(at5 t).2]; omega)
  · exact cell_eq (G m c 1) (((cfg0.win 4).blk t).view.emb (ix2 a b))
      (show win0_4.index t 0 * 256 + 1 * a.val = _ by rw [(at4 t).1 (by omega)]; omega) (show win0_4.index t 1 * 1024 + 1 * b.val = _ by rw [(at4 t).2]; omega)
  · exact cell_eq (G m c 0) (((cfg0.win 3).blk t).view.emb (ix2 a b))
      (show win0_3.index t 0 * 256 + 1 * a.val = _ by rw [(at3 t).1 (by omega)]; omega) (show win0_3.index t 1 * 1024 + 1 * b.val = _ by rw [(at3 t).2]; omega)

theorem covered (i : (⟨3, ![4, 256, 1024]⟩ : Shape).Idx) : ∃ t : Fin cfg0.N, i ∈ ((cfg0.win 7).blk t).view.set := by
  have h0 : (i 0 : Nat) < 4 := (i 0).isLt
  have h1 : (i 1 : Nat) < 256 := (i 1).isLt
  refine ⟨⟨(i 0).val * 1 + (i 1).val / 256, by rw [show cfg0.N = 4 from N_0]; omega⟩, ?_⟩
  generalize ht : (⟨(i 0).val * 1 + (i 1).val / 256, _⟩ : Fin cfg0.N) = t
  have hv : t.val = (i 0).val * 1 + (i 1).val / 256 := by rw [← ht]
  show i ∈ ((View.whole main_v0_0).slice (win0_7.rect t)).set
  rw [View.set_slice_whole, Rect.mem_set_unit]
  exact inside (R := 256) (T := 256) (C := 1024) (win0_7.index t) i (by rw [(at7 t).1]; omega) (by rw [(at7 t).2.1]; omega) (at7 t).2.2 (by omega)

theorem result_7 : (dats m 0 c).arrAt 7 cfg0.N = ST m c :=
  (dats m 0 c).arrAt_eq_of_cover 7 (ST m c) (fun t _ => (flushed7 m c t).trans (entries (T := 256) (C := 1024) fun a b =>
      (bodies (grid0.coords t) (iblk m c 0 t) (iblk m c 1 t) (iblk m c 2 t) _ _ _ _ a b).1.trans (by rw [gradient]; rfl)))
    fun i => (covered i).imp fun t ht => ⟨flush0_7 _, ht⟩

theorem result_8 : (dats m 0 c).arrAt 8 cfg0.N = deltas (A m c 0) (ST m c) (A m c 1) (A m c 2) :=
  (dats m 0 c).arrAt_eq_of_cover 8 (deltas (A m c 0) (ST m c) (A m c 1) (A m c 2)) (fun t _ => (flushed8 m c t).trans (entries (T := 256) (C := 1024) fun a b =>
      (bodies (grid0.coords t) (iblk m c 0 t) (iblk m c 1 t) (iblk m c 2 t) _ _ _ _ a b).2.1.trans (by rw [gradient]; rfl)))
    fun i => (covered i).imp fun t ht => ⟨flush0_8 _, ht⟩

theorem result_9 : (dats m 0 c).arrAt 9 cfg0.N = means (ST m c) (A m c 1) :=
  (dats m 0 c).arrAt_eq_of_cover 9 (means (ST m c) (A m c 1)) (fun t _ => (flushed9 m c t).trans (entries (T := 256) (C := 1024) fun a b =>
      (bodies (grid0.coords t) (iblk m c 0 t) (iblk m c 1 t) (iblk m c 2 t) _ _ _ _ a b).2.2.1.trans (by rw [gradient]; rfl)))
    fun i => (covered i).imp fun t ht => ⟨flush0_9 _, ht⟩

theorem result_10 : (dats m 0 c).arrAt 10 cfg0.N = spreads (ST m c) (A m c 2) :=
  (dats m 0 c).arrAt_eq_of_cover 10 (spreads (ST m c) (A m c 2)) (fun t _ => (flushed10 m c t).trans (entries (T := 256) (C := 1024) fun a b =>
      (bodies (grid0.coords t) (iblk m c 0 t) (iblk m c 1 t) (iblk m c 2 t) _ _ _ _ a b).2.2.2.trans (by rw [gradient]; rfl)))
    fun i => (covered i).imp fun t ht => ⟨flush0_10 _, ht⟩

end

section
open Cert.RefAdamConvOutIdeal Cert.RefAdamConvOutIdeal.Gen

theorem reference (g0 g1 g2 g3 : FVec Ideal ⟨2, ![3840, 1024]⟩ .f32) :
    (concatenate S4x256x1024 0 [⟨S1x256x1024, ((broadcastInDim S1x256x1024 ![1, 2] bcast_S256x1024_S1x256x1024_1_2 (extractStridedSlice S256x1024 ![0, 0] g0 slices_S3840x1024_S256x1024_0_0)) : (⟨S1x256x1024, .f32⟩ : BufTy).Contents (Elt Ideal))⟩, ⟨S1x256x1024, ((broadcastInDim S1x256x1024 ![1, 2] bcast_S256x1024_S1x256x1024_1_2 (extractStridedSlice S256x1024 ![0, 0] g1 slices_S3840x1024_S256x1024_0_0)) : (⟨S1x256x1024, .f32⟩ : BufTy).Contents (Elt Ideal))⟩, ⟨S1x256x1024, ((broadcastInDim S1x256x1024 ![1, 2] bcast_S256x1024_S1x256x1024_1_2 (extractStridedSlice S256x1024 ![0, 0] g2 slices_S3840x1024_S256x1024_0_0)) : (⟨S1x256x1024, .f32⟩ : BufTy).Contents (Elt Ideal))⟩, ⟨S1x256x1024, ((broadcastInDim S1x256x1024 ![1, 2] bcast_S256x1024_S1x256x1024_1_2 (extractStridedSlice S256x1024 ![0, 0] g3 slices_S3840x1024_S256x1024_0_0)) : (⟨S1x256x1024, .f32⟩ : BufTy).Contents (Elt Ideal))⟩] concatenates_S1x256x1024_S1x256x1024_S1x256x1024_S1x256x1024_S4x256x1024_d0 : (⟨S4x256x1024, .f32⟩ : BufTy).Contents (Elt Ideal)) = stack 0 256 g0 g1 g2 g3 := by
  funext i
  obtain ⟨l, a, b, rfl⟩ := ix3_of i
  show _ = pick 0 g0 g1 g2 g3 l.val a.val b.val
  unfold pick
  fin_cases l <;> pointwise <;> exact cell_eq _ _ rfl rfl

end

end AdamConvOut

/-! ## adamAttnOut -/

namespace AdamAttnOut

section
open Cert.AdamAttnOutIdeal Cert.AdamAttnOutIdeal.Gen Cert.AdamAttnOutIdeal.Value

section
variable (i : grid0.Coords) (x0 x1 x2 : FVec Ideal S1x256x1024 .f32) (x3 x4 x5 x6 : FVec Ideal S256x1024 .f32) (a : Fin 256) (b : Fin 1024)

theorem bodies : out0_7 (F := Ideal) i x0 x1 x2 x3 x4 x5 x6 (ix3 0 a b) = k0_pay4 (F := Ideal) i x3 x4 x5 x6 (ix2 a b) ∧
    out0_8 (F := Ideal) i x0 x1 x2 x3 x4 x5 x6 (ix3 0 a b)
      = delta (x0 (ix3 0 a b)) (k0_pay4 (F := Ideal) i x3 x4 x5 x6 (ix2 a b)) (x1 (ix3 0 a b)) (x2 (ix3 0 a b)) ∧
    out0_9 (F := Ideal) i x0 x1 x2 x3 x4 x5 x6 (ix3 0 a b) = mean (k0_pay4 (F := Ideal) i x3 x4 x5 x6 (ix2 a b)) (x1 (ix3 0 a b)) ∧
    out0_10 (F := Ideal) i x0 x1 x2 x3 x4 x5 x6 (ix3 0 a b) = spread (k0_pay4 (F := Ideal) i x3 x4 x5 x6 (ix2 a b)) (x2 (ix3 0 a b)) := by
  unfold out0_7 out0_8 out0_9 out0_10
  simp only [View.canon_unit_zero (S := S1x256x1024) origin3, View.ld_unit_zero (S := S256x1024) origin2, View.ld_unit_zero (S := S1x256x1024) origin3]
  unfold k0_pay1 k0_pay2 k0_pay3 k0_pay7 k0_pay8 k0_pay9 k0_pay5 k0_pay6 delta mean spread
  generalize k0_pay4 (F := Ideal) i x3 x4 x5 x6 = g
  refine ⟨?_, ?_, ?_, ?_⟩ <;> pointwise

end

variable (m : (ℓ : Loc nD τ sig) → Buf (Elt Ideal) ℓ) (c : Dev nD)

abbrev A (k : Fin 3) : FVec Ideal ⟨3, ![4, 256, 1024]⟩ .f32 :=
  match k with
  | 0 => m ((c : Thread nD τ).loc main_arg0)
  | 1 => m ((c : Thread nD τ).loc main_arg1)
  | 2 => m ((c : Thread nD τ).loc main_arg2)

abbrev G (k : Fin 4) : FVec Ideal ⟨2, ![3840, 1024]⟩ .f32 :=
  match k with
  | 0 => m ((c : Thread nD τ).loc main_arg3)
  | 1 => m ((c : Thread nD τ).loc main_arg4)
  | 2 => m ((c : Thread nD τ).loc main_arg5)
  | 3 => m ((c : Thread nD τ).loc main_arg6)

abbrev ST : FVec Ideal ⟨3, ![4, 256, 1024]⟩ .f32 := stack 768 256 (G m c 0) (G m c 1) (G m c 2) (G m c 3)

theorem at7 : ∀ t : Fin grid0.N, win0_7.index t 0 = t.val / 1 ∧ win0_7.index t 1 = t.val % 1 ∧ win0_7.index t 2 = 0 := by decide +kernel
theorem layer : ∀ t : Fin grid0.N, (grid0.coords t 0).val = t.val / 1 := by decide +kernel
theorem at3 : ∀ t : Fin grid0.N, (t.val / 1 = 0 → win0_3.index t 0 = 3 + t.val % 1) ∧ win0_3.index t 1 = 0 := by decide +kernel
theorem at4 : ∀ t : Fin grid0.N, (t.val / 1 = 1 → win0_4.index t 0 = 3 + t.val % 1) ∧ win0_4.index t 1 = 0 := by decide +kernel
theorem at5 : ∀ t : Fin grid0.N, (t.val / 1 = 2 → win0_5.index t 0 = 3 + t.val % 1) ∧ win0_5.index t 1 = 0 := by decide +kernel
theorem at6 : ∀ t : Fin grid0.N, (t.val / 1 = 3 → win0_6.index t 0 = 3 + t.val % 1) ∧ win0_6.index t 1 = 0 := by decide +kernel

/-- Where a block's entry lies in the whole array. -/
abbrev place (t : Fin cfg0.N) (a : Fin 256) (b : Fin 1024) : (⟨3, ![4, 256, 1024]⟩ : Shape).Idx := ((cfg0.win 7).blk t).view.emb (ix3 0 a b)

theorem gradient (t : Fin cfg0.N) (a : Fin 256) (b : Fin 1024) :
    k0_pay4 (F := Ideal) (grid0.coords t) (iblk m c 3 t) (iblk m c 4 t) (iblk m c 5 t) (iblk m c 6 t) (ix2 a b) = ST m c (place t a b) := by
  have hl : t.val / 1 < 4 := by have hn : t.val < 4 := lt_of_lt_of_eq t.isLt N_0; omega
  have h0 : (place t a b 0).val = t.val / 1 := by show win0_7.index t 0 * 1 + 1 * 0 = _; rw [(at7 t).1]; omega
  have h1 : (place t a b 1).val = t.val % 1 * 256 + a.val := by show win0_7.index t 1 * 256 + 1 * a.val = _; rw [(at7 t).2.1]; omega
  have h2 : (place t a b 2).val = b.val := by show win0_7.index t 2 * 1024 + 1 * b.val = _; rw [(at7 t).2.2]; omega
  unfold k0_pay4 ST stack pick
  rw [h0, h1, h2]
  simp only [layer]
  rw [choose _ hl]
  split_ifs with e3 e2 e1
  · exact cell_eq (G m c 3) (((cfg0.win 6).blk t).view.emb (ix2 a b))
      (show win0_6.index t 0 * 256 + 1 * a.val = _ by rw [(at6 t).1 (by omega)]; omega) (show win0_6.index t 1 * 1024 + 1 * b.val = _ by rw [(at6 t).2]; omega)
  · exact cell_eq (G m c 2) (((cfg0.win 5).blk t).view.emb (ix2 a b))
      (show win0_5.index t 0 * 256 + 1 * a.val = _ by rw [(at5 t).1 (by omega)]; omega) (show win0_5.index t 1 * 1024 + 1 * b.val = _ by rw [(at5 t).2]; omega)
  · exact cell_eq (G m c 1) (((cfg0.win 4).blk t).view.emb (ix2 a b))
      (show win0_4.index t 0 * 256 + 1 * a.val = _ by rw [(at4 t).1 (by omega)]; omega) (show win0_4.index t 1 * 1024 + 1 * b.val = _ by rw [(at4 t).2]; omega)
  · exact cell_eq (G m c 0) (((cfg0.win 3).blk t).view.emb (ix2 a b))
      (show win0_3.index t 0 * 256 + 1 * a.val = _ by rw [(at3 t).1 (by omega)]; omega) (show win0_3.index t 1 * 1024 + 1 * b.val = _ by rw [(at3 t).2]; omega)

theorem covered (i : (⟨3, ![4, 256, 1024]⟩ : Shape).Idx) : ∃ t : Fin cfg0.N, i ∈ ((cfg0.win 7).blk t).view.set := by
  have h0 : (i 0 : Nat) < 4 := (i 0).isLt
  have h1 : (i 1 : Nat) < 256 := (i 1).isLt
  refine ⟨⟨(i 0).val * 1 + (i 1).val / 256, by rw [show cfg0.N = 4 from N_0]; omega⟩, ?_⟩
  generalize ht : (⟨(i 0).val * 1 + (i 1).val / 256, _⟩ : Fin cfg0.N) = t
  have hv : t.val = (i 0).val * 1 + (i 1).val / 256 := by rw [← ht]
  show i ∈ ((View.whole main_v0_0).slice (win0_7.rect t)).set
  rw [View.set_slice_whole, Rect.mem_set_unit]
  exact inside (R := 256) (T := 256) (C := 1024) (win0_7.index t) i (by rw [(at7 t).1]; omega) (by rw [(at7 t).2.1]; omega) (at7 t).2.2 (by omega)

theorem result_7 : (dats m 0 c).arrAt 7 cfg0.N = ST m c :=
  (dats m 0 c).arrAt_eq_of_cover 7 (ST m c) (fun t _ => (flushed7 m c t).trans (entries (T := 256) (C := 1024) fun a b =>
      (bodies (grid0.coords t) (iblk m c 0 t) (iblk m c 1 t) (iblk m c 2 t) _ _ _ _ a b).1.trans (by rw [gradient]; rfl)))
    fun i => (covered i).imp fun t ht => ⟨flush0_7 _, ht⟩

theorem result_8 : (dats m 0 c).arrAt 8 cfg0.N = deltas (A m c 0) (ST m c) (A m c 1) (A m c 2) :=
  (dats m 0 c).arrAt_eq_of_cover 8 (deltas (A m c 0) (ST m c) (A m c 1) (A m c 2)) (fun t _ => (flushed8 m c t).trans (entries (T := 256) (C := 1024) fun a b =>
      (bodies (grid0.coords t) (iblk m c 0 t) (iblk m c 1 t) (iblk m c 2 t) _ _ _ _ a b).2.1.trans (by rw [gradient]; rfl)))
    fun i => (covered i).imp fun t ht => ⟨flush0_8 _, ht⟩

theorem result_9 : (dats m 0 c).arrAt 9 cfg0.N = means (ST m c) (A m c 1) :=
  (dats m 0 c).arrAt_eq_of_cover 9 (means (ST m c) (A m c 1)) (fun t _ => (flushed9 m c t).trans (entries (T := 256) (C := 1024) fun a b =>
      (bodies (grid0.coords t) (iblk m c 0 t) (iblk m c 1 t) (iblk m c 2 t) _ _ _ _ a b).2.2.1.trans (by rw [gradient]; rfl)))
    fun i => (covered i).imp fun t ht => ⟨flush0_9 _, ht⟩

theorem result_10 : (dats m 0 c).arrAt 10 cfg0.N = spreads (ST m c) (A m c 2) :=
  (dats m 0 c).arrAt_eq_of_cover 10 (spreads (ST m c) (A m c 2)) (fun t _ => (flushed10 m c t).trans (entries (T := 256) (C := 1024) fun a b =>
      (bodies (grid0.coords t) (iblk m c 0 t) (iblk m c 1 t) (iblk m c 2 t) _ _ _ _ a b).2.2.2.trans (by rw [gradient]; rfl)))
    fun i => (covered i).imp fun t ht => ⟨flush0_10 _, ht⟩

end

section
open Cert.RefAdamAttnOutIdeal Cert.RefAdamAttnOutIdeal.Gen

theorem reference (g0 g1 g2 g3 : FVec Ideal ⟨2, ![3840, 1024]⟩ .f32) :
    (concatenate S4x256x1024 0 [⟨S1x256x1024, ((broadcastInDim S1x256x1024 ![1, 2] bcast_S256x1024_S1x256x1024_1_2 (extractStridedSlice S256x1024 ![768, 0] g0 slices_S3840x1024_S256x1024_768_0)) : (⟨S1x256x1024, .f32⟩ : BufTy).Contents (Elt Ideal))⟩, ⟨S1x256x1024, ((broadcastInDim S1x256x1024 ![1, 2] bcast_S256x1024_S1x256x1024_1_2 (extractStridedSlice S256x1024 ![768, 0] g1 slices_S3840x1024_S256x1024_768_0)) : (⟨S1x256x1024, .f32⟩ : BufTy).Contents (Elt Ideal))⟩, ⟨S1x256x1024, ((broadcastInDim S1x256x1024 ![1, 2] bcast_S256x1024_S1x256x1024_1_2 (extractStridedSlice S256x1024 ![768, 0] g2 slices_S3840x1024_S256x1024_768_0)) : (⟨S1x256x1024, .f32⟩ : BufTy).Contents (Elt Ideal))⟩, ⟨S1x256x1024, ((broadcastInDim S1x256x1024 ![1, 2] bcast_S256x1024_S1x256x1024_1_2 (extractStridedSlice S256x1024 ![768, 0] g3 slices_S3840x1024_S256x1024_768_0)) : (⟨S1x256x1024, .f32⟩ : BufTy).Contents (Elt Ideal))⟩] concatenates_S1x256x1024_S1x256x1024_S1x256x1024_S1x256x1024_S4x256x1024_d0 : (⟨S4x256x1024, .f32⟩ : BufTy).Contents (Elt Ideal)) = stack 768 256 g0 g1 g2 g3 := by
  funext i
  obtain ⟨l, a, b, rfl⟩ := ix3_of i
  show _ = pick 768 g0 g1 g2 g3 l.val a.val b.val
  unfold pick
  fin_cases l <;> pointwise <;> exact cell_eq _ _ rfl rfl

end

end AdamAttnOut

/-! ## adamMixOut -/

namespace AdamMixOut

section
open Cert.AdamMixOutIdeal Cert.AdamMixOutIdeal.Gen Cert.AdamMixOutIdeal.Value

section
variable (i : grid0.Coords) (x0 x1 x2 : FVec Ideal S1x256x1024 .f32) (x3 x4 x5 x6 : FVec Ideal S256x1024 .f32) (a : Fin 256) (b : Fin 1024)

theorem bodies : out0_7 (F := Ideal) i x0 x1 x2 x3 x4 x5 x6 (ix3 0 a b) = k0_pay4 (F := Ideal) i x3 x4 x5 x6 (ix2 a b) ∧
    out0_8 (F := Ideal) i x0 x1 x2 x3 x4 x5 x6 (ix3 0 a b)
      = delta (x0 (ix3 0 a b)) (k0_pay4 (F := Ideal) i x3 x4 x5 x6 (ix2 a b)) (x1 (ix3 0 a b)) (x2 (ix3 0 a b)) ∧
    out0_9 (F := Ideal) i x0 x1 x2 x3 x4 x5 x6 (ix3 0 a b) = mean (k0_pay4 (F := Ideal) i x3 x4 x5 x6 (ix2 a b)) (x1 (ix3 0 a b)) ∧
    out0_10 (F := Ideal) i x0 x1 x2 x3 x4 x5 x6 (ix3 0 a b) = spread (k0_pay4 (F := Ideal) i x3 x4 x5 x6 (ix2 a b)) (x2 (ix3 0 a b)) := by
  unfold out0_7 out0_8 out0_9 out0_10
  simp only [View.canon_unit_zero (S := S1x256x1024) origin3, View.ld_unit_zero (S := S256x1024) origin2, View.ld_unit_zero (S := S1x256x1024) origin3]
  unfold k0_pay1 k0_pay2 k0_pay3 k0_pay7 k0_pay8 k0_pay9 k0_pay5 k0_pay6 delta mean spread
  generalize k0_pay4 (F := Ideal) i x3 x4 x5 x6 = g
  refine ⟨?_, ?_, ?_, ?_⟩ <;> pointwise

end

variable (m : (ℓ : Loc nD τ sig) → Buf (Elt Ideal) ℓ) (c : Dev nD)

abbrev A (k : Fin 3) : FVec Ideal ⟨3, ![4, 256, 1024]⟩ .f32 :=
  match k with
  | 0 => m ((c : Thread nD τ).loc main_arg0)
  | 1 => m ((c : Thread nD τ).loc main_arg1)
  | 2 => m ((c : Thread nD τ).loc main_arg2)

abbrev G (k : Fin 4) : FVec Ideal ⟨2, ![3840, 1024]⟩ .f32 :=
  match k with
  | 0 => m ((c : Thread nD τ).loc main_arg3)
  | 1 => m ((c : Thread nD τ).loc main_arg4)
  | 2 => m ((c : Thread nD τ).loc main_arg5)
  | 3 => m ((c : Thread nD τ).loc main_arg6)

abbrev ST : FVec Ideal ⟨3, ![4, 256, 1024]⟩ .f32 := stack 1024 256 (G m c 0) (G m c 1) (G m c 2) (G m c 3)

theorem at7 : ∀ t : Fin grid0.N, win0_7.index t 0 = t.val / 1 ∧ win0_7.index t 1 = t.val % 1 ∧ win0_7.index t 2 = 0 := by decide +kernel
theorem layer : ∀ t : Fin grid0.N, (grid0.coords t 0).val = t.val / 1 := by decide +kernel
theorem at3 : ∀ t : Fin grid0.N, (t.val / 1 = 0 → win0_3.index t 0 = 4 + t.val % 1) ∧ win0_3.index t 1 = 0 := by decide +kernel
theorem at4 : ∀ t : Fin grid0.N, (t.val / 1 = 1 → win0_4.index t 0 = 4 + t.val % 1) ∧ win0_4.index t 1 = 0 := by decide +kernel
theorem at5 : ∀ t : Fin grid0.N, (t.val / 1 = 2 → win0_5.index t 0 = 4 + t.val % 1) ∧ win0_5.index t 1 = 0 := by decide +kernel
theorem at6 : ∀ t : Fin grid0.N, (t.val / 1 = 3 → win0_6.index t 0 = 4 + t.val % 1) ∧ win0_6.index t 1 = 0 := by decide +kernel

/-- Where a block's entry lies in the whole array. -/
abbrev place (t : Fin cfg0.N) (a : Fin 256) (b : Fin 1024) : (⟨3, ![4, 256, 1024]⟩ : Shape).Idx := ((cfg0.win 7).blk t).view.emb (ix3 0 a b)

theorem gradient (t : Fin cfg0.N) (a : Fin 256) (b : Fin 1024) :
    k0_pay4 (F := Ideal) (grid0.coords t) (iblk m c 3 t) (iblk m c 4 t) (iblk m c 5 t) (iblk m c 6 t) (ix2 a b) = ST m c (place t a b) := by
  have hl : t.val / 1 < 4 := by have hn : t.val < 4 := lt_of_lt_of_eq t.isLt N_0; omega
  have h0 : (place t a b 0).val = t.val / 1 := by show win0_7.index t 0 * 1 + 1 * 0 = _; rw [(at7 t).1]; omega
  have h1 : (place t a b 1).val = t.val % 1 * 256 + a.val := by show win0_7.index t 1 * 256 + 1 * a.val = _; rw [(at7 t).2.1]; omega
  have h2 : (place t a b 2).val = b.val := by show win0_7.index t 2 * 1024 + 1 * b.val = _; rw [(at7 t).2.2]; omega
  unfold k0_pay4 ST stack pick
  rw [h0, h1, h2]
  simp only [layer]
  rw [choose _ hl]
  split_ifs with e3 e2 e1
  · exact cell_eq (G m c 3) (((cfg0.win 6).blk t).view.emb (ix2 a b))
      (show win0_6.index t 0 * 256 + 1 * a.val = _ by rw [(at6 t).1 (by omega)]; omega) (show win0_6.index t 1 * 1024 + 1 * b.val = _ by rw [(at6 t).2]; omega)
  · exact cell_eq (G m c 2) (((cfg0.win 5).blk t).view.emb (ix2 a b))
      (show win0_5.index t 0 * 256 + 1 * a.val = _ by rw [(at5 t).1 (by omega)]; omega) (show win0_5.index t 1 * 1024 + 1 * b.val = _ by rw [(at5 t).2]; omega)
  · exact cell_eq (G m c 1) (((cfg0.win 4).blk t).view.emb (ix2 a b))
      (show win0_4.index t 0 * 256 + 1 * a.val = _ by rw [(at4 t).1 (by omega)]; omega) (show win0_4.index t 1 * 1024 + 1 * b.val = _ by rw [(at4 t).2]; omega)
  · exact cell_eq (G m c 0) (((cfg0.win 3).blk t).view.emb (ix2 a b))
      (show win0_3.index t 0 * 256 + 1 * a.val = _ by rw [(at3 t).1 (by omega)]; omega) (show win0_3.index t 1 * 1024 + 1 * b.val = _ by rw [(at3 t).2]; omega)

theorem covered (i : (⟨3, ![4, 256, 1024]⟩ : Shape).Idx) : ∃ t : Fin cfg0.N, i ∈ ((cfg0.win 7).blk t).view.set := by
  have h0 : (i 0 : Nat) < 4 := (i 0).isLt
  have h1 : (i 1 : Nat) < 256 := (i 1).isLt
  refine ⟨⟨(i 0).val * 1 + (i 1).val / 256, by rw [show cfg0.N = 4 from N_0]; omega⟩, ?_⟩
  generalize ht : (⟨(i 0).val * 1 + (i 1).val / 256, _⟩ : Fin cfg0.N) = t
  have hv : t.val = (i 0).val * 1 + (i 1).val / 256 := by rw [← ht]
  show i ∈ ((View.whole main_v0_0).slice (win0_7.rect t)).set
  rw [View.set_slice_whole, Rect.mem_set_unit]
  exact inside (R := 256) (T := 256) (C := 1024) (win0_7.index t) i (by rw [(at7 t).1]; omega) (by rw [(at7 t).2.1]; omega) (at7 t).2.2 (by omega)

theorem result_7 : (dats m 0 c).arrAt 7 cfg0.N = ST m c :=
  (dats m 0 c).arrAt_eq_of_cover 7 (ST m c) (fun t _ => (flushed7 m c t).trans (entries (T := 256) (C := 1024) fun a b =>
      (bodies (grid0.coords t) (iblk m c 0 t) (iblk m c 1 t) (iblk m c 2 t) _ _ _ _ a b).1.trans (by rw [gradient]; rfl)))
    fun i => (covered i).imp fun t ht => ⟨flush0_7 _, ht⟩

theorem result_8 : (dats m 0 c).arrAt 8 cfg0.N = deltas (A m c 0) (ST m c) (A m c 1) (A m c 2) :=
  (dats m 0 c).arrAt_eq_of_cover 8 (deltas (A m c 0) (ST m c) (A m c 1) (A m c 2)) (fun t _ => (flushed8 m c t).trans (entries (T := 256) (C := 1024) fun a b =>
      (bodies (grid0.coords t) (iblk m c 0 t) (iblk m c 1 t) (iblk m c 2 t) _ _ _ _ a b).2.1.trans (by rw [gradient]; rfl)))
    fun i => (covered i).imp fun t ht => ⟨flush0_8 _, ht⟩

theorem result_9 : (dats m 0 c).arrAt 9 cfg0.N = means (ST m c) (A m c 1) :=
  (dats m 0 c).arrAt_eq_of_cover 9 (means (ST m c) (A m c 1)) (fun t _ => (flushed9 m c t).trans (entries (T := 256) (C := 1024) fun a b =>
      (bodies (grid0.coords t) (iblk m c 0 t) (iblk m c 1 t) (iblk m c 2 t) _ _ _ _ a b).2.2.1.trans (by rw [gradient]; rfl)))
    fun i => (covered i).imp fun t ht => ⟨flush0_9 _, ht⟩

theorem result_10 : (dats m 0 c).arrAt 10 cfg0.N = spreads (ST m c) (A m c 2) :=
  (dats m 0 c).arrAt_eq_of_cover 10 (spreads (ST m c) (A m c 2)) (fun t _ => (flushed10 m c t).trans (entries (T := 256) (C := 1024) fun a b =>
      (bodies (grid0.coords t) (iblk m c 0 t) (iblk m c 1 t) (iblk m c 2 t) _ _ _ _ a b).2.2.2.trans (by rw [gradient]; rfl)))
    fun i => (covered i).imp fun t ht => ⟨flush0_10 _, ht⟩

end

section
open Cert.RefAdamMixOutIdeal Cert.RefAdamMixOutIdeal.Gen

theorem reference (g0 g1 g2 g3 : FVec Ideal ⟨2, ![3840, 1024]⟩ .f32) :
    (concatenate S4x256x1024 0 [⟨S1x256x1024, ((broadcastInDim S1x256x1024 ![1, 2] bcast_S256x1024_S1x256x1024_1_2 (extractStridedSlice S256x1024 ![1024, 0] g0 slices_S3840x1024_S256x1024_1024_0)) : (⟨S1x256x1024, .f32⟩ : BufTy).Contents (Elt Ideal))⟩, ⟨S1x256x1024, ((broadcastInDim S1x256x1024 ![1, 2] bcast_S256x1024_S1x256x1024_1_2 (extractStridedSlice S256x1024 ![1024, 0] g1 slices_S3840x1024_S256x1024_1024_0)) : (⟨S1x256x1024, .f32⟩ : BufTy).Contents (Elt Ideal))⟩, ⟨S1x256x1024, ((broadcastInDim S1x256x1024 ![1, 2] bcast_S256x1024_S1x256x1024_1_2 (extractStridedSlice S256x1024 ![1024, 0] g2 slices_S3840x1024_S256x1024_1024_0)) : (⟨S1x256x1024, .f32⟩ : BufTy).Contents (Elt Ideal))⟩, ⟨S1x256x1024, ((broadcastInDim S1x256x1024 ![1, 2] bcast_S256x1024_S1x256x1024_1_2 (extractStridedSlice S256x1024 ![1024, 0] g3 slices_S3840x1024_S256x1024_1024_0)) : (⟨S1x256x1024, .f32⟩ : BufTy).Contents (Elt Ideal))⟩] concatenates_S1x256x1024_S1x256x1024_S1x256x1024_S1x256x1024_S4x256x1024_d0 : (⟨S4x256x1024, .f32⟩ : BufTy).Contents (Elt Ideal)) = stack 1024 256 g0 g1 g2 g3 := by
  funext i
  obtain ⟨l, a, b, rfl⟩ := ix3_of i
  show _ = pick 1024 g0 g1 g2 g3 l.val a.val b.val
  unfold pick
  fin_cases l <;> pointwise <;> exact cell_eq _ _ rfl rfl

end

end AdamMixOut

/-! ## adamXo -/

namespace AdamXo

section
open Cert.AdamXoIdeal Cert.AdamXoIdeal.Gen Cert.AdamXoIdeal.Value

section
variable (i : grid0.Coords) (x0 x1 x2 : FVec Ideal S1x256x1024 .f32) (x3 x4 x5 x6 : FVec Ideal S256x1024 .f32) (a : Fin 256) (b : Fin 1024)

theorem bodies : out0_7 (F := Ideal) i x0 x1 x2 x3 x4 x5 x6 (ix3 0 a b) = k0_pay4 (F := Ideal) i x3 x4 x5 x6 (ix2 a b) ∧
    out0_8 (F := Ideal) i x0 x1 x2 x3 x4 x5 x6 (ix3 0 a b)
      = delta (x0 (ix3 0 a b)) (k0_pay4 (F := Ideal) i x3 x4 x5 x6 (ix2 a b)) (x1 (ix3 0 a b)) (x2 (ix3 0 a b)) ∧
    out0_9 (F := Ideal) i x0 x1 x2 x3 x4 x5 x6 (ix3 0 a b) = mean (k0_pay4 (F := Ideal) i x3 x4 x5 x6 (ix2 a b)) (x1 (ix3 0 a b)) ∧
    out0_10 (F := Ideal) i x0 x1 x2 x3 x4 x5 x6 (ix3 0 a b) = spread (k0_pay4 (F := Ideal) i x3 x4 x5 x6 (ix2 a b)) (x2 (ix3 0 a b)) := by
  unfold out0_7 out0_8 out0_9 out0_10
  simp only [View.canon_unit_zero (S := S1x256x1024) origin3, View.ld_unit_zero (S := S256x1024) origin2, View.ld_unit_zero (S := S1x256x1024) origin3]
  unfold k0_pay1 k0_pay2 k0_pay3 k0_pay7 k0_pay8 k0_pay9 k0_pay5 k0_pay6 delta mean spread
  generalize k0_pay4 (F := Ideal) i x3 x4 x5 x6 = g
  refine ⟨?_, ?_, ?_, ?_⟩ <;> pointwise

end

variable (m : (ℓ : Loc nD τ sig) → Buf (Elt Ideal) ℓ) (c : Dev nD)

abbrev A (k : Fin 3) : FVec Ideal ⟨3, ![4, 256, 1024]⟩ .f32 :=
  match k with
  | 0 => m ((c : Thread nD τ).loc main_arg0)
  | 1 => m ((c : Thread nD τ).loc main_arg1)
  | 2 => m ((c : Thread nD τ).loc main_arg2)

abbrev G (k : Fin 4) : FVec Ideal ⟨2, ![3840, 1024]⟩ .f32 :=
  match k with
  | 0 => m ((c : Thread nD τ).loc main_arg3)
  | 1 => m ((c : Thread nD τ).loc main_arg4)
  | 2 => m ((c : Thread nD τ).loc main_arg5)
  | 3 => m ((c : Thread nD τ).loc main_arg6)

abbrev ST : FVec Ideal ⟨3, ![4, 256, 1024]⟩ .f32 := stack 1536 256 (G m c 0) (G m c 1) (G m c 2) (G m c 3)

theorem at7 : ∀ t : Fin grid0.N, win0_7.index t 0 = t.val / 1 ∧ win0_7.index t 1 = t.val % 1 ∧ win0_7.index t 2 = 0 := by decide +kernel
theorem layer : ∀ t : Fin grid0.N, (grid0.coords t 0).val = t.val / 1 := by decide +kernel
theorem at3 : ∀ t : Fin grid0.N, (t.val / 1 = 0 → win0_3.index t 0 = 6 + t.val % 1) ∧ win0_3.index t 1 = 0 := by decide +kernel
theorem at4 : ∀ t : Fin grid0.N, (t.val / 1 = 1 → win0_4.index t 0 = 6 + t.val % 1) ∧ win0_4.index t 1 = 0 := by decide +kernel
theorem at5 : ∀ t : Fin grid0.N, (t.val / 1 = 2 → win0_5.index t 0 = 6 + t.val % 1) ∧ win0_5.index t 1 = 0 := by decide +kernel
theorem at6 : ∀ t : Fin grid0.N, (t.val / 1 = 3 → win0_6.index t 0 = 6 + t.val % 1) ∧ win0_6.index t 1 = 0 := by decide +kernel

/-- Where a block's entry lies in the whole array. -/
abbrev place (t : Fin cfg0.N) (a : Fin 256) (b : Fin 1024) : (⟨3, ![4, 256, 1024]⟩ : Shape).Idx := ((cfg0.win 7).blk t).view.emb (ix3 0 a b)

theorem gradient (t : Fin cfg0.N) (a : Fin 256) (b : Fin 1024) :
    k0_pay4 (F := Ideal) (grid0.coords t) (iblk m c 3 t) (iblk m c 4 t) (iblk m c 5 t) (iblk m c 6 t) (ix2 a b) = ST m c (place t a b) := by
  have hl : t.val / 1 < 4 := by have hn : t.val < 4 := lt_of_lt_of_eq t.isLt N_0; omega
  have h0 : (place t a b 0).val = t.val / 1 := by show win0_7.index t 0 * 1 + 1 * 0 = _; rw [(at7 t).1]; omega
  have h1 : (place t a b 1).val = t.val % 1 * 256 + a.val := by show win0_7.index t 1 * 256 + 1 * a.val = _; rw [(at7 t).2.1]; omega
  have h2 : (place t a b 2).val = b.val := by show win0_7.index t 2 * 1024 + 1 * b.val = _; rw [(at7 t).2.2]; omega
  unfold k0_pay4 ST stack pick
  rw [h0, h1, h2]
  simp only [layer]
  rw [choose _ hl]
  split_ifs with e3 e2 e1
  · exact cell_eq (G m c 3) (((cfg0.win 6).blk t).view.emb (ix2 a b))
      (show win0_6.index t 0 * 256 + 1 * a.val = _ by rw [(at6 t).1 (by omega)]; omega) (show win0_6.index t 1 * 1024 + 1 * b.val = _ by rw [(at6 t).2]; omega)
  · exact cell_eq (G m c 2) (((cfg0.win 5).blk t).view.emb (ix2 a b))
      (show win0_5.index t 0 * 256 + 1 * a.val = _ by rw [(at5 t).1 (by omega)]; omega) (show win0_5.index t 1 * 1024 + 1 * b.val = _ by rw [(at5 t).2]; omega)
  · exact cell_eq (G m c 1) (((cfg0.win 4).blk t).view.emb (ix2 a b))
      (show win0_4.index t 0 * 256 + 1 * a.val = _ by rw [(at4 t).1 (by omega)]; omega) (show win0_4.index t 1 * 1024 + 1 * b.val = _ by rw [(at4 t).2]; omega)
  · exact cell_eq (G m c 0) (((cfg0.win 3).blk t).view.emb (ix2 a b))
      (show win0_3.index t 0 * 256 + 1 * a.val = _ by rw [(at3 t).1 (by omega)]; omega) (show win0_3.index t 1 * 1024 + 1 * b.val = _ by rw [(at3 t).2]; omega)

theorem covered (i : (⟨3, ![4, 256, 1024]⟩ : Shape).Idx) : ∃ t : Fin cfg0.N, i ∈ ((cfg0.win 7).blk t).view.set := by
  have h0 : (i 0 : Nat) < 4 := (i 0).isLt
  have h1 : (i 1 : Nat) < 256 := (i 1).isLt
  refine ⟨⟨(i 0).val * 1 + (i 1).val / 256, by rw [show cfg0.N = 4 from N_0]; omega⟩, ?_⟩
  generalize ht : (⟨(i 0).val * 1 + (i 1).val / 256, _⟩ : Fin cfg0.N) = t
  have hv : t.val = (i 0).val * 1 + (i 1).val / 256 := by rw [← ht]
  show i ∈ ((View.whole main_v0_0).slice (win0_7.rect t)).set
  rw [View.set_slice_whole, Rect.mem_set_unit]
  exact inside (R := 256) (T := 256) (C := 1024) (win0_7.index t) i (by rw [(at7 t).1]; omega) (by rw [(at7 t).2.1]; omega) (at7 t).2.2 (by omega)

theorem result_7 : (dats m 0 c).arrAt 7 cfg0.N = ST m c :=
  (dats m 0 c).arrAt_eq_of_cover 7 (ST m c) (fun t _ => (flushed7 m c t).trans (entries (T := 256) (C := 1024) fun a b =>
      (bodies (grid0.coords t) (iblk m c 0 t) (iblk m c 1 t) (iblk m c 2 t) _ _ _ _ a b).1.trans (by rw [gradient]; rfl)))
    fun i => (covered i).imp fun t ht => ⟨flush0_7 _, ht⟩

theorem result_8 : (dats m 0 c).arrAt 8 cfg0.N = deltas (A m c 0) (ST m c) (A m c 1) (A m c 2) :=
  (dats m 0 c).arrAt_eq_of_cover 8 (deltas (A m c 0) (ST m c) (A m c 1) (A m c 2)) (fun t _ => (flushed8 m c t).trans (entries (T := 256) (C := 1024) fun a b =>
      (bodies (grid0.coords t) (iblk m c 0 t) (iblk m c 1 t) (iblk m c 2 t) _ _ _ _ a b).2.1.trans (by rw [gradient]; rfl)))
    fun i => (covered i).imp fun t ht => ⟨flush0_8 _, ht⟩

theorem result_9 : (dats m 0 c).arrAt 9 cfg0.N = means (ST m c) (A m c 1) :=
  (dats m 0 c).arrAt_eq_of_cover 9 (means (ST m c) (A m c 1)) (fun t _ => (flushed9 m c t).trans (entries (T := 256) (C := 1024) fun a b =>
      (bodies (grid0.coords t) (iblk m c 0 t) (iblk m c 1 t) (iblk m c 2 t) _ _ _ _ a b).2.2.1.trans (by rw [gradient]; rfl)))
    fun i => (covered i).imp fun t ht => ⟨flush0_9 _, ht⟩

theorem result_10 : (dats m 0 c).arrAt 10 cfg0.N = spreads (ST m c) (A m c 2) :=
  (dats m 0 c).arrAt_eq_of_cover 10 (spreads (ST m c) (A m c 2)) (fun t _ => (flushed10 m c t).trans (entries (T := 256) (C := 1024) fun a b =>
      (bodies (grid0.coords t) (iblk m c 0 t) (iblk m c 1 t) (iblk m c 2 t) _ _ _ _ a b).2.2.2.trans (by rw [gradient]; rfl)))
    fun i => (covered i).imp fun t ht => ⟨flush0_10 _, ht⟩

end

section
open Cert.RefAdamXoIdeal Cert.RefAdamXoIdeal.Gen

theorem reference (g0 g1 g2 g3 : FVec Ideal ⟨2, ![3840, 1024]⟩ .f32) :
    (concatenate S4x256x1024 0 [⟨S1x256x1024, ((broadcastInDim S1x256x1024 ![1, 2] bcast_S256x1024_S1x256x1024_1_2 (extractStridedSlice S256x1024 ![1536, 0] g0 slices_S3840x1024_S256x1024_1536_0)) : (⟨S1x256x1024, .f32⟩ : BufTy).Contents (Elt Ideal))⟩, ⟨S1x256x1024, ((broadcastInDim S1x256x1024 ![1, 2] bcast_S256x1024_S1x256x1024_1_2 (extractStridedSlice S256x1024 ![1536, 0] g1 slices_S3840x1024_S256x1024_1536_0)) : (⟨S1x256x1024, .f32⟩ : BufTy).Contents (Elt Ideal))⟩, ⟨S1x256x1024, ((broadcastInDim S1x256x1024 ![1, 2] bcast_S256x1024_S1x256x1024_1_2 (extractStridedSlice S256x1024 ![1536, 0] g2 slices_S3840x1024_S256x1024_1536_0)) : (⟨S1x256x1024, .f32⟩ : BufTy).Contents (Elt Ideal))⟩, ⟨S1x256x1024, ((broadcastInDim S1x256x1024 ![1, 2] bcast_S256x1024_S1x256x1024_1_2 (extractStridedSlice S256x1024 ![1536, 0] g3 slices_S3840x1024_S256x1024_1536_0)) : (⟨S1x256x1024, .f32⟩ : BufTy).Contents (Elt Ideal))⟩] concatenates_S1x256x1024_S1x256x1024_S1x256x1024_S1x256x1024_S4x256x1024_d0 : (⟨S4x256x1024, .f32⟩ : BufTy).Contents (Elt Ideal)) = stack 1536 256 g0 g1 g2 g3 := by
  funext i
  obtain ⟨l, a, b, rfl⟩ := ix3_of i
  show _ = pick 1536 g0 g1 g2 g3 l.val a.val b.val
  unfold pick
  fin_cases l <;> pointwise <;> exact cell_eq _ _ rfl rfl

end

end AdamXo

/-! ## adamSsdOut -/

namespace AdamSsdOut

section
open Cert.AdamSsdOutIdeal Cert.AdamSsdOutIdeal.Gen Cert.AdamSsdOutIdeal.Value

section
variable (i : grid0.Coords) (x0 x1 x2 : FVec Ideal S1x256x1024 .f32) (x3 x4 x5 x6 : FVec Ideal S256x1024 .f32) (a : Fin 256) (b : Fin 1024)

theorem bodies : out0_7 (F := Ideal) i x0 x1 x2 x3 x4 x5 x6 (ix3 0 a b) = k0_pay4 (F := Ideal) i x3 x4 x5 x6 (ix2 a b) ∧
    out0_8 (F := Ideal) i x0 x1 x2 x3 x4 x5 x6 (ix3 0 a b)
      = delta (x0 (ix3 0 a b)) (k0_pay4 (F := Ideal) i x3 x4 x5 x6 (ix2 a b)) (x1 (ix3 0 a b)) (x2 (ix3 0 a b)) ∧
    out0_9 (F := Ideal) i x0 x1 x2 x3 x4 x5 x6 (ix3 0 a b) = mean (k0_pay4 (F := Ideal) i x3 x4 x5 x6 (ix2 a b)) (x1 (ix3 0 a b)) ∧
    out0_10 (F := Ideal) i x0 x1 x2 x3 x4 x5 x6 (ix3 0 a b) = spread (k0_pay4 (F := Ideal) i x3 x4 x5 x6 (ix2 a b)) (x2 (ix3 0 a b)) := by
  unfold out0_7 out0_8 out0_9 out0_10
  simp only [View.canon_unit_zero (S := S1x256x1024) origin3, View.ld_unit_zero (S := S256x1024) origin2, View.ld_unit_zero (S := S1x256x1024) origin3]
  unfold k0_pay1 k0_pay2 k0_pay3 k0_pay7 k0_pay8 k0_pay9 k0_pay5 k0_pay6 delta mean spread
  generalize k0_pay4 (F := Ideal) i x3 x4 x5 x6 = g
  refine ⟨?_, ?_, ?_, ?_⟩ <;> pointwise

end

variable (m : (ℓ : Loc nD τ sig) → Buf (Elt Ideal) ℓ) (c : Dev nD)

abbrev A (k : Fin 3) : FVec Ideal ⟨3, ![4, 512, 1024]⟩ .f32 :=
  match k with
  | 0 => m ((c : Thread nD τ).loc main_arg0)
  | 1 => m ((c : Thread nD τ).loc main_arg1)
  | 2 => m ((c : Thread nD τ).loc main_arg2)

abbrev G (k : Fin 4) : FVec Ideal ⟨2, ![3840, 1024]⟩ .f32 :=
  match k with
  | 0 => m ((c : Thread nD τ).loc main_arg3)
  | 1 => m ((c : Thread nD τ).loc main_arg4)
  | 2 => m ((c : Thread nD τ).loc main_arg5)
  | 3 => m ((c : Thread nD τ).loc main_arg6)

abbrev ST : FVec Ideal ⟨3, ![4, 512, 1024]⟩ .f32 := stack 256 512 (G m c 0) (G m c 1) (G m c 2) (G m c 3)

theorem at7 : ∀ t : Fin grid0.N, win0_7.index t 0 = t.val / 2 ∧ win0_7.index t 1 = t.val % 2 ∧ win0_7.index t 2 = 0 := by decide +kernel
theorem layer : ∀ t : Fin grid0.N, (grid0.coords t 0).val = t.val / 2 := by decide +kernel
theorem at3 : ∀ t : Fin grid0.N, (t.val / 2 = 0 → win0_3.index t 0 = 1 + t.val % 2) ∧ win0_3.index t 1 = 0 := by decide +kernel
theorem at4 : ∀ t : Fin grid0.N, (t.val / 2 = 1 → win0_4.index t 0 = 1 + t.val % 2) ∧ win0_4.index t 1 = 0 := by decide +kernel
theorem at5 : ∀ t : Fin grid0.N, (t.val / 2 = 2 → win0_5.index t 0 = 1 + t.val % 2) ∧ win0_5.index t 1 = 0 := by decide +kernel
theorem at6 : ∀ t : Fin grid0.N, (t.val / 2 = 3 → win0_6.index t 0 = 1 + t.val % 2) ∧ win0_6.index t 1 = 0 := by decide +kernel

/-- Where a block's entry lies in the whole array. -/
abbrev place (t : Fin cfg0.N) (a : Fin 256) (b : Fin 1024) : (⟨3, ![4, 512, 1024]⟩ : Shape).Idx := ((cfg0.win 7).blk t).view.emb (ix3 0 a b)

theorem gradient (t : Fin cfg0.N) (a : Fin 256) (b : Fin 1024) :
    k0_pay4 (F := Ideal) (grid0.coords t) (iblk m c 3 t) (iblk m c 4 t) (iblk m c 5 t) (iblk m c 6 t) (ix2 a b) = ST m c (place t a b) := by
  have hl : t.val / 2 < 4 := by have hn : t.val < 8 := lt_of_lt_of_eq t.isLt N_0; omega
  have h0 : (place t a b 0).val = t.val / 2 := by show win0_7.index t 0 * 1 + 1 * 0 = _; rw [(at7 t).1]; omega
  have h1 : (place t a b 1).val = t.val % 2 * 256 + a.val := by show win0_7.index t 1 * 256 + 1 * a.val = _; rw [(at7 t).2.1]; omega
  have h2 : (place t a b 2).val = b.val := by show win0_7.index t 2 * 1024 + 1 * b.val = _; rw [(at7 t).2.2]; omega
  unfold k0_pay4 ST stack pick
  rw [h0, h1, h2]
  simp only [layer]
  rw [choose _ hl]
  split_ifs with e3 e2 e1
  · exact cell_eq (G m c 3) (((cfg0.win 6).blk t).view.emb (ix2 a b))
      (show win0_6.index t 0 * 256 + 1 * a.val = _ by rw [(at6 t).1 (by omega)]; omega) (show win0_6.index t 1 * 1024 + 1 * b.val = _ by rw [(at6 t).2]; omega)
  · exact cell_eq (G m c 2) (((cfg0.win 5).blk t).view.emb (ix2 a b))
      (show win0_5.index t 0 * 256 + 1 * a.val = _ by rw [(at5 t).1 (by omega)]; omega) (show win0_5.index t 1 * 1024 + 1 * b.val = _ by rw [(at5 t).2]; omega)
  · exact cell_eq (G m c 1) (((cfg0.win 4).blk t).view.emb (ix2 a b))
      (show win0_4.index t 0 * 256 + 1 * a.val = _ by rw [(at4 t).1 (by omega)]; omega) (show win0_4.index t 1 * 1024 + 1 * b.val = _ by rw [(at4 t).2]; omega)
  · exact cell_eq (G m c 0) (((cfg0.win 3).blk t).view.emb (ix2 a b))
      (show win0_3.index t 0 * 256 + 1 * a.val = _ by rw [(at3 t).1 (by omega)]; omega) (show win0_3.index t 1 * 1024 + 1 * b.val = _ by rw [(at3 t).2]; omega)

theorem covered (i : (⟨3, ![4, 512, 1024]⟩ : Shape).Idx) : ∃ t : Fin cfg0.N, i ∈ ((cfg0.win 7).blk t).view.set := by
  have h0 : (i 0 : Nat) < 4 := (i 0).isLt
  have h1 : (i 1 : Nat) < 512 := (i 1).isLt
  refine ⟨⟨(i 0).val * 2 + (i 1).val / 256, by rw [show cfg0.N = 8 from N_0]; omega⟩, ?_⟩
  generalize ht : (⟨(i 0).val * 2 + (i 1).val / 256, _⟩ : Fin cfg0.N) = t
  have hv : t.val = (i 0).val * 2 + (i 1).val / 256 := by rw [← ht]
  show i ∈ ((View.whole main_v0_0).slice (win0_7.rect t)).set
  rw [View.set_slice_whole, Rect.mem_set_unit]
  exact inside (R := 512) (T := 256) (C := 1024) (win0_7.index t) i (by rw [(at7 t).1]; omega) (by rw [(at7 t).2.1]; omega) (at7 t).2.2 (by omega)

theorem result_7 : (dats m 0 c).arrAt 7 cfg0.N = ST m c :=
  (dats m 0 c).arrAt_eq_of_cover 7 (ST m c) (fun t _ => (flushed7 m c t).trans (entries (T := 256) (C := 1024) fun a b =>
      (bodies (grid0.coords t) (iblk m c 0 t) (iblk m c 1 t) (iblk m c 2 t) _ _ _ _ a b).1.trans (by rw [gradient]; rfl)))
    fun i => (covered i).imp fun t ht => ⟨flush0_7 _, ht⟩

theorem result_8 : (dats m 0 c).arrAt 8 cfg0.N = deltas (A m c 0) (ST m c) (A m c 1) (A m c 2) :=
  (dats m 0 c).arrAt_eq_of_cover 8 (deltas (A m c 0) (ST m c) (A m c 1) (A m c 2)) (fun t _ => (flushed8 m c t).trans (entries (T := 256) (C := 1024) fun a b =>
      (bodies (grid0.coords t) (iblk m c 0 t) (iblk m c 1 t) (iblk m c 2 t) _ _ _ _ a b).2.1.trans (by rw [gradient]; rfl)))
    fun i => (covered i).imp fun t ht => ⟨flush0_8 _, ht⟩

theorem result_9 : (dats m 0 c).arrAt 9 cfg0.N = means (ST m c) (A m c 1) :=
  (dats m 0 c).arrAt_eq_of_cover 9 (means (ST m c) (A m c 1)) (fun t _ => (flushed9 m c t).trans (entries (T := 256) (C := 1024) fun a b =>
      (bodies (grid0.coords t) (iblk m c 0 t) (iblk m c 1 t) (iblk m c 2 t) _ _ _ _ a b).2.2.1.trans (by rw [gradient]; rfl)))
    fun i => (covered i).imp fun t ht => ⟨flush0_9 _, ht⟩

theorem result_10 : (dats m 0 c).arrAt 10 cfg0.N = spreads (ST m c) (A m c 2) :=
  (dats m 0 c).arrAt_eq_of_cover 10 (spreads (ST m c) (A m c 2)) (fun t _ => (flushed10 m c t).trans (entries (T := 256) (C := 1024) fun a b =>
      (bodies (grid0.coords t) (iblk m c 0 t) (iblk m c 1 t) (iblk m c 2 t) _ _ _ _ a b).2.2.2.trans (by rw [gradient]; rfl)))
    fun i => (covered i).imp fun t ht => ⟨flush0_10 _, ht⟩

end

section
open Cert.RefAdamSsdOutIdeal Cert.RefAdamSsdOutIdeal.Gen

theorem reference (g0 g1 g2 g3 : FVec Ideal ⟨2, ![3840, 1024]⟩ .f32) :
    (concatenate S4x512x1024 0 [⟨S1x512x1024, ((broadcastInDim S1x512x1024 ![1, 2] bcast_S512x1024_S1x512x1024_1_2 (extractStridedSlice S512x1024 ![256, 0] g0 slices_S3840x1024_S512x1024_256_0)) : (⟨S1x512x1024, .f32⟩ : BufTy).Contents (Elt Ideal))⟩, ⟨S1x512x1024, ((broadcastInDim S1x512x1024 ![1, 2] bcast_S512x1024_S1x512x1024_1_2 (extractStridedSlice S512x1024 ![256, 0] g1 slices_S3840x1024_S512x1024_256_0)) : (⟨S1x512x1024, .f32⟩ : BufTy).Contents (Elt Ideal))⟩, ⟨S1x512x1024, ((broadcastInDim S1x512x1024 ![1, 2] bcast_S512x1024_S1x512x1024_1_2 (extractStridedSlice S512x1024 ![256, 0] g2 slices_S3840x1024_S512x1024_256_0)) : (⟨S1x512x1024, .f32⟩ : BufTy).Contents (Elt Ideal))⟩, ⟨S1x512x1024, ((broadcastInDim S1x512x1024 ![1, 2] bcast_S512x1024_S1x512x1024_1_2 (extractStridedSlice S512x1024 ![256, 0] g3 slices_S3840x1024_S512x1024_256_0)) : (⟨S1x512x1024, .f32⟩ : BufTy).Contents (Elt Ideal))⟩] concatenates_S1x512x1024_S1x512x1024_S1x512x1024_S1x512x1024_S4x512x1024_d0 : (⟨S4x512x1024, .f32⟩ : BufTy).Contents (Elt Ideal)) = stack 256 512 g0 g1 g2 g3 := by
  funext i
  obtain ⟨l, a, b, rfl⟩ := ix3_of i
  show _ = pick 256 g0 g1 g2 g3 l.val a.val b.val
  unfold pick
  fin_cases l <;> pointwise <;> exact cell_eq _ _ rfl rfl

end

end AdamSsdOut

/-! ## adamMlpUp -/

namespace AdamMlpUp

section
open Cert.AdamMlpUpIdeal Cert.AdamMlpUpIdeal.Gen Cert.AdamMlpUpIdeal.Value

section
variable (i : grid0.Coords) (x0 x1 x2 : FVec Ideal S1x256x1024 .f32) (x3 x4 x5 x6 : FVec Ideal S256x1024 .f32) (a : Fin 256) (b : Fin 1024)

theorem bodies : out0_7 (F := Ideal) i x0 x1 x2 x3 x4 x5 x6 (ix3 0 a b) = k0_pay4 (F := Ideal) i x3 x4 x5 x6 (ix2 a b) ∧
    out0_8 (F := Ideal) i x0 x1 x2 x3 x4 x5 x6 (ix3 0 a b)
      = delta (x0 (ix3 0 a b)) (k0_pay4 (F := Ideal) i x3 x4 x5 x6 (ix2 a b)) (x1 (ix3 0 a b)) (x2 (ix3 0 a b)) ∧
    out0_9 (F := Ideal) i x0 x1 x2 x3 x4 x5 x6 (ix3 0 a b) = mean (k0_pay4 (F := Ideal) i x3 x4 x5 x6 (ix2 a b)) (x1 (ix3 0 a b)) ∧
    out0_10 (F := Ideal) i x0 x1 x2 x3 x4 x5 x6 (ix3 0 a b) = spread (k0_pay4 (F := Ideal) i x3 x4 x5 x6 (ix2 a b)) (x2 (ix3 0 a b)) := by
  unfold out0_7 out0_8 out0_9 out0_10
  simp only [View.canon_unit_zero (S := S1x256x1024) origin3, View.ld_unit_zero (S := S256x1024) origin2, View.ld_unit_zero (S := S1x256x1024) origin3]
  unfold k0_pay1 k0_pay2 k0_pay3 k0_pay7 k0_pay8 k0_pay9 k0_pay5 k0_pay6 delta mean spread
  generalize k0_pay4 (F := Ideal) i x3 x4 x5 x6 = g
  refine ⟨?_, ?_, ?_, ?_⟩ <;> pointwise

end

variable (m : (ℓ : Loc nD τ sig) → Buf (Elt Ideal) ℓ) (c : Dev nD)

abbrev A (k : Fin 3) : FVec Ideal ⟨3, ![4, 1024, 1024]⟩ .f32 :=
  match k with
  | 0 => m ((c : Thread nD τ).loc main_arg0)
  | 1 => m ((c : Thread nD τ).loc main_arg1)
  | 2 => m ((c : Thread nD τ).loc main_arg2)

abbrev G (k : Fin 4) : FVec Ideal ⟨2, ![3840, 1024]⟩ .f32 :=
  match k with
  | 0 => m ((c : Thread nD τ).loc main_arg3)
  | 1 => m ((c : Thread nD τ).loc main_arg4)
  | 2 => m ((c : Thread nD τ).loc main_arg5)
  | 3 => m ((c : Thread nD τ).loc main_arg6)

abbrev ST : FVec Ideal ⟨3, ![4, 1024, 1024]⟩ .f32 := stack 1792 1024 (G m c 0) (G m c 1) (G m c 2) (G m c 3)

theorem at7 : ∀ t : Fin grid0.N, win0_7.index t 0 = t.val / 4 ∧ win0_7.index t 1 = t.val % 4 ∧ win0_7.index t 2 = 0 := by decide +kernel
theorem layer : ∀ t : Fin grid0.N, (grid0.coords t 0).val = t.val / 4 := by decide +kernel
theorem at3 : ∀ t : Fin grid0.N, (t.val / 4 = 0 → win0_3.index t 0 = 7 + t.val % 4) ∧ win0_3.index t 1 = 0 := by decide +kernel
theorem at4 : ∀ t : Fin grid0.N, (t.val / 4 = 1 → win0_4.index t 0 = 7 + t.val % 4) ∧ win0_4.index t 1 = 0 := by decide +kernel
theorem at5 : ∀ t : Fin grid0.N, (t.val / 4 = 2 → win0_5.index t 0 = 7 + t.val % 4) ∧ win0_5.index t 1 = 0 := by decide +kernel
theorem at6 : ∀ t : Fin grid0.N, (t.val / 4 = 3 → win0_6.index t 0 = 7 + t.val % 4) ∧ win0_6.index t 1 = 0 := by decide +kernel

/-- Where a block's entry lies in the whole array. -/
abbrev place (t : Fin cfg0.N) (a : Fin 256) (b : Fin 1024) : (⟨3, ![4, 1024, 1024]⟩ : Shape).Idx := ((cfg0.win 7).blk t).view.emb (ix3 0 a b)

theorem gradient (t : Fin cfg0.N) (a : Fin 256) (b : Fin 1024) :
    k0_pay4 (F := Ideal) (grid0.coords t) (iblk m c 3 t) (iblk m c 4 t) (iblk m c 5 t) (iblk m c 6 t) (ix2 a b) = ST m c (place t a b) := by
  have hl : t.val / 4 < 4 := by have hn : t.val < 16 := lt_of_lt_of_eq t.isLt N_0; omega
  have h0 : (place t a b 0).val = t.val / 4 := by show win0_7.index t 0 * 1 + 1 * 0 = _; rw [(at7 t).1]; omega
  have h1 : (place t a b 1).val = t.val % 4 * 256 + a.val := by show win0_7.index t 1 * 256 + 1 * a.val = _; rw [(at7 t).2.1]; omega
  have h2 : (place t a b 2).val = b.val := by show win0_7.index t 2 * 1024 + 1 * b.val = _; rw [(at7 t).2.2]; omega
  unfold k0_pay4 ST stack pick
  rw [h0, h1, h2]
  simp only [layer]
  rw [choose _ hl]
  split_ifs with e3 e2 e1
  · exact cell_eq (G m c 3) (((cfg0.win 6).blk t).view.emb (ix2 a b))
      (show win0_6.index t 0 * 256 + 1 * a.val = _ by rw [(at6 t).1 (by omega)]; omega) (show win0_6.index t 1 * 1024 + 1 * b.val = _ by rw [(at6 t).2]; omega)
  · exact cell_eq (G m c 2) (((cfg0.win 5).blk t).view.emb (ix2 a b))
      (show win0_5.index t 0 * 256 + 1 * a.val = _ by rw [(at5 t).1 (by omega)]; omega) (show win0_5.index t 1 * 1024 + 1 * b.val = _ by rw [(at5 t).2]; omega)
  · exact cell_eq (G m c 1) (((cfg0.win 4).blk t).view.emb (ix2 a b))
      (show win0_4.index t 0 * 256 + 1 * a.val = _ by rw [(at4 t).1 (by omega)]; omega) (show win0_4.index t 1 * 1024 + 1 * b.val = _ by rw [(at4 t).2]; omega)
  · exact cell_eq (G m c 0) (((cfg0.win 3).blk t).view.emb (ix2 a b))
      (show win0_3.index t 0 * 256 + 1 * a.val = _ by rw [(at3 t).1 (by omega)]; omega) (show win0_3.index t 1 * 1024 + 1 * b.val = _ by rw [(at3 t).2]; omega)

theorem covered (i : (⟨3, ![4, 1024, 1024]⟩ : Shape).Idx) : ∃ t : Fin cfg0.N, i ∈ ((cfg0.win 7).blk t).view.set := by
  have h0 : (i 0 : Nat) < 4 := (i 0).isLt
  have h1 : (i 1 : Nat) < 1024 := (i 1).isLt
  refine ⟨⟨(i 0).val * 4 + (i 1).val / 256, by rw [show cfg0.N = 16 from N_0]; omega⟩, ?_⟩
  generalize ht : (⟨(i 0).val * 4 + (i 1).val / 256, _⟩ : Fin cfg0.N) = t
  have hv : t.val = (i 0).val * 4 + (i 1).val / 256 := by rw [← ht]
  show i ∈ ((View.whole main_v0_0).slice (win0_7.rect t)).set
  rw [View.set_slice_whole, Rect.mem_set_unit]
  exact inside (R := 1024) (T := 256) (C := 1024) (win0_7.index t) i (by rw [(at7 t).1]; omega) (by rw [(at7 t).2.1]; omega) (at7 t).2.2 (by omega)

theorem result_7 : (dats m 0 c).arrAt 7 cfg0.N = ST m c :=
  (dats m 0 c).arrAt_eq_of_cover 7 (ST m c) (fun t _ => (flushed7 m c t).trans (entries (T := 256) (C := 1024) fun a b =>
      (bodies (grid0.coords t) (iblk m c 0 t) (iblk m c 1 t) (iblk m c 2 t) _ _ _ _ a b).1.trans (by rw [gradient]; rfl)))
    fun i => (covered i).imp fun t ht => ⟨flush0_7 _, ht⟩

theorem result_8 : (dats m 0 c).arrAt 8 cfg0.N = deltas (A m c 0) (ST m c) (A m c 1) (A m c 2) :=
  (dats m 0 c).arrAt_eq_of_cover 8 (deltas (A m c 0) (ST m c) (A m c 1) (A m c 2)) (fun t _ => (flushed8 m c t).trans (entries (T := 256) (C := 1024) fun a b =>
      (bodies (grid0.coords t) (iblk m c 0 t) (iblk m c 1 t) (iblk m c 2 t) _ _ _ _ a b).2.1.trans (by rw [gradient]; rfl)))
    fun i => (covered i).imp fun t ht => ⟨flush0_8 _, ht⟩

theorem result_9 : (dats m 0 c).arrAt 9 cfg0.N = means (ST m c) (A m c 1) :=
  (dats m 0 c).arrAt_eq_of_cover 9 (means (ST m c) (A m c 1)) (fun t _ => (flushed9 m c t).trans (entries (T := 256) (C := 1024) fun a b =>
      (bodies (grid0.coords t) (iblk m c 0 t) (iblk m c 1 t) (iblk m c 2 t) _ _ _ _ a b).2.2.1.trans (by rw [gradient]; rfl)))
    fun i => (covered i).imp fun t ht => ⟨flush0_9 _, ht⟩

theorem result_10 : (dats m 0 c).arrAt 10 cfg0.N = spreads (ST m c) (A m c 2) :=
  (dats m 0 c).arrAt_eq_of_cover 10 (spreads (ST m c) (A m c 2)) (fun t _ => (flushed10 m c t).trans (entries (T := 256) (C := 1024) fun a b =>
      (bodies (grid0.coords t) (iblk m c 0 t) (iblk m c 1 t) (iblk m c 2 t) _ _ _ _ a b).2.2.2.trans (by rw [gradient]; rfl)))
    fun i => (covered i).imp fun t ht => ⟨flush0_10 _, ht⟩

end

section
open Cert.RefAdamMlpUpIdeal Cert.RefAdamMlpUpIdeal.Gen

theorem reference (g0 g1 g2 g3 : FVec Ideal ⟨2, ![3840, 1024]⟩ .f32) :
    (concatenate S4x1024x1024 0 [⟨S1x1024x1024, ((broadcastInDim S1x1024x1024 ![1, 2] bcast_S1024x1024_S1x1024x1024_1_2 (extractStridedSlice S1024x1024 ![1792, 0] g0 slices_S3840x1024_S1024x1024_1792_0)) : (⟨S1x1024x1024, .f32⟩ : BufTy).Contents (Elt Ideal))⟩, ⟨S1x1024x1024, ((broadcastInDim S1x1024x1024 ![1, 2] bcast_S1024x1024_S1x1024x1024_1_2 (extractStridedSlice S1024x1024 ![1792, 0] g1 slices_S3840x1024_S1024x1024_1792_0)) : (⟨S1x1024x1024, .f32⟩ : BufTy).Contents (Elt Ideal))⟩, ⟨S1x1024x1024, ((broadcastInDim S1x1024x1024 ![1, 2] bcast_S1024x1024_S1x1024x1024_1_2 (extractStridedSlice S1024x1024 ![1792, 0] g2 slices_S3840x1024_S1024x1024_1792_0)) : (⟨S1x1024x1024, .f32⟩ : BufTy).Contents (Elt Ideal))⟩, ⟨S1x1024x1024, ((broadcastInDim S1x1024x1024 ![1, 2] bcast_S1024x1024_S1x1024x1024_1_2 (extractStridedSlice S1024x1024 ![1792, 0] g3 slices_S3840x1024_S1024x1024_1792_0)) : (⟨S1x1024x1024, .f32⟩ : BufTy).Contents (Elt Ideal))⟩] concatenates_S1x1024x1024_S1x1024x1024_S1x1024x1024_S1x1024x1024_S4x1024x1024_d0 : (⟨S4x1024x1024, .f32⟩ : BufTy).Contents (Elt Ideal)) = stack 1792 1024 g0 g1 g2 g3 := by
  funext i
  obtain ⟨l, a, b, rfl⟩ := ix3_of i
  show _ = pick 1792 g0 g1 g2 g3 l.val a.val b.val
  unfold pick
  fin_cases l <;> pointwise <;> exact cell_eq _ _ rfl rfl

end

end AdamMlpUp

/-! ## adamMlpDown -/

namespace AdamMlpDown

section
open Cert.AdamMlpDownIdeal Cert.AdamMlpDownIdeal.Gen Cert.AdamMlpDownIdeal.Value

section
variable (i : grid0.Coords) (x0 x1 x2 : FVec Ideal S1x256x1024 .f32) (x3 x4 x5 x6 : FVec Ideal S256x1024 .f32) (a : Fin 256) (b : Fin 1024)

theorem bodies : out0_7 (F := Ideal) i x0 x1 x2 x3 x4 x5 x6 (ix3 0 a b) = k0_pay4 (F := Ideal) i x3 x4 x5 x6 (ix2 a b) ∧
    out0_8 (F := Ideal) i x0 x1 x2 x3 x4 x5 x6 (ix3 0 a b)
      = delta (x0 (ix3 0 a b)) (k0_pay4 (F := Ideal) i x3 x4 x5 x6 (ix2 a b)) (x1 (ix3 0 a b)) (x2 (ix3 0 a b)) ∧
    out0_9 (F := Ideal) i x0 x1 x2 x3 x4 x5 x6 (ix3 0 a b) = mean (k0_pay4 (F := Ideal) i x3 x4 x5 x6 (ix2 a b)) (x1 (ix3 0 a b)) ∧
    out0_10 (F := Ideal) i x0 x1 x2 x3 x4 x5 x6 (ix3 0 a b) = spread (k0_pay4 (F := Ideal) i x3 x4 x5 x6 (ix2 a b)) (x2 (ix3 0 a b)) := by
  unfold out0_7 out0_8 out0_9 out0_10
  simp only [View.canon_unit_zero (S := S1x256x1024) origin3, View.ld_unit_zero (S := S256x1024) origin2, View.ld_unit_zero (S := S1x256x1024) origin3]
  unfold k0_pay1 k0_pay2 k0_pay3 k0_pay7 k0_pay8 k0_pay9 k0_pay5 k0_pay6 delta mean spread
  generalize k0_pay4 (F := Ideal) i x3 x4 x5 x6 = g
  refine ⟨?_, ?_, ?_, ?_⟩ <;> pointwise

end

variable (m : (ℓ : Loc nD τ sig) → Buf (Elt Ideal) ℓ) (c : Dev nD)

abbrev A (k : Fin 3) : FVec Ideal ⟨3, ![4, 1024, 1024]⟩ .f32 :=
  match k with
  | 0 => m ((c : Thread nD τ).loc main_arg0)
  | 1 => m ((c : Thread nD τ).loc main_arg1)
  | 2 => m ((c : Thread nD τ).loc main_arg2)

abbrev G (k : Fin 4) : FVec Ideal ⟨2, ![3840, 1024]⟩ .f32 :=
  match k with
  | 0 => m ((c : Thread nD τ).loc main_arg3)
  | 1 => m ((c : Thread nD τ).loc main_arg4)
  | 2 => m ((c : Thread nD τ).loc main_arg5)
  | 3 => m ((c : Thread nD τ).loc main_arg6)

abbrev ST : FVec Ideal ⟨3, ![4, 1024, 1024]⟩ .f32 := stack 2816 1024 (G m c 0) (G m c 1) (G m c 2) (G m c 3)

theorem at7 : ∀ t : Fin grid0.N, win0_7.index t 0 = t.val / 4 ∧ win0_7.index t 1 = t.val % 4 ∧ win0_7.index t 2 = 0 := by decide +kernel
theorem layer : ∀ t : Fin grid0.N, (grid0.coords t 0).val = t.val / 4 := by decide +kernel
theorem at3 : ∀ t : Fin grid0.N, (t.val / 4 = 0 → win0_3.index t 0 = 11 + t.val % 4) ∧ win0_3.index t 1 = 0 := by decide +kernel
theorem at4 : ∀ t : Fin grid0.N, (t.val / 4 = 1 → win0_4.index t 0 = 11 + t.val % 4) ∧ win0_4.index t 1 = 0 := by decide +kernel
theorem at5 : ∀ t : Fin grid0.N, (t.val / 4 = 2 → win0_5.index t 0 = 11 + t.val % 4) ∧ win0_5.index t 1 = 0 := by decide +kernel
theorem at6 : ∀ t : Fin grid0.N, (t.val / 4 = 3 → win0_6.index t 0 = 11 + t.val % 4) ∧ win0_6.index t 1 = 0 := by decide +kernel

/-- Where a block's entry lies in the whole array. -/
abbrev place (t : Fin cfg0.N) (a : Fin 256) (b : Fin 1024) : (⟨3, ![4, 1024, 1024]⟩ : Shape).Idx := ((cfg0.win 7).blk t).view.emb (ix3 0 a b)

theorem gradient (t : Fin cfg0.N) (a : Fin 256) (b : Fin 1024) :
    k0_pay4 (F := Ideal) (grid0.coords t) (iblk m c 3 t) (iblk m c 4 t) (iblk m c 5 t) (iblk m c 6 t) (ix2 a b) = ST m c (place t a b) := by
  have hl : t.val / 4 < 4 := by have hn : t.val < 16 := lt_of_lt_of_eq t.isLt N_0; omega
  have h0 : (place t a b 0).val = t.val / 4 := by show win0_7.index t 0 * 1 + 1 * 0 = _; rw [(at7 t).1]; omega
  have h1 : (place t a b 1).val = t.val % 4 * 256 + a.val := by show win0_7.index t 1 * 256 + 1 * a.val = _; rw [(at7 t).2.1]; omega
  have h2 : (place t a b 2).val = b.val := by show win0_7.index t 2 * 1024 + 1 * b.val = _; rw [(at7 t).2.2]; omega
  unfold k0_pay4 ST stack pick
  rw [h0, h1, h2]
  simp only [layer]
  rw [choose _ hl]
  split_ifs with e3 e2 e1
  · exact cell_eq (G m c 3) (((cfg0.win 6).blk t).view.emb (ix2 a b))
      (show win0_6.index t 0 * 256 + 1 * a.val = _ by rw [(at6 t).1 (by omega)]; omega) (show win0_6.index t 1 * 1024 + 1 * b.val = _ by rw [(at6 t).2]; omega)
  · exact cell_eq (G m c 2) (((cfg0.win 5).blk t).view.emb (ix2 a b))
      (show win0_5.index t 0 * 256 + 1 * a.val = _ by rw [(at5 t).1 (by omega)]; omega) (show win0_5.index t 1 * 1024 + 1 * b.val = _ by rw [(at5 t).2]; omega)
  · exact cell_eq (G m c 1) (((cfg0.win 4).blk t).view.emb (ix2 a b))
      (show win0_4.index t 0 * 256 + 1 * a.val = _ by rw [(at4 t).1 (by omega)]; omega) (show win0_4.index t 1 * 1024 + 1 * b.val = _ by rw [(at4 t).2]; omega)
  · exact cell_eq (G m c 0) (((cfg0.win 3).blk t).view.emb (ix2 a b))
      (show win0_3.index t 0 * 256 + 1 * a.val = _ by rw [(at3 t).1 (by omega)]; omega) (show win0_3.index t 1 * 1024 + 1 * b.val = _ by rw [(at3 t).2]; omega)

theorem covered (i : (⟨3, ![4, 1024, 1024]⟩ : Shape).Idx) : ∃ t : Fin cfg0.N, i ∈ ((cfg0.win 7).blk t).view.set := by
  have h0 : (i 0 : Nat) < 4 := (i 0).isLt
  have h1 : (i 1 : Nat) < 1024 := (i 1).isLt
  refine ⟨⟨(i 0).val * 4 + (i 1).val / 256, by rw [show cfg0.N = 16 from N_0]; omega⟩, ?_⟩
  generalize ht : (⟨(i 0).val * 4 + (i 1).val / 256, _⟩ : Fin cfg0.N) = t
  have hv : t.val = (i 0).val * 4 + (i 1).val / 256 := by rw [← ht]
  show i ∈ ((View.whole main_v0_0).slice (win0_7.rect t)).set
  rw [View.set_slice_whole, Rect.mem_set_unit]
  exact inside (R := 1024) (T := 256) (C := 1024) (win0_7.index t) i (by rw [(at7 t).1]; omega) (by rw [(at7 t).2.1]; omega) (at7 t).2.2 (by omega)

theorem result_7 : (dats m 0 c).arrAt 7 cfg0.N = ST m c :=
  (dats m 0 c).arrAt_eq_of_cover 7 (ST m c) (fun t _ => (flushed7 m c t).trans (entries (T := 256) (C := 1024) fun a b =>
      (bodies (grid0.coords t) (iblk m c 0 t) (iblk m c 1 t) (iblk m c 2 t) _ _ _ _ a b).1.trans (by rw [gradient]; rfl)))
    fun i => (covered i).imp fun t ht => ⟨flush0_7 _, ht⟩

theorem result_8 : (dats m 0 c).arrAt 8 cfg0.N = deltas (A m c 0) (ST m c) (A m c 1) (A m c 2) :=
  (dats m 0 c).arrAt_eq_of_cover 8 (deltas (A m c 0) (ST m c) (A m c 1) (A m c 2)) (fun t _ => (flushed8 m c t).trans (entries (T := 256) (C := 1024) fun a b =>
      (bodies (grid0.coords t) (iblk m c 0 t) (iblk m c 1 t) (iblk m c 2 t) _ _ _ _ a b).2.1.trans (by rw [gradient]; rfl)))
    fun i => (covered i).imp fun t ht => ⟨flush0_8 _, ht⟩

theorem result_9 : (dats m 0 c).arrAt 9 cfg0.N = means (ST m c) (A m c 1) :=
  (dats m 0 c).arrAt_eq_of_cover 9 (means (ST m c) (A m c 1)) (fun t _ => (flushed9 m c t).trans (entries (T := 256) (C := 1024) fun a b =>
      (bodies (grid0.coords t) (iblk m c 0 t) (iblk m c 1 t) (iblk m c 2 t) _ _ _ _ a b).2.2.1.trans (by rw [gradient]; rfl)))
    fun i => (covered i).imp fun t ht => ⟨flush0_9 _, ht⟩

theorem result_10 : (dats m 0 c).arrAt 10 cfg0.N = spreads (ST m c) (A m c 2) :=
  (dats m 0 c).arrAt_eq_of_cover 10 (spreads (ST m c) (A m c 2)) (fun t _ => (flushed10 m c t).trans (entries (T := 256) (C := 1024) fun a b =>
      (bodies (grid0.coords t) (iblk m c 0 t) (iblk m c 1 t) (iblk m c 2 t) _ _ _ _ a b).2.2.2.trans (by rw [gradient]; rfl)))
    fun i => (covered i).imp fun t ht => ⟨flush0_10 _, ht⟩

end

section
open Cert.RefAdamMlpDownIdeal Cert.RefAdamMlpDownIdeal.Gen

theorem reference (g0 g1 g2 g3 : FVec Ideal ⟨2, ![3840, 1024]⟩ .f32) :
    (concatenate S4x1024x1024 0 [⟨S1x1024x1024, ((broadcastInDim S1x1024x1024 ![1, 2] bcast_S1024x1024_S1x1024x1024_1_2 (extractStridedSlice S1024x1024 ![2816, 0] g0 slices_S3840x1024_S1024x1024_2816_0)) : (⟨S1x1024x1024, .f32⟩ : BufTy).Contents (Elt Ideal))⟩, ⟨S1x1024x1024, ((broadcastInDim S1x1024x1024 ![1, 2] bcast_S1024x1024_S1x1024x1024_1_2 (extractStridedSlice S1024x1024 ![2816, 0] g1 slices_S3840x1024_S1024x1024_2816_0)) : (⟨S1x1024x1024, .f32⟩ : BufTy).Contents (Elt Ideal))⟩, ⟨S1x1024x1024, ((broadcastInDim S1x1024x1024 ![1, 2] bcast_S1024x1024_S1x1024x1024_1_2 (extractStridedSlice S1024x1024 ![2816, 0] g2 slices_S3840x1024_S1024x1024_2816_0)) : (⟨S1x1024x1024, .f32⟩ : BufTy).Contents (Elt Ideal))⟩, ⟨S1x1024x1024, ((broadcastInDim S1x1024x1024 ![1, 2] bcast_S1024x1024_S1x1024x1024_1_2 (extractStridedSlice S1024x1024 ![2816, 0] g3 slices_S3840x1024_S1024x1024_2816_0)) : (⟨S1x1024x1024, .f32⟩ : BufTy).Contents (Elt Ideal))⟩] concatenates_S1x1024x1024_S1x1024x1024_S1x1024x1024_S1x1024x1024_S4x1024x1024_d0 : (⟨S4x1024x1024, .f32⟩ : BufTy).Contents (Elt Ideal)) = stack 2816 1024 g0 g1 g2 g3 := by
  funext i
  obtain ⟨l, a, b, rfl⟩ := ix3_of i
  show _ = pick 2816 g0 g1 g2 g3 l.val a.val b.val
  unfold pick
  fin_cases l <;> pointwise <;> exact cell_eq _ _ rfl rfl

end

end AdamMlpDown

/-! ## adamXkv -/

namespace AdamXkv

section
open Cert.AdamXkvIdeal Cert.AdamXkvIdeal.Gen Cert.AdamXkvIdeal.Value

section
variable (i : grid0.Coords) (x0 x1 x2 : FVec Ideal S1x1024x512 .f32) (x3 x4 x5 x6 : FVec Ideal S1024x512 .f32) (a : Fin 1024) (b : Fin 512)

theorem bodies : out0_7 (F := Ideal) i x0 x1 x2 x3 x4 x5 x6 (ix3 0 a b) = k0_pay4 (F := Ideal) i x3 x4 x5 x6 (ix2 a b) ∧
    out0_8 (F := Ideal) i x0 x1 x2 x3 x4 x5 x6 (ix3 0 a b)
      = delta (x0 (ix3 0 a b)) (k0_pay4 (F := Ideal) i x3 x4 x5 x6 (ix2 a b)) (x1 (ix3 0 a b)) (x2 (ix3 0 a b)) ∧
    out0_9 (F := Ideal) i x0 x1 x2 x3 x4 x5 x6 (ix3 0 a b) = mean (k0_pay4 (F := Ideal) i x3 x4 x5 x6 (ix2 a b)) (x1 (ix3 0 a b)) ∧
    out0_10 (F := Ideal) i x0 x1 x2 x3 x4 x5 x6 (ix3 0 a b) = spread (k0_pay4 (F := Ideal) i x3 x4 x5 x6 (ix2 a b)) (x2 (ix3 0 a b)) := by
  unfold out0_7 out0_8 out0_9 out0_10
  simp only [View.canon_unit_zero (S := S1x1024x512) origin3, View.ld_unit_zero (S := S1024x512) origin2, View.ld_unit_zero (S := S1x1024x512) origin3]
  unfold k0_pay1 k0_pay2 k0_pay3 k0_pay7 k0_pay8 k0_pay9 k0_pay5 k0_pay6 delta mean spread
  generalize k0_pay4 (F := Ideal) i x3 x4 x5 x6 = g
  refine ⟨?_, ?_, ?_, ?_⟩ <;> pointwise

end

variable (m : (ℓ : Loc nD τ sig) → Buf (Elt Ideal) ℓ) (c : Dev nD)

abbrev A (k : Fin 3) : FVec Ideal ⟨3, ![4, 1024, 512]⟩ .f32 :=
  match k with
  | 0 => m ((c : Thread nD τ).loc main_arg0)
  | 1 => m ((c : Thread nD τ).loc main_arg1)
  | 2 => m ((c : Thread nD τ).loc main_arg2)

abbrev G (k : Fin 4) : FVec Ideal ⟨2, ![1024, 512]⟩ .f32 :=
  match k with
  | 0 => m ((c : Thread nD τ).loc main_arg3)
  | 1 => m ((c : Thread nD τ).loc main_arg4)
  | 2 => m ((c : Thread nD τ).loc main_arg5)
  | 3 => m ((c : Thread nD τ).loc main_arg6)

abbrev ST : FVec Ideal ⟨3, ![4, 1024, 512]⟩ .f32 := stack 0 1024 (G m c 0) (G m c 1) (G m c 2) (G m c 3)

theorem at7 : ∀ t : Fin grid0.N, win0_7.index t 0 = t.val / 1 ∧ win0_7.index t 1 = t.val % 1 ∧ win0_7.index t 2 = 0 := by decide +kernel
theorem layer : ∀ t : Fin grid0.N, (grid0.coords t 0).val = t.val / 1 := by decide +kernel
theorem at3 : ∀ t : Fin grid0.N, (t.val / 1 = 0 → win0_3.index t 0 = 0 + t.val % 1) ∧ win0_3.index t 1 = 0 := by decide +kernel
theorem at4 : ∀ t : Fin grid0.N, (t.val / 1 = 1 → win0_4.index t 0 = 0 + t.val % 1) ∧ win0_4.index t 1 = 0 := by decide +kernel
theorem at5 : ∀ t : Fin grid0.N, (t.val / 1 = 2 → win0_5.index t 0 = 0 + t.val % 1) ∧ win0_5.index t 1 = 0 := by decide +kernel
theorem at6 : ∀ t : Fin grid0.N, (t.val / 1 = 3 → win0_6.index t 0 = 0 + t.val % 1) ∧ win0_6.index t 1 = 0 := by decide +kernel

/-- Where a block's entry lies in the whole array. -/
abbrev place (t : Fin cfg0.N) (a : Fin 1024) (b : Fin 512) : (⟨3, ![4, 1024, 512]⟩ : Shape).Idx := ((cfg0.win 7).blk t).view.emb (ix3 0 a b)

theorem gradient (t : Fin cfg0.N) (a : Fin 1024) (b : Fin 512) :
    k0_pay4 (F := Ideal) (grid0.coords t) (iblk m c 3 t) (iblk m c 4 t) (iblk m c 5 t) (iblk m c 6 t) (ix2 a b) = ST m c (place t a b) := by
  have hl : t.val / 1 < 4 := by have hn : t.val < 4 := lt_of_lt_of_eq t.isLt N_0; omega
  have h0 : (place t a b 0).val = t.val / 1 := by show win0_7.index t 0 * 1 + 1 * 0 = _; rw [(at7 t).1]; omega
  have h1 : (place t a b 1).val = t.val % 1 * 1024 + a.val := by show win0_7.index t 1 * 1024 + 1 * a.val = _; rw [(at7 t).2.1]; omega
  have h2 : (place t a b 2).val = b.val := by show win0_7.index t 2 * 512 + 1 * b.val = _; rw [(at7 t).2.2]; omega
  unfold k0_pay4 ST stack pick
  rw [h0, h1, h2]
  simp only [layer]
  rw [choose _ hl]
  split_ifs with e3 e2 e1
  · exact cell_eq (G m c 3) (((cfg0.win 6).blk t).view.emb (ix2 a b))
      (show win0_6.index t 0 * 1024 + 1 * a.val = _ by rw [(at6 t).1 (by omega)]; omega) (show win0_6.index t 1 * 512 + 1 * b.val = _ by rw [(at6 t).2]; omega)
  · exact cell_eq (G m c 2) (((cfg0.win 5).blk t).view.emb (ix2 a b))
      (show win0_5.index t 0 * 1024 + 1 * a.val = _ by rw [(at5 t).1 (by omega)]; omega) (show win0_5.index t 1 * 512 + 1 * b.val = _ by rw [(at5 t).2]; omega)
  · exact cell_eq (G m c 1) (((cfg0.win 4).blk t).view.emb (ix2 a b))
      (show win0_4.index t 0 * 1024 + 1 * a.val = _ by rw [(at4 t).1 (by omega)]; omega) (show win0_4.index t 1 * 512 + 1 * b.val = _ by rw [(at4 t).2]; omega)
  · exact cell_eq (G m c 0) (((cfg0.win 3).blk t).view.emb (ix2 a b))
      (show win0_3.index t 0 * 1024 + 1 * a.val = _ by rw [(at3 t).1 (by omega)]; omega) (show win0_3.index t 1 * 512 + 1 * b.val = _ by rw [(at3 t).2]; omega)

theorem covered (i : (⟨3, ![4, 1024, 512]⟩ : Shape).Idx) : ∃ t : Fin cfg0.N, i ∈ ((cfg0.win 7).blk t).view.set := by
  have h0 : (i 0 : Nat) < 4 := (i 0).isLt
  have h1 : (i 1 : Nat) < 1024 := (i 1).isLt
  refine ⟨⟨(i 0).val * 1 + (i 1).val / 1024, by rw [show cfg0.N = 4 from N_0]; omega⟩, ?_⟩
  generalize ht : (⟨(i 0).val * 1 + (i 1).val / 1024, _⟩ : Fin cfg0.N) = t
  have hv : t.val = (i 0).val * 1 + (i 1).val / 1024 := by rw [← ht]
  show i ∈ ((View.whole main_v0_0).slice (win0_7.rect t)).set
  rw [View.set_slice_whole, Rect.mem_set_unit]
  exact inside (R := 1024) (T := 1024) (C := 512) (win0_7.index t) i (by rw [(at7 t).1]; omega) (by rw [(at7 t).2.1]; omega) (at7 t).2.2 (by omega)

theorem result_7 : (dats m 0 c).arrAt 7 cfg0.N = ST m c :=
  (dats m 0 c).arrAt_eq_of_cover 7 (ST m c) (fun t _ => (flushed7 m c t).trans (entries (T := 1024) (C := 512) fun a b =>
      (bodies (grid0.coords t) (iblk m c 0 t) (iblk m c 1 t) (iblk m c 2 t) _ _ _ _ a b).1.trans (by rw [gradient]; rfl)))
    fun i => (covered i).imp fun t ht => ⟨flush0_7 _, ht⟩

theorem result_8 : (dats m 0 c).arrAt 8 cfg0.N = deltas (A m c 0) (ST m c) (A m c 1) (A m c 2) :=
  (dats m 0 c).arrAt_eq_of_cover 8 (deltas (A m c 0) (ST m c) (A m c 1) (A m c 2)) (fun t _ => (flushed8 m c t).trans (entries (T := 1024) (C := 512) fun a b =>
      (bodies (grid0.coords t) (iblk m c 0 t) (iblk m c 1 t) (iblk m c 2 t) _ _ _ _ a b).2.1.trans (by rw [gradient]; rfl)))
    fun i => (covered i).imp fun t ht => ⟨flush0_8 _, ht⟩

theorem result_9 : (dats m 0 c).arrAt 9 cfg0.N = means (ST m c) (A m c 1) :=
  (dats m 0 c).arrAt_eq_of_cover 9 (means (ST m c) (A m c 1)) (fun t _ => (flushed9 m c t).trans (entries (T := 1024) (C := 512) fun a b =>
      (bodies (grid0.coords t) (iblk m c 0 t) (iblk m c 1 t) (iblk m c 2 t) _ _ _ _ a b).2.2.1.trans (by rw [gradient]; rfl)))
    fun i => (covered i).imp fun t ht => ⟨flush0_9 _, ht⟩

theorem result_10 : (dats m 0 c).arrAt 10 cfg0.N = spreads (ST m c) (A m c 2) :=
  (dats m 0 c).arrAt_eq_of_cover 10 (spreads (ST m c) (A m c 2)) (fun t _ => (flushed10 m c t).trans (entries (T := 1024) (C := 512) fun a b =>
      (bodies (grid0.coords t) (iblk m c 0 t) (iblk m c 1 t) (iblk m c 2 t) _ _ _ _ a b).2.2.2.trans (by rw [gradient]; rfl)))
    fun i => (covered i).imp fun t ht => ⟨flush0_10 _, ht⟩

end

section
open Cert.RefAdamXkvIdeal Cert.RefAdamXkvIdeal.Gen

theorem reference (g0 g1 g2 g3 : FVec Ideal ⟨2, ![1024, 512]⟩ .f32) :
    (concatenate S4x1024x512 0 [⟨S1x1024x512, ((broadcastInDim S1x1024x512 ![1, 2] bcast_S1024x512_S1x1024x512_1_2 g0) : (⟨S1x1024x512, .f32⟩ : BufTy).Contents (Elt Ideal))⟩, ⟨S1x1024x512, ((broadcastInDim S1x1024x512 ![1, 2] bcast_S1024x512_S1x1024x512_1_2 g1) : (⟨S1x1024x512, .f32⟩ : BufTy).Contents (Elt Ideal))⟩, ⟨S1x1024x512, ((broadcastInDim S1x1024x512 ![1, 2] bcast_S1024x512_S1x1024x512_1_2 g2) : (⟨S1x1024x512, .f32⟩ : BufTy).Contents (Elt Ideal))⟩, ⟨S1x1024x512, ((broadcastInDim S1x1024x512 ![1, 2] bcast_S1024x512_S1x1024x512_1_2 g3) : (⟨S1x1024x512, .f32⟩ : BufTy).Contents (Elt Ideal))⟩] concatenates_S1x1024x512_S1x1024x512_S1x1024x512_S1x1024x512_S4x1024x512_d0 : (⟨S4x1024x512, .f32⟩ : BufTy).Contents (Elt Ideal)) = stack 0 1024 g0 g1 g2 g3 := by
  funext i
  obtain ⟨l, a, b, rfl⟩ := ix3_of i
  show _ = pick 0 g0 g1 g2 g3 l.val a.val b.val
  unfold pick
  fin_cases l <;> pointwise <;> exact cell_eq _ _ rfl rfl

end

end AdamXkv

theorem frame_refAdamXq [Cert.RefAdamXqIdeal.Facts] : Cert.quiescent_RefAdamXqIdeal := fun m ρ _ =>
  (θ_run Cert.RefAdamXqIdeal.defs _ _).mono (fun r h => ⟨fun c => (h c).2.2.2.2, sem_eq_zero_of_no_sems (by decide) r.2⟩)
    (Cert.RefAdamXqIdeal.Value.run m ρ)

theorem adamXq [Cert.AdamXqIdeal.Facts] [Cert.RefAdamXqIdeal.Facts] : Cert.algebraic_AdamXqIdeal_RefAdamXqIdeal := fun m g m' g' _ hm => by
  refine ⟨_, _, _, _, (θ_run Cert.AdamXqIdeal.defs _ _).mono (fun r h c => ⟨(h c).1.trans (AdamXq.result_7 m c), (h c).2.1.trans (AdamXq.result_8 m c),
      (h c).2.2.1.trans (AdamXq.result_9 m c), (h c).2.2.2.1.trans (AdamXq.result_10 m c), (h c).2.2.2.2⟩) (Cert.AdamXqIdeal.Value.run_blocks m g),
    (θ_run Cert.RefAdamXqIdeal.defs _ _).mono (fun r h c => ⟨(h c).1.trans ?_, (h c).2.1.trans ?_, (h c).2.2.1.trans ?_, (h c).2.2.2.1.trans ?_,
      (h c).2.2.2.2⟩) (Cert.RefAdamXqIdeal.Value.run m' g')⟩
  all_goals
    obtain ⟨e0, e1, e2, e3, e4, e5, e6⟩ := hm c
    try unfold Cert.RefAdamXqIdeal.Value.res_main_v32
    have h := AdamXq.reference (m' ((c : Thread Cert.RefAdamXqIdeal.nD Cert.RefAdamXqIdeal.τ).loc Cert.RefAdamXqIdeal.main_arg3)) (m' ((c : Thread Cert.RefAdamXqIdeal.nD Cert.RefAdamXqIdeal.τ).loc Cert.RefAdamXqIdeal.main_arg4))
      (m' ((c : Thread Cert.RefAdamXqIdeal.nD Cert.RefAdamXqIdeal.τ).loc Cert.RefAdamXqIdeal.main_arg5)) (m' ((c : Thread Cert.RefAdamXqIdeal.nD Cert.RefAdamXqIdeal.τ).loc Cert.RefAdamXqIdeal.main_arg6))
    simp only [h]
    simp only [e0, e1, e2, e3, e4, e5, e6]
    try rfl

theorem frame_refAdamConvOut [Cert.RefAdamConvOutIdeal.Facts] : Cert.quiescent_RefAdamConvOutIdeal := fun m ρ _ =>
  (θ_run Cert.RefAdamConvOutIdeal.defs _ _).mono (fun r h => ⟨fun c => (h c).2.2.2.2, sem_eq_zero_of_no_sems (by decide) r.2⟩)
    (Cert.RefAdamConvOutIdeal.Value.run m ρ)

theorem adamConvOut [Cert.AdamConvOutIdeal.Facts] [Cert.RefAdamConvOutIdeal.Facts] : Cert.algebraic_AdamConvOutIdeal_RefAdamConvOutIdeal := fun m g m' g' _ hm => by
  refine ⟨_, _, _, _, (θ_run Cert.AdamConvOutIdeal.defs _ _).mono (fun r h c => ⟨(h c).1.trans (AdamConvOut.result_7 m c), (h c).2.1.trans (AdamConvOut.result_8 m c),
      (h c).2.2.1.trans (AdamConvOut.result_9 m c), (h c).2.2.2.1.trans (AdamConvOut.result_10 m c), (h c).2.2.2.2⟩) (Cert.AdamConvOutIdeal.Value.run_blocks m g),
    (θ_run Cert.RefAdamConvOutIdeal.defs _ _).mono (fun r h c => ⟨(h c).1.trans ?_, (h c).2.1.trans ?_, (h c).2.2.1.trans ?_, (h c).2.2.2.1.trans ?_,
      (h c).2.2.2.2⟩) (Cert.RefAdamConvOutIdeal.Value.run m' g')⟩
  all_goals
    obtain ⟨e0, e1, e2, e3, e4, e5, e6⟩ := hm c
    try unfold Cert.RefAdamConvOutIdeal.Value.res_main_v32
    have h := AdamConvOut.reference (m' ((c : Thread Cert.RefAdamConvOutIdeal.nD Cert.RefAdamConvOutIdeal.τ).loc Cert.RefAdamConvOutIdeal.main_arg3)) (m' ((c : Thread Cert.RefAdamConvOutIdeal.nD Cert.RefAdamConvOutIdeal.τ).loc Cert.RefAdamConvOutIdeal.main_arg4))
      (m' ((c : Thread Cert.RefAdamConvOutIdeal.nD Cert.RefAdamConvOutIdeal.τ).loc Cert.RefAdamConvOutIdeal.main_arg5)) (m' ((c : Thread Cert.RefAdamConvOutIdeal.nD Cert.RefAdamConvOutIdeal.τ).loc Cert.RefAdamConvOutIdeal.main_arg6))
    simp only [h]
    simp only [e0, e1, e2, e3, e4, e5, e6]
    try rfl

theorem frame_refAdamAttnOut [Cert.RefAdamAttnOutIdeal.Facts] : Cert.quiescent_RefAdamAttnOutIdeal := fun m ρ _ =>
  (θ_run Cert.RefAdamAttnOutIdeal.defs _ _).mono (fun r h => ⟨fun c => (h c).2.2.2.2, sem_eq_zero_of_no_sems (by decide) r.2⟩)
    (Cert.RefAdamAttnOutIdeal.Value.run m ρ)

theorem adamAttnOut [Cert.AdamAttnOutIdeal.Facts] [Cert.RefAdamAttnOutIdeal.Facts] : Cert.algebraic_AdamAttnOutIdeal_RefAdamAttnOutIdeal := fun m g m' g' _ hm => by
  refine ⟨_, _, _, _, (θ_run Cert.AdamAttnOutIdeal.defs _ _).mono (fun r h c => ⟨(h c).1.trans (AdamAttnOut.result_7 m c), (h c).2.1.trans (AdamAttnOut.result_8 m c),
      (h c).2.2.1.trans (AdamAttnOut.result_9 m c), (h c).2.2.2.1.trans (AdamAttnOut.result_10 m c), (h c).2.2.2.2⟩) (Cert.AdamAttnOutIdeal.Value.run_blocks m g),
    (θ_run Cert.RefAdamAttnOutIdeal.defs _ _).mono (fun r h c => ⟨(h c).1.trans ?_, (h c).2.1.trans ?_, (h c).2.2.1.trans ?_, (h c).2.2.2.1.trans ?_,
      (h c).2.2.2.2⟩) (Cert.RefAdamAttnOutIdeal.Value.run m' g')⟩
  all_goals
    obtain ⟨e0, e1, e2, e3, e4, e5, e6⟩ := hm c
    try unfold Cert.RefAdamAttnOutIdeal.Value.res_main_v32
    have h := AdamAttnOut.reference (m' ((c : Thread Cert.RefAdamAttnOutIdeal.nD Cert.RefAdamAttnOutIdeal.τ).loc Cert.RefAdamAttnOutIdeal.main_arg3)) (m' ((c : Thread Cert.RefAdamAttnOutIdeal.nD Cert.RefAdamAttnOutIdeal.τ).loc Cert.RefAdamAttnOutIdeal.main_arg4))
      (m' ((c : Thread Cert.RefAdamAttnOutIdeal.nD Cert.RefAdamAttnOutIdeal.τ).loc Cert.RefAdamAttnOutIdeal.main_arg5)) (m' ((c : Thread Cert.RefAdamAttnOutIdeal.nD Cert.RefAdamAttnOutIdeal.τ).loc Cert.RefAdamAttnOutIdeal.main_arg6))
    simp only [h]
    simp only [e0, e1, e2, e3, e4, e5, e6]
    try rfl

theorem frame_refAdamMixOut [Cert.RefAdamMixOutIdeal.Facts] : Cert.quiescent_RefAdamMixOutIdeal := fun m ρ _ =>
  (θ_run Cert.RefAdamMixOutIdeal.defs _ _).mono (fun r h => ⟨fun c => (h c).2.2.2.2, sem_eq_zero_of_no_sems (by decide) r.2⟩)
    (Cert.RefAdamMixOutIdeal.Value.run m ρ)

theorem adamMixOut [Cert.AdamMixOutIdeal.Facts] [Cert.RefAdamMixOutIdeal.Facts] : Cert.algebraic_AdamMixOutIdeal_RefAdamMixOutIdeal := fun m g m' g' _ hm => by
  refine ⟨_, _, _, _, (θ_run Cert.AdamMixOutIdeal.defs _ _).mono (fun r h c => ⟨(h c).1.trans (AdamMixOut.result_7 m c), (h c).2.1.trans (AdamMixOut.result_8 m c),
      (h c).2.2.1.trans (AdamMixOut.result_9 m c), (h c).2.2.2.1.trans (AdamMixOut.result_10 m c), (h c).2.2.2.2⟩) (Cert.AdamMixOutIdeal.Value.run_blocks m g),
    (θ_run Cert.RefAdamMixOutIdeal.defs _ _).mono (fun r h c => ⟨(h c).1.trans ?_, (h c).2.1.trans ?_, (h c).2.2.1.trans ?_, (h c).2.2.2.1.trans ?_,
      (h c).2.2.2.2⟩) (Cert.RefAdamMixOutIdeal.Value.run m' g')⟩
  all_goals
    obtain ⟨e0, e1, e2, e3, e4, e5, e6⟩ := hm c
    try unfold Cert.RefAdamMixOutIdeal.Value.res_main_v32
    have h := AdamMixOut.reference (m' ((c : Thread Cert.RefAdamMixOutIdeal.nD Cert.RefAdamMixOutIdeal.τ).loc Cert.RefAdamMixOutIdeal.main_arg3)) (m' ((c : Thread Cert.RefAdamMixOutIdeal.nD Cert.RefAdamMixOutIdeal.τ).loc Cert.RefAdamMixOutIdeal.main_arg4))
      (m' ((c : Thread Cert.RefAdamMixOutIdeal.nD Cert.RefAdamMixOutIdeal.τ).loc Cert.RefAdamMixOutIdeal.main_arg5)) (m' ((c : Thread Cert.RefAdamMixOutIdeal.nD Cert.RefAdamMixOutIdeal.τ).loc Cert.RefAdamMixOutIdeal.main_arg6))
    simp only [h]
    simp only [e0, e1, e2, e3, e4, e5, e6]
    try rfl

theorem frame_refAdamXo [Cert.RefAdamXoIdeal.Facts] : Cert.quiescent_RefAdamXoIdeal := fun m ρ _ =>
  (θ_run Cert.RefAdamXoIdeal.defs _ _).mono (fun r h => ⟨fun c => (h c).2.2.2.2, sem_eq_zero_of_no_sems (by decide) r.2⟩)
    (Cert.RefAdamXoIdeal.Value.run m ρ)

theorem adamXo [Cert.AdamXoIdeal.Facts] [Cert.RefAdamXoIdeal.Facts] : Cert.algebraic_AdamXoIdeal_RefAdamXoIdeal := fun m g m' g' _ hm => by
  refine ⟨_, _, _, _, (θ_run Cert.AdamXoIdeal.defs _ _).mono (fun r h c => ⟨(h c).1.trans (AdamXo.result_7 m c), (h c).2.1.trans (AdamXo.result_8 m c),
      (h c).2.2.1.trans (AdamXo.result_9 m c), (h c).2.2.2.1.trans (AdamXo.result_10 m c), (h c).2.2.2.2⟩) (Cert.AdamXoIdeal.Value.run_blocks m g),
    (θ_run Cert.RefAdamXoIdeal.defs _ _).mono (fun r h c => ⟨(h c).1.trans ?_, (h c).2.1.trans ?_, (h c).2.2.1.trans ?_, (h c).2.2.2.1.trans ?_,
      (h c).2.2.2.2⟩) (Cert.RefAdamXoIdeal.Value.run m' g')⟩
  all_goals
    obtain ⟨e0, e1, e2, e3, e4, e5, e6⟩ := hm c
    try unfold Cert.RefAdamXoIdeal.Value.res_main_v32
    have h := AdamXo.reference (m' ((c : Thread Cert.RefAdamXoIdeal.nD Cert.RefAdamXoIdeal.τ).loc Cert.RefAdamXoIdeal.main_arg3)) (m' ((c : Thread Cert.RefAdamXoIdeal.nD Cert.RefAdamXoIdeal.τ).loc Cert.RefAdamXoIdeal.main_arg4))
      (m' ((c : Thread Cert.RefAdamXoIdeal.nD Cert.RefAdamXoIdeal.τ).loc Cert.RefAdamXoIdeal.main_arg5)) (m' ((c : Thread Cert.RefAdamXoIdeal.nD Cert.RefAdamXoIdeal.τ).loc Cert.RefAdamXoIdeal.main_arg6))
    simp only [h]
    simp only [e0, e1, e2, e3, e4, e5, e6]
    try rfl

theorem frame_refAdamSsdOut [Cert.RefAdamSsdOutIdeal.Facts] : Cert.quiescent_RefAdamSsdOutIdeal := fun m ρ _ =>
  (θ_run Cert.RefAdamSsdOutIdeal.defs _ _).mono (fun r h => ⟨fun c => (h c).2.2.2.2, sem_eq_zero_of_no_sems (by decide) r.2⟩)
    (Cert.RefAdamSsdOutIdeal.Value.run m ρ)

theorem adamSsdOut [Cert.AdamSsdOutIdeal.Facts] [Cert.RefAdamSsdOutIdeal.Facts] : Cert.algebraic_AdamSsdOutIdeal_RefAdamSsdOutIdeal := fun m g m' g' _ hm => by
  refine ⟨_, _, _, _, (θ_run Cert.AdamSsdOutIdeal.defs _ _).mono (fun r h c => ⟨(h c).1.trans (AdamSsdOut.result_7 m c), (h c).2.1.trans (AdamSsdOut.result_8 m c),
      (h c).2.2.1.trans (AdamSsdOut.result_9 m c), (h c).2.2.2.1.trans (AdamSsdOut.result_10 m c), (h c).2.2.2.2⟩) (Cert.AdamSsdOutIdeal.Value.run_blocks m g),
    (θ_run Cert.RefAdamSsdOutIdeal.defs _ _).mono (fun r h c => ⟨(h c).1.trans ?_, (h c).2.1.trans ?_, (h c).2.2.1.trans ?_, (h c).2.2.2.1.trans ?_,
      (h c).2.2.2.2⟩) (Cert.RefAdamSsdOutIdeal.Value.run m' g')⟩
  all_goals
    obtain ⟨e0, e1, e2, e3, e4, e5, e6⟩ := hm c
    try unfold Cert.RefAdamSsdOutIdeal.Value.res_main_v32
    have h := AdamSsdOut.reference (m' ((c : Thread Cert.RefAdamSsdOutIdeal.nD Cert.RefAdamSsdOutIdeal.τ).loc Cert.RefAdamSsdOutIdeal.main_arg3)) (m' ((c : Thread Cert.RefAdamSsdOutIdeal.nD Cert.RefAdamSsdOutIdeal.τ).loc Cert.RefAdamSsdOutIdeal.main_arg4))
      (m' ((c : Thread Cert.RefAdamSsdOutIdeal.nD Cert.RefAdamSsdOutIdeal.τ).loc Cert.RefAdamSsdOutIdeal.main_arg5)) (m' ((c : Thread Cert.RefAdamSsdOutIdeal.nD Cert.RefAdamSsdOutIdeal.τ).loc Cert.RefAdamSsdOutIdeal.main_arg6))
    simp only [h]
    simp only [e0, e1, e2, e3, e4, e5, e6]
    try rfl

theorem frame_refAdamMlpUp [Cert.RefAdamMlpUpIdeal.Facts] : Cert.quiescent_RefAdamMlpUpIdeal := fun m ρ _ =>
  (θ_run Cert.RefAdamMlpUpIdeal.defs _ _).mono (fun r h => ⟨fun c => (h c).2.2.2.2, sem_eq_zero_of_no_sems (by decide) r.2⟩)
    (Cert.RefAdamMlpUpIdeal.Value.run m ρ)

theorem adamMlpUp [Cert.AdamMlpUpIdeal.Facts] [Cert.RefAdamMlpUpIdeal.Facts] : Cert.algebraic_AdamMlpUpIdeal_RefAdamMlpUpIdeal := fun m g m' g' _ hm => by
  refine ⟨_, _, _, _, (θ_run Cert.AdamMlpUpIdeal.defs _ _).mono (fun r h c => ⟨(h c).1.trans (AdamMlpUp.result_7 m c), (h c).2.1.trans (AdamMlpUp.result_8 m c),
      (h c).2.2.1.trans (AdamMlpUp.result_9 m c), (h c).2.2.2.1.trans (AdamMlpUp.result_10 m c), (h c).2.2.2.2⟩) (Cert.AdamMlpUpIdeal.Value.run_blocks m g),
    (θ_run Cert.RefAdamMlpUpIdeal.defs _ _).mono (fun r h c => ⟨(h c).1.trans ?_, (h c).2.1.trans ?_, (h c).2.2.1.trans ?_, (h c).2.2.2.1.trans ?_,
      (h c).2.2.2.2⟩) (Cert.RefAdamMlpUpIdeal.Value.run m' g')⟩
  all_goals
    obtain ⟨e0, e1, e2, e3, e4, e5, e6⟩ := hm c
    try unfold Cert.RefAdamMlpUpIdeal.Value.res_main_v32
    have h := AdamMlpUp.reference (m' ((c : Thread Cert.RefAdamMlpUpIdeal.nD Cert.RefAdamMlpUpIdeal.τ).loc Cert.RefAdamMlpUpIdeal.main_arg3)) (m' ((c : Thread Cert.RefAdamMlpUpIdeal.nD Cert.RefAdamMlpUpIdeal.τ).loc Cert.RefAdamMlpUpIdeal.main_arg4))
      (m' ((c : Thread Cert.RefAdamMlpUpIdeal.nD Cert.RefAdamMlpUpIdeal.τ).loc Cert.RefAdamMlpUpIdeal.main_arg5)) (m' ((c : Thread Cert.RefAdamMlpUpIdeal.nD Cert.RefAdamMlpUpIdeal.τ).loc Cert.RefAdamMlpUpIdeal.main_arg6))
    simp only [h]
    simp only [e0, e1, e2, e3, e4, e5, e6]
    try rfl

theorem frame_refAdamMlpDown [Cert.RefAdamMlpDownIdeal.Facts] : Cert.quiescent_RefAdamMlpDownIdeal := fun m ρ _ =>
  (θ_run Cert.RefAdamMlpDownIdeal.defs _ _).mono (fun r h => ⟨fun c => (h c).2.2.2.2, sem_eq_zero_of_no_sems (by decide) r.2⟩)
    (Cert.RefAdamMlpDownIdeal.Value.run m ρ)

theorem adamMlpDown [Cert.AdamMlpDownIdeal.Facts] [Cert.RefAdamMlpDownIdeal.Facts] : Cert.algebraic_AdamMlpDownIdeal_RefAdamMlpDownIdeal := fun m g m' g' _ hm => by
  refine ⟨_, _, _, _, (θ_run Cert.AdamMlpDownIdeal.defs _ _).mono (fun r h c => ⟨(h c).1.trans (AdamMlpDown.result_7 m c), (h c).2.1.trans (AdamMlpDown.result_8 m c),
      (h c).2.2.1.trans (AdamMlpDown.result_9 m c), (h c).2.2.2.1.trans (AdamMlpDown.result_10 m c), (h c).2.2.2.2⟩) (Cert.AdamMlpDownIdeal.Value.run_blocks m g),
    (θ_run Cert.RefAdamMlpDownIdeal.defs _ _).mono (fun r h c => ⟨(h c).1.trans ?_, (h c).2.1.trans ?_, (h c).2.2.1.trans ?_, (h c).2.2.2.1.trans ?_,
      (h c).2.2.2.2⟩) (Cert.RefAdamMlpDownIdeal.Value.run m' g')⟩
  all_goals
    obtain ⟨e0, e1, e2, e3, e4, e5, e6⟩ := hm c
    try unfold Cert.RefAdamMlpDownIdeal.Value.res_main_v32
    have h := AdamMlpDown.reference (m' ((c : Thread Cert.RefAdamMlpDownIdeal.nD Cert.RefAdamMlpDownIdeal.τ).loc Cert.RefAdamMlpDownIdeal.main_arg3)) (m' ((c : Thread Cert.RefAdamMlpDownIdeal.nD Cert.RefAdamMlpDownIdeal.τ).loc Cert.RefAdamMlpDownIdeal.main_arg4))
      (m' ((c : Thread Cert.RefAdamMlpDownIdeal.nD Cert.RefAdamMlpDownIdeal.τ).loc Cert.RefAdamMlpDownIdeal.main_arg5)) (m' ((c : Thread Cert.RefAdamMlpDownIdeal.nD Cert.RefAdamMlpDownIdeal.τ).loc Cert.RefAdamMlpDownIdeal.main_arg6))
    simp only [h]
    simp only [e0, e1, e2, e3, e4, e5, e6]
    try rfl

theorem frame_refAdamXkv [Cert.RefAdamXkvIdeal.Facts] : Cert.quiescent_RefAdamXkvIdeal := fun m ρ _ =>
  (θ_run Cert.RefAdamXkvIdeal.defs _ _).mono (fun r h => ⟨fun c => (h c).2.2.2.2, sem_eq_zero_of_no_sems (by decide) r.2⟩)
    (Cert.RefAdamXkvIdeal.Value.run m ρ)

theorem adamXkv [Cert.AdamXkvIdeal.Facts] [Cert.RefAdamXkvIdeal.Facts] : Cert.algebraic_AdamXkvIdeal_RefAdamXkvIdeal := fun m g m' g' _ hm => by
  refine ⟨_, _, _, _, (θ_run Cert.AdamXkvIdeal.defs _ _).mono (fun r h c => ⟨(h c).1.trans (AdamXkv.result_7 m c), (h c).2.1.trans (AdamXkv.result_8 m c),
      (h c).2.2.1.trans (AdamXkv.result_9 m c), (h c).2.2.2.1.trans (AdamXkv.result_10 m c), (h c).2.2.2.2⟩) (Cert.AdamXkvIdeal.Value.run_blocks m g),
    (θ_run Cert.RefAdamXkvIdeal.defs _ _).mono (fun r h c => ⟨(h c).1.trans ?_, (h c).2.1.trans ?_, (h c).2.2.1.trans ?_, (h c).2.2.2.1.trans ?_,
      (h c).2.2.2.2⟩) (Cert.RefAdamXkvIdeal.Value.run m' g')⟩
  all_goals
    obtain ⟨e0, e1, e2, e3, e4, e5, e6⟩ := hm c
    try unfold Cert.RefAdamXkvIdeal.Value.res_main_v32
    have h := AdamXkv.reference (m' ((c : Thread Cert.RefAdamXkvIdeal.nD Cert.RefAdamXkvIdeal.τ).loc Cert.RefAdamXkvIdeal.main_arg3)) (m' ((c : Thread Cert.RefAdamXkvIdeal.nD Cert.RefAdamXkvIdeal.τ).loc Cert.RefAdamXkvIdeal.main_arg4))
      (m' ((c : Thread Cert.RefAdamXkvIdeal.nD Cert.RefAdamXkvIdeal.τ).loc Cert.RefAdamXkvIdeal.main_arg5)) (m' ((c : Thread Cert.RefAdamXkvIdeal.nD Cert.RefAdamXkvIdeal.τ).loc Cert.RefAdamXkvIdeal.main_arg6))
    simp only [h]
    simp only [e0, e1, e2, e3, e4, e5, e6]
    try rfl

end Cert.Layers

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_inputs
public import proofs.«01_k».proof.Proof.Gen.KernelIdeal.Value
public import proofs.«01_k».proof.Proof.Gen.InDw
public import proofs.«01_k».proof.Proof.Gen.InDw.Frame
public import proofs.«01_k».proof.Proof.Gen.InDwIdeal
public import proofs.«01_k».proof.Proof.Gen.InDwIdeal.Frame
public import proofs.«01_k».proof.Proof.Gen.InDwIdeal.Value
public import proofs.«01_k».proof.Proof.Gen.RefInDwIdeal
public import proofs.«01_k».proof.Proof.Gen.RefInDwIdeal.Run
public import proofs.«01_k».proof.Proof.Gen.InDx
public import proofs.«01_k».proof.Proof.Gen.InDx.Frame
public import proofs.«01_k».proof.Proof.Gen.InDxIdeal
public import proofs.«01_k».proof.Proof.Gen.InDxIdeal.Frame
public import proofs.«01_k».proof.Proof.Gen.InDxIdeal.Value
public import proofs.«01_k».proof.Proof.Gen.RefInDxIdeal
public import proofs.«01_k».proof.Proof.Gen.RefInDxIdeal.Run
public import proofs.«01_k».proof.Proof.Gen.DownDx
public import proofs.«01_k».proof.Proof.Gen.DownDx.Frame
public import proofs.«01_k».proof.Proof.Gen.DownDxIdeal
public import proofs.«01_k».proof.Proof.Gen.DownDxIdeal.Frame
public import proofs.«01_k».proof.Proof.Gen.DownDxIdeal.Value
public import proofs.«01_k».proof.Proof.Gen.RefDownDxIdeal
public import proofs.«01_k».proof.Proof.Gen.RefDownDxIdeal.Run
public import proofs.«01_k».proof.Proof.Gen.DownDw
public import proofs.«01_k».proof.Proof.Gen.DownDw.Frame
public import proofs.«01_k».proof.Proof.Gen.DownDwIdeal
public import proofs.«01_k».proof.Proof.Gen.DownDwIdeal.Frame
public import proofs.«01_k».proof.Proof.Gen.DownDwIdeal.Value
public import proofs.«01_k».proof.Proof.Gen.RefDownDwIdeal
public import proofs.«01_k».proof.Proof.Gen.RefDownDwIdeal.Run
public import proofs.«01_k».proof.Proof.Gen.UpDw
public import proofs.«01_k».proof.Proof.Gen.UpDw.Frame
public import proofs.«01_k».proof.Proof.Gen.UpDwIdeal
public import proofs.«01_k».proof.Proof.Gen.UpDwIdeal.Frame
public import proofs.«01_k».proof.Proof.Gen.UpDwIdeal.Value
public import proofs.«01_k».proof.Proof.Gen.RefUpDwIdeal
public import proofs.«01_k».proof.Proof.Gen.RefUpDwIdeal.Run
public import proofs.«01_k».proof.Proof.Gen.UpDx
public import proofs.«01_k».proof.Proof.Gen.UpDx.Frame
public import proofs.«01_k».proof.Proof.Gen.UpDxIdeal
public import proofs.«01_k».proof.Proof.Gen.UpDxIdeal.Frame
public import proofs.«01_k».proof.Proof.Gen.UpDxIdeal.Value
public import proofs.«01_k».proof.Proof.Gen.RefUpDxIdeal
public import proofs.«01_k».proof.Proof.Gen.RefUpDxIdeal.Run
public import proofs.«01_k».proof.Proof.Gen.MergeBwd
public import proofs.«01_k».proof.Proof.Gen.MergeBwd.Frame
public import proofs.«01_k».proof.Proof.Gen.MergeBwdIdeal
public import proofs.«01_k».proof.Proof.Gen.MergeBwdIdeal.Frame
public import proofs.«01_k».proof.Proof.Gen.MergeBwdIdeal.Value
public import proofs.«01_k».proof.Proof.Gen.RefMergeBwdIdeal
public import proofs.«01_k».proof.Proof.Gen.RefMergeBwdIdeal.Run
public import proofs.«01_k».proof.Proof.Gen.RmsBwd
public import proofs.«01_k».proof.Proof.Gen.RmsBwd.Frame
public import proofs.«01_k».proof.Proof.Gen.RmsBwdIdeal
public import proofs.«01_k».proof.Proof.Gen.RmsBwdIdeal.Frame
public import proofs.«01_k».proof.Proof.Gen.RmsBwdIdeal.Value
public import proofs.«01_k».proof.Proof.Gen.RefRmsBwdIdeal
public import proofs.«01_k».proof.Proof.Gen.RefRmsBwdIdeal.Run
public import proofs.«01_k».proof.Proof.Gen.LnSiluBwd
public import proofs.«01_k».proof.Proof.Gen.LnSiluBwd.Frame
public import proofs.«01_k».proof.Proof.Gen.LnSiluBwdIdeal
public import proofs.«01_k».proof.Proof.Gen.LnSiluBwdIdeal.Frame
public import proofs.«01_k».proof.Proof.Gen.LnSiluBwdIdeal.Value
public import proofs.«01_k».proof.Proof.Gen.RefLnSiluBwdIdeal
public import proofs.«01_k».proof.Proof.Gen.RefLnSiluBwdIdeal.Run
public import proofs.«01_k».proof.Proof.Gen.SsdOutDw
public import proofs.«01_k».proof.Proof.Gen.SsdOutDw.Frame
public import proofs.«01_k».proof.Proof.Gen.SsdOutDwIdeal
public import proofs.«01_k».proof.Proof.Gen.SsdOutDwIdeal.Frame
public import proofs.«01_k».proof.Proof.Gen.SsdOutDwIdeal.Value
public import proofs.«01_k».proof.Proof.Gen.RefSsdOutDwIdeal
public import proofs.«01_k».proof.Proof.Gen.RefSsdOutDwIdeal.Run
public import proofs.«01_k».proof.Proof.Gen.SsdOutDx
public import proofs.«01_k».proof.Proof.Gen.SsdOutDx.Frame
public import proofs.«01_k».proof.Proof.Gen.SsdOutDxIdeal
public import proofs.«01_k».proof.Proof.Gen.SsdOutDxIdeal.Frame
public import proofs.«01_k».proof.Proof.Gen.SsdOutDxIdeal.Value
public import proofs.«01_k».proof.Proof.Gen.RefSsdOutDxIdeal
public import proofs.«01_k».proof.Proof.Gen.RefSsdOutDxIdeal.Run
public import proofs.«01_k».proof.Proof.Gen.XoDw
public import proofs.«01_k».proof.Proof.Gen.XoDw.Frame
public import proofs.«01_k».proof.Proof.Gen.XoDwIdeal
public import proofs.«01_k».proof.Proof.Gen.XoDwIdeal.Frame
public import proofs.«01_k».proof.Proof.Gen.XoDwIdeal.Value
public import proofs.«01_k».proof.Proof.Gen.RefXoDwIdeal
public import proofs.«01_k».proof.Proof.Gen.RefXoDwIdeal.Run
public import proofs.«01_k».proof.Proof.Gen.XoDx
public import proofs.«01_k».proof.Proof.Gen.XoDx.Frame
public import proofs.«01_k».proof.Proof.Gen.XoDxIdeal
public import proofs.«01_k».proof.Proof.Gen.XoDxIdeal.Frame
public import proofs.«01_k».proof.Proof.Gen.XoDxIdeal.Value
public import proofs.«01_k».proof.Proof.Gen.RefXoDxIdeal
public import proofs.«01_k».proof.Proof.Gen.RefXoDxIdeal.Run
public import proofs.«01_k».proof.Proof.Gen.ConvOutDw
public import proofs.«01_k».proof.Proof.Gen.ConvOutDw.Frame
public import proofs.«01_k».proof.Proof.Gen.ConvOutDwIdeal
public import proofs.«01_k».proof.Proof.Gen.ConvOutDwIdeal.Frame
public import proofs.«01_k».proof.Proof.Gen.ConvOutDwIdeal.Value
public import proofs.«01_k».proof.Proof.Gen.RefConvOutDwIdeal
public import proofs.«01_k».proof.Proof.Gen.RefConvOutDwIdeal.Run
public import proofs.«01_k».proof.Proof.Gen.ConvOutDx
public import proofs.«01_k».proof.Proof.Gen.ConvOutDx.Frame
public import proofs.«01_k».proof.Proof.Gen.ConvOutDxIdeal
public import proofs.«01_k».proof.Proof.Gen.ConvOutDxIdeal.Frame
public import proofs.«01_k».proof.Proof.Gen.ConvOutDxIdeal.Value
public import proofs.«01_k».proof.Proof.Gen.RefConvOutDxIdeal
public import proofs.«01_k».proof.Proof.Gen.RefConvOutDxIdeal.Run
public import proofs.«01_k».proof.Proof.Gen.MmIn
public import proofs.«01_k».proof.Proof.Gen.MmIn.Frame
public import proofs.«01_k».proof.Proof.Gen.MmInIdeal
public import proofs.«01_k».proof.Proof.Gen.MmInIdeal.Frame
public import proofs.«01_k».proof.Proof.Gen.MmInIdeal.Value
public import proofs.«01_k».proof.Proof.Gen.RefMmInIdeal
public import proofs.«01_k».proof.Proof.Gen.RefMmInIdeal.Run
public import proofs.«01_k».proof.Proof.Gen.MmUp
public import proofs.«01_k».proof.Proof.Gen.MmUp.Frame
public import proofs.«01_k».proof.Proof.Gen.MmUpIdeal
public import proofs.«01_k».proof.Proof.Gen.MmUpIdeal.Frame
public import proofs.«01_k».proof.Proof.Gen.MmUpIdeal.Value
public import proofs.«01_k».proof.Proof.Gen.RefMmUpIdeal
public import proofs.«01_k».proof.Proof.Gen.RefMmUpIdeal.Run
public import proofs.«01_k».proof.Proof.Gen.MmDown
public import proofs.«01_k».proof.Proof.Gen.MmDown.Frame
public import proofs.«01_k».proof.Proof.Gen.MmDownIdeal
public import proofs.«01_k».proof.Proof.Gen.MmDownIdeal.Frame
public import proofs.«01_k».proof.Proof.Gen.MmDownIdeal.Value
public import proofs.«01_k».proof.Proof.Gen.RefMmDownIdeal
public import proofs.«01_k».proof.Proof.Gen.RefMmDownIdeal.Run
public import proofs.«01_k».proof.Proof.Gen.MmSsdOut
public import proofs.«01_k».proof.Proof.Gen.MmSsdOut.Frame
public import proofs.«01_k».proof.Proof.Gen.MmSsdOutIdeal
public import proofs.«01_k».proof.Proof.Gen.MmSsdOutIdeal.Frame
public import proofs.«01_k».proof.Proof.Gen.MmSsdOutIdeal.Value
public import proofs.«01_k».proof.Proof.Gen.RefMmSsdOutIdeal
public import proofs.«01_k».proof.Proof.Gen.RefMmSsdOutIdeal.Run
public import proofs.«01_k».proof.Proof.Gen.MmConvOut
public import proofs.«01_k».proof.Proof.Gen.MmConvOut.Frame
public import proofs.«01_k».proof.Proof.Gen.MmConvOutIdeal
public import proofs.«01_k».proof.Proof.Gen.MmConvOutIdeal.Frame
public import proofs.«01_k».proof.Proof.Gen.MmConvOutIdeal.Value
public import proofs.«01_k».proof.Proof.Gen.RefMmConvOutIdeal
public import proofs.«01_k».proof.Proof.Gen.RefMmConvOutIdeal.Run
public import proofs.«01_k».proof.Proof.Gen.MmXo
public import proofs.«01_k».proof.Proof.Gen.MmXo.Frame
public import proofs.«01_k».proof.Proof.Gen.MmXoIdeal
public import proofs.«01_k».proof.Proof.Gen.MmXoIdeal.Frame
public import proofs.«01_k».proof.Proof.Gen.MmXoIdeal.Value
public import proofs.«01_k».proof.Proof.Gen.RefMmXoIdeal
public import proofs.«01_k».proof.Proof.Gen.RefMmXoIdeal.Run
public import proofs.«01_k».proof.Proof.Gen.ConvBBwd
public import proofs.«01_k».proof.Proof.Gen.ConvBBwd.Frame
public import proofs.«01_k».proof.Proof.Gen.ConvBBwdIdeal
public import proofs.«01_k».proof.Proof.Gen.ConvBBwdIdeal.Frame
public import proofs.«01_k».proof.Proof.Gen.ConvBBwdIdeal.Value
public import proofs.«01_k».proof.Proof.Gen.RefConvBBwdIdeal
public import proofs.«01_k».proof.Proof.Gen.RefConvBBwdIdeal.Run
public import proofs.«01_k».proof.Proof.Gen.ConvB
public import proofs.«01_k».proof.Proof.Gen.ConvB.Frame
public import proofs.«01_k».proof.Proof.Gen.ConvBIdeal
public import proofs.«01_k».proof.Proof.Gen.ConvBIdeal.Frame
public import proofs.«01_k».proof.Proof.Gen.ConvBIdeal.Value
public import proofs.«01_k».proof.Proof.Gen.RefConvBIdeal
public import proofs.«01_k».proof.Proof.Gen.RefConvBIdeal.Run
public import proofs.«01_k».proof.Proof.Gen.Rms
public import proofs.«01_k».proof.Proof.Gen.Rms.Frame
public import proofs.«01_k».proof.Proof.Gen.RmsIdeal
public import proofs.«01_k».proof.Proof.Gen.RmsIdeal.Frame
public import proofs.«01_k».proof.Proof.Gen.RmsIdeal.Value
public import proofs.«01_k».proof.Proof.Gen.RefRmsIdeal
public import proofs.«01_k».proof.Proof.Gen.RefRmsIdeal.Run
public import proofs.«01_k».proof.Proof.Gen.LnSilu
public import proofs.«01_k».proof.Proof.Gen.LnSilu.Frame
public import proofs.«01_k».proof.Proof.Gen.LnSiluIdeal
public import proofs.«01_k».proof.Proof.Gen.LnSiluIdeal.Frame
public import proofs.«01_k».proof.Proof.Gen.LnSiluIdeal.Value
public import proofs.«01_k».proof.Proof.Gen.RefLnSiluIdeal
public import proofs.«01_k».proof.Proof.Gen.RefLnSiluIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.RefMergeIdeal
public import proofs.«01_k».proof.Proof.Gen.RefMergeIdeal.Run
public import proofs.«01_k».proof.Proof.Gen.XkvDw
public import proofs.«01_k».proof.Proof.Gen.XkvDw.Frame
public import proofs.«01_k».proof.Proof.Gen.XkvDwIdeal
public import proofs.«01_k».proof.Proof.Gen.XkvDwIdeal.Frame
public import proofs.«01_k».proof.Proof.Gen.XkvDwIdeal.Value
public import proofs.«01_k».proof.Proof.Gen.RefXkvDwIdeal
public import proofs.«01_k».proof.Proof.Gen.RefXkvDwIdeal.Run
public import proofs.«01_k».proof.Proof.Gen.XkvDx
public import proofs.«01_k».proof.Proof.Gen.XkvDx.Frame
public import proofs.«01_k».proof.Proof.Gen.XkvDxIdeal
public import proofs.«01_k».proof.Proof.Gen.XkvDxIdeal.Frame
public import proofs.«01_k».proof.Proof.Gen.XkvDxIdeal.Value
public import proofs.«01_k».proof.Proof.Gen.RefXkvDxIdeal
public import proofs.«01_k».proof.Proof.Gen.RefXkvDxIdeal.Run
public import proofs.«01_k».proof.Proof.Gen.MmXkv
public import proofs.«01_k».proof.Proof.Gen.MmXkv.Frame
public import proofs.«01_k».proof.Proof.Gen.MmXkvIdeal
public import proofs.«01_k».proof.Proof.Gen.MmXkvIdeal.Frame
public import proofs.«01_k».proof.Proof.Gen.MmXkvIdeal.Value
public import proofs.«01_k».proof.Proof.Gen.RefMmXkvIdeal
public import proofs.«01_k».proof.Proof.Gen.RefMmXkvIdeal.Run
public import proofs.«01_k».proof.Proof.Gen.Xa
public import proofs.«01_k».proof.Proof.Gen.Xa.Frame
public import proofs.«01_k».proof.Proof.Gen.XaIdeal
public import proofs.«01_k».proof.Proof.Gen.XaIdeal.Frame
public import proofs.«01_k».proof.Proof.Gen.XaIdeal.Value
public import proofs.«01_k».proof.Proof.Gen.RefXaIdeal
public import proofs.«01_k».proof.Proof.Gen.RefXaIdeal.Run
public import proofs.«01_k».proof.Proof.Gen.RmsMem
public import proofs.«01_k».proof.Proof.Gen.RmsMem.Frame
public import proofs.«01_k».proof.Proof.Gen.RmsMemIdeal
public import proofs.«01_k».proof.Proof.Gen.RmsMemIdeal.Frame
public import proofs.«01_k».proof.Proof.Gen.RmsMemIdeal.Value
public import proofs.«01_k».proof.Proof.Gen.RefRmsMemIdeal
public import proofs.«01_k».proof.Proof.Gen.RefRmsMemIdeal.Run
public import proofs.«01_k».proof.Proof.Gen.RmsMemBwd
public import proofs.«01_k».proof.Proof.Gen.RmsMemBwd.Frame
public import proofs.«01_k».proof.Proof.Gen.RmsMemBwdIdeal
public import proofs.«01_k».proof.Proof.Gen.RmsMemBwdIdeal.Frame
public import proofs.«01_k».proof.Proof.Gen.RmsMemBwdIdeal.Value
public import proofs.«01_k».proof.Proof.Gen.RefRmsMemBwdIdeal
public import proofs.«01_k».proof.Proof.Gen.RefRmsMemBwdIdeal.Run
public import proofs.«01_k».proof.Proof.Gen.AdamGain
public import proofs.«01_k».proof.Proof.Gen.AdamGain.Frame
public import proofs.«01_k».proof.Proof.Gen.AdamGainIdeal
public import proofs.«01_k».proof.Proof.Gen.AdamGainIdeal.Frame
public import proofs.«01_k».proof.Proof.Gen.AdamGainIdeal.Value
public import proofs.«01_k».proof.Proof.Gen.RefAdamGainIdeal
public import proofs.«01_k».proof.Proof.Gen.RefAdamGainIdeal.Run
public import proofs.«01_k».proof.Proof.Gen.AdamHeads
public import proofs.«01_k».proof.Proof.Gen.AdamHeads.Frame
public import proofs.«01_k».proof.Proof.Gen.AdamHeadsIdeal
public import proofs.«01_k».proof.Proof.Gen.AdamHeadsIdeal.Frame
public import proofs.«01_k».proof.Proof.Gen.AdamHeadsIdeal.Value
public import proofs.«01_k».proof.Proof.Gen.RefAdamHeadsIdeal
public import proofs.«01_k».proof.Proof.Gen.RefAdamHeadsIdeal.Run
public import proofs.«01_k».proof.Proof.Gen.AdamHead
public import proofs.«01_k».proof.Proof.Gen.AdamHead.Frame
public import proofs.«01_k».proof.Proof.Gen.AdamHeadIdeal
public import proofs.«01_k».proof.Proof.Gen.AdamHeadIdeal.Frame
public import proofs.«01_k».proof.Proof.Gen.AdamHeadIdeal.Value
public import proofs.«01_k».proof.Proof.Gen.RefAdamHeadIdeal
public import proofs.«01_k».proof.Proof.Gen.RefAdamHeadIdeal.Run
public import proofs.«01_k».proof.Proof.Gen.AdamCross
public import proofs.«01_k».proof.Proof.Gen.AdamCross.Frame
public import proofs.«01_k».proof.Proof.Gen.AdamCrossIdeal
public import proofs.«01_k».proof.Proof.Gen.AdamCrossIdeal.Frame
public import proofs.«01_k».proof.Proof.Gen.AdamCrossIdeal.Value
public import proofs.«01_k».proof.Proof.Gen.RefAdamCrossIdeal
public import proofs.«01_k».proof.Proof.Gen.RefAdamCrossIdeal.Run
public import proofs.«01_k».proof.Proof.Gen.AdamSinks
public import proofs.«01_k».proof.Proof.Gen.AdamSinks.Frame
public import proofs.«01_k».proof.Proof.Gen.AdamSinksIdeal
public import proofs.«01_k».proof.Proof.Gen.AdamSinksIdeal.Frame
public import proofs.«01_k».proof.Proof.Gen.AdamSinksIdeal.Value
public import proofs.«01_k».proof.Proof.Gen.RefAdamSinksIdeal
public import proofs.«01_k».proof.Proof.Gen.RefAdamSinksIdeal.Run
public import proofs.«01_k».proof.Proof.Gen.AdamTable
public import proofs.«01_k».proof.Proof.Gen.AdamTable.Frame
public import proofs.«01_k».proof.Proof.Gen.AdamTableIdeal
public import proofs.«01_k».proof.Proof.Gen.AdamTableIdeal.Frame
public import proofs.«01_k».proof.Proof.Gen.AdamTableIdeal.Value
public import proofs.«01_k».proof.Proof.Gen.RefAdamTableIdeal
public import proofs.«01_k».proof.Proof.Gen.RefAdamTableIdeal.Run
public import proofs.«01_k».proof.Proof.Gen.AdamInner
public import proofs.«01_k».proof.Proof.Gen.AdamInner.Frame
public import proofs.«01_k».proof.Proof.Gen.AdamInnerIdeal
public import proofs.«01_k».proof.Proof.Gen.AdamInnerIdeal.Frame
public import proofs.«01_k».proof.Proof.Gen.AdamInnerIdeal.Value
public import proofs.«01_k».proof.Proof.Gen.RefAdamInnerIdeal
public import proofs.«01_k».proof.Proof.Gen.RefAdamInnerIdeal.Run
public import proofs.«01_k».proof.Proof.Gen.AdamBias
public import proofs.«01_k».proof.Proof.Gen.AdamBias.Frame
public import proofs.«01_k».proof.Proof.Gen.AdamBiasIdeal
public import proofs.«01_k».proof.Proof.Gen.AdamBiasIdeal.Frame
public import proofs.«01_k».proof.Proof.Gen.AdamBiasIdeal.Value
public import proofs.«01_k».proof.Proof.Gen.RefAdamBiasIdeal
public import proofs.«01_k».proof.Proof.Gen.RefAdamBiasIdeal.Run
public import proofs.«01_k».proof.Proof.Gen.AdamGates
public import proofs.«01_k».proof.Proof.Gen.AdamGates.Frame
public import proofs.«01_k».proof.Proof.Gen.AdamGatesIdeal
public import proofs.«01_k».proof.Proof.Gen.AdamGatesIdeal.Frame
public import proofs.«01_k».proof.Proof.Gen.AdamGatesIdeal.Value
public import proofs.«01_k».proof.Proof.Gen.RefAdamGatesIdeal
public import proofs.«01_k».proof.Proof.Gen.RefAdamGatesIdeal.Run
public import proofs.«01_k».proof.Proof.Gen.AdamTaps
public import proofs.«01_k».proof.Proof.Gen.AdamTaps.Frame
public import proofs.«01_k».proof.Proof.Gen.AdamTapsIdeal
public import proofs.«01_k».proof.Proof.Gen.AdamTapsIdeal.Frame
public import proofs.«01_k».proof.Proof.Gen.AdamTapsIdeal.Value
public import proofs.«01_k».proof.Proof.Gen.RefAdamTapsIdeal
public import proofs.«01_k».proof.Proof.Gen.RefAdamTapsIdeal.Run
public import proofs.«01_k».proof.Proof.Gen.AdamFour
public import proofs.«01_k».proof.Proof.Gen.AdamFour.Frame
public import proofs.«01_k».proof.Proof.Gen.AdamFourIdeal
public import proofs.«01_k».proof.Proof.Gen.AdamFourIdeal.Frame
public import proofs.«01_k».proof.Proof.Gen.AdamFourIdeal.Value
public import proofs.«01_k».proof.Proof.Gen.RefAdamFourIdeal
public import proofs.«01_k».proof.Proof.Gen.RefAdamFourIdeal.Run
public import proofs.«01_k».proof.Proof.Gen.AdamXq
public import proofs.«01_k».proof.Proof.Gen.AdamXq.Frame
public import proofs.«01_k».proof.Proof.Gen.AdamXqIdeal
public import proofs.«01_k».proof.Proof.Gen.AdamXqIdeal.Frame
public import proofs.«01_k».proof.Proof.Gen.AdamXqIdeal.Value
public import proofs.«01_k».proof.Proof.Gen.RefAdamXqIdeal
public import proofs.«01_k».proof.Proof.Gen.RefAdamXqIdeal.Run
public import proofs.«01_k».proof.Proof.Gen.AdamConvOut
public import proofs.«01_k».proof.Proof.Gen.AdamConvOut.Frame
public import proofs.«01_k».proof.Proof.Gen.AdamConvOutIdeal
public import proofs.«01_k».proof.Proof.Gen.AdamConvOutIdeal.Frame
public import proofs.«01_k».proof.Proof.Gen.AdamConvOutIdeal.Value
public import proofs.«01_k».proof.Proof.Gen.RefAdamConvOutIdeal
public import proofs.«01_k».proof.Proof.Gen.RefAdamConvOutIdeal.Run
public import proofs.«01_k».proof.Proof.Gen.AdamAttnOut
public import proofs.«01_k».proof.Proof.Gen.AdamAttnOut.Frame
public import proofs.«01_k».proof.Proof.Gen.AdamAttnOutIdeal
public import proofs.«01_k».proof.Proof.Gen.AdamAttnOutIdeal.Frame
public import proofs.«01_k».proof.Proof.Gen.AdamAttnOutIdeal.Value
public import proofs.«01_k».proof.Proof.Gen.RefAdamAttnOutIdeal
public import proofs.«01_k».proof.Proof.Gen.RefAdamAttnOutIdeal.Run
public import proofs.«01_k».proof.Proof.Gen.AdamMixOut
public import proofs.«01_k».proof.Proof.Gen.AdamMixOut.Frame
public import proofs.«01_k».proof.Proof.Gen.AdamMixOutIdeal
public import proofs.«01_k».proof.Proof.Gen.AdamMixOutIdeal.Frame
public import proofs.«01_k».proof.Proof.Gen.AdamMixOutIdeal.Value
public import proofs.«01_k».proof.Proof.Gen.RefAdamMixOutIdeal
public import proofs.«01_k».proof.Proof.Gen.RefAdamMixOutIdeal.Run
public import proofs.«01_k».proof.Proof.Gen.AdamXo
public import proofs.«01_k».proof.Proof.Gen.AdamXo.Frame
public import proofs.«01_k».proof.Proof.Gen.AdamXoIdeal
public import proofs.«01_k».proof.Proof.Gen.AdamXoIdeal.Frame
public import proofs.«01_k».proof.Proof.Gen.AdamXoIdeal.Value
public import proofs.«01_k».proof.Proof.Gen.RefAdamXoIdeal
public import proofs.«01_k».proof.Proof.Gen.RefAdamXoIdeal.Run
public import proofs.«01_k».proof.Proof.Gen.AdamSsdOut
public import proofs.«01_k».proof.Proof.Gen.AdamSsdOut.Frame
public import proofs.«01_k».proof.Proof.Gen.AdamSsdOutIdeal
public import proofs.«01_k».proof.Proof.Gen.AdamSsdOutIdeal.Frame
public import proofs.«01_k».proof.Proof.Gen.AdamSsdOutIdeal.Value
public import proofs.«01_k».proof.Proof.Gen.RefAdamSsdOutIdeal
public import proofs.«01_k».proof.Proof.Gen.RefAdamSsdOutIdeal.Run
public import proofs.«01_k».proof.Proof.Gen.AdamMlpUp
public import proofs.«01_k».proof.Proof.Gen.AdamMlpUp.Frame
public import proofs.«01_k».proof.Proof.Gen.AdamMlpUpIdeal
public import proofs.«01_k».proof.Proof.Gen.AdamMlpUpIdeal.Frame
public import proofs.«01_k».proof.Proof.Gen.AdamMlpUpIdeal.Value
public import proofs.«01_k».proof.Proof.Gen.RefAdamMlpUpIdeal
public import proofs.«01_k».proof.Proof.Gen.RefAdamMlpUpIdeal.Run
public import proofs.«01_k».proof.Proof.Gen.AdamMlpDown
public import proofs.«01_k».proof.Proof.Gen.AdamMlpDown.Frame
public import proofs.«01_k».proof.Proof.Gen.AdamMlpDownIdeal
public import proofs.«01_k».proof.Proof.Gen.AdamMlpDownIdeal.Frame
public import proofs.«01_k».proof.Proof.Gen.AdamMlpDownIdeal.Value
public import proofs.«01_k».proof.Proof.Gen.RefAdamMlpDownIdeal
public import proofs.«01_k».proof.Proof.Gen.RefAdamMlpDownIdeal.Run
public import proofs.«01_k».proof.Proof.Gen.AdamXkv
public import proofs.«01_k».proof.Proof.Gen.AdamXkv.Frame
public import proofs.«01_k».proof.Proof.Gen.AdamXkvIdeal
public import proofs.«01_k».proof.Proof.Gen.AdamXkvIdeal.Frame
public import proofs.«01_k».proof.Proof.Gen.AdamXkvIdeal.Value
public import proofs.«01_k».proof.Proof.Gen.RefAdamXkvIdeal
public import proofs.«01_k».proof.Proof.Gen.RefAdamXkvIdeal.Run
public import proofs.«01_k».proof.Proof.Gen.Pre_finite_arguments
public import proofs.«01_k».proof.Proof.Gen.Pre_finite_cotangent
public import proofs.«01_k».proof.Proof.Grads
public import proofs.«01_k».proof.Proof.Finite
public import proofs.«01_k».proof.Proof.Products
public import proofs.«01_k».proof.Proof.Others
public import proofs.«01_k».proof.Proof.More
public import proofs.«01_k».proof.Proof.Memory
public import proofs.«01_k».proof.Proof.Adam
public import proofs.«01_k».proof.Proof.Layers
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The numbers that the arguments hold on device `c`. -/
def nums (m : (ℓ : Loc Cert.KernelIdeal.nD Cert.KernelIdeal.τ Cert.KernelIdeal.sig) → Buf (Elt Ideal) ℓ)
    (c : Dev Cert.KernelIdeal.nD) : Cert.Nums :=
  Cert.Finite.nums (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))

theorem holds_kernel (m : (ℓ : Loc Cert.KernelIdeal.nD Cert.KernelIdeal.τ Cert.KernelIdeal.sig) → Buf (Elt Ideal) ℓ)
    (h : Pre_KernelIdeal_finite_inputs m) (c : Dev Cert.KernelIdeal.nD) : Cert.Fold.Holds m c (nums m c) :=
  ⟨Cert.Finite.x_of (h c), Cert.Finite.kv_of (h c), Cert.Finite.gq_of (h c), Cert.Finite.gk_of (h c), Cert.Finite.o_of (h c)⟩

theorem frame_reference : Cert.quiescent_ReferenceIdeal := fun m ρ _ =>
  (θ_run Cert.ReferenceIdeal.defs _ _).mono (fun r h => ⟨fun c => (h c).2.2.2.2.2,
    sem_eq_zero_of_no_sems (by decide) r.2⟩) (Cert.ReferenceIdeal.Value.run m ρ)

/-- Both programs' five results are the five gradients. -/
theorem value : Cert.algebraic_KernelIdeal_ReferenceIdeal_pre_finite_inputs := fun m g m' g' hp hm => by
  have hr (c : Dev Cert.ReferenceIdeal.nD) : Cert.Ref.Holds
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) (nums m c) := by
    obtain ⟨e0, e1, e2, e3, e4⟩ := hm c
    rw [e0, e1, e2, e3, e4]
    exact ⟨Cert.Finite.x_of (hp c), Cert.Finite.kv_of (hp c), Cert.Finite.gq_of (hp c), Cert.Finite.gk_of (hp c), Cert.Finite.o_of (hp c)⟩
  refine ⟨fun c => (nums m c).dQ, fun c => (nums m c).dK, fun c => (nums m c).dV, fun c => (nums m c).dGQ, fun c => (nums m c).dGK,
    (θ_run Cert.KernelIdeal.defs _ _).mono (fun r h c => ?_) (Cert.KernelIdeal.Value.run_blocks m g),
    (θ_run Cert.ReferenceIdeal.defs _ _).mono (fun r h c => ?_) (Cert.ReferenceIdeal.Value.run m' g')⟩
  · obtain ⟨h0, h1, h2, h3, h4, ha⟩ := h c
    have k := holds_kernel m hp c
    exact ⟨h0.trans (Cert.Arrays.dq_final k), h1.trans (Cert.Arrays.dk_final k), h2.trans (Cert.Arrays.dv_final k),
      h3.trans (Cert.Arrays.gq_final k), h4.trans (Cert.Arrays.gk_final k), ha⟩
  · obtain ⟨h0, h1, h2, h3, h4, ha⟩ := h c
    exact ⟨h0.trans (Cert.Ref.out0_eq (hr c)), h1.trans (Cert.Ref.out1_eq (hr c)), h2.trans (Cert.Ref.out2_eq (hr c)),
      h3.trans (Cert.Ref.out3_eq (hr c)), h4.trans (Cert.Ref.out4_eq (hr c)), ha⟩

theorem claim : Cert.Claim := ⟨Cert.Kernel.Gen.facts, Cert.KernelIdeal.Gen.facts, Cert.ReferenceIdeal.Gen.facts,
  Cert.InDw.Gen.facts, Cert.InDwIdeal.Gen.facts, Cert.RefInDwIdeal.Gen.facts,
  Cert.InDx.Gen.facts, Cert.InDxIdeal.Gen.facts, Cert.RefInDxIdeal.Gen.facts,
  Cert.DownDx.Gen.facts, Cert.DownDxIdeal.Gen.facts, Cert.RefDownDxIdeal.Gen.facts,
  Cert.DownDw.Gen.facts, Cert.DownDwIdeal.Gen.facts, Cert.RefDownDwIdeal.Gen.facts,
  Cert.UpDw.Gen.facts, Cert.UpDwIdeal.Gen.facts, Cert.RefUpDwIdeal.Gen.facts,
  Cert.UpDx.Gen.facts, Cert.UpDxIdeal.Gen.facts, Cert.RefUpDxIdeal.Gen.facts,
  Cert.MergeBwd.Gen.facts, Cert.MergeBwdIdeal.Gen.facts, Cert.RefMergeBwdIdeal.Gen.facts,
  Cert.RmsBwd.Gen.facts, Cert.RmsBwdIdeal.Gen.facts, Cert.RefRmsBwdIdeal.Gen.facts,
  Cert.LnSiluBwd.Gen.facts, Cert.LnSiluBwdIdeal.Gen.facts, Cert.RefLnSiluBwdIdeal.Gen.facts,
  Cert.SsdOutDw.Gen.facts, Cert.SsdOutDwIdeal.Gen.facts, Cert.RefSsdOutDwIdeal.Gen.facts,
  Cert.SsdOutDx.Gen.facts, Cert.SsdOutDxIdeal.Gen.facts, Cert.RefSsdOutDxIdeal.Gen.facts,
  Cert.XoDw.Gen.facts, Cert.XoDwIdeal.Gen.facts, Cert.RefXoDwIdeal.Gen.facts,
  Cert.XoDx.Gen.facts, Cert.XoDxIdeal.Gen.facts, Cert.RefXoDxIdeal.Gen.facts,
  Cert.ConvOutDw.Gen.facts, Cert.ConvOutDwIdeal.Gen.facts, Cert.RefConvOutDwIdeal.Gen.facts,
  Cert.ConvOutDx.Gen.facts, Cert.ConvOutDxIdeal.Gen.facts, Cert.RefConvOutDxIdeal.Gen.facts,
  Cert.MmIn.Gen.facts, Cert.MmInIdeal.Gen.facts, Cert.RefMmInIdeal.Gen.facts,
  Cert.MmUp.Gen.facts, Cert.MmUpIdeal.Gen.facts, Cert.RefMmUpIdeal.Gen.facts,
  Cert.MmDown.Gen.facts, Cert.MmDownIdeal.Gen.facts, Cert.RefMmDownIdeal.Gen.facts,
  Cert.MmSsdOut.Gen.facts, Cert.MmSsdOutIdeal.Gen.facts, Cert.RefMmSsdOutIdeal.Gen.facts,
  Cert.MmConvOut.Gen.facts, Cert.MmConvOutIdeal.Gen.facts, Cert.RefMmConvOutIdeal.Gen.facts,
  Cert.MmXo.Gen.facts, Cert.MmXoIdeal.Gen.facts, Cert.RefMmXoIdeal.Gen.facts,
  Cert.ConvBBwd.Gen.facts, Cert.ConvBBwdIdeal.Gen.facts, Cert.RefConvBBwdIdeal.Gen.facts,
  Cert.ConvB.Gen.facts, Cert.ConvBIdeal.Gen.facts, Cert.RefConvBIdeal.Gen.facts,
  Cert.Rms.Gen.facts, Cert.RmsIdeal.Gen.facts, Cert.RefRmsIdeal.Gen.facts,
  Cert.LnSilu.Gen.facts, Cert.LnSiluIdeal.Gen.facts, Cert.RefLnSiluIdeal.Gen.facts,
  Cert.Merge.Gen.facts, Cert.MergeIdeal.Gen.facts, Cert.RefMergeIdeal.Gen.facts,
  Cert.XkvDw.Gen.facts, Cert.XkvDwIdeal.Gen.facts, Cert.RefXkvDwIdeal.Gen.facts,
  Cert.XkvDx.Gen.facts, Cert.XkvDxIdeal.Gen.facts, Cert.RefXkvDxIdeal.Gen.facts,
  Cert.MmXkv.Gen.facts, Cert.MmXkvIdeal.Gen.facts, Cert.RefMmXkvIdeal.Gen.facts,
  Cert.Xa.Gen.facts, Cert.XaIdeal.Gen.facts, Cert.RefXaIdeal.Gen.facts,
  Cert.RmsMem.Gen.facts, Cert.RmsMemIdeal.Gen.facts, Cert.RefRmsMemIdeal.Gen.facts,
  Cert.RmsMemBwd.Gen.facts, Cert.RmsMemBwdIdeal.Gen.facts, Cert.RefRmsMemBwdIdeal.Gen.facts,
  Cert.AdamGain.Gen.facts, Cert.AdamGainIdeal.Gen.facts, Cert.RefAdamGainIdeal.Gen.facts,
  Cert.AdamHeads.Gen.facts, Cert.AdamHeadsIdeal.Gen.facts, Cert.RefAdamHeadsIdeal.Gen.facts,
  Cert.AdamHead.Gen.facts, Cert.AdamHeadIdeal.Gen.facts, Cert.RefAdamHeadIdeal.Gen.facts,
  Cert.AdamCross.Gen.facts, Cert.AdamCrossIdeal.Gen.facts, Cert.RefAdamCrossIdeal.Gen.facts,
  Cert.AdamSinks.Gen.facts, Cert.AdamSinksIdeal.Gen.facts, Cert.RefAdamSinksIdeal.Gen.facts,
  Cert.AdamTable.Gen.facts, Cert.AdamTableIdeal.Gen.facts, Cert.RefAdamTableIdeal.Gen.facts,
  Cert.AdamInner.Gen.facts, Cert.AdamInnerIdeal.Gen.facts, Cert.RefAdamInnerIdeal.Gen.facts,
  Cert.AdamBias.Gen.facts, Cert.AdamBiasIdeal.Gen.facts, Cert.RefAdamBiasIdeal.Gen.facts,
  Cert.AdamGates.Gen.facts, Cert.AdamGatesIdeal.Gen.facts, Cert.RefAdamGatesIdeal.Gen.facts,
  Cert.AdamTaps.Gen.facts, Cert.AdamTapsIdeal.Gen.facts, Cert.RefAdamTapsIdeal.Gen.facts,
  Cert.AdamFour.Gen.facts, Cert.AdamFourIdeal.Gen.facts, Cert.RefAdamFourIdeal.Gen.facts,
  Cert.AdamXq.Gen.facts, Cert.AdamXqIdeal.Gen.facts, Cert.RefAdamXqIdeal.Gen.facts,
  Cert.AdamConvOut.Gen.facts, Cert.AdamConvOutIdeal.Gen.facts, Cert.RefAdamConvOutIdeal.Gen.facts,
  Cert.AdamAttnOut.Gen.facts, Cert.AdamAttnOutIdeal.Gen.facts, Cert.RefAdamAttnOutIdeal.Gen.facts,
  Cert.AdamMixOut.Gen.facts, Cert.AdamMixOutIdeal.Gen.facts, Cert.RefAdamMixOutIdeal.Gen.facts,
  Cert.AdamXo.Gen.facts, Cert.AdamXoIdeal.Gen.facts, Cert.RefAdamXoIdeal.Gen.facts,
  Cert.AdamSsdOut.Gen.facts, Cert.AdamSsdOutIdeal.Gen.facts, Cert.RefAdamSsdOutIdeal.Gen.facts,
  Cert.AdamMlpUp.Gen.facts, Cert.AdamMlpUpIdeal.Gen.facts, Cert.RefAdamMlpUpIdeal.Gen.facts,
  Cert.AdamMlpDown.Gen.facts, Cert.AdamMlpDownIdeal.Gen.facts, Cert.RefAdamMlpDownIdeal.Gen.facts,
  Cert.AdamXkv.Gen.facts, Cert.AdamXkvIdeal.Gen.facts, Cert.RefAdamXkvIdeal.Gen.facts,
  Cert.Pre_finite_inputs.Gen.facts, Cert.Pre_finite_cotangent.Gen.facts, Cert.Pre_finite_arguments.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.InDw.Gen.frame m ρ, fun m ρ _ => Cert.InDwIdeal.Gen.frame m ρ, Cert.Products.frame_refInDw,
  fun m ρ _ => Cert.InDx.Gen.frame m ρ, fun m ρ _ => Cert.InDxIdeal.Gen.frame m ρ, Cert.Products.frame_refInDx,
  fun m ρ _ => Cert.DownDx.Gen.frame m ρ, fun m ρ _ => Cert.DownDxIdeal.Gen.frame m ρ, Cert.Products.frame_refDownDx,
  fun m ρ _ => Cert.DownDw.Gen.frame m ρ, fun m ρ _ => Cert.DownDwIdeal.Gen.frame m ρ, Cert.Products.frame_refDownDw,
  fun m ρ _ => Cert.UpDw.Gen.frame m ρ, fun m ρ _ => Cert.UpDwIdeal.Gen.frame m ρ, Cert.Products.frame_refUpDw,
  fun m ρ _ => Cert.UpDx.Gen.frame m ρ, fun m ρ _ => Cert.UpDxIdeal.Gen.frame m ρ, Cert.Products.frame_refUpDx,
  fun m ρ _ => Cert.MergeBwd.Gen.frame m ρ, fun m ρ _ => Cert.MergeBwdIdeal.Gen.frame m ρ, Cert.Others.frame_refMergeBwd,
  fun m ρ _ => Cert.RmsBwd.Gen.frame m ρ, fun m ρ _ => Cert.RmsBwdIdeal.Gen.frame m ρ, Cert.Others.frame_refRmsBwd,
  fun m ρ _ => Cert.LnSiluBwd.Gen.frame m ρ, fun m ρ _ => Cert.LnSiluBwdIdeal.Gen.frame m ρ, Cert.Others.frame_refLnSiluBwd,
  fun m ρ _ => Cert.SsdOutDw.Gen.frame m ρ, fun m ρ _ => Cert.SsdOutDwIdeal.Gen.frame m ρ, Cert.Others.frame_refSsdOutDw,
  fun m ρ _ => Cert.SsdOutDx.Gen.frame m ρ, fun m ρ _ => Cert.SsdOutDxIdeal.Gen.frame m ρ, Cert.Others.frame_refSsdOutDx,
  fun m ρ _ => Cert.XoDw.Gen.frame m ρ, fun m ρ _ => Cert.XoDwIdeal.Gen.frame m ρ, Cert.Others.frame_refXoDw,
  fun m ρ _ => Cert.XoDx.Gen.frame m ρ, fun m ρ _ => Cert.XoDxIdeal.Gen.frame m ρ, Cert.Others.frame_refXoDx,
  fun m ρ _ => Cert.ConvOutDw.Gen.frame m ρ, fun m ρ _ => Cert.ConvOutDwIdeal.Gen.frame m ρ, Cert.Others.frame_refConvOutDw,
  fun m ρ _ => Cert.ConvOutDx.Gen.frame m ρ, fun m ρ _ => Cert.ConvOutDxIdeal.Gen.frame m ρ, Cert.Others.frame_refConvOutDx,
  fun m ρ _ => Cert.MmIn.Gen.frame m ρ, fun m ρ _ => Cert.MmInIdeal.Gen.frame m ρ, Cert.Others.frame_refMmIn,
  fun m ρ _ => Cert.MmUp.Gen.frame m ρ, fun m ρ _ => Cert.MmUpIdeal.Gen.frame m ρ, Cert.Others.frame_refMmUp,
  fun m ρ _ => Cert.MmDown.Gen.frame m ρ, fun m ρ _ => Cert.MmDownIdeal.Gen.frame m ρ, Cert.Others.frame_refMmDown,
  fun m ρ _ => Cert.MmSsdOut.Gen.frame m ρ, fun m ρ _ => Cert.MmSsdOutIdeal.Gen.frame m ρ, Cert.Others.frame_refMmSsdOut,
  fun m ρ _ => Cert.MmConvOut.Gen.frame m ρ, fun m ρ _ => Cert.MmConvOutIdeal.Gen.frame m ρ, Cert.Others.frame_refMmConvOut,
  fun m ρ _ => Cert.MmXo.Gen.frame m ρ, fun m ρ _ => Cert.MmXoIdeal.Gen.frame m ρ, Cert.Others.frame_refMmXo,
  fun m ρ _ => Cert.ConvBBwd.Gen.frame m ρ, fun m ρ _ => Cert.ConvBBwdIdeal.Gen.frame m ρ, fun m ρ _ => Cert.ConvBBwdIdeal.Gen.frame m ρ,
  Cert.More.frame_refConvBBwd, fun m ρ _ => Cert.More.frame_refConvBBwd m ρ trivial,
  fun m ρ _ => Cert.ConvB.Gen.frame m ρ, fun m ρ _ => Cert.ConvBIdeal.Gen.frame m ρ, Cert.More.frame_refConvB,
  fun m ρ _ => Cert.Rms.Gen.frame m ρ, fun m ρ _ => Cert.RmsIdeal.Gen.frame m ρ, Cert.More.frame_refRms,
  fun m ρ _ => Cert.LnSilu.Gen.frame m ρ, fun m ρ _ => Cert.LnSiluIdeal.Gen.frame m ρ, Cert.More.frame_refLnSilu,
  fun m ρ _ => Cert.Merge.Gen.frame m ρ, fun m ρ _ => Cert.MergeIdeal.Gen.frame m ρ, Cert.More.frame_refMerge,
  fun m ρ _ => Cert.XkvDw.Gen.frame m ρ, fun m ρ _ => Cert.XkvDwIdeal.Gen.frame m ρ, Cert.More.frame_refXkvDw,
  fun m ρ _ => Cert.XkvDx.Gen.frame m ρ, fun m ρ _ => Cert.XkvDxIdeal.Gen.frame m ρ, Cert.More.frame_refXkvDx,
  fun m ρ _ => Cert.MmXkv.Gen.frame m ρ, fun m ρ _ => Cert.MmXkvIdeal.Gen.frame m ρ, Cert.More.frame_refMmXkv,
  fun m ρ _ => Cert.Xa.Gen.frame m ρ, fun m ρ _ => Cert.XaIdeal.Gen.frame m ρ, fun m ρ _ => Cert.XaIdeal.Gen.frame m ρ,
  Cert.More.frame_refXa, fun m ρ _ => Cert.More.frame_refXa m ρ trivial,
  fun m ρ _ => Cert.RmsMem.Gen.frame m ρ, fun m ρ _ => Cert.RmsMemIdeal.Gen.frame m ρ, Cert.Memory.frame_refRmsMem,
  fun m ρ _ => Cert.RmsMemBwd.Gen.frame m ρ, fun m ρ _ => Cert.RmsMemBwdIdeal.Gen.frame m ρ, Cert.Memory.frame_refRmsMemBwd,
  fun m ρ _ => Cert.AdamGain.Gen.frame m ρ, fun m ρ _ => Cert.AdamGainIdeal.Gen.frame m ρ, Cert.Adam.frame_refAdamGain,
  fun m ρ _ => Cert.AdamHeads.Gen.frame m ρ, fun m ρ _ => Cert.AdamHeadsIdeal.Gen.frame m ρ, Cert.Adam.frame_refAdamHeads,
  fun m ρ _ => Cert.AdamHead.Gen.frame m ρ, fun m ρ _ => Cert.AdamHeadIdeal.Gen.frame m ρ, Cert.Adam.frame_refAdamHead,
  fun m ρ _ => Cert.AdamCross.Gen.frame m ρ, fun m ρ _ => Cert.AdamCrossIdeal.Gen.frame m ρ, Cert.Adam.frame_refAdamCross,
  fun m ρ _ => Cert.AdamSinks.Gen.frame m ρ, fun m ρ _ => Cert.AdamSinksIdeal.Gen.frame m ρ, Cert.Adam.frame_refAdamSinks,
  fun m ρ _ => Cert.AdamTable.Gen.frame m ρ, fun m ρ _ => Cert.AdamTableIdeal.Gen.frame m ρ, Cert.Adam.frame_refAdamTable,
  fun m ρ _ => Cert.AdamInner.Gen.frame m ρ, fun m ρ _ => Cert.AdamInnerIdeal.Gen.frame m ρ, Cert.Adam.frame_refAdamInner,
  fun m ρ _ => Cert.AdamBias.Gen.frame m ρ, fun m ρ _ => Cert.AdamBiasIdeal.Gen.frame m ρ, Cert.Adam.frame_refAdamBias,
  fun m ρ _ => Cert.AdamGates.Gen.frame m ρ, fun m ρ _ => Cert.AdamGatesIdeal.Gen.frame m ρ, Cert.Adam.frame_refAdamGates,
  fun m ρ _ => Cert.AdamTaps.Gen.frame m ρ, fun m ρ _ => Cert.AdamTapsIdeal.Gen.frame m ρ, Cert.Adam.frame_refAdamTaps,
  fun m ρ _ => Cert.AdamFour.Gen.frame m ρ, fun m ρ _ => Cert.AdamFourIdeal.Gen.frame m ρ, Cert.Adam.frame_refAdamFour,
  fun m ρ _ => Cert.AdamXq.Gen.frame m ρ, fun m ρ _ => Cert.AdamXqIdeal.Gen.frame m ρ, Cert.Layers.frame_refAdamXq,
  fun m ρ _ => Cert.AdamConvOut.Gen.frame m ρ, fun m ρ _ => Cert.AdamConvOutIdeal.Gen.frame m ρ, Cert.Layers.frame_refAdamConvOut,
  fun m ρ _ => Cert.AdamAttnOut.Gen.frame m ρ, fun m ρ _ => Cert.AdamAttnOutIdeal.Gen.frame m ρ, Cert.Layers.frame_refAdamAttnOut,
  fun m ρ _ => Cert.AdamMixOut.Gen.frame m ρ, fun m ρ _ => Cert.AdamMixOutIdeal.Gen.frame m ρ, Cert.Layers.frame_refAdamMixOut,
  fun m ρ _ => Cert.AdamXo.Gen.frame m ρ, fun m ρ _ => Cert.AdamXoIdeal.Gen.frame m ρ, Cert.Layers.frame_refAdamXo,
  fun m ρ _ => Cert.AdamSsdOut.Gen.frame m ρ, fun m ρ _ => Cert.AdamSsdOutIdeal.Gen.frame m ρ, Cert.Layers.frame_refAdamSsdOut,
  fun m ρ _ => Cert.AdamMlpUp.Gen.frame m ρ, fun m ρ _ => Cert.AdamMlpUpIdeal.Gen.frame m ρ, Cert.Layers.frame_refAdamMlpUp,
  fun m ρ _ => Cert.AdamMlpDown.Gen.frame m ρ, fun m ρ _ => Cert.AdamMlpDownIdeal.Gen.frame m ρ, Cert.Layers.frame_refAdamMlpDown,
  fun m ρ _ => Cert.AdamXkv.Gen.frame m ρ, fun m ρ _ => Cert.AdamXkvIdeal.Gen.frame m ρ, Cert.Layers.frame_refAdamXkv,
  trivial, value,
  trivial, Cert.Products.inDw,
  trivial, Cert.Products.inDx,
  trivial, Cert.Products.downDx,
  trivial, Cert.Products.downDw,
  trivial, Cert.Products.upDw,
  trivial, Cert.Products.upDx,
  trivial, Cert.Others.mergeBwd,
  trivial, Cert.Others.rmsBwd,
  trivial, Cert.Others.lnSiluBwd,
  trivial, Cert.Others.ssdOutDw,
  trivial, Cert.Others.ssdOutDx,
  trivial, Cert.Others.xoDw,
  trivial, Cert.Others.xoDx,
  trivial, Cert.Others.convOutDw,
  trivial, Cert.Others.convOutDx,
  trivial, Cert.Others.mmIn,
  trivial, Cert.Others.mmUp,
  trivial, Cert.Others.mmDown,
  trivial, Cert.Others.mmSsdOut,
  trivial, Cert.Others.mmConvOut,
  trivial, Cert.Others.mmXo,
  trivial, Cert.ConvBBwdValue.value,
  trivial, Cert.More.convB,
  trivial, Cert.More.rms,
  trivial, Cert.More.lnSilu,
  trivial, Cert.More.merge,
  trivial, Cert.More.xkvDw,
  trivial, Cert.More.xkvDx,
  trivial, Cert.More.mmXkv,
  trivial, Cert.XaValue.value,
  trivial, Cert.Memory.rmsMem,
  trivial, Cert.Memory.rmsMemBwd,
  trivial, Cert.Adam.adamGain,
  trivial, Cert.Adam.adamHeads,
  trivial, Cert.Adam.adamHead,
  trivial, Cert.Adam.adamCross,
  trivial, Cert.Adam.adamSinks,
  trivial, Cert.Adam.adamTable,
  trivial, Cert.Adam.adamInner,
  trivial, Cert.Adam.adamBias,
  trivial, Cert.Adam.adamGates,
  trivial, Cert.Adam.adamTaps,
  trivial, Cert.Adam.adamFour,
  trivial, Cert.Layers.adamXq,
  trivial, Cert.Layers.adamConvOut,
  trivial, Cert.Layers.adamAttnOut,
  trivial, Cert.Layers.adamMixOut,
  trivial, Cert.Layers.adamXo,
  trivial, Cert.Layers.adamSsdOut,
  trivial, Cert.Layers.adamMlpUp,
  trivial, Cert.Layers.adamMlpDown,
  trivial, Cert.Layers.adamXkv⟩

end Cert.Proof

end
